-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UpDx0a (m : (ℓ : Loc Cert.UpDx0a.nD Cert.UpDx0a.τ Cert.UpDx0a.sig) → Buf (Elt Bits) ℓ) : Prop :=
  True

def Pre_UpDx0aIdeal (m : (ℓ : Loc Cert.UpDx0aIdeal.nD Cert.UpDx0aIdeal.τ Cert.UpDx0aIdeal.sig) → Buf (Elt Ideal) ℓ) : Prop :=
  True

def Pre_UpDx0aRefIdeal (m : (ℓ : Loc Cert.UpDx0aRefIdeal.nD Cert.UpDx0aRefIdeal.τ Cert.UpDx0aRefIdeal.sig) → Buf (Elt Ideal) ℓ) : Prop :=
  True

def Pre_UpDx0b (m : (ℓ : Loc Cert.UpDx0b.nD Cert.UpDx0b.τ Cert.UpDx0b.sig) → Buf (Elt Bits) ℓ) : Prop :=
  True

def Pre_UpDx0bIdeal (m : (ℓ : Loc Cert.UpDx0bIdeal.nD Cert.UpDx0bIdeal.τ Cert.UpDx0bIdeal.sig) → Buf (Elt Ideal) ℓ) : Prop :=
  True

def Pre_UpDx0bRefIdeal (m : (ℓ : Loc Cert.UpDx0bRefIdeal.nD Cert.UpDx0bRefIdeal.τ Cert.UpDx0bRefIdeal.sig) → Buf (Elt Ideal) ℓ) : Prop :=
  True

def Pre_UpDx1a (m : (ℓ : Loc Cert.UpDx1a.nD Cert.UpDx1a.τ Cert.UpDx1a.sig) → Buf (Elt Bits) ℓ) : Prop :=
  True

def Pre_UpDx1aIdeal (m : (ℓ : Loc Cert.UpDx1aIdeal.nD Cert.UpDx1aIdeal.τ Cert.UpDx1aIdeal.sig) → Buf (Elt Ideal) ℓ) : Prop :=
  True

def Pre_UpDx1aRefIdeal (m : (ℓ : Loc Cert.UpDx1aRefIdeal.nD Cert.UpDx1aRefIdeal.τ Cert.UpDx1aRefIdeal.sig) → Buf (Elt Ideal) ℓ) : Prop :=
  True

def Pre_UpDx1b (m : (ℓ : Loc Cert.UpDx1b.nD Cert.UpDx1b.τ Cert.UpDx1b.sig) → Buf (Elt Bits) ℓ) : Prop :=
  True

def Pre_UpDx1bIdeal (m : (ℓ : Loc Cert.UpDx1bIdeal.nD Cert.UpDx1bIdeal.τ Cert.UpDx1bIdeal.sig) → Buf (Elt Ideal) ℓ) : Prop :=
  True

def Pre_UpDx1bRefIdeal (m : (ℓ : Loc Cert.UpDx1bRefIdeal.nD Cert.UpDx1bRefIdeal.τ Cert.UpDx1bRefIdeal.sig) → Buf (Elt Ideal) ℓ) : Prop :=
  True

def Pre_DownDx0 (m : (ℓ : Loc Cert.DownDx0.nD Cert.DownDx0.τ Cert.DownDx0.sig) → Buf (Elt Bits) ℓ) : Prop :=
  True

def Pre_DownDx0Ideal (m : (ℓ : Loc Cert.DownDx0Ideal.nD Cert.DownDx0Ideal.τ Cert.DownDx0Ideal.sig) → Buf (Elt Ideal) ℓ) : Prop :=
  True

def Pre_DownDx0RefIdeal (m : (ℓ : Loc Cert.DownDx0RefIdeal.nD Cert.DownDx0RefIdeal.τ Cert.DownDx0RefIdeal.sig) → Buf (Elt Ideal) ℓ) : Prop :=
  True

def Pre_DownDx1 (m : (ℓ : Loc Cert.DownDx1.nD Cert.DownDx1.τ Cert.DownDx1.sig) → Buf (Elt Bits) ℓ) : Prop :=
  True

def Pre_DownDx1Ideal (m : (ℓ : Loc Cert.DownDx1Ideal.nD Cert.DownDx1Ideal.τ Cert.DownDx1Ideal.sig) → Buf (Elt Ideal) ℓ) : Prop :=
  True

def Pre_DownDx1RefIdeal (m : (ℓ : Loc Cert.DownDx1RefIdeal.nD Cert.DownDx1RefIdeal.τ Cert.DownDx1RefIdeal.sig) → Buf (Elt Ideal) ℓ) : Prop :=
  True

def Pre_InBDx (m : (ℓ : Loc Cert.InBDx.nD Cert.InBDx.τ Cert.InBDx.sig) → Buf (Elt Bits) ℓ) : Prop :=
  True

def Pre_InBDxIdeal (m : (ℓ : Loc Cert.InBDxIdeal.nD Cert.InBDxIdeal.τ Cert.InBDxIdeal.sig) → Buf (Elt Ideal) ℓ) : Prop :=
  True

def Pre_InBDxRefIdeal (m : (ℓ : Loc Cert.InBDxRefIdeal.nD Cert.InBDxRefIdeal.τ Cert.InBDxRefIdeal.sig) → Buf (Elt Ideal) ℓ) : Prop :=
  True

def Pre_InBDw (m : (ℓ : Loc Cert.InBDw.nD Cert.InBDw.τ Cert.InBDw.sig) → Buf (Elt Bits) ℓ) : Prop :=
  True

def Pre_InBDwIdeal (m : (ℓ : Loc Cert.InBDwIdeal.nD Cert.InBDwIdeal.τ Cert.InBDwIdeal.sig) → Buf (Elt Ideal) ℓ) : Prop :=
  True

def Pre_InBDwRefIdeal (m : (ℓ : Loc Cert.InBDwRefIdeal.nD Cert.InBDwRefIdeal.τ Cert.InBDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutADw (m : (ℓ : Loc Cert.OutADw.nD Cert.OutADw.τ Cert.OutADw.sig) → Buf (Elt Bits) ℓ) : Prop :=
  True

def Pre_OutADwIdeal (m : (ℓ : Loc Cert.OutADwIdeal.nD Cert.OutADwIdeal.τ Cert.OutADwIdeal.sig) → Buf (Elt Ideal) ℓ) : Prop :=
  True

def Pre_OutADwRefIdeal (m : (ℓ : Loc Cert.OutADwRefIdeal.nD Cert.OutADwRefIdeal.τ Cert.OutADwRefIdeal.sig) → Buf (Elt Ideal) ℓ) : Prop :=
  True

def Pre_OutBDw (m : (ℓ : Loc Cert.OutBDw.nD Cert.OutBDw.τ Cert.OutBDw.sig) → Buf (Elt Bits) ℓ) : Prop :=
  True

def Pre_OutBDwIdeal (m : (ℓ : Loc Cert.OutBDwIdeal.nD Cert.OutBDwIdeal.τ Cert.OutBDwIdeal.sig) → Buf (Elt Ideal) ℓ) : Prop :=
  True

def Pre_OutBDwRefIdeal (m : (ℓ : Loc Cert.OutBDwRefIdeal.nD Cert.OutBDwRefIdeal.τ Cert.OutBDwRefIdeal.sig) → Buf (Elt Ideal) ℓ) : Prop :=
  True

def Pre_InADx0 (m : (ℓ : Loc Cert.InADx0.nD Cert.InADx0.τ Cert.InADx0.sig) → Buf (Elt Bits) ℓ) : Prop :=
  True

def Pre_InADx0Ideal (m : (ℓ : Loc Cert.InADx0Ideal.nD Cert.InADx0Ideal.τ Cert.InADx0Ideal.sig) → Buf (Elt Ideal) ℓ) : Prop :=
  True

def Pre_InADx0RefIdeal (m : (ℓ : Loc Cert.InADx0RefIdeal.nD Cert.InADx0RefIdeal.τ Cert.InADx0RefIdeal.sig) → Buf (Elt Ideal) ℓ) : Prop :=
  True

def Pre_InADx1 (m : (ℓ : Loc Cert.InADx1.nD Cert.InADx1.τ Cert.InADx1.sig) → Buf (Elt Bits) ℓ) : Prop :=
  True

def Pre_InADx1Ideal (m : (ℓ : Loc Cert.InADx1Ideal.nD Cert.InADx1Ideal.τ Cert.InADx1Ideal.sig) → Buf (Elt Ideal) ℓ) : Prop :=
  True

def Pre_InADx1RefIdeal (m : (ℓ : Loc Cert.InADx1RefIdeal.nD Cert.InADx1RefIdeal.τ Cert.InADx1RefIdeal.sig) → Buf (Elt Ideal) ℓ) : Prop :=
  True

def Pre_InADx2 (m : (ℓ : Loc Cert.InADx2.nD Cert.InADx2.τ Cert.InADx2.sig) → Buf (Elt Bits) ℓ) : Prop :=
  True

def Pre_InADx2Ideal (m : (ℓ : Loc Cert.InADx2Ideal.nD Cert.InADx2Ideal.τ Cert.InADx2Ideal.sig) → Buf (Elt Ideal) ℓ) : Prop :=
  True

def Pre_InADx2RefIdeal (m : (ℓ : Loc Cert.InADx2RefIdeal.nD Cert.InADx2RefIdeal.τ Cert.InADx2RefIdeal.sig) → Buf (Elt Ideal) ℓ) : Prop :=
  True

def Pre_InA0 (m : (ℓ : Loc Cert.InA0.nD Cert.InA0.τ Cert.InA0.sig) → Buf (Elt Bits) ℓ) : Prop :=
  True

def Pre_InA0Ideal (m : (ℓ : Loc Cert.InA0Ideal.nD Cert.InA0Ideal.τ Cert.InA0Ideal.sig) → Buf (Elt Ideal) ℓ) : Prop :=
  True

def Pre_InA0RefIdeal (m : (ℓ : Loc Cert.InA0RefIdeal.nD Cert.InA0RefIdeal.τ Cert.InA0RefIdeal.sig) → Buf (Elt Ideal) ℓ) : Prop :=
  True

def Pre_InA1 (m : (ℓ : Loc Cert.InA1.nD Cert.InA1.τ Cert.InA1.sig) → Buf (Elt Bits) ℓ) : Prop :=
  True

def Pre_InA1Ideal (m : (ℓ : Loc Cert.InA1Ideal.nD Cert.InA1Ideal.τ Cert.InA1Ideal.sig) → Buf (Elt Ideal) ℓ) : Prop :=
  True

def Pre_InA1RefIdeal (m : (ℓ : Loc Cert.InA1RefIdeal.nD Cert.InA1RefIdeal.τ Cert.InA1RefIdeal.sig) → Buf (Elt Ideal) ℓ) : Prop :=
  True

def Pre_InA2 (m : (ℓ : Loc Cert.InA2.nD Cert.InA2.τ Cert.InA2.sig) → Buf (Elt Bits) ℓ) : Prop :=
  True

def Pre_InA2Ideal (m : (ℓ : Loc Cert.InA2Ideal.nD Cert.InA2Ideal.τ Cert.InA2Ideal.sig) → Buf (Elt Ideal) ℓ) : Prop :=
  True

def Pre_InA2RefIdeal (m : (ℓ : Loc Cert.InA2RefIdeal.nD Cert.InA2RefIdeal.τ Cert.InA2RefIdeal.sig) → Buf (Elt Ideal) ℓ) : Prop :=
  True

def Pre_Up0 (m : (ℓ : Loc Cert.Up0.nD Cert.Up0.τ Cert.Up0.sig) → Buf (Elt Bits) ℓ) : Prop :=
  True

def Pre_Up0Ideal (m : (ℓ : Loc Cert.Up0Ideal.nD Cert.Up0Ideal.τ Cert.Up0Ideal.sig) → Buf (Elt Ideal) ℓ) : Prop :=
  True

def Pre_Up0RefIdeal (m : (ℓ : Loc Cert.Up0RefIdeal.nD Cert.Up0RefIdeal.τ Cert.Up0RefIdeal.sig) → Buf (Elt Ideal) ℓ) : Prop :=
  True

def Pre_Down0 (m : (ℓ : Loc Cert.Down0.nD Cert.Down0.τ Cert.Down0.sig) → Buf (Elt Bits) ℓ) : Prop :=
  True

def Pre_Down0Ideal (m : (ℓ : Loc Cert.Down0Ideal.nD Cert.Down0Ideal.τ Cert.Down0Ideal.sig) → Buf (Elt Ideal) ℓ) : Prop :=
  True

def Pre_Down0RefIdeal (m : (ℓ : Loc Cert.Down0RefIdeal.nD Cert.Down0RefIdeal.τ Cert.Down0RefIdeal.sig) → Buf (Elt Ideal) ℓ) : Prop :=
  True

def Pre_Up1 (m : (ℓ : Loc Cert.Up1.nD Cert.Up1.τ Cert.Up1.sig) → Buf (Elt Bits) ℓ) : Prop :=
  True

def Pre_Up1Ideal (m : (ℓ : Loc Cert.Up1Ideal.nD Cert.Up1Ideal.τ Cert.Up1Ideal.sig) → Buf (Elt Ideal) ℓ) : Prop :=
  True

def Pre_Up1RefIdeal (m : (ℓ : Loc Cert.Up1RefIdeal.nD Cert.Up1RefIdeal.τ Cert.Up1RefIdeal.sig) → Buf (Elt Ideal) ℓ) : Prop :=
  True

def Pre_Down1 (m : (ℓ : Loc Cert.Down1.nD Cert.Down1.τ Cert.Down1.sig) → Buf (Elt Bits) ℓ) : Prop :=
  True

def Pre_Down1Ideal (m : (ℓ : Loc Cert.Down1Ideal.nD Cert.Down1Ideal.τ Cert.Down1Ideal.sig) → Buf (Elt Ideal) ℓ) : Prop :=
  True

def Pre_Down1RefIdeal (m : (ℓ : Loc Cert.Down1RefIdeal.nD Cert.Down1RefIdeal.τ Cert.Down1RefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBRefIdeal (m : (ℓ : Loc Cert.OutBRefIdeal.nD Cert.OutBRefIdeal.τ Cert.OutBRefIdeal.sig) → Buf (Elt Ideal) ℓ) : Prop :=
  True

def Pre_DownDw1 (m : (ℓ : Loc Cert.DownDw1.nD Cert.DownDw1.τ Cert.DownDw1.sig) → Buf (Elt Bits) ℓ) : Prop :=
  True

def Pre_DownDw1Ideal (m : (ℓ : Loc Cert.DownDw1Ideal.nD Cert.DownDw1Ideal.τ Cert.DownDw1Ideal.sig) → Buf (Elt Ideal) ℓ) : Prop :=
  True

def Pre_DownDw1RefIdeal (m : (ℓ : Loc Cert.DownDw1RefIdeal.nD Cert.DownDw1RefIdeal.τ Cert.DownDw1RefIdeal.sig) → Buf (Elt Ideal) ℓ) : Prop :=
  True

def Pre_DownDw0 (m : (ℓ : Loc Cert.DownDw0.nD Cert.DownDw0.τ Cert.DownDw0.sig) → Buf (Elt Bits) ℓ) : Prop :=
  True

def Pre_DownDw0Ideal (m : (ℓ : Loc Cert.DownDw0Ideal.nD Cert.DownDw0Ideal.τ Cert.DownDw0Ideal.sig) → Buf (Elt Ideal) ℓ) : Prop :=
  True

def Pre_DownDw0RefIdeal (m : (ℓ : Loc Cert.DownDw0RefIdeal.nD Cert.DownDw0RefIdeal.τ Cert.DownDw0RefIdeal.sig) → Buf (Elt Ideal) ℓ) : Prop :=
  True

def Pre_UpDw1b (m : (ℓ : Loc Cert.UpDw1b.nD Cert.UpDw1b.τ Cert.UpDw1b.sig) → Buf (Elt Bits) ℓ) : Prop :=
  True

def Pre_UpDw1bIdeal (m : (ℓ : Loc Cert.UpDw1bIdeal.nD Cert.UpDw1bIdeal.τ Cert.UpDw1bIdeal.sig) → Buf (Elt Ideal) ℓ) : Prop :=
  True

def Pre_UpDw1bRefIdeal (m : (ℓ : Loc Cert.UpDw1bRefIdeal.nD Cert.UpDw1bRefIdeal.τ Cert.UpDw1bRefIdeal.sig) → Buf (Elt Ideal) ℓ) : Prop :=
  True

def Pre_UpDw0a (m : (ℓ : Loc Cert.UpDw0a.nD Cert.UpDw0a.τ Cert.UpDw0a.sig) → Buf (Elt Bits) ℓ) : Prop :=
  True

def Pre_UpDw0aIdeal (m : (ℓ : Loc Cert.UpDw0aIdeal.nD Cert.UpDw0aIdeal.τ Cert.UpDw0aIdeal.sig) → Buf (Elt Ideal) ℓ) : Prop :=
  True

def Pre_UpDw0aRefIdeal (m : (ℓ : Loc Cert.UpDw0aRefIdeal.nD Cert.UpDw0aRefIdeal.τ Cert.UpDw0aRefIdeal.sig) → Buf (Elt Ideal) ℓ) : Prop :=
  True

def Pre_UpDw0b (m : (ℓ : Loc Cert.UpDw0b.nD Cert.UpDw0b.τ Cert.UpDw0b.sig) → Buf (Elt Bits) ℓ) : Prop :=
  True

def Pre_UpDw0bIdeal (m : (ℓ : Loc Cert.UpDw0bIdeal.nD Cert.UpDw0bIdeal.τ Cert.UpDw0bIdeal.sig) → Buf (Elt Ideal) ℓ) : Prop :=
  True

def Pre_UpDw0bRefIdeal (m : (ℓ : Loc Cert.UpDw0bRefIdeal.nD Cert.UpDw0bRefIdeal.τ Cert.UpDw0bRefIdeal.sig) → Buf (Elt Ideal) ℓ) : Prop :=
  True

def Pre_InADw1 (m : (ℓ : Loc Cert.InADw1.nD Cert.InADw1.τ Cert.InADw1.sig) → Buf (Elt Bits) ℓ) : Prop :=
  True

def Pre_InADw1Ideal (m : (ℓ : Loc Cert.InADw1Ideal.nD Cert.InADw1Ideal.τ Cert.InADw1Ideal.sig) → Buf (Elt Ideal) ℓ) : Prop :=
  True

def Pre_InADw1RefIdeal (m : (ℓ : Loc Cert.InADw1RefIdeal.nD Cert.InADw1RefIdeal.τ Cert.InADw1RefIdeal.sig) → Buf (Elt Ideal) ℓ) : Prop :=
  True

def Pre_InADw2 (m : (ℓ : Loc Cert.InADw2.nD Cert.InADw2.τ Cert.InADw2.sig) → Buf (Elt Bits) ℓ) : Prop :=
  True

def Pre_InADw2Ideal (m : (ℓ : Loc Cert.InADw2Ideal.nD Cert.InADw2Ideal.τ Cert.InADw2Ideal.sig) → Buf (Elt Ideal) ℓ) : Prop :=
  True

def Pre_InADw2RefIdeal (m : (ℓ : Loc Cert.InADw2RefIdeal.nD Cert.InADw2RefIdeal.τ Cert.InADw2RefIdeal.sig) → Buf (Elt Ideal) ℓ) : Prop :=
  True

def Pre_UpDw1a (m : (ℓ : Loc Cert.UpDw1a.nD Cert.UpDw1a.τ Cert.UpDw1a.sig) → Buf (Elt Bits) ℓ) : Prop :=
  True

def Pre_UpDw1aIdeal (m : (ℓ : Loc Cert.UpDw1aIdeal.nD Cert.UpDw1aIdeal.τ Cert.UpDw1aIdeal.sig) → Buf (Elt Ideal) ℓ) : Prop :=
  True

def Pre_UpDw1aRefIdeal (m : (ℓ : Loc Cert.UpDw1aRefIdeal.nD Cert.UpDw1aRefIdeal.τ Cert.UpDw1aRefIdeal.sig) → Buf (Elt Ideal) ℓ) : Prop :=
  True

def Pre_InADw0 (m : (ℓ : Loc Cert.InADw0.nD Cert.InADw0.τ Cert.InADw0.sig) → Buf (Elt Bits) ℓ) : Prop :=
  True

def Pre_InADw0Ideal (m : (ℓ : Loc Cert.InADw0Ideal.nD Cert.InADw0Ideal.τ Cert.InADw0Ideal.sig) → Buf (Elt Ideal) ℓ) : Prop :=
  True

def Pre_InADw0RefIdeal (m : (ℓ : Loc Cert.InADw0RefIdeal.nD Cert.InADw0RefIdeal.τ Cert.InADw0RefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_AdamInA (m : (ℓ : Loc Cert.AdamInA.nD Cert.AdamInA.τ Cert.AdamInA.sig) → Buf (Elt Bits) ℓ) : Prop :=
  True

def Pre_AdamInAIdeal (m : (ℓ : Loc Cert.AdamInAIdeal.nD Cert.AdamInAIdeal.τ Cert.AdamInAIdeal.sig) → Buf (Elt Ideal) ℓ) : Prop :=
  True

def Pre_AdamInARefIdeal (m : (ℓ : Loc Cert.AdamInARefIdeal.nD Cert.AdamInARefIdeal.τ Cert.AdamInARefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamInB (m : (ℓ : Loc Cert.AdamInB.nD Cert.AdamInB.τ Cert.AdamInB.sig) → Buf (Elt Bits) ℓ) : Prop :=
  True

def Pre_AdamInBIdeal (m : (ℓ : Loc Cert.AdamInBIdeal.nD Cert.AdamInBIdeal.τ Cert.AdamInBIdeal.sig) → Buf (Elt Ideal) ℓ) : Prop :=
  True

def Pre_AdamInBRefIdeal (m : (ℓ : Loc Cert.AdamInBRefIdeal.nD Cert.AdamInBRefIdeal.τ Cert.AdamInBRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamTiny (m : (ℓ : Loc Cert.AdamTiny.nD Cert.AdamTiny.τ Cert.AdamTiny.sig) → Buf (Elt Bits) ℓ) : Prop :=
  True

def Pre_AdamTinyIdeal (m : (ℓ : Loc Cert.AdamTinyIdeal.nD Cert.AdamTinyIdeal.τ Cert.AdamTinyIdeal.sig) → Buf (Elt Ideal) ℓ) : Prop :=
  True

def Pre_AdamTinyRefIdeal (m : (ℓ : Loc Cert.AdamTinyRefIdeal.nD Cert.AdamTinyRefIdeal.τ Cert.AdamTinyRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradRefIdeal (m : (ℓ : Loc Cert.AdaGradRefIdeal.nD Cert.AdaGradRefIdeal.τ Cert.AdaGradRefIdeal.sig) → Buf (Elt Ideal) ℓ) : Prop :=
  True

def Pre_NormFfn (m : (ℓ : Loc Cert.NormFfn.nD Cert.NormFfn.τ Cert.NormFfn.sig) → Buf (Elt Bits) ℓ) : Prop :=
  True

def Pre_NormFfnIdeal (m : (ℓ : Loc Cert.NormFfnIdeal.nD Cert.NormFfnIdeal.τ Cert.NormFfnIdeal.sig) → Buf (Elt Ideal) ℓ) : Prop :=
  True

def Pre_NormFfnRefIdeal (m : (ℓ : Loc Cert.NormFfnRefIdeal.nD Cert.NormFfnRefIdeal.τ Cert.NormFfnRefIdeal.sig) → Buf (Elt Ideal) ℓ) : Prop :=
  True

def Pre_NormMix1 (m : (ℓ : Loc Cert.NormMix1.nD Cert.NormMix1.τ Cert.NormMix1.sig) → Buf (Elt Bits) ℓ) : Prop :=
  True

def Pre_NormMix1Ideal (m : (ℓ : Loc Cert.NormMix1Ideal.nD Cert.NormMix1Ideal.τ Cert.NormMix1Ideal.sig) → Buf (Elt Ideal) ℓ) : Prop :=
  True

def Pre_NormMix1RefIdeal (m : (ℓ : Loc Cert.NormMix1RefIdeal.nD Cert.NormMix1RefIdeal.τ Cert.NormMix1RefIdeal.sig) → Buf (Elt Ideal) ℓ) : Prop :=
  True

def Pre_GlaOut (m : (ℓ : Loc Cert.GlaOut.nD Cert.GlaOut.τ Cert.GlaOut.sig) → Buf (Elt Bits) ℓ) : Prop :=
  True

def Pre_GlaOutIdeal (m : (ℓ : Loc Cert.GlaOutIdeal.nD Cert.GlaOutIdeal.τ Cert.GlaOutIdeal.sig) → Buf (Elt Ideal) ℓ) : Prop :=
  True

def Pre_GlaOutRefIdeal (m : (ℓ : Loc Cert.GlaOutRefIdeal.nD Cert.GlaOutRefIdeal.τ Cert.GlaOutRefIdeal.sig) → Buf (Elt Ideal) ℓ) : Prop :=
  True

def Pre_ConvGate (m : (ℓ : Loc Cert.ConvGate.nD Cert.ConvGate.τ Cert.ConvGate.sig) → Buf (Elt Bits) ℓ) : Prop :=
  True

def Pre_ConvGateIdeal (m : (ℓ : Loc Cert.ConvGateIdeal.nD Cert.ConvGateIdeal.τ Cert.ConvGateIdeal.sig) → Buf (Elt Ideal) ℓ) : Prop :=
  True

def Pre_ConvGateRefIdeal (m : (ℓ : Loc Cert.ConvGateRefIdeal.nD Cert.ConvGateRefIdeal.τ Cert.ConvGateRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpDx0a [hUpDx0a : Cert.UpDx0a.Facts] : Prop :=
  ∀ (m : (ℓ : Loc Cert.UpDx0a.nD Cert.UpDx0a.τ Cert.UpDx0a.sig) → Buf (Elt Bits) ℓ) (g : Dev Cert.UpDx0a.nD → PrngReg), Pre_UpDx0a m →
    θ_run (Cert.UpDx0a.defs (F := Bits)) (onTc (τ := Cert.UpDx0a.τ) (Cert.UpDx0a.main (F := Bits))) ⟨m, fun _ => 0, g⟩ (fun r => (∀ c : Dev Cert.UpDx0a.nD,
      r.2.mem ((c.tc : Thread Cert.UpDx0a.nD Cert.UpDx0a.τ).loc Cert.UpDx0a.main_arg0) = m ((c.tc : Thread Cert.UpDx0a.nD Cert.UpDx0a.τ).loc Cert.UpDx0a.main_arg0)
      ∧ r.2.mem ((c.tc : Thread Cert.UpDx0a.nD Cert.UpDx0a.τ).loc Cert.UpDx0a.main_arg1) = m ((c.tc : Thread Cert.UpDx0a.nD Cert.UpDx0a.τ).loc Cert.UpDx0a.main_arg1))
      ∧ r.2.sem = fun _ => 0)

def quiescent_UpDx0aIdeal [hUpDx0aIdeal : Cert.UpDx0aIdeal.Facts] : Prop :=
  ∀ (m : (ℓ : Loc Cert.UpDx0aIdeal.nD Cert.UpDx0aIdeal.τ Cert.UpDx0aIdeal.sig) → Buf (Elt Ideal) ℓ) (g : Dev Cert.UpDx0aIdeal.nD → PrngReg), Pre_UpDx0aIdeal m →
    θ_run (Cert.UpDx0aIdeal.defs (F := Ideal)) (onTc (τ := Cert.UpDx0aIdeal.τ) (Cert.UpDx0aIdeal.main (F := Ideal))) ⟨m, fun _ => 0, g⟩ (fun r => (∀ c : Dev Cert.UpDx0aIdeal.nD,
      r.2.mem ((c.tc : Thread Cert.UpDx0aIdeal.nD Cert.UpDx0aIdeal.τ).loc Cert.UpDx0aIdeal.main_arg0) = m ((c.tc : Thread Cert.UpDx0aIdeal.nD Cert.UpDx0aIdeal.τ).loc Cert.UpDx0aIdeal.main_arg0)
      ∧ r.2.mem ((c.tc : Thread Cert.UpDx0aIdeal.nD Cert.UpDx0aIdeal.τ).loc Cert.UpDx0aIdeal.main_arg1) = m ((c.tc : Thread Cert.UpDx0aIdeal.nD Cert.UpDx0aIdeal.τ).loc Cert.UpDx0aIdeal.main_arg1))
      ∧ r.2.sem = fun _ => 0)

def quiescent_UpDx0aRefIdeal [hUpDx0aRefIdeal : Cert.UpDx0aRefIdeal.Facts] : Prop :=
  ∀ (m : (ℓ : Loc Cert.UpDx0aRefIdeal.nD Cert.UpDx0aRefIdeal.τ Cert.UpDx0aRefIdeal.sig) → Buf (Elt Ideal) ℓ) (g : Dev Cert.UpDx0aRefIdeal.nD → PrngReg), Pre_UpDx0aRefIdeal m →
    θ_run (Cert.UpDx0aRefIdeal.defs (F := Ideal)) (onTc (τ := Cert.UpDx0aRefIdeal.τ) (Cert.UpDx0aRefIdeal.main (F := Ideal))) ⟨m, fun _ => 0, g⟩ (fun r => (∀ c : Dev Cert.UpDx0aRefIdeal.nD,
      r.2.mem ((c.tc : Thread Cert.UpDx0aRefIdeal.nD Cert.UpDx0aRefIdeal.τ).loc Cert.UpDx0aRefIdeal.main_arg0) = m ((c.tc : Thread Cert.UpDx0aRefIdeal.nD Cert.UpDx0aRefIdeal.τ).loc Cert.UpDx0aRefIdeal.main_arg0)
      ∧ r.2.mem ((c.tc : Thread Cert.UpDx0aRefIdeal.nD Cert.UpDx0aRefIdeal.τ).loc Cert.UpDx0aRefIdeal.main_arg1) = m ((c.tc : Thread Cert.UpDx0aRefIdeal.nD Cert.UpDx0aRefIdeal.τ).loc Cert.UpDx0aRefIdeal.main_arg1))
      ∧ r.2.sem = fun _ => 0)

def quiescent_UpDx0b [hUpDx0b : Cert.UpDx0b.Facts] : Prop :=
  ∀ (m : (ℓ : Loc Cert.UpDx0b.nD Cert.UpDx0b.τ Cert.UpDx0b.sig) → Buf (Elt Bits) ℓ) (g : Dev Cert.UpDx0b.nD → PrngReg), Pre_UpDx0b m →
    θ_run (Cert.UpDx0b.defs (F := Bits)) (onTc (τ := Cert.UpDx0b.τ) (Cert.UpDx0b.main (F := Bits))) ⟨m, fun _ => 0, g⟩ (fun r => (∀ c : Dev Cert.UpDx0b.nD,
      r.2.mem ((c.tc : Thread Cert.UpDx0b.nD Cert.UpDx0b.τ).loc Cert.UpDx0b.main_arg0) = m ((c.tc : Thread Cert.UpDx0b.nD Cert.UpDx0b.τ).loc Cert.UpDx0b.main_arg0)
      ∧ r.2.mem ((c.tc : Thread Cert.UpDx0b.nD Cert.UpDx0b.τ).loc Cert.UpDx0b.main_arg1) = m ((c.tc : Thread Cert.UpDx0b.nD Cert.UpDx0b.τ).loc Cert.UpDx0b.main_arg1)
      ∧ r.2.mem ((c.tc : Thread Cert.UpDx0b.nD Cert.UpDx0b.τ).loc Cert.UpDx0b.main_arg2) = m ((c.tc : Thread Cert.UpDx0b.nD Cert.UpDx0b.τ).loc Cert.UpDx0b.main_arg2))
      ∧ r.2.sem = fun _ => 0)

def quiescent_UpDx0bIdeal [hUpDx0bIdeal : Cert.UpDx0bIdeal.Facts] : Prop :=
  ∀ (m : (ℓ : Loc Cert.UpDx0bIdeal.nD Cert.UpDx0bIdeal.τ Cert.UpDx0bIdeal.sig) → Buf (Elt Ideal) ℓ) (g : Dev Cert.UpDx0bIdeal.nD → PrngReg), Pre_UpDx0bIdeal m →
    θ_run (Cert.UpDx0bIdeal.defs (F := Ideal)) (onTc (τ := Cert.UpDx0bIdeal.τ) (Cert.UpDx0bIdeal.main (F := Ideal))) ⟨m, fun _ => 0, g⟩ (fun r => (∀ c : Dev Cert.UpDx0bIdeal.nD,
      r.2.mem ((c.tc : Thread Cert.UpDx0bIdeal.nD Cert.UpDx0bIdeal.τ).loc Cert.UpDx0bIdeal.main_arg0) = m ((c.tc : Thread Cert.UpDx0bIdeal.nD Cert.UpDx0bIdeal.τ).loc Cert.UpDx0bIdeal.main_arg0)
      ∧ r.2.mem ((c.tc : Thread Cert.UpDx0bIdeal.nD Cert.UpDx0bIdeal.τ).loc Cert.UpDx0bIdeal.main_arg1) = m ((c.tc : Thread Cert.UpDx0bIdeal.nD Cert.UpDx0bIdeal.τ).loc Cert.UpDx0bIdeal.main_arg1)
      ∧ r.2.mem ((c.tc : Thread Cert.UpDx0bIdeal.nD Cert.UpDx0bIdeal.τ).loc Cert.UpDx0bIdeal.main_arg2) = m ((c.tc : Thread Cert.UpDx0bIdeal.nD Cert.UpDx0bIdeal.τ).loc Cert.UpDx0bIdeal.main_arg2))
      ∧ r.2.sem = fun _ => 0)

def quiescent_UpDx0bRefIdeal [hUpDx0bRefIdeal : Cert.UpDx0bRefIdeal.Facts] : Prop :=
  ∀ (m : (ℓ : Loc Cert.UpDx0bRefIdeal.nD Cert.UpDx0bRefIdeal.τ Cert.UpDx0bRefIdeal.sig) → Buf (Elt Ideal) ℓ) (g : Dev Cert.UpDx0bRefIdeal.nD → PrngReg), Pre_UpDx0bRefIdeal m →
    θ_run (Cert.UpDx0bRefIdeal.defs (F := Ideal)) (onTc (τ := Cert.UpDx0bRefIdeal.τ) (Cert.UpDx0bRefIdeal.main (F := Ideal))) ⟨m, fun _ => 0, g⟩ (fun r => (∀ c : Dev Cert.UpDx0bRefIdeal.nD,
      r.2.mem ((c.tc : Thread Cert.UpDx0bRefIdeal.nD Cert.UpDx0bRefIdeal.τ).loc Cert.UpDx0bRefIdeal.main_arg0) = m ((c.tc : Thread Cert.UpDx0bRefIdeal.nD Cert.UpDx0bRefIdeal.τ).loc Cert.UpDx0bRefIdeal.main_arg0)
      ∧ r.2.mem ((c.tc : Thread Cert.UpDx0bRefIdeal.nD Cert.UpDx0bRefIdeal.τ).loc Cert.UpDx0bRefIdeal.main_arg1) = m ((c.tc : Thread Cert.UpDx0bRefIdeal.nD Cert.UpDx0bRefIdeal.τ).loc Cert.UpDx0bRefIdeal.main_arg1)
      ∧ r.2.mem ((c.tc : Thread Cert.UpDx0bRefIdeal.nD Cert.UpDx0bRefIdeal.τ).loc Cert.UpDx0bRefIdeal.main_arg2) = m ((c.tc : Thread Cert.UpDx0bRefIdeal.nD Cert.UpDx0bRefIdeal.τ).loc Cert.UpDx0bRefIdeal.main_arg2))
      ∧ r.2.sem = fun _ => 0)

def quiescent_UpDx1a [hUpDx1a : Cert.UpDx1a.Facts] : Prop :=
  ∀ (m : (ℓ : Loc Cert.UpDx1a.nD Cert.UpDx1a.τ Cert.UpDx1a.sig) → Buf (Elt Bits) ℓ) (g : Dev Cert.UpDx1a.nD → PrngReg), Pre_UpDx1a m →
    θ_run (Cert.UpDx1a.defs (F := Bits)) (onTc (τ := Cert.UpDx1a.τ) (Cert.UpDx1a.main (F := Bits))) ⟨m, fun _ => 0, g⟩ (fun r => (∀ c : Dev Cert.UpDx1a.nD,
      r.2.mem ((c.tc : Thread Cert.UpDx1a.nD Cert.UpDx1a.τ).loc Cert.UpDx1a.main_arg0) = m ((c.tc : Thread Cert.UpDx1a.nD Cert.UpDx1a.τ).loc Cert.UpDx1a.main_arg0)
      ∧ r.2.mem ((c.tc : Thread Cert.UpDx1a.nD Cert.UpDx1a.τ).loc Cert.UpDx1a.main_arg1) = m ((c.tc : Thread Cert.UpDx1a.nD Cert.UpDx1a.τ).loc Cert.UpDx1a.main_arg1))
      ∧ r.2.sem = fun _ => 0)

def quiescent_UpDx1aIdeal [hUpDx1aIdeal : Cert.UpDx1aIdeal.Facts] : Prop :=
  ∀ (m : (ℓ : Loc Cert.UpDx1aIdeal.nD Cert.UpDx1aIdeal.τ Cert.UpDx1aIdeal.sig) → Buf (Elt Ideal) ℓ) (g : Dev Cert.UpDx1aIdeal.nD → PrngReg), Pre_UpDx1aIdeal m →
    θ_run (Cert.UpDx1aIdeal.defs (F := Ideal)) (onTc (τ := Cert.UpDx1aIdeal.τ) (Cert.UpDx1aIdeal.main (F := Ideal))) ⟨m, fun _ => 0, g⟩ (fun r => (∀ c : Dev Cert.UpDx1aIdeal.nD,
      r.2.mem ((c.tc : Thread Cert.UpDx1aIdeal.nD Cert.UpDx1aIdeal.τ).loc Cert.UpDx1aIdeal.main_arg0) = m ((c.tc : Thread Cert.UpDx1aIdeal.nD Cert.UpDx1aIdeal.τ).loc Cert.UpDx1aIdeal.main_arg0)
      ∧ r.2.mem ((c.tc : Thread Cert.UpDx1aIdeal.nD Cert.UpDx1aIdeal.τ).loc Cert.UpDx1aIdeal.main_arg1) = m ((c.tc : Thread Cert.UpDx1aIdeal.nD Cert.UpDx1aIdeal.τ).loc Cert.UpDx1aIdeal.main_arg1))
      ∧ r.2.sem = fun _ => 0)

def quiescent_UpDx1aRefIdeal [hUpDx1aRefIdeal : Cert.UpDx1aRefIdeal.Facts] : Prop :=
  ∀ (m : (ℓ : Loc Cert.UpDx1aRefIdeal.nD Cert.UpDx1aRefIdeal.τ Cert.UpDx1aRefIdeal.sig) → Buf (Elt Ideal) ℓ) (g : Dev Cert.UpDx1aRefIdeal.nD → PrngReg), Pre_UpDx1aRefIdeal m →
    θ_run (Cert.UpDx1aRefIdeal.defs (F := Ideal)) (onTc (τ := Cert.UpDx1aRefIdeal.τ) (Cert.UpDx1aRefIdeal.main (F := Ideal))) ⟨m, fun _ => 0, g⟩ (fun r => (∀ c : Dev Cert.UpDx1aRefIdeal.nD,
      r.2.mem ((c.tc : Thread Cert.UpDx1aRefIdeal.nD Cert.UpDx1aRefIdeal.τ).loc Cert.UpDx1aRefIdeal.main_arg0) = m ((c.tc : Thread Cert.UpDx1aRefIdeal.nD Cert.UpDx1aRefIdeal.τ).loc Cert.UpDx1aRefIdeal.main_arg0)
      ∧ r.2.mem ((c.tc : Thread Cert.UpDx1aRefIdeal.nD Cert.UpDx1aRefIdeal.τ).loc Cert.UpDx1aRefIdeal.main_arg1) = m ((c.tc : Thread Cert.UpDx1aRefIdeal.nD Cert.UpDx1aRefIdeal.τ).loc Cert.UpDx1aRefIdeal.main_arg1))
      ∧ r.2.sem = fun _ => 0)

def quiescent_UpDx1b [hUpDx1b : Cert.UpDx1b.Facts] : Prop :=
  ∀ (m : (ℓ : Loc Cert.UpDx1b.nD Cert.UpDx1b.τ Cert.UpDx1b.sig) → Buf (Elt Bits) ℓ) (g : Dev Cert.UpDx1b.nD → PrngReg), Pre_UpDx1b m →
    θ_run (Cert.UpDx1b.defs (F := Bits)) (onTc (τ := Cert.UpDx1b.τ) (Cert.UpDx1b.main (F := Bits))) ⟨m, fun _ => 0, g⟩ (fun r => (∀ c : Dev Cert.UpDx1b.nD,
      r.2.mem ((c.tc : Thread Cert.UpDx1b.nD Cert.UpDx1b.τ).loc Cert.UpDx1b.main_arg0) = m ((c.tc : Thread Cert.UpDx1b.nD Cert.UpDx1b.τ).loc Cert.UpDx1b.main_arg0)
      ∧ r.2.mem ((c.tc : Thread Cert.UpDx1b.nD Cert.UpDx1b.τ).loc Cert.UpDx1b.main_arg1) = m ((c.tc : Thread Cert.UpDx1b.nD Cert.UpDx1b.τ).loc Cert.UpDx1b.main_arg1)
      ∧ r.2.mem ((c.tc : Thread Cert.UpDx1b.nD Cert.UpDx1b.τ).loc Cert.UpDx1b.main_arg2) = m ((c.tc : Thread Cert.UpDx1b.nD Cert.UpDx1b.τ).loc Cert.UpDx1b.main_arg2))
      ∧ r.2.sem = fun _ => 0)

def quiescent_UpDx1bIdeal [hUpDx1bIdeal : Cert.UpDx1bIdeal.Facts] : Prop :=
  ∀ (m : (ℓ : Loc Cert.UpDx1bIdeal.nD Cert.UpDx1bIdeal.τ Cert.UpDx1bIdeal.sig) → Buf (Elt Ideal) ℓ) (g : Dev Cert.UpDx1bIdeal.nD → PrngReg), Pre_UpDx1bIdeal m →
    θ_run (Cert.UpDx1bIdeal.defs (F := Ideal)) (onTc (τ := Cert.UpDx1bIdeal.τ) (Cert.UpDx1bIdeal.main (F := Ideal))) ⟨m, fun _ => 0, g⟩ (fun r => (∀ c : Dev Cert.UpDx1bIdeal.nD,
      r.2.mem ((c.tc : Thread Cert.UpDx1bIdeal.nD Cert.UpDx1bIdeal.τ).loc Cert.UpDx1bIdeal.main_arg0) = m ((c.tc : Thread Cert.UpDx1bIdeal.nD Cert.UpDx1bIdeal.τ).loc Cert.UpDx1bIdeal.main_arg0)
      ∧ r.2.mem ((c.tc : Thread Cert.UpDx1bIdeal.nD Cert.UpDx1bIdeal.τ).loc Cert.UpDx1bIdeal.main_arg1) = m ((c.tc : Thread Cert.UpDx1bIdeal.nD Cert.UpDx1bIdeal.τ).loc Cert.UpDx1bIdeal.main_arg1)
      ∧ r.2.mem ((c.tc : Thread Cert.UpDx1bIdeal.nD Cert.UpDx1bIdeal.τ).loc Cert.UpDx1bIdeal.main_arg2) = m ((c.tc : Thread Cert.UpDx1bIdeal.nD Cert.UpDx1bIdeal.τ).loc Cert.UpDx1bIdeal.main_arg2))
      ∧ r.2.sem = fun _ => 0)

def quiescent_UpDx1bRefIdeal [hUpDx1bRefIdeal : Cert.UpDx1bRefIdeal.Facts] : Prop :=
  ∀ (m : (ℓ : Loc Cert.UpDx1bRefIdeal.nD Cert.UpDx1bRefIdeal.τ Cert.UpDx1bRefIdeal.sig) → Buf (Elt Ideal) ℓ) (g : Dev Cert.UpDx1bRefIdeal.nD → PrngReg), Pre_UpDx1bRefIdeal m →
    θ_run (Cert.UpDx1bRefIdeal.defs (F := Ideal)) (onTc (τ := Cert.UpDx1bRefIdeal.τ) (Cert.UpDx1bRefIdeal.main (F := Ideal))) ⟨m, fun _ => 0, g⟩ (fun r => (∀ c : Dev Cert.UpDx1bRefIdeal.nD,
      r.2.mem ((c.tc : Thread Cert.UpDx1bRefIdeal.nD Cert.UpDx1bRefIdeal.τ).loc Cert.UpDx1bRefIdeal.main_arg0) = m ((c.tc : Thread Cert.UpDx1bRefIdeal.nD Cert.UpDx1bRefIdeal.τ).loc Cert.UpDx1bRefIdeal.main_arg0)
      ∧ r.2.mem ((c.tc : Thread Cert.UpDx1bRefIdeal.nD Cert.UpDx1bRefIdeal.τ).loc Cert.UpDx1bRefIdeal.main_arg1) = m ((c.tc : Thread Cert.UpDx1bRefIdeal.nD Cert.UpDx1bRefIdeal.τ).loc Cert.UpDx1bRefIdeal.main_arg1)
      ∧ r.2.mem ((c.tc : Thread Cert.UpDx1bRefIdeal.nD Cert.UpDx1bRefIdeal.τ).loc Cert.UpDx1bRefIdeal.main_arg2) = m ((c.tc : Thread Cert.UpDx1bRefIdeal.nD Cert.UpDx1bRefIdeal.τ).loc Cert.UpDx1bRefIdeal.main_arg2))
      ∧ r.2.sem = fun _ => 0)

def quiescent_DownDx0 [hDownDx0 : Cert.DownDx0.Facts] : Prop :=
  ∀ (m : (ℓ : Loc Cert.DownDx0.nD Cert.DownDx0.τ Cert.DownDx0.sig) → Buf (Elt Bits) ℓ) (g : Dev Cert.DownDx0.nD → PrngReg), Pre_DownDx0 m →
    θ_run (Cert.DownDx0.defs (F := Bits)) (onTc (τ := Cert.DownDx0.τ) (Cert.DownDx0.main (F := Bits))) ⟨m, fun _ => 0, g⟩ (fun r => (∀ c : Dev Cert.DownDx0.nD,
      r.2.mem ((c.tc : Thread Cert.DownDx0.nD Cert.DownDx0.τ).loc Cert.DownDx0.main_arg0) = m ((c.tc : Thread Cert.DownDx0.nD Cert.DownDx0.τ).loc Cert.DownDx0.main_arg0)
      ∧ r.2.mem ((c.tc : Thread Cert.DownDx0.nD Cert.DownDx0.τ).loc Cert.DownDx0.main_arg1) = m ((c.tc : Thread Cert.DownDx0.nD Cert.DownDx0.τ).loc Cert.DownDx0.main_arg1))
      ∧ r.2.sem = fun _ => 0)

def quiescent_DownDx0Ideal [hDownDx0Ideal : Cert.DownDx0Ideal.Facts] : Prop :=
  ∀ (m : (ℓ : Loc Cert.DownDx0Ideal.nD Cert.DownDx0Ideal.τ Cert.DownDx0Ideal.sig) → Buf (Elt Ideal) ℓ) (g : Dev Cert.DownDx0Ideal.nD → PrngReg), Pre_DownDx0Ideal m →
    θ_run (Cert.DownDx0Ideal.defs (F := Ideal)) (onTc (τ := Cert.DownDx0Ideal.τ) (Cert.DownDx0Ideal.main (F := Ideal))) ⟨m, fun _ => 0, g⟩ (fun r => (∀ c : Dev Cert.DownDx0Ideal.nD,
      r.2.mem ((c.tc : Thread Cert.DownDx0Ideal.nD Cert.DownDx0Ideal.τ).loc Cert.DownDx0Ideal.main_arg0) = m ((c.tc : Thread Cert.DownDx0Ideal.nD Cert.DownDx0Ideal.τ).loc Cert.DownDx0Ideal.main_arg0)
      ∧ r.2.mem ((c.tc : Thread Cert.DownDx0Ideal.nD Cert.DownDx0Ideal.τ).loc Cert.DownDx0Ideal.main_arg1) = m ((c.tc : Thread Cert.DownDx0Ideal.nD Cert.DownDx0Ideal.τ).loc Cert.DownDx0Ideal.main_arg1))
      ∧ r.2.sem = fun _ => 0)

def quiescent_DownDx0RefIdeal [hDownDx0RefIdeal : Cert.DownDx0RefIdeal.Facts] : Prop :=
  ∀ (m : (ℓ : Loc Cert.DownDx0RefIdeal.nD Cert.DownDx0RefIdeal.τ Cert.DownDx0RefIdeal.sig) → Buf (Elt Ideal) ℓ) (g : Dev Cert.DownDx0RefIdeal.nD → PrngReg), Pre_DownDx0RefIdeal m →
    θ_run (Cert.DownDx0RefIdeal.defs (F := Ideal)) (onTc (τ := Cert.DownDx0RefIdeal.τ) (Cert.DownDx0RefIdeal.main (F := Ideal))) ⟨m, fun _ => 0, g⟩ (fun r => (∀ c : Dev Cert.DownDx0RefIdeal.nD,
      r.2.mem ((c.tc : Thread Cert.DownDx0RefIdeal.nD Cert.DownDx0RefIdeal.τ).loc Cert.DownDx0RefIdeal.main_arg0) = m ((c.tc : Thread Cert.DownDx0RefIdeal.nD Cert.DownDx0RefIdeal.τ).loc Cert.DownDx0RefIdeal.main_arg0)
      ∧ r.2.mem ((c.tc : Thread Cert.DownDx0RefIdeal.nD Cert.DownDx0RefIdeal.τ).loc Cert.DownDx0RefIdeal.main_arg1) = m ((c.tc : Thread Cert.DownDx0RefIdeal.nD Cert.DownDx0RefIdeal.τ).loc Cert.DownDx0RefIdeal.main_arg1))
      ∧ r.2.sem = fun _ => 0)

def quiescent_DownDx1 [hDownDx1 : Cert.DownDx1.Facts] : Prop :=
  ∀ (m : (ℓ : Loc Cert.DownDx1.nD Cert.DownDx1.τ Cert.DownDx1.sig) → Buf (Elt Bits) ℓ) (g : Dev Cert.DownDx1.nD → PrngReg), Pre_DownDx1 m →
    θ_run (Cert.DownDx1.defs (F := Bits)) (onTc (τ := Cert.DownDx1.τ) (Cert.DownDx1.main (F := Bits))) ⟨m, fun _ => 0, g⟩ (fun r => (∀ c : Dev Cert.DownDx1.nD,
      r.2.mem ((c.tc : Thread Cert.DownDx1.nD Cert.DownDx1.τ).loc Cert.DownDx1.main_arg0) = m ((c.tc : Thread Cert.DownDx1.nD Cert.DownDx1.τ).loc Cert.DownDx1.main_arg0)
      ∧ r.2.mem ((c.tc : Thread Cert.DownDx1.nD Cert.DownDx1.τ).loc Cert.DownDx1.main_arg1) = m ((c.tc : Thread Cert.DownDx1.nD Cert.DownDx1.τ).loc Cert.DownDx1.main_arg1))
      ∧ r.2.sem = fun _ => 0)

def quiescent_DownDx1Ideal [hDownDx1Ideal : Cert.DownDx1Ideal.Facts] : Prop :=
  ∀ (m : (ℓ : Loc Cert.DownDx1Ideal.nD Cert.DownDx1Ideal.τ Cert.DownDx1Ideal.sig) → Buf (Elt Ideal) ℓ) (g : Dev Cert.DownDx1Ideal.nD → PrngReg), Pre_DownDx1Ideal m →
    θ_run (Cert.DownDx1Ideal.defs (F := Ideal)) (onTc (τ := Cert.DownDx1Ideal.τ) (Cert.DownDx1Ideal.main (F := Ideal))) ⟨m, fun _ => 0, g⟩ (fun r => (∀ c : Dev Cert.DownDx1Ideal.nD,
      r.2.mem ((c.tc : Thread Cert.DownDx1Ideal.nD Cert.DownDx1Ideal.τ).loc Cert.DownDx1Ideal.main_arg0) = m ((c.tc : Thread Cert.DownDx1Ideal.nD Cert.DownDx1Ideal.τ).loc Cert.DownDx1Ideal.main_arg0)
      ∧ r.2.mem ((c.tc : Thread Cert.DownDx1Ideal.nD Cert.DownDx1Ideal.τ).loc Cert.DownDx1Ideal.main_arg1) = m ((c.tc : Thread Cert.DownDx1Ideal.nD Cert.DownDx1Ideal.τ).loc Cert.DownDx1Ideal.main_arg1))
      ∧ r.2.sem = fun _ => 0)

def quiescent_DownDx1RefIdeal [hDownDx1RefIdeal : Cert.DownDx1RefIdeal.Facts] : Prop :=
  ∀ (m : (ℓ : Loc Cert.DownDx1RefIdeal.nD Cert.DownDx1RefIdeal.τ Cert.DownDx1RefIdeal.sig) → Buf (Elt Ideal) ℓ) (g : Dev Cert.DownDx1RefIdeal.nD → PrngReg), Pre_DownDx1RefIdeal m →
    θ_run (Cert.DownDx1RefIdeal.defs (F := Ideal)) (onTc (τ := Cert.DownDx1RefIdeal.τ) (Cert.DownDx1RefIdeal.main (F := Ideal))) ⟨m, fun _ => 0, g⟩ (fun r => (∀ c : Dev Cert.DownDx1RefIdeal.nD,
      r.2.mem ((c.tc : Thread Cert.DownDx1RefIdeal.nD Cert.DownDx1RefIdeal.τ).loc Cert.DownDx1RefIdeal.main_arg0) = m ((c.tc : Thread Cert.DownDx1RefIdeal.nD Cert.DownDx1RefIdeal.τ).loc Cert.DownDx1RefIdeal.main_arg0)
      ∧ r.2.mem ((c.tc : Thread Cert.DownDx1RefIdeal.nD Cert.DownDx1RefIdeal.τ).loc Cert.DownDx1RefIdeal.main_arg1) = m ((c.tc : Thread Cert.DownDx1RefIdeal.nD Cert.DownDx1RefIdeal.τ).loc Cert.DownDx1RefIdeal.main_arg1))
      ∧ r.2.sem = fun _ => 0)

def quiescent_InBDx [hInBDx : Cert.InBDx.Facts] : Prop :=
  ∀ (m : (ℓ : Loc Cert.InBDx.nD Cert.InBDx.τ Cert.InBDx.sig) → Buf (Elt Bits) ℓ) (g : Dev Cert.InBDx.nD → PrngReg), Pre_InBDx m →
    θ_run (Cert.InBDx.defs (F := Bits)) (onTc (τ := Cert.InBDx.τ) (Cert.InBDx.main (F := Bits))) ⟨m, fun _ => 0, g⟩ (fun r => (∀ c : Dev Cert.InBDx.nD,
      r.2.mem ((c.tc : Thread Cert.InBDx.nD Cert.InBDx.τ).loc Cert.InBDx.main_arg0) = m ((c.tc : Thread Cert.InBDx.nD Cert.InBDx.τ).loc Cert.InBDx.main_arg0)
      ∧ r.2.mem ((c.tc : Thread Cert.InBDx.nD Cert.InBDx.τ).loc Cert.InBDx.main_arg1) = m ((c.tc : Thread Cert.InBDx.nD Cert.InBDx.τ).loc Cert.InBDx.main_arg1))
      ∧ r.2.sem = fun _ => 0)

def quiescent_InBDxIdeal [hInBDxIdeal : Cert.InBDxIdeal.Facts] : Prop :=
  ∀ (m : (ℓ : Loc Cert.InBDxIdeal.nD Cert.InBDxIdeal.τ Cert.InBDxIdeal.sig) → Buf (Elt Ideal) ℓ) (g : Dev Cert.InBDxIdeal.nD → PrngReg), Pre_InBDxIdeal m →
    θ_run (Cert.InBDxIdeal.defs (F := Ideal)) (onTc (τ := Cert.InBDxIdeal.τ) (Cert.InBDxIdeal.main (F := Ideal))) ⟨m, fun _ => 0, g⟩ (fun r => (∀ c : Dev Cert.InBDxIdeal.nD,
      r.2.mem ((c.tc : Thread Cert.InBDxIdeal.nD Cert.InBDxIdeal.τ).loc Cert.InBDxIdeal.main_arg0) = m ((c.tc : Thread Cert.InBDxIdeal.nD Cert.InBDxIdeal.τ).loc Cert.InBDxIdeal.main_arg0)
      ∧ r.2.mem ((c.tc : Thread Cert.InBDxIdeal.nD Cert.InBDxIdeal.τ).loc Cert.InBDxIdeal.main_arg1) = m ((c.tc : Thread Cert.InBDxIdeal.nD Cert.InBDxIdeal.τ).loc Cert.InBDxIdeal.main_arg1))
      ∧ r.2.sem = fun _ => 0)

def quiescent_InBDxRefIdeal [hInBDxRefIdeal : Cert.InBDxRefIdeal.Facts] : Prop :=
  ∀ (m : (ℓ : Loc Cert.InBDxRefIdeal.nD Cert.InBDxRefIdeal.τ Cert.InBDxRefIdeal.sig) → Buf (Elt Ideal) ℓ) (g : Dev Cert.InBDxRefIdeal.nD → PrngReg), Pre_InBDxRefIdeal m →
    θ_run (Cert.InBDxRefIdeal.defs (F := Ideal)) (onTc (τ := Cert.InBDxRefIdeal.τ) (Cert.InBDxRefIdeal.main (F := Ideal))) ⟨m, fun _ => 0, g⟩ (fun r => (∀ c : Dev Cert.InBDxRefIdeal.nD,
      r.2.mem ((c.tc : Thread Cert.InBDxRefIdeal.nD Cert.InBDxRefIdeal.τ).loc Cert.InBDxRefIdeal.main_arg0) = m ((c.tc : Thread Cert.InBDxRefIdeal.nD Cert.InBDxRefIdeal.τ).loc Cert.InBDxRefIdeal.main_arg0)
      ∧ r.2.mem ((c.tc : Thread Cert.InBDxRefIdeal.nD Cert.InBDxRefIdeal.τ).loc Cert.InBDxRefIdeal.main_arg1) = m ((c.tc : Thread Cert.InBDxRefIdeal.nD Cert.InBDxRefIdeal.τ).loc Cert.InBDxRefIdeal.main_arg1))
      ∧ r.2.sem = fun _ => 0)

def quiescent_InBDw [hInBDw : Cert.InBDw.Facts] : Prop :=
  ∀ (m : (ℓ : Loc Cert.InBDw.nD Cert.InBDw.τ Cert.InBDw.sig) → Buf (Elt Bits) ℓ) (g : Dev Cert.InBDw.nD → PrngReg), Pre_InBDw m →
    θ_run (Cert.InBDw.defs (F := Bits)) (onTc (τ := Cert.InBDw.τ) (Cert.InBDw.main (F := Bits))) ⟨m, fun _ => 0, g⟩ (fun r => (∀ c : Dev Cert.InBDw.nD,
      r.2.mem ((c.tc : Thread Cert.InBDw.nD Cert.InBDw.τ).loc Cert.InBDw.main_arg0) = m ((c.tc : Thread Cert.InBDw.nD Cert.InBDw.τ).loc Cert.InBDw.main_arg0)
      ∧ r.2.mem ((c.tc : Thread Cert.InBDw.nD Cert.InBDw.τ).loc Cert.InBDw.main_arg1) = m ((c.tc : Thread Cert.InBDw.nD Cert.InBDw.τ).loc Cert.InBDw.main_arg1))
      ∧ r.2.sem = fun _ => 0)

def quiescent_InBDwIdeal [hInBDwIdeal : Cert.InBDwIdeal.Facts] : Prop :=
  ∀ (m : (ℓ : Loc Cert.InBDwIdeal.nD Cert.InBDwIdeal.τ Cert.InBDwIdeal.sig) → Buf (Elt Ideal) ℓ) (g : Dev Cert.InBDwIdeal.nD → PrngReg), Pre_InBDwIdeal m →
    θ_run (Cert.InBDwIdeal.defs (F := Ideal)) (onTc (τ := Cert.InBDwIdeal.τ) (Cert.InBDwIdeal.main (F := Ideal))) ⟨m, fun _ => 0, g⟩ (fun r => (∀ c : Dev Cert.InBDwIdeal.nD,
      r.2.mem ((c.tc : Thread Cert.InBDwIdeal.nD Cert.InBDwIdeal.τ).loc Cert.InBDwIdeal.main_arg0) = m ((c.tc : Thread Cert.InBDwIdeal.nD Cert.InBDwIdeal.τ).loc Cert.InBDwIdeal.main_arg0)
      ∧ r.2.mem ((c.tc : Thread Cert.InBDwIdeal.nD Cert.InBDwIdeal.τ).loc Cert.InBDwIdeal.main_arg1) = m ((c.tc : Thread Cert.InBDwIdeal.nD Cert.InBDwIdeal.τ).loc Cert.InBDwIdeal.main_arg1))
      ∧ r.2.sem = fun _ => 0)

def quiescent_InBDwRefIdeal [hInBDwRefIdeal : Cert.InBDwRefIdeal.Facts] : Prop :=
  ∀ (m : (ℓ : Loc Cert.InBDwRefIdeal.nD Cert.InBDwRefIdeal.τ Cert.InBDwRefIdeal.sig) → Buf (Elt Ideal) ℓ) (g : Dev Cert.InBDwRefIdeal.nD → PrngReg), Pre_InBDwRefIdeal m →
    θ_run (Cert.InBDwRefIdeal.defs (F := Ideal)) (onTc (τ := Cert.InBDwRefIdeal.τ) (Cert.InBDwRefIdeal.main (F := Ideal))) ⟨m, fun _ => 0, g⟩ (fun r => (∀ c : Dev Cert.InBDwRefIdeal.nD,
      r.2.mem ((c.tc : Thread Cert.InBDwRefIdeal.nD Cert.InBDwRefIdeal.τ).loc Cert.InBDwRefIdeal.main_arg0) = m ((c.tc : Thread Cert.InBDwRefIdeal.nD Cert.InBDwRefIdeal.τ).loc Cert.InBDwRefIdeal.main_arg0)
      ∧ r.2.mem ((c.tc : Thread Cert.InBDwRefIdeal.nD Cert.InBDwRefIdeal.τ).loc Cert.InBDwRefIdeal.main_arg1) = m ((c.tc : Thread Cert.InBDwRefIdeal.nD Cert.InBDwRefIdeal.τ).loc Cert.InBDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutADw [hOutADw : Cert.OutADw.Facts] : Prop :=
  ∀ (m : (ℓ : Loc Cert.OutADw.nD Cert.OutADw.τ Cert.OutADw.sig) → Buf (Elt Bits) ℓ) (g : Dev Cert.OutADw.nD → PrngReg), Pre_OutADw m →
    θ_run (Cert.OutADw.defs (F := Bits)) (onTc (τ := Cert.OutADw.τ) (Cert.OutADw.main (F := Bits))) ⟨m, fun _ => 0, g⟩ (fun r => (∀ c : Dev Cert.OutADw.nD,
      r.2.mem ((c.tc : Thread Cert.OutADw.nD Cert.OutADw.τ).loc Cert.OutADw.main_arg0) = m ((c.tc : Thread Cert.OutADw.nD Cert.OutADw.τ).loc Cert.OutADw.main_arg0)
      ∧ r.2.mem ((c.tc : Thread Cert.OutADw.nD Cert.OutADw.τ).loc Cert.OutADw.main_arg1) = m ((c.tc : Thread Cert.OutADw.nD Cert.OutADw.τ).loc Cert.OutADw.main_arg1))
      ∧ r.2.sem = fun _ => 0)

def quiescent_OutADwIdeal [hOutADwIdeal : Cert.OutADwIdeal.Facts] : Prop :=
  ∀ (m : (ℓ : Loc Cert.OutADwIdeal.nD Cert.OutADwIdeal.τ Cert.OutADwIdeal.sig) → Buf (Elt Ideal) ℓ) (g : Dev Cert.OutADwIdeal.nD → PrngReg), Pre_OutADwIdeal m →
    θ_run (Cert.OutADwIdeal.defs (F := Ideal)) (onTc (τ := Cert.OutADwIdeal.τ) (Cert.OutADwIdeal.main (F := Ideal))) ⟨m, fun _ => 0, g⟩ (fun r => (∀ c : Dev Cert.OutADwIdeal.nD,
      r.2.mem ((c.tc : Thread Cert.OutADwIdeal.nD Cert.OutADwIdeal.τ).loc Cert.OutADwIdeal.main_arg0) = m ((c.tc : Thread Cert.OutADwIdeal.nD Cert.OutADwIdeal.τ).loc Cert.OutADwIdeal.main_arg0)
      ∧ r.2.mem ((c.tc : Thread Cert.OutADwIdeal.nD Cert.OutADwIdeal.τ).loc Cert.OutADwIdeal.main_arg1) = m ((c.tc : Thread Cert.OutADwIdeal.nD Cert.OutADwIdeal.τ).loc Cert.OutADwIdeal.main_arg1))
      ∧ r.2.sem = fun _ => 0)

def quiescent_OutADwRefIdeal [hOutADwRefIdeal : Cert.OutADwRefIdeal.Facts] : Prop :=
  ∀ (m : (ℓ : Loc Cert.OutADwRefIdeal.nD Cert.OutADwRefIdeal.τ Cert.OutADwRefIdeal.sig) → Buf (Elt Ideal) ℓ) (g : Dev Cert.OutADwRefIdeal.nD → PrngReg), Pre_OutADwRefIdeal m →
    θ_run (Cert.OutADwRefIdeal.defs (F := Ideal)) (onTc (τ := Cert.OutADwRefIdeal.τ) (Cert.OutADwRefIdeal.main (F := Ideal))) ⟨m, fun _ => 0, g⟩ (fun r => (∀ c : Dev Cert.OutADwRefIdeal.nD,
      r.2.mem ((c.tc : Thread Cert.OutADwRefIdeal.nD Cert.OutADwRefIdeal.τ).loc Cert.OutADwRefIdeal.main_arg0) = m ((c.tc : Thread Cert.OutADwRefIdeal.nD Cert.OutADwRefIdeal.τ).loc Cert.OutADwRefIdeal.main_arg0)
      ∧ r.2.mem ((c.tc : Thread Cert.OutADwRefIdeal.nD Cert.OutADwRefIdeal.τ).loc Cert.OutADwRefIdeal.main_arg1) = m ((c.tc : Thread Cert.OutADwRefIdeal.nD Cert.OutADwRefIdeal.τ).loc Cert.OutADwRefIdeal.main_arg1))
      ∧ r.2.sem = fun _ => 0)

def quiescent_OutBDw [hOutBDw : Cert.OutBDw.Facts] : Prop :=
  ∀ (m : (ℓ : Loc Cert.OutBDw.nD Cert.OutBDw.τ Cert.OutBDw.sig) → Buf (Elt Bits) ℓ) (g : Dev Cert.OutBDw.nD → PrngReg), Pre_OutBDw m →
    θ_run (Cert.OutBDw.defs (F := Bits)) (onTc (τ := Cert.OutBDw.τ) (Cert.OutBDw.main (F := Bits))) ⟨m, fun _ => 0, g⟩ (fun r => (∀ c : Dev Cert.OutBDw.nD,
      r.2.mem ((c.tc : Thread Cert.OutBDw.nD Cert.OutBDw.τ).loc Cert.OutBDw.main_arg0) = m ((c.tc : Thread Cert.OutBDw.nD Cert.OutBDw.τ).loc Cert.OutBDw.main_arg0)
      ∧ r.2.mem ((c.tc : Thread Cert.OutBDw.nD Cert.OutBDw.τ).loc Cert.OutBDw.main_arg1) = m ((c.tc : Thread Cert.OutBDw.nD Cert.OutBDw.τ).loc Cert.OutBDw.main_arg1))
      ∧ r.2.sem = fun _ => 0)

def quiescent_OutBDwIdeal [hOutBDwIdeal : Cert.OutBDwIdeal.Facts] : Prop :=
  ∀ (m : (ℓ : Loc Cert.OutBDwIdeal.nD Cert.OutBDwIdeal.τ Cert.OutBDwIdeal.sig) → Buf (Elt Ideal) ℓ) (g : Dev Cert.OutBDwIdeal.nD → PrngReg), Pre_OutBDwIdeal m →
    θ_run (Cert.OutBDwIdeal.defs (F := Ideal)) (onTc (τ := Cert.OutBDwIdeal.τ) (Cert.OutBDwIdeal.main (F := Ideal))) ⟨m, fun _ => 0, g⟩ (fun r => (∀ c : Dev Cert.OutBDwIdeal.nD,
      r.2.mem ((c.tc : Thread Cert.OutBDwIdeal.nD Cert.OutBDwIdeal.τ).loc Cert.OutBDwIdeal.main_arg0) = m ((c.tc : Thread Cert.OutBDwIdeal.nD Cert.OutBDwIdeal.τ).loc Cert.OutBDwIdeal.main_arg0)
      ∧ r.2.mem ((c.tc : Thread Cert.OutBDwIdeal.nD Cert.OutBDwIdeal.τ).loc Cert.OutBDwIdeal.main_arg1) = m ((c.tc : Thread Cert.OutBDwIdeal.nD Cert.OutBDwIdeal.τ).loc Cert.OutBDwIdeal.main_arg1))
      ∧ r.2.sem = fun _ => 0)

def quiescent_OutBDwRefIdeal [hOutBDwRefIdeal : Cert.OutBDwRefIdeal.Facts] : Prop :=
  ∀ (m : (ℓ : Loc Cert.OutBDwRefIdeal.nD Cert.OutBDwRefIdeal.τ Cert.OutBDwRefIdeal.sig) → Buf (Elt Ideal) ℓ) (g : Dev Cert.OutBDwRefIdeal.nD → PrngReg), Pre_OutBDwRefIdeal m →
    θ_run (Cert.OutBDwRefIdeal.defs (F := Ideal)) (onTc (τ := Cert.OutBDwRefIdeal.τ) (Cert.OutBDwRefIdeal.main (F := Ideal))) ⟨m, fun _ => 0, g⟩ (fun r => (∀ c : Dev Cert.OutBDwRefIdeal.nD,
      r.2.mem ((c.tc : Thread Cert.OutBDwRefIdeal.nD Cert.OutBDwRefIdeal.τ).loc Cert.OutBDwRefIdeal.main_arg0) = m ((c.tc : Thread Cert.OutBDwRefIdeal.nD Cert.OutBDwRefIdeal.τ).loc Cert.OutBDwRefIdeal.main_arg0)
      ∧ r.2.mem ((c.tc : Thread Cert.OutBDwRefIdeal.nD Cert.OutBDwRefIdeal.τ).loc Cert.OutBDwRefIdeal.main_arg1) = m ((c.tc : Thread Cert.OutBDwRefIdeal.nD Cert.OutBDwRefIdeal.τ).loc Cert.OutBDwRefIdeal.main_arg1))
      ∧ r.2.sem = fun _ => 0)

def quiescent_InADx0 [hInADx0 : Cert.InADx0.Facts] : Prop :=
  ∀ (m : (ℓ : Loc Cert.InADx0.nD Cert.InADx0.τ Cert.InADx0.sig) → Buf (Elt Bits) ℓ) (g : Dev Cert.InADx0.nD → PrngReg), Pre_InADx0 m →
    θ_run (Cert.InADx0.defs (F := Bits)) (onTc (τ := Cert.InADx0.τ) (Cert.InADx0.main (F := Bits))) ⟨m, fun _ => 0, g⟩ (fun r => (∀ c : Dev Cert.InADx0.nD,
      r.2.mem ((c.tc : Thread Cert.InADx0.nD Cert.InADx0.τ).loc Cert.InADx0.main_arg0) = m ((c.tc : Thread Cert.InADx0.nD Cert.InADx0.τ).loc Cert.InADx0.main_arg0)
      ∧ r.2.mem ((c.tc : Thread Cert.InADx0.nD Cert.InADx0.τ).loc Cert.InADx0.main_arg1) = m ((c.tc : Thread Cert.InADx0.nD Cert.InADx0.τ).loc Cert.InADx0.main_arg1))
      ∧ r.2.sem = fun _ => 0)

def quiescent_InADx0Ideal [hInADx0Ideal : Cert.InADx0Ideal.Facts] : Prop :=
  ∀ (m : (ℓ : Loc Cert.InADx0Ideal.nD Cert.InADx0Ideal.τ Cert.InADx0Ideal.sig) → Buf (Elt Ideal) ℓ) (g : Dev Cert.InADx0Ideal.nD → PrngReg), Pre_InADx0Ideal m →
    θ_run (Cert.InADx0Ideal.defs (F := Ideal)) (onTc (τ := Cert.InADx0Ideal.τ) (Cert.InADx0Ideal.main (F := Ideal))) ⟨m, fun _ => 0, g⟩ (fun r => (∀ c : Dev Cert.InADx0Ideal.nD,
      r.2.mem ((c.tc : Thread Cert.InADx0Ideal.nD Cert.InADx0Ideal.τ).loc Cert.InADx0Ideal.main_arg0) = m ((c.tc : Thread Cert.InADx0Ideal.nD Cert.InADx0Ideal.τ).loc Cert.InADx0Ideal.main_arg0)
      ∧ r.2.mem ((c.tc : Thread Cert.InADx0Ideal.nD Cert.InADx0Ideal.τ).loc Cert.InADx0Ideal.main_arg1) = m ((c.tc : Thread Cert.InADx0Ideal.nD Cert.InADx0Ideal.τ).loc Cert.InADx0Ideal.main_arg1))
      ∧ r.2.sem = fun _ => 0)

def quiescent_InADx0RefIdeal [hInADx0RefIdeal : Cert.InADx0RefIdeal.Facts] : Prop :=
  ∀ (m : (ℓ : Loc Cert.InADx0RefIdeal.nD Cert.InADx0RefIdeal.τ Cert.InADx0RefIdeal.sig) → Buf (Elt Ideal) ℓ) (g : Dev Cert.InADx0RefIdeal.nD → PrngReg), Pre_InADx0RefIdeal m →
    θ_run (Cert.InADx0RefIdeal.defs (F := Ideal)) (onTc (τ := Cert.InADx0RefIdeal.τ) (Cert.InADx0RefIdeal.main (F := Ideal))) ⟨m, fun _ => 0, g⟩ (fun r => (∀ c : Dev Cert.InADx0RefIdeal.nD,
      r.2.mem ((c.tc : Thread Cert.InADx0RefIdeal.nD Cert.InADx0RefIdeal.τ).loc Cert.InADx0RefIdeal.main_arg0) = m ((c.tc : Thread Cert.InADx0RefIdeal.nD Cert.InADx0RefIdeal.τ).loc Cert.InADx0RefIdeal.main_arg0)
      ∧ r.2.mem ((c.tc : Thread Cert.InADx0RefIdeal.nD Cert.InADx0RefIdeal.τ).loc Cert.InADx0RefIdeal.main_arg1) = m ((c.tc : Thread Cert.InADx0RefIdeal.nD Cert.InADx0RefIdeal.τ).loc Cert.InADx0RefIdeal.main_arg1))
      ∧ r.2.sem = fun _ => 0)

def quiescent_InADx1 [hInADx1 : Cert.InADx1.Facts] : Prop :=
  ∀ (m : (ℓ : Loc Cert.InADx1.nD Cert.InADx1.τ Cert.InADx1.sig) → Buf (Elt Bits) ℓ) (g : Dev Cert.InADx1.nD → PrngReg), Pre_InADx1 m →
    θ_run (Cert.InADx1.defs (F := Bits)) (onTc (τ := Cert.InADx1.τ) (Cert.InADx1.main (F := Bits))) ⟨m, fun _ => 0, g⟩ (fun r => (∀ c : Dev Cert.InADx1.nD,
      r.2.mem ((c.tc : Thread Cert.InADx1.nD Cert.InADx1.τ).loc Cert.InADx1.main_arg0) = m ((c.tc : Thread Cert.InADx1.nD Cert.InADx1.τ).loc Cert.InADx1.main_arg0)
      ∧ r.2.mem ((c.tc : Thread Cert.InADx1.nD Cert.InADx1.τ).loc Cert.InADx1.main_arg1) = m ((c.tc : Thread Cert.InADx1.nD Cert.InADx1.τ).loc Cert.InADx1.main_arg1))
      ∧ r.2.sem = fun _ => 0)

def quiescent_InADx1Ideal [hInADx1Ideal : Cert.InADx1Ideal.Facts] : Prop :=
  ∀ (m : (ℓ : Loc Cert.InADx1Ideal.nD Cert.InADx1Ideal.τ Cert.InADx1Ideal.sig) → Buf (Elt Ideal) ℓ) (g : Dev Cert.InADx1Ideal.nD → PrngReg), Pre_InADx1Ideal m →
    θ_run (Cert.InADx1Ideal.defs (F := Ideal)) (onTc (τ := Cert.InADx1Ideal.τ) (Cert.InADx1Ideal.main (F := Ideal))) ⟨m, fun _ => 0, g⟩ (fun r => (∀ c : Dev Cert.InADx1Ideal.nD,
      r.2.mem ((c.tc : Thread Cert.InADx1Ideal.nD Cert.InADx1Ideal.τ).loc Cert.InADx1Ideal.main_arg0) = m ((c.tc : Thread Cert.InADx1Ideal.nD Cert.InADx1Ideal.τ).loc Cert.InADx1Ideal.main_arg0)
      ∧ r.2.mem ((c.tc : Thread Cert.InADx1Ideal.nD Cert.InADx1Ideal.τ).loc Cert.InADx1Ideal.main_arg1) = m ((c.tc : Thread Cert.InADx1Ideal.nD Cert.InADx1Ideal.τ).loc Cert.InADx1Ideal.main_arg1))
      ∧ r.2.sem = fun _ => 0)

def quiescent_InADx1RefIdeal [hInADx1RefIdeal : Cert.InADx1RefIdeal.Facts] : Prop :=
  ∀ (m : (ℓ : Loc Cert.InADx1RefIdeal.nD Cert.InADx1RefIdeal.τ Cert.InADx1RefIdeal.sig) → Buf (Elt Ideal) ℓ) (g : Dev Cert.InADx1RefIdeal.nD → PrngReg), Pre_InADx1RefIdeal m →
    θ_run (Cert.InADx1RefIdeal.defs (F := Ideal)) (onTc (τ := Cert.InADx1RefIdeal.τ) (Cert.InADx1RefIdeal.main (F := Ideal))) ⟨m, fun _ => 0, g⟩ (fun r => (∀ c : Dev Cert.InADx1RefIdeal.nD,
      r.2.mem ((c.tc : Thread Cert.InADx1RefIdeal.nD Cert.InADx1RefIdeal.τ).loc Cert.InADx1RefIdeal.main_arg0) = m ((c.tc : Thread Cert.InADx1RefIdeal.nD Cert.InADx1RefIdeal.τ).loc Cert.InADx1RefIdeal.main_arg0)
      ∧ r.2.mem ((c.tc : Thread Cert.InADx1RefIdeal.nD Cert.InADx1RefIdeal.τ).loc Cert.InADx1RefIdeal.main_arg1) = m ((c.tc : Thread Cert.InADx1RefIdeal.nD Cert.InADx1RefIdeal.τ).loc Cert.InADx1RefIdeal.main_arg1))
      ∧ r.2.sem = fun _ => 0)

def quiescent_InADx2 [hInADx2 : Cert.InADx2.Facts] : Prop :=
  ∀ (m : (ℓ : Loc Cert.InADx2.nD Cert.InADx2.τ Cert.InADx2.sig) → Buf (Elt Bits) ℓ) (g : Dev Cert.InADx2.nD → PrngReg), Pre_InADx2 m →
    θ_run (Cert.InADx2.defs (F := Bits)) (onTc (τ := Cert.InADx2.τ) (Cert.InADx2.main (F := Bits))) ⟨m, fun _ => 0, g⟩ (fun r => (∀ c : Dev Cert.InADx2.nD,
      r.2.mem ((c.tc : Thread Cert.InADx2.nD Cert.InADx2.τ).loc Cert.InADx2.main_arg0) = m ((c.tc : Thread Cert.InADx2.nD Cert.InADx2.τ).loc Cert.InADx2.main_arg0)
      ∧ r.2.mem ((c.tc : Thread Cert.InADx2.nD Cert.InADx2.τ).loc Cert.InADx2.main_arg1) = m ((c.tc : Thread Cert.InADx2.nD Cert.InADx2.τ).loc Cert.InADx2.main_arg1))
      ∧ r.2.sem = fun _ => 0)

def quiescent_InADx2Ideal [hInADx2Ideal : Cert.InADx2Ideal.Facts] : Prop :=
  ∀ (m : (ℓ : Loc Cert.InADx2Ideal.nD Cert.InADx2Ideal.τ Cert.InADx2Ideal.sig) → Buf (Elt Ideal) ℓ) (g : Dev Cert.InADx2Ideal.nD → PrngReg), Pre_InADx2Ideal m →
    θ_run (Cert.InADx2Ideal.defs (F := Ideal)) (onTc (τ := Cert.InADx2Ideal.τ) (Cert.InADx2Ideal.main (F := Ideal))) ⟨m, fun _ => 0, g⟩ (fun r => (∀ c : Dev Cert.InADx2Ideal.nD,
      r.2.mem ((c.tc : Thread Cert.InADx2Ideal.nD Cert.InADx2Ideal.τ).loc Cert.InADx2Ideal.main_arg0) = m ((c.tc : Thread Cert.InADx2Ideal.nD Cert.InADx2Ideal.τ).loc Cert.InADx2Ideal.main_arg0)
      ∧ r.2.mem ((c.tc : Thread Cert.InADx2Ideal.nD Cert.InADx2Ideal.τ).loc Cert.InADx2Ideal.main_arg1) = m ((c.tc : Thread Cert.InADx2Ideal.nD Cert.InADx2Ideal.τ).loc Cert.InADx2Ideal.main_arg1))
      ∧ r.2.sem = fun _ => 0)

def quiescent_InADx2RefIdeal [hInADx2RefIdeal : Cert.InADx2RefIdeal.Facts] : Prop :=
  ∀ (m : (ℓ : Loc Cert.InADx2RefIdeal.nD Cert.InADx2RefIdeal.τ Cert.InADx2RefIdeal.sig) → Buf (Elt Ideal) ℓ) (g : Dev Cert.InADx2RefIdeal.nD → PrngReg), Pre_InADx2RefIdeal m →
    θ_run (Cert.InADx2RefIdeal.defs (F := Ideal)) (onTc (τ := Cert.InADx2RefIdeal.τ) (Cert.InADx2RefIdeal.main (F := Ideal))) ⟨m, fun _ => 0, g⟩ (fun r => (∀ c : Dev Cert.InADx2RefIdeal.nD,
      r.2.mem ((c.tc : Thread Cert.InADx2RefIdeal.nD Cert.InADx2RefIdeal.τ).loc Cert.InADx2RefIdeal.main_arg0) = m ((c.tc : Thread Cert.InADx2RefIdeal.nD Cert.InADx2RefIdeal.τ).loc Cert.InADx2RefIdeal.main_arg0)
      ∧ r.2.mem ((c.tc : Thread Cert.InADx2RefIdeal.nD Cert.InADx2RefIdeal.τ).loc Cert.InADx2RefIdeal.main_arg1) = m ((c.tc : Thread Cert.InADx2RefIdeal.nD Cert.InADx2RefIdeal.τ).loc Cert.InADx2RefIdeal.main_arg1))
      ∧ r.2.sem = fun _ => 0)

def quiescent_InA0 [hInA0 : Cert.InA0.Facts] : Prop :=
  ∀ (m : (ℓ : Loc Cert.InA0.nD Cert.InA0.τ Cert.InA0.sig) → Buf (Elt Bits) ℓ) (g : Dev Cert.InA0.nD → PrngReg), Pre_InA0 m →
    θ_run (Cert.InA0.defs (F := Bits)) (onTc (τ := Cert.InA0.τ) (Cert.InA0.main (F := Bits))) ⟨m, fun _ => 0, g⟩ (fun r => (∀ c : Dev Cert.InA0.nD,
      r.2.mem ((c.tc : Thread Cert.InA0.nD Cert.InA0.τ).loc Cert.InA0.main_arg0) = m ((c.tc : Thread Cert.InA0.nD Cert.InA0.τ).loc Cert.InA0.main_arg0)
      ∧ r.2.mem ((c.tc : Thread Cert.InA0.nD Cert.InA0.τ).loc Cert.InA0.main_arg1) = m ((c.tc : Thread Cert.InA0.nD Cert.InA0.τ).loc Cert.InA0.main_arg1))
      ∧ r.2.sem = fun _ => 0)

def quiescent_InA0Ideal [hInA0Ideal : Cert.InA0Ideal.Facts] : Prop :=
  ∀ (m : (ℓ : Loc Cert.InA0Ideal.nD Cert.InA0Ideal.τ Cert.InA0Ideal.sig) → Buf (Elt Ideal) ℓ) (g : Dev Cert.InA0Ideal.nD → PrngReg), Pre_InA0Ideal m →
    θ_run (Cert.InA0Ideal.defs (F := Ideal)) (onTc (τ := Cert.InA0Ideal.τ) (Cert.InA0Ideal.main (F := Ideal))) ⟨m, fun _ => 0, g⟩ (fun r => (∀ c : Dev Cert.InA0Ideal.nD,
      r.2.mem ((c.tc : Thread Cert.InA0Ideal.nD Cert.InA0Ideal.τ).loc Cert.InA0Ideal.main_arg0) = m ((c.tc : Thread Cert.InA0Ideal.nD Cert.InA0Ideal.τ).loc Cert.InA0Ideal.main_arg0)
      ∧ r.2.mem ((c.tc : Thread Cert.InA0Ideal.nD Cert.InA0Ideal.τ).loc Cert.InA0Ideal.main_arg1) = m ((c.tc : Thread Cert.InA0Ideal.nD Cert.InA0Ideal.τ).loc Cert.InA0Ideal.main_arg1))
      ∧ r.2.sem = fun _ => 0)

def quiescent_InA0RefIdeal [hInA0RefIdeal : Cert.InA0RefIdeal.Facts] : Prop :=
  ∀ (m : (ℓ : Loc Cert.InA0RefIdeal.nD Cert.InA0RefIdeal.τ Cert.InA0RefIdeal.sig) → Buf (Elt Ideal) ℓ) (g : Dev Cert.InA0RefIdeal.nD → PrngReg), Pre_InA0RefIdeal m →
    θ_run (Cert.InA0RefIdeal.defs (F := Ideal)) (onTc (τ := Cert.InA0RefIdeal.τ) (Cert.InA0RefIdeal.main (F := Ideal))) ⟨m, fun _ => 0, g⟩ (fun r => (∀ c : Dev Cert.InA0RefIdeal.nD,
      r.2.mem ((c.tc : Thread Cert.InA0RefIdeal.nD Cert.InA0RefIdeal.τ).loc Cert.InA0RefIdeal.main_arg0) = m ((c.tc : Thread Cert.InA0RefIdeal.nD Cert.InA0RefIdeal.τ).loc Cert.InA0RefIdeal.main_arg0)
      ∧ r.2.mem ((c.tc : Thread Cert.InA0RefIdeal.nD Cert.InA0RefIdeal.τ).loc Cert.InA0RefIdeal.main_arg1) = m ((c.tc : Thread Cert.InA0RefIdeal.nD Cert.InA0RefIdeal.τ).loc Cert.InA0RefIdeal.main_arg1))
      ∧ r.2.sem = fun _ => 0)

def quiescent_InA1 [hInA1 : Cert.InA1.Facts] : Prop :=
  ∀ (m : (ℓ : Loc Cert.InA1.nD Cert.InA1.τ Cert.InA1.sig) → Buf (Elt Bits) ℓ) (g : Dev Cert.InA1.nD → PrngReg), Pre_InA1 m →
    θ_run (Cert.InA1.defs (F := Bits)) (onTc (τ := Cert.InA1.τ) (Cert.InA1.main (F := Bits))) ⟨m, fun _ => 0, g⟩ (fun r => (∀ c : Dev Cert.InA1.nD,
      r.2.mem ((c.tc : Thread Cert.InA1.nD Cert.InA1.τ).loc Cert.InA1.main_arg0) = m ((c.tc : Thread Cert.InA1.nD Cert.InA1.τ).loc Cert.InA1.main_arg0)
      ∧ r.2.mem ((c.tc : Thread Cert.InA1.nD Cert.InA1.τ).loc Cert.InA1.main_arg1) = m ((c.tc : Thread Cert.InA1.nD Cert.InA1.τ).loc Cert.InA1.main_arg1))
      ∧ r.2.sem = fun _ => 0)

def quiescent_InA1Ideal [hInA1Ideal : Cert.InA1Ideal.Facts] : Prop :=
  ∀ (m : (ℓ : Loc Cert.InA1Ideal.nD Cert.InA1Ideal.τ Cert.InA1Ideal.sig) → Buf (Elt Ideal) ℓ) (g : Dev Cert.InA1Ideal.nD → PrngReg), Pre_InA1Ideal m →
    θ_run (Cert.InA1Ideal.defs (F := Ideal)) (onTc (τ := Cert.InA1Ideal.τ) (Cert.InA1Ideal.main (F := Ideal))) ⟨m, fun _ => 0, g⟩ (fun r => (∀ c : Dev Cert.InA1Ideal.nD,
      r.2.mem ((c.tc : Thread Cert.InA1Ideal.nD Cert.InA1Ideal.τ).loc Cert.InA1Ideal.main_arg0) = m ((c.tc : Thread Cert.InA1Ideal.nD Cert.InA1Ideal.τ).loc Cert.InA1Ideal.main_arg0)
      ∧ r.2.mem ((c.tc : Thread Cert.InA1Ideal.nD Cert.InA1Ideal.τ).loc Cert.InA1Ideal.main_arg1) = m ((c.tc : Thread Cert.InA1Ideal.nD Cert.InA1Ideal.τ).loc Cert.InA1Ideal.main_arg1))
      ∧ r.2.sem = fun _ => 0)

def quiescent_InA1RefIdeal [hInA1RefIdeal : Cert.InA1RefIdeal.Facts] : Prop :=
  ∀ (m : (ℓ : Loc Cert.InA1RefIdeal.nD Cert.InA1RefIdeal.τ Cert.InA1RefIdeal.sig) → Buf (Elt Ideal) ℓ) (g : Dev Cert.InA1RefIdeal.nD → PrngReg), Pre_InA1RefIdeal m →
    θ_run (Cert.InA1RefIdeal.defs (F := Ideal)) (onTc (τ := Cert.InA1RefIdeal.τ) (Cert.InA1RefIdeal.main (F := Ideal))) ⟨m, fun _ => 0, g⟩ (fun r => (∀ c : Dev Cert.InA1RefIdeal.nD,
      r.2.mem ((c.tc : Thread Cert.InA1RefIdeal.nD Cert.InA1RefIdeal.τ).loc Cert.InA1RefIdeal.main_arg0) = m ((c.tc : Thread Cert.InA1RefIdeal.nD Cert.InA1RefIdeal.τ).loc Cert.InA1RefIdeal.main_arg0)
      ∧ r.2.mem ((c.tc : Thread Cert.InA1RefIdeal.nD Cert.InA1RefIdeal.τ).loc Cert.InA1RefIdeal.main_arg1) = m ((c.tc : Thread Cert.InA1RefIdeal.nD Cert.InA1RefIdeal.τ).loc Cert.InA1RefIdeal.main_arg1))
      ∧ r.2.sem = fun _ => 0)

def quiescent_InA2 [hInA2 : Cert.InA2.Facts] : Prop :=
  ∀ (m : (ℓ : Loc Cert.InA2.nD Cert.InA2.τ Cert.InA2.sig) → Buf (Elt Bits) ℓ) (g : Dev Cert.InA2.nD → PrngReg), Pre_InA2 m →
    θ_run (Cert.InA2.defs (F := Bits)) (onTc (τ := Cert.InA2.τ) (Cert.InA2.main (F := Bits))) ⟨m, fun _ => 0, g⟩ (fun r => (∀ c : Dev Cert.InA2.nD,
      r.2.mem ((c.tc : Thread Cert.InA2.nD Cert.InA2.τ).loc Cert.InA2.main_arg0) = m ((c.tc : Thread Cert.InA2.nD Cert.InA2.τ).loc Cert.InA2.main_arg0)
      ∧ r.2.mem ((c.tc : Thread Cert.InA2.nD Cert.InA2.τ).loc Cert.InA2.main_arg1) = m ((c.tc : Thread Cert.InA2.nD Cert.InA2.τ).loc Cert.InA2.main_arg1))
      ∧ r.2.sem = fun _ => 0)

def quiescent_InA2Ideal [hInA2Ideal : Cert.InA2Ideal.Facts] : Prop :=
  ∀ (m : (ℓ : Loc Cert.InA2Ideal.nD Cert.InA2Ideal.τ Cert.InA2Ideal.sig) → Buf (Elt Ideal) ℓ) (g : Dev Cert.InA2Ideal.nD → PrngReg), Pre_InA2Ideal m →
    θ_run (Cert.InA2Ideal.defs (F := Ideal)) (onTc (τ := Cert.InA2Ideal.τ) (Cert.InA2Ideal.main (F := Ideal))) ⟨m, fun _ => 0, g⟩ (fun r => (∀ c : Dev Cert.InA2Ideal.nD,
      r.2.mem ((c.tc : Thread Cert.InA2Ideal.nD Cert.InA2Ideal.τ).loc Cert.InA2Ideal.main_arg0) = m ((c.tc : Thread Cert.InA2Ideal.nD Cert.InA2Ideal.τ).loc Cert.InA2Ideal.main_arg0)
      ∧ r.2.mem ((c.tc : Thread Cert.InA2Ideal.nD Cert.InA2Ideal.τ).loc Cert.InA2Ideal.main_arg1) = m ((c.tc : Thread Cert.InA2Ideal.nD Cert.InA2Ideal.τ).loc Cert.InA2Ideal.main_arg1))
      ∧ r.2.sem = fun _ => 0)

def quiescent_InA2RefIdeal [hInA2RefIdeal : Cert.InA2RefIdeal.Facts] : Prop :=
  ∀ (m : (ℓ : Loc Cert.InA2RefIdeal.nD Cert.InA2RefIdeal.τ Cert.InA2RefIdeal.sig) → Buf (Elt Ideal) ℓ) (g : Dev Cert.InA2RefIdeal.nD → PrngReg), Pre_InA2RefIdeal m →
    θ_run (Cert.InA2RefIdeal.defs (F := Ideal)) (onTc (τ := Cert.InA2RefIdeal.τ) (Cert.InA2RefIdeal.main (F := Ideal))) ⟨m, fun _ => 0, g⟩ (fun r => (∀ c : Dev Cert.InA2RefIdeal.nD,
      r.2.mem ((c.tc : Thread Cert.InA2RefIdeal.nD Cert.InA2RefIdeal.τ).loc Cert.InA2RefIdeal.main_arg0) = m ((c.tc : Thread Cert.InA2RefIdeal.nD Cert.InA2RefIdeal.τ).loc Cert.InA2RefIdeal.main_arg0)
      ∧ r.2.mem ((c.tc : Thread Cert.InA2RefIdeal.nD Cert.InA2RefIdeal.τ).loc Cert.InA2RefIdeal.main_arg1) = m ((c.tc : Thread Cert.InA2RefIdeal.nD Cert.InA2RefIdeal.τ).loc Cert.InA2RefIdeal.main_arg1))
      ∧ r.2.sem = fun _ => 0)

def quiescent_Up0 [hUp0 : Cert.Up0.Facts] : Prop :=
  ∀ (m : (ℓ : Loc Cert.Up0.nD Cert.Up0.τ Cert.Up0.sig) → Buf (Elt Bits) ℓ) (g : Dev Cert.Up0.nD → PrngReg), Pre_Up0 m →
    θ_run (Cert.Up0.defs (F := Bits)) (onTc (τ := Cert.Up0.τ) (Cert.Up0.main (F := Bits))) ⟨m, fun _ => 0, g⟩ (fun r => (∀ c : Dev Cert.Up0.nD,
      r.2.mem ((c.tc : Thread Cert.Up0.nD Cert.Up0.τ).loc Cert.Up0.main_arg0) = m ((c.tc : Thread Cert.Up0.nD Cert.Up0.τ).loc Cert.Up0.main_arg0)
      ∧ r.2.mem ((c.tc : Thread Cert.Up0.nD Cert.Up0.τ).loc Cert.Up0.main_arg1) = m ((c.tc : Thread Cert.Up0.nD Cert.Up0.τ).loc Cert.Up0.main_arg1))
      ∧ r.2.sem = fun _ => 0)

def quiescent_Up0Ideal [hUp0Ideal : Cert.Up0Ideal.Facts] : Prop :=
  ∀ (m : (ℓ : Loc Cert.Up0Ideal.nD Cert.Up0Ideal.τ Cert.Up0Ideal.sig) → Buf (Elt Ideal) ℓ) (g : Dev Cert.Up0Ideal.nD → PrngReg), Pre_Up0Ideal m →
    θ_run (Cert.Up0Ideal.defs (F := Ideal)) (onTc (τ := Cert.Up0Ideal.τ) (Cert.Up0Ideal.main (F := Ideal))) ⟨m, fun _ => 0, g⟩ (fun r => (∀ c : Dev Cert.Up0Ideal.nD,
      r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
      ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1))
      ∧ r.2.sem = fun _ => 0)

def quiescent_Up0RefIdeal [hUp0RefIdeal : Cert.Up0RefIdeal.Facts] : Prop :=
  ∀ (m : (ℓ : Loc Cert.Up0RefIdeal.nD Cert.Up0RefIdeal.τ Cert.Up0RefIdeal.sig) → Buf (Elt Ideal) ℓ) (g : Dev Cert.Up0RefIdeal.nD → PrngReg), Pre_Up0RefIdeal m →
    θ_run (Cert.Up0RefIdeal.defs (F := Ideal)) (onTc (τ := Cert.Up0RefIdeal.τ) (Cert.Up0RefIdeal.main (F := Ideal))) ⟨m, fun _ => 0, g⟩ (fun r => (∀ c : Dev Cert.Up0RefIdeal.nD,
      r.2.mem ((c.tc : Thread Cert.Up0RefIdeal.nD Cert.Up0RefIdeal.τ).loc Cert.Up0RefIdeal.main_arg0) = m ((c.tc : Thread Cert.Up0RefIdeal.nD Cert.Up0RefIdeal.τ).loc Cert.Up0RefIdeal.main_arg0)
      ∧ r.2.mem ((c.tc : Thread Cert.Up0RefIdeal.nD Cert.Up0RefIdeal.τ).loc Cert.Up0RefIdeal.main_arg1) = m ((c.tc : Thread Cert.Up0RefIdeal.nD Cert.Up0RefIdeal.τ).loc Cert.Up0RefIdeal.main_arg1))
      ∧ r.2.sem = fun _ => 0)

def quiescent_Down0 [hDown0 : Cert.Down0.Facts] : Prop :=
  ∀ (m : (ℓ : Loc Cert.Down0.nD Cert.Down0.τ Cert.Down0.sig) → Buf (Elt Bits) ℓ) (g : Dev Cert.Down0.nD → PrngReg), Pre_Down0 m →
    θ_run (Cert.Down0.defs (F := Bits)) (onTc (τ := Cert.Down0.τ) (Cert.Down0.main (F := Bits))) ⟨m, fun _ => 0, g⟩ (fun r => (∀ c : Dev Cert.Down0.nD,
      r.2.mem ((c.tc : Thread Cert.Down0.nD Cert.Down0.τ).loc Cert.Down0.main_arg0) = m ((c.tc : Thread Cert.Down0.nD Cert.Down0.τ).loc Cert.Down0.main_arg0)
      ∧ r.2.mem ((c.tc : Thread Cert.Down0.nD Cert.Down0.τ).loc Cert.Down0.main_arg1) = m ((c.tc : Thread Cert.Down0.nD Cert.Down0.τ).loc Cert.Down0.main_arg1))
      ∧ r.2.sem = fun _ => 0)

def quiescent_Down0Ideal [hDown0Ideal : Cert.Down0Ideal.Facts] : Prop :=
  ∀ (m : (ℓ : Loc Cert.Down0Ideal.nD Cert.Down0Ideal.τ Cert.Down0Ideal.sig) → Buf (Elt Ideal) ℓ) (g : Dev Cert.Down0Ideal.nD → PrngReg), Pre_Down0Ideal m →
    θ_run (Cert.Down0Ideal.defs (F := Ideal)) (onTc (τ := Cert.Down0Ideal.τ) (Cert.Down0Ideal.main (F := Ideal))) ⟨m, fun _ => 0, g⟩ (fun r => (∀ c : Dev Cert.Down0Ideal.nD,
      r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
      ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1))
      ∧ r.2.sem = fun _ => 0)

def quiescent_Down0RefIdeal [hDown0RefIdeal : Cert.Down0RefIdeal.Facts] : Prop :=
  ∀ (m : (ℓ : Loc Cert.Down0RefIdeal.nD Cert.Down0RefIdeal.τ Cert.Down0RefIdeal.sig) → Buf (Elt Ideal) ℓ) (g : Dev Cert.Down0RefIdeal.nD → PrngReg), Pre_Down0RefIdeal m →
    θ_run (Cert.Down0RefIdeal.defs (F := Ideal)) (onTc (τ := Cert.Down0RefIdeal.τ) (Cert.Down0RefIdeal.main (F := Ideal))) ⟨m, fun _ => 0, g⟩ (fun r => (∀ c : Dev Cert.Down0RefIdeal.nD,
      r.2.mem ((c.tc : Thread Cert.Down0RefIdeal.nD Cert.Down0RefIdeal.τ).loc Cert.Down0RefIdeal.main_arg0) = m ((c.tc : Thread Cert.Down0RefIdeal.nD Cert.Down0RefIdeal.τ).loc Cert.Down0RefIdeal.main_arg0)
      ∧ r.2.mem ((c.tc : Thread Cert.Down0RefIdeal.nD Cert.Down0RefIdeal.τ).loc Cert.Down0RefIdeal.main_arg1) = m ((c.tc : Thread Cert.Down0RefIdeal.nD Cert.Down0RefIdeal.τ).loc Cert.Down0RefIdeal.main_arg1))
      ∧ r.2.sem = fun _ => 0)

def quiescent_Up1 [hUp1 : Cert.Up1.Facts] : Prop :=
  ∀ (m : (ℓ : Loc Cert.Up1.nD Cert.Up1.τ Cert.Up1.sig) → Buf (Elt Bits) ℓ) (g : Dev Cert.Up1.nD → PrngReg), Pre_Up1 m →
    θ_run (Cert.Up1.defs (F := Bits)) (onTc (τ := Cert.Up1.τ) (Cert.Up1.main (F := Bits))) ⟨m, fun _ => 0, g⟩ (fun r => (∀ c : Dev Cert.Up1.nD,
      r.2.mem ((c.tc : Thread Cert.Up1.nD Cert.Up1.τ).loc Cert.Up1.main_arg0) = m ((c.tc : Thread Cert.Up1.nD Cert.Up1.τ).loc Cert.Up1.main_arg0)
      ∧ r.2.mem ((c.tc : Thread Cert.Up1.nD Cert.Up1.τ).loc Cert.Up1.main_arg1) = m ((c.tc : Thread Cert.Up1.nD Cert.Up1.τ).loc Cert.Up1.main_arg1))
      ∧ r.2.sem = fun _ => 0)

def quiescent_Up1Ideal [hUp1Ideal : Cert.Up1Ideal.Facts] : Prop :=
  ∀ (m : (ℓ : Loc Cert.Up1Ideal.nD Cert.Up1Ideal.τ Cert.Up1Ideal.sig) → Buf (Elt Ideal) ℓ) (g : Dev Cert.Up1Ideal.nD → PrngReg), Pre_Up1Ideal m →
    θ_run (Cert.Up1Ideal.defs (F := Ideal)) (onTc (τ := Cert.Up1Ideal.τ) (Cert.Up1Ideal.main (F := Ideal))) ⟨m, fun _ => 0, g⟩ (fun r => (∀ c : Dev Cert.Up1Ideal.nD,
      r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
      ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1))
      ∧ r.2.sem = fun _ => 0)

def quiescent_Up1RefIdeal [hUp1RefIdeal : Cert.Up1RefIdeal.Facts] : Prop :=
  ∀ (m : (ℓ : Loc Cert.Up1RefIdeal.nD Cert.Up1RefIdeal.τ Cert.Up1RefIdeal.sig) → Buf (Elt Ideal) ℓ) (g : Dev Cert.Up1RefIdeal.nD → PrngReg), Pre_Up1RefIdeal m →
    θ_run (Cert.Up1RefIdeal.defs (F := Ideal)) (onTc (τ := Cert.Up1RefIdeal.τ) (Cert.Up1RefIdeal.main (F := Ideal))) ⟨m, fun _ => 0, g⟩ (fun r => (∀ c : Dev Cert.Up1RefIdeal.nD,
      r.2.mem ((c.tc : Thread Cert.Up1RefIdeal.nD Cert.Up1RefIdeal.τ).loc Cert.Up1RefIdeal.main_arg0) = m ((c.tc : Thread Cert.Up1RefIdeal.nD Cert.Up1RefIdeal.τ).loc Cert.Up1RefIdeal.main_arg0)
      ∧ r.2.mem ((c.tc : Thread Cert.Up1RefIdeal.nD Cert.Up1RefIdeal.τ).loc Cert.Up1RefIdeal.main_arg1) = m ((c.tc : Thread Cert.Up1RefIdeal.nD Cert.Up1RefIdeal.τ).loc Cert.Up1RefIdeal.main_arg1))
      ∧ r.2.sem = fun _ => 0)

def quiescent_Down1 [hDown1 : Cert.Down1.Facts] : Prop :=
  ∀ (m : (ℓ : Loc Cert.Down1.nD Cert.Down1.τ Cert.Down1.sig) → Buf (Elt Bits) ℓ) (g : Dev Cert.Down1.nD → PrngReg), Pre_Down1 m →
    θ_run (Cert.Down1.defs (F := Bits)) (onTc (τ := Cert.Down1.τ) (Cert.Down1.main (F := Bits))) ⟨m, fun _ => 0, g⟩ (fun r => (∀ c : Dev Cert.Down1.nD,
      r.2.mem ((c.tc : Thread Cert.Down1.nD Cert.Down1.τ).loc Cert.Down1.main_arg0) = m ((c.tc : Thread Cert.Down1.nD Cert.Down1.τ).loc Cert.Down1.main_arg0)
      ∧ r.2.mem ((c.tc : Thread Cert.Down1.nD Cert.Down1.τ).loc Cert.Down1.main_arg1) = m ((c.tc : Thread Cert.Down1.nD Cert.Down1.τ).loc Cert.Down1.main_arg1))
      ∧ r.2.sem = fun _ => 0)

def quiescent_Down1Ideal [hDown1Ideal : Cert.Down1Ideal.Facts] : Prop :=
  ∀ (m : (ℓ : Loc Cert.Down1Ideal.nD Cert.Down1Ideal.τ Cert.Down1Ideal.sig) → Buf (Elt Ideal) ℓ) (g : Dev Cert.Down1Ideal.nD → PrngReg), Pre_Down1Ideal m →
    θ_run (Cert.Down1Ideal.defs (F := Ideal)) (onTc (τ := Cert.Down1Ideal.τ) (Cert.Down1Ideal.main (F := Ideal))) ⟨m, fun _ => 0, g⟩ (fun r => (∀ c : Dev Cert.Down1Ideal.nD,
      r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
      ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1))
      ∧ r.2.sem = fun _ => 0)

def quiescent_Down1RefIdeal [hDown1RefIdeal : Cert.Down1RefIdeal.Facts] : Prop :=
  ∀ (m : (ℓ : Loc Cert.Down1RefIdeal.nD Cert.Down1RefIdeal.τ Cert.Down1RefIdeal.sig) → Buf (Elt Ideal) ℓ) (g : Dev Cert.Down1RefIdeal.nD → PrngReg), Pre_Down1RefIdeal m →
    θ_run (Cert.Down1RefIdeal.defs (F := Ideal)) (onTc (τ := Cert.Down1RefIdeal.τ) (Cert.Down1RefIdeal.main (F := Ideal))) ⟨m, fun _ => 0, g⟩ (fun r => (∀ c : Dev Cert.Down1RefIdeal.nD,
      r.2.mem ((c.tc : Thread Cert.Down1RefIdeal.nD Cert.Down1RefIdeal.τ).loc Cert.Down1RefIdeal.main_arg0) = m ((c.tc : Thread Cert.Down1RefIdeal.nD Cert.Down1RefIdeal.τ).loc Cert.Down1RefIdeal.main_arg0)
      ∧ r.2.mem ((c.tc : Thread Cert.Down1RefIdeal.nD Cert.Down1RefIdeal.τ).loc Cert.Down1RefIdeal.main_arg1) = m ((c.tc : Thread Cert.Down1RefIdeal.nD Cert.Down1RefIdeal.τ).loc Cert.Down1RefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1))
      ∧ r.2.sem = fun _ => 0)

def quiescent_OutBRefIdeal [hOutBRefIdeal : Cert.OutBRefIdeal.Facts] : Prop :=
  ∀ (m : (ℓ : Loc Cert.OutBRefIdeal.nD Cert.OutBRefIdeal.τ Cert.OutBRefIdeal.sig) → Buf (Elt Ideal) ℓ) (g : Dev Cert.OutBRefIdeal.nD → PrngReg), Pre_OutBRefIdeal m →
    θ_run (Cert.OutBRefIdeal.defs (F := Ideal)) (onTc (τ := Cert.OutBRefIdeal.τ) (Cert.OutBRefIdeal.main (F := Ideal))) ⟨m, fun _ => 0, g⟩ (fun r => (∀ c : Dev Cert.OutBRefIdeal.nD,
      r.2.mem ((c.tc : Thread Cert.OutBRefIdeal.nD Cert.OutBRefIdeal.τ).loc Cert.OutBRefIdeal.main_arg0) = m ((c.tc : Thread Cert.OutBRefIdeal.nD Cert.OutBRefIdeal.τ).loc Cert.OutBRefIdeal.main_arg0)
      ∧ r.2.mem ((c.tc : Thread Cert.OutBRefIdeal.nD Cert.OutBRefIdeal.τ).loc Cert.OutBRefIdeal.main_arg1) = m ((c.tc : Thread Cert.OutBRefIdeal.nD Cert.OutBRefIdeal.τ).loc Cert.OutBRefIdeal.main_arg1))
      ∧ r.2.sem = fun _ => 0)

def quiescent_DownDw1 [hDownDw1 : Cert.DownDw1.Facts] : Prop :=
  ∀ (m : (ℓ : Loc Cert.DownDw1.nD Cert.DownDw1.τ Cert.DownDw1.sig) → Buf (Elt Bits) ℓ) (g : Dev Cert.DownDw1.nD → PrngReg), Pre_DownDw1 m →
    θ_run (Cert.DownDw1.defs (F := Bits)) (onTc (τ := Cert.DownDw1.τ) (Cert.DownDw1.main (F := Bits))) ⟨m, fun _ => 0, g⟩ (fun r => (∀ c : Dev Cert.DownDw1.nD,
      r.2.mem ((c.tc : Thread Cert.DownDw1.nD Cert.DownDw1.τ).loc Cert.DownDw1.main_arg0) = m ((c.tc : Thread Cert.DownDw1.nD Cert.DownDw1.τ).loc Cert.DownDw1.main_arg0)
      ∧ r.2.mem ((c.tc : Thread Cert.DownDw1.nD Cert.DownDw1.τ).loc Cert.DownDw1.main_arg1) = m ((c.tc : Thread Cert.DownDw1.nD Cert.DownDw1.τ).loc Cert.DownDw1.main_arg1))
      ∧ r.2.sem = fun _ => 0)

def quiescent_DownDw1Ideal [hDownDw1Ideal : Cert.DownDw1Ideal.Facts] : Prop :=
  ∀ (m : (ℓ : Loc Cert.DownDw1Ideal.nD Cert.DownDw1Ideal.τ Cert.DownDw1Ideal.sig) → Buf (Elt Ideal) ℓ) (g : Dev Cert.DownDw1Ideal.nD → PrngReg), Pre_DownDw1Ideal m →
    θ_run (Cert.DownDw1Ideal.defs (F := Ideal)) (onTc (τ := Cert.DownDw1Ideal.τ) (Cert.DownDw1Ideal.main (F := Ideal))) ⟨m, fun _ => 0, g⟩ (fun r => (∀ c : Dev Cert.DownDw1Ideal.nD,
      r.2.mem ((c.tc : Thread Cert.DownDw1Ideal.nD Cert.DownDw1Ideal.τ).loc Cert.DownDw1Ideal.main_arg0) = m ((c.tc : Thread Cert.DownDw1Ideal.nD Cert.DownDw1Ideal.τ).loc Cert.DownDw1Ideal.main_arg0)
      ∧ r.2.mem ((c.tc : Thread Cert.DownDw1Ideal.nD Cert.DownDw1Ideal.τ).loc Cert.DownDw1Ideal.main_arg1) = m ((c.tc : Thread Cert.DownDw1Ideal.nD Cert.DownDw1Ideal.τ).loc Cert.DownDw1Ideal.main_arg1))
      ∧ r.2.sem = fun _ => 0)

def quiescent_DownDw1RefIdeal [hDownDw1RefIdeal : Cert.DownDw1RefIdeal.Facts] : Prop :=
  ∀ (m : (ℓ : Loc Cert.DownDw1RefIdeal.nD Cert.DownDw1RefIdeal.τ Cert.DownDw1RefIdeal.sig) → Buf (Elt Ideal) ℓ) (g : Dev Cert.DownDw1RefIdeal.nD → PrngReg), Pre_DownDw1RefIdeal m →
    θ_run (Cert.DownDw1RefIdeal.defs (F := Ideal)) (onTc (τ := Cert.DownDw1RefIdeal.τ) (Cert.DownDw1RefIdeal.main (F := Ideal))) ⟨m, fun _ => 0, g⟩ (fun r => (∀ c : Dev Cert.DownDw1RefIdeal.nD,
      r.2.mem ((c.tc : Thread Cert.DownDw1RefIdeal.nD Cert.DownDw1RefIdeal.τ).loc Cert.DownDw1RefIdeal.main_arg0) = m ((c.tc : Thread Cert.DownDw1RefIdeal.nD Cert.DownDw1RefIdeal.τ).loc Cert.DownDw1RefIdeal.main_arg0)
      ∧ r.2.mem ((c.tc : Thread Cert.DownDw1RefIdeal.nD Cert.DownDw1RefIdeal.τ).loc Cert.DownDw1RefIdeal.main_arg1) = m ((c.tc : Thread Cert.DownDw1RefIdeal.nD Cert.DownDw1RefIdeal.τ).loc Cert.DownDw1RefIdeal.main_arg1))
      ∧ r.2.sem = fun _ => 0)

def quiescent_DownDw0 [hDownDw0 : Cert.DownDw0.Facts] : Prop :=
  ∀ (m : (ℓ : Loc Cert.DownDw0.nD Cert.DownDw0.τ Cert.DownDw0.sig) → Buf (Elt Bits) ℓ) (g : Dev Cert.DownDw0.nD → PrngReg), Pre_DownDw0 m →
    θ_run (Cert.DownDw0.defs (F := Bits)) (onTc (τ := Cert.DownDw0.τ) (Cert.DownDw0.main (F := Bits))) ⟨m, fun _ => 0, g⟩ (fun r => (∀ c : Dev Cert.DownDw0.nD,
      r.2.mem ((c.tc : Thread Cert.DownDw0.nD Cert.DownDw0.τ).loc Cert.DownDw0.main_arg0) = m ((c.tc : Thread Cert.DownDw0.nD Cert.DownDw0.τ).loc Cert.DownDw0.main_arg0)
      ∧ r.2.mem ((c.tc : Thread Cert.DownDw0.nD Cert.DownDw0.τ).loc Cert.DownDw0.main_arg1) = m ((c.tc : Thread Cert.DownDw0.nD Cert.DownDw0.τ).loc Cert.DownDw0.main_arg1)
      ∧ r.2.mem ((c.tc : Thread Cert.DownDw0.nD Cert.DownDw0.τ).loc Cert.DownDw0.main_arg2) = m ((c.tc : Thread Cert.DownDw0.nD Cert.DownDw0.τ).loc Cert.DownDw0.main_arg2))
      ∧ r.2.sem = fun _ => 0)

def quiescent_DownDw0Ideal [hDownDw0Ideal : Cert.DownDw0Ideal.Facts] : Prop :=
  ∀ (m : (ℓ : Loc Cert.DownDw0Ideal.nD Cert.DownDw0Ideal.τ Cert.DownDw0Ideal.sig) → Buf (Elt Ideal) ℓ) (g : Dev Cert.DownDw0Ideal.nD → PrngReg), Pre_DownDw0Ideal m →
    θ_run (Cert.DownDw0Ideal.defs (F := Ideal)) (onTc (τ := Cert.DownDw0Ideal.τ) (Cert.DownDw0Ideal.main (F := Ideal))) ⟨m, fun _ => 0, g⟩ (fun r => (∀ c : Dev Cert.DownDw0Ideal.nD,
      r.2.mem ((c.tc : Thread Cert.DownDw0Ideal.nD Cert.DownDw0Ideal.τ).loc Cert.DownDw0Ideal.main_arg0) = m ((c.tc : Thread Cert.DownDw0Ideal.nD Cert.DownDw0Ideal.τ).loc Cert.DownDw0Ideal.main_arg0)
      ∧ r.2.mem ((c.tc : Thread Cert.DownDw0Ideal.nD Cert.DownDw0Ideal.τ).loc Cert.DownDw0Ideal.main_arg1) = m ((c.tc : Thread Cert.DownDw0Ideal.nD Cert.DownDw0Ideal.τ).loc Cert.DownDw0Ideal.main_arg1)
      ∧ r.2.mem ((c.tc : Thread Cert.DownDw0Ideal.nD Cert.DownDw0Ideal.τ).loc Cert.DownDw0Ideal.main_arg2) = m ((c.tc : Thread Cert.DownDw0Ideal.nD Cert.DownDw0Ideal.τ).loc Cert.DownDw0Ideal.main_arg2))
      ∧ r.2.sem = fun _ => 0)

def quiescent_DownDw0RefIdeal [hDownDw0RefIdeal : Cert.DownDw0RefIdeal.Facts] : Prop :=
  ∀ (m : (ℓ : Loc Cert.DownDw0RefIdeal.nD Cert.DownDw0RefIdeal.τ Cert.DownDw0RefIdeal.sig) → Buf (Elt Ideal) ℓ) (g : Dev Cert.DownDw0RefIdeal.nD → PrngReg), Pre_DownDw0RefIdeal m →
    θ_run (Cert.DownDw0RefIdeal.defs (F := Ideal)) (onTc (τ := Cert.DownDw0RefIdeal.τ) (Cert.DownDw0RefIdeal.main (F := Ideal))) ⟨m, fun _ => 0, g⟩ (fun r => (∀ c : Dev Cert.DownDw0RefIdeal.nD,
      r.2.mem ((c.tc : Thread Cert.DownDw0RefIdeal.nD Cert.DownDw0RefIdeal.τ).loc Cert.DownDw0RefIdeal.main_arg0) = m ((c.tc : Thread Cert.DownDw0RefIdeal.nD Cert.DownDw0RefIdeal.τ).loc Cert.DownDw0RefIdeal.main_arg0)
      ∧ r.2.mem ((c.tc : Thread Cert.DownDw0RefIdeal.nD Cert.DownDw0RefIdeal.τ).loc Cert.DownDw0RefIdeal.main_arg1) = m ((c.tc : Thread Cert.DownDw0RefIdeal.nD Cert.DownDw0RefIdeal.τ).loc Cert.DownDw0RefIdeal.main_arg1)
      ∧ r.2.mem ((c.tc : Thread Cert.DownDw0RefIdeal.nD Cert.DownDw0RefIdeal.τ).loc Cert.DownDw0RefIdeal.main_arg2) = m ((c.tc : Thread Cert.DownDw0RefIdeal.nD Cert.DownDw0RefIdeal.τ).loc Cert.DownDw0RefIdeal.main_arg2))
      ∧ r.2.sem = fun _ => 0)

def quiescent_UpDw1b [hUpDw1b : Cert.UpDw1b.Facts] : Prop :=
  ∀ (m : (ℓ : Loc Cert.UpDw1b.nD Cert.UpDw1b.τ Cert.UpDw1b.sig) → Buf (Elt Bits) ℓ) (g : Dev Cert.UpDw1b.nD → PrngReg), Pre_UpDw1b m →
    θ_run (Cert.UpDw1b.defs (F := Bits)) (onTc (τ := Cert.UpDw1b.τ) (Cert.UpDw1b.main (F := Bits))) ⟨m, fun _ => 0, g⟩ (fun r => (∀ c : Dev Cert.UpDw1b.nD,
      r.2.mem ((c.tc : Thread Cert.UpDw1b.nD Cert.UpDw1b.τ).loc Cert.UpDw1b.main_arg0) = m ((c.tc : Thread Cert.UpDw1b.nD Cert.UpDw1b.τ).loc Cert.UpDw1b.main_arg0)
      ∧ r.2.mem ((c.tc : Thread Cert.UpDw1b.nD Cert.UpDw1b.τ).loc Cert.UpDw1b.main_arg1) = m ((c.tc : Thread Cert.UpDw1b.nD Cert.UpDw1b.τ).loc Cert.UpDw1b.main_arg1)
      ∧ r.2.mem ((c.tc : Thread Cert.UpDw1b.nD Cert.UpDw1b.τ).loc Cert.UpDw1b.main_arg2) = m ((c.tc : Thread Cert.UpDw1b.nD Cert.UpDw1b.τ).loc Cert.UpDw1b.main_arg2))
      ∧ r.2.sem = fun _ => 0)

def quiescent_UpDw1bIdeal [hUpDw1bIdeal : Cert.UpDw1bIdeal.Facts] : Prop :=
  ∀ (m : (ℓ : Loc Cert.UpDw1bIdeal.nD Cert.UpDw1bIdeal.τ Cert.UpDw1bIdeal.sig) → Buf (Elt Ideal) ℓ) (g : Dev Cert.UpDw1bIdeal.nD → PrngReg), Pre_UpDw1bIdeal m →
    θ_run (Cert.UpDw1bIdeal.defs (F := Ideal)) (onTc (τ := Cert.UpDw1bIdeal.τ) (Cert.UpDw1bIdeal.main (F := Ideal))) ⟨m, fun _ => 0, g⟩ (fun r => (∀ c : Dev Cert.UpDw1bIdeal.nD,
      r.2.mem ((c.tc : Thread Cert.UpDw1bIdeal.nD Cert.UpDw1bIdeal.τ).loc Cert.UpDw1bIdeal.main_arg0) = m ((c.tc : Thread Cert.UpDw1bIdeal.nD Cert.UpDw1bIdeal.τ).loc Cert.UpDw1bIdeal.main_arg0)
      ∧ r.2.mem ((c.tc : Thread Cert.UpDw1bIdeal.nD Cert.UpDw1bIdeal.τ).loc Cert.UpDw1bIdeal.main_arg1) = m ((c.tc : Thread Cert.UpDw1bIdeal.nD Cert.UpDw1bIdeal.τ).loc Cert.UpDw1bIdeal.main_arg1)
      ∧ r.2.mem ((c.tc : Thread Cert.UpDw1bIdeal.nD Cert.UpDw1bIdeal.τ).loc Cert.UpDw1bIdeal.main_arg2) = m ((c.tc : Thread Cert.UpDw1bIdeal.nD Cert.UpDw1bIdeal.τ).loc Cert.UpDw1bIdeal.main_arg2))
      ∧ r.2.sem = fun _ => 0)

def quiescent_UpDw1bRefIdeal [hUpDw1bRefIdeal : Cert.UpDw1bRefIdeal.Facts] : Prop :=
  ∀ (m : (ℓ : Loc Cert.UpDw1bRefIdeal.nD Cert.UpDw1bRefIdeal.τ Cert.UpDw1bRefIdeal.sig) → Buf (Elt Ideal) ℓ) (g : Dev Cert.UpDw1bRefIdeal.nD → PrngReg), Pre_UpDw1bRefIdeal m →
    θ_run (Cert.UpDw1bRefIdeal.defs (F := Ideal)) (onTc (τ := Cert.UpDw1bRefIdeal.τ) (Cert.UpDw1bRefIdeal.main (F := Ideal))) ⟨m, fun _ => 0, g⟩ (fun r => (∀ c : Dev Cert.UpDw1bRefIdeal.nD,
      r.2.mem ((c.tc : Thread Cert.UpDw1bRefIdeal.nD Cert.UpDw1bRefIdeal.τ).loc Cert.UpDw1bRefIdeal.main_arg0) = m ((c.tc : Thread Cert.UpDw1bRefIdeal.nD Cert.UpDw1bRefIdeal.τ).loc Cert.UpDw1bRefIdeal.main_arg0)
      ∧ r.2.mem ((c.tc : Thread Cert.UpDw1bRefIdeal.nD Cert.UpDw1bRefIdeal.τ).loc Cert.UpDw1bRefIdeal.main_arg1) = m ((c.tc : Thread Cert.UpDw1bRefIdeal.nD Cert.UpDw1bRefIdeal.τ).loc Cert.UpDw1bRefIdeal.main_arg1)
      ∧ r.2.mem ((c.tc : Thread Cert.UpDw1bRefIdeal.nD Cert.UpDw1bRefIdeal.τ).loc Cert.UpDw1bRefIdeal.main_arg2) = m ((c.tc : Thread Cert.UpDw1bRefIdeal.nD Cert.UpDw1bRefIdeal.τ).loc Cert.UpDw1bRefIdeal.main_arg2))
      ∧ r.2.sem = fun _ => 0)

def quiescent_UpDw0a [hUpDw0a : Cert.UpDw0a.Facts] : Prop :=
  ∀ (m : (ℓ : Loc Cert.UpDw0a.nD Cert.UpDw0a.τ Cert.UpDw0a.sig) → Buf (Elt Bits) ℓ) (g : Dev Cert.UpDw0a.nD → PrngReg), Pre_UpDw0a m →
    θ_run (Cert.UpDw0a.defs (F := Bits)) (onTc (τ := Cert.UpDw0a.τ) (Cert.UpDw0a.main (F := Bits))) ⟨m, fun _ => 0, g⟩ (fun r => (∀ c : Dev Cert.UpDw0a.nD,
      r.2.mem ((c.tc : Thread Cert.UpDw0a.nD Cert.UpDw0a.τ).loc Cert.UpDw0a.main_arg0) = m ((c.tc : Thread Cert.UpDw0a.nD Cert.UpDw0a.τ).loc Cert.UpDw0a.main_arg0)
      ∧ r.2.mem ((c.tc : Thread Cert.UpDw0a.nD Cert.UpDw0a.τ).loc Cert.UpDw0a.main_arg1) = m ((c.tc : Thread Cert.UpDw0a.nD Cert.UpDw0a.τ).loc Cert.UpDw0a.main_arg1)
      ∧ r.2.mem ((c.tc : Thread Cert.UpDw0a.nD Cert.UpDw0a.τ).loc Cert.UpDw0a.main_arg2) = m ((c.tc : Thread Cert.UpDw0a.nD Cert.UpDw0a.τ).loc Cert.UpDw0a.main_arg2))
      ∧ r.2.sem = fun _ => 0)

def quiescent_UpDw0aIdeal [hUpDw0aIdeal : Cert.UpDw0aIdeal.Facts] : Prop :=
  ∀ (m : (ℓ : Loc Cert.UpDw0aIdeal.nD Cert.UpDw0aIdeal.τ Cert.UpDw0aIdeal.sig) → Buf (Elt Ideal) ℓ) (g : Dev Cert.UpDw0aIdeal.nD → PrngReg), Pre_UpDw0aIdeal m →
    θ_run (Cert.UpDw0aIdeal.defs (F := Ideal)) (onTc (τ := Cert.UpDw0aIdeal.τ) (Cert.UpDw0aIdeal.main (F := Ideal))) ⟨m, fun _ => 0, g⟩ (fun r => (∀ c : Dev Cert.UpDw0aIdeal.nD,
      r.2.mem ((c.tc : Thread Cert.UpDw0aIdeal.nD Cert.UpDw0aIdeal.τ).loc Cert.UpDw0aIdeal.main_arg0) = m ((c.tc : Thread Cert.UpDw0aIdeal.nD Cert.UpDw0aIdeal.τ).loc Cert.UpDw0aIdeal.main_arg0)
      ∧ r.2.mem ((c.tc : Thread Cert.UpDw0aIdeal.nD Cert.UpDw0aIdeal.τ).loc Cert.UpDw0aIdeal.main_arg1) = m ((c.tc : Thread Cert.UpDw0aIdeal.nD Cert.UpDw0aIdeal.τ).loc Cert.UpDw0aIdeal.main_arg1)
      ∧ r.2.mem ((c.tc : Thread Cert.UpDw0aIdeal.nD Cert.UpDw0aIdeal.τ).loc Cert.UpDw0aIdeal.main_arg2) = m ((c.tc : Thread Cert.UpDw0aIdeal.nD Cert.UpDw0aIdeal.τ).loc Cert.UpDw0aIdeal.main_arg2))
      ∧ r.2.sem = fun _ => 0)

def quiescent_UpDw0aRefIdeal [hUpDw0aRefIdeal : Cert.UpDw0aRefIdeal.Facts] : Prop :=
  ∀ (m : (ℓ : Loc Cert.UpDw0aRefIdeal.nD Cert.UpDw0aRefIdeal.τ Cert.UpDw0aRefIdeal.sig) → Buf (Elt Ideal) ℓ) (g : Dev Cert.UpDw0aRefIdeal.nD → PrngReg), Pre_UpDw0aRefIdeal m →
    θ_run (Cert.UpDw0aRefIdeal.defs (F := Ideal)) (onTc (τ := Cert.UpDw0aRefIdeal.τ) (Cert.UpDw0aRefIdeal.main (F := Ideal))) ⟨m, fun _ => 0, g⟩ (fun r => (∀ c : Dev Cert.UpDw0aRefIdeal.nD,
      r.2.mem ((c.tc : Thread Cert.UpDw0aRefIdeal.nD Cert.UpDw0aRefIdeal.τ).loc Cert.UpDw0aRefIdeal.main_arg0) = m ((c.tc : Thread Cert.UpDw0aRefIdeal.nD Cert.UpDw0aRefIdeal.τ).loc Cert.UpDw0aRefIdeal.main_arg0)
      ∧ r.2.mem ((c.tc : Thread Cert.UpDw0aRefIdeal.nD Cert.UpDw0aRefIdeal.τ).loc Cert.UpDw0aRefIdeal.main_arg1) = m ((c.tc : Thread Cert.UpDw0aRefIdeal.nD Cert.UpDw0aRefIdeal.τ).loc Cert.UpDw0aRefIdeal.main_arg1)
      ∧ r.2.mem ((c.tc : Thread Cert.UpDw0aRefIdeal.nD Cert.UpDw0aRefIdeal.τ).loc Cert.UpDw0aRefIdeal.main_arg2) = m ((c.tc : Thread Cert.UpDw0aRefIdeal.nD Cert.UpDw0aRefIdeal.τ).loc Cert.UpDw0aRefIdeal.main_arg2))
      ∧ r.2.sem = fun _ => 0)

def quiescent_UpDw0b [hUpDw0b : Cert.UpDw0b.Facts] : Prop :=
  ∀ (m : (ℓ : Loc Cert.UpDw0b.nD Cert.UpDw0b.τ Cert.UpDw0b.sig) → Buf (Elt Bits) ℓ) (g : Dev Cert.UpDw0b.nD → PrngReg), Pre_UpDw0b m →
    θ_run (Cert.UpDw0b.defs (F := Bits)) (onTc (τ := Cert.UpDw0b.τ) (Cert.UpDw0b.main (F := Bits))) ⟨m, fun _ => 0, g⟩ (fun r => (∀ c : Dev Cert.UpDw0b.nD,
      r.2.mem ((c.tc : Thread Cert.UpDw0b.nD Cert.UpDw0b.τ).loc Cert.UpDw0b.main_arg0) = m ((c.tc : Thread Cert.UpDw0b.nD Cert.UpDw0b.τ).loc Cert.UpDw0b.main_arg0)
      ∧ r.2.mem ((c.tc : Thread Cert.UpDw0b.nD Cert.UpDw0b.τ).loc Cert.UpDw0b.main_arg1) = m ((c.tc : Thread Cert.UpDw0b.nD Cert.UpDw0b.τ).loc Cert.UpDw0b.main_arg1)
      ∧ r.2.mem ((c.tc : Thread Cert.UpDw0b.nD Cert.UpDw0b.τ).loc Cert.UpDw0b.main_arg2) = m ((c.tc : Thread Cert.UpDw0b.nD Cert.UpDw0b.τ).loc Cert.UpDw0b.main_arg2))
      ∧ r.2.sem = fun _ => 0)

def quiescent_UpDw0bIdeal [hUpDw0bIdeal : Cert.UpDw0bIdeal.Facts] : Prop :=
  ∀ (m : (ℓ : Loc Cert.UpDw0bIdeal.nD Cert.UpDw0bIdeal.τ Cert.UpDw0bIdeal.sig) → Buf (Elt Ideal) ℓ) (g : Dev Cert.UpDw0bIdeal.nD → PrngReg), Pre_UpDw0bIdeal m →
    θ_run (Cert.UpDw0bIdeal.defs (F := Ideal)) (onTc (τ := Cert.UpDw0bIdeal.τ) (Cert.UpDw0bIdeal.main (F := Ideal))) ⟨m, fun _ => 0, g⟩ (fun r => (∀ c : Dev Cert.UpDw0bIdeal.nD,
      r.2.mem ((c.tc : Thread Cert.UpDw0bIdeal.nD Cert.UpDw0bIdeal.τ).loc Cert.UpDw0bIdeal.main_arg0) = m ((c.tc : Thread Cert.UpDw0bIdeal.nD Cert.UpDw0bIdeal.τ).loc Cert.UpDw0bIdeal.main_arg0)
      ∧ r.2.mem ((c.tc : Thread Cert.UpDw0bIdeal.nD Cert.UpDw0bIdeal.τ).loc Cert.UpDw0bIdeal.main_arg1) = m ((c.tc : Thread Cert.UpDw0bIdeal.nD Cert.UpDw0bIdeal.τ).loc Cert.UpDw0bIdeal.main_arg1)
      ∧ r.2.mem ((c.tc : Thread Cert.UpDw0bIdeal.nD Cert.UpDw0bIdeal.τ).loc Cert.UpDw0bIdeal.main_arg2) = m ((c.tc : Thread Cert.UpDw0bIdeal.nD Cert.UpDw0bIdeal.τ).loc Cert.UpDw0bIdeal.main_arg2))
      ∧ r.2.sem = fun _ => 0)

def quiescent_UpDw0bRefIdeal [hUpDw0bRefIdeal : Cert.UpDw0bRefIdeal.Facts] : Prop :=
  ∀ (m : (ℓ : Loc Cert.UpDw0bRefIdeal.nD Cert.UpDw0bRefIdeal.τ Cert.UpDw0bRefIdeal.sig) → Buf (Elt Ideal) ℓ) (g : Dev Cert.UpDw0bRefIdeal.nD → PrngReg), Pre_UpDw0bRefIdeal m →
    θ_run (Cert.UpDw0bRefIdeal.defs (F := Ideal)) (onTc (τ := Cert.UpDw0bRefIdeal.τ) (Cert.UpDw0bRefIdeal.main (F := Ideal))) ⟨m, fun _ => 0, g⟩ (fun r => (∀ c : Dev Cert.UpDw0bRefIdeal.nD,
      r.2.mem ((c.tc : Thread Cert.UpDw0bRefIdeal.nD Cert.UpDw0bRefIdeal.τ).loc Cert.UpDw0bRefIdeal.main_arg0) = m ((c.tc : Thread Cert.UpDw0bRefIdeal.nD Cert.UpDw0bRefIdeal.τ).loc Cert.UpDw0bRefIdeal.main_arg0)
      ∧ r.2.mem ((c.tc : Thread Cert.UpDw0bRefIdeal.nD Cert.UpDw0bRefIdeal.τ).loc Cert.UpDw0bRefIdeal.main_arg1) = m ((c.tc : Thread Cert.UpDw0bRefIdeal.nD Cert.UpDw0bRefIdeal.τ).loc Cert.UpDw0bRefIdeal.main_arg1)
      ∧ r.2.mem ((c.tc : Thread Cert.UpDw0bRefIdeal.nD Cert.UpDw0bRefIdeal.τ).loc Cert.UpDw0bRefIdeal.main_arg2) = m ((c.tc : Thread Cert.UpDw0bRefIdeal.nD Cert.UpDw0bRefIdeal.τ).loc Cert.UpDw0bRefIdeal.main_arg2))
      ∧ r.2.sem = fun _ => 0)

def quiescent_InADw1 [hInADw1 : Cert.InADw1.Facts] : Prop :=
  ∀ (m : (ℓ : Loc Cert.InADw1.nD Cert.InADw1.τ Cert.InADw1.sig) → Buf (Elt Bits) ℓ) (g : Dev Cert.InADw1.nD → PrngReg), Pre_InADw1 m →
    θ_run (Cert.InADw1.defs (F := Bits)) (onTc (τ := Cert.InADw1.τ) (Cert.InADw1.main (F := Bits))) ⟨m, fun _ => 0, g⟩ (fun r => (∀ c : Dev Cert.InADw1.nD,
      r.2.mem ((c.tc : Thread Cert.InADw1.nD Cert.InADw1.τ).loc Cert.InADw1.main_arg0) = m ((c.tc : Thread Cert.InADw1.nD Cert.InADw1.τ).loc Cert.InADw1.main_arg0)
      ∧ r.2.mem ((c.tc : Thread Cert.InADw1.nD Cert.InADw1.τ).loc Cert.InADw1.main_arg1) = m ((c.tc : Thread Cert.InADw1.nD Cert.InADw1.τ).loc Cert.InADw1.main_arg1)
      ∧ r.2.mem ((c.tc : Thread Cert.InADw1.nD Cert.InADw1.τ).loc Cert.InADw1.main_arg2) = m ((c.tc : Thread Cert.InADw1.nD Cert.InADw1.τ).loc Cert.InADw1.main_arg2))
      ∧ r.2.sem = fun _ => 0)

def quiescent_InADw1Ideal [hInADw1Ideal : Cert.InADw1Ideal.Facts] : Prop :=
  ∀ (m : (ℓ : Loc Cert.InADw1Ideal.nD Cert.InADw1Ideal.τ Cert.InADw1Ideal.sig) → Buf (Elt Ideal) ℓ) (g : Dev Cert.InADw1Ideal.nD → PrngReg), Pre_InADw1Ideal m →
    θ_run (Cert.InADw1Ideal.defs (F := Ideal)) (onTc (τ := Cert.InADw1Ideal.τ) (Cert.InADw1Ideal.main (F := Ideal))) ⟨m, fun _ => 0, g⟩ (fun r => (∀ c : Dev Cert.InADw1Ideal.nD,
      r.2.mem ((c.tc : Thread Cert.InADw1Ideal.nD Cert.InADw1Ideal.τ).loc Cert.InADw1Ideal.main_arg0) = m ((c.tc : Thread Cert.InADw1Ideal.nD Cert.InADw1Ideal.τ).loc Cert.InADw1Ideal.main_arg0)
      ∧ r.2.mem ((c.tc : Thread Cert.InADw1Ideal.nD Cert.InADw1Ideal.τ).loc Cert.InADw1Ideal.main_arg1) = m ((c.tc : Thread Cert.InADw1Ideal.nD Cert.InADw1Ideal.τ).loc Cert.InADw1Ideal.main_arg1)
      ∧ r.2.mem ((c.tc : Thread Cert.InADw1Ideal.nD Cert.InADw1Ideal.τ).loc Cert.InADw1Ideal.main_arg2) = m ((c.tc : Thread Cert.InADw1Ideal.nD Cert.InADw1Ideal.τ).loc Cert.InADw1Ideal.main_arg2))
      ∧ r.2.sem = fun _ => 0)

def quiescent_InADw1RefIdeal [hInADw1RefIdeal : Cert.InADw1RefIdeal.Facts] : Prop :=
  ∀ (m : (ℓ : Loc Cert.InADw1RefIdeal.nD Cert.InADw1RefIdeal.τ Cert.InADw1RefIdeal.sig) → Buf (Elt Ideal) ℓ) (g : Dev Cert.InADw1RefIdeal.nD → PrngReg), Pre_InADw1RefIdeal m →
    θ_run (Cert.InADw1RefIdeal.defs (F := Ideal)) (onTc (τ := Cert.InADw1RefIdeal.τ) (Cert.InADw1RefIdeal.main (F := Ideal))) ⟨m, fun _ => 0, g⟩ (fun r => (∀ c : Dev Cert.InADw1RefIdeal.nD,
      r.2.mem ((c.tc : Thread Cert.InADw1RefIdeal.nD Cert.InADw1RefIdeal.τ).loc Cert.InADw1RefIdeal.main_arg0) = m ((c.tc : Thread Cert.InADw1RefIdeal.nD Cert.InADw1RefIdeal.τ).loc Cert.InADw1RefIdeal.main_arg0)
      ∧ r.2.mem ((c.tc : Thread Cert.InADw1RefIdeal.nD Cert.InADw1RefIdeal.τ).loc Cert.InADw1RefIdeal.main_arg1) = m ((c.tc : Thread Cert.InADw1RefIdeal.nD Cert.InADw1RefIdeal.τ).loc Cert.InADw1RefIdeal.main_arg1)
      ∧ r.2.mem ((c.tc : Thread Cert.InADw1RefIdeal.nD Cert.InADw1RefIdeal.τ).loc Cert.InADw1RefIdeal.main_arg2) = m ((c.tc : Thread Cert.InADw1RefIdeal.nD Cert.InADw1RefIdeal.τ).loc Cert.InADw1RefIdeal.main_arg2))
      ∧ r.2.sem = fun _ => 0)

def quiescent_InADw2 [hInADw2 : Cert.InADw2.Facts] : Prop :=
  ∀ (m : (ℓ : Loc Cert.InADw2.nD Cert.InADw2.τ Cert.InADw2.sig) → Buf (Elt Bits) ℓ) (g : Dev Cert.InADw2.nD → PrngReg), Pre_InADw2 m →
    θ_run (Cert.InADw2.defs (F := Bits)) (onTc (τ := Cert.InADw2.τ) (Cert.InADw2.main (F := Bits))) ⟨m, fun _ => 0, g⟩ (fun r => (∀ c : Dev Cert.InADw2.nD,
      r.2.mem ((c.tc : Thread Cert.InADw2.nD Cert.InADw2.τ).loc Cert.InADw2.main_arg0) = m ((c.tc : Thread Cert.InADw2.nD Cert.InADw2.τ).loc Cert.InADw2.main_arg0)
      ∧ r.2.mem ((c.tc : Thread Cert.InADw2.nD Cert.InADw2.τ).loc Cert.InADw2.main_arg1) = m ((c.tc : Thread Cert.InADw2.nD Cert.InADw2.τ).loc Cert.InADw2.main_arg1)
      ∧ r.2.mem ((c.tc : Thread Cert.InADw2.nD Cert.InADw2.τ).loc Cert.InADw2.main_arg2) = m ((c.tc : Thread Cert.InADw2.nD Cert.InADw2.τ).loc Cert.InADw2.main_arg2))
      ∧ r.2.sem = fun _ => 0)

def quiescent_InADw2Ideal [hInADw2Ideal : Cert.InADw2Ideal.Facts] : Prop :=
  ∀ (m : (ℓ : Loc Cert.InADw2Ideal.nD Cert.InADw2Ideal.τ Cert.InADw2Ideal.sig) → Buf (Elt Ideal) ℓ) (g : Dev Cert.InADw2Ideal.nD → PrngReg), Pre_InADw2Ideal m →
    θ_run (Cert.InADw2Ideal.defs (F := Ideal)) (onTc (τ := Cert.InADw2Ideal.τ) (Cert.InADw2Ideal.main (F := Ideal))) ⟨m, fun _ => 0, g⟩ (fun r => (∀ c : Dev Cert.InADw2Ideal.nD,
      r.2.mem ((c.tc : Thread Cert.InADw2Ideal.nD Cert.InADw2Ideal.τ).loc Cert.InADw2Ideal.main_arg0) = m ((c.tc : Thread Cert.InADw2Ideal.nD Cert.InADw2Ideal.τ).loc Cert.InADw2Ideal.main_arg0)
      ∧ r.2.mem ((c.tc : Thread Cert.InADw2Ideal.nD Cert.InADw2Ideal.τ).loc Cert.InADw2Ideal.main_arg1) = m ((c.tc : Thread Cert.InADw2Ideal.nD Cert.InADw2Ideal.τ).loc Cert.InADw2Ideal.main_arg1)
      ∧ r.2.mem ((c.tc : Thread Cert.InADw2Ideal.nD Cert.InADw2Ideal.τ).loc Cert.InADw2Ideal.main_arg2) = m ((c.tc : Thread Cert.InADw2Ideal.nD Cert.InADw2Ideal.τ).loc Cert.InADw2Ideal.main_arg2))
      ∧ r.2.sem = fun _ => 0)

def quiescent_InADw2RefIdeal [hInADw2RefIdeal : Cert.InADw2RefIdeal.Facts] : Prop :=
  ∀ (m : (ℓ : Loc Cert.InADw2RefIdeal.nD Cert.InADw2RefIdeal.τ Cert.InADw2RefIdeal.sig) → Buf (Elt Ideal) ℓ) (g : Dev Cert.InADw2RefIdeal.nD → PrngReg), Pre_InADw2RefIdeal m →
    θ_run (Cert.InADw2RefIdeal.defs (F := Ideal)) (onTc (τ := Cert.InADw2RefIdeal.τ) (Cert.InADw2RefIdeal.main (F := Ideal))) ⟨m, fun _ => 0, g⟩ (fun r => (∀ c : Dev Cert.InADw2RefIdeal.nD,
      r.2.mem ((c.tc : Thread Cert.InADw2RefIdeal.nD Cert.InADw2RefIdeal.τ).loc Cert.InADw2RefIdeal.main_arg0) = m ((c.tc : Thread Cert.InADw2RefIdeal.nD Cert.InADw2RefIdeal.τ).loc Cert.InADw2RefIdeal.main_arg0)
      ∧ r.2.mem ((c.tc : Thread Cert.InADw2RefIdeal.nD Cert.InADw2RefIdeal.τ).loc Cert.InADw2RefIdeal.main_arg1) = m ((c.tc : Thread Cert.InADw2RefIdeal.nD Cert.InADw2RefIdeal.τ).loc Cert.InADw2RefIdeal.main_arg1)
      ∧ r.2.mem ((c.tc : Thread Cert.InADw2RefIdeal.nD Cert.InADw2RefIdeal.τ).loc Cert.InADw2RefIdeal.main_arg2) = m ((c.tc : Thread Cert.InADw2RefIdeal.nD Cert.InADw2RefIdeal.τ).loc Cert.InADw2RefIdeal.main_arg2))
      ∧ r.2.sem = fun _ => 0)

def quiescent_UpDw1a [hUpDw1a : Cert.UpDw1a.Facts] : Prop :=
  ∀ (m : (ℓ : Loc Cert.UpDw1a.nD Cert.UpDw1a.τ Cert.UpDw1a.sig) → Buf (Elt Bits) ℓ) (g : Dev Cert.UpDw1a.nD → PrngReg), Pre_UpDw1a m →
    θ_run (Cert.UpDw1a.defs (F := Bits)) (onTc (τ := Cert.UpDw1a.τ) (Cert.UpDw1a.main (F := Bits))) ⟨m, fun _ => 0, g⟩ (fun r => (∀ c : Dev Cert.UpDw1a.nD,
      r.2.mem ((c.tc : Thread Cert.UpDw1a.nD Cert.UpDw1a.τ).loc Cert.UpDw1a.main_arg0) = m ((c.tc : Thread Cert.UpDw1a.nD Cert.UpDw1a.τ).loc Cert.UpDw1a.main_arg0)
      ∧ r.2.mem ((c.tc : Thread Cert.UpDw1a.nD Cert.UpDw1a.τ).loc Cert.UpDw1a.main_arg1) = m ((c.tc : Thread Cert.UpDw1a.nD Cert.UpDw1a.τ).loc Cert.UpDw1a.main_arg1))
      ∧ r.2.sem = fun _ => 0)

def quiescent_UpDw1aIdeal [hUpDw1aIdeal : Cert.UpDw1aIdeal.Facts] : Prop :=
  ∀ (m : (ℓ : Loc Cert.UpDw1aIdeal.nD Cert.UpDw1aIdeal.τ Cert.UpDw1aIdeal.sig) → Buf (Elt Ideal) ℓ) (g : Dev Cert.UpDw1aIdeal.nD → PrngReg), Pre_UpDw1aIdeal m →
    θ_run (Cert.UpDw1aIdeal.defs (F := Ideal)) (onTc (τ := Cert.UpDw1aIdeal.τ) (Cert.UpDw1aIdeal.main (F := Ideal))) ⟨m, fun _ => 0, g⟩ (fun r => (∀ c : Dev Cert.UpDw1aIdeal.nD,
      r.2.mem ((c.tc : Thread Cert.UpDw1aIdeal.nD Cert.UpDw1aIdeal.τ).loc Cert.UpDw1aIdeal.main_arg0) = m ((c.tc : Thread Cert.UpDw1aIdeal.nD Cert.UpDw1aIdeal.τ).loc Cert.UpDw1aIdeal.main_arg0)
      ∧ r.2.mem ((c.tc : Thread Cert.UpDw1aIdeal.nD Cert.UpDw1aIdeal.τ).loc Cert.UpDw1aIdeal.main_arg1) = m ((c.tc : Thread Cert.UpDw1aIdeal.nD Cert.UpDw1aIdeal.τ).loc Cert.UpDw1aIdeal.main_arg1))
      ∧ r.2.sem = fun _ => 0)

def quiescent_UpDw1aRefIdeal [hUpDw1aRefIdeal : Cert.UpDw1aRefIdeal.Facts] : Prop :=
  ∀ (m : (ℓ : Loc Cert.UpDw1aRefIdeal.nD Cert.UpDw1aRefIdeal.τ Cert.UpDw1aRefIdeal.sig) → Buf (Elt Ideal) ℓ) (g : Dev Cert.UpDw1aRefIdeal.nD → PrngReg), Pre_UpDw1aRefIdeal m →
    θ_run (Cert.UpDw1aRefIdeal.defs (F := Ideal)) (onTc (τ := Cert.UpDw1aRefIdeal.τ) (Cert.UpDw1aRefIdeal.main (F := Ideal))) ⟨m, fun _ => 0, g⟩ (fun r => (∀ c : Dev Cert.UpDw1aRefIdeal.nD,
      r.2.mem ((c.tc : Thread Cert.UpDw1aRefIdeal.nD Cert.UpDw1aRefIdeal.τ).loc Cert.UpDw1aRefIdeal.main_arg0) = m ((c.tc : Thread Cert.UpDw1aRefIdeal.nD Cert.UpDw1aRefIdeal.τ).loc Cert.UpDw1aRefIdeal.main_arg0)
      ∧ r.2.mem ((c.tc : Thread Cert.UpDw1aRefIdeal.nD Cert.UpDw1aRefIdeal.τ).loc Cert.UpDw1aRefIdeal.main_arg1) = m ((c.tc : Thread Cert.UpDw1aRefIdeal.nD Cert.UpDw1aRefIdeal.τ).loc Cert.UpDw1aRefIdeal.main_arg1))
      ∧ r.2.sem = fun _ => 0)

def quiescent_InADw0 [hInADw0 : Cert.InADw0.Facts] : Prop :=
  ∀ (m : (ℓ : Loc Cert.InADw0.nD Cert.InADw0.τ Cert.InADw0.sig) → Buf (Elt Bits) ℓ) (g : Dev Cert.InADw0.nD → PrngReg), Pre_InADw0 m →
    θ_run (Cert.InADw0.defs (F := Bits)) (onTc (τ := Cert.InADw0.τ) (Cert.InADw0.main (F := Bits))) ⟨m, fun _ => 0, g⟩ (fun r => (∀ c : Dev Cert.InADw0.nD,
      r.2.mem ((c.tc : Thread Cert.InADw0.nD Cert.InADw0.τ).loc Cert.InADw0.main_arg0) = m ((c.tc : Thread Cert.InADw0.nD Cert.InADw0.τ).loc Cert.InADw0.main_arg0)
      ∧ r.2.mem ((c.tc : Thread Cert.InADw0.nD Cert.InADw0.τ).loc Cert.InADw0.main_arg1) = m ((c.tc : Thread Cert.InADw0.nD Cert.InADw0.τ).loc Cert.InADw0.main_arg1))
      ∧ r.2.sem = fun _ => 0)

def quiescent_InADw0Ideal [hInADw0Ideal : Cert.InADw0Ideal.Facts] : Prop :=
  ∀ (m : (ℓ : Loc Cert.InADw0Ideal.nD Cert.InADw0Ideal.τ Cert.InADw0Ideal.sig) → Buf (Elt Ideal) ℓ) (g : Dev Cert.InADw0Ideal.nD → PrngReg), Pre_InADw0Ideal m →
    θ_run (Cert.InADw0Ideal.defs (F := Ideal)) (onTc (τ := Cert.InADw0Ideal.τ) (Cert.InADw0Ideal.main (F := Ideal))) ⟨m, fun _ => 0, g⟩ (fun r => (∀ c : Dev Cert.InADw0Ideal.nD,
      r.2.mem ((c.tc : Thread Cert.InADw0Ideal.nD Cert.InADw0Ideal.τ).loc Cert.InADw0Ideal.main_arg0) = m ((c.tc : Thread Cert.InADw0Ideal.nD Cert.InADw0Ideal.τ).loc Cert.InADw0Ideal.main_arg0)
      ∧ r.2.mem ((c.tc : Thread Cert.InADw0Ideal.nD Cert.InADw0Ideal.τ).loc Cert.InADw0Ideal.main_arg1) = m ((c.tc : Thread Cert.InADw0Ideal.nD Cert.InADw0Ideal.τ).loc Cert.InADw0Ideal.main_arg1))
      ∧ r.2.sem = fun _ => 0)

def quiescent_InADw0RefIdeal [hInADw0RefIdeal : Cert.InADw0RefIdeal.Facts] : Prop :=
  ∀ (m : (ℓ : Loc Cert.InADw0RefIdeal.nD Cert.InADw0RefIdeal.τ Cert.InADw0RefIdeal.sig) → Buf (Elt Ideal) ℓ) (g : Dev Cert.InADw0RefIdeal.nD → PrngReg), Pre_InADw0RefIdeal m →
    θ_run (Cert.InADw0RefIdeal.defs (F := Ideal)) (onTc (τ := Cert.InADw0RefIdeal.τ) (Cert.InADw0RefIdeal.main (F := Ideal))) ⟨m, fun _ => 0, g⟩ (fun r => (∀ c : Dev Cert.InADw0RefIdeal.nD,
      r.2.mem ((c.tc : Thread Cert.InADw0RefIdeal.nD Cert.InADw0RefIdeal.τ).loc Cert.InADw0RefIdeal.main_arg0) = m ((c.tc : Thread Cert.InADw0RefIdeal.nD Cert.InADw0RefIdeal.τ).loc Cert.InADw0RefIdeal.main_arg0)
      ∧ r.2.mem ((c.tc : Thread Cert.InADw0RefIdeal.nD Cert.InADw0RefIdeal.τ).loc Cert.InADw0RefIdeal.main_arg1) = m ((c.tc : Thread Cert.InADw0RefIdeal.nD Cert.InADw0RefIdeal.τ).loc Cert.InADw0RefIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_AdamInA [hAdamInA : Cert.AdamInA.Facts] : Prop :=
  ∀ (m : (ℓ : Loc Cert.AdamInA.nD Cert.AdamInA.τ Cert.AdamInA.sig) → Buf (Elt Bits) ℓ) (g : Dev Cert.AdamInA.nD → PrngReg), Pre_AdamInA m →
    θ_run (Cert.AdamInA.defs (F := Bits)) (onTc (τ := Cert.AdamInA.τ) (Cert.AdamInA.main (F := Bits))) ⟨m, fun _ => 0, g⟩ (fun r => (∀ c : Dev Cert.AdamInA.nD,
      r.2.mem ((c.tc : Thread Cert.AdamInA.nD Cert.AdamInA.τ).loc Cert.AdamInA.main_arg0) = m ((c.tc : Thread Cert.AdamInA.nD Cert.AdamInA.τ).loc Cert.AdamInA.main_arg0)
      ∧ r.2.mem ((c.tc : Thread Cert.AdamInA.nD Cert.AdamInA.τ).loc Cert.AdamInA.main_arg1) = m ((c.tc : Thread Cert.AdamInA.nD Cert.AdamInA.τ).loc Cert.AdamInA.main_arg1)
      ∧ r.2.mem ((c.tc : Thread Cert.AdamInA.nD Cert.AdamInA.τ).loc Cert.AdamInA.main_arg2) = m ((c.tc : Thread Cert.AdamInA.nD Cert.AdamInA.τ).loc Cert.AdamInA.main_arg2)
      ∧ r.2.mem ((c.tc : Thread Cert.AdamInA.nD Cert.AdamInA.τ).loc Cert.AdamInA.main_arg3) = m ((c.tc : Thread Cert.AdamInA.nD Cert.AdamInA.τ).loc Cert.AdamInA.main_arg3))
      ∧ r.2.sem = fun _ => 0)

def quiescent_AdamInAIdeal [hAdamInAIdeal : Cert.AdamInAIdeal.Facts] : Prop :=
  ∀ (m : (ℓ : Loc Cert.AdamInAIdeal.nD Cert.AdamInAIdeal.τ Cert.AdamInAIdeal.sig) → Buf (Elt Ideal) ℓ) (g : Dev Cert.AdamInAIdeal.nD → PrngReg), Pre_AdamInAIdeal m →
    θ_run (Cert.AdamInAIdeal.defs (F := Ideal)) (onTc (τ := Cert.AdamInAIdeal.τ) (Cert.AdamInAIdeal.main (F := Ideal))) ⟨m, fun _ => 0, g⟩ (fun r => (∀ c : Dev Cert.AdamInAIdeal.nD,
      r.2.mem ((c.tc : Thread Cert.AdamInAIdeal.nD Cert.AdamInAIdeal.τ).loc Cert.AdamInAIdeal.main_arg0) = m ((c.tc : Thread Cert.AdamInAIdeal.nD Cert.AdamInAIdeal.τ).loc Cert.AdamInAIdeal.main_arg0)
      ∧ r.2.mem ((c.tc : Thread Cert.AdamInAIdeal.nD Cert.AdamInAIdeal.τ).loc Cert.AdamInAIdeal.main_arg1) = m ((c.tc : Thread Cert.AdamInAIdeal.nD Cert.AdamInAIdeal.τ).loc Cert.AdamInAIdeal.main_arg1)
      ∧ r.2.mem ((c.tc : Thread Cert.AdamInAIdeal.nD Cert.AdamInAIdeal.τ).loc Cert.AdamInAIdeal.main_arg2) = m ((c.tc : Thread Cert.AdamInAIdeal.nD Cert.AdamInAIdeal.τ).loc Cert.AdamInAIdeal.main_arg2)
      ∧ r.2.mem ((c.tc : Thread Cert.AdamInAIdeal.nD Cert.AdamInAIdeal.τ).loc Cert.AdamInAIdeal.main_arg3) = m ((c.tc : Thread Cert.AdamInAIdeal.nD Cert.AdamInAIdeal.τ).loc Cert.AdamInAIdeal.main_arg3))
      ∧ r.2.sem = fun _ => 0)

def quiescent_AdamInARefIdeal [hAdamInARefIdeal : Cert.AdamInARefIdeal.Facts] : Prop :=
  ∀ (m : (ℓ : Loc Cert.AdamInARefIdeal.nD Cert.AdamInARefIdeal.τ Cert.AdamInARefIdeal.sig) → Buf (Elt Ideal) ℓ) (g : Dev Cert.AdamInARefIdeal.nD → PrngReg), Pre_AdamInARefIdeal m →
    θ_run (Cert.AdamInARefIdeal.defs (F := Ideal)) (onTc (τ := Cert.AdamInARefIdeal.τ) (Cert.AdamInARefIdeal.main (F := Ideal))) ⟨m, fun _ => 0, g⟩ (fun r => (∀ c : Dev Cert.AdamInARefIdeal.nD,
      r.2.mem ((c.tc : Thread Cert.AdamInARefIdeal.nD Cert.AdamInARefIdeal.τ).loc Cert.AdamInARefIdeal.main_arg0) = m ((c.tc : Thread Cert.AdamInARefIdeal.nD Cert.AdamInARefIdeal.τ).loc Cert.AdamInARefIdeal.main_arg0)
      ∧ r.2.mem ((c.tc : Thread Cert.AdamInARefIdeal.nD Cert.AdamInARefIdeal.τ).loc Cert.AdamInARefIdeal.main_arg1) = m ((c.tc : Thread Cert.AdamInARefIdeal.nD Cert.AdamInARefIdeal.τ).loc Cert.AdamInARefIdeal.main_arg1)
      ∧ r.2.mem ((c.tc : Thread Cert.AdamInARefIdeal.nD Cert.AdamInARefIdeal.τ).loc Cert.AdamInARefIdeal.main_arg2) = m ((c.tc : Thread Cert.AdamInARefIdeal.nD Cert.AdamInARefIdeal.τ).loc Cert.AdamInARefIdeal.main_arg2)
      ∧ r.2.mem ((c.tc : Thread Cert.AdamInARefIdeal.nD Cert.AdamInARefIdeal.τ).loc Cert.AdamInARefIdeal.main_arg3) = m ((c.tc : Thread Cert.AdamInARefIdeal.nD Cert.AdamInARefIdeal.τ).loc Cert.AdamInARefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamInB [hAdamInB : Cert.AdamInB.Facts] : Prop :=
  ∀ (m : (ℓ : Loc Cert.AdamInB.nD Cert.AdamInB.τ Cert.AdamInB.sig) → Buf (Elt Bits) ℓ) (g : Dev Cert.AdamInB.nD → PrngReg), Pre_AdamInB m →
    θ_run (Cert.AdamInB.defs (F := Bits)) (onTc (τ := Cert.AdamInB.τ) (Cert.AdamInB.main (F := Bits))) ⟨m, fun _ => 0, g⟩ (fun r => (∀ c : Dev Cert.AdamInB.nD,
      r.2.mem ((c.tc : Thread Cert.AdamInB.nD Cert.AdamInB.τ).loc Cert.AdamInB.main_arg0) = m ((c.tc : Thread Cert.AdamInB.nD Cert.AdamInB.τ).loc Cert.AdamInB.main_arg0)
      ∧ r.2.mem ((c.tc : Thread Cert.AdamInB.nD Cert.AdamInB.τ).loc Cert.AdamInB.main_arg1) = m ((c.tc : Thread Cert.AdamInB.nD Cert.AdamInB.τ).loc Cert.AdamInB.main_arg1)
      ∧ r.2.mem ((c.tc : Thread Cert.AdamInB.nD Cert.AdamInB.τ).loc Cert.AdamInB.main_arg2) = m ((c.tc : Thread Cert.AdamInB.nD Cert.AdamInB.τ).loc Cert.AdamInB.main_arg2)
      ∧ r.2.mem ((c.tc : Thread Cert.AdamInB.nD Cert.AdamInB.τ).loc Cert.AdamInB.main_arg3) = m ((c.tc : Thread Cert.AdamInB.nD Cert.AdamInB.τ).loc Cert.AdamInB.main_arg3))
      ∧ r.2.sem = fun _ => 0)

def quiescent_AdamInBIdeal [hAdamInBIdeal : Cert.AdamInBIdeal.Facts] : Prop :=
  ∀ (m : (ℓ : Loc Cert.AdamInBIdeal.nD Cert.AdamInBIdeal.τ Cert.AdamInBIdeal.sig) → Buf (Elt Ideal) ℓ) (g : Dev Cert.AdamInBIdeal.nD → PrngReg), Pre_AdamInBIdeal m →
    θ_run (Cert.AdamInBIdeal.defs (F := Ideal)) (onTc (τ := Cert.AdamInBIdeal.τ) (Cert.AdamInBIdeal.main (F := Ideal))) ⟨m, fun _ => 0, g⟩ (fun r => (∀ c : Dev Cert.AdamInBIdeal.nD,
      r.2.mem ((c.tc : Thread Cert.AdamInBIdeal.nD Cert.AdamInBIdeal.τ).loc Cert.AdamInBIdeal.main_arg0) = m ((c.tc : Thread Cert.AdamInBIdeal.nD Cert.AdamInBIdeal.τ).loc Cert.AdamInBIdeal.main_arg0)
      ∧ r.2.mem ((c.tc : Thread Cert.AdamInBIdeal.nD Cert.AdamInBIdeal.τ).loc Cert.AdamInBIdeal.main_arg1) = m ((c.tc : Thread Cert.AdamInBIdeal.nD Cert.AdamInBIdeal.τ).loc Cert.AdamInBIdeal.main_arg1)
      ∧ r.2.mem ((c.tc : Thread Cert.AdamInBIdeal.nD Cert.AdamInBIdeal.τ).loc Cert.AdamInBIdeal.main_arg2) = m ((c.tc : Thread Cert.AdamInBIdeal.nD Cert.AdamInBIdeal.τ).loc Cert.AdamInBIdeal.main_arg2)
      ∧ r.2.mem ((c.tc : Thread Cert.AdamInBIdeal.nD Cert.AdamInBIdeal.τ).loc Cert.AdamInBIdeal.main_arg3) = m ((c.tc : Thread Cert.AdamInBIdeal.nD Cert.AdamInBIdeal.τ).loc Cert.AdamInBIdeal.main_arg3))
      ∧ r.2.sem = fun _ => 0)

def quiescent_AdamInBRefIdeal [hAdamInBRefIdeal : Cert.AdamInBRefIdeal.Facts] : Prop :=
  ∀ (m : (ℓ : Loc Cert.AdamInBRefIdeal.nD Cert.AdamInBRefIdeal.τ Cert.AdamInBRefIdeal.sig) → Buf (Elt Ideal) ℓ) (g : Dev Cert.AdamInBRefIdeal.nD → PrngReg), Pre_AdamInBRefIdeal m →
    θ_run (Cert.AdamInBRefIdeal.defs (F := Ideal)) (onTc (τ := Cert.AdamInBRefIdeal.τ) (Cert.AdamInBRefIdeal.main (F := Ideal))) ⟨m, fun _ => 0, g⟩ (fun r => (∀ c : Dev Cert.AdamInBRefIdeal.nD,
      r.2.mem ((c.tc : Thread Cert.AdamInBRefIdeal.nD Cert.AdamInBRefIdeal.τ).loc Cert.AdamInBRefIdeal.main_arg0) = m ((c.tc : Thread Cert.AdamInBRefIdeal.nD Cert.AdamInBRefIdeal.τ).loc Cert.AdamInBRefIdeal.main_arg0)
      ∧ r.2.mem ((c.tc : Thread Cert.AdamInBRefIdeal.nD Cert.AdamInBRefIdeal.τ).loc Cert.AdamInBRefIdeal.main_arg1) = m ((c.tc : Thread Cert.AdamInBRefIdeal.nD Cert.AdamInBRefIdeal.τ).loc Cert.AdamInBRefIdeal.main_arg1)
      ∧ r.2.mem ((c.tc : Thread Cert.AdamInBRefIdeal.nD Cert.AdamInBRefIdeal.τ).loc Cert.AdamInBRefIdeal.main_arg2) = m ((c.tc : Thread Cert.AdamInBRefIdeal.nD Cert.AdamInBRefIdeal.τ).loc Cert.AdamInBRefIdeal.main_arg2)
      ∧ r.2.mem ((c.tc : Thread Cert.AdamInBRefIdeal.nD Cert.AdamInBRefIdeal.τ).loc Cert.AdamInBRefIdeal.main_arg3) = m ((c.tc : Thread Cert.AdamInBRefIdeal.nD Cert.AdamInBRefIdeal.τ).loc Cert.AdamInBRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamTiny [hAdamTiny : Cert.AdamTiny.Facts] : Prop :=
  ∀ (m : (ℓ : Loc Cert.AdamTiny.nD Cert.AdamTiny.τ Cert.AdamTiny.sig) → Buf (Elt Bits) ℓ) (g : Dev Cert.AdamTiny.nD → PrngReg), Pre_AdamTiny m →
    θ_run (Cert.AdamTiny.defs (F := Bits)) (onTc (τ := Cert.AdamTiny.τ) (Cert.AdamTiny.main (F := Bits))) ⟨m, fun _ => 0, g⟩ (fun r => (∀ c : Dev Cert.AdamTiny.nD,
      r.2.mem ((c.tc : Thread Cert.AdamTiny.nD Cert.AdamTiny.τ).loc Cert.AdamTiny.main_arg0) = m ((c.tc : Thread Cert.AdamTiny.nD Cert.AdamTiny.τ).loc Cert.AdamTiny.main_arg0)
      ∧ r.2.mem ((c.tc : Thread Cert.AdamTiny.nD Cert.AdamTiny.τ).loc Cert.AdamTiny.main_arg1) = m ((c.tc : Thread Cert.AdamTiny.nD Cert.AdamTiny.τ).loc Cert.AdamTiny.main_arg1)
      ∧ r.2.mem ((c.tc : Thread Cert.AdamTiny.nD Cert.AdamTiny.τ).loc Cert.AdamTiny.main_arg2) = m ((c.tc : Thread Cert.AdamTiny.nD Cert.AdamTiny.τ).loc Cert.AdamTiny.main_arg2)
      ∧ r.2.mem ((c.tc : Thread Cert.AdamTiny.nD Cert.AdamTiny.τ).loc Cert.AdamTiny.main_arg3) = m ((c.tc : Thread Cert.AdamTiny.nD Cert.AdamTiny.τ).loc Cert.AdamTiny.main_arg3))
      ∧ r.2.sem = fun _ => 0)

def quiescent_AdamTinyIdeal [hAdamTinyIdeal : Cert.AdamTinyIdeal.Facts] : Prop :=
  ∀ (m : (ℓ : Loc Cert.AdamTinyIdeal.nD Cert.AdamTinyIdeal.τ Cert.AdamTinyIdeal.sig) → Buf (Elt Ideal) ℓ) (g : Dev Cert.AdamTinyIdeal.nD → PrngReg), Pre_AdamTinyIdeal m →
    θ_run (Cert.AdamTinyIdeal.defs (F := Ideal)) (onTc (τ := Cert.AdamTinyIdeal.τ) (Cert.AdamTinyIdeal.main (F := Ideal))) ⟨m, fun _ => 0, g⟩ (fun r => (∀ c : Dev Cert.AdamTinyIdeal.nD,
      r.2.mem ((c.tc : Thread Cert.AdamTinyIdeal.nD Cert.AdamTinyIdeal.τ).loc Cert.AdamTinyIdeal.main_arg0) = m ((c.tc : Thread Cert.AdamTinyIdeal.nD Cert.AdamTinyIdeal.τ).loc Cert.AdamTinyIdeal.main_arg0)
      ∧ r.2.mem ((c.tc : Thread Cert.AdamTinyIdeal.nD Cert.AdamTinyIdeal.τ).loc Cert.AdamTinyIdeal.main_arg1) = m ((c.tc : Thread Cert.AdamTinyIdeal.nD Cert.AdamTinyIdeal.τ).loc Cert.AdamTinyIdeal.main_arg1)
      ∧ r.2.mem ((c.tc : Thread Cert.AdamTinyIdeal.nD Cert.AdamTinyIdeal.τ).loc Cert.AdamTinyIdeal.main_arg2) = m ((c.tc : Thread Cert.AdamTinyIdeal.nD Cert.AdamTinyIdeal.τ).loc Cert.AdamTinyIdeal.main_arg2)
      ∧ r.2.mem ((c.tc : Thread Cert.AdamTinyIdeal.nD Cert.AdamTinyIdeal.τ).loc Cert.AdamTinyIdeal.main_arg3) = m ((c.tc : Thread Cert.AdamTinyIdeal.nD Cert.AdamTinyIdeal.τ).loc Cert.AdamTinyIdeal.main_arg3))
      ∧ r.2.sem = fun _ => 0)

def quiescent_AdamTinyRefIdeal [hAdamTinyRefIdeal : Cert.AdamTinyRefIdeal.Facts] : Prop :=
  ∀ (m : (ℓ : Loc Cert.AdamTinyRefIdeal.nD Cert.AdamTinyRefIdeal.τ Cert.AdamTinyRefIdeal.sig) → Buf (Elt Ideal) ℓ) (g : Dev Cert.AdamTinyRefIdeal.nD → PrngReg), Pre_AdamTinyRefIdeal m →
    θ_run (Cert.AdamTinyRefIdeal.defs (F := Ideal)) (onTc (τ := Cert.AdamTinyRefIdeal.τ) (Cert.AdamTinyRefIdeal.main (F := Ideal))) ⟨m, fun _ => 0, g⟩ (fun r => (∀ c : Dev Cert.AdamTinyRefIdeal.nD,
      r.2.mem ((c.tc : Thread Cert.AdamTinyRefIdeal.nD Cert.AdamTinyRefIdeal.τ).loc Cert.AdamTinyRefIdeal.main_arg0) = m ((c.tc : Thread Cert.AdamTinyRefIdeal.nD Cert.AdamTinyRefIdeal.τ).loc Cert.AdamTinyRefIdeal.main_arg0)
      ∧ r.2.mem ((c.tc : Thread Cert.AdamTinyRefIdeal.nD Cert.AdamTinyRefIdeal.τ).loc Cert.AdamTinyRefIdeal.main_arg1) = m ((c.tc : Thread Cert.AdamTinyRefIdeal.nD Cert.AdamTinyRefIdeal.τ).loc Cert.AdamTinyRefIdeal.main_arg1)
      ∧ r.2.mem ((c.tc : Thread Cert.AdamTinyRefIdeal.nD Cert.AdamTinyRefIdeal.τ).loc Cert.AdamTinyRefIdeal.main_arg2) = m ((c.tc : Thread Cert.AdamTinyRefIdeal.nD Cert.AdamTinyRefIdeal.τ).loc Cert.AdamTinyRefIdeal.main_arg2)
      ∧ r.2.mem ((c.tc : Thread Cert.AdamTinyRefIdeal.nD Cert.AdamTinyRefIdeal.τ).loc Cert.AdamTinyRefIdeal.main_arg3) = m ((c.tc : Thread Cert.AdamTinyRefIdeal.nD Cert.AdamTinyRefIdeal.τ).loc Cert.AdamTinyRefIdeal.main_arg3))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1))
      ∧ r.2.sem = fun _ => 0)

def quiescent_NormFfn [hNormFfn : Cert.NormFfn.Facts] : Prop :=
  ∀ (m : (ℓ : Loc Cert.NormFfn.nD Cert.NormFfn.τ Cert.NormFfn.sig) → Buf (Elt Bits) ℓ) (g : Dev Cert.NormFfn.nD → PrngReg), Pre_NormFfn m →
    θ_run (Cert.NormFfn.defs (F := Bits)) (onTc (τ := Cert.NormFfn.τ) (Cert.NormFfn.main (F := Bits))) ⟨m, fun _ => 0, g⟩ (fun r => (∀ c : Dev Cert.NormFfn.nD,
      r.2.mem ((c.tc : Thread Cert.NormFfn.nD Cert.NormFfn.τ).loc Cert.NormFfn.main_arg0) = m ((c.tc : Thread Cert.NormFfn.nD Cert.NormFfn.τ).loc Cert.NormFfn.main_arg0)
      ∧ r.2.mem ((c.tc : Thread Cert.NormFfn.nD Cert.NormFfn.τ).loc Cert.NormFfn.main_arg1) = m ((c.tc : Thread Cert.NormFfn.nD Cert.NormFfn.τ).loc Cert.NormFfn.main_arg1)
      ∧ r.2.mem ((c.tc : Thread Cert.NormFfn.nD Cert.NormFfn.τ).loc Cert.NormFfn.main_arg2) = m ((c.tc : Thread Cert.NormFfn.nD Cert.NormFfn.τ).loc Cert.NormFfn.main_arg2)
      ∧ r.2.mem ((c.tc : Thread Cert.NormFfn.nD Cert.NormFfn.τ).loc Cert.NormFfn.main_arg3) = m ((c.tc : Thread Cert.NormFfn.nD Cert.NormFfn.τ).loc Cert.NormFfn.main_arg3))
      ∧ r.2.sem = fun _ => 0)

def quiescent_NormFfnIdeal [hNormFfnIdeal : Cert.NormFfnIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
      ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2)
      ∧ r.2.mem ((c.tc : Thread Cert.NormFfnIdeal.nD Cert.NormFfnIdeal.τ).loc Cert.NormFfnIdeal.main_arg3) = m ((c.tc : Thread Cert.NormFfnIdeal.nD Cert.NormFfnIdeal.τ).loc Cert.NormFfnIdeal.main_arg3))
      ∧ r.2.sem = fun _ => 0)

def quiescent_NormFfnRefIdeal [hNormFfnRefIdeal : Cert.NormFfnRefIdeal.Facts] : Prop :=
  ∀ (m : (ℓ : Loc Cert.NormFfnRefIdeal.nD Cert.NormFfnRefIdeal.τ Cert.NormFfnRefIdeal.sig) → Buf (Elt Ideal) ℓ) (g : Dev Cert.NormFfnRefIdeal.nD → PrngReg), Pre_NormFfnRefIdeal m →
    θ_run (Cert.NormFfnRefIdeal.defs (F := Ideal)) (onTc (τ := Cert.NormFfnRefIdeal.τ) (Cert.NormFfnRefIdeal.main (F := Ideal))) ⟨m, fun _ => 0, g⟩ (fun r => (∀ c : Dev Cert.NormFfnRefIdeal.nD,
      r.2.mem ((c.tc : Thread Cert.NormFfnRefIdeal.nD Cert.NormFfnRefIdeal.τ).loc Cert.NormFfnRefIdeal.main_arg0) = m ((c.tc : Thread Cert.NormFfnRefIdeal.nD Cert.NormFfnRefIdeal.τ).loc Cert.NormFfnRefIdeal.main_arg0)
      ∧ r.2.mem ((c.tc : Thread Cert.NormFfnRefIdeal.nD Cert.NormFfnRefIdeal.τ).loc Cert.NormFfnRefIdeal.main_arg1) = m ((c.tc : Thread Cert.NormFfnRefIdeal.nD Cert.NormFfnRefIdeal.τ).loc Cert.NormFfnRefIdeal.main_arg1)
      ∧ r.2.mem ((c.tc : Thread Cert.NormFfnRefIdeal.nD Cert.NormFfnRefIdeal.τ).loc Cert.NormFfnRefIdeal.main_arg2) = m ((c.tc : Thread Cert.NormFfnRefIdeal.nD Cert.NormFfnRefIdeal.τ).loc Cert.NormFfnRefIdeal.main_arg2)
      ∧ r.2.mem ((c.tc : Thread Cert.NormFfnRefIdeal.nD Cert.NormFfnRefIdeal.τ).loc Cert.NormFfnRefIdeal.main_arg3) = m ((c.tc : Thread Cert.NormFfnRefIdeal.nD Cert.NormFfnRefIdeal.τ).loc Cert.NormFfnRefIdeal.main_arg3))
      ∧ r.2.sem = fun _ => 0)

def quiescent_NormMix1 [hNormMix1 : Cert.NormMix1.Facts] : Prop :=
  ∀ (m : (ℓ : Loc Cert.NormMix1.nD Cert.NormMix1.τ Cert.NormMix1.sig) → Buf (Elt Bits) ℓ) (g : Dev Cert.NormMix1.nD → PrngReg), Pre_NormMix1 m →
    θ_run (Cert.NormMix1.defs (F := Bits)) (onTc (τ := Cert.NormMix1.τ) (Cert.NormMix1.main (F := Bits))) ⟨m, fun _ => 0, g⟩ (fun r => (∀ c : Dev Cert.NormMix1.nD,
      r.2.mem ((c.tc : Thread Cert.NormMix1.nD Cert.NormMix1.τ).loc Cert.NormMix1.main_arg0) = m ((c.tc : Thread Cert.NormMix1.nD Cert.NormMix1.τ).loc Cert.NormMix1.main_arg0)
      ∧ r.2.mem ((c.tc : Thread Cert.NormMix1.nD Cert.NormMix1.τ).loc Cert.NormMix1.main_arg1) = m ((c.tc : Thread Cert.NormMix1.nD Cert.NormMix1.τ).loc Cert.NormMix1.main_arg1)
      ∧ r.2.mem ((c.tc : Thread Cert.NormMix1.nD Cert.NormMix1.τ).loc Cert.NormMix1.main_arg2) = m ((c.tc : Thread Cert.NormMix1.nD Cert.NormMix1.τ).loc Cert.NormMix1.main_arg2)
      ∧ r.2.mem ((c.tc : Thread Cert.NormMix1.nD Cert.NormMix1.τ).loc Cert.NormMix1.main_arg3) = m ((c.tc : Thread Cert.NormMix1.nD Cert.NormMix1.τ).loc Cert.NormMix1.main_arg3)
      ∧ r.2.mem ((c.tc : Thread Cert.NormMix1.nD Cert.NormMix1.τ).loc Cert.NormMix1.main_arg4) = m ((c.tc : Thread Cert.NormMix1.nD Cert.NormMix1.τ).loc Cert.NormMix1.main_arg4))
      ∧ r.2.sem = fun _ => 0)

def quiescent_NormMix1Ideal [hNormMix1Ideal : Cert.NormMix1Ideal.Facts] : Prop :=
  ∀ (m : (ℓ : Loc Cert.NormMix1Ideal.nD Cert.NormMix1Ideal.τ Cert.NormMix1Ideal.sig) → Buf (Elt Ideal) ℓ) (g : Dev Cert.NormMix1Ideal.nD → PrngReg), Pre_NormMix1Ideal m →
    θ_run (Cert.NormMix1Ideal.defs (F := Ideal)) (onTc (τ := Cert.NormMix1Ideal.τ) (Cert.NormMix1Ideal.main (F := Ideal))) ⟨m, fun _ => 0, g⟩ (fun r => (∀ c : Dev Cert.NormMix1Ideal.nD,
      r.2.mem ((c.tc : Thread Cert.NormMix1Ideal.nD Cert.NormMix1Ideal.τ).loc Cert.NormMix1Ideal.main_arg0) = m ((c.tc : Thread Cert.NormMix1Ideal.nD Cert.NormMix1Ideal.τ).loc Cert.NormMix1Ideal.main_arg0)
      ∧ r.2.mem ((c.tc : Thread Cert.NormMix1Ideal.nD Cert.NormMix1Ideal.τ).loc Cert.NormMix1Ideal.main_arg1) = m ((c.tc : Thread Cert.NormMix1Ideal.nD Cert.NormMix1Ideal.τ).loc Cert.NormMix1Ideal.main_arg1)
      ∧ r.2.mem ((c.tc : Thread Cert.NormMix1Ideal.nD Cert.NormMix1Ideal.τ).loc Cert.NormMix1Ideal.main_arg2) = m ((c.tc : Thread Cert.NormMix1Ideal.nD Cert.NormMix1Ideal.τ).loc Cert.NormMix1Ideal.main_arg2)
      ∧ r.2.mem ((c.tc : Thread Cert.NormMix1Ideal.nD Cert.NormMix1Ideal.τ).loc Cert.NormMix1Ideal.main_arg3) = m ((c.tc : Thread Cert.NormMix1Ideal.nD Cert.NormMix1Ideal.τ).loc Cert.NormMix1Ideal.main_arg3)
      ∧ r.2.mem ((c.tc : Thread Cert.NormMix1Ideal.nD Cert.NormMix1Ideal.τ).loc Cert.NormMix1Ideal.main_arg4) = m ((c.tc : Thread Cert.NormMix1Ideal.nD Cert.NormMix1Ideal.τ).loc Cert.NormMix1Ideal.main_arg4))
      ∧ r.2.sem = fun _ => 0)

def quiescent_NormMix1RefIdeal [hNormMix1RefIdeal : Cert.NormMix1RefIdeal.Facts] : Prop :=
  ∀ (m : (ℓ : Loc Cert.NormMix1RefIdeal.nD Cert.NormMix1RefIdeal.τ Cert.NormMix1RefIdeal.sig) → Buf (Elt Ideal) ℓ) (g : Dev Cert.NormMix1RefIdeal.nD → PrngReg), Pre_NormMix1RefIdeal m →
    θ_run (Cert.NormMix1RefIdeal.defs (F := Ideal)) (onTc (τ := Cert.NormMix1RefIdeal.τ) (Cert.NormMix1RefIdeal.main (F := Ideal))) ⟨m, fun _ => 0, g⟩ (fun r => (∀ c : Dev Cert.NormMix1RefIdeal.nD,
      r.2.mem ((c.tc : Thread Cert.NormMix1RefIdeal.nD Cert.NormMix1RefIdeal.τ).loc Cert.NormMix1RefIdeal.main_arg0) = m ((c.tc : Thread Cert.NormMix1RefIdeal.nD Cert.NormMix1RefIdeal.τ).loc Cert.NormMix1RefIdeal.main_arg0)
      ∧ r.2.mem ((c.tc : Thread Cert.NormMix1RefIdeal.nD Cert.NormMix1RefIdeal.τ).loc Cert.NormMix1RefIdeal.main_arg1) = m ((c.tc : Thread Cert.NormMix1RefIdeal.nD Cert.NormMix1RefIdeal.τ).loc Cert.NormMix1RefIdeal.main_arg1)
      ∧ r.2.mem ((c.tc : Thread Cert.NormMix1RefIdeal.nD Cert.NormMix1RefIdeal.τ).loc Cert.NormMix1RefIdeal.main_arg2) = m ((c.tc : Thread Cert.NormMix1RefIdeal.nD Cert.NormMix1RefIdeal.τ).loc Cert.NormMix1RefIdeal.main_arg2)
      ∧ r.2.mem ((c.tc : Thread Cert.NormMix1RefIdeal.nD Cert.NormMix1RefIdeal.τ).loc Cert.NormMix1RefIdeal.main_arg3) = m ((c.tc : Thread Cert.NormMix1RefIdeal.nD Cert.NormMix1RefIdeal.τ).loc Cert.NormMix1RefIdeal.main_arg3)
      ∧ r.2.mem ((c.tc : Thread Cert.NormMix1RefIdeal.nD Cert.NormMix1RefIdeal.τ).loc Cert.NormMix1RefIdeal.main_arg4) = m ((c.tc : Thread Cert.NormMix1RefIdeal.nD Cert.NormMix1RefIdeal.τ).loc Cert.NormMix1RefIdeal.main_arg4))
      ∧ r.2.sem = fun _ => 0)

def quiescent_GlaOut [hGlaOut : Cert.GlaOut.Facts] : Prop :=
  ∀ (m : (ℓ : Loc Cert.GlaOut.nD Cert.GlaOut.τ Cert.GlaOut.sig) → Buf (Elt Bits) ℓ) (g : Dev Cert.GlaOut.nD → PrngReg), Pre_GlaOut m →
    θ_run (Cert.GlaOut.defs (F := Bits)) (onTc (τ := Cert.GlaOut.τ) (Cert.GlaOut.main (F := Bits))) ⟨m, fun _ => 0, g⟩ (fun r => (∀ c : Dev Cert.GlaOut.nD,
      r.2.mem ((c.tc : Thread Cert.GlaOut.nD Cert.GlaOut.τ).loc Cert.GlaOut.main_arg0) = m ((c.tc : Thread Cert.GlaOut.nD Cert.GlaOut.τ).loc Cert.GlaOut.main_arg0)
      ∧ r.2.mem ((c.tc : Thread Cert.GlaOut.nD Cert.GlaOut.τ).loc Cert.GlaOut.main_arg1) = m ((c.tc : Thread Cert.GlaOut.nD Cert.GlaOut.τ).loc Cert.GlaOut.main_arg1)
      ∧ r.2.mem ((c.tc : Thread Cert.GlaOut.nD Cert.GlaOut.τ).loc Cert.GlaOut.main_arg2) = m ((c.tc : Thread Cert.GlaOut.nD Cert.GlaOut.τ).loc Cert.GlaOut.main_arg2))
      ∧ r.2.sem = fun _ => 0)

def quiescent_GlaOutIdeal [hGlaOutIdeal : Cert.GlaOutIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg), Pre_GlaOutIdeal m →
    θ_run (Cert.GlaOutIdeal.defs (F := Ideal)) (onTc (τ := Cert.GlaOutIdeal.τ) (Cert.GlaOutIdeal.main (F := Ideal))) ⟨m, fun _ => 0, g⟩ (fun r => (∀ c : Dev Cert.GlaOutIdeal.nD,
      r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
      ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
      ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2))
      ∧ r.2.sem = fun _ => 0)

def quiescent_GlaOutRefIdeal [hGlaOutRefIdeal : Cert.GlaOutRefIdeal.Facts] : Prop :=
  ∀ (m : (ℓ : Loc Cert.GlaOutRefIdeal.nD Cert.GlaOutRefIdeal.τ Cert.GlaOutRefIdeal.sig) → Buf (Elt Ideal) ℓ) (g : Dev Cert.GlaOutRefIdeal.nD → PrngReg), Pre_GlaOutRefIdeal m →
    θ_run (Cert.GlaOutRefIdeal.defs (F := Ideal)) (onTc (τ := Cert.GlaOutRefIdeal.τ) (Cert.GlaOutRefIdeal.main (F := Ideal))) ⟨m, fun _ => 0, g⟩ (fun r => (∀ c : Dev Cert.GlaOutRefIdeal.nD,
      r.2.mem ((c.tc : Thread Cert.GlaOutRefIdeal.nD Cert.GlaOutRefIdeal.τ).loc Cert.GlaOutRefIdeal.main_arg0) = m ((c.tc : Thread Cert.GlaOutRefIdeal.nD Cert.GlaOutRefIdeal.τ).loc Cert.GlaOutRefIdeal.main_arg0)
      ∧ r.2.mem ((c.tc : Thread Cert.GlaOutRefIdeal.nD Cert.GlaOutRefIdeal.τ).loc Cert.GlaOutRefIdeal.main_arg1) = m ((c.tc : Thread Cert.GlaOutRefIdeal.nD Cert.GlaOutRefIdeal.τ).loc Cert.GlaOutRefIdeal.main_arg1)
      ∧ r.2.mem ((c.tc : Thread Cert.GlaOutRefIdeal.nD Cert.GlaOutRefIdeal.τ).loc Cert.GlaOutRefIdeal.main_arg2) = m ((c.tc : Thread Cert.GlaOutRefIdeal.nD Cert.GlaOutRefIdeal.τ).loc Cert.GlaOutRefIdeal.main_arg2))
      ∧ r.2.sem = fun _ => 0)

def quiescent_ConvGate [hConvGate : Cert.ConvGate.Facts] : Prop :=
  ∀ (m : (ℓ : Loc Cert.ConvGate.nD Cert.ConvGate.τ Cert.ConvGate.sig) → Buf (Elt Bits) ℓ) (g : Dev Cert.ConvGate.nD → PrngReg), Pre_ConvGate m →
    θ_run (Cert.ConvGate.defs (F := Bits)) (onTc (τ := Cert.ConvGate.τ) (Cert.ConvGate.main (F := Bits))) ⟨m, fun _ => 0, g⟩ (fun r => (∀ c : Dev Cert.ConvGate.nD,
      r.2.mem ((c.tc : Thread Cert.ConvGate.nD Cert.ConvGate.τ).loc Cert.ConvGate.main_arg0) = m ((c.tc : Thread Cert.ConvGate.nD Cert.ConvGate.τ).loc Cert.ConvGate.main_arg0)
      ∧ r.2.mem ((c.tc : Thread Cert.ConvGate.nD Cert.ConvGate.τ).loc Cert.ConvGate.main_arg1) = m ((c.tc : Thread Cert.ConvGate.nD Cert.ConvGate.τ).loc Cert.ConvGate.main_arg1)
      ∧ r.2.mem ((c.tc : Thread Cert.ConvGate.nD Cert.ConvGate.τ).loc Cert.ConvGate.main_arg2) = m ((c.tc : Thread Cert.ConvGate.nD Cert.ConvGate.τ).loc Cert.ConvGate.main_arg2))
      ∧ r.2.sem = fun _ => 0)

def quiescent_ConvGateIdeal [hConvGateIdeal : Cert.ConvGateIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
      ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2))
      ∧ r.2.sem = fun _ => 0)

def quiescent_ConvGateRefIdeal [hConvGateRefIdeal : Cert.ConvGateRefIdeal.Facts] : Prop :=
  ∀ (m : (ℓ : Loc Cert.ConvGateRefIdeal.nD Cert.ConvGateRefIdeal.τ Cert.ConvGateRefIdeal.sig) → Buf (Elt Ideal) ℓ) (g : Dev Cert.ConvGateRefIdeal.nD → PrngReg), Pre_ConvGateRefIdeal m →
    θ_run (Cert.ConvGateRefIdeal.defs (F := Ideal)) (onTc (τ := Cert.ConvGateRefIdeal.τ) (Cert.ConvGateRefIdeal.main (F := Ideal))) ⟨m, fun _ => 0, g⟩ (fun r => (∀ c : Dev Cert.ConvGateRefIdeal.nD,
      r.2.mem ((c.tc : Thread Cert.ConvGateRefIdeal.nD Cert.ConvGateRefIdeal.τ).loc Cert.ConvGateRefIdeal.main_arg0) = m ((c.tc : Thread Cert.ConvGateRefIdeal.nD Cert.ConvGateRefIdeal.τ).loc Cert.ConvGateRefIdeal.main_arg0)
      ∧ r.2.mem ((c.tc : Thread Cert.ConvGateRefIdeal.nD Cert.ConvGateRefIdeal.τ).loc Cert.ConvGateRefIdeal.main_arg1) = m ((c.tc : Thread Cert.ConvGateRefIdeal.nD Cert.ConvGateRefIdeal.τ).loc Cert.ConvGateRefIdeal.main_arg1)
      ∧ r.2.mem ((c.tc : Thread Cert.ConvGateRefIdeal.nD Cert.ConvGateRefIdeal.τ).loc Cert.ConvGateRefIdeal.main_arg2) = m ((c.tc : Thread Cert.ConvGateRefIdeal.nD Cert.ConvGateRefIdeal.τ).loc Cert.ConvGateRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v10_1)) (v3 : (c : Dev Cert.KernelIdeal.nD) → Buf (Elt Ideal) ((c.tc : Thread Cert.KernelIdeal.nD Cert.KernelIdeal.τ).loc Cert.KernelIdeal.main_v10_2)) (v4 : (c : Dev Cert.KernelIdeal.nD) → Buf (Elt Ideal) ((c.tc : Thread Cert.KernelIdeal.nD Cert.KernelIdeal.τ).loc Cert.KernelIdeal.main_v10_3)) (v5 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_v10_1) = v2 c
          ∧ r.2.mem ((c.tc : Thread Cert.KernelIdeal.nD Cert.KernelIdeal.τ).loc Cert.KernelIdeal.main_v10_2) = v3 c
          ∧ r.2.mem ((c.tc : Thread Cert.KernelIdeal.nD Cert.KernelIdeal.τ).loc Cert.KernelIdeal.main_v10_3) = v4 c
          ∧ r.2.mem ((c.tc : Thread Cert.KernelIdeal.nD Cert.KernelIdeal.τ).loc Cert.KernelIdeal.main_v10_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v124) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v128) = v3 c
          ∧ r.2.mem ((c.tc : Thread Cert.ReferenceIdeal.nD Cert.ReferenceIdeal.τ).loc Cert.ReferenceIdeal.main_v129) = v4 c
          ∧ r.2.mem ((c.tc : Thread Cert.ReferenceIdeal.nD Cert.ReferenceIdeal.τ).loc Cert.ReferenceIdeal.main_v130) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpDx0a_UpDx0aIdeal : Prop :=
  True

def algebraic_UpDx0aIdeal_UpDx0aRefIdeal [hUpDx0aIdeal : Cert.UpDx0aIdeal.Facts] [hUpDx0aRefIdeal : Cert.UpDx0aRefIdeal.Facts] : Prop :=
  ∀ (m : (ℓ : Loc Cert.UpDx0aIdeal.nD Cert.UpDx0aIdeal.τ Cert.UpDx0aIdeal.sig) → Buf (Elt Ideal) ℓ) (g : Dev Cert.UpDx0aIdeal.nD → PrngReg)
    (m' : (ℓ : Loc Cert.UpDx0aRefIdeal.nD Cert.UpDx0aRefIdeal.τ Cert.UpDx0aRefIdeal.sig) → Buf (Elt Ideal) ℓ) (g' : Dev Cert.UpDx0aRefIdeal.nD → PrngReg), Pre_UpDx0aIdeal m →
    (∀ c : Dev Cert.UpDx0aIdeal.nD,
      m' ((c.tc : Thread Cert.UpDx0aRefIdeal.nD Cert.UpDx0aRefIdeal.τ).loc Cert.UpDx0aRefIdeal.main_arg0) = m ((c.tc : Thread Cert.UpDx0aIdeal.nD Cert.UpDx0aIdeal.τ).loc Cert.UpDx0aIdeal.main_arg0)
      ∧ m' ((c.tc : Thread Cert.UpDx0aRefIdeal.nD Cert.UpDx0aRefIdeal.τ).loc Cert.UpDx0aRefIdeal.main_arg1) = m ((c.tc : Thread Cert.UpDx0aIdeal.nD Cert.UpDx0aIdeal.τ).loc Cert.UpDx0aIdeal.main_arg1)) →
    ∃ (v0 : (c : Dev Cert.UpDx0aIdeal.nD) → Buf (Elt Ideal) ((c.tc : Thread Cert.UpDx0aIdeal.nD Cert.UpDx0aIdeal.τ).loc Cert.UpDx0aIdeal.main_v3)),
      θ_run (Cert.UpDx0aIdeal.defs (F := Ideal)) (onTc (τ := Cert.UpDx0aIdeal.τ) (Cert.UpDx0aIdeal.main (F := Ideal))) ⟨m, fun _ => 0, g⟩ (fun r => ∀ c : Dev Cert.UpDx0aIdeal.nD,
          r.2.mem ((c.tc : Thread Cert.UpDx0aIdeal.nD Cert.UpDx0aIdeal.τ).loc Cert.UpDx0aIdeal.main_v3) = v0 c
          ∧ r.2.mem ((c.tc : Thread Cert.UpDx0aIdeal.nD Cert.UpDx0aIdeal.τ).loc Cert.UpDx0aIdeal.main_arg0) = m ((c.tc : Thread Cert.UpDx0aIdeal.nD Cert.UpDx0aIdeal.τ).loc Cert.UpDx0aIdeal.main_arg0)
          ∧ r.2.mem ((c.tc : Thread Cert.UpDx0aIdeal.nD Cert.UpDx0aIdeal.τ).loc Cert.UpDx0aIdeal.main_arg1) = m ((c.tc : Thread Cert.UpDx0aIdeal.nD Cert.UpDx0aIdeal.τ).loc Cert.UpDx0aIdeal.main_arg1))
      ∧ θ_run (Cert.UpDx0aRefIdeal.defs (F := Ideal)) (onTc (τ := Cert.UpDx0aRefIdeal.τ) (Cert.UpDx0aRefIdeal.main (F := Ideal))) ⟨m', fun _ => 0, g'⟩ (fun r => ∀ c : Dev Cert.UpDx0aRefIdeal.nD,
          r.2.mem ((c.tc : Thread Cert.UpDx0aRefIdeal.nD Cert.UpDx0aRefIdeal.τ).loc Cert.UpDx0aRefIdeal.main_v4) = v0 c
          ∧ r.2.mem ((c.tc : Thread Cert.UpDx0aRefIdeal.nD Cert.UpDx0aRefIdeal.τ).loc Cert.UpDx0aRefIdeal.main_arg0) = m' ((c.tc : Thread Cert.UpDx0aRefIdeal.nD Cert.UpDx0aRefIdeal.τ).loc Cert.UpDx0aRefIdeal.main_arg0)
          ∧ r.2.mem ((c.tc : Thread Cert.UpDx0aRefIdeal.nD Cert.UpDx0aRefIdeal.τ).loc Cert.UpDx0aRefIdeal.main_arg1) = m' ((c.tc : Thread Cert.UpDx0aRefIdeal.nD Cert.UpDx0aRefIdeal.τ).loc Cert.UpDx0aRefIdeal.main_arg1))

def preserves_UpDx0b_UpDx0bIdeal : Prop :=
  True

def algebraic_UpDx0bIdeal_UpDx0bRefIdeal [hUpDx0bIdeal : Cert.UpDx0bIdeal.Facts] [hUpDx0bRefIdeal : Cert.UpDx0bRefIdeal.Facts] : Prop :=
  ∀ (m : (ℓ : Loc Cert.UpDx0bIdeal.nD Cert.UpDx0bIdeal.τ Cert.UpDx0bIdeal.sig) → Buf (Elt Ideal) ℓ) (g : Dev Cert.UpDx0bIdeal.nD → PrngReg)
    (m' : (ℓ : Loc Cert.UpDx0bRefIdeal.nD Cert.UpDx0bRefIdeal.τ Cert.UpDx0bRefIdeal.sig) → Buf (Elt Ideal) ℓ) (g' : Dev Cert.UpDx0bRefIdeal.nD → PrngReg), Pre_UpDx0bIdeal m →
    (∀ c : Dev Cert.UpDx0bIdeal.nD,
      m' ((c.tc : Thread Cert.UpDx0bRefIdeal.nD Cert.UpDx0bRefIdeal.τ).loc Cert.UpDx0bRefIdeal.main_arg0) = m ((c.tc : Thread Cert.UpDx0bIdeal.nD Cert.UpDx0bIdeal.τ).loc Cert.UpDx0bIdeal.main_arg0)
      ∧ m' ((c.tc : Thread Cert.UpDx0bRefIdeal.nD Cert.UpDx0bRefIdeal.τ).loc Cert.UpDx0bRefIdeal.main_arg1) = m ((c.tc : Thread Cert.UpDx0bIdeal.nD Cert.UpDx0bIdeal.τ).loc Cert.UpDx0bIdeal.main_arg1)
      ∧ m' ((c.tc : Thread Cert.UpDx0bRefIdeal.nD Cert.UpDx0bRefIdeal.τ).loc Cert.UpDx0bRefIdeal.main_arg2) = m ((c.tc : Thread Cert.UpDx0bIdeal.nD Cert.UpDx0bIdeal.τ).loc Cert.UpDx0bIdeal.main_arg2)) →
    ∃ (v0 : (c : Dev Cert.UpDx0bIdeal.nD) → Buf (Elt Ideal) ((c.tc : Thread Cert.UpDx0bIdeal.nD Cert.UpDx0bIdeal.τ).loc Cert.UpDx0bIdeal.main_v3)),
      θ_run (Cert.UpDx0bIdeal.defs (F := Ideal)) (onTc (τ := Cert.UpDx0bIdeal.τ) (Cert.UpDx0bIdeal.main (F := Ideal))) ⟨m, fun _ => 0, g⟩ (fun r => ∀ c : Dev Cert.UpDx0bIdeal.nD,
          r.2.mem ((c.tc : Thread Cert.UpDx0bIdeal.nD Cert.UpDx0bIdeal.τ).loc Cert.UpDx0bIdeal.main_v3) = v0 c
          ∧ r.2.mem ((c.tc : Thread Cert.UpDx0bIdeal.nD Cert.UpDx0bIdeal.τ).loc Cert.UpDx0bIdeal.main_arg0) = m ((c.tc : Thread Cert.UpDx0bIdeal.nD Cert.UpDx0bIdeal.τ).loc Cert.UpDx0bIdeal.main_arg0)
          ∧ r.2.mem ((c.tc : Thread Cert.UpDx0bIdeal.nD Cert.UpDx0bIdeal.τ).loc Cert.UpDx0bIdeal.main_arg1) = m ((c.tc : Thread Cert.UpDx0bIdeal.nD Cert.UpDx0bIdeal.τ).loc Cert.UpDx0bIdeal.main_arg1)
          ∧ r.2.mem ((c.tc : Thread Cert.UpDx0bIdeal.nD Cert.UpDx0bIdeal.τ).loc Cert.UpDx0bIdeal.main_arg2) = m ((c.tc : Thread Cert.UpDx0bIdeal.nD Cert.UpDx0bIdeal.τ).loc Cert.UpDx0bIdeal.main_arg2))
      ∧ θ_run (Cert.UpDx0bRefIdeal.defs (F := Ideal)) (onTc (τ := Cert.UpDx0bRefIdeal.τ) (Cert.UpDx0bRefIdeal.main (F := Ideal))) ⟨m', fun _ => 0, g'⟩ (fun r => ∀ c : Dev Cert.UpDx0bRefIdeal.nD,
          r.2.mem ((c.tc : Thread Cert.UpDx0bRefIdeal.nD Cert.UpDx0bRefIdeal.τ).loc Cert.UpDx0bRefIdeal.main_v5) = v0 c
          ∧ r.2.mem ((c.tc : Thread Cert.UpDx0bRefIdeal.nD Cert.UpDx0bRefIdeal.τ).loc Cert.UpDx0bRefIdeal.main_arg0) = m' ((c.tc : Thread Cert.UpDx0bRefIdeal.nD Cert.UpDx0bRefIdeal.τ).loc Cert.UpDx0bRefIdeal.main_arg0)
          ∧ r.2.mem ((c.tc : Thread Cert.UpDx0bRefIdeal.nD Cert.UpDx0bRefIdeal.τ).loc Cert.UpDx0bRefIdeal.main_arg1) = m' ((c.tc : Thread Cert.UpDx0bRefIdeal.nD Cert.UpDx0bRefIdeal.τ).loc Cert.UpDx0bRefIdeal.main_arg1)
          ∧ r.2.mem ((c.tc : Thread Cert.UpDx0bRefIdeal.nD Cert.UpDx0bRefIdeal.τ).loc Cert.UpDx0bRefIdeal.main_arg2) = m' ((c.tc : Thread Cert.UpDx0bRefIdeal.nD Cert.UpDx0bRefIdeal.τ).loc Cert.UpDx0bRefIdeal.main_arg2))

def preserves_UpDx1a_UpDx1aIdeal : Prop :=
  True

def algebraic_UpDx1aIdeal_UpDx1aRefIdeal [hUpDx1aIdeal : Cert.UpDx1aIdeal.Facts] [hUpDx1aRefIdeal : Cert.UpDx1aRefIdeal.Facts] : Prop :=
  ∀ (m : (ℓ : Loc Cert.UpDx1aIdeal.nD Cert.UpDx1aIdeal.τ Cert.UpDx1aIdeal.sig) → Buf (Elt Ideal) ℓ) (g : Dev Cert.UpDx1aIdeal.nD → PrngReg)
    (m' : (ℓ : Loc Cert.UpDx1aRefIdeal.nD Cert.UpDx1aRefIdeal.τ Cert.UpDx1aRefIdeal.sig) → Buf (Elt Ideal) ℓ) (g' : Dev Cert.UpDx1aRefIdeal.nD → PrngReg), Pre_UpDx1aIdeal m →
    (∀ c : Dev Cert.UpDx1aIdeal.nD,
      m' ((c.tc : Thread Cert.UpDx1aRefIdeal.nD Cert.UpDx1aRefIdeal.τ).loc Cert.UpDx1aRefIdeal.main_arg0) = m ((c.tc : Thread Cert.UpDx1aIdeal.nD Cert.UpDx1aIdeal.τ).loc Cert.UpDx1aIdeal.main_arg0)
      ∧ m' ((c.tc : Thread Cert.UpDx1aRefIdeal.nD Cert.UpDx1aRefIdeal.τ).loc Cert.UpDx1aRefIdeal.main_arg1) = m ((c.tc : Thread Cert.UpDx1aIdeal.nD Cert.UpDx1aIdeal.τ).loc Cert.UpDx1aIdeal.main_arg1)) →
    ∃ (v0 : (c : Dev Cert.UpDx1aIdeal.nD) → Buf (Elt Ideal) ((c.tc : Thread Cert.UpDx1aIdeal.nD Cert.UpDx1aIdeal.τ).loc Cert.UpDx1aIdeal.main_v3)),
      θ_run (Cert.UpDx1aIdeal.defs (F := Ideal)) (onTc (τ := Cert.UpDx1aIdeal.τ) (Cert.UpDx1aIdeal.main (F := Ideal))) ⟨m, fun _ => 0, g⟩ (fun r => ∀ c : Dev Cert.UpDx1aIdeal.nD,
          r.2.mem ((c.tc : Thread Cert.UpDx1aIdeal.nD Cert.UpDx1aIdeal.τ).loc Cert.UpDx1aIdeal.main_v3) = v0 c
          ∧ r.2.mem ((c.tc : Thread Cert.UpDx1aIdeal.nD Cert.UpDx1aIdeal.τ).loc Cert.UpDx1aIdeal.main_arg0) = m ((c.tc : Thread Cert.UpDx1aIdeal.nD Cert.UpDx1aIdeal.τ).loc Cert.UpDx1aIdeal.main_arg0)
          ∧ r.2.mem ((c.tc : Thread Cert.UpDx1aIdeal.nD Cert.UpDx1aIdeal.τ).loc Cert.UpDx1aIdeal.main_arg1) = m ((c.tc : Thread Cert.UpDx1aIdeal.nD Cert.UpDx1aIdeal.τ).loc Cert.UpDx1aIdeal.main_arg1))
      ∧ θ_run (Cert.UpDx1aRefIdeal.defs (F := Ideal)) (onTc (τ := Cert.UpDx1aRefIdeal.τ) (Cert.UpDx1aRefIdeal.main (F := Ideal))) ⟨m', fun _ => 0, g'⟩ (fun r => ∀ c : Dev Cert.UpDx1aRefIdeal.nD,
          r.2.mem ((c.tc : Thread Cert.UpDx1aRefIdeal.nD Cert.UpDx1aRefIdeal.τ).loc Cert.UpDx1aRefIdeal.main_v4) = v0 c
          ∧ r.2.mem ((c.tc : Thread Cert.UpDx1aRefIdeal.nD Cert.UpDx1aRefIdeal.τ).loc Cert.UpDx1aRefIdeal.main_arg0) = m' ((c.tc : Thread Cert.UpDx1aRefIdeal.nD Cert.UpDx1aRefIdeal.τ).loc Cert.UpDx1aRefIdeal.main_arg0)
          ∧ r.2.mem ((c.tc : Thread Cert.UpDx1aRefIdeal.nD Cert.UpDx1aRefIdeal.τ).loc Cert.UpDx1aRefIdeal.main_arg1) = m' ((c.tc : Thread Cert.UpDx1aRefIdeal.nD Cert.UpDx1aRefIdeal.τ).loc Cert.UpDx1aRefIdeal.main_arg1))

def preserves_UpDx1b_UpDx1bIdeal : Prop :=
  True

def algebraic_UpDx1bIdeal_UpDx1bRefIdeal [hUpDx1bIdeal : Cert.UpDx1bIdeal.Facts] [hUpDx1bRefIdeal : Cert.UpDx1bRefIdeal.Facts] : Prop :=
  ∀ (m : (ℓ : Loc Cert.UpDx1bIdeal.nD Cert.UpDx1bIdeal.τ Cert.UpDx1bIdeal.sig) → Buf (Elt Ideal) ℓ) (g : Dev Cert.UpDx1bIdeal.nD → PrngReg)
    (m' : (ℓ : Loc Cert.UpDx1bRefIdeal.nD Cert.UpDx1bRefIdeal.τ Cert.UpDx1bRefIdeal.sig) → Buf (Elt Ideal) ℓ) (g' : Dev Cert.UpDx1bRefIdeal.nD → PrngReg), Pre_UpDx1bIdeal m →
    (∀ c : Dev Cert.UpDx1bIdeal.nD,
      m' ((c.tc : Thread Cert.UpDx1bRefIdeal.nD Cert.UpDx1bRefIdeal.τ).loc Cert.UpDx1bRefIdeal.main_arg0) = m ((c.tc : Thread Cert.UpDx1bIdeal.nD Cert.UpDx1bIdeal.τ).loc Cert.UpDx1bIdeal.main_arg0)
      ∧ m' ((c.tc : Thread Cert.UpDx1bRefIdeal.nD Cert.UpDx1bRefIdeal.τ).loc Cert.UpDx1bRefIdeal.main_arg1) = m ((c.tc : Thread Cert.UpDx1bIdeal.nD Cert.UpDx1bIdeal.τ).loc Cert.UpDx1bIdeal.main_arg1)
      ∧ m' ((c.tc : Thread Cert.UpDx1bRefIdeal.nD Cert.UpDx1bRefIdeal.τ).loc Cert.UpDx1bRefIdeal.main_arg2) = m ((c.tc : Thread Cert.UpDx1bIdeal.nD Cert.UpDx1bIdeal.τ).loc Cert.UpDx1bIdeal.main_arg2)) →
    ∃ (v0 : (c : Dev Cert.UpDx1bIdeal.nD) → Buf (Elt Ideal) ((c.tc : Thread Cert.UpDx1bIdeal.nD Cert.UpDx1bIdeal.τ).loc Cert.UpDx1bIdeal.main_v3)),
      θ_run (Cert.UpDx1bIdeal.defs (F := Ideal)) (onTc (τ := Cert.UpDx1bIdeal.τ) (Cert.UpDx1bIdeal.main (F := Ideal))) ⟨m, fun _ => 0, g⟩ (fun r => ∀ c : Dev Cert.UpDx1bIdeal.nD,
          r.2.mem ((c.tc : Thread Cert.UpDx1bIdeal.nD Cert.UpDx1bIdeal.τ).loc Cert.UpDx1bIdeal.main_v3) = v0 c
          ∧ r.2.mem ((c.tc : Thread Cert.UpDx1bIdeal.nD Cert.UpDx1bIdeal.τ).loc Cert.UpDx1bIdeal.main_arg0) = m ((c.tc : Thread Cert.UpDx1bIdeal.nD Cert.UpDx1bIdeal.τ).loc Cert.UpDx1bIdeal.main_arg0)
          ∧ r.2.mem ((c.tc : Thread Cert.UpDx1bIdeal.nD Cert.UpDx1bIdeal.τ).loc Cert.UpDx1bIdeal.main_arg1) = m ((c.tc : Thread Cert.UpDx1bIdeal.nD Cert.UpDx1bIdeal.τ).loc Cert.UpDx1bIdeal.main_arg1)
          ∧ r.2.mem ((c.tc : Thread Cert.UpDx1bIdeal.nD Cert.UpDx1bIdeal.τ).loc Cert.UpDx1bIdeal.main_arg2) = m ((c.tc : Thread Cert.UpDx1bIdeal.nD Cert.UpDx1bIdeal.τ).loc Cert.UpDx1bIdeal.main_arg2))
      ∧ θ_run (Cert.UpDx1bRefIdeal.defs (F := Ideal)) (onTc (τ := Cert.UpDx1bRefIdeal.τ) (Cert.UpDx1bRefIdeal.main (F := Ideal))) ⟨m', fun _ => 0, g'⟩ (fun r => ∀ c : Dev Cert.UpDx1bRefIdeal.nD,
          r.2.mem ((c.tc : Thread Cert.UpDx1bRefIdeal.nD Cert.UpDx1bRefIdeal.τ).loc Cert.UpDx1bRefIdeal.main_v5) = v0 c
          ∧ r.2.mem ((c.tc : Thread Cert.UpDx1bRefIdeal.nD Cert.UpDx1bRefIdeal.τ).loc Cert.UpDx1bRefIdeal.main_arg0) = m' ((c.tc : Thread Cert.UpDx1bRefIdeal.nD Cert.UpDx1bRefIdeal.τ).loc Cert.UpDx1bRefIdeal.main_arg0)
          ∧ r.2.mem ((c.tc : Thread Cert.UpDx1bRefIdeal.nD Cert.UpDx1bRefIdeal.τ).loc Cert.UpDx1bRefIdeal.main_arg1) = m' ((c.tc : Thread Cert.UpDx1bRefIdeal.nD Cert.UpDx1bRefIdeal.τ).loc Cert.UpDx1bRefIdeal.main_arg1)
          ∧ r.2.mem ((c.tc : Thread Cert.UpDx1bRefIdeal.nD Cert.UpDx1bRefIdeal.τ).loc Cert.UpDx1bRefIdeal.main_arg2) = m' ((c.tc : Thread Cert.UpDx1bRefIdeal.nD Cert.UpDx1bRefIdeal.τ).loc Cert.UpDx1bRefIdeal.main_arg2))

def preserves_DownDx0_DownDx0Ideal : Prop :=
  True

def algebraic_DownDx0Ideal_DownDx0RefIdeal [hDownDx0Ideal : Cert.DownDx0Ideal.Facts] [hDownDx0RefIdeal : Cert.DownDx0RefIdeal.Facts] : Prop :=
  ∀ (m : (ℓ : Loc Cert.DownDx0Ideal.nD Cert.DownDx0Ideal.τ Cert.DownDx0Ideal.sig) → Buf (Elt Ideal) ℓ) (g : Dev Cert.DownDx0Ideal.nD → PrngReg)
    (m' : (ℓ : Loc Cert.DownDx0RefIdeal.nD Cert.DownDx0RefIdeal.τ Cert.DownDx0RefIdeal.sig) → Buf (Elt Ideal) ℓ) (g' : Dev Cert.DownDx0RefIdeal.nD → PrngReg), Pre_DownDx0Ideal m →
    (∀ c : Dev Cert.DownDx0Ideal.nD,
      m' ((c.tc : Thread Cert.DownDx0RefIdeal.nD Cert.DownDx0RefIdeal.τ).loc Cert.DownDx0RefIdeal.main_arg0) = m ((c.tc : Thread Cert.DownDx0Ideal.nD Cert.DownDx0Ideal.τ).loc Cert.DownDx0Ideal.main_arg0)
      ∧ m' ((c.tc : Thread Cert.DownDx0RefIdeal.nD Cert.DownDx0RefIdeal.τ).loc Cert.DownDx0RefIdeal.main_arg1) = m ((c.tc : Thread Cert.DownDx0Ideal.nD Cert.DownDx0Ideal.τ).loc Cert.DownDx0Ideal.main_arg1)) →
    ∃ (v0 : (c : Dev Cert.DownDx0Ideal.nD) → Buf (Elt Ideal) ((c.tc : Thread Cert.DownDx0Ideal.nD Cert.DownDx0Ideal.τ).loc Cert.DownDx0Ideal.main_v2)),
      θ_run (Cert.DownDx0Ideal.defs (F := Ideal)) (onTc (τ := Cert.DownDx0Ideal.τ) (Cert.DownDx0Ideal.main (F := Ideal))) ⟨m, fun _ => 0, g⟩ (fun r => ∀ c : Dev Cert.DownDx0Ideal.nD,
          r.2.mem ((c.tc : Thread Cert.DownDx0Ideal.nD Cert.DownDx0Ideal.τ).loc Cert.DownDx0Ideal.main_v2) = v0 c
          ∧ r.2.mem ((c.tc : Thread Cert.DownDx0Ideal.nD Cert.DownDx0Ideal.τ).loc Cert.DownDx0Ideal.main_arg0) = m ((c.tc : Thread Cert.DownDx0Ideal.nD Cert.DownDx0Ideal.τ).loc Cert.DownDx0Ideal.main_arg0)
          ∧ r.2.mem ((c.tc : Thread Cert.DownDx0Ideal.nD Cert.DownDx0Ideal.τ).loc Cert.DownDx0Ideal.main_arg1) = m ((c.tc : Thread Cert.DownDx0Ideal.nD Cert.DownDx0Ideal.τ).loc Cert.DownDx0Ideal.main_arg1))
      ∧ θ_run (Cert.DownDx0RefIdeal.defs (F := Ideal)) (onTc (τ := Cert.DownDx0RefIdeal.τ) (Cert.DownDx0RefIdeal.main (F := Ideal))) ⟨m', fun _ => 0, g'⟩ (fun r => ∀ c : Dev Cert.DownDx0RefIdeal.nD,
          r.2.mem ((c.tc : Thread Cert.DownDx0RefIdeal.nD Cert.DownDx0RefIdeal.τ).loc Cert.DownDx0RefIdeal.main_v4) = v0 c
          ∧ r.2.mem ((c.tc : Thread Cert.DownDx0RefIdeal.nD Cert.DownDx0RefIdeal.τ).loc Cert.DownDx0RefIdeal.main_arg0) = m' ((c.tc : Thread Cert.DownDx0RefIdeal.nD Cert.DownDx0RefIdeal.τ).loc Cert.DownDx0RefIdeal.main_arg0)
          ∧ r.2.mem ((c.tc : Thread Cert.DownDx0RefIdeal.nD Cert.DownDx0RefIdeal.τ).loc Cert.DownDx0RefIdeal.main_arg1) = m' ((c.tc : Thread Cert.DownDx0RefIdeal.nD Cert.DownDx0RefIdeal.τ).loc Cert.DownDx0RefIdeal.main_arg1))

def preserves_DownDx1_DownDx1Ideal : Prop :=
  True

def algebraic_DownDx1Ideal_DownDx1RefIdeal [hDownDx1Ideal : Cert.DownDx1Ideal.Facts] [hDownDx1RefIdeal : Cert.DownDx1RefIdeal.Facts] : Prop :=
  ∀ (m : (ℓ : Loc Cert.DownDx1Ideal.nD Cert.DownDx1Ideal.τ Cert.DownDx1Ideal.sig) → Buf (Elt Ideal) ℓ) (g : Dev Cert.DownDx1Ideal.nD → PrngReg)
    (m' : (ℓ : Loc Cert.DownDx1RefIdeal.nD Cert.DownDx1RefIdeal.τ Cert.DownDx1RefIdeal.sig) → Buf (Elt Ideal) ℓ) (g' : Dev Cert.DownDx1RefIdeal.nD → PrngReg), Pre_DownDx1Ideal m →
    (∀ c : Dev Cert.DownDx1Ideal.nD,
      m' ((c.tc : Thread Cert.DownDx1RefIdeal.nD Cert.DownDx1RefIdeal.τ).loc Cert.DownDx1RefIdeal.main_arg0) = m ((c.tc : Thread Cert.DownDx1Ideal.nD Cert.DownDx1Ideal.τ).loc Cert.DownDx1Ideal.main_arg0)
      ∧ m' ((c.tc : Thread Cert.DownDx1RefIdeal.nD Cert.DownDx1RefIdeal.τ).loc Cert.DownDx1RefIdeal.main_arg1) = m ((c.tc : Thread Cert.DownDx1Ideal.nD Cert.DownDx1Ideal.τ).loc Cert.DownDx1Ideal.main_arg1)) →
    ∃ (v0 : (c : Dev Cert.DownDx1Ideal.nD) → Buf (Elt Ideal) ((c.tc : Thread Cert.DownDx1Ideal.nD Cert.DownDx1Ideal.τ).loc Cert.DownDx1Ideal.main_v2)),
      θ_run (Cert.DownDx1Ideal.defs (F := Ideal)) (onTc (τ := Cert.DownDx1Ideal.τ) (Cert.DownDx1Ideal.main (F := Ideal))) ⟨m, fun _ => 0, g⟩ (fun r => ∀ c : Dev Cert.DownDx1Ideal.nD,
          r.2.mem ((c.tc : Thread Cert.DownDx1Ideal.nD Cert.DownDx1Ideal.τ).loc Cert.DownDx1Ideal.main_v2) = v0 c
          ∧ r.2.mem ((c.tc : Thread Cert.DownDx1Ideal.nD Cert.DownDx1Ideal.τ).loc Cert.DownDx1Ideal.main_arg0) = m ((c.tc : Thread Cert.DownDx1Ideal.nD Cert.DownDx1Ideal.τ).loc Cert.DownDx1Ideal.main_arg0)
          ∧ r.2.mem ((c.tc : Thread Cert.DownDx1Ideal.nD Cert.DownDx1Ideal.τ).loc Cert.DownDx1Ideal.main_arg1) = m ((c.tc : Thread Cert.DownDx1Ideal.nD Cert.DownDx1Ideal.τ).loc Cert.DownDx1Ideal.main_arg1))
      ∧ θ_run (Cert.DownDx1RefIdeal.defs (F := Ideal)) (onTc (τ := Cert.DownDx1RefIdeal.τ) (Cert.DownDx1RefIdeal.main (F := Ideal))) ⟨m', fun _ => 0, g'⟩ (fun r => ∀ c : Dev Cert.DownDx1RefIdeal.nD,
          r.2.mem ((c.tc : Thread Cert.DownDx1RefIdeal.nD Cert.DownDx1RefIdeal.τ).loc Cert.DownDx1RefIdeal.main_v4) = v0 c
          ∧ r.2.mem ((c.tc : Thread Cert.DownDx1RefIdeal.nD Cert.DownDx1RefIdeal.τ).loc Cert.DownDx1RefIdeal.main_arg0) = m' ((c.tc : Thread Cert.DownDx1RefIdeal.nD Cert.DownDx1RefIdeal.τ).loc Cert.DownDx1RefIdeal.main_arg0)
          ∧ r.2.mem ((c.tc : Thread Cert.DownDx1RefIdeal.nD Cert.DownDx1RefIdeal.τ).loc Cert.DownDx1RefIdeal.main_arg1) = m' ((c.tc : Thread Cert.DownDx1RefIdeal.nD Cert.DownDx1RefIdeal.τ).loc Cert.DownDx1RefIdeal.main_arg1))

def preserves_InBDx_InBDxIdeal : Prop :=
  True

def algebraic_InBDxIdeal_InBDxRefIdeal [hInBDxIdeal : Cert.InBDxIdeal.Facts] [hInBDxRefIdeal : Cert.InBDxRefIdeal.Facts] : Prop :=
  ∀ (m : (ℓ : Loc Cert.InBDxIdeal.nD Cert.InBDxIdeal.τ Cert.InBDxIdeal.sig) → Buf (Elt Ideal) ℓ) (g : Dev Cert.InBDxIdeal.nD → PrngReg)
    (m' : (ℓ : Loc Cert.InBDxRefIdeal.nD Cert.InBDxRefIdeal.τ Cert.InBDxRefIdeal.sig) → Buf (Elt Ideal) ℓ) (g' : Dev Cert.InBDxRefIdeal.nD → PrngReg), Pre_InBDxIdeal m →
    (∀ c : Dev Cert.InBDxIdeal.nD,
      m' ((c.tc : Thread Cert.InBDxRefIdeal.nD Cert.InBDxRefIdeal.τ).loc Cert.InBDxRefIdeal.main_arg0) = m ((c.tc : Thread Cert.InBDxIdeal.nD Cert.InBDxIdeal.τ).loc Cert.InBDxIdeal.main_arg0)
      ∧ m' ((c.tc : Thread Cert.InBDxRefIdeal.nD Cert.InBDxRefIdeal.τ).loc Cert.InBDxRefIdeal.main_arg1) = m ((c.tc : Thread Cert.InBDxIdeal.nD Cert.InBDxIdeal.τ).loc Cert.InBDxIdeal.main_arg1)) →
    ∃ (v0 : (c : Dev Cert.InBDxIdeal.nD) → Buf (Elt Ideal) ((c.tc : Thread Cert.InBDxIdeal.nD Cert.InBDxIdeal.τ).loc Cert.InBDxIdeal.main_v7)),
      θ_run (Cert.InBDxIdeal.defs (F := Ideal)) (onTc (τ := Cert.InBDxIdeal.τ) (Cert.InBDxIdeal.main (F := Ideal))) ⟨m, fun _ => 0, g⟩ (fun r => ∀ c : Dev Cert.InBDxIdeal.nD,
          r.2.mem ((c.tc : Thread Cert.InBDxIdeal.nD Cert.InBDxIdeal.τ).loc Cert.InBDxIdeal.main_v7) = v0 c
          ∧ r.2.mem ((c.tc : Thread Cert.InBDxIdeal.nD Cert.InBDxIdeal.τ).loc Cert.InBDxIdeal.main_arg0) = m ((c.tc : Thread Cert.InBDxIdeal.nD Cert.InBDxIdeal.τ).loc Cert.InBDxIdeal.main_arg0)
          ∧ r.2.mem ((c.tc : Thread Cert.InBDxIdeal.nD Cert.InBDxIdeal.τ).loc Cert.InBDxIdeal.main_arg1) = m ((c.tc : Thread Cert.InBDxIdeal.nD Cert.InBDxIdeal.τ).loc Cert.InBDxIdeal.main_arg1))
      ∧ θ_run (Cert.InBDxRefIdeal.defs (F := Ideal)) (onTc (τ := Cert.InBDxRefIdeal.τ) (Cert.InBDxRefIdeal.main (F := Ideal))) ⟨m', fun _ => 0, g'⟩ (fun r => ∀ c : Dev Cert.InBDxRefIdeal.nD,
          r.2.mem ((c.tc : Thread Cert.InBDxRefIdeal.nD Cert.InBDxRefIdeal.τ).loc Cert.InBDxRefIdeal.main_v8) = v0 c
          ∧ r.2.mem ((c.tc : Thread Cert.InBDxRefIdeal.nD Cert.InBDxRefIdeal.τ).loc Cert.InBDxRefIdeal.main_arg0) = m' ((c.tc : Thread Cert.InBDxRefIdeal.nD Cert.InBDxRefIdeal.τ).loc Cert.InBDxRefIdeal.main_arg0)
          ∧ r.2.mem ((c.tc : Thread Cert.InBDxRefIdeal.nD Cert.InBDxRefIdeal.τ).loc Cert.InBDxRefIdeal.main_arg1) = m' ((c.tc : Thread Cert.InBDxRefIdeal.nD Cert.InBDxRefIdeal.τ).loc Cert.InBDxRefIdeal.main_arg1))

def preserves_InBDw_InBDwIdeal : Prop :=
  True

def algebraic_InBDwIdeal_InBDwRefIdeal [hInBDwIdeal : Cert.InBDwIdeal.Facts] [hInBDwRefIdeal : Cert.InBDwRefIdeal.Facts] : Prop :=
  ∀ (m : (ℓ : Loc Cert.InBDwIdeal.nD Cert.InBDwIdeal.τ Cert.InBDwIdeal.sig) → Buf (Elt Ideal) ℓ) (g : Dev Cert.InBDwIdeal.nD → PrngReg)
    (m' : (ℓ : Loc Cert.InBDwRefIdeal.nD Cert.InBDwRefIdeal.τ Cert.InBDwRefIdeal.sig) → Buf (Elt Ideal) ℓ) (g' : Dev Cert.InBDwRefIdeal.nD → PrngReg), Pre_InBDwIdeal m →
    (∀ c : Dev Cert.InBDwIdeal.nD,
      m' ((c.tc : Thread Cert.InBDwRefIdeal.nD Cert.InBDwRefIdeal.τ).loc Cert.InBDwRefIdeal.main_arg0) = m ((c.tc : Thread Cert.InBDwIdeal.nD Cert.InBDwIdeal.τ).loc Cert.InBDwIdeal.main_arg0)
      ∧ m' ((c.tc : Thread Cert.InBDwRefIdeal.nD Cert.InBDwRefIdeal.τ).loc Cert.InBDwRefIdeal.main_arg1) = m ((c.tc : Thread Cert.InBDwIdeal.nD Cert.InBDwIdeal.τ).loc Cert.InBDwIdeal.main_arg1)) →
    ∃ (v0 : (c : Dev Cert.InBDwIdeal.nD) → Buf (Elt Ideal) ((c.tc : Thread Cert.InBDwIdeal.nD Cert.InBDwIdeal.τ).loc Cert.InBDwIdeal.main_v0)),
      θ_run (Cert.InBDwIdeal.defs (F := Ideal)) (onTc (τ := Cert.InBDwIdeal.τ) (Cert.InBDwIdeal.main (F := Ideal))) ⟨m, fun _ => 0, g⟩ (fun r => ∀ c : Dev Cert.InBDwIdeal.nD,
          r.2.mem ((c.tc : Thread Cert.InBDwIdeal.nD Cert.InBDwIdeal.τ).loc Cert.InBDwIdeal.main_v0) = v0 c
          ∧ r.2.mem ((c.tc : Thread Cert.InBDwIdeal.nD Cert.InBDwIdeal.τ).loc Cert.InBDwIdeal.main_arg0) = m ((c.tc : Thread Cert.InBDwIdeal.nD Cert.InBDwIdeal.τ).loc Cert.InBDwIdeal.main_arg0)
          ∧ r.2.mem ((c.tc : Thread Cert.InBDwIdeal.nD Cert.InBDwIdeal.τ).loc Cert.InBDwIdeal.main_arg1) = m ((c.tc : Thread Cert.InBDwIdeal.nD Cert.InBDwIdeal.τ).loc Cert.InBDwIdeal.main_arg1))
      ∧ θ_run (Cert.InBDwRefIdeal.defs (F := Ideal)) (onTc (τ := Cert.InBDwRefIdeal.τ) (Cert.InBDwRefIdeal.main (F := Ideal))) ⟨m', fun _ => 0, g'⟩ (fun r => ∀ c : Dev Cert.InBDwRefIdeal.nD,
          r.2.mem ((c.tc : Thread Cert.InBDwRefIdeal.nD Cert.InBDwRefIdeal.τ).loc Cert.InBDwRefIdeal.main_v3) = v0 c
          ∧ r.2.mem ((c.tc : Thread Cert.InBDwRefIdeal.nD Cert.InBDwRefIdeal.τ).loc Cert.InBDwRefIdeal.main_arg0) = m' ((c.tc : Thread Cert.InBDwRefIdeal.nD Cert.InBDwRefIdeal.τ).loc Cert.InBDwRefIdeal.main_arg0)
          ∧ r.2.mem ((c.tc : Thread Cert.InBDwRefIdeal.nD Cert.InBDwRefIdeal.τ).loc Cert.InBDwRefIdeal.main_arg1) = m' ((c.tc : Thread Cert.InBDwRefIdeal.nD Cert.InBDwRefIdeal.τ).loc Cert.InBDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutADw_OutADwIdeal : Prop :=
  True

def algebraic_OutADwIdeal_OutADwRefIdeal [hOutADwIdeal : Cert.OutADwIdeal.Facts] [hOutADwRefIdeal : Cert.OutADwRefIdeal.Facts] : Prop :=
  ∀ (m : (ℓ : Loc Cert.OutADwIdeal.nD Cert.OutADwIdeal.τ Cert.OutADwIdeal.sig) → Buf (Elt Ideal) ℓ) (g : Dev Cert.OutADwIdeal.nD → PrngReg)
    (m' : (ℓ : Loc Cert.OutADwRefIdeal.nD Cert.OutADwRefIdeal.τ Cert.OutADwRefIdeal.sig) → Buf (Elt Ideal) ℓ) (g' : Dev Cert.OutADwRefIdeal.nD → PrngReg), Pre_OutADwIdeal m →
    (∀ c : Dev Cert.OutADwIdeal.nD,
      m' ((c.tc : Thread Cert.OutADwRefIdeal.nD Cert.OutADwRefIdeal.τ).loc Cert.OutADwRefIdeal.main_arg0) = m ((c.tc : Thread Cert.OutADwIdeal.nD Cert.OutADwIdeal.τ).loc Cert.OutADwIdeal.main_arg0)
      ∧ m' ((c.tc : Thread Cert.OutADwRefIdeal.nD Cert.OutADwRefIdeal.τ).loc Cert.OutADwRefIdeal.main_arg1) = m ((c.tc : Thread Cert.OutADwIdeal.nD Cert.OutADwIdeal.τ).loc Cert.OutADwIdeal.main_arg1)) →
    ∃ (v0 : (c : Dev Cert.OutADwIdeal.nD) → Buf (Elt Ideal) ((c.tc : Thread Cert.OutADwIdeal.nD Cert.OutADwIdeal.τ).loc Cert.OutADwIdeal.main_v0)),
      θ_run (Cert.OutADwIdeal.defs (F := Ideal)) (onTc (τ := Cert.OutADwIdeal.τ) (Cert.OutADwIdeal.main (F := Ideal))) ⟨m, fun _ => 0, g⟩ (fun r => ∀ c : Dev Cert.OutADwIdeal.nD,
          r.2.mem ((c.tc : Thread Cert.OutADwIdeal.nD Cert.OutADwIdeal.τ).loc Cert.OutADwIdeal.main_v0) = v0 c
          ∧ r.2.mem ((c.tc : Thread Cert.OutADwIdeal.nD Cert.OutADwIdeal.τ).loc Cert.OutADwIdeal.main_arg0) = m ((c.tc : Thread Cert.OutADwIdeal.nD Cert.OutADwIdeal.τ).loc Cert.OutADwIdeal.main_arg0)
          ∧ r.2.mem ((c.tc : Thread Cert.OutADwIdeal.nD Cert.OutADwIdeal.τ).loc Cert.OutADwIdeal.main_arg1) = m ((c.tc : Thread Cert.OutADwIdeal.nD Cert.OutADwIdeal.τ).loc Cert.OutADwIdeal.main_arg1))
      ∧ θ_run (Cert.OutADwRefIdeal.defs (F := Ideal)) (onTc (τ := Cert.OutADwRefIdeal.τ) (Cert.OutADwRefIdeal.main (F := Ideal))) ⟨m', fun _ => 0, g'⟩ (fun r => ∀ c : Dev Cert.OutADwRefIdeal.nD,
          r.2.mem ((c.tc : Thread Cert.OutADwRefIdeal.nD Cert.OutADwRefIdeal.τ).loc Cert.OutADwRefIdeal.main_v2) = v0 c
          ∧ r.2.mem ((c.tc : Thread Cert.OutADwRefIdeal.nD Cert.OutADwRefIdeal.τ).loc Cert.OutADwRefIdeal.main_arg0) = m' ((c.tc : Thread Cert.OutADwRefIdeal.nD Cert.OutADwRefIdeal.τ).loc Cert.OutADwRefIdeal.main_arg0)
          ∧ r.2.mem ((c.tc : Thread Cert.OutADwRefIdeal.nD Cert.OutADwRefIdeal.τ).loc Cert.OutADwRefIdeal.main_arg1) = m' ((c.tc : Thread Cert.OutADwRefIdeal.nD Cert.OutADwRefIdeal.τ).loc Cert.OutADwRefIdeal.main_arg1))

def preserves_OutBDw_OutBDwIdeal : Prop :=
  True

def algebraic_OutBDwIdeal_OutBDwRefIdeal [hOutBDwIdeal : Cert.OutBDwIdeal.Facts] [hOutBDwRefIdeal : Cert.OutBDwRefIdeal.Facts] : Prop :=
  ∀ (m : (ℓ : Loc Cert.OutBDwIdeal.nD Cert.OutBDwIdeal.τ Cert.OutBDwIdeal.sig) → Buf (Elt Ideal) ℓ) (g : Dev Cert.OutBDwIdeal.nD → PrngReg)
    (m' : (ℓ : Loc Cert.OutBDwRefIdeal.nD Cert.OutBDwRefIdeal.τ Cert.OutBDwRefIdeal.sig) → Buf (Elt Ideal) ℓ) (g' : Dev Cert.OutBDwRefIdeal.nD → PrngReg), Pre_OutBDwIdeal m →
    (∀ c : Dev Cert.OutBDwIdeal.nD,
      m' ((c.tc : Thread Cert.OutBDwRefIdeal.nD Cert.OutBDwRefIdeal.τ).loc Cert.OutBDwRefIdeal.main_arg0) = m ((c.tc : Thread Cert.OutBDwIdeal.nD Cert.OutBDwIdeal.τ).loc Cert.OutBDwIdeal.main_arg0)
      ∧ m' ((c.tc : Thread Cert.OutBDwRefIdeal.nD Cert.OutBDwRefIdeal.τ).loc Cert.OutBDwRefIdeal.main_arg1) = m ((c.tc : Thread Cert.OutBDwIdeal.nD Cert.OutBDwIdeal.τ).loc Cert.OutBDwIdeal.main_arg1)) →
    ∃ (v0 : (c : Dev Cert.OutBDwIdeal.nD) → Buf (Elt Ideal) ((c.tc : Thread Cert.OutBDwIdeal.nD Cert.OutBDwIdeal.τ).loc Cert.OutBDwIdeal.main_v0)),
      θ_run (Cert.OutBDwIdeal.defs (F := Ideal)) (onTc (τ := Cert.OutBDwIdeal.τ) (Cert.OutBDwIdeal.main (F := Ideal))) ⟨m, fun _ => 0, g⟩ (fun r => ∀ c : Dev Cert.OutBDwIdeal.nD,
          r.2.mem ((c.tc : Thread Cert.OutBDwIdeal.nD Cert.OutBDwIdeal.τ).loc Cert.OutBDwIdeal.main_v0) = v0 c
          ∧ r.2.mem ((c.tc : Thread Cert.OutBDwIdeal.nD Cert.OutBDwIdeal.τ).loc Cert.OutBDwIdeal.main_arg0) = m ((c.tc : Thread Cert.OutBDwIdeal.nD Cert.OutBDwIdeal.τ).loc Cert.OutBDwIdeal.main_arg0)
          ∧ r.2.mem ((c.tc : Thread Cert.OutBDwIdeal.nD Cert.OutBDwIdeal.τ).loc Cert.OutBDwIdeal.main_arg1) = m ((c.tc : Thread Cert.OutBDwIdeal.nD Cert.OutBDwIdeal.τ).loc Cert.OutBDwIdeal.main_arg1))
      ∧ θ_run (Cert.OutBDwRefIdeal.defs (F := Ideal)) (onTc (τ := Cert.OutBDwRefIdeal.τ) (Cert.OutBDwRefIdeal.main (F := Ideal))) ⟨m', fun _ => 0, g'⟩ (fun r => ∀ c : Dev Cert.OutBDwRefIdeal.nD,
          r.2.mem ((c.tc : Thread Cert.OutBDwRefIdeal.nD Cert.OutBDwRefIdeal.τ).loc Cert.OutBDwRefIdeal.main_v3) = v0 c
          ∧ r.2.mem ((c.tc : Thread Cert.OutBDwRefIdeal.nD Cert.OutBDwRefIdeal.τ).loc Cert.OutBDwRefIdeal.main_arg0) = m' ((c.tc : Thread Cert.OutBDwRefIdeal.nD Cert.OutBDwRefIdeal.τ).loc Cert.OutBDwRefIdeal.main_arg0)
          ∧ r.2.mem ((c.tc : Thread Cert.OutBDwRefIdeal.nD Cert.OutBDwRefIdeal.τ).loc Cert.OutBDwRefIdeal.main_arg1) = m' ((c.tc : Thread Cert.OutBDwRefIdeal.nD Cert.OutBDwRefIdeal.τ).loc Cert.OutBDwRefIdeal.main_arg1))

def preserves_InADx0_InADx0Ideal : Prop :=
  True

def algebraic_InADx0Ideal_InADx0RefIdeal [hInADx0Ideal : Cert.InADx0Ideal.Facts] [hInADx0RefIdeal : Cert.InADx0RefIdeal.Facts] : Prop :=
  ∀ (m : (ℓ : Loc Cert.InADx0Ideal.nD Cert.InADx0Ideal.τ Cert.InADx0Ideal.sig) → Buf (Elt Ideal) ℓ) (g : Dev Cert.InADx0Ideal.nD → PrngReg)
    (m' : (ℓ : Loc Cert.InADx0RefIdeal.nD Cert.InADx0RefIdeal.τ Cert.InADx0RefIdeal.sig) → Buf (Elt Ideal) ℓ) (g' : Dev Cert.InADx0RefIdeal.nD → PrngReg), Pre_InADx0Ideal m →
    (∀ c : Dev Cert.InADx0Ideal.nD,
      m' ((c.tc : Thread Cert.InADx0RefIdeal.nD Cert.InADx0RefIdeal.τ).loc Cert.InADx0RefIdeal.main_arg0) = m ((c.tc : Thread Cert.InADx0Ideal.nD Cert.InADx0Ideal.τ).loc Cert.InADx0Ideal.main_arg0)
      ∧ m' ((c.tc : Thread Cert.InADx0RefIdeal.nD Cert.InADx0RefIdeal.τ).loc Cert.InADx0RefIdeal.main_arg1) = m ((c.tc : Thread Cert.InADx0Ideal.nD Cert.InADx0Ideal.τ).loc Cert.InADx0Ideal.main_arg1)) →
    ∃ (v0 : (c : Dev Cert.InADx0Ideal.nD) → Buf (Elt Ideal) ((c.tc : Thread Cert.InADx0Ideal.nD Cert.InADx0Ideal.τ).loc Cert.InADx0Ideal.main_v3)),
      θ_run (Cert.InADx0Ideal.defs (F := Ideal)) (onTc (τ := Cert.InADx0Ideal.τ) (Cert.InADx0Ideal.main (F := Ideal))) ⟨m, fun _ => 0, g⟩ (fun r => ∀ c : Dev Cert.InADx0Ideal.nD,
          r.2.mem ((c.tc : Thread Cert.InADx0Ideal.nD Cert.InADx0Ideal.τ).loc Cert.InADx0Ideal.main_v3) = v0 c
          ∧ r.2.mem ((c.tc : Thread Cert.InADx0Ideal.nD Cert.InADx0Ideal.τ).loc Cert.InADx0Ideal.main_arg0) = m ((c.tc : Thread Cert.InADx0Ideal.nD Cert.InADx0Ideal.τ).loc Cert.InADx0Ideal.main_arg0)
          ∧ r.2.mem ((c.tc : Thread Cert.InADx0Ideal.nD Cert.InADx0Ideal.τ).loc Cert.InADx0Ideal.main_arg1) = m ((c.tc : Thread Cert.InADx0Ideal.nD Cert.InADx0Ideal.τ).loc Cert.InADx0Ideal.main_arg1))
      ∧ θ_run (Cert.InADx0RefIdeal.defs (F := Ideal)) (onTc (τ := Cert.InADx0RefIdeal.τ) (Cert.InADx0RefIdeal.main (F := Ideal))) ⟨m', fun _ => 0, g'⟩ (fun r => ∀ c : Dev Cert.InADx0RefIdeal.nD,
          r.2.mem ((c.tc : Thread Cert.InADx0RefIdeal.nD Cert.InADx0RefIdeal.τ).loc Cert.InADx0RefIdeal.main_v4) = v0 c
          ∧ r.2.mem ((c.tc : Thread Cert.InADx0RefIdeal.nD Cert.InADx0RefIdeal.τ).loc Cert.InADx0RefIdeal.main_arg0) = m' ((c.tc : Thread Cert.InADx0RefIdeal.nD Cert.InADx0RefIdeal.τ).loc Cert.InADx0RefIdeal.main_arg0)
          ∧ r.2.mem ((c.tc : Thread Cert.InADx0RefIdeal.nD Cert.InADx0RefIdeal.τ).loc Cert.InADx0RefIdeal.main_arg1) = m' ((c.tc : Thread Cert.InADx0RefIdeal.nD Cert.InADx0RefIdeal.τ).loc Cert.InADx0RefIdeal.main_arg1))

def preserves_InADx1_InADx1Ideal : Prop :=
  True

def algebraic_InADx1Ideal_InADx1RefIdeal [hInADx1Ideal : Cert.InADx1Ideal.Facts] [hInADx1RefIdeal : Cert.InADx1RefIdeal.Facts] : Prop :=
  ∀ (m : (ℓ : Loc Cert.InADx1Ideal.nD Cert.InADx1Ideal.τ Cert.InADx1Ideal.sig) → Buf (Elt Ideal) ℓ) (g : Dev Cert.InADx1Ideal.nD → PrngReg)
    (m' : (ℓ : Loc Cert.InADx1RefIdeal.nD Cert.InADx1RefIdeal.τ Cert.InADx1RefIdeal.sig) → Buf (Elt Ideal) ℓ) (g' : Dev Cert.InADx1RefIdeal.nD → PrngReg), Pre_InADx1Ideal m →
    (∀ c : Dev Cert.InADx1Ideal.nD,
      m' ((c.tc : Thread Cert.InADx1RefIdeal.nD Cert.InADx1RefIdeal.τ).loc Cert.InADx1RefIdeal.main_arg0) = m ((c.tc : Thread Cert.InADx1Ideal.nD Cert.InADx1Ideal.τ).loc Cert.InADx1Ideal.main_arg0)
      ∧ m' ((c.tc : Thread Cert.InADx1RefIdeal.nD Cert.InADx1RefIdeal.τ).loc Cert.InADx1RefIdeal.main_arg1) = m ((c.tc : Thread Cert.InADx1Ideal.nD Cert.InADx1Ideal.τ).loc Cert.InADx1Ideal.main_arg1)) →
    ∃ (v0 : (c : Dev Cert.InADx1Ideal.nD) → Buf (Elt Ideal) ((c.tc : Thread Cert.InADx1Ideal.nD Cert.InADx1Ideal.τ).loc Cert.InADx1Ideal.main_v3)),
      θ_run (Cert.InADx1Ideal.defs (F := Ideal)) (onTc (τ := Cert.InADx1Ideal.τ) (Cert.InADx1Ideal.main (F := Ideal))) ⟨m, fun _ => 0, g⟩ (fun r => ∀ c : Dev Cert.InADx1Ideal.nD,
          r.2.mem ((c.tc : Thread Cert.InADx1Ideal.nD Cert.InADx1Ideal.τ).loc Cert.InADx1Ideal.main_v3) = v0 c
          ∧ r.2.mem ((c.tc : Thread Cert.InADx1Ideal.nD Cert.InADx1Ideal.τ).loc Cert.InADx1Ideal.main_arg0) = m ((c.tc : Thread Cert.InADx1Ideal.nD Cert.InADx1Ideal.τ).loc Cert.InADx1Ideal.main_arg0)
          ∧ r.2.mem ((c.tc : Thread Cert.InADx1Ideal.nD Cert.InADx1Ideal.τ).loc Cert.InADx1Ideal.main_arg1) = m ((c.tc : Thread Cert.InADx1Ideal.nD Cert.InADx1Ideal.τ).loc Cert.InADx1Ideal.main_arg1))
      ∧ θ_run (Cert.InADx1RefIdeal.defs (F := Ideal)) (onTc (τ := Cert.InADx1RefIdeal.τ) (Cert.InADx1RefIdeal.main (F := Ideal))) ⟨m', fun _ => 0, g'⟩ (fun r => ∀ c : Dev Cert.InADx1RefIdeal.nD,
          r.2.mem ((c.tc : Thread Cert.InADx1RefIdeal.nD Cert.InADx1RefIdeal.τ).loc Cert.InADx1RefIdeal.main_v6) = v0 c
          ∧ r.2.mem ((c.tc : Thread Cert.InADx1RefIdeal.nD Cert.InADx1RefIdeal.τ).loc Cert.InADx1RefIdeal.main_arg0) = m' ((c.tc : Thread Cert.InADx1RefIdeal.nD Cert.InADx1RefIdeal.τ).loc Cert.InADx1RefIdeal.main_arg0)
          ∧ r.2.mem ((c.tc : Thread Cert.InADx1RefIdeal.nD Cert.InADx1RefIdeal.τ).loc Cert.InADx1RefIdeal.main_arg1) = m' ((c.tc : Thread Cert.InADx1RefIdeal.nD Cert.InADx1RefIdeal.τ).loc Cert.InADx1RefIdeal.main_arg1))

def preserves_InADx2_InADx2Ideal : Prop :=
  True

def algebraic_InADx2Ideal_InADx2RefIdeal [hInADx2Ideal : Cert.InADx2Ideal.Facts] [hInADx2RefIdeal : Cert.InADx2RefIdeal.Facts] : Prop :=
  ∀ (m : (ℓ : Loc Cert.InADx2Ideal.nD Cert.InADx2Ideal.τ Cert.InADx2Ideal.sig) → Buf (Elt Ideal) ℓ) (g : Dev Cert.InADx2Ideal.nD → PrngReg)
    (m' : (ℓ : Loc Cert.InADx2RefIdeal.nD Cert.InADx2RefIdeal.τ Cert.InADx2RefIdeal.sig) → Buf (Elt Ideal) ℓ) (g' : Dev Cert.InADx2RefIdeal.nD → PrngReg), Pre_InADx2Ideal m →
    (∀ c : Dev Cert.InADx2Ideal.nD,
      m' ((c.tc : Thread Cert.InADx2RefIdeal.nD Cert.InADx2RefIdeal.τ).loc Cert.InADx2RefIdeal.main_arg0) = m ((c.tc : Thread Cert.InADx2Ideal.nD Cert.InADx2Ideal.τ).loc Cert.InADx2Ideal.main_arg0)
      ∧ m' ((c.tc : Thread Cert.InADx2RefIdeal.nD Cert.InADx2RefIdeal.τ).loc Cert.InADx2RefIdeal.main_arg1) = m ((c.tc : Thread Cert.InADx2Ideal.nD Cert.InADx2Ideal.τ).loc Cert.InADx2Ideal.main_arg1)) →
    ∃ (v0 : (c : Dev Cert.InADx2Ideal.nD) → Buf (Elt Ideal) ((c.tc : Thread Cert.InADx2Ideal.nD Cert.InADx2Ideal.τ).loc Cert.InADx2Ideal.main_v3)),
      θ_run (Cert.InADx2Ideal.defs (F := Ideal)) (onTc (τ := Cert.InADx2Ideal.τ) (Cert.InADx2Ideal.main (F := Ideal))) ⟨m, fun _ => 0, g⟩ (fun r => ∀ c : Dev Cert.InADx2Ideal.nD,
          r.2.mem ((c.tc : Thread Cert.InADx2Ideal.nD Cert.InADx2Ideal.τ).loc Cert.InADx2Ideal.main_v3) = v0 c
          ∧ r.2.mem ((c.tc : Thread Cert.InADx2Ideal.nD Cert.InADx2Ideal.τ).loc Cert.InADx2Ideal.main_arg0) = m ((c.tc : Thread Cert.InADx2Ideal.nD Cert.InADx2Ideal.τ).loc Cert.InADx2Ideal.main_arg0)
          ∧ r.2.mem ((c.tc : Thread Cert.InADx2Ideal.nD Cert.InADx2Ideal.τ).loc Cert.InADx2Ideal.main_arg1) = m ((c.tc : Thread Cert.InADx2Ideal.nD Cert.InADx2Ideal.τ).loc Cert.InADx2Ideal.main_arg1))
      ∧ θ_run (Cert.InADx2RefIdeal.defs (F := Ideal)) (onTc (τ := Cert.InADx2RefIdeal.τ) (Cert.InADx2RefIdeal.main (F := Ideal))) ⟨m', fun _ => 0, g'⟩ (fun r => ∀ c : Dev Cert.InADx2RefIdeal.nD,
          r.2.mem ((c.tc : Thread Cert.InADx2RefIdeal.nD Cert.InADx2RefIdeal.τ).loc Cert.InADx2RefIdeal.main_v6) = v0 c
          ∧ r.2.mem ((c.tc : Thread Cert.InADx2RefIdeal.nD Cert.InADx2RefIdeal.τ).loc Cert.InADx2RefIdeal.main_arg0) = m' ((c.tc : Thread Cert.InADx2RefIdeal.nD Cert.InADx2RefIdeal.τ).loc Cert.InADx2RefIdeal.main_arg0)
          ∧ r.2.mem ((c.tc : Thread Cert.InADx2RefIdeal.nD Cert.InADx2RefIdeal.τ).loc Cert.InADx2RefIdeal.main_arg1) = m' ((c.tc : Thread Cert.InADx2RefIdeal.nD Cert.InADx2RefIdeal.τ).loc Cert.InADx2RefIdeal.main_arg1))

def preserves_InA0_InA0Ideal : Prop :=
  True

def algebraic_InA0Ideal_InA0RefIdeal [hInA0Ideal : Cert.InA0Ideal.Facts] [hInA0RefIdeal : Cert.InA0RefIdeal.Facts] : Prop :=
  ∀ (m : (ℓ : Loc Cert.InA0Ideal.nD Cert.InA0Ideal.τ Cert.InA0Ideal.sig) → Buf (Elt Ideal) ℓ) (g : Dev Cert.InA0Ideal.nD → PrngReg)
    (m' : (ℓ : Loc Cert.InA0RefIdeal.nD Cert.InA0RefIdeal.τ Cert.InA0RefIdeal.sig) → Buf (Elt Ideal) ℓ) (g' : Dev Cert.InA0RefIdeal.nD → PrngReg), Pre_InA0Ideal m →
    (∀ c : Dev Cert.InA0Ideal.nD,
      m' ((c.tc : Thread Cert.InA0RefIdeal.nD Cert.InA0RefIdeal.τ).loc Cert.InA0RefIdeal.main_arg0) = m ((c.tc : Thread Cert.InA0Ideal.nD Cert.InA0Ideal.τ).loc Cert.InA0Ideal.main_arg0)
      ∧ m' ((c.tc : Thread Cert.InA0RefIdeal.nD Cert.InA0RefIdeal.τ).loc Cert.InA0RefIdeal.main_arg1) = m ((c.tc : Thread Cert.InA0Ideal.nD Cert.InA0Ideal.τ).loc Cert.InA0Ideal.main_arg1)) →
    ∃ (v0 : (c : Dev Cert.InA0Ideal.nD) → Buf (Elt Ideal) ((c.tc : Thread Cert.InA0Ideal.nD Cert.InA0Ideal.τ).loc Cert.InA0Ideal.main_v3)),
      θ_run (Cert.InA0Ideal.defs (F := Ideal)) (onTc (τ := Cert.InA0Ideal.τ) (Cert.InA0Ideal.main (F := Ideal))) ⟨m, fun _ => 0, g⟩ (fun r => ∀ c : Dev Cert.InA0Ideal.nD,
          r.2.mem ((c.tc : Thread Cert.InA0Ideal.nD Cert.InA0Ideal.τ).loc Cert.InA0Ideal.main_v3) = v0 c
          ∧ r.2.mem ((c.tc : Thread Cert.InA0Ideal.nD Cert.InA0Ideal.τ).loc Cert.InA0Ideal.main_arg0) = m ((c.tc : Thread Cert.InA0Ideal.nD Cert.InA0Ideal.τ).loc Cert.InA0Ideal.main_arg0)
          ∧ r.2.mem ((c.tc : Thread Cert.InA0Ideal.nD Cert.InA0Ideal.τ).loc Cert.InA0Ideal.main_arg1) = m ((c.tc : Thread Cert.InA0Ideal.nD Cert.InA0Ideal.τ).loc Cert.InA0Ideal.main_arg1))
      ∧ θ_run (Cert.InA0RefIdeal.defs (F := Ideal)) (onTc (τ := Cert.InA0RefIdeal.τ) (Cert.InA0RefIdeal.main (F := Ideal))) ⟨m', fun _ => 0, g'⟩ (fun r => ∀ c : Dev Cert.InA0RefIdeal.nD,
          r.2.mem ((c.tc : Thread Cert.InA0RefIdeal.nD Cert.InA0RefIdeal.τ).loc Cert.InA0RefIdeal.main_v4) = v0 c
          ∧ r.2.mem ((c.tc : Thread Cert.InA0RefIdeal.nD Cert.InA0RefIdeal.τ).loc Cert.InA0RefIdeal.main_arg0) = m' ((c.tc : Thread Cert.InA0RefIdeal.nD Cert.InA0RefIdeal.τ).loc Cert.InA0RefIdeal.main_arg0)
          ∧ r.2.mem ((c.tc : Thread Cert.InA0RefIdeal.nD Cert.InA0RefIdeal.τ).loc Cert.InA0RefIdeal.main_arg1) = m' ((c.tc : Thread Cert.InA0RefIdeal.nD Cert.InA0RefIdeal.τ).loc Cert.InA0RefIdeal.main_arg1))

def preserves_InA1_InA1Ideal : Prop :=
  True

def algebraic_InA1Ideal_InA1RefIdeal [hInA1Ideal : Cert.InA1Ideal.Facts] [hInA1RefIdeal : Cert.InA1RefIdeal.Facts] : Prop :=
  ∀ (m : (ℓ : Loc Cert.InA1Ideal.nD Cert.InA1Ideal.τ Cert.InA1Ideal.sig) → Buf (Elt Ideal) ℓ) (g : Dev Cert.InA1Ideal.nD → PrngReg)
    (m' : (ℓ : Loc Cert.InA1RefIdeal.nD Cert.InA1RefIdeal.τ Cert.InA1RefIdeal.sig) → Buf (Elt Ideal) ℓ) (g' : Dev Cert.InA1RefIdeal.nD → PrngReg), Pre_InA1Ideal m →
    (∀ c : Dev Cert.InA1Ideal.nD,
      m' ((c.tc : Thread Cert.InA1RefIdeal.nD Cert.InA1RefIdeal.τ).loc Cert.InA1RefIdeal.main_arg0) = m ((c.tc : Thread Cert.InA1Ideal.nD Cert.InA1Ideal.τ).loc Cert.InA1Ideal.main_arg0)
      ∧ m' ((c.tc : Thread Cert.InA1RefIdeal.nD Cert.InA1RefIdeal.τ).loc Cert.InA1RefIdeal.main_arg1) = m ((c.tc : Thread Cert.InA1Ideal.nD Cert.InA1Ideal.τ).loc Cert.InA1Ideal.main_arg1)) →
    ∃ (v0 : (c : Dev Cert.InA1Ideal.nD) → Buf (Elt Ideal) ((c.tc : Thread Cert.InA1Ideal.nD Cert.InA1Ideal.τ).loc Cert.InA1Ideal.main_v3)),
      θ_run (Cert.InA1Ideal.defs (F := Ideal)) (onTc (τ := Cert.InA1Ideal.τ) (Cert.InA1Ideal.main (F := Ideal))) ⟨m, fun _ => 0, g⟩ (fun r => ∀ c : Dev Cert.InA1Ideal.nD,
          r.2.mem ((c.tc : Thread Cert.InA1Ideal.nD Cert.InA1Ideal.τ).loc Cert.InA1Ideal.main_v3) = v0 c
          ∧ r.2.mem ((c.tc : Thread Cert.InA1Ideal.nD Cert.InA1Ideal.τ).loc Cert.InA1Ideal.main_arg0) = m ((c.tc : Thread Cert.InA1Ideal.nD Cert.InA1Ideal.τ).loc Cert.InA1Ideal.main_arg0)
          ∧ r.2.mem ((c.tc : Thread Cert.InA1Ideal.nD Cert.InA1Ideal.τ).loc Cert.InA1Ideal.main_arg1) = m ((c.tc : Thread Cert.InA1Ideal.nD Cert.InA1Ideal.τ).loc Cert.InA1Ideal.main_arg1))
      ∧ θ_run (Cert.InA1RefIdeal.defs (F := Ideal)) (onTc (τ := Cert.InA1RefIdeal.τ) (Cert.InA1RefIdeal.main (F := Ideal))) ⟨m', fun _ => 0, g'⟩ (fun r => ∀ c : Dev Cert.InA1RefIdeal.nD,
          r.2.mem ((c.tc : Thread Cert.InA1RefIdeal.nD Cert.InA1RefIdeal.τ).loc Cert.InA1RefIdeal.main_v6) = v0 c
          ∧ r.2.mem ((c.tc : Thread Cert.InA1RefIdeal.nD Cert.InA1RefIdeal.τ).loc Cert.InA1RefIdeal.main_arg0) = m' ((c.tc : Thread Cert.InA1RefIdeal.nD Cert.InA1RefIdeal.τ).loc Cert.InA1RefIdeal.main_arg0)
          ∧ r.2.mem ((c.tc : Thread Cert.InA1RefIdeal.nD Cert.InA1RefIdeal.τ).loc Cert.InA1RefIdeal.main_arg1) = m' ((c.tc : Thread Cert.InA1RefIdeal.nD Cert.InA1RefIdeal.τ).loc Cert.InA1RefIdeal.main_arg1))

def preserves_InA2_InA2Ideal : Prop :=
  True

def algebraic_InA2Ideal_InA2RefIdeal [hInA2Ideal : Cert.InA2Ideal.Facts] [hInA2RefIdeal : Cert.InA2RefIdeal.Facts] : Prop :=
  ∀ (m : (ℓ : Loc Cert.InA2Ideal.nD Cert.InA2Ideal.τ Cert.InA2Ideal.sig) → Buf (Elt Ideal) ℓ) (g : Dev Cert.InA2Ideal.nD → PrngReg)
    (m' : (ℓ : Loc Cert.InA2RefIdeal.nD Cert.InA2RefIdeal.τ Cert.InA2RefIdeal.sig) → Buf (Elt Ideal) ℓ) (g' : Dev Cert.InA2RefIdeal.nD → PrngReg), Pre_InA2Ideal m →
    (∀ c : Dev Cert.InA2Ideal.nD,
      m' ((c.tc : Thread Cert.InA2RefIdeal.nD Cert.InA2RefIdeal.τ).loc Cert.InA2RefIdeal.main_arg0) = m ((c.tc : Thread Cert.InA2Ideal.nD Cert.InA2Ideal.τ).loc Cert.InA2Ideal.main_arg0)
      ∧ m' ((c.tc : Thread Cert.InA2RefIdeal.nD Cert.InA2RefIdeal.τ).loc Cert.InA2RefIdeal.main_arg1) = m ((c.tc : Thread Cert.InA2Ideal.nD Cert.InA2Ideal.τ).loc Cert.InA2Ideal.main_arg1)) →
    ∃ (v0 : (c : Dev Cert.InA2Ideal.nD) → Buf (Elt Ideal) ((c.tc : Thread Cert.InA2Ideal.nD Cert.InA2Ideal.τ).loc Cert.InA2Ideal.main_v3)),
      θ_run (Cert.InA2Ideal.defs (F := Ideal)) (onTc (τ := Cert.InA2Ideal.τ) (Cert.InA2Ideal.main (F := Ideal))) ⟨m, fun _ => 0, g⟩ (fun r => ∀ c : Dev Cert.InA2Ideal.nD,
          r.2.mem ((c.tc : Thread Cert.InA2Ideal.nD Cert.InA2Ideal.τ).loc Cert.InA2Ideal.main_v3) = v0 c
          ∧ r.2.mem ((c.tc : Thread Cert.InA2Ideal.nD Cert.InA2Ideal.τ).loc Cert.InA2Ideal.main_arg0) = m ((c.tc : Thread Cert.InA2Ideal.nD Cert.InA2Ideal.τ).loc Cert.InA2Ideal.main_arg0)
          ∧ r.2.mem ((c.tc : Thread Cert.InA2Ideal.nD Cert.InA2Ideal.τ).loc Cert.InA2Ideal.main_arg1) = m ((c.tc : Thread Cert.InA2Ideal.nD Cert.InA2Ideal.τ).loc Cert.InA2Ideal.main_arg1))
      ∧ θ_run (Cert.InA2RefIdeal.defs (F := Ideal)) (onTc (τ := Cert.InA2RefIdeal.τ) (Cert.InA2RefIdeal.main (F := Ideal))) ⟨m', fun _ => 0, g'⟩ (fun r => ∀ c : Dev Cert.InA2RefIdeal.nD,
          r.2.mem ((c.tc : Thread Cert.InA2RefIdeal.nD Cert.InA2RefIdeal.τ).loc Cert.InA2RefIdeal.main_v6) = v0 c
          ∧ r.2.mem ((c.tc : Thread Cert.InA2RefIdeal.nD Cert.InA2RefIdeal.τ).loc Cert.InA2RefIdeal.main_arg0) = m' ((c.tc : Thread Cert.InA2RefIdeal.nD Cert.InA2RefIdeal.τ).loc Cert.InA2RefIdeal.main_arg0)
          ∧ r.2.mem ((c.tc : Thread Cert.InA2RefIdeal.nD Cert.InA2RefIdeal.τ).loc Cert.InA2RefIdeal.main_arg1) = m' ((c.tc : Thread Cert.InA2RefIdeal.nD Cert.InA2RefIdeal.τ).loc Cert.InA2RefIdeal.main_arg1))

def preserves_Up0_Up0Ideal : Prop :=
  True

def algebraic_Up0Ideal_Up0RefIdeal [hUp0Ideal : Cert.Up0Ideal.Facts] [hUp0RefIdeal : Cert.Up0RefIdeal.Facts] : Prop :=
  ∀ (m : (ℓ : Loc Cert.Up0Ideal.nD Cert.Up0Ideal.τ Cert.Up0Ideal.sig) → Buf (Elt Ideal) ℓ) (g : Dev Cert.Up0Ideal.nD → PrngReg)
    (m' : (ℓ : Loc Cert.Up0RefIdeal.nD Cert.Up0RefIdeal.τ Cert.Up0RefIdeal.sig) → Buf (Elt Ideal) ℓ) (g' : Dev Cert.Up0RefIdeal.nD → PrngReg), Pre_Up0Ideal m →
    (∀ c : Dev Cert.Up0Ideal.nD,
      m' ((c.tc : Thread Cert.Up0RefIdeal.nD Cert.Up0RefIdeal.τ).loc Cert.Up0RefIdeal.main_arg0) = m ((c.tc : Thread Cert.Up0Ideal.nD Cert.Up0Ideal.τ).loc Cert.Up0Ideal.main_arg0)
      ∧ m' ((c.tc : Thread Cert.Up0RefIdeal.nD Cert.Up0RefIdeal.τ).loc Cert.Up0RefIdeal.main_arg1) = m ((c.tc : Thread Cert.Up0Ideal.nD Cert.Up0Ideal.τ).loc Cert.Up0Ideal.main_arg1)) →
    ∃ (v0 : (c : Dev Cert.Up0Ideal.nD) → Buf (Elt Ideal) ((c.tc : Thread Cert.Up0Ideal.nD Cert.Up0Ideal.τ).loc Cert.Up0Ideal.main_v3)),
      θ_run (Cert.Up0Ideal.defs (F := Ideal)) (onTc (τ := Cert.Up0Ideal.τ) (Cert.Up0Ideal.main (F := Ideal))) ⟨m, fun _ => 0, g⟩ (fun r => ∀ c : Dev Cert.Up0Ideal.nD,
          r.2.mem ((c.tc : Thread Cert.Up0Ideal.nD Cert.Up0Ideal.τ).loc Cert.Up0Ideal.main_v3) = v0 c
          ∧ r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
          ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1))
      ∧ θ_run (Cert.Up0RefIdeal.defs (F := Ideal)) (onTc (τ := Cert.Up0RefIdeal.τ) (Cert.Up0RefIdeal.main (F := Ideal))) ⟨m', fun _ => 0, g'⟩ (fun r => ∀ c : Dev Cert.Up0RefIdeal.nD,
          r.2.mem ((c.tc : Thread Cert.Up0RefIdeal.nD Cert.Up0RefIdeal.τ).loc Cert.Up0RefIdeal.main_v3) = v0 c
          ∧ r.2.mem ((c.tc : Thread Cert.Up0RefIdeal.nD Cert.Up0RefIdeal.τ).loc Cert.Up0RefIdeal.main_arg0) = m' ((c.tc : Thread Cert.Up0RefIdeal.nD Cert.Up0RefIdeal.τ).loc Cert.Up0RefIdeal.main_arg0)
          ∧ r.2.mem ((c.tc : Thread Cert.Up0RefIdeal.nD Cert.Up0RefIdeal.τ).loc Cert.Up0RefIdeal.main_arg1) = m' ((c.tc : Thread Cert.Up0RefIdeal.nD Cert.Up0RefIdeal.τ).loc Cert.Up0RefIdeal.main_arg1))

def preserves_Down0_Down0Ideal : Prop :=
  True

def algebraic_Down0Ideal_Down0RefIdeal [hDown0Ideal : Cert.Down0Ideal.Facts] [hDown0RefIdeal : Cert.Down0RefIdeal.Facts] : Prop :=
  ∀ (m : (ℓ : Loc Cert.Down0Ideal.nD Cert.Down0Ideal.τ Cert.Down0Ideal.sig) → Buf (Elt Ideal) ℓ) (g : Dev Cert.Down0Ideal.nD → PrngReg)
    (m' : (ℓ : Loc Cert.Down0RefIdeal.nD Cert.Down0RefIdeal.τ Cert.Down0RefIdeal.sig) → Buf (Elt Ideal) ℓ) (g' : Dev Cert.Down0RefIdeal.nD → PrngReg), Pre_Down0Ideal m →
    (∀ c : Dev Cert.Down0Ideal.nD,
      m' ((c.tc : Thread Cert.Down0RefIdeal.nD Cert.Down0RefIdeal.τ).loc Cert.Down0RefIdeal.main_arg0) = m ((c.tc : Thread Cert.Down0Ideal.nD Cert.Down0Ideal.τ).loc Cert.Down0Ideal.main_arg0)
      ∧ m' ((c.tc : Thread Cert.Down0RefIdeal.nD Cert.Down0RefIdeal.τ).loc Cert.Down0RefIdeal.main_arg1) = m ((c.tc : Thread Cert.Down0Ideal.nD Cert.Down0Ideal.τ).loc Cert.Down0Ideal.main_arg1)) →
    ∃ (v0 : (c : Dev Cert.Down0Ideal.nD) → Buf (Elt Ideal) ((c.tc : Thread Cert.Down0Ideal.nD Cert.Down0Ideal.τ).loc Cert.Down0Ideal.main_v2)),
      θ_run (Cert.Down0Ideal.defs (F := Ideal)) (onTc (τ := Cert.Down0Ideal.τ) (Cert.Down0Ideal.main (F := Ideal))) ⟨m, fun _ => 0, g⟩ (fun r => ∀ c : Dev Cert.Down0Ideal.nD,
          r.2.mem ((c.tc : Thread Cert.Down0Ideal.nD Cert.Down0Ideal.τ).loc Cert.Down0Ideal.main_v2) = v0 c
          ∧ r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
          ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1))
      ∧ θ_run (Cert.Down0RefIdeal.defs (F := Ideal)) (onTc (τ := Cert.Down0RefIdeal.τ) (Cert.Down0RefIdeal.main (F := Ideal))) ⟨m', fun _ => 0, g'⟩ (fun r => ∀ c : Dev Cert.Down0RefIdeal.nD,
          r.2.mem ((c.tc : Thread Cert.Down0RefIdeal.nD Cert.Down0RefIdeal.τ).loc Cert.Down0RefIdeal.main_v3) = v0 c
          ∧ r.2.mem ((c.tc : Thread Cert.Down0RefIdeal.nD Cert.Down0RefIdeal.τ).loc Cert.Down0RefIdeal.main_arg0) = m' ((c.tc : Thread Cert.Down0RefIdeal.nD Cert.Down0RefIdeal.τ).loc Cert.Down0RefIdeal.main_arg0)
          ∧ r.2.mem ((c.tc : Thread Cert.Down0RefIdeal.nD Cert.Down0RefIdeal.τ).loc Cert.Down0RefIdeal.main_arg1) = m' ((c.tc : Thread Cert.Down0RefIdeal.nD Cert.Down0RefIdeal.τ).loc Cert.Down0RefIdeal.main_arg1))

def preserves_Up1_Up1Ideal : Prop :=
  True

def algebraic_Up1Ideal_Up1RefIdeal [hUp1Ideal : Cert.Up1Ideal.Facts] [hUp1RefIdeal : Cert.Up1RefIdeal.Facts] : Prop :=
  ∀ (m : (ℓ : Loc Cert.Up1Ideal.nD Cert.Up1Ideal.τ Cert.Up1Ideal.sig) → Buf (Elt Ideal) ℓ) (g : Dev Cert.Up1Ideal.nD → PrngReg)
    (m' : (ℓ : Loc Cert.Up1RefIdeal.nD Cert.Up1RefIdeal.τ Cert.Up1RefIdeal.sig) → Buf (Elt Ideal) ℓ) (g' : Dev Cert.Up1RefIdeal.nD → PrngReg), Pre_Up1Ideal m →
    (∀ c : Dev Cert.Up1Ideal.nD,
      m' ((c.tc : Thread Cert.Up1RefIdeal.nD Cert.Up1RefIdeal.τ).loc Cert.Up1RefIdeal.main_arg0) = m ((c.tc : Thread Cert.Up1Ideal.nD Cert.Up1Ideal.τ).loc Cert.Up1Ideal.main_arg0)
      ∧ m' ((c.tc : Thread Cert.Up1RefIdeal.nD Cert.Up1RefIdeal.τ).loc Cert.Up1RefIdeal.main_arg1) = m ((c.tc : Thread Cert.Up1Ideal.nD Cert.Up1Ideal.τ).loc Cert.Up1Ideal.main_arg1)) →
    ∃ (v0 : (c : Dev Cert.Up1Ideal.nD) → Buf (Elt Ideal) ((c.tc : Thread Cert.Up1Ideal.nD Cert.Up1Ideal.τ).loc Cert.Up1Ideal.main_v3)),
      θ_run (Cert.Up1Ideal.defs (F := Ideal)) (onTc (τ := Cert.Up1Ideal.τ) (Cert.Up1Ideal.main (F := Ideal))) ⟨m, fun _ => 0, g⟩ (fun r => ∀ c : Dev Cert.Up1Ideal.nD,
          r.2.mem ((c.tc : Thread Cert.Up1Ideal.nD Cert.Up1Ideal.τ).loc Cert.Up1Ideal.main_v3) = v0 c
          ∧ r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
          ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1))
      ∧ θ_run (Cert.Up1RefIdeal.defs (F := Ideal)) (onTc (τ := Cert.Up1RefIdeal.τ) (Cert.Up1RefIdeal.main (F := Ideal))) ⟨m', fun _ => 0, g'⟩ (fun r => ∀ c : Dev Cert.Up1RefIdeal.nD,
          r.2.mem ((c.tc : Thread Cert.Up1RefIdeal.nD Cert.Up1RefIdeal.τ).loc Cert.Up1RefIdeal.main_v3) = v0 c
          ∧ r.2.mem ((c.tc : Thread Cert.Up1RefIdeal.nD Cert.Up1RefIdeal.τ).loc Cert.Up1RefIdeal.main_arg0) = m' ((c.tc : Thread Cert.Up1RefIdeal.nD Cert.Up1RefIdeal.τ).loc Cert.Up1RefIdeal.main_arg0)
          ∧ r.2.mem ((c.tc : Thread Cert.Up1RefIdeal.nD Cert.Up1RefIdeal.τ).loc Cert.Up1RefIdeal.main_arg1) = m' ((c.tc : Thread Cert.Up1RefIdeal.nD Cert.Up1RefIdeal.τ).loc Cert.Up1RefIdeal.main_arg1))

def preserves_Down1_Down1Ideal : Prop :=
  True

def algebraic_Down1Ideal_Down1RefIdeal [hDown1Ideal : Cert.Down1Ideal.Facts] [hDown1RefIdeal : Cert.Down1RefIdeal.Facts] : Prop :=
  ∀ (m : (ℓ : Loc Cert.Down1Ideal.nD Cert.Down1Ideal.τ Cert.Down1Ideal.sig) → Buf (Elt Ideal) ℓ) (g : Dev Cert.Down1Ideal.nD → PrngReg)
    (m' : (ℓ : Loc Cert.Down1RefIdeal.nD Cert.Down1RefIdeal.τ Cert.Down1RefIdeal.sig) → Buf (Elt Ideal) ℓ) (g' : Dev Cert.Down1RefIdeal.nD → PrngReg), Pre_Down1Ideal m →
    (∀ c : Dev Cert.Down1Ideal.nD,
      m' ((c.tc : Thread Cert.Down1RefIdeal.nD Cert.Down1RefIdeal.τ).loc Cert.Down1RefIdeal.main_arg0) = m ((c.tc : Thread Cert.Down1Ideal.nD Cert.Down1Ideal.τ).loc Cert.Down1Ideal.main_arg0)
      ∧ m' ((c.tc : Thread Cert.Down1RefIdeal.nD Cert.Down1RefIdeal.τ).loc Cert.Down1RefIdeal.main_arg1) = m ((c.tc : Thread Cert.Down1Ideal.nD Cert.Down1Ideal.τ).loc Cert.Down1Ideal.main_arg1)) →
    ∃ (v0 : (c : Dev Cert.Down1Ideal.nD) → Buf (Elt Ideal) ((c.tc : Thread Cert.Down1Ideal.nD Cert.Down1Ideal.τ).loc Cert.Down1Ideal.main_v2)),
      θ_run (Cert.Down1Ideal.defs (F := Ideal)) (onTc (τ := Cert.Down1Ideal.τ) (Cert.Down1Ideal.main (F := Ideal))) ⟨m, fun _ => 0, g⟩ (fun r => ∀ c : Dev Cert.Down1Ideal.nD,
          r.2.mem ((c.tc : Thread Cert.Down1Ideal.nD Cert.Down1Ideal.τ).loc Cert.Down1Ideal.main_v2) = v0 c
          ∧ r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
          ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1))
      ∧ θ_run (Cert.Down1RefIdeal.defs (F := Ideal)) (onTc (τ := Cert.Down1RefIdeal.τ) (Cert.Down1RefIdeal.main (F := Ideal))) ⟨m', fun _ => 0, g'⟩ (fun r => ∀ c : Dev Cert.Down1RefIdeal.nD,
          r.2.mem ((c.tc : Thread Cert.Down1RefIdeal.nD Cert.Down1RefIdeal.τ).loc Cert.Down1RefIdeal.main_v3) = v0 c
          ∧ r.2.mem ((c.tc : Thread Cert.Down1RefIdeal.nD Cert.Down1RefIdeal.τ).loc Cert.Down1RefIdeal.main_arg0) = m' ((c.tc : Thread Cert.Down1RefIdeal.nD Cert.Down1RefIdeal.τ).loc Cert.Down1RefIdeal.main_arg0)
          ∧ r.2.mem ((c.tc : Thread Cert.Down1RefIdeal.nD Cert.Down1RefIdeal.τ).loc Cert.Down1RefIdeal.main_arg1) = m' ((c.tc : Thread Cert.Down1RefIdeal.nD Cert.Down1RefIdeal.τ).loc Cert.Down1RefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v7)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v7) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v7) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)) →
    ∃ (v0 : (c : Dev Cert.OutAIdeal.nD) → Buf (Elt Ideal) ((c.tc : Thread Cert.OutAIdeal.nD Cert.OutAIdeal.τ).loc Cert.OutAIdeal.main_v2)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v2) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v1) = v0 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1))

def preserves_OutB_OutBIdeal : Prop :=
  True

def algebraic_OutBIdeal_OutBRefIdeal [hOutBIdeal : Cert.OutBIdeal.Facts] [hOutBRefIdeal : Cert.OutBRefIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBRefIdeal.nD Cert.OutBRefIdeal.τ Cert.OutBRefIdeal.sig) → Buf (Elt Ideal) ℓ) (g' : Dev Cert.OutBRefIdeal.nD → PrngReg), Pre_OutBIdeal m →
    (∀ c : Dev Cert.OutBIdeal.nD,
      m' ((c.tc : Thread Cert.OutBRefIdeal.nD Cert.OutBRefIdeal.τ).loc Cert.OutBRefIdeal.main_arg0) = m ((c.tc : Thread Cert.OutBIdeal.nD Cert.OutBIdeal.τ).loc Cert.OutBIdeal.main_arg0)
      ∧ m' ((c.tc : Thread Cert.OutBRefIdeal.nD Cert.OutBRefIdeal.τ).loc Cert.OutBRefIdeal.main_arg1) = m ((c.tc : Thread Cert.OutBIdeal.nD Cert.OutBIdeal.τ).loc Cert.OutBIdeal.main_arg1)) →
    ∃ (v0 : (c : Dev Cert.OutBIdeal.nD) → Buf (Elt Ideal) ((c.tc : Thread Cert.OutBIdeal.nD Cert.OutBIdeal.τ).loc Cert.OutBIdeal.main_v2)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v2) = v0 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1))
      ∧ θ_run (Cert.OutBRefIdeal.defs (F := Ideal)) (onTc (τ := Cert.OutBRefIdeal.τ) (Cert.OutBRefIdeal.main (F := Ideal))) ⟨m', fun _ => 0, g'⟩ (fun r => ∀ c : Dev Cert.OutBRefIdeal.nD,
          r.2.mem ((c.tc : Thread Cert.OutBRefIdeal.nD Cert.OutBRefIdeal.τ).loc Cert.OutBRefIdeal.main_v2) = v0 c
          ∧ r.2.mem ((c.tc : Thread Cert.OutBRefIdeal.nD Cert.OutBRefIdeal.τ).loc Cert.OutBRefIdeal.main_arg0) = m' ((c.tc : Thread Cert.OutBRefIdeal.nD Cert.OutBRefIdeal.τ).loc Cert.OutBRefIdeal.main_arg0)
          ∧ r.2.mem ((c.tc : Thread Cert.OutBRefIdeal.nD Cert.OutBRefIdeal.τ).loc Cert.OutBRefIdeal.main_arg1) = m' ((c.tc : Thread Cert.OutBRefIdeal.nD Cert.OutBRefIdeal.τ).loc Cert.OutBRefIdeal.main_arg1))

def preserves_DownDw1_DownDw1Ideal : Prop :=
  True

def algebraic_DownDw1Ideal_DownDw1RefIdeal [hDownDw1Ideal : Cert.DownDw1Ideal.Facts] [hDownDw1RefIdeal : Cert.DownDw1RefIdeal.Facts] : Prop :=
  ∀ (m : (ℓ : Loc Cert.DownDw1Ideal.nD Cert.DownDw1Ideal.τ Cert.DownDw1Ideal.sig) → Buf (Elt Ideal) ℓ) (g : Dev Cert.DownDw1Ideal.nD → PrngReg)
    (m' : (ℓ : Loc Cert.DownDw1RefIdeal.nD Cert.DownDw1RefIdeal.τ Cert.DownDw1RefIdeal.sig) → Buf (Elt Ideal) ℓ) (g' : Dev Cert.DownDw1RefIdeal.nD → PrngReg), Pre_DownDw1Ideal m →
    (∀ c : Dev Cert.DownDw1Ideal.nD,
      m' ((c.tc : Thread Cert.DownDw1RefIdeal.nD Cert.DownDw1RefIdeal.τ).loc Cert.DownDw1RefIdeal.main_arg0) = m ((c.tc : Thread Cert.DownDw1Ideal.nD Cert.DownDw1Ideal.τ).loc Cert.DownDw1Ideal.main_arg0)
      ∧ m' ((c.tc : Thread Cert.DownDw1RefIdeal.nD Cert.DownDw1RefIdeal.τ).loc Cert.DownDw1RefIdeal.main_arg1) = m ((c.tc : Thread Cert.DownDw1Ideal.nD Cert.DownDw1Ideal.τ).loc Cert.DownDw1Ideal.main_arg1)) →
    ∃ (v0 : (c : Dev Cert.DownDw1Ideal.nD) → Buf (Elt Ideal) ((c.tc : Thread Cert.DownDw1Ideal.nD Cert.DownDw1Ideal.τ).loc Cert.DownDw1Ideal.main_v1)),
      θ_run (Cert.DownDw1Ideal.defs (F := Ideal)) (onTc (τ := Cert.DownDw1Ideal.τ) (Cert.DownDw1Ideal.main (F := Ideal))) ⟨m, fun _ => 0, g⟩ (fun r => ∀ c : Dev Cert.DownDw1Ideal.nD,
          r.2.mem ((c.tc : Thread Cert.DownDw1Ideal.nD Cert.DownDw1Ideal.τ).loc Cert.DownDw1Ideal.main_v1) = v0 c
          ∧ r.2.mem ((c.tc : Thread Cert.DownDw1Ideal.nD Cert.DownDw1Ideal.τ).loc Cert.DownDw1Ideal.main_arg0) = m ((c.tc : Thread Cert.DownDw1Ideal.nD Cert.DownDw1Ideal.τ).loc Cert.DownDw1Ideal.main_arg0)
          ∧ r.2.mem ((c.tc : Thread Cert.DownDw1Ideal.nD Cert.DownDw1Ideal.τ).loc Cert.DownDw1Ideal.main_arg1) = m ((c.tc : Thread Cert.DownDw1Ideal.nD Cert.DownDw1Ideal.τ).loc Cert.DownDw1Ideal.main_arg1))
      ∧ θ_run (Cert.DownDw1RefIdeal.defs (F := Ideal)) (onTc (τ := Cert.DownDw1RefIdeal.τ) (Cert.DownDw1RefIdeal.main (F := Ideal))) ⟨m', fun _ => 0, g'⟩ (fun r => ∀ c : Dev Cert.DownDw1RefIdeal.nD,
          r.2.mem ((c.tc : Thread Cert.DownDw1RefIdeal.nD Cert.DownDw1RefIdeal.τ).loc Cert.DownDw1RefIdeal.main_v3) = v0 c
          ∧ r.2.mem ((c.tc : Thread Cert.DownDw1RefIdeal.nD Cert.DownDw1RefIdeal.τ).loc Cert.DownDw1RefIdeal.main_arg0) = m' ((c.tc : Thread Cert.DownDw1RefIdeal.nD Cert.DownDw1RefIdeal.τ).loc Cert.DownDw1RefIdeal.main_arg0)
          ∧ r.2.mem ((c.tc : Thread Cert.DownDw1RefIdeal.nD Cert.DownDw1RefIdeal.τ).loc Cert.DownDw1RefIdeal.main_arg1) = m' ((c.tc : Thread Cert.DownDw1RefIdeal.nD Cert.DownDw1RefIdeal.τ).loc Cert.DownDw1RefIdeal.main_arg1))

def preserves_DownDw0_DownDw0Ideal : Prop :=
  True

def algebraic_DownDw0Ideal_DownDw0RefIdeal [hDownDw0Ideal : Cert.DownDw0Ideal.Facts] [hDownDw0RefIdeal : Cert.DownDw0RefIdeal.Facts] : Prop :=
  ∀ (m : (ℓ : Loc Cert.DownDw0Ideal.nD Cert.DownDw0Ideal.τ Cert.DownDw0Ideal.sig) → Buf (Elt Ideal) ℓ) (g : Dev Cert.DownDw0Ideal.nD → PrngReg)
    (m' : (ℓ : Loc Cert.DownDw0RefIdeal.nD Cert.DownDw0RefIdeal.τ Cert.DownDw0RefIdeal.sig) → Buf (Elt Ideal) ℓ) (g' : Dev Cert.DownDw0RefIdeal.nD → PrngReg), Pre_DownDw0Ideal m →
    (∀ c : Dev Cert.DownDw0Ideal.nD,
      m' ((c.tc : Thread Cert.DownDw0RefIdeal.nD Cert.DownDw0RefIdeal.τ).loc Cert.DownDw0RefIdeal.main_arg0) = m ((c.tc : Thread Cert.DownDw0Ideal.nD Cert.DownDw0Ideal.τ).loc Cert.DownDw0Ideal.main_arg0)
      ∧ m' ((c.tc : Thread Cert.DownDw0RefIdeal.nD Cert.DownDw0RefIdeal.τ).loc Cert.DownDw0RefIdeal.main_arg1) = m ((c.tc : Thread Cert.DownDw0Ideal.nD Cert.DownDw0Ideal.τ).loc Cert.DownDw0Ideal.main_arg1)
      ∧ m' ((c.tc : Thread Cert.DownDw0RefIdeal.nD Cert.DownDw0RefIdeal.τ).loc Cert.DownDw0RefIdeal.main_arg2) = m ((c.tc : Thread Cert.DownDw0Ideal.nD Cert.DownDw0Ideal.τ).loc Cert.DownDw0Ideal.main_arg2)) →
    ∃ (v0 : (c : Dev Cert.DownDw0Ideal.nD) → Buf (Elt Ideal) ((c.tc : Thread Cert.DownDw0Ideal.nD Cert.DownDw0Ideal.τ).loc Cert.DownDw0Ideal.main_v0)),
      θ_run (Cert.DownDw0Ideal.defs (F := Ideal)) (onTc (τ := Cert.DownDw0Ideal.τ) (Cert.DownDw0Ideal.main (F := Ideal))) ⟨m, fun _ => 0, g⟩ (fun r => ∀ c : Dev Cert.DownDw0Ideal.nD,
          r.2.mem ((c.tc : Thread Cert.DownDw0Ideal.nD Cert.DownDw0Ideal.τ).loc Cert.DownDw0Ideal.main_v0) = v0 c
          ∧ r.2.mem ((c.tc : Thread Cert.DownDw0Ideal.nD Cert.DownDw0Ideal.τ).loc Cert.DownDw0Ideal.main_arg0) = m ((c.tc : Thread Cert.DownDw0Ideal.nD Cert.DownDw0Ideal.τ).loc Cert.DownDw0Ideal.main_arg0)
          ∧ r.2.mem ((c.tc : Thread Cert.DownDw0Ideal.nD Cert.DownDw0Ideal.τ).loc Cert.DownDw0Ideal.main_arg1) = m ((c.tc : Thread Cert.DownDw0Ideal.nD Cert.DownDw0Ideal.τ).loc Cert.DownDw0Ideal.main_arg1)
          ∧ r.2.mem ((c.tc : Thread Cert.DownDw0Ideal.nD Cert.DownDw0Ideal.τ).loc Cert.DownDw0Ideal.main_arg2) = m ((c.tc : Thread Cert.DownDw0Ideal.nD Cert.DownDw0Ideal.τ).loc Cert.DownDw0Ideal.main_arg2))
      ∧ θ_run (Cert.DownDw0RefIdeal.defs (F := Ideal)) (onTc (τ := Cert.DownDw0RefIdeal.τ) (Cert.DownDw0RefIdeal.main (F := Ideal))) ⟨m', fun _ => 0, g'⟩ (fun r => ∀ c : Dev Cert.DownDw0RefIdeal.nD,
          r.2.mem ((c.tc : Thread Cert.DownDw0RefIdeal.nD Cert.DownDw0RefIdeal.τ).loc Cert.DownDw0RefIdeal.main_v5) = v0 c
          ∧ r.2.mem ((c.tc : Thread Cert.DownDw0RefIdeal.nD Cert.DownDw0RefIdeal.τ).loc Cert.DownDw0RefIdeal.main_arg0) = m' ((c.tc : Thread Cert.DownDw0RefIdeal.nD Cert.DownDw0RefIdeal.τ).loc Cert.DownDw0RefIdeal.main_arg0)
          ∧ r.2.mem ((c.tc : Thread Cert.DownDw0RefIdeal.nD Cert.DownDw0RefIdeal.τ).loc Cert.DownDw0RefIdeal.main_arg1) = m' ((c.tc : Thread Cert.DownDw0RefIdeal.nD Cert.DownDw0RefIdeal.τ).loc Cert.DownDw0RefIdeal.main_arg1)
          ∧ r.2.mem ((c.tc : Thread Cert.DownDw0RefIdeal.nD Cert.DownDw0RefIdeal.τ).loc Cert.DownDw0RefIdeal.main_arg2) = m' ((c.tc : Thread Cert.DownDw0RefIdeal.nD Cert.DownDw0RefIdeal.τ).loc Cert.DownDw0RefIdeal.main_arg2))

def preserves_UpDw1b_UpDw1bIdeal : Prop :=
  True

def algebraic_UpDw1bIdeal_UpDw1bRefIdeal [hUpDw1bIdeal : Cert.UpDw1bIdeal.Facts] [hUpDw1bRefIdeal : Cert.UpDw1bRefIdeal.Facts] : Prop :=
  ∀ (m : (ℓ : Loc Cert.UpDw1bIdeal.nD Cert.UpDw1bIdeal.τ Cert.UpDw1bIdeal.sig) → Buf (Elt Ideal) ℓ) (g : Dev Cert.UpDw1bIdeal.nD → PrngReg)
    (m' : (ℓ : Loc Cert.UpDw1bRefIdeal.nD Cert.UpDw1bRefIdeal.τ Cert.UpDw1bRefIdeal.sig) → Buf (Elt Ideal) ℓ) (g' : Dev Cert.UpDw1bRefIdeal.nD → PrngReg), Pre_UpDw1bIdeal m →
    (∀ c : Dev Cert.UpDw1bIdeal.nD,
      m' ((c.tc : Thread Cert.UpDw1bRefIdeal.nD Cert.UpDw1bRefIdeal.τ).loc Cert.UpDw1bRefIdeal.main_arg0) = m ((c.tc : Thread Cert.UpDw1bIdeal.nD Cert.UpDw1bIdeal.τ).loc Cert.UpDw1bIdeal.main_arg0)
      ∧ m' ((c.tc : Thread Cert.UpDw1bRefIdeal.nD Cert.UpDw1bRefIdeal.τ).loc Cert.UpDw1bRefIdeal.main_arg1) = m ((c.tc : Thread Cert.UpDw1bIdeal.nD Cert.UpDw1bIdeal.τ).loc Cert.UpDw1bIdeal.main_arg1)
      ∧ m' ((c.tc : Thread Cert.UpDw1bRefIdeal.nD Cert.UpDw1bRefIdeal.τ).loc Cert.UpDw1bRefIdeal.main_arg2) = m ((c.tc : Thread Cert.UpDw1bIdeal.nD Cert.UpDw1bIdeal.τ).loc Cert.UpDw1bIdeal.main_arg2)) →
    ∃ (v0 : (c : Dev Cert.UpDw1bIdeal.nD) → Buf (Elt Ideal) ((c.tc : Thread Cert.UpDw1bIdeal.nD Cert.UpDw1bIdeal.τ).loc Cert.UpDw1bIdeal.main_v0)),
      θ_run (Cert.UpDw1bIdeal.defs (F := Ideal)) (onTc (τ := Cert.UpDw1bIdeal.τ) (Cert.UpDw1bIdeal.main (F := Ideal))) ⟨m, fun _ => 0, g⟩ (fun r => ∀ c : Dev Cert.UpDw1bIdeal.nD,
          r.2.mem ((c.tc : Thread Cert.UpDw1bIdeal.nD Cert.UpDw1bIdeal.τ).loc Cert.UpDw1bIdeal.main_v0) = v0 c
          ∧ r.2.mem ((c.tc : Thread Cert.UpDw1bIdeal.nD Cert.UpDw1bIdeal.τ).loc Cert.UpDw1bIdeal.main_arg0) = m ((c.tc : Thread Cert.UpDw1bIdeal.nD Cert.UpDw1bIdeal.τ).loc Cert.UpDw1bIdeal.main_arg0)
          ∧ r.2.mem ((c.tc : Thread Cert.UpDw1bIdeal.nD Cert.UpDw1bIdeal.τ).loc Cert.UpDw1bIdeal.main_arg1) = m ((c.tc : Thread Cert.UpDw1bIdeal.nD Cert.UpDw1bIdeal.τ).loc Cert.UpDw1bIdeal.main_arg1)
          ∧ r.2.mem ((c.tc : Thread Cert.UpDw1bIdeal.nD Cert.UpDw1bIdeal.τ).loc Cert.UpDw1bIdeal.main_arg2) = m ((c.tc : Thread Cert.UpDw1bIdeal.nD Cert.UpDw1bIdeal.τ).loc Cert.UpDw1bIdeal.main_arg2))
      ∧ θ_run (Cert.UpDw1bRefIdeal.defs (F := Ideal)) (onTc (τ := Cert.UpDw1bRefIdeal.τ) (Cert.UpDw1bRefIdeal.main (F := Ideal))) ⟨m', fun _ => 0, g'⟩ (fun r => ∀ c : Dev Cert.UpDw1bRefIdeal.nD,
          r.2.mem ((c.tc : Thread Cert.UpDw1bRefIdeal.nD Cert.UpDw1bRefIdeal.τ).loc Cert.UpDw1bRefIdeal.main_v15) = v0 c
          ∧ r.2.mem ((c.tc : Thread Cert.UpDw1bRefIdeal.nD Cert.UpDw1bRefIdeal.τ).loc Cert.UpDw1bRefIdeal.main_arg0) = m' ((c.tc : Thread Cert.UpDw1bRefIdeal.nD Cert.UpDw1bRefIdeal.τ).loc Cert.UpDw1bRefIdeal.main_arg0)
          ∧ r.2.mem ((c.tc : Thread Cert.UpDw1bRefIdeal.nD Cert.UpDw1bRefIdeal.τ).loc Cert.UpDw1bRefIdeal.main_arg1) = m' ((c.tc : Thread Cert.UpDw1bRefIdeal.nD Cert.UpDw1bRefIdeal.τ).loc Cert.UpDw1bRefIdeal.main_arg1)
          ∧ r.2.mem ((c.tc : Thread Cert.UpDw1bRefIdeal.nD Cert.UpDw1bRefIdeal.τ).loc Cert.UpDw1bRefIdeal.main_arg2) = m' ((c.tc : Thread Cert.UpDw1bRefIdeal.nD Cert.UpDw1bRefIdeal.τ).loc Cert.UpDw1bRefIdeal.main_arg2))

def preserves_UpDw0a_UpDw0aIdeal : Prop :=
  True

def algebraic_UpDw0aIdeal_UpDw0aRefIdeal [hUpDw0aIdeal : Cert.UpDw0aIdeal.Facts] [hUpDw0aRefIdeal : Cert.UpDw0aRefIdeal.Facts] : Prop :=
  ∀ (m : (ℓ : Loc Cert.UpDw0aIdeal.nD Cert.UpDw0aIdeal.τ Cert.UpDw0aIdeal.sig) → Buf (Elt Ideal) ℓ) (g : Dev Cert.UpDw0aIdeal.nD → PrngReg)
    (m' : (ℓ : Loc Cert.UpDw0aRefIdeal.nD Cert.UpDw0aRefIdeal.τ Cert.UpDw0aRefIdeal.sig) → Buf (Elt Ideal) ℓ) (g' : Dev Cert.UpDw0aRefIdeal.nD → PrngReg), Pre_UpDw0aIdeal m →
    (∀ c : Dev Cert.UpDw0aIdeal.nD,
      m' ((c.tc : Thread Cert.UpDw0aRefIdeal.nD Cert.UpDw0aRefIdeal.τ).loc Cert.UpDw0aRefIdeal.main_arg0) = m ((c.tc : Thread Cert.UpDw0aIdeal.nD Cert.UpDw0aIdeal.τ).loc Cert.UpDw0aIdeal.main_arg0)
      ∧ m' ((c.tc : Thread Cert.UpDw0aRefIdeal.nD Cert.UpDw0aRefIdeal.τ).loc Cert.UpDw0aRefIdeal.main_arg1) = m ((c.tc : Thread Cert.UpDw0aIdeal.nD Cert.UpDw0aIdeal.τ).loc Cert.UpDw0aIdeal.main_arg1)
      ∧ m' ((c.tc : Thread Cert.UpDw0aRefIdeal.nD Cert.UpDw0aRefIdeal.τ).loc Cert.UpDw0aRefIdeal.main_arg2) = m ((c.tc : Thread Cert.UpDw0aIdeal.nD Cert.UpDw0aIdeal.τ).loc Cert.UpDw0aIdeal.main_arg2)) →
    ∃ (v0 : (c : Dev Cert.UpDw0aIdeal.nD) → Buf (Elt Ideal) ((c.tc : Thread Cert.UpDw0aIdeal.nD Cert.UpDw0aIdeal.τ).loc Cert.UpDw0aIdeal.main_v0)),
      θ_run (Cert.UpDw0aIdeal.defs (F := Ideal)) (onTc (τ := Cert.UpDw0aIdeal.τ) (Cert.UpDw0aIdeal.main (F := Ideal))) ⟨m, fun _ => 0, g⟩ (fun r => ∀ c : Dev Cert.UpDw0aIdeal.nD,
          r.2.mem ((c.tc : Thread Cert.UpDw0aIdeal.nD Cert.UpDw0aIdeal.τ).loc Cert.UpDw0aIdeal.main_v0) = v0 c
          ∧ r.2.mem ((c.tc : Thread Cert.UpDw0aIdeal.nD Cert.UpDw0aIdeal.τ).loc Cert.UpDw0aIdeal.main_arg0) = m ((c.tc : Thread Cert.UpDw0aIdeal.nD Cert.UpDw0aIdeal.τ).loc Cert.UpDw0aIdeal.main_arg0)
          ∧ r.2.mem ((c.tc : Thread Cert.UpDw0aIdeal.nD Cert.UpDw0aIdeal.τ).loc Cert.UpDw0aIdeal.main_arg1) = m ((c.tc : Thread Cert.UpDw0aIdeal.nD Cert.UpDw0aIdeal.τ).loc Cert.UpDw0aIdeal.main_arg1)
          ∧ r.2.mem ((c.tc : Thread Cert.UpDw0aIdeal.nD Cert.UpDw0aIdeal.τ).loc Cert.UpDw0aIdeal.main_arg2) = m ((c.tc : Thread Cert.UpDw0aIdeal.nD Cert.UpDw0aIdeal.τ).loc Cert.UpDw0aIdeal.main_arg2))
      ∧ θ_run (Cert.UpDw0aRefIdeal.defs (F := Ideal)) (onTc (τ := Cert.UpDw0aRefIdeal.τ) (Cert.UpDw0aRefIdeal.main (F := Ideal))) ⟨m', fun _ => 0, g'⟩ (fun r => ∀ c : Dev Cert.UpDw0aRefIdeal.nD,
          r.2.mem ((c.tc : Thread Cert.UpDw0aRefIdeal.nD Cert.UpDw0aRefIdeal.τ).loc Cert.UpDw0aRefIdeal.main_v15) = v0 c
          ∧ r.2.mem ((c.tc : Thread Cert.UpDw0aRefIdeal.nD Cert.UpDw0aRefIdeal.τ).loc Cert.UpDw0aRefIdeal.main_arg0) = m' ((c.tc : Thread Cert.UpDw0aRefIdeal.nD Cert.UpDw0aRefIdeal.τ).loc Cert.UpDw0aRefIdeal.main_arg0)
          ∧ r.2.mem ((c.tc : Thread Cert.UpDw0aRefIdeal.nD Cert.UpDw0aRefIdeal.τ).loc Cert.UpDw0aRefIdeal.main_arg1) = m' ((c.tc : Thread Cert.UpDw0aRefIdeal.nD Cert.UpDw0aRefIdeal.τ).loc Cert.UpDw0aRefIdeal.main_arg1)
          ∧ r.2.mem ((c.tc : Thread Cert.UpDw0aRefIdeal.nD Cert.UpDw0aRefIdeal.τ).loc Cert.UpDw0aRefIdeal.main_arg2) = m' ((c.tc : Thread Cert.UpDw0aRefIdeal.nD Cert.UpDw0aRefIdeal.τ).loc Cert.UpDw0aRefIdeal.main_arg2))

def preserves_UpDw0b_UpDw0bIdeal : Prop :=
  True

def algebraic_UpDw0bIdeal_UpDw0bRefIdeal [hUpDw0bIdeal : Cert.UpDw0bIdeal.Facts] [hUpDw0bRefIdeal : Cert.UpDw0bRefIdeal.Facts] : Prop :=
  ∀ (m : (ℓ : Loc Cert.UpDw0bIdeal.nD Cert.UpDw0bIdeal.τ Cert.UpDw0bIdeal.sig) → Buf (Elt Ideal) ℓ) (g : Dev Cert.UpDw0bIdeal.nD → PrngReg)
    (m' : (ℓ : Loc Cert.UpDw0bRefIdeal.nD Cert.UpDw0bRefIdeal.τ Cert.UpDw0bRefIdeal.sig) → Buf (Elt Ideal) ℓ) (g' : Dev Cert.UpDw0bRefIdeal.nD → PrngReg), Pre_UpDw0bIdeal m →
    (∀ c : Dev Cert.UpDw0bIdeal.nD,
      m' ((c.tc : Thread Cert.UpDw0bRefIdeal.nD Cert.UpDw0bRefIdeal.τ).loc Cert.UpDw0bRefIdeal.main_arg0) = m ((c.tc : Thread Cert.UpDw0bIdeal.nD Cert.UpDw0bIdeal.τ).loc Cert.UpDw0bIdeal.main_arg0)
      ∧ m' ((c.tc : Thread Cert.UpDw0bRefIdeal.nD Cert.UpDw0bRefIdeal.τ).loc Cert.UpDw0bRefIdeal.main_arg1) = m ((c.tc : Thread Cert.UpDw0bIdeal.nD Cert.UpDw0bIdeal.τ).loc Cert.UpDw0bIdeal.main_arg1)
      ∧ m' ((c.tc : Thread Cert.UpDw0bRefIdeal.nD Cert.UpDw0bRefIdeal.τ).loc Cert.UpDw0bRefIdeal.main_arg2) = m ((c.tc : Thread Cert.UpDw0bIdeal.nD Cert.UpDw0bIdeal.τ).loc Cert.UpDw0bIdeal.main_arg2)) →
    ∃ (v0 : (c : Dev Cert.UpDw0bIdeal.nD) → Buf (Elt Ideal) ((c.tc : Thread Cert.UpDw0bIdeal.nD Cert.UpDw0bIdeal.τ).loc Cert.UpDw0bIdeal.main_v0)),
      θ_run (Cert.UpDw0bIdeal.defs (F := Ideal)) (onTc (τ := Cert.UpDw0bIdeal.τ) (Cert.UpDw0bIdeal.main (F := Ideal))) ⟨m, fun _ => 0, g⟩ (fun r => ∀ c : Dev Cert.UpDw0bIdeal.nD,
          r.2.mem ((c.tc : Thread Cert.UpDw0bIdeal.nD Cert.UpDw0bIdeal.τ).loc Cert.UpDw0bIdeal.main_v0) = v0 c
          ∧ r.2.mem ((c.tc : Thread Cert.UpDw0bIdeal.nD Cert.UpDw0bIdeal.τ).loc Cert.UpDw0bIdeal.main_arg0) = m ((c.tc : Thread Cert.UpDw0bIdeal.nD Cert.UpDw0bIdeal.τ).loc Cert.UpDw0bIdeal.main_arg0)
          ∧ r.2.mem ((c.tc : Thread Cert.UpDw0bIdeal.nD Cert.UpDw0bIdeal.τ).loc Cert.UpDw0bIdeal.main_arg1) = m ((c.tc : Thread Cert.UpDw0bIdeal.nD Cert.UpDw0bIdeal.τ).loc Cert.UpDw0bIdeal.main_arg1)
          ∧ r.2.mem ((c.tc : Thread Cert.UpDw0bIdeal.nD Cert.UpDw0bIdeal.τ).loc Cert.UpDw0bIdeal.main_arg2) = m ((c.tc : Thread Cert.UpDw0bIdeal.nD Cert.UpDw0bIdeal.τ).loc Cert.UpDw0bIdeal.main_arg2))
      ∧ θ_run (Cert.UpDw0bRefIdeal.defs (F := Ideal)) (onTc (τ := Cert.UpDw0bRefIdeal.τ) (Cert.UpDw0bRefIdeal.main (F := Ideal))) ⟨m', fun _ => 0, g'⟩ (fun r => ∀ c : Dev Cert.UpDw0bRefIdeal.nD,
          r.2.mem ((c.tc : Thread Cert.UpDw0bRefIdeal.nD Cert.UpDw0bRefIdeal.τ).loc Cert.UpDw0bRefIdeal.main_v15) = v0 c
          ∧ r.2.mem ((c.tc : Thread Cert.UpDw0bRefIdeal.nD Cert.UpDw0bRefIdeal.τ).loc Cert.UpDw0bRefIdeal.main_arg0) = m' ((c.tc : Thread Cert.UpDw0bRefIdeal.nD Cert.UpDw0bRefIdeal.τ).loc Cert.UpDw0bRefIdeal.main_arg0)
          ∧ r.2.mem ((c.tc : Thread Cert.UpDw0bRefIdeal.nD Cert.UpDw0bRefIdeal.τ).loc Cert.UpDw0bRefIdeal.main_arg1) = m' ((c.tc : Thread Cert.UpDw0bRefIdeal.nD Cert.UpDw0bRefIdeal.τ).loc Cert.UpDw0bRefIdeal.main_arg1)
          ∧ r.2.mem ((c.tc : Thread Cert.UpDw0bRefIdeal.nD Cert.UpDw0bRefIdeal.τ).loc Cert.UpDw0bRefIdeal.main_arg2) = m' ((c.tc : Thread Cert.UpDw0bRefIdeal.nD Cert.UpDw0bRefIdeal.τ).loc Cert.UpDw0bRefIdeal.main_arg2))

def preserves_InADw1_InADw1Ideal : Prop :=
  True

def algebraic_InADw1Ideal_InADw1RefIdeal [hInADw1Ideal : Cert.InADw1Ideal.Facts] [hInADw1RefIdeal : Cert.InADw1RefIdeal.Facts] : Prop :=
  ∀ (m : (ℓ : Loc Cert.InADw1Ideal.nD Cert.InADw1Ideal.τ Cert.InADw1Ideal.sig) → Buf (Elt Ideal) ℓ) (g : Dev Cert.InADw1Ideal.nD → PrngReg)
    (m' : (ℓ : Loc Cert.InADw1RefIdeal.nD Cert.InADw1RefIdeal.τ Cert.InADw1RefIdeal.sig) → Buf (Elt Ideal) ℓ) (g' : Dev Cert.InADw1RefIdeal.nD → PrngReg), Pre_InADw1Ideal m →
    (∀ c : Dev Cert.InADw1Ideal.nD,
      m' ((c.tc : Thread Cert.InADw1RefIdeal.nD Cert.InADw1RefIdeal.τ).loc Cert.InADw1RefIdeal.main_arg0) = m ((c.tc : Thread Cert.InADw1Ideal.nD Cert.InADw1Ideal.τ).loc Cert.InADw1Ideal.main_arg0)
      ∧ m' ((c.tc : Thread Cert.InADw1RefIdeal.nD Cert.InADw1RefIdeal.τ).loc Cert.InADw1RefIdeal.main_arg1) = m ((c.tc : Thread Cert.InADw1Ideal.nD Cert.InADw1Ideal.τ).loc Cert.InADw1Ideal.main_arg1)
      ∧ m' ((c.tc : Thread Cert.InADw1RefIdeal.nD Cert.InADw1RefIdeal.τ).loc Cert.InADw1RefIdeal.main_arg2) = m ((c.tc : Thread Cert.InADw1Ideal.nD Cert.InADw1Ideal.τ).loc Cert.InADw1Ideal.main_arg2)) →
    ∃ (v0 : (c : Dev Cert.InADw1Ideal.nD) → Buf (Elt Ideal) ((c.tc : Thread Cert.InADw1Ideal.nD Cert.InADw1Ideal.τ).loc Cert.InADw1Ideal.main_v0)),
      θ_run (Cert.InADw1Ideal.defs (F := Ideal)) (onTc (τ := Cert.InADw1Ideal.τ) (Cert.InADw1Ideal.main (F := Ideal))) ⟨m, fun _ => 0, g⟩ (fun r => ∀ c : Dev Cert.InADw1Ideal.nD,
          r.2.mem ((c.tc : Thread Cert.InADw1Ideal.nD Cert.InADw1Ideal.τ).loc Cert.InADw1Ideal.main_v0) = v0 c
          ∧ r.2.mem ((c.tc : Thread Cert.InADw1Ideal.nD Cert.InADw1Ideal.τ).loc Cert.InADw1Ideal.main_arg0) = m ((c.tc : Thread Cert.InADw1Ideal.nD Cert.InADw1Ideal.τ).loc Cert.InADw1Ideal.main_arg0)
          ∧ r.2.mem ((c.tc : Thread Cert.InADw1Ideal.nD Cert.InADw1Ideal.τ).loc Cert.InADw1Ideal.main_arg1) = m ((c.tc : Thread Cert.InADw1Ideal.nD Cert.InADw1Ideal.τ).loc Cert.InADw1Ideal.main_arg1)
          ∧ r.2.mem ((c.tc : Thread Cert.InADw1Ideal.nD Cert.InADw1Ideal.τ).loc Cert.InADw1Ideal.main_arg2) = m ((c.tc : Thread Cert.InADw1Ideal.nD Cert.InADw1Ideal.τ).loc Cert.InADw1Ideal.main_arg2))
      ∧ θ_run (Cert.InADw1RefIdeal.defs (F := Ideal)) (onTc (τ := Cert.InADw1RefIdeal.τ) (Cert.InADw1RefIdeal.main (F := Ideal))) ⟨m', fun _ => 0, g'⟩ (fun r => ∀ c : Dev Cert.InADw1RefIdeal.nD,
          r.2.mem ((c.tc : Thread Cert.InADw1RefIdeal.nD Cert.InADw1RefIdeal.τ).loc Cert.InADw1RefIdeal.main_v12) = v0 c
          ∧ r.2.mem ((c.tc : Thread Cert.InADw1RefIdeal.nD Cert.InADw1RefIdeal.τ).loc Cert.InADw1RefIdeal.main_arg0) = m' ((c.tc : Thread Cert.InADw1RefIdeal.nD Cert.InADw1RefIdeal.τ).loc Cert.InADw1RefIdeal.main_arg0)
          ∧ r.2.mem ((c.tc : Thread Cert.InADw1RefIdeal.nD Cert.InADw1RefIdeal.τ).loc Cert.InADw1RefIdeal.main_arg1) = m' ((c.tc : Thread Cert.InADw1RefIdeal.nD Cert.InADw1RefIdeal.τ).loc Cert.InADw1RefIdeal.main_arg1)
          ∧ r.2.mem ((c.tc : Thread Cert.InADw1RefIdeal.nD Cert.InADw1RefIdeal.τ).loc Cert.InADw1RefIdeal.main_arg2) = m' ((c.tc : Thread Cert.InADw1RefIdeal.nD Cert.InADw1RefIdeal.τ).loc Cert.InADw1RefIdeal.main_arg2))

def preserves_InADw2_InADw2Ideal : Prop :=
  True

def algebraic_InADw2Ideal_InADw2RefIdeal [hInADw2Ideal : Cert.InADw2Ideal.Facts] [hInADw2RefIdeal : Cert.InADw2RefIdeal.Facts] : Prop :=
  ∀ (m : (ℓ : Loc Cert.InADw2Ideal.nD Cert.InADw2Ideal.τ Cert.InADw2Ideal.sig) → Buf (Elt Ideal) ℓ) (g : Dev Cert.InADw2Ideal.nD → PrngReg)
    (m' : (ℓ : Loc Cert.InADw2RefIdeal.nD Cert.InADw2RefIdeal.τ Cert.InADw2RefIdeal.sig) → Buf (Elt Ideal) ℓ) (g' : Dev Cert.InADw2RefIdeal.nD → PrngReg), Pre_InADw2Ideal m →
    (∀ c : Dev Cert.InADw2Ideal.nD,
      m' ((c.tc : Thread Cert.InADw2RefIdeal.nD Cert.InADw2RefIdeal.τ).loc Cert.InADw2RefIdeal.main_arg0) = m ((c.tc : Thread Cert.InADw2Ideal.nD Cert.InADw2Ideal.τ).loc Cert.InADw2Ideal.main_arg0)
      ∧ m' ((c.tc : Thread Cert.InADw2RefIdeal.nD Cert.InADw2RefIdeal.τ).loc Cert.InADw2RefIdeal.main_arg1) = m ((c.tc : Thread Cert.InADw2Ideal.nD Cert.InADw2Ideal.τ).loc Cert.InADw2Ideal.main_arg1)
      ∧ m' ((c.tc : Thread Cert.InADw2RefIdeal.nD Cert.InADw2RefIdeal.τ).loc Cert.InADw2RefIdeal.main_arg2) = m ((c.tc : Thread Cert.InADw2Ideal.nD Cert.InADw2Ideal.τ).loc Cert.InADw2Ideal.main_arg2)) →
    ∃ (v0 : (c : Dev Cert.InADw2Ideal.nD) → Buf (Elt Ideal) ((c.tc : Thread Cert.InADw2Ideal.nD Cert.InADw2Ideal.τ).loc Cert.InADw2Ideal.main_v0)),
      θ_run (Cert.InADw2Ideal.defs (F := Ideal)) (onTc (τ := Cert.InADw2Ideal.τ) (Cert.InADw2Ideal.main (F := Ideal))) ⟨m, fun _ => 0, g⟩ (fun r => ∀ c : Dev Cert.InADw2Ideal.nD,
          r.2.mem ((c.tc : Thread Cert.InADw2Ideal.nD Cert.InADw2Ideal.τ).loc Cert.InADw2Ideal.main_v0) = v0 c
          ∧ r.2.mem ((c.tc : Thread Cert.InADw2Ideal.nD Cert.InADw2Ideal.τ).loc Cert.InADw2Ideal.main_arg0) = m ((c.tc : Thread Cert.InADw2Ideal.nD Cert.InADw2Ideal.τ).loc Cert.InADw2Ideal.main_arg0)
          ∧ r.2.mem ((c.tc : Thread Cert.InADw2Ideal.nD Cert.InADw2Ideal.τ).loc Cert.InADw2Ideal.main_arg1) = m ((c.tc : Thread Cert.InADw2Ideal.nD Cert.InADw2Ideal.τ).loc Cert.InADw2Ideal.main_arg1)
          ∧ r.2.mem ((c.tc : Thread Cert.InADw2Ideal.nD Cert.InADw2Ideal.τ).loc Cert.InADw2Ideal.main_arg2) = m ((c.tc : Thread Cert.InADw2Ideal.nD Cert.InADw2Ideal.τ).loc Cert.InADw2Ideal.main_arg2))
      ∧ θ_run (Cert.InADw2RefIdeal.defs (F := Ideal)) (onTc (τ := Cert.InADw2RefIdeal.τ) (Cert.InADw2RefIdeal.main (F := Ideal))) ⟨m', fun _ => 0, g'⟩ (fun r => ∀ c : Dev Cert.InADw2RefIdeal.nD,
          r.2.mem ((c.tc : Thread Cert.InADw2RefIdeal.nD Cert.InADw2RefIdeal.τ).loc Cert.InADw2RefIdeal.main_v12) = v0 c
          ∧ r.2.mem ((c.tc : Thread Cert.InADw2RefIdeal.nD Cert.InADw2RefIdeal.τ).loc Cert.InADw2RefIdeal.main_arg0) = m' ((c.tc : Thread Cert.InADw2RefIdeal.nD Cert.InADw2RefIdeal.τ).loc Cert.InADw2RefIdeal.main_arg0)
          ∧ r.2.mem ((c.tc : Thread Cert.InADw2RefIdeal.nD Cert.InADw2RefIdeal.τ).loc Cert.InADw2RefIdeal.main_arg1) = m' ((c.tc : Thread Cert.InADw2RefIdeal.nD Cert.InADw2RefIdeal.τ).loc Cert.InADw2RefIdeal.main_arg1)
          ∧ r.2.mem ((c.tc : Thread Cert.InADw2RefIdeal.nD Cert.InADw2RefIdeal.τ).loc Cert.InADw2RefIdeal.main_arg2) = m' ((c.tc : Thread Cert.InADw2RefIdeal.nD Cert.InADw2RefIdeal.τ).loc Cert.InADw2RefIdeal.main_arg2))

def preserves_UpDw1a_UpDw1aIdeal : Prop :=
  True

def algebraic_UpDw1aIdeal_UpDw1aRefIdeal [hUpDw1aIdeal : Cert.UpDw1aIdeal.Facts] [hUpDw1aRefIdeal : Cert.UpDw1aRefIdeal.Facts] : Prop :=
  ∀ (m : (ℓ : Loc Cert.UpDw1aIdeal.nD Cert.UpDw1aIdeal.τ Cert.UpDw1aIdeal.sig) → Buf (Elt Ideal) ℓ) (g : Dev Cert.UpDw1aIdeal.nD → PrngReg)
    (m' : (ℓ : Loc Cert.UpDw1aRefIdeal.nD Cert.UpDw1aRefIdeal.τ Cert.UpDw1aRefIdeal.sig) → Buf (Elt Ideal) ℓ) (g' : Dev Cert.UpDw1aRefIdeal.nD → PrngReg), Pre_UpDw1aIdeal m →
    (∀ c : Dev Cert.UpDw1aIdeal.nD,
      m' ((c.tc : Thread Cert.UpDw1aRefIdeal.nD Cert.UpDw1aRefIdeal.τ).loc Cert.UpDw1aRefIdeal.main_arg0) = m ((c.tc : Thread Cert.UpDw1aIdeal.nD Cert.UpDw1aIdeal.τ).loc Cert.UpDw1aIdeal.main_arg0)
      ∧ m' ((c.tc : Thread Cert.UpDw1aRefIdeal.nD Cert.UpDw1aRefIdeal.τ).loc Cert.UpDw1aRefIdeal.main_arg1) = m ((c.tc : Thread Cert.UpDw1aIdeal.nD Cert.UpDw1aIdeal.τ).loc Cert.UpDw1aIdeal.main_arg1)) →
    ∃ (v0 : (c : Dev Cert.UpDw1aIdeal.nD) → Buf (Elt Ideal) ((c.tc : Thread Cert.UpDw1aIdeal.nD Cert.UpDw1aIdeal.τ).loc Cert.UpDw1aIdeal.main_v1)),
      θ_run (Cert.UpDw1aIdeal.defs (F := Ideal)) (onTc (τ := Cert.UpDw1aIdeal.τ) (Cert.UpDw1aIdeal.main (F := Ideal))) ⟨m, fun _ => 0, g⟩ (fun r => ∀ c : Dev Cert.UpDw1aIdeal.nD,
          r.2.mem ((c.tc : Thread Cert.UpDw1aIdeal.nD Cert.UpDw1aIdeal.τ).loc Cert.UpDw1aIdeal.main_v1) = v0 c
          ∧ r.2.mem ((c.tc : Thread Cert.UpDw1aIdeal.nD Cert.UpDw1aIdeal.τ).loc Cert.UpDw1aIdeal.main_arg0) = m ((c.tc : Thread Cert.UpDw1aIdeal.nD Cert.UpDw1aIdeal.τ).loc Cert.UpDw1aIdeal.main_arg0)
          ∧ r.2.mem ((c.tc : Thread Cert.UpDw1aIdeal.nD Cert.UpDw1aIdeal.τ).loc Cert.UpDw1aIdeal.main_arg1) = m ((c.tc : Thread Cert.UpDw1aIdeal.nD Cert.UpDw1aIdeal.τ).loc Cert.UpDw1aIdeal.main_arg1))
      ∧ θ_run (Cert.UpDw1aRefIdeal.defs (F := Ideal)) (onTc (τ := Cert.UpDw1aRefIdeal.τ) (Cert.UpDw1aRefIdeal.main (F := Ideal))) ⟨m', fun _ => 0, g'⟩ (fun r => ∀ c : Dev Cert.UpDw1aRefIdeal.nD,
          r.2.mem ((c.tc : Thread Cert.UpDw1aRefIdeal.nD Cert.UpDw1aRefIdeal.τ).loc Cert.UpDw1aRefIdeal.main_v5) = v0 c
          ∧ r.2.mem ((c.tc : Thread Cert.UpDw1aRefIdeal.nD Cert.UpDw1aRefIdeal.τ).loc Cert.UpDw1aRefIdeal.main_arg0) = m' ((c.tc : Thread Cert.UpDw1aRefIdeal.nD Cert.UpDw1aRefIdeal.τ).loc Cert.UpDw1aRefIdeal.main_arg0)
          ∧ r.2.mem ((c.tc : Thread Cert.UpDw1aRefIdeal.nD Cert.UpDw1aRefIdeal.τ).loc Cert.UpDw1aRefIdeal.main_arg1) = m' ((c.tc : Thread Cert.UpDw1aRefIdeal.nD Cert.UpDw1aRefIdeal.τ).loc Cert.UpDw1aRefIdeal.main_arg1))

def preserves_InADw0_InADw0Ideal : Prop :=
  True

def algebraic_InADw0Ideal_InADw0RefIdeal [hInADw0Ideal : Cert.InADw0Ideal.Facts] [hInADw0RefIdeal : Cert.InADw0RefIdeal.Facts] : Prop :=
  ∀ (m : (ℓ : Loc Cert.InADw0Ideal.nD Cert.InADw0Ideal.τ Cert.InADw0Ideal.sig) → Buf (Elt Ideal) ℓ) (g : Dev Cert.InADw0Ideal.nD → PrngReg)
    (m' : (ℓ : Loc Cert.InADw0RefIdeal.nD Cert.InADw0RefIdeal.τ Cert.InADw0RefIdeal.sig) → Buf (Elt Ideal) ℓ) (g' : Dev Cert.InADw0RefIdeal.nD → PrngReg), Pre_InADw0Ideal m →
    (∀ c : Dev Cert.InADw0Ideal.nD,
      m' ((c.tc : Thread Cert.InADw0RefIdeal.nD Cert.InADw0RefIdeal.τ).loc Cert.InADw0RefIdeal.main_arg0) = m ((c.tc : Thread Cert.InADw0Ideal.nD Cert.InADw0Ideal.τ).loc Cert.InADw0Ideal.main_arg0)
      ∧ m' ((c.tc : Thread Cert.InADw0RefIdeal.nD Cert.InADw0RefIdeal.τ).loc Cert.InADw0RefIdeal.main_arg1) = m ((c.tc : Thread Cert.InADw0Ideal.nD Cert.InADw0Ideal.τ).loc Cert.InADw0Ideal.main_arg1)) →
    ∃ (v0 : (c : Dev Cert.InADw0Ideal.nD) → Buf (Elt Ideal) ((c.tc : Thread Cert.InADw0Ideal.nD Cert.InADw0Ideal.τ).loc Cert.InADw0Ideal.main_v3)),
      θ_run (Cert.InADw0Ideal.defs (F := Ideal)) (onTc (τ := Cert.InADw0Ideal.τ) (Cert.InADw0Ideal.main (F := Ideal))) ⟨m, fun _ => 0, g⟩ (fun r => ∀ c : Dev Cert.InADw0Ideal.nD,
          r.2.mem ((c.tc : Thread Cert.InADw0Ideal.nD Cert.InADw0Ideal.τ).loc Cert.InADw0Ideal.main_v3) = v0 c
          ∧ r.2.mem ((c.tc : Thread Cert.InADw0Ideal.nD Cert.InADw0Ideal.τ).loc Cert.InADw0Ideal.main_arg0) = m ((c.tc : Thread Cert.InADw0Ideal.nD Cert.InADw0Ideal.τ).loc Cert.InADw0Ideal.main_arg0)
          ∧ r.2.mem ((c.tc : Thread Cert.InADw0Ideal.nD Cert.InADw0Ideal.τ).loc Cert.InADw0Ideal.main_arg1) = m ((c.tc : Thread Cert.InADw0Ideal.nD Cert.InADw0Ideal.τ).loc Cert.InADw0Ideal.main_arg1))
      ∧ θ_run (Cert.InADw0RefIdeal.defs (F := Ideal)) (onTc (τ := Cert.InADw0RefIdeal.τ) (Cert.InADw0RefIdeal.main (F := Ideal))) ⟨m', fun _ => 0, g'⟩ (fun r => ∀ c : Dev Cert.InADw0RefIdeal.nD,
          r.2.mem ((c.tc : Thread Cert.InADw0RefIdeal.nD Cert.InADw0RefIdeal.τ).loc Cert.InADw0RefIdeal.main_v3) = v0 c
          ∧ r.2.mem ((c.tc : Thread Cert.InADw0RefIdeal.nD Cert.InADw0RefIdeal.τ).loc Cert.InADw0RefIdeal.main_arg0) = m' ((c.tc : Thread Cert.InADw0RefIdeal.nD Cert.InADw0RefIdeal.τ).loc Cert.InADw0RefIdeal.main_arg0)
          ∧ r.2.mem ((c.tc : Thread Cert.InADw0RefIdeal.nD Cert.InADw0RefIdeal.τ).loc Cert.InADw0RefIdeal.main_arg1) = m' ((c.tc : Thread Cert.InADw0RefIdeal.nD Cert.InADw0RefIdeal.τ).loc Cert.InADw0RefIdeal.main_arg1))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v2) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v1)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v1) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v2) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_AdamInA_AdamInAIdeal : Prop :=
  True

def algebraic_AdamInAIdeal_AdamInARefIdeal [hAdamInAIdeal : Cert.AdamInAIdeal.Facts] [hAdamInARefIdeal : Cert.AdamInARefIdeal.Facts] : Prop :=
  ∀ (m : (ℓ : Loc Cert.AdamInAIdeal.nD Cert.AdamInAIdeal.τ Cert.AdamInAIdeal.sig) → Buf (Elt Ideal) ℓ) (g : Dev Cert.AdamInAIdeal.nD → PrngReg)
    (m' : (ℓ : Loc Cert.AdamInARefIdeal.nD Cert.AdamInARefIdeal.τ Cert.AdamInARefIdeal.sig) → Buf (Elt Ideal) ℓ) (g' : Dev Cert.AdamInARefIdeal.nD → PrngReg), Pre_AdamInAIdeal m →
    (∀ c : Dev Cert.AdamInAIdeal.nD,
      m' ((c.tc : Thread Cert.AdamInARefIdeal.nD Cert.AdamInARefIdeal.τ).loc Cert.AdamInARefIdeal.main_arg0) = m ((c.tc : Thread Cert.AdamInAIdeal.nD Cert.AdamInAIdeal.τ).loc Cert.AdamInAIdeal.main_arg0)
      ∧ m' ((c.tc : Thread Cert.AdamInARefIdeal.nD Cert.AdamInARefIdeal.τ).loc Cert.AdamInARefIdeal.main_arg1) = m ((c.tc : Thread Cert.AdamInAIdeal.nD Cert.AdamInAIdeal.τ).loc Cert.AdamInAIdeal.main_arg1)
      ∧ m' ((c.tc : Thread Cert.AdamInARefIdeal.nD Cert.AdamInARefIdeal.τ).loc Cert.AdamInARefIdeal.main_arg2) = m ((c.tc : Thread Cert.AdamInAIdeal.nD Cert.AdamInAIdeal.τ).loc Cert.AdamInAIdeal.main_arg2)
      ∧ m' ((c.tc : Thread Cert.AdamInARefIdeal.nD Cert.AdamInARefIdeal.τ).loc Cert.AdamInARefIdeal.main_arg3) = m ((c.tc : Thread Cert.AdamInAIdeal.nD Cert.AdamInAIdeal.τ).loc Cert.AdamInAIdeal.main_arg3)) →
    ∃ (v0 : (c : Dev Cert.AdamInAIdeal.nD) → Buf (Elt Ideal) ((c.tc : Thread Cert.AdamInAIdeal.nD Cert.AdamInAIdeal.τ).loc Cert.AdamInAIdeal.main_v0_0)) (v1 : (c : Dev Cert.AdamInAIdeal.nD) → Buf (Elt Ideal) ((c.tc : Thread Cert.AdamInAIdeal.nD Cert.AdamInAIdeal.τ).loc Cert.AdamInAIdeal.main_v0_1)) (v2 : (c : Dev Cert.AdamInAIdeal.nD) → Buf (Elt Ideal) ((c.tc : Thread Cert.AdamInAIdeal.nD Cert.AdamInAIdeal.τ).loc Cert.AdamInAIdeal.main_v0_2)),
      θ_run (Cert.AdamInAIdeal.defs (F := Ideal)) (onTc (τ := Cert.AdamInAIdeal.τ) (Cert.AdamInAIdeal.main (F := Ideal))) ⟨m, fun _ => 0, g⟩ (fun r => ∀ c : Dev Cert.AdamInAIdeal.nD,
          r.2.mem ((c.tc : Thread Cert.AdamInAIdeal.nD Cert.AdamInAIdeal.τ).loc Cert.AdamInAIdeal.main_v0_0) = v0 c
          ∧ r.2.mem ((c.tc : Thread Cert.AdamInAIdeal.nD Cert.AdamInAIdeal.τ).loc Cert.AdamInAIdeal.main_v0_1) = v1 c
          ∧ r.2.mem ((c.tc : Thread Cert.AdamInAIdeal.nD Cert.AdamInAIdeal.τ).loc Cert.AdamInAIdeal.main_v0_2) = v2 c
          ∧ r.2.mem ((c.tc : Thread Cert.AdamInAIdeal.nD Cert.AdamInAIdeal.τ).loc Cert.AdamInAIdeal.main_arg0) = m ((c.tc : Thread Cert.AdamInAIdeal.nD Cert.AdamInAIdeal.τ).loc Cert.AdamInAIdeal.main_arg0)
          ∧ r.2.mem ((c.tc : Thread Cert.AdamInAIdeal.nD Cert.AdamInAIdeal.τ).loc Cert.AdamInAIdeal.main_arg1) = m ((c.tc : Thread Cert.AdamInAIdeal.nD Cert.AdamInAIdeal.τ).loc Cert.AdamInAIdeal.main_arg1)
          ∧ r.2.mem ((c.tc : Thread Cert.AdamInAIdeal.nD Cert.AdamInAIdeal.τ).loc Cert.AdamInAIdeal.main_arg2) = m ((c.tc : Thread Cert.AdamInAIdeal.nD Cert.AdamInAIdeal.τ).loc Cert.AdamInAIdeal.main_arg2)
          ∧ r.2.mem ((c.tc : Thread Cert.AdamInAIdeal.nD Cert.AdamInAIdeal.τ).loc Cert.AdamInAIdeal.main_arg3) = m ((c.tc : Thread Cert.AdamInAIdeal.nD Cert.AdamInAIdeal.τ).loc Cert.AdamInAIdeal.main_arg3))
      ∧ θ_run (Cert.AdamInARefIdeal.defs (F := Ideal)) (onTc (τ := Cert.AdamInARefIdeal.τ) (Cert.AdamInARefIdeal.main (F := Ideal))) ⟨m', fun _ => 0, g'⟩ (fun r => ∀ c : Dev Cert.AdamInARefIdeal.nD,
          r.2.mem ((c.tc : Thread Cert.AdamInARefIdeal.nD Cert.AdamInARefIdeal.τ).loc Cert.AdamInARefIdeal.main_v23) = v0 c
          ∧ r.2.mem ((c.tc : Thread Cert.AdamInARefIdeal.nD Cert.AdamInARefIdeal.τ).loc Cert.AdamInARefIdeal.main_v4) = v1 c
          ∧ r.2.mem ((c.tc : Thread Cert.AdamInARefIdeal.nD Cert.AdamInARefIdeal.τ).loc Cert.AdamInARefIdeal.main_v10) = v2 c
          ∧ r.2.mem ((c.tc : Thread Cert.AdamInARefIdeal.nD Cert.AdamInARefIdeal.τ).loc Cert.AdamInARefIdeal.main_arg0) = m' ((c.tc : Thread Cert.AdamInARefIdeal.nD Cert.AdamInARefIdeal.τ).loc Cert.AdamInARefIdeal.main_arg0)
          ∧ r.2.mem ((c.tc : Thread Cert.AdamInARefIdeal.nD Cert.AdamInARefIdeal.τ).loc Cert.AdamInARefIdeal.main_arg1) = m' ((c.tc : Thread Cert.AdamInARefIdeal.nD Cert.AdamInARefIdeal.τ).loc Cert.AdamInARefIdeal.main_arg1)
          ∧ r.2.mem ((c.tc : Thread Cert.AdamInARefIdeal.nD Cert.AdamInARefIdeal.τ).loc Cert.AdamInARefIdeal.main_arg2) = m' ((c.tc : Thread Cert.AdamInARefIdeal.nD Cert.AdamInARefIdeal.τ).loc Cert.AdamInARefIdeal.main_arg2)
          ∧ r.2.mem ((c.tc : Thread Cert.AdamInARefIdeal.nD Cert.AdamInARefIdeal.τ).loc Cert.AdamInARefIdeal.main_arg3) = m' ((c.tc : Thread Cert.AdamInARefIdeal.nD Cert.AdamInARefIdeal.τ).loc Cert.AdamInARefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamInB_AdamInBIdeal : Prop :=
  True

def algebraic_AdamInBIdeal_AdamInBRefIdeal [hAdamInBIdeal : Cert.AdamInBIdeal.Facts] [hAdamInBRefIdeal : Cert.AdamInBRefIdeal.Facts] : Prop :=
  ∀ (m : (ℓ : Loc Cert.AdamInBIdeal.nD Cert.AdamInBIdeal.τ Cert.AdamInBIdeal.sig) → Buf (Elt Ideal) ℓ) (g : Dev Cert.AdamInBIdeal.nD → PrngReg)
    (m' : (ℓ : Loc Cert.AdamInBRefIdeal.nD Cert.AdamInBRefIdeal.τ Cert.AdamInBRefIdeal.sig) → Buf (Elt Ideal) ℓ) (g' : Dev Cert.AdamInBRefIdeal.nD → PrngReg), Pre_AdamInBIdeal m →
    (∀ c : Dev Cert.AdamInBIdeal.nD,
      m' ((c.tc : Thread Cert.AdamInBRefIdeal.nD Cert.AdamInBRefIdeal.τ).loc Cert.AdamInBRefIdeal.main_arg0) = m ((c.tc : Thread Cert.AdamInBIdeal.nD Cert.AdamInBIdeal.τ).loc Cert.AdamInBIdeal.main_arg0)
      ∧ m' ((c.tc : Thread Cert.AdamInBRefIdeal.nD Cert.AdamInBRefIdeal.τ).loc Cert.AdamInBRefIdeal.main_arg1) = m ((c.tc : Thread Cert.AdamInBIdeal.nD Cert.AdamInBIdeal.τ).loc Cert.AdamInBIdeal.main_arg1)
      ∧ m' ((c.tc : Thread Cert.AdamInBRefIdeal.nD Cert.AdamInBRefIdeal.τ).loc Cert.AdamInBRefIdeal.main_arg2) = m ((c.tc : Thread Cert.AdamInBIdeal.nD Cert.AdamInBIdeal.τ).loc Cert.AdamInBIdeal.main_arg2)
      ∧ m' ((c.tc : Thread Cert.AdamInBRefIdeal.nD Cert.AdamInBRefIdeal.τ).loc Cert.AdamInBRefIdeal.main_arg3) = m ((c.tc : Thread Cert.AdamInBIdeal.nD Cert.AdamInBIdeal.τ).loc Cert.AdamInBIdeal.main_arg3)) →
    ∃ (v0 : (c : Dev Cert.AdamInBIdeal.nD) → Buf (Elt Ideal) ((c.tc : Thread Cert.AdamInBIdeal.nD Cert.AdamInBIdeal.τ).loc Cert.AdamInBIdeal.main_v0_0)) (v1 : (c : Dev Cert.AdamInBIdeal.nD) → Buf (Elt Ideal) ((c.tc : Thread Cert.AdamInBIdeal.nD Cert.AdamInBIdeal.τ).loc Cert.AdamInBIdeal.main_v0_1)) (v2 : (c : Dev Cert.AdamInBIdeal.nD) → Buf (Elt Ideal) ((c.tc : Thread Cert.AdamInBIdeal.nD Cert.AdamInBIdeal.τ).loc Cert.AdamInBIdeal.main_v0_2)),
      θ_run (Cert.AdamInBIdeal.defs (F := Ideal)) (onTc (τ := Cert.AdamInBIdeal.τ) (Cert.AdamInBIdeal.main (F := Ideal))) ⟨m, fun _ => 0, g⟩ (fun r => ∀ c : Dev Cert.AdamInBIdeal.nD,
          r.2.mem ((c.tc : Thread Cert.AdamInBIdeal.nD Cert.AdamInBIdeal.τ).loc Cert.AdamInBIdeal.main_v0_0) = v0 c
          ∧ r.2.mem ((c.tc : Thread Cert.AdamInBIdeal.nD Cert.AdamInBIdeal.τ).loc Cert.AdamInBIdeal.main_v0_1) = v1 c
          ∧ r.2.mem ((c.tc : Thread Cert.AdamInBIdeal.nD Cert.AdamInBIdeal.τ).loc Cert.AdamInBIdeal.main_v0_2) = v2 c
          ∧ r.2.mem ((c.tc : Thread Cert.AdamInBIdeal.nD Cert.AdamInBIdeal.τ).loc Cert.AdamInBIdeal.main_arg0) = m ((c.tc : Thread Cert.AdamInBIdeal.nD Cert.AdamInBIdeal.τ).loc Cert.AdamInBIdeal.main_arg0)
          ∧ r.2.mem ((c.tc : Thread Cert.AdamInBIdeal.nD Cert.AdamInBIdeal.τ).loc Cert.AdamInBIdeal.main_arg1) = m ((c.tc : Thread Cert.AdamInBIdeal.nD Cert.AdamInBIdeal.τ).loc Cert.AdamInBIdeal.main_arg1)
          ∧ r.2.mem ((c.tc : Thread Cert.AdamInBIdeal.nD Cert.AdamInBIdeal.τ).loc Cert.AdamInBIdeal.main_arg2) = m ((c.tc : Thread Cert.AdamInBIdeal.nD Cert.AdamInBIdeal.τ).loc Cert.AdamInBIdeal.main_arg2)
          ∧ r.2.mem ((c.tc : Thread Cert.AdamInBIdeal.nD Cert.AdamInBIdeal.τ).loc Cert.AdamInBIdeal.main_arg3) = m ((c.tc : Thread Cert.AdamInBIdeal.nD Cert.AdamInBIdeal.τ).loc Cert.AdamInBIdeal.main_arg3))
      ∧ θ_run (Cert.AdamInBRefIdeal.defs (F := Ideal)) (onTc (τ := Cert.AdamInBRefIdeal.τ) (Cert.AdamInBRefIdeal.main (F := Ideal))) ⟨m', fun _ => 0, g'⟩ (fun r => ∀ c : Dev Cert.AdamInBRefIdeal.nD,
          r.2.mem ((c.tc : Thread Cert.AdamInBRefIdeal.nD Cert.AdamInBRefIdeal.τ).loc Cert.AdamInBRefIdeal.main_v23) = v0 c
          ∧ r.2.mem ((c.tc : Thread Cert.AdamInBRefIdeal.nD Cert.AdamInBRefIdeal.τ).loc Cert.AdamInBRefIdeal.main_v4) = v1 c
          ∧ r.2.mem ((c.tc : Thread Cert.AdamInBRefIdeal.nD Cert.AdamInBRefIdeal.τ).loc Cert.AdamInBRefIdeal.main_v10) = v2 c
          ∧ r.2.mem ((c.tc : Thread Cert.AdamInBRefIdeal.nD Cert.AdamInBRefIdeal.τ).loc Cert.AdamInBRefIdeal.main_arg0) = m' ((c.tc : Thread Cert.AdamInBRefIdeal.nD Cert.AdamInBRefIdeal.τ).loc Cert.AdamInBRefIdeal.main_arg0)
          ∧ r.2.mem ((c.tc : Thread Cert.AdamInBRefIdeal.nD Cert.AdamInBRefIdeal.τ).loc Cert.AdamInBRefIdeal.main_arg1) = m' ((c.tc : Thread Cert.AdamInBRefIdeal.nD Cert.AdamInBRefIdeal.τ).loc Cert.AdamInBRefIdeal.main_arg1)
          ∧ r.2.mem ((c.tc : Thread Cert.AdamInBRefIdeal.nD Cert.AdamInBRefIdeal.τ).loc Cert.AdamInBRefIdeal.main_arg2) = m' ((c.tc : Thread Cert.AdamInBRefIdeal.nD Cert.AdamInBRefIdeal.τ).loc Cert.AdamInBRefIdeal.main_arg2)
          ∧ r.2.mem ((c.tc : Thread Cert.AdamInBRefIdeal.nD Cert.AdamInBRefIdeal.τ).loc Cert.AdamInBRefIdeal.main_arg3) = m' ((c.tc : Thread Cert.AdamInBRefIdeal.nD Cert.AdamInBRefIdeal.τ).loc Cert.AdamInBRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v23) = v0 c
          ∧ r.2.mem ((c.tc : Thread Cert.AdamAdaRefIdeal.nD Cert.AdamAdaRefIdeal.τ).loc Cert.AdamAdaRefIdeal.main_v4) = v1 c
          ∧ r.2.mem ((c.tc : Thread Cert.AdamAdaRefIdeal.nD Cert.AdamAdaRefIdeal.τ).loc Cert.AdamAdaRefIdeal.main_v10) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamTiny_AdamTinyIdeal : Prop :=
  True

def algebraic_AdamTinyIdeal_AdamTinyRefIdeal [hAdamTinyIdeal : Cert.AdamTinyIdeal.Facts] [hAdamTinyRefIdeal : Cert.AdamTinyRefIdeal.Facts] : Prop :=
  ∀ (m : (ℓ : Loc Cert.AdamTinyIdeal.nD Cert.AdamTinyIdeal.τ Cert.AdamTinyIdeal.sig) → Buf (Elt Ideal) ℓ) (g : Dev Cert.AdamTinyIdeal.nD → PrngReg)
    (m' : (ℓ : Loc Cert.AdamTinyRefIdeal.nD Cert.AdamTinyRefIdeal.τ Cert.AdamTinyRefIdeal.sig) → Buf (Elt Ideal) ℓ) (g' : Dev Cert.AdamTinyRefIdeal.nD → PrngReg), Pre_AdamTinyIdeal m →
    (∀ c : Dev Cert.AdamTinyIdeal.nD,
      m' ((c.tc : Thread Cert.AdamTinyRefIdeal.nD Cert.AdamTinyRefIdeal.τ).loc Cert.AdamTinyRefIdeal.main_arg0) = m ((c.tc : Thread Cert.AdamTinyIdeal.nD Cert.AdamTinyIdeal.τ).loc Cert.AdamTinyIdeal.main_arg0)
      ∧ m' ((c.tc : Thread Cert.AdamTinyRefIdeal.nD Cert.AdamTinyRefIdeal.τ).loc Cert.AdamTinyRefIdeal.main_arg1) = m ((c.tc : Thread Cert.AdamTinyIdeal.nD Cert.AdamTinyIdeal.τ).loc Cert.AdamTinyIdeal.main_arg1)
      ∧ m' ((c.tc : Thread Cert.AdamTinyRefIdeal.nD Cert.AdamTinyRefIdeal.τ).loc Cert.AdamTinyRefIdeal.main_arg2) = m ((c.tc : Thread Cert.AdamTinyIdeal.nD Cert.AdamTinyIdeal.τ).loc Cert.AdamTinyIdeal.main_arg2)
      ∧ m' ((c.tc : Thread Cert.AdamTinyRefIdeal.nD Cert.AdamTinyRefIdeal.τ).loc Cert.AdamTinyRefIdeal.main_arg3) = m ((c.tc : Thread Cert.AdamTinyIdeal.nD Cert.AdamTinyIdeal.τ).loc Cert.AdamTinyIdeal.main_arg3)) →
    ∃ (v0 : (c : Dev Cert.AdamTinyIdeal.nD) → Buf (Elt Ideal) ((c.tc : Thread Cert.AdamTinyIdeal.nD Cert.AdamTinyIdeal.τ).loc Cert.AdamTinyIdeal.main_v0_0)) (v1 : (c : Dev Cert.AdamTinyIdeal.nD) → Buf (Elt Ideal) ((c.tc : Thread Cert.AdamTinyIdeal.nD Cert.AdamTinyIdeal.τ).loc Cert.AdamTinyIdeal.main_v0_1)) (v2 : (c : Dev Cert.AdamTinyIdeal.nD) → Buf (Elt Ideal) ((c.tc : Thread Cert.AdamTinyIdeal.nD Cert.AdamTinyIdeal.τ).loc Cert.AdamTinyIdeal.main_v0_2)),
      θ_run (Cert.AdamTinyIdeal.defs (F := Ideal)) (onTc (τ := Cert.AdamTinyIdeal.τ) (Cert.AdamTinyIdeal.main (F := Ideal))) ⟨m, fun _ => 0, g⟩ (fun r => ∀ c : Dev Cert.AdamTinyIdeal.nD,
          r.2.mem ((c.tc : Thread Cert.AdamTinyIdeal.nD Cert.AdamTinyIdeal.τ).loc Cert.AdamTinyIdeal.main_v0_0) = v0 c
          ∧ r.2.mem ((c.tc : Thread Cert.AdamTinyIdeal.nD Cert.AdamTinyIdeal.τ).loc Cert.AdamTinyIdeal.main_v0_1) = v1 c
          ∧ r.2.mem ((c.tc : Thread Cert.AdamTinyIdeal.nD Cert.AdamTinyIdeal.τ).loc Cert.AdamTinyIdeal.main_v0_2) = v2 c
          ∧ r.2.mem ((c.tc : Thread Cert.AdamTinyIdeal.nD Cert.AdamTinyIdeal.τ).loc Cert.AdamTinyIdeal.main_arg0) = m ((c.tc : Thread Cert.AdamTinyIdeal.nD Cert.AdamTinyIdeal.τ).loc Cert.AdamTinyIdeal.main_arg0)
          ∧ r.2.mem ((c.tc : Thread Cert.AdamTinyIdeal.nD Cert.AdamTinyIdeal.τ).loc Cert.AdamTinyIdeal.main_arg1) = m ((c.tc : Thread Cert.AdamTinyIdeal.nD Cert.AdamTinyIdeal.τ).loc Cert.AdamTinyIdeal.main_arg1)
          ∧ r.2.mem ((c.tc : Thread Cert.AdamTinyIdeal.nD Cert.AdamTinyIdeal.τ).loc Cert.AdamTinyIdeal.main_arg2) = m ((c.tc : Thread Cert.AdamTinyIdeal.nD Cert.AdamTinyIdeal.τ).loc Cert.AdamTinyIdeal.main_arg2)
          ∧ r.2.mem ((c.tc : Thread Cert.AdamTinyIdeal.nD Cert.AdamTinyIdeal.τ).loc Cert.AdamTinyIdeal.main_arg3) = m ((c.tc : Thread Cert.AdamTinyIdeal.nD Cert.AdamTinyIdeal.τ).loc Cert.AdamTinyIdeal.main_arg3))
      ∧ θ_run (Cert.AdamTinyRefIdeal.defs (F := Ideal)) (onTc (τ := Cert.AdamTinyRefIdeal.τ) (Cert.AdamTinyRefIdeal.main (F := Ideal))) ⟨m', fun _ => 0, g'⟩ (fun r => ∀ c : Dev Cert.AdamTinyRefIdeal.nD,
          r.2.mem ((c.tc : Thread Cert.AdamTinyRefIdeal.nD Cert.AdamTinyRefIdeal.τ).loc Cert.AdamTinyRefIdeal.main_v23) = v0 c
          ∧ r.2.mem ((c.tc : Thread Cert.AdamTinyRefIdeal.nD Cert.AdamTinyRefIdeal.τ).loc Cert.AdamTinyRefIdeal.main_v4) = v1 c
          ∧ r.2.mem ((c.tc : Thread Cert.AdamTinyRefIdeal.nD Cert.AdamTinyRefIdeal.τ).loc Cert.AdamTinyRefIdeal.main_v10) = v2 c
          ∧ r.2.mem ((c.tc : Thread Cert.AdamTinyRefIdeal.nD Cert.AdamTinyRefIdeal.τ).loc Cert.AdamTinyRefIdeal.main_arg0) = m' ((c.tc : Thread Cert.AdamTinyRefIdeal.nD Cert.AdamTinyRefIdeal.τ).loc Cert.AdamTinyRefIdeal.main_arg0)
          ∧ r.2.mem ((c.tc : Thread Cert.AdamTinyRefIdeal.nD Cert.AdamTinyRefIdeal.τ).loc Cert.AdamTinyRefIdeal.main_arg1) = m' ((c.tc : Thread Cert.AdamTinyRefIdeal.nD Cert.AdamTinyRefIdeal.τ).loc Cert.AdamTinyRefIdeal.main_arg1)
          ∧ r.2.mem ((c.tc : Thread Cert.AdamTinyRefIdeal.nD Cert.AdamTinyRefIdeal.τ).loc Cert.AdamTinyRefIdeal.main_arg2) = m' ((c.tc : Thread Cert.AdamTinyRefIdeal.nD Cert.AdamTinyRefIdeal.τ).loc Cert.AdamTinyRefIdeal.main_arg2)
          ∧ r.2.mem ((c.tc : Thread Cert.AdamTinyRefIdeal.nD Cert.AdamTinyRefIdeal.τ).loc Cert.AdamTinyRefIdeal.main_arg3) = m' ((c.tc : Thread Cert.AdamTinyRefIdeal.nD Cert.AdamTinyRefIdeal.τ).loc Cert.AdamTinyRefIdeal.main_arg3))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v0)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v0) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v4) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2))

def preserves_AdaGrad_AdaGradIdeal : Prop :=
  True

def algebraic_AdaGradIdeal_AdaGradRefIdeal [hAdaGradIdeal : Cert.AdaGradIdeal.Facts] [hAdaGradRefIdeal : Cert.AdaGradRefIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)) →
    ∃ (v0 : (c : Dev Cert.AdaGradIdeal.nD) → Buf (Elt Ideal) ((c.tc : Thread Cert.AdaGradIdeal.nD Cert.AdaGradIdeal.τ).loc Cert.AdaGradIdeal.main_v0)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v0) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v3) = v0 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1))

def preserves_NormFfn_NormFfnIdeal : Prop :=
  True

def algebraic_NormFfnIdeal_NormFfnRefIdeal [hNormFfnIdeal : Cert.NormFfnIdeal.Facts] [hNormFfnRefIdeal : Cert.NormFfnRefIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg)
    (m' : (ℓ : Loc Cert.NormFfnRefIdeal.nD Cert.NormFfnRefIdeal.τ Cert.NormFfnRefIdeal.sig) → Buf (Elt Ideal) ℓ) (g' : Dev Cert.NormFfnRefIdeal.nD → PrngReg), Pre_NormFfnIdeal m →
    (∀ c : Dev Cert.NormFfnIdeal.nD,
      m' ((c.tc : Thread Cert.NormFfnRefIdeal.nD Cert.NormFfnRefIdeal.τ).loc Cert.NormFfnRefIdeal.main_arg0) = m ((c.tc : Thread Cert.NormFfnIdeal.nD Cert.NormFfnIdeal.τ).loc Cert.NormFfnIdeal.main_arg0)
      ∧ m' ((c.tc : Thread Cert.NormFfnRefIdeal.nD Cert.NormFfnRefIdeal.τ).loc Cert.NormFfnRefIdeal.main_arg1) = m ((c.tc : Thread Cert.NormFfnIdeal.nD Cert.NormFfnIdeal.τ).loc Cert.NormFfnIdeal.main_arg1)
      ∧ m' ((c.tc : Thread Cert.NormFfnRefIdeal.nD Cert.NormFfnRefIdeal.τ).loc Cert.NormFfnRefIdeal.main_arg2) = m ((c.tc : Thread Cert.NormFfnIdeal.nD Cert.NormFfnIdeal.τ).loc Cert.NormFfnIdeal.main_arg2)
      ∧ m' ((c.tc : Thread Cert.NormFfnRefIdeal.nD Cert.NormFfnRefIdeal.τ).loc Cert.NormFfnRefIdeal.main_arg3) = m ((c.tc : Thread Cert.NormFfnIdeal.nD Cert.NormFfnIdeal.τ).loc Cert.NormFfnIdeal.main_arg3)) →
    ∃ (v0 : (c : Dev Cert.NormFfnIdeal.nD) → Buf (Elt Ideal) ((c.tc : Thread Cert.NormFfnIdeal.nD Cert.NormFfnIdeal.τ).loc Cert.NormFfnIdeal.main_v0_0)) (v1 : (c : Dev Cert.NormFfnIdeal.nD) → Buf (Elt Ideal) ((c.tc : Thread Cert.NormFfnIdeal.nD Cert.NormFfnIdeal.τ).loc Cert.NormFfnIdeal.main_v0_1)),
      θ_run (Cert.NormFfnIdeal.defs (F := Ideal)) (onTc (τ := Cert.NormFfnIdeal.τ) (Cert.NormFfnIdeal.main (F := Ideal))) ⟨m, fun _ => 0, g⟩ (fun r => ∀ c : Dev Cert.NormFfnIdeal.nD,
          r.2.mem ((c.tc : Thread Cert.NormFfnIdeal.nD Cert.NormFfnIdeal.τ).loc Cert.NormFfnIdeal.main_v0_0) = v0 c
          ∧ r.2.mem ((c.tc : Thread Cert.NormFfnIdeal.nD Cert.NormFfnIdeal.τ).loc Cert.NormFfnIdeal.main_v0_1) = v1 c
          ∧ r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
          ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
          ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2)
          ∧ r.2.mem ((c.tc : Thread Cert.NormFfnIdeal.nD Cert.NormFfnIdeal.τ).loc Cert.NormFfnIdeal.main_arg3) = m ((c.tc : Thread Cert.NormFfnIdeal.nD Cert.NormFfnIdeal.τ).loc Cert.NormFfnIdeal.main_arg3))
      ∧ θ_run (Cert.NormFfnRefIdeal.defs (F := Ideal)) (onTc (τ := Cert.NormFfnRefIdeal.τ) (Cert.NormFfnRefIdeal.main (F := Ideal))) ⟨m', fun _ => 0, g'⟩ (fun r => ∀ c : Dev Cert.NormFfnRefIdeal.nD,
          r.2.mem ((c.tc : Thread Cert.NormFfnRefIdeal.nD Cert.NormFfnRefIdeal.τ).loc Cert.NormFfnRefIdeal.main_v9) = v0 c
          ∧ r.2.mem ((c.tc : Thread Cert.NormFfnRefIdeal.nD Cert.NormFfnRefIdeal.τ).loc Cert.NormFfnRefIdeal.main_v30) = v1 c
          ∧ r.2.mem ((c.tc : Thread Cert.NormFfnRefIdeal.nD Cert.NormFfnRefIdeal.τ).loc Cert.NormFfnRefIdeal.main_arg0) = m' ((c.tc : Thread Cert.NormFfnRefIdeal.nD Cert.NormFfnRefIdeal.τ).loc Cert.NormFfnRefIdeal.main_arg0)
          ∧ r.2.mem ((c.tc : Thread Cert.NormFfnRefIdeal.nD Cert.NormFfnRefIdeal.τ).loc Cert.NormFfnRefIdeal.main_arg1) = m' ((c.tc : Thread Cert.NormFfnRefIdeal.nD Cert.NormFfnRefIdeal.τ).loc Cert.NormFfnRefIdeal.main_arg1)
          ∧ r.2.mem ((c.tc : Thread Cert.NormFfnRefIdeal.nD Cert.NormFfnRefIdeal.τ).loc Cert.NormFfnRefIdeal.main_arg2) = m' ((c.tc : Thread Cert.NormFfnRefIdeal.nD Cert.NormFfnRefIdeal.τ).loc Cert.NormFfnRefIdeal.main_arg2)
          ∧ r.2.mem ((c.tc : Thread Cert.NormFfnRefIdeal.nD Cert.NormFfnRefIdeal.τ).loc Cert.NormFfnRefIdeal.main_arg3) = m' ((c.tc : Thread Cert.NormFfnRefIdeal.nD Cert.NormFfnRefIdeal.τ).loc Cert.NormFfnRefIdeal.main_arg3))

def preserves_NormMix1_NormMix1Ideal : Prop :=
  True

def algebraic_NormMix1Ideal_NormMix1RefIdeal [hNormMix1Ideal : Cert.NormMix1Ideal.Facts] [hNormMix1RefIdeal : Cert.NormMix1RefIdeal.Facts] : Prop :=
  ∀ (m : (ℓ : Loc Cert.NormMix1Ideal.nD Cert.NormMix1Ideal.τ Cert.NormMix1Ideal.sig) → Buf (Elt Ideal) ℓ) (g : Dev Cert.NormMix1Ideal.nD → PrngReg)
    (m' : (ℓ : Loc Cert.NormMix1RefIdeal.nD Cert.NormMix1RefIdeal.τ Cert.NormMix1RefIdeal.sig) → Buf (Elt Ideal) ℓ) (g' : Dev Cert.NormMix1RefIdeal.nD → PrngReg), Pre_NormMix1Ideal m →
    (∀ c : Dev Cert.NormMix1Ideal.nD,
      m' ((c.tc : Thread Cert.NormMix1RefIdeal.nD Cert.NormMix1RefIdeal.τ).loc Cert.NormMix1RefIdeal.main_arg0) = m ((c.tc : Thread Cert.NormMix1Ideal.nD Cert.NormMix1Ideal.τ).loc Cert.NormMix1Ideal.main_arg0)
      ∧ m' ((c.tc : Thread Cert.NormMix1RefIdeal.nD Cert.NormMix1RefIdeal.τ).loc Cert.NormMix1RefIdeal.main_arg1) = m ((c.tc : Thread Cert.NormMix1Ideal.nD Cert.NormMix1Ideal.τ).loc Cert.NormMix1Ideal.main_arg1)
      ∧ m' ((c.tc : Thread Cert.NormMix1RefIdeal.nD Cert.NormMix1RefIdeal.τ).loc Cert.NormMix1RefIdeal.main_arg2) = m ((c.tc : Thread Cert.NormMix1Ideal.nD Cert.NormMix1Ideal.τ).loc Cert.NormMix1Ideal.main_arg2)
      ∧ m' ((c.tc : Thread Cert.NormMix1RefIdeal.nD Cert.NormMix1RefIdeal.τ).loc Cert.NormMix1RefIdeal.main_arg3) = m ((c.tc : Thread Cert.NormMix1Ideal.nD Cert.NormMix1Ideal.τ).loc Cert.NormMix1Ideal.main_arg3)
      ∧ m' ((c.tc : Thread Cert.NormMix1RefIdeal.nD Cert.NormMix1RefIdeal.τ).loc Cert.NormMix1RefIdeal.main_arg4) = m ((c.tc : Thread Cert.NormMix1Ideal.nD Cert.NormMix1Ideal.τ).loc Cert.NormMix1Ideal.main_arg4)) →
    ∃ (v0 : (c : Dev Cert.NormMix1Ideal.nD) → Buf (Elt Ideal) ((c.tc : Thread Cert.NormMix1Ideal.nD Cert.NormMix1Ideal.τ).loc Cert.NormMix1Ideal.main_v0_0)) (v1 : (c : Dev Cert.NormMix1Ideal.nD) → Buf (Elt Ideal) ((c.tc : Thread Cert.NormMix1Ideal.nD Cert.NormMix1Ideal.τ).loc Cert.NormMix1Ideal.main_v0_1)),
      θ_run (Cert.NormMix1Ideal.defs (F := Ideal)) (onTc (τ := Cert.NormMix1Ideal.τ) (Cert.NormMix1Ideal.main (F := Ideal))) ⟨m, fun _ => 0, g⟩ (fun r => ∀ c : Dev Cert.NormMix1Ideal.nD,
          r.2.mem ((c.tc : Thread Cert.NormMix1Ideal.nD Cert.NormMix1Ideal.τ).loc Cert.NormMix1Ideal.main_v0_0) = v0 c
          ∧ r.2.mem ((c.tc : Thread Cert.NormMix1Ideal.nD Cert.NormMix1Ideal.τ).loc Cert.NormMix1Ideal.main_v0_1) = v1 c
          ∧ r.2.mem ((c.tc : Thread Cert.NormMix1Ideal.nD Cert.NormMix1Ideal.τ).loc Cert.NormMix1Ideal.main_arg0) = m ((c.tc : Thread Cert.NormMix1Ideal.nD Cert.NormMix1Ideal.τ).loc Cert.NormMix1Ideal.main_arg0)
          ∧ r.2.mem ((c.tc : Thread Cert.NormMix1Ideal.nD Cert.NormMix1Ideal.τ).loc Cert.NormMix1Ideal.main_arg1) = m ((c.tc : Thread Cert.NormMix1Ideal.nD Cert.NormMix1Ideal.τ).loc Cert.NormMix1Ideal.main_arg1)
          ∧ r.2.mem ((c.tc : Thread Cert.NormMix1Ideal.nD Cert.NormMix1Ideal.τ).loc Cert.NormMix1Ideal.main_arg2) = m ((c.tc : Thread Cert.NormMix1Ideal.nD Cert.NormMix1Ideal.τ).loc Cert.NormMix1Ideal.main_arg2)
          ∧ r.2.mem ((c.tc : Thread Cert.NormMix1Ideal.nD Cert.NormMix1Ideal.τ).loc Cert.NormMix1Ideal.main_arg3) = m ((c.tc : Thread Cert.NormMix1Ideal.nD Cert.NormMix1Ideal.τ).loc Cert.NormMix1Ideal.main_arg3)
          ∧ r.2.mem ((c.tc : Thread Cert.NormMix1Ideal.nD Cert.NormMix1Ideal.τ).loc Cert.NormMix1Ideal.main_arg4) = m ((c.tc : Thread Cert.NormMix1Ideal.nD Cert.NormMix1Ideal.τ).loc Cert.NormMix1Ideal.main_arg4))
      ∧ θ_run (Cert.NormMix1RefIdeal.defs (F := Ideal)) (onTc (τ := Cert.NormMix1RefIdeal.τ) (Cert.NormMix1RefIdeal.main (F := Ideal))) ⟨m', fun _ => 0, g'⟩ (fun r => ∀ c : Dev Cert.NormMix1RefIdeal.nD,
          r.2.mem ((c.tc : Thread Cert.NormMix1RefIdeal.nD Cert.NormMix1RefIdeal.τ).loc Cert.NormMix1RefIdeal.main_v9) = v0 c
          ∧ r.2.mem ((c.tc : Thread Cert.NormMix1RefIdeal.nD Cert.NormMix1RefIdeal.τ).loc Cert.NormMix1RefIdeal.main_v30) = v1 c
          ∧ r.2.mem ((c.tc : Thread Cert.NormMix1RefIdeal.nD Cert.NormMix1RefIdeal.τ).loc Cert.NormMix1RefIdeal.main_arg0) = m' ((c.tc : Thread Cert.NormMix1RefIdeal.nD Cert.NormMix1RefIdeal.τ).loc Cert.NormMix1RefIdeal.main_arg0)
          ∧ r.2.mem ((c.tc : Thread Cert.NormMix1RefIdeal.nD Cert.NormMix1RefIdeal.τ).loc Cert.NormMix1RefIdeal.main_arg1) = m' ((c.tc : Thread Cert.NormMix1RefIdeal.nD Cert.NormMix1RefIdeal.τ).loc Cert.NormMix1RefIdeal.main_arg1)
          ∧ r.2.mem ((c.tc : Thread Cert.NormMix1RefIdeal.nD Cert.NormMix1RefIdeal.τ).loc Cert.NormMix1RefIdeal.main_arg2) = m' ((c.tc : Thread Cert.NormMix1RefIdeal.nD Cert.NormMix1RefIdeal.τ).loc Cert.NormMix1RefIdeal.main_arg2)
          ∧ r.2.mem ((c.tc : Thread Cert.NormMix1RefIdeal.nD Cert.NormMix1RefIdeal.τ).loc Cert.NormMix1RefIdeal.main_arg3) = m' ((c.tc : Thread Cert.NormMix1RefIdeal.nD Cert.NormMix1RefIdeal.τ).loc Cert.NormMix1RefIdeal.main_arg3)
          ∧ r.2.mem ((c.tc : Thread Cert.NormMix1RefIdeal.nD Cert.NormMix1RefIdeal.τ).loc Cert.NormMix1RefIdeal.main_arg4) = m' ((c.tc : Thread Cert.NormMix1RefIdeal.nD Cert.NormMix1RefIdeal.τ).loc Cert.NormMix1RefIdeal.main_arg4))

def preserves_GlaOut_GlaOutIdeal : Prop :=
  True

def algebraic_GlaOutIdeal_GlaOutRefIdeal [hGlaOutIdeal : Cert.GlaOutIdeal.Facts] [hGlaOutRefIdeal : Cert.GlaOutRefIdeal.Facts] : Prop :=
  ∀ (m : (ℓ : Loc Cert.GlaOutIdeal.nD Cert.GlaOutIdeal.τ Cert.GlaOutIdeal.sig) → Buf (Elt Ideal) ℓ) (g : Dev Cert.GlaOutIdeal.nD → PrngReg)
    (m' : (ℓ : Loc Cert.GlaOutRefIdeal.nD Cert.GlaOutRefIdeal.τ Cert.GlaOutRefIdeal.sig) → Buf (Elt Ideal) ℓ) (g' : Dev Cert.GlaOutRefIdeal.nD → PrngReg), Pre_GlaOutIdeal m →
    (∀ c : Dev Cert.GlaOutIdeal.nD,
      m' ((c.tc : Thread Cert.GlaOutRefIdeal.nD Cert.GlaOutRefIdeal.τ).loc Cert.GlaOutRefIdeal.main_arg0) = m ((c.tc : Thread Cert.GlaOutIdeal.nD Cert.GlaOutIdeal.τ).loc Cert.GlaOutIdeal.main_arg0)
      ∧ m' ((c.tc : Thread Cert.GlaOutRefIdeal.nD Cert.GlaOutRefIdeal.τ).loc Cert.GlaOutRefIdeal.main_arg1) = m ((c.tc : Thread Cert.GlaOutIdeal.nD Cert.GlaOutIdeal.τ).loc Cert.GlaOutIdeal.main_arg1)
      ∧ m' ((c.tc : Thread Cert.GlaOutRefIdeal.nD Cert.GlaOutRefIdeal.τ).loc Cert.GlaOutRefIdeal.main_arg2) = m ((c.tc : Thread Cert.GlaOutIdeal.nD Cert.GlaOutIdeal.τ).loc Cert.GlaOutIdeal.main_arg2)) →
    ∃ (v0 : (c : Dev Cert.GlaOutIdeal.nD) → Buf (Elt Ideal) ((c.tc : Thread Cert.GlaOutIdeal.nD Cert.GlaOutIdeal.τ).loc Cert.GlaOutIdeal.main_v0)),
      θ_run (Cert.GlaOutIdeal.defs (F := Ideal)) (onTc (τ := Cert.GlaOutIdeal.τ) (Cert.GlaOutIdeal.main (F := Ideal))) ⟨m, fun _ => 0, g⟩ (fun r => ∀ c : Dev Cert.GlaOutIdeal.nD,
          r.2.mem ((c.tc : Thread Cert.GlaOutIdeal.nD Cert.GlaOutIdeal.τ).loc Cert.GlaOutIdeal.main_v0) = v0 c
          ∧ r.2.mem ((c.tc : Thread Cert.GlaOutIdeal.nD Cert.GlaOutIdeal.τ).loc Cert.GlaOutIdeal.main_arg0) = m ((c.tc : Thread Cert.GlaOutIdeal.nD Cert.GlaOutIdeal.τ).loc Cert.GlaOutIdeal.main_arg0)
          ∧ r.2.mem ((c.tc : Thread Cert.GlaOutIdeal.nD Cert.GlaOutIdeal.τ).loc Cert.GlaOutIdeal.main_arg1) = m ((c.tc : Thread Cert.GlaOutIdeal.nD Cert.GlaOutIdeal.τ).loc Cert.GlaOutIdeal.main_arg1)
          ∧ r.2.mem ((c.tc : Thread Cert.GlaOutIdeal.nD Cert.GlaOutIdeal.τ).loc Cert.GlaOutIdeal.main_arg2) = m ((c.tc : Thread Cert.GlaOutIdeal.nD Cert.GlaOutIdeal.τ).loc Cert.GlaOutIdeal.main_arg2))
      ∧ θ_run (Cert.GlaOutRefIdeal.defs (F := Ideal)) (onTc (τ := Cert.GlaOutRefIdeal.τ) (Cert.GlaOutRefIdeal.main (F := Ideal))) ⟨m', fun _ => 0, g'⟩ (fun r => ∀ c : Dev Cert.GlaOutRefIdeal.nD,
          r.2.mem ((c.tc : Thread Cert.GlaOutRefIdeal.nD Cert.GlaOutRefIdeal.τ).loc Cert.GlaOutRefIdeal.main_v18) = v0 c
          ∧ r.2.mem ((c.tc : Thread Cert.GlaOutRefIdeal.nD Cert.GlaOutRefIdeal.τ).loc Cert.GlaOutRefIdeal.main_arg0) = m' ((c.tc : Thread Cert.GlaOutRefIdeal.nD Cert.GlaOutRefIdeal.τ).loc Cert.GlaOutRefIdeal.main_arg0)
          ∧ r.2.mem ((c.tc : Thread Cert.GlaOutRefIdeal.nD Cert.GlaOutRefIdeal.τ).loc Cert.GlaOutRefIdeal.main_arg1) = m' ((c.tc : Thread Cert.GlaOutRefIdeal.nD Cert.GlaOutRefIdeal.τ).loc Cert.GlaOutRefIdeal.main_arg1)
          ∧ r.2.mem ((c.tc : Thread Cert.GlaOutRefIdeal.nD Cert.GlaOutRefIdeal.τ).loc Cert.GlaOutRefIdeal.main_arg2) = m' ((c.tc : Thread Cert.GlaOutRefIdeal.nD Cert.GlaOutRefIdeal.τ).loc Cert.GlaOutRefIdeal.main_arg2))

def preserves_ConvGate_ConvGateIdeal : Prop :=
  True

def algebraic_ConvGateIdeal_ConvGateRefIdeal [hConvGateIdeal : Cert.ConvGateIdeal.Facts] [hConvGateRefIdeal : Cert.ConvGateRefIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg)
    (m' : (ℓ : Loc Cert.ConvGateRefIdeal.nD Cert.ConvGateRefIdeal.τ Cert.ConvGateRefIdeal.sig) → Buf (Elt Ideal) ℓ) (g' : Dev Cert.ConvGateRefIdeal.nD → PrngReg), Pre_ConvGateIdeal m →
    (∀ c : Dev Cert.ConvGateIdeal.nD,
      m' ((c.tc : Thread Cert.ConvGateRefIdeal.nD Cert.ConvGateRefIdeal.τ).loc Cert.ConvGateRefIdeal.main_arg0) = m ((c.tc : Thread Cert.ConvGateIdeal.nD Cert.ConvGateIdeal.τ).loc Cert.ConvGateIdeal.main_arg0)
      ∧ m' ((c.tc : Thread Cert.ConvGateRefIdeal.nD Cert.ConvGateRefIdeal.τ).loc Cert.ConvGateRefIdeal.main_arg1) = m ((c.tc : Thread Cert.ConvGateIdeal.nD Cert.ConvGateIdeal.τ).loc Cert.ConvGateIdeal.main_arg1)
      ∧ m' ((c.tc : Thread Cert.ConvGateRefIdeal.nD Cert.ConvGateRefIdeal.τ).loc Cert.ConvGateRefIdeal.main_arg2) = m ((c.tc : Thread Cert.ConvGateIdeal.nD Cert.ConvGateIdeal.τ).loc Cert.ConvGateIdeal.main_arg2)) →
    ∃ (v0 : (c : Dev Cert.ConvGateIdeal.nD) → Buf (Elt Ideal) ((c.tc : Thread Cert.ConvGateIdeal.nD Cert.ConvGateIdeal.τ).loc Cert.ConvGateIdeal.main_v0)),
      θ_run (Cert.ConvGateIdeal.defs (F := Ideal)) (onTc (τ := Cert.ConvGateIdeal.τ) (Cert.ConvGateIdeal.main (F := Ideal))) ⟨m, fun _ => 0, g⟩ (fun r => ∀ c : Dev Cert.ConvGateIdeal.nD,
          r.2.mem ((c.tc : Thread Cert.ConvGateIdeal.nD Cert.ConvGateIdeal.τ).loc Cert.ConvGateIdeal.main_v0) = v0 c
          ∧ r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
          ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
          ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2))
      ∧ θ_run (Cert.ConvGateRefIdeal.defs (F := Ideal)) (onTc (τ := Cert.ConvGateRefIdeal.τ) (Cert.ConvGateRefIdeal.main (F := Ideal))) ⟨m', fun _ => 0, g'⟩ (fun r => ∀ c : Dev Cert.ConvGateRefIdeal.nD,
          r.2.mem ((c.tc : Thread Cert.ConvGateRefIdeal.nD Cert.ConvGateRefIdeal.τ).loc Cert.ConvGateRefIdeal.main_v26) = v0 c
          ∧ r.2.mem ((c.tc : Thread Cert.ConvGateRefIdeal.nD Cert.ConvGateRefIdeal.τ).loc Cert.ConvGateRefIdeal.main_arg0) = m' ((c.tc : Thread Cert.ConvGateRefIdeal.nD Cert.ConvGateRefIdeal.τ).loc Cert.ConvGateRefIdeal.main_arg0)
          ∧ r.2.mem ((c.tc : Thread Cert.ConvGateRefIdeal.nD Cert.ConvGateRefIdeal.τ).loc Cert.ConvGateRefIdeal.main_arg1) = m' ((c.tc : Thread Cert.ConvGateRefIdeal.nD Cert.ConvGateRefIdeal.τ).loc Cert.ConvGateRefIdeal.main_arg1)
          ∧ r.2.mem ((c.tc : Thread Cert.ConvGateRefIdeal.nD Cert.ConvGateRefIdeal.τ).loc Cert.ConvGateRefIdeal.main_arg2) = m' ((c.tc : Thread Cert.ConvGateRefIdeal.nD Cert.ConvGateRefIdeal.τ).loc Cert.ConvGateRefIdeal.main_arg2))

def Claim : Prop :=
  ∃ (hKernel : Cert.Kernel.Facts) (hKernelIdeal : Cert.KernelIdeal.Facts) (hReferenceIdeal : Cert.ReferenceIdeal.Facts) (hUpDx0a : Cert.UpDx0a.Facts) (hUpDx0aIdeal : Cert.UpDx0aIdeal.Facts) (hUpDx0aRefIdeal : Cert.UpDx0aRefIdeal.Facts) (hUpDx0b : Cert.UpDx0b.Facts) (hUpDx0bIdeal : Cert.UpDx0bIdeal.Facts) (hUpDx0bRefIdeal : Cert.UpDx0bRefIdeal.Facts) (hUpDx1a : Cert.UpDx1a.Facts) (hUpDx1aIdeal : Cert.UpDx1aIdeal.Facts) (hUpDx1aRefIdeal : Cert.UpDx1aRefIdeal.Facts) (hUpDx1b : Cert.UpDx1b.Facts) (hUpDx1bIdeal : Cert.UpDx1bIdeal.Facts) (hUpDx1bRefIdeal : Cert.UpDx1bRefIdeal.Facts) (hDownDx0 : Cert.DownDx0.Facts) (hDownDx0Ideal : Cert.DownDx0Ideal.Facts) (hDownDx0RefIdeal : Cert.DownDx0RefIdeal.Facts) (hDownDx1 : Cert.DownDx1.Facts) (hDownDx1Ideal : Cert.DownDx1Ideal.Facts) (hDownDx1RefIdeal : Cert.DownDx1RefIdeal.Facts) (hInBDx : Cert.InBDx.Facts) (hInBDxIdeal : Cert.InBDxIdeal.Facts) (hInBDxRefIdeal : Cert.InBDxRefIdeal.Facts) (hInBDw : Cert.InBDw.Facts) (hInBDwIdeal : Cert.InBDwIdeal.Facts) (hInBDwRefIdeal : Cert.InBDwRefIdeal.Facts) (hOutDx : Cert.OutDx.Facts) (hOutDxIdeal : Cert.OutDxIdeal.Facts) (hOutDxRefIdeal : Cert.OutDxRefIdeal.Facts) (hOutADw : Cert.OutADw.Facts) (hOutADwIdeal : Cert.OutADwIdeal.Facts) (hOutADwRefIdeal : Cert.OutADwRefIdeal.Facts) (hOutBDw : Cert.OutBDw.Facts) (hOutBDwIdeal : Cert.OutBDwIdeal.Facts) (hOutBDwRefIdeal : Cert.OutBDwRefIdeal.Facts) (hInADx0 : Cert.InADx0.Facts) (hInADx0Ideal : Cert.InADx0Ideal.Facts) (hInADx0RefIdeal : Cert.InADx0RefIdeal.Facts) (hInADx1 : Cert.InADx1.Facts) (hInADx1Ideal : Cert.InADx1Ideal.Facts) (hInADx1RefIdeal : Cert.InADx1RefIdeal.Facts) (hInADx2 : Cert.InADx2.Facts) (hInADx2Ideal : Cert.InADx2Ideal.Facts) (hInADx2RefIdeal : Cert.InADx2RefIdeal.Facts) (hInA0 : Cert.InA0.Facts) (hInA0Ideal : Cert.InA0Ideal.Facts) (hInA0RefIdeal : Cert.InA0RefIdeal.Facts) (hInA1 : Cert.InA1.Facts) (hInA1Ideal : Cert.InA1Ideal.Facts) (hInA1RefIdeal : Cert.InA1RefIdeal.Facts) (hInA2 : Cert.InA2.Facts) (hInA2Ideal : Cert.InA2Ideal.Facts) (hInA2RefIdeal : Cert.InA2RefIdeal.Facts) (hUp0 : Cert.Up0.Facts) (hUp0Ideal : Cert.Up0Ideal.Facts) (hUp0RefIdeal : Cert.Up0RefIdeal.Facts) (hDown0 : Cert.Down0.Facts) (hDown0Ideal : Cert.Down0Ideal.Facts) (hDown0RefIdeal : Cert.Down0RefIdeal.Facts) (hUp1 : Cert.Up1.Facts) (hUp1Ideal : Cert.Up1Ideal.Facts) (hUp1RefIdeal : Cert.Up1RefIdeal.Facts) (hDown1 : Cert.Down1.Facts) (hDown1Ideal : Cert.Down1Ideal.Facts) (hDown1RefIdeal : Cert.Down1RefIdeal.Facts) (hInB : Cert.InB.Facts) (hInBIdeal : Cert.InBIdeal.Facts) (hInBRefIdeal : Cert.InBRefIdeal.Facts) (hOutA : Cert.OutA.Facts) (hOutAIdeal : Cert.OutAIdeal.Facts) (hOutARefIdeal : Cert.OutARefIdeal.Facts) (hOutB : Cert.OutB.Facts) (hOutBIdeal : Cert.OutBIdeal.Facts) (hOutBRefIdeal : Cert.OutBRefIdeal.Facts) (hDownDw1 : Cert.DownDw1.Facts) (hDownDw1Ideal : Cert.DownDw1Ideal.Facts) (hDownDw1RefIdeal : Cert.DownDw1RefIdeal.Facts) (hDownDw0 : Cert.DownDw0.Facts) (hDownDw0Ideal : Cert.DownDw0Ideal.Facts) (hDownDw0RefIdeal : Cert.DownDw0RefIdeal.Facts) (hUpDw1b : Cert.UpDw1b.Facts) (hUpDw1bIdeal : Cert.UpDw1bIdeal.Facts) (hUpDw1bRefIdeal : Cert.UpDw1bRefIdeal.Facts) (hUpDw0a : Cert.UpDw0a.Facts) (hUpDw0aIdeal : Cert.UpDw0aIdeal.Facts) (hUpDw0aRefIdeal : Cert.UpDw0aRefIdeal.Facts) (hUpDw0b : Cert.UpDw0b.Facts) (hUpDw0bIdeal : Cert.UpDw0bIdeal.Facts) (hUpDw0bRefIdeal : Cert.UpDw0bRefIdeal.Facts) (hInADw1 : Cert.InADw1.Facts) (hInADw1Ideal : Cert.InADw1Ideal.Facts) (hInADw1RefIdeal : Cert.InADw1RefIdeal.Facts) (hInADw2 : Cert.InADw2.Facts) (hInADw2Ideal : Cert.InADw2Ideal.Facts) (hInADw2RefIdeal : Cert.InADw2RefIdeal.Facts) (hUpDw1a : Cert.UpDw1a.Facts) (hUpDw1aIdeal : Cert.UpDw1aIdeal.Facts) (hUpDw1aRefIdeal : Cert.UpDw1aRefIdeal.Facts) (hInADw0 : Cert.InADw0.Facts) (hInADw0Ideal : Cert.InADw0Ideal.Facts) (hInADw0RefIdeal : Cert.InADw0RefIdeal.Facts) (hGateDx : Cert.GateDx.Facts) (hGateDxIdeal : Cert.GateDxIdeal.Facts) (hGateDxRefIdeal : Cert.GateDxRefIdeal.Facts) (hGateDw : Cert.GateDw.Facts) (hGateDwIdeal : Cert.GateDwIdeal.Facts) (hGateDwRefIdeal : Cert.GateDwRefIdeal.Facts) (hAdamInA : Cert.AdamInA.Facts) (hAdamInAIdeal : Cert.AdamInAIdeal.Facts) (hAdamInARefIdeal : Cert.AdamInARefIdeal.Facts) (hAdamOut : Cert.AdamOut.Facts) (hAdamOutIdeal : Cert.AdamOutIdeal.Facts) (hAdamOutRefIdeal : Cert.AdamOutRefIdeal.Facts) (hAdamInB : Cert.AdamInB.Facts) (hAdamInBIdeal : Cert.AdamInBIdeal.Facts) (hAdamInBRefIdeal : Cert.AdamInBRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamAda : Cert.AdamAda.Facts) (hAdamAdaIdeal : Cert.AdamAdaIdeal.Facts) (hAdamAdaRefIdeal : Cert.AdamAdaRefIdeal.Facts) (hAdamTiny : Cert.AdamTiny.Facts) (hAdamTinyIdeal : Cert.AdamTinyIdeal.Facts) (hAdamTinyRefIdeal : Cert.AdamTinyRefIdeal.Facts) (hAdaMod : Cert.AdaMod.Facts) (hAdaModIdeal : Cert.AdaModIdeal.Facts) (hAdaModRefIdeal : Cert.AdaModRefIdeal.Facts) (hAdaGrad : Cert.AdaGrad.Facts) (hAdaGradIdeal : Cert.AdaGradIdeal.Facts) (hAdaGradRefIdeal : Cert.AdaGradRefIdeal.Facts) (hNormFfn : Cert.NormFfn.Facts) (hNormFfnIdeal : Cert.NormFfnIdeal.Facts) (hNormFfnRefIdeal : Cert.NormFfnRefIdeal.Facts) (hNormMix1 : Cert.NormMix1.Facts) (hNormMix1Ideal : Cert.NormMix1Ideal.Facts) (hNormMix1RefIdeal : Cert.NormMix1RefIdeal.Facts) (hGlaOut : Cert.GlaOut.Facts) (hGlaOutIdeal : Cert.GlaOutIdeal.Facts) (hGlaOutRefIdeal : Cert.GlaOutRefIdeal.Facts) (hConvGate : Cert.ConvGate.Facts) (hConvGateIdeal : Cert.ConvGateIdeal.Facts) (hConvGateRefIdeal : Cert.ConvGateRefIdeal.Facts),
    quiescent_Kernel (hKernel := hKernel)
    ∧ quiescent_KernelIdeal (hKernelIdeal := hKernelIdeal)
    ∧ quiescent_ReferenceIdeal (hReferenceIdeal := hReferenceIdeal)
    ∧ quiescent_UpDx0a (hUpDx0a := hUpDx0a)
    ∧ quiescent_UpDx0aIdeal (hUpDx0aIdeal := hUpDx0aIdeal)
    ∧ quiescent_UpDx0aRefIdeal (hUpDx0aRefIdeal := hUpDx0aRefIdeal)
    ∧ quiescent_UpDx0b (hUpDx0b := hUpDx0b)
    ∧ quiescent_UpDx0bIdeal (hUpDx0bIdeal := hUpDx0bIdeal)
    ∧ quiescent_UpDx0bRefIdeal (hUpDx0bRefIdeal := hUpDx0bRefIdeal)
    ∧ quiescent_UpDx1a (hUpDx1a := hUpDx1a)
    ∧ quiescent_UpDx1aIdeal (hUpDx1aIdeal := hUpDx1aIdeal)
    ∧ quiescent_UpDx1aRefIdeal (hUpDx1aRefIdeal := hUpDx1aRefIdeal)
    ∧ quiescent_UpDx1b (hUpDx1b := hUpDx1b)
    ∧ quiescent_UpDx1bIdeal (hUpDx1bIdeal := hUpDx1bIdeal)
    ∧ quiescent_UpDx1bRefIdeal (hUpDx1bRefIdeal := hUpDx1bRefIdeal)
    ∧ quiescent_DownDx0 (hDownDx0 := hDownDx0)
    ∧ quiescent_DownDx0Ideal (hDownDx0Ideal := hDownDx0Ideal)
    ∧ quiescent_DownDx0RefIdeal (hDownDx0RefIdeal := hDownDx0RefIdeal)
    ∧ quiescent_DownDx1 (hDownDx1 := hDownDx1)
    ∧ quiescent_DownDx1Ideal (hDownDx1Ideal := hDownDx1Ideal)
    ∧ quiescent_DownDx1RefIdeal (hDownDx1RefIdeal := hDownDx1RefIdeal)
    ∧ quiescent_InBDx (hInBDx := hInBDx)
    ∧ quiescent_InBDxIdeal (hInBDxIdeal := hInBDxIdeal)
    ∧ quiescent_InBDxRefIdeal (hInBDxRefIdeal := hInBDxRefIdeal)
    ∧ quiescent_InBDw (hInBDw := hInBDw)
    ∧ quiescent_InBDwIdeal (hInBDwIdeal := hInBDwIdeal)
    ∧ quiescent_InBDwRefIdeal (hInBDwRefIdeal := hInBDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutADw (hOutADw := hOutADw)
    ∧ quiescent_OutADwIdeal (hOutADwIdeal := hOutADwIdeal)
    ∧ quiescent_OutADwRefIdeal (hOutADwRefIdeal := hOutADwRefIdeal)
    ∧ quiescent_OutBDw (hOutBDw := hOutBDw)
    ∧ quiescent_OutBDwIdeal (hOutBDwIdeal := hOutBDwIdeal)
    ∧ quiescent_OutBDwRefIdeal (hOutBDwRefIdeal := hOutBDwRefIdeal)
    ∧ quiescent_InADx0 (hInADx0 := hInADx0)
    ∧ quiescent_InADx0Ideal (hInADx0Ideal := hInADx0Ideal)
    ∧ quiescent_InADx0RefIdeal (hInADx0RefIdeal := hInADx0RefIdeal)
    ∧ quiescent_InADx1 (hInADx1 := hInADx1)
    ∧ quiescent_InADx1Ideal (hInADx1Ideal := hInADx1Ideal)
    ∧ quiescent_InADx1RefIdeal (hInADx1RefIdeal := hInADx1RefIdeal)
    ∧ quiescent_InADx2 (hInADx2 := hInADx2)
    ∧ quiescent_InADx2Ideal (hInADx2Ideal := hInADx2Ideal)
    ∧ quiescent_InADx2RefIdeal (hInADx2RefIdeal := hInADx2RefIdeal)
    ∧ quiescent_InA0 (hInA0 := hInA0)
    ∧ quiescent_InA0Ideal (hInA0Ideal := hInA0Ideal)
    ∧ quiescent_InA0RefIdeal (hInA0RefIdeal := hInA0RefIdeal)
    ∧ quiescent_InA1 (hInA1 := hInA1)
    ∧ quiescent_InA1Ideal (hInA1Ideal := hInA1Ideal)
    ∧ quiescent_InA1RefIdeal (hInA1RefIdeal := hInA1RefIdeal)
    ∧ quiescent_InA2 (hInA2 := hInA2)
    ∧ quiescent_InA2Ideal (hInA2Ideal := hInA2Ideal)
    ∧ quiescent_InA2RefIdeal (hInA2RefIdeal := hInA2RefIdeal)
    ∧ quiescent_Up0 (hUp0 := hUp0)
    ∧ quiescent_Up0Ideal (hUp0Ideal := hUp0Ideal)
    ∧ quiescent_Up0RefIdeal (hUp0RefIdeal := hUp0RefIdeal)
    ∧ quiescent_Down0 (hDown0 := hDown0)
    ∧ quiescent_Down0Ideal (hDown0Ideal := hDown0Ideal)
    ∧ quiescent_Down0RefIdeal (hDown0RefIdeal := hDown0RefIdeal)
    ∧ quiescent_Up1 (hUp1 := hUp1)
    ∧ quiescent_Up1Ideal (hUp1Ideal := hUp1Ideal)
    ∧ quiescent_Up1RefIdeal (hUp1RefIdeal := hUp1RefIdeal)
    ∧ quiescent_Down1 (hDown1 := hDown1)
    ∧ quiescent_Down1Ideal (hDown1Ideal := hDown1Ideal)
    ∧ quiescent_Down1RefIdeal (hDown1RefIdeal := hDown1RefIdeal)
    ∧ quiescent_InB (hInB := hInB)
    ∧ quiescent_InBIdeal (hInBIdeal := hInBIdeal)
    ∧ quiescent_InBRefIdeal (hInBRefIdeal := hInBRefIdeal)
    ∧ quiescent_OutA (hOutA := hOutA)
    ∧ quiescent_OutAIdeal (hOutAIdeal := hOutAIdeal)
    ∧ quiescent_OutARefIdeal (hOutARefIdeal := hOutARefIdeal)
    ∧ quiescent_OutB (hOutB := hOutB)
    ∧ quiescent_OutBIdeal (hOutBIdeal := hOutBIdeal)
    ∧ quiescent_OutBRefIdeal (hOutBRefIdeal := hOutBRefIdeal)
    ∧ quiescent_DownDw1 (hDownDw1 := hDownDw1)
    ∧ quiescent_DownDw1Ideal (hDownDw1Ideal := hDownDw1Ideal)
    ∧ quiescent_DownDw1RefIdeal (hDownDw1RefIdeal := hDownDw1RefIdeal)
    ∧ quiescent_DownDw0 (hDownDw0 := hDownDw0)
    ∧ quiescent_DownDw0Ideal (hDownDw0Ideal := hDownDw0Ideal)
    ∧ quiescent_DownDw0RefIdeal (hDownDw0RefIdeal := hDownDw0RefIdeal)
    ∧ quiescent_UpDw1b (hUpDw1b := hUpDw1b)
    ∧ quiescent_UpDw1bIdeal (hUpDw1bIdeal := hUpDw1bIdeal)
    ∧ quiescent_UpDw1bRefIdeal (hUpDw1bRefIdeal := hUpDw1bRefIdeal)
    ∧ quiescent_UpDw0a (hUpDw0a := hUpDw0a)
    ∧ quiescent_UpDw0aIdeal (hUpDw0aIdeal := hUpDw0aIdeal)
    ∧ quiescent_UpDw0aRefIdeal (hUpDw0aRefIdeal := hUpDw0aRefIdeal)
    ∧ quiescent_UpDw0b (hUpDw0b := hUpDw0b)
    ∧ quiescent_UpDw0bIdeal (hUpDw0bIdeal := hUpDw0bIdeal)
    ∧ quiescent_UpDw0bRefIdeal (hUpDw0bRefIdeal := hUpDw0bRefIdeal)
    ∧ quiescent_InADw1 (hInADw1 := hInADw1)
    ∧ quiescent_InADw1Ideal (hInADw1Ideal := hInADw1Ideal)
    ∧ quiescent_InADw1RefIdeal (hInADw1RefIdeal := hInADw1RefIdeal)
    ∧ quiescent_InADw2 (hInADw2 := hInADw2)
    ∧ quiescent_InADw2Ideal (hInADw2Ideal := hInADw2Ideal)
    ∧ quiescent_InADw2RefIdeal (hInADw2RefIdeal := hInADw2RefIdeal)
    ∧ quiescent_UpDw1a (hUpDw1a := hUpDw1a)
    ∧ quiescent_UpDw1aIdeal (hUpDw1aIdeal := hUpDw1aIdeal)
    ∧ quiescent_UpDw1aRefIdeal (hUpDw1aRefIdeal := hUpDw1aRefIdeal)
    ∧ quiescent_InADw0 (hInADw0 := hInADw0)
    ∧ quiescent_InADw0Ideal (hInADw0Ideal := hInADw0Ideal)
    ∧ quiescent_InADw0RefIdeal (hInADw0RefIdeal := hInADw0RefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_AdamInA (hAdamInA := hAdamInA)
    ∧ quiescent_AdamInAIdeal (hAdamInAIdeal := hAdamInAIdeal)
    ∧ quiescent_AdamInARefIdeal (hAdamInARefIdeal := hAdamInARefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamInB (hAdamInB := hAdamInB)
    ∧ quiescent_AdamInBIdeal (hAdamInBIdeal := hAdamInBIdeal)
    ∧ quiescent_AdamInBRefIdeal (hAdamInBRefIdeal := hAdamInBRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamTiny (hAdamTiny := hAdamTiny)
    ∧ quiescent_AdamTinyIdeal (hAdamTinyIdeal := hAdamTinyIdeal)
    ∧ quiescent_AdamTinyRefIdeal (hAdamTinyRefIdeal := hAdamTinyRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ quiescent_AdaGrad (hAdaGrad := hAdaGrad)
    ∧ quiescent_AdaGradIdeal (hAdaGradIdeal := hAdaGradIdeal)
    ∧ quiescent_AdaGradRefIdeal (hAdaGradRefIdeal := hAdaGradRefIdeal)
    ∧ quiescent_NormFfn (hNormFfn := hNormFfn)
    ∧ quiescent_NormFfnIdeal (hNormFfnIdeal := hNormFfnIdeal)
    ∧ quiescent_NormFfnRefIdeal (hNormFfnRefIdeal := hNormFfnRefIdeal)
    ∧ quiescent_NormMix1 (hNormMix1 := hNormMix1)
    ∧ quiescent_NormMix1Ideal (hNormMix1Ideal := hNormMix1Ideal)
    ∧ quiescent_NormMix1RefIdeal (hNormMix1RefIdeal := hNormMix1RefIdeal)
    ∧ quiescent_GlaOut (hGlaOut := hGlaOut)
    ∧ quiescent_GlaOutIdeal (hGlaOutIdeal := hGlaOutIdeal)
    ∧ quiescent_GlaOutRefIdeal (hGlaOutRefIdeal := hGlaOutRefIdeal)
    ∧ quiescent_ConvGate (hConvGate := hConvGate)
    ∧ quiescent_ConvGateIdeal (hConvGateIdeal := hConvGateIdeal)
    ∧ quiescent_ConvGateRefIdeal (hConvGateRefIdeal := hConvGateRefIdeal)
    ∧ preserves_Kernel_KernelIdeal
    ∧ algebraic_KernelIdeal_ReferenceIdeal (hKernelIdeal := hKernelIdeal) (hReferenceIdeal := hReferenceIdeal)
    ∧ preserves_UpDx0a_UpDx0aIdeal
    ∧ algebraic_UpDx0aIdeal_UpDx0aRefIdeal (hUpDx0aIdeal := hUpDx0aIdeal) (hUpDx0aRefIdeal := hUpDx0aRefIdeal)
    ∧ preserves_UpDx0b_UpDx0bIdeal
    ∧ algebraic_UpDx0bIdeal_UpDx0bRefIdeal (hUpDx0bIdeal := hUpDx0bIdeal) (hUpDx0bRefIdeal := hUpDx0bRefIdeal)
    ∧ preserves_UpDx1a_UpDx1aIdeal
    ∧ algebraic_UpDx1aIdeal_UpDx1aRefIdeal (hUpDx1aIdeal := hUpDx1aIdeal) (hUpDx1aRefIdeal := hUpDx1aRefIdeal)
    ∧ preserves_UpDx1b_UpDx1bIdeal
    ∧ algebraic_UpDx1bIdeal_UpDx1bRefIdeal (hUpDx1bIdeal := hUpDx1bIdeal) (hUpDx1bRefIdeal := hUpDx1bRefIdeal)
    ∧ preserves_DownDx0_DownDx0Ideal
    ∧ algebraic_DownDx0Ideal_DownDx0RefIdeal (hDownDx0Ideal := hDownDx0Ideal) (hDownDx0RefIdeal := hDownDx0RefIdeal)
    ∧ preserves_DownDx1_DownDx1Ideal
    ∧ algebraic_DownDx1Ideal_DownDx1RefIdeal (hDownDx1Ideal := hDownDx1Ideal) (hDownDx1RefIdeal := hDownDx1RefIdeal)
    ∧ preserves_InBDx_InBDxIdeal
    ∧ algebraic_InBDxIdeal_InBDxRefIdeal (hInBDxIdeal := hInBDxIdeal) (hInBDxRefIdeal := hInBDxRefIdeal)
    ∧ preserves_InBDw_InBDwIdeal
    ∧ algebraic_InBDwIdeal_InBDwRefIdeal (hInBDwIdeal := hInBDwIdeal) (hInBDwRefIdeal := hInBDwRefIdeal)
    ∧ preserves_OutDx_OutDxIdeal
    ∧ algebraic_OutDxIdeal_OutDxRefIdeal (hOutDxIdeal := hOutDxIdeal) (hOutDxRefIdeal := hOutDxRefIdeal)
    ∧ preserves_OutADw_OutADwIdeal
    ∧ algebraic_OutADwIdeal_OutADwRefIdeal (hOutADwIdeal := hOutADwIdeal) (hOutADwRefIdeal := hOutADwRefIdeal)
    ∧ preserves_OutBDw_OutBDwIdeal
    ∧ algebraic_OutBDwIdeal_OutBDwRefIdeal (hOutBDwIdeal := hOutBDwIdeal) (hOutBDwRefIdeal := hOutBDwRefIdeal)
    ∧ preserves_InADx0_InADx0Ideal
    ∧ algebraic_InADx0Ideal_InADx0RefIdeal (hInADx0Ideal := hInADx0Ideal) (hInADx0RefIdeal := hInADx0RefIdeal)
    ∧ preserves_InADx1_InADx1Ideal
    ∧ algebraic_InADx1Ideal_InADx1RefIdeal (hInADx1Ideal := hInADx1Ideal) (hInADx1RefIdeal := hInADx1RefIdeal)
    ∧ preserves_InADx2_InADx2Ideal
    ∧ algebraic_InADx2Ideal_InADx2RefIdeal (hInADx2Ideal := hInADx2Ideal) (hInADx2RefIdeal := hInADx2RefIdeal)
    ∧ preserves_InA0_InA0Ideal
    ∧ algebraic_InA0Ideal_InA0RefIdeal (hInA0Ideal := hInA0Ideal) (hInA0RefIdeal := hInA0RefIdeal)
    ∧ preserves_InA1_InA1Ideal
    ∧ algebraic_InA1Ideal_InA1RefIdeal (hInA1Ideal := hInA1Ideal) (hInA1RefIdeal := hInA1RefIdeal)
    ∧ preserves_InA2_InA2Ideal
    ∧ algebraic_InA2Ideal_InA2RefIdeal (hInA2Ideal := hInA2Ideal) (hInA2RefIdeal := hInA2RefIdeal)
    ∧ preserves_Up0_Up0Ideal
    ∧ algebraic_Up0Ideal_Up0RefIdeal (hUp0Ideal := hUp0Ideal) (hUp0RefIdeal := hUp0RefIdeal)
    ∧ preserves_Down0_Down0Ideal
    ∧ algebraic_Down0Ideal_Down0RefIdeal (hDown0Ideal := hDown0Ideal) (hDown0RefIdeal := hDown0RefIdeal)
    ∧ preserves_Up1_Up1Ideal
    ∧ algebraic_Up1Ideal_Up1RefIdeal (hUp1Ideal := hUp1Ideal) (hUp1RefIdeal := hUp1RefIdeal)
    ∧ preserves_Down1_Down1Ideal
    ∧ algebraic_Down1Ideal_Down1RefIdeal (hDown1Ideal := hDown1Ideal) (hDown1RefIdeal := hDown1RefIdeal)
    ∧ preserves_InB_InBIdeal
    ∧ algebraic_InBIdeal_InBRefIdeal (hInBIdeal := hInBIdeal) (hInBRefIdeal := hInBRefIdeal)
    ∧ preserves_OutA_OutAIdeal
    ∧ algebraic_OutAIdeal_OutARefIdeal (hOutAIdeal := hOutAIdeal) (hOutARefIdeal := hOutARefIdeal)
    ∧ preserves_OutB_OutBIdeal
    ∧ algebraic_OutBIdeal_OutBRefIdeal (hOutBIdeal := hOutBIdeal) (hOutBRefIdeal := hOutBRefIdeal)
    ∧ preserves_DownDw1_DownDw1Ideal
    ∧ algebraic_DownDw1Ideal_DownDw1RefIdeal (hDownDw1Ideal := hDownDw1Ideal) (hDownDw1RefIdeal := hDownDw1RefIdeal)
    ∧ preserves_DownDw0_DownDw0Ideal
    ∧ algebraic_DownDw0Ideal_DownDw0RefIdeal (hDownDw0Ideal := hDownDw0Ideal) (hDownDw0RefIdeal := hDownDw0RefIdeal)
    ∧ preserves_UpDw1b_UpDw1bIdeal
    ∧ algebraic_UpDw1bIdeal_UpDw1bRefIdeal (hUpDw1bIdeal := hUpDw1bIdeal) (hUpDw1bRefIdeal := hUpDw1bRefIdeal)
    ∧ preserves_UpDw0a_UpDw0aIdeal
    ∧ algebraic_UpDw0aIdeal_UpDw0aRefIdeal (hUpDw0aIdeal := hUpDw0aIdeal) (hUpDw0aRefIdeal := hUpDw0aRefIdeal)
    ∧ preserves_UpDw0b_UpDw0bIdeal
    ∧ algebraic_UpDw0bIdeal_UpDw0bRefIdeal (hUpDw0bIdeal := hUpDw0bIdeal) (hUpDw0bRefIdeal := hUpDw0bRefIdeal)
    ∧ preserves_InADw1_InADw1Ideal
    ∧ algebraic_InADw1Ideal_InADw1RefIdeal (hInADw1Ideal := hInADw1Ideal) (hInADw1RefIdeal := hInADw1RefIdeal)
    ∧ preserves_InADw2_InADw2Ideal
    ∧ algebraic_InADw2Ideal_InADw2RefIdeal (hInADw2Ideal := hInADw2Ideal) (hInADw2RefIdeal := hInADw2RefIdeal)
    ∧ preserves_UpDw1a_UpDw1aIdeal
    ∧ algebraic_UpDw1aIdeal_UpDw1aRefIdeal (hUpDw1aIdeal := hUpDw1aIdeal) (hUpDw1aRefIdeal := hUpDw1aRefIdeal)
    ∧ preserves_InADw0_InADw0Ideal
    ∧ algebraic_InADw0Ideal_InADw0RefIdeal (hInADw0Ideal := hInADw0Ideal) (hInADw0RefIdeal := hInADw0RefIdeal)
    ∧ preserves_GateDx_GateDxIdeal
    ∧ algebraic_GateDxIdeal_GateDxRefIdeal (hGateDxIdeal := hGateDxIdeal) (hGateDxRefIdeal := hGateDxRefIdeal)
    ∧ preserves_GateDw_GateDwIdeal
    ∧ algebraic_GateDwIdeal_GateDwRefIdeal (hGateDwIdeal := hGateDwIdeal) (hGateDwRefIdeal := hGateDwRefIdeal)
    ∧ preserves_AdamInA_AdamInAIdeal
    ∧ algebraic_AdamInAIdeal_AdamInARefIdeal (hAdamInAIdeal := hAdamInAIdeal) (hAdamInARefIdeal := hAdamInARefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamInB_AdamInBIdeal
    ∧ algebraic_AdamInBIdeal_AdamInBRefIdeal (hAdamInBIdeal := hAdamInBIdeal) (hAdamInBRefIdeal := hAdamInBRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamTiny_AdamTinyIdeal
    ∧ algebraic_AdamTinyIdeal_AdamTinyRefIdeal (hAdamTinyIdeal := hAdamTinyIdeal) (hAdamTinyRefIdeal := hAdamTinyRefIdeal)
    ∧ preserves_AdaMod_AdaModIdeal
    ∧ algebraic_AdaModIdeal_AdaModRefIdeal (hAdaModIdeal := hAdaModIdeal) (hAdaModRefIdeal := hAdaModRefIdeal)
    ∧ preserves_AdaGrad_AdaGradIdeal
    ∧ algebraic_AdaGradIdeal_AdaGradRefIdeal (hAdaGradIdeal := hAdaGradIdeal) (hAdaGradRefIdeal := hAdaGradRefIdeal)
    ∧ preserves_NormFfn_NormFfnIdeal
    ∧ algebraic_NormFfnIdeal_NormFfnRefIdeal (hNormFfnIdeal := hNormFfnIdeal) (hNormFfnRefIdeal := hNormFfnRefIdeal)
    ∧ preserves_NormMix1_NormMix1Ideal
    ∧ algebraic_NormMix1Ideal_NormMix1RefIdeal (hNormMix1Ideal := hNormMix1Ideal) (hNormMix1RefIdeal := hNormMix1RefIdeal)
    ∧ preserves_GlaOut_GlaOutIdeal
    ∧ algebraic_GlaOutIdeal_GlaOutRefIdeal (hGlaOutIdeal := hGlaOutIdeal) (hGlaOutRefIdeal := hGlaOutRefIdeal)
    ∧ preserves_ConvGate_ConvGateIdeal
    ∧ algebraic_ConvGateIdeal_ConvGateRefIdeal (hConvGateIdeal := hConvGateIdeal) (hConvGateRefIdeal := hConvGateRefIdeal)
-- ==== Kernel.lean ====
abbrev S1x8192x3088 : Shape := ⟨3, ![1, 8192, 3088]⟩
abbrev S16x512 : Shape := ⟨2, ![16, 512]⟩
abbrev S512 : Shape := ⟨1, ![512]⟩
abbrev S1x8192x1024 : Shape := ⟨3, ![1, 8192, 1024]⟩
abbrev S8192x3088 : Shape := ⟨2, ![8192, 3088]⟩
abbrev S8192x2048 : Shape := ⟨2, ![8192, 2048]⟩
abbrev S8192x1024 : Shape := ⟨2, ![8192, 1024]⟩
abbrev S8192x16 : Shape := ⟨2, ![8192, 16]⟩
abbrev S_ : Shape := ⟨0, ![]⟩
abbrev S8192x112 : Shape := ⟨2, ![8192, 112]⟩
abbrev S8192x3200 : Shape := ⟨2, ![8192, 3200]⟩
abbrev S128x512 : Shape := ⟨2, ![128, 512]⟩
abbrev S1x512 : Shape := ⟨2, ![1, 512]⟩
abbrev S128x4x256x128 : Shape := ⟨4, ![128, 4, 256, 128]⟩
abbrev S512x128 : Shape := ⟨2, ![512, 128]⟩
abbrev S512x256 : Shape := ⟨2, ![512, 256]⟩
abbrev S128x128 : Shape := ⟨2, ![128, 128]⟩
abbrev S1x128 : Shape := ⟨2, ![1, 128]⟩
abbrev S8x1x256x128 : Shape := ⟨4, ![8, 1, 256, 128]⟩
abbrev S256x128 : Shape := ⟨2, ![256, 128]⟩
abbrev S64x256 : Shape := ⟨2, ![64, 256]⟩
abbrev S64x128 : Shape := ⟨2, ![64, 128]⟩
abbrev S64x64 : Shape := ⟨2, ![64, 64]⟩
abbrev S1x1x256x128 : Shape := ⟨4, ![1, 1, 256, 128]⟩
abbrev S8192x512 : Shape := ⟨2, ![8192, 512]⟩
abbrev S128 : Shape := ⟨1, ![128]⟩

abbrev nBuf : Space → Nat
  | .hbm => 23
  | .vmem => 44
  | .smem => 0
  | _ => 0

abbrev bufTy : (tb : Table) → Fin (tcTables nBuf tb) → BufTy
  | .hbm, ⟨0, _⟩ => ⟨S1x8192x3088, .f32⟩
  | .hbm, ⟨1, _⟩ => ⟨S16x512, .f32⟩
  | .hbm, ⟨2, _⟩ => ⟨S512, .f32⟩
  | .hbm, ⟨3, _⟩ => ⟨S1x8192x1024, .f32⟩
  | .hbm, ⟨4, _⟩ => ⟨S8192x3088, .f32⟩
  | .hbm, ⟨5, _⟩ => ⟨S8192x2048, .f32⟩
  | .hbm, ⟨6, _⟩ => ⟨S8192x1024, .f32⟩
  | .hbm, ⟨7, _⟩ => ⟨S8192x16, .f32⟩
  | .hbm, ⟨8, _⟩ => ⟨S_, .f32⟩
  | .hbm, ⟨9, _⟩ => ⟨S8192x112, .f32⟩
  | .hbm, ⟨10, _⟩ => ⟨S8192x3200, .f32⟩
  | .hbm, ⟨11, _⟩ => ⟨S_, .i32⟩
  | .hbm, ⟨12, _⟩ => ⟨S_, .f32⟩
  | .hbm, ⟨13, _⟩ => ⟨S128x512, .f32⟩
  | .hbm, ⟨14, _⟩ => ⟨S1x512, .f32⟩
  | .hbm, ⟨15, _⟩ => ⟨S8192x1024, .f32⟩
  | .hbm, ⟨16, _⟩ => ⟨S128x4x256x128, .f32⟩
  | .hbm, ⟨17, _⟩ => ⟨S8192x1024, .f32⟩
  | .hbm, ⟨18, _⟩ => ⟨S8192x512, .bf16⟩
  | .hbm, ⟨19, _⟩ => ⟨S8192x512, .bf16⟩
  | .hbm, ⟨20, _⟩ => ⟨S8192x1024, .bf16⟩
  | .hbm, ⟨21, _⟩ => ⟨S8192x512, .f32⟩
  | .hbm, ⟨22, _⟩ => ⟨S1x512, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S512x256, .f32⟩
  | .local _ .vmem, ⟨13, _⟩ => ⟨S512x256, .f32⟩
  | .local _ .vmem, ⟨14, _⟩ => ⟨S8x1x256x128, .f32⟩
  | .local _ .vmem, ⟨15, _⟩ => ⟨S8x1x256x128, .f32⟩
  | .local _ .vmem, ⟨16, _⟩ => ⟨S256x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x256, .f32⟩
  | .local _ .vmem, ⟨22, _⟩ => ⟨S512x256, .f32⟩
  | .local _ .vmem, ⟨23, _⟩ => ⟨S512x128, .f32⟩
  | .local _ .vmem, ⟨24, _⟩ => ⟨S512x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S8x1x256x128, .f32⟩
  | .local _ .vmem, ⟨30, _⟩ => ⟨S8x1x256x128, .f32⟩
  | .local _ .vmem, ⟨31, _⟩ => ⟨S512x256, .f32⟩
  | .local _ .vmem, ⟨32, _⟩ => ⟨S512x256, .f32⟩
  | .local _ .vmem, ⟨33, _⟩ => ⟨S512x128, .bf16⟩
  | .local _ .vmem, ⟨34, _⟩ => ⟨S512x128, .bf16⟩
  | .local _ .vmem, ⟨35, _⟩ => ⟨S512x128, .bf16⟩
  | .local _ .vmem, ⟨36, _⟩ => ⟨S512x128, .bf16⟩
  | .local _ .vmem, ⟨37, _⟩ => ⟨S512x256, .bf16⟩
  | .local _ .vmem, ⟨38, _⟩ => ⟨S512x256, .bf16⟩
  | .local _ .vmem, ⟨39, _⟩ => ⟨S512x128, .f32⟩
  | .local _ .vmem, ⟨40, _⟩ => ⟨S512x128, .f32⟩
  | .local _ .vmem, ⟨41, _⟩ => ⟨S1x128, .f32⟩
  | .local _ .vmem, ⟨42, _⟩ => ⟨S1x128, .f32⟩
  | .local _ .vmem, ⟨43, _⟩ => ⟨S256x128, .f32⟩
  | _, _ => ⟨S1x8192x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_scratch0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg1.toNat, c24_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.addi c4_i32 arg0
  let c0_i32 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.addi c4_i32 arg0
  let c0_i32 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c24_i32 : BitVec 32 := 24#32
  let c0_i32 : BitVec 32 := 0#32
  ![v0.toNat, c24_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![v0.toNat, arg0.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_8 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_9 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_10 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_11 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S8x1x256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S512x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S512x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]
-- ==== ReferenceIdeal.lean ====
abbrev S1x8192x3088 : Shape := ⟨3, ![1, 8192, 3088]⟩
abbrev S16x512 : Shape := ⟨2, ![16, 512]⟩
abbrev S512 : Shape := ⟨1, ![512]⟩
abbrev S1x8192x1024 : Shape := ⟨3, ![1, 8192, 1024]⟩
abbrev S1x8192x512 : Shape := ⟨3, ![1, 8192, 512]⟩
abbrev S1x8192x16 : Shape := ⟨3, ![1, 8192, 16]⟩
abbrev S1x1x512 : Shape := ⟨3, ![1, 1, 512]⟩
abbrev S_ : Shape := ⟨0, ![]⟩
abbrev S1x128x64x4x128 : Shape := ⟨5, ![1, 128, 64, 4, 128]⟩
abbrev S1x4x128x64x128 : Shape := ⟨5, ![1, 4, 128, 64, 128]⟩
abbrev S1x128x64x4x256 : Shape := ⟨5, ![1, 128, 64, 4, 256]⟩
abbrev S1x4x128x64x256 : Shape := ⟨5, ![1, 4, 128, 64, 256]⟩
abbrev S1x4x128x1x128 : Shape := ⟨5, ![1, 4, 128, 1, 128]⟩
abbrev S1x4x128x128x256 : Shape := ⟨5, ![1, 4, 128, 128, 256]⟩
abbrev S1x4x128x128 : Shape := ⟨4, ![1, 4, 128, 128]⟩
abbrev S64x64 : Shape := ⟨2, ![64, 64]⟩
abbrev S1x4x128x64x64 : Shape := ⟨5, ![1, 4, 128, 64, 64]⟩
abbrev S1x4x128x256 : Shape := ⟨4, ![1, 4, 128, 256]⟩
abbrev S128x1x4x128 : Shape := ⟨4, ![128, 1, 4, 128]⟩
abbrev S128x1x4x128x256 : Shape := ⟨5, ![128, 1, 4, 128, 256]⟩
abbrev S128x1x4x128x1 : Shape := ⟨5, ![128, 1, 4, 128, 1]⟩
abbrev S1x1x4x128 : Shape := ⟨4, ![1, 1, 4, 128]⟩
abbrev S1x4x128 : Shape := ⟨3, ![1, 4, 128]⟩
abbrev S1x1x4x128x256 : Shape := ⟨5, ![1, 1, 4, 128, 256]⟩
abbrev S1x4x128x1 : Shape := ⟨4, ![1, 4, 128, 1]⟩
abbrev S1x1x4x128x1 : Shape := ⟨5, ![1, 1, 4, 128, 1]⟩
abbrev S1x4x128x256x128 : Shape := ⟨5, ![1, 4, 128, 256, 128]⟩
abbrev S4x128 : Shape := ⟨2, ![4, 128]⟩
abbrev S1x4x128x256x64 : Shape := ⟨5, ![1, 4, 128, 256, 64]⟩
abbrev S1x4x128x128x64 : Shape := ⟨5, ![1, 4, 128, 128, 64]⟩
abbrev S1x512 : Shape := ⟨2, ![1, 512]⟩
abbrev S8192x1024 : Shape := ⟨2, ![8192, 1024]⟩
abbrev S8192x512 : Shape := ⟨2, ![8192, 512]⟩

abbrev nBuf : Space → Nat
  | .hbm => 311
  | .vmem => 0
  | .smem => 0
  | _ => 0

abbrev hbmTy0_0 (i : Nat) : BufTy := match i % 128 with
  | 0 => ⟨S1x8192x3088, .f32⟩
  | 1 => ⟨S16x512, .f32⟩
  | 2 => ⟨S512, .f32⟩
  | 3 => ⟨S1x8192x1024, .f32⟩
  | 4 => ⟨S1x8192x512, .f32⟩
  | 5 => ⟨S1x8192x512, .f32⟩
  | 6 => ⟨S1x8192x1024, .f32⟩
  | 7 => ⟨S1x8192x16, .f32⟩
  | 8 => ⟨S1x8192x512, .f32⟩
  | 9 => ⟨S1x1x512, .f32⟩
  | 10 => ⟨S1x8192x512, .f32⟩
  | 11 => ⟨S1x8192x512, .f32⟩
  | 12 => ⟨S1x8192x512, .f32⟩
  | 13 => ⟨S_, .f32⟩
  | 14 => ⟨S1x8192x512, .f32⟩
  | 15 => ⟨S1x8192x512, .f32⟩
  | 16 => ⟨S1x8192x512, .f32⟩
  | 17 => ⟨S1x8192x512, .f32⟩
  | 18 => ⟨S1x8192x512, .i1⟩
  | 19 => ⟨S1x8192x512, .f32⟩
  | 20 => ⟨S1x8192x512, .f32⟩
  | 21 => ⟨S1x8192x512, .f32⟩
  | 22 => ⟨S1x8192x512, .f32⟩
  | 23 => ⟨S1x8192x512, .f32⟩
  | 24 => ⟨S1x8192x512, .f32⟩
  | 25 => ⟨S1x8192x512, .f32⟩
  | 26 => ⟨S1x8192x512, .f32⟩
  | 27 => ⟨S_, .f32⟩
  | 28 => ⟨S1x8192x512, .f32⟩
  | 29 => ⟨S1x8192x512, .i1⟩
  | 30 => ⟨S_, .f32⟩
  | 31 => ⟨S1x8192x512, .f32⟩
  | 32 => ⟨S1x8192x512, .f32⟩
  | 33 => ⟨S_, .f32⟩
  | 34 => ⟨S1x8192x512, .f32⟩
  | 35 => ⟨S1x8192x512, .i1⟩
  | 36 => ⟨S_, .f32⟩
  | 37 => ⟨S1x8192x512, .f32⟩
  | 38 => ⟨S1x8192x512, .f32⟩
  | 39 => ⟨S1x8192x512, .f32⟩
  | 40 => ⟨S1x8192x512, .f32⟩
  | 41 => ⟨S_, .f32⟩
  | 42 => ⟨S_, .f32⟩
  | 43 => ⟨S_, .i1⟩
  | 44 => ⟨S_, .f32⟩
  | 45 => ⟨S_, .f32⟩
  | 46 => ⟨S_, .f32⟩
  | 47 => ⟨S_, .f32⟩
  | 48 => ⟨S1x8192x512, .f32⟩
  | 49 => ⟨S1x8192x512, .i1⟩
  | 50 => ⟨S_, .f32⟩
  | 51 => ⟨S1x8192x512, .f32⟩
  | 52 => ⟨S1x8192x512, .f32⟩
  | 53 => ⟨S1x8192x512, .f32⟩
  | 54 => ⟨S1x8192x512, .f32⟩
  | 55 => ⟨S1x8192x512, .f32⟩
  | 56 => ⟨S_, .f32⟩
  | 57 => ⟨S1x8192x512, .f32⟩
  | 58 => ⟨S1x8192x512, .f32⟩
  | 59 => ⟨S1x8192x512, .f32⟩
  | 60 => ⟨S_, .f32⟩
  | 61 => ⟨S1x8192x512, .f32⟩
  | 62 => ⟨S1x8192x512, .f32⟩
  | 63 => ⟨S1x128x64x4x128, .f32⟩
  | 64 => ⟨S1x4x128x64x128, .f32⟩
  | 65 => ⟨S1x128x64x4x256, .f32⟩
  | 66 => ⟨S1x4x128x64x256, .f32⟩
  | 67 => ⟨S1x128x64x4x128, .f32⟩
  | 68 => ⟨S1x4x128x64x128, .f32⟩
  | 69 => ⟨S_, .f32⟩
  | 70 => ⟨S_, .f32⟩
  | 71 => ⟨S1x4x128x64x128, .f32⟩
  | 72 => ⟨S1x4x128x1x128, .f32⟩
  | 73 => ⟨S1x4x128x64x128, .f32⟩
  | 74 => ⟨S1x4x128x64x128, .f32⟩
  | 75 => ⟨S1x4x128x64x128, .f32⟩
  | 76 => ⟨S1x4x128x64x128, .f32⟩
  | 77 => ⟨S1x4x128x128x256, .f32⟩
  | 78 => ⟨S1x4x128x128, .f32⟩
  | 79 => ⟨S1x4x128x128, .f32⟩
  | 80 => ⟨S1x128x64x4x128, .f32⟩
  | 81 => ⟨S1x4x128x64x128, .f32⟩
  | 82 => ⟨S_, .f32⟩
  | 83 => ⟨S1x4x128x64x128, .f32⟩
  | 84 => ⟨S1x4x128x64x128, .f32⟩
  | 85 => ⟨S1x128x64x4x128, .f32⟩
  | 86 => ⟨S1x4x128x64x128, .f32⟩
  | 87 => ⟨S1x128x64x4x256, .f32⟩
  | 88 => ⟨S1x4x128x64x256, .f32⟩
  | 89 => ⟨S1x4x128x64x128, .f32⟩
  | 90 => ⟨S1x4x128x64x128, .f32⟩
  | 91 => ⟨S1x4x128x64x128, .f32⟩
  | 92 => ⟨S1x4x128x64x128, .f32⟩
  | 93 => ⟨S1x4x128x64x128, .f32⟩
  | 94 => ⟨S_, .i1⟩
  | 95 => ⟨S64x64, .i1⟩
  | 96 => ⟨S64x64, .i32⟩
  | 97 => ⟨S_, .i32⟩
  | 98 => ⟨S64x64, .i32⟩
  | 99 => ⟨S64x64, .i32⟩
  | 100 => ⟨S64x64, .i32⟩
  | 101 => ⟨S64x64, .i1⟩
  | 102 => ⟨S_, .i1⟩
  | 103 => ⟨S64x64, .i1⟩
  | 104 => ⟨S64x64, .i1⟩
  | 105 => ⟨S1x4x128x64x64, .f32⟩
  | 106 => ⟨S_, .f32⟩
  | 107 => ⟨S_, .f32⟩
  | 108 => ⟨S1x4x128x64x64, .i1⟩
  | 109 => ⟨S1x4x128x64x64, .f32⟩
  | 110 => ⟨S1x4x128x64x64, .f32⟩
  | 111 => ⟨S_, .f32⟩
  | 112 => ⟨S1x4x128x64x64, .f32⟩
  | 113 => ⟨S1x4x128x64x256, .f32⟩
  | 114 => ⟨S_, .f32⟩
  | 115 => ⟨S1x4x128x256, .f32⟩
  | 116 => ⟨S128x1x4x128, .f32⟩
  | 117 => ⟨S128x1x4x128x256, .f32⟩
  | 118 => ⟨S_, .f32⟩
  | 119 => ⟨S128x1x4x128x256, .f32⟩
  | 120 => ⟨S_, .f32⟩
  | 121 => ⟨S128x1x4x128x1, .f32⟩
  | 122 => ⟨S_, .i32⟩
  | 123 => ⟨S128x1x4x128, .f32⟩
  | 124 => ⟨S128x1x4x128x256, .f32⟩
  | 125 => ⟨S_, .i32⟩
  | 126 => ⟨S1x4x128x256, .f32⟩
  | 127 => ⟨S128x1x4x128x256, .f32⟩
  | _ => ⟨S1x8192x3088, .f32⟩

abbrev hbmTy0_1 (i : Nat) : BufTy := match i % 128 with
  | 0 => ⟨S128x1x4x128x1, .f32⟩
  | 1 => ⟨S_, .i32⟩
  | 2 => ⟨S_, .i1⟩
  | 3 => ⟨S_, .i32⟩
  | 4 => ⟨S_, .i32⟩
  | 5 => ⟨S_, .i32⟩
  | 6 => ⟨S1x1x4x128, .f32⟩
  | 7 => ⟨S1x4x128, .f32⟩
  | 8 => ⟨S_, .i32⟩
  | 9 => ⟨S_, .i32⟩
  | 10 => ⟨S_, .i32⟩
  | 11 => ⟨S_, .i32⟩
  | 12 => ⟨S1x1x4x128x256, .f32⟩
  | 13 => ⟨S1x4x128x256, .f32⟩
  | 14 => ⟨S1x4x128x1, .f32⟩
  | 15 => ⟨S1x4x128x256, .f32⟩
  | 16 => ⟨S1x4x128x256, .f32⟩
  | 17 => ⟨S1x4x128x256, .f32⟩
  | 18 => ⟨S1x1x4x128x256, .f32⟩
  | 19 => ⟨S_, .i32⟩
  | 20 => ⟨S_, .i32⟩
  | 21 => ⟨S_, .i32⟩
  | 22 => ⟨S_, .i32⟩
  | 23 => ⟨S128x1x4x128x256, .f32⟩
  | 24 => ⟨S1x1x4x128x1, .f32⟩
  | 25 => ⟨S_, .i32⟩
  | 26 => ⟨S_, .i32⟩
  | 27 => ⟨S_, .i32⟩
  | 28 => ⟨S_, .i32⟩
  | 29 => ⟨S128x1x4x128x1, .f32⟩
  | 30 => ⟨S_, .i32⟩
  | 31 => ⟨S_, .i32⟩
  | 32 => ⟨S1x4x128x128x256, .f32⟩
  | 33 => ⟨S1x4x128x64x256, .f32⟩
  | 34 => ⟨S1x4x128x64x256, .f32⟩
  | 35 => ⟨S1x128x64x4x256, .f32⟩
  | 36 => ⟨S1x8192x1024, .f32⟩
  | 37 => ⟨S_, .f32⟩
  | 38 => ⟨S1x4x128x256, .f32⟩
  | 39 => ⟨S1x128x64x4x256, .f32⟩
  | 40 => ⟨S1x4x128x64x256, .f32⟩
  | 41 => ⟨S1x4x128x256x128, .f32⟩
  | 42 => ⟨S1x4x128x128x256, .f32⟩
  | 43 => ⟨S1x4x128x64x128, .f32⟩
  | 44 => ⟨S128x1x4x128x256, .f32⟩
  | 45 => ⟨S_, .f32⟩
  | 46 => ⟨S1x4x128x256, .f32⟩
  | 47 => ⟨S_, .f32⟩
  | 48 => ⟨S128x1x4x128, .f32⟩
  | 49 => ⟨S_, .f32⟩
  | 50 => ⟨S128x1x4x128x256, .f32⟩
  | 51 => ⟨S_, .i32⟩
  | 52 => ⟨S128x1x4x128x256, .f32⟩
  | 53 => ⟨S128x1x4x128x256, .f32⟩
  | 54 => ⟨S128x1x4x128x1, .f32⟩
  | 55 => ⟨S_, .i32⟩
  | 56 => ⟨S1x4x128x256, .f32⟩
  | 57 => ⟨S128x1x4x128, .f32⟩
  | 58 => ⟨S128x1x4x128x256, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S1x1x4x128x256, .f32⟩
  | 70 => ⟨S1x4x128x256, .f32⟩
  | 71 => ⟨S_, .i32⟩
  | 72 => ⟨S_, .i32⟩
  | 73 => ⟨S_, .i32⟩
  | 74 => ⟨S_, .i32⟩
  | 75 => ⟨S1x1x4x128x256, .f32⟩
  | 76 => ⟨S1x4x128x256, .f32⟩
  | 77 => ⟨S_, .i32⟩
  | 78 => ⟨S_, .i32⟩
  | 79 => ⟨S_, .i32⟩
  | 80 => ⟨S_, .i32⟩
  | 81 => ⟨S1x1x4x128x1, .f32⟩
  | 82 => ⟨S1x4x128x1, .f32⟩
  | 83 => ⟨S1x4x128x256, .f32⟩
  | 84 => ⟨S1x4x128x256, .f32⟩
  | 85 => ⟨S1x4x128x256, .f32⟩
  | 86 => ⟨S1x4x128x256, .f32⟩
  | 87 => ⟨S_, .f32⟩
  | 88 => ⟨S1x4x128, .f32⟩
  | 89 => ⟨S1x4x128x1, .f32⟩
  | 90 => ⟨S_, .f32⟩
  | 91 => ⟨S4x128, .f32⟩
  | 92 => ⟨S1x4x128, .f32⟩
  | 93 => ⟨S1x1x4x128, .f32⟩
  | 94 => ⟨S_, .i32⟩
  | 95 => ⟨S_, .i32⟩
  | 96 => ⟨S_, .i32⟩
  | 97 => ⟨S128x1x4x128, .f32⟩
  | 98 => ⟨S1x1x4x128x256, .f32⟩
  | 99 => ⟨S_, .i32⟩
  | 100 => ⟨S_, .i32⟩
  | 101 => ⟨S_, .i32⟩
  | 102 => ⟨S_, .i32⟩
  | 103 => ⟨S128x1x4x128x256, .f32⟩
  | 104 => ⟨S_, .i32⟩
  | 105 => ⟨S_, .i32⟩
  | 106 => ⟨S1x4x128x128x256, .f32⟩
  | 107 => ⟨S1x4x128x128, .f32⟩
  | 108 => ⟨S1x4x128x256x64, .f32⟩
  | 109 => ⟨S1x4x128x64x256, .f32⟩
  | 110 => ⟨S1x4x128x64x64, .f32⟩
  | 111 => ⟨S_, .f32⟩
  | 112 => ⟨S1x4x128x64x64, .f32⟩
  | 113 => ⟨S1x4x128x64x64, .f32⟩
  | 114 => ⟨S1x4x128x64x128, .f32⟩
  | 115 => ⟨S1x4x128x64x128, .f32⟩
  | 116 => ⟨S1x4x128x64x128, .f32⟩
  | 117 => ⟨S1x4x128x64x128, .f32⟩
  | 118 => ⟨S1x4x128x64x128, .f32⟩
  | 119 => ⟨S1x4x128x64x128, .f32⟩
  | 120 => ⟨S1x4x128x64x128, .f32⟩
  | 121 => ⟨S1x4x128x64x128, .f32⟩
  | 122 => ⟨S1x4x128x64x128, .f32⟩
  | 123 => ⟨S1x4x128x64x128, .f32⟩
  | 124 => ⟨S1x4x128x64x128, .f32⟩
  | 125 => ⟨S1x128x64x4x256, .f32⟩
  | 126 => ⟨S1x8192x1024, .f32⟩
  | 127 => ⟨S1x128x64x4x128, .f32⟩
  | _ => ⟨S1x8192x3088, .f32⟩

abbrev hbmTy0_2 (i : Nat) : BufTy := match i % 128 with
  | 0 => ⟨S1x8192x512, .f32⟩
  | 1 => ⟨S_, .f32⟩
  | 2 => ⟨S1x4x128x64x128, .f32⟩
  | 3 => ⟨S1x4x128x64x128, .f32⟩
  | 4 => ⟨S1x128x64x4x128, .f32⟩
  | 5 => ⟨S1x8192x512, .f32⟩
  | 6 => ⟨S1x4x128x128, .f32⟩
  | 7 => ⟨S1x4x128x1x128, .f32⟩
  | 8 => ⟨S1x4x128x256x64, .f32⟩
  | 9 => ⟨S1x4x128x64x256, .f32⟩
  | 10 => ⟨S1x4x128x128x64, .f32⟩
  | 11 => ⟨S1x4x128x64x128, .f32⟩
  | 12 => ⟨S1x4x128x64x128, .f32⟩
  | 13 => ⟨S1x4x128x64x128, .f32⟩
  | 14 => ⟨S1x4x128x64x128, .f32⟩
  | 15 => ⟨S_, .f32⟩
  | 16 => ⟨S1x4x128x128, .f32⟩
  | 17 => ⟨S1x4x128x1x128, .f32⟩
  | 18 => ⟨S1x4x128x64x128, .f32⟩
  | 19 => ⟨S1x4x128x1x128, .f32⟩
  | 20 => ⟨S1x4x128x64x128, .f32⟩
  | 21 => ⟨S_, .f32⟩
  | 22 => ⟨S1x4x128x64x128, .f32⟩
  | 23 => ⟨S1x4x128x64x128, .f32⟩
  | 24 => ⟨S_, .f32⟩
  | 25 => ⟨S_, .f32⟩
  | 26 => ⟨S1x4x128x64x128, .f32⟩
  | 27 => ⟨S1x128x64x4x128, .f32⟩
  | 28 => ⟨S1x8192x512, .f32⟩
  | 29 => ⟨S1x128x64x4x256, .f32⟩
  | 30 => ⟨S1x8192x1024, .f32⟩
  | 31 => ⟨S1x8192x1024, .f32⟩
  | 32 => ⟨S1x128x64x4x128, .f32⟩
  | 33 => ⟨S1x8192x512, .f32⟩
  | 34 => ⟨S1x8192x512, .f32⟩
  | 35 => ⟨S_, .f32⟩
  | 36 => ⟨S1x8192x512, .f32⟩
  | 37 => ⟨S1x8192x512, .f32⟩
  | 38 => ⟨S1x8192x512, .f32⟩
  | 39 => ⟨S1x8192x512, .f32⟩
  | 40 => ⟨S1x8192x512, .f32⟩
  | 41 => ⟨S_, .f32⟩
  | 42 => ⟨S1x512, .f32⟩
  | 43 => ⟨S1x1x512, .f32⟩
  | 44 => ⟨S_, .f32⟩
  | 45 => ⟨S512, .f32⟩
  | 46 => ⟨S8192x1024, .f32⟩
  | 47 => ⟨S8192x512, .f32⟩
  | 48 => ⟨S8192x512, .bf16⟩
  | 49 => ⟨S8192x512, .f32⟩
  | 50 => ⟨S8192x512, .bf16⟩
  | 51 => ⟨S8192x1024, .f32⟩
  | 52 => ⟨S8192x1024, .bf16⟩
  | 53 => ⟨S8192x512, .f32⟩
  | 54 => ⟨S1x512, .f32⟩
  | _ => ⟨S1x8192x3088, .f32⟩

abbrev hbmTy (i : Nat) : BufTy := match i / 128 with
  | 0 => hbmTy0_0 i
  | 1 => hbmTy0_1 i
  | 2 => hbmTy0_2 i
  | _ => ⟨S1x8192x3088, .f32⟩

abbrev bufTy : (tb : Table) → Fin (tcTables nBuf tb) → BufTy
  | .hbm, ⟨i, _⟩ => hbmTy i
  | _, _ => ⟨S1x8192x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1_0 : Ref sig .tc := ⟨.hbm, 26, rfl⟩
abbrev main_call0_call0_cst_0 : Ref sig .tc := ⟨.hbm, 27, rfl⟩
abbrev main_call0_call0_v13 : Ref sig .tc := ⟨.hbm, 28, rfl⟩
abbrev main_call0_call0_v14 : Ref sig .tc := ⟨.hbm, 29, rfl⟩
abbrev main_call0_call0_cst_1 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_cst_2 : Ref sig .tc := ⟨.hbm, 33, rfl⟩
abbrev main_call0_call0_v17 : Ref sig .tc := ⟨.hbm, 34, rfl⟩
abbrev main_call0_call0_v18 : Ref sig .tc := ⟨.hbm, 35, rfl⟩
abbrev main_call0_call0_cst_3 : Ref sig .tc := ⟨.hbm, 36, rfl⟩
abbrev main_call0_call0_v19 : Ref sig .tc := ⟨.hbm, 37, rfl⟩
abbrev main_call0_call0_v20 : Ref sig .tc := ⟨.hbm, 38, rfl⟩
abbrev main_call0_call0_v21 : Ref sig .tc := ⟨.hbm, 39, rfl⟩
abbrev main_v8_1 : Ref sig .tc := ⟨.hbm, 40, rfl⟩
abbrev main_call0_call0_cst_4 : Ref sig .tc := ⟨.hbm, 41, rfl⟩
abbrev main_call0_call0_cst_5 : Ref sig .tc := ⟨.hbm, 42, rfl⟩
abbrev main_call0_call0_v23 : Ref sig .tc := ⟨.hbm, 43, rfl⟩
abbrev main_call0_call0_cst_6 : Ref sig .tc := ⟨.hbm, 44, rfl⟩
abbrev main_call0_call0_cst_7 : Ref sig .tc := ⟨.hbm, 45, rfl⟩
abbrev main_call0_call0_v24 : Ref sig .tc := ⟨.hbm, 46, rfl⟩
abbrev main_call0_call0_cst_8 : Ref sig .tc := ⟨.hbm, 47, rfl⟩
abbrev main_call0_call0_v25 : Ref sig .tc := ⟨.hbm, 48, rfl⟩
abbrev main_call0_call0_v26 : Ref sig .tc := ⟨.hbm, 49, rfl⟩
abbrev main_call0_call0_cst_9 : Ref sig .tc := ⟨.hbm, 50, rfl⟩
abbrev main_call0_call0_v27 : Ref sig .tc := ⟨.hbm, 51, rfl⟩
abbrev main_call0_call0_v28 : Ref sig .tc := ⟨.hbm, 52, rfl⟩
abbrev main_call0_call0_v29 : Ref sig .tc := ⟨.hbm, 53, rfl⟩
abbrev main_call0_call0_v30 : Ref sig .tc := ⟨.hbm, 54, rfl⟩
abbrev main_call0_call0_v31 : Ref sig .tc := ⟨.hbm, 55, rfl⟩
abbrev main_call0_call0_cst_10 : Ref sig .tc := ⟨.hbm, 56, rfl⟩
abbrev main_call0_call0_v32 : Ref sig .tc := ⟨.hbm, 57, rfl⟩
abbrev main_v8_2 : Ref sig .tc := ⟨.hbm, 58, rfl⟩
abbrev main_v8_0 : Ref sig .tc := ⟨.hbm, 59, rfl⟩
abbrev main_cst : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_call1_call0_cst : Ref sig .tc := ⟨.hbm, 69, rfl⟩
abbrev main_call1_call0_v0 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_cst_0 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_c : Ref sig .tc := ⟨.hbm, 94, rfl⟩
abbrev main_v39 : Ref sig .tc := ⟨.hbm, 95, rfl⟩
abbrev main_call2_v0 : Ref sig .tc := ⟨.hbm, 96, rfl⟩
abbrev main_call2_c : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_c_0 : Ref sig .tc := ⟨.hbm, 102, rfl⟩
abbrev main_call2_v5 : Ref sig .tc := ⟨.hbm, 103, rfl⟩
abbrev main_v40 : Ref sig .tc := ⟨.hbm, 104, rfl⟩
abbrev main_v41 : Ref sig .tc := ⟨.hbm, 105, rfl⟩
abbrev main_cst_1 : Ref sig .tc := ⟨.hbm, 106, rfl⟩
abbrev main_call3_v0 : Ref sig .tc := ⟨.hbm, 107, rfl⟩
abbrev main_v42_1 : Ref sig .tc := ⟨.hbm, 108, rfl⟩
abbrev main_call3_v2 : Ref sig .tc := ⟨.hbm, 109, rfl⟩
abbrev main_v42_0 : Ref sig .tc := ⟨.hbm, 110, rfl⟩
abbrev main_call3_cst : Ref sig .tc := ⟨.hbm, 111, rfl⟩
abbrev main_v42_2 : Ref sig .tc := ⟨.hbm, 112, rfl⟩
abbrev main_v43 : Ref sig .tc := ⟨.hbm, 113, rfl⟩
abbrev main_cst_2 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_cst_3 : Ref sig .tc := ⟨.hbm, 118, rfl⟩
abbrev main_v47 : Ref sig .tc := ⟨.hbm, 119, rfl⟩
abbrev main_cst_4 : Ref sig .tc := ⟨.hbm, 120, rfl⟩
abbrev main_v48 : Ref sig .tc := ⟨.hbm, 121, rfl⟩
abbrev main_c_5 : Ref sig .tc := ⟨.hbm, 122, rfl⟩
abbrev main_v49_0 : Ref sig .tc := ⟨.hbm, 123, rfl⟩
abbrev main_v49_1 : Ref sig .tc := ⟨.hbm, 124, rfl⟩
abbrev main_v49_2 : Ref sig .tc := ⟨.hbm, 125, rfl⟩
abbrev main_v49_3 : Ref sig .tc := ⟨.hbm, 126, rfl⟩
abbrev main_v49_4 : Ref sig .tc := ⟨.hbm, 127, rfl⟩
abbrev main_v49_5 : Ref sig .tc := ⟨.hbm, 128, rfl⟩
abbrev main_while0c_c_22 : Ref sig .tc := ⟨.hbm, 129, rfl⟩
abbrev main_while0c_v131 : Ref sig .tc := ⟨.hbm, 130, rfl⟩
abbrev main_while0b_call4_c : Ref sig .tc := ⟨.hbm, 131, rfl⟩
abbrev main_while0b_call4_c_0 : Ref sig .tc := ⟨.hbm, 132, rfl⟩
abbrev main_while0b_call4_c_1 : Ref sig .tc := ⟨.hbm, 133, rfl⟩
abbrev main_while0b_call4_v0 : Ref sig .tc := ⟨.hbm, 134, rfl⟩
abbrev main_while0b_v131 : Ref sig .tc := ⟨.hbm, 135, rfl⟩
abbrev main_while0b_call5_c : Ref sig .tc := ⟨.hbm, 136, rfl⟩
abbrev main_while0b_call5_c_0 : Ref sig .tc := ⟨.hbm, 137, rfl⟩
abbrev main_while0b_call5_c_1 : Ref sig .tc := ⟨.hbm, 138, rfl⟩
abbrev main_while0b_call5_c_2 : Ref sig .tc := ⟨.hbm, 139, rfl⟩
abbrev main_while0b_call5_v0 : Ref sig .tc := ⟨.hbm, 140, rfl⟩
abbrev main_while0b_v132 : Ref sig .tc := ⟨.hbm, 141, rfl⟩
abbrev main_while0b_v133 : Ref sig .tc := ⟨.hbm, 142, rfl⟩
abbrev main_while0b_v134 : Ref sig .tc := ⟨.hbm, 143, rfl⟩
abbrev main_while0b_v135 : Ref sig .tc := ⟨.hbm, 144, rfl⟩
abbrev main_while0b_v136 : Ref sig .tc := ⟨.hbm, 145, rfl⟩
abbrev main_while0b_call6_v0 : Ref sig .tc := ⟨.hbm, 146, rfl⟩
abbrev main_while0b_call6_c : Ref sig .tc := ⟨.hbm, 147, rfl⟩
abbrev main_while0b_call6_c_0 : Ref sig .tc := ⟨.hbm, 148, rfl⟩
abbrev main_while0b_call6_c_1 : Ref sig .tc := ⟨.hbm, 149, rfl⟩
abbrev main_while0b_call6_c_2 : Ref sig .tc := ⟨.hbm, 150, rfl⟩
abbrev main_while0b_v137 : Ref sig .tc := ⟨.hbm, 151, rfl⟩
abbrev main_while0b_call7_v0 : Ref sig .tc := ⟨.hbm, 152, rfl⟩
abbrev main_while0b_call7_c : Ref sig .tc := ⟨.hbm, 153, rfl⟩
abbrev main_while0b_call7_c_0 : Ref sig .tc := ⟨.hbm, 154, rfl⟩
abbrev main_while0b_call7_c_1 : Ref sig .tc := ⟨.hbm, 155, rfl⟩
abbrev main_while0b_call7_c_2 : Ref sig .tc := ⟨.hbm, 156, rfl⟩
abbrev main_while0b_v138 : Ref sig .tc := ⟨.hbm, 157, rfl⟩
abbrev main_while0b_c_22 : Ref sig .tc := ⟨.hbm, 158, rfl⟩
abbrev main_while0b_v139 : Ref sig .tc := ⟨.hbm, 159, rfl⟩
abbrev main_v50 : Ref sig .tc := ⟨.hbm, 160, rfl⟩
abbrev main_v51 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_cst_6 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_cst_7 : Ref sig .tc := ⟨.hbm, 173, rfl⟩
abbrev main_v62 : Ref sig .tc := ⟨.hbm, 174, rfl⟩
abbrev main_cst_8 : Ref sig .tc := ⟨.hbm, 175, rfl⟩
abbrev main_v63 : Ref sig .tc := ⟨.hbm, 176, rfl⟩
abbrev main_cst_9 : Ref sig .tc := ⟨.hbm, 177, rfl⟩
abbrev main_v64 : Ref sig .tc := ⟨.hbm, 178, rfl⟩
abbrev main_c_10 : Ref sig .tc := ⟨.hbm, 179, rfl⟩
abbrev main_v65_0 : Ref sig .tc := ⟨.hbm, 180, rfl⟩
abbrev main_v65_1 : Ref sig .tc := ⟨.hbm, 181, rfl⟩
abbrev main_v65_2 : Ref sig .tc := ⟨.hbm, 182, rfl⟩
abbrev main_v65_3 : Ref sig .tc := ⟨.hbm, 183, rfl⟩
abbrev main_v65_4 : Ref sig .tc := ⟨.hbm, 184, rfl⟩
abbrev main_v65_5 : Ref sig .tc := ⟨.hbm, 185, rfl⟩
abbrev main_v65_6 : Ref sig .tc := ⟨.hbm, 186, rfl⟩
abbrev main_while1c_c_23 : Ref sig .tc := ⟨.hbm, 187, rfl⟩
abbrev main_while1c_v131 : Ref sig .tc := ⟨.hbm, 188, rfl⟩
abbrev main_while1b_c_23 : Ref sig .tc := ⟨.hbm, 189, rfl⟩
abbrev main_while1b_v131 : Ref sig .tc := ⟨.hbm, 190, rfl⟩
abbrev main_while1b_c_24 : Ref sig .tc := ⟨.hbm, 191, rfl⟩
abbrev main_while1b_v132 : Ref sig .tc := ⟨.hbm, 192, rfl⟩
abbrev main_while1b_call8_c : Ref sig .tc := ⟨.hbm, 193, rfl⟩
abbrev main_while1b_call8_c_0 : Ref sig .tc := ⟨.hbm, 194, rfl⟩
abbrev main_while1b_call8_c_1 : Ref sig .tc := ⟨.hbm, 195, rfl⟩
abbrev main_while1b_call8_c_2 : Ref sig .tc := ⟨.hbm, 196, rfl⟩
abbrev main_while1b_call8_v0 : Ref sig .tc := ⟨.hbm, 197, rfl⟩
abbrev main_while1b_v133 : Ref sig .tc := ⟨.hbm, 198, rfl⟩
abbrev main_while1b_call9_c : Ref sig .tc := ⟨.hbm, 199, rfl⟩
abbrev main_while1b_call9_c_0 : Ref sig .tc := ⟨.hbm, 200, rfl⟩
abbrev main_while1b_call9_c_1 : Ref sig .tc := ⟨.hbm, 201, rfl⟩
abbrev main_while1b_call9_c_2 : Ref sig .tc := ⟨.hbm, 202, rfl⟩
abbrev main_while1b_call9_v0 : Ref sig .tc := ⟨.hbm, 203, rfl⟩
abbrev main_while1b_v134 : Ref sig .tc := ⟨.hbm, 204, rfl⟩
abbrev main_while1b_call10_c : Ref sig .tc := ⟨.hbm, 205, rfl⟩
abbrev main_while1b_call10_c_0 : Ref sig .tc := ⟨.hbm, 206, rfl⟩
abbrev main_while1b_call10_c_1 : Ref sig .tc := ⟨.hbm, 207, rfl⟩
abbrev main_while1b_call10_c_2 : Ref sig .tc := ⟨.hbm, 208, rfl⟩
abbrev main_while1b_call10_v0 : Ref sig .tc := ⟨.hbm, 209, rfl⟩
abbrev main_while1b_v135 : Ref sig .tc := ⟨.hbm, 210, rfl⟩
abbrev main_while1b_v136 : Ref sig .tc := ⟨.hbm, 211, rfl⟩
abbrev main_while1b_v137 : Ref sig .tc := ⟨.hbm, 212, rfl⟩
abbrev main_while1b_v138 : Ref sig .tc := ⟨.hbm, 213, rfl⟩
abbrev main_while1b_v139 : Ref sig .tc := ⟨.hbm, 214, rfl⟩
abbrev main_while1b_cst_25 : Ref sig .tc := ⟨.hbm, 215, rfl⟩
abbrev main_while1b_v140 : Ref sig .tc := ⟨.hbm, 216, rfl⟩
abbrev main_while1b_v141 : Ref sig .tc := ⟨.hbm, 217, rfl⟩
abbrev main_while1b_cst_26 : Ref sig .tc := ⟨.hbm, 218, rfl⟩
abbrev main_while1b_v142 : Ref sig .tc := ⟨.hbm, 219, rfl⟩
abbrev main_while1b_v143 : Ref sig .tc := ⟨.hbm, 220, rfl⟩
abbrev main_while1b_call11_v0 : Ref sig .tc := ⟨.hbm, 221, rfl⟩
abbrev main_while1b_call11_c : Ref sig .tc := ⟨.hbm, 222, rfl⟩
abbrev main_while1b_call11_c_0 : Ref sig .tc := ⟨.hbm, 223, rfl⟩
abbrev main_while1b_call11_c_1 : Ref sig .tc := ⟨.hbm, 224, rfl⟩
abbrev main_while1b_v144 : Ref sig .tc := ⟨.hbm, 225, rfl⟩
abbrev main_while1b_call12_v0 : Ref sig .tc := ⟨.hbm, 226, rfl⟩
abbrev main_while1b_call12_c : Ref sig .tc := ⟨.hbm, 227, rfl⟩
abbrev main_while1b_call12_c_0 : Ref sig .tc := ⟨.hbm, 228, rfl⟩
abbrev main_while1b_call12_c_1 : Ref sig .tc := ⟨.hbm, 229, rfl⟩
abbrev main_while1b_call12_c_2 : Ref sig .tc := ⟨.hbm, 230, rfl⟩
abbrev main_while1b_v145 : Ref sig .tc := ⟨.hbm, 231, rfl⟩
abbrev main_while1b_c_27 : Ref sig .tc := ⟨.hbm, 232, rfl⟩
abbrev main_while1b_v146 : Ref sig .tc := ⟨.hbm, 233, rfl⟩
abbrev main_v66 : Ref sig .tc := ⟨.hbm, 234, rfl⟩
abbrev main_v67 : Ref sig .tc := ⟨.hbm, 235, rfl⟩
abbrev main_v68 : Ref sig .tc := ⟨.hbm, 236, rfl⟩
abbrev main_v69 : Ref sig .tc := ⟨.hbm, 237, rfl⟩
abbrev main_v70 : Ref sig .tc := ⟨.hbm, 238, rfl⟩
abbrev main_call13_cst : Ref sig .tc := ⟨.hbm, 239, rfl⟩
abbrev main_call13_v0 : Ref sig .tc := ⟨.hbm, 240, rfl⟩
abbrev main_v71 : Ref sig .tc := ⟨.hbm, 241, rfl⟩
abbrev main_v72 : Ref sig .tc := ⟨.hbm, 242, rfl⟩
abbrev main_v73 : Ref sig .tc := ⟨.hbm, 243, rfl⟩
abbrev main_v74 : Ref sig .tc := ⟨.hbm, 244, rfl⟩
abbrev main_v75 : Ref sig .tc := ⟨.hbm, 245, rfl⟩
abbrev main_v76 : Ref sig .tc := ⟨.hbm, 246, rfl⟩
abbrev main_v77 : Ref sig .tc := ⟨.hbm, 247, rfl⟩
abbrev main_v78 : Ref sig .tc := ⟨.hbm, 248, rfl⟩
abbrev main_v79 : Ref sig .tc := ⟨.hbm, 249, rfl⟩
abbrev main_v80 : Ref sig .tc := ⟨.hbm, 250, rfl⟩
abbrev main_v81 : Ref sig .tc := ⟨.hbm, 251, rfl⟩
abbrev main_v82 : Ref sig .tc := ⟨.hbm, 252, rfl⟩
abbrev main_v83 : Ref sig .tc := ⟨.hbm, 253, rfl⟩
abbrev main_v84 : Ref sig .tc := ⟨.hbm, 254, rfl⟩
abbrev main_v85 : Ref sig .tc := ⟨.hbm, 255, rfl⟩
abbrev main_v86 : Ref sig .tc := ⟨.hbm, 256, rfl⟩
abbrev main_cst_11 : Ref sig .tc := ⟨.hbm, 257, rfl⟩
abbrev main_v87 : Ref sig .tc := ⟨.hbm, 258, rfl⟩
abbrev main_v88 : Ref sig .tc := ⟨.hbm, 259, rfl⟩
abbrev main_v89 : Ref sig .tc := ⟨.hbm, 260, rfl⟩
abbrev main_v90 : Ref sig .tc := ⟨.hbm, 261, rfl⟩
abbrev main_v91 : Ref sig .tc := ⟨.hbm, 262, rfl⟩
abbrev main_v92 : Ref sig .tc := ⟨.hbm, 263, rfl⟩
abbrev main_v93 : Ref sig .tc := ⟨.hbm, 264, rfl⟩
abbrev main_v94 : Ref sig .tc := ⟨.hbm, 265, rfl⟩
abbrev main_v95 : Ref sig .tc := ⟨.hbm, 266, rfl⟩
abbrev main_v96 : Ref sig .tc := ⟨.hbm, 267, rfl⟩
abbrev main_v97 : Ref sig .tc := ⟨.hbm, 268, rfl⟩
abbrev main_v98 : Ref sig .tc := ⟨.hbm, 269, rfl⟩
abbrev main_v99 : Ref sig .tc := ⟨.hbm, 270, rfl⟩
abbrev main_cst_12 : Ref sig .tc := ⟨.hbm, 271, rfl⟩
abbrev main_v100 : Ref sig .tc := ⟨.hbm, 272, rfl⟩
abbrev main_v101 : Ref sig .tc := ⟨.hbm, 273, rfl⟩
abbrev main_v102 : Ref sig .tc := ⟨.hbm, 274, rfl⟩
abbrev main_v103 : Ref sig .tc := ⟨.hbm, 275, rfl⟩
abbrev main_v104 : Ref sig .tc := ⟨.hbm, 276, rfl⟩
abbrev main_cst_13 : Ref sig .tc := ⟨.hbm, 277, rfl⟩
abbrev main_v105 : Ref sig .tc := ⟨.hbm, 278, rfl⟩
abbrev main_v106 : Ref sig .tc := ⟨.hbm, 279, rfl⟩
abbrev main_call14_call0_cst : Ref sig .tc := ⟨.hbm, 280, rfl⟩
abbrev main_call14_call0_v0 : Ref sig .tc := ⟨.hbm, 281, rfl⟩
abbrev main_v107 : Ref sig .tc := ⟨.hbm, 282, rfl⟩
abbrev main_v108 : Ref sig .tc := ⟨.hbm, 283, rfl⟩
abbrev main_v109 : Ref sig .tc := ⟨.hbm, 284, rfl⟩
abbrev main_v110 : Ref sig .tc := ⟨.hbm, 285, rfl⟩
abbrev main_v111 : Ref sig .tc := ⟨.hbm, 286, rfl⟩
abbrev main_v112 : Ref sig .tc := ⟨.hbm, 287, rfl⟩
abbrev main_v113 : Ref sig .tc := ⟨.hbm, 288, rfl⟩
abbrev main_v114 : Ref sig .tc := ⟨.hbm, 289, rfl⟩
abbrev main_v115 : Ref sig .tc := ⟨.hbm, 290, rfl⟩
abbrev main_cst_14 : Ref sig .tc := ⟨.hbm, 291, rfl⟩
abbrev main_v116 : Ref sig .tc := ⟨.hbm, 292, rfl⟩
abbrev main_v117 : Ref sig .tc := ⟨.hbm, 293, rfl⟩
abbrev main_call15_v0 : Ref sig .tc := ⟨.hbm, 294, rfl⟩
abbrev main_call15_v1 : Ref sig .tc := ⟨.hbm, 295, rfl⟩
abbrev main_v118 : Ref sig .tc := ⟨.hbm, 296, rfl⟩
abbrev main_cst_15 : Ref sig .tc := ⟨.hbm, 297, rfl⟩
abbrev main_v119 : Ref sig .tc := ⟨.hbm, 298, rfl⟩
abbrev main_v120 : Ref sig .tc := ⟨.hbm, 299, rfl⟩
abbrev main_cst_16 : Ref sig .tc := ⟨.hbm, 300, rfl⟩
abbrev main_v121 : Ref sig .tc := ⟨.hbm, 301, rfl⟩
abbrev main_v122 : Ref sig .tc := ⟨.hbm, 302, rfl⟩
abbrev main_v123 : Ref sig .tc := ⟨.hbm, 303, rfl⟩
abbrev main_v124 : Ref sig .tc := ⟨.hbm, 304, rfl⟩
abbrev main_v125 : Ref sig .tc := ⟨.hbm, 305, rfl⟩
abbrev main_v126 : Ref sig .tc := ⟨.hbm, 306, rfl⟩
abbrev main_v127 : Ref sig .tc := ⟨.hbm, 307, rfl⟩
abbrev main_v128 : Ref sig .tc := ⟨.hbm, 308, rfl⟩
abbrev main_v129 : Ref sig .tc := ⟨.hbm, 309, rfl⟩
abbrev main_v130 : Ref sig .tc := ⟨.hbm, 310, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩
-- ==== UpDx0a.lean ====
abbrev S8192x2816 : Shape := ⟨2, ![8192, 2816]⟩
abbrev S2x1024x5632 : Shape := ⟨3, ![2, 1024, 5632]⟩
abbrev S2048x4x1408 : Shape := ⟨3, ![2048, 4, 1408]⟩
abbrev S4x2048x1408 : Shape := ⟨3, ![4, 2048, 1408]⟩
abbrev S8192x1024 : Shape := ⟨2, ![8192, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2x1024x5632, .f32⟩
  | .hbm, ⟨2, _⟩ => ⟨S2048x4x1408, .f32⟩
  | .hbm, ⟨3, _⟩ => ⟨S4x2048x1408, .f32⟩
  | .hbm, ⟨4, _⟩ => ⟨S4x2048x1408, .bf16⟩
  | .hbm, ⟨5, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDx0aRefIdeal.lean ====
abbrev S8192x2816 : Shape := ⟨2, ![8192, 2816]⟩
abbrev S2x1024x5632 : Shape := ⟨3, ![2, 1024, 5632]⟩
abbrev S1x1024x2816 : Shape := ⟨3, ![1, 1024, 2816]⟩
abbrev S1024x2816 : Shape := ⟨2, ![1024, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x1024x5632, .f32⟩
  | .hbm, ⟨2, _⟩ => ⟨S8192x2816, .f32⟩
  | .hbm, ⟨3, _⟩ => ⟨S1x1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpDx0b.lean ====
abbrev S8192x2816 : Shape := ⟨2, ![8192, 2816]⟩
abbrev S2x1024x5632 : Shape := ⟨3, ![2, 1024, 5632]⟩
abbrev S8192x1024 : Shape := ⟨2, ![8192, 1024]⟩
abbrev S2048x4x1408 : Shape := ⟨3, ![2048, 4, 1408]⟩
abbrev S4x2048x1408 : Shape := ⟨3, ![4, 2048, 1408]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2x1024x5632, .f32⟩
  | .hbm, ⟨2, _⟩ => ⟨S8192x1024, .f32⟩
  | .hbm, ⟨3, _⟩ => ⟨S2048x4x1408, .f32⟩
  | .hbm, ⟨4, _⟩ => ⟨S4x2048x1408, .f32⟩
  | .hbm, ⟨5, _⟩ => ⟨S4x2048x1408, .bf16⟩
  | .hbm, ⟨6, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDx0bRefIdeal.lean ====
abbrev S8192x2816 : Shape := ⟨2, ![8192, 2816]⟩
abbrev S2x1024x5632 : Shape := ⟨3, ![2, 1024, 5632]⟩
abbrev S8192x1024 : Shape := ⟨2, ![8192, 1024]⟩
abbrev S1x1024x2816 : Shape := ⟨3, ![1, 1024, 2816]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x1024x5632, .f32⟩
  | .hbm, ⟨2, _⟩ => ⟨S8192x1024, .f32⟩
  | .hbm, ⟨3, _⟩ => ⟨S8192x2816, .f32⟩
  | .hbm, ⟨4, _⟩ => ⟨S1x1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDx1a.lean ====
abbrev S8192x2816 : Shape := ⟨2, ![8192, 2816]⟩
abbrev S2x1024x5632 : Shape := ⟨3, ![2, 1024, 5632]⟩
abbrev S2048x4x1408 : Shape := ⟨3, ![2048, 4, 1408]⟩
abbrev S4x2048x1408 : Shape := ⟨3, ![4, 2048, 1408]⟩
abbrev S8192x1024 : Shape := ⟨2, ![8192, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2x1024x5632, .f32⟩
  | .hbm, ⟨2, _⟩ => ⟨S2048x4x1408, .f32⟩
  | .hbm, ⟨3, _⟩ => ⟨S4x2048x1408, .f32⟩
  | .hbm, ⟨4, _⟩ => ⟨S4x2048x1408, .bf16⟩
  | .hbm, ⟨5, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c1_i32 : BitVec 32 := 1#32
  let c0_i32_0 : BitVec 32 := 0#32
  let c0_i32_1 : BitVec 32 := 0#32
  ![v0.toNat, c1_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDx1aRefIdeal.lean ====
abbrev S8192x2816 : Shape := ⟨2, ![8192, 2816]⟩
abbrev S2x1024x5632 : Shape := ⟨3, ![2, 1024, 5632]⟩
abbrev S1x1024x2816 : Shape := ⟨3, ![1, 1024, 2816]⟩
abbrev S1024x2816 : Shape := ⟨2, ![1024, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x1024x5632, .f32⟩
  | .hbm, ⟨2, _⟩ => ⟨S8192x2816, .f32⟩
  | .hbm, ⟨3, _⟩ => ⟨S1x1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpDx1b.lean ====
abbrev S8192x2816 : Shape := ⟨2, ![8192, 2816]⟩
abbrev S2x1024x5632 : Shape := ⟨3, ![2, 1024, 5632]⟩
abbrev S8192x1024 : Shape := ⟨2, ![8192, 1024]⟩
abbrev S2048x4x1408 : Shape := ⟨3, ![2048, 4, 1408]⟩
abbrev S4x2048x1408 : Shape := ⟨3, ![4, 2048, 1408]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2x1024x5632, .f32⟩
  | .hbm, ⟨2, _⟩ => ⟨S8192x1024, .f32⟩
  | .hbm, ⟨3, _⟩ => ⟨S2048x4x1408, .f32⟩
  | .hbm, ⟨4, _⟩ => ⟨S4x2048x1408, .f32⟩
  | .hbm, ⟨5, _⟩ => ⟨S4x2048x1408, .bf16⟩
  | .hbm, ⟨6, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c1_i32 : BitVec 32 := 1#32
  let c0_i32 : BitVec 32 := 0#32
  let c0_i32_0 : BitVec 32 := 0#32
  ![v0.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDx1bRefIdeal.lean ====
abbrev S8192x2816 : Shape := ⟨2, ![8192, 2816]⟩
abbrev S2x1024x5632 : Shape := ⟨3, ![2, 1024, 5632]⟩
abbrev S8192x1024 : Shape := ⟨2, ![8192, 1024]⟩
abbrev S1x1024x2816 : Shape := ⟨3, ![1, 1024, 2816]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x1024x5632, .f32⟩
  | .hbm, ⟨2, _⟩ => ⟨S8192x1024, .f32⟩
  | .hbm, ⟨3, _⟩ => ⟨S8192x2816, .f32⟩
  | .hbm, ⟨4, _⟩ => ⟨S1x1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx0.lean ====
abbrev S8192x1024 : Shape := ⟨2, ![8192, 1024]⟩
abbrev S2x2816x1024 : Shape := ⟨3, ![2, 2816, 1024]⟩
abbrev S5632x1024 : Shape := ⟨2, ![5632, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x2816x1024, .f32⟩
  | .hbm, ⟨2, _⟩ => ⟨S5632x1024, .f32⟩
  | .hbm, ⟨3, _⟩ => ⟨S5632x1024, .bf16⟩
  | .hbm, ⟨4, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDx0RefIdeal.lean ====
abbrev S8192x1024 : Shape := ⟨2, ![8192, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x2816x1024, .f32⟩
  | .hbm, ⟨2, _⟩ => ⟨S8192x1024, .f32⟩
  | .hbm, ⟨3, _⟩ => ⟨S1x2816x1024, .f32⟩
  | .hbm, ⟨4, _⟩ => ⟨S2816x1024, .f32⟩
  | .hbm, ⟨5, _⟩ => ⟨S1024x2816, .f32⟩
  | .hbm, ⟨6, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownDx1.lean ====
abbrev S8192x1024 : Shape := ⟨2, ![8192, 1024]⟩
abbrev S2x2816x1024 : Shape := ⟨3, ![2, 2816, 1024]⟩
abbrev S5632x1024 : Shape := ⟨2, ![5632, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x2816x1024, .f32⟩
  | .hbm, ⟨2, _⟩ => ⟨S5632x1024, .f32⟩
  | .hbm, ⟨3, _⟩ => ⟨S5632x1024, .bf16⟩
  | .hbm, ⟨4, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDx1RefIdeal.lean ====
abbrev S8192x1024 : Shape := ⟨2, ![8192, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x2816x1024, .f32⟩
  | .hbm, ⟨2, _⟩ => ⟨S8192x1024, .f32⟩
  | .hbm, ⟨3, _⟩ => ⟨S1x2816x1024, .f32⟩
  | .hbm, ⟨4, _⟩ => ⟨S2816x1024, .f32⟩
  | .hbm, ⟨5, _⟩ => ⟨S1024x2816, .f32⟩
  | .hbm, ⟨6, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InBDx.lean ====
abbrev S8192x3200 : Shape := ⟨2, ![8192, 3200]⟩
abbrev S1x1024x3088 : Shape := ⟨3, ![1, 1024, 3088]⟩
abbrev S1024x3088 : Shape := ⟨2, ![1024, 3088]⟩
abbrev S1024x2048 : Shape := ⟨2, ![1024, 2048]⟩
abbrev S1024x1024 : Shape := ⟨2, ![1024, 1024]⟩
abbrev S1024x16 : Shape := ⟨2, ![1024, 16]⟩
abbrev S_ : Shape := ⟨0, ![]⟩
abbrev S1024x112 : Shape := ⟨2, ![1024, 112]⟩
abbrev S1024x3200 : Shape := ⟨2, ![1024, 3200]⟩
abbrev S8192x1024 : Shape := ⟨2, ![8192, 1024]⟩

abbrev nBuf : Space → Nat
  | .hbm => 11
  | .vmem => 5
  | .smem => 0
  | _ => 0

abbrev bufTy : (tb : Table) → Fin (tcTables nBuf tb) → BufTy
  | .hbm, ⟨0, _⟩ => ⟨S8192x3200, .bf16⟩
  | .hbm, ⟨1, _⟩ => ⟨S1x1024x3088, .f32⟩
  | .hbm, ⟨2, _⟩ => ⟨S1024x3088, .f32⟩
  | .hbm, ⟨3, _⟩ => ⟨S1024x3088, .bf16⟩
  | .hbm, ⟨4, _⟩ => ⟨S1024x2048, .bf16⟩
  | .hbm, ⟨5, _⟩ => ⟨S1024x1024, .bf16⟩
  | .hbm, ⟨6, _⟩ => ⟨S1024x16, .bf16⟩
  | .hbm, ⟨7, _⟩ => ⟨S_, .bf16⟩
  | .hbm, ⟨8, _⟩ => ⟨S1024x112, .bf16⟩
  | .hbm, ⟨9, _⟩ => ⟨S1024x3200, .bf16⟩
  | .hbm, ⟨10, _⟩ => ⟨S8192x1024, .f32⟩
  | .local _ .vmem, ⟨0, _⟩ => ⟨S1024x3200, .bf16⟩
  | .local _ .vmem, ⟨1, _⟩ => ⟨S1024x3200, .bf16⟩
  | .local _ .vmem, ⟨2, _⟩ => ⟨S1024x3200, .bf16⟩
  | .local _ .vmem, ⟨3, _⟩ => ⟨S1024x1024, .f32⟩
  | .local _ .vmem, ⟨4, _⟩ => ⟨S1024x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBDxRefIdeal.lean ====
abbrev S8192x3200 : Shape := ⟨2, ![8192, 3200]⟩
abbrev S1x1024x3088 : Shape := ⟨3, ![1, 1024, 3088]⟩
abbrev S1024x3088 : Shape := ⟨2, ![1024, 3088]⟩
abbrev S1024x2048 : Shape := ⟨2, ![1024, 2048]⟩
abbrev S1024x1024 : Shape := ⟨2, ![1024, 1024]⟩
abbrev S1024x16 : Shape := ⟨2, ![1024, 16]⟩
abbrev S_ : Shape := ⟨0, ![]⟩
abbrev S1024x112 : Shape := ⟨2, ![1024, 112]⟩
abbrev S1024x3200 : Shape := ⟨2, ![1024, 3200]⟩
abbrev S3200x1024 : Shape := ⟨2, ![3200, 1024]⟩
abbrev S8192x1024 : Shape := ⟨2, ![8192, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S1x1024x3088, .f32⟩
  | .hbm, ⟨2, _⟩ => ⟨S8192x3200, .f32⟩
  | .hbm, ⟨3, _⟩ => ⟨S1024x3088, .f32⟩
  | .hbm, ⟨4, _⟩ => ⟨S1024x2048, .f32⟩
  | .hbm, ⟨5, _⟩ => ⟨S1024x1024, .f32⟩
  | .hbm, ⟨6, _⟩ => ⟨S1024x16, .f32⟩
  | .hbm, ⟨7, _⟩ => ⟨S_, .f32⟩
  | .hbm, ⟨8, _⟩ => ⟨S1024x112, .f32⟩
  | .hbm, ⟨9, _⟩ => ⟨S1024x3200, .f32⟩
  | .hbm, ⟨10, _⟩ => ⟨S3200x1024, .f32⟩
  | .hbm, ⟨11, _⟩ => ⟨S8192x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InBDw.lean ====
abbrev S8192x1024 : Shape := ⟨2, ![8192, 1024]⟩
abbrev S8192x3200 : Shape := ⟨2, ![8192, 3200]⟩
abbrev S1024x3200 : Shape := ⟨2, ![1024, 3200]⟩
abbrev S2048x1024 : Shape := ⟨2, ![2048, 1024]⟩
abbrev S2048x640 : Shape := ⟨2, ![2048, 640]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S1024x3200, .f32⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBDwRefIdeal.lean ====
abbrev S8192x1024 : Shape := ⟨2, ![8192, 1024]⟩
abbrev S8192x3200 : Shape := ⟨2, ![8192, 3200]⟩
abbrev S1024x8192 : Shape := ⟨2, ![1024, 8192]⟩
abbrev S1024x3200 : Shape := ⟨2, ![1024, 3200]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S8192x1024, .f32⟩
  | .hbm, ⟨3, _⟩ => ⟨S1024x8192, .f32⟩
  | .hbm, ⟨4, _⟩ => ⟨S8192x3200, .f32⟩
  | .hbm, ⟨5, _⟩ => ⟨S1024x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutDx.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S1024x1024, .f32⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutADw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutADwRefIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x8192, .f32⟩
  | .hbm, ⟨3, _⟩ => ⟨S8192x1024, .f32⟩
  | .hbm, ⟨4, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutBDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutBDwRefIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InADx0.lean ====
abbrev S8192x3072 : Shape := ⟨2, ![8192, 3072]⟩
abbrev S1x1024x9216 : Shape := ⟨3, ![1, 1024, 9216]⟩
abbrev S1024x4x2304 : Shape := ⟨3, ![1024, 4, 2304]⟩
abbrev S4x1024x2304 : Shape := ⟨3, ![4, 1024, 2304]⟩
abbrev S8192x1024 : Shape := ⟨2, ![8192, 1024]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1x1024x9216, .f32⟩
  | .hbm, ⟨2, _⟩ => ⟨S1024x4x2304, .f32⟩
  | .hbm, ⟨3, _⟩ => ⟨S4x1024x2304, .f32⟩
  | .hbm, ⟨4, _⟩ => ⟨S4x1024x2304, .bf16⟩
  | .hbm, ⟨5, _⟩ => ⟨S8192x1024, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c4_i32 : BitVec 32 := 4#32
  let v27 : BitVec 32 := Scalar.muli v26 c4_i32
  let v28 : BitVec 32 := Scalar.addi v27 arg2
  let c0_i32_10 : BitVec 32 := 0#32
  ![v9.toNat, v28.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg2
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg1.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== InADx0RefIdeal.lean ====
abbrev S8192x3072 : Shape := ⟨2, ![8192, 3072]⟩
abbrev S1x1024x9216 : Shape := ⟨3, ![1, 1024, 9216]⟩
abbrev S1x1024x3072 : Shape := ⟨3, ![1, 1024, 3072]⟩
abbrev S1024x3072 : Shape := ⟨2, ![1024, 3072]⟩
abbrev S3072x1024 : Shape := ⟨2, ![3072, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1x1024x9216, .f32⟩
  | .hbm, ⟨2, _⟩ => ⟨S8192x3072, .f32⟩
  | .hbm, ⟨3, _⟩ => ⟨S1x1024x3072, .f32⟩
  | .hbm, ⟨4, _⟩ => ⟨S1024x3072, .f32⟩
  | .hbm, ⟨5, _⟩ => ⟨S3072x1024, .f32⟩
  | .hbm, ⟨6, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InADx1.lean ====
abbrev S2048x12288 : Shape := ⟨2, ![2048, 12288]⟩
abbrev S1x1024x9216 : Shape := ⟨3, ![1, 1024, 9216]⟩
abbrev S1024x4x2304 : Shape := ⟨3, ![1024, 4, 2304]⟩
abbrev S4x1024x2304 : Shape := ⟨3, ![4, 1024, 2304]⟩
abbrev S2048x4096 : Shape := ⟨2, ![2048, 4096]⟩
abbrev S1024x768 : Shape := ⟨2, ![1024, 768]⟩
abbrev S1x1024x768 : Shape := ⟨3, ![1, 1024, 768]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x12288, .bf16⟩
  | .hbm, ⟨1, _⟩ => ⟨S1x1024x9216, .f32⟩
  | .hbm, ⟨2, _⟩ => ⟨S1024x4x2304, .f32⟩
  | .hbm, ⟨3, _⟩ => ⟨S4x1024x2304, .f32⟩
  | .hbm, ⟨4, _⟩ => ⟨S4x1024x2304, .bf16⟩
  | .hbm, ⟨5, _⟩ => ⟨S2048x4096, .f32⟩
  | .local _ .vmem, ⟨0, _⟩ => ⟨S1024x768, .bf16⟩
  | .local _ .vmem, ⟨1, _⟩ => ⟨S1024x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c4_i32 : BitVec 32 := 4#32
  let v27 : BitVec 32 := Scalar.muli v26 c4_i32
  let v28 : BitVec 32 := Scalar.addi v27 arg2
  let c0_i32_10 : BitVec 32 := 0#32
  ![v9.toNat, v28.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.addi c4_i32_4 arg2
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg1.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== InADx1RefIdeal.lean ====
abbrev S2048x12288 : Shape := ⟨2, ![2048, 12288]⟩
abbrev S1x1024x9216 : Shape := ⟨3, ![1, 1024, 9216]⟩
abbrev S8192x3072 : Shape := ⟨2, ![8192, 3072]⟩
abbrev S1x1024x3072 : Shape := ⟨3, ![1, 1024, 3072]⟩
abbrev S1024x3072 : Shape := ⟨2, ![1024, 3072]⟩
abbrev S3072x1024 : Shape := ⟨2, ![3072, 1024]⟩
abbrev S8192x1024 : Shape := ⟨2, ![8192, 1024]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2048x12288, .bf16⟩
  | .hbm, ⟨1, _⟩ => ⟨S1x1024x9216, .f32⟩
  | .hbm, ⟨2, _⟩ => ⟨S8192x3072, .bf16⟩
  | .hbm, ⟨3, _⟩ => ⟨S8192x3072, .f32⟩
  | .hbm, ⟨4, _⟩ => ⟨S1x1024x3072, .f32⟩
  | .hbm, ⟨5, _⟩ => ⟨S1024x3072, .f32⟩
  | .hbm, ⟨6, _⟩ => ⟨S3072x1024, .f32⟩
  | .hbm, ⟨7, _⟩ => ⟨S8192x1024, .f32⟩
  | .hbm, ⟨8, _⟩ => ⟨S2048x4096, .f32⟩
  | _, _ => ⟨S2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InADx2.lean ====
abbrev S512x49152 : Shape := ⟨2, ![512, 49152]⟩
abbrev S1x1024x9216 : Shape := ⟨3, ![1, 1024, 9216]⟩
abbrev S1024x4x2304 : Shape := ⟨3, ![1024, 4, 2304]⟩
abbrev S4x1024x2304 : Shape := ⟨3, ![4, 1024, 2304]⟩
abbrev S512x16384 : Shape := ⟨2, ![512, 16384]⟩
abbrev S512x768 : Shape := ⟨2, ![512, 768]⟩
abbrev S1x1024x768 : Shape := ⟨3, ![1, 1024, 768]⟩
abbrev S512x1024 : Shape := ⟨2, ![512, 1024]⟩
abbrev S1024x768 : Shape := ⟨2, ![1024, 768]⟩

abbrev nBuf : Space → Nat
  | .hbm => 6
  | .vmem => 7
  | .smem => 0
  | _ => 0

abbrev bufTy : (tb : Table) → Fin (tcTables nBuf tb) → BufTy
  | .hbm, ⟨0, _⟩ => ⟨S512x49152, .bf16⟩
  | .hbm, ⟨1, _⟩ => ⟨S1x1024x9216, .f32⟩
  | .hbm, ⟨2, _⟩ => ⟨S1024x4x2304, .f32⟩
  | .hbm, ⟨3, _⟩ => ⟨S4x1024x2304, .f32⟩
  | .hbm, ⟨4, _⟩ => ⟨S4x1024x2304, .bf16⟩
  | .hbm, ⟨5, _⟩ => ⟨S512x16384, .f32⟩
  | .local _ .vmem, ⟨0, _⟩ => ⟨S512x768, .bf16⟩
  | .local _ .vmem, ⟨1, _⟩ => ⟨S512x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x49152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg0 c1_i32_4
  let c0_i32_5 : BitVec 32 := 0#32
  let v11 : BitVec 1 := Scalar.cmpi .sgt arg0 c0_i32_5
  let v12 : BitVec 32 := Scalar.extui v11
  let c0_i32_6 : BitVec 32 := 0#32
  let v13 : BitVec 1 := Scalar.cmpi .slt arg0 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg0 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c4_i32 : BitVec 32 := 4#32
  let v27 : BitVec 32 := Scalar.muli v26 c4_i32
  let v28 : BitVec 32 := Scalar.addi v27 arg2
  let c0_i32_11 : BitVec 32 := 0#32
  ![v9.toNat, v28.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg2
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg1.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg0 c1_i32_4
  let c0_i32_5 : BitVec 32 := 0#32
  let v11 : BitVec 1 := Scalar.cmpi .sgt arg0 c0_i32_5
  let v12 : BitVec 32 := Scalar.extui v11
  let c0_i32_6 : BitVec 32 := 0#32
  let v13 : BitVec 1 := Scalar.cmpi .slt arg0 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg0 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c0_i32_11 : BitVec 32 := 0#32
  ![v9.toNat, v26.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== InADx2RefIdeal.lean ====
abbrev S512x49152 : Shape := ⟨2, ![512, 49152]⟩
abbrev S1x1024x9216 : Shape := ⟨3, ![1, 1024, 9216]⟩
abbrev S8192x3072 : Shape := ⟨2, ![8192, 3072]⟩
abbrev S1x1024x3072 : Shape := ⟨3, ![1, 1024, 3072]⟩
abbrev S1024x3072 : Shape := ⟨2, ![1024, 3072]⟩
abbrev S3072x1024 : Shape := ⟨2, ![3072, 1024]⟩
abbrev S8192x1024 : Shape := ⟨2, ![8192, 1024]⟩
abbrev S512x16384 : Shape := ⟨2, ![512, 16384]⟩

abbrev nBuf : Space → Nat
  | .hbm => 9
  | .vmem => 0
  | .smem => 0
  | _ => 0

abbrev bufTy : (tb : Table) → Fin (tcTables nBuf tb) → BufTy
  | .hbm, ⟨0, _⟩ => ⟨S512x49152, .bf16⟩
  | .hbm, ⟨1, _⟩ => ⟨S1x1024x9216, .f32⟩
  | .hbm, ⟨2, _⟩ => ⟨S8192x3072, .bf16⟩
  | .hbm, ⟨3, _⟩ => ⟨S8192x3072, .f32⟩
  | .hbm, ⟨4, _⟩ => ⟨S1x1024x3072, .f32⟩
  | .hbm, ⟨5, _⟩ => ⟨S1024x3072, .f32⟩
  | .hbm, ⟨6, _⟩ => ⟨S3072x1024, .f32⟩
  | .hbm, ⟨7, _⟩ => ⟨S8192x1024, .f32⟩
  | .hbm, ⟨8, _⟩ => ⟨S512x16384, .f32⟩
  | _, _ => ⟨S512x49152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InA0.lean ====
abbrev S8192x1024 : Shape := ⟨2, ![8192, 1024]⟩
abbrev S1x1024x9216 : Shape := ⟨3, ![1, 1024, 9216]⟩
abbrev S1024x4x2304 : Shape := ⟨3, ![1024, 4, 2304]⟩
abbrev S4x1024x2304 : Shape := ⟨3, ![4, 1024, 2304]⟩
abbrev S8192x3072 : Shape := ⟨2, ![8192, 3072]⟩
abbrev S1024x1024 : Shape := ⟨2, ![1024, 1024]⟩
abbrev S1x1024x768 : Shape := ⟨3, ![1, 1024, 768]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x9216, .f32⟩
  | .hbm, ⟨2, _⟩ => ⟨S1024x4x2304, .f32⟩
  | .hbm, ⟨3, _⟩ => ⟨S4x1024x2304, .f32⟩
  | .hbm, ⟨4, _⟩ => ⟨S4x1024x2304, .bf16⟩
  | .hbm, ⟨5, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x768, .bf16⟩
  | .local _ .vmem, ⟨5, _⟩ => ⟨S1024x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg1
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c4_i32 : BitVec 32 := 4#32
  let v27 : BitVec 32 := Scalar.muli v26 c4_i32
  let v28 : BitVec 32 := Scalar.addi v27 arg1
  let c0_i32_10 : BitVec 32 := 0#32
  ![v9.toNat, v28.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InA0RefIdeal.lean ====
abbrev S8192x1024 : Shape := ⟨2, ![8192, 1024]⟩
abbrev S1x1024x9216 : Shape := ⟨3, ![1, 1024, 9216]⟩
abbrev S1x1024x3072 : Shape := ⟨3, ![1, 1024, 3072]⟩
abbrev S1024x3072 : Shape := ⟨2, ![1024, 3072]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x9216, .f32⟩
  | .hbm, ⟨2, _⟩ => ⟨S8192x1024, .f32⟩
  | .hbm, ⟨3, _⟩ => ⟨S1x1024x3072, .f32⟩
  | .hbm, ⟨4, _⟩ => ⟨S1024x3072, .f32⟩
  | .hbm, ⟨5, _⟩ => ⟨S8192x3072, .f32⟩
  | .hbm, ⟨6, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InA1.lean ====
abbrev S2048x4096 : Shape := ⟨2, ![2048, 4096]⟩
abbrev S1x1024x9216 : Shape := ⟨3, ![1, 1024, 9216]⟩
abbrev S1024x4x2304 : Shape := ⟨3, ![1024, 4, 2304]⟩
abbrev S4x1024x2304 : Shape := ⟨3, ![4, 1024, 2304]⟩
abbrev S2048x12288 : Shape := ⟨2, ![2048, 12288]⟩
abbrev S1024x1024 : Shape := ⟨2, ![1024, 1024]⟩
abbrev S1x1024x768 : Shape := ⟨3, ![1, 1024, 768]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S1x1024x9216, .f32⟩
  | .hbm, ⟨2, _⟩ => ⟨S1024x4x2304, .f32⟩
  | .hbm, ⟨3, _⟩ => ⟨S4x1024x2304, .f32⟩
  | .hbm, ⟨4, _⟩ => ⟨S4x1024x2304, .bf16⟩
  | .hbm, ⟨5, _⟩ => ⟨S2048x12288, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1024x768, .bf16⟩
  | .local _ .vmem, ⟨5, _⟩ => ⟨S1024x768, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.addi c4_i32_4 arg1
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c4_i32 : BitVec 32 := 4#32
  let v27 : BitVec 32 := Scalar.muli v26 c4_i32
  let v28 : BitVec 32 := Scalar.addi v27 arg1
  let c0_i32_10 : BitVec 32 := 0#32
  ![v9.toNat, v28.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InA1RefIdeal.lean ====
abbrev S2048x4096 : Shape := ⟨2, ![2048, 4096]⟩
abbrev S1x1024x9216 : Shape := ⟨3, ![1, 1024, 9216]⟩
abbrev S8192x1024 : Shape := ⟨2, ![8192, 1024]⟩
abbrev S1x1024x3072 : Shape := ⟨3, ![1, 1024, 3072]⟩
abbrev S1024x3072 : Shape := ⟨2, ![1024, 3072]⟩
abbrev S8192x3072 : Shape := ⟨2, ![8192, 3072]⟩
abbrev S2048x12288 : Shape := ⟨2, ![2048, 12288]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1x1024x9216, .f32⟩
  | .hbm, ⟨2, _⟩ => ⟨S8192x1024, .bf16⟩
  | .hbm, ⟨3, _⟩ => ⟨S8192x1024, .f32⟩
  | .hbm, ⟨4, _⟩ => ⟨S1x1024x3072, .f32⟩
  | .hbm, ⟨5, _⟩ => ⟨S1024x3072, .f32⟩
  | .hbm, ⟨6, _⟩ => ⟨S8192x3072, .f32⟩
  | .hbm, ⟨7, _⟩ => ⟨S2048x12288, .f32⟩
  | .hbm, ⟨8, _⟩ => ⟨S2048x12288, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InA2.lean ====
abbrev S512x16384 : Shape := ⟨2, ![512, 16384]⟩
abbrev S1x1024x9216 : Shape := ⟨3, ![1, 1024, 9216]⟩
abbrev S1024x4x2304 : Shape := ⟨3, ![1024, 4, 2304]⟩
abbrev S4x1024x2304 : Shape := ⟨3, ![4, 1024, 2304]⟩
abbrev S512x49152 : Shape := ⟨2, ![512, 49152]⟩
abbrev S512x1024 : Shape := ⟨2, ![512, 1024]⟩
abbrev S1x1024x768 : Shape := ⟨3, ![1, 1024, 768]⟩
abbrev S512x768 : Shape := ⟨2, ![512, 768]⟩
abbrev S1024x768 : Shape := ⟨2, ![1024, 768]⟩

abbrev nBuf : Space → Nat
  | .hbm => 6
  | .vmem => 6
  | .smem => 0
  | _ => 0

abbrev bufTy : (tb : Table) → Fin (tcTables nBuf tb) → BufTy
  | .hbm, ⟨0, _⟩ => ⟨S512x16384, .bf16⟩
  | .hbm, ⟨1, _⟩ => ⟨S1x1024x9216, .f32⟩
  | .hbm, ⟨2, _⟩ => ⟨S1024x4x2304, .f32⟩
  | .hbm, ⟨3, _⟩ => ⟨S4x1024x2304, .f32⟩
  | .hbm, ⟨4, _⟩ => ⟨S4x1024x2304, .bf16⟩
  | .hbm, ⟨5, _⟩ => ⟨S512x49152, .bf16⟩
  | .local _ .vmem, ⟨0, _⟩ => ⟨S512x1024, .bf16⟩
  | .local _ .vmem, ⟨1, _⟩ => ⟨S512x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S512x768, .bf16⟩
  | .local _ .vmem, ⟨5, _⟩ => ⟨S512x768, .bf16⟩
  | _, _ => ⟨S512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg0 c1_i32_4
  let c0_i32_5 : BitVec 32 := 0#32
  let v11 : BitVec 1 := Scalar.cmpi .sgt arg0 c0_i32_5
  let v12 : BitVec 32 := Scalar.extui v11
  let c0_i32_6 : BitVec 32 := 0#32
  let v13 : BitVec 1 := Scalar.cmpi .slt arg0 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg0 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c0_i32_11 : BitVec 32 := 0#32
  ![v9.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg1
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg0 c1_i32_4
  let c0_i32_5 : BitVec 32 := 0#32
  let v11 : BitVec 1 := Scalar.cmpi .sgt arg0 c0_i32_5
  let v12 : BitVec 32 := Scalar.extui v11
  let c0_i32_6 : BitVec 32 := 0#32
  let v13 : BitVec 1 := Scalar.cmpi .slt arg0 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg0 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c4_i32 : BitVec 32 := 4#32
  let v27 : BitVec 32 := Scalar.muli v26 c4_i32
  let v28 : BitVec 32 := Scalar.addi v27 arg1
  let c0_i32_11 : BitVec 32 := 0#32
  ![v9.toNat, v28.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InA2RefIdeal.lean ====
abbrev S512x16384 : Shape := ⟨2, ![512, 16384]⟩
abbrev S1x1024x9216 : Shape := ⟨3, ![1, 1024, 9216]⟩
abbrev S8192x1024 : Shape := ⟨2, ![8192, 1024]⟩
abbrev S1x1024x3072 : Shape := ⟨3, ![1, 1024, 3072]⟩
abbrev S1024x3072 : Shape := ⟨2, ![1024, 3072]⟩
abbrev S8192x3072 : Shape := ⟨2, ![8192, 3072]⟩
abbrev S512x49152 : Shape := ⟨2, ![512, 49152]⟩

abbrev nBuf : Space → Nat
  | .hbm => 9
  | .vmem => 0
  | .smem => 0
  | _ => 0

abbrev bufTy : (tb : Table) → Fin (tcTables nBuf tb) → BufTy
  | .hbm, ⟨0, _⟩ => ⟨S512x16384, .bf16⟩
  | .hbm, ⟨1, _⟩ => ⟨S1x1024x9216, .f32⟩
  | .hbm, ⟨2, _⟩ => ⟨S8192x1024, .bf16⟩
  | .hbm, ⟨3, _⟩ => ⟨S8192x1024, .f32⟩
  | .hbm, ⟨4, _⟩ => ⟨S1x1024x3072, .f32⟩
  | .hbm, ⟨5, _⟩ => ⟨S1024x3072, .f32⟩
  | .hbm, ⟨6, _⟩ => ⟨S8192x3072, .f32⟩
  | .hbm, ⟨7, _⟩ => ⟨S512x49152, .f32⟩
  | .hbm, ⟨8, _⟩ => ⟨S512x49152, .bf16⟩
  | _, _ => ⟨S512x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Up0.lean ====
abbrev S8192x1024 : Shape := ⟨2, ![8192, 1024]⟩
abbrev S2x1024x5632 : Shape := ⟨3, ![2, 1024, 5632]⟩
abbrev S2048x4x1408 : Shape := ⟨3, ![2048, 4, 1408]⟩
abbrev S4x2048x1408 : Shape := ⟨3, ![4, 2048, 1408]⟩
abbrev S8192x5632 : Shape := ⟨2, ![8192, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x5632, .f32⟩
  | .hbm, ⟨2, _⟩ => ⟨S2048x4x1408, .f32⟩
  | .hbm, ⟨3, _⟩ => ⟨S4x2048x1408, .f32⟩
  | .hbm, ⟨4, _⟩ => ⟨S4x2048x1408, .bf16⟩
  | .hbm, ⟨5, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Up0RefIdeal.lean ====
abbrev S8192x1024 : Shape := ⟨2, ![8192, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x5632, .f32⟩
  | .hbm, ⟨2, _⟩ => ⟨S8192x1024, .f32⟩
  | .hbm, ⟨3, _⟩ => ⟨S1x1024x5632, .f32⟩
  | .hbm, ⟨4, _⟩ => ⟨S1024x5632, .f32⟩
  | .hbm, ⟨5, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down0.lean ====
abbrev S8192x2816 : Shape := ⟨2, ![8192, 2816]⟩
abbrev S2x2816x1024 : Shape := ⟨3, ![2, 2816, 1024]⟩
abbrev S5632x1024 : Shape := ⟨2, ![5632, 1024]⟩
abbrev S8192x1024 : Shape := ⟨2, ![8192, 1024]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .f32⟩
  | .hbm, ⟨2, _⟩ => ⟨S5632x1024, .f32⟩
  | .hbm, ⟨3, _⟩ => ⟨S5632x1024, .bf16⟩
  | .hbm, ⟨4, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Down0RefIdeal.lean ====
abbrev S8192x2816 : Shape := ⟨2, ![8192, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .f32⟩
  | .hbm, ⟨2, _⟩ => ⟨S8192x2816, .f32⟩
  | .hbm, ⟨3, _⟩ => ⟨S1x2816x1024, .f32⟩
  | .hbm, ⟨4, _⟩ => ⟨S2816x1024, .f32⟩
  | .hbm, ⟨5, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up1.lean ====
abbrev S8192x1024 : Shape := ⟨2, ![8192, 1024]⟩
abbrev S2x1024x5632 : Shape := ⟨3, ![2, 1024, 5632]⟩
abbrev S2048x4x1408 : Shape := ⟨3, ![2048, 4, 1408]⟩
abbrev S4x2048x1408 : Shape := ⟨3, ![4, 2048, 1408]⟩
abbrev S8192x5632 : Shape := ⟨2, ![8192, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x5632, .f32⟩
  | .hbm, ⟨2, _⟩ => ⟨S2048x4x1408, .f32⟩
  | .hbm, ⟨3, _⟩ => ⟨S4x2048x1408, .f32⟩
  | .hbm, ⟨4, _⟩ => ⟨S4x2048x1408, .bf16⟩
  | .hbm, ⟨5, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Up1RefIdeal.lean ====
abbrev S8192x1024 : Shape := ⟨2, ![8192, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x5632, .f32⟩
  | .hbm, ⟨2, _⟩ => ⟨S8192x1024, .f32⟩
  | .hbm, ⟨3, _⟩ => ⟨S1x1024x5632, .f32⟩
  | .hbm, ⟨4, _⟩ => ⟨S1024x5632, .f32⟩
  | .hbm, ⟨5, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down1.lean ====
abbrev S8192x2816 : Shape := ⟨2, ![8192, 2816]⟩
abbrev S2x2816x1024 : Shape := ⟨3, ![2, 2816, 1024]⟩
abbrev S5632x1024 : Shape := ⟨2, ![5632, 1024]⟩
abbrev S8192x1024 : Shape := ⟨2, ![8192, 1024]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .f32⟩
  | .hbm, ⟨2, _⟩ => ⟨S5632x1024, .f32⟩
  | .hbm, ⟨3, _⟩ => ⟨S5632x1024, .bf16⟩
  | .hbm, ⟨4, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Down1RefIdeal.lean ====
abbrev S8192x2816 : Shape := ⟨2, ![8192, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .f32⟩
  | .hbm, ⟨2, _⟩ => ⟨S8192x2816, .f32⟩
  | .hbm, ⟨3, _⟩ => ⟨S1x2816x1024, .f32⟩
  | .hbm, ⟨4, _⟩ => ⟨S2816x1024, .f32⟩
  | .hbm, ⟨5, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InB.lean ====
abbrev S8192x1024 : Shape := ⟨2, ![8192, 1024]⟩
abbrev S1x1024x3088 : Shape := ⟨3, ![1, 1024, 3088]⟩
abbrev S1024x3088 : Shape := ⟨2, ![1024, 3088]⟩
abbrev S1024x2048 : Shape := ⟨2, ![1024, 2048]⟩
abbrev S1024x1024 : Shape := ⟨2, ![1024, 1024]⟩
abbrev S1024x16 : Shape := ⟨2, ![1024, 16]⟩
abbrev S_ : Shape := ⟨0, ![]⟩
abbrev S1024x112 : Shape := ⟨2, ![1024, 112]⟩
abbrev S1024x3200 : Shape := ⟨2, ![1024, 3200]⟩
abbrev S8192x3200 : Shape := ⟨2, ![8192, 3200]⟩
abbrev S512x1024 : Shape := ⟨2, ![512, 1024]⟩
abbrev S512x3200 : Shape := ⟨2, ![512, 3200]⟩

abbrev nBuf : Space → Nat
  | .hbm => 11
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x3088, .f32⟩
  | .hbm, ⟨2, _⟩ => ⟨S1024x3088, .f32⟩
  | .hbm, ⟨3, _⟩ => ⟨S1024x3088, .bf16⟩
  | .hbm, ⟨4, _⟩ => ⟨S1024x2048, .bf16⟩
  | .hbm, ⟨5, _⟩ => ⟨S1024x1024, .bf16⟩
  | .hbm, ⟨6, _⟩ => ⟨S1024x16, .bf16⟩
  | .hbm, ⟨7, _⟩ => ⟨S_, .bf16⟩
  | .hbm, ⟨8, _⟩ => ⟨S1024x112, .bf16⟩
  | .hbm, ⟨9, _⟩ => ⟨S1024x3200, .bf16⟩
  | .hbm, ⟨10, _⟩ => ⟨S8192x3200, .f32⟩
  | .local _ .vmem, ⟨0, _⟩ => ⟨S512x1024, .bf16⟩
  | .local _ .vmem, ⟨1, _⟩ => ⟨S512x1024, .bf16⟩
  | .local _ .vmem, ⟨2, _⟩ => ⟨S1024x3200, .bf16⟩
  | .local _ .vmem, ⟨3, _⟩ => ⟨S512x3200, .f32⟩
  | .local _ .vmem, ⟨4, _⟩ => ⟨S512x3200, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBRefIdeal.lean ====
abbrev S8192x1024 : Shape := ⟨2, ![8192, 1024]⟩
abbrev S1x1024x3088 : Shape := ⟨3, ![1, 1024, 3088]⟩
abbrev S1024x3088 : Shape := ⟨2, ![1024, 3088]⟩
abbrev S1024x2048 : Shape := ⟨2, ![1024, 2048]⟩
abbrev S1024x1024 : Shape := ⟨2, ![1024, 1024]⟩
abbrev S1024x16 : Shape := ⟨2, ![1024, 16]⟩
abbrev S_ : Shape := ⟨0, ![]⟩
abbrev S1024x112 : Shape := ⟨2, ![1024, 112]⟩
abbrev S1024x3200 : Shape := ⟨2, ![1024, 3200]⟩
abbrev S8192x3200 : Shape := ⟨2, ![8192, 3200]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x3088, .f32⟩
  | .hbm, ⟨2, _⟩ => ⟨S8192x1024, .f32⟩
  | .hbm, ⟨3, _⟩ => ⟨S1024x3088, .f32⟩
  | .hbm, ⟨4, _⟩ => ⟨S1024x2048, .f32⟩
  | .hbm, ⟨5, _⟩ => ⟨S1024x1024, .f32⟩
  | .hbm, ⟨6, _⟩ => ⟨S1024x16, .f32⟩
  | .hbm, ⟨7, _⟩ => ⟨S_, .f32⟩
  | .hbm, ⟨8, _⟩ => ⟨S1024x112, .f32⟩
  | .hbm, ⟨9, _⟩ => ⟨S1024x3200, .f32⟩
  | .hbm, ⟨10, _⟩ => ⟨S8192x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutA.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S1024x1024, .f32⟩
  | .hbm, ⟨3, _⟩ => ⟨S1024x1024, .bf16⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutARefIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutB.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S1024x1024, .f32⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBRefIdeal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDw1.lean ====
abbrev S8192x2816 : Shape := ⟨2, ![8192, 2816]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S5632x1024, .f32⟩
  | .hbm, ⟨3, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDw1RefIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S2816x8192, .f32⟩
  | .hbm, ⟨4, _⟩ => ⟨S8192x1024, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownDw0.lean ====
abbrev S8192x2816 : Shape := ⟨2, ![8192, 2816]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S5632x1024, .f32⟩
  | .hbm, ⟨3, _⟩ => ⟨S5632x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDw0RefIdeal.lean ====
abbrev S8192x2816 : Shape := ⟨2, ![8192, 2816]⟩
abbrev S8192x1024 : Shape := ⟨2, ![8192, 1024]⟩
abbrev S5632x1024 : Shape := ⟨2, ![5632, 1024]⟩
abbrev S2816x8192 : Shape := ⟨2, ![2816, 8192]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S5632x1024, .f32⟩
  | .hbm, ⟨3, _⟩ => ⟨S8192x2816, .f32⟩
  | .hbm, ⟨4, _⟩ => ⟨S2816x8192, .f32⟩
  | .hbm, ⟨5, _⟩ => ⟨S8192x1024, .f32⟩
  | .hbm, ⟨6, _⟩ => ⟨S2816x1024, .f32⟩
  | .hbm, ⟨7, _⟩ => ⟨S2816x1024, .f32⟩
  | .hbm, ⟨8, _⟩ => ⟨S5632x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDw1b.lean ====
abbrev S8192x1024 : Shape := ⟨2, ![8192, 1024]⟩
abbrev S8192x2816 : Shape := ⟨2, ![8192, 2816]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x2048x1408, .f32⟩
  | .hbm, ⟨3, _⟩ => ⟨S4x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c1_i32 : BitVec 32 := 1#32
  let c0_i32 : BitVec 32 := 0#32
  let c0_i32_0 : BitVec 32 := 0#32
  ![v0.toNat, c1_i32.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpDw1bRefIdeal.lean ====
abbrev S8192x1024 : Shape := ⟨2, ![8192, 1024]⟩
abbrev S8192x2816 : Shape := ⟨2, ![8192, 2816]⟩
abbrev S4x2048x1408 : Shape := ⟨3, ![4, 2048, 1408]⟩
abbrev S2048x4x1408 : Shape := ⟨3, ![2048, 4, 1408]⟩
abbrev S2x1024x5632 : Shape := ⟨3, ![2, 1024, 5632]⟩
abbrev S1024x8192 : Shape := ⟨2, ![1024, 8192]⟩
abbrev S1024x2816 : Shape := ⟨2, ![1024, 2816]⟩
abbrev S1x1024x2816 : Shape := ⟨3, ![1, 1024, 2816]⟩
abbrev S1024x5632 : Shape := ⟨2, ![1024, 5632]⟩
abbrev S1x1024x5632 : Shape := ⟨3, ![1, 1024, 5632]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x2048x1408, .f32⟩
  | .hbm, ⟨3, _⟩ => ⟨S2048x4x1408, .f32⟩
  | .hbm, ⟨4, _⟩ => ⟨S2x1024x5632, .f32⟩
  | .hbm, ⟨5, _⟩ => ⟨S8192x1024, .f32⟩
  | .hbm, ⟨6, _⟩ => ⟨S1024x8192, .f32⟩
  | .hbm, ⟨7, _⟩ => ⟨S8192x2816, .f32⟩
  | .hbm, ⟨8, _⟩ => ⟨S1024x2816, .f32⟩
  | .hbm, ⟨9, _⟩ => ⟨S1x1024x2816, .f32⟩
  | .hbm, ⟨10, _⟩ => ⟨S1024x2816, .f32⟩
  | .hbm, ⟨11, _⟩ => ⟨S1024x5632, .f32⟩
  | .hbm, ⟨12, _⟩ => ⟨S1x1024x5632, .f32⟩
  | .hbm, ⟨13, _⟩ => ⟨S1024x5632, .f32⟩
  | .hbm, ⟨14, _⟩ => ⟨S1x1024x5632, .f32⟩
  | .hbm, ⟨15, _⟩ => ⟨S1x1024x5632, .f32⟩
  | .hbm, ⟨16, _⟩ => ⟨S2x1024x5632, .f32⟩
  | .hbm, ⟨17, _⟩ => ⟨S2048x4x1408, .f32⟩
  | .hbm, ⟨18, _⟩ => ⟨S4x2048x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== UpDw0a.lean ====
abbrev S8192x1024 : Shape := ⟨2, ![8192, 1024]⟩
abbrev S8192x2816 : Shape := ⟨2, ![8192, 2816]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x2048x1408, .f32⟩
  | .hbm, ⟨3, _⟩ => ⟨S4x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpDw0aRefIdeal.lean ====
abbrev S8192x1024 : Shape := ⟨2, ![8192, 1024]⟩
abbrev S8192x2816 : Shape := ⟨2, ![8192, 2816]⟩
abbrev S4x2048x1408 : Shape := ⟨3, ![4, 2048, 1408]⟩
abbrev S2048x4x1408 : Shape := ⟨3, ![2048, 4, 1408]⟩
abbrev S2x1024x5632 : Shape := ⟨3, ![2, 1024, 5632]⟩
abbrev S1024x8192 : Shape := ⟨2, ![1024, 8192]⟩
abbrev S1024x2816 : Shape := ⟨2, ![1024, 2816]⟩
abbrev S1x1024x2816 : Shape := ⟨3, ![1, 1024, 2816]⟩
abbrev S1024x5632 : Shape := ⟨2, ![1024, 5632]⟩
abbrev S1x1024x5632 : Shape := ⟨3, ![1, 1024, 5632]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x2048x1408, .f32⟩
  | .hbm, ⟨3, _⟩ => ⟨S2048x4x1408, .f32⟩
  | .hbm, ⟨4, _⟩ => ⟨S2x1024x5632, .f32⟩
  | .hbm, ⟨5, _⟩ => ⟨S8192x1024, .f32⟩
  | .hbm, ⟨6, _⟩ => ⟨S1024x8192, .f32⟩
  | .hbm, ⟨7, _⟩ => ⟨S8192x2816, .f32⟩
  | .hbm, ⟨8, _⟩ => ⟨S1024x2816, .f32⟩
  | .hbm, ⟨9, _⟩ => ⟨S1x1024x2816, .f32⟩
  | .hbm, ⟨10, _⟩ => ⟨S1024x2816, .f32⟩
  | .hbm, ⟨11, _⟩ => ⟨S1024x5632, .f32⟩
  | .hbm, ⟨12, _⟩ => ⟨S1x1024x5632, .f32⟩
  | .hbm, ⟨13, _⟩ => ⟨S1024x5632, .f32⟩
  | .hbm, ⟨14, _⟩ => ⟨S1x1024x5632, .f32⟩
  | .hbm, ⟨15, _⟩ => ⟨S1x1024x5632, .f32⟩
  | .hbm, ⟨16, _⟩ => ⟨S2x1024x5632, .f32⟩
  | .hbm, ⟨17, _⟩ => ⟨S2048x4x1408, .f32⟩
  | .hbm, ⟨18, _⟩ => ⟨S4x2048x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== UpDw0b.lean ====
abbrev S8192x1024 : Shape := ⟨2, ![8192, 1024]⟩
abbrev S8192x2816 : Shape := ⟨2, ![8192, 2816]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x2048x1408, .f32⟩
  | .hbm, ⟨3, _⟩ => ⟨S4x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpDw0bRefIdeal.lean ====
abbrev S8192x1024 : Shape := ⟨2, ![8192, 1024]⟩
abbrev S8192x2816 : Shape := ⟨2, ![8192, 2816]⟩
abbrev S4x2048x1408 : Shape := ⟨3, ![4, 2048, 1408]⟩
abbrev S2048x4x1408 : Shape := ⟨3, ![2048, 4, 1408]⟩
abbrev S2x1024x5632 : Shape := ⟨3, ![2, 1024, 5632]⟩
abbrev S1024x8192 : Shape := ⟨2, ![1024, 8192]⟩
abbrev S1024x2816 : Shape := ⟨2, ![1024, 2816]⟩
abbrev S1x1024x2816 : Shape := ⟨3, ![1, 1024, 2816]⟩
abbrev S1024x5632 : Shape := ⟨2, ![1024, 5632]⟩
abbrev S1x1024x5632 : Shape := ⟨3, ![1, 1024, 5632]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x2048x1408, .f32⟩
  | .hbm, ⟨3, _⟩ => ⟨S2048x4x1408, .f32⟩
  | .hbm, ⟨4, _⟩ => ⟨S2x1024x5632, .f32⟩
  | .hbm, ⟨5, _⟩ => ⟨S8192x1024, .f32⟩
  | .hbm, ⟨6, _⟩ => ⟨S1024x8192, .f32⟩
  | .hbm, ⟨7, _⟩ => ⟨S8192x2816, .f32⟩
  | .hbm, ⟨8, _⟩ => ⟨S1024x2816, .f32⟩
  | .hbm, ⟨9, _⟩ => ⟨S1x1024x2816, .f32⟩
  | .hbm, ⟨10, _⟩ => ⟨S1024x2816, .f32⟩
  | .hbm, ⟨11, _⟩ => ⟨S1024x5632, .f32⟩
  | .hbm, ⟨12, _⟩ => ⟨S1x1024x5632, .f32⟩
  | .hbm, ⟨13, _⟩ => ⟨S1024x5632, .f32⟩
  | .hbm, ⟨14, _⟩ => ⟨S1x1024x5632, .f32⟩
  | .hbm, ⟨15, _⟩ => ⟨S1x1024x5632, .f32⟩
  | .hbm, ⟨16, _⟩ => ⟨S2x1024x5632, .f32⟩
  | .hbm, ⟨17, _⟩ => ⟨S2048x4x1408, .f32⟩
  | .hbm, ⟨18, _⟩ => ⟨S4x2048x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== InADw1.lean ====
abbrev S2048x4096 : Shape := ⟨2, ![2048, 4096]⟩
abbrev S2048x12288 : Shape := ⟨2, ![2048, 12288]⟩
abbrev S4x1024x2304 : Shape := ⟨3, ![4, 1024, 2304]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x12288, .bf16⟩
  | .hbm, ⟨2, _⟩ => ⟨S4x1024x2304, .f32⟩
  | .hbm, ⟨3, _⟩ => ⟨S4x1024x2304, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | .local _ .vmem, ⟨6, _⟩ => ⟨S1024x768, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg2 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg2 c1_i32_4
  let c0_i32_5 : BitVec 32 := 0#32
  let v11 : BitVec 1 := Scalar.cmpi .sgt arg2 c0_i32_5
  let v12 : BitVec 32 := Scalar.extui v11
  let c0_i32_6 : BitVec 32 := 0#32
  let v13 : BitVec 1 := Scalar.cmpi .slt arg2 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg2 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c0_i32_11 : BitVec 32 := 0#32
  ![v9.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg2 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg2 c1_i32_4
  let c0_i32_5 : BitVec 32 := 0#32
  let v11 : BitVec 1 := Scalar.cmpi .sgt arg2 c0_i32_5
  let v12 : BitVec 32 := Scalar.extui v11
  let c0_i32_6 : BitVec 32 := 0#32
  let v13 : BitVec 1 := Scalar.cmpi .slt arg2 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg2 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c4_i32 : BitVec 32 := 4#32
  let v27 : BitVec 32 := Scalar.muli v26 c4_i32
  let v28 : BitVec 32 := Scalar.addi v27 arg1
  let c0_i32_11 : BitVec 32 := 0#32
  ![v9.toNat, v28.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.addi c4_i32_4 arg1
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg0.toNat, v28.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InADw1RefIdeal.lean ====
abbrev S2048x4096 : Shape := ⟨2, ![2048, 4096]⟩
abbrev S2048x12288 : Shape := ⟨2, ![2048, 12288]⟩
abbrev S4x1024x2304 : Shape := ⟨3, ![4, 1024, 2304]⟩
abbrev S1024x4x2304 : Shape := ⟨3, ![1024, 4, 2304]⟩
abbrev S1024x9216 : Shape := ⟨2, ![1024, 9216]⟩
abbrev S8192x1024 : Shape := ⟨2, ![8192, 1024]⟩
abbrev S1024x8192 : Shape := ⟨2, ![1024, 8192]⟩
abbrev S8192x3072 : Shape := ⟨2, ![8192, 3072]⟩
abbrev S1024x3072 : Shape := ⟨2, ![1024, 3072]⟩

abbrev nBuf : Space → Nat
  | .hbm => 16
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x12288, .bf16⟩
  | .hbm, ⟨2, _⟩ => ⟨S4x1024x2304, .f32⟩
  | .hbm, ⟨3, _⟩ => ⟨S1024x4x2304, .f32⟩
  | .hbm, ⟨4, _⟩ => ⟨S1024x9216, .f32⟩
  | .hbm, ⟨5, _⟩ => ⟨S8192x1024, .bf16⟩
  | .hbm, ⟨6, _⟩ => ⟨S8192x1024, .f32⟩
  | .hbm, ⟨7, _⟩ => ⟨S1024x8192, .f32⟩
  | .hbm, ⟨8, _⟩ => ⟨S8192x3072, .bf16⟩
  | .hbm, ⟨9, _⟩ => ⟨S8192x3072, .f32⟩
  | .hbm, ⟨10, _⟩ => ⟨S1024x3072, .f32⟩
  | .hbm, ⟨11, _⟩ => ⟨S1024x3072, .f32⟩
  | .hbm, ⟨12, _⟩ => ⟨S1024x3072, .f32⟩
  | .hbm, ⟨13, _⟩ => ⟨S1024x9216, .f32⟩
  | .hbm, ⟨14, _⟩ => ⟨S1024x4x2304, .f32⟩
  | .hbm, ⟨15, _⟩ => ⟨S4x1024x2304, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== InADw2.lean ====
abbrev S512x16384 : Shape := ⟨2, ![512, 16384]⟩
abbrev S512x49152 : Shape := ⟨2, ![512, 49152]⟩
abbrev S4x1024x2304 : Shape := ⟨3, ![4, 1024, 2304]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩

abbrev nBuf : Space → Nat
  | .hbm => 4
  | .vmem => 7
  | .smem => 0
  | _ => 0

abbrev bufTy : (tb : Table) → Fin (tcTables nBuf tb) → BufTy
  | .hbm, ⟨0, _⟩ => ⟨S512x16384, .bf16⟩
  | .hbm, ⟨1, _⟩ => ⟨S512x49152, .bf16⟩
  | .hbm, ⟨2, _⟩ => ⟨S4x1024x2304, .f32⟩
  | .hbm, ⟨3, _⟩ => ⟨S4x1024x2304, .f32⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S1x1024x768, .f32⟩
  | .local _ .vmem, ⟨5, _⟩ => ⟨S1x1024x768, .f32⟩
  | .local _ .vmem, ⟨6, _⟩ => ⟨S1024x768, .f32⟩
  | _, _ => ⟨S512x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg2 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg2 c1_i32_4
  let c0_i32_5 : BitVec 32 := 0#32
  let v11 : BitVec 1 := Scalar.cmpi .sgt arg2 c0_i32_5
  let v12 : BitVec 32 := Scalar.extui v11
  let c0_i32_6 : BitVec 32 := 0#32
  let v13 : BitVec 1 := Scalar.cmpi .slt arg2 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg2 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c0_i32_11 : BitVec 32 := 0#32
  ![v9.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg2 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c1_i32_4 : BitVec 32 := 1#32
  let v10 : BitVec 32 := Scalar.divsi arg2 c1_i32_4
  let c0_i32_5 : BitVec 32 := 0#32
  let v11 : BitVec 1 := Scalar.cmpi .sgt arg2 c0_i32_5
  let v12 : BitVec 32 := Scalar.extui v11
  let c0_i32_6 : BitVec 32 := 0#32
  let v13 : BitVec 1 := Scalar.cmpi .slt arg2 c0_i32_6
  let v14 : BitVec 32 := Scalar.extui v13
  let v15 : BitVec 32 := Scalar.subi v12 v14
  let c0_i32_7 : BitVec 32 := 0#32
  let v16 : BitVec 1 := Scalar.cmpi .sgt c1_i32_4 c0_i32_7
  let v17 : BitVec 32 := Scalar.extui v16
  let c0_i32_8 : BitVec 32 := 0#32
  let v18 : BitVec 1 := Scalar.cmpi .slt c1_i32_4 c0_i32_8
  let v19 : BitVec 32 := Scalar.extui v18
  let v20 : BitVec 32 := Scalar.subi v17 v19
  let v21 : BitVec 1 := Scalar.cmpi .ne v15 v20
  let v22 : BitVec 32 := Scalar.remsi arg2 c1_i32_4
  let c0_i32_9 : BitVec 32 := 0#32
  let v23 : BitVec 1 := Scalar.cmpi .ne v22 c0_i32_9
  let v24 : BitVec 1 := Scalar.andi v21 v23
  let c1_i32_10 : BitVec 32 := 1#32
  let v25 : BitVec 32 := Scalar.subi v10 c1_i32_10
  let v26 : BitVec 32 := Scalar.select v24 v25 v10
  let c4_i32 : BitVec 32 := 4#32
  let v27 : BitVec 32 := Scalar.muli v26 c4_i32
  let v28 : BitVec 32 := Scalar.addi v27 arg1
  let c0_i32_11 : BitVec 32 := 0#32
  ![v9.toNat, v28.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg1
  let c3_i32_5 : BitVec 32 := 3#32
  let c0_i32_6 : BitVec 32 := 0#32
  let v19 : BitVec 1 := Scalar.cmpi .eq c3_i32_5 c0_i32_6
  let c1_i32_7 : BitVec 32 := 1#32
  let v20 : BitVec 32 := Scalar.select v19 c1_i32_7 c3_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg0.toNat, v28.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InADw2RefIdeal.lean ====
abbrev S512x16384 : Shape := ⟨2, ![512, 16384]⟩
abbrev S512x49152 : Shape := ⟨2, ![512, 49152]⟩
abbrev S4x1024x2304 : Shape := ⟨3, ![4, 1024, 2304]⟩
abbrev S1024x4x2304 : Shape := ⟨3, ![1024, 4, 2304]⟩
abbrev S1024x9216 : Shape := ⟨2, ![1024, 9216]⟩
abbrev S8192x1024 : Shape := ⟨2, ![8192, 1024]⟩
abbrev S1024x8192 : Shape := ⟨2, ![1024, 8192]⟩
abbrev S8192x3072 : Shape := ⟨2, ![8192, 3072]⟩
abbrev S1024x3072 : Shape := ⟨2, ![1024, 3072]⟩
abbrev S1024x6144 : Shape := ⟨2, ![1024, 6144]⟩
abbrev S1024x0 : Shape := ⟨2, ![1024, 0]⟩

abbrev nBuf : Space → Nat
  | .hbm => 16
  | .vmem => 0
  | .smem => 0
  | _ => 0

abbrev bufTy : (tb : Table) → Fin (tcTables nBuf tb) → BufTy
  | .hbm, ⟨0, _⟩ => ⟨S512x16384, .bf16⟩
  | .hbm, ⟨1, _⟩ => ⟨S512x49152, .bf16⟩
  | .hbm, ⟨2, _⟩ => ⟨S4x1024x2304, .f32⟩
  | .hbm, ⟨3, _⟩ => ⟨S1024x4x2304, .f32⟩
  | .hbm, ⟨4, _⟩ => ⟨S1024x9216, .f32⟩
  | .hbm, ⟨5, _⟩ => ⟨S8192x1024, .bf16⟩
  | .hbm, ⟨6, _⟩ => ⟨S8192x1024, .f32⟩
  | .hbm, ⟨7, _⟩ => ⟨S1024x8192, .f32⟩
  | .hbm, ⟨8, _⟩ => ⟨S8192x3072, .bf16⟩
  | .hbm, ⟨9, _⟩ => ⟨S8192x3072, .f32⟩
  | .hbm, ⟨10, _⟩ => ⟨S1024x3072, .f32⟩
  | .hbm, ⟨11, _⟩ => ⟨S1024x6144, .f32⟩
  | .hbm, ⟨12, _⟩ => ⟨S1024x0, .f32⟩
  | .hbm, ⟨13, _⟩ => ⟨S1024x9216, .f32⟩
  | .hbm, ⟨14, _⟩ => ⟨S1024x4x2304, .f32⟩
  | .hbm, ⟨15, _⟩ => ⟨S4x1024x2304, .f32⟩
  | _, _ => ⟨S512x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== UpDw1a.lean ====
abbrev S8192x1024 : Shape := ⟨2, ![8192, 1024]⟩
abbrev S8192x2816 : Shape := ⟨2, ![8192, 2816]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩
abbrev S2x1024x1408 : Shape := ⟨3, ![2, 1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x2048x1408, .f32⟩
  | .hbm, ⟨3, _⟩ => ⟨S2x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![v0.toNat, c1_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpDw1aRefIdeal.lean ====
abbrev S8192x1024 : Shape := ⟨2, ![8192, 1024]⟩
abbrev S8192x2816 : Shape := ⟨2, ![8192, 2816]⟩
abbrev S1024x8192 : Shape := ⟨2, ![1024, 8192]⟩
abbrev S1024x2816 : Shape := ⟨2, ![1024, 2816]⟩
abbrev S1024x2x1408 : Shape := ⟨3, ![1024, 2, 1408]⟩
abbrev S2x1024x1408 : Shape := ⟨3, ![2, 1024, 1408]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S1024x8192, .f32⟩
  | .hbm, ⟨4, _⟩ => ⟨S8192x2816, .f32⟩
  | .hbm, ⟨5, _⟩ => ⟨S1024x2816, .f32⟩
  | .hbm, ⟨6, _⟩ => ⟨S1024x2x1408, .f32⟩
  | .hbm, ⟨7, _⟩ => ⟨S2x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InADw0.lean ====
abbrev S8192x1024 : Shape := ⟨2, ![8192, 1024]⟩
abbrev S8192x3072 : Shape := ⟨2, ![8192, 3072]⟩
abbrev S4x1024x2304 : Shape := ⟨3, ![4, 1024, 2304]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩
abbrev S1024x4x2304 : Shape := ⟨3, ![1024, 4, 2304]⟩
abbrev S1024x9216 : Shape := ⟨2, ![1024, 9216]⟩
abbrev S1024x3072 : Shape := ⟨2, ![1024, 3072]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S4x1024x2304, .f32⟩
  | .hbm, ⟨3, _⟩ => ⟨S1024x4x2304, .f32⟩
  | .hbm, ⟨4, _⟩ => ⟨S1024x9216, .f32⟩
  | .hbm, ⟨5, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg2 c4_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg2 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg2 c4_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg2 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c4_i32_10 : BitVec 32 := 4#32
  let v27 : BitVec 32 := Scalar.muli v26 c4_i32_10
  let v28 : BitVec 32 := Scalar.addi v27 arg1
  let c0_i32_11 : BitVec 32 := 0#32
  ![v9.toNat, v28.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg1
  let c3_i32_6 : BitVec 32 := 3#32
  let c0_i32_7 : BitVec 32 := 0#32
  let v19 : BitVec 1 := Scalar.cmpi .eq c3_i32_6 c0_i32_7
  let c1_i32_8 : BitVec 32 := 1#32
  let v20 : BitVec 32 := Scalar.select v19 c1_i32_8 c3_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg0.toNat, v28.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InADw0RefIdeal.lean ====
abbrev S8192x1024 : Shape := ⟨2, ![8192, 1024]⟩
abbrev S8192x3072 : Shape := ⟨2, ![8192, 3072]⟩
abbrev S1024x8192 : Shape := ⟨2, ![1024, 8192]⟩
abbrev S1024x3072 : Shape := ⟨2, ![1024, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S1024x8192, .f32⟩
  | .hbm, ⟨4, _⟩ => ⟨S8192x3072, .f32⟩
  | .hbm, ⟨5, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateDx.lean ====
abbrev S8192x512 : Shape := ⟨2, ![8192, 512]⟩
abbrev S128x512 : Shape := ⟨2, ![128, 512]⟩
abbrev S8192x128 : Shape := ⟨2, ![8192, 128]⟩
abbrev S1024x512 : Shape := ⟨2, ![1024, 512]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S128x512, .f32⟩
  | .hbm, ⟨2, _⟩ => ⟨S8192x128, .bf16⟩
  | .local _ .vmem, ⟨0, _⟩ => ⟨S1024x512, .f32⟩
  | .local _ .vmem, ⟨1, _⟩ => ⟨S1024x512, .f32⟩
  | .local _ .vmem, ⟨2, _⟩ => ⟨S128x512, .f32⟩
  | .local _ .vmem, ⟨3, _⟩ => ⟨S1024x128, .bf16⟩
  | .local _ .vmem, ⟨4, _⟩ => ⟨S1024x128, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDxRefIdeal.lean ====
abbrev S8192x512 : Shape := ⟨2, ![8192, 512]⟩
abbrev S128x512 : Shape := ⟨2, ![128, 512]⟩
abbrev S512x128 : Shape := ⟨2, ![512, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S128x512, .f32⟩
  | .hbm, ⟨2, _⟩ => ⟨S512x128, .f32⟩
  | .hbm, ⟨3, _⟩ => ⟨S8192x128, .f32⟩
  | .hbm, ⟨4, _⟩ => ⟨S8192x128, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateDw.lean ====
abbrev S8192x3200 : Shape := ⟨2, ![8192, 3200]⟩
abbrev S8192x512 : Shape := ⟨2, ![8192, 512]⟩
abbrev S8192x128 : Shape := ⟨2, ![8192, 128]⟩
abbrev S128x512 : Shape := ⟨2, ![128, 512]⟩
abbrev S2048x128 : Shape := ⟨2, ![2048, 128]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x3200, .f32⟩
  | .hbm, ⟨1, _⟩ => ⟨S8192x512, .f32⟩
  | .hbm, ⟨2, _⟩ => ⟨S8192x128, .f32⟩
  | .hbm, ⟨3, _⟩ => ⟨S128x512, .f32⟩
  | .local _ .vmem, ⟨0, _⟩ => ⟨S2048x128, .f32⟩
  | .local _ .vmem, ⟨1, _⟩ => ⟨S2048x128, .f32⟩
  | .local _ .vmem, ⟨2, _⟩ => ⟨S2048x512, .f32⟩
  | .local _ .vmem, ⟨3, _⟩ => ⟨S2048x512, .f32⟩
  | .local _ .vmem, ⟨4, _⟩ => ⟨S128x512, .f32⟩
  | .local _ .vmem, ⟨5, _⟩ => ⟨S128x512, .f32⟩
  | _, _ => ⟨S8192x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateDwRefIdeal.lean ====
abbrev S8192x3200 : Shape := ⟨2, ![8192, 3200]⟩
abbrev S8192x512 : Shape := ⟨2, ![8192, 512]⟩
abbrev S8192x128 : Shape := ⟨2, ![8192, 128]⟩
abbrev S128x8192 : Shape := ⟨2, ![128, 8192]⟩
abbrev S128x512 : Shape := ⟨2, ![128, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x3200, .f32⟩
  | .hbm, ⟨1, _⟩ => ⟨S8192x512, .f32⟩
  | .hbm, ⟨2, _⟩ => ⟨S8192x128, .f32⟩
  | .hbm, ⟨3, _⟩ => ⟨S128x8192, .f32⟩
  | .hbm, ⟨4, _⟩ => ⟨S128x512, .f32⟩
  | _, _ => ⟨S8192x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamInA.lean ====
abbrev S1024x2304 : Shape := ⟨2, ![1024, 2304]⟩
abbrev S64x2304 : Shape := ⟨2, ![64, 2304]⟩

abbrev nBuf : Space → Nat
  | .hbm => 7
  | .vmem => 14
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .local _ .vmem, ⟨0, _⟩ => ⟨S64x2304, .f32⟩
  | .local _ .vmem, ⟨1, _⟩ => ⟨S64x2304, .f32⟩
  | .local _ .vmem, ⟨2, _⟩ => ⟨S64x2304, .f32⟩
  | .local _ .vmem, ⟨3, _⟩ => ⟨S64x2304, .f32⟩
  | .local _ .vmem, ⟨4, _⟩ => ⟨S64x2304, .f32⟩
  | .local _ .vmem, ⟨5, _⟩ => ⟨S64x2304, .f32⟩
  | .local _ .vmem, ⟨6, _⟩ => ⟨S64x2304, .f32⟩
  | .local _ .vmem, ⟨7, _⟩ => ⟨S64x2304, .f32⟩
  | .local _ .vmem, ⟨8, _⟩ => ⟨S64x2304, .f32⟩
  | .local _ .vmem, ⟨9, _⟩ => ⟨S64x2304, .f32⟩
  | .local _ .vmem, ⟨10, _⟩ => ⟨S64x2304, .f32⟩
  | .local _ .vmem, ⟨11, _⟩ => ⟨S64x2304, .f32⟩
  | .local _ .vmem, ⟨12, _⟩ => ⟨S64x2304, .f32⟩
  | .local _ .vmem, ⟨13, _⟩ => ⟨S64x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInARefIdeal.lean ====
abbrev S1024x2304 : Shape := ⟨2, ![1024, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S_, .f32⟩
  | .hbm, ⟨5, _⟩ => ⟨S1024x2304, .f32⟩
  | .hbm, ⟨6, _⟩ => ⟨S1024x2304, .f32⟩
  | .hbm, ⟨7, _⟩ => ⟨S_, .f32⟩
  | .hbm, ⟨8, _⟩ => ⟨S1024x2304, .f32⟩
  | .hbm, ⟨9, _⟩ => ⟨S1024x2304, .f32⟩
  | .hbm, ⟨10, _⟩ => ⟨S1024x2304, .f32⟩
  | .hbm, ⟨11, _⟩ => ⟨S_, .f32⟩
  | .hbm, ⟨12, _⟩ => ⟨S1024x2304, .f32⟩
  | .hbm, ⟨13, _⟩ => ⟨S1024x2304, .f32⟩
  | .hbm, ⟨14, _⟩ => ⟨S1024x2304, .f32⟩
  | .hbm, ⟨15, _⟩ => ⟨S_, .f32⟩
  | .hbm, ⟨16, _⟩ => ⟨S1024x2304, .f32⟩
  | .hbm, ⟨17, _⟩ => ⟨S1024x2304, .f32⟩
  | .hbm, ⟨18, _⟩ => ⟨S1024x2304, .f32⟩
  | .hbm, ⟨19, _⟩ => ⟨S_, .f32⟩
  | .hbm, ⟨20, _⟩ => ⟨S1024x2304, .f32⟩
  | .hbm, ⟨21, _⟩ => ⟨S1024x2304, .f32⟩
  | .hbm, ⟨22, _⟩ => ⟨S_, .f32⟩
  | .hbm, ⟨23, _⟩ => ⟨S1024x2304, .f32⟩
  | .hbm, ⟨24, _⟩ => ⟨S1024x2304, .f32⟩
  | .hbm, ⟨25, _⟩ => ⟨S1024x2304, .f32⟩
  | .hbm, ⟨26, _⟩ => ⟨S_, .f32⟩
  | .hbm, ⟨27, _⟩ => ⟨S1024x2304, .f32⟩
  | .hbm, ⟨28, _⟩ => ⟨S1024x2304, .f32⟩
  | .hbm, ⟨29, _⟩ => ⟨S1024x2304, .f32⟩
  | .hbm, ⟨30, _⟩ => ⟨S_, .f32⟩
  | .hbm, ⟨31, _⟩ => ⟨S1024x2304, .f32⟩
  | .hbm, ⟨32, _⟩ => ⟨S1024x2304, .f32⟩
  | .hbm, ⟨33, _⟩ => ⟨S1024x2304, .f32⟩
  | .hbm, ⟨34, _⟩ => ⟨S_, .f32⟩
  | .hbm, ⟨35, _⟩ => ⟨S1024x2304, .f32⟩
  | .hbm, ⟨36, _⟩ => ⟨S1024x2304, .f32⟩
  | _, _ => ⟨S1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInB.lean ====
abbrev S1024x772 : Shape := ⟨2, ![1024, 772]⟩
abbrev S256x772 : Shape := ⟨2, ![256, 772]⟩

abbrev nBuf : Space → Nat
  | .hbm => 7
  | .vmem => 14
  | .smem => 0
  | _ => 0

abbrev bufTy : (tb : Table) → Fin (tcTables nBuf tb) → BufTy
  | .hbm, ⟨0, _⟩ => ⟨S1024x772, .f32⟩
  | .hbm, ⟨1, _⟩ => ⟨S1024x772, .f32⟩
  | .hbm, ⟨2, _⟩ => ⟨S1024x772, .f32⟩
  | .hbm, ⟨3, _⟩ => ⟨S1024x772, .f32⟩
  | .hbm, ⟨4, _⟩ => ⟨S1024x772, .f32⟩
  | .hbm, ⟨5, _⟩ => ⟨S1024x772, .f32⟩
  | .hbm, ⟨6, _⟩ => ⟨S1024x772, .f32⟩
  | .local _ .vmem, ⟨0, _⟩ => ⟨S256x772, .f32⟩
  | .local _ .vmem, ⟨1, _⟩ => ⟨S256x772, .f32⟩
  | .local _ .vmem, ⟨2, _⟩ => ⟨S256x772, .f32⟩
  | .local _ .vmem, ⟨3, _⟩ => ⟨S256x772, .f32⟩
  | .local _ .vmem, ⟨4, _⟩ => ⟨S256x772, .f32⟩
  | .local _ .vmem, ⟨5, _⟩ => ⟨S256x772, .f32⟩
  | .local _ .vmem, ⟨6, _⟩ => ⟨S256x772, .f32⟩
  | .local _ .vmem, ⟨7, _⟩ => ⟨S256x772, .f32⟩
  | .local _ .vmem, ⟨8, _⟩ => ⟨S256x772, .f32⟩
  | .local _ .vmem, ⟨9, _⟩ => ⟨S256x772, .f32⟩
  | .local _ .vmem, ⟨10, _⟩ => ⟨S256x772, .f32⟩
  | .local _ .vmem, ⟨11, _⟩ => ⟨S256x772, .f32⟩
  | .local _ .vmem, ⟨12, _⟩ => ⟨S256x772, .f32⟩
  | .local _ .vmem, ⟨13, _⟩ => ⟨S256x772, .f32⟩
  | _, _ => ⟨S1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInBRefIdeal.lean ====
abbrev S1024x772 : Shape := ⟨2, ![1024, 772]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x772, .f32⟩
  | .hbm, ⟨1, _⟩ => ⟨S1024x772, .f32⟩
  | .hbm, ⟨2, _⟩ => ⟨S1024x772, .f32⟩
  | .hbm, ⟨3, _⟩ => ⟨S1024x772, .f32⟩
  | .hbm, ⟨4, _⟩ => ⟨S_, .f32⟩
  | .hbm, ⟨5, _⟩ => ⟨S1024x772, .f32⟩
  | .hbm, ⟨6, _⟩ => ⟨S1024x772, .f32⟩
  | .hbm, ⟨7, _⟩ => ⟨S_, .f32⟩
  | .hbm, ⟨8, _⟩ => ⟨S1024x772, .f32⟩
  | .hbm, ⟨9, _⟩ => ⟨S1024x772, .f32⟩
  | .hbm, ⟨10, _⟩ => ⟨S1024x772, .f32⟩
  | .hbm, ⟨11, _⟩ => ⟨S_, .f32⟩
  | .hbm, ⟨12, _⟩ => ⟨S1024x772, .f32⟩
  | .hbm, ⟨13, _⟩ => ⟨S1024x772, .f32⟩
  | .hbm, ⟨14, _⟩ => ⟨S1024x772, .f32⟩
  | .hbm, ⟨15, _⟩ => ⟨S_, .f32⟩
  | .hbm, ⟨16, _⟩ => ⟨S1024x772, .f32⟩
  | .hbm, ⟨17, _⟩ => ⟨S1024x772, .f32⟩
  | .hbm, ⟨18, _⟩ => ⟨S1024x772, .f32⟩
  | .hbm, ⟨19, _⟩ => ⟨S_, .f32⟩
  | .hbm, ⟨20, _⟩ => ⟨S1024x772, .f32⟩
  | .hbm, ⟨21, _⟩ => ⟨S1024x772, .f32⟩
  | .hbm, ⟨22, _⟩ => ⟨S_, .f32⟩
  | .hbm, ⟨23, _⟩ => ⟨S1024x772, .f32⟩
  | .hbm, ⟨24, _⟩ => ⟨S1024x772, .f32⟩
  | .hbm, ⟨25, _⟩ => ⟨S1024x772, .f32⟩
  | .hbm, ⟨26, _⟩ => ⟨S_, .f32⟩
  | .hbm, ⟨27, _⟩ => ⟨S1024x772, .f32⟩
  | .hbm, ⟨28, _⟩ => ⟨S1024x772, .f32⟩
  | .hbm, ⟨29, _⟩ => ⟨S1024x772, .f32⟩
  | .hbm, ⟨30, _⟩ => ⟨S_, .f32⟩
  | .hbm, ⟨31, _⟩ => ⟨S1024x772, .f32⟩
  | .hbm, ⟨32, _⟩ => ⟨S1024x772, .f32⟩
  | .hbm, ⟨33, _⟩ => ⟨S1024x772, .f32⟩
  | .hbm, ⟨34, _⟩ => ⟨S_, .f32⟩
  | .hbm, ⟨35, _⟩ => ⟨S1024x772, .f32⟩
  | .hbm, ⟨36, _⟩ => ⟨S1024x772, .f32⟩
  | _, _ => ⟨S1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2048x1408 : Shape := ⟨2, ![2048, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x1024 : Shape := ⟨2, ![1408, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S2048x1536 : Shape := ⟨2, ![2048, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTiny.lean ====
abbrev S40x1024 : Shape := ⟨2, ![40, 1024]⟩

abbrev nBuf : Space → Nat
  | .hbm => 7
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S40x1024, .f32⟩
  | .hbm, ⟨2, _⟩ => ⟨S40x1024, .f32⟩
  | .hbm, ⟨3, _⟩ => ⟨S40x1024, .f32⟩
  | .hbm, ⟨4, _⟩ => ⟨S40x1024, .f32⟩
  | .hbm, ⟨5, _⟩ => ⟨S40x1024, .f32⟩
  | .hbm, ⟨6, _⟩ => ⟨S40x1024, .f32⟩
  | .local _ .vmem, ⟨0, _⟩ => ⟨S40x1024, .f32⟩
  | .local _ .vmem, ⟨1, _⟩ => ⟨S40x1024, .f32⟩
  | .local _ .vmem, ⟨2, _⟩ => ⟨S40x1024, .f32⟩
  | .local _ .vmem, ⟨3, _⟩ => ⟨S40x1024, .f32⟩
  | .local _ .vmem, ⟨4, _⟩ => ⟨S40x1024, .f32⟩
  | .local _ .vmem, ⟨5, _⟩ => ⟨S40x1024, .f32⟩
  | .local _ .vmem, ⟨6, _⟩ => ⟨S40x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S40x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S40x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S40x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S40x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S40x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTinyRefIdeal.lean ====
abbrev S40x1024 : Shape := ⟨2, ![40, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S40x1024, .f32⟩
  | .hbm, ⟨2, _⟩ => ⟨S40x1024, .f32⟩
  | .hbm, ⟨3, _⟩ => ⟨S40x1024, .f32⟩
  | .hbm, ⟨4, _⟩ => ⟨S_, .f32⟩
  | .hbm, ⟨5, _⟩ => ⟨S40x1024, .f32⟩
  | .hbm, ⟨6, _⟩ => ⟨S40x1024, .f32⟩
  | .hbm, ⟨7, _⟩ => ⟨S_, .f32⟩
  | .hbm, ⟨8, _⟩ => ⟨S40x1024, .f32⟩
  | .hbm, ⟨9, _⟩ => ⟨S40x1024, .f32⟩
  | .hbm, ⟨10, _⟩ => ⟨S40x1024, .f32⟩
  | .hbm, ⟨11, _⟩ => ⟨S_, .f32⟩
  | .hbm, ⟨12, _⟩ => ⟨S40x1024, .f32⟩
  | .hbm, ⟨13, _⟩ => ⟨S40x1024, .f32⟩
  | .hbm, ⟨14, _⟩ => ⟨S40x1024, .f32⟩
  | .hbm, ⟨15, _⟩ => ⟨S_, .f32⟩
  | .hbm, ⟨16, _⟩ => ⟨S40x1024, .f32⟩
  | .hbm, ⟨17, _⟩ => ⟨S40x1024, .f32⟩
  | .hbm, ⟨18, _⟩ => ⟨S40x1024, .f32⟩
  | .hbm, ⟨19, _⟩ => ⟨S_, .f32⟩
  | .hbm, ⟨20, _⟩ => ⟨S40x1024, .f32⟩
  | .hbm, ⟨21, _⟩ => ⟨S40x1024, .f32⟩
  | .hbm, ⟨22, _⟩ => ⟨S_, .f32⟩
  | .hbm, ⟨23, _⟩ => ⟨S40x1024, .f32⟩
  | .hbm, ⟨24, _⟩ => ⟨S40x1024, .f32⟩
  | .hbm, ⟨25, _⟩ => ⟨S40x1024, .f32⟩
  | .hbm, ⟨26, _⟩ => ⟨S_, .f32⟩
  | .hbm, ⟨27, _⟩ => ⟨S40x1024, .f32⟩
  | .hbm, ⟨28, _⟩ => ⟨S40x1024, .f32⟩
  | .hbm, ⟨29, _⟩ => ⟨S40x1024, .f32⟩
  | .hbm, ⟨30, _⟩ => ⟨S_, .f32⟩
  | .hbm, ⟨31, _⟩ => ⟨S40x1024, .f32⟩
  | .hbm, ⟨32, _⟩ => ⟨S40x1024, .f32⟩
  | .hbm, ⟨33, _⟩ => ⟨S40x1024, .f32⟩
  | .hbm, ⟨34, _⟩ => ⟨S_, .f32⟩
  | .hbm, ⟨35, _⟩ => ⟨S40x1024, .f32⟩
  | .hbm, ⟨36, _⟩ => ⟨S40x1024, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaMod.lean ====
abbrev S8x1024 : Shape := ⟨2, ![8, 1024]⟩
abbrev S2x1024x1536 : Shape := ⟨3, ![2, 1024, 1536]⟩
abbrev S2x1x1536 : Shape := ⟨3, ![2, 1, 1536]⟩
abbrev S2x8x1536 : Shape := ⟨3, ![2, 8, 1536]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1x1536, .f32⟩
  | .hbm, ⟨3, _⟩ => ⟨S2x8x1536, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaModRefIdeal.lean ====
abbrev S8x1024 : Shape := ⟨2, ![8, 1024]⟩
abbrev S2x1024x1536 : Shape := ⟨3, ![2, 1024, 1536]⟩
abbrev S2x1x1536 : Shape := ⟨3, ![2, 1, 1536]⟩
abbrev S_ : Shape := ⟨0, ![]⟩
abbrev S8x2x1536 : Shape := ⟨3, ![8, 2, 1536]⟩
abbrev S2x8x1536 : Shape := ⟨3, ![2, 8, 1536]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x2x1536, .f32⟩
  | .hbm, ⟨13, _⟩ => ⟨S2x8x1536, .f32⟩
  | .hbm, ⟨14, _⟩ => ⟨S2x8x1536, .f32⟩
  | .hbm, ⟨15, _⟩ => ⟨S2x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== AdaGrad.lean ====
abbrev S8x1024 : Shape := ⟨2, ![8, 1024]⟩
abbrev S2x8x1536 : Shape := ⟨3, ![2, 8, 1536]⟩
abbrev S2x1024x1536 : Shape := ⟨3, ![2, 1024, 1536]⟩
abbrev S1x8x1536 : Shape := ⟨3, ![1, 8, 1536]⟩
abbrev S1x1024x1536 : Shape := ⟨3, ![1, 1024, 1536]⟩
abbrev S8x1536 : Shape := ⟨2, ![8, 1536]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x8x1536, .f32⟩
  | .hbm, ⟨2, _⟩ => ⟨S2x1024x1536, .f32⟩
  | .local _ .vmem, ⟨0, _⟩ => ⟨S8x1024, .f32⟩
  | .local _ .vmem, ⟨1, _⟩ => ⟨S1x8x1536, .f32⟩
  | .local _ .vmem, ⟨2, _⟩ => ⟨S1x8x1536, .f32⟩
  | .local _ .vmem, ⟨3, _⟩ => ⟨S1x1024x1536, .f32⟩
  | .local _ .vmem, ⟨4, _⟩ => ⟨S1x1024x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaGradRefIdeal.lean ====
abbrev S8x1024 : Shape := ⟨2, ![8, 1024]⟩
abbrev S2x8x1536 : Shape := ⟨3, ![2, 8, 1536]⟩
abbrev S_ : Shape := ⟨0, ![]⟩
abbrev S1024x8 : Shape := ⟨2, ![1024, 8]⟩
abbrev S1024x2x1536 : Shape := ⟨3, ![1024, 2, 1536]⟩
abbrev S2x1024x1536 : Shape := ⟨3, ![2, 1024, 1536]⟩

abbrev nBuf : Space → Nat
  | .hbm => 14
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x1536, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1024x8, .f32⟩
  | .hbm, ⟨12, _⟩ => ⟨S1024x2x1536, .f32⟩
  | .hbm, ⟨13, _⟩ => ⟨S2x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== NormFfn.lean ====
abbrev S8192x1024 : Shape := ⟨2, ![8192, 1024]⟩
abbrev S1x1024 : Shape := ⟨2, ![1, 1024]⟩
abbrev S8x6144 : Shape := ⟨2, ![8, 6144]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8x6144, .f32⟩
  | .hbm, ⟨4, _⟩ => ⟨S8192x1024, .f32⟩
  | .hbm, ⟨5, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S1x1024, .f32⟩
  | .local _ .vmem, ⟨6, _⟩ => ⟨S8x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_5 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormFfnRefIdeal.lean ====
abbrev S8192x1024 : Shape := ⟨2, ![8192, 1024]⟩
abbrev S1x1024 : Shape := ⟨2, ![1, 1024]⟩
abbrev S8x6144 : Shape := ⟨2, ![8, 6144]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8x6144, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== NormMix1.lean ====
abbrev S8192x1024 : Shape := ⟨2, ![8192, 1024]⟩
abbrev S1x1024 : Shape := ⟨2, ![1, 1024]⟩
abbrev S8x6144 : Shape := ⟨2, ![8, 6144]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8x6144, .f32⟩
  | .hbm, ⟨4, _⟩ => ⟨S8x6144, .f32⟩
  | .hbm, ⟨5, _⟩ => ⟨S8192x1024, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S1x1024, .f32⟩
  | .local _ .vmem, ⟨6, _⟩ => ⟨S8x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormMix1RefIdeal.lean ====
abbrev S8192x1024 : Shape := ⟨2, ![8192, 1024]⟩
abbrev S1x1024 : Shape := ⟨2, ![1, 1024]⟩
abbrev S8x6144 : Shape := ⟨2, ![8, 6144]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8x6144, .f32⟩
  | .hbm, ⟨4, _⟩ => ⟨S8x6144, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== GlaOut.lean ====
abbrev S8192x1024 : Shape := ⟨2, ![8192, 1024]⟩
abbrev S8192x3200 : Shape := ⟨2, ![8192, 3200]⟩
abbrev S1x256 : Shape := ⟨2, ![1, 256]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3200, .f32⟩
  | .hbm, ⟨2, _⟩ => ⟨S1x256, .f32⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x256, .f32⟩
  | .local _ .vmem, ⟨5, _⟩ => ⟨S256x1024, .bf16⟩
  | .local _ .vmem, ⟨6, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GlaOutRefIdeal.lean ====
abbrev S8192x1024 : Shape := ⟨2, ![8192, 1024]⟩
abbrev S8192x3200 : Shape := ⟨2, ![8192, 3200]⟩
abbrev S1x256 : Shape := ⟨2, ![1, 256]⟩
abbrev S8192x4x256 : Shape := ⟨3, ![8192, 4, 256]⟩
abbrev S_ : Shape := ⟨0, ![]⟩
abbrev S8192x4 : Shape := ⟨2, ![8192, 4]⟩
abbrev S8192x4x1 : Shape := ⟨3, ![8192, 4, 1]⟩
abbrev S1x1x256 : Shape := ⟨3, ![1, 1, 256]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3200, .f32⟩
  | .hbm, ⟨2, _⟩ => ⟨S1x256, .f32⟩
  | .hbm, ⟨3, _⟩ => ⟨S8192x4x256, .f32⟩
  | .hbm, ⟨4, _⟩ => ⟨S8192x4x256, .f32⟩
  | .hbm, ⟨5, _⟩ => ⟨S_, .f32⟩
  | .hbm, ⟨6, _⟩ => ⟨S8192x4, .f32⟩
  | .hbm, ⟨7, _⟩ => ⟨S8192x4x1, .f32⟩
  | .hbm, ⟨8, _⟩ => ⟨S_, .f32⟩
  | .hbm, ⟨9, _⟩ => ⟨S8192x4x1, .f32⟩
  | .hbm, ⟨10, _⟩ => ⟨S8192x4x1, .f32⟩
  | .hbm, ⟨11, _⟩ => ⟨S_, .f32⟩
  | .hbm, ⟨12, _⟩ => ⟨S8192x4x1, .f32⟩
  | .hbm, ⟨13, _⟩ => ⟨S8192x4x1, .f32⟩
  | .hbm, ⟨14, _⟩ => ⟨S8192x4x1, .f32⟩
  | .hbm, ⟨15, _⟩ => ⟨S8192x4x256, .f32⟩
  | .hbm, ⟨16, _⟩ => ⟨S8192x4x256, .f32⟩
  | .hbm, ⟨17, _⟩ => ⟨S1x1x256, .f32⟩
  | .hbm, ⟨18, _⟩ => ⟨S8192x4x256, .f32⟩
  | .hbm, ⟨19, _⟩ => ⟨S8192x4x256, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== ConvGate.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S256x1408 : Shape := ⟨2, ![256, 1408]⟩
abbrev S8x1408 : Shape := ⟨2, ![8, 1408]⟩
abbrev S3x1408 : Shape := ⟨2, ![3, 1408]⟩
abbrev S1x1408 : Shape := ⟨2, ![1, 1408]⟩
abbrev S248x1408 : Shape := ⟨2, ![248, 1408]⟩

abbrev nBuf : Space → Nat
  | .hbm => 4
  | .vmem => 18
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1x5632, .f32⟩
  | .hbm, ⟨3, _⟩ => ⟨S8192x2816, .bf16⟩
  | .local _ .vmem, ⟨0, _⟩ => ⟨S256x1408, .f32⟩
  | .local _ .vmem, ⟨1, _⟩ => ⟨S256x1408, .f32⟩
  | .local _ .vmem, ⟨2, _⟩ => ⟨S8x1408, .f32⟩
  | .local _ .vmem, ⟨3, _⟩ => ⟨S8x1408, .f32⟩
  | .local _ .vmem, ⟨4, _⟩ => ⟨S256x1408, .f32⟩
  | .local _ .vmem, ⟨5, _⟩ => ⟨S256x1408, .f32⟩
  | .local _ .vmem, ⟨6, _⟩ => ⟨S8x1408, .f32⟩
  | .local _ .vmem, ⟨7, _⟩ => ⟨S8x1408, .f32⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S256x1408, .bf16⟩
  | .local _ .vmem, ⟨17, _⟩ => ⟨S256x1408, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvGateRefIdeal.lean ====
abbrev S8192x5632 : Shape := ⟨2, ![8192, 5632]⟩
abbrev S3x5632 : Shape := ⟨2, ![3, 5632]⟩
abbrev S1x5632 : Shape := ⟨2, ![1, 5632]⟩
abbrev S_ : Shape := ⟨0, ![]⟩
abbrev S8194x5632 : Shape := ⟨2, ![8194, 5632]⟩
abbrev S5632 : Shape := ⟨1, ![5632]⟩
abbrev S8192x2816 : Shape := ⟨2, ![8192, 2816]⟩

abbrev nBuf : Space → Nat
  | .hbm => 40
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1x5632, .f32⟩
  | .hbm, ⟨3, _⟩ => ⟨S_, .i32⟩
  | .hbm, ⟨4, _⟩ => ⟨S_, .f32⟩
  | .hbm, ⟨5, _⟩ => ⟨S8194x5632, .f32⟩
  | .hbm, ⟨6, _⟩ => ⟨S1x5632, .f32⟩
  | .hbm, ⟨7, _⟩ => ⟨S5632, .f32⟩
  | .hbm, ⟨8, _⟩ => ⟨S8192x5632, .f32⟩
  | .hbm, ⟨9, _⟩ => ⟨S1x5632, .f32⟩
  | .hbm, ⟨10, _⟩ => ⟨S8192x5632, .f32⟩
  | .hbm, ⟨11, _⟩ => ⟨S8192x5632, .f32⟩
  | .hbm, ⟨12, _⟩ => ⟨S1x5632, .f32⟩
  | .hbm, ⟨13, _⟩ => ⟨S5632, .f32⟩
  | .hbm, ⟨14, _⟩ => ⟨S8192x5632, .f32⟩
  | .hbm, ⟨15, _⟩ => ⟨S1x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.FwdRuns.lean ====
/- What the two runs of the kernel body of region 0 share: blocks, conditions, staging memrefs, the invariant. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (VR : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (VR c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = VR c (Pipeline.arrRef spec0 0))
    (hafter : ∀ t, dat.after 0 t = iblk VR c 0 t) (t : Fin cfg0.N) (d) : dat.before 0 t d = iblk VR c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = VR c (Pipeline.arrRef spec0 1))
    (hafter : ∀ t, dat.after 1 t = iblk VR c 1 t) (t : Fin cfg0.N) (d) : dat.before 1 t d = iblk VR c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is of the clipped KIND (its block does not tile its array `S8192x3200`), but no block the grid
    reaches is cut, so no part of its staging buffer is left unfilled by a fetch. A default for such a part, which
    nothing reads. -/
def dflt0_2 : (cfg0.win 2).block.Idx → Elt F (cfg0.win 2).elt := fun _ => Classical.choice inferInstance
/-- What input window 2's current staging buffer holds when the body runs at `t`: its block read off the array,
    filled over `dflt0_2` (block-typed, where `iblk` is typed at the cut). -/
def X0_2 (c : Dev nD) (t : Fin cfg0.N) : (cfg0.win 2).block.Idx → Elt F (cfg0.win 2).elt :=
  (cfg0.win 2).fill (cfg0.grid.coords t) dflt0_2 (iblk VR c 2 t)
/-- At every point the cut's extent is the block's, decided over the grid: no transfer of input window 2 is cut. -/
theorem xsize0_2 : ∀ t : Fin cfg0.N, ∀ a, (cfg0.win 2).xsize (cfg0.grid.coords t) a = (cfg0.win 2).size a := by decide +kernel
/-- Every index of input window 2's block is moved at every point. -/
theorem moved0_2 (t : Fin cfg0.N) (j : (cfg0.win 2).block.Idx) : (cfg0.win 2).moved (cfg0.grid.coords t) j = true :=
  ((cfg0.win 2).moved_iff _ j).mpr fun a => by rw [xsize0_2 t a]; exact (j a).isLt
/-- A fill of input window 2's block covers the whole buffer, whatever it held. -/
theorem fill0_2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved0_2 t j), dif_pos (moved0_2 t j)]
/-- Input window 2's current staging buffer holds `X0_2` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_2`). -/
theorem before0_2_of {c : Dev nD} (dat : Dat τ (Elt F) Unit ℕ (UR sig nD τ) ℕ cfg0 c) (hA : dat.A 2 = VR c (Pipeline.arrRef spec0 2))
    (hafter : ∀ t, dat.after 2 t = X0_2 VR c t) (t : Fin cfg0.N) (d) : dat.before 2 t d = X0_2 VR c t :=
  (dat.before_in_eq_fetched 2 rfl (fun _ => rfl)
      (fun t t' h => funext fun a => congrArg (fun n => Pipeline.Clip.of n ((cfg0.win 2).size a) (S8192x3200.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = VR c (Pipeline.arrRef spec0 3))
    (hafter : ∀ t, dat.after 3 t = iblk VR c 3 t) (t : Fin cfg0.N) (d) : dat.before 3 t d = iblk VR c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = VR c (Pipeline.arrRef spec0 4))
    (hafter : ∀ t, dat.after 4 t = iblk VR c 4 t) (t : Fin cfg0.N) (d) : dat.before 4 t d = iblk VR c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = VR c (Pipeline.arrRef spec0 5))
    (hafter : ∀ t, dat.after 5 t = iblk VR c 5 t) (t : Fin cfg0.N) (d) : dat.before 5 t d = iblk VR c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-! ## The kernel body on any staging memrefs: a subtype the run finds -/

/-- One staging buffer of output window 6, through which its contents are stated (`View.read_writes_of_cover`: the
    choice does not matter). -/
abbrev VO0_6 : View sig .tc .vmem S512x256 .f32 := (Memref.whole cc0_stg6_0 : Memref sig .tc .vmem S512x256 .f32).view
/-- One staging buffer of output window 7, through which its contents are stated (`View.read_writes_of_cover`: the
    choice does not matter). -/
abbrev VO0_7 : View sig .tc .vmem S8x1x256x128 .f32 := (Memref.whole cc0_stg7_0 : Memref sig .tc .vmem S8x1x256x128 .f32).view
/-- Each window's current staging memref at point `t`, spelled as the pipeline passes it (`bodyAt0`), and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1x256x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x128 .f32 := Memref.whole cc0_scratch0
/-- The scratch `arg10` the kernel carries between points, as a view: what it holds is stated through it. -/
abbrev VS0_0 : View sig .tc .vmem S256x128 .f32 := scM0_0.view

/-- The region's other scoped buffers, which the kernel never touches, each at some contents. -/
abbrev restBut (c : Dev nD) : sProp 𝕄 :=
  Pipeline.scopedRestBut (Ix := Unit) (Name := ℕ) (U := UR sig nD τ) (Lvl := ℕ) (Val := Elt F) spec0 c [cc0_scratch0]

/-- The frame kit's invariant: the carried scratch at some contents, the other scoped buffers, the generator register. -/
theorem PhiA0_eq (c : Dev nD) :
    (Pipeline.ΦA spec0 c : sProp 𝕄)
      = iprop(iprop((∃ d, owns (c : Thread nD τ) scM0_0 fullShare d) ∗ restBut c) ∗ (∃ r, prngReg c r)) := by
  unfold Pipeline.ΦA restBut
  rw [Pipeline.scopedRest_split_of_list spec0 c [cc0_scratch0] (by decide) (by decide)]; simp only [scM0_0, owns_whole]; try rfl

end Cert.KernelIdeal.Fwd

end
-- ==== Proof.FwdRunA.lean ====
/- The body of region 0 run once, case A of its reset condition. -/
module

public import proofs.«01_k».proof.Proof.FwdRuns

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (VR : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken: points 0, 16, 32, 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole) (hc0 : cond0_0 i)
    (x0 : Vec F S512x128 .f32) (x1 : Vec F S512x128 .f32) (x2 : Vec F S512x256 .f32) (x3 : Vec F S512x128 .f32) (x4 : Vec F S128x128 .f32) (x5 : Vec F S1x128 .f32) :
    Σ' (L6 : List (View.Piece (Elt F) S512x256 .f32)), Σ' (L7 : List (View.Piece (Elt F) S8x1x256x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_gla_fwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_gla_fwd_eq_skeleton]; unfold cc0_gla_fwd_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.KernelIdeal.Fwd

end
-- ==== Proof.FwdRunB.lean ====
/- The body of region 0 run once, case B of its reset condition. -/
module

public import proofs.«01_k».proof.Proof.FwdRunA

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (VR : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken: points 1, 2, … 63: 60 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole) (hc0 : ¬cond0_0 i)
    (x0 : Vec F S512x128 .f32) (x1 : Vec F S512x128 .f32) (x2 : Vec F S512x256 .f32) (x3 : Vec F S512x128 .f32) (x4 : Vec F S128x128 .f32) (x5 : Vec F S1x128 .f32) (xs0 : Vec F S256x128 .f32) :
    Σ' (L6 : List (View.Piece (Elt F) S512x256 .f32)), Σ' (L7 : List (View.Piece (Elt F) S8x1x256x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_gla_fwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_gla_fwd_eq_skeleton]; unfold cc0_gla_fwd_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.KernelIdeal.Fwd

end
-- ==== Proof.FwdFrame.lean ====
/- What region 0 leaves after each point, its proof data and its body obligation. -/
module

public import proofs.«01_k».proof.Proof.FwdRunB

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (VR : (c : Dev nD) → (b : Ref sig .tc) → Buf (Elt F) ((c : Thread nD τ).loc b))

/-- Case A's pieces for output 6 tile its block (8 stores of `S64x256`, checked by the kernel's evaluation: Lib/Ring.lean `Piece.tiledL`, linear in the pieces, through a loop's `@[irreducible]` trip theorem too), so they cover it. -/
theorem cover0_A_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole) (hc0 : cond0_0 i)
    (x0 : Vec F S512x128 .f32) (x1 : Vec F S512x128 .f32) (x2 : Vec F S512x256 .f32) (x3 : Vec F S512x128 .f32) (x4 : Vec F S128x128 .f32) (x5 : Vec F S1x128 .f32) (y : S512x256.Idx) :
    ∃ pc ∈ (kernelRun0_A c i arg2 harg2 arg3 harg3 arg4 harg4 arg5 harg5 arg6 harg6 arg7 harg7 arg8 harg8 arg9 harg9 arg10 harg10 hc0 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).1 S64x256.size (by sl_kernel_rfl) y

/-- What case A leaves in output 6's staging buffer: its pieces read back over junk. -/
def out0_A_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole) (hc0 : cond0_0 i)
    (x0 : Vec F S512x128 .f32) (x1 : Vec F S512x128 .f32) (x2 : Vec F S512x256 .f32) (x3 : Vec F S512x128 .f32) (x4 : Vec F S128x128 .f32) (x5 : Vec F S1x128 .f32) : Vec F S512x256 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 x0 x1 x2 x3 x4 x5).1)

/-- Case A's pieces for output 7 tile its block (8 stores of `S1x1x256x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole) (hc0 : cond0_0 i)
    (x0 : Vec F S512x128 .f32) (x1 : Vec F S512x128 .f32) (x2 : Vec F S512x256 .f32) (x3 : Vec F S512x128 .f32) (x4 : Vec F S128x128 .f32) (x5 : Vec F S1x128 .f32) (y : S8x1x256x128.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.1 S1x1x256x128.size (by sl_kernel_rfl) y

/-- What case A leaves in output 7's staging buffer: its pieces read back over junk. -/
def out0_A_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole) (hc0 : cond0_0 i)
    (x0 : Vec F S512x128 .f32) (x1 : Vec F S512x128 .f32) (x2 : Vec F S512x256 .f32) (x3 : Vec F S512x128 .f32) (x4 : Vec F S128x128 .f32) (x5 : Vec F S1x128 .f32) : Vec F S8x1x256x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4 x5).2.1)

/-- Case A's pieces for scratch `arg10`, which the kernel carries between points, cover it: 2 pieces of `S256x128` tiling it (Lib/Ring.lean `Piece.tiledL`). -/
theorem scover0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole) (hc0 : cond0_0 i)
    (x0 : Vec F S512x128 .f32) (x1 : Vec F S512x128 .f32) (x2 : Vec F S512x256 .f32) (x3 : Vec F S512x128 .f32) (x4 : Vec F S128x128 .f32) (x5 : Vec F S1x128 .f32) (y : S256x128.Idx) :
    ∃ pc ∈ (kernelRun0_A c i arg2 harg2 arg3 harg3 arg4 harg4 arg5 harg5 arg6 harg6 arg7 harg7 arg8 harg8 arg9 harg9 arg10 harg10 hc0 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5).2.2.1 S256x128.size (by sl_kernel_rfl) y

/-- What case A leaves in scratch `arg10`: its pieces read back over junk. -/
def sout0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole) (hc0 : cond0_0 i)
    (x0 : Vec F S512x128 .f32) (x1 : Vec F S512x128 .f32) (x2 : Vec F S512x256 .f32) (x3 : Vec F S512x128 .f32) (x4 : Vec F S128x128 .f32) (x5 : Vec F S1x128 .f32) : Vec F S256x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 x0 x1 x2 x3 x4 x5).2.2.1)

/-- Case B's pieces for output 6 tile its block (8 stores of `S64x256`, checked by the kernel's evaluation: Lib/Ring.lean `Piece.tiledL`, linear in the pieces, through a loop's `@[irreducible]` trip theorem too), so they cover it. -/
theorem cover0_B_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole) (hc0 : ¬cond0_0 i)
    (x0 : Vec F S512x128 .f32) (x1 : Vec F S512x128 .f32) (x2 : Vec F S512x256 .f32) (x3 : Vec F S512x128 .f32) (x4 : Vec F S128x128 .f32) (x5 : Vec F S1x128 .f32) (xs0 : Vec F S256x128 .f32) (y : S512x256.Idx) :
    ∃ pc ∈ (kernelRun0_B c i arg2 harg2 arg3 harg3 arg4 harg4 arg5 harg5 arg6 harg6 arg7 harg7 arg8 harg8 arg9 harg9 arg10 harg10 hc0 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xs0).1 S64x256.size (by sl_kernel_rfl) y

/-- What case B leaves in output 6's staging buffer: its pieces read back over junk. -/
def out0_B_6 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole) (hc0 : ¬cond0_0 i)
    (x0 : Vec F S512x128 .f32) (x1 : Vec F S512x128 .f32) (x2 : Vec F S512x256 .f32) (x3 : Vec F S512x128 .f32) (x4 : Vec F S128x128 .f32) (x5 : Vec F S1x128 .f32) (xs0 : Vec F S256x128 .f32) : Vec F S512x256 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 x0 x1 x2 x3 x4 x5 xs0).1)

/-- Case B's pieces for output 7 tile its block (8 stores of `S1x1x256x128`, checked by the kernel's evaluation: Lib/Ring.lean `Piece.tiledL`, linear in the pieces, through a loop's `@[irreducible]` trip theorem too), so they cover it. -/
theorem cover0_B_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole) (hc0 : ¬cond0_0 i)
    (x0 : Vec F S512x128 .f32) (x1 : Vec F S512x128 .f32) (x2 : Vec F S512x256 .f32) (x3 : Vec F S512x128 .f32) (x4 : Vec F S128x128 .f32) (x5 : Vec F S1x128 .f32) (xs0 : Vec F S256x128 .f32) (y : S8x1x256x128.Idx) :
    ∃ pc ∈ (kernelRun0_B c i arg2 harg2 arg3 harg3 arg4 harg4 arg5 harg5 arg6 harg6 arg7 harg7 arg8 harg8 arg9 harg9 arg10 harg10 hc0 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xs0).2.1 S1x1x256x128.size (by sl_kernel_rfl) y

/-- What case B leaves in output 7's staging buffer: its pieces read back over junk. -/
def out0_B_7 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole) (hc0 : ¬cond0_0 i)
    (x0 : Vec F S512x128 .f32) (x1 : Vec F S512x128 .f32) (x2 : Vec F S512x256 .f32) (x3 : Vec F S512x128 .f32) (x4 : Vec F S128x128 .f32) (x5 : Vec F S1x128 .f32) (xs0 : Vec F S256x128 .f32) : Vec F S8x1x256x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 x0 x1 x2 x3 x4 x5 xs0).2.1)

/-- Case B's pieces for scratch `arg10`, which the kernel carries between points, cover it: 1 piece of `S256x128` tiling it (Lib/Ring.lean `Piece.tiledL`). -/
theorem scover0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole) (hc0 : ¬cond0_0 i)
    (x0 : Vec F S512x128 .f32) (x1 : Vec F S512x128 .f32) (x2 : Vec F S512x256 .f32) (x3 : Vec F S512x128 .f32) (x4 : Vec F S128x128 .f32) (x5 : Vec F S1x128 .f32) (xs0 : Vec F S256x128 .f32) (y : S256x128.Idx) :
    ∃ pc ∈ (kernelRun0_B c i arg2 harg2 arg3 harg3 arg4 harg4 arg5 harg5 arg6 harg6 arg7 harg7 arg8 harg8 arg9 harg9 arg10 harg10 hc0 x0 x1 x2 x3 x4 x5 xs0).2.2.1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 xs0).2.2.1 S256x128.size (by sl_kernel_rfl) y

/-- What case B leaves in scratch `arg10`: its pieces read back over junk. -/
def sout0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole) (hc0 : ¬cond0_0 i)
    (x0 : Vec F S512x128 .f32) (x1 : Vec F S512x128 .f32) (x2 : Vec F S512x256 .f32) (x3 : Vec F S512x128 .f32) (x4 : Vec F S128x128 .f32) (x5 : Vec F S1x128 .f32) (xs0 : Vec F S256x128 .f32) : Vec F S256x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 x0 x1 x2 x3 x4 x5 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x256 .f32 × Vec F S8x1x256x128 .f32 × Vec F S256x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk VR c 0 ⟨0, hn⟩) (iblk VR c 1 ⟨0, hn⟩) (X0_2 VR c ⟨0, hn⟩) (iblk VR c 3 ⟨0, hn⟩) (iblk VR c 4 ⟨0, hn⟩) (iblk VR c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk VR c 0 ⟨0, hn⟩) (iblk VR c 1 ⟨0, hn⟩) (X0_2 VR c ⟨0, hn⟩) (iblk VR c 3 ⟨0, hn⟩) (iblk VR c 4 ⟨0, hn⟩) (iblk VR c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk VR c 0 ⟨0, hn⟩) (iblk VR c 1 ⟨0, hn⟩) (X0_2 VR c ⟨0, hn⟩) (iblk VR c 3 ⟨0, hn⟩) (iblk VR c 4 ⟨0, hn⟩) (iblk VR c 5 ⟨0, hn⟩))
  | n + 1, hn =>
    if h0 : (n + 1) % 16 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk VR c 0 ⟨n + 1, hn⟩) (iblk VR c 1 ⟨n + 1, hn⟩) (X0_2 VR c ⟨n + 1, hn⟩) (iblk VR c 3 ⟨n + 1, hn⟩) (iblk VR c 4 ⟨n + 1, hn⟩) (iblk VR c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk VR c 0 ⟨n + 1, hn⟩) (iblk VR c 1 ⟨n + 1, hn⟩) (X0_2 VR c ⟨n + 1, hn⟩) (iblk VR c 3 ⟨n + 1, hn⟩) (iblk VR c 4 ⟨n + 1, hn⟩) (iblk VR c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk VR c 0 ⟨n + 1, hn⟩) (iblk VR c 1 ⟨n + 1, hn⟩) (X0_2 VR c ⟨n + 1, hn⟩) (iblk VR c 3 ⟨n + 1, hn⟩) (iblk VR c 4 ⟨n + 1, hn⟩) (iblk VR c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk VR c 0 ⟨n + 1, hn⟩) (iblk VR c 1 ⟨n + 1, hn⟩) (X0_2 VR c ⟨n + 1, hn⟩) (iblk VR c 3 ⟨n + 1, hn⟩) (iblk VR c 4 ⟨n + 1, hn⟩) (iblk VR c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk VR c 0 ⟨n + 1, hn⟩) (iblk VR c 1 ⟨n + 1, hn⟩) (X0_2 VR c ⟨n + 1, hn⟩) (iblk VR c 3 ⟨n + 1, hn⟩) (iblk VR c 4 ⟨n + 1, hn⟩) (iblk VR c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk VR c 0 ⟨n + 1, hn⟩) (iblk VR c 1 ⟨n + 1, hn⟩) (X0_2 VR c ⟨n + 1, hn⟩) (iblk VR c 3 ⟨n + 1, hn⟩) (iblk VR c 4 ⟨n + 1, hn⟩) (iblk VR c 5 ⟨n + 1, hn⟩) (outsAt0 c n (Nat.lt_of_succ_lt hn)).2.2)

/-- `outsAt0` at a point of case A: that case's contents. -/
theorem outsAt0_A (c : Dev nD) (t : Fin cfg0.N) (h0 : t.val % 16 = 0) :
    outsAt0 VR c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk VR c 0 t) (iblk VR c 1 t) (X0_2 VR c t) (iblk VR c 3 t) (iblk VR c 4 t) (iblk VR c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk VR c 0 t) (iblk VR c 1 t) (X0_2 VR c t) (iblk VR c 3 t) (iblk VR c 4 t) (iblk VR c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk VR c 0 t) (iblk VR c 1 t) (X0_2 VR c t) (iblk VR c 3 t) (iblk VR c 4 t) (iblk VR c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 VR c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk VR c 0 t) (iblk VR c 1 t) (X0_2 VR c t) (iblk VR c 3 t) (iblk VR c 4 t) (iblk VR c 5 t) (outsAt0 VR c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk VR c 0 t) (iblk VR c 1 t) (X0_2 VR c t) (iblk VR c 3 t) (iblk VR c 4 t) (iblk VR c 5 t) (outsAt0 VR c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk VR c 0 t) (iblk VR c 1 t) (X0_2 VR c t) (iblk VR c 3 t) (iblk VR c 4 t) (iblk VR c 5 t) (outsAt0 VR c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 VR c n hn).2.2) ∗ restBut c) ∗ (∃ r, prngReg c r))

theorem PhiS_zero (c : Dev nD) (n : ℕ) (h : n ≤ cfg0.N) (hz : n = 0) : PhiS VR c n h = Pipeline.ΦA spec0 c := by
  subst hz; rfl

/-- After point `n` (before point `n + 1`): the carried scratch at that point's contents. -/
theorem PhiS_succ (c : Dev nD) (n : ℕ) (hn : n < cfg0.N) :
    PhiS VR c (n + 1) hn = iprop(iprop(owns (c : Thread nD τ) scM0_0 fullShare ((outsAt0 VR c n hn).2.2) ∗ restBut c) ∗ (∃ r, prngReg c r)) := rfl

/-- Before a point that is not the first: the carried scratch at what the point before left. -/
theorem PhiS_pos (c : Dev nD) (n : ℕ) (h : n ≤ cfg0.N) (hz : n ≠ 0) :
    PhiS VR c n h = iprop(iprop(owns (c : Thread nD τ) scM0_0 fullShare ((outsAt0 VR c (n - 1) (by omega)).2.2) ∗ restBut c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (c : Dev nD) : Dat τ (Elt F) Unit ℕ (UR sig nD τ) ℕ cfg0 c where
  A w := VR c (Pipeline.arrRef spec0 w)
  after w t := match w with
    | ⟨0, _⟩ => iblk VR c 0 t
    | ⟨1, _⟩ => iblk VR c 1 t
    | ⟨2, _⟩ => X0_2 VR c t
    | ⟨3, _⟩ => iblk VR c 3 t
    | ⟨4, _⟩ => iblk VR c 4 t
    | ⟨5, _⟩ => iblk VR c 5 t
    | ⟨6, _⟩ => (outsAt0 VR c t.val t.isLt).1
    | ⟨7, _⟩ => (outsAt0 VR c t.val t.isLt).2.1
  Φ t := PhiS VR c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats VR c).A w = VR c (Pipeline.arrRef spec0 w) := by
  dsimp only [dats]

/-- The invariant at a point's start (the proof data at `t.castSucc`), restated at `t.val`. -/
theorem PhiS_castSucc (c : Dev nD) (t : Fin cfg0.N) :
    (dats VR c).Φ t.castSucc = PhiS VR c t.val (Nat.le_of_lt t.isLt) := by
  dsimp only [dats]; exact Pipeline.Dat.Φ_castSucc (PhiS VR c) t

/-- What the body leaves, window by window (the proof data's `match` reduced by `dsimp`). -/
theorem after0_0 (c : Dev nD) (t : Fin cfg0.N) : (dats VR c).after 0 t = iblk VR c 0 t := by dsimp only [dats]
theorem after0_1 (c : Dev nD) (t : Fin cfg0.N) : (dats VR c).after 1 t = iblk VR c 1 t := by dsimp only [dats]
theorem after0_2 (c : Dev nD) (t : Fin cfg0.N) : (dats VR c).after 2 t = X0_2 VR c t := by dsimp only [dats]
theorem after0_3 (c : Dev nD) (t : Fin cfg0.N) : (dats VR c).after 3 t = iblk VR c 3 t := by dsimp only [dats]
theorem after0_4 (c : Dev nD) (t : Fin cfg0.N) : (dats VR c).after 4 t = iblk VR c 4 t := by dsimp only [dats]
theorem after0_5 (c : Dev nD) (t : Fin cfg0.N) : (dats VR c).after 5 t = iblk VR c 5 t := by dsimp only [dats]
theorem after0_6 (c : Dev nD) (t : Fin cfg0.N) : (dats VR c).after 6 t = (outsAt0 VR c t.val t.isLt).1 := by dsimp only [dats]
theorem after0_7 (c : Dev nD) (t : Fin cfg0.N) : (dats VR c).after 7 t = (outsAt0 VR c t.val t.isLt).2.1 := by dsimp only [dats]

/-- Each input's current staging buffer holds its block at every point, fetched there or not (`beforeK_W_of`). -/
theorem before0_0 (c : Dev nD) (t : Fin cfg0.N) (d) : (dats VR c).before 0 t d = iblk VR c 0 t :=
  before0_0_of VR (dats VR c) (A_eq VR c 0) (after0_0 VR c) t d
theorem before0_1 (c : Dev nD) (t : Fin cfg0.N) (d) : (dats VR c).before 1 t d = iblk VR c 1 t :=
  before0_1_of VR (dats VR c) (A_eq VR c 1) (after0_1 VR c) t d
theorem before0_2 (c : Dev nD) (t : Fin cfg0.N) (d) : (dats VR c).before 2 t d = X0_2 VR c t :=
  before0_2_of VR (dats VR c) (A_eq VR c 2) (after0_2 VR c) t d
theorem before0_3 (c : Dev nD) (t : Fin cfg0.N) (d) : (dats VR c).before 3 t d = iblk VR c 3 t :=
  before0_3_of VR (dats VR c) (A_eq VR c 3) (after0_3 VR c) t d
theorem before0_4 (c : Dev nD) (t : Fin cfg0.N) (d) : (dats VR c).before 4 t d = iblk VR c 4 t :=
  before0_4_of VR (dats VR c) (A_eq VR c 4) (after0_4 VR c) t d
theorem before0_5 (c : Dev nD) (t : Fin cfg0.N) (d) : (dats VR c).before 5 t d = iblk VR c 5 t :=
  before0_5_of VR (dats VR c) (A_eq VR c 5) (after0_5 VR c) t d

/-! ## The body obligation, at a generic point -/

/-- What the body is called with at point `t` (Lib/Pipeline.lean `BodyObligation`'s precondition, the windows one by one), -/
def bodyPre (c : Dev nD) (t : Fin cfg0.N) : sProp 𝕄 :=
  iprop((dats VR c).Φ t.castSucc ∗ (dats VR c).owesAt () t.castSucc
    ∗ (∃ d, owns (c : Thread nD τ) (ms0_0 t) fullShare ((dats VR c).before 0 t d))
    ∗ (∃ d, owns (c : Thread nD τ) (ms0_1 t) fullShare ((dats VR c).before 1 t d))
    ∗ (∃ d, owns (c : Thread nD τ) (ms0_2 t) fullShare ((dats VR c).before 2 t d))
    ∗ (∃ d, owns (c : Thread nD τ) (ms0_3 t) fullShare ((dats VR c).before 3 t d))
    ∗ (∃ d, owns (c : Thread nD τ) (ms0_4 t) fullShare ((dats VR c).before 4 t d))
    ∗ (∃ d, owns (c : Thread nD τ) (ms0_5 t) fullShare ((dats VR c).before 5 t d))
    ∗ (∃ d, owns (c : Thread nD τ) (ms0_6 t) fullShare ((dats VR c).before 6 t d))
    ∗ (∃ d, owns (c : Thread nD τ) (ms0_7 t) fullShare ((dats VR c).before 7 t d)))

/-- and what it returns. -/
def bodyPost (c : Dev nD) (t : Fin cfg0.N) : sProp 𝕄 :=
  iprop((dats VR c).Φ t.succ ∗ (dats VR c).owesAt () t.succ
    ∗ owns (c : Thread nD τ) (ms0_0 t) fullShare ((dats VR c).after 0 t)
    ∗ owns (c : Thread nD τ) (ms0_1 t) fullShare ((dats VR c).after 1 t)
    ∗ owns (c : Thread nD τ) (ms0_2 t) fullShare ((dats VR c).after 2 t)
    ∗ owns (c : Thread nD τ) (ms0_3 t) fullShare ((dats VR c).after 3 t)
    ∗ owns (c : Thread nD τ) (ms0_4 t) fullShare ((dats VR c).after 4 t)
    ∗ owns (c : Thread nD τ) (ms0_5 t) fullShare ((dats VR c).after 5 t)
    ∗ owns (c : Thread nD τ) (ms0_6 t) fullShare ((dats VR c).after 6 t)
    ∗ owns (c : Thread nD τ) (ms0_7 t) fullShare ((dats VR c).after 7 t))

set_option maxHeartbeats 2000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre VR c t ⊢ wp frame (wpE (defs₀ (F := F)) Variants.none c none) Set.univ (bodyAt0 t) (fun _ => bodyPost VR c t) := by
  unfold bodyPre bodyPost bodyAt0
  simp only [before0_0, before0_1, before0_2, before0_3, before0_4, before0_5]
  rw [show (dats VR c).owesAt () t.succ = (dats VR c).owesAt () t.castSucc from rfl,
    after0_0, after0_1, after0_2, after0_3, after0_4, after0_5, after0_6, after0_7]
  rw [show (dats VR c).Φ t.succ = PhiS VR c (t.val + 1) t.isLt from rfl, PhiS_succ]
  have hN : t.val < 64 := lt_of_lt_of_eq t.isLt (show cfg0.N = 64 from N_0)
  by_cases h0 : t.val % 16 = 0
  · by_cases hz : t.val = 0
    · rw [PhiS_castSucc VR c t, PhiS_zero VR c _ _ hz, PhiA0_eq]
      rw [outsAt0_A VR c t h0]
      unfold out0_A_6 out0_A_7 sout0_A_0; (try dsimp only)
      iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk VR c 0 t) (iblk VR c 1 t) (X0_2 VR c t) (iblk VR c 3 t) (iblk VR c 4 t) (iblk VR c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · rw [PhiS_castSucc VR c t, PhiS_pos VR c _ _ hz]
      rw [outsAt0_A VR c t h0]
      unfold out0_A_6 out0_A_7 sout0_A_0; (try dsimp only)
      iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk VR c 0 t) (iblk VR c 1 t) (X0_2 VR c t) (iblk VR c 3 t) (iblk VR c 4 t) (iblk VR c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, ⟨%e6, H6⟩, ⟨%e7, H7⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc VR c t, PhiS_pos VR c _ _ hz]
      rw [outsAt0_B VR c t h0]
      unfold out0_B_6 out0_B_7 sout0_B_0; (try dsimp only)
      iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk VR c 0 t) (iblk VR c 1 t) (X0_2 VR c t) (iblk VR c 3 t) (iblk VR c 4 t) (iblk VR c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) VR c) (defs₀ (F := F)) Variants.none () Set.univ := fun t => by
  rw [bigSep_W0, bigSep_W0, defs₀_row]
  exact triple_restated (sound_body VR c t) rfl .rfl fun _ => .rfl

/-- What the launch hands the region (`ΦA`) is the invariant before the first point. -/
theorem hin (c : Dev nD) : Pipeline.ΦA spec0 c ⊢ (dats VR c).Φ 0 := by
  rw [show (dats VR c).Φ 0 = PhiS VR c 0 (Nat.zero_le _) from rfl, PhiS_zero VR c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats VR c).Φ t ⊢ Pipeline.ΦA spec0 c := by
  rw [show (dats VR c).Φ t = PhiS VR c t.val (Nat.le_of_lt_succ t.isLt) from rfl, PhiS_pos VR c _ _ ht, PhiA0_eq]
  iintro ⟨⟨HS0, HB⟩, Hg⟩
  isplitl [HS0 HB]
  · isplitl [HS0]
    · iexists _; iexact HS0
    iexact HB
  iexact Hg

/-- The same after the last point. -/
theorem hout (c : Dev nD) : (dats VR c).Φ (Fin.last cfg0.N) ⊢ Pipeline.ΦA spec0 c :=
  Phi_out VR c _ (by rw [Fin.val_last]; have : cfg0.N = 64 := N_0; omega)

end Cert.KernelIdeal.Fwd

end
-- ==== Proof.BwdRuns.lean ====
/- What the two runs of the kernel body of region 1 share: blocks, conditions, staging memrefs, the invariant. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (VR : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (VR c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = VR c (Pipeline.arrRef spec1 0))
    (hafter : ∀ t, dat.after 0 t = iblk VR c 0 t) (t : Fin cfg1.N) (d) : dat.before 0 t d = iblk VR c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = VR c (Pipeline.arrRef spec1 1))
    (hafter : ∀ t, dat.after 1 t = iblk VR c 1 t) (t : Fin cfg1.N) (d) : dat.before 1 t d = iblk VR c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is of the clipped KIND (its block does not tile its array `S8192x3200`), but no block the grid
    reaches is cut, so no part of its staging buffer is left unfilled by a fetch. A default for such a part, which
    nothing reads. -/
def dflt1_2 : (cfg1.win 2).block.Idx → Elt F (cfg1.win 2).elt := fun _ => Classical.choice inferInstance
/-- What input window 2's current staging buffer holds when the body runs at `t`: its block read off the array,
    filled over `dflt1_2` (block-typed, where `iblk` is typed at the cut). -/
def X1_2 (c : Dev nD) (t : Fin cfg1.N) : (cfg1.win 2).block.Idx → Elt F (cfg1.win 2).elt :=
  (cfg1.win 2).fill (cfg1.grid.coords t) dflt1_2 (iblk VR c 2 t)
/-- At every point the cut's extent is the block's, decided over the grid: no transfer of input window 2 is cut. -/
theorem xsize1_2 : ∀ t : Fin cfg1.N, ∀ a, (cfg1.win 2).xsize (cfg1.grid.coords t) a = (cfg1.win 2).size a := by decide +kernel
/-- Every index of input window 2's block is moved at every point. -/
theorem moved1_2 (t : Fin cfg1.N) (j : (cfg1.win 2).block.Idx) : (cfg1.win 2).moved (cfg1.grid.coords t) j = true :=
  ((cfg1.win 2).moved_iff _ j).mpr fun a => by rw [xsize1_2 t a]; exact (j a).isLt
/-- A fill of input window 2's block covers the whole buffer, whatever it held. -/
theorem fill1_2 (t : Fin cfg1.N) (d d' : (cfg1.win 2).block.Idx → Elt F (cfg1.win 2).elt) (g) :
    (cfg1.win 2).fill (cfg1.grid.coords t) d g = (cfg1.win 2).fill (cfg1.grid.coords t) d' g := by
  funext j; unfold Pipeline.Window.fill; rw [dif_pos (moved1_2 t j), dif_pos (moved1_2 t j)]
/-- Input window 2's current staging buffer holds `X1_2` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill1_2`). -/
theorem before1_2_of {c : Dev nD} (dat : Dat τ (Elt F) Unit ℕ (UR sig nD τ) ℕ cfg1 c) (hA : dat.A 2 = VR c (Pipeline.arrRef spec1 2))
    (hafter : ∀ t, dat.after 2 t = X1_2 VR c t) (t : Fin cfg1.N) (d) : dat.before 2 t d = X1_2 VR c t :=
  (dat.before_in_eq_fetched 2 rfl (fun _ => rfl)
      (fun t t' h => funext fun a => congrArg (fun n => Pipeline.Clip.of n ((cfg1.win 2).size a) (S8192x3200.size a)) (congrFun h a))
      (fun t => by rw [hafter]; unfold X1_2; rw [Pipeline.Window.cut_fill]; unfold Dat.blockOf iblk; rw [hA]; try rfl) t d).trans
    (by unfold Dat.fetched X1_2; rw [fill1_2 t d dflt1_2]; unfold Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = VR c (Pipeline.arrRef spec1 3))
    (hafter : ∀ t, dat.after 3 t = iblk VR c 3 t) (t : Fin cfg1.N) (d) : dat.before 3 t d = iblk VR c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = VR c (Pipeline.arrRef spec1 4))
    (hafter : ∀ t, dat.after 4 t = iblk VR c 4 t) (t : Fin cfg1.N) (d) : dat.before 4 t d = iblk VR c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = VR c (Pipeline.arrRef spec1 5))
    (hafter : ∀ t, dat.after 5 t = iblk VR c 5 t) (t : Fin cfg1.N) (d) : dat.before 5 t d = iblk VR c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = VR c (Pipeline.arrRef spec1 6))
    (hafter : ∀ t, dat.after 6 t = iblk VR c 6 t) (t : Fin cfg1.N) (d) : dat.before 6 t d = iblk VR c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = VR c (Pipeline.arrRef spec1 7))
    (hafter : ∀ t, dat.after 7 t = iblk VR c 7 t) (t : Fin cfg1.N) (d) : dat.before 7 t d = iblk VR c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 16) — by arithmetic of the point. -/
theorem hcond1_0 : ∀ t : Fin cfg1.N, cond1_0 (grid1.coords t) ↔ t.val % 16 = 0 :=
  (fun t => by
    have ht : t.val < 64 := Nat.lt_of_lt_of_eq t.isLt N_1
    have e0 : (grid1.coords t 0).val = t.val / 16 % 4 := Pipeline.Grid.coords_val t 0 (by decide) rfl
    have e1 : (grid1.coords t 1).val = t.val / 1 % 16 := Pipeline.Grid.coords_val t 1 (by decide) rfl
    simp only [cond1_0, e0, e1]
    word_cmp
   : ∀ t : Fin grid1.N, cond1_0 (grid1.coords t) ↔ t.val % 16 = 0)

/-! ## The kernel body on any staging memrefs: a subtype the run finds -/

/-- One staging buffer of output window 8, through which its contents are stated (`View.read_writes_of_cover`: the
    choice does not matter). -/
abbrev VO1_8 : View sig .tc .vmem S512x128 .bf16 := (Memref.whole cc1_stg8_0 : Memref sig .tc .vmem S512x128 .bf16).view
/-- One staging buffer of output window 9, through which its contents are stated (`View.read_writes_of_cover`: the
    choice does not matter). -/
abbrev VO1_9 : View sig .tc .vmem S512x128 .bf16 := (Memref.whole cc1_stg9_0 : Memref sig .tc .vmem S512x128 .bf16).view
/-- One staging buffer of output window 10, through which its contents are stated (`View.read_writes_of_cover`: the
    choice does not matter). -/
abbrev VO1_10 : View sig .tc .vmem S512x256 .bf16 := (Memref.whole cc1_stg10_0 : Memref sig .tc .vmem S512x256 .bf16).view
/-- One staging buffer of output window 11, through which its contents are stated (`View.read_writes_of_cover`: the
    choice does not matter). -/
abbrev VO1_11 : View sig .tc .vmem S512x128 .f32 := (Memref.whole cc1_stg11_0 : Memref sig .tc .vmem S512x128 .f32).view
/-- One staging buffer of output window 12, through which its contents are stated (`View.read_writes_of_cover`: the
    choice does not matter). -/
abbrev VO1_12 : View sig .tc .vmem S1x128 .f32 := (Memref.whole cc1_stg12_0 : Memref sig .tc .vmem S1x128 .f32).view
/-- Each window's current staging memref at point `t`, spelled as the pipeline passes it (`bodyAt1`), and its wholeness. -/
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x1x256x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x128 .bf16 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S512x128 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x256 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S512x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x128 .f32 := win1_12.stage (cfg1.slots t 12)
abbrev hs1_12 (t : Fin cfg1.N) : (ms1_12 t).IsWhole := hstage1_12 ((cfg1.slots t 12).cast nbuf1_12)
/-- The scratch operands: whole scoped buffers of the kernel's own, passed beside the windows. -/
abbrev scM1_0 : Memref sig .tc .vmem S256x128 .f32 := Memref.whole cc1_scratch0
/-- The scratch `arg15` the kernel carries between points, as a view: what it holds is stated through it. -/
abbrev VS1_0 : View sig .tc .vmem S256x128 .f32 := scM1_0.view

/-- The region's other scoped buffers, which the kernel never touches, each at some contents. -/
abbrev restBut (c : Dev nD) : sProp 𝕄 :=
  Pipeline.scopedRestBut (Ix := Unit) (Name := ℕ) (U := UR sig nD τ) (Lvl := ℕ) (Val := Elt F) spec1 c [cc1_scratch0]

/-- The frame kit's invariant: the carried scratch at some contents, the other scoped buffers, the generator register. -/
theorem PhiA1_eq (c : Dev nD) :
    (Pipeline.ΦA spec1 c : sProp 𝕄)
      = iprop(iprop((∃ d, owns (c : Thread nD τ) scM1_0 fullShare d) ∗ restBut c) ∗ (∃ r, prngReg c r)) := by
  unfold Pipeline.ΦA restBut
  rw [Pipeline.scopedRest_split_of_list spec1 c [cc1_scratch0] (by decide) (by decide)]; simp only [scM1_0, owns_whole]; try rfl

end Cert.KernelIdeal.Bwd

end
-- ==== Proof.BwdRunA.lean ====
/- The body of region 1 run once, case A of its reset condition. -/
module

public import proofs.«01_k».proof.Proof.BwdRuns

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (VR : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken: points 0, 16, 32, 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) :
    Σ' (L8 : List (View.Piece (Elt F) S512x128 .bf16)), Σ' (L9 : List (View.Piece (Elt F) S512x128 .bf16)), Σ' (L10 : List (View.Piece (Elt F) S512x256 .bf16)), Σ' (L11 : List (View.Piece (Elt F) S512x128 .f32)), Σ' (L12 : List (View.Piece (Elt F) S1x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc1_gla_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc1_gla_bwd_eq_skeleton]; unfold cc1_gla_bwd_skel
    simp only [k1_part24_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact HS0

end Cert.KernelIdeal.Bwd

end
-- ==== Proof.BwdRunB.lean ====
/- The body of region 1 run once, case B of its reset condition. -/
module

public import proofs.«01_k».proof.Proof.BwdRunA

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (VR : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken: points 1, 2, … 63: 60 of 64), WITH the
    proof that on whole staging memrefs — the inputs' at their contents, the outputs it reads before covering (12) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : ¬cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (xo12 : Vec F S1x128 .f32) (xs0 : Vec F S256x128 .f32) :
    Σ' (L8 : List (View.Piece (Elt F) S512x128 .bf16)), Σ' (L9 : List (View.Piece (Elt F) S512x128 .bf16)), Σ' (L10 : List (View.Piece (Elt F) S512x256 .bf16)), Σ' (L11 : List (View.Piece (Elt F) S512x128 .f32)), Σ' (L12 : List (View.Piece (Elt F) S1x128 .f32)), { LS0 : List (View.Piece (Elt F) S256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xo12 ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc1_gla_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc1_gla_bwd_eq_skeleton]; unfold cc1_gla_bwd_skel
    simp only [k1_part24_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hf12; obtain rfl := harg15.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact HS0

end Cert.KernelIdeal.Bwd

end
-- ==== Proof.BwdFrame.lean ====
/- What region 1 leaves after each point, its proof data and its body obligation. -/
module

public import proofs.«01_k».proof.Proof.BwdRunB

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (VR : (c : Dev nD) → (b : Ref sig .tc) → Buf (Elt F) ((c : Thread nD τ).loc b))

/-- Case A's pieces for output 8 tile its block (8 stores of `S64x128`, checked by the kernel's evaluation: Lib/Ring.lean `Piece.tiledL`, linear in the pieces, through a loop's `@[irreducible]` trip theorem too), so they cover it. -/
theorem cover1_A_8 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (y : S512x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 S64x128.size (by sl_kernel_rfl) y

/-- What case A leaves in output 8's staging buffer: its pieces read back over junk. -/
def out1_A_8 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) : Vec F S512x128 .bf16 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)

/-- Case A's pieces for output 9 tile its block (8 stores of `S64x128`, checked by the kernel's evaluation: Lib/Ring.lean `Piece.tiledL`, linear in the pieces, through a loop's `@[irreducible]` trip theorem too), so they cover it. -/
theorem cover1_A_9 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (y : S512x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 S64x128.size (by sl_kernel_rfl) y

/-- What case A leaves in output 9's staging buffer: its pieces read back over junk. -/
def out1_A_9 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) : Vec F S512x128 .bf16 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1)

/-- Case A's pieces for output 10 tile its block (8 stores of `S64x256`, checked by the kernel's evaluation: Lib/Ring.lean `Piece.tiledL`, linear in the pieces, through a loop's `@[irreducible]` trip theorem too), so they cover it. -/
theorem cover1_A_10 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (y : S512x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 S64x256.size (by sl_kernel_rfl) y

/-- What case A leaves in output 10's staging buffer: its pieces read back over junk. -/
def out1_A_10 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) : Vec F S512x256 .bf16 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1)

/-- Case A's pieces for output 11 tile its block (8 stores of `S64x128`, checked by the kernel's evaluation: Lib/Ring.lean `Piece.tiledL`, linear in the pieces, through a loop's `@[irreducible]` trip theorem too), so they cover it. -/
theorem cover1_A_11 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (y : S512x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 S64x128.size (by sl_kernel_rfl) y

/-- What case A leaves in output 11's staging buffer: its pieces read back over junk. -/
def out1_A_11 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) : Vec F S512x128 .f32 :=
  VO1_11.read (Elt F) (VO1_11.writes (Elt F) VO1_11.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1)

/-- Case A's pieces for output 12 tile its block (9 stores of `S1x128`, checked by the kernel's evaluation: Lib/Ring.lean `Piece.tiledL`, linear in the pieces, through a loop's `@[irreducible]` trip theorem too), so they cover it. -/
theorem cover1_A_12 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (y : S1x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1 S1x128.size (by sl_kernel_rfl) y

/-- What case A leaves in output 12's staging buffer: its pieces read back over junk. -/
def out1_A_12 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) : Vec F S1x128 .f32 :=
  VO1_12.read (Elt F) (VO1_12.writes (Elt F) VO1_12.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1)

/-- Case A's pieces for scratch `arg15`, which the kernel carries between points, cover it: 2 pieces of `S256x128` tiling it (Lib/Ring.lean `Piece.tiledL`). -/
theorem scover1_A_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (y : S256x128.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1 S256x128.size (by sl_kernel_rfl) y

/-- What case A leaves in scratch `arg15`: its pieces read back over junk. -/
def sout1_A_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) : Vec F S256x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1)

/-- Case B's pieces for output 8 tile its block (8 stores of `S64x128`, checked by the kernel's evaluation: Lib/Ring.lean `Piece.tiledL`, linear in the pieces, through a loop's `@[irreducible]` trip theorem too), so they cover it. -/
theorem cover1_B_8 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : ¬cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (xo12 : Vec F S1x128 .f32) (xs0 : Vec F S256x128 .f32) (y : S512x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).1 S64x128.size (by sl_kernel_rfl) y

/-- What case B leaves in output 8's staging buffer: its pieces read back over junk. -/
def out1_B_8 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : ¬cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (xo12 : Vec F S1x128 .f32) (xs0 : Vec F S256x128 .f32) : Vec F S512x128 .bf16 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).1)

/-- Case B's pieces for output 9 tile its block (8 stores of `S64x128`, checked by the kernel's evaluation: Lib/Ring.lean `Piece.tiledL`, linear in the pieces, through a loop's `@[irreducible]` trip theorem too), so they cover it. -/
theorem cover1_B_9 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : ¬cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (xo12 : Vec F S1x128 .f32) (xs0 : Vec F S256x128 .f32) (y : S512x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.1 S64x128.size (by sl_kernel_rfl) y

/-- What case B leaves in output 9's staging buffer: its pieces read back over junk. -/
def out1_B_9 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : ¬cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (xo12 : Vec F S1x128 .f32) (xs0 : Vec F S256x128 .f32) : Vec F S512x128 .bf16 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.1)

/-- Case B's pieces for output 10 tile its block (8 stores of `S64x256`, checked by the kernel's evaluation: Lib/Ring.lean `Piece.tiledL`, linear in the pieces, through a loop's `@[irreducible]` trip theorem too), so they cover it. -/
theorem cover1_B_10 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : ¬cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (xo12 : Vec F S1x128 .f32) (xs0 : Vec F S256x128 .f32) (y : S512x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.1 S64x256.size (by sl_kernel_rfl) y

/-- What case B leaves in output 10's staging buffer: its pieces read back over junk. -/
def out1_B_10 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : ¬cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (xo12 : Vec F S1x128 .f32) (xs0 : Vec F S256x128 .f32) : Vec F S512x256 .bf16 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.1)

/-- Case B's pieces for output 11 tile its block (8 stores of `S64x128`, checked by the kernel's evaluation: Lib/Ring.lean `Piece.tiledL`, linear in the pieces, through a loop's `@[irreducible]` trip theorem too), so they cover it. -/
theorem cover1_B_11 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : ¬cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (xo12 : Vec F S1x128 .f32) (xs0 : Vec F S256x128 .f32) (y : S512x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.2.1 S64x128.size (by sl_kernel_rfl) y

/-- What case B leaves in output 11's staging buffer: its pieces read back over junk. -/
def out1_B_11 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : ¬cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (xo12 : Vec F S1x128 .f32) (xs0 : Vec F S256x128 .f32) : Vec F S512x128 .f32 :=
  VO1_11.read (Elt F) (VO1_11.writes (Elt F) VO1_11.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.2.1)

/-- Case B's pieces for output 12 tile its block (8 stores of `S1x128`, checked by the kernel's evaluation: Lib/Ring.lean `Piece.tiledL`, linear in the pieces, through a loop's `@[irreducible]` trip theorem too), so they cover it. -/
theorem cover1_B_12 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : ¬cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (xo12 : Vec F S1x128 .f32) (xs0 : Vec F S256x128 .f32) (y : S1x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.2.2.1 S1x128.size (by sl_kernel_rfl) y

/-- What case B leaves in output 12's staging buffer: its pieces read back over junk. -/
def out1_B_12 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : ¬cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (xo12 : Vec F S1x128 .f32) (xs0 : Vec F S256x128 .f32) : Vec F S1x128 .f32 :=
  VO1_12.read (Elt F) (VO1_12.writes (Elt F) VO1_12.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.2.2.1)

/-- Case B's pieces for scratch `arg15`, which the kernel carries between points, cover it: 1 piece of `S256x128` tiling it (Lib/Ring.lean `Piece.tiledL`). -/
theorem scover1_B_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : ¬cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (xo12 : Vec F S1x128 .f32) (xs0 : Vec F S256x128 .f32) (y : S256x128.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.2.2.2.1 S256x128.size (by sl_kernel_rfl) y

/-- What case B leaves in scratch `arg15`: its pieces read back over junk. -/
def sout1_B_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole) (hc0 : ¬cond1_0 i)
    (x0 : Vec F S512x128 .f32) (x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32) (xo12 : Vec F S1x128 .f32) (xs0 : Vec F S256x128 .f32) : Vec F S256x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S512x128 .bf16 × Vec F S512x128 .bf16 × Vec F S512x256 .bf16 × Vec F S512x128 .f32 × Vec F S1x128 .f32 × Vec F S256x128 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) scM1_0 (Memref.isWhole_whole _) ((hcond1_0 ⟨0, hn⟩).mpr (Nat.zero_mod _)) (iblk VR c 0 ⟨0, hn⟩) (iblk VR c 1 ⟨0, hn⟩) (X1_2 VR c ⟨0, hn⟩) (iblk VR c 3 ⟨0, hn⟩) (iblk VR c 4 ⟨0, hn⟩) (iblk VR c 5 ⟨0, hn⟩) (iblk VR c 6 ⟨0, hn⟩) (iblk VR c 7 ⟨0, hn⟩), out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) scM1_0 (Memref.isWhole_whole _) ((hcond1_0 ⟨0, hn⟩).mpr (Nat.zero_mod _)) (iblk VR c 0 ⟨0, hn⟩) (iblk VR c 1 ⟨0, hn⟩) (X1_2 VR c ⟨0, hn⟩) (iblk VR c 3 ⟨0, hn⟩) (iblk VR c 4 ⟨0, hn⟩) (iblk VR c 5 ⟨0, hn⟩) (iblk VR c 6 ⟨0, hn⟩) (iblk VR c 7 ⟨0, hn⟩), out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) scM1_0 (Memref.isWhole_whole _) ((hcond1_0 ⟨0, hn⟩).mpr (Nat.zero_mod _)) (iblk VR c 0 ⟨0, hn⟩) (iblk VR c 1 ⟨0, hn⟩) (X1_2 VR c ⟨0, hn⟩) (iblk VR c 3 ⟨0, hn⟩) (iblk VR c 4 ⟨0, hn⟩) (iblk VR c 5 ⟨0, hn⟩) (iblk VR c 6 ⟨0, hn⟩) (iblk VR c 7 ⟨0, hn⟩), out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) scM1_0 (Memref.isWhole_whole _) ((hcond1_0 ⟨0, hn⟩).mpr (Nat.zero_mod _)) (iblk VR c 0 ⟨0, hn⟩) (iblk VR c 1 ⟨0, hn⟩) (X1_2 VR c ⟨0, hn⟩) (iblk VR c 3 ⟨0, hn⟩) (iblk VR c 4 ⟨0, hn⟩) (iblk VR c 5 ⟨0, hn⟩) (iblk VR c 6 ⟨0, hn⟩) (iblk VR c 7 ⟨0, hn⟩), out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) scM1_0 (Memref.isWhole_whole _) ((hcond1_0 ⟨0, hn⟩).mpr (Nat.zero_mod _)) (iblk VR c 0 ⟨0, hn⟩) (iblk VR c 1 ⟨0, hn⟩) (X1_2 VR c ⟨0, hn⟩) (iblk VR c 3 ⟨0, hn⟩) (iblk VR c 4 ⟨0, hn⟩) (iblk VR c 5 ⟨0, hn⟩) (iblk VR c 6 ⟨0, hn⟩) (iblk VR c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) scM1_0 (Memref.isWhole_whole _) ((hcond1_0 ⟨0, hn⟩).mpr (Nat.zero_mod _)) (iblk VR c 0 ⟨0, hn⟩) (iblk VR c 1 ⟨0, hn⟩) (X1_2 VR c ⟨0, hn⟩) (iblk VR c 3 ⟨0, hn⟩) (iblk VR c 4 ⟨0, hn⟩) (iblk VR c 5 ⟨0, hn⟩) (iblk VR c 6 ⟨0, hn⟩) (iblk VR c 7 ⟨0, hn⟩))
  | n + 1, hn =>
    if h0 : (n + 1) % 16 = 0 then
      (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) ((hcond1_0 ⟨n + 1, hn⟩).mpr h0) (iblk VR c 0 ⟨n + 1, hn⟩) (iblk VR c 1 ⟨n + 1, hn⟩) (X1_2 VR c ⟨n + 1, hn⟩) (iblk VR c 3 ⟨n + 1, hn⟩) (iblk VR c 4 ⟨n + 1, hn⟩) (iblk VR c 5 ⟨n + 1, hn⟩) (iblk VR c 6 ⟨n + 1, hn⟩) (iblk VR c 7 ⟨n + 1, hn⟩), out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) ((hcond1_0 ⟨n + 1, hn⟩).mpr h0) (iblk VR c 0 ⟨n + 1, hn⟩) (iblk VR c 1 ⟨n + 1, hn⟩) (X1_2 VR c ⟨n + 1, hn⟩) (iblk VR c 3 ⟨n + 1, hn⟩) (iblk VR c 4 ⟨n + 1, hn⟩) (iblk VR c 5 ⟨n + 1, hn⟩) (iblk VR c 6 ⟨n + 1, hn⟩) (iblk VR c 7 ⟨n + 1, hn⟩), out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) ((hcond1_0 ⟨n + 1, hn⟩).mpr h0) (iblk VR c 0 ⟨n + 1, hn⟩) (iblk VR c 1 ⟨n + 1, hn⟩) (X1_2 VR c ⟨n + 1, hn⟩) (iblk VR c 3 ⟨n + 1, hn⟩) (iblk VR c 4 ⟨n + 1, hn⟩) (iblk VR c 5 ⟨n + 1, hn⟩) (iblk VR c 6 ⟨n + 1, hn⟩) (iblk VR c 7 ⟨n + 1, hn⟩), out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) ((hcond1_0 ⟨n + 1, hn⟩).mpr h0) (iblk VR c 0 ⟨n + 1, hn⟩) (iblk VR c 1 ⟨n + 1, hn⟩) (X1_2 VR c ⟨n + 1, hn⟩) (iblk VR c 3 ⟨n + 1, hn⟩) (iblk VR c 4 ⟨n + 1, hn⟩) (iblk VR c 5 ⟨n + 1, hn⟩) (iblk VR c 6 ⟨n + 1, hn⟩) (iblk VR c 7 ⟨n + 1, hn⟩), out1_A_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) ((hcond1_0 ⟨n + 1, hn⟩).mpr h0) (iblk VR c 0 ⟨n + 1, hn⟩) (iblk VR c 1 ⟨n + 1, hn⟩) (X1_2 VR c ⟨n + 1, hn⟩) (iblk VR c 3 ⟨n + 1, hn⟩) (iblk VR c 4 ⟨n + 1, hn⟩) (iblk VR c 5 ⟨n + 1, hn⟩) (iblk VR c 6 ⟨n + 1, hn⟩) (iblk VR c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) ((hcond1_0 ⟨n + 1, hn⟩).mpr h0) (iblk VR c 0 ⟨n + 1, hn⟩) (iblk VR c 1 ⟨n + 1, hn⟩) (X1_2 VR c ⟨n + 1, hn⟩) (iblk VR c 3 ⟨n + 1, hn⟩) (iblk VR c 4 ⟨n + 1, hn⟩) (iblk VR c 5 ⟨n + 1, hn⟩) (iblk VR c 6 ⟨n + 1, hn⟩) (iblk VR c 7 ⟨n + 1, hn⟩))
    else
      (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) (fun h => h0 ((hcond1_0 ⟨n + 1, hn⟩).mp h)) (iblk VR c 0 ⟨n + 1, hn⟩) (iblk VR c 1 ⟨n + 1, hn⟩) (X1_2 VR c ⟨n + 1, hn⟩) (iblk VR c 3 ⟨n + 1, hn⟩) (iblk VR c 4 ⟨n + 1, hn⟩) (iblk VR c 5 ⟨n + 1, hn⟩) (iblk VR c 6 ⟨n + 1, hn⟩) (iblk VR c 7 ⟨n + 1, hn⟩) (outsAt1 c n (Nat.lt_of_succ_lt hn)).2.2.2.2.1 (outsAt1 c n (Nat.lt_of_succ_lt hn)).2.2.2.2.2, out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) (fun h => h0 ((hcond1_0 ⟨n + 1, hn⟩).mp h)) (iblk VR c 0 ⟨n + 1, hn⟩) (iblk VR c 1 ⟨n + 1, hn⟩) (X1_2 VR c ⟨n + 1, hn⟩) (iblk VR c 3 ⟨n + 1, hn⟩) (iblk VR c 4 ⟨n + 1, hn⟩) (iblk VR c 5 ⟨n + 1, hn⟩) (iblk VR c 6 ⟨n + 1, hn⟩) (iblk VR c 7 ⟨n + 1, hn⟩) (outsAt1 c n (Nat.lt_of_succ_lt hn)).2.2.2.2.1 (outsAt1 c n (Nat.lt_of_succ_lt hn)).2.2.2.2.2, out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) (fun h => h0 ((hcond1_0 ⟨n + 1, hn⟩).mp h)) (iblk VR c 0 ⟨n + 1, hn⟩) (iblk VR c 1 ⟨n + 1, hn⟩) (X1_2 VR c ⟨n + 1, hn⟩) (iblk VR c 3 ⟨n + 1, hn⟩) (iblk VR c 4 ⟨n + 1, hn⟩) (iblk VR c 5 ⟨n + 1, hn⟩) (iblk VR c 6 ⟨n + 1, hn⟩) (iblk VR c 7 ⟨n + 1, hn⟩) (outsAt1 c n (Nat.lt_of_succ_lt hn)).2.2.2.2.1 (outsAt1 c n (Nat.lt_of_succ_lt hn)).2.2.2.2.2, out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) (fun h => h0 ((hcond1_0 ⟨n + 1, hn⟩).mp h)) (iblk VR c 0 ⟨n + 1, hn⟩) (iblk VR c 1 ⟨n + 1, hn⟩) (X1_2 VR c ⟨n + 1, hn⟩) (iblk VR c 3 ⟨n + 1, hn⟩) (iblk VR c 4 ⟨n + 1, hn⟩) (iblk VR c 5 ⟨n + 1, hn⟩) (iblk VR c 6 ⟨n + 1, hn⟩) (iblk VR c 7 ⟨n + 1, hn⟩) (outsAt1 c n (Nat.lt_of_succ_lt hn)).2.2.2.2.1 (outsAt1 c n (Nat.lt_of_succ_lt hn)).2.2.2.2.2, out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) (fun h => h0 ((hcond1_0 ⟨n + 1, hn⟩).mp h)) (iblk VR c 0 ⟨n + 1, hn⟩) (iblk VR c 1 ⟨n + 1, hn⟩) (X1_2 VR c ⟨n + 1, hn⟩) (iblk VR c 3 ⟨n + 1, hn⟩) (iblk VR c 4 ⟨n + 1, hn⟩) (iblk VR c 5 ⟨n + 1, hn⟩) (iblk VR c 6 ⟨n + 1, hn⟩) (iblk VR c 7 ⟨n + 1, hn⟩) (outsAt1 c n (Nat.lt_of_succ_lt hn)).2.2.2.2.1 (outsAt1 c n (Nat.lt_of_succ_lt hn)).2.2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) scM1_0 (Memref.isWhole_whole _) (fun h => h0 ((hcond1_0 ⟨n + 1, hn⟩).mp h)) (iblk VR c 0 ⟨n + 1, hn⟩) (iblk VR c 1 ⟨n + 1, hn⟩) (X1_2 VR c ⟨n + 1, hn⟩) (iblk VR c 3 ⟨n + 1, hn⟩) (iblk VR c 4 ⟨n + 1, hn⟩) (iblk VR c 5 ⟨n + 1, hn⟩) (iblk VR c 6 ⟨n + 1, hn⟩) (iblk VR c 7 ⟨n + 1, hn⟩) (outsAt1 c n (Nat.lt_of_succ_lt hn)).2.2.2.2.1 (outsAt1 c n (Nat.lt_of_succ_lt hn)).2.2.2.2.2)

/-- `outsAt1` at a point of case A: that case's contents. -/
theorem outsAt0_A (c : Dev nD) (t : Fin cfg1.N) (h0 : t.val % 16 = 0) :
    outsAt1 VR c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) ((hcond1_0 t).mpr h0) (iblk VR c 0 t) (iblk VR c 1 t) (X1_2 VR c t) (iblk VR c 3 t) (iblk VR c 4 t) (iblk VR c 5 t) (iblk VR c 6 t) (iblk VR c 7 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) ((hcond1_0 t).mpr h0) (iblk VR c 0 t) (iblk VR c 1 t) (X1_2 VR c t) (iblk VR c 3 t) (iblk VR c 4 t) (iblk VR c 5 t) (iblk VR c 6 t) (iblk VR c 7 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) ((hcond1_0 t).mpr h0) (iblk VR c 0 t) (iblk VR c 1 t) (X1_2 VR c t) (iblk VR c 3 t) (iblk VR c 4 t) (iblk VR c 5 t) (iblk VR c 6 t) (iblk VR c 7 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) ((hcond1_0 t).mpr h0) (iblk VR c 0 t) (iblk VR c 1 t) (X1_2 VR c t) (iblk VR c 3 t) (iblk VR c 4 t) (iblk VR c 5 t) (iblk VR c 6 t) (iblk VR c 7 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) ((hcond1_0 t).mpr h0) (iblk VR c 0 t) (iblk VR c 1 t) (X1_2 VR c t) (iblk VR c 3 t) (iblk VR c 4 t) (iblk VR c 5 t) (iblk VR c 6 t) (iblk VR c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) ((hcond1_0 t).mpr h0) (iblk VR c 0 t) (iblk VR c 1 t) (X1_2 VR c t) (iblk VR c 3 t) (iblk VR c 4 t) (iblk VR c 5 t) (iblk VR c 6 t) (iblk VR c 7 t)) := by
  obtain ⟨n, hn⟩ := t
  cases n with
  | zero => exact rfl
  | succ n => exact (dif_pos h0).trans rfl

/-- `outsAt1` at a point of case B: that case's contents, over what the point before left. -/
theorem outsAt0_B (c : Dev nD) (t : Fin cfg1.N) (h0 : ¬t.val % 16 = 0) :
    outsAt1 VR c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (fun h => h0 ((hcond1_0 t).mp h)) (iblk VR c 0 t) (iblk VR c 1 t) (X1_2 VR c t) (iblk VR c 3 t) (iblk VR c 4 t) (iblk VR c 5 t) (iblk VR c 6 t) (iblk VR c 7 t) (outsAt1 VR c (t.val - 1) (Nat.lt_of_le_of_lt (Nat.sub_le _ _) t.isLt)).2.2.2.2.1 (outsAt1 VR c (t.val - 1) (Nat.lt_of_le_of_lt (Nat.sub_le _ _) t.isLt)).2.2.2.2.2, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (fun h => h0 ((hcond1_0 t).mp h)) (iblk VR c 0 t) (iblk VR c 1 t) (X1_2 VR c t) (iblk VR c 3 t) (iblk VR c 4 t) (iblk VR c 5 t) (iblk VR c 6 t) (iblk VR c 7 t) (outsAt1 VR c (t.val - 1) (Nat.lt_of_le_of_lt (Nat.sub_le _ _) t.isLt)).2.2.2.2.1 (outsAt1 VR c (t.val - 1) (Nat.lt_of_le_of_lt (Nat.sub_le _ _) t.isLt)).2.2.2.2.2, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (fun h => h0 ((hcond1_0 t).mp h)) (iblk VR c 0 t) (iblk VR c 1 t) (X1_2 VR c t) (iblk VR c 3 t) (iblk VR c 4 t) (iblk VR c 5 t) (iblk VR c 6 t) (iblk VR c 7 t) (outsAt1 VR c (t.val - 1) (Nat.lt_of_le_of_lt (Nat.sub_le _ _) t.isLt)).2.2.2.2.1 (outsAt1 VR c (t.val - 1) (Nat.lt_of_le_of_lt (Nat.sub_le _ _) t.isLt)).2.2.2.2.2, out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (fun h => h0 ((hcond1_0 t).mp h)) (iblk VR c 0 t) (iblk VR c 1 t) (X1_2 VR c t) (iblk VR c 3 t) (iblk VR c 4 t) (iblk VR c 5 t) (iblk VR c 6 t) (iblk VR c 7 t) (outsAt1 VR c (t.val - 1) (Nat.lt_of_le_of_lt (Nat.sub_le _ _) t.isLt)).2.2.2.2.1 (outsAt1 VR c (t.val - 1) (Nat.lt_of_le_of_lt (Nat.sub_le _ _) t.isLt)).2.2.2.2.2, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (fun h => h0 ((hcond1_0 t).mp h)) (iblk VR c 0 t) (iblk VR c 1 t) (X1_2 VR c t) (iblk VR c 3 t) (iblk VR c 4 t) (iblk VR c 5 t) (iblk VR c 6 t) (iblk VR c 7 t) (outsAt1 VR c (t.val - 1) (Nat.lt_of_le_of_lt (Nat.sub_le _ _) t.isLt)).2.2.2.2.1 (outsAt1 VR c (t.val - 1) (Nat.lt_of_le_of_lt (Nat.sub_le _ _) t.isLt)).2.2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) (fun h => h0 ((hcond1_0 t).mp h)) (iblk VR c 0 t) (iblk VR c 1 t) (X1_2 VR c t) (iblk VR c 3 t) (iblk VR c 4 t) (iblk VR c 5 t) (iblk VR c 6 t) (iblk VR c 7 t) (outsAt1 VR c (t.val - 1) (Nat.lt_of_le_of_lt (Nat.sub_le _ _) t.isLt)).2.2.2.2.1 (outsAt1 VR c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 VR c n hn).2.2.2.2.2) ∗ restBut c) ∗ (∃ r, prngReg c r))

theorem PhiS_zero (c : Dev nD) (n : ℕ) (h : n ≤ cfg1.N) (hz : n = 0) : PhiS VR c n h = Pipeline.ΦA spec1 c := by
  subst hz; rfl

/-- After point `n` (before point `n + 1`): the carried scratch at that point's contents. -/
theorem PhiS_succ (c : Dev nD) (n : ℕ) (hn : n < cfg1.N) :
    PhiS VR c (n + 1) hn = iprop(iprop(owns (c : Thread nD τ) scM1_0 fullShare ((outsAt1 VR c n hn).2.2.2.2.2) ∗ restBut c) ∗ (∃ r, prngReg c r)) := rfl

/-- Before a point that is not the first: the carried scratch at what the point before left. -/
theorem PhiS_pos (c : Dev nD) (n : ℕ) (h : n ≤ cfg1.N) (hz : n ≠ 0) :
    PhiS VR c n h = iprop(iprop(owns (c : Thread nD τ) scM1_0 fullShare ((outsAt1 VR c (n - 1) (by omega)).2.2.2.2.2) ∗ restBut c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; each input's share of its array
    (`Pipeline.shareOf`: the full share of an array several windows stage, dealt among them). -/
def dats (c : Dev nD) : Dat τ (Elt F) Unit ℕ (UR sig nD τ) ℕ cfg1 c where
  A w := VR c (Pipeline.arrRef spec1 w)
  after w t := match w with
    | ⟨0, _⟩ => iblk VR c 0 t
    | ⟨1, _⟩ => iblk VR c 1 t
    | ⟨2, _⟩ => X1_2 VR c t
    | ⟨3, _⟩ => iblk VR c 3 t
    | ⟨4, _⟩ => iblk VR c 4 t
    | ⟨5, _⟩ => iblk VR c 5 t
    | ⟨6, _⟩ => iblk VR c 6 t
    | ⟨7, _⟩ => iblk VR c 7 t
    | ⟨8, _⟩ => (outsAt1 VR c t.val t.isLt).1
    | ⟨9, _⟩ => (outsAt1 VR c t.val t.isLt).2.1
    | ⟨10, _⟩ => (outsAt1 VR c t.val t.isLt).2.2.1
    | ⟨11, _⟩ => (outsAt1 VR c t.val t.isLt).2.2.2.1
    | ⟨12, _⟩ => (outsAt1 VR c t.val t.isLt).2.2.2.2.1
  Φ t := PhiS VR c t.val (Nat.le_of_lt_succ t.isLt)
  q w := Pipeline.shareOf spec1 w
  owed _ := 0

/-- The proof data's arrays are the region-entry contents: the proof data's definition projected (`dsimp`), so that
    `V` — a fold over @main's host prefix, long for some programs — is never unfolded to check it. -/
theorem A_eq (c : Dev nD) (w : Fin cfg1.W) : (dats VR c).A w = VR c (Pipeline.arrRef spec1 w) := by
  dsimp only [dats]

/-- The invariant at a point's start (the proof data at `t.castSucc`), restated at `t.val`. -/
theorem PhiS_castSucc (c : Dev nD) (t : Fin cfg1.N) :
    (dats VR c).Φ t.castSucc = PhiS VR c t.val (Nat.le_of_lt t.isLt) := by
  dsimp only [dats]; exact Pipeline.Dat.Φ_castSucc (PhiS VR c) t

/-- What the body leaves, window by window (the proof data's `match` reduced by `dsimp`). -/
theorem after1_0 (c : Dev nD) (t : Fin cfg1.N) : (dats VR c).after 0 t = iblk VR c 0 t := by dsimp only [dats]
theorem after1_1 (c : Dev nD) (t : Fin cfg1.N) : (dats VR c).after 1 t = iblk VR c 1 t := by dsimp only [dats]
theorem after1_2 (c : Dev nD) (t : Fin cfg1.N) : (dats VR c).after 2 t = X1_2 VR c t := by dsimp only [dats]
theorem after1_3 (c : Dev nD) (t : Fin cfg1.N) : (dats VR c).after 3 t = iblk VR c 3 t := by dsimp only [dats]
theorem after1_4 (c : Dev nD) (t : Fin cfg1.N) : (dats VR c).after 4 t = iblk VR c 4 t := by dsimp only [dats]
theorem after1_5 (c : Dev nD) (t : Fin cfg1.N) : (dats VR c).after 5 t = iblk VR c 5 t := by dsimp only [dats]
theorem after1_6 (c : Dev nD) (t : Fin cfg1.N) : (dats VR c).after 6 t = iblk VR c 6 t := by dsimp only [dats]
theorem after1_7 (c : Dev nD) (t : Fin cfg1.N) : (dats VR c).after 7 t = iblk VR c 7 t := by dsimp only [dats]
theorem after1_8 (c : Dev nD) (t : Fin cfg1.N) : (dats VR c).after 8 t = (outsAt1 VR c t.val t.isLt).1 := by dsimp only [dats]
theorem after1_9 (c : Dev nD) (t : Fin cfg1.N) : (dats VR c).after 9 t = (outsAt1 VR c t.val t.isLt).2.1 := by dsimp only [dats]
theorem after1_10 (c : Dev nD) (t : Fin cfg1.N) : (dats VR c).after 10 t = (outsAt1 VR c t.val t.isLt).2.2.1 := by dsimp only [dats]
theorem after1_11 (c : Dev nD) (t : Fin cfg1.N) : (dats VR c).after 11 t = (outsAt1 VR c t.val t.isLt).2.2.2.1 := by dsimp only [dats]
theorem after1_12 (c : Dev nD) (t : Fin cfg1.N) : (dats VR c).after 12 t = (outsAt1 VR c t.val t.isLt).2.2.2.2.1 := by dsimp only [dats]

/-- Each input's current staging buffer holds its block at every point, fetched there or not (`beforeK_W_of`). -/
theorem before1_0 (c : Dev nD) (t : Fin cfg1.N) (d) : (dats VR c).before 0 t d = iblk VR c 0 t :=
  before1_0_of VR (dats VR c) (A_eq VR c 0) (after1_0 VR c) t d
theorem before1_1 (c : Dev nD) (t : Fin cfg1.N) (d) : (dats VR c).before 1 t d = iblk VR c 1 t :=
  before1_1_of VR (dats VR c) (A_eq VR c 1) (after1_1 VR c) t d
theorem before1_2 (c : Dev nD) (t : Fin cfg1.N) (d) : (dats VR c).before 2 t d = X1_2 VR c t :=
  before1_2_of VR (dats VR c) (A_eq VR c 2) (after1_2 VR c) t d
theorem before1_3 (c : Dev nD) (t : Fin cfg1.N) (d) : (dats VR c).before 3 t d = iblk VR c 3 t :=
  before1_3_of VR (dats VR c) (A_eq VR c 3) (after1_3 VR c) t d
theorem before1_4 (c : Dev nD) (t : Fin cfg1.N) (d) : (dats VR c).before 4 t d = iblk VR c 4 t :=
  before1_4_of VR (dats VR c) (A_eq VR c 4) (after1_4 VR c) t d
theorem before1_5 (c : Dev nD) (t : Fin cfg1.N) (d) : (dats VR c).before 5 t d = iblk VR c 5 t :=
  before1_5_of VR (dats VR c) (A_eq VR c 5) (after1_5 VR c) t d
theorem before1_6 (c : Dev nD) (t : Fin cfg1.N) (d) : (dats VR c).before 6 t d = iblk VR c 6 t :=
  before1_6_of VR (dats VR c) (A_eq VR c 6) (after1_6 VR c) t d
theorem before1_7 (c : Dev nD) (t : Fin cfg1.N) (d) : (dats VR c).before 7 t d = iblk VR c 7 t :=
  before1_7_of VR (dats VR c) (A_eq VR c 7) (after1_7 VR c) t d
/-- At a point of case B output 12's current staging buffer holds what the body left at the point before: the point is
    not the first, the buffer was not written back between (`flush1_12`), the window is live and uncut (Lib/Pipeline/Frame.lean
    `Dat.before_out_kept`). -/
theorem before1_12_B (c : Dev nD) (t : Fin cfg1.N) (h0 : ¬t.val % 16 = 0) (d) :
    (dats VR c).before 12 t d = (outsAt1 VR c (t.val - 1) (Nat.lt_of_le_of_lt (Nat.sub_le _ _) t.isLt)).2.2.2.2.1 := by
  have hN : t.val < 64 := lt_of_lt_of_eq t.isLt (show cfg1.N = 64 from N_1)
  rw [Dat.before_out_kept _ 12 rfl t (by omega) (Bool.eq_false_iff.mpr fun h => by have := (flush1_12 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg1.N) : sProp 𝕄 :=
  iprop((dats VR c).Φ t.castSucc ∗ (dats VR c).owesAt () t.castSucc
    ∗ (∃ d, owns (c : Thread nD τ) (ms1_0 t) fullShare ((dats VR c).before 0 t d))
    ∗ (∃ d, owns (c : Thread nD τ) (ms1_1 t) fullShare ((dats VR c).before 1 t d))
    ∗ (∃ d, owns (c : Thread nD τ) (ms1_2 t) fullShare ((dats VR c).before 2 t d))
    ∗ (∃ d, owns (c : Thread nD τ) (ms1_3 t) fullShare ((dats VR c).before 3 t d))
    ∗ (∃ d, owns (c : Thread nD τ) (ms1_4 t) fullShare ((dats VR c).before 4 t d))
    ∗ (∃ d, owns (c : Thread nD τ) (ms1_5 t) fullShare ((dats VR c).before 5 t d))
    ∗ (∃ d, owns (c : Thread nD τ) (ms1_6 t) fullShare ((dats VR c).before 6 t d))
    ∗ (∃ d, owns (c : Thread nD τ) (ms1_7 t) fullShare ((dats VR c).before 7 t d))
    ∗ (∃ d, owns (c : Thread nD τ) (ms1_8 t) fullShare ((dats VR c).before 8 t d))
    ∗ (∃ d, owns (c : Thread nD τ) (ms1_9 t) fullShare ((dats VR c).before 9 t d))
    ∗ (∃ d, owns (c : Thread nD τ) (ms1_10 t) fullShare ((dats VR c).before 10 t d))
    ∗ (∃ d, owns (c : Thread nD τ) (ms1_11 t) fullShare ((dats VR c).before 11 t d))
    ∗ (∃ d, owns (c : Thread nD τ) (ms1_12 t) fullShare ((dats VR c).before 12 t d)))

/-- and what it returns. -/
def bodyPost (c : Dev nD) (t : Fin cfg1.N) : sProp 𝕄 :=
  iprop((dats VR c).Φ t.succ ∗ (dats VR c).owesAt () t.succ
    ∗ owns (c : Thread nD τ) (ms1_0 t) fullShare ((dats VR c).after 0 t)
    ∗ owns (c : Thread nD τ) (ms1_1 t) fullShare ((dats VR c).after 1 t)
    ∗ owns (c : Thread nD τ) (ms1_2 t) fullShare ((dats VR c).after 2 t)
    ∗ owns (c : Thread nD τ) (ms1_3 t) fullShare ((dats VR c).after 3 t)
    ∗ owns (c : Thread nD τ) (ms1_4 t) fullShare ((dats VR c).after 4 t)
    ∗ owns (c : Thread nD τ) (ms1_5 t) fullShare ((dats VR c).after 5 t)
    ∗ owns (c : Thread nD τ) (ms1_6 t) fullShare ((dats VR c).after 6 t)
    ∗ owns (c : Thread nD τ) (ms1_7 t) fullShare ((dats VR c).after 7 t)
    ∗ owns (c : Thread nD τ) (ms1_8 t) fullShare ((dats VR c).after 8 t)
    ∗ owns (c : Thread nD τ) (ms1_9 t) fullShare ((dats VR c).after 9 t)
    ∗ owns (c : Thread nD τ) (ms1_10 t) fullShare ((dats VR c).after 10 t)
    ∗ owns (c : Thread nD τ) (ms1_11 t) fullShare ((dats VR c).after 11 t)
    ∗ owns (c : Thread nD τ) (ms1_12 t) fullShare ((dats VR c).after 12 t))

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre VR c t ⊢ wp frame (wpE (defs₀ (F := F)) Variants.none c none) Set.univ (bodyAt1 t) (fun _ => bodyPost VR c t) := by
  unfold bodyPre bodyPost bodyAt1
  simp only [before1_0, before1_1, before1_2, before1_3, before1_4, before1_5, before1_6, before1_7]
  rw [show (dats VR c).owesAt () t.succ = (dats VR c).owesAt () t.castSucc from rfl,
    after1_0, after1_1, after1_2, after1_3, after1_4, after1_5, after1_6, after1_7, after1_8, after1_9, after1_10, after1_11, after1_12]
  rw [show (dats VR c).Φ t.succ = PhiS VR c (t.val + 1) t.isLt from rfl, PhiS_succ]
  have hN : t.val < 64 := lt_of_lt_of_eq t.isLt (show cfg1.N = 64 from N_1)
  by_cases h0 : t.val % 16 = 0
  · by_cases hz : t.val = 0
    · rw [PhiS_castSucc VR c t, PhiS_zero VR c _ _ hz, PhiA1_eq]
      rw [outsAt0_A VR c t h0]
      unfold out1_A_8 out1_A_9 out1_A_10 out1_A_11 out1_A_12 sout1_A_0; (try dsimp only)
      iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun1_A c (grid1.coords t) _ _ _ _ _ _ _ _ _ _ _ _ _ _ _ _ _ _ _ _ _ _ _ _ _ _ _ _ ((hcond1_0 t).mpr h0) (iblk VR c 0 t) (iblk VR c 1 t) (X1_2 VR c t) (iblk VR c 3 t) (iblk VR c 4 t) (iblk VR c 5 t) (iblk VR c 6 t) (iblk VR c 7 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover1_A_8 c _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_A_9 c _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_A_10 c _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover1_A_12 c _ _ _ _ _ _ _ _ _ _ _ _ _ _ _ _ _ _ _ _ _ _ _ _ _ _ _ _ _ _ _ _ _ _ _ _ _ _)
    · rw [PhiS_castSucc VR c t, PhiS_pos VR c _ _ hz]
      rw [outsAt0_A VR c t h0]
      unfold out1_A_8 out1_A_9 out1_A_10 out1_A_11 out1_A_12 sout1_A_0; (try dsimp only)
      iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun1_A c (grid1.coords t) _ _ _ _ _ _ _ _ _ _ _ _ _ _ _ _ _ _ _ _ _ _ _ _ _ _ _ _ ((hcond1_0 t).mpr h0) (iblk VR c 0 t) (iblk VR c 1 t) (X1_2 VR c t) (iblk VR c 3 t) (iblk VR c 4 t) (iblk VR c 5 t) (iblk VR c 6 t) (iblk VR c 7 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexists _; iexact HS0
      iintro ⟨H0, H1, H2, H3, H4, H5, H6, H7, ⟨%e8, H8⟩, ⟨%e9, H9⟩, ⟨%e10, H10⟩, ⟨%e11, H11⟩, ⟨%e12, H12⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover1_A_8 c _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_A_9 c _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_A_10 c _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover1_A_12 c _ _ _ _ _ _ _ _ _ _ _ _ _ _ _ _ _ _ _ _ _ _ _ _ _ _ _ _ _ _ _ _ _ _ _ _ _ _)
  · by_cases hz : t.val = 0
    · exfalso; have hN : t.val < 64 := lt_of_lt_of_eq t.isLt (show cfg1.N = 64 from N_1); omega
    · rw [PhiS_castSucc VR c t, PhiS_pos VR c _ _ hz]
      rw [outsAt0_B VR c t h0]
      simp only [before1_12_B VR c t h0]
      unfold out1_B_8 out1_B_9 out1_B_10 out1_B_11 out1_B_12 sout1_B_0; (try dsimp only)
      iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun1_B c (grid1.coords t) _ _ _ _ _ _ _ _ _ _ _ _ _ _ _ _ _ _ _ _ _ _ _ _ _ _ _ _ (fun h => h0 ((hcond1_0 t).mp h)) (iblk VR c 0 t) (iblk VR c 1 t) (X1_2 VR c t) (iblk VR c 3 t) (iblk VR c 4 t) (iblk VR c 5 t) (iblk VR c 6 t) (iblk VR c 7 t) _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexact H12
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover1_B_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover1_B_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_B_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_B_11 c _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover1_B_12 c _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dats (F := F) VR c) (defs₀ (F := F)) Variants.none () Set.univ := fun t => by
  rw [bigSep_W1, bigSep_W1, defs₀_row]
  exact triple_restated (sound_body VR c t) rfl .rfl fun _ => .rfl

/-- What the launch hands the region (`ΦA`) is the invariant before the first point. -/
theorem hin (c : Dev nD) : Pipeline.ΦA spec1 c ⊢ (dats VR c).Φ 0 := by
  rw [show (dats VR c).Φ 0 = PhiS VR c 0 (Nat.zero_le _) from rfl, PhiS_zero VR c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dats VR c).Φ t ⊢ Pipeline.ΦA spec1 c := by
  rw [show (dats VR c).Φ t = PhiS VR c t.val (Nat.le_of_lt_succ t.isLt) from rfl, PhiS_pos VR c _ _ ht, PhiA1_eq]
  iintro ⟨⟨HS0, HB⟩, Hg⟩
  isplitl [HS0 HB]
  · isplitl [HS0]
    · iexists _; iexact HS0
    iexact HB
  iexact Hg

/-- The same after the last point. -/
theorem hout (c : Dev nD) : (dats VR c).Φ (Fin.last cfg1.N) ⊢ Pipeline.ΦA spec1 c :=
  Phi_out VR c _ (by rw [Fin.val_last]; have : cfg1.N = 64 := N_1; omega)

end Cert.KernelIdeal.Bwd

end
-- ==== Proof.RunAll.lean ====
/- The two kernel regions of @main as segments, and the whole run: what every unscoped buffer holds at the end. -/
module

public import proofs.«01_k».proof.Proof.FwdFrame
public import proofs.«01_k».proof.Proof.BwdFrame
public import proofs.«01_k».proof.Proof.Gen.KernelIdeal.Regions
public import Idealize.ShloMosaic.Lib.Pipeline.RegionsLoop

@[expose] public section

set_option maxRecDepth 16384

noncomputable section

namespace Cert.KernelIdeal.Gla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ (UR sig nD τ) ℕ

variable (m : (ℓ : Loc nD τ sig) → Buf (Elt F) ℓ)

/-- What the forward call finds in the buffers: the contents after the host stretches before it. -/
def VF (c : Dev nD) (b : Ref sig .tc) : Buf (Elt F) ((c : Thread nD τ).loc b) := V3 m c b

/-- What the forward call leaves in its two results. -/
def outs₀ : Outs (F := F) := fun _ r c =>
  if h0 : r = main_v8_0 then h0 ▸ (Fwd.dats (VF m) c).arrAt 6 cfg0.N
  else if h1 : r = main_v8_1 then h1 ▸ (Fwd.dats (VF m) c).arrAt 7 cfg0.N
  else m ((c : Thread nD τ).loc r)

/-- What the backward call finds in the buffers. -/
def VB (c : Dev nD) (b : Ref sig .tc) : Buf (Elt F) ((c : Thread nD τ).loc b) := V5 m (outs₀ m) c b

/-- What the two calls leave in their results. -/
def outs : Outs (F := F) := fun J r c =>
  if h0 : r = main_v10_0 then h0 ▸ (Bwd.dats (VB m) c).arrAt 8 cfg1.N
  else if h1 : r = main_v10_1 then h1 ▸ (Bwd.dats (VB m) c).arrAt 9 cfg1.N
  else if h2 : r = main_v10_2 then h2 ▸ (Bwd.dats (VB m) c).arrAt 10 cfg1.N
  else if h3 : r = main_v10_3 then h3 ▸ (Bwd.dats (VB m) c).arrAt 11 cfg1.N
  else if h4 : r = main_v10_4 then h4 ▸ (Bwd.dats (VB m) c).arrAt 12 cfg1.N
  else outs₀ m J r c

theorem outs_v8_0 (c : Dev nD) : outs m 4 main_v8_0 c = (Fwd.dats (VF m) c).arrAt 6 cfg0.N := by
  unfold outs outs₀
  rw [dif_neg (by decide), dif_neg (by decide), dif_neg (by decide), dif_neg (by decide), dif_neg (by decide), dif_pos rfl]

theorem outs_v8_1 (c : Dev nD) : outs m 4 main_v8_1 c = (Fwd.dats (VF m) c).arrAt 7 cfg0.N := by
  unfold outs outs₀
  rw [dif_neg (by decide), dif_neg (by decide), dif_neg (by decide), dif_neg (by decide), dif_neg (by decide), dif_neg (by decide), dif_pos rfl]

theorem outs₀_v8_0 (c : Dev nD) : outs₀ m 4 main_v8_0 c = (Fwd.dats (VF m) c).arrAt 6 cfg0.N := by
  unfold outs₀; rw [dif_pos rfl]

theorem outs₀_v8_1 (c : Dev nD) : outs₀ m 4 main_v8_1 c = (Fwd.dats (VF m) c).arrAt 7 cfg0.N := by
  unfold outs₀; rw [dif_neg (by decide), dif_pos rfl]

theorem outs_v10_0 (c : Dev nD) : outs m 6 main_v10_0 c = (Bwd.dats (VB m) c).arrAt 8 cfg1.N := by
  unfold outs; rw [dif_pos rfl]
theorem outs_v10_1 (c : Dev nD) : outs m 6 main_v10_1 c = (Bwd.dats (VB m) c).arrAt 9 cfg1.N := by
  unfold outs; rw [dif_neg (by decide), dif_pos rfl]
theorem outs_v10_2 (c : Dev nD) : outs m 6 main_v10_2 c = (Bwd.dats (VB m) c).arrAt 10 cfg1.N := by
  unfold outs; rw [dif_neg (by decide), dif_neg (by decide), dif_pos rfl]
theorem outs_v10_3 (c : Dev nD) : outs m 6 main_v10_3 c = (Bwd.dats (VB m) c).arrAt 11 cfg1.N := by
  unfold outs; rw [dif_neg (by decide), dif_neg (by decide), dif_neg (by decide), dif_pos rfl]
theorem outs_v10_4 (c : Dev nD) : outs m 6 main_v10_4 c = (Bwd.dats (VB m) c).arrAt 12 cfg1.N := by
  unfold outs; rw [dif_neg (by decide), dif_neg (by decide), dif_neg (by decide), dif_neg (by decide), dif_pos rfl]

/-- The contents between the regions do not depend on what the backward call leaves. -/
theorem V4_outs (c : Dev nD) : V4 m (outs m) c = V4 m (outs₀ m) c := by
  unfold V4; rw [outs_v8_0, outs_v8_1, outs₀_v8_0, outs₀_v8_1]

/-- The contents the backward call is entered with, at the final `outs`. -/
theorem V5_outs (c : Dev nD) : V5 m (outs m) c = V5 m (outs₀ m) c := by
  unfold V5; rw [V4_outs]

/-- The proof data of the two regions. -/
def pdats : (p : Fin 2) → (c : Dev nD) → Dat τ (Elt F) Unit ℕ (UR sig nD τ) ℕ (cfgs p) c
  | 0 => Fwd.dats (VF m)
  | 1 => Bwd.dats (VB m)

/-- No level is used: every wait is the pipeline's own. -/
abbrev L : GSem nD τ sig → Finset Unit := fun _ => ∅
/-- The (unused) level assignment. -/
abbrev lv : GSem nD τ sig → Unit → ℕ := fun _ _ => 0
/-- The certificate's variants: no host loop. -/
abbrev 𝒱₀ : Variants := Variants.none
/-- What rides along beside the buffers: the generator register and nothing owed. -/
abbrev R (c : Dev nD) : sProp 𝕄 := iprop((∃ r, prngReg c r) ∗ ∃ W, owes (c : Thread nD τ) (0 : CellTallies nD τ sig Unit) W)

/-- The forward call's results, read off the contents after it. -/
theorem V4_v8_0 (c : Dev nD) : V4 m (outs m) c main_v8_0 = (Fwd.dats (VF m) c).arrAt 6 cfg0.N := by
  rw [← outs_v8_0 m c]; unfold V4
  rw [Function.update_of_ne (StableHlo.devRef_ne_of_ne (by decide : main_v8_0 ≠ main_v8_1)), Function.update_self]
theorem V4_v8_1 (c : Dev nD) : V4 m (outs m) c main_v8_1 = (Fwd.dats (VF m) c).arrAt 7 cfg0.N := by
  rw [← outs_v8_1 m c]; unfold V4
  rw [Function.update_self]

/-- The backward call's results, read off the contents after it. -/
theorem V6_v10_0 (c : Dev nD) : V6 m (outs m) c main_v10_0 = (Bwd.dats (VB m) c).arrAt 8 cfg1.N := by
  rw [← outs_v10_0 m c]; unfold V6
  rw [Function.update_of_ne (StableHlo.devRef_ne_of_ne (by decide : main_v10_0 ≠ main_v10_4)), Function.update_of_ne (StableHlo.devRef_ne_of_ne (by decide : main_v10_0 ≠ main_v10_3)), Function.update_of_ne (StableHlo.devRef_ne_of_ne (by decide : main_v10_0 ≠ main_v10_2)), Function.update_of_ne (StableHlo.devRef_ne_of_ne (by decide : main_v10_0 ≠ main_v10_1)), Function.update_self]
theorem V6_v10_1 (c : Dev nD) : V6 m (outs m) c main_v10_1 = (Bwd.dats (VB m) c).arrAt 9 cfg1.N := by
  rw [← outs_v10_1 m c]; unfold V6
  rw [Function.update_of_ne (StableHlo.devRef_ne_of_ne (by decide : main_v10_1 ≠ main_v10_4)), Function.update_of_ne (StableHlo.devRef_ne_of_ne (by decide : main_v10_1 ≠ main_v10_3)), Function.update_of_ne (StableHlo.devRef_ne_of_ne (by decide : main_v10_1 ≠ main_v10_2)), Function.update_self]
theorem V6_v10_2 (c : Dev nD) : V6 m (outs m) c main_v10_2 = (Bwd.dats (VB m) c).arrAt 10 cfg1.N := by
  rw [← outs_v10_2 m c]; unfold V6
  rw [Function.update_of_ne (StableHlo.devRef_ne_of_ne (by decide : main_v10_2 ≠ main_v10_4)), Function.update_of_ne (StableHlo.devRef_ne_of_ne (by decide : main_v10_2 ≠ main_v10_3)), Function.update_self]
theorem V6_v10_3 (c : Dev nD) : V6 m (outs m) c main_v10_3 = (Bwd.dats (VB m) c).arrAt 11 cfg1.N := by
  rw [← outs_v10_3 m c]; unfold V6
  rw [Function.update_of_ne (StableHlo.devRef_ne_of_ne (by decide : main_v10_3 ≠ main_v10_4)), Function.update_self]
theorem V6_v10_4 (c : Dev nD) : V6 m (outs m) c main_v10_4 = (Bwd.dats (VB m) c).arrAt 12 cfg1.N := by
  rw [← outs_v10_4 m c]; unfold V6
  rw [Function.update_self]

/-- The forward call's arrays end at the contents after it. -/
theorem hF0 (c : Dev nD) (w : Fin 8) :
    ((pdats m 0 c).arrAt w cfg0.N) = V4 m (outs m) c (Pipeline.arrRef spec0 w) := by
  match w with
  | 0 => exact ((Fwd.dats (VF m) c).arrAt_in 0 rfl _).trans ((Fwd.A_eq (VF m) c 0).trans (V4_of m (outs m) c main_v5 (by decide)).symm)
  | 1 => exact ((Fwd.dats (VF m) c).arrAt_in 1 rfl _).trans ((Fwd.A_eq (VF m) c 1).trans (V4_of m (outs m) c main_v5 (by decide)).symm)
  | 2 => exact ((Fwd.dats (VF m) c).arrAt_in 2 rfl _).trans ((Fwd.A_eq (VF m) c 2).trans (V4_of m (outs m) c main_v5 (by decide)).symm)
  | 3 => exact ((Fwd.dats (VF m) c).arrAt_in 3 rfl _).trans ((Fwd.A_eq (VF m) c 3).trans (V4_of m (outs m) c main_v5 (by decide)).symm)
  | 4 => exact ((Fwd.dats (VF m) c).arrAt_in 4 rfl _).trans ((Fwd.A_eq (VF m) c 4).trans (V4_of m (outs m) c main_v6 (by decide)).symm)
  | 5 => exact ((Fwd.dats (VF m) c).arrAt_in 5 rfl _).trans ((Fwd.A_eq (VF m) c 5).trans (V4_of m (outs m) c main_v7 (by decide)).symm)
  | 6 => exact (V4_v8_0 m c).symm
  | 7 => exact (V4_v8_1 m c).symm

/-- The backward call's arrays end at the contents after it. -/
theorem hF1 (c : Dev nD) (w : Fin 13) :
    ((pdats m 1 c).arrAt w cfg1.N) = V6 m (outs m) c (Pipeline.arrRef spec1 w) := by
  match w with
  | 0 => exact ((Bwd.dats (VB m) c).arrAt_in 0 rfl _).trans ((Bwd.A_eq (VB m) c 0).trans ((V6_of m (outs m) c main_v5 (by decide)).trans (congrFun (V5_outs m c) _)).symm)
  | 1 => exact ((Bwd.dats (VB m) c).arrAt_in 1 rfl _).trans ((Bwd.A_eq (VB m) c 1).trans ((V6_of m (outs m) c main_v5 (by decide)).trans (congrFun (V5_outs m c) _)).symm)
  | 2 => exact ((Bwd.dats (VB m) c).arrAt_in 2 rfl _).trans ((Bwd.A_eq (VB m) c 2).trans ((V6_of m (outs m) c main_v5 (by decide)).trans (congrFun (V5_outs m c) _)).symm)
  | 3 => exact ((Bwd.dats (VB m) c).arrAt_in 3 rfl _).trans ((Bwd.A_eq (VB m) c 3).trans ((V6_of m (outs m) c main_v5 (by decide)).trans (congrFun (V5_outs m c) _)).symm)
  | 4 => exact ((Bwd.dats (VB m) c).arrAt_in 4 rfl _).trans ((Bwd.A_eq (VB m) c 4).trans ((V6_of m (outs m) c main_v6 (by decide)).trans (congrFun (V5_outs m c) _)).symm)
  | 5 => exact ((Bwd.dats (VB m) c).arrAt_in 5 rfl _).trans ((Bwd.A_eq (VB m) c 5).trans ((V6_of m (outs m) c main_v7 (by decide)).trans (congrFun (V5_outs m c) _)).symm)
  | 6 => exact ((Bwd.dats (VB m) c).arrAt_in 6 rfl _).trans ((Bwd.A_eq (VB m) c 6).trans ((V6_of m (outs m) c main_v8_1 (by decide)).trans (congrFun (V5_outs m c) _)).symm)
  | 7 => exact ((Bwd.dats (VB m) c).arrAt_in 7 rfl _).trans ((Bwd.A_eq (VB m) c 7).trans ((V6_of m (outs m) c main_v9 (by decide)).trans (congrFun (V5_outs m c) _)).symm)
  | 8 => exact (V6_v10_0 m c).symm
  | 9 => exact (V6_v10_1 m c).symm
  | 10 => exact (V6_v10_2 m c).symm
  | 11 => exact (V6_v10_3 m c).symm
  | 12 => exact (V6_v10_4 m c).symm

/-- What the forward call's windows do not stage, it leaves alone. -/
theorem hrest0 (c : Dev nD) (b : Ref sig .tc) (h : b ∉ Finset.univ.image (Pipeline.arrRef spec0)) :
    V4 m (outs m) c b = V3 m c b :=
  V4_of m (outs m) c b (by
    intro hb
    simp only [List.mem_cons, List.not_mem_nil, or_false] at hb
    rcases hb with rfl | rfl
    · exact h (Finset.mem_image.mpr ⟨6, Finset.mem_univ _, rfl⟩)
    · exact h (Finset.mem_image.mpr ⟨7, Finset.mem_univ _, rfl⟩))

/-- What the backward call's windows do not stage, it leaves alone. -/
theorem hrest1 (c : Dev nD) (b : Ref sig .tc) (h : b ∉ Finset.univ.image (Pipeline.arrRef spec1)) :
    V6 m (outs m) c b = V5 m (outs m) c b :=
  V6_of m (outs m) c b (by
    intro hb
    simp only [List.mem_cons, List.not_mem_nil, or_false] at hb
    rcases hb with rfl | rfl | rfl | rfl | rfl
    · exact h (Finset.mem_image.mpr ⟨8, Finset.mem_univ _, rfl⟩)
    · exact h (Finset.mem_image.mpr ⟨9, Finset.mem_univ _, rfl⟩)
    · exact h (Finset.mem_image.mpr ⟨10, Finset.mem_univ _, rfl⟩)
    · exact h (Finset.mem_image.mpr ⟨11, Finset.mem_univ _, rfl⟩)
    · exact h (Finset.mem_image.mpr ⟨12, Finset.mem_univ _, rfl⟩))

set_option backward.isDefEq.respectTransparency.types false in
/-- Region 0 as a segment: entered with every unscoped buffer at the contents before it, left at the contents after it. -/
def reg0 : Pipeline.RegionSeg (pcfgs (F := F)) adm (pdats m) () defs₀ 𝒱₀ L lv 0 where
  win := launch₀0.win
  block_pos := launch₀0.block_pos
  stage_whole := launch₀0.stage_whole
  K := PEmpty
  osem k := k.elim
  ho := Pipeline.OwnSemFacts.none _
  hbody c := (Fwd.body_obligation (VF m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (fun b => V3 m c b) (fun w => Fwd.A_eq (VF m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Fwd.hin (VF m) c)
    unfold Pipeline.ΦA
    iintro ⟨Hp, -, Hr⟩
    isplitl [Hr]; · iexact Hr
    iexact Hp
  hout c := by
    refine BIBase.Entails.trans (Fwd.hout (VF m) c) ?_
    rw [Pipeline.ownSems0_none]
    unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m) (fun _ _ => rfl)
      (fun b => V3 m c b) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left at the contents after it. -/
def reg1 : Pipeline.RegionSeg (pcfgs (F := F)) adm (pdats m) () defs₀ 𝒱₀ L lv 1 where
  win := launch₀1.win
  block_pos := launch₀1.block_pos
  stage_whole := launch₀1.stage_whole
  K := PEmpty
  osem k := k.elim
  ho := Pipeline.OwnSemFacts.none _
  hbody c := (Bwd.body_obligation (VB m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V5 m (outs m) c b)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (fun b => V5 m (outs m) c b) (fun w => (Bwd.A_eq (VB m) c w).trans (congrFun (V5_outs m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Bwd.hin (VB m) c)
    unfold Pipeline.ΦA
    iintro ⟨Hp, -, Hr⟩
    isplitl [Hr]; · iexact Hr
    iexact Hp
  hout c := by
    refine BIBase.Entails.trans (Bwd.hout (VB m) c) ?_
    rw [Pipeline.ownSems0_none]
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (fun b => V5 m (outs m) c b) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

variable (ρ : Dev nD → PrngReg)

set_option backward.isDefEq.respectTransparency.types false in
/-- THE RUN: every weakly fair execution of @main from any memory with zero counters terminates; every final state holds
    every unscoped buffer at the contents `V6` and has every semaphore counter at zero. -/
theorem run_main : θ_run defs (onTc (τ := τ) (main (F := F))) ⟨m, fun _ => 0, ρ⟩ (fun r =>
    (∀ c : Dev nD, ∀ b ∈ Pipeline.ucRefs τ sig, r.2.mem (((c : Thread nD τ).1), b) = V6 m (outs m) c b)
      ∧ r.2.sem = fun _ => 0) := by
  refine Pipeline.θ_run_regions_kit_dev_sems (pcfgs (F := F)) adm (pdats m) () cellOf_inj emb₁ defs₀ 𝒱₀ L lv m ρ main
    (segs m (outs m) 𝒱₀ L lv (fun _ => R) () (pdats m) (reg0 m) (reg1 m))
    (fun c Q => by
      rewrite [main_chain c, Seg.run_eq_chain,
        show (segs m (outs m) 𝒱₀ L lv (fun _ => R) () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V6 m (outs m) c))
    (hch := fun c => ⟨.rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ).1), b) = V6 m (outs m) c b)
    (hfin := fun c s' => ?_) (hQ := fun _ h hz => ⟨h, funext fun g => hz g (.inr (regions_no_unscoped g.2))⟩)
  unfold StableHlo.held
  iintro ⟨Hh, HSI⟩
  imodintro
  iapply (pointsTo_read_all (Pipeline.ucRefs τ sig) (fun b => ((c : Thread nD τ).1, b)) (V6 m (outs m) c) s')
  isplitl [Hh] <;> iassumption

end Cert.KernelIdeal.Gla

end
-- ==== Proof.Frames.lean ====
/- The frames of the kernel program and of its idealization, from the one run. -/
module

public import proofs.«01_k».proof.Proof.RunAll
public import proofs.«01_k».proof.Proof.Gen.Kernel
public import proofs.«01_k».proof.Defs

@[expose] public section

set_option maxRecDepth 16384

noncomputable section

namespace Cert.KernelIdeal.Gla

open Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- A reference that is not scoped is among those the run speaks of. -/
theorem mem_uc (b : Ref sig .tc) (h : (Proc.devRef .tc b : DevRef τ sig) ∈ Pipeline.ucRefs τ sig) (r : PUnit × MemSt nD τ sig (Elt F))
    (hr : ∀ c : Dev nD, ∀ b ∈ Pipeline.ucRefs τ sig, r.2.mem (((c : Thread nD τ).1), b) = V6 m (outs m) c b) (c : Dev nD) :
    r.2.mem ((c.tc : Thread nD τ).loc b) = V6 m (outs m) c b := hr c _ h

/-- The run reads each argument as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(mem_uc m main_arg0 (Finset.mem_filter.mpr ⟨StableHlo.devRef_mem_tcRefs main_arg0, by decide⟩) r h.1 c).trans (V6_main_arg0 m (outs m) c),
     (mem_uc m main_arg1 (Finset.mem_filter.mpr ⟨StableHlo.devRef_mem_tcRefs main_arg1, by decide⟩) r h.1 c).trans (V6_main_arg1 m (outs m) c),
     (mem_uc m main_arg2 (Finset.mem_filter.mpr ⟨StableHlo.devRef_mem_tcRefs main_arg2, by decide⟩) r h.1 c).trans (V6_main_arg2 m (outs m) c),
     (mem_uc m main_arg3 (Finset.mem_filter.mpr ⟨StableHlo.devRef_mem_tcRefs main_arg3, by decide⟩) r h.1 c).trans (V6_main_arg3 m (outs m) c)⟩, h.2⟩)
    (run_main m ρ)

/-- The run reads each result off the proof data of the call that wrote it, and each argument as launched. -/
theorem results : θ_run defs (onTc (τ := τ) (main (F := F))) ⟨m, fun _ => 0, ρ⟩ (fun r => ∀ c : Dev nD,
      r.2.mem ((c.tc : Thread nD τ).loc main_v8_0) = (Fwd.dats (VF m) c).arrAt 6 cfg0.N
      ∧ r.2.mem ((c.tc : Thread nD τ).loc main_v10_0) = (Bwd.dats (VB m) c).arrAt 8 cfg1.N
      ∧ r.2.mem ((c.tc : Thread nD τ).loc main_v10_1) = (Bwd.dats (VB m) c).arrAt 9 cfg1.N
      ∧ r.2.mem ((c.tc : Thread nD τ).loc main_v10_2) = (Bwd.dats (VB m) c).arrAt 10 cfg1.N
      ∧ r.2.mem ((c.tc : Thread nD τ).loc main_v10_3) = (Bwd.dats (VB m) c).arrAt 11 cfg1.N
      ∧ r.2.mem ((c.tc : Thread nD τ).loc main_v10_4) = (Bwd.dats (VB m) c).arrAt 12 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(mem_uc m main_v8_0 (Finset.mem_filter.mpr ⟨StableHlo.devRef_mem_tcRefs main_v8_0, by decide⟩) r h.1 c).trans
        ((V6_of m (outs m) c main_v8_0 (by decide)).trans ((V5_of m (outs m) c main_v8_0 (by decide)).trans (V4_v8_0 m c))),
     (mem_uc m main_v10_0 (Finset.mem_filter.mpr ⟨StableHlo.devRef_mem_tcRefs main_v10_0, by decide⟩) r h.1 c).trans (V6_v10_0 m c),
     (mem_uc m main_v10_1 (Finset.mem_filter.mpr ⟨StableHlo.devRef_mem_tcRefs main_v10_1, by decide⟩) r h.1 c).trans (V6_v10_1 m c),
     (mem_uc m main_v10_2 (Finset.mem_filter.mpr ⟨StableHlo.devRef_mem_tcRefs main_v10_2, by decide⟩) r h.1 c).trans (V6_v10_2 m c),
     (mem_uc m main_v10_3 (Finset.mem_filter.mpr ⟨StableHlo.devRef_mem_tcRefs main_v10_3, by decide⟩) r h.1 c).trans (V6_v10_3 m c),
     (mem_uc m main_v10_4 (Finset.mem_filter.mpr ⟨StableHlo.devRef_mem_tcRefs main_v10_4, by decide⟩) r h.1 c).trans (V6_v10_4 m c),
     (mem_uc m main_arg0 (Finset.mem_filter.mpr ⟨StableHlo.devRef_mem_tcRefs main_arg0, by decide⟩) r h.1 c).trans (V6_main_arg0 m (outs m) c),
     (mem_uc m main_arg1 (Finset.mem_filter.mpr ⟨StableHlo.devRef_mem_tcRefs main_arg1, by decide⟩) r h.1 c).trans (V6_main_arg1 m (outs m) c),
     (mem_uc m main_arg2 (Finset.mem_filter.mpr ⟨StableHlo.devRef_mem_tcRefs main_arg2, by decide⟩) r h.1 c).trans (V6_main_arg2 m (outs m) c),
     (mem_uc m main_arg3 (Finset.mem_filter.mpr ⟨StableHlo.devRef_mem_tcRefs main_arg3, by decide⟩) r h.1 c).trans (V6_main_arg3 m (outs m) c)⟩)
    (run_main m ρ)

end Cert.KernelIdeal.Gla

/-- The idealized kernel's frame. -/
theorem Cert.Proof.frame_kernelIdeal : @Cert.quiescent_KernelIdeal Cert.KernelIdeal.Gen.facts :=
  fun m ρ _ => Cert.KernelIdeal.Gla.frame m ρ

section

attribute [local instance] Cert.Kernel.Gen.facts Cert.KernelIdeal.Gen.facts

open Idealize.ShloMosaic

set_option maxHeartbeats 2000000

variable {F : FTy → Type} [FloatOps F]

/-- The two printed programs' body tables are the same, label by label. -/
theorem Cert.Proof.bodies_eq : @Cert.Kernel.defs₀ F _ _ = @Cert.KernelIdeal.defs₀ F _ _ := by
  funext p ℓ a
  cases p with
  | tc =>
    match ℓ, a with
    | ⟨0, _⟩, (t, s) => rfl
    | ⟨1, _⟩, (t, s) => rfl
  | scScalar _ => rfl
  | scVector _ _ => rfl

/-- So are the tables with the pipelines' labels. -/
theorem Cert.Proof.tables_eq : @Cert.Kernel.defs F _ _ = @Cert.KernelIdeal.defs F _ _ := by
  show Pipeline.defs _ _ = Pipeline.defs _ _
  rw [Cert.Proof.bodies_eq]

/-- The kernel's frame: its text is the idealized kernel's, read at bits. -/
theorem Cert.Proof.frame_kernel : @Cert.quiescent_Kernel Cert.Kernel.Gen.facts := by
  intro m ρ _
  have h := Cert.KernelIdeal.Gla.frame (F := Bits) m ρ
  rw [← Cert.Proof.tables_eq] at h
  exact h

end

end
-- ==== Proof.TwoLoops.lean ====
/-
  The run of a host program that is a line of stretches, a counted loop, more stretches, a second counted loop, and
  more stretches: every buffer ends at the fold. And what a line of operations leaves in a buffer written once.
-/
module

public import Idealize.ShloMosaic.Lib.StableHlo.RunLoop
public import Idealize.ShloMosaic.Lib.StableHlo.RunRead

@[expose] public section

noncomputable section

namespace Cert.TwoLoops

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe StableHlo
open Idealize.ShloMosaic.Pipeline (CSeg Ticket PCfg ucRefs unscopedBufs_held sub_ucRefs)

variable {nD : Nat} {τ : Topo} {sig : RefSig} {F : FTy → Type} {Λ₀ : Idealize.SL.Sem.Labels}

section Run

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- No pipeline: nothing is admitted. -/
abbrev noAdm : (p : Fin 0) → (pcs p).Adm := fun p => p.elim0
/-- No ticket. -/
abbrev noTicket : Fin 0 → Ticket (Ix := Unit) (Name := ℕ) (U := Option PUnit) (Lvl := ℕ) (nD := nD) (τ := τ) pcs (noAdm pcs) := fun j => j.elim0
/-- No semaphore carries an index. -/
abbrev noIx : GSem nD τ sig → Finset Unit := fun _ => ∅
/-- No level. -/
abbrev noLvl : GSem nD τ sig → Unit → ℕ := fun _ _ => 0

theorem cells_injective : Function.Injective (Pipeline.cellOf (nD := nD) (τ := τ) (Pipeline.pin pcs (noAdm pcs))) :=
  fun k => k.1.elim0

/-- The core's debts, carried unchanged beside the buffers. -/
abbrev Rest (c : Dev nD) : sProp 𝕄 := iprop(∃ W, owes (c : Thread nD τ) (0 : CellTallies nD τ sig Unit) W)

variable {pcs defs₀ loops}

/-- A condition's specification, the core's debts framed through. -/
theorem loopCond_of {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (hcond : CondSpec pcs defs₀ loops cond condOps bodyI W₀ n) :
    LoopCond pcs defs₀ Variants.none loops Rest cond condOps bodyI W₀ n := by
  intro k hk c bd
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Rest c)
        ⊢ iprop(⌜v = 1#1 ↔ k < n⌝ ∗ boundary (c : Thread nD τ) ∗ held (c : Thread nD τ) (ucRefs τ sig) (after condOps (atTrip condOps bodyI W₀ k c)) ∗ Rest c) := by
    intro v
    iintro ⟨⟨%hv, H1, H2⟩, H3⟩
    isplitr; · ipureintro; exact hv
    isplitl [H1]; · iexact H1
    isplitl [H2] <;> iassumption
  refine BIBase.Entails.trans ?_ (((sep_mono_left (hcond k hk c bd)).trans (wp_frame_r _ _ _)).trans (wp_mono _ _ _ hpost))
  iintro ⟨H1, H2, H3⟩
  isplitl [H1 H2]; · isplitl [H1] <;> iassumption
  iexact H3

/-- The run. Loop `l₀` makes `n₀` trips, loop `l₁` `n₁`; `final` is the fold of the five stages. -/
theorem run_two_loops [∀ e, Nonempty (Elt F e)]
    (main : Dev nD → Prog (TpuEff nD τ sig (Elt F) (HostLoop.Sig (Pipeline.Sig Λ₀ (Fin 0) fun p => (pcs p).Adm) nL) .tc) PUnit)
    (l₀ l₁ : Fin nL)
    (cond₀ cond₁ : Prog (TpuEff nD τ sig (Elt F) (HostLoop.Sig (Pipeline.Sig Λ₀ (Fin 0) fun p => (pcs p).Adm) nL) .tc) (Elt F .i1))
    (body₀ body₁ : Prog (TpuEff nD τ sig (Elt F) (HostLoop.Sig (Pipeline.Sig Λ₀ (Fin 0) fun p => (pcs p).Adm) nL) .tc) PUnit)
    (hl₀ : loops l₀ = HostLoop.step l₀ cond₀ body₀) (hl₁ : loops l₁ = HostLoop.step l₁ cond₁ body₁)
    (preI body₀I midI body₁I postI : List (List (HloOp τ sig (Elt F)))) (condOps₀ condOps₁ : List (HloOp τ sig (Elt F)))
    (hpre : Plain preI) (hb₀ : Plain body₀I) (hmid : Plain midI) (hb₁ : Plain body₁I) (hpost : Plain postI)
    (hmain : ∀ c, main c = Pipeline.chain ((preI.map fun ops => (seq ops : Prog _ PUnit)) ++ HostLoop.enter l₀ ::
      ((midI.map fun ops => (seq ops : Prog _ PUnit)) ++ HostLoop.enter l₁ :: postI.map fun ops => (seq ops : Prog _ PUnit))))
    (hbody₀ : body₀ = Pipeline.chain (body₀I.map fun ops => (seq ops : Prog _ PUnit)))
    (hbody₁ : body₁ = Pipeline.chain (body₁I.map fun ops => (seq ops : Prog _ PUnit)))
    (n₀ n₁ : ℕ) (m : (ℓ : Loc nD τ sig) → Buf (Elt F) ℓ) (ρ : Dev nD → PrngReg)
    (W₀ W₁ final : Dev nD → Valuation τ sig (Elt F))
    (hW₀ : W₀ = fun c => afterL preI (launchContents m c))
    (hW₁ : W₁ = fun c => afterL midI (after condOps₀ (atTrip condOps₀ body₀I W₀ n₀ c)))
    (hfinal : final = fun c => afterL postI (after condOps₁ (atTrip condOps₁ body₁I W₁ n₁ c)))
    (hc₀ : CondSpec pcs defs₀ loops cond₀ condOps₀ body₀I W₀ n₀)
    (hc₁ : CondSpec pcs defs₀ loops cond₁ condOps₁ body₁I W₁ n₁) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = final c (Proc.devRef .tc b)) := by
  subst hW₀
  subst hW₁
  subst hfinal
  let A := segsOf pcs (noAdm pcs) defs₀ Variants.none noIx noLvl loops (noTicket pcs) Rest preI hpre (launchContents m)
  let B := loopSeg pcs (noAdm pcs) defs₀ Variants.none noIx noLvl loops (noTicket pcs) l₀ cond₀ body₀ hl₀ condOps₀ body₀I hb₀ hbody₀ n₀ _ Rest (loopCond_of hc₀)
  let C := segsOf pcs (noAdm pcs) defs₀ Variants.none noIx noLvl loops (noTicket pcs) Rest midI hmid
    (fun c => after condOps₀ (atTrip condOps₀ body₀I (fun c => afterL preI (launchContents m c)) n₀ c))
  let D := loopSeg pcs (noAdm pcs) defs₀ Variants.none noIx noLvl loops (noTicket pcs) l₁ cond₁ body₁ hl₁ condOps₁ body₁I hb₁ hbody₁ n₁ _ Rest (loopCond_of hc₁)
  let E := segsOf pcs (noAdm pcs) defs₀ Variants.none noIx noLvl loops (noTicket pcs) Rest postI hpost
    (fun c => after condOps₁ (atTrip condOps₁ body₁I (fun c => afterL midI (after condOps₀ (atTrip condOps₀ body₀I (fun c => afterL preI (launchContents m c)) n₀ c))) n₁ c))
  have hprog : (A ++ B :: (C ++ D :: E)).map CSeg.prog = (preI.map fun ops => (seq ops : Prog _ PUnit)) ++ HostLoop.enter l₀ ::
      ((midI.map fun ops => (seq ops : Prog _ PUnit)) ++ HostLoop.enter l₁ :: postI.map fun ops => (seq ops : Prog _ PUnit)) := by
    rw [List.map_append, List.map_cons, List.map_append, List.map_cons, segsOf_prog, segsOf_prog, segsOf_prog]
    rfl
  exact Pipeline.θ_run_regions_loop_kit (Ix := Unit) (Name := ℕ) (U := Option PUnit) (Lvl := ℕ) (J := Fin 0) (P := Fin 0) (Val := Elt F)
    pcs (noAdm pcs) (cells_injective pcs) defs₀ Variants.none noIx noLvl loops (noTicket pcs) m ρ main
    (A ++ B :: (C ++ D :: E))
    (fun c Q => by
      rw [hmain c]
      show wp _ _ _ (Pipeline.chain ((A ++ B :: (C ++ D :: E)).map CSeg.prog)) Q ⊢ _
      rw [hprog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Rest c))
    (Tₙ := fun c => iprop(held (c : Thread nD τ) (ucRefs τ sig) (afterL postI (after condOps₁ (atTrip condOps₁ body₁I _ n₁ c)))))
    (hch := CSeg.Chains.append (segsOf_chains _ _ _ _ _ _ _ _ Rest preI hpre _) ⟨fun _ => .rfl,
      CSeg.Chains.append (segsOf_chains _ _ _ _ _ _ _ _ Rest midI hmid _) ⟨fun _ => .rfl, segsOf_chains _ _ _ _ _ _ _ _ Rest postI hpost _⟩⟩)
    (hinit := by
      refine Pipeline.initEach noIx noLvl fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = afterL postI (after condOps₁ (atTrip condOps₁ body₁I _ n₁ c)) b)
    (hfin := fun c s' => by
      unfold held
      iintro ⟨Hh, HSI⟩
      ihave Hr := (pointsTo_read_all (ucRefs τ sig) (fun b => ((c : Dev nD), b)) (fun b => afterL postI (after condOps₁ (atTrip condOps₁ body₁I _ n₁ c)) b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Run

/-! ## A buffer of a line, read -/

section Once

variable {Val : EltTy → Type}

/-- Before the operation at position `i`, a reference the operations from `i` on do not write holds what it holds after all. -/
theorem upto_late {ops : List (HloOp τ sig Val)} {Ws : List (Ref sig .tc)}
    (hW : ops.map HloOp.writes = Ws.map fun w => {Proc.devRef (τ := τ) .tc w}) (i : ℕ) {a : Ref sig .tc} (ha : a ∉ Ws.drop i)
    (V : Valuation τ sig Val) : upto ops V i (Proc.devRef .tc a) = after ops V (Proc.devRef .tc a) := by
  have h := after_append (ops.take i) (ops.drop i) V
  rw [List.take_append_drop] at h
  rw [h, after_unwritten (Ws.drop i) (by rw [List.map_drop, List.map_drop, hW]) ha]
  rfl

/-- Before the operation at position `i`, a reference the operations before `i` do not write holds what it held at first. -/
theorem upto_early {ops : List (HloOp τ sig Val)} {Ws : List (Ref sig .tc)}
    (hW : ops.map HloOp.writes = Ws.map fun w => {Proc.devRef (τ := τ) .tc w}) (i : ℕ) {a : Ref sig .tc} (ha : a ∉ Ws.take i)
    (V : Valuation τ sig Val) : upto ops V i (Proc.devRef .tc a) = V (Proc.devRef .tc a) :=
  upto_unwritten (Ws.take i) (by rw [List.map_take, List.map_take, hW]) ha V

/-- After all, the buffer written by the operation at position `i`, and by none after, holds that operation's result. -/
theorem at_last {ops : List (HloOp τ sig Val)} {Ws : List (Ref sig .tc)}
    (hW : ops.map HloOp.writes = Ws.map fun w => {Proc.devRef (τ := τ) .tc w}) (i : ℕ) {op : HloOp τ sig Val}
    (hop : ops[i]? = some op) {b : Ref sig .tc} (hb : b ∉ Ws.drop (i + 1)) (V : Valuation τ sig Val) :
    after ops V (Proc.devRef .tc b) = op.result (upto ops V i) (Proc.devRef .tc b) := by
  obtain ⟨hi, hop⟩ := List.getElem?_eq_some_iff.mp hop
  exact after_last_write (i := i) (op := op) (rest := ops.drop (i + 1)) (Ws.drop (i + 1))
    (by rw [List.drop_eq_getElem_cons hi, hop]) (by rw [List.map_drop, List.map_drop, hW]) hb V

/-! The same, operation shape by operation shape. `hk` says where the contents `fin` agree with the line's end. -/

variable {ops : List (HloOp τ sig Val)} {Ws L : List (Ref sig .tc)} {V fin : Valuation τ sig Val}

/-- A reference kept to the end and not written from position `i` on. -/
theorem kept (hW : ops.map HloOp.writes = Ws.map fun w => {Proc.devRef (τ := τ) .tc w}) (i : ℕ)
    (hk : ∀ r, r ∉ L → fin (Proc.devRef .tc r) = after ops V (Proc.devRef .tc r)) {a : Ref sig .tc} (ha : a ∉ Ws.drop i ++ L) :
    upto ops V i (Proc.devRef .tc a) = fin (Proc.devRef .tc a) := by
  rw [hk a fun h => ha (List.mem_append_right _ h)]
  exact upto_late hW i (fun h => ha (List.mem_append_left _ h)) V

theorem res (hW : ops.map HloOp.writes = Ws.map fun w => {Proc.devRef (τ := τ) .tc w}) (i : ℕ)
    (hk : ∀ r, r ∉ L → fin (Proc.devRef .tc r) = after ops V (Proc.devRef .tc r)) {b : Ref sig .tc} {op : HloOp τ sig Val}
    (hop : ops[i]? = some op) (hb : b ∉ Ws.drop (i + 1) ++ L) :
    fin (Proc.devRef .tc b) = op.result (upto ops V i) (Proc.devRef .tc b) := by
  rw [hk b fun h => hb (List.mem_append_right _ h)]
  exact at_last hW i hop (fun h => hb (List.mem_append_left _ h)) V

theorem nul (hW : ops.map HloOp.writes = Ws.map fun w => {Proc.devRef (τ := τ) .tc w})
    (hk : ∀ r, r ∉ L → fin (Proc.devRef .tc r) = after ops V (Proc.devRef .tc r)) (i : ℕ) (y : Ref sig .tc) {v hy}
    (hop : ops[i]? = some (nullary y v hy)) (h : y ∉ Ws.drop (i + 1) ++ L) : fin (Proc.devRef .tc y) = v :=
  (res hW i hk hop h).trans (nullary_result ..)

theorem una (hW : ops.map HloOp.writes = Ws.map fun w => {Proc.devRef (τ := τ) .tc w})
    (hk : ∀ r, r ∉ L → fin (Proc.devRef .tc r) = after ops V (Proc.devRef .tc r)) (i : ℕ) (x y : Ref sig .tc) {f hx hy}
    (hop : ops[i]? = some (unary x y f hx hy)) (h : y ∉ Ws.drop (i + 1) ++ L ∧ x ∉ Ws.drop i ++ L) :
    fin (Proc.devRef .tc y) = f (fin (Proc.devRef .tc x)) := by
  rw [res hW i hk hop h.1, unary_result, kept hW i hk h.2]

theorem rsh (hW : ops.map HloOp.writes = Ws.map fun w => {Proc.devRef (τ := τ) .tc w})
    (hk : ∀ r, r ∉ L → fin (Proc.devRef .tc r) = after ops V (Proc.devRef .tc r)) (i : ℕ) (x y : Ref sig .tc) {he hn hx hy}
    (hop : ops[i]? = some (reshape x y he hn hx hy)) (h : y ∉ Ws.drop (i + 1) ++ L ∧ x ∉ Ws.drop i ++ L) :
    fin (Proc.devRef .tc y) = fun j => he ▸ shapeCast y.ty.shape (fin (Proc.devRef .tc x)) hn j := by
  rw [res hW i hk hop h.1, reshape_result, kept hW i hk h.2]

theorem bin (hW : ops.map HloOp.writes = Ws.map fun w => {Proc.devRef (τ := τ) .tc w})
    (hk : ∀ r, r ∉ L → fin (Proc.devRef .tc r) = after ops V (Proc.devRef .tc r)) (i : ℕ) (a b y : Ref sig .tc) {f ha hb hy}
    (hop : ops[i]? = some (binary a b y f ha hb hy)) (h : y ∉ Ws.drop (i + 1) ++ L ∧ a ∉ Ws.drop i ++ L ∧ b ∉ Ws.drop i ++ L) :
    fin (Proc.devRef .tc y) = f (fin (Proc.devRef .tc a)) (fin (Proc.devRef .tc b)) := by
  rw [res hW i hk hop h.1, binary_result, kept hW i hk h.2.1, kept hW i hk h.2.2]

theorem ter (hW : ops.map HloOp.writes = Ws.map fun w => {Proc.devRef (τ := τ) .tc w})
    (hk : ∀ r, r ∉ L → fin (Proc.devRef .tc r) = after ops V (Proc.devRef .tc r)) (i : ℕ) (c a b y : Ref sig .tc) {f hc ha hb hy}
    (hop : ops[i]? = some (ternary c a b y f hc ha hb hy))
    (h : y ∉ Ws.drop (i + 1) ++ L ∧ c ∉ Ws.drop i ++ L ∧ a ∉ Ws.drop i ++ L ∧ b ∉ Ws.drop i ++ L) :
    fin (Proc.devRef .tc y) = f (fin (Proc.devRef .tc c)) (fin (Proc.devRef .tc a)) (fin (Proc.devRef .tc b)) := by
  rw [res hW i hk hop h.1, ternary_result, kept hW i hk h.2.1, kept hW i hk h.2.2.1, kept hW i hk h.2.2.2]

end Once

end Cert.TwoLoops

end
-- ==== Proof.RefOps.lean ====
module

public import proofs.«01_k».proof.Proof.Gen.ReferenceIdeal
public import proofs.«01_k».proof.Proof.TwoLoops
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 100000

noncomputable section

namespace Cert.ReferenceIdeal.Ref

open Cert.ReferenceIdeal Cert.ReferenceIdeal.Gen
open Idealize.ShloMosaic Idealize.ShloMosaic.TcCoe Idealize.ShloMosaic.StableHlo Idealize.SL.Sem

/-- A buffer's contents and a reference to it, by shape and element. -/
abbrev T (F : FTy → Type) (S : Shape) (φ : EltTy) : Type := (⟨S, φ⟩ : BufTy).Contents (Elt F)
abbrev R (S : Shape) (φ : EltTy) : Type := TRef sig ⟨S, φ⟩

variable {F : FTy → Type} [FloatOps F]

/-- Operations of the reference, in order: 8 of them (its own statements). -/
abbrev preOps0 : List (HloOp τ sig (Elt F)) :=
  [ unary main_arg0 main_v0 ((extractStridedSlice S1x8192x512 ![0, 0, 0] · slices_S1x8192x3088_S1x8192x512_0_0_0) : T F S1x8192x3088 .f32 → T F S1x8192x512 .f32),
    unary main_arg0 main_v1 ((extractStridedSlice S1x8192x512 ![0, 0, 512] · slices_S1x8192x3088_S1x8192x512_0_0_512) : T F S1x8192x3088 .f32 → T F S1x8192x512 .f32),
    unary main_arg0 main_v2 ((extractStridedSlice S1x8192x1024 ![0, 0, 1024] · slices_S1x8192x3088_S1x8192x1024_0_0_1024) : T F S1x8192x3088 .f32 → T F S1x8192x1024 .f32),
    unary main_arg0 main_v3 ((extractStridedSlice S1x8192x16 ![0, 0, 2048] · slices_S1x8192x3088_S1x8192x16_0_0_2048) : T F S1x8192x3088 .f32 → T F S1x8192x16 .f32),
    binary main_v3 main_arg1 main_v4 ((fun l r => Host.dotGeneral dot_S1x8192x16_S16x512_S1x8192x512_2_0_01_1_n_n none l r) : T F S1x8192x16 .f32 → T F S16x512 .f32 → T F S1x8192x512 .f32),
    unary main_arg2 main_v5 (broadcastInDim S1x1x512 ![2] bcast_S512_S1x1x512_2 : T F S512 .f32 → T F S1x1x512 .f32),
    unary main_v5 main_v6 (broadcastInDim S1x8192x512 ![0, 1, 2] bcast_S1x1x512_S1x8192x512_0_1_2 : T F S1x1x512 .f32 → T F S1x8192x512 .f32),
    binary main_v4 main_v6 main_v7 (addf : T F S1x8192x512 .f32 → T F S1x8192x512 .f32 → T F S1x8192x512 .f32) ]
theorem preOps0_sub : (preOps0 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., binary_bufs_sub ..⟩
theorem preOps0_fresh : (preOps0 : List (HloOp τ sig (Elt F))).Forall fun op => op.fresh = ∅ :=
  forall_fresh_of_map rfl

/-- Operations of the reference, in order: 48 of them (a called function). -/
abbrev preOps1 : List (HloOp τ sig (Elt F)) :=
  [ TRef.unary (.of main_v7 : R S1x8192x512 .f32) (.of main_call0_v0 : R S1x8192x512 .f32) Host.negf,
    TRef.nullary (.of main_call0_call0_cst : R S_ .f32) (constant S_ .f32 0x00000000#32),
    TRef.unary (.of main_call0_call0_cst : R S_ .f32) (.of main_call0_call0_v0 : R S1x8192x512 .f32) (broadcastInDim S1x8192x512 ![] bcast_S_S1x8192x512),
    TRef.binary (.of main_call0_v0 : R S1x8192x512 .f32) (.of main_call0_call0_v0 : R S1x8192x512 .f32) (.of main_call0_call0_v1 : R S1x8192x512 .f32) maximumf,
    TRef.unary (.of main_call0_call0_cst : R S_ .f32) (.of main_call0_call0_v2 : R S1x8192x512 .f32) (broadcastInDim S1x8192x512 ![] bcast_S_S1x8192x512),
    TRef.binary (.of main_call0_v0 : R S1x8192x512 .f32) (.of main_call0_call0_v2 : R S1x8192x512 .f32) (.of main_call0_call0_v3 : R S1x8192x512 .f32) subf,
    TRef.binary (.of main_call0_call0_v3 : R S1x8192x512 .f32) (.of main_call0_call0_v3 : R S1x8192x512 .f32) (.of main_call0_call0_v4 : R S1x8192x512 .i1) (cmpf .une),
    TRef.unary (.of main_call0_call0_cst : R S_ .f32) (.of main_call0_call0_v5 : R S1x8192x512 .f32) (broadcastInDim S1x8192x512 ![] bcast_S_S1x8192x512),
    TRef.binary (.of main_call0_v0 : R S1x8192x512 .f32) (.of main_call0_call0_v5 : R S1x8192x512 .f32) (.of main_call0_call0_v6 : R S1x8192x512 .f32) addf,
    TRef.unary (.of main_call0_call0_v3 : R S1x8192x512 .f32) (.of main_call0_call0_v7 : R S1x8192x512 .f32) Host.absf,
    TRef.unary (.of main_call0_call0_v7 : R S1x8192x512 .f32) (.of main_call0_call0_v8 : R S1x8192x512 .f32) Host.negf,
    TRef.unary (.of main_call0_call0_v8 : R S1x8192x512 .f32) (.of main_call0_call0_v9 : R S1x8192x512 .f32) Host.exp,
    TRef.unary (.of main_call0_call0_v9 : R S1x8192x512 .f32) (.of main_call0_call0_v10 : R S1x8192x512 .f32) Host.log1p,
    TRef.binary (.of main_call0_call0_v1 : R S1x8192x512 .f32) (.of main_call0_call0_v10 : R S1x8192x512 .f32) (.of main_call0_call0_v11 : R S1x8192x512 .f32) addf,
    TRef.ternary (.of main_call0_call0_v4 : R S1x8192x512 .i1) (.of main_call0_call0_v6 : R S1x8192x512 .f32) (.of main_call0_call0_v11 : R S1x8192x512 .f32) (.of main_call0_v1_0 : R S1x8192x512 .f32) select,
    TRef.nullary (.of main_call0_call0_cst_0 : R S_ .f32) (constant S_ .f32 0x7F800000#32),
    TRef.unary (.of main_call0_call0_cst_0 : R S_ .f32) (.of main_call0_call0_v13 : R S1x8192x512 .f32) (broadcastInDim S1x8192x512 ![] bcast_S_S1x8192x512),
    TRef.binary (.of main_call0_v0 : R S1x8192x512 .f32) (.of main_call0_call0_v13 : R S1x8192x512 .f32) (.of main_call0_call0_v14 : R S1x8192x512 .i1) (cmpf .oeq),
    TRef.nullary (.of main_call0_call0_cst_1 : R S_ .f32) (constant S_ .f32 0x00000000#32),
    TRef.unary (.of main_call0_call0_cst_1 : R S_ .f32) (.of main_call0_call0_v15 : R S1x8192x512 .f32) (broadcastInDim S1x8192x512 ![] bcast_S_S1x8192x512),
    TRef.ternary (.of main_call0_call0_v14 : R S1x8192x512 .i1) (.of main_call0_call0_v15 : R S1x8192x512 .f32) (.of main_call0_v0 : R S1x8192x512 .f32) (.of main_call0_call0_v16 : R S1x8192x512 .f32) select,
    TRef.nullary (.of main_call0_call0_cst_2 : R S_ .f32) (constant S_ .f32 0x7F800000#32),
    TRef.unary (.of main_call0_call0_cst_2 : R S_ .f32) (.of main_call0_call0_v17 : R S1x8192x512 .f32) (broadcastInDim S1x8192x512 ![] bcast_S_S1x8192x512),
    TRef.binary (.of main_call0_v1_0 : R S1x8192x512 .f32) (.of main_call0_call0_v17 : R S1x8192x512 .f32) (.of main_call0_call0_v18 : R S1x8192x512 .i1) (cmpf .oeq),
    TRef.nullary (.of main_call0_call0_cst_3 : R S_ .f32) (constant S_ .f32 0x00000000#32),
    TRef.unary (.of main_call0_call0_cst_3 : R S_ .f32) (.of main_call0_call0_v19 : R S1x8192x512 .f32) (broadcastInDim S1x8192x512 ![] bcast_S_S1x8192x512),
    TRef.ternary (.of main_call0_call0_v18 : R S1x8192x512 .i1) (.of main_call0_call0_v19 : R S1x8192x512 .f32) (.of main_call0_v1_0 : R S1x8192x512 .f32) (.of main_call0_call0_v20 : R S1x8192x512 .f32) select,
    TRef.binary (.of main_call0_call0_v16 : R S1x8192x512 .f32) (.of main_call0_call0_v20 : R S1x8192x512 .f32) (.of main_call0_call0_v21 : R S1x8192x512 .f32) subf,
    TRef.unary (.of main_call0_call0_v21 : R S1x8192x512 .f32) (.of main_v8_1 : R S1x8192x512 .f32) Host.exp,
    TRef.nullary (.of main_call0_call0_cst_4 : R S_ .f32) (constant S_ .f32 0x00000000#32),
    TRef.nullary (.of main_call0_call0_cst_5 : R S_ .f32) (constant S_ .f32 0x7F800000#32),
    TRef.binary (.of main_call0_call0_cst_4 : R S_ .f32) (.of main_call0_call0_cst_5 : R S_ .f32) (.of main_call0_call0_v23 : R S_ .i1) (cmpf .oeq),
    TRef.nullary (.of main_call0_call0_cst_6 : R S_ .f32) (constant S_ .f32 0x00000000#32),
    TRef.nullary (.of main_call0_call0_cst_7 : R S_ .f32) (constant S_ .f32 0x00000000#32),
    TRef.ternary (.of main_call0_call0_v23 : R S_ .i1) (.of main_call0_call0_cst_7 : R S_ .f32) (.of main_call0_call0_cst_6 : R S_ .f32) (.of main_call0_call0_v24 : R S_ .f32) select,
    TRef.nullary (.of main_call0_call0_cst_8 : R S_ .f32) (constant S_ .f32 0x7F800000#32),
    TRef.unary (.of main_call0_call0_cst_8 : R S_ .f32) (.of main_call0_call0_v25 : R S1x8192x512 .f32) (broadcastInDim S1x8192x512 ![] bcast_S_S1x8192x512),
    TRef.binary (.of main_call0_v1_0 : R S1x8192x512 .f32) (.of main_call0_call0_v25 : R S1x8192x512 .f32) (.of main_call0_call0_v26 : R S1x8192x512 .i1) (cmpf .oeq),
    TRef.nullary (.of main_call0_call0_cst_9 : R S_ .f32) (constant S_ .f32 0x00000000#32),
    TRef.unary (.of main_call0_call0_cst_9 : R S_ .f32) (.of main_call0_call0_v27 : R S1x8192x512 .f32) (broadcastInDim S1x8192x512 ![] bcast_S_S1x8192x512),
    TRef.ternary (.of main_call0_call0_v26 : R S1x8192x512 .i1) (.of main_call0_call0_v27 : R S1x8192x512 .f32) (.of main_call0_v1_0 : R S1x8192x512 .f32) (.of main_call0_call0_v28 : R S1x8192x512 .f32) select,
    TRef.unary (.of main_call0_call0_v24 : R S_ .f32) (.of main_call0_call0_v29 : R S1x8192x512 .f32) (broadcastInDim S1x8192x512 ![] bcast_S_S1x8192x512),
    TRef.binary (.of main_call0_call0_v29 : R S1x8192x512 .f32) (.of main_call0_call0_v28 : R S1x8192x512 .f32) (.of main_call0_call0_v30 : R S1x8192x512 .f32) subf,
    TRef.unary (.of main_call0_call0_v30 : R S1x8192x512 .f32) (.of main_call0_call0_v31 : R S1x8192x512 .f32) Host.exp,
    TRef.nullary (.of main_call0_call0_cst_10 : R S_ .f32) (constant S_ .f32 0x00000000#32),
    TRef.unary (.of main_call0_call0_cst_10 : R S_ .f32) (.of main_call0_call0_v32 : R S1x8192x512 .f32) (broadcastInDim S1x8192x512 ![] bcast_S_S1x8192x512),
    TRef.binary (.of main_call0_call0_v32 : R S1x8192x512 .f32) (.of main_call0_call0_v31 : R S1x8192x512 .f32) (.of main_v8_2 : R S1x8192x512 .f32) mulf,
    TRef.unary (.of main_call0_v1_0 : R S1x8192x512 .f32) (.of main_v8_0 : R S1x8192x512 .f32) Host.negf ]
theorem preOps1_sub : (preOps1 : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., binary_bufs_sub .., unary_bufs_sub .., nullary_bufs_sub .., nullary_bufs_sub .., binary_bufs_sub .., nullary_bufs_sub .., nullary_bufs_sub .., ternary_bufs_sub .., nullary_bufs_sub .., unary_bufs_sub .., binary_bufs_sub .., nullary_bufs_sub .., unary_bufs_sub .., ternary_bufs_sub .., unary_bufs_sub .., binary_bufs_sub .., unary_bufs_sub .., nullary_bufs_sub .., unary_bufs_sub .., binary_bufs_sub .., unary_bufs_sub ..⟩
theorem preOps1_fresh : (preOps1 : List (HloOp τ sig (Elt F))).Forall fun op => op.fresh = ∅ :=
  forall_fresh_of_map rfl

/-- Operations of the reference, in order: 9 of them (its own statements). -/
abbrev preOps2 : List (HloOp τ sig (Elt F)) :=
  [ nullary main_cst (constant S_ .f32 0x41800000#32),
    unary main_cst main_v9 (broadcastInDim S1x8192x512 ![] bcast_S_S1x8192x512 : T F S_ .f32 → T F S1x8192x512 .f32),
    binary main_v8_0 main_v9 main_v10 (Host.divf : T F S1x8192x512 .f32 → T F S1x8192x512 .f32 → T F S1x8192x512 .f32),
    reshape main_v1 main_v11 (rfl : (.f32 : EltTy) = .f32) shapeCasts_S1x8192x512_S1x128x64x4x128,
    unary main_v11 main_v12 ((transpose S1x4x128x64x128 [0, 3, 1, 2, 4] · transposes_S1x128x64x4x128_S1x4x128x64x128_0_3_1_2_4) : T F S1x128x64x4x128 .f32 → T F S1x4x128x64x128 .f32),
    reshape main_v2 main_v13 (rfl : (.f32 : EltTy) = .f32) shapeCasts_S1x8192x1024_S1x128x64x4x256,
    unary main_v13 main_v14 ((transpose S1x4x128x64x256 [0, 3, 1, 2, 4] · transposes_S1x128x64x4x256_S1x4x128x64x256_0_3_1_2_4) : T F S1x128x64x4x256 .f32 → T F S1x4x128x64x256 .f32),
    reshape main_v10 main_v15 (rfl : (.f32 : EltTy) = .f32) shapeCasts_S1x8192x512_S1x128x64x4x128,
    unary main_v15 main_v16 ((transpose S1x4x128x64x128 [0, 3, 1, 2, 4] · transposes_S1x128x64x4x128_S1x4x128x64x128_0_3_1_2_4) : T F S1x128x64x4x128 .f32 → T F S1x4x128x64x128 .f32) ]
theorem preOps2_sub : (preOps2 : List (HloOp τ sig (Elt F))).Forall fun op => op.bufs ⊆ tcRefs τ sig :=
  ⟨nullary_bufs_sub .., unary_bufs_sub .., binary_bufs_sub .., reshape_bufs_sub .., unary_bufs_sub .., reshape_bufs_sub .., unary_bufs_sub .., reshape_bufs_sub .., unary_bufs_sub ..⟩
theorem preOps2_fresh : (preOps2 : List (HloOp τ sig (Elt F))).Forall fun op => op.fresh = ∅ :=
  forall_fresh_of_map rfl

/-- Operations of the reference, in order: 3 of them (a called function). -/
abbrev preOps3 : List (HloOp τ sig (Elt F)) :=
  [ TRef.nullary (.of main_call1_call0_cst : R S_ .f32) (constant S_ .f32 0x00000000#32),
    TRef.unary (.of main_call1_call0_cst : R S_ .f32) (.of main_call1_call0_v0 : R S_ .f32) (broadcastInDim S_ ![] bcast_S_S_),
    TRef.binary (.of main_v16 : R S1x4x128x64x128 .f32) (.of main_call1_call0_v0 : R S_ .f32) (.of main_v17 : R S1x4x128x64x128 .f32) (fun x v => Host.reduceWindowAdd ![1, 1, 1, 64, 1] ![1, 1, 1, 1, 1] ![0, 0, 0, 63, 0] ![0, 0, 0, 0, 0] x v reduceWindows_S1x4x128x64x128_S1x4x128x64x128_w1s1p0_0_w1s1p0_0_w1s1p0_0_w64s1p63_0_w1s1p0_0 h_S_) ]
theorem preOps3_sub : (preOps3 : List (HloOp τ sig (Elt F))).Forall fun op => op.bufs ⊆ tcRefs τ sig :=
  ⟨nullary_bufs_sub .., unary_bufs_sub .., binary_bufs_sub ..⟩
theorem preOps3_fresh : (preOps3 : List (HloOp τ sig (Elt F))).Forall fun op => op.fresh = ∅ :=
  forall_fresh_of_map rfl

/-- Operations of the reference, in order: 24 of them (its own statements). -/
abbrev preOps4 : List (HloOp τ sig (Elt F)) :=
  [ unary main_v17 main_v18 ((extractStridedSlice S1x4x128x1x128 ![0, 0, 0, 63, 0] · slices_S1x4x128x64x128_S1x4x128x1x128_0_0_0_63_0) : T F S1x4x128x64x128 .f32 → T F S1x4x128x1x128 .f32),
    unary main_v18 main_v19 (broadcastInDim S1x4x128x64x128 ![0, 1, 2, 3, 4] bcast_S1x4x128x1x128_S1x4x128x64x128_0_1_2_3_4 : T F S1x4x128x1x128 .f32 → T F S1x4x128x64x128 .f32),
    binary main_v19 main_v17 main_v20 (subf : T F S1x4x128x64x128 .f32 → T F S1x4x128x64x128 .f32 → T F S1x4x128x64x128 .f32),
    unary main_v20 main_v21 (Host.exp : T F S1x4x128x64x128 .f32 → T F S1x4x128x64x128 .f32),
    binary main_v12 main_v21 main_v22 (mulf : T F S1x4x128x64x128 .f32 → T F S1x4x128x64x128 .f32 → T F S1x4x128x64x128 .f32),
    binary main_v22 main_v14 main_v23 ((fun l r => Host.dotGeneral dot_S1x4x128x64x128_S1x4x128x64x256_S1x4x128x128x256_3_3_4_4_012_012 none l r) : T F S1x4x128x64x128 .f32 → T F S1x4x128x64x256 .f32 → T F S1x4x128x128x256 .f32),
    reshape main_v18 main_v24 (rfl : (.f32 : EltTy) = .f32) shapeCasts_S1x4x128x1x128_S1x4x128x128,
    unary main_v24 main_v25 (Host.exp : T F S1x4x128x128 .f32 → T F S1x4x128x128 .f32),
    reshape main_v0 main_v26 (rfl : (.f32 : EltTy) = .f32) shapeCasts_S1x8192x512_S1x128x64x4x128,
    unary main_v26 main_v27 ((transpose S1x4x128x64x128 [0, 3, 1, 2, 4] · transposes_S1x128x64x4x128_S1x4x128x64x128_0_3_1_2_4) : T F S1x128x64x4x128 .f32 → T F S1x4x128x64x128 .f32),
    nullary main_cst_0 (constant S_ .f32 0x3DB504F3#32),
    unary main_cst_0 main_v28 (broadcastInDim S1x4x128x64x128 ![] bcast_S_S1x4x128x64x128 : T F S_ .f32 → T F S1x4x128x64x128 .f32),
    binary main_v27 main_v28 main_v29 (mulf : T F S1x4x128x64x128 .f32 → T F S1x4x128x64x128 .f32 → T F S1x4x128x64x128 .f32),
    reshape main_v1 main_v30 (rfl : (.f32 : EltTy) = .f32) shapeCasts_S1x8192x512_S1x128x64x4x128,
    unary main_v30 main_v31 ((transpose S1x4x128x64x128 [0, 3, 1, 2, 4] · transposes_S1x128x64x4x128_S1x4x128x64x128_0_3_1_2_4) : T F S1x128x64x4x128 .f32 → T F S1x4x128x64x128 .f32),
    reshape main_v2 main_v32 (rfl : (.f32 : EltTy) = .f32) shapeCasts_S1x8192x1024_S1x128x64x4x256,
    unary main_v32 main_v33 ((transpose S1x4x128x64x256 [0, 3, 1, 2, 4] · transposes_S1x128x64x4x256_S1x4x128x64x256_0_3_1_2_4) : T F S1x128x64x4x256 .f32 → T F S1x4x128x64x256 .f32),
    unary main_v17 main_v34 (Host.exp : T F S1x4x128x64x128 .f32 → T F S1x4x128x64x128 .f32),
    binary main_v29 main_v34 main_v35 (mulf : T F S1x4x128x64x128 .f32 → T F S1x4x128x64x128 .f32 → T F S1x4x128x64x128 .f32),
    unary main_v17 main_v36 (Host.negf : T F S1x4x128x64x128 .f32 → T F S1x4x128x64x128 .f32),
    unary main_v36 main_v37 (Host.exp : T F S1x4x128x64x128 .f32 → T F S1x4x128x64x128 .f32),
    binary main_v31 main_v37 main_v38 (mulf : T F S1x4x128x64x128 .f32 → T F S1x4x128x64x128 .f32 → T F S1x4x128x64x128 .f32),
    nullary main_c (constantI S_ 1 1#1),
    unary main_c main_v39 (broadcastInDim S64x64 ![] bcast_S_S64x64 : T F S_ .i1 → T F S64x64 .i1) ]
theorem preOps4_sub : (preOps4 : List (HloOp τ sig (Elt F))).Forall fun op => op.bufs ⊆ tcRefs τ sig :=
  ⟨unary_bufs_sub .., unary_bufs_sub .., binary_bufs_sub .., unary_bufs_sub .., binary_bufs_sub .., binary_bufs_sub .., reshape_bufs_sub .., unary_bufs_sub .., reshape_bufs_sub .., unary_bufs_sub .., nullary_bufs_sub .., unary_bufs_sub .., binary_bufs_sub .., reshape_bufs_sub .., unary_bufs_sub .., reshape_bufs_sub .., unary_bufs_sub .., unary_bufs_sub .., binary_bufs_sub .., unary_bufs_sub .., unary_bufs_sub .., binary_bufs_sub .., nullary_bufs_sub .., unary_bufs_sub ..⟩
theorem preOps4_fresh : (preOps4 : List (HloOp τ sig (Elt F))).Forall fun op => op.fresh = ∅ :=
  forall_fresh_of_map rfl

/-- Operations of the reference, in order: 9 of them (a called function). -/
abbrev preOps5 : List (HloOp τ sig (Elt F)) :=
  [ TRef.nullary (.of main_call2_v0 : R S64x64 .i32) (iotaInDim S64x64 32 0),
    TRef.nullary (.of main_call2_c : R S_ .i32) (constantI S_ 32 0#32),
    TRef.unary (.of main_call2_c : R S_ .i32) (.of main_call2_v1 : R S64x64 .i32) (broadcastInDim S64x64 ![] bcast_S_S64x64),
    TRef.binary (.of main_call2_v0 : R S64x64 .i32) (.of main_call2_v1 : R S64x64 .i32) (.of main_call2_v2 : R S64x64 .i32) addi,
    TRef.nullary (.of main_call2_v3 : R S64x64 .i32) (iotaInDim S64x64 32 1),
    TRef.binary (.of main_call2_v2 : R S64x64 .i32) (.of main_call2_v3 : R S64x64 .i32) (.of main_call2_v4 : R S64x64 .i1) (cmpi .sge),
    TRef.nullary (.of main_call2_c_0 : R S_ .i1) (constantI S_ 1 0#1),
    TRef.unary (.of main_call2_c_0 : R S_ .i1) (.of main_call2_v5 : R S64x64 .i1) (broadcastInDim S64x64 ![] bcast_S_S64x64),
    TRef.ternary (.of main_call2_v4 : R S64x64 .i1) (.of main_v39 : R S64x64 .i1) (.of main_call2_v5 : R S64x64 .i1) (.of main_v40 : R S64x64 .i1) select ]
theorem preOps5_sub : (preOps5 : List (HloOp τ sig (Elt F))).Forall fun op => op.bufs ⊆ tcRefs τ sig :=
  ⟨nullary_bufs_sub .., nullary_bufs_sub .., unary_bufs_sub .., binary_bufs_sub .., nullary_bufs_sub .., binary_bufs_sub .., nullary_bufs_sub .., unary_bufs_sub .., ternary_bufs_sub ..⟩
theorem preOps5_fresh : (preOps5 : List (HloOp τ sig (Elt F))).Forall fun op => op.fresh = ∅ :=
  forall_fresh_of_map rfl

/-- Operations of the reference, in order: 2 of them (its own statements). -/
abbrev preOps6 : List (HloOp τ sig (Elt F)) :=
  [ binary main_v35 main_v38 main_v41 ((fun l r => Host.dotGeneral dot_S1x4x128x64x128_S1x4x128x64x128_S1x4x128x64x64_4_4_3_3_012_012 none l r) : T F S1x4x128x64x128 .f32 → T F S1x4x128x64x128 .f32 → T F S1x4x128x64x64 .f32),
    nullary main_cst_1 (constant S_ .f32 0x00000000#32) ]
theorem preOps6_sub : (preOps6 : List (HloOp τ sig (Elt F))).Forall fun op => op.bufs ⊆ tcRefs τ sig :=
  ⟨binary_bufs_sub .., nullary_bufs_sub ..⟩
theorem preOps6_fresh : (preOps6 : List (HloOp τ sig (Elt F))).Forall fun op => op.fresh = ∅ :=
  forall_fresh_of_map rfl

/-- Operations of the reference, in order: 6 of them (a called function). -/
abbrev preOps7 : List (HloOp τ sig (Elt F)) :=
  [ TRef.unary (.of main_cst_1 : R S_ .f32) (.of main_call3_v0 : R S_ .f32) id,
    TRef.unary (.of main_v40 : R S64x64 .i1) (.of main_v42_1 : R S1x4x128x64x64 .i1) (broadcastInDim S1x4x128x64x64 ![3, 4] bcast_S64x64_S1x4x128x64x64_3_4),
    TRef.unary (.of main_call3_v0 : R S_ .f32) (.of main_call3_v2 : R S1x4x128x64x64 .f32) (broadcastInDim S1x4x128x64x64 ![] bcast_S_S1x4x128x64x64),
    TRef.ternary (.of main_v42_1 : R S1x4x128x64x64 .i1) (.of main_v41 : R S1x4x128x64x64 .f32) (.of main_call3_v2 : R S1x4x128x64x64 .f32) (.of main_v42_0 : R S1x4x128x64x64 .f32) select,
    TRef.nullary (.of main_call3_cst : R S_ .f32) (constant S_ .f32 0x00000000#32),
    TRef.unary (.of main_call3_cst : R S_ .f32) (.of main_v42_2 : R S1x4x128x64x64 .f32) (broadcastInDim S1x4x128x64x64 ![] bcast_S_S1x4x128x64x64) ]
theorem preOps7_sub : (preOps7 : List (HloOp τ sig (Elt F))).Forall fun op => op.bufs ⊆ tcRefs τ sig :=
  ⟨unary_bufs_sub .., unary_bufs_sub .., unary_bufs_sub .., ternary_bufs_sub .., nullary_bufs_sub .., unary_bufs_sub ..⟩
theorem preOps7_fresh : (preOps7 : List (HloOp τ sig (Elt F))).Forall fun op => op.fresh = ∅ :=
  forall_fresh_of_map rfl

/-- Operations of the reference, in order: 13 of them (its own statements). -/
abbrev preOps8 : List (HloOp τ sig (Elt F)) :=
  [ binary main_v42_0 main_v33 main_v43 ((fun l r => Host.dotGeneral dot_S1x4x128x64x64_S1x4x128x64x256_S1x4x128x64x256_4_3_3_4_012_012 none l r) : T F S1x4x128x64x64 .f32 → T F S1x4x128x64x256 .f32 → T F S1x4x128x64x256 .f32),
    nullary main_cst_2 (constant S_ .f32 0x00000000#32),
    unary main_cst_2 main_v44 (broadcastInDim S1x4x128x256 ![] bcast_S_S1x4x128x256 : T F S_ .f32 → T F S1x4x128x256 .f32),
    unary main_v25 main_v45 ((transpose S128x1x4x128 [2, 0, 1, 3] · transposes_S1x4x128x128_S128x1x4x128_2_0_1_3) : T F S1x4x128x128 .f32 → T F S128x1x4x128 .f32),
    unary main_v23 main_v46 ((transpose S128x1x4x128x256 [2, 0, 1, 3, 4] · transposes_S1x4x128x128x256_S128x1x4x128x256_2_0_1_3_4) : T F S1x4x128x128x256 .f32 → T F S128x1x4x128x256 .f32),
    nullary main_cst_3 (constant S_ .f32 0x00000000#32),
    unary main_cst_3 main_v47 (broadcastInDim S128x1x4x128x256 ![] bcast_S_S128x1x4x128x256 : T F S_ .f32 → T F S128x1x4x128x256 .f32),
    nullary main_cst_4 (constant S_ .f32 0x00000000#32),
    unary main_cst_4 main_v48 (broadcastInDim S128x1x4x128x1 ![] bcast_S_S128x1x4x128x1 : T F S_ .f32 → T F S128x1x4x128x1 .f32),
    nullary main_c_5 (constantI S_ 32 0#32),
    unary main_v45 main_v49_0 id,
    unary main_v46 main_v49_1 id,
    unary main_c_5 main_v49_2 id ]
theorem preOps8_sub : (preOps8 : List (HloOp τ sig (Elt F))).Forall fun op => op.bufs ⊆ tcRefs τ sig :=
  ⟨binary_bufs_sub .., nullary_bufs_sub .., unary_bufs_sub .., unary_bufs_sub .., unary_bufs_sub .., nullary_bufs_sub .., unary_bufs_sub .., nullary_bufs_sub .., unary_bufs_sub .., nullary_bufs_sub .., unary_bufs_sub .., unary_bufs_sub .., unary_bufs_sub ..⟩
theorem preOps8_fresh : (preOps8 : List (HloOp τ sig (Elt F))).Forall fun op => op.fresh = ∅ :=
  forall_fresh_of_map rfl

/-- Operations of the reference, in order: 3 of them (its own statements). -/
abbrev preOps9 : List (HloOp τ sig (Elt F)) :=
  [ unary main_v44 main_v49_3 id,
    unary main_v47 main_v49_4 id,
    unary main_v48 main_v49_5 id ]
theorem preOps9_sub : (preOps9 : List (HloOp τ sig (Elt F))).Forall fun op => op.bufs ⊆ tcRefs τ sig :=
  ⟨unary_bufs_sub .., unary_bufs_sub .., unary_bufs_sub ..⟩
theorem preOps9_fresh : (preOps9 : List (HloOp τ sig (Elt F))).Forall fun op => op.fresh = ∅ :=
  forall_fresh_of_map rfl

/-- Operations of the reference, in order: 27 of them (its own statements). -/
abbrev midOps0 : List (HloOp τ sig (Elt F)) :=
  [ unary main_v49_4 main_v50 ((transpose S1x4x128x128x256 [1, 2, 0, 3, 4] · transposes_S128x1x4x128x256_S1x4x128x128x256_1_2_0_3_4) : T F S128x1x4x128x256 .f32 → T F S1x4x128x128x256 .f32),
    binary main_v35 main_v50 main_v51 ((fun l r => Host.dotGeneral dot_S1x4x128x64x128_S1x4x128x128x256_S1x4x128x64x256_4_3_3_4_012_012 none l r) : T F S1x4x128x64x128 .f32 → T F S1x4x128x128x256 .f32 → T F S1x4x128x64x256 .f32),
    binary main_v43 main_v51 main_v52 (addf : T F S1x4x128x64x256 .f32 → T F S1x4x128x64x256 .f32 → T F S1x4x128x64x256 .f32),
    unary main_v52 main_v53 ((transpose S1x128x64x4x256 [0, 2, 3, 1, 4] · transposes_S1x4x128x64x256_S1x128x64x4x256_0_2_3_1_4) : T F S1x4x128x64x256 .f32 → T F S1x128x64x4x256 .f32),
    reshape main_v53 main_v54 (rfl : (.f32 : EltTy) = .f32) shapeCasts_S1x128x64x4x256_S1x8192x1024,
    nullary main_cst_6 (constant S_ .f32 0x00000000#32),
    unary main_cst_6 main_v55 (broadcastInDim S1x4x128x256 ![] bcast_S_S1x4x128x256 : T F S_ .f32 → T F S1x4x128x256 .f32),
    reshape main_arg3 main_v56 (rfl : (.f32 : EltTy) = .f32) shapeCasts_S1x8192x1024_S1x128x64x4x256,
    unary main_v56 main_v57 ((transpose S1x4x128x64x256 [0, 3, 1, 2, 4] · transposes_S1x128x64x4x256_S1x4x128x64x256_0_3_1_2_4) : T F S1x128x64x4x256 .f32 → T F S1x4x128x64x256 .f32),
    binary main_v57 main_v35 main_v58 ((fun l r => Host.dotGeneral dot_S1x4x128x64x256_S1x4x128x64x128_S1x4x128x256x128_3_3_4_4_012_012 none l r) : T F S1x4x128x64x256 .f32 → T F S1x4x128x64x128 .f32 → T F S1x4x128x256x128 .f32),
    unary main_v58 main_v59 ((transpose S1x4x128x128x256 [0, 1, 2, 4, 3] · transposes_S1x4x128x256x128_S1x4x128x128x256_0_1_2_4_3) : T F S1x4x128x256x128 .f32 → T F S1x4x128x128x256 .f32),
    binary main_v57 main_v50 main_v60 ((fun l r => Host.dotGeneral dot_S1x4x128x64x256_S1x4x128x128x256_S1x4x128x64x128_4_4_3_3_012_012 none l r) : T F S1x4x128x64x256 .f32 → T F S1x4x128x128x256 .f32 → T F S1x4x128x64x128 .f32),
    unary main_v59 main_v61 ((transpose S128x1x4x128x256 [2, 0, 1, 3, 4] · transposes_S1x4x128x128x256_S128x1x4x128x256_2_0_1_3_4) : T F S1x4x128x128x256 .f32 → T F S128x1x4x128x256 .f32),
    nullary main_cst_7 (constant S_ .f32 0x00000000#32),
    unary main_cst_7 main_v62 (broadcastInDim S1x4x128x256 ![] bcast_S_S1x4x128x256 : T F S_ .f32 → T F S1x4x128x256 .f32),
    nullary main_cst_8 (constant S_ .f32 0x00000000#32),
    unary main_cst_8 main_v63 (broadcastInDim S128x1x4x128 ![] bcast_S_S128x1x4x128 : T F S_ .f32 → T F S128x1x4x128 .f32),
    nullary main_cst_9 (constant S_ .f32 0x00000000#32),
    unary main_cst_9 main_v64 (broadcastInDim S128x1x4x128x256 ![] bcast_S_S128x1x4x128x256 : T F S_ .f32 → T F S128x1x4x128x256 .f32),
    nullary main_c_10 (constantI S_ 32 0#32),
    unary main_v61 main_v65_0 id,
    unary main_v49_4 main_v65_1 id,
    unary main_v49_5 main_v65_2 id,
    unary main_c_10 main_v65_3 id,
    unary main_v62 main_v65_4 id,
    unary main_v63 main_v65_5 id,
    unary main_v64 main_v65_6 id ]
theorem midOps0_sub : (midOps0 : List (HloOp τ sig (Elt F))).Forall fun op => op.bufs ⊆ tcRefs τ sig :=
  ⟨unary_bufs_sub .., binary_bufs_sub .., binary_bufs_sub .., unary_bufs_sub .., reshape_bufs_sub .., nullary_bufs_sub .., unary_bufs_sub .., reshape_bufs_sub .., unary_bufs_sub .., binary_bufs_sub .., unary_bufs_sub .., binary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub ..⟩
theorem midOps0_fresh : (midOps0 : List (HloOp τ sig (Elt F))).Forall fun op => op.fresh = ∅ :=
  forall_fresh_of_map rfl

/-- Operations of the reference, in order: 5 of them (its own statements). -/
abbrev postOps0 : List (HloOp τ sig (Elt F)) :=
  [ unary main_v65_6 main_v66 ((transpose S1x4x128x128x256 [1, 2, 0, 3, 4] · transposes_S128x1x4x128x256_S1x4x128x128x256_1_2_0_3_4) : T F S128x1x4x128x256 .f32 → T F S1x4x128x128x256 .f32),
    unary main_v65_5 main_v67 ((transpose S1x4x128x128 [1, 2, 0, 3] · transposes_S128x1x4x128_S1x4x128x128_1_2_0_3) : T F S128x1x4x128 .f32 → T F S1x4x128x128 .f32),
    binary main_v57 main_v42_0 main_v68 ((fun l r => Host.dotGeneral dot_S1x4x128x64x256_S1x4x128x64x64_S1x4x128x256x64_3_3_4_4_012_012 none l r) : T F S1x4x128x64x256 .f32 → T F S1x4x128x64x64 .f32 → T F S1x4x128x256x64 .f32),
    unary main_v68 main_v69 ((transpose S1x4x128x64x256 [0, 1, 2, 4, 3] · transposes_S1x4x128x256x64_S1x4x128x64x256_0_1_2_4_3) : T F S1x4x128x256x64 .f32 → T F S1x4x128x64x256 .f32),
    binary main_v57 main_v33 main_v70 ((fun l r => Host.dotGeneral dot_S1x4x128x64x256_S1x4x128x64x256_S1x4x128x64x64_4_4_3_3_012_012 none l r) : T F S1x4x128x64x256 .f32 → T F S1x4x128x64x256 .f32 → T F S1x4x128x64x64 .f32) ]
theorem postOps0_sub : (postOps0 : List (HloOp τ sig (Elt F))).Forall fun op => op.bufs ⊆ tcRefs τ sig :=
  ⟨unary_bufs_sub .., unary_bufs_sub .., binary_bufs_sub .., unary_bufs_sub .., binary_bufs_sub ..⟩
theorem postOps0_fresh : (postOps0 : List (HloOp τ sig (Elt F))).Forall fun op => op.fresh = ∅ :=
  forall_fresh_of_map rfl

/-- Operations of the reference, in order: 3 of them (a called function). -/
abbrev postOps1 : List (HloOp τ sig (Elt F)) :=
  [ TRef.nullary (.of main_call13_cst : R S_ .f32) (constant S_ .f32 0x00000000#32),
    TRef.unary (.of main_call13_cst : R S_ .f32) (.of main_call13_v0 : R S1x4x128x64x64 .f32) (broadcastInDim S1x4x128x64x64 ![] bcast_S_S1x4x128x64x64),
    TRef.ternary (.of main_v42_1 : R S1x4x128x64x64 .i1) (.of main_v70 : R S1x4x128x64x64 .f32) (.of main_call13_v0 : R S1x4x128x64x64 .f32) (.of main_v71 : R S1x4x128x64x64 .f32) select ]
theorem postOps1_sub : (postOps1 : List (HloOp τ sig (Elt F))).Forall fun op => op.bufs ⊆ tcRefs τ sig :=
  ⟨nullary_bufs_sub .., unary_bufs_sub .., ternary_bufs_sub ..⟩
theorem postOps1_fresh : (postOps1 : List (HloOp τ sig (Elt F))).Forall fun op => op.fresh = ∅ :=
  forall_fresh_of_map rfl

/-- Operations of the reference, in order: 22 of them (its own statements). -/
abbrev postOps2 : List (HloOp τ sig (Elt F)) :=
  [ binary main_v71 main_v35 main_v72 ((fun l r => Host.dotGeneral dot_S1x4x128x64x64_S1x4x128x64x128_S1x4x128x64x128_3_3_4_4_012_012 none l r) : T F S1x4x128x64x64 .f32 → T F S1x4x128x64x128 .f32 → T F S1x4x128x64x128 .f32),
    binary main_v71 main_v38 main_v73 ((fun l r => Host.dotGeneral dot_S1x4x128x64x64_S1x4x128x64x128_S1x4x128x64x128_4_3_3_4_012_012 none l r) : T F S1x4x128x64x64 .f32 → T F S1x4x128x64x128 .f32 → T F S1x4x128x64x128 .f32),
    binary main_v60 main_v73 main_v74 (addf : T F S1x4x128x64x128 .f32 → T F S1x4x128x64x128 .f32 → T F S1x4x128x64x128 .f32),
    binary main_v31 main_v72 main_v75 (mulf : T F S1x4x128x64x128 .f32 → T F S1x4x128x64x128 .f32 → T F S1x4x128x64x128 .f32),
    binary main_v72 main_v37 main_v76 (mulf : T F S1x4x128x64x128 .f32 → T F S1x4x128x64x128 .f32 → T F S1x4x128x64x128 .f32),
    binary main_v75 main_v37 main_v77 (mulf : T F S1x4x128x64x128 .f32 → T F S1x4x128x64x128 .f32 → T F S1x4x128x64x128 .f32),
    unary main_v77 main_v78 (Host.negf : T F S1x4x128x64x128 .f32 → T F S1x4x128x64x128 .f32),
    binary main_v29 main_v74 main_v79 (mulf : T F S1x4x128x64x128 .f32 → T F S1x4x128x64x128 .f32 → T F S1x4x128x64x128 .f32),
    binary main_v74 main_v34 main_v80 (mulf : T F S1x4x128x64x128 .f32 → T F S1x4x128x64x128 .f32 → T F S1x4x128x64x128 .f32),
    binary main_v79 main_v34 main_v81 (mulf : T F S1x4x128x64x128 .f32 → T F S1x4x128x64x128 .f32 → T F S1x4x128x64x128 .f32),
    binary main_v78 main_v81 main_v82 (addf : T F S1x4x128x64x128 .f32 → T F S1x4x128x64x128 .f32 → T F S1x4x128x64x128 .f32),
    unary main_v69 main_v83 ((transpose S1x128x64x4x256 [0, 2, 3, 1, 4] · transposes_S1x4x128x64x256_S1x128x64x4x256_0_2_3_1_4) : T F S1x4x128x64x256 .f32 → T F S1x128x64x4x256 .f32),
    reshape main_v83 main_v84 (rfl : (.f32 : EltTy) = .f32) shapeCasts_S1x128x64x4x256_S1x8192x1024,
    unary main_v76 main_v85 ((transpose S1x128x64x4x128 [0, 2, 3, 1, 4] · transposes_S1x4x128x64x128_S1x128x64x4x128_0_2_3_1_4) : T F S1x4x128x64x128 .f32 → T F S1x128x64x4x128 .f32),
    reshape main_v85 main_v86 (rfl : (.f32 : EltTy) = .f32) shapeCasts_S1x128x64x4x128_S1x8192x512,
    nullary main_cst_11 (constant S_ .f32 0x3DB504F3#32),
    unary main_cst_11 main_v87 (broadcastInDim S1x4x128x64x128 ![] bcast_S_S1x4x128x64x128 : T F S_ .f32 → T F S1x4x128x64x128 .f32),
    binary main_v80 main_v87 main_v88 (mulf : T F S1x4x128x64x128 .f32 → T F S1x4x128x64x128 .f32 → T F S1x4x128x64x128 .f32),
    unary main_v88 main_v89 ((transpose S1x128x64x4x128 [0, 2, 3, 1, 4] · transposes_S1x4x128x64x128_S1x128x64x4x128_0_2_3_1_4) : T F S1x4x128x64x128 .f32 → T F S1x128x64x4x128 .f32),
    reshape main_v89 main_v90 (rfl : (.f32 : EltTy) = .f32) shapeCasts_S1x128x64x4x128_S1x8192x512,
    binary main_v67 main_v25 main_v91 (mulf : T F S1x4x128x128 .f32 → T F S1x4x128x128 .f32 → T F S1x4x128x128 .f32),
    unary main_v91 main_v92 (broadcastInDim S1x4x128x1x128 ![0, 1, 2, 4] bcast_S1x4x128x128_S1x4x128x1x128_0_1_2_4 : T F S1x4x128x128 .f32 → T F S1x4x128x1x128 .f32) ]
theorem postOps2_sub : (postOps2 : List (HloOp τ sig (Elt F))).Forall fun op => op.bufs ⊆ tcRefs τ sig :=
  ⟨binary_bufs_sub .., binary_bufs_sub .., binary_bufs_sub .., binary_bufs_sub .., binary_bufs_sub .., binary_bufs_sub .., unary_bufs_sub .., binary_bufs_sub .., binary_bufs_sub .., binary_bufs_sub .., binary_bufs_sub .., unary_bufs_sub .., reshape_bufs_sub .., unary_bufs_sub .., reshape_bufs_sub .., nullary_bufs_sub .., unary_bufs_sub .., binary_bufs_sub .., unary_bufs_sub .., reshape_bufs_sub .., binary_bufs_sub .., unary_bufs_sub ..⟩
theorem postOps2_fresh : (postOps2 : List (HloOp τ sig (Elt F))).Forall fun op => op.fresh = ∅ :=
  forall_fresh_of_map rfl

/-- Operations of the reference, in order: 16 of them (its own statements). -/
abbrev postOps3 : List (HloOp τ sig (Elt F)) :=
  [ binary main_v66 main_v22 main_v93 ((fun l r => Host.dotGeneral dot_S1x4x128x128x256_S1x4x128x64x128_S1x4x128x256x64_3_4_4_3_012_012 none l r) : T F S1x4x128x128x256 .f32 → T F S1x4x128x64x128 .f32 → T F S1x4x128x256x64 .f32),
    unary main_v93 main_v94 ((transpose S1x4x128x64x256 [0, 1, 2, 4, 3] · transposes_S1x4x128x256x64_S1x4x128x64x256_0_1_2_4_3) : T F S1x4x128x256x64 .f32 → T F S1x4x128x64x256 .f32),
    binary main_v66 main_v14 main_v95 ((fun l r => Host.dotGeneral dot_S1x4x128x128x256_S1x4x128x64x256_S1x4x128x128x64_4_4_3_3_012_012 none l r) : T F S1x4x128x128x256 .f32 → T F S1x4x128x64x256 .f32 → T F S1x4x128x128x64 .f32),
    unary main_v95 main_v96 ((transpose S1x4x128x64x128 [0, 1, 2, 4, 3] · transposes_S1x4x128x128x64_S1x4x128x64x128_0_1_2_4_3) : T F S1x4x128x128x64 .f32 → T F S1x4x128x64x128 .f32),
    binary main_v12 main_v96 main_v97 (mulf : T F S1x4x128x64x128 .f32 → T F S1x4x128x64x128 .f32 → T F S1x4x128x64x128 .f32),
    binary main_v96 main_v21 main_v98 (mulf : T F S1x4x128x64x128 .f32 → T F S1x4x128x64x128 .f32 → T F S1x4x128x64x128 .f32),
    binary main_v97 main_v21 main_v99 (mulf : T F S1x4x128x64x128 .f32 → T F S1x4x128x64x128 .f32 → T F S1x4x128x64x128 .f32),
    nullary main_cst_12 (constant S_ .f32 0x00000000#32),
    binary main_v99 main_cst_12 main_v100 ((fun x v => Host.reduceAdd x v reducesTo_S1x4x128x64x128_S1x4x128x128_d3 h_S_) : T F S1x4x128x64x128 .f32 → T F S_ .f32 → T F S1x4x128x128 .f32),
    reshape main_v100 main_v101 (rfl : (.f32 : EltTy) = .f32) shapeCasts_S1x4x128x128_S1x4x128x1x128,
    unary main_v99 main_v102 (Host.negf : T F S1x4x128x64x128 .f32 → T F S1x4x128x64x128 .f32),
    binary main_v92 main_v101 main_v103 (addf : T F S1x4x128x1x128 .f32 → T F S1x4x128x1x128 .f32 → T F S1x4x128x1x128 .f32),
    binary main_v82 main_v102 main_v104 (addf : T F S1x4x128x64x128 .f32 → T F S1x4x128x64x128 .f32 → T F S1x4x128x64x128 .f32),
    nullary main_cst_13 (constant S_ .f32 0x00000000#32),
    binary main_v103 main_cst_13 main_v105 ((fun x v => pad S1x4x128x64x128 ![0, 0, 0, 63, 0] ![0, 0, 0, 0, 0] ![0, 0, 0, 0, 0] x v pads_S1x4x128x1x128_S1x4x128x64x128_000_000_000_6300_000 h_S_) : T F S1x4x128x1x128 .f32 → T F S_ .f32 → T F S1x4x128x64x128 .f32),
    binary main_v104 main_v105 main_v106 (addf : T F S1x4x128x64x128 .f32 → T F S1x4x128x64x128 .f32 → T F S1x4x128x64x128 .f32) ]
theorem postOps3_sub : (postOps3 : List (HloOp τ sig (Elt F))).Forall fun op => op.bufs ⊆ tcRefs τ sig :=
  ⟨binary_bufs_sub .., unary_bufs_sub .., binary_bufs_sub .., unary_bufs_sub .., binary_bufs_sub .., binary_bufs_sub .., binary_bufs_sub .., nullary_bufs_sub .., binary_bufs_sub .., reshape_bufs_sub .., unary_bufs_sub .., binary_bufs_sub .., binary_bufs_sub .., nullary_bufs_sub .., binary_bufs_sub .., binary_bufs_sub ..⟩
theorem postOps3_fresh : (postOps3 : List (HloOp τ sig (Elt F))).Forall fun op => op.fresh = ∅ :=
  forall_fresh_of_map rfl

/-- Operations of the reference, in order: 3 of them (a called function). -/
abbrev postOps4 : List (HloOp τ sig (Elt F)) :=
  [ TRef.nullary (.of main_call14_call0_cst : R S_ .f32) (constant S_ .f32 0x00000000#32),
    TRef.unary (.of main_call14_call0_cst : R S_ .f32) (.of main_call14_call0_v0 : R S_ .f32) (broadcastInDim S_ ![] bcast_S_S_),
    TRef.binary (.of main_v106 : R S1x4x128x64x128 .f32) (.of main_call14_call0_v0 : R S_ .f32) (.of main_v107 : R S1x4x128x64x128 .f32) (fun x v => Host.reduceWindowAdd ![1, 1, 1, 64, 1] ![1, 1, 1, 1, 1] ![0, 0, 0, 0, 0] ![0, 0, 0, 63, 0] x v reduceWindows_S1x4x128x64x128_S1x4x128x64x128_w1s1p0_0_w1s1p0_0_w1s1p0_0_w64s1p0_63_w1s1p0_0 h_S_) ]
theorem postOps4_sub : (postOps4 : List (HloOp τ sig (Elt F))).Forall fun op => op.bufs ⊆ tcRefs τ sig :=
  ⟨nullary_bufs_sub .., unary_bufs_sub .., binary_bufs_sub ..⟩
theorem postOps4_fresh : (postOps4 : List (HloOp τ sig (Elt F))).Forall fun op => op.fresh = ∅ :=
  forall_fresh_of_map rfl

/-- Operations of the reference, in order: 11 of them (its own statements). -/
abbrev postOps5 : List (HloOp τ sig (Elt F)) :=
  [ unary main_v107 main_v108 ((transpose S1x128x64x4x128 [0, 2, 3, 1, 4] · transposes_S1x4x128x64x128_S1x128x64x4x128_0_2_3_1_4) : T F S1x4x128x64x128 .f32 → T F S1x128x64x4x128 .f32),
    reshape main_v108 main_v109 (rfl : (.f32 : EltTy) = .f32) shapeCasts_S1x128x64x4x128_S1x8192x512,
    unary main_v94 main_v110 ((transpose S1x128x64x4x256 [0, 2, 3, 1, 4] · transposes_S1x4x128x64x256_S1x128x64x4x256_0_2_3_1_4) : T F S1x4x128x64x256 .f32 → T F S1x128x64x4x256 .f32),
    reshape main_v110 main_v111 (rfl : (.f32 : EltTy) = .f32) shapeCasts_S1x128x64x4x256_S1x8192x1024,
    binary main_v84 main_v111 main_v112 (addf : T F S1x8192x1024 .f32 → T F S1x8192x1024 .f32 → T F S1x8192x1024 .f32),
    unary main_v98 main_v113 ((transpose S1x128x64x4x128 [0, 2, 3, 1, 4] · transposes_S1x4x128x64x128_S1x128x64x4x128_0_2_3_1_4) : T F S1x4x128x64x128 .f32 → T F S1x128x64x4x128 .f32),
    reshape main_v113 main_v114 (rfl : (.f32 : EltTy) = .f32) shapeCasts_S1x128x64x4x128_S1x8192x512,
    binary main_v86 main_v114 main_v115 (addf : T F S1x8192x512 .f32 → T F S1x8192x512 .f32 → T F S1x8192x512 .f32),
    nullary main_cst_14 (constant S_ .f32 0x41800000#32),
    unary main_cst_14 main_v116 (broadcastInDim S1x8192x512 ![] bcast_S_S1x8192x512 : T F S_ .f32 → T F S1x8192x512 .f32),
    binary main_v109 main_v116 main_v117 (Host.divf : T F S1x8192x512 .f32 → T F S1x8192x512 .f32 → T F S1x8192x512 .f32) ]
theorem postOps5_sub : (postOps5 : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., binary_bufs_sub .., nullary_bufs_sub .., unary_bufs_sub .., binary_bufs_sub ..⟩
theorem postOps5_fresh : (postOps5 : List (HloOp τ sig (Elt F))).Forall fun op => op.fresh = ∅ :=
  forall_fresh_of_map rfl

/-- Operations of the reference, in order: 3 of them (a called function). -/
abbrev postOps6 : List (HloOp τ sig (Elt F)) :=
  [ TRef.unary (.of main_v117 : R S1x8192x512 .f32) (.of main_call15_v0 : R S1x8192x512 .f32) Host.negf,
    TRef.binary (.of main_call15_v0 : R S1x8192x512 .f32) (.of main_v8_1 : R S1x8192x512 .f32) (.of main_call15_v1 : R S1x8192x512 .f32) mulf,
    TRef.unary (.of main_call15_v1 : R S1x8192x512 .f32) (.of main_v118 : R S1x8192x512 .f32) Host.negf ]
theorem postOps6_sub : (postOps6 : List (HloOp τ sig (Elt F))).Forall fun op => op.bufs ⊆ tcRefs τ sig :=
  ⟨unary_bufs_sub .., binary_bufs_sub .., unary_bufs_sub ..⟩
theorem postOps6_fresh : (postOps6 : List (HloOp τ sig (Elt F))).Forall fun op => op.fresh = ∅ :=
  forall_fresh_of_map rfl

/-- Operations of the reference, in order: 14 of them (its own statements). -/
abbrev postOps7 : List (HloOp τ sig (Elt F)) :=
  [ nullary main_cst_15 (constant S_ .f32 0x00000000#32),
    binary main_v118 main_cst_15 main_v119 ((fun x v => Host.reduceAdd x v reducesTo_S1x8192x512_S1x512_d1 h_S_) : T F S1x8192x512 .f32 → T F S_ .f32 → T F S1x512 .f32),
    reshape main_v119 main_v120 (rfl : (.f32 : EltTy) = .f32) shapeCasts_S1x512_S1x1x512,
    nullary main_cst_16 (constant S_ .f32 0x00000000#32),
    binary main_v120 main_cst_16 main_v121 ((fun x v => Host.reduceAdd x v reducesTo_S1x1x512_S512_d0_1 h_S_) : T F S1x1x512 .f32 → T F S_ .f32 → T F S512 .f32),
    reshape main_v54 main_v122 (rfl : (.f32 : EltTy) = .f32) shapeCasts_S1x8192x1024_S8192x1024,
    reshape main_v90 main_v123 (rfl : (.f32 : EltTy) = .f32) shapeCasts_S1x8192x512_S8192x512,
    unary main_v123 main_v124 ((truncf .bf16 · bitsLt_bf16_f32) : T F S8192x512 .f32 → T F S8192x512 .bf16),
    reshape main_v115 main_v125 (rfl : (.f32 : EltTy) = .f32) shapeCasts_S1x8192x512_S8192x512,
    unary main_v125 main_v126 ((truncf .bf16 · bitsLt_bf16_f32) : T F S8192x512 .f32 → T F S8192x512 .bf16),
    reshape main_v112 main_v127 (rfl : (.f32 : EltTy) = .f32) shapeCasts_S1x8192x1024_S8192x1024,
    unary main_v127 main_v128 ((truncf .bf16 · bitsLt_bf16_f32) : T F S8192x1024 .f32 → T F S8192x1024 .bf16),
    reshape main_v118 main_v129 (rfl : (.f32 : EltTy) = .f32) shapeCasts_S1x8192x512_S8192x512,
    unary main_v121 main_v130 (broadcastInDim S1x512 ![1] bcast_S512_S1x512_1 : T F S512 .f32 → T F S1x512 .f32) ]
theorem postOps7_sub : (postOps7 : List (HloOp τ sig (Elt F))).Forall fun op => op.bufs ⊆ tcRefs τ sig :=
  ⟨nullary_bufs_sub .., binary_bufs_sub .., reshape_bufs_sub .., nullary_bufs_sub .., binary_bufs_sub .., reshape_bufs_sub .., reshape_bufs_sub .., unary_bufs_sub .., reshape_bufs_sub .., unary_bufs_sub .., reshape_bufs_sub .., unary_bufs_sub .., reshape_bufs_sub .., unary_bufs_sub ..⟩
theorem postOps7_fresh : (postOps7 : List (HloOp τ sig (Elt F))).Forall fun op => op.fresh = ∅ :=
  forall_fresh_of_map rfl

/-- Operations of loop 0's body, in order: 5 of them. -/
abbrev body0Ops0 : List (HloOp τ sig (Elt F)) :=
  [ TRef.nullary (.of main_while0b_call4_c : R S_ .i32) (constantI S_ 32 0#32),
    TRef.nullary (.of main_while0b_call4_c_0 : R S_ .i32) (constantI S_ 32 0#32),
    TRef.nullary (.of main_while0b_call4_c_1 : R S_ .i32) (constantI S_ 32 0#32),
    TRef.unaryIndexed (.of main_v49_0 : R S128x1x4x128 .f32) ![(.of main_v49_2 : R S_ .i32), (.of main_while0b_call4_c : R S_ .i32), (.of main_while0b_call4_c_0 : R S_ .i32), (.of main_while0b_call4_c_1 : R S_ .i32)] (.of main_while0b_call4_v0 : R S1x1x4x128 .f32) (fun x i => Host.dynamicSlice S1x1x4x128 x (fun k => (i k (Shape.Idx.first h_S_)).toInt) sliceFits_S128x1x4x128_S1x1x4x128),
    TRef.reshape (.of main_while0b_call4_v0 : R S1x1x4x128 .f32) (.of main_while0b_v131 : R S1x4x128 .f32) (rfl : (.f32 : EltTy) = .f32) shapeCasts_S1x1x4x128_S1x4x128 ]
theorem body0Ops0_sub : (body0Ops0 : List (HloOp τ sig (Elt F))).Forall fun op => op.bufs ⊆ tcRefs τ sig :=
  ⟨nullary_bufs_sub .., nullary_bufs_sub .., nullary_bufs_sub .., unaryIndexed_bufs_sub .., reshape_bufs_sub ..⟩
theorem body0Ops0_fresh : (body0Ops0 : List (HloOp τ sig (Elt F))).Forall fun op => op.fresh = ∅ :=
  forall_fresh_of_map rfl

/-- Operations of loop 0's body, in order: 6 of them. -/
abbrev body0Ops1 : List (HloOp τ sig (Elt F)) :=
  [ TRef.nullary (.of main_while0b_call5_c : R S_ .i32) (constantI S_ 32 0#32),
    TRef.nullary (.of main_while0b_call5_c_0 : R S_ .i32) (constantI S_ 32 0#32),
    TRef.nullary (.of main_while0b_call5_c_1 : R S_ .i32) (constantI S_ 32 0#32),
    TRef.nullary (.of main_while0b_call5_c_2 : R S_ .i32) (constantI S_ 32 0#32),
    TRef.unaryIndexed (.of main_v49_1 : R S128x1x4x128x256 .f32) ![(.of main_v49_2 : R S_ .i32), (.of main_while0b_call5_c : R S_ .i32), (.of main_while0b_call5_c_0 : R S_ .i32), (.of main_while0b_call5_c_1 : R S_ .i32), (.of main_while0b_call5_c_2 : R S_ .i32)] (.of main_while0b_call5_v0 : R S1x1x4x128x256 .f32) (fun x i => Host.dynamicSlice S1x1x4x128x256 x (fun k => (i k (Shape.Idx.first h_S_)).toInt) sliceFits_S128x1x4x128x256_S1x1x4x128x256),
    TRef.reshape (.of main_while0b_call5_v0 : R S1x1x4x128x256 .f32) (.of main_while0b_v132 : R S1x4x128x256 .f32) (rfl : (.f32 : EltTy) = .f32) shapeCasts_S1x1x4x128x256_S1x4x128x256 ]
theorem body0Ops1_sub : (body0Ops1 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
theorem body0Ops1_fresh : (body0Ops1 : List (HloOp τ sig (Elt F))).Forall fun op => op.fresh = ∅ :=
  forall_fresh_of_map rfl

/-- Operations of loop 0's body, in order: 4 of them. -/
abbrev body0Ops2 : List (HloOp τ sig (Elt F)) :=
  [ unary main_while0b_v131 main_while0b_v133 (broadcastInDim S1x4x128x1 ![0, 1, 2] bcast_S1x4x128_S1x4x128x1_0_1_2 : T F S1x4x128 .f32 → T F S1x4x128x1 .f32),
    unary main_while0b_v133 main_while0b_v134 (broadcastInDim S1x4x128x256 ![0, 1, 2, 3] bcast_S1x4x128x1_S1x4x128x256_0_1_2_3 : T F S1x4x128x1 .f32 → T F S1x4x128x256 .f32),
    binary main_while0b_v134 main_v49_3 main_while0b_v135 (mulf : T F S1x4x128x256 .f32 → T F S1x4x128x256 .f32 → T F S1x4x128x256 .f32),
    binary main_while0b_v135 main_while0b_v132 main_while0b_v136 (addf : T F S1x4x128x256 .f32 → T F S1x4x128x256 .f32 → T F S1x4x128x256 .f32) ]
theorem body0Ops2_sub : (body0Ops2 : List (HloOp τ sig (Elt F))).Forall fun op => op.bufs ⊆ tcRefs τ sig :=
  ⟨unary_bufs_sub .., unary_bufs_sub .., binary_bufs_sub .., binary_bufs_sub ..⟩
theorem body0Ops2_fresh : (body0Ops2 : List (HloOp τ sig (Elt F))).Forall fun op => op.fresh = ∅ :=
  forall_fresh_of_map rfl

/-- Operations of loop 0's body, in order: 6 of them. -/
abbrev body0Ops3 : List (HloOp τ sig (Elt F)) :=
  [ TRef.unary (.of main_v49_3 : R S1x4x128x256 .f32) (.of main_while0b_call6_v0 : R S1x1x4x128x256 .f32) (broadcastInDim S1x1x4x128x256 ![1, 2, 3, 4] bcast_S1x4x128x256_S1x1x4x128x256_1_2_3_4),
    TRef.nullary (.of main_while0b_call6_c : R S_ .i32) (constantI S_ 32 0#32),
    TRef.nullary (.of main_while0b_call6_c_0 : R S_ .i32) (constantI S_ 32 0#32),
    TRef.nullary (.of main_while0b_call6_c_1 : R S_ .i32) (constantI S_ 32 0#32),
    TRef.nullary (.of main_while0b_call6_c_2 : R S_ .i32) (constantI S_ 32 0#32),
    TRef.binaryIndexed (.of main_v49_4 : R S128x1x4x128x256 .f32) (.of main_while0b_call6_v0 : R S1x1x4x128x256 .f32) ![(.of main_v49_2 : R S_ .i32), (.of main_while0b_call6_c : R S_ .i32), (.of main_while0b_call6_c_0 : R S_ .i32), (.of main_while0b_call6_c_1 : R S_ .i32), (.of main_while0b_call6_c_2 : R S_ .i32)] (.of main_while0b_v137 : R S128x1x4x128x256 .f32) (fun x u i => Host.dynamicUpdateSlice x u (fun k => (i k (Shape.Idx.first h_S_)).toInt) updateFits_S128x1x4x128x256_S1x1x4x128x256) ]
theorem body0Ops3_sub : (body0Ops3 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
theorem body0Ops3_fresh : (body0Ops3 : List (HloOp τ sig (Elt F))).Forall fun op => op.fresh = ∅ :=
  forall_fresh_of_map rfl

/-- Operations of loop 0's body, in order: 6 of them. -/
abbrev body0Ops4 : List (HloOp τ sig (Elt F)) :=
  [ TRef.unary (.of main_while0b_v133 : R S1x4x128x1 .f32) (.of main_while0b_call7_v0 : R S1x1x4x128x1 .f32) (broadcastInDim S1x1x4x128x1 ![1, 2, 3, 4] bcast_S1x4x128x1_S1x1x4x128x1_1_2_3_4),
    TRef.nullary (.of main_while0b_call7_c : R S_ .i32) (constantI S_ 32 0#32),
    TRef.nullary (.of main_while0b_call7_c_0 : R S_ .i32) (constantI S_ 32 0#32),
    TRef.nullary (.of main_while0b_call7_c_1 : R S_ .i32) (constantI S_ 32 0#32),
    TRef.nullary (.of main_while0b_call7_c_2 : R S_ .i32) (constantI S_ 32 0#32),
    TRef.binaryIndexed (.of main_v49_5 : R S128x1x4x128x1 .f32) (.of main_while0b_call7_v0 : R S1x1x4x128x1 .f32) ![(.of main_v49_2 : R S_ .i32), (.of main_while0b_call7_c : R S_ .i32), (.of main_while0b_call7_c_0 : R S_ .i32), (.of main_while0b_call7_c_1 : R S_ .i32), (.of main_while0b_call7_c_2 : R S_ .i32)] (.of main_while0b_v138 : R S128x1x4x128x1 .f32) (fun x u i => Host.dynamicUpdateSlice x u (fun k => (i k (Shape.Idx.first h_S_)).toInt) updateFits_S128x1x4x128x1_S1x1x4x128x1) ]
theorem body0Ops4_sub : (body0Ops4 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
theorem body0Ops4_fresh : (body0Ops4 : List (HloOp τ sig (Elt F))).Forall fun op => op.fresh = ∅ :=
  forall_fresh_of_map rfl

/-- Operations of loop 0's body, in order: 6 of them. -/
abbrev body0Ops5 : List (HloOp τ sig (Elt F)) :=
  [ nullary main_while0b_c_22 (constantI S_ 32 1#32),
    binary main_v49_2 main_while0b_c_22 main_while0b_v139 (addi : T F S_ .i32 → T F S_ .i32 → T F S_ .i32),
    unary main_while0b_v139 main_v49_2 id,
    unary main_while0b_v136 main_v49_3 id,
    unary main_while0b_v137 main_v49_4 id,
    unary main_while0b_v138 main_v49_5 id ]
theorem body0Ops5_sub : (body0Ops5 : List (HloOp τ sig (Elt F))).Forall fun op => op.bufs ⊆ tcRefs τ sig :=
  ⟨nullary_bufs_sub .., binary_bufs_sub .., unary_bufs_sub .., unary_bufs_sub .., unary_bufs_sub .., unary_bufs_sub ..⟩
theorem body0Ops5_fresh : (body0Ops5 : List (HloOp τ sig (Elt F))).Forall fun op => op.fresh = ∅ :=
  forall_fresh_of_map rfl

/-- Operations of loop 1's body, in order: 4 of them. -/
abbrev body1Ops0 : List (HloOp τ sig (Elt F)) :=
  [ nullary main_while1b_c_23 (constantI S_ 32 128#32),
    binary main_while1b_c_23 main_v65_3 main_while1b_v131 (subi : T F S_ .i32 → T F S_ .i32 → T F S_ .i32),
    nullary main_while1b_c_24 (constantI S_ 32 1#32),
    binary main_while1b_v131 main_while1b_c_24 main_while1b_v132 (subi : T F S_ .i32 → T F S_ .i32 → T F S_ .i32) ]
theorem body1Ops0_sub : (body1Ops0 : List (HloOp τ sig (Elt F))).Forall fun op => op.bufs ⊆ tcRefs τ sig :=
  ⟨nullary_bufs_sub .., binary_bufs_sub .., nullary_bufs_sub .., binary_bufs_sub ..⟩
theorem body1Ops0_fresh : (body1Ops0 : List (HloOp τ sig (Elt F))).Forall fun op => op.fresh = ∅ :=
  forall_fresh_of_map rfl

/-- Operations of loop 1's body, in order: 6 of them. -/
abbrev body1Ops1 : List (HloOp τ sig (Elt F)) :=
  [ TRef.nullary (.of main_while1b_call8_c : R S_ .i32) (constantI S_ 32 0#32),
    TRef.nullary (.of main_while1b_call8_c_0 : R S_ .i32) (constantI S_ 32 0#32),
    TRef.nullary (.of main_while1b_call8_c_1 : R S_ .i32) (constantI S_ 32 0#32),
    TRef.nullary (.of main_while1b_call8_c_2 : R S_ .i32) (constantI S_ 32 0#32),
    TRef.unaryIndexed (.of main_v65_0 : R S128x1x4x128x256 .f32) ![(.of main_while1b_v132 : R S_ .i32), (.of main_while1b_call8_c : R S_ .i32), (.of main_while1b_call8_c_0 : R S_ .i32), (.of main_while1b_call8_c_1 : R S_ .i32), (.of main_while1b_call8_c_2 : R S_ .i32)] (.of main_while1b_call8_v0 : R S1x1x4x128x256 .f32) (fun x i => Host.dynamicSlice S1x1x4x128x256 x (fun k => (i k (Shape.Idx.first h_S_)).toInt) sliceFits_S128x1x4x128x256_S1x1x4x128x256),
    TRef.reshape (.of main_while1b_call8_v0 : R S1x1x4x128x256 .f32) (.of main_while1b_v133 : R S1x4x128x256 .f32) (rfl : (.f32 : EltTy) = .f32) shapeCasts_S1x1x4x128x256_S1x4x128x256 ]
theorem body1Ops1_sub : (body1Ops1 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
theorem body1Ops1_fresh : (body1Ops1 : List (HloOp τ sig (Elt F))).Forall fun op => op.fresh = ∅ :=
  forall_fresh_of_map rfl

/-- Operations of loop 1's body, in order: 6 of them. -/
abbrev body1Ops2 : List (HloOp τ sig (Elt F)) :=
  [ TRef.nullary (.of main_while1b_call9_c : R S_ .i32) (constantI S_ 32 0#32),
    TRef.nullary (.of main_while1b_call9_c_0 : R S_ .i32) (constantI S_ 32 0#32),
    TRef.nullary (.of main_while1b_call9_c_1 : R S_ .i32) (constantI S_ 32 0#32),
    TRef.nullary (.of main_while1b_call9_c_2 : R S_ .i32) (constantI S_ 32 0#32),
    TRef.unaryIndexed (.of main_v65_1 : R S128x1x4x128x256 .f32) ![(.of main_while1b_v132 : R S_ .i32), (.of main_while1b_call9_c : R S_ .i32), (.of main_while1b_call9_c_0 : R S_ .i32), (.of main_while1b_call9_c_1 : R S_ .i32), (.of main_while1b_call9_c_2 : R S_ .i32)] (.of main_while1b_call9_v0 : R S1x1x4x128x256 .f32) (fun x i => Host.dynamicSlice S1x1x4x128x256 x (fun k => (i k (Shape.Idx.first h_S_)).toInt) sliceFits_S128x1x4x128x256_S1x1x4x128x256),
    TRef.reshape (.of main_while1b_call9_v0 : R S1x1x4x128x256 .f32) (.of main_while1b_v134 : R S1x4x128x256 .f32) (rfl : (.f32 : EltTy) = .f32) shapeCasts_S1x1x4x128x256_S1x4x128x256 ]
theorem body1Ops2_sub : (body1Ops2 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
theorem body1Ops2_fresh : (body1Ops2 : List (HloOp τ sig (Elt F))).Forall fun op => op.fresh = ∅ :=
  forall_fresh_of_map rfl

/-- Operations of loop 1's body, in order: 6 of them. -/
abbrev body1Ops3 : List (HloOp τ sig (Elt F)) :=
  [ TRef.nullary (.of main_while1b_call10_c : R S_ .i32) (constantI S_ 32 0#32),
    TRef.nullary (.of main_while1b_call10_c_0 : R S_ .i32) (constantI S_ 32 0#32),
    TRef.nullary (.of main_while1b_call10_c_1 : R S_ .i32) (constantI S_ 32 0#32),
    TRef.nullary (.of main_while1b_call10_c_2 : R S_ .i32) (constantI S_ 32 0#32),
    TRef.unaryIndexed (.of main_v65_2 : R S128x1x4x128x1 .f32) ![(.of main_while1b_v132 : R S_ .i32), (.of main_while1b_call10_c : R S_ .i32), (.of main_while1b_call10_c_0 : R S_ .i32), (.of main_while1b_call10_c_1 : R S_ .i32), (.of main_while1b_call10_c_2 : R S_ .i32)] (.of main_while1b_call10_v0 : R S1x1x4x128x1 .f32) (fun x i => Host.dynamicSlice S1x1x4x128x1 x (fun k => (i k (Shape.Idx.first h_S_)).toInt) sliceFits_S128x1x4x128x1_S1x1x4x128x1),
    TRef.reshape (.of main_while1b_call10_v0 : R S1x1x4x128x1 .f32) (.of main_while1b_v135 : R S1x4x128x1 .f32) (rfl : (.f32 : EltTy) = .f32) shapeCasts_S1x1x4x128x1_S1x4x128x1 ]
theorem body1Ops3_sub : (body1Ops3 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
theorem body1Ops3_fresh : (body1Ops3 : List (HloOp τ sig (Elt F))).Forall fun op => op.fresh = ∅ :=
  forall_fresh_of_map rfl

/-- Operations of loop 1's body, in order: 10 of them. -/
abbrev body1Ops4 : List (HloOp τ sig (Elt F)) :=
  [ unary main_while1b_v135 main_while1b_v136 (broadcastInDim S1x4x128x256 ![0, 1, 2, 3] bcast_S1x4x128x1_S1x4x128x256_0_1_2_3 : T F S1x4x128x1 .f32 → T F S1x4x128x256 .f32),
    binary main_while1b_v136 main_v65_4 main_while1b_v137 (mulf : T F S1x4x128x256 .f32 → T F S1x4x128x256 .f32 → T F S1x4x128x256 .f32),
    binary main_while1b_v133 main_while1b_v137 main_while1b_v138 (addf : T F S1x4x128x256 .f32 → T F S1x4x128x256 .f32 → T F S1x4x128x256 .f32),
    binary main_v65_4 main_while1b_v134 main_while1b_v139 (mulf : T F S1x4x128x256 .f32 → T F S1x4x128x256 .f32 → T F S1x4x128x256 .f32),
    nullary main_while1b_cst_25 (constant S_ .f32 0x00000000#32),
    binary main_while1b_v139 main_while1b_cst_25 main_while1b_v140 ((fun x v => Host.reduceAdd x v reducesTo_S1x4x128x256_S1x4x128_d3 h_S_) : T F S1x4x128x256 .f32 → T F S_ .f32 → T F S1x4x128 .f32),
    reshape main_while1b_v140 main_while1b_v141 (rfl : (.f32 : EltTy) = .f32) shapeCasts_S1x4x128_S1x4x128x1,
    nullary main_while1b_cst_26 (constant S_ .f32 0x00000000#32),
    binary main_while1b_v141 main_while1b_cst_26 main_while1b_v142 ((fun x v => Host.reduceAdd x v reducesTo_S1x4x128x1_S4x128_d0_3 h_S_) : T F S1x4x128x1 .f32 → T F S_ .f32 → T F S4x128 .f32),
    unary main_while1b_v142 main_while1b_v143 (broadcastInDim S1x4x128 ![1, 2] bcast_S4x128_S1x4x128_1_2 : T F S4x128 .f32 → T F S1x4x128 .f32) ]
theorem body1Ops4_sub : (body1Ops4 : List (HloOp τ sig (Elt F))).Forall fun op => op.bufs ⊆ tcRefs τ sig :=
  ⟨unary_bufs_sub .., binary_bufs_sub .., binary_bufs_sub .., binary_bufs_sub .., nullary_bufs_sub .., binary_bufs_sub .., reshape_bufs_sub .., nullary_bufs_sub .., binary_bufs_sub .., unary_bufs_sub ..⟩
theorem body1Ops4_fresh : (body1Ops4 : List (HloOp τ sig (Elt F))).Forall fun op => op.fresh = ∅ :=
  forall_fresh_of_map rfl

/-- Operations of loop 1's body, in order: 5 of them. -/
abbrev body1Ops5 : List (HloOp τ sig (Elt F)) :=
  [ TRef.unary (.of main_while1b_v143 : R S1x4x128 .f32) (.of main_while1b_call11_v0 : R S1x1x4x128 .f32) (broadcastInDim S1x1x4x128 ![1, 2, 3] bcast_S1x4x128_S1x1x4x128_1_2_3),
    TRef.nullary (.of main_while1b_call11_c : R S_ .i32) (constantI S_ 32 0#32),
    TRef.nullary (.of main_while1b_call11_c_0 : R S_ .i32) (constantI S_ 32 0#32),
    TRef.nullary (.of main_while1b_call11_c_1 : R S_ .i32) (constantI S_ 32 0#32),
    TRef.binaryIndexed (.of main_v65_5 : R S128x1x4x128 .f32) (.of main_while1b_call11_v0 : R S1x1x4x128 .f32) ![(.of main_while1b_v132 : R S_ .i32), (.of main_while1b_call11_c : R S_ .i32), (.of main_while1b_call11_c_0 : R S_ .i32), (.of main_while1b_call11_c_1 : R S_ .i32)] (.of main_while1b_v144 : R S128x1x4x128 .f32) (fun x u i => Host.dynamicUpdateSlice x u (fun k => (i k (Shape.Idx.first h_S_)).toInt) updateFits_S128x1x4x128_S1x1x4x128) ]
theorem body1Ops5_sub : (body1Ops5 : List (HloOp τ sig (Elt F))).Forall fun op => op.bufs ⊆ tcRefs τ sig :=
  ⟨unary_bufs_sub .., nullary_bufs_sub .., nullary_bufs_sub .., nullary_bufs_sub .., binaryIndexed_bufs_sub ..⟩
theorem body1Ops5_fresh : (body1Ops5 : List (HloOp τ sig (Elt F))).Forall fun op => op.fresh = ∅ :=
  forall_fresh_of_map rfl

/-- Operations of loop 1's body, in order: 6 of them. -/
abbrev body1Ops6 : List (HloOp τ sig (Elt F)) :=
  [ TRef.unary (.of main_v65_4 : R S1x4x128x256 .f32) (.of main_while1b_call12_v0 : R S1x1x4x128x256 .f32) (broadcastInDim S1x1x4x128x256 ![1, 2, 3, 4] bcast_S1x4x128x256_S1x1x4x128x256_1_2_3_4),
    TRef.nullary (.of main_while1b_call12_c : R S_ .i32) (constantI S_ 32 0#32),
    TRef.nullary (.of main_while1b_call12_c_0 : R S_ .i32) (constantI S_ 32 0#32),
    TRef.nullary (.of main_while1b_call12_c_1 : R S_ .i32) (constantI S_ 32 0#32),
    TRef.nullary (.of main_while1b_call12_c_2 : R S_ .i32) (constantI S_ 32 0#32),
    TRef.binaryIndexed (.of main_v65_6 : R S128x1x4x128x256 .f32) (.of main_while1b_call12_v0 : R S1x1x4x128x256 .f32) ![(.of main_while1b_v132 : R S_ .i32), (.of main_while1b_call12_c : R S_ .i32), (.of main_while1b_call12_c_0 : R S_ .i32), (.of main_while1b_call12_c_1 : R S_ .i32), (.of main_while1b_call12_c_2 : R S_ .i32)] (.of main_while1b_v145 : R S128x1x4x128x256 .f32) (fun x u i => Host.dynamicUpdateSlice x u (fun k => (i k (Shape.Idx.first h_S_)).toInt) updateFits_S128x1x4x128x256_S1x1x4x128x256) ]
theorem body1Ops6_sub : (body1Ops6 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
theorem body1Ops6_fresh : (body1Ops6 : List (HloOp τ sig (Elt F))).Forall fun op => op.fresh = ∅ :=
  forall_fresh_of_map rfl

/-- Operations of loop 1's body, in order: 6 of them. -/
abbrev body1Ops7 : List (HloOp τ sig (Elt F)) :=
  [ nullary main_while1b_c_27 (constantI S_ 32 1#32),
    binary main_v65_3 main_while1b_c_27 main_while1b_v146 (addi : T F S_ .i32 → T F S_ .i32 → T F S_ .i32),
    unary main_while1b_v146 main_v65_3 id,
    unary main_while1b_v138 main_v65_4 id,
    unary main_while1b_v144 main_v65_5 id,
    unary main_while1b_v145 main_v65_6 id ]
theorem body1Ops7_sub : (body1Ops7 : List (HloOp τ sig (Elt F))).Forall fun op => op.bufs ⊆ tcRefs τ sig :=
  ⟨nullary_bufs_sub .., binary_bufs_sub .., unary_bufs_sub .., unary_bufs_sub .., unary_bufs_sub .., unary_bufs_sub ..⟩
theorem body1Ops7_fresh : (body1Ops7 : List (HloOp τ sig (Elt F))).Forall fun op => op.fresh = ∅ :=
  forall_fresh_of_map rfl

/-- The stretches: before the first loop. -/
abbrev preI : List (List (HloOp τ sig (Elt F))) := [preOps0, preOps1, preOps2, preOps3, preOps4, preOps5, preOps6, preOps7, preOps8, preOps9]
theorem pre_plain : Plain (preI (F := F)) := .cons preOps0_sub (hf := List.forall_iff_forall_mem.mp preOps0_fresh) (.cons preOps1_sub (hf := List.forall_iff_forall_mem.mp preOps1_fresh) (.cons preOps2_sub (hf := List.forall_iff_forall_mem.mp preOps2_fresh) (.cons preOps3_sub (hf := List.forall_iff_forall_mem.mp preOps3_fresh) (.cons preOps4_sub (hf := List.forall_iff_forall_mem.mp preOps4_fresh) (.cons preOps5_sub (hf := List.forall_iff_forall_mem.mp preOps5_fresh) (.cons preOps6_sub (hf := List.forall_iff_forall_mem.mp preOps6_fresh) (.cons preOps7_sub (hf := List.forall_iff_forall_mem.mp preOps7_fresh) (.cons preOps8_sub (hf := List.forall_iff_forall_mem.mp preOps8_fresh) (.cons preOps9_sub (hf := List.forall_iff_forall_mem.mp preOps9_fresh) (.nil))))))))))
/-- What they write, in order. -/
abbrev preW : List (Ref sig .tc) := [main_v0, main_v1, main_v2, main_v3, main_v4, main_v5, main_v6, main_v7, main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v8_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v8_2, main_v8_0, main_cst, main_v9, main_v10, main_v11, main_v12, main_v13, main_v14, main_v15, main_v16, main_call1_call0_cst, main_call1_call0_v0, main_v17, main_v18, main_v19, main_v20, main_v21, main_v22, main_v23, main_v24, main_v25, main_v26, main_v27, main_cst_0, main_v28, main_v29, main_v30, main_v31, main_v32, main_v33, main_v34, main_v35, main_v36, main_v37, main_v38, main_c, main_v39, main_call2_v0, main_call2_c, main_call2_v1, main_call2_v2, main_call2_v3, main_call2_v4, main_call2_c_0, main_call2_v5, main_v40, main_v41, main_cst_1, main_call3_v0, main_v42_1, main_call3_v2, main_v42_0, main_call3_cst, main_v42_2, main_v43, main_cst_2, main_v44, main_v45, main_v46, main_cst_3, main_v47, main_cst_4, main_v48, main_c_5, main_v49_0, main_v49_1, main_v49_2, main_v49_3, main_v49_4, main_v49_5]
theorem pre_writes : (preI (F := F)).flatten.map HloOp.writes = preW.map fun w => {Proc.devRef (τ := τ) .tc w} := rfl

/-- The stretches: between the loops. -/
abbrev midI : List (List (HloOp τ sig (Elt F))) := [midOps0]
theorem mid_plain : Plain (midI (F := F)) := .cons midOps0_sub (hf := List.forall_iff_forall_mem.mp midOps0_fresh) (.nil)
/-- What they write, in order. -/
abbrev midW : List (Ref sig .tc) := [main_v50, main_v51, main_v52, main_v53, main_v54, main_cst_6, main_v55, main_v56, main_v57, main_v58, main_v59, main_v60, main_v61, main_cst_7, main_v62, main_cst_8, main_v63, main_cst_9, main_v64, main_c_10, main_v65_0, main_v65_1, main_v65_2, main_v65_3, main_v65_4, main_v65_5, main_v65_6]
theorem mid_writes : (midI (F := F)).flatten.map HloOp.writes = midW.map fun w => {Proc.devRef (τ := τ) .tc w} := rfl

/-- The stretches: after the second loop. -/
abbrev postI : List (List (HloOp τ sig (Elt F))) := [postOps0, postOps1, postOps2, postOps3, postOps4, postOps5, postOps6, postOps7]
theorem post_plain : Plain (postI (F := F)) := .cons postOps0_sub (hf := List.forall_iff_forall_mem.mp postOps0_fresh) (.cons postOps1_sub (hf := List.forall_iff_forall_mem.mp postOps1_fresh) (.cons postOps2_sub (hf := List.forall_iff_forall_mem.mp postOps2_fresh) (.cons postOps3_sub (hf := List.forall_iff_forall_mem.mp postOps3_fresh) (.cons postOps4_sub (hf := List.forall_iff_forall_mem.mp postOps4_fresh) (.cons postOps5_sub (hf := List.forall_iff_forall_mem.mp postOps5_fresh) (.cons postOps6_sub (hf := List.forall_iff_forall_mem.mp postOps6_fresh) (.cons postOps7_sub (hf := List.forall_iff_forall_mem.mp postOps7_fresh) (.nil))))))))
/-- What they write, in order. -/
abbrev postW : List (Ref sig .tc) := [main_v66, main_v67, main_v68, main_v69, main_v70, main_call13_cst, main_call13_v0, main_v71, main_v72, main_v73, main_v74, main_v75, main_v76, main_v77, main_v78, main_v79, main_v80, main_v81, main_v82, main_v83, main_v84, main_v85, main_v86, main_cst_11, main_v87, main_v88, main_v89, main_v90, main_v91, main_v92, main_v93, main_v94, main_v95, main_v96, main_v97, main_v98, main_v99, main_cst_12, main_v100, main_v101, main_v102, main_v103, main_v104, main_cst_13, main_v105, main_v106, main_call14_call0_cst, main_call14_call0_v0, main_v107, main_v108, main_v109, main_v110, main_v111, main_v112, main_v113, main_v114, main_v115, main_cst_14, main_v116, main_v117, main_call15_v0, main_call15_v1, main_v118, main_cst_15, main_v119, main_v120, main_cst_16, main_v121, main_v122, main_v123, main_v124, main_v125, main_v126, main_v127, main_v128, main_v129, main_v130]
theorem post_writes : (postI (F := F)).flatten.map HloOp.writes = postW.map fun w => {Proc.devRef (τ := τ) .tc w} := rfl

/-- The stretches: the first loop's body. -/
abbrev body0I : List (List (HloOp τ sig (Elt F))) := [body0Ops0, body0Ops1, body0Ops2, body0Ops3, body0Ops4, body0Ops5]
theorem body0_plain : Plain (body0I (F := F)) := .cons body0Ops0_sub (hf := List.forall_iff_forall_mem.mp body0Ops0_fresh) (.cons body0Ops1_sub (hf := List.forall_iff_forall_mem.mp body0Ops1_fresh) (.cons body0Ops2_sub (hf := List.forall_iff_forall_mem.mp body0Ops2_fresh) (.cons body0Ops3_sub (hf := List.forall_iff_forall_mem.mp body0Ops3_fresh) (.cons body0Ops4_sub (hf := List.forall_iff_forall_mem.mp body0Ops4_fresh) (.cons body0Ops5_sub (hf := List.forall_iff_forall_mem.mp body0Ops5_fresh) (.nil))))))
/-- What they write, in order. -/
abbrev body0W : List (Ref sig .tc) := [main_while0b_call4_c, main_while0b_call4_c_0, main_while0b_call4_c_1, main_while0b_call4_v0, main_while0b_v131, main_while0b_call5_c, main_while0b_call5_c_0, main_while0b_call5_c_1, main_while0b_call5_c_2, main_while0b_call5_v0, main_while0b_v132, main_while0b_v133, main_while0b_v134, main_while0b_v135, main_while0b_v136, main_while0b_call6_v0, main_while0b_call6_c, main_while0b_call6_c_0, main_while0b_call6_c_1, main_while0b_call6_c_2, main_while0b_v137, main_while0b_call7_v0, main_while0b_call7_c, main_while0b_call7_c_0, main_while0b_call7_c_1, main_while0b_call7_c_2, main_while0b_v138, main_while0b_c_22, main_while0b_v139, main_v49_2, main_v49_3, main_v49_4, main_v49_5]
theorem body0_writes : (body0I (F := F)).flatten.map HloOp.writes = body0W.map fun w => {Proc.devRef (τ := τ) .tc w} := rfl

/-- The stretches: the second loop's body. -/
abbrev body1I : List (List (HloOp τ sig (Elt F))) := [body1Ops0, body1Ops1, body1Ops2, body1Ops3, body1Ops4, body1Ops5, body1Ops6, body1Ops7]
theorem body1_plain : Plain (body1I (F := F)) := .cons body1Ops0_sub (hf := List.forall_iff_forall_mem.mp body1Ops0_fresh) (.cons body1Ops1_sub (hf := List.forall_iff_forall_mem.mp body1Ops1_fresh) (.cons body1Ops2_sub (hf := List.forall_iff_forall_mem.mp body1Ops2_fresh) (.cons body1Ops3_sub (hf := List.forall_iff_forall_mem.mp body1Ops3_fresh) (.cons body1Ops4_sub (hf := List.forall_iff_forall_mem.mp body1Ops4_fresh) (.cons body1Ops5_sub (hf := List.forall_iff_forall_mem.mp body1Ops5_fresh) (.cons body1Ops6_sub (hf := List.forall_iff_forall_mem.mp body1Ops6_fresh) (.cons body1Ops7_sub (hf := List.forall_iff_forall_mem.mp body1Ops7_fresh) (.nil))))))))
/-- What they write, in order. -/
abbrev body1W : List (Ref sig .tc) := [main_while1b_c_23, main_while1b_v131, main_while1b_c_24, main_while1b_v132, main_while1b_call8_c, main_while1b_call8_c_0, main_while1b_call8_c_1, main_while1b_call8_c_2, main_while1b_call8_v0, main_while1b_v133, main_while1b_call9_c, main_while1b_call9_c_0, main_while1b_call9_c_1, main_while1b_call9_c_2, main_while1b_call9_v0, main_while1b_v134, main_while1b_call10_c, main_while1b_call10_c_0, main_while1b_call10_c_1, main_while1b_call10_c_2, main_while1b_call10_v0, main_while1b_v135, main_while1b_v136, main_while1b_v137, main_while1b_v138, main_while1b_v139, main_while1b_cst_25, main_while1b_v140, main_while1b_v141, main_while1b_cst_26, main_while1b_v142, main_while1b_v143, main_while1b_call11_v0, main_while1b_call11_c, main_while1b_call11_c_0, main_while1b_call11_c_1, main_while1b_v144, main_while1b_call12_v0, main_while1b_call12_c, main_while1b_call12_c_0, main_while1b_call12_c_1, main_while1b_call12_c_2, main_while1b_v145, main_while1b_c_27, main_while1b_v146, main_v65_3, main_v65_4, main_v65_5, main_v65_6]
theorem body1_writes : (body1I (F := F)).flatten.map HloOp.writes = body1W.map fun w => {Proc.devRef (τ := τ) .tc w} := rfl

/-! The printed blocks are the chains of their stretches. -/

theorem main_part0_chain (c : Dev nD) : main_part0 (F := F) c = (Pipeline.chainK
  [ seq preOps0,
    seq preOps1,
    seq preOps2,
    seq preOps3,
    seq preOps4,
    seq preOps5,
    seq preOps6,
    seq preOps7 ]
  (seq preOps8) : Prog (TpuEff nD τ sig (Elt F) (HostLoop.Sig (Pipeline.Sig Λ₀ (Fin 0) fun p => (pcfgs (F := F) p).Adm) 2) .tc) PUnit) := by
  rewrite [chainK_seq_cons, Pipeline.chainK_cons, chainK_seq_cons, Pipeline.chainK_cons, chainK_seq_cons, Pipeline.chainK_cons, chainK_seq_cons, Pipeline.chainK_cons]
  chain_rfl

theorem main_part1_chain (c : Dev nD) : main_part1 (F := F) c = (Pipeline.chainK
  [ seq preOps9,
    HostLoop.enter 0,
    seq midOps0,
    HostLoop.enter 1,
    seq postOps0,
    seq postOps1 ]
  (seq postOps2) : Prog (TpuEff nD τ sig (Elt F) (HostLoop.Sig (Pipeline.Sig Λ₀ (Fin 0) fun p => (pcfgs (F := F) p).Adm) 2) .tc) PUnit) := by
  rewrite [chainK_seq_cons, Pipeline.chainK_cons, chainK_seq_cons, Pipeline.chainK_cons, chainK_seq_cons, Pipeline.chainK_cons]
  chain_rfl

theorem main_part2_chain (c : Dev nD) : main_part2 (F := F) c = (Pipeline.chain
  [ seq postOps3,
    seq postOps4,
    seq postOps5,
    seq postOps6,
    seq postOps7 ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons, Pipeline.chain_cons, chain_seq_cons]
  chain_rfl

theorem main_while0_body_chain : main_while0_body (F := F) = (Pipeline.chain
  [ seq body0Ops0,
    seq body0Ops1,
    seq body0Ops2,
    seq body0Ops3,
    seq body0Ops4,
    seq body0Ops5 ] : Prog (TpuEff nD τ sig (Elt F) (HostLoop.Sig (Pipeline.Sig Λ₀ (Fin 0) fun p => (pcfgs (F := F) p).Adm) 2) .tc) PUnit) := by
  rewrite [Pipeline.chain_cons, Pipeline.chain_cons, chain_seq_cons, Pipeline.chain_cons, Pipeline.chain_cons, chain_seq_cons]
  chain_rfl

theorem main_while1_body_chain : main_while1_body (F := F) = (Pipeline.chain
  [ seq body1Ops0,
    seq body1Ops1,
    seq body1Ops2,
    seq body1Ops3,
    seq body1Ops4,
    seq body1Ops5,
    seq body1Ops6,
    seq body1Ops7 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, chain_seq_cons, Pipeline.chain_cons, Pipeline.chain_cons, chain_seq_cons]
  chain_rfl

theorem main_chain (c : Dev nD) : main (F := F) c = (Pipeline.chain
  [ seq preOps0,
    seq preOps1,
    seq preOps2,
    seq preOps3,
    seq preOps4,
    seq preOps5,
    seq preOps6,
    seq preOps7,
    seq preOps8,
    seq preOps9,
    HostLoop.enter 0,
    seq midOps0,
    HostLoop.enter 1,
    seq postOps0,
    seq postOps1,
    seq postOps2,
    seq postOps3,
    seq postOps4,
    seq postOps5,
    seq postOps6,
    seq postOps7 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, main_part0_chain, Pipeline.chainK_bind_chain, Pipeline.chainK_bind_chain]
  chain_rfl

end Cert.ReferenceIdeal.Ref

end
-- ==== Proof.RefFold.lean ====
/-
  The reference's run: what every buffer holds at the stages of its program (before the loops, at each trip, between,
  after), the loops' counters, and the run to the last of them.
-/
module

public import proofs.«01_k».proof.Proof.RefOps

@[expose] public section

set_option maxRecDepth 100000

noncomputable section

namespace Cert.ReferenceIdeal.Ref

open Cert.ReferenceIdeal Cert.ReferenceIdeal.Gen Cert.TwoLoops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The first loop's condition: its bound, and the counter compared with it. -/
abbrev cond0 : List (HloOp τ sig (Elt F)) :=
  [ nullary main_while0c_c_22 (constantI S_ 32 128#32),
    binary main_v49_2 main_while0c_c_22 main_while0c_v131 (cmpi .slt) ]
/-- The second loop's. -/
abbrev cond1 : List (HloOp τ sig (Elt F)) :=
  [ nullary main_while1c_c_23 (constantI S_ 32 128#32),
    binary main_v65_3 main_while1c_c_23 main_while1c_v131 (cmpi .slt) ]
abbrev cond0W : List (Ref sig .tc) := [main_while0c_c_22, main_while0c_v131]
abbrev cond1W : List (Ref sig .tc) := [main_while1c_c_23, main_while1c_v131]
theorem cond0_writes : (cond0 (F := F)).map HloOp.writes = cond0W.map fun w => {Proc.devRef (τ := τ) .tc w} := rfl
theorem cond1_writes : (cond1 (F := F)).map HloOp.writes = cond1W.map fun w => {Proc.devRef (τ := τ) .tc w} := rfl

variable (m : (ℓ : Loc nD τ sig) → Buf (Elt F) ℓ) (ρ : Dev nD → PrngReg)

/-- Before the first loop. -/
def S1 (c : Dev nD) : Valuation τ sig (Elt F) := after preI.flatten (launchContents m c)
/-- Before trip `k` of the first loop. -/
abbrev A0 (k : ℕ) (c : Dev nD) : Valuation τ sig (Elt F) := atTrip cond0 body0I (S1 m) k c
/-- Before the second loop. -/
def S2 (c : Dev nD) : Valuation τ sig (Elt F) := after midI.flatten (after cond0 (A0 m 128 c))
/-- Before trip `k` of the second loop. -/
abbrev A1 (k : ℕ) (c : Dev nD) : Valuation τ sig (Elt F) := atTrip cond1 body1I (S2 m) k c
/-- At the end. -/
def S3 (c : Dev nD) : Valuation τ sig (Elt F) := after postI.flatten (after cond1 (A1 m 128 c))

/-- A trip's body is one line. -/
theorem A0_succ (k : ℕ) (c : Dev nD) : A0 m (k + 1) c = after body0I.flatten (after cond0 (A0 m k c)) :=
  afterL_eq_after_flatten _ _
theorem A1_succ (k : ℕ) (c : Dev nD) : A1 m (k + 1) c = after body1I.flatten (after cond1 (A1 m k c)) :=
  afterL_eq_after_flatten _ _

/-! ## What is kept from stage to stage -/

theorem A0_keep (c : Dev nD) {r : Ref sig .tc} (h : r ∉ cond0W ++ body0W) :
    ∀ k, A0 m k c (Proc.devRef .tc r) = S1 m c (Proc.devRef .tc r)
  | 0 => rfl
  | k + 1 => by
    rw [A0_succ, after_unwritten body0W body0_writes (fun h' => h (List.mem_append_right _ h')),
      after_unwritten cond0W cond0_writes (fun h' => h (List.mem_append_left _ h')), A0_keep c h k]

theorem A1_keep (c : Dev nD) {r : Ref sig .tc} (h : r ∉ cond1W ++ body1W) :
    ∀ k, A1 m k c (Proc.devRef .tc r) = S2 m c (Proc.devRef .tc r)
  | 0 => rfl
  | k + 1 => by
    rw [A1_succ, after_unwritten body1W body1_writes (fun h' => h (List.mem_append_right _ h')),
      after_unwritten cond1W cond1_writes (fun h' => h (List.mem_append_left _ h')), A1_keep c h k]

/-- What is written after the second loop's start, and after the first's. -/
abbrev lateW : List (Ref sig .tc) := cond1W ++ body1W ++ postW
abbrev laterW : List (Ref sig .tc) := cond0W ++ body0W ++ (cond0W ++ midW) ++ lateW

theorem keep_post (c : Dev nD) (r : Ref sig .tc) (h : r ∉ ([] : List (Ref sig .tc))) :
    S3 m c (Proc.devRef .tc r) = after postI.flatten (after cond1 (A1 m 128 c)) (Proc.devRef .tc r) := rfl

theorem keep_loop1 (c : Dev nD) (r : Ref sig .tc) (h : r ∉ cond1W ++ postW) :
    S3 m c (Proc.devRef .tc r) = A1 m 128 c (Proc.devRef .tc r) := by
  rw [S3, after_unwritten postW post_writes (fun h' => h (List.mem_append_right _ h')),
    after_unwritten cond1W cond1_writes (fun h' => h (List.mem_append_left _ h'))]

theorem keep_mid (c : Dev nD) (r : Ref sig .tc) (h : r ∉ lateW) :
    S3 m c (Proc.devRef .tc r) = after midI.flatten (after cond0 (A0 m 128 c)) (Proc.devRef .tc r) := by
  have h1 : r ∉ cond1W ++ body1W := fun h' => h (List.mem_append_left _ h')
  rw [keep_loop1 m c r (fun h' => (List.mem_append.mp h').elim (fun a => h1 (List.mem_append_left _ a)) (fun a => h (List.mem_append_right _ a))),
    A1_keep m c h1, S2]

theorem keep_loop0 (c : Dev nD) (r : Ref sig .tc) (h : r ∉ (cond0W ++ midW) ++ lateW) :
    S3 m c (Proc.devRef .tc r) = A0 m 128 c (Proc.devRef .tc r) := by
  have h1 : r ∉ cond0W ++ midW := fun h' => h (List.mem_append_left _ h')
  rw [keep_mid m c r (fun h' => h (List.mem_append_right _ h')),
    after_unwritten midW mid_writes (fun h' => h1 (List.mem_append_right _ h')),
    after_unwritten cond0W cond0_writes (fun h' => h1 (List.mem_append_left _ h'))]

theorem keep_pre (c : Dev nD) (r : Ref sig .tc) (h : r ∉ laterW) :
    S3 m c (Proc.devRef .tc r) = after preI.flatten (launchContents m c) (Proc.devRef .tc r) := by
  have h1 : r ∉ cond0W ++ body0W := fun h' => h (List.mem_append_left _ (List.mem_append_left _ h'))
  rw [keep_loop0 m c r (fun h' => h ((List.mem_append.mp h').elim (fun a => List.mem_append_left _ (List.mem_append_right _ a)) (fun a => List.mem_append_right _ a))),
    A0_keep m c h1, S1]

/-! ## The counters -/

theorem step0 (X : Valuation τ sig (Elt F)) :
    after body0I.flatten X (Proc.devRef .tc main_v49_2) = addi (X (Proc.devRef .tc main_v49_2)) (constantI S_ 32 1#32) := by
  rw [at_last body0_writes 29 (op := unary main_while0b_v139 main_v49_2 id) rfl (by decide +kernel), unary_result,
    upto_late body0_writes 29 (by decide +kernel)]
  rw [at_last body0_writes 28 (op := binary main_v49_2 main_while0b_c_22 main_while0b_v139 addi) rfl (by decide +kernel), binary_result,
    upto_early body0_writes 28 (by decide +kernel), upto_late body0_writes 28 (by decide +kernel)]
  rw [at_last body0_writes 27 (op := nullary main_while0b_c_22 (constantI S_ 32 1#32)) rfl (by decide +kernel), nullary_result]
  rfl

theorem step1 (X : Valuation τ sig (Elt F)) :
    after body1I.flatten X (Proc.devRef .tc main_v65_3) = addi (X (Proc.devRef .tc main_v65_3)) (constantI S_ 32 1#32) := by
  rw [at_last body1_writes 45 (op := unary main_while1b_v146 main_v65_3 id) rfl (by decide +kernel), unary_result,
    upto_late body1_writes 45 (by decide +kernel)]
  rw [at_last body1_writes 44 (op := binary main_v65_3 main_while1b_c_27 main_while1b_v146 addi) rfl (by decide +kernel), binary_result,
    upto_early body1_writes 44 (by decide +kernel), upto_late body1_writes 44 (by decide +kernel)]
  rw [at_last body1_writes 43 (op := nullary main_while1b_c_27 (constantI S_ 32 1#32)) rfl (by decide +kernel), nullary_result]
  rfl

theorem start0 (c : Dev nD) : S1 m c (Proc.devRef .tc main_v49_2) = fun _ => (0#32 : BitVec 32) := by
  rw [S1, una pre_writes (L := []) (fun _ _ => rfl) 121 main_c_5 main_v49_2 (f := id) rfl (by decide +kernel),
    nul pre_writes (L := []) (fun _ _ => rfl) 118 main_c_5 (v := constantI S_ 32 0#32) rfl (by decide +kernel)]
  rfl

theorem start1 (c : Dev nD) : S2 m c (Proc.devRef .tc main_v65_3) = fun _ => (0#32 : BitVec 32) := by
  rw [S2, una mid_writes (L := []) (fun _ _ => rfl) 23 main_c_10 main_v65_3 (f := id) rfl (by decide +kernel),
    nul mid_writes (L := []) (fun _ _ => rfl) 19 main_c_10 (v := constantI S_ 32 0#32) rfl (by decide +kernel)]
  rfl

/-- Before trip `k` the counter is `k`. -/
theorem ctr0 (c : Dev nD) : ∀ k, A0 m k c (Proc.devRef .tc main_v49_2) = fun _ => Scf.iv 0#32 1#32 k
  | 0 => by rw [show A0 m 0 c = S1 m c from rfl, start0, Scf.iv_zero]
  | k + 1 => by
    rw [A0_succ, step0, after_unwritten cond0W cond0_writes (by decide +kernel), ctr0 c k, Scf.iv_succ]
    rfl

theorem ctr1 (c : Dev nD) : ∀ k, A1 m k c (Proc.devRef .tc main_v65_3) = fun _ => Scf.iv 0#32 1#32 k
  | 0 => by rw [show A1 m 0 c = S2 m c from rfl, start1, Scf.iv_zero]
  | k + 1 => by
    rw [A1_succ, step1, after_unwritten cond1W cond1_writes (by decide +kernel), ctr1 c k, Scf.iv_succ]
    rfl

set_option backward.isDefEq.respectTransparency.types false in
theorem cond0_spec : CondSpec (pcfgs (F := F)) defs₀ loops (main_while0_cond (F := F)) cond0 body0I (S1 m) 128 := by
  intro k hk c bd
  have hctr := ctr0 m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (A0 m k c) main_v49_2 HostLoop.idx0)
        (HloOp.result _ (A0 m k c) main_while0c_c_22 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  rw [after_cons, after_cons, after_nil]; iexact Hh

set_option backward.isDefEq.respectTransparency.types false in
theorem cond1_spec : CondSpec (pcfgs (F := F)) defs₀ loops (main_while1_cond (F := F)) cond1 body1I (S2 m) 128 := by
  intro k hk c bd
  have hctr := ctr1 m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (A1 m k c) main_v65_3 HostLoop.idx0)
        (HloOp.result _ (A1 m k c) main_while1c_c_23 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  rw [after_cons, after_cons, after_nil]; iexact Hh

/-- From any memory with zero counters the reference's run ends with every buffer at `S3`. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = S3 m c (Proc.devRef .tc b)) :=
  run_two_loops (pcs := pcfgs (F := F)) (defs₀ := defs₀) (loops := loops) main 0 1 main_while0_cond main_while1_cond
    main_while0_body main_while1_body rfl rfl preI body0I midI body1I postI cond0 cond1 pre_plain body0_plain mid_plain body1_plain post_plain
    (fun c => by rw [main_chain]; rfl) (by rw [main_while0_body_chain]; rfl) (by rw [main_while1_body_chain]; rfl)
    128 128 m ρ (S1 m) (S2 m) (S3 m)
    (by funext c; exact (afterL_eq_after_flatten _ _).symm) (by funext c; exact (afterL_eq_after_flatten _ _).symm)
    (by funext c; exact (afterL_eq_after_flatten _ _).symm) (cond0_spec m) (cond1_spec m)

/-- No semaphore is declared, so none is left counted. -/
theorem sems_zero {α : Type} [Zero α] (f : GSem nD τ sig → α) : f = fun _ => 0 := by
  funext s
  obtain ⟨d, s⟩ := s
  cases s with
  | reg s => exact Fin.elim0 s
  | dma s => exact Fin.elim0 s

/-- An argument is written nowhere. -/
theorem arg_kept (c : Dev nD) {r : Ref sig .tc} (h : r ∉ preW ++ laterW) :
    S3 m c (Proc.devRef .tc r) = m ((c.tc : Thread nD τ).loc r) := by
  rw [keep_pre m c r (fun h' => h (List.mem_append_right _ h')),
    after_unwritten preW pre_writes (fun h' => h (List.mem_append_left _ h'))]

end Cert.ReferenceIdeal.Ref

end
-- ==== Proof.RefFrame.lean ====
/-
  The reference's frame: its arguments end as they were, and no semaphore is left counted.
-/
module

public import proofs.«01_k».proof.Defs
public import proofs.«01_k».proof.Proof.RefFold

@[expose] public section

set_option maxRecDepth 100000

noncomputable section

open Idealize.ShloMosaic Idealize.SL.Sem

/-- The reference's frame. -/
theorem Cert.Proof.frame_referenceIdeal : @Cert.quiescent_ReferenceIdeal Cert.ReferenceIdeal.Gen.facts := by
  intro m ρ _
  refine (θ_run Cert.ReferenceIdeal.defs _ _).mono (fun r h => ?_) (Cert.ReferenceIdeal.Ref.run (F := Ideal) m ρ)
  refine ⟨fun c => ⟨?_, ?_, ?_, ?_⟩, Cert.ReferenceIdeal.Ref.sems_zero _⟩
  · exact (h c _ (by decide +kernel)).trans (Cert.ReferenceIdeal.Ref.arg_kept m c (by decide +kernel))
  · exact (h c _ (by decide +kernel)).trans (Cert.ReferenceIdeal.Ref.arg_kept m c (by decide +kernel))
  · exact (h c _ (by decide +kernel)).trans (Cert.ReferenceIdeal.Ref.arg_kept m c (by decide +kernel))
  · exact (h c _ (by decide +kernel)).trans (Cert.ReferenceIdeal.Ref.arg_kept m c (by decide +kernel))

end
-- ==== Proof.Chunk.lean ====
/- One chunk of 64 rows of the gated linear attention: the vector expressions both kernel bodies evaluate on it. -/
module

public import proofs.«01_k».proof.Proof.Gen.KernelIdeal

@[expose] public section

set_option maxRecDepth 16384

noncomputable section

namespace Cert.KernelIdeal.Chunk

open Cert.KernelIdeal.Gen
open Idealize.ShloMosaic

variable {F : FTy → Type} [FloatOps F]

/-- The gate's argument: the low-rank projection's rows times the padded gate weights, plus the bias row. -/
def zAll (x3 : FVec F S512x128 .f32) (x4 : FVec F S128x128 .f32) (x5 : FVec F S1x128 .f32) : FVec F S512x128 .f32 :=
  addf (matmul dot_S512x128_S128x128_S512x128_1_0_0_1_n_n none
      (truncf .bf16 (shapeCast S512x128 x3 shapeCasts_S512x128_S512x128) bitsLt_bf16_f32)
      (truncf .bf16 (shapeCast S128x128 x4 shapeCasts_S128x128_S128x128) bitsLt_bf16_f32) (constant S512x128 .f32 0x00000000#32))
    (broadcastTo S512x128 (shapeCast S1x128 x5 shapeCasts_S1x128_S1x128) broadcasts_S1x128_S512x128)

/-- The gate's logarithm divided by the temperature. -/
def gAll (z : FVec F S512x128 .f32) : FVec F S512x128 .f32 :=
  divf (subf (broadcast S512x128 (Scalar.ofBits .f32 0x00000000#32))
      (addf (maximumf (subf (broadcast S512x128 (Scalar.ofBits .f32 0x00000000#32)) z) (broadcast S512x128 (Scalar.ofBits .f32 0x00000000#32)))
        (log1p (exp (subf (broadcast S512x128 (Scalar.ofBits .f32 0x00000000#32)) (absf z))))))
    (broadcast S512x128 (Scalar.ofBits .f32 0x41800000#32))

/-- Row at or after column. -/
def mask : IVec S64x64 1 :=
  cmpi .sge (iota .tc S64x64 32 [0] iota_S64x64_d0_w32) (iota .tc S64x64 32 [1] iota_S64x64_d1_w32)

/-- The running sum of the gate down the rows, as a product with the 0/1 mask. -/
def cum (g : FVec F S64x128 .f32) : FVec F S64x128 .f32 :=
  matmul dot_S64x64_S64x128_S64x128_1_0_0_1_n_n (some .fp32) (sitofp .f32 (extui 32 mask natLt_1_32)) g (constant S64x128 .f32 0x00000000#32)

/-- The chunk's whole gate: the running sum's last row. -/
def last (g : FVec F S64x128 .f32) : FVec F S1x128 .f32 :=
  extractStridedSlice S1x128 ![63, 0] (cum g) slices_S64x128_o63_0_S1x128

def qT (q g : FVec F S64x128 .f32) : FVec F S64x128 .f32 :=
  mulf (mulf (shapeCast S64x128 q shapeCasts_S64x128_S64x128) (broadcast S64x128 (Scalar.ofBits .f32 0x3DB504F3#32))) (exp (cum g))

def eN (g : FVec F S64x128 .f32) : FVec F S64x128 .f32 :=
  exp (subf (broadcast S64x128 (Scalar.ofBits .f32 0x00000000#32)) (cum g))

def eL (g : FVec F S64x128 .f32) : FVec F S64x128 .f32 :=
  exp (subf (broadcastTo S64x128 (last g) broadcasts_S1x128_S64x128) (cum g))

def kT (k g : FVec F S64x128 .f32) : FVec F S64x128 .f32 :=
  mulf (shapeCast S64x128 k shapeCasts_S64x128_S64x128) (eN g)

def kD (k g : FVec F S64x128 .f32) : FVec F S64x128 .f32 :=
  mulf (shapeCast S64x128 k shapeCasts_S64x128_S64x128) (eL g)

/-- The chunk's causal scores. -/
def aM (q k g : FVec F S64x128 .f32) : FVec F S64x64 .f32 :=
  select mask (matmul dot_S64x128_S64x128_S64x64_1_1_0_0_n_n none (truncf .bf16 (qT q g) bitsLt_bf16_f32)
    (truncf .bf16 (kT k g) bitsLt_bf16_f32) (constant S64x64 .f32 0x00000000#32)) (broadcast S64x64 (Scalar.ofBits .f32 0x00000000#32))

def vv (v : FVec F S64x256 .f32) : FVec F S64x256 .f32 := shapeCast S64x256 v shapeCasts_S64x256_S64x256

/-- The chunk's output rows. -/
def oC (q k g : FVec F S64x128 .f32) (v : FVec F S64x256 .f32) (st : FVec F S256x128 .f32) : FVec F S64x256 .f32 :=
  addf (matmul dot_S64x64_S64x256_S64x256_1_0_0_1_n_n none (truncf .bf16 (aM q k g) bitsLt_bf16_f32) (truncf .bf16 (vv v) bitsLt_bf16_f32)
      (constant S64x256 .f32 0x00000000#32))
    (matmul dot_S64x128_S256x128_S64x256_1_1_0_0_n_n none (truncf .bf16 (qT q g) bitsLt_bf16_f32) (truncf .bf16 st bitsLt_bf16_f32)
      (constant S64x256 .f32 0x00000000#32))

/-- The state after the chunk. -/
def nS (k g : FVec F S64x128 .f32) (v : FVec F S64x256 .f32) (st : FVec F S256x128 .f32) : FVec F S256x128 .f32 :=
  addf (mulf st (broadcastTo S256x128 (exp (last g)) broadcasts_S1x128_S256x128))
    (matmul dot_S64x256_S64x128_S256x128_0_0_1_1_n_n none (truncf .bf16 (vv v) bitsLt_bf16_f32) (truncf .bf16 (kD k g) bitsLt_bf16_f32)
      (constant S256x128 .f32 0x00000000#32))

/-- The cotangent of the scores. -/
def dA (dO v : FVec F S64x256 .f32) : FVec F S64x64 .f32 :=
  select mask (matmul dot_S64x256_S64x256_S64x64_1_1_0_0_n_n none (truncf .bf16 (vv dO) bitsLt_bf16_f32)
    (truncf .bf16 (vv v) bitsLt_bf16_f32) (constant S64x64 .f32 0x00000000#32)) (broadcast S64x64 (Scalar.ofBits .f32 0x00000000#32))

def dV (q k g : FVec F S64x128 .f32) (dO : FVec F S64x256 .f32) (dst : FVec F S256x128 .f32) : FVec F S64x256 .bf16 :=
  truncf .bf16 (addf (matmul dot_S64x64_S64x256_S64x256_0_0_1_1_n_n none (truncf .bf16 (aM q k g) bitsLt_bf16_f32)
      (truncf .bf16 (vv dO) bitsLt_bf16_f32) (constant S64x256 .f32 0x00000000#32))
    (matmul dot_S64x128_S256x128_S64x256_1_1_0_0_n_n none (truncf .bf16 (kD k g) bitsLt_bf16_f32) (truncf .bf16 dst bitsLt_bf16_f32)
      (constant S64x256 .f32 0x00000000#32))) bitsLt_bf16_f32

def stM (s4 : FVec F S1x1x256x128 .f32) : FVec F S256x128 .f32 := shapeCast S256x128 s4 shapeCasts_S1x1x256x128_S256x128

def dQt (k g : FVec F S64x128 .f32) (v dO : FVec F S64x256 .f32) (s4 : FVec F S1x1x256x128 .f32) : FVec F S64x128 .f32 :=
  addf (matmul dot_S64x64_S64x128_S64x128_1_0_0_1_n_n none (truncf .bf16 (dA dO v) bitsLt_bf16_f32) (truncf .bf16 (kT k g) bitsLt_bf16_f32)
      (constant S64x128 .f32 0x00000000#32))
    (matmul dot_S64x256_S256x128_S64x128_1_0_0_1_n_n none (truncf .bf16 (vv dO) bitsLt_bf16_f32) (truncf .bf16 (stM s4) bitsLt_bf16_f32)
      (constant S64x128 .f32 0x00000000#32))

def dKt (q g : FVec F S64x128 .f32) (v dO : FVec F S64x256 .f32) : FVec F S64x128 .f32 :=
  matmul dot_S64x64_S64x128_S64x128_0_0_1_1_n_n none (truncf .bf16 (dA dO v) bitsLt_bf16_f32) (truncf .bf16 (qT q g) bitsLt_bf16_f32)
    (constant S64x128 .f32 0x00000000#32)

def dKd (v : FVec F S64x256 .f32) (dst : FVec F S256x128 .f32) : FVec F S64x128 .f32 :=
  matmul dot_S64x256_S256x128_S64x128_1_0_0_1_n_n none (truncf .bf16 (vv v) bitsLt_bf16_f32) (truncf .bf16 dst bitsLt_bf16_f32)
    (constant S64x128 .f32 0x00000000#32)

/-- The state's cotangent before the chunk. -/
def nD (q g : FVec F S64x128 .f32) (dO : FVec F S64x256 .f32) (dst : FVec F S256x128 .f32) : FVec F S256x128 .f32 :=
  addf (mulf dst (broadcastTo S256x128 (exp (last g)) broadcasts_S1x128_S256x128))
    (matmul dot_S64x256_S64x128_S256x128_0_0_1_1_n_n none (truncf .bf16 (vv dO) bitsLt_bf16_f32) (truncf .bf16 (qT q g) bitsLt_bf16_f32)
      (constant S256x128 .f32 0x00000000#32))

def dQ (k g : FVec F S64x128 .f32) (v dO : FVec F S64x256 .f32) (s4 : FVec F S1x1x256x128 .f32) : FVec F S64x128 .bf16 :=
  truncf .bf16 (mulf (mulf (dQt k g v dO s4) (exp (cum g))) (broadcast S64x128 (Scalar.ofBits .f32 0x3DB504F3#32))) bitsLt_bf16_f32

def dK (q g : FVec F S64x128 .f32) (v dO : FVec F S64x256 .f32) (dst : FVec F S256x128 .f32) : FVec F S64x128 .bf16 :=
  truncf .bf16 (addf (mulf (dKt q g v dO) (eN g)) (mulf (dKd v dst) (eL g))) bitsLt_bf16_f32

/-- The running sum's cotangent, but for the last row's own part. -/
def dB (q k g : FVec F S64x128 .f32) (v dO : FVec F S64x256 .f32) (s4 : FVec F S1x1x256x128 .f32) (dst : FVec F S256x128 .f32) : FVec F S64x128 .f32 :=
  subf (subf (mulf (dQt k g v dO s4) (qT q g)) (mulf (dKt q g v dO) (kT k g))) (mulf (dKd v dst) (kD k g))

/-- The last row's own part of it. -/
def dL (k g : FVec F S64x128 .f32) (v : FVec F S64x256 .f32) (s4 : FVec F S1x1x256x128 .f32) (dst : FVec F S256x128 .f32) : FVec F S1x128 .f32 :=
  addf (shapeCast S1x128 (multiReduction .add [0] S128 (mulf (dKd v dst) (kD k g)) 0x00000000#32 reduces_S64x128_S128 (.inl rfl) rfl) shapeCasts_S128_S1x128)
    (mulf (exp (last g))
      (shapeCast S1x128 (multiReduction .add [0] S128 (mulf dst (stM s4)) 0x00000000#32 reduces_S256x128_S128 (.inl rfl) rfl) shapeCasts_S128_S1x128))

/-- Row at or before column. -/
def upper : IVec S64x64 1 :=
  ori (xori mask (constantI S64x64 1 1#1)) (cmpi .eq (iota .tc S64x64 32 [0] iota_S64x64_d0_w32) (iota .tc S64x64 32 [1] iota_S64x64_d1_w32))

/-- The cotangent of the gate's argument. -/
def dZ (q k g z : FVec F S64x128 .f32) (v dO : FVec F S64x256 .f32) (s4 : FVec F S1x1x256x128 .f32) (dst : FVec F S256x128 .f32) : FVec F S64x128 .f32 :=
  mulf (mulf (addf (matmul dot_S64x64_S64x128_S64x128_1_0_0_1_n_n (some .fp32) (sitofp .f32 (extui 32 upper natLt_1_32)) (dB q k g v dO s4 dst)
        (constant S64x128 .f32 0x00000000#32)) (broadcastTo S64x128 (dL k g v s4 dst) broadcasts_S1x128_S64x128))
      (broadcast S64x128 (Scalar.ofBits .f32 0x3D800000#32)))
    (logistic (subf (broadcast S64x128 (Scalar.ofBits .f32 0x00000000#32)) z))

/-- The bias's cotangent with the chunk's rows added. -/
def nBias (dz : FVec F S64x128 .f32) (acc : FVec F S1x128 .f32) : FVec F S1x128 .f32 :=
  addf (shapeCast S1x128 acc shapeCasts_S1x128_S1x128)
    (shapeCast S1x128 (multiReduction .add [0] S128 dz 0x00000000#32 reduces_S64x128_S128 (.inl rfl) rfl) shapeCasts_S128_S1x128)

end Cert.KernelIdeal.Chunk

end
-- ==== Proof.FwdPieces.lean ====
/- What region 0's body stores, chunk by chunk: the pieces its runs leave are the chunk's expressions. -/
module

public import proofs.«01_k».proof.Proof.FwdFrame
public import proofs.«01_k».proof.Proof.Chunk

@[expose] public section

set_option maxRecDepth 16384

noncomputable section

namespace Cert.KernelIdeal.Chunk

open Cert.KernelIdeal.Gen
open Idealize.ShloMosaic Idealize.ShloMosaic.TcCoe

variable {F : FTy → Type} [FloatOps F]

theorem inbQ {n : ℕ} (hn : n < 8) : ∀ a, (![64 * n, 0] : Fin 2 → Nat) a + S64x128.size a ≤ S512x128.size a := by
  intro a; fin_cases a <;> simp <;> omega
theorem inbV {n : ℕ} (hn : n < 8) : ∀ a, (![64 * n, 0] : Fin 2 → Nat) a + S64x256.size a ≤ S512x256.size a := by
  intro a; fin_cases a <;> simp <;> omega
theorem inbS {n : ℕ} (hn : n < 8) : ∀ a, (![n, 0, 0, 0] : Fin 4 → Nat) a + S1x1x256x128.size a ≤ S8x1x256x128.size a := by
  intro a; fin_cases a <;> simp <;> omega
theorem inbW : ∀ a, (![0, 0] : Fin 2 → Nat) a + S512x128.size a ≤ S512x128.size a := by decide +kernel
theorem inbG : ∀ a, (![0, 0] : Fin 2 → Nat) a + S128x128.size a ≤ S128x128.size a := by decide +kernel
theorem inbB : ∀ a, (![0, 0] : Fin 2 → Nat) a + S1x128.size a ≤ S1x128.size a := by decide +kernel
theorem inbT : ∀ a, (![0, 0] : Fin 2 → Nat) a + S256x128.size a ≤ S256x128.size a := by decide +kernel
theorem slQ {n : ℕ} (hn : n < 8) : S512x128.Slices ![64 * n, 0] S64x128 := ⟨rfl, inbQ hn⟩

/-- Chunk `n`'s rows of a staged block, as the body loads them. -/
def ldQ (a : Memref sig .tc .vmem S512x128 .f32) (ha : a.IsWhole) (x : Vec F S512x128 .f32) {n : ℕ} (hn : n < 8) : Vec F S64x128 .f32 :=
  View.readAt (Elt F) a.view (Rect.unit (s := S512x128) ![64 * n, 0] S64x128.size (inbQ hn)).toLoadRect (ha.unread x)
def ldV (a : Memref sig .tc .vmem S512x256 .f32) (ha : a.IsWhole) (x : Vec F S512x256 .f32) {n : ℕ} (hn : n < 8) : Vec F S64x256 .f32 :=
  View.readAt (Elt F) a.view (Rect.unit (s := S512x256) ![64 * n, 0] S64x256.size (inbV hn)).toLoadRect (ha.unread x)
def ldW (a : Memref sig .tc .vmem S512x128 .f32) (ha : a.IsWhole) (x : Vec F S512x128 .f32) : Vec F S512x128 .f32 :=
  View.readAt (Elt F) a.view (Rect.unit (s := S512x128) ![0, 0] S512x128.size inbW).toLoadRect (ha.unread x)
def ldG (a : Memref sig .tc .vmem S128x128 .f32) (ha : a.IsWhole) (x : Vec F S128x128 .f32) : Vec F S128x128 .f32 :=
  View.readAt (Elt F) a.view (Rect.unit (s := S128x128) ![0, 0] S128x128.size inbG).toLoadRect (ha.unread x)
def ldB (a : Memref sig .tc .vmem S1x128 .f32) (ha : a.IsWhole) (x : Vec F S1x128 .f32) : Vec F S1x128 .f32 :=
  View.readAt (Elt F) a.view (Rect.unit (s := S1x128) ![0, 0] S1x128.size inbB).toLoadRect (ha.unread x)

/-- Chunk `n`'s rows of a 512-row array of gates. -/
def cut (g : FVec F S512x128 .f32) {n : ℕ} (hn : n < 8) : FVec F S64x128 .f32 := extractStridedSlice S64x128 ![64 * n, 0] g (slQ hn)

end Cert.KernelIdeal.Chunk

namespace Cert.KernelIdeal.Fwd

open Cert.KernelIdeal.Gen Cert.KernelIdeal.Chunk
open Idealize.ShloMosaic Idealize.ShloMosaic.TcCoe

variable {F : FTy → Type} [FloatOps F]

section Pieces

variable (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole)
    (x0 x1 : Vec F S512x128 .f32) (x2 : Vec F S512x256 .f32) (x3 : Vec F S512x128 .f32) (x4 : Vec F S128x128 .f32) (x5 : Vec F S1x128 .f32) (xs0 : Vec F S256x128 .f32)

/-- The block's gates from its staged inputs. -/
def gB : FVec F S512x128 .f32 := gAll (zAll (ldW arg5 harg5 x3) (ldG arg6 harg6 x4) (ldB arg7 harg7 x5))

/-- The state before chunk `n`, from the one before chunk 0. -/
def sB (st : FVec F S256x128 .f32) : (n : ℕ) → n ≤ 8 → FVec F S256x128 .f32
  | 0, _ => st
  | n + 1, h => nS (ldQ arg3 harg3 x1 (n := n) h) (cut (gB arg5 harg5 arg6 harg6 arg7 harg7 x3 x4 x5) h) (ldV arg4 harg4 x2 h) (sB st n (Nat.le_of_lt h))

def oP (st : FVec F S256x128 .f32) (n : ℕ) (h : n < 8) : View.Piece (Elt F) S512x256 .f32 :=
  ⟨Rect.unit (s := S512x256) ![64 * n, 0] S64x256.size (inbV h), oC (ldQ arg2 harg2 x0 h) (ldQ arg3 harg3 x1 h) (cut (gB arg5 harg5 arg6 harg6 arg7 harg7 x3 x4 x5) h)
    (ldV arg4 harg4 x2 h) (sB arg3 harg3 arg4 harg4 arg5 harg5 arg6 harg6 arg7 harg7 x1 x2 x3 x4 x5 st n (Nat.le_of_lt h))⟩

def sP (st : FVec F S256x128 .f32) (n : ℕ) (h : n < 8) : View.Piece (Elt F) S8x1x256x128 .f32 :=
  ⟨Rect.unit (s := S8x1x256x128) ![n, 0, 0, 0] S1x1x256x128.size (inbS h), shapeCast S1x1x256x128 (sB arg3 harg3 arg4 harg4 arg5 harg5 arg6 harg6 arg7 harg7 x1 x2 x3 x4 x5 st n (Nat.le_of_lt h)) shapeCasts_S256x128_S1x1x256x128⟩

local notation "OP" => oP arg2 harg2 arg3 harg3 arg4 harg4 arg5 harg5 arg6 harg6 arg7 harg7 x0 x1 x2 x3 x4 x5
local notation "SP" => sP arg3 harg3 arg4 harg4 arg5 harg5 arg6 harg6 arg7 harg7 x1 x2 x3 x4 x5
local notation "SB" => sB arg3 harg3 arg4 harg4 arg5 harg5 arg6 harg6 arg7 harg7 x1 x2 x3 x4 x5
local notation "RA" hc0 => kernelRun0_A c i arg2 harg2 arg3 harg3 arg4 harg4 arg5 harg5 arg6 harg6 arg7 harg7 arg8 harg8 arg9 harg9 arg10 harg10 hc0 x0 x1 x2 x3 x4 x5
local notation "RB" hc0 => kernelRun0_B c i arg2 harg2 arg3 harg3 arg4 harg4 arg5 harg5 arg6 harg6 arg7 harg7 arg8 harg8 arg9 harg9 arg10 harg10 hc0 x0 x1 x2 x3 x4 x5 xs0

/-- The carried state as the body first loads it: after the reset's store, or as the point before left it. -/
def st0A : FVec F S256x128 .f32 := View.readAt (Elt F) arg10.view (Rect.unit (s := S256x128) ![0, 0] S256x128.size inbT).toLoadRect
  (arg10.view.writes (Elt F) arg10.view.junk [⟨Rect.unit (s := S256x128) ![0, 0] S256x128.size inbT, constant S256x128 .f32 0x00000000#32⟩])
def st0B : FVec F S256x128 .f32 := View.readAt (Elt F) arg10.view (Rect.unit (s := S256x128) ![0, 0] S256x128.size inbT).toLoadRect (harg10.unread xs0)

set_option maxHeartbeats 2000000 in
theorem piecesA_6 (hc0 : cond0_0 i) : (RA hc0).1 =
    [OP (kernelRun0_A.sl.v28 c arg10) 7 (by decide), OP (kernelRun0_A.sl.v28 c arg10) 6 (by decide), OP (kernelRun0_A.sl.v28 c arg10) 5 (by decide),
     OP (kernelRun0_A.sl.v28 c arg10) 4 (by decide), OP (kernelRun0_A.sl.v28 c arg10) 3 (by decide), OP (kernelRun0_A.sl.v28 c arg10) 2 (by decide),
     OP (kernelRun0_A.sl.v28 c arg10) 1 (by decide), OP (kernelRun0_A.sl.v28 c arg10) 0 (by decide)] := by
  unfold kernelRun0_A
  rfl

set_option maxHeartbeats 2000000 in
theorem piecesA_7 (hc0 : cond0_0 i) : (RA hc0).2.1 =
    [SP (kernelRun0_A.sl.v28 c arg10) 7 (by decide), SP (kernelRun0_A.sl.v28 c arg10) 6 (by decide), SP (kernelRun0_A.sl.v28 c arg10) 5 (by decide),
     SP (kernelRun0_A.sl.v28 c arg10) 4 (by decide), SP (kernelRun0_A.sl.v28 c arg10) 3 (by decide), SP (kernelRun0_A.sl.v28 c arg10) 2 (by decide),
     SP (kernelRun0_A.sl.v28 c arg10) 1 (by decide), SP (kernelRun0_A.sl.v28 c arg10) 0 (by decide)] := by
  unfold kernelRun0_A
  rfl

set_option maxHeartbeats 2000000 in
theorem piecesA_s (hc0 : cond0_0 i) : ∃ L, (RA hc0).2.2.1 =
    (⟨Rect.unit (s := S256x128) ![0, 0] S256x128.size inbT, shapeCast S256x128 (SB (kernelRun0_A.sl.v28 c arg10) 8 (Nat.le_refl 8)) shapeCasts_S256x128_S256x128⟩ : View.Piece (Elt F) S256x128 .f32) :: L := by
  unfold kernelRun0_A
  exact ⟨_, rfl⟩

set_option maxHeartbeats 2000000 in
theorem piecesB_6 (hc0 : ¬cond0_0 i) : (RB hc0).1 =
    [OP (st0B arg10 harg10 xs0) 7 (by decide), OP (st0B arg10 harg10 xs0) 6 (by decide), OP (st0B arg10 harg10 xs0) 5 (by decide),
     OP (st0B arg10 harg10 xs0) 4 (by decide), OP (st0B arg10 harg10 xs0) 3 (by decide), OP (st0B arg10 harg10 xs0) 2 (by decide),
     OP (st0B arg10 harg10 xs0) 1 (by decide), OP (st0B arg10 harg10 xs0) 0 (by decide)] := by
  unfold kernelRun0_B
  rfl

set_option maxHeartbeats 2000000 in
theorem piecesB_7 (hc0 : ¬cond0_0 i) : (RB hc0).2.1 =
    [SP (st0B arg10 harg10 xs0) 7 (by decide), SP (st0B arg10 harg10 xs0) 6 (by decide), SP (st0B arg10 harg10 xs0) 5 (by decide),
     SP (st0B arg10 harg10 xs0) 4 (by decide), SP (st0B arg10 harg10 xs0) 3 (by decide), SP (st0B arg10 harg10 xs0) 2 (by decide),
     SP (st0B arg10 harg10 xs0) 1 (by decide), SP (st0B arg10 harg10 xs0) 0 (by decide)] := by
  unfold kernelRun0_B
  rfl

set_option maxHeartbeats 2000000 in
theorem piecesB_s (hc0 : ¬cond0_0 i) : (RB hc0).2.2.1 =
    [(⟨Rect.unit (s := S256x128) ![0, 0] S256x128.size inbT, shapeCast S256x128 (SB (st0B arg10 harg10 xs0) 8 (Nat.le_refl 8)) shapeCasts_S256x128_S256x128⟩ : View.Piece (Elt F) S256x128 .f32)] := by
  unfold kernelRun0_B
  rfl

end Pieces

end Cert.KernelIdeal.Fwd

end
-- ==== Proof.BwdPieces.lean ====
/- What region 1's body stores, chunk by chunk: the pieces its runs leave are the chunk's expressions. -/
module

public import proofs.«01_k».proof.Proof.BwdFrame
public import proofs.«01_k».proof.Proof.FwdPieces

@[expose] public section

set_option maxRecDepth 16384

noncomputable section

namespace Cert.KernelIdeal.Bwd

open Cert.KernelIdeal.Gen Cert.KernelIdeal.Chunk
open Cert.KernelIdeal.Fwd (gB)
open Idealize.ShloMosaic Idealize.ShloMosaic.TcCoe

variable {F : FTy → Type} [FloatOps F]

/-- The states before chunk `n`, as the body loads them from the staged block. -/
def ldS (a : Memref sig .tc .vmem S8x1x256x128 .f32) (ha : a.IsWhole) (x : Vec F S8x1x256x128 .f32) {n : ℕ} (hn : n < 8) : Vec F S1x1x256x128 .f32 :=
  View.readAt (Elt F) a.view (Rect.unit (s := S8x1x256x128) ![n, 0, 0, 0] S1x1x256x128.size (inbS hn)).toLoadRect (ha.unread x)

/-- The block's gate arguments. -/
def zB (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole)
    (x3 : Vec F S512x128 .f32) (x4 : Vec F S128x128 .f32) (x5 : Vec F S1x128 .f32) : FVec F S512x128 .f32 := zAll (ldW arg5 harg5 x3) (ldG arg6 harg6 x4) (ldB arg7 harg7 x5)

section Pieces

variable (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole)
    (x0 x1 : Vec F S512x128 .f32) (x2 : Vec F S512x256 .f32) (x3 : Vec F S512x128 .f32) (x4 : Vec F S128x128 .f32) (x5 : Vec F S1x128 .f32) (x6 : Vec F S8x1x256x128 .f32) (x7 : Vec F S512x256 .f32)
    (xo12 : Vec F S1x128 .f32) (xs0 : Vec F S256x128 .f32)

/-- The state's cotangent after `m` of the block's chunks, from the last one down. -/
def tB (st : FVec F S256x128 .f32) : (m : ℕ) → m ≤ 8 → FVec F S256x128 .f32
  | 0, _ => st
  | m + 1, h => Chunk.nD (ldQ arg2 harg2 x0 (n := 7 - m) (by omega)) (cut (gB arg5 harg5 arg6 harg6 arg7 harg7 x3 x4 x5) (n := 7 - m) (by omega)) (ldV arg9 harg9 x7 (n := 7 - m) (by omega)) (tB st m (Nat.le_of_lt h))

/-- Chunk `n`'s cotangents. -/
def dqC (n : ℕ) (h : n < 8) : FVec F S64x128 .bf16 := dQ (ldQ arg3 harg3 x1 h) (cut (gB arg5 harg5 arg6 harg6 arg7 harg7 x3 x4 x5) h) (ldV arg4 harg4 x2 h) (ldV arg9 harg9 x7 h) (ldS arg8 harg8 x6 h)
def dkC (st : FVec F S256x128 .f32) (n : ℕ) (h : n < 8) : FVec F S64x128 .bf16 := dK (ldQ arg2 harg2 x0 h) (cut (gB arg5 harg5 arg6 harg6 arg7 harg7 x3 x4 x5) h) (ldV arg4 harg4 x2 h) (ldV arg9 harg9 x7 h) (tB arg2 harg2 arg5 harg5 arg6 harg6 arg7 harg7 arg9 harg9 x0 x3 x4 x5 x7 st (7 - n) (by omega))
def dvC (st : FVec F S256x128 .f32) (n : ℕ) (h : n < 8) : FVec F S64x256 .bf16 := dV (ldQ arg2 harg2 x0 h) (ldQ arg3 harg3 x1 h) (cut (gB arg5 harg5 arg6 harg6 arg7 harg7 x3 x4 x5) h) (ldV arg9 harg9 x7 h) (tB arg2 harg2 arg5 harg5 arg6 harg6 arg7 harg7 arg9 harg9 x0 x3 x4 x5 x7 st (7 - n) (by omega))
def dzC (st : FVec F S256x128 .f32) (n : ℕ) (h : n < 8) : FVec F S64x128 .f32 := dZ (ldQ arg2 harg2 x0 h) (ldQ arg3 harg3 x1 h) (cut (gB arg5 harg5 arg6 harg6 arg7 harg7 x3 x4 x5) h) (cut (zB arg5 harg5 arg6 harg6 arg7 harg7 x3 x4 x5) h) (ldV arg4 harg4 x2 h) (ldV arg9 harg9 x7 h) (ldS arg8 harg8 x6 h) (tB arg2 harg2 arg5 harg5 arg6 harg6 arg7 harg7 arg9 harg9 x0 x3 x4 x5 x7 st (7 - n) (by omega))

/-- The bias's cotangent as a list of stores, and what the body loads back of it. -/
def bL (base : List (View.Piece (Elt F) S1x128 .f32)) (ini : FVec F S1x128 .f32) (st : FVec F S256x128 .f32) : (m : ℕ) → m ≤ 8 → List (View.Piece (Elt F) S1x128 .f32)
  | 0, _ => base
  | 1, h => (⟨Rect.unit (s := S1x128) ![0, 0] S1x128.size inbB, nBias (dzC arg2 harg2 arg3 harg3 arg4 harg4 arg5 harg5 arg6 harg6 arg7 harg7 arg8 harg8 arg9 harg9 x0 x1 x2 x3 x4 x5 x6 x7 st 7 (by omega)) ini⟩ : View.Piece (Elt F) S1x128 .f32) :: base
  | m + 2, h => (⟨Rect.unit (s := S1x128) ![0, 0] S1x128.size inbB, nBias (dzC arg2 harg2 arg3 harg3 arg4 harg4 arg5 harg5 arg6 harg6 arg7 harg7 arg8 harg8 arg9 harg9 x0 x1 x2 x3 x4 x5 x6 x7 st (6 - m) (by omega))
      (View.readCov arg14.view (bL base ini st (m + 1) (Nat.le_of_lt h)) (Rect.unit (s := S1x128) ![0, 0] S1x128.size inbB).toLoadRect)⟩ : View.Piece (Elt F) S1x128 .f32) :: bL base ini st (m + 1) (Nat.le_of_lt h)

def pdqC (n : ℕ) (h : n < 8) : View.Piece (Elt F) S512x128 .bf16 :=
  ⟨Rect.unit (s := S512x128) ![64 * n, 0] S64x128.size (inbQ h), dqC arg3 harg3 arg4 harg4 arg5 harg5 arg6 harg6 arg7 harg7 arg8 harg8 arg9 harg9 x1 x2 x3 x4 x5 x6 x7 n h⟩
def pdkC (st : FVec F S256x128 .f32) (n : ℕ) (h : n < 8) : View.Piece (Elt F) S512x128 .bf16 :=
  ⟨Rect.unit (s := S512x128) ![64 * n, 0] S64x128.size (inbQ h), dkC arg2 harg2 arg4 harg4 arg5 harg5 arg6 harg6 arg7 harg7 arg9 harg9 x0 x2 x3 x4 x5 x7 st n h⟩
def pdvC (st : FVec F S256x128 .f32) (n : ℕ) (h : n < 8) : View.Piece (Elt F) S512x256 .bf16 :=
  ⟨Rect.unit (s := S512x256) ![64 * n, 0] S64x256.size (inbV h), dvC arg2 harg2 arg3 harg3 arg5 harg5 arg6 harg6 arg7 harg7 arg9 harg9 x0 x1 x3 x4 x5 x7 st n h⟩
def pdzC (st : FVec F S256x128 .f32) (n : ℕ) (h : n < 8) : View.Piece (Elt F) S512x128 .f32 :=
  ⟨Rect.unit (s := S512x128) ![64 * n, 0] S64x128.size (inbQ h), dzC arg2 harg2 arg3 harg3 arg4 harg4 arg5 harg5 arg6 harg6 arg7 harg7 arg8 harg8 arg9 harg9 x0 x1 x2 x3 x4 x5 x6 x7 st n h⟩

/-- The carried cotangent and the bias's as the body first loads them: after the reset's stores, or as the point before left them. -/
def st0A : FVec F S256x128 .f32 := View.readCov (Val := Elt F) (e := .f32) arg15.view [⟨Rect.unit (s := S256x128) ![0, 0] S256x128.size inbT, k1_pay3⟩] (Rect.unit (s := S256x128) ![0, 0] S256x128.size inbT).toLoadRect
def st0B : FVec F S256x128 .f32 := View.readAt (Elt F) arg15.view (Rect.unit (s := S256x128) ![0, 0] S256x128.size inbT).toLoadRect (harg15.unread xs0)
def ba0A : FVec F S1x128 .f32 := View.readCov (Val := Elt F) (e := .f32) arg14.view [⟨Rect.unit (s := S1x128) ![0, 0] S1x128.size inbB, k1_pay4⟩] (Rect.unit (s := S1x128) ![0, 0] S1x128.size inbB).toLoadRect
def ba0B : FVec F S1x128 .f32 := View.readAt (Elt F) arg14.view (Rect.unit (s := S1x128) ![0, 0] S1x128.size inbB).toLoadRect (harg14.unread xo12)

set_option maxHeartbeats 2000000 in
theorem piecesA_8 (hc0 : cond1_0 i) : (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 =
    (let p := pdqC arg3 harg3 arg4 harg4 arg5 harg5 arg6 harg6 arg7 harg7 arg8 harg8 arg9 harg9 x1 x2 x3 x4 x5 x6 x7; [p 0 (by decide), p 1 (by decide), p 2 (by decide), p 3 (by decide), p 4 (by decide), p 5 (by decide), p 6 (by decide), p 7 (by decide)]) := by
  unfold kernelRun1_A
  rfl

set_option maxHeartbeats 2000000 in
theorem piecesA_9 (hc0 : cond1_0 i) : (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 =
    (let p := pdkC arg2 harg2 arg4 harg4 arg5 harg5 arg6 harg6 arg7 harg7 arg9 harg9 x0 x2 x3 x4 x5 x7 (st0A arg15); [p 0 (by decide), p 1 (by decide), p 2 (by decide), p 3 (by decide), p 4 (by decide), p 5 (by decide), p 6 (by decide), p 7 (by decide)]) := by
  unfold kernelRun1_A
  rfl

set_option maxHeartbeats 2000000 in
theorem piecesA_10 (hc0 : cond1_0 i) : (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 =
    (let p := pdvC arg2 harg2 arg3 harg3 arg5 harg5 arg6 harg6 arg7 harg7 arg9 harg9 x0 x1 x3 x4 x5 x7 (st0A arg15); [p 0 (by decide), p 1 (by decide), p 2 (by decide), p 3 (by decide), p 4 (by decide), p 5 (by decide), p 6 (by decide), p 7 (by decide)]) := by
  unfold kernelRun1_A
  rfl

set_option maxHeartbeats 2000000 in
theorem piecesA_11 (hc0 : cond1_0 i) : (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 =
    (let p := pdzC arg2 harg2 arg3 harg3 arg4 harg4 arg5 harg5 arg6 harg6 arg7 harg7 arg8 harg8 arg9 harg9 x0 x1 x2 x3 x4 x5 x6 x7 (st0A arg15); [p 0 (by decide), p 1 (by decide), p 2 (by decide), p 3 (by decide), p 4 (by decide), p 5 (by decide), p 6 (by decide), p 7 (by decide)]) := by
  unfold kernelRun1_A
  rfl

set_option maxHeartbeats 2000000 in
theorem piecesA_12 (hc0 : cond1_0 i) : (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1 =
    bL arg2 harg2 arg3 harg3 arg4 harg4 arg5 harg5 arg6 harg6 arg7 harg7 arg8 harg8 arg9 harg9 arg14 x0 x1 x2 x3 x4 x5 x6 x7 [⟨Rect.unit (s := S1x128) ![0, 0] S1x128.size inbB, k1_pay4⟩] (ba0A arg14) (st0A arg15) 8 (Nat.le_refl 8) := by
  unfold kernelRun1_A
  rfl

set_option maxHeartbeats 2000000 in
theorem piecesA_s (hc0 : cond1_0 i) : (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1 =
    (⟨Rect.unit (s := S256x128) ![0, 0] S256x128.size inbT, shapeCast S256x128 (tB arg2 harg2 arg5 harg5 arg6 harg6 arg7 harg7 arg9 harg9 x0 x3 x4 x5 x7 (st0A arg15) 8 (Nat.le_refl 8)) shapeCasts_S256x128_S256x128⟩ : View.Piece (Elt F) S256x128 .f32) :: [⟨Rect.unit (s := S256x128) ![0, 0] S256x128.size inbT, k1_pay3⟩] := by
  unfold kernelRun1_A
  rfl

set_option maxHeartbeats 2000000 in
theorem piecesB_8 (hc0 : ¬cond1_0 i) : (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).1 =
    (let p := pdqC arg3 harg3 arg4 harg4 arg5 harg5 arg6 harg6 arg7 harg7 arg8 harg8 arg9 harg9 x1 x2 x3 x4 x5 x6 x7; [p 0 (by decide), p 1 (by decide), p 2 (by decide), p 3 (by decide), p 4 (by decide), p 5 (by decide), p 6 (by decide), p 7 (by decide)]) := by
  unfold kernelRun1_B
  rfl

set_option maxHeartbeats 2000000 in
theorem piecesB_9 (hc0 : ¬cond1_0 i) : (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.1 =
    (let p := pdkC arg2 harg2 arg4 harg4 arg5 harg5 arg6 harg6 arg7 harg7 arg9 harg9 x0 x2 x3 x4 x5 x7 (st0B arg15 harg15 xs0); [p 0 (by decide), p 1 (by decide), p 2 (by decide), p 3 (by decide), p 4 (by decide), p 5 (by decide), p 6 (by decide), p 7 (by decide)]) := by
  unfold kernelRun1_B
  rfl

set_option maxHeartbeats 2000000 in
theorem piecesB_10 (hc0 : ¬cond1_0 i) : (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.1 =
    (let p := pdvC arg2 harg2 arg3 harg3 arg5 harg5 arg6 harg6 arg7 harg7 arg9 harg9 x0 x1 x3 x4 x5 x7 (st0B arg15 harg15 xs0); [p 0 (by decide), p 1 (by decide), p 2 (by decide), p 3 (by decide), p 4 (by decide), p 5 (by decide), p 6 (by decide), p 7 (by decide)]) := by
  unfold kernelRun1_B
  rfl

set_option maxHeartbeats 2000000 in
theorem piecesB_11 (hc0 : ¬cond1_0 i) : (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.2.1 =
    (let p := pdzC arg2 harg2 arg3 harg3 arg4 harg4 arg5 harg5 arg6 harg6 arg7 harg7 arg8 harg8 arg9 harg9 x0 x1 x2 x3 x4 x5 x6 x7 (st0B arg15 harg15 xs0); [p 0 (by decide), p 1 (by decide), p 2 (by decide), p 3 (by decide), p 4 (by decide), p 5 (by decide), p 6 (by decide), p 7 (by decide)]) := by
  unfold kernelRun1_B
  rfl

set_option maxHeartbeats 2000000 in
theorem piecesB_12 (hc0 : ¬cond1_0 i) : (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.2.2.1 =
    bL arg2 harg2 arg3 harg3 arg4 harg4 arg5 harg5 arg6 harg6 arg7 harg7 arg8 harg8 arg9 harg9 arg14 x0 x1 x2 x3 x4 x5 x6 x7 [] (ba0B arg14 harg14 xo12) (st0B arg15 harg15 xs0) 8 (Nat.le_refl 8) := by
  unfold kernelRun1_B
  rfl

set_option maxHeartbeats 2000000 in
theorem piecesB_s (hc0 : ¬cond1_0 i) : (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo12 xs0).2.2.2.2.2.1 =
    (⟨Rect.unit (s := S256x128) ![0, 0] S256x128.size inbT, shapeCast S256x128 (tB arg2 harg2 arg5 harg5 arg6 harg6 arg7 harg7 arg9 harg9 x0 x3 x4 x5 x7 (st0B arg15 harg15 xs0) 8 (Nat.le_refl 8)) shapeCasts_S256x128_S256x128⟩ : View.Piece (Elt F) S256x128 .f32) :: [] := by
  unfold kernelRun1_B
  rfl

end Pieces

end Cert.KernelIdeal.Bwd

end
-- ==== Proof.Math.lean ====
/- One chunk of the gated linear attention over the extended reals, and its reverse: what both programs compute, entry by entry. -/
module

public import Idealize.ShloMosaic.Lib.Pointwise
public import Idealize.ShloMosaic.Lib.WordCmp

@[expose] public section

set_option maxRecDepth 16384

noncomputable section

namespace Cert.Gla

open Idealize.ShloMosaic

/-- A row chunk's keys, queries or gates, and its values. -/
abbrev Rows := Fin 64 → Fin 128 → EReal
abbrev Vals := Fin 64 → Fin 256 → EReal
/-- A state: value axis first. -/
abbrev State := Fin 256 → Fin 128 → EReal

/-- The gate's logarithm over the temperature, at one argument. -/
def gate (z : EReal) : EReal :=
  Ideal.div (0 - (max (0 - z) 0 + Ideal.log1p (Ideal.exp (0 - (FloatOps.absf (F := Ideal) (φ := .f32) z : EReal))))) (Ideal.ofBits .f32 0x41800000#32)

def scale : EReal := Ideal.ofBits .f32 0x3DB504F3#32
def tau' : EReal := Ideal.ofBits .f32 0x3D800000#32

variable (q k g z : Rows) (v dO : Vals) (st dst : State)

def cum (r : Fin 64) (d : Fin 128) : EReal := ∑ s : Fin 64, if s ≤ r then g s d else 0
def qT (r : Fin 64) (d : Fin 128) : EReal := q r d * scale * Ideal.exp (cum g r d)
def eN (r : Fin 64) (d : Fin 128) : EReal := Ideal.exp (0 - cum g r d)
def eL (r : Fin 64) (d : Fin 128) : EReal := Ideal.exp (cum g 63 d - cum g r d)
def kT (r : Fin 64) (d : Fin 128) : EReal := k r d * eN g r d
def kD (r : Fin 64) (d : Fin 128) : EReal := k r d * eL g r d
def aM (r s : Fin 64) : EReal := if s ≤ r then ∑ d, qT q g r d * kT k g s d else 0
def oC (r : Fin 64) (e : Fin 256) : EReal := ∑ s, aM q k g r s * v s e + ∑ d, qT q g r d * st e d
def nS (e : Fin 256) (d : Fin 128) : EReal := st e d * Ideal.exp (cum g 63 d) + ∑ s, v s e * kD k g s d
def dA (r s : Fin 64) : EReal := if s ≤ r then ∑ e, dO r e * v s e else 0
def dV (s : Fin 64) (e : Fin 256) : EReal := ∑ r, aM q k g r s * dO r e + ∑ d, kD k g s d * dst e d
def dQt (r : Fin 64) (d : Fin 128) : EReal := ∑ s, dA v dO r s * kT k g s d + ∑ e, dO r e * st e d
def dKt (s : Fin 64) (d : Fin 128) : EReal := ∑ r, dA v dO r s * qT q g r d
def dKd (s : Fin 64) (d : Fin 128) : EReal := ∑ e, v s e * dst e d
def nD (e : Fin 256) (d : Fin 128) : EReal := dst e d * Ideal.exp (cum g 63 d) + ∑ r, dO r e * qT q g r d
def dQ (r : Fin 64) (d : Fin 128) : EReal := dQt k g v dO st r d * Ideal.exp (cum g r d) * scale
def dK (s : Fin 64) (d : Fin 128) : EReal := dKt q g v dO s d * eN g s d + dKd v dst s d * eL g s d
def dB (r : Fin 64) (d : Fin 128) : EReal :=
  dQt k g v dO st r d * qT q g r d - dKt q g v dO r d * kT k g r d - dKd v dst r d * kD k g r d
def dL (d : Fin 128) : EReal := ∑ r, dKd v dst r d * kD k g r d + Ideal.exp (cum g 63 d) * ∑ e, dst e d * st e d
def dG (r : Fin 64) (d : Fin 128) : EReal := ∑ s, (if r ≤ s then dB q k g v dO st dst s d else 0) + dL k g v st dst d
def dZ (r : Fin 64) (d : Fin 128) : EReal := dG q k g v dO st dst r d * tau' * Ideal.logistic (0 - z r d)

/-! The chunks in sequence, forwards and backwards. -/

section Seq

variable (Q K G Z : ℕ → Rows) (V D : ℕ → Vals)

/-- The state before chunk `n`. -/
def SF : ℕ → State
  | 0 => fun _ _ => 0
  | n + 1 => nS (K n) (G n) (V n) (SF n)

/-- The state's cotangent after `m` chunks from the last. -/
def DF : ℕ → State
  | 0 => fun _ _ => 0
  | m + 1 => nD (Q (127 - m)) (G (127 - m)) (D (127 - m)) (DF m)

def seqO (n : ℕ) : Vals := oC (Q n) (K n) (G n) (V n) (SF K G V n)
def seqDQ (n : ℕ) : Rows := dQ (K n) (G n) (V n) (D n) (SF K G V n)
def seqDK (n : ℕ) : Rows := dK (Q n) (G n) (V n) (D n) (DF Q G D (127 - n))
def seqDV (n : ℕ) : Vals := dV (Q n) (K n) (G n) (D n) (DF Q G D (127 - n))
def seqDZ (n : ℕ) : Rows := dZ (Q n) (K n) (G n) (Z n) (V n) (D n) (SF K G V n) (DF Q G D (127 - n))

/-- The bias's cotangent after `m` chunks from the last. -/
def BF : ℕ → Fin 128 → EReal
  | 0 => fun _ => 0
  | m + 1 => fun d => BF m d + ∑ r : Fin 64, seqDZ Q K G Z V D (127 - m) r d

end Seq

/-- Row `r` of chunk `n`. -/
def row (n : ℕ) (r : Fin 64) : Fin 8192 := ⟨(64 * n + r.val) % 8192, Nat.mod_lt _ (by decide)⟩

/-! Head `h`'s queries, keys, values and gate arguments, chunk by chunk, in the packed array the kernel reads. -/
section Packed

variable (A5 : Vec Ideal ⟨2, ![8192, 3200]⟩ .f32) (A6 : Vec Ideal ⟨2, ![128, 512]⟩ .f32) (A7 : Vec Ideal ⟨2, ![1, 512]⟩ .f32) (A9 : Vec Ideal ⟨2, ![8192, 1024]⟩ .f32) (h : Fin 4)

def pQ (n : ℕ) : Rows := fun r d => A5 (ix2 (row n r) ⟨128 * h.val + d.val, by omega⟩)
def pK (n : ℕ) : Rows := fun r d => A5 (ix2 (row n r) ⟨512 + 128 * h.val + d.val, by omega⟩)
def pV (n : ℕ) : Vals := fun r e => A5 (ix2 (row n r) ⟨1024 + 256 * h.val + e.val, by omega⟩)
def pZ (n : ℕ) : Rows := fun r d =>
  ∑ j : Fin 128, A5 (ix2 (row n r) ⟨3072 + j.val, by omega⟩) * A6 (ix2 j ⟨128 * h.val + d.val, by omega⟩) + A7 (ix2 0 ⟨128 * h.val + d.val, by omega⟩)
def pG (n : ℕ) : Rows := fun r d => gate (pZ A5 A6 A7 h n r d)
def pD (n : ℕ) : Vals := fun r e => A9 (ix2 (row n r) ⟨256 * h.val + e.val, by omega⟩)

end Packed

/-! The same in the arguments themselves. -/
section Args

variable (a0 : Vec Ideal ⟨3, ![1, 8192, 3088]⟩ .f32) (a1 : Vec Ideal ⟨2, ![16, 512]⟩ .f32) (a2 : Vec Ideal ⟨1, ![512]⟩ .f32) (a3 : Vec Ideal ⟨3, ![1, 8192, 1024]⟩ .f32) (h : Fin 4)

def xQ (n : ℕ) : Rows := fun r d => a0 (ix3 0 (row n r) ⟨128 * h.val + d.val, by omega⟩)
def xK (n : ℕ) : Rows := fun r d => a0 (ix3 0 (row n r) ⟨512 + 128 * h.val + d.val, by omega⟩)
def xV (n : ℕ) : Vals := fun r e => a0 (ix3 0 (row n r) ⟨1024 + 256 * h.val + e.val, by omega⟩)
def xZ (n : ℕ) : Rows := fun r d =>
  ∑ j : Fin 16, a0 (ix3 0 (row n r) ⟨2048 + j.val, by omega⟩) * a1 (ix2 j ⟨128 * h.val + d.val, by omega⟩) + a2 (ix1 ⟨128 * h.val + d.val, by omega⟩)
def xG (n : ℕ) : Rows := fun r d => gate (xZ a0 a1 a2 h n r d)
def xD (n : ℕ) : Vals := fun r e => a3 (ix3 0 (row n r) ⟨256 * h.val + e.val, by omega⟩)

end Args

end Cert.Gla

end
-- ==== Proof.ChunkAt.lean ====
/- The chunk's vector expressions read at an entry. -/
module

public import proofs.«01_k».proof.Proof.Chunk
public import proofs.«01_k».proof.Proof.Math

@[expose] public section

set_option maxRecDepth 16384

noncomputable section

namespace Cert.KernelIdeal.Chunk

open Cert.KernelIdeal.Gen
open Idealize.ShloMosaic

/-- A matrix's entries by row and column. -/
abbrev rows {n m : ℕ} {φ : FTy} (x : FVec Ideal ⟨2, ![n, m]⟩ φ) : Fin n → Fin m → EReal := fun r d => x (ix2 r d)
abbrev block (x : FVec Ideal S1x1x256x128 .f32) : Fin 256 → Fin 128 → EReal := fun e d => x (ix4 0 0 e d)

/-- The causal mask's bit decides the order of row and column. -/
theorem mask_bit : ∀ r s : Fin 64, IntOp.cmpi CmpIPredicate.sge (BitVec.ofNat 32 ↑r) (BitVec.ofNat 32 ↑s) = if s ≤ r then 1#1 else 0#1 := by
  decide +kernel

theorem upper_bit : ∀ r s : Fin 64, IntOp.ori (IntOp.xori (IntOp.cmpi CmpIPredicate.sge (BitVec.ofNat 32 ↑r) (BitVec.ofNat 32 ↑s)) 1#1)
    (IntOp.cmpi CmpIPredicate.eq (BitVec.ofNat 32 ↑r) (BitVec.ofNat 32 ↑s)) = if r ≤ s then 1#1 else 0#1 := by
  decide +kernel

/-- A product with a 0/1 mask entry keeps the factor or is zero. -/
theorem weight_mul {p : Prop} [Decidable p] (x : EReal) :
    (FloatOps.sitofp (F := Ideal) .f32 (BitVec.setWidth 32 (if p then 1#1 else 0#1)) : EReal) * x = if p then x else 0 := by
  by_cases h : p
  · simp only [h, if_true]
    show (((BitVec.setWidth 32 1#1).toInt : ℝ) : EReal) * x = x
    have : (BitVec.setWidth 32 1#1).toInt = 1 := by decide
    rw [this]; simp
  · simp only [h, if_false]
    show (((BitVec.setWidth 32 0#1).toInt : ℝ) : EReal) * x = 0
    have : (BitVec.setWidth 32 0#1).toInt = 0 := by decide
    rw [this]; simp

theorem select_bit {p : Prop} [Decidable p] (x y : EReal) : Scalar.select (if p then 1#1 else 0#1) x y = if p then x else y := by
  by_cases h : p <;> simp [h, Scalar.select]

variable (q k g z : FVec Ideal S64x128 .f32) (v dO : FVec Ideal S64x256 .f32) (st dst : FVec Ideal S256x128 .f32) (s4 : FVec Ideal S1x1x256x128 .f32)

theorem gAll_at (zz : FVec Ideal S512x128 .f32) (r : Fin 512) (d : Fin 128) : gAll zz (ix2 r d) = Gla.gate (zz (ix2 r d)) := by
  pointwise [gAll]; rfl

theorem zAll_at (x3 : FVec Ideal S512x128 .f32) (x4 : FVec Ideal S128x128 .f32) (x5 : FVec Ideal S1x128 .f32) (r : Fin 512) (d : Fin 128) :
    zAll x3 x4 x5 (ix2 r d) = ∑ j : Fin 128, x3 (ix2 r j) * x4 (ix2 j d) + x5 (ix2 0 d) := by
  pointwise [zAll]

theorem cum_at (r : Fin 64) (d : Fin 128) : cum g (ix2 r d) = Gla.cum (rows g) r d := by
  pointwise [cum, mask]
  unfold Gla.cum
  exact Finset.sum_congr rfl fun s _ => by rw [mask_bit, weight_mul]

theorem last_at (d : Fin 128) : last g (ix2 0 d) = Gla.cum (rows g) 63 d := by
  pointwise [last]; exact cum_at g 63 d

theorem qT_at (r : Fin 64) (d : Fin 128) : qT q g (ix2 r d) = Gla.qT (rows q) (rows g) r d := by
  pointwise [qT]; rw [cum_at]; rfl

theorem eN_at (r : Fin 64) (d : Fin 128) : eN g (ix2 r d) = Gla.eN (rows g) r d := by
  pointwise [eN]; rw [cum_at]; rfl

theorem eL_at (r : Fin 64) (d : Fin 128) : eL g (ix2 r d) = Gla.eL (rows g) r d := by
  pointwise [eL]; rw [cum_at, last_at]; rfl

theorem kT_at (r : Fin 64) (d : Fin 128) : kT k g (ix2 r d) = Gla.kT (rows k) (rows g) r d := by
  pointwise [kT]; rw [eN_at]; rfl

theorem kD_at (r : Fin 64) (d : Fin 128) : kD k g (ix2 r d) = Gla.kD (rows k) (rows g) r d := by
  pointwise [kD]; rw [eL_at]; rfl

theorem aM_at (r s : Fin 64) : aM q k g (ix2 r s) = Gla.aM (rows q) (rows k) (rows g) r s := by
  pointwise [aM, mask]
  rw [mask_bit, select_bit]
  simp only [qT_at, kT_at]; rfl

theorem oC_at (r : Fin 64) (e : Fin 256) : oC q k g v st (ix2 r e) = Gla.oC (rows q) (rows k) (rows g) (rows v) (rows st) r e := by
  pointwise [oC, vv]
  simp only [qT_at, aM_at]; rfl

theorem nS_at (e : Fin 256) (d : Fin 128) : nS k g v st (ix2 e d) = Gla.nS (rows k) (rows g) (rows v) (rows st) e d := by
  pointwise [nS, vv]
  simp only [kD_at, last_at]; rfl

theorem dA_at (r s : Fin 64) : dA dO v (ix2 r s) = Gla.dA (rows v) (rows dO) r s := by
  pointwise [dA, mask, vv]
  rw [mask_bit, select_bit]; rfl

theorem dV_at (s : Fin 64) (e : Fin 256) : dV q k g dO dst (ix2 s e) = Gla.dV (rows q) (rows k) (rows g) (rows dO) (rows dst) s e := by
  pointwise [dV, vv]
  simp only [aM_at, kD_at]; rfl

theorem dQt_at (r : Fin 64) (d : Fin 128) : dQt k g v dO s4 (ix2 r d) = Gla.dQt (rows k) (rows g) (rows v) (rows dO) (block s4) r d := by
  pointwise [dQt, vv, stM]
  simp only [dA_at, kT_at]; rfl

theorem dKt_at (s : Fin 64) (d : Fin 128) : dKt q g v dO (ix2 s d) = Gla.dKt (rows q) (rows g) (rows v) (rows dO) s d := by
  pointwise [dKt]
  simp only [dA_at, qT_at]; rfl

theorem dKd_at (s : Fin 64) (d : Fin 128) : dKd v dst (ix2 s d) = Gla.dKd (rows v) (rows dst) s d := by
  pointwise [dKd, vv]; rfl

theorem nD_at (e : Fin 256) (d : Fin 128) : nD q g dO dst (ix2 e d) = Gla.nD (rows q) (rows g) (rows dO) (rows dst) e d := by
  pointwise [nD, vv]
  simp only [qT_at, last_at]; rfl

theorem dQ_at (r : Fin 64) (d : Fin 128) : dQ k g v dO s4 (ix2 r d) = Gla.dQ (rows k) (rows g) (rows v) (rows dO) (block s4) r d := by
  pointwise [dQ]
  rw [dQt_at, cum_at]; rfl

theorem dK_at (r : Fin 64) (d : Fin 128) : dK q g v dO dst (ix2 r d) = Gla.dK (rows q) (rows g) (rows v) (rows dO) (rows dst) r d := by
  pointwise [dK]
  rw [dKt_at, dKd_at, eN_at, eL_at]; rfl

theorem dB_at (r : Fin 64) (d : Fin 128) :
    dB q k g v dO s4 dst (ix2 r d) = Gla.dB (rows q) (rows k) (rows g) (rows v) (rows dO) (block s4) (rows dst) r d := by
  pointwise [dB]
  rw [dQt_at, dKt_at, dKd_at, qT_at, kT_at, kD_at]; rfl

theorem dL_at (d : Fin 128) : dL k g v s4 dst (ix2 0 d) = Gla.dL (rows k) (rows g) (rows v) (block s4) (rows dst) d := by
  pointwise [dL, stM]
  simp only [dKd_at, kD_at, last_at]; rfl

theorem dZ_at (r : Fin 64) (d : Fin 128) :
    dZ q k g z v dO s4 dst (ix2 r d) = Gla.dZ (rows q) (rows k) (rows g) (rows z) (rows v) (rows dO) (block s4) (rows dst) r d := by
  pointwise [dZ, upper, mask]
  simp only [upper_bit, weight_mul, dL_at, dB_at]; rfl

theorem nBias_at (dz : FVec Ideal S64x128 .f32) (acc : FVec Ideal S1x128 .f32) (d : Fin 128) :
    nBias dz acc (ix2 0 d) = acc (ix2 0 d) + ∑ r : Fin 64, dz (ix2 r d) := by
  pointwise [nBias]

end Cert.KernelIdeal.Chunk

end
-- ==== Proof.FwdVal.lean ====
/- What region 0 leaves: the attention's output and the states before the chunks, entry by entry. -/
module

public import proofs.«01_k».proof.Proof.FwdPieces
public import proofs.«01_k».proof.Proof.ChunkAt
public import Idealize.ShloMosaic.Lib.Pipeline.ValueKit
public import Idealize.ShloMosaic.Lib.Pipeline.ReadBack

@[expose] public section

set_option maxRecDepth 16384

noncomputable section

namespace Cert.KernelIdeal.Chunk

open Cert.KernelIdeal.Gen
open Idealize.ShloMosaic Idealize.ShloMosaic.TcCoe

/-- Row `r` of chunk `n` in a 512-row block. -/
def brow {n : ℕ} (hn : n < 8) (r : Fin 64) : Fin 512 := ⟨64 * n + r.val, by omega⟩

theorem ldQ_at (a : Memref sig .tc .vmem S512x128 .f32) (ha : a.IsWhole) (x : Vec Ideal S512x128 .f32) {n : ℕ} (hn : n < 8) (r : Fin 64) (d : Fin 128) :
    ldQ a ha x hn (ix2 r d) = x (ix2 (brow hn r) d) := by
  unfold ldQ
  rw [View.readAt_eq_ld, ha.read_unread x]
  exact View.ld_unit_apply_of x _ _ _ _ _ fun a => by fin_cases a <;> simp [brow, ix2]

theorem ldV_at (a : Memref sig .tc .vmem S512x256 .f32) (ha : a.IsWhole) (x : Vec Ideal S512x256 .f32) {n : ℕ} (hn : n < 8) (r : Fin 64) (d : Fin 256) :
    ldV a ha x hn (ix2 r d) = x (ix2 (brow hn r) d) := by
  unfold ldV
  rw [View.readAt_eq_ld, ha.read_unread x]
  exact View.ld_unit_apply_of x _ _ _ _ _ fun a => by fin_cases a <;> simp [brow, ix2]

theorem zeros : ∀ a, (![0, 0] : Fin 2 → Nat) a = 0 := by decide

theorem ldW_eq (a : Memref sig .tc .vmem S512x128 .f32) (ha : a.IsWhole) (x : Vec Ideal S512x128 .f32) : ldW a ha x = x := by
  unfold ldW
  rw [View.readAt_eq_ld, ha.read_unread x]
  exact View.ld_unit_lit _ x zeros

theorem ldG_eq (a : Memref sig .tc .vmem S128x128 .f32) (ha : a.IsWhole) (x : Vec Ideal S128x128 .f32) : ldG a ha x = x := by
  unfold ldG
  rw [View.readAt_eq_ld, ha.read_unread x]
  exact View.ld_unit_lit _ x zeros

theorem ldB_eq (a : Memref sig .tc .vmem S1x128 .f32) (ha : a.IsWhole) (x : Vec Ideal S1x128 .f32) : ldB a ha x = x := by
  unfold ldB
  rw [View.readAt_eq_ld, ha.read_unread x]
  exact View.ld_unit_lit _ x zeros

theorem cut_at (g : FVec Ideal S512x128 .f32) {n : ℕ} (hn : n < 8) (r : Fin 64) (d : Fin 128) : cut g hn (ix2 r d) = g (ix2 (brow hn r) d) := by
  unfold cut
  exact congrArg g (funext fun a => Fin.ext (by fin_cases a <;> simp [brow, ix2]))

theorem whole_hit {sp : Space} (v : View sig .tc sp S256x128 .f32) (f : v.ty.Contents (Elt Ideal)) (w : Vec Ideal S256x128 .f32) (L : List (View.Piece (Elt Ideal) S256x128 .f32))
    (e : Fin 256) (d : Fin 128) : v.read (Elt Ideal) (v.writes (Elt Ideal) f (⟨Rect.unit (s := S256x128) ![0, 0] S256x128.size inbT, w⟩ :: L)) (ix2 e d) = w (ix2 e d) :=
  View.read_writes_cons_hit v f (Rect.unit (s := S256x128) ![0, 0] S256x128.size inbT) w L (ix2 e d) (ix2 e d)
    (funext fun a => Fin.ext ((Rect.idx_unit_val (s := S256x128) ![0, 0] S256x128.size inbT (ix2 e d) a).trans (by fin_cases a <;> simp [ix2])))

theorem cast4 (x : FVec Ideal S256x128 .f32) (e : Fin 256) (d : Fin 128) : shapeCast S1x1x256x128 x shapeCasts_S256x128_S1x1x256x128 (ix4 0 0 e d) = x (ix2 e d) := by
  pointwise

/-- A piece holding chunk `n`'s rows agrees with a block's contents when its entries do. -/
theorem pieceV {α : Type} (G : S512x256.Idx → α) (f : S64x256.Idx → α) {n : ℕ} (hn : n < 8) (h : ∀ r e, f (ix2 r e) = G (ix2 (brow hn r) e))
    (x : (Rect.unit (s := S512x256) ![64 * n, 0] S64x256.size (inbV hn)).shape.Idx) : f x = G ((Rect.unit (s := S512x256) ![64 * n, 0] S64x256.size (inbV hn)).emb x) := by
  have e : (Rect.unit (s := S512x256) ![64 * n, 0] S64x256.size (inbV hn)).emb x = ix2 (brow hn (x 0)) (x 1) := by
    funext a; refine Fin.ext ((Rect.idx_unit_val _ _ (inbV hn) x a).trans ?_)
    fin_cases a <;> simp [brow, ix2]
  exact (congrArg f (funext fun a => by fin_cases a <;> rfl)).trans ((h (x 0) (x 1)).trans (congrArg G e.symm))

theorem pieceQ {α : Type} (G : S512x128.Idx → α) (f : S64x128.Idx → α) {n : ℕ} (hn : n < 8) (h : ∀ r e, f (ix2 r e) = G (ix2 (brow hn r) e))
    (x : (Rect.unit (s := S512x128) ![64 * n, 0] S64x128.size (inbQ hn)).shape.Idx) : f x = G ((Rect.unit (s := S512x128) ![64 * n, 0] S64x128.size (inbQ hn)).emb x) := by
  have e : (Rect.unit (s := S512x128) ![64 * n, 0] S64x128.size (inbQ hn)).emb x = ix2 (brow hn (x 0)) (x 1) := by
    funext a; refine Fin.ext ((Rect.idx_unit_val _ _ (inbQ hn) x a).trans ?_)
    fin_cases a <;> simp [brow, ix2]
  exact (congrArg f (funext fun a => by fin_cases a <;> rfl)).trans ((h (x 0) (x 1)).trans (congrArg G e.symm))

theorem pieceS {α : Type} (G : S8x1x256x128.Idx → α) (f : S1x1x256x128.Idx → α) {n : ℕ} (hn : n < 8) (h : ∀ e d, f (ix4 0 0 e d) = G (ix4 ⟨n, hn⟩ 0 e d))
    (x : (Rect.unit (s := S8x1x256x128) ![n, 0, 0, 0] S1x1x256x128.size (inbS hn)).shape.Idx) :
    f x = G ((Rect.unit (s := S8x1x256x128) ![n, 0, 0, 0] S1x1x256x128.size (inbS hn)).emb x) := by
  have h0 : (x 0).val = 0 := Nat.lt_one_iff.mp (x 0).isLt
  have h1 : (x 1).val = 0 := Nat.lt_one_iff.mp (x 1).isLt
  have e : (Rect.unit (s := S8x1x256x128) ![n, 0, 0, 0] S1x1x256x128.size (inbS hn)).emb x = ix4 ⟨n, hn⟩ 0 (x 2) (x 3) := by
    funext a; refine Fin.ext ((Rect.idx_unit_val _ _ (inbS hn) x a).trans ?_)
    fin_cases a <;> simp [ix4] <;> assumption
  exact (congrArg f (funext fun a => by fin_cases a <;> first | rfl | exact Fin.ext h0 | exact Fin.ext h1)).trans ((h (x 2) (x 3)).trans (congrArg G e.symm))

/-- The carried state's one piece is the whole array. -/
theorem pieceT {α : Type} (G f : S256x128.Idx → α) (h : ∀ e d, f (ix2 e d) = G (ix2 e d))
    (x : (Rect.unit (s := S256x128) ![0, 0] S256x128.size inbT).shape.Idx) : f x = G ((Rect.unit (s := S256x128) ![0, 0] S256x128.size inbT).emb x) := by
  have e : (Rect.unit (s := S256x128) ![0, 0] S256x128.size inbT).emb x = ix2 (x 0) (x 1) := by
    funext a; refine Fin.ext ((Rect.idx_unit_val _ _ inbT x a).trans ?_)
    fin_cases a <;> simp [ix2]
  exact (congrArg f (funext fun a => by fin_cases a <;> rfl)).trans ((h (x 0) (x 1)).trans (congrArg G e.symm))

end Cert.KernelIdeal.Chunk

namespace Cert.KernelIdeal.Fwd

open Cert.KernelIdeal.Gen Cert.KernelIdeal.Chunk
open Idealize.ShloMosaic Idealize.ShloMosaic.TcCoe

variable (VR : (c : Dev nD) → (b : Ref sig .tc) → Buf (Elt Ideal) ((c : Thread nD τ).loc b))

theorem N64 : cfg0.N = 64 := by decide +kernel

theorem idx1_lt (y : S8192x1024.Idx) : (y 1).val < 1024 := (y 1).isLt

/-- A point's head and row block. -/
def hd (t : Fin cfg0.N) : Fin 4 := ⟨t.val / 16, by have := t.isLt; have := N64; omega⟩

theorem idx0 : ∀ t : Fin cfg0.N, win0_0.index t = ![t.val % 16, t.val / 16] := by decide +kernel
theorem idx1 : ∀ t : Fin cfg0.N, win0_1.index t = ![t.val % 16, 4 + t.val / 16] := by decide +kernel
theorem idx2 : ∀ t : Fin cfg0.N, win0_2.index t = ![t.val % 16, 4 + t.val / 16] := by decide +kernel
theorem idx3 : ∀ t : Fin cfg0.N, win0_3.index t = ![t.val % 16, 24] := by decide +kernel
theorem idx4 : ∀ t : Fin cfg0.N, win0_4.index t = ![0, t.val / 16] := by decide +kernel
theorem idx5 : ∀ t : Fin cfg0.N, win0_5.index t = ![0, t.val / 16] := by decide +kernel
theorem idx6 : ∀ t : Fin cfg0.N, win0_6.index t = ![t.val % 16, t.val / 16] := by decide +kernel
theorem idx7 : ∀ t : Fin cfg0.N, win0_7.index t = ![t.val % 16, t.val / 16, 0, 0] := by decide +kernel

theorem blkQ (c : Dev nD) (t : Fin cfg0.N) {n : ℕ} (hn : n < 8) (a : Memref sig .tc .vmem S512x128 .f32) (ha : a.IsWhole) :
    rows (φ := .f32) (ldQ a ha (iblk VR c 0 t) hn) = Gla.pQ (VR c main_v5) (hd t) (8 * (t.val % 16) + n) := by
  funext r d
  show ldQ a ha (iblk VR c 0 t) hn (ix2 r d) = _
  rw [ldQ_at]
  have := t.isLt
  have := N64
  unfold Gla.pQ Gla.row brow hd
  blk_ext [iblk, idx0]

theorem blkK (c : Dev nD) (t : Fin cfg0.N) {n : ℕ} (hn : n < 8) (a : Memref sig .tc .vmem S512x128 .f32) (ha : a.IsWhole) :
    rows (φ := .f32) (ldQ a ha (iblk VR c 1 t) hn) = Gla.pK (VR c main_v5) (hd t) (8 * (t.val % 16) + n) := by
  funext r d
  show ldQ a ha (iblk VR c 1 t) hn (ix2 r d) = _
  rw [ldQ_at]
  have := t.isLt
  have := N64
  unfold Gla.pK Gla.row brow hd
  blk_ext [iblk, idx1]

theorem X2_at (c : Dev nD) (t : Fin cfg0.N) (r : Fin 512) (e : Fin 256) :
    X0_2 VR c t (ix2 r e) = VR c main_v5 (ix2 ⟨512 * (t.val % 16) + r.val, by omega⟩ ⟨1024 + 256 * (hd t).val + e.val, by omega⟩) := by
  have := t.isLt
  have := N64
  unfold X0_2 Pipeline.Window.fill
  rw [dif_pos (moved0_2 t _)]
  unfold hd
  blk_ext [iblk, idx2]

theorem blkV (c : Dev nD) (t : Fin cfg0.N) {n : ℕ} (hn : n < 8) (a : Memref sig .tc .vmem S512x256 .f32) (ha : a.IsWhole) :
    rows (φ := .f32) (ldV a ha (X0_2 VR c t) hn) = Gla.pV (VR c main_v5) (hd t) (8 * (t.val % 16) + n) := by
  funext r e
  show ldV a ha (X0_2 VR c t) hn (ix2 r e) = _
  rw [ldV_at, X2_at]
  unfold Gla.pV Gla.row brow
  blk_ext []

theorem zB_at (c : Dev nD) (t : Fin cfg0.N) {n : ℕ} (hn : n < 8) (r : Fin 64) (d : Fin 128) :
    zAll (F := Ideal) (iblk VR c 3 t) (iblk VR c 4 t) (iblk VR c 5 t) (ix2 (brow hn r) d) = Gla.pZ (VR c main_v5) (VR c main_v6) (VR c main_v7) (hd t) (8 * (t.val % 16) + n) r d := by
  have := t.isLt
  have := N64
  refine (zAll_at _ _ _ _ _).trans ?_
  unfold Gla.pZ Gla.row brow hd
  refine Ideal.add_congr (Finset.sum_congr rfl fun j _ => Ideal.mul_congr ?_ ?_) ?_
  · blk_ext [iblk, idx3]
  · blk_ext [iblk, idx4]
  · blk_ext [iblk, idx5]

variable (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole)

theorem blkG (c : Dev nD) (t : Fin cfg0.N) {n : ℕ} (hn : n < 8) :
    rows (φ := .f32) (cut (gB arg5 harg5 arg6 harg6 arg7 harg7 (iblk VR c 3 t) (iblk VR c 4 t) (iblk VR c 5 t)) hn)
      = Gla.pG (VR c main_v5) (VR c main_v6) (VR c main_v7) (hd t) (8 * (t.val % 16) + n) := by
  funext r d
  show cut _ hn (ix2 r d) = _
  rw [cut_at]
  unfold gB
  rw [gAll_at, ldW_eq, ldG_eq, ldB_eq, zB_at]
  rfl

/-- The state before chunk `n` of a head, and the output's rows. -/
def sf (c : Dev nD) (h : Fin 4) : ℕ → Gla.State :=
  Gla.SF (Gla.pK (VR c main_v5) h) (Gla.pG (VR c main_v5) (VR c main_v6) (VR c main_v7) h) (Gla.pV (VR c main_v5) h)
def so (c : Dev nD) (h : Fin 4) : ℕ → Gla.Vals :=
  Gla.seqO (Gla.pQ (VR c main_v5) h) (Gla.pK (VR c main_v5) h) (Gla.pG (VR c main_v5) (VR c main_v6) (VR c main_v7) h) (Gla.pV (VR c main_v5) h)

variable (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole)

theorem sB_rows (c : Dev nD) (t : Fin cfg0.N) (st : FVec Ideal S256x128 .f32) (hst : rows st = sf VR c (hd t) (8 * (t.val % 16))) : ∀ (n : ℕ) (hn : n ≤ 8),
    rows (sB arg3 harg3 arg4 harg4 arg5 harg5 arg6 harg6 arg7 harg7 (iblk VR c 1 t) (X0_2 VR c t) (iblk VR c 3 t) (iblk VR c 4 t) (iblk VR c 5 t) st n hn)
      = sf VR c (hd t) (8 * (t.val % 16) + n)
  | 0, _ => hst
  | n + 1, hn => by
    funext e d
    refine (nS_at _ _ _ _ _ _).trans ?_
    rw [sB_rows c t st hst n (Nat.le_of_lt hn), blkK, blkG, blkV]
    rfl

/-- What a point's output block holds, and its states block. -/
def gO (c : Dev nD) (t : Fin cfg0.N) (y : S512x256.Idx) : EReal :=
  so VR c (hd t) (8 * (t.val % 16) + (y 0).val / 64) ⟨(y 0).val % 64, Nat.mod_lt _ (by decide)⟩ (y 1)
def gS (c : Dev nD) (t : Fin cfg0.N) (y : S8x1x256x128.Idx) : EReal := sf VR c (hd t) (8 * (t.val % 16) + (y 0).val) (y 2) (y 3)

theorem oP_ok (c : Dev nD) (t : Fin cfg0.N) (st : FVec Ideal S256x128 .f32) (hst : rows st = sf VR c (hd t) (8 * (t.val % 16))) (n : ℕ) (hn : n < 8) :
    ∀ x, (oP arg2 harg2 arg3 harg3 arg4 harg4 arg5 harg5 arg6 harg6 arg7 harg7 (iblk VR c 0 t) (iblk VR c 1 t) (X0_2 VR c t) (iblk VR c 3 t) (iblk VR c 4 t) (iblk VR c 5 t) st n hn).2 x = gO VR c t ((oP arg2 harg2 arg3 harg3 arg4 harg4 arg5 harg5 arg6 harg6 arg7 harg7 (iblk VR c 0 t) (iblk VR c 1 t) (X0_2 VR c t) (iblk VR c 3 t) (iblk VR c 4 t) (iblk VR c 5 t) st n hn).1.emb x) :=
  pieceV _ _ hn fun r e => by
    refine (oC_at _ _ _ _ _ _ _).trans ?_
    rw [blkQ, blkK, blkG, blkV, sB_rows VR arg5 harg5 arg6 harg6 arg7 harg7 arg3 harg3 arg4 harg4 c t st hst]
    have h1 : (64 * n + r.val) / 64 = n := by omega
    have h2 : (64 * n + r.val) % 64 = r.val := by omega
    show _ = so VR c (hd t) (8 * (t.val % 16) + (64 * n + r.val) / 64) ⟨(64 * n + r.val) % 64, _⟩ e
    simp only [h1, h2]
    rfl

theorem sP_ok (c : Dev nD) (t : Fin cfg0.N) (st : FVec Ideal S256x128 .f32) (hst : rows st = sf VR c (hd t) (8 * (t.val % 16))) (n : ℕ) (hn : n < 8) :
    ∀ x, (sP arg3 harg3 arg4 harg4 arg5 harg5 arg6 harg6 arg7 harg7 (iblk VR c 1 t) (X0_2 VR c t) (iblk VR c 3 t) (iblk VR c 4 t) (iblk VR c 5 t) st n hn).2 x = gS VR c t ((sP arg3 harg3 arg4 harg4 arg5 harg5 arg6 harg6 arg7 harg7 (iblk VR c 1 t) (X0_2 VR c t) (iblk VR c 3 t) (iblk VR c 4 t) (iblk VR c 5 t) st n hn).1.emb x) :=
  pieceS _ _ hn fun e d => by
    refine (cast4 _ e d).trans ?_
    exact congrFun (congrFun (sB_rows VR arg5 harg5 arg6 harg6 arg7 harg7 arg3 harg3 arg4 harg4 c t st hst n (Nat.le_of_lt hn)) e) d

theorem tP_ok (c : Dev nD) (t : Fin cfg0.N) (st : FVec Ideal S256x128 .f32) (hst : rows st = sf VR c (hd t) (8 * (t.val % 16))) (e : Fin 256) (d : Fin 128) :
    shapeCast S256x128 (sB arg3 harg3 arg4 harg4 arg5 harg5 arg6 harg6 arg7 harg7 (iblk VR c 1 t) (X0_2 VR c t) (iblk VR c 3 t) (iblk VR c 4 t) (iblk VR c 5 t) st 8 (Nat.le_refl 8)) shapeCasts_S256x128_S256x128 (ix2 e d) = sf VR c (hd t) (8 * (t.val % 16) + 8) e d := by
  refine Eq.trans (b := (sB arg3 harg3 arg4 harg4 arg5 harg5 arg6 harg6 arg7 harg7 (iblk VR c 1 t) (X0_2 VR c t) (iblk VR c 3 t) (iblk VR c 4 t) (iblk VR c 5 t) st 8 (Nat.le_refl 8)) (ix2 e d)) (by pointwise) ?_
  exact congrFun (congrFun (sB_rows VR arg5 harg5 arg6 harg6 arg7 harg7 arg3 harg3 arg4 harg4 c t st hst 8 (Nat.le_refl 8)) e) d

variable (arg8 : Memref sig .tc .vmem S512x256 .f32) (harg8 : arg8.IsWhole) (arg9 : Memref sig .tc .vmem S8x1x256x128 .f32) (harg9 : arg9.IsWhole) (arg10 : Memref sig .tc .vmem S256x128 .f32) (harg10 : arg10.IsWhole)

/-- The reset leaves the zero state. -/
theorem st0A_rows (c : Dev nD) (h : Fin 4) : rows (φ := .f32) (kernelRun0_A.sl.v28 (F := Ideal) c arg10) = sf VR c h 0 := by
  funext e d
  show kernelRun0_A.sl.v28 (F := Ideal) c arg10 (ix2 e d) = 0
  have h1 := View.readCov_fill (Val := Elt Ideal) (s := S256x128) (e := .f32) arg10.view inbT (k0_pay3 (F := Ideal)) [] (Rect.unit (s := S256x128) ![0, 0] S256x128.size inbT) zeros
  have h2 := View.ld_unit_lit (Val := Elt Ideal) (S := S256x128) (e := .f32) inbT (k0_pay3 (F := Ideal)) zeros
  refine ((congrFun h1 (ix2 e d)).trans (congrFun h2 (ix2 e d))).trans ?_
  pointwise [k0_pay3]

theorem st0B_rows (x : Vec Ideal S256x128 .f32) : rows (φ := .f32) (st0B arg10 harg10 x) = rows (φ := .f32) x := by
  have h : st0B arg10 harg10 x = x := by
    unfold st0B
    rw [View.readAt_eq_ld, harg10.read_unread x]
    exact View.ld_unit_lit inbT x zeros
  rw [h]

theorem outA_6_at (c : Dev nD) (t : Fin cfg0.N) (hc0 : cond0_0 (grid0.coords t)) (h0 : t.val % 16 = 0) (y) :
    out0_A_6 c (grid0.coords t) arg2 harg2 arg3 harg3 arg4 harg4 arg5 harg5 arg6 harg6 arg7 harg7 arg8 harg8 arg9 harg9 arg10 harg10 hc0 (iblk VR c 0 t) (iblk VR c 1 t) (X0_2 VR c t) (iblk VR c 3 t) (iblk VR c 4 t) (iblk VR c 5 t) y = gO VR c t y := by
  unfold out0_A_6
  refine View.read_writes_apply_of_pieces _ _ (gO VR c t) _ ?_ y (cover0_A_6 c (grid0.coords t) arg2 harg2 arg3 harg3 arg4 harg4 arg5 harg5 arg6 harg6 arg7 harg7 arg8 harg8 arg9 harg9 arg10 harg10 hc0 (iblk VR c 0 t) (iblk VR c 1 t) (X0_2 VR c t) (iblk VR c 3 t) (iblk VR c 4 t) (iblk VR c 5 t) y)
  rw [piecesA_6]
  have h := fun n hn => oP_ok VR arg5 harg5 arg6 harg6 arg7 harg7 arg2 harg2 arg3 harg3 arg4 harg4 c t (kernelRun0_A.sl.v28 (F := Ideal) c arg10) ((st0A_rows VR arg10 c (hd t)).trans (by rw [h0])) n hn
  exact View.PiecesOf.mem ⟨h 7 (by decide), h 6 (by decide), h 5 (by decide), h 4 (by decide), h 3 (by decide), h 2 (by decide), h 1 (by decide), h 0 (by decide), trivial⟩

theorem outA_7_at (c : Dev nD) (t : Fin cfg0.N) (hc0 : cond0_0 (grid0.coords t)) (h0 : t.val % 16 = 0) (y) :
    out0_A_7 c (grid0.coords t) arg2 harg2 arg3 harg3 arg4 harg4 arg5 harg5 arg6 harg6 arg7 harg7 arg8 harg8 arg9 harg9 arg10 harg10 hc0 (iblk VR c 0 t) (iblk VR c 1 t) (X0_2 VR c t) (iblk VR c 3 t) (iblk VR c 4 t) (iblk VR c 5 t) y = gS VR c t y := by
  unfold out0_A_7
  refine View.read_writes_apply_of_pieces _ _ (gS VR c t) _ ?_ y (cover0_A_7 c (grid0.coords t) arg2 harg2 arg3 harg3 arg4 harg4 arg5 harg5 arg6 harg6 arg7 harg7 arg8 harg8 arg9 harg9 arg10 harg10 hc0 (iblk VR c 0 t) (iblk VR c 1 t) (X0_2 VR c t) (iblk VR c 3 t) (iblk VR c 4 t) (iblk VR c 5 t) y)
  rw [piecesA_7]
  have h := fun n hn => sP_ok VR arg5 harg5 arg6 harg6 arg7 harg7 arg3 harg3 arg4 harg4 c t (kernelRun0_A.sl.v28 (F := Ideal) c arg10) ((st0A_rows VR arg10 c (hd t)).trans (by rw [h0])) n hn
  exact View.PiecesOf.mem ⟨h 7 (by decide), h 6 (by decide), h 5 (by decide), h 4 (by decide), h 3 (by decide), h 2 (by decide), h 1 (by decide), h 0 (by decide), trivial⟩

theorem soutA_at (c : Dev nD) (t : Fin cfg0.N) (hc0 : cond0_0 (grid0.coords t)) (h0 : t.val % 16 = 0) :
    rows (φ := .f32) (sout0_A_0 c (grid0.coords t) arg2 harg2 arg3 harg3 arg4 harg4 arg5 harg5 arg6 harg6 arg7 harg7 arg8 harg8 arg9 harg9 arg10 harg10 hc0 (iblk VR c 0 t) (iblk VR c 1 t) (X0_2 VR c t) (iblk VR c 3 t) (iblk VR c 4 t) (iblk VR c 5 t)) = sf VR c (hd t) (8 * (t.val % 16) + 8) := by
  funext e d
  show sout0_A_0 c (grid0.coords t) arg2 harg2 arg3 harg3 arg4 harg4 arg5 harg5 arg6 harg6 arg7 harg7 arg8 harg8 arg9 harg9 arg10 harg10 hc0 (iblk VR c 0 t) (iblk VR c 1 t) (X0_2 VR c t) (iblk VR c 3 t) (iblk VR c 4 t) (iblk VR c 5 t) (ix2 e d) = _
  unfold sout0_A_0
  obtain ⟨L, hL⟩ := piecesA_s c (grid0.coords t) arg2 harg2 arg3 harg3 arg4 harg4 arg5 harg5 arg6 harg6 arg7 harg7 arg8 harg8 arg9 harg9 arg10 harg10 (iblk VR c 0 t) (iblk VR c 1 t) (X0_2 VR c t) (iblk VR c 3 t) (iblk VR c 4 t) (iblk VR c 5 t) hc0
  rw [hL]
  exact (whole_hit _ _ _ _ e d).trans (tP_ok VR arg5 harg5 arg6 harg6 arg7 harg7 arg3 harg3 arg4 harg4 c t (kernelRun0_A.sl.v28 (F := Ideal) c arg10) ((st0A_rows VR arg10 c (hd t)).trans (by rw [h0])) e d)

theorem outB_6_at (c : Dev nD) (t : Fin cfg0.N) (hc0 : ¬cond0_0 (grid0.coords t)) (xs0 : Vec Ideal S256x128 .f32) (hx : rows (φ := .f32) xs0 = sf VR c (hd t) (8 * (t.val % 16))) (y) :
    out0_B_6 c (grid0.coords t) arg2 harg2 arg3 harg3 arg4 harg4 arg5 harg5 arg6 harg6 arg7 harg7 arg8 harg8 arg9 harg9 arg10 harg10 hc0 (iblk VR c 0 t) (iblk VR c 1 t) (X0_2 VR c t) (iblk VR c 3 t) (iblk VR c 4 t) (iblk VR c 5 t) xs0 y = gO VR c t y := by
  unfold out0_B_6
  refine View.read_writes_apply_of_pieces _ _ (gO VR c t) _ ?_ y (cover0_B_6 c (grid0.coords t) arg2 harg2 arg3 harg3 arg4 harg4 arg5 harg5 arg6 harg6 arg7 harg7 arg8 harg8 arg9 harg9 arg10 harg10 hc0 (iblk VR c 0 t) (iblk VR c 1 t) (X0_2 VR c t) (iblk VR c 3 t) (iblk VR c 4 t) (iblk VR c 5 t) xs0 y)
  rw [piecesB_6]
  have h := fun n hn => oP_ok VR arg5 harg5 arg6 harg6 arg7 harg7 arg2 harg2 arg3 harg3 arg4 harg4 c t (st0B arg10 harg10 xs0) ((st0B_rows _ _ xs0).trans hx) n hn
  exact View.PiecesOf.mem ⟨h 7 (by decide), h 6 (by decide), h 5 (by decide), h 4 (by decide), h 3 (by decide), h 2 (by decide), h 1 (by decide), h 0 (by decide), trivial⟩

theorem outB_7_at (c : Dev nD) (t : Fin cfg0.N) (hc0 : ¬cond0_0 (grid0.coords t)) (xs0 : Vec Ideal S256x128 .f32) (hx : rows (φ := .f32) xs0 = sf VR c (hd t) (8 * (t.val % 16))) (y) :
    out0_B_7 c (grid0.coords t) arg2 harg2 arg3 harg3 arg4 harg4 arg5 harg5 arg6 harg6 arg7 harg7 arg8 harg8 arg9 harg9 arg10 harg10 hc0 (iblk VR c 0 t) (iblk VR c 1 t) (X0_2 VR c t) (iblk VR c 3 t) (iblk VR c 4 t) (iblk VR c 5 t) xs0 y = gS VR c t y := by
  unfold out0_B_7
  refine View.read_writes_apply_of_pieces _ _ (gS VR c t) _ ?_ y (cover0_B_7 c (grid0.coords t) arg2 harg2 arg3 harg3 arg4 harg4 arg5 harg5 arg6 harg6 arg7 harg7 arg8 harg8 arg9 harg9 arg10 harg10 hc0 (iblk VR c 0 t) (iblk VR c 1 t) (X0_2 VR c t) (iblk VR c 3 t) (iblk VR c 4 t) (iblk VR c 5 t) xs0 y)
  rw [piecesB_7]
  have h := fun n hn => sP_ok VR arg5 harg5 arg6 harg6 arg7 harg7 arg3 harg3 arg4 harg4 c t (st0B arg10 harg10 xs0) ((st0B_rows _ _ xs0).trans hx) n hn
  exact View.PiecesOf.mem ⟨h 7 (by decide), h 6 (by decide), h 5 (by decide), h 4 (by decide), h 3 (by decide), h 2 (by decide), h 1 (by decide), h 0 (by decide), trivial⟩

theorem soutB_at (c : Dev nD) (t : Fin cfg0.N) (hc0 : ¬cond0_0 (grid0.coords t)) (xs0 : Vec Ideal S256x128 .f32) (hx : rows (φ := .f32) xs0 = sf VR c (hd t) (8 * (t.val % 16))) :
    rows (φ := .f32) (sout0_B_0 c (grid0.coords t) arg2 harg2 arg3 harg3 arg4 harg4 arg5 harg5 arg6 harg6 arg7 harg7 arg8 harg8 arg9 harg9 arg10 harg10 hc0 (iblk VR c 0 t) (iblk VR c 1 t) (X0_2 VR c t) (iblk VR c 3 t) (iblk VR c 4 t) (iblk VR c 5 t) xs0) = sf VR c (hd t) (8 * (t.val % 16) + 8) := by
  funext e d
  show sout0_B_0 c (grid0.coords t) arg2 harg2 arg3 harg3 arg4 harg4 arg5 harg5 arg6 harg6 arg7 harg7 arg8 harg8 arg9 harg9 arg10 harg10 hc0 (iblk VR c 0 t) (iblk VR c 1 t) (X0_2 VR c t) (iblk VR c 3 t) (iblk VR c 4 t) (iblk VR c 5 t) xs0 (ix2 e d) = _
  unfold sout0_B_0
  rw [piecesB_s]
  exact (whole_hit _ _ _ _ e d).trans (tP_ok VR arg5 harg5 arg6 harg6 arg7 harg7 arg3 harg3 arg4 harg4 c t (st0B arg10 harg10 xs0) ((st0B_rows _ _ xs0).trans hx) e d)

theorem at_A (c : Dev nD) (t : Fin cfg0.N) (h0 : t.val % 16 = 0) : (∀ y, (outsAt0 VR c t.val t.isLt).1 y = gO VR c t y) ∧ (∀ y, (outsAt0 VR c t.val t.isLt).2.1 y = gS VR c t y)
    ∧ rows (φ := .f32) (outsAt0 VR c t.val t.isLt).2.2 = sf VR c (hd t) (8 * (t.val % 16) + 8) := by
  rw [outsAt0_A VR c t h0]
  dsimp only
  refine ⟨fun y => ?_, fun y => ?_, ?_⟩
  · exact outA_6_at VR _ (hs0_3 t) _ (hs0_4 t) _ (hs0_5 t) _ (hs0_0 t) _ (hs0_1 t) _ (hs0_2 t) _ (hs0_6 t) _ (hs0_7 t) _ (Memref.isWhole_whole _) c t ((hcond0_0 t).mpr h0) h0 y
  · exact outA_7_at VR _ (hs0_3 t) _ (hs0_4 t) _ (hs0_5 t) _ (hs0_0 t) _ (hs0_1 t) _ (hs0_2 t) _ (hs0_6 t) _ (hs0_7 t) _ (Memref.isWhole_whole _) c t ((hcond0_0 t).mpr h0) h0 y
  · exact soutA_at VR _ (hs0_3 t) _ (hs0_4 t) _ (hs0_5 t) _ (hs0_0 t) _ (hs0_1 t) _ (hs0_2 t) _ (hs0_6 t) _ (hs0_7 t) _ (Memref.isWhole_whole _) c t ((hcond0_0 t).mpr h0) h0

theorem at_B (c : Dev nD) (t : Fin cfg0.N) (h0 : ¬t.val % 16 = 0)
    (ih : rows (φ := .f32) (outsAt0 VR c (t.val - 1) (Nat.lt_of_le_of_lt (Nat.sub_le _ _) t.isLt)).2.2 = sf VR c (hd t) (8 * (t.val % 16))) :
    (∀ y, (outsAt0 VR c t.val t.isLt).1 y = gO VR c t y) ∧ (∀ y, (outsAt0 VR c t.val t.isLt).2.1 y = gS VR c t y)
    ∧ rows (φ := .f32) (outsAt0 VR c t.val t.isLt).2.2 = sf VR c (hd t) (8 * (t.val % 16) + 8) := by
  rw [outsAt0_B VR c t h0]
  dsimp only
  refine ⟨fun y => ?_, fun y => ?_, ?_⟩
  · exact outB_6_at VR _ (hs0_3 t) _ (hs0_4 t) _ (hs0_5 t) _ (hs0_0 t) _ (hs0_1 t) _ (hs0_2 t) _ (hs0_6 t) _ (hs0_7 t) _ (Memref.isWhole_whole _) c t (fun h => h0 ((hcond0_0 t).mp h)) _ ih y
  · exact outB_7_at VR _ (hs0_3 t) _ (hs0_4 t) _ (hs0_5 t) _ (hs0_0 t) _ (hs0_1 t) _ (hs0_2 t) _ (hs0_6 t) _ (hs0_7 t) _ (Memref.isWhole_whole _) c t (fun h => h0 ((hcond0_0 t).mp h)) _ ih y
  · exact soutB_at VR _ (hs0_3 t) _ (hs0_4 t) _ (hs0_5 t) _ (hs0_0 t) _ (hs0_1 t) _ (hs0_2 t) _ (hs0_6 t) _ (hs0_7 t) _ (Memref.isWhole_whole _) c t (fun h => h0 ((hcond0_0 t).mp h)) _ ih

/-- What a point leaves: its output rows, the states before its chunks, and the carried state. -/
theorem outs_at (c : Dev nD) : ∀ (n : ℕ) (hn : n < cfg0.N), (∀ y, (outsAt0 VR c n hn).1 y = gO VR c ⟨n, hn⟩ y) ∧ (∀ y, (outsAt0 VR c n hn).2.1 y = gS VR c ⟨n, hn⟩ y)
    ∧ rows (φ := .f32) (outsAt0 VR c n hn).2.2 = sf VR c (hd ⟨n, hn⟩) (8 * (n % 16) + 8)
  | 0, hn => at_A VR c ⟨0, hn⟩ (Nat.zero_mod _)
  | k + 1, hn => by
    by_cases h0 : (k + 1) % 16 = 0
    · exact at_A VR c ⟨k + 1, hn⟩ h0
    · have ih := (outs_at c k (Nat.lt_of_succ_lt hn)).2.2
      have e1 : hd ⟨k, Nat.lt_of_succ_lt hn⟩ = hd ⟨k + 1, hn⟩ := Fin.ext (by show k / 16 = (k + 1) / 16; omega)
      have e2 : 8 * (k % 16) + 8 = 8 * ((k + 1) % 16) := by omega
      rw [e1, e2] at ih
      exact at_B VR c ⟨k + 1, hn⟩ h0 ih

/-- The output array and the states array after the run. -/
theorem final6 (c : Dev nD) : (dats VR c).arrAt 6 cfg0.N = fun y : S8192x1024.Idx =>
    so VR c ⟨(y 1).val / 256, by have := idx1_lt y; omega⟩ ((y 0).val / 64) ⟨(y 0).val % 64, Nat.mod_lt _ (by decide)⟩ ⟨(y 1).val % 256, Nat.mod_lt _ (by decide)⟩ := by
  refine (dats VR c).arrAt_eq_of_covers 6 _ (by decide +kernel) fun t hf y => ?_
  blk_simp
  rw [after0_6, (outs_at VR c t.val t.isLt).1]
  have h0 : (y 0).val < 512 := (y 0).isLt
  have h1 : (y 1).val < 256 := (y 1).isLt
  have i0 : win0_6.index t 0 = t.val % 16 := congrFun (idx6 t) 0
  have i1 : win0_6.index t 1 = t.val / 16 := congrFun (idx6 t) 1
  refine congr (congr (congr (congrArg (so VR c) (Fin.ext ?_)) ?_) (Fin.ext ?_)) (Fin.ext ?_)
  · show t.val / 16 = (win0_6.index t 1 * 256 + (y 1).val) / 256
    rw [i1]; omega
  · show 8 * (t.val % 16) + (y 0).val / 64 = (win0_6.index t 0 * 512 + (y 0).val) / 64
    rw [i0]; omega
  · show (y 0).val % 64 = (win0_6.index t 0 * 512 + (y 0).val) % 64
    rw [i0]; omega
  · show (y 1).val = (win0_6.index t 1 * 256 + (y 1).val) % 256
    rw [i1]; omega

theorem final7 (c : Dev nD) : (dats VR c).arrAt 7 cfg0.N = fun y : S128x4x256x128.Idx => sf VR c (y 1) (y 0).val (y 2) (y 3) := by
  refine (dats VR c).arrAt_eq_of_covers 7 _ (by decide +kernel) fun t hf y => ?_
  blk_simp
  rw [after0_7, (outs_at VR c t.val t.isLt).2.1]
  have h0 : (y 0).val < 8 := (y 0).isLt
  have h1 : (y 1).val < 1 := (y 1).isLt
  have i0 : win0_7.index t 0 = t.val % 16 := congrFun (idx7 t) 0
  have i1 : win0_7.index t 1 = t.val / 16 := congrFun (idx7 t) 1
  have i2 : win0_7.index t 2 = 0 := congrFun (idx7 t) 2
  have i3 : win0_7.index t 3 = 0 := congrFun (idx7 t) 3
  refine congr (congr (congr (congrArg (sf VR c) (Fin.ext ?_)) ?_) (Fin.ext ?_)) (Fin.ext ?_)
  · blk_simp
    rw [i1]; show t.val / 16 = _; omega
  · rw [i0]; show 8 * (t.val % 16) + (y 0).val = _; omega
  · blk_simp
    rw [i2]; omega
  · blk_simp
    rw [i3]; omega

end Cert.KernelIdeal.Fwd

end
-- ==== Proof.BwdVal.lean ====
/- What region 1 leaves: a head's cotangents, chunk by chunk from the last, as the recurrence's own. -/
module

public import proofs.«01_k».proof.Proof.BwdPieces
public import proofs.«01_k».proof.Proof.FwdVal

@[expose] public section

set_option maxRecDepth 16384

noncomputable section

namespace Cert.KernelIdeal.Chunk

open Cert.KernelIdeal.Gen
open Idealize.ShloMosaic Idealize.ShloMosaic.TcCoe

theorem zeros4 : ∀ a, (![0, 0, 0, 0] : Fin 4 → Nat) a = 0 := by decide

theorem ldS_at (a : Memref sig .tc .vmem S8x1x256x128 .f32) (ha : a.IsWhole) (x : Vec Ideal S8x1x256x128 .f32) {n : ℕ} (hn : n < 8) (e : Fin 256) (d : Fin 128) :
    Bwd.ldS a ha x hn (ix4 0 0 e d) = x (ix4 ⟨n, hn⟩ 0 e d) := by
  unfold Bwd.ldS
  rw [View.readAt_eq_ld, ha.read_unread x]
  exact View.ld_unit_apply_of x _ _ _ _ _ fun a => by fin_cases a <;> simp [ix4]

theorem whole_row {sp : Space} (v : View sig .tc sp S1x128 .f32) (f : v.ty.Contents (Elt Ideal)) (w : Vec Ideal S1x128 .f32) (L : List (View.Piece (Elt Ideal) S1x128 .f32))
    (d : Fin 128) : v.read (Elt Ideal) (v.writes (Elt Ideal) f (⟨Rect.unit (s := S1x128) ![0, 0] S1x128.size inbB, w⟩ :: L)) (ix2 0 d) = w (ix2 0 d) :=
  View.read_writes_cons_hit v f (Rect.unit (s := S1x128) ![0, 0] S1x128.size inbB) w L (ix2 0 d) (ix2 0 d)
    (funext fun a => Fin.ext ((Rect.idx_unit_val (s := S1x128) ![0, 0] S1x128.size inbB (ix2 0 d) a).trans (by fin_cases a <;> simp [ix2])))

/-- A load of the whole row after a store of it: the stored row. -/
theorem load_row {sp : Space} (v : View sig .tc sp S1x128 .f32) (w : Vec Ideal S1x128 .f32) (L : List (View.Piece (Elt Ideal) S1x128 .f32)) (d : Fin 128) :
    View.readCov (Val := Elt Ideal) (e := .f32) v (⟨Rect.unit (s := S1x128) ![0, 0] S1x128.size inbB, w⟩ :: L) (Rect.unit (s := S1x128) ![0, 0] S1x128.size inbB).toLoadRect (ix2 0 d) = w (ix2 0 d) := by
  have h1 := View.readCov_fill (Val := Elt Ideal) (s := S1x128) (e := .f32) v inbB w L (Rect.unit (s := S1x128) ![0, 0] S1x128.size inbB) zeros
  have h2 := View.ld_unit_lit (Val := Elt Ideal) (S := S1x128) (e := .f32) inbB w zeros
  exact (congrFun h1 (ix2 0 d)).trans (congrFun h2 (ix2 0 d))

end Cert.KernelIdeal.Chunk

namespace Cert.KernelIdeal.Bwd

open Cert.KernelIdeal.Gen Cert.KernelIdeal.Chunk
open Cert.KernelIdeal.Fwd (gB sf)
open Idealize.ShloMosaic Idealize.ShloMosaic.TcCoe

variable (VR : (c : Dev nD) → (b : Ref sig .tc) → Buf (Elt Ideal) ((c : Thread nD τ).loc b))

theorem N64 : cfg1.N = 64 := by decide +kernel

/-- A point's head. -/
def hd (t : Fin cfg1.N) : Fin 4 := ⟨t.val / 16, by have := t.isLt; have := N64; omega⟩

theorem idx0 : ∀ t : Fin cfg1.N, win1_0.index t = ![15 - t.val % 16, t.val / 16] := by decide +kernel
theorem idx1 : ∀ t : Fin cfg1.N, win1_1.index t = ![15 - t.val % 16, 4 + t.val / 16] := by decide +kernel
theorem idx2 : ∀ t : Fin cfg1.N, win1_2.index t = ![15 - t.val % 16, 4 + t.val / 16] := by decide +kernel
theorem idx3 : ∀ t : Fin cfg1.N, win1_3.index t = ![15 - t.val % 16, 24] := by decide +kernel
theorem idx4 : ∀ t : Fin cfg1.N, win1_4.index t = ![0, t.val / 16] := by decide +kernel
theorem idx5 : ∀ t : Fin cfg1.N, win1_5.index t = ![0, t.val / 16] := by decide +kernel
theorem idx6 : ∀ t : Fin cfg1.N, win1_6.index t = ![15 - t.val % 16, t.val / 16, 0, 0] := by decide +kernel
theorem idx7 : ∀ t : Fin cfg1.N, win1_7.index t = ![15 - t.val % 16, t.val / 16] := by decide +kernel
theorem idx8 : ∀ t : Fin cfg1.N, win1_8.index t = ![15 - t.val % 16, t.val / 16] := by decide +kernel
theorem idx9 : ∀ t : Fin cfg1.N, win1_9.index t = ![15 - t.val % 16, t.val / 16] := by decide +kernel
theorem idx10 : ∀ t : Fin cfg1.N, win1_10.index t = ![15 - t.val % 16, t.val / 16] := by decide +kernel
theorem idx11 : ∀ t : Fin cfg1.N, win1_11.index t = ![15 - t.val % 16, t.val / 16] := by decide +kernel
theorem idx12 : ∀ t : Fin cfg1.N, win1_12.index t = ![0, t.val / 16] := by decide +kernel

theorem blkQ (c : Dev nD) (t : Fin cfg1.N) {n : ℕ} (hn : n < 8) (a : Memref sig .tc .vmem S512x128 .f32) (ha : a.IsWhole) :
    rows (φ := .f32) (ldQ a ha (iblk VR c 0 t) hn) = Gla.pQ (VR c main_v5) (hd t) (8 * (15 - t.val % 16) + n) := by
  funext r d
  show ldQ a ha (iblk VR c 0 t) hn (ix2 r d) = _
  rw [ldQ_at]
  have := t.isLt
  have := N64
  unfold Gla.pQ Gla.row brow hd
  blk_ext [iblk, idx0]

theorem blkK (c : Dev nD) (t : Fin cfg1.N) {n : ℕ} (hn : n < 8) (a : Memref sig .tc .vmem S512x128 .f32) (ha : a.IsWhole) :
    rows (φ := .f32) (ldQ a ha (iblk VR c 1 t) hn) = Gla.pK (VR c main_v5) (hd t) (8 * (15 - t.val % 16) + n) := by
  funext r d
  show ldQ a ha (iblk VR c 1 t) hn (ix2 r d) = _
  rw [ldQ_at]
  have := t.isLt
  have := N64
  unfold Gla.pK Gla.row brow hd
  blk_ext [iblk, idx1]

theorem blkD (c : Dev nD) (t : Fin cfg1.N) {n : ℕ} (hn : n < 8) (a : Memref sig .tc .vmem S512x256 .f32) (ha : a.IsWhole) :
    rows (φ := .f32) (ldV a ha (iblk VR c 7 t) hn) = Gla.pD (VR c main_v9) (hd t) (8 * (15 - t.val % 16) + n) := by
  funext r d
  show ldV a ha (iblk VR c 7 t) hn (ix2 r d) = _
  rw [ldV_at]
  have := t.isLt
  have := N64
  unfold Gla.pD Gla.row brow hd
  blk_ext [iblk, idx7]

theorem X2_at (c : Dev nD) (t : Fin cfg1.N) (r : Fin 512) (e : Fin 256) :
    X1_2 VR c t (ix2 r e) = VR c main_v5 (ix2 ⟨512 * (15 - t.val % 16) + r.val, by omega⟩ ⟨1024 + 256 * (hd t).val + e.val, by omega⟩) := by
  have := t.isLt
  have := N64
  unfold X1_2 Pipeline.Window.fill
  rw [dif_pos (moved1_2 t _)]
  unfold hd
  blk_ext [iblk, idx2]

theorem blkV (c : Dev nD) (t : Fin cfg1.N) {n : ℕ} (hn : n < 8) (a : Memref sig .tc .vmem S512x256 .f32) (ha : a.IsWhole) :
    rows (φ := .f32) (ldV a ha (X1_2 VR c t) hn) = Gla.pV (VR c main_v5) (hd t) (8 * (15 - t.val % 16) + n) := by
  funext r e
  show ldV a ha (X1_2 VR c t) hn (ix2 r e) = _
  rw [ldV_at, X2_at]
  unfold Gla.pV Gla.row brow
  blk_ext []

theorem zB_at (c : Dev nD) (t : Fin cfg1.N) {n : ℕ} (hn : n < 8) (r : Fin 64) (d : Fin 128) :
    zAll (F := Ideal) (iblk VR c 3 t) (iblk VR c 4 t) (iblk VR c 5 t) (ix2 (brow hn r) d) = Gla.pZ (VR c main_v5) (VR c main_v6) (VR c main_v7) (hd t) (8 * (15 - t.val % 16) + n) r d := by
  have := t.isLt
  have := N64
  refine (zAll_at _ _ _ _ _).trans ?_
  unfold Gla.pZ Gla.row brow hd
  refine Ideal.add_congr (Finset.sum_congr rfl fun j _ => Ideal.mul_congr ?_ ?_) ?_
  · blk_ext [iblk, idx3]
  · blk_ext [iblk, idx4]
  · blk_ext [iblk, idx5]

/-- The staged states are the forward region's. -/
theorem blkS (c : Dev nD) (hS : VR c main_v8_1 = fun y : S128x4x256x128.Idx => sf VR c (y 1) (y 0).val (y 2) (y 3)) (t : Fin cfg1.N) {n : ℕ} (hn : n < 8) (a : Memref sig .tc .vmem S8x1x256x128 .f32) (ha : a.IsWhole) :
    block (ldS a ha (iblk VR c 6 t) hn) = sf VR c (hd t) (8 * (15 - t.val % 16) + n) := by
  funext e d
  show ldS a ha (iblk VR c 6 t) hn (ix4 0 0 e d) = _
  rw [ldS_at]
  have := t.isLt
  have := N64
  refine Eq.trans (b := VR c main_v8_1 (ix4 ⟨8 * (15 - t.val % 16) + n, by omega⟩ (hd t) e d)) ?_ ?_
  · unfold hd
    blk_ext [iblk, idx6]
  · rw [hS]
    rfl

variable (arg5 : Memref sig .tc .vmem S512x128 .f32) (harg5 : arg5.IsWhole) (arg6 : Memref sig .tc .vmem S128x128 .f32) (harg6 : arg6.IsWhole) (arg7 : Memref sig .tc .vmem S1x128 .f32) (harg7 : arg7.IsWhole)

theorem blkG (c : Dev nD) (t : Fin cfg1.N) {n : ℕ} (hn : n < 8) :
    rows (φ := .f32) (cut (gB arg5 harg5 arg6 harg6 arg7 harg7 (iblk VR c 3 t) (iblk VR c 4 t) (iblk VR c 5 t)) hn)
      = Gla.pG (VR c main_v5) (VR c main_v6) (VR c main_v7) (hd t) (8 * (15 - t.val % 16) + n) := by
  funext r d
  show cut _ hn (ix2 r d) = _
  rw [cut_at]
  unfold gB
  rw [gAll_at, ldW_eq, ldG_eq, ldB_eq, zB_at]
  rfl

theorem blkZ (c : Dev nD) (t : Fin cfg1.N) {n : ℕ} (hn : n < 8) :
    rows (φ := .f32) (cut (zB arg5 harg5 arg6 harg6 arg7 harg7 (iblk VR c 3 t) (iblk VR c 4 t) (iblk VR c 5 t)) hn)
      = Gla.pZ (VR c main_v5) (VR c main_v6) (VR c main_v7) (hd t) (8 * (15 - t.val % 16) + n) := by
  funext r d
  show cut _ hn (ix2 r d) = _
  rw [cut_at]
  unfold zB
  rw [ldW_eq, ldG_eq, ldB_eq, zB_at]

/-- A head's cotangents: the state's after `m` chunks from the last, each chunk's, the bias's after `m` chunks. -/
def df (c : Dev nD) (h : Fin 4) : ℕ → Gla.State := Gla.DF (Gla.pQ (VR c main_v5) h) (Gla.pG (VR c main_v5) (VR c main_v6) (VR c main_v7) h) (Gla.pD (VR c main_v9) h)
def sdQ (c : Dev nD) (h : Fin 4) : ℕ → Gla.Rows := Gla.seqDQ (Gla.pK (VR c main_v5) h) (Gla.pG (VR c main_v5) (VR c main_v6) (VR c main_v7) h) (Gla.pV (VR c main_v5) h) (Gla.pD (VR c main_v9) h)
def sdK (c : Dev nD) (h : Fin 4) : ℕ → Gla.Rows := Gla.seqDK (Gla.pQ (VR c main_v5) h) (Gla.pG (VR c main_v5) (VR c main_v6) (VR c main_v7) h) (Gla.pV (VR c main_v5) h) (Gla.pD (VR c main_v9) h)
def sdV (c : Dev nD) (h : Fin 4) : ℕ → Gla.Vals := Gla.seqDV (Gla.pQ (VR c main_v5) h) (Gla.pK (VR c main_v5) h) (Gla.pG (VR c main_v5) (VR c main_v6) (VR c main_v7) h) (Gla.pD (VR c main_v9) h)
def sdZ (c : Dev nD) (h : Fin 4) : ℕ → Gla.Rows := Gla.seqDZ (Gla.pQ (VR c main_v5) h) (Gla.pK (VR c main_v5) h) (Gla.pG (VR c main_v5) (VR c main_v6) (VR c main_v7) h) (Gla.pZ (VR c main_v5) (VR c main_v6) (VR c main_v7) h) (Gla.pV (VR c main_v5) h) (Gla.pD (VR c main_v9) h)
def bf (c : Dev nD) (h : Fin 4) : ℕ → Fin 128 → EReal := Gla.BF (Gla.pQ (VR c main_v5) h) (Gla.pK (VR c main_v5) h) (Gla.pG (VR c main_v5) (VR c main_v6) (VR c main_v7) h) (Gla.pZ (VR c main_v5) (VR c main_v6) (VR c main_v7) h) (Gla.pV (VR c main_v5) h) (Gla.pD (VR c main_v9) h)

theorem df_succ (c : Dev nD) (h : Fin 4) (m : ℕ) : df VR c h (m + 1) = Gla.nD (Gla.pQ (VR c main_v5) h (127 - m)) (Gla.pG (VR c main_v5) (VR c main_v6) (VR c main_v7) h (127 - m)) (Gla.pD (VR c main_v9) h (127 - m)) (df VR c h m) := rfl
theorem bf_succ (c : Dev nD) (h : Fin 4) (m : ℕ) (d : Fin 128) : bf VR c h (m + 1) d = bf VR c h m d + ∑ r : Fin 64, sdZ VR c h (127 - m) r d := rfl

variable (arg2 : Memref sig .tc .vmem S512x128 .f32) (harg2 : arg2.IsWhole) (arg3 : Memref sig .tc .vmem S512x128 .f32) (harg3 : arg3.IsWhole) (arg4 : Memref sig .tc .vmem S512x256 .f32) (harg4 : arg4.IsWhole) (arg8 : Memref sig .tc .vmem S8x1x256x128 .f32) (harg8 : arg8.IsWhole) (arg9 : Memref sig .tc .vmem S512x256 .f32) (harg9 : arg9.IsWhole) (arg10 : Memref sig .tc .vmem S512x128 .bf16) (harg10 : arg10.IsWhole) (arg11 : Memref sig .tc .vmem S512x128 .bf16) (harg11 : arg11.IsWhole) (arg12 : Memref sig .tc .vmem S512x256 .bf16) (harg12 : arg12.IsWhole) (arg13 : Memref sig .tc .vmem S512x128 .f32) (harg13 : arg13.IsWhole) (arg14 : Memref sig .tc .vmem S1x128 .f32) (harg14 : arg14.IsWhole) (arg15 : Memref sig .tc .vmem S256x128 .f32) (harg15 : arg15.IsWhole)

/-- The carried cotangent and the bias's, as a point finds them, are the recurrence's. -/
def HD (c : Dev nD) (t : Fin cfg1.N) (st : FVec Ideal S256x128 .f32) : Prop := rows st = df VR c (hd t) (8 * (t.val % 16))
def HB (c : Dev nD) (t : Fin cfg1.N) (ba : FVec Ideal S1x128 .f32) : Prop := ∀ d, ba (ix2 0 d) = bf VR c (hd t) (8 * (t.val % 16)) d

theorem tB_rows (c : Dev nD) (t : Fin cfg1.N) (st : FVec Ideal S256x128 .f32) (hst : HD VR c t st) : ∀ (m : ℕ) (hm : m ≤ 8),
    rows (tB arg2 harg2 arg5 harg5 arg6 harg6 arg7 harg7 arg9 harg9 (iblk VR c 0 t) (iblk VR c 3 t) (iblk VR c 4 t) (iblk VR c 5 t) (iblk VR c 7 t) st m hm) = df VR c (hd t) (8 * (t.val % 16) + m)
  | 0, _ => hst
  | m + 1, hm => by
    funext e d
    refine (nD_at _ _ _ _ _ _).trans ?_
    have e1 : 8 * (15 - t.val % 16) + (7 - m) = 127 - (8 * (t.val % 16) + m) := by omega
    rw [tB_rows c t st hst m (Nat.le_of_lt hm), blkQ, blkG, blkD, e1]
    rfl

/-- What a point's blocks of the cotangents hold. -/
def gdQ (c : Dev nD) (t : Fin cfg1.N) (y : S512x128.Idx) : EReal :=
  sdQ VR c (hd t) (8 * (15 - t.val % 16) + (y 0).val / 64) ⟨(y 0).val % 64, Nat.mod_lt _ (by decide)⟩ (y 1)
def gdK (c : Dev nD) (t : Fin cfg1.N) (y : S512x128.Idx) : EReal :=
  sdK VR c (hd t) (8 * (15 - t.val % 16) + (y 0).val / 64) ⟨(y 0).val % 64, Nat.mod_lt _ (by decide)⟩ (y 1)
def gdV (c : Dev nD) (t : Fin cfg1.N) (y : S512x256.Idx) : EReal :=
  sdV VR c (hd t) (8 * (15 - t.val % 16) + (y 0).val / 64) ⟨(y 0).val % 64, Nat.mod_lt _ (by decide)⟩ (y 1)
def gdZ (c : Dev nD) (t : Fin cfg1.N) (y : S512x128.Idx) : EReal :=
  sdZ VR c (hd t) (8 * (15 - t.val % 16) + (y 0).val / 64) ⟨(y 0).val % 64, Nat.mod_lt _ (by decide)⟩ (y 1)

theorem dqC_ok (c : Dev nD) (hS : VR c main_v8_1 = fun y : S128x4x256x128.Idx => sf VR c (y 1) (y 0).val (y 2) (y 3)) (t : Fin cfg1.N) (n : ℕ) (hn : n < 8) (r : Fin 64) (d : Fin 128) :
    dqC arg3 harg3 arg4 harg4 arg5 harg5 arg6 harg6 arg7 harg7 arg8 harg8 arg9 harg9 (iblk VR c 1 t) (X1_2 VR c t) (iblk VR c 3 t) (iblk VR c 4 t) (iblk VR c 5 t) (iblk VR c 6 t) (iblk VR c 7 t) n hn (ix2 r d) = sdQ VR c (hd t) (8 * (15 - t.val % 16) + n) r d := by
  refine (dQ_at _ _ _ _ _ r d).trans ?_
  rw [blkK, blkG, blkV, blkD, blkS VR c hS]
  rfl

theorem pdqC_ok (c : Dev nD) (hS : VR c main_v8_1 = fun y : S128x4x256x128.Idx => sf VR c (y 1) (y 0).val (y 2) (y 3)) (t : Fin cfg1.N) (n : ℕ) (hn : n < 8) :
    ∀ x, (pdqC arg3 harg3 arg4 harg4 arg5 harg5 arg6 harg6 arg7 harg7 arg8 harg8 arg9 harg9 (iblk VR c 1 t) (X1_2 VR c t) (iblk VR c 3 t) (iblk VR c 4 t) (iblk VR c 5 t) (iblk VR c 6 t) (iblk VR c 7 t) n hn).2 x = gdQ VR c t ((pdqC arg3 harg3 arg4 harg4 arg5 harg5 arg6 harg6 arg7 harg7 arg8 harg8 arg9 harg9 (iblk VR c 1 t) (X1_2 VR c t) (iblk VR c 3 t) (iblk VR c 4 t) (iblk VR c 5 t) (iblk VR c 6 t) (iblk VR c 7 t) n hn).1.emb x) :=
  pieceQ _ _ hn fun r e => by
    refine (dqC_ok VR arg5 harg5 arg6 harg6 arg7 harg7 arg3 harg3 arg4 harg4 arg8 harg8 arg9 harg9 c hS t n hn r e).trans ?_
    have h1 : (64 * n + r.val) / 64 = n := by omega
    have h2 : (64 * n + r.val) % 64 = r.val := by omega
    show _ = sdQ VR c (hd t) (8 * (15 - t.val % 16) + (64 * n + r.val) / 64) ⟨(64 * n + r.val) % 64, _⟩ e
    simp only [h1, h2]

theorem dkC_ok (c : Dev nD) (t : Fin cfg1.N) (st : FVec Ideal S256x128 .f32) (hst : HD VR c t st) (n : ℕ) (hn : n < 8) (r : Fin 64) (d : Fin 128) :
    dkC arg2 harg2 arg4 harg4 arg5 harg5 arg6 harg6 arg7 harg7 arg9 harg9 (iblk VR c 0 t) (X1_2 VR c t) (iblk VR c 3 t) (iblk VR c 4 t) (iblk VR c 5 t) (iblk VR c 7 t) st n hn (ix2 r d) = sdK VR c (hd t) (8 * (15 - t.val % 16) + n) r d := by
  refine (dK_at _ _ _ _ _ r d).trans ?_
  have e1 : 8 * (t.val % 16) + (7 - n) = 127 - (8 * (15 - t.val % 16) + n) := by omega
  rw [blkQ, blkG, blkV, blkD, tB_rows VR arg5 harg5 arg6 harg6 arg7 harg7 arg2 harg2 arg9 harg9 c t st hst, e1]
  rfl

theorem pdkC_ok (c : Dev nD) (t : Fin cfg1.N) (st : FVec Ideal S256x128 .f32) (hst : HD VR c t st) (n : ℕ) (hn : n < 8) :
    ∀ x, (pdkC arg2 harg2 arg4 harg4 arg5 harg5 arg6 harg6 arg7 harg7 arg9 harg9 (iblk VR c 0 t) (X1_2 VR c t) (iblk VR c 3 t) (iblk VR c 4 t) (iblk VR c 5 t) (iblk VR c 7 t) st n hn).2 x = gdK VR c t ((pdkC arg2 harg2 arg4 harg4 arg5 harg5 arg6 harg6 arg7 harg7 arg9 harg9 (iblk VR c 0 t) (X1_2 VR c t) (iblk VR c 3 t) (iblk VR c 4 t) (iblk VR c 5 t) (iblk VR c 7 t) st n hn).1.emb x) :=
  pieceQ _ _ hn fun r e => by
    refine (dkC_ok VR arg5 harg5 arg6 harg6 arg7 harg7 arg2 harg2 arg4 harg4 arg9 harg9 c t st hst n hn r e).trans ?_
    have h1 : (64 * n + r.val) / 64 = n := by omega
    have h2 : (64 * n + r.val) % 64 = r.val := by omega
    show _ = sdK VR c (hd t) (8 * (15 - t.val % 16) + (64 * n + r.val) / 64) ⟨(64 * n + r.val) % 64, _⟩ e
    simp only [h1, h2]

theorem dvC_ok (c : Dev nD) (t : Fin cfg1.N) (st : FVec Ideal S256x128 .f32) (hst : HD VR c t st) (n : ℕ) (hn : n < 8) (r : Fin 64) (d : Fin 256) :
    dvC arg2 harg2 arg3 harg3 arg5 harg5 arg6 harg6 arg7 harg7 arg9 harg9 (iblk VR c 0 t) (iblk VR c 1 t) (iblk VR c 3 t) (iblk VR c 4 t) (iblk VR c 5 t) (iblk VR c 7 t) st n hn (ix2 r d) = sdV VR c (hd t) (8 * (15 - t.val % 16) + n) r d := by
  refine (dV_at _ _ _ _ _ r d).trans ?_
  have e1 : 8 * (t.val % 16) + (7 - n) = 127 - (8 * (15 - t.val % 16) + n) := by omega
  rw [blkQ, blkK, blkG, blkD, tB_rows VR arg5 harg5 arg6 harg6 arg7 harg7 arg2 harg2 arg9 harg9 c t st hst, e1]
  rfl

theorem pdvC_ok (c : Dev nD) (t : Fin cfg1.N) (st : FVec Ideal S256x128 .f32) (hst : HD VR c t st) (n : ℕ) (hn : n < 8) :
    ∀ x, (pdvC arg2 harg2 arg3 harg3 arg5 harg5 arg6 harg6 arg7 harg7 arg9 harg9 (iblk VR c 0 t) (iblk VR c 1 t) (iblk VR c 3 t) (iblk VR c 4 t) (iblk VR c 5 t) (iblk VR c 7 t) st n hn).2 x = gdV VR c t ((pdvC arg2 harg2 arg3 harg3 arg5 harg5 arg6 harg6 arg7 harg7 arg9 harg9 (iblk VR c 0 t) (iblk VR c 1 t) (iblk VR c 3 t) (iblk VR c 4 t) (iblk VR c 5 t) (iblk VR c 7 t) st n hn).1.emb x) :=
  pieceV _ _ hn fun r e => by
    refine (dvC_ok VR arg5 harg5 arg6 harg6 arg7 harg7 arg2 harg2 arg3 harg3 arg9 harg9 c t st hst n hn r e).trans ?_
    have h1 : (64 * n + r.val) / 64 = n := by omega
    have h2 : (64 * n + r.val) % 64 = r.val := by omega
    show _ = sdV VR c (hd t) (8 * (15 - t.val % 16) + (64 * n + r.val) / 64) ⟨(64 * n + r.val) % 64, _⟩ e
    simp only [h1, h2]

theorem dzC_ok (c : Dev nD) (hS : VR c main_v8_1 = fun y : S128x4x256x128.Idx => sf VR c (y 1) (y 0).val (y 2) (y 3)) (t : Fin cfg1.N) (st : FVec Ideal S256x128 .f32) (hst : HD VR c t st) (n : ℕ) (hn : n < 8) (r : Fin 64) (d : Fin 128) :
    dzC arg2 harg2 arg3 harg3 arg4 harg4 arg5 harg5 arg6 harg6 arg7 harg7 arg8 harg8 arg9 harg9 (iblk VR c 0 t) (iblk VR c 1 t) (X1_2 VR c t) (iblk VR c 3 t) (iblk VR c 4 t) (iblk VR c 5 t) (iblk VR c 6 t) (iblk VR c 7 t) st n hn (ix2 r d) = sdZ VR c (hd t) (8 * (15 - t.val % 16) + n) r d := by
  refine (dZ_at _ _ _ _ _ _ _ _ r d).trans ?_
  have e1 : 8 * (t.val % 16) + (7 - n) = 127 - (8 * (15 - t.val % 16) + n) := by omega
  rw [blkQ, blkK, blkG, blkZ, blkV, blkD, blkS VR c hS, tB_rows VR arg5 harg5 arg6 harg6 arg7 harg7 arg2 harg2 arg9 harg9 c t st hst, e1]
  rfl

theorem pdzC_ok (c : Dev nD) (hS : VR c main_v8_1 = fun y : S128x4x256x128.Idx => sf VR c (y 1) (y 0).val (y 2) (y 3)) (t : Fin cfg1.N) (st : FVec Ideal S256x128 .f32) (hst : HD VR c t st) (n : ℕ) (hn : n < 8) :
    ∀ x, (pdzC arg2 harg2 arg3 harg3 arg4 harg4 arg5 harg5 arg6 harg6 arg7 harg7 arg8 harg8 arg9 harg9 (iblk VR c 0 t) (iblk VR c 1 t) (X1_2 VR c t) (iblk VR c 3 t) (iblk VR c 4 t) (iblk VR c 5 t) (iblk VR c 6 t) (iblk VR c 7 t) st n hn).2 x = gdZ VR c t ((pdzC arg2 harg2 arg3 harg3 arg4 harg4 arg5 harg5 arg6 harg6 arg7 harg7 arg8 harg8 arg9 harg9 (iblk VR c 0 t) (iblk VR c 1 t) (X1_2 VR c t) (iblk VR c 3 t) (iblk VR c 4 t) (iblk VR c 5 t) (iblk VR c 6 t) (iblk VR c 7 t) st n hn).1.emb x) :=
  pieceQ _ _ hn fun r e => by
    refine (dzC_ok VR arg5 harg5 arg6 harg6 arg7 harg7 arg2 harg2 arg3 harg3 arg4 harg4 arg8 harg8 arg9 harg9 c hS t st hst n hn r e).trans ?_
    have h1 : (64 * n + r.val) / 64 = n := by omega
    have h2 : (64 * n + r.val) % 64 = r.val := by omega
    show _ = sdZ VR c (hd t) (8 * (15 - t.val % 16) + (64 * n + r.val) / 64) ⟨(64 * n + r.val) % 64, _⟩ e
    simp only [h1, h2]

/-- The bias's list of stores read back: the bias's cotangent after the block's chunks so far. -/
theorem bL_ok (c : Dev nD) (hS : VR c main_v8_1 = fun y : S128x4x256x128.Idx => sf VR c (y 1) (y 0).val (y 2) (y 3)) (t : Fin cfg1.N) (st : FVec Ideal S256x128 .f32) (hst : HD VR c t st) (base : List (View.Piece (Elt Ideal) S1x128 .f32)) (ba : FVec Ideal S1x128 .f32) (hba : HB VR c t ba) :
    ∀ (m : ℕ) (hm : m + 1 ≤ 8), ∃ w L, bL arg2 harg2 arg3 harg3 arg4 harg4 arg5 harg5 arg6 harg6 arg7 harg7 arg8 harg8 arg9 harg9 arg14 (iblk VR c 0 t) (iblk VR c 1 t) (X1_2 VR c t) (iblk VR c 3 t) (iblk VR c 4 t) (iblk VR c 5 t) (iblk VR c 6 t) (iblk VR c 7 t) base ba st (m + 1) hm = (⟨Rect.unit (s := S1x128) ![0, 0] S1x128.size inbB, w⟩ : View.Piece (Elt Ideal) S1x128 .f32) :: L
      ∧ ∀ d, w (ix2 0 d) = bf VR c (hd t) (8 * (t.val % 16) + (m + 1)) d
  | 0, hm => ⟨_, _, rfl, fun d => by
      refine (nBias_at _ _ d).trans ?_
      have e1 : 8 * (15 - t.val % 16) + 7 = 127 - 8 * (t.val % 16) := by omega
      rw [hba d, ← Nat.add_assoc, bf_succ]
      refine Ideal.add_congr rfl (Finset.sum_congr rfl fun r _ => ?_)
      rw [dzC_ok VR arg5 harg5 arg6 harg6 arg7 harg7 arg2 harg2 arg3 harg3 arg4 harg4 arg8 harg8 arg9 harg9 c hS t st hst, e1]⟩
  | m + 1, hm => by
      obtain ⟨w, L, hL, hw⟩ := bL_ok c hS t st hst base ba hba m (Nat.le_of_lt hm)
      refine ⟨_, _, rfl, fun d => ?_⟩
      refine (nBias_at _ _ d).trans ?_
      have e1 : 8 * (15 - t.val % 16) + (6 - m) = 127 - (8 * (t.val % 16) + (m + 1)) := by omega
      rw [hL, ← Nat.add_assoc, bf_succ]
      refine Ideal.add_congr ((load_row _ w L d).trans (hw d)) (Finset.sum_congr rfl fun r _ => ?_)
      rw [dzC_ok VR arg5 harg5 arg6 harg6 arg7 harg7 arg2 harg2 arg3 harg3 arg4 harg4 arg8 harg8 arg9 harg9 c hS t st hst, e1]

theorem st0A_ok (c : Dev nD) (t : Fin cfg1.N) (h0 : t.val % 16 = 0) : HD VR c t (st0A (F := Ideal) arg15) := by
  unfold HD
  rw [h0]
  funext e d
  show st0A (F := Ideal) arg15 (ix2 e d) = 0
  have h1 := View.readCov_fill (Val := Elt Ideal) (s := S256x128) (e := .f32) arg15.view inbT (k1_pay3 (F := Ideal)) [] (Rect.unit (s := S256x128) ![0, 0] S256x128.size inbT) zeros
  have h2 := View.ld_unit_lit (Val := Elt Ideal) (S := S256x128) (e := .f32) inbT (k1_pay3 (F := Ideal)) zeros
  refine ((congrFun h1 (ix2 e d)).trans (congrFun h2 (ix2 e d))).trans ?_
  pointwise [k1_pay3]

theorem ba0A_ok (c : Dev nD) (t : Fin cfg1.N) (h0 : t.val % 16 = 0) : HB VR c t (ba0A (F := Ideal) arg14) := by
  unfold HB
  rw [h0]
  intro d
  show ba0A (F := Ideal) arg14 (ix2 0 d) = 0
  refine (load_row arg14.view (k1_pay4 (F := Ideal)) [] d).trans ?_
  pointwise [k1_pay4]

theorem st0B_eq (x : Vec Ideal S256x128 .f32) : st0B arg15 harg15 x = x := by
  unfold st0B
  rw [View.readAt_eq_ld, harg15.read_unread x]
  exact View.ld_unit_lit inbT x zeros

theorem ba0B_eq (x : Vec Ideal S1x128 .f32) : ba0B arg14 harg14 x = x := by
  unfold ba0B
  rw [View.readAt_eq_ld, harg14.read_unread x]
  exact View.ld_unit_lit inbB x zeros

theorem tP_ok (c : Dev nD) (t : Fin cfg1.N) (st : FVec Ideal S256x128 .f32) (hst : HD VR c t st) (e : Fin 256) (d : Fin 128) :
    shapeCast S256x128 (tB arg2 harg2 arg5 harg5 arg6 harg6 arg7 harg7 arg9 harg9 (iblk VR c 0 t) (iblk VR c 3 t) (iblk VR c 4 t) (iblk VR c 5 t) (iblk VR c 7 t) st 8 (Nat.le_refl 8)) shapeCasts_S256x128_S256x128 (ix2 e d) = df VR c (hd t) (8 * (t.val % 16) + 8) e d := by
  refine Eq.trans (b := (tB arg2 harg2 arg5 harg5 arg6 harg6 arg7 harg7 arg9 harg9 (iblk VR c 0 t) (iblk VR c 3 t) (iblk VR c 4 t) (iblk VR c 5 t) (iblk VR c 7 t) st 8 (Nat.le_refl 8)) (ix2 e d)) (by pointwise) ?_
  exact congrFun (congrFun (tB_rows VR arg5 harg5 arg6 harg6 arg7 harg7 arg2 harg2 arg9 harg9 c t st hst 8 (Nat.le_refl 8)) e) d

theorem outA_8_at (c : Dev nD) (hS : VR c main_v8_1 = fun y : S128x4x256x128.Idx => sf VR c (y 1) (y 0).val (y 2) (y 3)) (t : Fin cfg1.N) (hc0 : cond1_0 (grid1.coords t)) (h0 : t.val % 16 = 0) (y) :
    out1_A_8 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) y = gdQ VR c t y := by
  unfold out1_A_8
  refine View.read_writes_apply_of_pieces _ _ (gdQ VR c t) _ ?_ y (cover1_A_8 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) y)
  rw [piecesA_8]
  have h := fun n hn => pdqC_ok VR arg5 harg5 arg6 harg6 arg7 harg7 arg3 harg3 arg4 harg4 arg8 harg8 arg9 harg9 c hS t n hn
  exact View.PiecesOf.mem ⟨h 0 (by decide), h 1 (by decide), h 2 (by decide), h 3 (by decide), h 4 (by decide), h 5 (by decide), h 6 (by decide), h 7 (by decide), trivial⟩

theorem outA_9_at (c : Dev nD) (hS : VR c main_v8_1 = fun y : S128x4x256x128.Idx => sf VR c (y 1) (y 0).val (y 2) (y 3)) (t : Fin cfg1.N) (hc0 : cond1_0 (grid1.coords t)) (h0 : t.val % 16 = 0) (y) :
    out1_A_9 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) y = gdK VR c t y := by
  unfold out1_A_9
  refine View.read_writes_apply_of_pieces _ _ (gdK VR c t) _ ?_ y (cover1_A_9 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) y)
  rw [piecesA_9]
  have h := fun n hn => pdkC_ok VR arg5 harg5 arg6 harg6 arg7 harg7 arg2 harg2 arg4 harg4 arg9 harg9 c t (st0A (F := Ideal) arg15) (st0A_ok VR arg15 c t h0) n hn
  exact View.PiecesOf.mem ⟨h 0 (by decide), h 1 (by decide), h 2 (by decide), h 3 (by decide), h 4 (by decide), h 5 (by decide), h 6 (by decide), h 7 (by decide), trivial⟩

theorem outA_10_at (c : Dev nD) (hS : VR c main_v8_1 = fun y : S128x4x256x128.Idx => sf VR c (y 1) (y 0).val (y 2) (y 3)) (t : Fin cfg1.N) (hc0 : cond1_0 (grid1.coords t)) (h0 : t.val % 16 = 0) (y) :
    out1_A_10 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) y = gdV VR c t y := by
  unfold out1_A_10
  refine View.read_writes_apply_of_pieces _ _ (gdV VR c t) _ ?_ y (cover1_A_10 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) y)
  rw [piecesA_10]
  have h := fun n hn => pdvC_ok VR arg5 harg5 arg6 harg6 arg7 harg7 arg2 harg2 arg3 harg3 arg9 harg9 c t (st0A (F := Ideal) arg15) (st0A_ok VR arg15 c t h0) n hn
  exact View.PiecesOf.mem ⟨h 0 (by decide), h 1 (by decide), h 2 (by decide), h 3 (by decide), h 4 (by decide), h 5 (by decide), h 6 (by decide), h 7 (by decide), trivial⟩

theorem outA_11_at (c : Dev nD) (hS : VR c main_v8_1 = fun y : S128x4x256x128.Idx => sf VR c (y 1) (y 0).val (y 2) (y 3)) (t : Fin cfg1.N) (hc0 : cond1_0 (grid1.coords t)) (h0 : t.val % 16 = 0) (y) :
    out1_A_11 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) y = gdZ VR c t y := by
  unfold out1_A_11
  refine View.read_writes_apply_of_pieces _ _ (gdZ VR c t) _ ?_ y (cover1_A_11 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) y)
  rw [piecesA_11]
  have h := fun n hn => pdzC_ok VR arg5 harg5 arg6 harg6 arg7 harg7 arg2 harg2 arg3 harg3 arg4 harg4 arg8 harg8 arg9 harg9 c hS t (st0A (F := Ideal) arg15) (st0A_ok VR arg15 c t h0) n hn
  exact View.PiecesOf.mem ⟨h 0 (by decide), h 1 (by decide), h 2 (by decide), h 3 (by decide), h 4 (by decide), h 5 (by decide), h 6 (by decide), h 7 (by decide), trivial⟩

theorem outA_12_at (c : Dev nD) (hS : VR c main_v8_1 = fun y : S128x4x256x128.Idx => sf VR c (y 1) (y 0).val (y 2) (y 3)) (t : Fin cfg1.N) (hc0 : cond1_0 (grid1.coords t)) (h0 : t.val % 16 = 0) (d : Fin 128) :
    out1_A_12 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) (ix2 0 d) = bf VR c (hd t) (8 * (t.val % 16) + 8) d := by
  unfold out1_A_12
  rw [piecesA_12]
  obtain ⟨w, L, hL, hw⟩ := bL_ok VR arg5 harg5 arg6 harg6 arg7 harg7 arg2 harg2 arg3 harg3 arg4 harg4 arg8 harg8 arg9 harg9 arg14 c hS t (st0A (F := Ideal) arg15) (st0A_ok VR arg15 c t h0) [⟨Rect.unit (s := S1x128) ![0, 0] S1x128.size inbB, k1_pay4 (F := Ideal)⟩] (ba0A (F := Ideal) arg14) (ba0A_ok VR arg14 c t h0) 7 (Nat.le_refl 8)
  rw [hL]
  exact (whole_row _ _ w L d).trans (hw d)

theorem soutA_at (c : Dev nD) (t : Fin cfg1.N) (hc0 : cond1_0 (grid1.coords t)) (h0 : t.val % 16 = 0) :
    rows (φ := .f32) (sout1_A_0 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t)) = df VR c (hd t) (8 * (t.val % 16) + 8) := by
  funext e d
  show sout1_A_0 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) (ix2 e d) = _
  unfold sout1_A_0
  rw [piecesA_s]
  exact (whole_hit _ _ _ _ e d).trans (tP_ok VR arg5 harg5 arg6 harg6 arg7 harg7 arg2 harg2 arg9 harg9 c t (st0A (F := Ideal) arg15) (st0A_ok VR arg15 c t h0) e d)

theorem outB_8_at (c : Dev nD) (hS : VR c main_v8_1 = fun y : S128x4x256x128.Idx => sf VR c (y 1) (y 0).val (y 2) (y 3)) (t : Fin cfg1.N) (hc0 : ¬cond1_0 (grid1.coords t)) (xo12 : Vec Ideal S1x128 .f32) (xs0 : Vec Ideal S256x128 .f32) (hb : HB VR c t xo12) (hx : HD VR c t xs0) (y) :
    out1_B_8 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) xo12 xs0 y = gdQ VR c t y := by
  unfold out1_B_8
  refine View.read_writes_apply_of_pieces _ _ (gdQ VR c t) _ ?_ y (cover1_B_8 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) xo12 xs0 y)
  rw [piecesB_8]
  have h := fun n hn => pdqC_ok VR arg5 harg5 arg6 harg6 arg7 harg7 arg3 harg3 arg4 harg4 arg8 harg8 arg9 harg9 c hS t n hn
  exact View.PiecesOf.mem ⟨h 0 (by decide), h 1 (by decide), h 2 (by decide), h 3 (by decide), h 4 (by decide), h 5 (by decide), h 6 (by decide), h 7 (by decide), trivial⟩

theorem outB_9_at (c : Dev nD) (hS : VR c main_v8_1 = fun y : S128x4x256x128.Idx => sf VR c (y 1) (y 0).val (y 2) (y 3)) (t : Fin cfg1.N) (hc0 : ¬cond1_0 (grid1.coords t)) (xo12 : Vec Ideal S1x128 .f32) (xs0 : Vec Ideal S256x128 .f32) (hb : HB VR c t xo12) (hx : HD VR c t xs0) (y) :
    out1_B_9 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) xo12 xs0 y = gdK VR c t y := by
  unfold out1_B_9
  refine View.read_writes_apply_of_pieces _ _ (gdK VR c t) _ ?_ y (cover1_B_9 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) xo12 xs0 y)
  rw [piecesB_9]
  have h := fun n hn => pdkC_ok VR arg5 harg5 arg6 harg6 arg7 harg7 arg2 harg2 arg4 harg4 arg9 harg9 c t (st0B arg15 harg15 xs0) ((st0B_eq arg15 harg15 xs0).symm ▸ hx) n hn
  exact View.PiecesOf.mem ⟨h 0 (by decide), h 1 (by decide), h 2 (by decide), h 3 (by decide), h 4 (by decide), h 5 (by decide), h 6 (by decide), h 7 (by decide), trivial⟩

theorem outB_10_at (c : Dev nD) (hS : VR c main_v8_1 = fun y : S128x4x256x128.Idx => sf VR c (y 1) (y 0).val (y 2) (y 3)) (t : Fin cfg1.N) (hc0 : ¬cond1_0 (grid1.coords t)) (xo12 : Vec Ideal S1x128 .f32) (xs0 : Vec Ideal S256x128 .f32) (hb : HB VR c t xo12) (hx : HD VR c t xs0) (y) :
    out1_B_10 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) xo12 xs0 y = gdV VR c t y := by
  unfold out1_B_10
  refine View.read_writes_apply_of_pieces _ _ (gdV VR c t) _ ?_ y (cover1_B_10 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) xo12 xs0 y)
  rw [piecesB_10]
  have h := fun n hn => pdvC_ok VR arg5 harg5 arg6 harg6 arg7 harg7 arg2 harg2 arg3 harg3 arg9 harg9 c t (st0B arg15 harg15 xs0) ((st0B_eq arg15 harg15 xs0).symm ▸ hx) n hn
  exact View.PiecesOf.mem ⟨h 0 (by decide), h 1 (by decide), h 2 (by decide), h 3 (by decide), h 4 (by decide), h 5 (by decide), h 6 (by decide), h 7 (by decide), trivial⟩

theorem outB_11_at (c : Dev nD) (hS : VR c main_v8_1 = fun y : S128x4x256x128.Idx => sf VR c (y 1) (y 0).val (y 2) (y 3)) (t : Fin cfg1.N) (hc0 : ¬cond1_0 (grid1.coords t)) (xo12 : Vec Ideal S1x128 .f32) (xs0 : Vec Ideal S256x128 .f32) (hb : HB VR c t xo12) (hx : HD VR c t xs0) (y) :
    out1_B_11 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) xo12 xs0 y = gdZ VR c t y := by
  unfold out1_B_11
  refine View.read_writes_apply_of_pieces _ _ (gdZ VR c t) _ ?_ y (cover1_B_11 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) xo12 xs0 y)
  rw [piecesB_11]
  have h := fun n hn => pdzC_ok VR arg5 harg5 arg6 harg6 arg7 harg7 arg2 harg2 arg3 harg3 arg4 harg4 arg8 harg8 arg9 harg9 c hS t (st0B arg15 harg15 xs0) ((st0B_eq arg15 harg15 xs0).symm ▸ hx) n hn
  exact View.PiecesOf.mem ⟨h 0 (by decide), h 1 (by decide), h 2 (by decide), h 3 (by decide), h 4 (by decide), h 5 (by decide), h 6 (by decide), h 7 (by decide), trivial⟩

theorem outB_12_at (c : Dev nD) (hS : VR c main_v8_1 = fun y : S128x4x256x128.Idx => sf VR c (y 1) (y 0).val (y 2) (y 3)) (t : Fin cfg1.N) (hc0 : ¬cond1_0 (grid1.coords t)) (xo12 : Vec Ideal S1x128 .f32) (xs0 : Vec Ideal S256x128 .f32) (hb : HB VR c t xo12) (hx : HD VR c t xs0) (d : Fin 128) :
    out1_B_12 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) xo12 xs0 (ix2 0 d) = bf VR c (hd t) (8 * (t.val % 16) + 8) d := by
  unfold out1_B_12
  rw [piecesB_12]
  obtain ⟨w, L, hL, hw⟩ := bL_ok VR arg5 harg5 arg6 harg6 arg7 harg7 arg2 harg2 arg3 harg3 arg4 harg4 arg8 harg8 arg9 harg9 arg14 c hS t (st0B arg15 harg15 xs0) ((st0B_eq arg15 harg15 xs0).symm ▸ hx) [] (ba0B arg14 harg14 xo12) ((ba0B_eq arg14 harg14 xo12).symm ▸ hb) 7 (Nat.le_refl 8)
  rw [hL]
  exact (whole_row _ _ w L d).trans (hw d)

theorem soutB_at (c : Dev nD) (t : Fin cfg1.N) (hc0 : ¬cond1_0 (grid1.coords t)) (xo12 : Vec Ideal S1x128 .f32) (xs0 : Vec Ideal S256x128 .f32) (hb : HB VR c t xo12) (hx : HD VR c t xs0) :
    rows (φ := .f32) (sout1_B_0 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) xo12 xs0) = df VR c (hd t) (8 * (t.val % 16) + 8) := by
  funext e d
  show sout1_B_0 c (grid1.coords t) arg2 harg2 arg3 harg3 arg4 harg4 arg5 harg5 arg6 harg6 arg7 harg7 arg8 harg8 arg9 harg9 arg10 harg10 arg11 harg11 arg12 harg12 arg13 harg13 arg14 harg14 arg15 harg15 hc0 (iblk VR c 0 t) (iblk VR c 1 t) (X1_2 VR c t) (iblk VR c 3 t) (iblk VR c 4 t) (iblk VR c 5 t) (iblk VR c 6 t) (iblk VR c 7 t) xo12 xs0 (ix2 e d) = _
  unfold sout1_B_0
  rw [piecesB_s]
  exact (whole_hit _ _ _ _ e d).trans (tP_ok VR arg5 harg5 arg6 harg6 arg7 harg7 arg2 harg2 arg9 harg9 c t (st0B arg15 harg15 xs0) ((st0B_eq arg15 harg15 xs0).symm ▸ hx) e d)

/-- What a point leaves. -/
def At (c : Dev nD) (n : ℕ) (hn : n < cfg1.N) : Prop :=
  (∀ y, (outsAt1 VR c n hn).1 y = gdQ VR c ⟨n, hn⟩ y) ∧ (∀ y, (outsAt1 VR c n hn).2.1 y = gdK VR c ⟨n, hn⟩ y) ∧ (∀ y, (outsAt1 VR c n hn).2.2.1 y = gdV VR c ⟨n, hn⟩ y) ∧ (∀ y, (outsAt1 VR c n hn).2.2.2.1 y = gdZ VR c ⟨n, hn⟩ y) ∧ (∀ d : Fin 128, (outsAt1 VR c n hn).2.2.2.2.1 (ix2 0 d) = bf VR c (hd ⟨n, hn⟩) (8 * (n % 16) + 8) d) ∧ rows (φ := .f32) (outsAt1 VR c n hn).2.2.2.2.2 = df VR c (hd ⟨n, hn⟩) (8 * (n % 16) + 8)

theorem at_A (c : Dev nD) (hS : VR c main_v8_1 = fun y : S128x4x256x128.Idx => sf VR c (y 1) (y 0).val (y 2) (y 3)) (t : Fin cfg1.N) (h0 : t.val % 16 = 0) : At VR c t.val t.isLt := by
  unfold At
  rw [outsAt0_A VR c t h0]
  dsimp only
  refine ⟨fun y => ?_, fun y => ?_, fun y => ?_, fun y => ?_, fun d => ?_, ?_⟩
  · exact outA_8_at VR _ (hs1_3 t) _ (hs1_4 t) _ (hs1_5 t) _ (hs1_0 t) _ (hs1_1 t) _ (hs1_2 t) _ (hs1_6 t) _ (hs1_7 t) _ (hs1_8 t) _ (hs1_9 t) _ (hs1_10 t) _ (hs1_11 t) _ (hs1_12 t) _ (Memref.isWhole_whole _) c hS t ((hcond1_0 t).mpr h0) h0 y
  · exact outA_9_at VR _ (hs1_3 t) _ (hs1_4 t) _ (hs1_5 t) _ (hs1_0 t) _ (hs1_1 t) _ (hs1_2 t) _ (hs1_6 t) _ (hs1_7 t) _ (hs1_8 t) _ (hs1_9 t) _ (hs1_10 t) _ (hs1_11 t) _ (hs1_12 t) _ (Memref.isWhole_whole _) c hS t ((hcond1_0 t).mpr h0) h0 y
  · exact outA_10_at VR _ (hs1_3 t) _ (hs1_4 t) _ (hs1_5 t) _ (hs1_0 t) _ (hs1_1 t) _ (hs1_2 t) _ (hs1_6 t) _ (hs1_7 t) _ (hs1_8 t) _ (hs1_9 t) _ (hs1_10 t) _ (hs1_11 t) _ (hs1_12 t) _ (Memref.isWhole_whole _) c hS t ((hcond1_0 t).mpr h0) h0 y
  · exact outA_11_at VR _ (hs1_3 t) _ (hs1_4 t) _ (hs1_5 t) _ (hs1_0 t) _ (hs1_1 t) _ (hs1_2 t) _ (hs1_6 t) _ (hs1_7 t) _ (hs1_8 t) _ (hs1_9 t) _ (hs1_10 t) _ (hs1_11 t) _ (hs1_12 t) _ (Memref.isWhole_whole _) c hS t ((hcond1_0 t).mpr h0) h0 y
  · exact outA_12_at VR _ (hs1_3 t) _ (hs1_4 t) _ (hs1_5 t) _ (hs1_0 t) _ (hs1_1 t) _ (hs1_2 t) _ (hs1_6 t) _ (hs1_7 t) _ (hs1_8 t) _ (hs1_9 t) _ (hs1_10 t) _ (hs1_11 t) _ (hs1_12 t) _ (Memref.isWhole_whole _) c hS t ((hcond1_0 t).mpr h0) h0 d
  · exact soutA_at VR _ (hs1_3 t) _ (hs1_4 t) _ (hs1_5 t) _ (hs1_0 t) _ (hs1_1 t) _ (hs1_2 t) _ (hs1_6 t) _ (hs1_7 t) _ (hs1_8 t) _ (hs1_9 t) _ (hs1_10 t) _ (hs1_11 t) _ (hs1_12 t) _ (Memref.isWhole_whole _) c t ((hcond1_0 t).mpr h0) h0

theorem at_B (c : Dev nD) (hS : VR c main_v8_1 = fun y : S128x4x256x128.Idx => sf VR c (y 1) (y 0).val (y 2) (y 3)) (t : Fin cfg1.N) (h0 : ¬t.val % 16 = 0)
    (ib : HB VR c t (outsAt1 VR c (t.val - 1) (Nat.lt_of_le_of_lt (Nat.sub_le _ _) t.isLt)).2.2.2.2.1) (ih : HD VR c t (outsAt1 VR c (t.val - 1) (Nat.lt_of_le_of_lt (Nat.sub_le _ _) t.isLt)).2.2.2.2.2) : At VR c t.val t.isLt := by
  unfold At
  rw [outsAt0_B VR c t h0]
  dsimp only
  refine ⟨fun y => ?_, fun y => ?_, fun y => ?_, fun y => ?_, fun d => ?_, ?_⟩
  · exact outB_8_at VR _ (hs1_3 t) _ (hs1_4 t) _ (hs1_5 t) _ (hs1_0 t) _ (hs1_1 t) _ (hs1_2 t) _ (hs1_6 t) _ (hs1_7 t) _ (hs1_8 t) _ (hs1_9 t) _ (hs1_10 t) _ (hs1_11 t) _ (hs1_12 t) _ (Memref.isWhole_whole _) c hS t (fun h => h0 ((hcond1_0 t).mp h)) _ _ ib ih y
  · exact outB_9_at VR _ (hs1_3 t) _ (hs1_4 t) _ (hs1_5 t) _ (hs1_0 t) _ (hs1_1 t) _ (hs1_2 t) _ (hs1_6 t) _ (hs1_7 t) _ (hs1_8 t) _ (hs1_9 t) _ (hs1_10 t) _ (hs1_11 t) _ (hs1_12 t) _ (Memref.isWhole_whole _) c hS t (fun h => h0 ((hcond1_0 t).mp h)) _ _ ib ih y
  · exact outB_10_at VR _ (hs1_3 t) _ (hs1_4 t) _ (hs1_5 t) _ (hs1_0 t) _ (hs1_1 t) _ (hs1_2 t) _ (hs1_6 t) _ (hs1_7 t) _ (hs1_8 t) _ (hs1_9 t) _ (hs1_10 t) _ (hs1_11 t) _ (hs1_12 t) _ (Memref.isWhole_whole _) c hS t (fun h => h0 ((hcond1_0 t).mp h)) _ _ ib ih y
  · exact outB_11_at VR _ (hs1_3 t) _ (hs1_4 t) _ (hs1_5 t) _ (hs1_0 t) _ (hs1_1 t) _ (hs1_2 t) _ (hs1_6 t) _ (hs1_7 t) _ (hs1_8 t) _ (hs1_9 t) _ (hs1_10 t) _ (hs1_11 t) _ (hs1_12 t) _ (Memref.isWhole_whole _) c hS t (fun h => h0 ((hcond1_0 t).mp h)) _ _ ib ih y
  · exact outB_12_at VR _ (hs1_3 t) _ (hs1_4 t) _ (hs1_5 t) _ (hs1_0 t) _ (hs1_1 t) _ (hs1_2 t) _ (hs1_6 t) _ (hs1_7 t) _ (hs1_8 t) _ (hs1_9 t) _ (hs1_10 t) _ (hs1_11 t) _ (hs1_12 t) _ (Memref.isWhole_whole _) c hS t (fun h => h0 ((hcond1_0 t).mp h)) _ _ ib ih d
  · exact soutB_at VR _ (hs1_3 t) _ (hs1_4 t) _ (hs1_5 t) _ (hs1_0 t) _ (hs1_1 t) _ (hs1_2 t) _ (hs1_6 t) _ (hs1_7 t) _ (hs1_8 t) _ (hs1_9 t) _ (hs1_10 t) _ (hs1_11 t) _ (hs1_12 t) _ (Memref.isWhole_whole _) c t (fun h => h0 ((hcond1_0 t).mp h)) _ _ ib ih

theorem outs_at (c : Dev nD) (hS : VR c main_v8_1 = fun y : S128x4x256x128.Idx => sf VR c (y 1) (y 0).val (y 2) (y 3)) : ∀ (n : ℕ) (hn : n < cfg1.N), At VR c n hn
  | 0, hn => at_A VR c hS ⟨0, hn⟩ (Nat.zero_mod _)
  | k + 1, hn => by
    by_cases h0 : (k + 1) % 16 = 0
    · exact at_A VR c hS ⟨k + 1, hn⟩ h0
    · have ih := (outs_at c hS k (Nat.lt_of_succ_lt hn)).2.2.2.2
      have e1 : hd ⟨k, Nat.lt_of_succ_lt hn⟩ = hd ⟨k + 1, hn⟩ := Fin.ext (by show k / 16 = (k + 1) / 16; omega)
      have e2 : 8 * (k % 16) + 8 = 8 * ((k + 1) % 16) := by omega
      rw [e1, e2] at ih
      exact at_B VR c hS ⟨k + 1, hn⟩ h0 ih.1 ih.2

/-! The arrays after the run. -/

theorem final8 (c : Dev nD) (hS : VR c main_v8_1 = fun y : S128x4x256x128.Idx => sf VR c (y 1) (y 0).val (y 2) (y 3)) : (dats VR c).arrAt 8 cfg1.N = fun y : S8192x512.Idx =>
    sdQ VR c ⟨(y 1).val / 128, by have h : (y 1).val < 512 := (y 1).isLt; omega⟩ ((y 0).val / 64) ⟨(y 0).val % 64, Nat.mod_lt _ (by decide)⟩ ⟨(y 1).val % 128, Nat.mod_lt _ (by decide)⟩ := by
  refine (dats VR c).arrAt_eq_of_covers 8 _ (by decide +kernel) fun t hf y => ?_
  blk_simp
  rw [after1_8, (outs_at VR c hS t.val t.isLt).1]
  have h0 : (y 0).val < 512 := (y 0).isLt
  have h1 : (y 1).val < 128 := (y 1).isLt
  have i0 : win1_8.index t 0 = 15 - t.val % 16 := congrFun (idx8 t) 0
  have i1 : win1_8.index t 1 = t.val / 16 := congrFun (idx8 t) 1
  refine congr (congr (congr (congrArg (sdQ VR c) (Fin.ext ?_)) ?_) (Fin.ext ?_)) (Fin.ext ?_)
  · show t.val / 16 = (win1_8.index t 1 * 128 + (y 1).val) / 128
    rw [i1]; omega
  · show 8 * (15 - t.val % 16) + (y 0).val / 64 = (win1_8.index t 0 * 512 + (y 0).val) / 64
    rw [i0]; omega
  · show (y 0).val % 64 = (win1_8.index t 0 * 512 + (y 0).val) % 64
    rw [i0]; omega
  · show (y 1).val = (win1_8.index t 1 * 128 + (y 1).val) % 128
    rw [i1]; omega

theorem final9 (c : Dev nD) (hS : VR c main_v8_1 = fun y : S128x4x256x128.Idx => sf VR c (y 1) (y 0).val (y 2) (y 3)) : (dats VR c).arrAt 9 cfg1.N = fun y : S8192x512.Idx =>
    sdK VR c ⟨(y 1).val / 128, by have h : (y 1).val < 512 := (y 1).isLt; omega⟩ ((y 0).val / 64) ⟨(y 0).val % 64, Nat.mod_lt _ (by decide)⟩ ⟨(y 1).val % 128, Nat.mod_lt _ (by decide)⟩ := by
  refine (dats VR c).arrAt_eq_of_covers 9 _ (by decide +kernel) fun t hf y => ?_
  blk_simp
  rw [after1_9, (outs_at VR c hS t.val t.isLt).2.1]
  have h0 : (y 0).val < 512 := (y 0).isLt
  have h1 : (y 1).val < 128 := (y 1).isLt
  have i0 : win1_9.index t 0 = 15 - t.val % 16 := congrFun (idx9 t) 0
  have i1 : win1_9.index t 1 = t.val / 16 := congrFun (idx9 t) 1
  refine congr (congr (congr (congrArg (sdK VR c) (Fin.ext ?_)) ?_) (Fin.ext ?_)) (Fin.ext ?_)
  · show t.val / 16 = (win1_9.index t 1 * 128 + (y 1).val) / 128
    rw [i1]; omega
  · show 8 * (15 - t.val % 16) + (y 0).val / 64 = (win1_9.index t 0 * 512 + (y 0).val) / 64
    rw [i0]; omega
  · show (y 0).val % 64 = (win1_9.index t 0 * 512 + (y 0).val) % 64
    rw [i0]; omega
  · show (y 1).val = (win1_9.index t 1 * 128 + (y 1).val) % 128
    rw [i1]; omega

theorem final10 (c : Dev nD) (hS : VR c main_v8_1 = fun y : S128x4x256x128.Idx => sf VR c (y 1) (y 0).val (y 2) (y 3)) : (dats VR c).arrAt 10 cfg1.N = fun y : S8192x1024.Idx =>
    sdV VR c ⟨(y 1).val / 256, by have h : (y 1).val < 1024 := (y 1).isLt; omega⟩ ((y 0).val / 64) ⟨(y 0).val % 64, Nat.mod_lt _ (by decide)⟩ ⟨(y 1).val % 256, Nat.mod_lt _ (by decide)⟩ := by
  refine (dats VR c).arrAt_eq_of_covers 10 _ (by decide +kernel) fun t hf y => ?_
  blk_simp
  rw [after1_10, (outs_at VR c hS t.val t.isLt).2.2.1]
  have h0 : (y 0).val < 512 := (y 0).isLt
  have h1 : (y 1).val < 256 := (y 1).isLt
  have i0 : win1_10.index t 0 = 15 - t.val % 16 := congrFun (idx10 t) 0
  have i1 : win1_10.index t 1 = t.val / 16 := congrFun (idx10 t) 1
  refine congr (congr (congr (congrArg (sdV VR c) (Fin.ext ?_)) ?_) (Fin.ext ?_)) (Fin.ext ?_)
  · show t.val / 16 = (win1_10.index t 1 * 256 + (y 1).val) / 256
    rw [i1]; omega
  · show 8 * (15 - t.val % 16) + (y 0).val / 64 = (win1_10.index t 0 * 512 + (y 0).val) / 64
    rw [i0]; omega
  · show (y 0).val % 64 = (win1_10.index t 0 * 512 + (y 0).val) % 64
    rw [i0]; omega
  · show (y 1).val = (win1_10.index t 1 * 256 + (y 1).val) % 256
    rw [i1]; omega

theorem final11 (c : Dev nD) (hS : VR c main_v8_1 = fun y : S128x4x256x128.Idx => sf VR c (y 1) (y 0).val (y 2) (y 3)) : (dats VR c).arrAt 11 cfg1.N = fun y : S8192x512.Idx =>
    sdZ VR c ⟨(y 1).val / 128, by have h : (y 1).val < 512 := (y 1).isLt; omega⟩ ((y 0).val / 64) ⟨(y 0).val % 64, Nat.mod_lt _ (by decide)⟩ ⟨(y 1).val % 128, Nat.mod_lt _ (by decide)⟩ := by
  refine (dats VR c).arrAt_eq_of_covers 11 _ (by decide +kernel) fun t hf y => ?_
  blk_simp
  rw [after1_11, (outs_at VR c hS t.val t.isLt).2.2.2.1]
  have h0 : (y 0).val < 512 := (y 0).isLt
  have h1 : (y 1).val < 128 := (y 1).isLt
  have i0 : win1_11.index t 0 = 15 - t.val % 16 := congrFun (idx11 t) 0
  have i1 : win1_11.index t 1 = t.val / 16 := congrFun (idx11 t) 1
  refine congr (congr (congr (congrArg (sdZ VR c) (Fin.ext ?_)) ?_) (Fin.ext ?_)) (Fin.ext ?_)
  · show t.val / 16 = (win1_11.index t 1 * 128 + (y 1).val) / 128
    rw [i1]; omega
  · show 8 * (15 - t.val % 16) + (y 0).val / 64 = (win1_11.index t 0 * 512 + (y 0).val) / 64
    rw [i0]; omega
  · show (y 0).val % 64 = (win1_11.index t 0 * 512 + (y 0).val) % 64
    rw [i0]; omega
  · show (y 1).val = (win1_11.index t 1 * 128 + (y 1).val) % 128
    rw [i1]; omega

theorem flush12 : ∀ t : Fin cfg1.N, win1_12.flush t → t.val % 16 = 15 := by decide +kernel

theorem final12 (c : Dev nD) (hS : VR c main_v8_1 = fun y : S128x4x256x128.Idx => sf VR c (y 1) (y 0).val (y 2) (y 3)) : (dats VR c).arrAt 12 cfg1.N = fun y : S1x512.Idx =>
    bf VR c ⟨(y 1).val / 128, by have h : (y 1).val < 512 := (y 1).isLt; omega⟩ 128 ⟨(y 1).val % 128, Nat.mod_lt _ (by decide)⟩ := by
  refine (dats VR c).arrAt_eq_of_covers 12 _ (by decide +kernel) fun t hf y => ?_
  blk_simp
  rw [after1_12]
  have e : (show S1x128.Idx from y) = ix2 0 ⟨(y 1).val, (y 1).isLt⟩ := by
    funext a; fin_cases a
    · exact Fin.ext (Nat.lt_one_iff.mp (y 0).isLt)
    · rfl
  refine (congrArg (outsAt1 VR c t.val t.isLt).2.2.2.2.1 e).trans (((outs_at VR c hS t.val t.isLt).2.2.2.2.1 ⟨(y 1).val, (y 1).isLt⟩).trans ?_)
  have h15 := flush12 t hf
  have h1 : (y 1).val < 128 := (y 1).isLt
  have i1 : win1_12.index t 1 = t.val / 16 := congrFun (idx12 t) 1
  refine congr (congr (congrArg (bf VR c) (Fin.ext ?_)) ?_) (Fin.ext ?_)
  · show t.val / 16 = (win1_12.index t 1 * 128 + (y 1).val) / 128
    rw [i1]; omega
  · rw [h15]
  · show (y 1).val = (win1_12.index t 1 * 128 + (y 1).val) % 128
    rw [i1]; omega

end Cert.KernelIdeal.Bwd

end
-- ==== Proof.HostVal.lean ====
/- What the two calls find: the packed projections, the padded gate weights, the bias row, the output's cotangent. -/
module

public import proofs.«01_k».proof.Proof.RunAll
public import proofs.«01_k».proof.Proof.BwdVal
import Idealize.ShloMosaic.Lib.Pointwise

@[expose] public section

set_option maxRecDepth 16384

noncomputable section

namespace Cert.KernelIdeal.Gla

open Cert.KernelIdeal.Gen
open Idealize.ShloMosaic Idealize.ShloMosaic.TcCoe

variable (m : (ℓ : Loc nD τ sig) → Buf (Elt Ideal) ℓ) (c : Dev nD)

def a0 : Vec Ideal S1x8192x3088 .f32 := m ((c : Thread nD τ).loc main_arg0)
def a1 : Vec Ideal S16x512 .f32 := m ((c : Thread nD τ).loc main_arg1)
def a2 : Vec Ideal S512 .f32 := m ((c : Thread nD τ).loc main_arg2)
def a3 : Vec Ideal S1x8192x1024 .f32 := m ((c : Thread nD τ).loc main_arg3)

def flat : Vec Ideal S8192x3088 .f32 := shapeCast S8192x3088 (a0 m c) shapeCasts_S1x8192x3088_S8192x3088
def packed : Vec Ideal S8192x3200 .f32 :=
  concatenate S8192x3200 1 [⟨S8192x2048, extractStridedSlice S8192x2048 ![0, 0] (flat m c) slices_S8192x3088_S8192x2048_0_0⟩,
    ⟨S8192x1024, extractStridedSlice S8192x1024 ![0, 2064] (flat m c) slices_S8192x3088_S8192x1024_0_2064⟩,
    ⟨S8192x16, extractStridedSlice S8192x16 ![0, 2048] (flat m c) slices_S8192x3088_S8192x16_0_2048⟩,
    ⟨S8192x112, broadcastInDim S8192x112 ![] bcast_S_S8192x112 (constant (F := Ideal) S_ .f32 0#32)⟩]
    concatenates_S8192x2048_S8192x1024_S8192x16_S8192x112_S8192x3200_d1
def padded : Vec Ideal S128x512 .f32 := pad S128x512 ![0, 0] ![112, 0] ![0, 0] (a1 m c) (sitofp (F := Ideal) .f32 (constantI S_ 32 0#32)) pads_S16x512_S128x512_01120_000 h_S_

set_option maxHeartbeats 1000000 in
theorem v5_eq : VF m c main_v5 = packed m c := by
  unfold VF
  rw [V3_of m c main_v5 (by decide), V2_of m c main_v5 (by decide)]
  unfold_abbrev_sides
  after_results
  rfl

theorem v6_eq : VF m c main_v6 = padded m c := by
  unfold VF
  rw [V3_of m c main_v6 (by decide)]
  unfold_abbrev_sides
  after_results
  rfl

theorem v7_eq : VF m c main_v7 = broadcastInDim S1x512 ![1] bcast_S512_S1x512_1 (a2 m c) := by
  unfold VF
  unfold_abbrev_sides
  after_results
  rfl

theorem v9_eq : VB m c main_v9 = shapeCast S8192x1024 (a3 m c) shapeCasts_S1x8192x1024_S8192x1024 := by
  unfold VB
  unfold_abbrev_sides
  after_results
  rw [V4_of m (outs₀ m) c main_arg3 (by decide)]
  rw [V3_of m c main_arg3 (by decide), V2_of m c main_arg3 (by decide), V1_of m c main_arg3 (by decide)]
  rfl

theorem b5_eq : VB m c main_v5 = VF m c main_v5 := by
  unfold VB VF
  rw [V5_of m (outs₀ m) c main_v5 (by decide), V4_of m (outs₀ m) c main_v5 (by decide)]
theorem b6_eq : VB m c main_v6 = VF m c main_v6 := by
  unfold VB VF
  rw [V5_of m (outs₀ m) c main_v6 (by decide), V4_of m (outs₀ m) c main_v6 (by decide)]
theorem b7_eq : VB m c main_v7 = VF m c main_v7 := by
  unfold VB VF
  rw [V5_of m (outs₀ m) c main_v7 (by decide), V4_of m (outs₀ m) c main_v7 (by decide)]
theorem b8_eq : VB m c main_v8_1 = (Fwd.dats (VF m) c).arrAt 7 cfg0.N := by
  unfold VB
  rw [V5_of m (outs₀ m) c main_v8_1 (by decide), ← V4_outs, V4_v8_1]

theorem flat_at (r : Fin 8192) (j : Fin 3088) : flat m c (ix2 r j) = a0 m c (ix3 0 r j) := by
  unfold flat
  pointwise

theorem packed_lo (r : Fin 8192) (j : Fin 3200) (h : j.val < 2048) : packed m c (ix2 r j) = a0 m c (ix3 0 r ⟨j.val, by omega⟩) := by
  unfold packed
  pointwise [flat_at]
  rw [dif_pos h]
theorem packed_gate (r : Fin 8192) (j : Fin 128) (h : j.val < 16) : packed m c (ix2 r ⟨3072 + j.val, by omega⟩) = a0 m c (ix3 0 r ⟨2048 + j.val, by omega⟩) := by
  unfold packed
  pointwise [flat_at]
  rw [dif_neg (by omega), dif_neg (by omega), dif_pos (by omega)]
  exact congrArg (fun k => a0 m c (ix3 0 r k)) (Fin.ext (by show 2048 + (3072 + j.val - 2048 - 1024) = 2048 + j.val; omega))
theorem packed_hi (r : Fin 8192) (j : Fin 128) (h : ¬j.val < 16) : packed m c (ix2 r ⟨3072 + j.val, by omega⟩) = (0 : EReal) := by
  unfold packed
  pointwise [flat_at]
  rw [dif_neg (by omega), dif_neg (by omega), dif_neg (by omega)]
theorem padded_lo (j : Fin 128) (h : j.val < 16) (d : Fin 512) : padded m c (ix2 j d) = a1 m c (ix2 ⟨j.val, h⟩ d) := by
  unfold padded
  pointwise
  rw [dif_pos h]
theorem bias_at (d : Fin 512) : broadcastInDim S1x512 ![1] bcast_S512_S1x512_1 (a2 m c) (ix2 0 d) = a2 m c (ix1 d) := by
  pointwise
theorem dO_at (r : Fin 8192) (d : Fin 1024) : shapeCast S8192x1024 (a3 m c) shapeCasts_S1x8192x1024_S8192x1024 (ix2 r d) = a3 m c (ix3 0 r d) := by
  pointwise

variable (h : Fin 4)

theorem pQ_eq : Cert.Gla.pQ (VF m c main_v5) h = Cert.Gla.xQ (a0 m c) h := by
  funext n r d
  unfold Cert.Gla.pQ Cert.Gla.xQ
  rw [v5_eq]
  exact packed_lo m c _ _ (by show 128 * h.val + d.val < 2048; omega)
theorem pK_eq : Cert.Gla.pK (VF m c main_v5) h = Cert.Gla.xK (a0 m c) h := by
  funext n r d
  unfold Cert.Gla.pK Cert.Gla.xK
  rw [v5_eq]
  exact packed_lo m c _ _ (by show 512 + 128 * h.val + d.val < 2048; omega)
theorem pV_eq : Cert.Gla.pV (VF m c main_v5) h = Cert.Gla.xV (a0 m c) h := by
  funext n r e
  unfold Cert.Gla.pV Cert.Gla.xV
  rw [v5_eq]
  exact packed_lo m c _ _ (by show 1024 + 256 * h.val + e.val < 2048; omega)
theorem pD_eq : Cert.Gla.pD (VB m c main_v9) h = Cert.Gla.xD (a3 m c) h := by
  funext n r e
  unfold Cert.Gla.pD Cert.Gla.xD
  rw [v9_eq]
  exact dO_at m c _ _

/-- The padded rank adds nothing: its projections are zero. -/
theorem pZ_eq : Cert.Gla.pZ (VF m c main_v5) (VF m c main_v6) (VF m c main_v7) h = Cert.Gla.xZ (a0 m c) (a1 m c) (a2 m c) h := by
  funext n r d
  unfold Cert.Gla.pZ Cert.Gla.xZ
  rw [v5_eq, v6_eq, v7_eq]
  refine Ideal.add_congr ?_ (bias_at m c _)
  refine (Fin.sum_univ_add (a := 16) (b := 112) (fun j : Fin (16 + 112) => packed m c (ix2 (Cert.Gla.row n r) ⟨3072 + j.val, by omega⟩) * padded m c (ix2 j ⟨128 * h.val + d.val, by omega⟩))).trans ?_
  have hz : ∀ j : Fin 112, packed m c (ix2 (Cert.Gla.row n r) ⟨3072 + (Fin.natAdd 16 j).val, by omega⟩) * padded m c (ix2 (Fin.natAdd 16 j) ⟨128 * h.val + d.val, by omega⟩) = (0 : EReal) := fun j => by
    have e := packed_hi m c (Cert.Gla.row n r) (Fin.natAdd 16 j) (by show ¬16 + j.val < 16; omega)
    exact (congrArg (· * _) e).trans (zero_mul _)
  refine (congrArg (_ + ·) (Finset.sum_eq_zero fun j _ => hz j)).trans ((add_zero _).trans (Finset.sum_congr rfl fun j _ => Ideal.mul_congr ?_ ?_))
  · exact packed_gate m c _ (Fin.castAdd 112 j) j.isLt
  · exact padded_lo m c (Fin.castAdd 112 j) j.isLt _

theorem pG_eq : Cert.Gla.pG (VF m c main_v5) (VF m c main_v6) (VF m c main_v7) h = Cert.Gla.xG (a0 m c) (a1 m c) (a2 m c) h := by
  funext n r d
  unfold Cert.Gla.pG Cert.Gla.xG
  rw [pZ_eq]

end Cert.KernelIdeal.Gla

end
-- ==== Proof.KernelVal.lean ====
/- What the kernel's six results hold: the recurrence's output and cotangents, in the arguments. -/
module

public import proofs.«01_k».proof.Proof.HostVal

@[expose] public section

set_option maxRecDepth 16384

noncomputable section

namespace Cert.Gla

open Idealize.ShloMosaic

variable (a0 : Vec Ideal ⟨3, ![1, 8192, 3088]⟩ .f32) (a1 : Vec Ideal ⟨2, ![16, 512]⟩ .f32) (a2 : Vec Ideal ⟨1, ![512]⟩ .f32) (a3 : Vec Ideal ⟨3, ![1, 8192, 1024]⟩ .f32) (h : Fin 4)

/-- Head `h`'s sequences in the arguments: states and their cotangents, output and cotangents by chunk. -/
def xSF : ℕ → State := SF (xK a0 h) (xG a0 a1 a2 h) (xV a0 h)
def xDF : ℕ → State := DF (xQ a0 h) (xG a0 a1 a2 h) (xD a3 h)
def xO : ℕ → Vals := seqO (xQ a0 h) (xK a0 h) (xG a0 a1 a2 h) (xV a0 h)
def xdQ : ℕ → Rows := seqDQ (xK a0 h) (xG a0 a1 a2 h) (xV a0 h) (xD a3 h)
def xdK : ℕ → Rows := seqDK (xQ a0 h) (xG a0 a1 a2 h) (xV a0 h) (xD a3 h)
def xdV : ℕ → Vals := seqDV (xQ a0 h) (xK a0 h) (xG a0 a1 a2 h) (xD a3 h)
def xdZ : ℕ → Rows := seqDZ (xQ a0 h) (xK a0 h) (xG a0 a1 a2 h) (xZ a0 a1 a2 h) (xV a0 h) (xD a3 h)
def xdB : ℕ → Fin 128 → EReal := BF (xQ a0 h) (xK a0 h) (xG a0 a1 a2 h) (xZ a0 a1 a2 h) (xV a0 h) (xD a3 h)

end Cert.Gla

namespace Cert.KernelIdeal.Gla

open Cert.KernelIdeal.Gen
open Idealize.ShloMosaic Idealize.ShloMosaic.TcCoe

variable (m : (ℓ : Loc nD τ sig) → Buf (Elt Ideal) ℓ) (c : Dev nD)

theorem bQ_eq (h : Fin 4) : Cert.Gla.pQ (VB m c main_v5) h = Cert.Gla.xQ (a0 m c) h := by rw [b5_eq, pQ_eq]
theorem bK_eq (h : Fin 4) : Cert.Gla.pK (VB m c main_v5) h = Cert.Gla.xK (a0 m c) h := by rw [b5_eq, pK_eq]
theorem bV_eq (h : Fin 4) : Cert.Gla.pV (VB m c main_v5) h = Cert.Gla.xV (a0 m c) h := by rw [b5_eq, pV_eq]
theorem bZ_eq (h : Fin 4) : Cert.Gla.pZ (VB m c main_v5) (VB m c main_v6) (VB m c main_v7) h = Cert.Gla.xZ (a0 m c) (a1 m c) (a2 m c) h := by rw [b5_eq, b6_eq, b7_eq, pZ_eq]
theorem bG_eq (h : Fin 4) : Cert.Gla.pG (VB m c main_v5) (VB m c main_v6) (VB m c main_v7) h = Cert.Gla.xG (a0 m c) (a1 m c) (a2 m c) h := by rw [b5_eq, b6_eq, b7_eq, pG_eq]

theorem states (c : Dev nD) : VB m c main_v8_1 = fun y : S128x4x256x128.Idx => Fwd.sf (VB m) c (y 1) (y 0).val (y 2) (y 3) := by
  have e : Fwd.sf (VF m) c = Fwd.sf (VB m) c := by
    funext h
    unfold Fwd.sf
    rw [pK_eq, pG_eq, pV_eq, bK_eq, bG_eq, bV_eq]
  rw [b8_eq, Fwd.final7, e]

/-- Entry `y` of an array of 8192 rows whose columns are heads of width `w`. -/
def rowAt {w W : ℕ} [NeZero w] (hW : W = 4 * w) (f : Fin 4 → ℕ → Fin 64 → Fin w → EReal) (y : (⟨2, ![8192, W]⟩ : Shape).Idx) : EReal :=
  f ⟨(y 1).val / w, by have h : (y 1).val < W := (y 1).isLt; exact Nat.div_lt_of_lt_mul (by omega)⟩ ((y 0).val / 64) ⟨(y 0).val % 64, Nat.mod_lt _ (by decide)⟩
    ⟨(y 1).val % w, Nat.mod_lt _ (Nat.pos_of_ne_zero (NeZero.ne w))⟩

theorem val_o : (Fwd.dats (VF m) c).arrAt 6 cfg0.N = rowAt (w := 256) (W := 1024) rfl (fun h => Cert.Gla.xO (a0 m c) (a1 m c) (a2 m c) h) := by
  have e : Fwd.so (VF m) c = fun h => Cert.Gla.xO (a0 m c) (a1 m c) (a2 m c) h := by
    funext h
    unfold Fwd.so Cert.Gla.xO
    rw [pQ_eq, pK_eq, pG_eq, pV_eq]
  rw [Fwd.final6, e]
  rfl
theorem val_dq : (Bwd.dats (VB m) c).arrAt 8 cfg1.N = rowAt (w := 128) (W := 512) rfl (fun h => Cert.Gla.xdQ (a0 m c) (a1 m c) (a2 m c) (a3 m c) h) := by
  have e : Bwd.sdQ (VB m) c = fun h => Cert.Gla.xdQ (a0 m c) (a1 m c) (a2 m c) (a3 m c) h := by
    funext h
    unfold Bwd.sdQ Cert.Gla.xdQ
    rw [bK_eq, bG_eq, bV_eq, pD_eq]
  rw [Bwd.final8 (VB m) c (states m c), e]
  rfl
theorem val_dk : (Bwd.dats (VB m) c).arrAt 9 cfg1.N = rowAt (w := 128) (W := 512) rfl (fun h => Cert.Gla.xdK (a0 m c) (a1 m c) (a2 m c) (a3 m c) h) := by
  have e : Bwd.sdK (VB m) c = fun h => Cert.Gla.xdK (a0 m c) (a1 m c) (a2 m c) (a3 m c) h := by
    funext h
    unfold Bwd.sdK Cert.Gla.xdK
    rw [bQ_eq, bG_eq, bV_eq, pD_eq]
  rw [Bwd.final9 (VB m) c (states m c), e]
  rfl
theorem val_dv : (Bwd.dats (VB m) c).arrAt 10 cfg1.N = rowAt (w := 256) (W := 1024) rfl (fun h => Cert.Gla.xdV (a0 m c) (a1 m c) (a2 m c) (a3 m c) h) := by
  have e : Bwd.sdV (VB m) c = fun h => Cert.Gla.xdV (a0 m c) (a1 m c) (a2 m c) (a3 m c) h := by
    funext h
    unfold Bwd.sdV Cert.Gla.xdV
    rw [bQ_eq, bK_eq, bG_eq, pD_eq]
  rw [Bwd.final10 (VB m) c (states m c), e]
  rfl
theorem val_dz : (Bwd.dats (VB m) c).arrAt 11 cfg1.N = rowAt (w := 128) (W := 512) rfl (fun h => Cert.Gla.xdZ (a0 m c) (a1 m c) (a2 m c) (a3 m c) h) := by
  have e : Bwd.sdZ (VB m) c = fun h => Cert.Gla.xdZ (a0 m c) (a1 m c) (a2 m c) (a3 m c) h := by
    funext h
    unfold Bwd.sdZ Cert.Gla.xdZ
    rw [bQ_eq, bK_eq, bG_eq, bZ_eq, bV_eq, pD_eq]
  rw [Bwd.final11 (VB m) c (states m c), e]
  rfl
theorem val_db : (Bwd.dats (VB m) c).arrAt 12 cfg1.N = fun y : S1x512.Idx =>
    Cert.Gla.xdB (a0 m c) (a1 m c) (a2 m c) (a3 m c) ⟨(y 1).val / 128, by have h : (y 1).val < 512 := (y 1).isLt; omega⟩ 128 ⟨(y 1).val % 128, Nat.mod_lt _ (by decide)⟩ := by
  have e : Bwd.bf (VB m) c = fun h => Cert.Gla.xdB (a0 m c) (a1 m c) (a2 m c) (a3 m c) h := by
    funext h
    unfold Bwd.bf Cert.Gla.xdB
    rw [bQ_eq, bK_eq, bG_eq, bZ_eq, bV_eq, pD_eq]
  rw [Bwd.final12 (VB m) c (states m c), e]

end Cert.KernelIdeal.Gla

end
-- ==== Proof.RefDefs.lean ====
/-
  What the reference's buffers hold at the end of its run, typed.
-/
module

public import proofs.«01_k».proof.Proof.RefFold
public import proofs.«01_k».proof.Proof.Math

@[expose] public section

set_option maxRecDepth 100000

noncomputable section

namespace Cert.ReferenceIdeal.Ref

open Cert.ReferenceIdeal Cert.ReferenceIdeal.Gen Cert.TwoLoops
open Idealize.ShloMosaic Idealize.ShloMosaic.TcCoe Idealize.ShloMosaic.Tactic
open Idealize.ShloMosaic.StableHlo

attribute [local irreducible] S1 S2 S3

variable {F : FTy → Type} [FloatOps F]
variable (m : (ℓ : Loc nD τ sig) → Buf (Elt Ideal) ℓ) (c : Dev nD)

def r_arg0 : FVec Ideal S1x8192x3088 .f32 := S3 m c (Proc.devRef .tc main_arg0)
def r_v0 : FVec Ideal S1x8192x512 .f32 := S3 m c (Proc.devRef .tc main_v0)
def r_v1 : FVec Ideal S1x8192x512 .f32 := S3 m c (Proc.devRef .tc main_v1)
def r_v2 : FVec Ideal S1x8192x1024 .f32 := S3 m c (Proc.devRef .tc main_v2)
def r_v3 : FVec Ideal S1x8192x16 .f32 := S3 m c (Proc.devRef .tc main_v3)
def r_arg1 : FVec Ideal S16x512 .f32 := S3 m c (Proc.devRef .tc main_arg1)
def r_v4 : FVec Ideal S1x8192x512 .f32 := S3 m c (Proc.devRef .tc main_v4)
def r_arg2 : FVec Ideal S512 .f32 := S3 m c (Proc.devRef .tc main_arg2)
def r_v5 : FVec Ideal S1x1x512 .f32 := S3 m c (Proc.devRef .tc main_v5)
def r_v6 : FVec Ideal S1x8192x512 .f32 := S3 m c (Proc.devRef .tc main_v6)
def r_v7 : FVec Ideal S1x8192x512 .f32 := S3 m c (Proc.devRef .tc main_v7)
def r_call0_v0 : FVec Ideal S1x8192x512 .f32 := S3 m c (Proc.devRef .tc main_call0_v0)
def r_call0_call0_cst : FVec Ideal S_ .f32 := S3 m c (Proc.devRef .tc main_call0_call0_cst)
def r_call0_call0_v0 : FVec Ideal S1x8192x512 .f32 := S3 m c (Proc.devRef .tc main_call0_call0_v0)
def r_call0_call0_v1 : FVec Ideal S1x8192x512 .f32 := S3 m c (Proc.devRef .tc main_call0_call0_v1)
def r_call0_call0_v2 : FVec Ideal S1x8192x512 .f32 := S3 m c (Proc.devRef .tc main_call0_call0_v2)
def r_call0_call0_v3 : FVec Ideal S1x8192x512 .f32 := S3 m c (Proc.devRef .tc main_call0_call0_v3)
def r_call0_call0_v4 : IVec S1x8192x512 1 := S3 m c (Proc.devRef .tc main_call0_call0_v4)
def r_call0_call0_v5 : FVec Ideal S1x8192x512 .f32 := S3 m c (Proc.devRef .tc main_call0_call0_v5)
def r_call0_call0_v6 : FVec Ideal S1x8192x512 .f32 := S3 m c (Proc.devRef .tc main_call0_call0_v6)
def r_call0_call0_v7 : FVec Ideal S1x8192x512 .f32 := S3 m c (Proc.devRef .tc main_call0_call0_v7)
def r_call0_call0_v8 : FVec Ideal S1x8192x512 .f32 := S3 m c (Proc.devRef .tc main_call0_call0_v8)
def r_call0_call0_v9 : FVec Ideal S1x8192x512 .f32 := S3 m c (Proc.devRef .tc main_call0_call0_v9)
def r_call0_call0_v10 : FVec Ideal S1x8192x512 .f32 := S3 m c (Proc.devRef .tc main_call0_call0_v10)
def r_call0_call0_v11 : FVec Ideal S1x8192x512 .f32 := S3 m c (Proc.devRef .tc main_call0_call0_v11)
def r_call0_v1_0 : FVec Ideal S1x8192x512 .f32 := S3 m c (Proc.devRef .tc main_call0_v1_0)
def r_call0_call0_cst_0 : FVec Ideal S_ .f32 := S3 m c (Proc.devRef .tc main_call0_call0_cst_0)
def r_call0_call0_v13 : FVec Ideal S1x8192x512 .f32 := S3 m c (Proc.devRef .tc main_call0_call0_v13)
def r_call0_call0_v14 : IVec S1x8192x512 1 := S3 m c (Proc.devRef .tc main_call0_call0_v14)
def r_call0_call0_cst_1 : FVec Ideal S_ .f32 := S3 m c (Proc.devRef .tc main_call0_call0_cst_1)
def r_call0_call0_v15 : FVec Ideal S1x8192x512 .f32 := S3 m c (Proc.devRef .tc main_call0_call0_v15)
def r_call0_call0_v16 : FVec Ideal S1x8192x512 .f32 := S3 m c (Proc.devRef .tc main_call0_call0_v16)
def r_call0_call0_cst_2 : FVec Ideal S_ .f32 := S3 m c (Proc.devRef .tc main_call0_call0_cst_2)
def r_call0_call0_v17 : FVec Ideal S1x8192x512 .f32 := S3 m c (Proc.devRef .tc main_call0_call0_v17)
def r_call0_call0_v18 : IVec S1x8192x512 1 := S3 m c (Proc.devRef .tc main_call0_call0_v18)
def r_call0_call0_cst_3 : FVec Ideal S_ .f32 := S3 m c (Proc.devRef .tc main_call0_call0_cst_3)
def r_call0_call0_v19 : FVec Ideal S1x8192x512 .f32 := S3 m c (Proc.devRef .tc main_call0_call0_v19)
def r_call0_call0_v20 : FVec Ideal S1x8192x512 .f32 := S3 m c (Proc.devRef .tc main_call0_call0_v20)
def r_call0_call0_v21 : FVec Ideal S1x8192x512 .f32 := S3 m c (Proc.devRef .tc main_call0_call0_v21)
def r_v8_1 : FVec Ideal S1x8192x512 .f32 := S3 m c (Proc.devRef .tc main_v8_1)
def r_v8_0 : FVec Ideal S1x8192x512 .f32 := S3 m c (Proc.devRef .tc main_v8_0)
def r_cst : FVec Ideal S_ .f32 := S3 m c (Proc.devRef .tc main_cst)
def r_v9 : FVec Ideal S1x8192x512 .f32 := S3 m c (Proc.devRef .tc main_v9)
def r_v10 : FVec Ideal S1x8192x512 .f32 := S3 m c (Proc.devRef .tc main_v10)
def r_v11 : FVec Ideal S1x128x64x4x128 .f32 := S3 m c (Proc.devRef .tc main_v11)
def r_v12 : FVec Ideal S1x4x128x64x128 .f32 := S3 m c (Proc.devRef .tc main_v12)
def r_v13 : FVec Ideal S1x128x64x4x256 .f32 := S3 m c (Proc.devRef .tc main_v13)
def r_v14 : FVec Ideal S1x4x128x64x256 .f32 := S3 m c (Proc.devRef .tc main_v14)
def r_v15 : FVec Ideal S1x128x64x4x128 .f32 := S3 m c (Proc.devRef .tc main_v15)
def r_v16 : FVec Ideal S1x4x128x64x128 .f32 := S3 m c (Proc.devRef .tc main_v16)
def r_call1_call0_cst : FVec Ideal S_ .f32 := S3 m c (Proc.devRef .tc main_call1_call0_cst)
def r_call1_call0_v0 : FVec Ideal S_ .f32 := S3 m c (Proc.devRef .tc main_call1_call0_v0)
def r_v17 : FVec Ideal S1x4x128x64x128 .f32 := S3 m c (Proc.devRef .tc main_v17)
def r_v18 : FVec Ideal S1x4x128x1x128 .f32 := S3 m c (Proc.devRef .tc main_v18)
def r_v19 : FVec Ideal S1x4x128x64x128 .f32 := S3 m c (Proc.devRef .tc main_v19)
def r_v20 : FVec Ideal S1x4x128x64x128 .f32 := S3 m c (Proc.devRef .tc main_v20)
def r_v21 : FVec Ideal S1x4x128x64x128 .f32 := S3 m c (Proc.devRef .tc main_v21)
def r_v22 : FVec Ideal S1x4x128x64x128 .f32 := S3 m c (Proc.devRef .tc main_v22)
def r_v23 : FVec Ideal S1x4x128x128x256 .f32 := S3 m c (Proc.devRef .tc main_v23)
def r_v24 : FVec Ideal S1x4x128x128 .f32 := S3 m c (Proc.devRef .tc main_v24)
def r_v25 : FVec Ideal S1x4x128x128 .f32 := S3 m c (Proc.devRef .tc main_v25)
def r_v26 : FVec Ideal S1x128x64x4x128 .f32 := S3 m c (Proc.devRef .tc main_v26)
def r_v27 : FVec Ideal S1x4x128x64x128 .f32 := S3 m c (Proc.devRef .tc main_v27)
def r_cst_0 : FVec Ideal S_ .f32 := S3 m c (Proc.devRef .tc main_cst_0)
def r_v28 : FVec Ideal S1x4x128x64x128 .f32 := S3 m c (Proc.devRef .tc main_v28)
def r_v29 : FVec Ideal S1x4x128x64x128 .f32 := S3 m c (Proc.devRef .tc main_v29)
def r_v30 : FVec Ideal S1x128x64x4x128 .f32 := S3 m c (Proc.devRef .tc main_v30)
def r_v31 : FVec Ideal S1x4x128x64x128 .f32 := S3 m c (Proc.devRef .tc main_v31)
def r_v32 : FVec Ideal S1x128x64x4x256 .f32 := S3 m c (Proc.devRef .tc main_v32)
def r_v33 : FVec Ideal S1x4x128x64x256 .f32 := S3 m c (Proc.devRef .tc main_v33)
def r_v34 : FVec Ideal S1x4x128x64x128 .f32 := S3 m c (Proc.devRef .tc main_v34)
def r_v35 : FVec Ideal S1x4x128x64x128 .f32 := S3 m c (Proc.devRef .tc main_v35)
def r_v36 : FVec Ideal S1x4x128x64x128 .f32 := S3 m c (Proc.devRef .tc main_v36)
def r_v37 : FVec Ideal S1x4x128x64x128 .f32 := S3 m c (Proc.devRef .tc main_v37)
def r_v38 : FVec Ideal S1x4x128x64x128 .f32 := S3 m c (Proc.devRef .tc main_v38)
def r_c : IVec S_ 1 := S3 m c (Proc.devRef .tc main_c)
def r_v39 : IVec S64x64 1 := S3 m c (Proc.devRef .tc main_v39)
def r_call2_v0 : IVec S64x64 32 := S3 m c (Proc.devRef .tc main_call2_v0)
def r_call2_c : IVec S_ 32 := S3 m c (Proc.devRef .tc main_call2_c)
def r_call2_v1 : IVec S64x64 32 := S3 m c (Proc.devRef .tc main_call2_v1)
def r_call2_v2 : IVec S64x64 32 := S3 m c (Proc.devRef .tc main_call2_v2)
def r_call2_v3 : IVec S64x64 32 := S3 m c (Proc.devRef .tc main_call2_v3)
def r_call2_v4 : IVec S64x64 1 := S3 m c (Proc.devRef .tc main_call2_v4)
def r_call2_c_0 : IVec S_ 1 := S3 m c (Proc.devRef .tc main_call2_c_0)
def r_call2_v5 : IVec S64x64 1 := S3 m c (Proc.devRef .tc main_call2_v5)
def r_v40 : IVec S64x64 1 := S3 m c (Proc.devRef .tc main_v40)
def r_v41 : FVec Ideal S1x4x128x64x64 .f32 := S3 m c (Proc.devRef .tc main_v41)
def r_cst_1 : FVec Ideal S_ .f32 := S3 m c (Proc.devRef .tc main_cst_1)
def r_call3_v0 : FVec Ideal S_ .f32 := S3 m c (Proc.devRef .tc main_call3_v0)
def r_v42_1 : IVec S1x4x128x64x64 1 := S3 m c (Proc.devRef .tc main_v42_1)
def r_call3_v2 : FVec Ideal S1x4x128x64x64 .f32 := S3 m c (Proc.devRef .tc main_call3_v2)
def r_v42_0 : FVec Ideal S1x4x128x64x64 .f32 := S3 m c (Proc.devRef .tc main_v42_0)
def r_v43 : FVec Ideal S1x4x128x64x256 .f32 := S3 m c (Proc.devRef .tc main_v43)
def r_v45 : FVec Ideal S128x1x4x128 .f32 := S3 m c (Proc.devRef .tc main_v45)
def r_v46 : FVec Ideal S128x1x4x128x256 .f32 := S3 m c (Proc.devRef .tc main_v46)
def r_v49_0 : FVec Ideal S128x1x4x128 .f32 := S3 m c (Proc.devRef .tc main_v49_0)
def r_v49_1 : FVec Ideal S128x1x4x128x256 .f32 := S3 m c (Proc.devRef .tc main_v49_1)
def r_v49_4 : FVec Ideal S128x1x4x128x256 .f32 := S3 m c (Proc.devRef .tc main_v49_4)
def r_v50 : FVec Ideal S1x4x128x128x256 .f32 := S3 m c (Proc.devRef .tc main_v50)
def r_v51 : FVec Ideal S1x4x128x64x256 .f32 := S3 m c (Proc.devRef .tc main_v51)
def r_v52 : FVec Ideal S1x4x128x64x256 .f32 := S3 m c (Proc.devRef .tc main_v52)
def r_v53 : FVec Ideal S1x128x64x4x256 .f32 := S3 m c (Proc.devRef .tc main_v53)
def r_v54 : FVec Ideal S1x8192x1024 .f32 := S3 m c (Proc.devRef .tc main_v54)
def r_arg3 : FVec Ideal S1x8192x1024 .f32 := S3 m c (Proc.devRef .tc main_arg3)
def r_v56 : FVec Ideal S1x128x64x4x256 .f32 := S3 m c (Proc.devRef .tc main_v56)
def r_v57 : FVec Ideal S1x4x128x64x256 .f32 := S3 m c (Proc.devRef .tc main_v57)
def r_v58 : FVec Ideal S1x4x128x256x128 .f32 := S3 m c (Proc.devRef .tc main_v58)
def r_v59 : FVec Ideal S1x4x128x128x256 .f32 := S3 m c (Proc.devRef .tc main_v59)
def r_v60 : FVec Ideal S1x4x128x64x128 .f32 := S3 m c (Proc.devRef .tc main_v60)
def r_v61 : FVec Ideal S128x1x4x128x256 .f32 := S3 m c (Proc.devRef .tc main_v61)
def r_v65_0 : FVec Ideal S128x1x4x128x256 .f32 := S3 m c (Proc.devRef .tc main_v65_0)
def r_v65_1 : FVec Ideal S128x1x4x128x256 .f32 := S3 m c (Proc.devRef .tc main_v65_1)
def r_v49_5 : FVec Ideal S128x1x4x128x1 .f32 := S3 m c (Proc.devRef .tc main_v49_5)
def r_v65_2 : FVec Ideal S128x1x4x128x1 .f32 := S3 m c (Proc.devRef .tc main_v65_2)
def r_v65_6 : FVec Ideal S128x1x4x128x256 .f32 := S3 m c (Proc.devRef .tc main_v65_6)
def r_v66 : FVec Ideal S1x4x128x128x256 .f32 := S3 m c (Proc.devRef .tc main_v66)
def r_v65_5 : FVec Ideal S128x1x4x128 .f32 := S3 m c (Proc.devRef .tc main_v65_5)
def r_v67 : FVec Ideal S1x4x128x128 .f32 := S3 m c (Proc.devRef .tc main_v67)
def r_v68 : FVec Ideal S1x4x128x256x64 .f32 := S3 m c (Proc.devRef .tc main_v68)
def r_v69 : FVec Ideal S1x4x128x64x256 .f32 := S3 m c (Proc.devRef .tc main_v69)
def r_v70 : FVec Ideal S1x4x128x64x64 .f32 := S3 m c (Proc.devRef .tc main_v70)
def r_call13_cst : FVec Ideal S_ .f32 := S3 m c (Proc.devRef .tc main_call13_cst)
def r_call13_v0 : FVec Ideal S1x4x128x64x64 .f32 := S3 m c (Proc.devRef .tc main_call13_v0)
def r_v71 : FVec Ideal S1x4x128x64x64 .f32 := S3 m c (Proc.devRef .tc main_v71)
def r_v72 : FVec Ideal S1x4x128x64x128 .f32 := S3 m c (Proc.devRef .tc main_v72)
def r_v73 : FVec Ideal S1x4x128x64x128 .f32 := S3 m c (Proc.devRef .tc main_v73)
def r_v74 : FVec Ideal S1x4x128x64x128 .f32 := S3 m c (Proc.devRef .tc main_v74)
def r_v75 : FVec Ideal S1x4x128x64x128 .f32 := S3 m c (Proc.devRef .tc main_v75)
def r_v76 : FVec Ideal S1x4x128x64x128 .f32 := S3 m c (Proc.devRef .tc main_v76)
def r_v77 : FVec Ideal S1x4x128x64x128 .f32 := S3 m c (Proc.devRef .tc main_v77)
def r_v78 : FVec Ideal S1x4x128x64x128 .f32 := S3 m c (Proc.devRef .tc main_v78)
def r_v79 : FVec Ideal S1x4x128x64x128 .f32 := S3 m c (Proc.devRef .tc main_v79)
def r_v80 : FVec Ideal S1x4x128x64x128 .f32 := S3 m c (Proc.devRef .tc main_v80)
def r_v81 : FVec Ideal S1x4x128x64x128 .f32 := S3 m c (Proc.devRef .tc main_v81)
def r_v82 : FVec Ideal S1x4x128x64x128 .f32 := S3 m c (Proc.devRef .tc main_v82)
def r_v83 : FVec Ideal S1x128x64x4x256 .f32 := S3 m c (Proc.devRef .tc main_v83)
def r_v84 : FVec Ideal S1x8192x1024 .f32 := S3 m c (Proc.devRef .tc main_v84)
def r_v85 : FVec Ideal S1x128x64x4x128 .f32 := S3 m c (Proc.devRef .tc main_v85)
def r_v86 : FVec Ideal S1x8192x512 .f32 := S3 m c (Proc.devRef .tc main_v86)
def r_cst_11 : FVec Ideal S_ .f32 := S3 m c (Proc.devRef .tc main_cst_11)
def r_v87 : FVec Ideal S1x4x128x64x128 .f32 := S3 m c (Proc.devRef .tc main_v87)
def r_v88 : FVec Ideal S1x4x128x64x128 .f32 := S3 m c (Proc.devRef .tc main_v88)
def r_v89 : FVec Ideal S1x128x64x4x128 .f32 := S3 m c (Proc.devRef .tc main_v89)
def r_v90 : FVec Ideal S1x8192x512 .f32 := S3 m c (Proc.devRef .tc main_v90)
def r_v91 : FVec Ideal S1x4x128x128 .f32 := S3 m c (Proc.devRef .tc main_v91)
def r_v92 : FVec Ideal S1x4x128x1x128 .f32 := S3 m c (Proc.devRef .tc main_v92)
def r_v93 : FVec Ideal S1x4x128x256x64 .f32 := S3 m c (Proc.devRef .tc main_v93)
def r_v94 : FVec Ideal S1x4x128x64x256 .f32 := S3 m c (Proc.devRef .tc main_v94)
def r_v95 : FVec Ideal S1x4x128x128x64 .f32 := S3 m c (Proc.devRef .tc main_v95)
def r_v96 : FVec Ideal S1x4x128x64x128 .f32 := S3 m c (Proc.devRef .tc main_v96)
def r_v97 : FVec Ideal S1x4x128x64x128 .f32 := S3 m c (Proc.devRef .tc main_v97)
def r_v98 : FVec Ideal S1x4x128x64x128 .f32 := S3 m c (Proc.devRef .tc main_v98)
def r_v99 : FVec Ideal S1x4x128x64x128 .f32 := S3 m c (Proc.devRef .tc main_v99)
def r_cst_12 : FVec Ideal S_ .f32 := S3 m c (Proc.devRef .tc main_cst_12)
def r_v100 : FVec Ideal S1x4x128x128 .f32 := S3 m c (Proc.devRef .tc main_v100)
def r_v101 : FVec Ideal S1x4x128x1x128 .f32 := S3 m c (Proc.devRef .tc main_v101)
def r_v102 : FVec Ideal S1x4x128x64x128 .f32 := S3 m c (Proc.devRef .tc main_v102)
def r_v103 : FVec Ideal S1x4x128x1x128 .f32 := S3 m c (Proc.devRef .tc main_v103)
def r_v104 : FVec Ideal S1x4x128x64x128 .f32 := S3 m c (Proc.devRef .tc main_v104)
def r_cst_13 : FVec Ideal S_ .f32 := S3 m c (Proc.devRef .tc main_cst_13)
def r_v105 : FVec Ideal S1x4x128x64x128 .f32 := S3 m c (Proc.devRef .tc main_v105)
def r_v106 : FVec Ideal S1x4x128x64x128 .f32 := S3 m c (Proc.devRef .tc main_v106)
def r_call14_call0_cst : FVec Ideal S_ .f32 := S3 m c (Proc.devRef .tc main_call14_call0_cst)
def r_call14_call0_v0 : FVec Ideal S_ .f32 := S3 m c (Proc.devRef .tc main_call14_call0_v0)
def r_v107 : FVec Ideal S1x4x128x64x128 .f32 := S3 m c (Proc.devRef .tc main_v107)
def r_v108 : FVec Ideal S1x128x64x4x128 .f32 := S3 m c (Proc.devRef .tc main_v108)
def r_v109 : FVec Ideal S1x8192x512 .f32 := S3 m c (Proc.devRef .tc main_v109)
def r_v110 : FVec Ideal S1x128x64x4x256 .f32 := S3 m c (Proc.devRef .tc main_v110)
def r_v111 : FVec Ideal S1x8192x1024 .f32 := S3 m c (Proc.devRef .tc main_v111)
def r_v112 : FVec Ideal S1x8192x1024 .f32 := S3 m c (Proc.devRef .tc main_v112)
def r_v113 : FVec Ideal S1x128x64x4x128 .f32 := S3 m c (Proc.devRef .tc main_v113)
def r_v114 : FVec Ideal S1x8192x512 .f32 := S3 m c (Proc.devRef .tc main_v114)
def r_v115 : FVec Ideal S1x8192x512 .f32 := S3 m c (Proc.devRef .tc main_v115)
def r_cst_14 : FVec Ideal S_ .f32 := S3 m c (Proc.devRef .tc main_cst_14)
def r_v116 : FVec Ideal S1x8192x512 .f32 := S3 m c (Proc.devRef .tc main_v116)
def r_v117 : FVec Ideal S1x8192x512 .f32 := S3 m c (Proc.devRef .tc main_v117)
def r_call15_v0 : FVec Ideal S1x8192x512 .f32 := S3 m c (Proc.devRef .tc main_call15_v0)
def r_call15_v1 : FVec Ideal S1x8192x512 .f32 := S3 m c (Proc.devRef .tc main_call15_v1)
def r_v118 : FVec Ideal S1x8192x512 .f32 := S3 m c (Proc.devRef .tc main_v118)
def r_cst_15 : FVec Ideal S_ .f32 := S3 m c (Proc.devRef .tc main_cst_15)
def r_v119 : FVec Ideal S1x512 .f32 := S3 m c (Proc.devRef .tc main_v119)
def r_v120 : FVec Ideal S1x1x512 .f32 := S3 m c (Proc.devRef .tc main_v120)
def r_cst_16 : FVec Ideal S_ .f32 := S3 m c (Proc.devRef .tc main_cst_16)
def r_v121 : FVec Ideal S512 .f32 := S3 m c (Proc.devRef .tc main_v121)
def r_v122 : FVec Ideal S8192x1024 .f32 := S3 m c (Proc.devRef .tc main_v122)
def r_v123 : FVec Ideal S8192x512 .f32 := S3 m c (Proc.devRef .tc main_v123)
def r_v124 : FVec Ideal S8192x512 .bf16 := S3 m c (Proc.devRef .tc main_v124)
def r_v125 : FVec Ideal S8192x512 .f32 := S3 m c (Proc.devRef .tc main_v125)
def r_v126 : FVec Ideal S8192x512 .bf16 := S3 m c (Proc.devRef .tc main_v126)
def r_v127 : FVec Ideal S8192x1024 .f32 := S3 m c (Proc.devRef .tc main_v127)
def r_v128 : FVec Ideal S8192x1024 .bf16 := S3 m c (Proc.devRef .tc main_v128)
def r_v129 : FVec Ideal S8192x512 .f32 := S3 m c (Proc.devRef .tc main_v129)
def r_v130 : FVec Ideal S1x512 .f32 := S3 m c (Proc.devRef .tc main_v130)

end Cert.ReferenceIdeal.Ref

end
-- ==== Proof.RefPre.lean ====
/-
  The reference's operations before its loops, as equations between what its buffers hold at the end.
-/
module

public import proofs.«01_k».proof.Proof.RefDefs
public import proofs.«01_k».proof.Proof.Math

@[expose] public section

set_option maxRecDepth 100000

noncomputable section

namespace Cert.ReferenceIdeal.Ref

open Cert.ReferenceIdeal Cert.ReferenceIdeal.Gen Cert.TwoLoops
open Idealize.ShloMosaic Idealize.ShloMosaic.TcCoe Idealize.ShloMosaic.Tactic
open Idealize.ShloMosaic.StableHlo

attribute [local irreducible] S1 S2 S3

variable {F : FTy → Type} [FloatOps F]
variable (m : (ℓ : Loc nD τ sig) → Buf (Elt Ideal) ℓ) (c : Dev nD)

theorem e_v0 : r_v0 m c = extractStridedSlice S1x8192x512 ![0, 0, 0] (r_arg0 m c) slices_S1x8192x3088_S1x8192x512_0_0_0 := by
  have h := una pre_writes (keep_pre m c) 0 main_arg0 main_v0 rfl (by decide +kernel)
  exact h
theorem e_v1 : r_v1 m c = extractStridedSlice S1x8192x512 ![0, 0, 512] (r_arg0 m c) slices_S1x8192x3088_S1x8192x512_0_0_512 := by
  have h := una pre_writes (keep_pre m c) 1 main_arg0 main_v1 rfl (by decide +kernel)
  exact h
theorem e_v2 : r_v2 m c = extractStridedSlice S1x8192x1024 ![0, 0, 1024] (r_arg0 m c) slices_S1x8192x3088_S1x8192x1024_0_0_1024 := by
  have h := una pre_writes (keep_pre m c) 2 main_arg0 main_v2 rfl (by decide +kernel)
  exact h
theorem e_v3 : r_v3 m c = extractStridedSlice S1x8192x16 ![0, 0, 2048] (r_arg0 m c) slices_S1x8192x3088_S1x8192x16_0_0_2048 := by
  have h := una pre_writes (keep_pre m c) 3 main_arg0 main_v3 rfl (by decide +kernel)
  exact h
theorem e_v4 : r_v4 m c = Host.dotGeneral dot_S1x8192x16_S16x512_S1x8192x512_2_0_01_1_n_n none (r_v3 m c) (r_arg1 m c) := by
  have h := bin pre_writes (keep_pre m c) 4 main_v3 main_arg1 main_v4 rfl (by decide +kernel)
  exact h
theorem e_v5 : r_v5 m c = broadcastInDim S1x1x512 ![2] bcast_S512_S1x1x512_2 (r_arg2 m c) := by
  have h := una pre_writes (keep_pre m c) 5 main_arg2 main_v5 rfl (by decide +kernel)
  exact h
theorem e_v6 : r_v6 m c = broadcastInDim S1x8192x512 ![0, 1, 2] bcast_S1x1x512_S1x8192x512_0_1_2 (r_v5 m c) := by
  have h := una pre_writes (keep_pre m c) 6 main_v5 main_v6 rfl (by decide +kernel)
  exact h
theorem e_v7 : r_v7 m c = addf (r_v4 m c) (r_v6 m c) := by
  have h := bin pre_writes (keep_pre m c) 7 main_v4 main_v6 main_v7 rfl (by decide +kernel)
  exact h
theorem e_call0_v0 : r_call0_v0 m c = Host.negf (r_v7 m c) := by
  have h := una pre_writes (keep_pre m c) 8 main_v7 main_call0_v0 rfl (by decide +kernel)
  exact h
theorem e_call0_call0_cst : r_call0_call0_cst m c = (constant S_ .f32 0x00000000#32) := by
  have h := nul pre_writes (keep_pre m c) 9 main_call0_call0_cst rfl (by decide +kernel)
  exact h
theorem e_call0_call0_v0 : r_call0_call0_v0 m c = broadcastInDim S1x8192x512 ![] bcast_S_S1x8192x512 (r_call0_call0_cst m c) := by
  have h := una pre_writes (keep_pre m c) 10 main_call0_call0_cst main_call0_call0_v0 rfl (by decide +kernel)
  exact h
theorem e_call0_call0_v1 : r_call0_call0_v1 m c = maximumf (r_call0_v0 m c) (r_call0_call0_v0 m c) := by
  have h := bin pre_writes (keep_pre m c) 11 main_call0_v0 main_call0_call0_v0 main_call0_call0_v1 rfl (by decide +kernel)
  exact h
theorem e_call0_call0_v2 : r_call0_call0_v2 m c = broadcastInDim S1x8192x512 ![] bcast_S_S1x8192x512 (r_call0_call0_cst m c) := by
  have h := una pre_writes (keep_pre m c) 12 main_call0_call0_cst main_call0_call0_v2 rfl (by decide +kernel)
  exact h
theorem e_call0_call0_v3 : r_call0_call0_v3 m c = subf (r_call0_v0 m c) (r_call0_call0_v2 m c) := by
  have h := bin pre_writes (keep_pre m c) 13 main_call0_v0 main_call0_call0_v2 main_call0_call0_v3 rfl (by decide +kernel)
  exact h
theorem e_call0_call0_v4 : r_call0_call0_v4 m c = cmpf .une (r_call0_call0_v3 m c) (r_call0_call0_v3 m c) := by
  have h := bin pre_writes (keep_pre m c) 14 main_call0_call0_v3 main_call0_call0_v3 main_call0_call0_v4 rfl (by decide +kernel)
  exact h
theorem e_call0_call0_v5 : r_call0_call0_v5 m c = broadcastInDim S1x8192x512 ![] bcast_S_S1x8192x512 (r_call0_call0_cst m c) := by
  have h := una pre_writes (keep_pre m c) 15 main_call0_call0_cst main_call0_call0_v5 rfl (by decide +kernel)
  exact h
theorem e_call0_call0_v6 : r_call0_call0_v6 m c = addf (r_call0_v0 m c) (r_call0_call0_v5 m c) := by
  have h := bin pre_writes (keep_pre m c) 16 main_call0_v0 main_call0_call0_v5 main_call0_call0_v6 rfl (by decide +kernel)
  exact h
theorem e_call0_call0_v7 : r_call0_call0_v7 m c = Host.absf (r_call0_call0_v3 m c) := by
  have h := una pre_writes (keep_pre m c) 17 main_call0_call0_v3 main_call0_call0_v7 rfl (by decide +kernel)
  exact h
theorem e_call0_call0_v8 : r_call0_call0_v8 m c = Host.negf (r_call0_call0_v7 m c) := by
  have h := una pre_writes (keep_pre m c) 18 main_call0_call0_v7 main_call0_call0_v8 rfl (by decide +kernel)
  exact h
theorem e_call0_call0_v9 : r_call0_call0_v9 m c = Host.exp (r_call0_call0_v8 m c) := by
  have h := una pre_writes (keep_pre m c) 19 main_call0_call0_v8 main_call0_call0_v9 rfl (by decide +kernel)
  exact h
theorem e_call0_call0_v10 : r_call0_call0_v10 m c = Host.log1p (r_call0_call0_v9 m c) := by
  have h := una pre_writes (keep_pre m c) 20 main_call0_call0_v9 main_call0_call0_v10 rfl (by decide +kernel)
  exact h
theorem e_call0_call0_v11 : r_call0_call0_v11 m c = addf (r_call0_call0_v1 m c) (r_call0_call0_v10 m c) := by
  have h := bin pre_writes (keep_pre m c) 21 main_call0_call0_v1 main_call0_call0_v10 main_call0_call0_v11 rfl (by decide +kernel)
  exact h
theorem e_call0_v1_0 : r_call0_v1_0 m c = select (r_call0_call0_v4 m c) (r_call0_call0_v6 m c) (r_call0_call0_v11 m c) := by
  have h := ter pre_writes (keep_pre m c) 22 main_call0_call0_v4 main_call0_call0_v6 main_call0_call0_v11 main_call0_v1_0 rfl (by decide +kernel)
  exact h
theorem e_call0_call0_cst_0 : r_call0_call0_cst_0 m c = (constant S_ .f32 0x7F800000#32) := by
  have h := nul pre_writes (keep_pre m c) 23 main_call0_call0_cst_0 rfl (by decide +kernel)
  exact h
theorem e_call0_call0_v13 : r_call0_call0_v13 m c = broadcastInDim S1x8192x512 ![] bcast_S_S1x8192x512 (r_call0_call0_cst_0 m c) := by
  have h := una pre_writes (keep_pre m c) 24 main_call0_call0_cst_0 main_call0_call0_v13 rfl (by decide +kernel)
  exact h
theorem e_call0_call0_v14 : r_call0_call0_v14 m c = cmpf .oeq (r_call0_v0 m c) (r_call0_call0_v13 m c) := by
  have h := bin pre_writes (keep_pre m c) 25 main_call0_v0 main_call0_call0_v13 main_call0_call0_v14 rfl (by decide +kernel)
  exact h
theorem e_call0_call0_cst_1 : r_call0_call0_cst_1 m c = (constant S_ .f32 0x00000000#32) := by
  have h := nul pre_writes (keep_pre m c) 26 main_call0_call0_cst_1 rfl (by decide +kernel)
  exact h
theorem e_call0_call0_v15 : r_call0_call0_v15 m c = broadcastInDim S1x8192x512 ![] bcast_S_S1x8192x512 (r_call0_call0_cst_1 m c) := by
  have h := una pre_writes (keep_pre m c) 27 main_call0_call0_cst_1 main_call0_call0_v15 rfl (by decide +kernel)
  exact h
theorem e_call0_call0_v16 : r_call0_call0_v16 m c = select (r_call0_call0_v14 m c) (r_call0_call0_v15 m c) (r_call0_v0 m c) := by
  have h := ter pre_writes (keep_pre m c) 28 main_call0_call0_v14 main_call0_call0_v15 main_call0_v0 main_call0_call0_v16 rfl (by decide +kernel)
  exact h
theorem e_call0_call0_cst_2 : r_call0_call0_cst_2 m c = (constant S_ .f32 0x7F800000#32) := by
  have h := nul pre_writes (keep_pre m c) 29 main_call0_call0_cst_2 rfl (by decide +kernel)
  exact h
theorem e_call0_call0_v17 : r_call0_call0_v17 m c = broadcastInDim S1x8192x512 ![] bcast_S_S1x8192x512 (r_call0_call0_cst_2 m c) := by
  have h := una pre_writes (keep_pre m c) 30 main_call0_call0_cst_2 main_call0_call0_v17 rfl (by decide +kernel)
  exact h
theorem e_call0_call0_v18 : r_call0_call0_v18 m c = cmpf .oeq (r_call0_v1_0 m c) (r_call0_call0_v17 m c) := by
  have h := bin pre_writes (keep_pre m c) 31 main_call0_v1_0 main_call0_call0_v17 main_call0_call0_v18 rfl (by decide +kernel)
  exact h
theorem e_call0_call0_cst_3 : r_call0_call0_cst_3 m c = (constant S_ .f32 0x00000000#32) := by
  have h := nul pre_writes (keep_pre m c) 32 main_call0_call0_cst_3 rfl (by decide +kernel)
  exact h
theorem e_call0_call0_v19 : r_call0_call0_v19 m c = broadcastInDim S1x8192x512 ![] bcast_S_S1x8192x512 (r_call0_call0_cst_3 m c) := by
  have h := una pre_writes (keep_pre m c) 33 main_call0_call0_cst_3 main_call0_call0_v19 rfl (by decide +kernel)
  exact h
theorem e_call0_call0_v20 : r_call0_call0_v20 m c = select (r_call0_call0_v18 m c) (r_call0_call0_v19 m c) (r_call0_v1_0 m c) := by
  have h := ter pre_writes (keep_pre m c) 34 main_call0_call0_v18 main_call0_call0_v19 main_call0_v1_0 main_call0_call0_v20 rfl (by decide +kernel)
  exact h
theorem e_call0_call0_v21 : r_call0_call0_v21 m c = subf (r_call0_call0_v16 m c) (r_call0_call0_v20 m c) := by
  have h := bin pre_writes (keep_pre m c) 35 main_call0_call0_v16 main_call0_call0_v20 main_call0_call0_v21 rfl (by decide +kernel)
  exact h
theorem e_v8_1 : r_v8_1 m c = Host.exp (r_call0_call0_v21 m c) := by
  have h := una pre_writes (keep_pre m c) 36 main_call0_call0_v21 main_v8_1 rfl (by decide +kernel)
  exact h
theorem e_v8_0 : r_v8_0 m c = Host.negf (r_call0_v1_0 m c) := by
  have h := una pre_writes (keep_pre m c) 55 main_call0_v1_0 main_v8_0 rfl (by decide +kernel)
  exact h
theorem e_cst : r_cst m c = (constant S_ .f32 0x41800000#32) := by
  have h := nul pre_writes (keep_pre m c) 56 main_cst rfl (by decide +kernel)
  exact h
theorem e_v9 : r_v9 m c = broadcastInDim S1x8192x512 ![] bcast_S_S1x8192x512 (r_cst m c) := by
  have h := una pre_writes (keep_pre m c) 57 main_cst main_v9 rfl (by decide +kernel)
  exact h
theorem e_v10 : r_v10 m c = Host.divf (r_v8_0 m c) (r_v9 m c) := by
  have h := bin pre_writes (keep_pre m c) 58 main_v8_0 main_v9 main_v10 rfl (by decide +kernel)
  exact h
theorem e_v11 : r_v11 m c = shapeCast S1x128x64x4x128 (r_v1 m c) shapeCasts_S1x8192x512_S1x128x64x4x128 := by
  have h := rsh pre_writes (keep_pre m c) 59 main_v1 main_v11 rfl (by decide +kernel)
  exact h
theorem e_v12 : r_v12 m c = transpose S1x4x128x64x128 [0, 3, 1, 2, 4] (r_v11 m c) transposes_S1x128x64x4x128_S1x4x128x64x128_0_3_1_2_4 := by
  have h := una pre_writes (keep_pre m c) 60 main_v11 main_v12 rfl (by decide +kernel)
  exact h
theorem e_v13 : r_v13 m c = shapeCast S1x128x64x4x256 (r_v2 m c) shapeCasts_S1x8192x1024_S1x128x64x4x256 := by
  have h := rsh pre_writes (keep_pre m c) 61 main_v2 main_v13 rfl (by decide +kernel)
  exact h
theorem e_v14 : r_v14 m c = transpose S1x4x128x64x256 [0, 3, 1, 2, 4] (r_v13 m c) transposes_S1x128x64x4x256_S1x4x128x64x256_0_3_1_2_4 := by
  have h := una pre_writes (keep_pre m c) 62 main_v13 main_v14 rfl (by decide +kernel)
  exact h
theorem e_v15 : r_v15 m c = shapeCast S1x128x64x4x128 (r_v10 m c) shapeCasts_S1x8192x512_S1x128x64x4x128 := by
  have h := rsh pre_writes (keep_pre m c) 63 main_v10 main_v15 rfl (by decide +kernel)
  exact h
theorem e_v16 : r_v16 m c = transpose S1x4x128x64x128 [0, 3, 1, 2, 4] (r_v15 m c) transposes_S1x128x64x4x128_S1x4x128x64x128_0_3_1_2_4 := by
  have h := una pre_writes (keep_pre m c) 64 main_v15 main_v16 rfl (by decide +kernel)
  exact h
theorem e_call1_call0_cst : r_call1_call0_cst m c = (constant S_ .f32 0x00000000#32) := by
  have h := nul pre_writes (keep_pre m c) 65 main_call1_call0_cst rfl (by decide +kernel)
  exact h
theorem e_call1_call0_v0 : r_call1_call0_v0 m c = broadcastInDim S_ ![] bcast_S_S_ (r_call1_call0_cst m c) := by
  have h := una pre_writes (keep_pre m c) 66 main_call1_call0_cst main_call1_call0_v0 rfl (by decide +kernel)
  exact h
theorem e_v17 : r_v17 m c = Host.reduceWindowAdd ![1, 1, 1, 64, 1] ![1, 1, 1, 1, 1] ![0, 0, 0, 63, 0] ![0, 0, 0, 0, 0] (r_v16 m c) (r_call1_call0_v0 m c) reduceWindows_S1x4x128x64x128_S1x4x128x64x128_w1s1p0_0_w1s1p0_0_w1s1p0_0_w64s1p63_0_w1s1p0_0 h_S_ := by
  have h := bin pre_writes (keep_pre m c) 67 main_v16 main_call1_call0_v0 main_v17 rfl (by decide +kernel)
  exact h
theorem e_v18 : r_v18 m c = extractStridedSlice S1x4x128x1x128 ![0, 0, 0, 63, 0] (r_v17 m c) slices_S1x4x128x64x128_S1x4x128x1x128_0_0_0_63_0 := by
  have h := una pre_writes (keep_pre m c) 68 main_v17 main_v18 rfl (by decide +kernel)
  exact h
theorem e_v19 : r_v19 m c = broadcastInDim S1x4x128x64x128 ![0, 1, 2, 3, 4] bcast_S1x4x128x1x128_S1x4x128x64x128_0_1_2_3_4 (r_v18 m c) := by
  have h := una pre_writes (keep_pre m c) 69 main_v18 main_v19 rfl (by decide +kernel)
  exact h
theorem e_v20 : r_v20 m c = subf (r_v19 m c) (r_v17 m c) := by
  have h := bin pre_writes (keep_pre m c) 70 main_v19 main_v17 main_v20 rfl (by decide +kernel)
  exact h
theorem e_v21 : r_v21 m c = Host.exp (r_v20 m c) := by
  have h := una pre_writes (keep_pre m c) 71 main_v20 main_v21 rfl (by decide +kernel)
  exact h
theorem e_v22 : r_v22 m c = mulf (r_v12 m c) (r_v21 m c) := by
  have h := bin pre_writes (keep_pre m c) 72 main_v12 main_v21 main_v22 rfl (by decide +kernel)
  exact h
theorem e_v23 : r_v23 m c = Host.dotGeneral dot_S1x4x128x64x128_S1x4x128x64x256_S1x4x128x128x256_3_3_4_4_012_012 none (r_v22 m c) (r_v14 m c) := by
  have h := bin pre_writes (keep_pre m c) 73 main_v22 main_v14 main_v23 rfl (by decide +kernel)
  exact h
theorem e_v24 : r_v24 m c = shapeCast S1x4x128x128 (r_v18 m c) shapeCasts_S1x4x128x1x128_S1x4x128x128 := by
  have h := rsh pre_writes (keep_pre m c) 74 main_v18 main_v24 rfl (by decide +kernel)
  exact h
theorem e_v25 : r_v25 m c = Host.exp (r_v24 m c) := by
  have h := una pre_writes (keep_pre m c) 75 main_v24 main_v25 rfl (by decide +kernel)
  exact h
theorem e_v26 : r_v26 m c = shapeCast S1x128x64x4x128 (r_v0 m c) shapeCasts_S1x8192x512_S1x128x64x4x128 := by
  have h := rsh pre_writes (keep_pre m c) 76 main_v0 main_v26 rfl (by decide +kernel)
  exact h
theorem e_v27 : r_v27 m c = transpose S1x4x128x64x128 [0, 3, 1, 2, 4] (r_v26 m c) transposes_S1x128x64x4x128_S1x4x128x64x128_0_3_1_2_4 := by
  have h := una pre_writes (keep_pre m c) 77 main_v26 main_v27 rfl (by decide +kernel)
  exact h
theorem e_cst_0 : r_cst_0 m c = (constant S_ .f32 0x3DB504F3#32) := by
  have h := nul pre_writes (keep_pre m c) 78 main_cst_0 rfl (by decide +kernel)
  exact h
theorem e_v28 : r_v28 m c = broadcastInDim S1x4x128x64x128 ![] bcast_S_S1x4x128x64x128 (r_cst_0 m c) := by
  have h := una pre_writes (keep_pre m c) 79 main_cst_0 main_v28 rfl (by decide +kernel)
  exact h
theorem e_v29 : r_v29 m c = mulf (r_v27 m c) (r_v28 m c) := by
  have h := bin pre_writes (keep_pre m c) 80 main_v27 main_v28 main_v29 rfl (by decide +kernel)
  exact h
theorem e_v30 : r_v30 m c = shapeCast S1x128x64x4x128 (r_v1 m c) shapeCasts_S1x8192x512_S1x128x64x4x128 := by
  have h := rsh pre_writes (keep_pre m c) 81 main_v1 main_v30 rfl (by decide +kernel)
  exact h
theorem e_v31 : r_v31 m c = transpose S1x4x128x64x128 [0, 3, 1, 2, 4] (r_v30 m c) transposes_S1x128x64x4x128_S1x4x128x64x128_0_3_1_2_4 := by
  have h := una pre_writes (keep_pre m c) 82 main_v30 main_v31 rfl (by decide +kernel)
  exact h
theorem e_v32 : r_v32 m c = shapeCast S1x128x64x4x256 (r_v2 m c) shapeCasts_S1x8192x1024_S1x128x64x4x256 := by
  have h := rsh pre_writes (keep_pre m c) 83 main_v2 main_v32 rfl (by decide +kernel)
  exact h
theorem e_v33 : r_v33 m c = transpose S1x4x128x64x256 [0, 3, 1, 2, 4] (r_v32 m c) transposes_S1x128x64x4x256_S1x4x128x64x256_0_3_1_2_4 := by
  have h := una pre_writes (keep_pre m c) 84 main_v32 main_v33 rfl (by decide +kernel)
  exact h
theorem e_v34 : r_v34 m c = Host.exp (r_v17 m c) := by
  have h := una pre_writes (keep_pre m c) 85 main_v17 main_v34 rfl (by decide +kernel)
  exact h
theorem e_v35 : r_v35 m c = mulf (r_v29 m c) (r_v34 m c) := by
  have h := bin pre_writes (keep_pre m c) 86 main_v29 main_v34 main_v35 rfl (by decide +kernel)
  exact h
theorem e_v36 : r_v36 m c = Host.negf (r_v17 m c) := by
  have h := una pre_writes (keep_pre m c) 87 main_v17 main_v36 rfl (by decide +kernel)
  exact h
theorem e_v37 : r_v37 m c = Host.exp (r_v36 m c) := by
  have h := una pre_writes (keep_pre m c) 88 main_v36 main_v37 rfl (by decide +kernel)
  exact h
theorem e_v38 : r_v38 m c = mulf (r_v31 m c) (r_v37 m c) := by
  have h := bin pre_writes (keep_pre m c) 89 main_v31 main_v37 main_v38 rfl (by decide +kernel)
  exact h
theorem e_c : r_c m c = (constantI S_ 1 1#1) := by
  have h := nul pre_writes (keep_pre m c) 90 main_c rfl (by decide +kernel)
  exact h
theorem e_v39 : r_v39 m c = broadcastInDim S64x64 ![] bcast_S_S64x64 (r_c m c) := by
  have h := una pre_writes (keep_pre m c) 91 main_c main_v39 rfl (by decide +kernel)
  exact h
theorem e_call2_v0 : r_call2_v0 m c = (iotaInDim S64x64 32 0) := by
  have h := nul pre_writes (keep_pre m c) 92 main_call2_v0 rfl (by decide +kernel)
  exact h
theorem e_call2_c : r_call2_c m c = (constantI S_ 32 0#32) := by
  have h := nul pre_writes (keep_pre m c) 93 main_call2_c rfl (by decide +kernel)
  exact h
theorem e_call2_v1 : r_call2_v1 m c = broadcastInDim S64x64 ![] bcast_S_S64x64 (r_call2_c m c) := by
  have h := una pre_writes (keep_pre m c) 94 main_call2_c main_call2_v1 rfl (by decide +kernel)
  exact h
theorem e_call2_v2 : r_call2_v2 m c = addi (r_call2_v0 m c) (r_call2_v1 m c) := by
  have h := bin pre_writes (keep_pre m c) 95 main_call2_v0 main_call2_v1 main_call2_v2 rfl (by decide +kernel)
  exact h
theorem e_call2_v3 : r_call2_v3 m c = (iotaInDim S64x64 32 1) := by
  have h := nul pre_writes (keep_pre m c) 96 main_call2_v3 rfl (by decide +kernel)
  exact h
theorem e_call2_v4 : r_call2_v4 m c = cmpi .sge (r_call2_v2 m c) (r_call2_v3 m c) := by
  have h := bin pre_writes (keep_pre m c) 97 main_call2_v2 main_call2_v3 main_call2_v4 rfl (by decide +kernel)
  exact h
theorem e_call2_c_0 : r_call2_c_0 m c = (constantI S_ 1 0#1) := by
  have h := nul pre_writes (keep_pre m c) 98 main_call2_c_0 rfl (by decide +kernel)
  exact h
theorem e_call2_v5 : r_call2_v5 m c = broadcastInDim S64x64 ![] bcast_S_S64x64 (r_call2_c_0 m c) := by
  have h := una pre_writes (keep_pre m c) 99 main_call2_c_0 main_call2_v5 rfl (by decide +kernel)
  exact h
theorem e_v40 : r_v40 m c = select (r_call2_v4 m c) (r_v39 m c) (r_call2_v5 m c) := by
  have h := ter pre_writes (keep_pre m c) 100 main_call2_v4 main_v39 main_call2_v5 main_v40 rfl (by decide +kernel)
  exact h
theorem e_v41 : r_v41 m c = Host.dotGeneral dot_S1x4x128x64x128_S1x4x128x64x128_S1x4x128x64x64_4_4_3_3_012_012 none (r_v35 m c) (r_v38 m c) := by
  have h := bin pre_writes (keep_pre m c) 101 main_v35 main_v38 main_v41 rfl (by decide +kernel)
  exact h
theorem e_cst_1 : r_cst_1 m c = (constant S_ .f32 0x00000000#32) := by
  have h := nul pre_writes (keep_pre m c) 102 main_cst_1 rfl (by decide +kernel)
  exact h
theorem e_call3_v0 : r_call3_v0 m c = (r_cst_1 m c) := by
  have h := una pre_writes (keep_pre m c) 103 main_cst_1 main_call3_v0 rfl (by decide +kernel)
  exact h
theorem e_v42_1 : r_v42_1 m c = broadcastInDim S1x4x128x64x64 ![3, 4] bcast_S64x64_S1x4x128x64x64_3_4 (r_v40 m c) := by
  have h := una pre_writes (keep_pre m c) 104 main_v40 main_v42_1 rfl (by decide +kernel)
  exact h
theorem e_call3_v2 : r_call3_v2 m c = broadcastInDim S1x4x128x64x64 ![] bcast_S_S1x4x128x64x64 (r_call3_v0 m c) := by
  have h := una pre_writes (keep_pre m c) 105 main_call3_v0 main_call3_v2 rfl (by decide +kernel)
  exact h
theorem e_v42_0 : r_v42_0 m c = select (r_v42_1 m c) (r_v41 m c) (r_call3_v2 m c) := by
  have h := ter pre_writes (keep_pre m c) 106 main_v42_1 main_v41 main_call3_v2 main_v42_0 rfl (by decide +kernel)
  exact h
theorem e_v43 : r_v43 m c = Host.dotGeneral dot_S1x4x128x64x64_S1x4x128x64x256_S1x4x128x64x256_4_3_3_4_012_012 none (r_v42_0 m c) (r_v33 m c) := by
  have h := bin pre_writes (keep_pre m c) 109 main_v42_0 main_v33 main_v43 rfl (by decide +kernel)
  exact h
theorem e_v45 : r_v45 m c = transpose S128x1x4x128 [2, 0, 1, 3] (r_v25 m c) transposes_S1x4x128x128_S128x1x4x128_2_0_1_3 := by
  have h := una pre_writes (keep_pre m c) 112 main_v25 main_v45 rfl (by decide +kernel)
  exact h
theorem e_v46 : r_v46 m c = transpose S128x1x4x128x256 [2, 0, 1, 3, 4] (r_v23 m c) transposes_S1x4x128x128x256_S128x1x4x128x256_2_0_1_3_4 := by
  have h := una pre_writes (keep_pre m c) 113 main_v23 main_v46 rfl (by decide +kernel)
  exact h
theorem e_v49_0 : r_v49_0 m c = (r_v45 m c) := by
  have h := una pre_writes (keep_pre m c) 119 main_v45 main_v49_0 rfl (by decide +kernel)
  exact h
theorem e_v49_1 : r_v49_1 m c = (r_v46 m c) := by
  have h := una pre_writes (keep_pre m c) 120 main_v46 main_v49_1 rfl (by decide +kernel)
  exact h
end Cert.ReferenceIdeal.Ref

end
-- ==== Proof.RefSums.lean ====
/-
  The sums the reference takes along a chunk's rows, from the first row down and from the last row up.
-/
module

public import proofs.«01_k».proof.Proof.RefFold
public import proofs.«01_k».proof.Proof.Math
import Idealize.ShloMosaic.Lib.Pointwise

@[expose] public section

set_option maxRecDepth 16384

noncomputable section

namespace Cert.ReferenceIdeal.Ref

open Cert.ReferenceIdeal.Gen Cert.Gla
open Idealize.ShloMosaic Idealize.ShloMosaic.TcCoe

/-- A left fold of additions is the sum. -/
theorem fold_add {α : Type} (g : α → EReal) : ∀ (L : List α) (v : EReal), L.foldl (fun r n => r + g n) v = v + (L.map g).sum
  | [], v => by rw [List.foldl_nil, List.map_nil, List.sum_nil, add_zero]
  | a :: L, v => by rw [List.foldl_cons, fold_add g L, List.map_cons, List.sum_cons, add_assoc]

/-- The window's shape: a column of one chunk. -/
abbrev Win : Shape := ⟨5, ![1, 1, 1, 64, 1]⟩

/-- A window's positions are its rows. -/
theorem sum_win (G : Win.Idx → EReal) : ∑ w : Win.Idx, G w = ∑ k : Fin 64, G (ix5 (0 : Fin 1) (0 : Fin 1) (0 : Fin 1) k (0 : Fin 1)) := by
  refine (Finset.sum_bij' (fun k _ => (ix5 (0 : Fin 1) (0 : Fin 1) (0 : Fin 1) k (0 : Fin 1) : Win.Idx)) (fun w _ => (w 3 : Fin 64)) (fun _ _ => Finset.mem_univ _) (fun _ _ => Finset.mem_univ _)
    (fun k _ => rfl) (fun w _ => ?_) (fun _ _ => rfl)).symm
  funext a
  fin_cases a
  · exact Subsingleton.elim (α := Fin 1) _ _
  · exact Subsingleton.elim (α := Fin 1) _ _
  · exact Subsingleton.elim (α := Fin 1) _ _
  · rfl
  · exact Subsingleton.elim (α := Fin 1) _ _

variable (x : FVec Ideal S1x4x128x64x128 .f32) (v : FVec Ideal S_ .f32) (hv : v (Shape.Idx.first h_S_) = (0 : EReal))
  (h : Fin 4) (n : Fin 128) (r : Fin 64) (d : Fin 128)
include hv

/-- From the first row to row `r`. -/
theorem sum_down (hw) : (Host.reduceWindowAdd ![1, 1, 1, 64, 1] ![1, 1, 1, 1, 1] ![0, 0, 0, 63, 0] ![0, 0, 0, 0, 0] x v hw h_S_
      : FVec Ideal S1x4x128x64x128 .f32) (ix5 0 h n r d)
    = ∑ s : Fin 64, if s ≤ r then (x (ix5 0 h n s d) : EReal) else 0 := by
  have h1 : (Host.reduceWindowAdd ![1, 1, 1, 64, 1] ![1, 1, 1, 1, 1] ![0, 0, 0, 63, 0] ![0, 0, 0, 0, 0] x v hw h_S_
      : FVec Ideal S1x4x128x64x128 .f32) (ix5 0 h n r d)
      = ∑ w : Win.Idx, (if hin : ∀ a : Fin 5, (![0, 0, 0, 63, 0] : Fin 5 → ℕ) a ≤ (ix5 (0 : Fin 1) h n r d a).val * (![1, 1, 1, 1, 1] : Fin 5 → ℕ) a + (w a).val
          ∧ (ix5 (0 : Fin 1) h n r d a).val * (![1, 1, 1, 1, 1] : Fin 5 → ℕ) a + (w a).val - (![0, 0, 0, 63, 0] : Fin 5 → ℕ) a < S1x4x128x64x128.size a
        then (x (fun a => ⟨(ix5 (0 : Fin 1) h n r d a).val * (![1, 1, 1, 1, 1] : Fin 5 → ℕ) a + (w a).val - (![0, 0, 0, 63, 0] : Fin 5 → ℕ) a, (hin a).2⟩) : EReal)
        else 0) := by
    refine (fold_add _ _ _).trans ?_
    rw [hv, zero_add, ← Fin.sum_univ_def]
    refine Eq.trans (Finset.sum_congr rfl fun w _ => ?_) (Equiv.sum_comp (M := EReal) Win.rowMajor.symm fun w : Win.Idx => (if hin : ∀ a : Fin 5, (![0, 0, 0, 63, 0] : Fin 5 → ℕ) a ≤ (ix5 (0 : Fin 1) h n r d a).val * (![1, 1, 1, 1, 1] : Fin 5 → ℕ) a + (w a).val
          ∧ (ix5 (0 : Fin 1) h n r d a).val * (![1, 1, 1, 1, 1] : Fin 5 → ℕ) a + (w a).val - (![0, 0, 0, 63, 0] : Fin 5 → ℕ) a < S1x4x128x64x128.size a
        then (x (fun a => ⟨(ix5 (0 : Fin 1) h n r d a).val * (![1, 1, 1, 1, 1] : Fin 5 → ℕ) a + (w a).val - (![0, 0, 0, 63, 0] : Fin 5 → ℕ) a, (hin a).2⟩) : EReal)
        else 0))
    exact dite_congr rfl (fun _ => rfl) (fun _ => rfl)
  rw [h1, sum_win]
  refine (Finset.sum_congr rfl fun k _ => ?_).trans (Equiv.sum_comp (Equiv.addLeft (r + 1)) fun s : Fin 64 => if s ≤ r then (x (ix5 0 h n s d) : EReal) else 0)
  have hs : (Equiv.addLeft (r + 1) k).val = (r.val + 1 + k.val) % 64 := by
    simp only [Equiv.coe_addLeft, Fin.val_add]
    simp only [Fin.val_add, Fin.val_one]; omega
  split
  · next hin =>
    have h3 := hin 3
    change 63 ≤ r.val * 1 + k.val ∧ r.val * 1 + k.val - 63 < 64 at h3
    rw [if_pos (by rw [Fin.le_def, hs]; omega)]
    refine congrArg x (funext fun a => Fin.ext ?_)
    match a with
    | ⟨0, _⟩ => rfl
    | ⟨1, _⟩ => show h.val * 1 + 0 - 0 = h.val; omega
    | ⟨2, _⟩ => show n.val * 1 + 0 - 0 = n.val; omega
    | ⟨3, _⟩ => show r.val * 1 + k.val - 63 = (Equiv.addLeft (r + 1) k).val; rw [hs]; omega
    | ⟨4, _⟩ => show d.val * 1 + 0 - 0 = d.val; omega
  · next hin =>
    rw [if_neg fun hle => hin fun a => by
      rw [Fin.le_def, hs] at hle
      match a with
      | ⟨0, _⟩ => exact ⟨Nat.le_refl _, Nat.one_pos⟩
      | ⟨1, _⟩ => show 0 ≤ h.val * 1 + 0 ∧ h.val * 1 + 0 - 0 < 4; omega
      | ⟨2, _⟩ => show 0 ≤ n.val * 1 + 0 ∧ n.val * 1 + 0 - 0 < 128; omega
      | ⟨3, _⟩ => show 63 ≤ r.val * 1 + k.val ∧ r.val * 1 + k.val - 63 < 64; omega
      | ⟨4, _⟩ => show 0 ≤ d.val * 1 + 0 ∧ d.val * 1 + 0 - 0 < 128; omega]

/-- From row `r` to the last. -/
theorem sum_up (hw) : (Host.reduceWindowAdd ![1, 1, 1, 64, 1] ![1, 1, 1, 1, 1] ![0, 0, 0, 0, 0] ![0, 0, 0, 63, 0] x v hw h_S_
      : FVec Ideal S1x4x128x64x128 .f32) (ix5 0 h n r d)
    = ∑ s : Fin 64, if r ≤ s then (x (ix5 0 h n s d) : EReal) else 0 := by
  have h1 : (Host.reduceWindowAdd ![1, 1, 1, 64, 1] ![1, 1, 1, 1, 1] ![0, 0, 0, 0, 0] ![0, 0, 0, 63, 0] x v hw h_S_
      : FVec Ideal S1x4x128x64x128 .f32) (ix5 0 h n r d)
      = ∑ w : Win.Idx, (if hin : ∀ a : Fin 5, (![0, 0, 0, 0, 0] : Fin 5 → ℕ) a ≤ (ix5 (0 : Fin 1) h n r d a).val * (![1, 1, 1, 1, 1] : Fin 5 → ℕ) a + (w a).val
          ∧ (ix5 (0 : Fin 1) h n r d a).val * (![1, 1, 1, 1, 1] : Fin 5 → ℕ) a + (w a).val - (![0, 0, 0, 0, 0] : Fin 5 → ℕ) a < S1x4x128x64x128.size a
        then (x (fun a => ⟨(ix5 (0 : Fin 1) h n r d a).val * (![1, 1, 1, 1, 1] : Fin 5 → ℕ) a + (w a).val - (![0, 0, 0, 0, 0] : Fin 5 → ℕ) a, (hin a).2⟩) : EReal)
        else 0) := by
    refine (fold_add _ _ _).trans ?_
    rw [hv, zero_add, ← Fin.sum_univ_def]
    refine Eq.trans (Finset.sum_congr rfl fun w _ => ?_) (Equiv.sum_comp (M := EReal) Win.rowMajor.symm fun w : Win.Idx => (if hin : ∀ a : Fin 5, (![0, 0, 0, 0, 0] : Fin 5 → ℕ) a ≤ (ix5 (0 : Fin 1) h n r d a).val * (![1, 1, 1, 1, 1] : Fin 5 → ℕ) a + (w a).val
          ∧ (ix5 (0 : Fin 1) h n r d a).val * (![1, 1, 1, 1, 1] : Fin 5 → ℕ) a + (w a).val - (![0, 0, 0, 0, 0] : Fin 5 → ℕ) a < S1x4x128x64x128.size a
        then (x (fun a => ⟨(ix5 (0 : Fin 1) h n r d a).val * (![1, 1, 1, 1, 1] : Fin 5 → ℕ) a + (w a).val - (![0, 0, 0, 0, 0] : Fin 5 → ℕ) a, (hin a).2⟩) : EReal)
        else 0))
    exact dite_congr rfl (fun _ => rfl) (fun _ => rfl)
  rw [h1, sum_win]
  refine (Finset.sum_congr rfl fun k _ => ?_).trans (Equiv.sum_comp (Equiv.addLeft (r)) fun s : Fin 64 => if r ≤ s then (x (ix5 0 h n s d) : EReal) else 0)
  have hs : (Equiv.addLeft (r) k).val = (r.val + k.val) % 64 := by
    rfl
  split
  · next hin =>
    have h3 := hin 3
    change 0 ≤ r.val * 1 + k.val ∧ r.val * 1 + k.val - 0 < 64 at h3
    rw [if_pos (by rw [Fin.le_def, hs]; omega)]
    refine congrArg x (funext fun a => Fin.ext ?_)
    match a with
    | ⟨0, _⟩ => rfl
    | ⟨1, _⟩ => show h.val * 1 + 0 - 0 = h.val; omega
    | ⟨2, _⟩ => show n.val * 1 + 0 - 0 = n.val; omega
    | ⟨3, _⟩ => show r.val * 1 + k.val - 0 = (Equiv.addLeft (r) k).val; rw [hs]; omega
    | ⟨4, _⟩ => show d.val * 1 + 0 - 0 = d.val; omega
  · next hin =>
    rw [if_neg fun hle => hin fun a => by
      rw [Fin.le_def, hs] at hle
      match a with
      | ⟨0, _⟩ => exact ⟨Nat.le_refl _, Nat.one_pos⟩
      | ⟨1, _⟩ => show 0 ≤ h.val * 1 + 0 ∧ h.val * 1 + 0 - 0 < 4; omega
      | ⟨2, _⟩ => show 0 ≤ n.val * 1 + 0 ∧ n.val * 1 + 0 - 0 < 128; omega
      | ⟨3, _⟩ => show 0 ≤ r.val * 1 + k.val ∧ r.val * 1 + k.val - 0 < 64; omega
      | ⟨4, _⟩ => show 0 ≤ d.val * 1 + 0 ∧ d.val * 1 + 0 - 0 < 128; omega]

end Cert.ReferenceIdeal.Ref

end
-- ==== Proof.RefGate.lean ====
/-
  The gate's slope as the reference takes it, from the gate's own value, is the logistic; and its two constants.
-/
module

public import proofs.«01_k».proof.Proof.Math
import Idealize.ShloMosaic.Lib.Pointwise

@[expose] public section

noncomputable section

namespace Cert.Gla

open Idealize.ShloMosaic

/-- The comparison of a row's number with a column's, as a bit. -/
theorem low_bit : ∀ r s : Fin 64, IntOp.cmpi CmpIPredicate.sge (BitVec.ofNat 32 r.val) (BitVec.ofNat 32 s.val) = if s ≤ r then 1#1 else 0#1 := by
  decide +kernel

theorem pick_bit {p : Prop} [Decidable p] {α : Type} (x y : α) : Scalar.select (if p then 1#1 else 0#1) x y = if p then x else y := by
  by_cases h : p <;> simp [h, Scalar.select]

theorem sixteen : Ideal.ofBits .f32 0x41800000#32 = ((16 : ℝ) : EReal) := by
  simp [Ideal.ofBits, Ideal.ieee, -EReal.coe_mul]; norm_num
theorem infinity : Ideal.ofBits .f32 0x7F800000#32 = ⊤ := by
  simp [Ideal.ofBits, Ideal.ieee]
theorem tau'_eq : tau' = (((1 / 16 : ℝ) : ℝ) : EReal) := by
  simp [tau', Ideal.ofBits, Ideal.ieee, -EReal.coe_mul]; norm_num

/-- A sixteenth, by division and by multiplication. -/
theorem div_sixteen (x : EReal) : Ideal.div x (Ideal.ofBits .f32 0x41800000#32) = x * tau' := by
  rw [sixteen, tau'_eq, Ideal.div, if_neg (by exact_mod_cast (by norm_num : (16 : ℝ) ≠ 0)), ← EReal.coe_inv]
  norm_num

theorem absf_neg (z : EReal) : (FloatOps.absf (F := Ideal) (φ := .f32) (-z) : EReal) = FloatOps.absf (F := Ideal) (φ := .f32) z := by
  show max (-z) (- -z) = max z (-z)
  rw [neg_neg, max_comm]

/-- The softplus the gate takes, at `w`. -/
def soft (w : EReal) : EReal := max w 0 + Ideal.log1p (Ideal.exp (-(FloatOps.absf (F := Ideal) (φ := .f32) w : EReal)))

theorem gate_soft (z : EReal) : gate z = Ideal.div (-soft (-z)) (Ideal.ofBits .f32 0x41800000#32) := by
  unfold gate soft
  simp only [zero_sub, absf_neg]

theorem soft_real (x : ℝ) : soft (x : EReal) = ((max x 0 + Real.log (1 + Real.exp (-|x|)) : ℝ) : EReal) := by
  have habs : (FloatOps.absf (F := Ideal) (φ := .f32) (x : EReal) : EReal) = ((|x| : ℝ) : EReal) := by
    show max (x : EReal) (-(x : EReal)) = _
    rw [← EReal.coe_neg, ← EReal.coe_strictMono.monotone.map_max]; rfl
  have hl : Ideal.log1p (Ideal.exp (-((|x| : ℝ) : EReal))) = ((Real.log (1 + Real.exp (-|x|)) : ℝ) : EReal) := by
    rw [← EReal.coe_neg]
    show Ideal.log (1 + ((Real.exp (-|x|) : ℝ) : EReal)) = _
    rw [← EReal.coe_one, ← EReal.coe_add]
    show (if 1 + Real.exp (-|x|) ≤ 0 then (⊥ : EReal) else ((Real.log (1 + Real.exp (-|x|)) : ℝ) : EReal)) = _
    rw [if_neg (not_le.2 (by positivity))]
  rw [soft, habs, hl, ← EReal.coe_zero, ← EReal.coe_strictMono.monotone.map_max, ← EReal.coe_add]

theorem slope_real (x : ℝ) : Real.exp (x - (max x 0 + Real.log (1 + Real.exp (-|x|)))) = (1 + Real.exp (-x))⁻¹ := by
  have hp : 0 < 1 + Real.exp (-|x|) := by positivity
  rw [Real.exp_sub, Real.exp_add, Real.exp_log hp]
  rcases le_total 0 x with hx | hx
  · rw [max_eq_left hx, abs_of_nonneg hx]
    have := Real.exp_ne_zero x
    field_simp
  · rw [max_eq_right hx, abs_of_nonpos hx, neg_neg, Real.exp_zero, one_mul, Real.exp_neg]
    have := Real.exp_ne_zero x
    have h2 : 0 < 1 + Real.exp x := by positivity
    field_simp
    ring

/-- The slope. -/
theorem slope (w : EReal) :
    Ideal.exp ((if w = ⊤ then 0 else w) - (if soft w = ⊤ then 0 else soft w)) = Ideal.logistic w := by
  induction w with
  | bot =>
    have hs : soft ⊥ = 0 := by
      have : (FloatOps.absf (F := Ideal) (φ := .f32) (⊥ : EReal) : EReal) = ⊤ := by
        show max (⊥ : EReal) (-⊥) = ⊤
        simp
      rw [soft, this]
      show max (⊥ : EReal) 0 + Ideal.log (1 + 0) = 0
      rw [add_zero, ← EReal.coe_one]
      show max (⊥ : EReal) 0 + (if (1 : ℝ) ≤ 0 then (⊥ : EReal) else ((Real.log 1 : ℝ) : EReal)) = 0
      rw [if_neg (by norm_num)]
      simp
    rw [hs, if_neg (by simp), if_neg (by simp), sub_zero]
    show (0 : EReal) = Ideal.div 1 (1 + Ideal.exp (-⊥))
    rw [EReal.neg_bot]
    show (0 : EReal) = Ideal.div 1 (1 + ⊤)
    rw [show (1 : EReal) + ⊤ = ⊤ from by rw [← EReal.coe_one]; exact EReal.coe_add_top 1, Ideal.div, if_neg (by simp)]
    simp
  | top =>
    have hs : soft ⊤ = ⊤ := by
      have : (FloatOps.absf (F := Ideal) (φ := .f32) (⊤ : EReal) : EReal) = ⊤ := by
        show max (⊤ : EReal) (-⊤) = ⊤
        simp
      rw [soft, this]
      show max (⊤ : EReal) 0 + Ideal.log (1 + 0) = ⊤
      rw [add_zero, ← EReal.coe_one]
      show max (⊤ : EReal) 0 + (if (1 : ℝ) ≤ 0 then (⊥ : EReal) else ((Real.log 1 : ℝ) : EReal)) = ⊤
      rw [if_neg (by norm_num)]
      simp
    rw [hs, if_pos rfl, sub_zero]
    show ((Real.exp 0 : ℝ) : EReal) = Ideal.div 1 (1 + 0)
    rw [add_zero, Ideal.div, if_neg (by simp)]
    simp
  | coe x =>
    rw [soft_real, if_neg (EReal.coe_ne_top _), if_neg (EReal.coe_ne_top _), ← EReal.coe_sub]
    show ((Real.exp _ : ℝ) : EReal) = Ideal.div 1 (1 + Ideal.exp (-(x : EReal)))
    rw [slope_real, ← EReal.coe_neg]
    show _ = Ideal.div 1 (1 + ((Real.exp (-x) : ℝ) : EReal))
    have h2 : 1 + Real.exp (-x) ≠ 0 := by positivity
    rw [← EReal.coe_one, ← EReal.coe_add, Ideal.div, if_neg (by exact_mod_cast h2), ← EReal.coe_inv, ← EReal.coe_mul, one_mul]

end Cert.Gla

end
-- ==== Proof.RefVal.lean ====
/-
  What the reference's forward line holds, entry by entry: its chunks, gates, decays and products.
-/
module

public import proofs.«01_k».proof.Proof.RefPre
public import proofs.«01_k».proof.Proof.RefSums
public import proofs.«01_k».proof.Proof.RefGate
import Idealize.ShloMosaic.Lib.Pointwise

@[expose] public section

set_option maxRecDepth 16384

noncomputable section

namespace Cert.ReferenceIdeal.Ref

open Cert.ReferenceIdeal.Gen Cert.Gla
open Idealize.ShloMosaic Idealize.ShloMosaic.TcCoe

attribute [local irreducible] S1 S2 S3

variable (m : (ℓ : Loc nD τ sig) → Buf (Elt Ideal) ℓ) (c : Dev nD)
variable (h : Fin 4) (n : Fin 128) (r s : Fin 64) (d : Fin 128) (e : Fin 256)

/-! The reference's chunks, head by head. -/
def cQ (n : ℕ) : Rows := xQ (r_arg0 m c) h n
def cK (n : ℕ) : Rows := xK (r_arg0 m c) h n
def cV (n : ℕ) : Vals := xV (r_arg0 m c) h n
def cZ (n : ℕ) : Rows := xZ (r_arg0 m c) (r_arg1 m c) (r_arg2 m c) h n
def cG (n : ℕ) : Rows := xG (r_arg0 m c) (r_arg1 m c) (r_arg2 m c) h n
def cD (n : ℕ) : Vals := xD (r_arg3 m c) h n

/-- A two-coordinate read, its coordinates renamed. -/
theorem rc {A B : ℕ} {α : Type} (f : Fin A → Fin B → α) {x x' : Fin A} {y y' : Fin B} (hx : x.val = x'.val) (hy : y.val = y'.val) : f x y = f x' y' := by
  rw [Fin.ext hx, Fin.ext hy]
theorem row_val (n : Fin 128) (r : Fin 64) : (row n.val r).val = 64 * n.val + r.val := Nat.mod_eq_of_lt (by omega)
theorem row_lin (n : Fin 128) (r : Fin 64) : n.val * 64 + r.val = (row n.val r).val := by rw [row_val]; omega

theorem at_v27 : r_v27 m c (ix5 0 h n r d) = cQ m c h n r d := by
  rw [e_v27, e_v26, e_v0]
  pointwise
  exact rc (fun x y => r_arg0 m c (ix3 0 x y)) (row_lin n r) (by dsimp only; omega)

theorem at_v12 : r_v12 m c (ix5 0 h n r d) = cK m c h n r d := by
  rw [e_v12, e_v11, e_v1]
  pointwise
  exact rc (fun x y => r_arg0 m c (ix3 0 x y)) (row_lin n r) (by dsimp only; omega)

theorem at_v31 : r_v31 m c (ix5 0 h n r d) = cK m c h n r d := by
  rw [e_v31, e_v30, e_v1]
  pointwise
  exact rc (fun x y => r_arg0 m c (ix3 0 x y)) (row_lin n r) (by dsimp only; omega)

theorem at_v14 : r_v14 m c (ix5 0 h n r e) = cV m c h n r e := by
  rw [e_v14, e_v13, e_v2]
  pointwise
  exact rc (fun x y => r_arg0 m c (ix3 0 x y)) (row_lin n r) (by dsimp only; omega)

theorem at_v33 : r_v33 m c (ix5 0 h n r e) = cV m c h n r e := by
  rw [e_v33, e_v32, e_v2]
  pointwise
  exact rc (fun x y => r_arg0 m c (ix3 0 x y)) (row_lin n r) (by dsimp only; omega)

theorem at_v7 (R : Fin 8192) (C : Fin 512) : r_v7 m c (ix3 0 R C)
    = ∑ j : Fin 16, r_arg0 m c (ix3 0 R ⟨2048 + j.val, by omega⟩) * r_arg1 m c (ix2 j C) + r_arg2 m c (ix1 C) := by
  rw [e_v7, e_v4, e_v6, e_v5, e_v3]
  pointwise

theorem at_out (R : Fin 8192) (C : Fin 512) : r_call0_v1_0 m c (ix3 0 R C) = soft (-r_v7 m c (ix3 0 R C)) := by
  rw [e_call0_v1_0, e_call0_call0_v11, e_call0_call0_v10, e_call0_call0_v9, e_call0_call0_v8, e_call0_call0_v7, e_call0_call0_v6, e_call0_call0_v5, e_call0_call0_v4, e_call0_call0_v3, e_call0_call0_v2, e_call0_call0_v1, e_call0_call0_v0, e_call0_v0, e_call0_call0_cst]
  pointwise
  rw [if_neg (fun h => h rfl)]
  rfl

theorem at_v10 (R : Fin 8192) (C : Fin 512) : r_v10 m c (ix3 0 R C) = gate (r_v7 m c (ix3 0 R C)) := by
  rw [e_v10, e_v8_0, e_v9, e_cst]
  pointwise
  rw [at_out, gate_soft]

theorem at_v8_1 (R : Fin 8192) (C : Fin 512) : r_v8_1 m c (ix3 0 R C) = Ideal.logistic (0 - r_v7 m c (ix3 0 R C)) := by
  rw [e_v8_1, e_call0_call0_v21, e_call0_call0_v20, e_call0_call0_v19, e_call0_call0_v18, e_call0_call0_v17, e_call0_call0_v16, e_call0_call0_v15, e_call0_call0_v14, e_call0_call0_v13, e_call0_v0, e_call0_call0_cst_0, e_call0_call0_cst_1, e_call0_call0_cst_2, e_call0_call0_cst_3]
  pointwise
  rw [at_out, zero_sub, infinity]
  exact slope _

theorem at_v16 : r_v16 m c (ix5 0 h n r d) = cG m c h n r d := by
  rw [e_v16, e_v15]
  pointwise
  refine (rc (fun x y => r_v10 m c (ix3 0 x y)) (row_lin n r) (y' := ⟨128 * h.val + d.val, by omega⟩) (by dsimp only; omega)).trans ?_
  rw [at_v10, at_v7]
  rfl

theorem at_v17 : r_v17 m c (ix5 0 h n r d) = cum (cG m c h n) r d := by
  rw [e_v17, e_call1_call0_v0, e_call1_call0_cst]
  refine (sum_down _ _ ?_ h n r d _).trans ?_
  · pointwise
  · exact Finset.sum_congr rfl fun s _ => by rw [at_v16]

theorem at_v21 : r_v21 m c (ix5 0 h n r d) = eL (cG m c h n) r d := by
  rw [e_v21, e_v20, e_v19, e_v18]
  pointwise
  rw [at_v17]
  erw [at_v17]
  rfl

theorem at_v22 : r_v22 m c (ix5 0 h n r d) = kD (cK m c h n) (cG m c h n) r d := by
  rw [e_v22]
  pointwise
  rw [at_v12, at_v21]
  rfl

theorem at_v23 : r_v23 m c (ix5 0 h n d e) = ∑ s, cV m c h n s e * kD (cK m c h n) (cG m c h n) s d := by
  rw [e_v23]
  pointwise
  exact Finset.sum_congr rfl fun s _ => by rw [at_v22, at_v14, mul_comm]

theorem at_v25 : r_v25 m c (ix4 0 h n d) = Ideal.exp (cum (cG m c h n) 63 d) := by
  rw [e_v25, e_v24, e_v18]
  pointwise
  erw [at_v17]

theorem at_v29 : r_v29 m c (ix5 0 h n r d) = cQ m c h n r d * scale := by
  rw [e_v29, e_v28, e_cst_0]
  pointwise
  rw [at_v27]
  rfl

theorem at_v34 : r_v34 m c (ix5 0 h n r d) = Ideal.exp (cum (cG m c h n) r d) := by
  rw [e_v34]
  pointwise
  rw [at_v17]

theorem at_v35 : r_v35 m c (ix5 0 h n r d) = qT (cQ m c h n) (cG m c h n) r d := by
  rw [e_v35]
  pointwise
  rw [at_v29, at_v34]
  rfl

theorem at_v37 : r_v37 m c (ix5 0 h n r d) = eN (cG m c h n) r d := by
  rw [e_v37, e_v36]
  pointwise
  rw [at_v17, eN, zero_sub]

theorem at_v38 : r_v38 m c (ix5 0 h n r d) = kT (cK m c h n) (cG m c h n) r d := by
  rw [e_v38]
  pointwise
  rw [at_v31, at_v37]
  rfl

theorem at_mask : r_v42_1 m c (ix5 0 h n r s) = if s ≤ r then 1#1 else 0#1 := by
  rw [e_v42_1, e_v40, e_v39, e_call2_v4, e_call2_v2, e_call2_v0, e_call2_v1, e_call2_c, e_call2_v3, e_call2_v5, e_call2_c_0, e_c]
  pointwise
  rw [show IntOp.addi (BitVec.ofNat 32 r.val) 0#32 = BitVec.ofNat 32 r.val from BitVec.add_zero _, low_bit, pick_bit]

theorem at_v42_0 : r_v42_0 m c (ix5 0 h n r s) = aM (cQ m c h n) (cK m c h n) (cG m c h n) r s := by
  rw [e_v42_0, e_v41, e_call3_v2, e_call3_v0, e_cst_1]
  pointwise
  rw [at_mask, pick_bit]
  simp only [at_v35, at_v38]
  rfl

theorem at_v43 : r_v43 m c (ix5 0 h n r e) = ∑ s, aM (cQ m c h n) (cK m c h n) (cG m c h n) r s * cV m c h n s e := by
  rw [e_v43]
  pointwise
  exact Finset.sum_congr rfl fun s _ => by rw [at_v42_0, at_v33]

theorem at_v49_0 : r_v49_0 m c (ix4 n 0 h d) = Ideal.exp (cum (cG m c h n) 63 d) := by
  rw [e_v49_0, e_v45]
  pointwise
  rw [at_v25]

theorem at_v49_1 : r_v49_1 m c (ix5 n 0 h d e) = ∑ s, cV m c h n s e * kD (cK m c h n) (cG m c h n) s d := by
  rw [e_v49_1, e_v46]
  pointwise
  rw [at_v23]

end Cert.ReferenceIdeal.Ref

end
-- ==== Proof.RefBody0.lean ====
/-
  The first loop's body, as equations between what its buffers hold after a trip from the contents `X`.
-/
module

public import proofs.«01_k».proof.Proof.RefFold
public import proofs.«01_k».proof.Proof.Math

@[expose] public section

set_option maxRecDepth 100000

noncomputable section

namespace Cert.ReferenceIdeal.Ref

open Cert.ReferenceIdeal Cert.ReferenceIdeal.Gen Cert.TwoLoops
open Idealize.ShloMosaic Idealize.ShloMosaic.TcCoe Idealize.ShloMosaic.Tactic
open Idealize.ShloMosaic.StableHlo

variable {F : FTy → Type} [FloatOps F]
variable (X : Valuation τ sig (Elt Ideal))

def b0i_v49_0 : FVec Ideal S128x1x4x128 .f32 := X (Proc.devRef .tc main_v49_0)
def b0i_v49_1 : FVec Ideal S128x1x4x128x256 .f32 := X (Proc.devRef .tc main_v49_1)
def b0i_v49_2 : IVec S_ 32 := X (Proc.devRef .tc main_v49_2)
def b0i_v49_3 : FVec Ideal S1x4x128x256 .f32 := X (Proc.devRef .tc main_v49_3)
def b0i_v49_4 : FVec Ideal S128x1x4x128x256 .f32 := X (Proc.devRef .tc main_v49_4)
def b0i_v49_5 : FVec Ideal S128x1x4x128x1 .f32 := X (Proc.devRef .tc main_v49_5)
def b0_call4_c : IVec S_ 32 := after body0I.flatten X (Proc.devRef .tc main_while0b_call4_c)
def b0_call4_c_0 : IVec S_ 32 := after body0I.flatten X (Proc.devRef .tc main_while0b_call4_c_0)
def b0_call4_c_1 : IVec S_ 32 := after body0I.flatten X (Proc.devRef .tc main_while0b_call4_c_1)
def b0_call4_v0 : FVec Ideal S1x1x4x128 .f32 := after body0I.flatten X (Proc.devRef .tc main_while0b_call4_v0)
def b0_v131 : FVec Ideal S1x4x128 .f32 := after body0I.flatten X (Proc.devRef .tc main_while0b_v131)
def b0_call5_c : IVec S_ 32 := after body0I.flatten X (Proc.devRef .tc main_while0b_call5_c)
def b0_call5_c_0 : IVec S_ 32 := after body0I.flatten X (Proc.devRef .tc main_while0b_call5_c_0)
def b0_call5_c_1 : IVec S_ 32 := after body0I.flatten X (Proc.devRef .tc main_while0b_call5_c_1)
def b0_call5_c_2 : IVec S_ 32 := after body0I.flatten X (Proc.devRef .tc main_while0b_call5_c_2)
def b0_call5_v0 : FVec Ideal S1x1x4x128x256 .f32 := after body0I.flatten X (Proc.devRef .tc main_while0b_call5_v0)
def b0_v132 : FVec Ideal S1x4x128x256 .f32 := after body0I.flatten X (Proc.devRef .tc main_while0b_v132)
def b0_v133 : FVec Ideal S1x4x128x1 .f32 := after body0I.flatten X (Proc.devRef .tc main_while0b_v133)
def b0_v134 : FVec Ideal S1x4x128x256 .f32 := after body0I.flatten X (Proc.devRef .tc main_while0b_v134)
def b0_v135 : FVec Ideal S1x4x128x256 .f32 := after body0I.flatten X (Proc.devRef .tc main_while0b_v135)
def b0_v136 : FVec Ideal S1x4x128x256 .f32 := after body0I.flatten X (Proc.devRef .tc main_while0b_v136)
def b0_call6_v0 : FVec Ideal S1x1x4x128x256 .f32 := after body0I.flatten X (Proc.devRef .tc main_while0b_call6_v0)
def b0_call6_c : IVec S_ 32 := after body0I.flatten X (Proc.devRef .tc main_while0b_call6_c)
def b0_call6_c_0 : IVec S_ 32 := after body0I.flatten X (Proc.devRef .tc main_while0b_call6_c_0)
def b0_call6_c_1 : IVec S_ 32 := after body0I.flatten X (Proc.devRef .tc main_while0b_call6_c_1)
def b0_call6_c_2 : IVec S_ 32 := after body0I.flatten X (Proc.devRef .tc main_while0b_call6_c_2)
def b0_v137 : FVec Ideal S128x1x4x128x256 .f32 := after body0I.flatten X (Proc.devRef .tc main_while0b_v137)
def b0_call7_v0 : FVec Ideal S1x1x4x128x1 .f32 := after body0I.flatten X (Proc.devRef .tc main_while0b_call7_v0)
def b0_call7_c : IVec S_ 32 := after body0I.flatten X (Proc.devRef .tc main_while0b_call7_c)
def b0_call7_c_0 : IVec S_ 32 := after body0I.flatten X (Proc.devRef .tc main_while0b_call7_c_0)
def b0_call7_c_1 : IVec S_ 32 := after body0I.flatten X (Proc.devRef .tc main_while0b_call7_c_1)
def b0_call7_c_2 : IVec S_ 32 := after body0I.flatten X (Proc.devRef .tc main_while0b_call7_c_2)
def b0_v138 : FVec Ideal S128x1x4x128x1 .f32 := after body0I.flatten X (Proc.devRef .tc main_while0b_v138)
def b0_v49_3 : FVec Ideal S1x4x128x256 .f32 := after body0I.flatten X (Proc.devRef .tc main_v49_3)
def b0_v49_4 : FVec Ideal S128x1x4x128x256 .f32 := after body0I.flatten X (Proc.devRef .tc main_v49_4)
def b0_v49_5 : FVec Ideal S128x1x4x128x1 .f32 := after body0I.flatten X (Proc.devRef .tc main_v49_5)

theorem b0e_call4_c : b0_call4_c X = (constantI S_ 32 0#32) := by
  have h := at_last body0_writes 0 rfl (b := main_while0b_call4_c) (by decide +kernel) X
  rw [nullary_result] at h
  exact h

theorem b0e_call4_c_0 : b0_call4_c_0 X = (constantI S_ 32 0#32) := by
  have h := at_last body0_writes 1 rfl (b := main_while0b_call4_c_0) (by decide +kernel) X
  rw [nullary_result] at h
  exact h

theorem b0e_call4_c_1 : b0_call4_c_1 X = (constantI S_ 32 0#32) := by
  have h := at_last body0_writes 2 rfl (b := main_while0b_call4_c_1) (by decide +kernel) X
  rw [nullary_result] at h
  exact h

theorem b0e_call4_v0 : b0_call4_v0 X = Host.dynamicSlice S1x1x4x128 (b0i_v49_0 X) (fun k => (![(b0i_v49_2 X), (b0_call4_c X), (b0_call4_c_0 X), (b0_call4_c_1 X)] k (Shape.Idx.first h_S_)).toInt) sliceFits_S128x1x4x128_S1x1x4x128 := by
  have h := at_last body0_writes 3 rfl (b := main_while0b_call4_v0) (by decide +kernel) X
  rw [unaryIndexed_result, upto_early body0_writes 3 (a := main_v49_0) (by decide +kernel)] at h
  have u0 := upto_early body0_writes 3 (a := main_v49_2) (by decide +kernel) X
  have u1 := upto_late body0_writes 3 (a := main_while0b_call4_c) (by decide +kernel) X
  have u2 := upto_late body0_writes 3 (a := main_while0b_call4_c_0) (by decide +kernel) X
  have u3 := upto_late body0_writes 3 (a := main_while0b_call4_c_1) (by decide +kernel) X
  refine h.trans (congrArg (fun s => Host.dynamicSlice S1x1x4x128 (b0i_v49_0 X) s sliceFits_S128x1x4x128_S1x1x4x128) (funext fun k => ?_))
  fin_cases k
  · exact congrArg BitVec.toInt (congrFun u0 _)
  · exact congrArg BitVec.toInt (congrFun u1 _)
  · exact congrArg BitVec.toInt (congrFun u2 _)
  · exact congrArg BitVec.toInt (congrFun u3 _)

theorem b0e_v131 : b0_v131 X = shapeCast S1x4x128 (b0_call4_v0 X) shapeCasts_S1x1x4x128_S1x4x128 := by
  have h := at_last body0_writes 4 rfl (b := main_while0b_v131) (by decide +kernel) X
  rw [reshape_result, upto_late body0_writes 4 (a := main_while0b_call4_v0) (by decide +kernel)] at h
  exact h

theorem b0e_call5_c : b0_call5_c X = (constantI S_ 32 0#32) := by
  have h := at_last body0_writes 5 rfl (b := main_while0b_call5_c) (by decide +kernel) X
  rw [nullary_result] at h
  exact h

theorem b0e_call5_c_0 : b0_call5_c_0 X = (constantI S_ 32 0#32) := by
  have h := at_last body0_writes 6 rfl (b := main_while0b_call5_c_0) (by decide +kernel) X
  rw [nullary_result] at h
  exact h

theorem b0e_call5_c_1 : b0_call5_c_1 X = (constantI S_ 32 0#32) := by
  have h := at_last body0_writes 7 rfl (b := main_while0b_call5_c_1) (by decide +kernel) X
  rw [nullary_result] at h
  exact h

theorem b0e_call5_c_2 : b0_call5_c_2 X = (constantI S_ 32 0#32) := by
  have h := at_last body0_writes 8 rfl (b := main_while0b_call5_c_2) (by decide +kernel) X
  rw [nullary_result] at h
  exact h

theorem b0e_call5_v0 : b0_call5_v0 X = Host.dynamicSlice S1x1x4x128x256 (b0i_v49_1 X) (fun k => (![(b0i_v49_2 X), (b0_call5_c X), (b0_call5_c_0 X), (b0_call5_c_1 X), (b0_call5_c_2 X)] k (Shape.Idx.first h_S_)).toInt) sliceFits_S128x1x4x128x256_S1x1x4x128x256 := by
  have h := at_last body0_writes 9 rfl (b := main_while0b_call5_v0) (by decide +kernel) X
  rw [unaryIndexed_result, upto_early body0_writes 9 (a := main_v49_1) (by decide +kernel)] at h
  have u0 := upto_early body0_writes 9 (a := main_v49_2) (by decide +kernel) X
  have u1 := upto_late body0_writes 9 (a := main_while0b_call5_c) (by decide +kernel) X
  have u2 := upto_late body0_writes 9 (a := main_while0b_call5_c_0) (by decide +kernel) X
  have u3 := upto_late body0_writes 9 (a := main_while0b_call5_c_1) (by decide +kernel) X
  have u4 := upto_late body0_writes 9 (a := main_while0b_call5_c_2) (by decide +kernel) X
  refine h.trans (congrArg (fun s => Host.dynamicSlice S1x1x4x128x256 (b0i_v49_1 X) s sliceFits_S128x1x4x128x256_S1x1x4x128x256) (funext fun k => ?_))
  fin_cases k
  · exact congrArg BitVec.toInt (congrFun u0 _)
  · exact congrArg BitVec.toInt (congrFun u1 _)
  · exact congrArg BitVec.toInt (congrFun u2 _)
  · exact congrArg BitVec.toInt (congrFun u3 _)
  · exact congrArg BitVec.toInt (congrFun u4 _)

theorem b0e_v132 : b0_v132 X = shapeCast S1x4x128x256 (b0_call5_v0 X) shapeCasts_S1x1x4x128x256_S1x4x128x256 := by
  have h := at_last body0_writes 10 rfl (b := main_while0b_v132) (by decide +kernel) X
  rw [reshape_result, upto_late body0_writes 10 (a := main_while0b_call5_v0) (by decide +kernel)] at h
  exact h

theorem b0e_v133 : b0_v133 X = broadcastInDim S1x4x128x1 ![0, 1, 2] bcast_S1x4x128_S1x4x128x1_0_1_2 (b0_v131 X) := by
  have h := at_last body0_writes 11 rfl (b := main_while0b_v133) (by decide +kernel) X
  rw [unary_result, upto_late body0_writes 11 (a := main_while0b_v131) (by decide +kernel)] at h
  exact h

theorem b0e_v134 : b0_v134 X = broadcastInDim S1x4x128x256 ![0, 1, 2, 3] bcast_S1x4x128x1_S1x4x128x256_0_1_2_3 (b0_v133 X) := by
  have h := at_last body0_writes 12 rfl (b := main_while0b_v134) (by decide +kernel) X
  rw [unary_result, upto_late body0_writes 12 (a := main_while0b_v133) (by decide +kernel)] at h
  exact h

theorem b0e_v135 : b0_v135 X = mulf (b0_v134 X) (b0i_v49_3 X) := by
  have h := at_last body0_writes 13 rfl (b := main_while0b_v135) (by decide +kernel) X
  rw [binary_result, upto_late body0_writes 13 (a := main_while0b_v134) (by decide +kernel), upto_early body0_writes 13 (a := main_v49_3) (by decide +kernel)] at h
  exact h

theorem b0e_v136 : b0_v136 X = addf (b0_v135 X) (b0_v132 X) := by
  have h := at_last body0_writes 14 rfl (b := main_while0b_v136) (by decide +kernel) X
  rw [binary_result, upto_late body0_writes 14 (a := main_while0b_v135) (by decide +kernel), upto_late body0_writes 14 (a := main_while0b_v132) (by decide +kernel)] at h
  exact h

theorem b0e_call6_v0 : b0_call6_v0 X = broadcastInDim S1x1x4x128x256 ![1, 2, 3, 4] bcast_S1x4x128x256_S1x1x4x128x256_1_2_3_4 (b0i_v49_3 X) := by
  have h := at_last body0_writes 15 rfl (b := main_while0b_call6_v0) (by decide +kernel) X
  rw [unary_result, upto_early body0_writes 15 (a := main_v49_3) (by decide +kernel)] at h
  exact h

theorem b0e_call6_c : b0_call6_c X = (constantI S_ 32 0#32) := by
  have h := at_last body0_writes 16 rfl (b := main_while0b_call6_c) (by decide +kernel) X
  rw [nullary_result] at h
  exact h

theorem b0e_call6_c_0 : b0_call6_c_0 X = (constantI S_ 32 0#32) := by
  have h := at_last body0_writes 17 rfl (b := main_while0b_call6_c_0) (by decide +kernel) X
  rw [nullary_result] at h
  exact h

theorem b0e_call6_c_1 : b0_call6_c_1 X = (constantI S_ 32 0#32) := by
  have h := at_last body0_writes 18 rfl (b := main_while0b_call6_c_1) (by decide +kernel) X
  rw [nullary_result] at h
  exact h

theorem b0e_call6_c_2 : b0_call6_c_2 X = (constantI S_ 32 0#32) := by
  have h := at_last body0_writes 19 rfl (b := main_while0b_call6_c_2) (by decide +kernel) X
  rw [nullary_result] at h
  exact h

theorem b0e_v137 : b0_v137 X = Host.dynamicUpdateSlice (b0i_v49_4 X) (b0_call6_v0 X) (fun k => (![(b0i_v49_2 X), (b0_call6_c X), (b0_call6_c_0 X), (b0_call6_c_1 X), (b0_call6_c_2 X)] k (Shape.Idx.first h_S_)).toInt) updateFits_S128x1x4x128x256_S1x1x4x128x256 := by
  have h := at_last body0_writes 20 rfl (b := main_while0b_v137) (by decide +kernel) X
  rw [binaryIndexed_result, upto_early body0_writes 20 (a := main_v49_4) (by decide +kernel), upto_late body0_writes 20 (a := main_while0b_call6_v0) (by decide +kernel)] at h
  have u0 := upto_early body0_writes 20 (a := main_v49_2) (by decide +kernel) X
  have u1 := upto_late body0_writes 20 (a := main_while0b_call6_c) (by decide +kernel) X
  have u2 := upto_late body0_writes 20 (a := main_while0b_call6_c_0) (by decide +kernel) X
  have u3 := upto_late body0_writes 20 (a := main_while0b_call6_c_1) (by decide +kernel) X
  have u4 := upto_late body0_writes 20 (a := main_while0b_call6_c_2) (by decide +kernel) X
  refine h.trans (congrArg (fun s => Host.dynamicUpdateSlice (b0i_v49_4 X) (b0_call6_v0 X) s updateFits_S128x1x4x128x256_S1x1x4x128x256) (funext fun k => ?_))
  fin_cases k
  · exact congrArg BitVec.toInt (congrFun u0 _)
  · exact congrArg BitVec.toInt (congrFun u1 _)
  · exact congrArg BitVec.toInt (congrFun u2 _)
  · exact congrArg BitVec.toInt (congrFun u3 _)
  · exact congrArg BitVec.toInt (congrFun u4 _)

theorem b0e_call7_v0 : b0_call7_v0 X = broadcastInDim S1x1x4x128x1 ![1, 2, 3, 4] bcast_S1x4x128x1_S1x1x4x128x1_1_2_3_4 (b0_v133 X) := by
  have h := at_last body0_writes 21 rfl (b := main_while0b_call7_v0) (by decide +kernel) X
  rw [unary_result, upto_late body0_writes 21 (a := main_while0b_v133) (by decide +kernel)] at h
  exact h

theorem b0e_call7_c : b0_call7_c X = (constantI S_ 32 0#32) := by
  have h := at_last body0_writes 22 rfl (b := main_while0b_call7_c) (by decide +kernel) X
  rw [nullary_result] at h
  exact h

theorem b0e_call7_c_0 : b0_call7_c_0 X = (constantI S_ 32 0#32) := by
  have h := at_last body0_writes 23 rfl (b := main_while0b_call7_c_0) (by decide +kernel) X
  rw [nullary_result] at h
  exact h

theorem b0e_call7_c_1 : b0_call7_c_1 X = (constantI S_ 32 0#32) := by
  have h := at_last body0_writes 24 rfl (b := main_while0b_call7_c_1) (by decide +kernel) X
  rw [nullary_result] at h
  exact h

theorem b0e_call7_c_2 : b0_call7_c_2 X = (constantI S_ 32 0#32) := by
  have h := at_last body0_writes 25 rfl (b := main_while0b_call7_c_2) (by decide +kernel) X
  rw [nullary_result] at h
  exact h

theorem b0e_v138 : b0_v138 X = Host.dynamicUpdateSlice (b0i_v49_5 X) (b0_call7_v0 X) (fun k => (![(b0i_v49_2 X), (b0_call7_c X), (b0_call7_c_0 X), (b0_call7_c_1 X), (b0_call7_c_2 X)] k (Shape.Idx.first h_S_)).toInt) updateFits_S128x1x4x128x1_S1x1x4x128x1 := by
  have h := at_last body0_writes 26 rfl (b := main_while0b_v138) (by decide +kernel) X
  rw [binaryIndexed_result, upto_early body0_writes 26 (a := main_v49_5) (by decide +kernel), upto_late body0_writes 26 (a := main_while0b_call7_v0) (by decide +kernel)] at h
  have u0 := upto_early body0_writes 26 (a := main_v49_2) (by decide +kernel) X
  have u1 := upto_late body0_writes 26 (a := main_while0b_call7_c) (by decide +kernel) X
  have u2 := upto_late body0_writes 26 (a := main_while0b_call7_c_0) (by decide +kernel) X
  have u3 := upto_late body0_writes 26 (a := main_while0b_call7_c_1) (by decide +kernel) X
  have u4 := upto_late body0_writes 26 (a := main_while0b_call7_c_2) (by decide +kernel) X
  refine h.trans (congrArg (fun s => Host.dynamicUpdateSlice (b0i_v49_5 X) (b0_call7_v0 X) s updateFits_S128x1x4x128x1_S1x1x4x128x1) (funext fun k => ?_))
  fin_cases k
  · exact congrArg BitVec.toInt (congrFun u0 _)
  · exact congrArg BitVec.toInt (congrFun u1 _)
  · exact congrArg BitVec.toInt (congrFun u2 _)
  · exact congrArg BitVec.toInt (congrFun u3 _)
  · exact congrArg BitVec.toInt (congrFun u4 _)

theorem b0e_v49_3 : b0_v49_3 X = (b0_v136 X) := by
  have h := at_last body0_writes 30 rfl (b := main_v49_3) (by decide +kernel) X
  rw [unary_result, upto_late body0_writes 30 (a := main_while0b_v136) (by decide +kernel)] at h
  exact h

theorem b0e_v49_4 : b0_v49_4 X = (b0_v137 X) := by
  have h := at_last body0_writes 31 rfl (b := main_v49_4) (by decide +kernel) X
  rw [unary_result, upto_late body0_writes 31 (a := main_while0b_v137) (by decide +kernel)] at h
  exact h

theorem b0e_v49_5 : b0_v49_5 X = (b0_v138 X) := by
  have h := at_last body0_writes 32 rfl (b := main_v49_5) (by decide +kernel) X
  rw [unary_result, upto_late body0_writes 32 (a := main_while0b_v138) (by decide +kernel)] at h
  exact h

end Cert.ReferenceIdeal.Ref

end
-- ==== Proof.RefBody1.lean ====
/-
  The second loop's body, as equations between what its buffers hold after a trip from the contents `X`.
-/
module

public import proofs.«01_k».proof.Proof.RefFold
public import proofs.«01_k».proof.Proof.Math

@[expose] public section

set_option maxRecDepth 100000

noncomputable section

namespace Cert.ReferenceIdeal.Ref

open Cert.ReferenceIdeal Cert.ReferenceIdeal.Gen Cert.TwoLoops
open Idealize.ShloMosaic Idealize.ShloMosaic.TcCoe Idealize.ShloMosaic.Tactic
open Idealize.ShloMosaic.StableHlo

variable {F : FTy → Type} [FloatOps F]
variable (X : Valuation τ sig (Elt Ideal))

def b1i_v65_0 : FVec Ideal S128x1x4x128x256 .f32 := X (Proc.devRef .tc main_v65_0)
def b1i_v65_1 : FVec Ideal S128x1x4x128x256 .f32 := X (Proc.devRef .tc main_v65_1)
def b1i_v65_2 : FVec Ideal S128x1x4x128x1 .f32 := X (Proc.devRef .tc main_v65_2)
def b1i_v65_3 : IVec S_ 32 := X (Proc.devRef .tc main_v65_3)
def b1i_v65_4 : FVec Ideal S1x4x128x256 .f32 := X (Proc.devRef .tc main_v65_4)
def b1i_v65_5 : FVec Ideal S128x1x4x128 .f32 := X (Proc.devRef .tc main_v65_5)
def b1i_v65_6 : FVec Ideal S128x1x4x128x256 .f32 := X (Proc.devRef .tc main_v65_6)
def b1_c_23 : IVec S_ 32 := after body1I.flatten X (Proc.devRef .tc main_while1b_c_23)
def b1_v131 : IVec S_ 32 := after body1I.flatten X (Proc.devRef .tc main_while1b_v131)
def b1_c_24 : IVec S_ 32 := after body1I.flatten X (Proc.devRef .tc main_while1b_c_24)
def b1_v132 : IVec S_ 32 := after body1I.flatten X (Proc.devRef .tc main_while1b_v132)
def b1_call8_c : IVec S_ 32 := after body1I.flatten X (Proc.devRef .tc main_while1b_call8_c)
def b1_call8_c_0 : IVec S_ 32 := after body1I.flatten X (Proc.devRef .tc main_while1b_call8_c_0)
def b1_call8_c_1 : IVec S_ 32 := after body1I.flatten X (Proc.devRef .tc main_while1b_call8_c_1)
def b1_call8_c_2 : IVec S_ 32 := after body1I.flatten X (Proc.devRef .tc main_while1b_call8_c_2)
def b1_call8_v0 : FVec Ideal S1x1x4x128x256 .f32 := after body1I.flatten X (Proc.devRef .tc main_while1b_call8_v0)
def b1_v133 : FVec Ideal S1x4x128x256 .f32 := after body1I.flatten X (Proc.devRef .tc main_while1b_v133)
def b1_call9_c : IVec S_ 32 := after body1I.flatten X (Proc.devRef .tc main_while1b_call9_c)
def b1_call9_c_0 : IVec S_ 32 := after body1I.flatten X (Proc.devRef .tc main_while1b_call9_c_0)
def b1_call9_c_1 : IVec S_ 32 := after body1I.flatten X (Proc.devRef .tc main_while1b_call9_c_1)
def b1_call9_c_2 : IVec S_ 32 := after body1I.flatten X (Proc.devRef .tc main_while1b_call9_c_2)
def b1_call9_v0 : FVec Ideal S1x1x4x128x256 .f32 := after body1I.flatten X (Proc.devRef .tc main_while1b_call9_v0)
def b1_v134 : FVec Ideal S1x4x128x256 .f32 := after body1I.flatten X (Proc.devRef .tc main_while1b_v134)
def b1_call10_c : IVec S_ 32 := after body1I.flatten X (Proc.devRef .tc main_while1b_call10_c)
def b1_call10_c_0 : IVec S_ 32 := after body1I.flatten X (Proc.devRef .tc main_while1b_call10_c_0)
def b1_call10_c_1 : IVec S_ 32 := after body1I.flatten X (Proc.devRef .tc main_while1b_call10_c_1)
def b1_call10_c_2 : IVec S_ 32 := after body1I.flatten X (Proc.devRef .tc main_while1b_call10_c_2)
def b1_call10_v0 : FVec Ideal S1x1x4x128x1 .f32 := after body1I.flatten X (Proc.devRef .tc main_while1b_call10_v0)
def b1_v135 : FVec Ideal S1x4x128x1 .f32 := after body1I.flatten X (Proc.devRef .tc main_while1b_v135)
def b1_v136 : FVec Ideal S1x4x128x256 .f32 := after body1I.flatten X (Proc.devRef .tc main_while1b_v136)
def b1_v137 : FVec Ideal S1x4x128x256 .f32 := after body1I.flatten X (Proc.devRef .tc main_while1b_v137)
def b1_v138 : FVec Ideal S1x4x128x256 .f32 := after body1I.flatten X (Proc.devRef .tc main_while1b_v138)
def b1_v139 : FVec Ideal S1x4x128x256 .f32 := after body1I.flatten X (Proc.devRef .tc main_while1b_v139)
def b1_cst_25 : FVec Ideal S_ .f32 := after body1I.flatten X (Proc.devRef .tc main_while1b_cst_25)
def b1_v140 : FVec Ideal S1x4x128 .f32 := after body1I.flatten X (Proc.devRef .tc main_while1b_v140)
def b1_v141 : FVec Ideal S1x4x128x1 .f32 := after body1I.flatten X (Proc.devRef .tc main_while1b_v141)
def b1_cst_26 : FVec Ideal S_ .f32 := after body1I.flatten X (Proc.devRef .tc main_while1b_cst_26)
def b1_v142 : FVec Ideal S4x128 .f32 := after body1I.flatten X (Proc.devRef .tc main_while1b_v142)
def b1_v143 : FVec Ideal S1x4x128 .f32 := after body1I.flatten X (Proc.devRef .tc main_while1b_v143)
def b1_call11_v0 : FVec Ideal S1x1x4x128 .f32 := after body1I.flatten X (Proc.devRef .tc main_while1b_call11_v0)
def b1_call11_c : IVec S_ 32 := after body1I.flatten X (Proc.devRef .tc main_while1b_call11_c)
def b1_call11_c_0 : IVec S_ 32 := after body1I.flatten X (Proc.devRef .tc main_while1b_call11_c_0)
def b1_call11_c_1 : IVec S_ 32 := after body1I.flatten X (Proc.devRef .tc main_while1b_call11_c_1)
def b1_v144 : FVec Ideal S128x1x4x128 .f32 := after body1I.flatten X (Proc.devRef .tc main_while1b_v144)
def b1_call12_v0 : FVec Ideal S1x1x4x128x256 .f32 := after body1I.flatten X (Proc.devRef .tc main_while1b_call12_v0)
def b1_call12_c : IVec S_ 32 := after body1I.flatten X (Proc.devRef .tc main_while1b_call12_c)
def b1_call12_c_0 : IVec S_ 32 := after body1I.flatten X (Proc.devRef .tc main_while1b_call12_c_0)
def b1_call12_c_1 : IVec S_ 32 := after body1I.flatten X (Proc.devRef .tc main_while1b_call12_c_1)
def b1_call12_c_2 : IVec S_ 32 := after body1I.flatten X (Proc.devRef .tc main_while1b_call12_c_2)
def b1_v145 : FVec Ideal S128x1x4x128x256 .f32 := after body1I.flatten X (Proc.devRef .tc main_while1b_v145)
def b1_v65_4 : FVec Ideal S1x4x128x256 .f32 := after body1I.flatten X (Proc.devRef .tc main_v65_4)
def b1_v65_5 : FVec Ideal S128x1x4x128 .f32 := after body1I.flatten X (Proc.devRef .tc main_v65_5)
def b1_v65_6 : FVec Ideal S128x1x4x128x256 .f32 := after body1I.flatten X (Proc.devRef .tc main_v65_6)

theorem b1e_c_23 : b1_c_23 X = (constantI S_ 32 128#32) := by
  have h := at_last body1_writes 0 rfl (b := main_while1b_c_23) (by decide +kernel) X
  rw [nullary_result] at h
  exact h

theorem b1e_v131 : b1_v131 X = subi (b1_c_23 X) (b1i_v65_3 X) := by
  have h := at_last body1_writes 1 rfl (b := main_while1b_v131) (by decide +kernel) X
  rw [binary_result, upto_late body1_writes 1 (a := main_while1b_c_23) (by decide +kernel), upto_early body1_writes 1 (a := main_v65_3) (by decide +kernel)] at h
  exact h

theorem b1e_c_24 : b1_c_24 X = (constantI S_ 32 1#32) := by
  have h := at_last body1_writes 2 rfl (b := main_while1b_c_24) (by decide +kernel) X
  rw [nullary_result] at h
  exact h

theorem b1e_v132 : b1_v132 X = subi (b1_v131 X) (b1_c_24 X) := by
  have h := at_last body1_writes 3 rfl (b := main_while1b_v132) (by decide +kernel) X
  rw [binary_result, upto_late body1_writes 3 (a := main_while1b_v131) (by decide +kernel), upto_late body1_writes 3 (a := main_while1b_c_24) (by decide +kernel)] at h
  exact h

theorem b1e_call8_c : b1_call8_c X = (constantI S_ 32 0#32) := by
  have h := at_last body1_writes 4 rfl (b := main_while1b_call8_c) (by decide +kernel) X
  rw [nullary_result] at h
  exact h

theorem b1e_call8_c_0 : b1_call8_c_0 X = (constantI S_ 32 0#32) := by
  have h := at_last body1_writes 5 rfl (b := main_while1b_call8_c_0) (by decide +kernel) X
  rw [nullary_result] at h
  exact h

theorem b1e_call8_c_1 : b1_call8_c_1 X = (constantI S_ 32 0#32) := by
  have h := at_last body1_writes 6 rfl (b := main_while1b_call8_c_1) (by decide +kernel) X
  rw [nullary_result] at h
  exact h

theorem b1e_call8_c_2 : b1_call8_c_2 X = (constantI S_ 32 0#32) := by
  have h := at_last body1_writes 7 rfl (b := main_while1b_call8_c_2) (by decide +kernel) X
  rw [nullary_result] at h
  exact h

theorem b1e_call8_v0 : b1_call8_v0 X = Host.dynamicSlice S1x1x4x128x256 (b1i_v65_0 X) (fun k => (![(b1_v132 X), (b1_call8_c X), (b1_call8_c_0 X), (b1_call8_c_1 X), (b1_call8_c_2 X)] k (Shape.Idx.first h_S_)).toInt) sliceFits_S128x1x4x128x256_S1x1x4x128x256 := by
  have h := at_last body1_writes 8 rfl (b := main_while1b_call8_v0) (by decide +kernel) X
  rw [unaryIndexed_result, upto_early body1_writes 8 (a := main_v65_0) (by decide +kernel)] at h
  have u0 := upto_late body1_writes 8 (a := main_while1b_v132) (by decide +kernel) X
  have u1 := upto_late body1_writes 8 (a := main_while1b_call8_c) (by decide +kernel) X
  have u2 := upto_late body1_writes 8 (a := main_while1b_call8_c_0) (by decide +kernel) X
  have u3 := upto_late body1_writes 8 (a := main_while1b_call8_c_1) (by decide +kernel) X
  have u4 := upto_late body1_writes 8 (a := main_while1b_call8_c_2) (by decide +kernel) X
  refine h.trans (congrArg (fun s => Host.dynamicSlice S1x1x4x128x256 (b1i_v65_0 X) s sliceFits_S128x1x4x128x256_S1x1x4x128x256) (funext fun k => ?_))
  fin_cases k
  · exact congrArg BitVec.toInt (congrFun u0 _)
  · exact congrArg BitVec.toInt (congrFun u1 _)
  · exact congrArg BitVec.toInt (congrFun u2 _)
  · exact congrArg BitVec.toInt (congrFun u3 _)
  · exact congrArg BitVec.toInt (congrFun u4 _)

theorem b1e_v133 : b1_v133 X = shapeCast S1x4x128x256 (b1_call8_v0 X) shapeCasts_S1x1x4x128x256_S1x4x128x256 := by
  have h := at_last body1_writes 9 rfl (b := main_while1b_v133) (by decide +kernel) X
  rw [reshape_result, upto_late body1_writes 9 (a := main_while1b_call8_v0) (by decide +kernel)] at h
  exact h

theorem b1e_call9_c : b1_call9_c X = (constantI S_ 32 0#32) := by
  have h := at_last body1_writes 10 rfl (b := main_while1b_call9_c) (by decide +kernel) X
  rw [nullary_result] at h
  exact h

theorem b1e_call9_c_0 : b1_call9_c_0 X = (constantI S_ 32 0#32) := by
  have h := at_last body1_writes 11 rfl (b := main_while1b_call9_c_0) (by decide +kernel) X
  rw [nullary_result] at h
  exact h

theorem b1e_call9_c_1 : b1_call9_c_1 X = (constantI S_ 32 0#32) := by
  have h := at_last body1_writes 12 rfl (b := main_while1b_call9_c_1) (by decide +kernel) X
  rw [nullary_result] at h
  exact h

theorem b1e_call9_c_2 : b1_call9_c_2 X = (constantI S_ 32 0#32) := by
  have h := at_last body1_writes 13 rfl (b := main_while1b_call9_c_2) (by decide +kernel) X
  rw [nullary_result] at h
  exact h

theorem b1e_call9_v0 : b1_call9_v0 X = Host.dynamicSlice S1x1x4x128x256 (b1i_v65_1 X) (fun k => (![(b1_v132 X), (b1_call9_c X), (b1_call9_c_0 X), (b1_call9_c_1 X), (b1_call9_c_2 X)] k (Shape.Idx.first h_S_)).toInt) sliceFits_S128x1x4x128x256_S1x1x4x128x256 := by
  have h := at_last body1_writes 14 rfl (b := main_while1b_call9_v0) (by decide +kernel) X
  rw [unaryIndexed_result, upto_early body1_writes 14 (a := main_v65_1) (by decide +kernel)] at h
  have u0 := upto_late body1_writes 14 (a := main_while1b_v132) (by decide +kernel) X
  have u1 := upto_late body1_writes 14 (a := main_while1b_call9_c) (by decide +kernel) X
  have u2 := upto_late body1_writes 14 (a := main_while1b_call9_c_0) (by decide +kernel) X
  have u3 := upto_late body1_writes 14 (a := main_while1b_call9_c_1) (by decide +kernel) X
  have u4 := upto_late body1_writes 14 (a := main_while1b_call9_c_2) (by decide +kernel) X
  refine h.trans (congrArg (fun s => Host.dynamicSlice S1x1x4x128x256 (b1i_v65_1 X) s sliceFits_S128x1x4x128x256_S1x1x4x128x256) (funext fun k => ?_))
  fin_cases k
  · exact congrArg BitVec.toInt (congrFun u0 _)
  · exact congrArg BitVec.toInt (congrFun u1 _)
  · exact congrArg BitVec.toInt (congrFun u2 _)
  · exact congrArg BitVec.toInt (congrFun u3 _)
  · exact congrArg BitVec.toInt (congrFun u4 _)

theorem b1e_v134 : b1_v134 X = shapeCast S1x4x128x256 (b1_call9_v0 X) shapeCasts_S1x1x4x128x256_S1x4x128x256 := by
  have h := at_last body1_writes 15 rfl (b := main_while1b_v134) (by decide +kernel) X
  rw [reshape_result, upto_late body1_writes 15 (a := main_while1b_call9_v0) (by decide +kernel)] at h
  exact h

theorem b1e_call10_c : b1_call10_c X = (constantI S_ 32 0#32) := by
  have h := at_last body1_writes 16 rfl (b := main_while1b_call10_c) (by decide +kernel) X
  rw [nullary_result] at h
  exact h

theorem b1e_call10_c_0 : b1_call10_c_0 X = (constantI S_ 32 0#32) := by
  have h := at_last body1_writes 17 rfl (b := main_while1b_call10_c_0) (by decide +kernel) X
  rw [nullary_result] at h
  exact h

theorem b1e_call10_c_1 : b1_call10_c_1 X = (constantI S_ 32 0#32) := by
  have h := at_last body1_writes 18 rfl (b := main_while1b_call10_c_1) (by decide +kernel) X
  rw [nullary_result] at h
  exact h

theorem b1e_call10_c_2 : b1_call10_c_2 X = (constantI S_ 32 0#32) := by
  have h := at_last body1_writes 19 rfl (b := main_while1b_call10_c_2) (by decide +kernel) X
  rw [nullary_result] at h
  exact h

theorem b1e_call10_v0 : b1_call10_v0 X = Host.dynamicSlice S1x1x4x128x1 (b1i_v65_2 X) (fun k => (![(b1_v132 X), (b1_call10_c X), (b1_call10_c_0 X), (b1_call10_c_1 X), (b1_call10_c_2 X)] k (Shape.Idx.first h_S_)).toInt) sliceFits_S128x1x4x128x1_S1x1x4x128x1 := by
  have h := at_last body1_writes 20 rfl (b := main_while1b_call10_v0) (by decide +kernel) X
  rw [unaryIndexed_result, upto_early body1_writes 20 (a := main_v65_2) (by decide +kernel)] at h
  have u0 := upto_late body1_writes 20 (a := main_while1b_v132) (by decide +kernel) X
  have u1 := upto_late body1_writes 20 (a := main_while1b_call10_c) (by decide +kernel) X
  have u2 := upto_late body1_writes 20 (a := main_while1b_call10_c_0) (by decide +kernel) X
  have u3 := upto_late body1_writes 20 (a := main_while1b_call10_c_1) (by decide +kernel) X
  have u4 := upto_late body1_writes 20 (a := main_while1b_call10_c_2) (by decide +kernel) X
  refine h.trans (congrArg (fun s => Host.dynamicSlice S1x1x4x128x1 (b1i_v65_2 X) s sliceFits_S128x1x4x128x1_S1x1x4x128x1) (funext fun k => ?_))
  fin_cases k
  · exact congrArg BitVec.toInt (congrFun u0 _)
  · exact congrArg BitVec.toInt (congrFun u1 _)
  · exact congrArg BitVec.toInt (congrFun u2 _)
  · exact congrArg BitVec.toInt (congrFun u3 _)
  · exact congrArg BitVec.toInt (congrFun u4 _)

theorem b1e_v135 : b1_v135 X = shapeCast S1x4x128x1 (b1_call10_v0 X) shapeCasts_S1x1x4x128x1_S1x4x128x1 := by
  have h := at_last body1_writes 21 rfl (b := main_while1b_v135) (by decide +kernel) X
  rw [reshape_result, upto_late body1_writes 21 (a := main_while1b_call10_v0) (by decide +kernel)] at h
  exact h

theorem b1e_v136 : b1_v136 X = broadcastInDim S1x4x128x256 ![0, 1, 2, 3] bcast_S1x4x128x1_S1x4x128x256_0_1_2_3 (b1_v135 X) := by
  have h := at_last body1_writes 22 rfl (b := main_while1b_v136) (by decide +kernel) X
  rw [unary_result, upto_late body1_writes 22 (a := main_while1b_v135) (by decide +kernel)] at h
  exact h

theorem b1e_v137 : b1_v137 X = mulf (b1_v136 X) (b1i_v65_4 X) := by
  have h := at_last body1_writes 23 rfl (b := main_while1b_v137) (by decide +kernel) X
  rw [binary_result, upto_late body1_writes 23 (a := main_while1b_v136) (by decide +kernel), upto_early body1_writes 23 (a := main_v65_4) (by decide +kernel)] at h
  exact h

theorem b1e_v138 : b1_v138 X = addf (b1_v133 X) (b1_v137 X) := by
  have h := at_last body1_writes 24 rfl (b := main_while1b_v138) (by decide +kernel) X
  rw [binary_result, upto_late body1_writes 24 (a := main_while1b_v133) (by decide +kernel), upto_late body1_writes 24 (a := main_while1b_v137) (by decide +kernel)] at h
  exact h

theorem b1e_v139 : b1_v139 X = mulf (b1i_v65_4 X) (b1_v134 X) := by
  have h := at_last body1_writes 25 rfl (b := main_while1b_v139) (by decide +kernel) X
  rw [binary_result, upto_early body1_writes 25 (a := main_v65_4) (by decide +kernel), upto_late body1_writes 25 (a := main_while1b_v134) (by decide +kernel)] at h
  exact h

theorem b1e_cst_25 : b1_cst_25 X = (constant S_ .f32 0x00000000#32) := by
  have h := at_last body1_writes 26 rfl (b := main_while1b_cst_25) (by decide +kernel) X
  rw [nullary_result] at h
  exact h

theorem b1e_v140 : b1_v140 X = Host.reduceAdd (b1_v139 X) (b1_cst_25 X) reducesTo_S1x4x128x256_S1x4x128_d3 h_S_ := by
  have h := at_last body1_writes 27 rfl (b := main_while1b_v140) (by decide +kernel) X
  rw [binary_result, upto_late body1_writes 27 (a := main_while1b_v139) (by decide +kernel), upto_late body1_writes 27 (a := main_while1b_cst_25) (by decide +kernel)] at h
  exact h

theorem b1e_v141 : b1_v141 X = shapeCast S1x4x128x1 (b1_v140 X) shapeCasts_S1x4x128_S1x4x128x1 := by
  have h := at_last body1_writes 28 rfl (b := main_while1b_v141) (by decide +kernel) X
  rw [reshape_result, upto_late body1_writes 28 (a := main_while1b_v140) (by decide +kernel)] at h
  exact h

theorem b1e_cst_26 : b1_cst_26 X = (constant S_ .f32 0x00000000#32) := by
  have h := at_last body1_writes 29 rfl (b := main_while1b_cst_26) (by decide +kernel) X
  rw [nullary_result] at h
  exact h

theorem b1e_v142 : b1_v142 X = Host.reduceAdd (b1_v141 X) (b1_cst_26 X) reducesTo_S1x4x128x1_S4x128_d0_3 h_S_ := by
  have h := at_last body1_writes 30 rfl (b := main_while1b_v142) (by decide +kernel) X
  rw [binary_result, upto_late body1_writes 30 (a := main_while1b_v141) (by decide +kernel), upto_late body1_writes 30 (a := main_while1b_cst_26) (by decide +kernel)] at h
  exact h

theorem b1e_v143 : b1_v143 X = broadcastInDim S1x4x128 ![1, 2] bcast_S4x128_S1x4x128_1_2 (b1_v142 X) := by
  have h := at_last body1_writes 31 rfl (b := main_while1b_v143) (by decide +kernel) X
  rw [unary_result, upto_late body1_writes 31 (a := main_while1b_v142) (by decide +kernel)] at h
  exact h

theorem b1e_call11_v0 : b1_call11_v0 X = broadcastInDim S1x1x4x128 ![1, 2, 3] bcast_S1x4x128_S1x1x4x128_1_2_3 (b1_v143 X) := by
  have h := at_last body1_writes 32 rfl (b := main_while1b_call11_v0) (by decide +kernel) X
  rw [unary_result, upto_late body1_writes 32 (a := main_while1b_v143) (by decide +kernel)] at h
  exact h

theorem b1e_call11_c : b1_call11_c X = (constantI S_ 32 0#32) := by
  have h := at_last body1_writes 33 rfl (b := main_while1b_call11_c) (by decide +kernel) X
  rw [nullary_result] at h
  exact h

theorem b1e_call11_c_0 : b1_call11_c_0 X = (constantI S_ 32 0#32) := by
  have h := at_last body1_writes 34 rfl (b := main_while1b_call11_c_0) (by decide +kernel) X
  rw [nullary_result] at h
  exact h

theorem b1e_call11_c_1 : b1_call11_c_1 X = (constantI S_ 32 0#32) := by
  have h := at_last body1_writes 35 rfl (b := main_while1b_call11_c_1) (by decide +kernel) X
  rw [nullary_result] at h
  exact h

theorem b1e_v144 : b1_v144 X = Host.dynamicUpdateSlice (b1i_v65_5 X) (b1_call11_v0 X) (fun k => (![(b1_v132 X), (b1_call11_c X), (b1_call11_c_0 X), (b1_call11_c_1 X)] k (Shape.Idx.first h_S_)).toInt) updateFits_S128x1x4x128_S1x1x4x128 := by
  have h := at_last body1_writes 36 rfl (b := main_while1b_v144) (by decide +kernel) X
  rw [binaryIndexed_result, upto_early body1_writes 36 (a := main_v65_5) (by decide +kernel), upto_late body1_writes 36 (a := main_while1b_call11_v0) (by decide +kernel)] at h
  have u0 := upto_late body1_writes 36 (a := main_while1b_v132) (by decide +kernel) X
  have u1 := upto_late body1_writes 36 (a := main_while1b_call11_c) (by decide +kernel) X
  have u2 := upto_late body1_writes 36 (a := main_while1b_call11_c_0) (by decide +kernel) X
  have u3 := upto_late body1_writes 36 (a := main_while1b_call11_c_1) (by decide +kernel) X
  refine h.trans (congrArg (fun s => Host.dynamicUpdateSlice (b1i_v65_5 X) (b1_call11_v0 X) s updateFits_S128x1x4x128_S1x1x4x128) (funext fun k => ?_))
  fin_cases k
  · exact congrArg BitVec.toInt (congrFun u0 _)
  · exact congrArg BitVec.toInt (congrFun u1 _)
  · exact congrArg BitVec.toInt (congrFun u2 _)
  · exact congrArg BitVec.toInt (congrFun u3 _)

theorem b1e_call12_v0 : b1_call12_v0 X = broadcastInDim S1x1x4x128x256 ![1, 2, 3, 4] bcast_S1x4x128x256_S1x1x4x128x256_1_2_3_4 (b1i_v65_4 X) := by
  have h := at_last body1_writes 37 rfl (b := main_while1b_call12_v0) (by decide +kernel) X
  rw [unary_result, upto_early body1_writes 37 (a := main_v65_4) (by decide +kernel)] at h
  exact h

theorem b1e_call12_c : b1_call12_c X = (constantI S_ 32 0#32) := by
  have h := at_last body1_writes 38 rfl (b := main_while1b_call12_c) (by decide +kernel) X
  rw [nullary_result] at h
  exact h

theorem b1e_call12_c_0 : b1_call12_c_0 X = (constantI S_ 32 0#32) := by
  have h := at_last body1_writes 39 rfl (b := main_while1b_call12_c_0) (by decide +kernel) X
  rw [nullary_result] at h
  exact h

theorem b1e_call12_c_1 : b1_call12_c_1 X = (constantI S_ 32 0#32) := by
  have h := at_last body1_writes 40 rfl (b := main_while1b_call12_c_1) (by decide +kernel) X
  rw [nullary_result] at h
  exact h

theorem b1e_call12_c_2 : b1_call12_c_2 X = (constantI S_ 32 0#32) := by
  have h := at_last body1_writes 41 rfl (b := main_while1b_call12_c_2) (by decide +kernel) X
  rw [nullary_result] at h
  exact h

theorem b1e_v145 : b1_v145 X = Host.dynamicUpdateSlice (b1i_v65_6 X) (b1_call12_v0 X) (fun k => (![(b1_v132 X), (b1_call12_c X), (b1_call12_c_0 X), (b1_call12_c_1 X), (b1_call12_c_2 X)] k (Shape.Idx.first h_S_)).toInt) updateFits_S128x1x4x128x256_S1x1x4x128x256 := by
  have h := at_last body1_writes 42 rfl (b := main_while1b_v145) (by decide +kernel) X
  rw [binaryIndexed_result, upto_early body1_writes 42 (a := main_v65_6) (by decide +kernel), upto_late body1_writes 42 (a := main_while1b_call12_v0) (by decide +kernel)] at h
  have u0 := upto_late body1_writes 42 (a := main_while1b_v132) (by decide +kernel) X
  have u1 := upto_late body1_writes 42 (a := main_while1b_call12_c) (by decide +kernel) X
  have u2 := upto_late body1_writes 42 (a := main_while1b_call12_c_0) (by decide +kernel) X
  have u3 := upto_late body1_writes 42 (a := main_while1b_call12_c_1) (by decide +kernel) X
  have u4 := upto_late body1_writes 42 (a := main_while1b_call12_c_2) (by decide +kernel) X
  refine h.trans (congrArg (fun s => Host.dynamicUpdateSlice (b1i_v65_6 X) (b1_call12_v0 X) s updateFits_S128x1x4x128x256_S1x1x4x128x256) (funext fun k => ?_))
  fin_cases k
  · exact congrArg BitVec.toInt (congrFun u0 _)
  · exact congrArg BitVec.toInt (congrFun u1 _)
  · exact congrArg BitVec.toInt (congrFun u2 _)
  · exact congrArg BitVec.toInt (congrFun u3 _)
  · exact congrArg BitVec.toInt (congrFun u4 _)

theorem b1e_v65_4 : b1_v65_4 X = (b1_v138 X) := by
  have h := at_last body1_writes 46 rfl (b := main_v65_4) (by decide +kernel) X
  rw [unary_result, upto_late body1_writes 46 (a := main_while1b_v138) (by decide +kernel)] at h
  exact h

theorem b1e_v65_5 : b1_v65_5 X = (b1_v144 X) := by
  have h := at_last body1_writes 47 rfl (b := main_v65_5) (by decide +kernel) X
  rw [unary_result, upto_late body1_writes 47 (a := main_while1b_v144) (by decide +kernel)] at h
  exact h

theorem b1e_v65_6 : b1_v65_6 X = (b1_v145 X) := by
  have h := at_last body1_writes 48 rfl (b := main_v65_6) (by decide +kernel) X
  rw [unary_result, upto_late body1_writes 48 (a := main_while1b_v145) (by decide +kernel)] at h
  exact h

end Cert.ReferenceIdeal.Ref

end
-- ==== Proof.RefTrip.lean ====
/-
  One trip of each of the reference's loops, entry by entry.
-/
module

public import proofs.«01_k».proof.Proof.RefBody0
public import proofs.«01_k».proof.Proof.RefBody1
import Idealize.ShloMosaic.Lib.Pointwise
import Idealize.ShloMosaic.Lib.WordCmp

@[expose] public section

set_option maxRecDepth 16384

noncomputable section

namespace Cert.ReferenceIdeal.Ref

open Cert.ReferenceIdeal.Gen Cert.Gla
open Idealize.ShloMosaic Idealize.ShloMosaic.TcCoe Idealize.ShloMosaic.StableHlo

variable (X : Valuation τ sig (Elt Ideal)) (k : Fin 128)
variable (h : Fin 4) (n : Fin 128) (d : Fin 128) (e : Fin 256)

theorem word_int (k : Fin 128) : (BitVec.ofNat 32 k.val).toInt = (k.val : Int) := by
  revert k; decide +kernel

theorem fits4 (k : Fin 128) : S128x1x4x128.Slices ![k.val, 0, 0, 0] S1x1x4x128 :=
  ⟨rfl, fun a => by fin_cases a <;> simp <;> omega⟩
theorem fits5 (k : Fin 128) : S128x1x4x128x256.Slices ![k.val, 0, 0, 0, 0] S1x1x4x128x256 :=
  ⟨rfl, fun a => by fin_cases a <;> simp <;> omega⟩
theorem fits5' (k : Fin 128) : S128x1x4x128x1.Slices ![k.val, 0, 0, 0, 0] S1x1x4x128x1 :=
  ⟨rfl, fun a => by fin_cases a <;> simp <;> omega⟩

theorem start4 {x y z w : IVec S_ 32} (hx : x = fun _ => BitVec.ofNat 32 k.val) (hy : y = constantI S_ 32 0#32) (hz : z = constantI S_ 32 0#32)
    (hw : w = constantI S_ 32 0#32) (a : Fin 4) : (![x, y, z, w] a (Shape.Idx.first h_S_)).toInt = ((![k.val, 0, 0, 0] : Fin 4 → ℕ) a : Int) := by
  subst hx hy hz hw
  fin_cases a
  · exact word_int k
  · rfl
  · rfl
  · rfl

theorem start5 {x y z w u : IVec S_ 32} (hx : x = fun _ => BitVec.ofNat 32 k.val) (hy : y = constantI S_ 32 0#32) (hz : z = constantI S_ 32 0#32)
    (hw : w = constantI S_ 32 0#32) (hu : u = constantI S_ 32 0#32) (a : Fin 5) :
    (![x, y, z, w, u] a (Shape.Idx.first h_S_)).toInt = ((![k.val, 0, 0, 0, 0] : Fin 5 → ℕ) a : Int) := by
  subst hx hy hz hw hu
  fin_cases a
  · exact word_int k
  · rfl
  · rfl
  · rfl
  · rfl

/-- The one place written. -/
theorem only {α : Type} (a b : α) : (if _h : k.val ≤ n.val ∧ n.val < k.val + 1 then a else b) = if n = k then a else b := by
  by_cases q : n = k
  · subst q
    rw [dif_pos ⟨Nat.le_refl _, Nat.lt_succ_self _⟩, if_pos rfl]
  · rw [dif_neg fun w => q (Fin.ext (by omega)), if_neg q]

/-- A sum along two axes of one element each. -/
theorem one_each (x : FVec Ideal S1x4x128x1 .f32) (v : EReal) :
    Ideal.hostReduceAdd reducesTo_S1x4x128x1_S4x128_d0_3 x v (ix2 h d) = v + x (ix4 0 h d 0) := by
  have hd : ∀ i : S1x4x128x1.Idx, (reducesTo_S1x4x128x1_S4x128_d0_3).drop i = ix2 (i 1) (i 2) := fun i => by
    funext a; fin_cases a <;> rfl
  have hf : (Finset.univ.filter fun i : S1x4x128x1.Idx => (reducesTo_S1x4x128x1_S4x128_d0_3).drop i = ix2 h d) = {ix4 0 h d 0} := by
    ext i
    rw [Finset.mem_filter, Finset.mem_singleton, hd i]
    constructor
    · rintro ⟨-, w⟩
      have w1 : (i 1 : Fin 4) = h := congrFun w 0
      have w2 : (i 2 : Fin 128) = d := congrFun w 1
      funext a
      fin_cases a
      · exact Subsingleton.elim (α := Fin 1) _ _
      · exact w1
      · exact w2
      · exact Subsingleton.elim (α := Fin 1) _ _
    · rintro rfl
      exact ⟨Finset.mem_univ _, rfl⟩
  rw [Ideal.hostReduceAdd, hf, Finset.sum_singleton]

/-- A sum along two axes of one element each, of a row. -/
theorem one_row (j : Fin 512) (x : FVec Ideal S1x1x512 .f32) (v : EReal) :
    Ideal.hostReduceAdd reducesTo_S1x1x512_S512_d0_1 x v (ix1 j) = v + x (ix3 0 0 j) := by
  have hd : ∀ i : S1x1x512.Idx, (reducesTo_S1x1x512_S512_d0_1).drop i = ix1 (i 2) := fun i => by
    funext a; fin_cases a <;> rfl
  have hf : (Finset.univ.filter fun i : S1x1x512.Idx => (reducesTo_S1x1x512_S512_d0_1).drop i = ix1 j) = {ix3 0 0 j} := by
    ext i
    rw [Finset.mem_filter, Finset.mem_singleton, hd i]
    constructor
    · rintro ⟨-, w⟩
      have w1 : (i 2 : Fin 512) = j := congrFun w 0
      funext a
      fin_cases a
      · exact Subsingleton.elim (α := Fin 1) _ _
      · exact Subsingleton.elim (α := Fin 1) _ _
      · exact w1
    · rintro rfl
      exact ⟨Finset.mem_univ _, rfl⟩
  rw [Ideal.hostReduceAdd, hf, Finset.sum_singleton]

section First
variable (hi : b0i_v49_2 X = fun _ => BitVec.ofNat 32 k.val)
include hi

theorem b0_row : b0_v131 X (ix3 0 h d) = b0i_v49_0 X (ix4 k 0 h d) := by
  rw [b0e_v131, b0e_call4_v0, WordCmp.dynamicSlice_eq_extract _ _ _ _ _ (fits4 k) (start4 k hi (b0e_call4_c X) (b0e_call4_c_0 X) (b0e_call4_c_1 X))]
  pointwise

theorem b0_state : b0_v49_3 X (ix4 0 h d e) = b0i_v49_0 X (ix4 k 0 h d) * b0i_v49_3 X (ix4 0 h d e) + b0i_v49_1 X (ix5 k 0 h d e) := by
  rw [b0e_v49_3, b0e_v136, b0e_v135, b0e_v134, b0e_v133, b0e_v132, b0e_call5_v0,
    WordCmp.dynamicSlice_eq_extract _ _ _ _ _ (fits5 k) (start5 k hi (b0e_call5_c X) (b0e_call5_c_0 X) (b0e_call5_c_1 X) (b0e_call5_c_2 X))]
  pointwise
  rw [b0_row X k h d hi]

theorem b0_stack : b0_v49_4 X (ix5 n 0 h d e) = if n = k then b0i_v49_3 X (ix4 0 h d e) else b0i_v49_4 X (ix5 n 0 h d e) := by
  rw [b0e_v49_4, b0e_v137, b0e_call6_v0,
    WordCmp.dynamicUpdateSlice_eq_update _ _ _ _ _ (fits5 k) (start5 k hi (b0e_call6_c X) (b0e_call6_c_0 X) (b0e_call6_c_1 X) (b0e_call6_c_2 X))]
  pointwise
  exact only k n _ _

theorem b0_decay : b0_v49_5 X (ix5 n 0 h d 0) = if n = k then b0i_v49_0 X (ix4 k 0 h d) else b0i_v49_5 X (ix5 n 0 h d 0) := by
  rw [b0e_v49_5, b0e_v138, b0e_call7_v0,
    WordCmp.dynamicUpdateSlice_eq_update _ _ _ _ _ (fits5' k) (start5 k hi (b0e_call7_c X) (b0e_call7_c_0 X) (b0e_call7_c_1 X) (b0e_call7_c_2 X)), b0e_v133]
  pointwise
  rw [b0_row X k h d hi]
  exact only k n _ _

end First

section Second
variable (hi : b1i_v65_3 X = fun _ => BitVec.ofNat 32 (127 - k.val))
include hi

theorem b1_place : b1_v132 X = fun _ => BitVec.ofNat 32 k.val := by
  have hk : ∀ k : Fin 128, (128#32 - BitVec.ofNat 32 (127 - k.val)) - 1#32 = BitVec.ofNat 32 k.val := by decide +kernel
  rw [b1e_v132, b1e_v131, b1e_c_23, b1e_c_24, hi]
  exact funext fun _ => hk k

theorem b1_state : b1_v65_4 X (ix4 0 h d e) = b1i_v65_0 X (ix5 k 0 h d e) + b1i_v65_2 X (ix5 k 0 h d 0) * b1i_v65_4 X (ix4 0 h d e) := by
  have hp := b1_place X k hi
  rw [b1e_v65_4, b1e_v138, b1e_v137, b1e_v136, b1e_v135, b1e_v133, b1e_call8_v0, b1e_call10_v0,
    WordCmp.dynamicSlice_eq_extract _ _ _ _ _ (fits5 k) (start5 k hp (b1e_call8_c X) (b1e_call8_c_0 X) (b1e_call8_c_1 X) (b1e_call8_c_2 X)),
    WordCmp.dynamicSlice_eq_extract _ _ _ _ _ (fits5' k) (start5 k hp (b1e_call10_c X) (b1e_call10_c_0 X) (b1e_call10_c_1 X) (b1e_call10_c_2 X))]
  pointwise

theorem b1_stack : b1_v65_6 X (ix5 n 0 h d e) = if n = k then b1i_v65_4 X (ix4 0 h d e) else b1i_v65_6 X (ix5 n 0 h d e) := by
  have hp := b1_place X k hi
  rw [b1e_v65_6, b1e_v145, b1e_call12_v0,
    WordCmp.dynamicUpdateSlice_eq_update _ _ _ _ _ (fits5 k) (start5 k hp (b1e_call12_c X) (b1e_call12_c_0 X) (b1e_call12_c_1 X) (b1e_call12_c_2 X))]
  pointwise
  exact only k n _ _

theorem b1_decay : b1_v65_5 X (ix4 n 0 h d)
    = if n = k then ∑ e : Fin 256, (b1i_v65_4 X (ix4 0 h d e) : EReal) * b1i_v65_1 X (ix5 k 0 h d e) else b1i_v65_5 X (ix4 n 0 h d) := by
  have hp := b1_place X k hi
  rw [b1e_v65_5, b1e_v144, b1e_call11_v0,
    WordCmp.dynamicUpdateSlice_eq_update _ _ _ _ _ (fits4 k) (start4 k hp (b1e_call11_c X) (b1e_call11_c_0 X) (b1e_call11_c_1 X)),
    b1e_v143, b1e_v142, b1e_v141, b1e_v140, b1e_v139, b1e_v134, b1e_call9_v0,
    WordCmp.dynamicSlice_eq_extract _ _ _ _ _ (fits5 k) (start5 k hp (b1e_call9_c X) (b1e_call9_c_0 X) (b1e_call9_c_1 X) (b1e_call9_c_2 X)),
    b1e_cst_25, b1e_cst_26]
  pointwise
  rw [one_each]
  pointwise
  exact only k n _ _

end Second

end Cert.ReferenceIdeal.Ref

end
-- ==== Proof.RefLoop.lean ====
/-
  The states the reference's first loop leaves.
-/
module

public import proofs.«01_k».proof.Proof.RefVal
public import proofs.«01_k».proof.Proof.RefTrip
import Idealize.ShloMosaic.Lib.Pointwise

@[expose] public section

set_option maxRecDepth 16384

noncomputable section

namespace Cert.ReferenceIdeal.Ref

open Cert.ReferenceIdeal.Gen Cert.Gla
open Idealize.ShloMosaic Idealize.ShloMosaic.TcCoe

variable (m : (ℓ : Loc nD τ sig) → Buf (Elt Ideal) ℓ) (c : Dev nD)
variable (h : Fin 4) (n : Fin 128) (r s : Fin 64) (d : Fin 128) (e : Fin 256)

open Cert.TwoLoops Idealize.ShloMosaic.StableHlo

variable {F : FTy → Type} [FloatOps F]

/-! ## The first loop -/

/-- What a trip of the first loop finds. -/
abbrev X0 (k : ℕ) : Valuation τ sig (Elt Ideal) := StableHlo.after cond0 (A0 m k c)

theorem X0_at (k : ℕ) {a : Ref sig .tc} (h : a ∉ cond0W) : X0 m c k (Proc.devRef .tc a) = A0 m k c (Proc.devRef .tc a) :=
  StableHlo.after_unwritten cond0W cond0_writes h _

theorem X0_kept (k : ℕ) {a : Ref sig .tc} (h : a ∉ (cond0W ++ midW) ++ lateW) (h' : a ∉ cond0W ++ body0W) :
    X0 m c k (Proc.devRef .tc a) = S3 m c (Proc.devRef .tc a) := by
  rw [X0_at m c k (fun w => h' (List.mem_append_left _ w)), A0_keep m c h' k, keep_loop0 m c a h, A0_keep m c h' 128]

theorem X0_ctr (k : ℕ) : b0i_v49_2 (X0 m c k) = fun _ => BitVec.ofNat 32 k := by
  have h := (X0_at m c k (a := main_v49_2) (by decide +kernel)).trans (ctr0 m c k)
  refine h.trans (funext fun _ => ?_)
  show 0#32 + BitVec.ofNat 32 k * 1#32 = _
  rw [BitVec.mul_one, BitVec.zero_add]

theorem X0_0 (k : ℕ) : b0i_v49_0 (X0 m c k) = r_v49_0 m c := X0_kept m c k (by decide +kernel) (by decide +kernel)
theorem X0_1 (k : ℕ) : b0i_v49_1 (X0 m c k) = r_v49_1 m c := X0_kept m c k (by decide +kernel) (by decide +kernel)

/-- The state before trip `k`, and the stacks filled before it. -/
def st0 (k : ℕ) : FVec Ideal S1x4x128x256 .f32 := A0 m k c (Proc.devRef .tc main_v49_3)
def sk0 (k : ℕ) : FVec Ideal S128x1x4x128x256 .f32 := A0 m k c (Proc.devRef .tc main_v49_4)
def dk0 (k : ℕ) : FVec Ideal S128x1x4x128x1 .f32 := A0 m k c (Proc.devRef .tc main_v49_5)

theorem X0_3 (k : ℕ) : b0i_v49_3 (X0 m c k) = st0 m c k := X0_at m c k (by decide +kernel)
theorem X0_4 (k : ℕ) : b0i_v49_4 (X0 m c k) = sk0 m c k := X0_at m c k (by decide +kernel)
theorem X0_5 (k : ℕ) : b0i_v49_5 (X0 m c k) = dk0 m c k := X0_at m c k (by decide +kernel)
theorem st0_succ (k : ℕ) : st0 m c (k + 1) = b0_v49_3 (X0 m c k) := congrFun (A0_succ m k c) _
theorem sk0_succ (k : ℕ) : sk0 m c (k + 1) = b0_v49_4 (X0 m c k) := congrFun (A0_succ m k c) _
theorem dk0_succ (k : ℕ) : dk0 m c (k + 1) = b0_v49_5 (X0 m c k) := congrFun (A0_succ m k c) _

theorem st0_zero : st0 m c 0 = broadcastInDim S1x4x128x256 ![] bcast_S_S1x4x128x256 (constant (F := Ideal) S_ .f32 0x00000000#32) := by
  have h1 : S1 m c (Proc.devRef .tc main_v49_3) = S1 m c (Proc.devRef .tc main_v44) := by
    rw [S1]
    exact una pre_writes (L := []) (fun _ _ => rfl) 122 main_v44 main_v49_3 (f := id) rfl (by decide +kernel)
  have h2 : S1 m c (Proc.devRef .tc main_v44) = broadcastInDim S1x4x128x256 ![] bcast_S_S1x4x128x256 (S1 m c (Proc.devRef .tc main_cst_2)) := by
    rw [S1]
    exact una pre_writes (L := []) (fun _ _ => rfl) 111 main_cst_2 main_v44 rfl (by decide +kernel)
  have h3 : S1 m c (Proc.devRef .tc main_cst_2) = constant (F := Ideal) S_ .f32 0x00000000#32 := by
    rw [S1]
    exact nul pre_writes (L := []) (fun _ _ => rfl) 110 main_cst_2 rfl (by decide +kernel)
  show S1 m c (Proc.devRef .tc main_v49_3) = _
  rw [h1, h2, h3]

theorem st0_at : ∀ k : ℕ, k ≤ 128 → st0 m c k (ix4 0 h d e) = SF (cK m c h) (cG m c h) (cV m c h) k e d
  | 0, _ => by
    rw [st0_zero]
    pointwise
    rfl
  | k + 1, hk => by
    have hx := X0_ctr m c k
    rw [st0_succ, b0_state (X0 m c k) ⟨k, hk⟩ h d e hx, X0_0, X0_1, X0_3, st0_at k (Nat.le_of_succ_le hk), at_v49_0, at_v49_1, mul_comm]
    rfl

theorem sk0_at : ∀ k : ℕ, k ≤ 128 → n.val < k → sk0 m c k (ix5 n 0 h d e) = SF (cK m c h) (cG m c h) (cV m c h) n e d
  | 0, _, hn => absurd hn (Nat.not_lt_zero _)
  | k + 1, hk, hn => by
    have hx := X0_ctr m c k
    rw [sk0_succ, b0_stack (X0 m c k) ⟨k, hk⟩ h n d e hx]
    by_cases q : n = ⟨k, hk⟩
    · rw [if_pos q, X0_3, st0_at m c h d e k (Nat.le_of_succ_le hk), q]
    · rw [if_neg q, X0_4, sk0_at k (Nat.le_of_succ_le hk) (Nat.lt_of_le_of_ne (Nat.le_of_lt_succ hn) fun w => q (Fin.ext w))]

theorem dk0_at : ∀ k : ℕ, k ≤ 128 → n.val < k → dk0 m c k (ix5 n 0 h d 0) = Ideal.exp (cum (cG m c h n) 63 d)
  | 0, _, hn => absurd hn (Nat.not_lt_zero _)
  | k + 1, hk, hn => by
    have hx := X0_ctr m c k
    rw [dk0_succ, b0_decay (X0 m c k) ⟨k, hk⟩ h n d hx]
    by_cases q : n = ⟨k, hk⟩
    · rw [if_pos q, X0_0, ← q, at_v49_0]
    · rw [if_neg q, X0_5, dk0_at k (Nat.le_of_succ_le hk) (Nat.lt_of_le_of_ne (Nat.le_of_lt_succ hn) fun w => q (Fin.ext w))]

/-- The states before the chunks, as the loop leaves them. -/
theorem at_v49_4 : r_v49_4 m c (ix5 n 0 h d e) = SF (cK m c h) (cG m c h) (cV m c h) n e d := by
  rw [show r_v49_4 m c = sk0 m c 128 from keep_loop0 m c _ (by decide +kernel)]
  exact sk0_at m c h n d e 128 (Nat.le_refl _) n.isLt
theorem at_v49_5 : r_v49_5 m c (ix5 n 0 h d 0) = Ideal.exp (cum (cG m c h n) 63 d) := by
  rw [show r_v49_5 m c = dk0 m c 128 from keep_loop0 m c _ (by decide +kernel)]
  exact dk0_at m c h n d 128 (Nat.le_refl _) n.isLt

end Cert.ReferenceIdeal.Ref

end
-- ==== Proof.RefMid.lean ====
/-
  The reference's operations between its loops, as equations between what its buffers hold at the end.
-/
module

public import proofs.«01_k».proof.Proof.RefDefs
public import proofs.«01_k».proof.Proof.Math

@[expose] public section

set_option maxRecDepth 100000

noncomputable section

namespace Cert.ReferenceIdeal.Ref

open Cert.ReferenceIdeal Cert.ReferenceIdeal.Gen Cert.TwoLoops
open Idealize.ShloMosaic Idealize.ShloMosaic.TcCoe Idealize.ShloMosaic.Tactic
open Idealize.ShloMosaic.StableHlo

attribute [local irreducible] S1 S2 S3

variable {F : FTy → Type} [FloatOps F]
variable (m : (ℓ : Loc nD τ sig) → Buf (Elt Ideal) ℓ) (c : Dev nD)

theorem e_v50 : r_v50 m c = transpose S1x4x128x128x256 [1, 2, 0, 3, 4] (r_v49_4 m c) transposes_S128x1x4x128x256_S1x4x128x128x256_1_2_0_3_4 := by
  have h := una mid_writes (keep_mid m c) 0 main_v49_4 main_v50 rfl (by decide +kernel)
  exact h
theorem e_v51 : r_v51 m c = Host.dotGeneral dot_S1x4x128x64x128_S1x4x128x128x256_S1x4x128x64x256_4_3_3_4_012_012 none (r_v35 m c) (r_v50 m c) := by
  have h := bin mid_writes (keep_mid m c) 1 main_v35 main_v50 main_v51 rfl (by decide +kernel)
  exact h
theorem e_v52 : r_v52 m c = addf (r_v43 m c) (r_v51 m c) := by
  have h := bin mid_writes (keep_mid m c) 2 main_v43 main_v51 main_v52 rfl (by decide +kernel)
  exact h
theorem e_v53 : r_v53 m c = transpose S1x128x64x4x256 [0, 2, 3, 1, 4] (r_v52 m c) transposes_S1x4x128x64x256_S1x128x64x4x256_0_2_3_1_4 := by
  have h := una mid_writes (keep_mid m c) 3 main_v52 main_v53 rfl (by decide +kernel)
  exact h
theorem e_v54 : r_v54 m c = shapeCast S1x8192x1024 (r_v53 m c) shapeCasts_S1x128x64x4x256_S1x8192x1024 := by
  have h := rsh mid_writes (keep_mid m c) 4 main_v53 main_v54 rfl (by decide +kernel)
  exact h
theorem e_v56 : r_v56 m c = shapeCast S1x128x64x4x256 (r_arg3 m c) shapeCasts_S1x8192x1024_S1x128x64x4x256 := by
  have h := rsh mid_writes (keep_mid m c) 7 main_arg3 main_v56 rfl (by decide +kernel)
  exact h
theorem e_v57 : r_v57 m c = transpose S1x4x128x64x256 [0, 3, 1, 2, 4] (r_v56 m c) transposes_S1x128x64x4x256_S1x4x128x64x256_0_3_1_2_4 := by
  have h := una mid_writes (keep_mid m c) 8 main_v56 main_v57 rfl (by decide +kernel)
  exact h
theorem e_v58 : r_v58 m c = Host.dotGeneral dot_S1x4x128x64x256_S1x4x128x64x128_S1x4x128x256x128_3_3_4_4_012_012 none (r_v57 m c) (r_v35 m c) := by
  have h := bin mid_writes (keep_mid m c) 9 main_v57 main_v35 main_v58 rfl (by decide +kernel)
  exact h
theorem e_v59 : r_v59 m c = transpose S1x4x128x128x256 [0, 1, 2, 4, 3] (r_v58 m c) transposes_S1x4x128x256x128_S1x4x128x128x256_0_1_2_4_3 := by
  have h := una mid_writes (keep_mid m c) 10 main_v58 main_v59 rfl (by decide +kernel)
  exact h
theorem e_v60 : r_v60 m c = Host.dotGeneral dot_S1x4x128x64x256_S1x4x128x128x256_S1x4x128x64x128_4_4_3_3_012_012 none (r_v57 m c) (r_v50 m c) := by
  have h := bin mid_writes (keep_mid m c) 11 main_v57 main_v50 main_v60 rfl (by decide +kernel)
  exact h
theorem e_v61 : r_v61 m c = transpose S128x1x4x128x256 [2, 0, 1, 3, 4] (r_v59 m c) transposes_S1x4x128x128x256_S128x1x4x128x256_2_0_1_3_4 := by
  have h := una mid_writes (keep_mid m c) 12 main_v59 main_v61 rfl (by decide +kernel)
  exact h
theorem e_v65_0 : r_v65_0 m c = (r_v61 m c) := by
  have h := una mid_writes (keep_mid m c) 20 main_v61 main_v65_0 rfl (by decide +kernel)
  exact h
theorem e_v65_1 : r_v65_1 m c = (r_v49_4 m c) := by
  have h := una mid_writes (keep_mid m c) 21 main_v49_4 main_v65_1 rfl (by decide +kernel)
  exact h
theorem e_v65_2 : r_v65_2 m c = (r_v49_5 m c) := by
  have h := una mid_writes (keep_mid m c) 22 main_v49_5 main_v65_2 rfl (by decide +kernel)
  exact h
end Cert.ReferenceIdeal.Ref

end
-- ==== Proof.RefBack.lean ====
/-
  The values between the loops, and what the reference's second loop leaves.
-/
module

public import proofs.«01_k».proof.Proof.RefLoop
public import proofs.«01_k».proof.Proof.RefMid
import Idealize.ShloMosaic.Lib.Pointwise

@[expose] public section

set_option maxRecDepth 16384

noncomputable section

namespace Cert.ReferenceIdeal.Ref

open Cert.ReferenceIdeal.Gen Cert.Gla
open Idealize.ShloMosaic Idealize.ShloMosaic.TcCoe

variable (m : (ℓ : Loc nD τ sig) → Buf (Elt Ideal) ℓ) (c : Dev nD)
variable (h : Fin 4) (n : Fin 128) (r s : Fin 64) (d : Fin 128) (e : Fin 256)

open Cert.TwoLoops Idealize.ShloMosaic.StableHlo

variable {F : FTy → Type} [FloatOps F]

/-! ## Between the loops -/

theorem at_v57 : r_v57 m c (ix5 0 h n r e) = cD m c h n r e := by
  rw [e_v57, e_v56]
  pointwise
  exact rc (fun x y => r_arg3 m c (ix3 0 x y)) (row_lin n r) (by dsimp only; omega)

theorem at_v50 : r_v50 m c (ix5 0 h n d e) = SF (cK m c h) (cG m c h) (cV m c h) n e d := by
  rw [e_v50]
  pointwise
  exact at_v49_4 m c h n d e

theorem at_v52 : r_v52 m c (ix5 0 h n r e) = seqO (cQ m c h) (cK m c h) (cG m c h) (cV m c h) n r e := by
  rw [e_v52, e_v51]
  pointwise
  rw [at_v43]
  refine congrArg _ (Finset.sum_congr rfl fun d _ => ?_)
  rw [at_v35, at_v50]

theorem at_v60 : r_v60 m c (ix5 0 h n r d) = ∑ e, cD m c h n r e * SF (cK m c h) (cG m c h) (cV m c h) n e d := by
  rw [e_v60]
  pointwise
  exact Finset.sum_congr rfl fun e _ => by rw [at_v57, at_v50]

theorem at_v65_0 : r_v65_0 m c (ix5 n 0 h d e) = ∑ r, cD m c h n r e * qT (cQ m c h n) (cG m c h n) r d := by
  rw [e_v65_0, e_v61, e_v59, e_v58]
  pointwise
  exact Finset.sum_congr rfl fun r _ => by rw [at_v57, at_v35]

/-! ## The second loop -/

/-- What a trip of the second loop finds. -/
abbrev X1 (k : ℕ) : Valuation τ sig (Elt Ideal) := StableHlo.after cond1 (A1 m k c)

theorem X1_at (k : ℕ) {a : Ref sig .tc} (h : a ∉ cond1W) : X1 m c k (Proc.devRef .tc a) = A1 m k c (Proc.devRef .tc a) :=
  StableHlo.after_unwritten cond1W cond1_writes h _

theorem X1_kept (k : ℕ) {a : Ref sig .tc} (h : a ∉ cond1W ++ postW) (h' : a ∉ cond1W ++ body1W) :
    X1 m c k (Proc.devRef .tc a) = S3 m c (Proc.devRef .tc a) := by
  rw [X1_at m c k (fun w => h' (List.mem_append_left _ w)), A1_keep m c h' k, keep_loop1 m c a h, A1_keep m c h' 128]

theorem X1_ctr (k : ℕ) (hk : k < 128) : b1i_v65_3 (X1 m c k) = fun _ => BitVec.ofNat 32 k := by
  have h := (X1_at m c k (a := main_v65_3) (by decide +kernel)).trans (ctr1 m c k)
  refine h.trans (funext fun _ => ?_)
  show 0#32 + BitVec.ofNat 32 k * 1#32 = _
  rw [BitVec.mul_one, BitVec.zero_add]

/-- The chunk of trip `k`. -/
def back (k : ℕ) : Fin 128 := ⟨127 - k, by omega⟩

theorem X1_back (k : ℕ) (hk : k < 128) : b1i_v65_3 (X1 m c k) = fun _ => BitVec.ofNat 32 (127 - (back k).val) := by
  rw [X1_ctr m c k hk]
  refine funext fun _ => congrArg _ ?_
  show k = 127 - (127 - k)
  omega

theorem X1_0 (k : ℕ) : b1i_v65_0 (X1 m c k) = r_v65_0 m c := X1_kept m c k (by decide +kernel) (by decide +kernel)
theorem X1_1 (k : ℕ) : b1i_v65_1 (X1 m c k) = r_v65_1 m c := X1_kept m c k (by decide +kernel) (by decide +kernel)
theorem X1_2 (k : ℕ) : b1i_v65_2 (X1 m c k) = r_v65_2 m c := X1_kept m c k (by decide +kernel) (by decide +kernel)

/-- The state's cotangent before trip `k`, and what is filled before it. -/
def st1 (k : ℕ) : FVec Ideal S1x4x128x256 .f32 := A1 m k c (Proc.devRef .tc main_v65_4)
def sk1 (k : ℕ) : FVec Ideal S128x1x4x128x256 .f32 := A1 m k c (Proc.devRef .tc main_v65_6)
def dk1 (k : ℕ) : FVec Ideal S128x1x4x128 .f32 := A1 m k c (Proc.devRef .tc main_v65_5)

theorem X1_4 (k : ℕ) : b1i_v65_4 (X1 m c k) = st1 m c k := X1_at m c k (by decide +kernel)
theorem X1_5 (k : ℕ) : b1i_v65_5 (X1 m c k) = dk1 m c k := X1_at m c k (by decide +kernel)
theorem X1_6 (k : ℕ) : b1i_v65_6 (X1 m c k) = sk1 m c k := X1_at m c k (by decide +kernel)
theorem st1_succ (k : ℕ) : st1 m c (k + 1) = b1_v65_4 (X1 m c k) := congrFun (A1_succ m k c) _
theorem sk1_succ (k : ℕ) : sk1 m c (k + 1) = b1_v65_6 (X1 m c k) := congrFun (A1_succ m k c) _
theorem dk1_succ (k : ℕ) : dk1 m c (k + 1) = b1_v65_5 (X1 m c k) := congrFun (A1_succ m k c) _

theorem st1_zero : st1 m c 0 = broadcastInDim S1x4x128x256 ![] bcast_S_S1x4x128x256 (constant (F := Ideal) S_ .f32 0x00000000#32) := by
  have h1 : S2 m c (Proc.devRef .tc main_v65_4) = S2 m c (Proc.devRef .tc main_v62) := by
    rw [S2]
    exact una mid_writes (L := []) (fun _ _ => rfl) 24 main_v62 main_v65_4 (f := id) rfl (by decide +kernel)
  have h2 : S2 m c (Proc.devRef .tc main_v62) = broadcastInDim S1x4x128x256 ![] bcast_S_S1x4x128x256 (S2 m c (Proc.devRef .tc main_cst_7)) := by
    rw [S2]
    exact una mid_writes (L := []) (fun _ _ => rfl) 14 main_cst_7 main_v62 rfl (by decide +kernel)
  have h3 : S2 m c (Proc.devRef .tc main_cst_7) = constant (F := Ideal) S_ .f32 0x00000000#32 := by
    rw [S2]
    exact nul mid_writes (L := []) (fun _ _ => rfl) 13 main_cst_7 rfl (by decide +kernel)
  show S2 m c (Proc.devRef .tc main_v65_4) = _
  rw [h1, h2, h3]

theorem at_v65_2 : r_v65_2 m c (ix5 n 0 h d 0) = Ideal.exp (cum (cG m c h n) 63 d) := by
  rw [e_v65_2]
  exact at_v49_5 m c h n d

theorem st1_at : ∀ k : ℕ, k ≤ 128 → st1 m c k (ix4 0 h d e) = DF (cQ m c h) (cG m c h) (cD m c h) k e d
  | 0, _ => by
    rw [st1_zero]
    pointwise
    rfl
  | k + 1, hk => by
    have hx := X1_back m c k hk
    rw [st1_succ, b1_state (X1 m c k) (back k) h d e hx, X1_0, X1_2, X1_4, st1_at k (Nat.le_of_succ_le hk), at_v65_0, at_v65_2, mul_comm, add_comm]
    rfl

theorem sk1_at : ∀ k : ℕ, k ≤ 128 → 128 ≤ n.val + k → sk1 m c k (ix5 n 0 h d e) = DF (cQ m c h) (cG m c h) (cD m c h) (127 - n) e d
  | 0, _, hn => absurd hn (by omega)
  | k + 1, hk, hn => by
    have hx := X1_back m c k hk
    rw [sk1_succ, b1_stack (X1 m c k) (back k) h n d e hx]
    by_cases q : n = back k
    · rw [if_pos q, X1_4, st1_at m c h d e k (Nat.le_of_succ_le hk)]
      have : k = 127 - n.val := by
        have := congrArg Fin.val q
        simp only [back] at this
        omega
      rw [← this]
    · rw [if_neg q, X1_6, sk1_at k (Nat.le_of_succ_le hk)]
      by_contra w
      exact q (Fin.ext (by simp only [back]; omega))

theorem dk1_at : ∀ k : ℕ, k ≤ 128 → 128 ≤ n.val + k → dk1 m c k (ix4 n 0 h d)
    = ∑ e, DF (cQ m c h) (cG m c h) (cD m c h) (127 - n) e d * SF (cK m c h) (cG m c h) (cV m c h) n e d
  | 0, _, hn => absurd hn (by omega)
  | k + 1, hk, hn => by
    have hx := X1_back m c k hk
    rw [dk1_succ, b1_decay (X1 m c k) (back k) h n d hx]
    by_cases q : n = back k
    · rw [if_pos q, X1_4, X1_1, e_v65_1, ← q]
      have : k = 127 - n.val := by
        have := congrArg Fin.val q
        simp only [back] at this
        omega
      exact Finset.sum_congr rfl fun e _ => by rw [st1_at m c h d e k (Nat.le_of_succ_le hk), at_v49_4, ← this]
    · rw [if_neg q, X1_5, dk1_at k (Nat.le_of_succ_le hk)]
      by_contra w
      exact q (Fin.ext (by simp only [back]; omega))

/-- The cotangents of the states after the chunks, as the loop leaves them. -/
theorem at_v65_6 : r_v65_6 m c (ix5 n 0 h d e) = DF (cQ m c h) (cG m c h) (cD m c h) (127 - n) e d := by
  rw [show r_v65_6 m c = sk1 m c 128 from keep_loop1 m c _ (by decide +kernel)]
  exact sk1_at m c h n d e 128 (Nat.le_refl _) (by omega)
theorem at_v65_5 : r_v65_5 m c (ix4 n 0 h d) = ∑ e, DF (cQ m c h) (cG m c h) (cD m c h) (127 - n) e d * SF (cK m c h) (cG m c h) (cV m c h) n e d := by
  rw [show r_v65_5 m c = dk1 m c 128 from keep_loop1 m c _ (by decide +kernel)]
  exact dk1_at m c h n d 128 (Nat.le_refl _) (by omega)

end Cert.ReferenceIdeal.Ref

end
-- ==== Proof.RefPost.lean ====
/-
  The reference's operations after its loops, as equations between what its buffers hold at the end.
-/
module

public import proofs.«01_k».proof.Proof.RefDefs
public import proofs.«01_k».proof.Proof.Math

@[expose] public section

set_option maxRecDepth 100000

noncomputable section

namespace Cert.ReferenceIdeal.Ref

open Cert.ReferenceIdeal Cert.ReferenceIdeal.Gen Cert.TwoLoops
open Idealize.ShloMosaic Idealize.ShloMosaic.TcCoe Idealize.ShloMosaic.Tactic
open Idealize.ShloMosaic.StableHlo

attribute [local irreducible] S1 S2 S3

variable {F : FTy → Type} [FloatOps F]
variable (m : (ℓ : Loc nD τ sig) → Buf (Elt Ideal) ℓ) (c : Dev nD)

theorem e_v66 : r_v66 m c = transpose S1x4x128x128x256 [1, 2, 0, 3, 4] (r_v65_6 m c) transposes_S128x1x4x128x256_S1x4x128x128x256_1_2_0_3_4 := by
  have h := una post_writes (keep_post m c) 0 main_v65_6 main_v66 rfl (by decide +kernel)
  exact h
theorem e_v67 : r_v67 m c = transpose S1x4x128x128 [1, 2, 0, 3] (r_v65_5 m c) transposes_S128x1x4x128_S1x4x128x128_1_2_0_3 := by
  have h := una post_writes (keep_post m c) 1 main_v65_5 main_v67 rfl (by decide +kernel)
  exact h
theorem e_v68 : r_v68 m c = Host.dotGeneral dot_S1x4x128x64x256_S1x4x128x64x64_S1x4x128x256x64_3_3_4_4_012_012 none (r_v57 m c) (r_v42_0 m c) := by
  have h := bin post_writes (keep_post m c) 2 main_v57 main_v42_0 main_v68 rfl (by decide +kernel)
  exact h
theorem e_v69 : r_v69 m c = transpose S1x4x128x64x256 [0, 1, 2, 4, 3] (r_v68 m c) transposes_S1x4x128x256x64_S1x4x128x64x256_0_1_2_4_3 := by
  have h := una post_writes (keep_post m c) 3 main_v68 main_v69 rfl (by decide +kernel)
  exact h
theorem e_v70 : r_v70 m c = Host.dotGeneral dot_S1x4x128x64x256_S1x4x128x64x256_S1x4x128x64x64_4_4_3_3_012_012 none (r_v57 m c) (r_v33 m c) := by
  have h := bin post_writes (keep_post m c) 4 main_v57 main_v33 main_v70 rfl (by decide +kernel)
  exact h
theorem e_call13_cst : r_call13_cst m c = (constant S_ .f32 0x00000000#32) := by
  have h := nul post_writes (keep_post m c) 5 main_call13_cst rfl (by decide +kernel)
  exact h
theorem e_call13_v0 : r_call13_v0 m c = broadcastInDim S1x4x128x64x64 ![] bcast_S_S1x4x128x64x64 (r_call13_cst m c) := by
  have h := una post_writes (keep_post m c) 6 main_call13_cst main_call13_v0 rfl (by decide +kernel)
  exact h
theorem e_v71 : r_v71 m c = select (r_v42_1 m c) (r_v70 m c) (r_call13_v0 m c) := by
  have h := ter post_writes (keep_post m c) 7 main_v42_1 main_v70 main_call13_v0 main_v71 rfl (by decide +kernel)
  exact h
theorem e_v72 : r_v72 m c = Host.dotGeneral dot_S1x4x128x64x64_S1x4x128x64x128_S1x4x128x64x128_3_3_4_4_012_012 none (r_v71 m c) (r_v35 m c) := by
  have h := bin post_writes (keep_post m c) 8 main_v71 main_v35 main_v72 rfl (by decide +kernel)
  exact h
theorem e_v73 : r_v73 m c = Host.dotGeneral dot_S1x4x128x64x64_S1x4x128x64x128_S1x4x128x64x128_4_3_3_4_012_012 none (r_v71 m c) (r_v38 m c) := by
  have h := bin post_writes (keep_post m c) 9 main_v71 main_v38 main_v73 rfl (by decide +kernel)
  exact h
theorem e_v74 : r_v74 m c = addf (r_v60 m c) (r_v73 m c) := by
  have h := bin post_writes (keep_post m c) 10 main_v60 main_v73 main_v74 rfl (by decide +kernel)
  exact h
theorem e_v75 : r_v75 m c = mulf (r_v31 m c) (r_v72 m c) := by
  have h := bin post_writes (keep_post m c) 11 main_v31 main_v72 main_v75 rfl (by decide +kernel)
  exact h
theorem e_v76 : r_v76 m c = mulf (r_v72 m c) (r_v37 m c) := by
  have h := bin post_writes (keep_post m c) 12 main_v72 main_v37 main_v76 rfl (by decide +kernel)
  exact h
theorem e_v77 : r_v77 m c = mulf (r_v75 m c) (r_v37 m c) := by
  have h := bin post_writes (keep_post m c) 13 main_v75 main_v37 main_v77 rfl (by decide +kernel)
  exact h
theorem e_v78 : r_v78 m c = Host.negf (r_v77 m c) := by
  have h := una post_writes (keep_post m c) 14 main_v77 main_v78 rfl (by decide +kernel)
  exact h
theorem e_v79 : r_v79 m c = mulf (r_v29 m c) (r_v74 m c) := by
  have h := bin post_writes (keep_post m c) 15 main_v29 main_v74 main_v79 rfl (by decide +kernel)
  exact h
theorem e_v80 : r_v80 m c = mulf (r_v74 m c) (r_v34 m c) := by
  have h := bin post_writes (keep_post m c) 16 main_v74 main_v34 main_v80 rfl (by decide +kernel)
  exact h
theorem e_v81 : r_v81 m c = mulf (r_v79 m c) (r_v34 m c) := by
  have h := bin post_writes (keep_post m c) 17 main_v79 main_v34 main_v81 rfl (by decide +kernel)
  exact h
theorem e_v82 : r_v82 m c = addf (r_v78 m c) (r_v81 m c) := by
  have h := bin post_writes (keep_post m c) 18 main_v78 main_v81 main_v82 rfl (by decide +kernel)
  exact h
theorem e_v83 : r_v83 m c = transpose S1x128x64x4x256 [0, 2, 3, 1, 4] (r_v69 m c) transposes_S1x4x128x64x256_S1x128x64x4x256_0_2_3_1_4 := by
  have h := una post_writes (keep_post m c) 19 main_v69 main_v83 rfl (by decide +kernel)
  exact h
theorem e_v84 : r_v84 m c = shapeCast S1x8192x1024 (r_v83 m c) shapeCasts_S1x128x64x4x256_S1x8192x1024 := by
  have h := rsh post_writes (keep_post m c) 20 main_v83 main_v84 rfl (by decide +kernel)
  exact h
theorem e_v85 : r_v85 m c = transpose S1x128x64x4x128 [0, 2, 3, 1, 4] (r_v76 m c) transposes_S1x4x128x64x128_S1x128x64x4x128_0_2_3_1_4 := by
  have h := una post_writes (keep_post m c) 21 main_v76 main_v85 rfl (by decide +kernel)
  exact h
theorem e_v86 : r_v86 m c = shapeCast S1x8192x512 (r_v85 m c) shapeCasts_S1x128x64x4x128_S1x8192x512 := by
  have h := rsh post_writes (keep_post m c) 22 main_v85 main_v86 rfl (by decide +kernel)
  exact h
theorem e_cst_11 : r_cst_11 m c = (constant S_ .f32 0x3DB504F3#32) := by
  have h := nul post_writes (keep_post m c) 23 main_cst_11 rfl (by decide +kernel)
  exact h
theorem e_v87 : r_v87 m c = broadcastInDim S1x4x128x64x128 ![] bcast_S_S1x4x128x64x128 (r_cst_11 m c) := by
  have h := una post_writes (keep_post m c) 24 main_cst_11 main_v87 rfl (by decide +kernel)
  exact h
theorem e_v88 : r_v88 m c = mulf (r_v80 m c) (r_v87 m c) := by
  have h := bin post_writes (keep_post m c) 25 main_v80 main_v87 main_v88 rfl (by decide +kernel)
  exact h
theorem e_v89 : r_v89 m c = transpose S1x128x64x4x128 [0, 2, 3, 1, 4] (r_v88 m c) transposes_S1x4x128x64x128_S1x128x64x4x128_0_2_3_1_4 := by
  have h := una post_writes (keep_post m c) 26 main_v88 main_v89 rfl (by decide +kernel)
  exact h
theorem e_v90 : r_v90 m c = shapeCast S1x8192x512 (r_v89 m c) shapeCasts_S1x128x64x4x128_S1x8192x512 := by
  have h := rsh post_writes (keep_post m c) 27 main_v89 main_v90 rfl (by decide +kernel)
  exact h
theorem e_v91 : r_v91 m c = mulf (r_v67 m c) (r_v25 m c) := by
  have h := bin post_writes (keep_post m c) 28 main_v67 main_v25 main_v91 rfl (by decide +kernel)
  exact h
theorem e_v92 : r_v92 m c = broadcastInDim S1x4x128x1x128 ![0, 1, 2, 4] bcast_S1x4x128x128_S1x4x128x1x128_0_1_2_4 (r_v91 m c) := by
  have h := una post_writes (keep_post m c) 29 main_v91 main_v92 rfl (by decide +kernel)
  exact h
theorem e_v93 : r_v93 m c = Host.dotGeneral dot_S1x4x128x128x256_S1x4x128x64x128_S1x4x128x256x64_3_4_4_3_012_012 none (r_v66 m c) (r_v22 m c) := by
  have h := bin post_writes (keep_post m c) 30 main_v66 main_v22 main_v93 rfl (by decide +kernel)
  exact h
theorem e_v94 : r_v94 m c = transpose S1x4x128x64x256 [0, 1, 2, 4, 3] (r_v93 m c) transposes_S1x4x128x256x64_S1x4x128x64x256_0_1_2_4_3 := by
  have h := una post_writes (keep_post m c) 31 main_v93 main_v94 rfl (by decide +kernel)
  exact h
theorem e_v95 : r_v95 m c = Host.dotGeneral dot_S1x4x128x128x256_S1x4x128x64x256_S1x4x128x128x64_4_4_3_3_012_012 none (r_v66 m c) (r_v14 m c) := by
  have h := bin post_writes (keep_post m c) 32 main_v66 main_v14 main_v95 rfl (by decide +kernel)
  exact h
theorem e_v96 : r_v96 m c = transpose S1x4x128x64x128 [0, 1, 2, 4, 3] (r_v95 m c) transposes_S1x4x128x128x64_S1x4x128x64x128_0_1_2_4_3 := by
  have h := una post_writes (keep_post m c) 33 main_v95 main_v96 rfl (by decide +kernel)
  exact h
theorem e_v97 : r_v97 m c = mulf (r_v12 m c) (r_v96 m c) := by
  have h := bin post_writes (keep_post m c) 34 main_v12 main_v96 main_v97 rfl (by decide +kernel)
  exact h
theorem e_v98 : r_v98 m c = mulf (r_v96 m c) (r_v21 m c) := by
  have h := bin post_writes (keep_post m c) 35 main_v96 main_v21 main_v98 rfl (by decide +kernel)
  exact h
theorem e_v99 : r_v99 m c = mulf (r_v97 m c) (r_v21 m c) := by
  have h := bin post_writes (keep_post m c) 36 main_v97 main_v21 main_v99 rfl (by decide +kernel)
  exact h
theorem e_cst_12 : r_cst_12 m c = (constant S_ .f32 0x00000000#32) := by
  have h := nul post_writes (keep_post m c) 37 main_cst_12 rfl (by decide +kernel)
  exact h
theorem e_v100 : r_v100 m c = Host.reduceAdd (r_v99 m c) (r_cst_12 m c) reducesTo_S1x4x128x64x128_S1x4x128x128_d3 h_S_ := by
  have h := bin post_writes (keep_post m c) 38 main_v99 main_cst_12 main_v100 rfl (by decide +kernel)
  exact h
theorem e_v101 : r_v101 m c = shapeCast S1x4x128x1x128 (r_v100 m c) shapeCasts_S1x4x128x128_S1x4x128x1x128 := by
  have h := rsh post_writes (keep_post m c) 39 main_v100 main_v101 rfl (by decide +kernel)
  exact h
theorem e_v102 : r_v102 m c = Host.negf (r_v99 m c) := by
  have h := una post_writes (keep_post m c) 40 main_v99 main_v102 rfl (by decide +kernel)
  exact h
theorem e_v103 : r_v103 m c = addf (r_v92 m c) (r_v101 m c) := by
  have h := bin post_writes (keep_post m c) 41 main_v92 main_v101 main_v103 rfl (by decide +kernel)
  exact h
theorem e_v104 : r_v104 m c = addf (r_v82 m c) (r_v102 m c) := by
  have h := bin post_writes (keep_post m c) 42 main_v82 main_v102 main_v104 rfl (by decide +kernel)
  exact h
theorem e_cst_13 : r_cst_13 m c = (constant S_ .f32 0x00000000#32) := by
  have h := nul post_writes (keep_post m c) 43 main_cst_13 rfl (by decide +kernel)
  exact h
theorem e_v105 : r_v105 m c = pad S1x4x128x64x128 ![0, 0, 0, 63, 0] ![0, 0, 0, 0, 0] ![0, 0, 0, 0, 0] (r_v103 m c) (r_cst_13 m c) pads_S1x4x128x1x128_S1x4x128x64x128_000_000_000_6300_000 h_S_ := by
  have h := bin post_writes (keep_post m c) 44 main_v103 main_cst_13 main_v105 rfl (by decide +kernel)
  exact h
theorem e_v106 : r_v106 m c = addf (r_v104 m c) (r_v105 m c) := by
  have h := bin post_writes (keep_post m c) 45 main_v104 main_v105 main_v106 rfl (by decide +kernel)
  exact h
theorem e_call14_call0_cst : r_call14_call0_cst m c = (constant S_ .f32 0x00000000#32) := by
  have h := nul post_writes (keep_post m c) 46 main_call14_call0_cst rfl (by decide +kernel)
  exact h
theorem e_call14_call0_v0 : r_call14_call0_v0 m c = broadcastInDim S_ ![] bcast_S_S_ (r_call14_call0_cst m c) := by
  have h := una post_writes (keep_post m c) 47 main_call14_call0_cst main_call14_call0_v0 rfl (by decide +kernel)
  exact h
theorem e_v107 : r_v107 m c = Host.reduceWindowAdd ![1, 1, 1, 64, 1] ![1, 1, 1, 1, 1] ![0, 0, 0, 0, 0] ![0, 0, 0, 63, 0] (r_v106 m c) (r_call14_call0_v0 m c) reduceWindows_S1x4x128x64x128_S1x4x128x64x128_w1s1p0_0_w1s1p0_0_w1s1p0_0_w64s1p0_63_w1s1p0_0 h_S_ := by
  have h := bin post_writes (keep_post m c) 48 main_v106 main_call14_call0_v0 main_v107 rfl (by decide +kernel)
  exact h
theorem e_v108 : r_v108 m c = transpose S1x128x64x4x128 [0, 2, 3, 1, 4] (r_v107 m c) transposes_S1x4x128x64x128_S1x128x64x4x128_0_2_3_1_4 := by
  have h := una post_writes (keep_post m c) 49 main_v107 main_v108 rfl (by decide +kernel)
  exact h
theorem e_v109 : r_v109 m c = shapeCast S1x8192x512 (r_v108 m c) shapeCasts_S1x128x64x4x128_S1x8192x512 := by
  have h := rsh post_writes (keep_post m c) 50 main_v108 main_v109 rfl (by decide +kernel)
  exact h
theorem e_v110 : r_v110 m c = transpose S1x128x64x4x256 [0, 2, 3, 1, 4] (r_v94 m c) transposes_S1x4x128x64x256_S1x128x64x4x256_0_2_3_1_4 := by
  have h := una post_writes (keep_post m c) 51 main_v94 main_v110 rfl (by decide +kernel)
  exact h
theorem e_v111 : r_v111 m c = shapeCast S1x8192x1024 (r_v110 m c) shapeCasts_S1x128x64x4x256_S1x8192x1024 := by
  have h := rsh post_writes (keep_post m c) 52 main_v110 main_v111 rfl (by decide +kernel)
  exact h
theorem e_v112 : r_v112 m c = addf (r_v84 m c) (r_v111 m c) := by
  have h := bin post_writes (keep_post m c) 53 main_v84 main_v111 main_v112 rfl (by decide +kernel)
  exact h
theorem e_v113 : r_v113 m c = transpose S1x128x64x4x128 [0, 2, 3, 1, 4] (r_v98 m c) transposes_S1x4x128x64x128_S1x128x64x4x128_0_2_3_1_4 := by
  have h := una post_writes (keep_post m c) 54 main_v98 main_v113 rfl (by decide +kernel)
  exact h
theorem e_v114 : r_v114 m c = shapeCast S1x8192x512 (r_v113 m c) shapeCasts_S1x128x64x4x128_S1x8192x512 := by
  have h := rsh post_writes (keep_post m c) 55 main_v113 main_v114 rfl (by decide +kernel)
  exact h
theorem e_v115 : r_v115 m c = addf (r_v86 m c) (r_v114 m c) := by
  have h := bin post_writes (keep_post m c) 56 main_v86 main_v114 main_v115 rfl (by decide +kernel)
  exact h
theorem e_cst_14 : r_cst_14 m c = (constant S_ .f32 0x41800000#32) := by
  have h := nul post_writes (keep_post m c) 57 main_cst_14 rfl (by decide +kernel)
  exact h
theorem e_v116 : r_v116 m c = broadcastInDim S1x8192x512 ![] bcast_S_S1x8192x512 (r_cst_14 m c) := by
  have h := una post_writes (keep_post m c) 58 main_cst_14 main_v116 rfl (by decide +kernel)
  exact h
theorem e_v117 : r_v117 m c = Host.divf (r_v109 m c) (r_v116 m c) := by
  have h := bin post_writes (keep_post m c) 59 main_v109 main_v116 main_v117 rfl (by decide +kernel)
  exact h
theorem e_call15_v0 : r_call15_v0 m c = Host.negf (r_v117 m c) := by
  have h := una post_writes (keep_post m c) 60 main_v117 main_call15_v0 rfl (by decide +kernel)
  exact h
theorem e_call15_v1 : r_call15_v1 m c = mulf (r_call15_v0 m c) (r_v8_1 m c) := by
  have h := bin post_writes (keep_post m c) 61 main_call15_v0 main_v8_1 main_call15_v1 rfl (by decide +kernel)
  exact h
theorem e_v118 : r_v118 m c = Host.negf (r_call15_v1 m c) := by
  have h := una post_writes (keep_post m c) 62 main_call15_v1 main_v118 rfl (by decide +kernel)
  exact h
theorem e_cst_15 : r_cst_15 m c = (constant S_ .f32 0x00000000#32) := by
  have h := nul post_writes (keep_post m c) 63 main_cst_15 rfl (by decide +kernel)
  exact h
theorem e_v119 : r_v119 m c = Host.reduceAdd (r_v118 m c) (r_cst_15 m c) reducesTo_S1x8192x512_S1x512_d1 h_S_ := by
  have h := bin post_writes (keep_post m c) 64 main_v118 main_cst_15 main_v119 rfl (by decide +kernel)
  exact h
theorem e_v120 : r_v120 m c = shapeCast S1x1x512 (r_v119 m c) shapeCasts_S1x512_S1x1x512 := by
  have h := rsh post_writes (keep_post m c) 65 main_v119 main_v120 rfl (by decide +kernel)
  exact h
theorem e_cst_16 : r_cst_16 m c = (constant S_ .f32 0x00000000#32) := by
  have h := nul post_writes (keep_post m c) 66 main_cst_16 rfl (by decide +kernel)
  exact h
theorem e_v121 : r_v121 m c = Host.reduceAdd (r_v120 m c) (r_cst_16 m c) reducesTo_S1x1x512_S512_d0_1 h_S_ := by
  have h := bin post_writes (keep_post m c) 67 main_v120 main_cst_16 main_v121 rfl (by decide +kernel)
  exact h
theorem e_v122 : r_v122 m c = shapeCast S8192x1024 (r_v54 m c) shapeCasts_S1x8192x1024_S8192x1024 := by
  have h := rsh post_writes (keep_post m c) 68 main_v54 main_v122 rfl (by decide +kernel)
  exact h
theorem e_v123 : r_v123 m c = shapeCast S8192x512 (r_v90 m c) shapeCasts_S1x8192x512_S8192x512 := by
  have h := rsh post_writes (keep_post m c) 69 main_v90 main_v123 rfl (by decide +kernel)
  exact h
theorem e_v124 : r_v124 m c = truncf .bf16 (r_v123 m c) bitsLt_bf16_f32 := by
  have h := una post_writes (keep_post m c) 70 main_v123 main_v124 rfl (by decide +kernel)
  exact h
theorem e_v125 : r_v125 m c = shapeCast S8192x512 (r_v115 m c) shapeCasts_S1x8192x512_S8192x512 := by
  have h := rsh post_writes (keep_post m c) 71 main_v115 main_v125 rfl (by decide +kernel)
  exact h
theorem e_v126 : r_v126 m c = truncf .bf16 (r_v125 m c) bitsLt_bf16_f32 := by
  have h := una post_writes (keep_post m c) 72 main_v125 main_v126 rfl (by decide +kernel)
  exact h
theorem e_v127 : r_v127 m c = shapeCast S8192x1024 (r_v112 m c) shapeCasts_S1x8192x1024_S8192x1024 := by
  have h := rsh post_writes (keep_post m c) 73 main_v112 main_v127 rfl (by decide +kernel)
  exact h
theorem e_v128 : r_v128 m c = truncf .bf16 (r_v127 m c) bitsLt_bf16_f32 := by
  have h := una post_writes (keep_post m c) 74 main_v127 main_v128 rfl (by decide +kernel)
  exact h
theorem e_v129 : r_v129 m c = shapeCast S8192x512 (r_v118 m c) shapeCasts_S1x8192x512_S8192x512 := by
  have h := rsh post_writes (keep_post m c) 75 main_v118 main_v129 rfl (by decide +kernel)
  exact h
theorem e_v130 : r_v130 m c = broadcastInDim S1x512 ![1] bcast_S512_S1x512_1 (r_v121 m c) := by
  have h := una post_writes (keep_post m c) 76 main_v121 main_v130 rfl (by decide +kernel)
  exact h
end Cert.ReferenceIdeal.Ref

end
-- ==== Proof.RefBwd.lean ====
/-
  The reference's cotangents within the chunks.
-/
module

public import proofs.«01_k».proof.Proof.RefBack
public import proofs.«01_k».proof.Proof.RefPost
import Idealize.ShloMosaic.Lib.Pointwise

@[expose] public section

set_option maxRecDepth 16384

noncomputable section

namespace Cert.ReferenceIdeal.Ref

open Cert.ReferenceIdeal.Gen Cert.Gla
open Idealize.ShloMosaic Idealize.ShloMosaic.TcCoe

attribute [local irreducible] S1 S2 S3

variable (m : (ℓ : Loc nD τ sig) → Buf (Elt Ideal) ℓ) (c : Dev nD)
variable (h : Fin 4) (n : Fin 128) (r s : Fin 64) (d : Fin 128) (e : Fin 256)

/-- The state before chunk `n`, and the cotangent of the state after it. -/
abbrev cS (n : ℕ) : State := SF (cK m c h) (cG m c h) (cV m c h) n
abbrev cT (n : ℕ) : State := DF (cQ m c h) (cG m c h) (cD m c h) (127 - n)

/-! ## Within the chunks -/

theorem at_v66 : r_v66 m c (ix5 0 h n d e) = (cT m c h n) e d := by
  rw [e_v66]
  pointwise
  exact at_v65_6 m c h n d e

theorem at_v67 : r_v67 m c (ix4 0 h n d) = ∑ e, (cT m c h n) e d * (cS m c h n) e d := by
  rw [e_v67]
  pointwise
  exact at_v65_5 m c h n d

theorem at_v69 : r_v69 m c (ix5 0 h n s e) = ∑ r, aM (cQ m c h n) (cK m c h n) (cG m c h n) r s * cD m c h n r e := by
  rw [e_v69, e_v68]
  pointwise
  exact Finset.sum_congr rfl fun r _ => by rw [at_v57, at_v42_0, mul_comm]

theorem at_v71 : r_v71 m c (ix5 0 h n r s) = dA (cV m c h n) (cD m c h n) r s := by
  rw [e_v71, e_v70, e_call13_v0, e_call13_cst]
  pointwise
  rw [at_mask, pick_bit]
  simp only [at_v57, at_v33]
  rfl

theorem at_v72 : r_v72 m c (ix5 0 h n s d) = dKt (cQ m c h n) (cG m c h n) (cV m c h n) (cD m c h n) s d := by
  rw [e_v72]
  pointwise
  exact Finset.sum_congr rfl fun r _ => by rw [at_v71, at_v35]

theorem at_v74 : r_v74 m c (ix5 0 h n r d) = dQt (cK m c h n) (cG m c h n) (cV m c h n) (cD m c h n) (cS m c h n) r d := by
  rw [e_v74, e_v73]
  pointwise
  rw [at_v60, add_comm]
  refine congrArg (· + _) (Finset.sum_congr rfl fun s _ => ?_)
  rw [at_v71, at_v38]

theorem at_v76 : r_v76 m c (ix5 0 h n s d) = dKt (cQ m c h n) (cG m c h n) (cV m c h n) (cD m c h n) s d * eN (cG m c h n) s d := by
  rw [e_v76]
  pointwise
  rw [at_v72, at_v37]

theorem at_v77 : r_v77 m c (ix5 0 h n s d) = dKt (cQ m c h n) (cG m c h n) (cV m c h n) (cD m c h n) s d * kT (cK m c h n) (cG m c h n) s d := by
  rw [e_v77, e_v75]
  pointwise
  rw [at_v72, at_v37, at_v31, kT, mul_comm (cK m c h n s d), mul_assoc]

theorem at_v88 : r_v88 m c (ix5 0 h n r d) = dQ (cK m c h n) (cG m c h n) (cV m c h n) (cD m c h n) (cS m c h n) r d := by
  rw [e_v88, e_v87, e_cst_11, e_v80]
  pointwise
  rw [at_v74, at_v34]
  rfl

theorem at_v81 : r_v81 m c (ix5 0 h n r d) = dQt (cK m c h n) (cG m c h n) (cV m c h n) (cD m c h n) (cS m c h n) r d * qT (cQ m c h n) (cG m c h n) r d := by
  rw [e_v81, e_v79]
  pointwise
  rw [at_v74, at_v34, at_v29, qT, mul_comm (cQ m c h n r d * scale), mul_assoc]

theorem at_v96 : r_v96 m c (ix5 0 h n s d) = dKd (cV m c h n) (cT m c h n) s d := by
  rw [e_v96, e_v95]
  pointwise
  exact Finset.sum_congr rfl fun e _ => by rw [at_v66, at_v14, mul_comm]

theorem at_v94 : r_v94 m c (ix5 0 h n s e) = ∑ d, kD (cK m c h n) (cG m c h n) s d * (cT m c h n) e d := by
  rw [e_v94, e_v93]
  pointwise
  exact Finset.sum_congr rfl fun d _ => by rw [at_v66, at_v22, mul_comm]

theorem at_v98 : r_v98 m c (ix5 0 h n s d) = dKd (cV m c h n) (cT m c h n) s d * eL (cG m c h n) s d := by
  rw [e_v98]
  pointwise
  rw [at_v96, at_v21]

theorem at_v99 : r_v99 m c (ix5 0 h n s d) = dKd (cV m c h n) (cT m c h n) s d * kD (cK m c h n) (cG m c h n) s d := by
  rw [e_v99, e_v97]
  pointwise
  rw [at_v96, at_v21, at_v12, kD, mul_comm (cK m c h n s d), mul_assoc]

theorem at_v103 : r_v103 m c (ix5 0 h n 0 d) = dL (cK m c h n) (cG m c h n) (cV m c h n) (cS m c h n) (cT m c h n) d := by
  rw [e_v103, e_v92, e_v91, e_v101, e_v100, e_cst_12]
  pointwise
  simp only [at_v99]
  rw [at_v67, at_v25, dL, add_comm, mul_comm]

theorem at_v104 : r_v104 m c (ix5 0 h n s d) = dB (cQ m c h n) (cK m c h n) (cG m c h n) (cV m c h n) (cD m c h n) (cS m c h n) (cT m c h n) s d := by
  rw [e_v104, e_v82, e_v78, e_v102]
  pointwise
  rw [at_v77, at_v81, at_v99, dB, sub_eq_add_neg, sub_eq_add_neg]
  exact congrArg (· + _) (add_comm _ _)

theorem at_v106 : r_v106 m c (ix5 0 h n s d) = dB (cQ m c h n) (cK m c h n) (cG m c h n) (cV m c h n) (cD m c h n) (cS m c h n) (cT m c h n) s d
    + if s = 63 then dL (cK m c h n) (cG m c h n) (cV m c h n) (cS m c h n) (cT m c h n) d else 0 := by
  rw [e_v106, e_v105, e_cst_13]
  pointwise
  rw [at_v104]
  refine congrArg _ ?_
  by_cases q : s = 63
  · subst q
    rw [if_pos rfl, dif_pos ⟨by decide, by decide⟩]
    exact at_v103 m c h n d
  · rw [if_neg q, dif_neg fun w => q (Fin.ext (by show s.val = 63; omega))]

theorem at_v107 : r_v107 m c (ix5 0 h n r d) = dG (cQ m c h n) (cK m c h n) (cG m c h n) (cV m c h n) (cD m c h n) (cS m c h n) (cT m c h n) r d := by
  rw [e_v107, e_call14_call0_v0, e_call14_call0_cst]
  refine (sum_up _ _ ?_ h n r d _).trans ?_
  · pointwise
  · have one : ∑ s : Fin 64, (if r ≤ s then (if s = 63 then dL (cK m c h n) (cG m c h n) (cV m c h n) (cS m c h n) (cT m c h n) d else 0) else 0) = dL (cK m c h n) (cG m c h n) (cV m c h n) (cS m c h n) (cT m c h n) d := by
      rw [Finset.sum_eq_single (63 : Fin 64) (fun s _ hs => by rw [if_neg hs, ite_self]) (fun w => absurd (Finset.mem_univ _) w), if_pos rfl, if_pos (show r ≤ 63 from Fin.le_last r)]
    rw [dG, ← one, ← Finset.sum_add_distrib]
    refine Finset.sum_congr rfl fun s _ => ?_
    rw [at_v106]
    split
    · rfl
    · exact (add_zero _).symm

end Cert.ReferenceIdeal.Ref

end
-- ==== Proof.RefEnd.lean ====
/-
  The reference's results, entry by entry.
-/
module

public import proofs.«01_k».proof.Proof.RefBwd
import Idealize.ShloMosaic.Lib.Pointwise

@[expose] public section

set_option maxRecDepth 16384

noncomputable section

namespace Cert.ReferenceIdeal.Ref

open Cert.ReferenceIdeal.Gen Cert.Gla
open Idealize.ShloMosaic Idealize.ShloMosaic.TcCoe

attribute [local irreducible] S1 S2 S3

variable (m : (ℓ : Loc nD τ sig) → Buf (Elt Ideal) ℓ) (c : Dev nD)
variable (h : Fin 4) (n : Fin 128) (r s : Fin 64) (d : Fin 128) (e : Fin 256)

/-! ## The results, row by row -/

/-- The head, chunk and column of column `C`, the chunk and place of row `R`. -/
def hdR (C : Fin 512) : Fin 4 := ⟨C.val / 128, by omega⟩
def coR (C : Fin 512) : Fin 128 := ⟨C.val % 128, by omega⟩
def hdV (C : Fin 1024) : Fin 4 := ⟨C.val / 256, by omega⟩
def coV (C : Fin 1024) : Fin 256 := ⟨C.val % 256, by omega⟩
def chk (R : Fin 8192) : Fin 128 := ⟨R.val / 64, by omega⟩
def plc (R : Fin 8192) : Fin 64 := ⟨R.val % 64, by omega⟩

variable (R : Fin 8192)

theorem end_o (C : Fin 1024) : r_v122 m c (ix2 R C) = seqO (cQ m c (hdV C)) (cK m c (hdV C)) (cG m c (hdV C)) (cV m c (hdV C)) (chk R).val (plc R) (coV C) := by
  rw [e_v122, e_v54, e_v53]
  pointwise
  exact at_v52 m c (hdV C) (chk R) (plc R) (coV C)

theorem end_dq (C : Fin 512) : r_v124 m c (ix2 R C) = seqDQ (cK m c (hdR C)) (cG m c (hdR C)) (cV m c (hdR C)) (cD m c (hdR C)) (chk R).val (plc R) (coR C) := by
  rw [e_v124, e_v123, e_v90, e_v89]
  pointwise
  exact at_v88 m c (hdR C) (chk R) (plc R) (coR C)

theorem end_dk (C : Fin 512) : r_v126 m c (ix2 R C) = seqDK (cQ m c (hdR C)) (cG m c (hdR C)) (cV m c (hdR C)) (cD m c (hdR C)) (chk R).val (plc R) (coR C) := by
  rw [e_v126, e_v125, e_v115, e_v86, e_v85, e_v114, e_v113]
  pointwise
  exact congrArg₂ (· + ·) (at_v76 m c (hdR C) (chk R) (plc R) (coR C)) (at_v98 m c (hdR C) (chk R) (plc R) (coR C))

theorem end_dv (C : Fin 1024) : r_v128 m c (ix2 R C) = seqDV (cQ m c (hdV C)) (cK m c (hdV C)) (cG m c (hdV C)) (cD m c (hdV C)) (chk R).val (plc R) (coV C) := by
  rw [e_v128, e_v127, e_v112, e_v84, e_v83, e_v111, e_v110]
  pointwise
  exact congrArg₂ (· + ·) (at_v69 m c (hdV C) (chk R) (plc R) (coV C)) (at_v94 m c (hdV C) (chk R) (plc R) (coV C))

theorem at_v118 (C : Fin 512) : r_v118 m c (ix3 0 R C)
    = seqDZ (cQ m c (hdR C)) (cK m c (hdR C)) (cG m c (hdR C)) (cZ m c (hdR C)) (cV m c (hdR C)) (cD m c (hdR C)) (chk R).val (plc R) (coR C) := by
  have hz : r_v7 m c (ix3 0 R C) = cZ m c (hdR C) (chk R).val (plc R) (coR C) := by
    refine (rc (fun x y => r_v7 m c (ix3 0 x y)) (x' := row (chk R).val (plc R)) (y' := ⟨128 * (hdR C).val + (coR C).val, by have := (hdR C).isLt; have := (coR C).isLt; omega⟩) ?_ ?_).trans ?_
    · rw [row_val]; show R.val = 64 * (R.val / 64) + R.val % 64; omega
    · show C.val = 128 * (C.val / 128) + C.val % 128; omega
    · rw [at_v7]; rfl
  rw [e_v118, e_call15_v1, e_call15_v0, e_v117, e_v116, e_cst_14, e_v109, e_v108]
  pointwise
  rw [at_v8_1, div_sixteen, hz, neg_mul, neg_neg]
  exact congrArg (fun x => x * tau' * _) (at_v107 m c (hdR C) (chk R) (plc R) (coR C))

theorem end_dz (C : Fin 512) : r_v129 m c (ix2 R C)
    = seqDZ (cQ m c (hdR C)) (cK m c (hdR C)) (cG m c (hdR C)) (cZ m c (hdR C)) (cV m c (hdR C)) (cD m c (hdR C)) (chk R).val (plc R) (coR C) := by
  rw [e_v129]
  pointwise
  exact at_v118 m c R C

/-- Over all rows, chunk by chunk from the last. -/
theorem sum_rows (f : ℕ → Fin 64 → EReal) (B : ℕ → EReal) (h0 : B 0 = 0) (hs : ∀ k, B (k + 1) = B k + ∑ r, f (127 - k) r) :
    ∑ R : Fin 8192, f (chk R).val (plc R) = B 128 := by
  have hB : ∀ k, B k = ∑ i ∈ Finset.range k, ∑ r, f (127 - i) r := fun k => by
    induction k with
    | zero => rw [h0, Finset.sum_range_zero]
    | succ k ih => rw [hs, ih, Finset.sum_range_succ]
  rw [hB, Finset.sum_range_reflect (fun i => ∑ r, f i r) 128, Finset.sum_range (fun i => ∑ r, f i r), ← Fintype.sum_prod_type' (fun (i : Fin 128) r => f i.val r)]
  refine (Fintype.sum_equiv (finProdFinEquiv (m := 128) (n := 64)) _ _ fun p => ?_).symm
  obtain ⟨i, r⟩ := p
  have hv : (finProdFinEquiv (m := 128) (n := 64) (i, r)).val = r.val + 64 * i.val := rfl
  have h1 : (chk (finProdFinEquiv (m := 128) (n := 64) (i, r))) = i := Fin.ext (by show (finProdFinEquiv (m := 128) (n := 64) (i, r)).val / 64 = _; rw [hv]; omega)
  have h2 : (plc (finProdFinEquiv (m := 128) (n := 64) (i, r))) = r := Fin.ext (by show (finProdFinEquiv (m := 128) (n := 64) (i, r)).val % 64 = _; rw [hv]; omega)
  exact (congrArg₂ (fun (a : Fin 128) b => f a.val b) h1 h2).symm

theorem end_db (C : Fin 512) : r_v130 m c (ix2 0 C)
    = BF (cQ m c (hdR C)) (cK m c (hdR C)) (cG m c (hdR C)) (cZ m c (hdR C)) (cV m c (hdR C)) (cD m c (hdR C)) 128 (coR C) := by
  rw [e_v130, e_v121, e_v120, e_v119, e_cst_15, e_cst_16]
  pointwise
  rw [one_row, zero_add]
  pointwise
  simp only [at_v118]
  exact sum_rows (fun n r => seqDZ (cQ m c (hdR C)) (cK m c (hdR C)) (cG m c (hdR C)) (cZ m c (hdR C)) (cV m c (hdR C)) (cD m c (hdR C)) n r (coR C))
    (fun k => BF (cQ m c (hdR C)) (cK m c (hdR C)) (cG m c (hdR C)) (cZ m c (hdR C)) (cV m c (hdR C)) (cD m c (hdR C)) k (coR C)) rfl fun _ => rfl

end Cert.ReferenceIdeal.Ref

end
-- ==== Proof.Same.lean ====
/-
  The two programs' results, entry by entry the same terms of the same arguments.
-/
module

public import proofs.«01_k».proof.Defs
public import proofs.«01_k».proof.Proof.Frames
public import proofs.«01_k».proof.Proof.KernelVal
public import proofs.«01_k».proof.Proof.RefEnd

@[expose] public section

set_option maxRecDepth 16384

noncomputable section

namespace Cert.Proof

open Cert.KernelIdeal.Gla (a0 a1 a2 a3 rowAt)
open Cert.ReferenceIdeal.Ref
open Cert.Gla
open Idealize.ShloMosaic Idealize.ShloMosaic.TcCoe Idealize.SL.Sem

attribute [local irreducible] S1 S2 S3

section Same

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)
variable (E0 : r_arg0 m' c = a0 m c) (E1 : r_arg1 m' c = a1 m c) (E2 : r_arg2 m' c = a2 m c) (E3 : r_arg3 m' c = a3 m c)

include E0 in
theorem same_q (h : Fin 4) : cQ m' c h = xQ (a0 m c) h := by rw [← E0]; rfl
include E0 in
theorem same_k (h : Fin 4) : cK m' c h = xK (a0 m c) h := by rw [← E0]; rfl
include E0 in
theorem same_v (h : Fin 4) : cV m' c h = xV (a0 m c) h := by rw [← E0]; rfl
include E0 E1 E2 in
theorem same_z (h : Fin 4) : cZ m' c h = xZ (a0 m c) (a1 m c) (a2 m c) h := by rw [← E0, ← E1, ← E2]; rfl
include E0 E1 E2 in
theorem same_g (h : Fin 4) : cG m' c h = xG (a0 m c) (a1 m c) (a2 m c) h := by rw [← E0, ← E1, ← E2]; rfl
include E3 in
theorem same_d (h : Fin 4) : cD m' c h = xD (a3 m c) h := by rw [← E3]; rfl

theorem two {A B : ℕ} (y : (⟨2, ![A, B]⟩ : Shape).Idx) : y = ix2 (y 0) (y 1) := by
  funext a; fin_cases a <;> rfl

include E0 E1 E2 in
theorem same_o : r_v122 m' c = rowAt (w := 256) (W := 1024) rfl (fun h => xO (a0 m c) (a1 m c) (a2 m c) h) := by
  funext y
  rw [two y]
  refine (end_o m' c _ _).trans ?_
  rw [same_q m m' c E0, same_k m m' c E0, same_v m m' c E0, same_g m m' c E0 E1 E2]
  rfl

include E0 E1 E2 E3 in
theorem same_dq : r_v124 m' c = rowAt (w := 128) (W := 512) rfl (fun h => xdQ (a0 m c) (a1 m c) (a2 m c) (a3 m c) h) := by
  funext y
  rw [two y]
  refine (end_dq m' c _ _).trans ?_
  rw [same_k m m' c E0, same_v m m' c E0, same_g m m' c E0 E1 E2, same_d m m' c E3]
  rfl

include E0 E1 E2 E3 in
theorem same_dk : r_v126 m' c = rowAt (w := 128) (W := 512) rfl (fun h => xdK (a0 m c) (a1 m c) (a2 m c) (a3 m c) h) := by
  funext y
  rw [two y]
  refine (end_dk m' c _ _).trans ?_
  rw [same_q m m' c E0, same_v m m' c E0, same_g m m' c E0 E1 E2, same_d m m' c E3]
  rfl

include E0 E1 E2 E3 in
theorem same_dv : r_v128 m' c = rowAt (w := 256) (W := 1024) rfl (fun h => xdV (a0 m c) (a1 m c) (a2 m c) (a3 m c) h) := by
  funext y
  rw [two y]
  refine (end_dv m' c _ _).trans ?_
  rw [same_q m m' c E0, same_k m m' c E0, same_g m m' c E0 E1 E2, same_d m m' c E3]
  rfl

include E0 E1 E2 E3 in
theorem same_dz : r_v129 m' c = rowAt (w := 128) (W := 512) rfl (fun h => xdZ (a0 m c) (a1 m c) (a2 m c) (a3 m c) h) := by
  funext y
  rw [two y]
  refine (end_dz m' c _ _).trans ?_
  rw [same_q m m' c E0, same_k m m' c E0, same_v m m' c E0, same_g m m' c E0 E1 E2, same_z m m' c E0 E1 E2, same_d m m' c E3]
  rfl

include E0 E1 E2 E3 in
theorem same_db : r_v130 m' c = fun y : Cert.KernelIdeal.S1x512.Idx =>
    xdB (a0 m c) (a1 m c) (a2 m c) (a3 m c) ⟨(y 1).val / 128, by have h : (y 1).val < 512 := (y 1).isLt; omega⟩ 128 ⟨(y 1).val % 128, Nat.mod_lt _ (by decide)⟩ := by
  funext y
  have h0 : y = ix2 0 (y 1) := by
    rw [two y]; exact congrArg (fun a => ix2 a (y 1)) (Subsingleton.elim (α := Fin 1) _ _)
  rw [h0]
  refine (end_db m' c _).trans ?_
  rw [same_q m m' c E0, same_k m m' c E0, same_v m m' c E0, same_g m m' c E0 E1 E2, same_z m m' c E0 E1 E2, same_d m m' c E3]
  rfl

end Same

/-- The values the two programs share. -/
theorem algebraic : @Cert.algebraic_KernelIdeal_ReferenceIdeal Cert.KernelIdeal.Gen.facts Cert.ReferenceIdeal.Gen.facts := by
  intro m g m' g' hpre hagree
  have E0 : ∀ c, r_arg0 m' c = a0 m c := fun c => (arg_kept m' c (by decide +kernel)).trans (hagree c).1
  have E1 : ∀ c, r_arg1 m' c = a1 m c := fun c => (arg_kept m' c (by decide +kernel)).trans (hagree c).2.1
  have E2 : ∀ c, r_arg2 m' c = a2 m c := fun c => (arg_kept m' c (by decide +kernel)).trans (hagree c).2.2.1
  have E3 : ∀ c, r_arg3 m' c = a3 m c := fun c => (arg_kept m' c (by decide +kernel)).trans (hagree c).2.2.2
  refine ⟨fun c => r_v122 m' c, fun c => r_v124 m' c, fun c => r_v126 m' c, fun c => r_v128 m' c, fun c => r_v129 m' c, fun c => r_v130 m' c, ?_, ?_⟩
  · refine (θ_run Cert.KernelIdeal.defs _ _).mono (fun r h c => ?_) (Cert.KernelIdeal.Gla.results (F := Ideal) m g)
    obtain ⟨h0, h1, h2, h3, h4, h5, h6⟩ := h c
    exact ⟨h0.trans ((Cert.KernelIdeal.Gla.val_o m c).trans (same_o m m' c (E0 c) (E1 c) (E2 c)).symm),
      h1.trans ((Cert.KernelIdeal.Gla.val_dq m c).trans (same_dq m m' c (E0 c) (E1 c) (E2 c) (E3 c)).symm),
      h2.trans ((Cert.KernelIdeal.Gla.val_dk m c).trans (same_dk m m' c (E0 c) (E1 c) (E2 c) (E3 c)).symm),
      h3.trans ((Cert.KernelIdeal.Gla.val_dv m c).trans (same_dv m m' c (E0 c) (E1 c) (E2 c) (E3 c)).symm),
      h4.trans ((Cert.KernelIdeal.Gla.val_dz m c).trans (same_dz m m' c (E0 c) (E1 c) (E2 c) (E3 c)).symm),
      h5.trans ((Cert.KernelIdeal.Gla.val_db m c).trans (same_db m m' c (E0 c) (E1 c) (E2 c) (E3 c)).symm), h6⟩
  · refine (θ_run Cert.ReferenceIdeal.defs _ _).mono (fun r h c => ?_) (Cert.ReferenceIdeal.Ref.run (F := Ideal) m' g')
    exact ⟨h c _ (by decide +kernel), h c _ (by decide +kernel), h c _ (by decide +kernel), h c _ (by decide +kernel), h c _ (by decide +kernel), h c _ (by decide +kernel),
      (h c _ (by decide +kernel)).trans (arg_kept m' c (by decide +kernel)), (h c _ (by decide +kernel)).trans (arg_kept m' c (by decide +kernel)),
      (h c _ (by decide +kernel)).trans (arg_kept m' c (by decide +kernel)), (h c _ (by decide +kernel)).trans (arg_kept m' c (by decide +kernel))⟩

end Cert.Proof

end
-- ==== Proof.Prod.lean ====
/- Arrays read at natural numbers, and a product summed block by block. -/
module

public import Idealize.ShloMosaic.Lib.Pointwise
public import Idealize.ShloMosaic.Lib.Pipeline.ValueKit
public import Idealize.ShloMosaic.Lib.Claim

@[expose] public section

noncomputable section

namespace Cert.Prod

open Idealize.ShloMosaic

theorem z2 : (![0, 0] : Fin 2 → Nat) = fun _ => 0 := funext fun a => by fin_cases a <;> rfl
theorem z3 : (![0, 0, 0] : Fin 3 → Nat) = fun _ => 0 := funext fun a => by fin_cases a <;> rfl

/-- A matrix at a row and a column, zero outside. -/
def at2 {a b : ℕ} (x : (⟨2, ![a, b]⟩ : Shape).Idx → EReal) (i j : ℕ) : EReal :=
  if h : i < a ∧ j < b then x (ix2 ⟨i, h.1⟩ ⟨j, h.2⟩) else 0

/-- A stack of matrices at a place, a row and a column, zero outside. -/
def at3 {a b d : ℕ} (x : (⟨3, ![a, b, d]⟩ : Shape).Idx → EReal) (i j k : ℕ) : EReal :=
  if h : i < a ∧ j < b ∧ k < d then x (ix3 ⟨i, h.1⟩ ⟨j, h.2.1⟩ ⟨k, h.2.2⟩) else 0

theorem at2_of {a b : ℕ} (x : (⟨2, ![a, b]⟩ : Shape).Idx → EReal) (y : (⟨2, ![a, b]⟩ : Shape).Idx) {i j : ℕ}
    (hi : (y 0).val = i) (hj : (y 1).val = j) : x y = at2 x i j := by
  subst hi hj
  have h : (y 0).val < a ∧ (y 1).val < b := ⟨(y 0).isLt, (y 1).isLt⟩
  rw [at2, dif_pos h]
  exact congrArg x (funext fun a => by fin_cases a <;> rfl)

theorem at3_of {a b d : ℕ} (x : (⟨3, ![a, b, d]⟩ : Shape).Idx → EReal) (y : (⟨3, ![a, b, d]⟩ : Shape).Idx) {i j k : ℕ}
    (hi : (y 0).val = i) (hj : (y 1).val = j) (hk : (y 2).val = k) : x y = at3 x i j k := by
  subst hi hj hk
  have h : (y 0).val < a ∧ (y 1).val < b ∧ (y 2).val < d := ⟨(y 0).isLt, (y 1).isLt, (y 2).isLt⟩
  rw [at3, dif_pos h]
  exact congrArg x (funext fun a => by fin_cases a <;> rfl)

theorem at2_lt {a b : ℕ} (x : (⟨2, ![a, b]⟩ : Shape).Idx → EReal) {i j : ℕ} (hi : i < a) (hj : j < b) : at2 x i j = x (ix2 ⟨i, hi⟩ ⟨j, hj⟩) :=
  dif_pos ⟨hi, hj⟩

/-- An index is told by its coordinates. -/
theorem ext2 {a b : ℕ} {y z : (⟨2, ![a, b]⟩ : Shape).Idx} (h0 : (y 0).val = (z 0).val) (h1 : (y 1).val = (z 1).val) : y = z := by
  funext i
  fin_cases i
  exacts [Fin.ext h0, Fin.ext h1]

theorem ext3 {a b d : ℕ} {y z : (⟨3, ![a, b, d]⟩ : Shape).Idx} (h0 : (y 0).val = (z 0).val) (h1 : (y 1).val = (z 1).val) (h2 : (y 2).val = (z 2).val) : y = z := by
  funext i
  fin_cases i
  exacts [Fin.ext h0, Fin.ext h1, Fin.ext h2]

/-- The one member of a stack of one. -/
theorem layer {a b : ℕ} (x : (⟨3, ![1, a, b]⟩ : Shape).Idx → EReal) (h : (⟨3, ![1, a, b]⟩ : Shape).ShapeCasts ⟨2, ![a, b]⟩) :
    shapeCast ⟨2, ![a, b]⟩ x h = fun y => at3 x 0 (y 0).val (y 1).val := by
  funext y
  refine (shapeCast_apply x h y (ix3 0 (y 0) (y 1)) ?_).trans (at3_of x _ rfl rfl rfl)
  rw [Shape.rowMajor_val_three, Shape.rowMajor_val_two]
  show (0 * a + (y 0).val) * b + (y 1).val = _
  rw [zero_mul, zero_add]
  rfl

/-- A matrix laid out anew: the element at the same place of the whole. -/
theorem relaid {a b a' b' : ℕ} (x : (⟨2, ![a, b]⟩ : Shape).Idx → EReal) (h : (⟨2, ![a, b]⟩ : Shape).ShapeCasts ⟨2, ![a', b']⟩) :
    shapeCast ⟨2, ![a', b']⟩ x h = fun y => at2 x (((y 0).val * b' + (y 1).val) / b) (((y 0).val * b' + (y 1).val) % b) := by
  funext y
  obtain ⟨k, hk⟩ : ∃ k : (⟨2, ![a, b]⟩ : Shape).Idx, k = Shape.reshapeEquiv h y := ⟨_, rfl⟩
  have e : ((⟨2, ![a, b]⟩ : Shape).rowMajor k).val = ((⟨2, ![a', b']⟩ : Shape).rowMajor y).val := by
    rw [hk]; simp [Shape.reshapeEquiv]
  rw [Shape.rowMajor_val_two, Shape.rowMajor_val_two] at e
  have e : (k 0).val * b + (k 1).val = (y 0).val * b' + (y 1).val := e
  have hb : (k 1).val < b := (k 1).isLt
  show x (Shape.reshapeEquiv h y) = _
  rw [← hk, ← e]
  refine at2_of x k ?_ ?_
  · rw [mul_comm, Nat.mul_add_div (by omega), Nat.div_eq_of_lt hb, add_zero]
  · rw [mul_comm, Nat.mul_add_mod, Nat.mod_eq_of_lt hb]

/-- A sum over blocks of equal length is the sum over all of them laid end to end. -/
theorem sum_blocks (f : ℕ → EReal) (n t : ℕ) :
    ∑ r ∈ Finset.range n, ∑ k : Fin t, f (r * t + k.val) = ∑ k : Fin (n * t), f k.val := by
  rw [← Finset.sum_range (fun k => f k)]
  induction n with
  | zero => simp
  | succ n ih => rw [Finset.sum_range_succ, ih, Nat.succ_mul, Finset.sum_range_add, Finset.sum_range (fun k => f (n * t + k))]

/-- What a buffer holds that is set at the points that begin a run of `K` and added to at the others. -/
theorem run_sum {ι : Type} {N K : ℕ} (s : (n : ℕ) → n < N → ι → EReal) (M : ℕ → ι → EReal)
    (h0 : ∀ n (h : n < N), n % K = 0 → s n h = M n)
    (h1 : ∀ n (h : n + 1 < N), (n + 1) % K ≠ 0 → ∀ i, s (n + 1) h i = s n (Nat.lt_of_succ_lt h) i + M (n + 1) i)
    (b : ℕ) : ∀ (j : ℕ) (h : K * b + j < N), j < K → ∀ i, s (K * b + j) h i = ∑ r ∈ Finset.range (j + 1), M (K * b + r) i
  | 0, h, _, i => by
    rw [h0 (K * b + 0) h (by simp)]; simp
  | j + 1, h, hj, i => by
    rw [Finset.sum_range_succ, ← run_sum s M h0 h1 b j (Nat.lt_of_succ_lt h) (Nat.lt_of_succ_lt hj) i]
    refine h1 (K * b + j) h ?_ i
    rw [show K * b + j + 1 = (j + 1) + K * b by ring, Nat.add_mul_mod_self_left, Nat.mod_eq_of_lt hj]
    omega

/-- The last point of a run: the whole sum, its blocks `K` of length `t`. -/
theorem run_total {ι : Type} {N K : ℕ} (t : ℕ) (hK : 0 < K) (s : (n : ℕ) → n < N → ι → EReal) (M : ℕ → ι → EReal)
    (h0 : ∀ n (h : n < N), n % K = 0 → s n h = M n)
    (h1 : ∀ n (h : n + 1 < N), (n + 1) % K ≠ 0 → ∀ i, s (n + 1) h i = s n (Nat.lt_of_succ_lt h) i + M (n + 1) i)
    {n : ℕ} (h : n < N) (hn : n % K = K - 1) (i : ι) (f : ℕ → EReal)
    (hf : ∀ q, q / K = n / K → M q i = ∑ k : Fin t, f (q % K * t + k.val)) : s n h i = ∑ k : Fin (K * t), f k.val := by
  have e : K * (n / K) + (K - 1) = n := hn ▸ Nat.div_add_mod n K
  have a := run_sum s M h0 h1 (n / K) (K - 1) (lt_of_eq_of_lt e h) (by omega) i
  simp only [e, Nat.sub_add_cancel hK] at a
  rw [a, ← sum_blocks f K t]
  refine Finset.sum_congr rfl fun r hr => ?_
  have hr : r < K := Finset.mem_range.mp hr
  rw [hf _ (by rw [Nat.mul_add_div hK, Nat.div_eq_of_lt hr, Nat.add_zero]), Nat.mul_add_mod, Nat.mod_eq_of_lt hr]

end Cert.Prod

end
-- ==== Proof.UpDx0aVal.lean ====
/- The first layer's up projection, first half: the input's gradient. -/
module

public import proofs.«01_k».proof.Proof.Prod
public import proofs.«01_k».proof.Proof.Gen.UpDx0aIdeal.Value
public import proofs.«01_k».proof.Proof.Gen.UpDx0aRefIdeal.Run
public import proofs.«01_k».proof.Defs

@[expose] public section

set_option maxRecDepth 16384

noncomputable section

namespace Cert.UpDx0aIdeal.Val

open Cert.UpDx0aIdeal.Gen Cert.UpDx0aIdeal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def lhs : ℕ → ℕ → EReal := at2 (m ((c : Thread nD τ).loc main_arg0))
def rhs (k j : ℕ) : EReal := at3 (m ((c : Thread nD τ).loc main_arg1)) 0 j k
def prod (y : S8192x1024.Idx) : EReal := ∑ k : Fin 2816, lhs m c (y 0).val k.val * rhs m c k.val (y 1).val

/-- The product of the blocks of point `n`. -/
def part (n : ℕ) (y : S1024x1024.Idx) : EReal :=
  ∑ k : Fin 1408, lhs m c (n / 2 * 1024 + (y 0).val) (n % 2 * 1408 + k.val) * rhs m c (n % 2 * 1408 + k.val) (y 1).val

theorem idx : ∀ t : Fin cfg0.N, win0_0.index t = ![t.val / 2, t.val % 2] ∧ win0_1.index t = ![t.val % 2, 0, 0] ∧ win0_2.index t = ![t.val / 2, 0] :=
  (by decide +kernel : ∀ t : Fin grid0.N, _)

/-- The weights as the call's kernel finds them: four chips' columns, the layers under one another. -/
theorem weights (a : Fin 4) (j : Fin 2048) (k : Fin 1408) {r q : ℕ} (hj : j.val / 1024 = 0) (hr : j.val % 1024 = r) (hq : a.val * 1408 + k.val = q) :
    V m c main_v2 (ix3 a j k) = at3 (m ((c : Thread nD τ).loc main_arg1)) 0 r q := by
  entry_read
  pointwise []
  exact at3_of (a := 2) (b := 1024) (d := 5632) _ _ hj hr hq

theorem part_eq (t : Fin cfg0.N) (y : S1024x1024.Idx) : k0_pay1 (iblk m c 0 t) (iblk m c 1 t) y = part m c t.val y := by
  obtain ⟨e0, e1, -⟩ := idx t
  have hy : (y 1).val < 1024 := (y 1).isLt
  have ht : t.val % 2 < 4 := by omega
  unfold k0_pay1
  pointwise []
  refine Finset.sum_congr rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 1408 + 1 * k.val = _ by rw [e0, one_mul]; rfl)
  · show V m c main_v2 (((cfg0.win 1).blk t).view.emb (ix3 0 (y 1) k)) = _
    rw [show ((cfg0.win 1).blk t).view.emb (ix3 0 (y 1) k) = (ix3 ⟨t.val % 2, ht⟩ ⟨(y 1).val, by omega⟩ k : S4x2048x1408.Idx) from
      ext3 (show win0_1.index t 0 * 1 + 1 * 0 = t.val % 2 by rw [e1]; exact Nat.mul_one _) (show win0_1.index t 1 * 1024 + 1 * (y 1).val = _ by rw [e1, one_mul]; exact Nat.zero_add _) (show win0_1.index t 2 * 1408 + 1 * k.val = _ by rw [e1, one_mul]; exact Nat.zero_add _)]
    exact weights m c _ _ _ (show ((y 1).val) / 1024 = 0 by omega) (show ((y 1).val) % 1024 = (y 1).val by omega) rfl

/-- At a run's first point the accumulator is set to the block's product. -/
theorem first (n : ℕ) (h : n < cfg0.N) (hn : n % 2 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S1024x1408) z2, View.ld_unit_zero (S := S1x1024x1408) z3, shapeCast_self]

/-- At every other point it is added to. -/
theorem next (n : ℕ) (h : n + 1 < cfg0.N) (hn : (n + 1) % 2 ≠ 0) (y : S1024x1024.Idx) : (outsAt0 m c (n + 1) h).2 y = (outsAt0 m c n (Nat.lt_of_succ_lt h)).2 y + part m c (n + 1) y := by
  show (outsAt0 m c (⟨n + 1, h⟩ : Fin cfg0.N).val _).2 y = _
  rw [outsAt0_B m c ⟨n + 1, h⟩ hn (by dsimp only; omega) (by dsimp only; omega)]
  dsimp only
  refine Eq.trans ?_ (congrArg ((outsAt0 m c n _).2 y + ·) (part_eq m c ⟨n + 1, h⟩ y))
  unfold sout0_B_0
  rw [View.read_writes_eq_canon _ _ _ (fun _ => scover0_B_0 ..)]
  unfold kernelRun0_B
  dsimp only
  sl_unfold_words
  rw [View.canon_unit_zero z2]
  unfold k0_pay3
  simp only [View.readAt_eq_ld, Memref.IsWhole.read_unread, View.ld_unit_zero (S := S1024x1408) z2, View.ld_unit_zero (S := S1024x1024) z2, View.ld_unit_zero (S := S1x1024x1408) z3, shapeCast_self]
  exact congrArg (· + _) (congrFun ((Memref.isWhole_whole cc0_scratch0).read_unread _) y)

/-- The last point of a run leaves the accumulator in the result's block. -/
theorem last (t : Fin cfg0.N) (h : t.val % 2 = 1) : (outsAt0 m c t.val t.isLt).1 = (outsAt0 m c t.val t.isLt).2 := by
  rw [outsAt0_B m c t (by omega) h h]
  dsimp only
  unfold out0_B_2 sout0_B_0
  rw [View.read_writes_eq_canon _ _ _ (fun _ => cover0_B_2 ..), View.read_writes_eq_canon _ _ _ (fun _ => scover0_B_0 ..)]
  unfold kernelRun0_B
  dsimp only
  sl_unfold_words
  rw [View.canon_unit_zero z2, View.canon_unit_zero z2, View.readCov_unit_zero (S := S1024x1024) _ z2]

/-- What the call leaves: the whole product. -/
theorem final : (dats m 0 c).arrAt 2 cfg0.N = prod m c := by
  refine (dats m 0 c).arrAt_eq_of_covers 2 _ (by decide +kernel) fun t hf y => ?_
  have hm : t.val % 2 = 1 := (flush0_2 t).mp hf
  obtain ⟨-, -, e2⟩ := idx t
  have E0 : (((cfg0.win 2).blk t).view.emb y 0).val = t.val / 2 * 1024 + (y 0).val := show win0_2.index t 0 * 1024 + 1 * (y 0).val = _ by rw [e2, one_mul]; rfl
  have E1 : (((cfg0.win 2).blk t).view.emb y 1).val = (y 1).val := show win0_2.index t 1 * 1024 + 1 * (y 1).val = _ by rw [e2, one_mul]; exact Nat.zero_add _
  rw [prod, E0, E1]
  blk_simp
  rw [after0_2, last m c t hm]
  refine run_total 1408 (by decide) (fun n h => (outsAt0 m c n h).2) (part m c) (first m c) (next m c) t.isLt hm y (fun k => lhs m c (t.val / 2 * 1024 + (y 0).val) k * rhs m c k (y 1).val) fun q hq => ?_
  rw [part, hq]

end Cert.UpDx0aIdeal.Val

namespace Cert.UpDx0aIdeal

open Cert.Prod Idealize.ShloMosaic Idealize.ShloMosaic.TcCoe Idealize.SL.Sem

theorem frame_ref : @Cert.quiescent_UpDx0aRefIdeal UpDx0aRefIdeal.Gen.facts := fun m ρ _ =>
  (θ_run UpDx0aRefIdeal.defs _ _).mono (fun r h => ⟨fun c => (h c).2, sem_eq_zero_of_no_sems (by decide) r.2⟩) (UpDx0aRefIdeal.Value.run (F := Ideal) m ρ)

/-- The call and the plain product leave the same array. -/
theorem same : @Cert.algebraic_UpDx0aIdeal_UpDx0aRefIdeal Gen.facts UpDx0aRefIdeal.Gen.facts := by
  intro m g m' g' _ hagree
  refine ⟨Val.prod m, (θ_run defs _ _).mono (fun r h c => ⟨(h c).1.trans (Val.final m c), (h c).2⟩) (Value.run_blocks m g),
    (θ_run UpDx0aRefIdeal.defs _ _).mono (fun r h c => ⟨(h c).1.trans ?_, (h c).2⟩) (UpDx0aRefIdeal.Value.run m' g')⟩
  rw [(hagree c).1, (hagree c).2]
  funext y
  pointwise []
  exact Finset.sum_congr rfl fun k _ => congr (congrArg _ (at2_of _ _ rfl rfl)) (at3_of (a := 2) (b := 1024) (d := 5632) _ _ rfl rfl rfl)

end Cert.UpDx0aIdeal

end
-- ==== Proof.UpDx0bVal.lean ====
/- The first layer's up projection, second half: the input's gradient. -/
module

public import proofs.«01_k».proof.Proof.Prod
public import proofs.«01_k».proof.Proof.Gen.UpDx0bIdeal.Value
public import proofs.«01_k».proof.Proof.Gen.UpDx0bRefIdeal.Run
public import proofs.«01_k».proof.Defs

@[expose] public section

set_option maxRecDepth 16384

noncomputable section

namespace Cert.UpDx0bIdeal.Val

open Cert.UpDx0bIdeal.Gen Cert.UpDx0bIdeal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def lhs : ℕ → ℕ → EReal := at2 (m ((c : Thread nD τ).loc main_arg0))
def rhs (k j : ℕ) : EReal := at3 (m ((c : Thread nD τ).loc main_arg1)) 0 j (2816 + k)
def prod (y : S8192x1024.Idx) : EReal := at2 (m ((c : Thread nD τ).loc main_arg2)) (y 0).val (y 1).val + ∑ k : Fin 2816, lhs m c (y 0).val k.val * rhs m c k.val (y 1).val

/-- The product of the blocks of point `n`. -/
def part (n : ℕ) (y : S1024x1024.Idx) : EReal :=
  ∑ k : Fin 1408, lhs m c (n / 2 * 1024 + (y 0).val) (n % 2 * 1408 + k.val) * rhs m c (n % 2 * 1408 + k.val) (y 1).val

theorem idx : ∀ t : Fin cfg0.N, win0_0.index t = ![t.val / 2, t.val % 2] ∧ win0_1.index t = ![2 + t.val % 2, 0, 0] ∧ win0_2.index t = ![t.val / 2, 0] ∧ win0_3.index t = ![t.val / 2, 0] :=
  (by decide +kernel : ∀ t : Fin grid0.N, _)

/-- The weights as the call's kernel finds them: four chips' columns, the layers under one another. -/
theorem weights (a : Fin 4) (j : Fin 2048) (k : Fin 1408) {r q : ℕ} (hj : j.val / 1024 = 0) (hr : j.val % 1024 = r) (hq : a.val * 1408 + k.val = q) :
    V m c main_v2 (ix3 a j k) = at3 (m ((c : Thread nD τ).loc main_arg1)) 0 r q := by
  entry_read
  pointwise []
  exact at3_of (a := 2) (b := 1024) (d := 5632) _ _ hj hr hq

theorem part_eq (t : Fin cfg0.N) (y : S1024x1024.Idx) : k0_pay1 (iblk m c 0 t) (iblk m c 1 t) y = part m c t.val y := by
  obtain ⟨e0, e1, -⟩ := idx t
  have hy : (y 1).val < 1024 := (y 1).isLt
  have ht : 2 + t.val % 2 < 4 := by omega
  unfold k0_pay1
  pointwise []
  refine Finset.sum_congr rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 1408 + 1 * k.val = _ by rw [e0, one_mul]; rfl)
  · show V m c main_v2 (((cfg0.win 1).blk t).view.emb (ix3 0 (y 1) k)) = _
    rw [show ((cfg0.win 1).blk t).view.emb (ix3 0 (y 1) k) = (ix3 ⟨2 + t.val % 2, ht⟩ ⟨(y 1).val, by omega⟩ k : S4x2048x1408.Idx) from
      ext3 (show win0_1.index t 0 * 1 + 1 * 0 = 2 + t.val % 2 by rw [e1]; exact Nat.mul_one _) (show win0_1.index t 1 * 1024 + 1 * (y 1).val = _ by rw [e1, one_mul]; exact Nat.zero_add _) (show win0_1.index t 2 * 1408 + 1 * k.val = _ by rw [e1, one_mul]; exact Nat.zero_add _)]
    exact weights m c _ _ _ (show ((y 1).val) / 1024 = 0 by omega) (show ((y 1).val) % 1024 = (y 1).val by omega) (show (2 + t.val % 2) * 1408 + k.val = 2816 + (t.val % 2 * 1408 + k.val) by omega)

/-- At a run's first point the accumulator is set to the block's product. -/
theorem first (n : ℕ) (h : n < cfg0.N) (hn : n % 2 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S1024x1408) z2, View.ld_unit_zero (S := S1x1024x1408) z3, shapeCast_self]

/-- At every other point it is added to. -/
theorem next (n : ℕ) (h : n + 1 < cfg0.N) (hn : (n + 1) % 2 ≠ 0) (y : S1024x1024.Idx) : (outsAt0 m c (n + 1) h).2 y = (outsAt0 m c n (Nat.lt_of_succ_lt h)).2 y + part m c (n + 1) y := by
  show (outsAt0 m c (⟨n + 1, h⟩ : Fin cfg0.N).val _).2 y = _
  rw [outsAt0_B m c ⟨n + 1, h⟩ hn (by dsimp only; omega) (by dsimp only; omega)]
  dsimp only
  refine Eq.trans ?_ (congrArg ((outsAt0 m c n _).2 y + ·) (part_eq m c ⟨n + 1, h⟩ y))
  unfold sout0_B_0
  rw [View.read_writes_eq_canon _ _ _ (fun _ => scover0_B_0 ..)]
  unfold kernelRun0_B
  dsimp only
  sl_unfold_words
  rw [View.canon_unit_zero z2]
  unfold k0_pay3
  simp only [View.readAt_eq_ld, Memref.IsWhole.read_unread, View.ld_unit_zero (S := S1024x1408) z2, View.ld_unit_zero (S := S1024x1024) z2, View.ld_unit_zero (S := S1x1024x1408) z3, shapeCast_self]
  exact congrArg (· + _) (congrFun ((Memref.isWhole_whole cc0_scratch0).read_unread _) y)

/-- The last point of a run leaves the accumulator and what it is added to in the result's block. -/
theorem last (t : Fin cfg0.N) (h : t.val % 2 = 1) : (outsAt0 m c t.val t.isLt).1 = k0_pay4 (outsAt0 m c t.val t.isLt).2 (iblk m c 2 t) := by
  rw [outsAt0_B m c t (by omega) h h]
  dsimp only
  unfold out0_B_3 sout0_B_0
  rw [View.read_writes_eq_canon _ _ _ (fun _ => cover0_B_3 ..), View.read_writes_eq_canon _ _ _ (fun _ => scover0_B_0 ..)]
  unfold kernelRun0_B
  dsimp only
  sl_unfold_words
  rw [View.canon_unit_zero z2, View.canon_unit_zero z2, View.readCov_unit_zero (S := S1024x1024) _ z2]
  simp only [View.readAt_eq_ld, Memref.IsWhole.read_unread, View.ld_unit_zero (S := S1024x1024) z2, shapeCast_self]

/-- What the call leaves: the whole product. -/
theorem final : (dats m 0 c).arrAt 3 cfg0.N = prod m c := by
  refine (dats m 0 c).arrAt_eq_of_covers 3 _ (by decide +kernel) fun t hf y => ?_
  have hm : t.val % 2 = 1 := (flush0_3 t).mp hf
  obtain ⟨-, -, e2, e3⟩ := idx t
  have E0 : (((cfg0.win 3).blk t).view.emb y 0).val = t.val / 2 * 1024 + (y 0).val := show win0_3.index t 0 * 1024 + 1 * (y 0).val = _ by rw [e3, one_mul]; rfl
  have E1 : (((cfg0.win 3).blk t).view.emb y 1).val = (y 1).val := show win0_3.index t 1 * 1024 + 1 * (y 1).val = _ by rw [e3, one_mul]; exact Nat.zero_add _
  rw [prod, E0, E1]
  blk_simp
  rw [after0_3, last m c t hm]
  unfold k0_pay4
  refine (add_comm (G := EReal) _ _).trans (congr (congrArg _ ?_) ?_)
  · show V m c main_arg2 (((cfg0.win 2).blk t).view.emb y) = _
    rw [V_main_arg2]
    exact at2_of _ _ (show win0_2.index t 0 * 1024 + 1 * (y 0).val = _ by rw [e2, one_mul]; rfl) (show win0_2.index t 1 * 1024 + 1 * (y 1).val = _ by rw [e2, one_mul]; exact Nat.zero_add _)
  refine run_total 1408 (by decide) (fun n h => (outsAt0 m c n h).2) (part m c) (first m c) (next m c) t.isLt hm y (fun k => lhs m c (t.val / 2 * 1024 + (y 0).val) k * rhs m c k (y 1).val) fun q hq => ?_
  rw [part, hq]

end Cert.UpDx0bIdeal.Val

namespace Cert.UpDx0bIdeal

open Cert.Prod Idealize.ShloMosaic Idealize.ShloMosaic.TcCoe Idealize.SL.Sem

theorem frame_ref : @Cert.quiescent_UpDx0bRefIdeal UpDx0bRefIdeal.Gen.facts := fun m ρ _ =>
  (θ_run UpDx0bRefIdeal.defs _ _).mono (fun r h => ⟨fun c => (h c).2, sem_eq_zero_of_no_sems (by decide) r.2⟩) (UpDx0bRefIdeal.Value.run (F := Ideal) m ρ)

/-- The call and the plain product leave the same array. -/
theorem same : @Cert.algebraic_UpDx0bIdeal_UpDx0bRefIdeal Gen.facts UpDx0bRefIdeal.Gen.facts := by
  intro m g m' g' _ hagree
  refine ⟨Val.prod m, (θ_run defs _ _).mono (fun r h c => ⟨(h c).1.trans (Val.final m c), (h c).2⟩) (Value.run_blocks m g),
    (θ_run UpDx0bRefIdeal.defs _ _).mono (fun r h c => ⟨(h c).1.trans ?_, (h c).2⟩) (UpDx0bRefIdeal.Value.run m' g')⟩
  rw [(hagree c).1, (hagree c).2.1, (hagree c).2.2]
  funext y
  pointwise []
  exact congr (congrArg _ (at2_of _ _ rfl rfl)) <| Finset.sum_congr rfl fun k _ => congr (congrArg _ (at2_of _ _ rfl rfl)) (at3_of (a := 2) (b := 1024) (d := 5632) _ _ rfl rfl rfl)

end Cert.UpDx0bIdeal

end
-- ==== Proof.UpDx1aVal.lean ====
/- The second layer's up projection, first half: the input's gradient. -/
module

public import proofs.«01_k».proof.Proof.Prod
public import proofs.«01_k».proof.Proof.Gen.UpDx1aIdeal.Value
public import proofs.«01_k».proof.Proof.Gen.UpDx1aRefIdeal.Run
public import proofs.«01_k».proof.Defs

@[expose] public section

set_option maxRecDepth 16384

noncomputable section

namespace Cert.UpDx1aIdeal.Val

open Cert.UpDx1aIdeal.Gen Cert.UpDx1aIdeal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def lhs : ℕ → ℕ → EReal := at2 (m ((c : Thread nD τ).loc main_arg0))
def rhs (k j : ℕ) : EReal := at3 (m ((c : Thread nD τ).loc main_arg1)) 1 j k
def prod (y : S8192x1024.Idx) : EReal := ∑ k : Fin 2816, lhs m c (y 0).val k.val * rhs m c k.val (y 1).val

/-- The product of the blocks of point `n`. -/
def part (n : ℕ) (y : S1024x1024.Idx) : EReal :=
  ∑ k : Fin 1408, lhs m c (n / 2 * 1024 + (y 0).val) (n % 2 * 1408 + k.val) * rhs m c (n % 2 * 1408 + k.val) (y 1).val

theorem idx : ∀ t : Fin cfg0.N, win0_0.index t = ![t.val / 2, t.val % 2] ∧ win0_1.index t = ![t.val % 2, 1, 0] ∧ win0_2.index t = ![t.val / 2, 0] :=
  (by decide +kernel : ∀ t : Fin grid0.N, _)

/-- The weights as the call's kernel finds them: four chips' columns, the layers under one another. -/
theorem weights (a : Fin 4) (j : Fin 2048) (k : Fin 1408) {r q : ℕ} (hj : j.val / 1024 = 1) (hr : j.val % 1024 = r) (hq : a.val * 1408 + k.val = q) :
    V m c main_v2 (ix3 a j k) = at3 (m ((c : Thread nD τ).loc main_arg1)) 1 r q := by
  entry_read
  pointwise []
  exact at3_of (a := 2) (b := 1024) (d := 5632) _ _ hj hr hq

theorem part_eq (t : Fin cfg0.N) (y : S1024x1024.Idx) : k0_pay1 (iblk m c 0 t) (iblk m c 1 t) y = part m c t.val y := by
  obtain ⟨e0, e1, -⟩ := idx t
  have hy : (y 1).val < 1024 := (y 1).isLt
  have ht : t.val % 2 < 4 := by omega
  unfold k0_pay1
  pointwise []
  refine Finset.sum_congr rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 1408 + 1 * k.val = _ by rw [e0, one_mul]; rfl)
  · show V m c main_v2 (((cfg0.win 1).blk t).view.emb (ix3 0 (y 1) k)) = _
    rw [show ((cfg0.win 1).blk t).view.emb (ix3 0 (y 1) k) = (ix3 ⟨t.val % 2, ht⟩ ⟨1024 + (y 1).val, by omega⟩ k : S4x2048x1408.Idx) from
      ext3 (show win0_1.index t 0 * 1 + 1 * 0 = t.val % 2 by rw [e1]; exact Nat.mul_one _) (show win0_1.index t 1 * 1024 + 1 * (y 1).val = _ by rw [e1, one_mul]; rfl) (show win0_1.index t 2 * 1408 + 1 * k.val = _ by rw [e1, one_mul]; exact Nat.zero_add _)]
    exact weights m c _ _ _ (show (1024 + (y 1).val) / 1024 = 1 by omega) (show (1024 + (y 1).val) % 1024 = (y 1).val by omega) rfl

/-- At a run's first point the accumulator is set to the block's product. -/
theorem first (n : ℕ) (h : n < cfg0.N) (hn : n % 2 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S1024x1408) z2, View.ld_unit_zero (S := S1x1024x1408) z3, shapeCast_self]

/-- At every other point it is added to. -/
theorem next (n : ℕ) (h : n + 1 < cfg0.N) (hn : (n + 1) % 2 ≠ 0) (y : S1024x1024.Idx) : (outsAt0 m c (n + 1) h).2 y = (outsAt0 m c n (Nat.lt_of_succ_lt h)).2 y + part m c (n + 1) y := by
  show (outsAt0 m c (⟨n + 1, h⟩ : Fin cfg0.N).val _).2 y = _
  rw [outsAt0_B m c ⟨n + 1, h⟩ hn (by dsimp only; omega) (by dsimp only; omega)]
  dsimp only
  refine Eq.trans ?_ (congrArg ((outsAt0 m c n _).2 y + ·) (part_eq m c ⟨n + 1, h⟩ y))
  unfold sout0_B_0
  rw [View.read_writes_eq_canon _ _ _ (fun _ => scover0_B_0 ..)]
  unfold kernelRun0_B
  dsimp only
  sl_unfold_words
  rw [View.canon_unit_zero z2]
  unfold k0_pay3
  simp only [View.readAt_eq_ld, Memref.IsWhole.read_unread, View.ld_unit_zero (S := S1024x1408) z2, View.ld_unit_zero (S := S1024x1024) z2, View.ld_unit_zero (S := S1x1024x1408) z3, shapeCast_self]
  exact congrArg (· + _) (congrFun ((Memref.isWhole_whole cc0_scratch0).read_unread _) y)

/-- The last point of a run leaves the accumulator in the result's block. -/
theorem last (t : Fin cfg0.N) (h : t.val % 2 = 1) : (outsAt0 m c t.val t.isLt).1 = (outsAt0 m c t.val t.isLt).2 := by
  rw [outsAt0_B m c t (by omega) h h]
  dsimp only
  unfold out0_B_2 sout0_B_0
  rw [View.read_writes_eq_canon _ _ _ (fun _ => cover0_B_2 ..), View.read_writes_eq_canon _ _ _ (fun _ => scover0_B_0 ..)]
  unfold kernelRun0_B
  dsimp only
  sl_unfold_words
  rw [View.canon_unit_zero z2, View.canon_unit_zero z2, View.readCov_unit_zero (S := S1024x1024) _ z2]

/-- What the call leaves: the whole product. -/
theorem final : (dats m 0 c).arrAt 2 cfg0.N = prod m c := by
  refine (dats m 0 c).arrAt_eq_of_covers 2 _ (by decide +kernel) fun t hf y => ?_
  have hm : t.val % 2 = 1 := (flush0_2 t).mp hf
  obtain ⟨-, -, e2⟩ := idx t
  have E0 : (((cfg0.win 2).blk t).view.emb y 0).val = t.val / 2 * 1024 + (y 0).val := show win0_2.index t 0 * 1024 + 1 * (y 0).val = _ by rw [e2, one_mul]; rfl
  have E1 : (((cfg0.win 2).blk t).view.emb y 1).val = (y 1).val := show win0_2.index t 1 * 1024 + 1 * (y 1).val = _ by rw [e2, one_mul]; exact Nat.zero_add _
  rw [prod, E0, E1]
  blk_simp
  rw [after0_2, last m c t hm]
  refine run_total 1408 (by decide) (fun n h => (outsAt0 m c n h).2) (part m c) (first m c) (next m c) t.isLt hm y (fun k => lhs m c (t.val / 2 * 1024 + (y 0).val) k * rhs m c k (y 1).val) fun q hq => ?_
  rw [part, hq]

end Cert.UpDx1aIdeal.Val

namespace Cert.UpDx1aIdeal

open Cert.Prod Idealize.ShloMosaic Idealize.ShloMosaic.TcCoe Idealize.SL.Sem

theorem frame_ref : @Cert.quiescent_UpDx1aRefIdeal UpDx1aRefIdeal.Gen.facts := fun m ρ _ =>
  (θ_run UpDx1aRefIdeal.defs _ _).mono (fun r h => ⟨fun c => (h c).2, sem_eq_zero_of_no_sems (by decide) r.2⟩) (UpDx1aRefIdeal.Value.run (F := Ideal) m ρ)

/-- The call and the plain product leave the same array. -/
theorem same : @Cert.algebraic_UpDx1aIdeal_UpDx1aRefIdeal Gen.facts UpDx1aRefIdeal.Gen.facts := by
  intro m g m' g' _ hagree
  refine ⟨Val.prod m, (θ_run defs _ _).mono (fun r h c => ⟨(h c).1.trans (Val.final m c), (h c).2⟩) (Value.run_blocks m g),
    (θ_run UpDx1aRefIdeal.defs _ _).mono (fun r h c => ⟨(h c).1.trans ?_, (h c).2⟩) (UpDx1aRefIdeal.Value.run m' g')⟩
  rw [(hagree c).1, (hagree c).2]
  funext y
  pointwise []
  exact Finset.sum_congr rfl fun k _ => congr (congrArg _ (at2_of _ _ rfl rfl)) (at3_of (a := 2) (b := 1024) (d := 5632) _ _ rfl rfl rfl)

end Cert.UpDx1aIdeal

end
-- ==== Proof.UpDx1bVal.lean ====
/- The second layer's up projection, second half: the input's gradient. -/
module

public import proofs.«01_k».proof.Proof.Prod
public import proofs.«01_k».proof.Proof.Gen.UpDx1bIdeal.Value
public import proofs.«01_k».proof.Proof.Gen.UpDx1bRefIdeal.Run
public import proofs.«01_k».proof.Defs

@[expose] public section

set_option maxRecDepth 16384

noncomputable section

namespace Cert.UpDx1bIdeal.Val

open Cert.UpDx1bIdeal.Gen Cert.UpDx1bIdeal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def lhs : ℕ → ℕ → EReal := at2 (m ((c : Thread nD τ).loc main_arg0))
def rhs (k j : ℕ) : EReal := at3 (m ((c : Thread nD τ).loc main_arg1)) 1 j (2816 + k)
def prod (y : S8192x1024.Idx) : EReal := at2 (m ((c : Thread nD τ).loc main_arg2)) (y 0).val (y 1).val + ∑ k : Fin 2816, lhs m c (y 0).val k.val * rhs m c k.val (y 1).val

/-- The product of the blocks of point `n`. -/
def part (n : ℕ) (y : S1024x1024.Idx) : EReal :=
  ∑ k : Fin 1408, lhs m c (n / 2 * 1024 + (y 0).val) (n % 2 * 1408 + k.val) * rhs m c (n % 2 * 1408 + k.val) (y 1).val

theorem idx : ∀ t : Fin cfg0.N, win0_0.index t = ![t.val / 2, t.val % 2] ∧ win0_1.index t = ![2 + t.val % 2, 1, 0] ∧ win0_2.index t = ![t.val / 2, 0] ∧ win0_3.index t = ![t.val / 2, 0] :=
  (by decide +kernel : ∀ t : Fin grid0.N, _)

/-- The weights as the call's kernel finds them: four chips' columns, the layers under one another. -/
theorem weights (a : Fin 4) (j : Fin 2048) (k : Fin 1408) {r q : ℕ} (hj : j.val / 1024 = 1) (hr : j.val % 1024 = r) (hq : a.val * 1408 + k.val = q) :
    V m c main_v2 (ix3 a j k) = at3 (m ((c : Thread nD τ).loc main_arg1)) 1 r q := by
  entry_read
  pointwise []
  exact at3_of (a := 2) (b := 1024) (d := 5632) _ _ hj hr hq

theorem part_eq (t : Fin cfg0.N) (y : S1024x1024.Idx) : k0_pay1 (iblk m c 0 t) (iblk m c 1 t) y = part m c t.val y := by
  obtain ⟨e0, e1, -⟩ := idx t
  have hy : (y 1).val < 1024 := (y 1).isLt
  have ht : 2 + t.val % 2 < 4 := by omega
  unfold k0_pay1
  pointwise []
  refine Finset.sum_congr rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 1408 + 1 * k.val = _ by rw [e0, one_mul]; rfl)
  · show V m c main_v2 (((cfg0.win 1).blk t).view.emb (ix3 0 (y 1) k)) = _
    rw [show ((cfg0.win 1).blk t).view.emb (ix3 0 (y 1) k) = (ix3 ⟨2 + t.val % 2, ht⟩ ⟨1024 + (y 1).val, by omega⟩ k : S4x2048x1408.Idx) from
      ext3 (show win0_1.index t 0 * 1 + 1 * 0 = 2 + t.val % 2 by rw [e1]; exact Nat.mul_one _) (show win0_1.index t 1 * 1024 + 1 * (y 1).val = _ by rw [e1, one_mul]; rfl) (show win0_1.index t 2 * 1408 + 1 * k.val = _ by rw [e1, one_mul]; exact Nat.zero_add _)]
    exact weights m c _ _ _ (show (1024 + (y 1).val) / 1024 = 1 by omega) (show (1024 + (y 1).val) % 1024 = (y 1).val by omega) (show (2 + t.val % 2) * 1408 + k.val = 2816 + (t.val % 2 * 1408 + k.val) by omega)

/-- At a run's first point the accumulator is set to the block's product. -/
theorem first (n : ℕ) (h : n < cfg0.N) (hn : n % 2 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S1024x1408) z2, View.ld_unit_zero (S := S1x1024x1408) z3, shapeCast_self]

/-- At every other point it is added to. -/
theorem next (n : ℕ) (h : n + 1 < cfg0.N) (hn : (n + 1) % 2 ≠ 0) (y : S1024x1024.Idx) : (outsAt0 m c (n + 1) h).2 y = (outsAt0 m c n (Nat.lt_of_succ_lt h)).2 y + part m c (n + 1) y := by
  show (outsAt0 m c (⟨n + 1, h⟩ : Fin cfg0.N).val _).2 y = _
  rw [outsAt0_B m c ⟨n + 1, h⟩ hn (by dsimp only; omega) (by dsimp only; omega)]
  dsimp only
  refine Eq.trans ?_ (congrArg ((outsAt0 m c n _).2 y + ·) (part_eq m c ⟨n + 1, h⟩ y))
  unfold sout0_B_0
  rw [View.read_writes_eq_canon _ _ _ (fun _ => scover0_B_0 ..)]
  unfold kernelRun0_B
  dsimp only
  sl_unfold_words
  rw [View.canon_unit_zero z2]
  unfold k0_pay3
  simp only [View.readAt_eq_ld, Memref.IsWhole.read_unread, View.ld_unit_zero (S := S1024x1408) z2, View.ld_unit_zero (S := S1024x1024) z2, View.ld_unit_zero (S := S1x1024x1408) z3, shapeCast_self]
  exact congrArg (· + _) (congrFun ((Memref.isWhole_whole cc0_scratch0).read_unread _) y)

/-- The last point of a run leaves the accumulator and what it is added to in the result's block. -/
theorem last (t : Fin cfg0.N) (h : t.val % 2 = 1) : (outsAt0 m c t.val t.isLt).1 = k0_pay4 (outsAt0 m c t.val t.isLt).2 (iblk m c 2 t) := by
  rw [outsAt0_B m c t (by omega) h h]
  dsimp only
  unfold out0_B_3 sout0_B_0
  rw [View.read_writes_eq_canon _ _ _ (fun _ => cover0_B_3 ..), View.read_writes_eq_canon _ _ _ (fun _ => scover0_B_0 ..)]
  unfold kernelRun0_B
  dsimp only
  sl_unfold_words
  rw [View.canon_unit_zero z2, View.canon_unit_zero z2, View.readCov_unit_zero (S := S1024x1024) _ z2]
  simp only [View.readAt_eq_ld, Memref.IsWhole.read_unread, View.ld_unit_zero (S := S1024x1024) z2, shapeCast_self]

/-- What the call leaves: the whole product. -/
theorem final : (dats m 0 c).arrAt 3 cfg0.N = prod m c := by
  refine (dats m 0 c).arrAt_eq_of_covers 3 _ (by decide +kernel) fun t hf y => ?_
  have hm : t.val % 2 = 1 := (flush0_3 t).mp hf
  obtain ⟨-, -, e2, e3⟩ := idx t
  have E0 : (((cfg0.win 3).blk t).view.emb y 0).val = t.val / 2 * 1024 + (y 0).val := show win0_3.index t 0 * 1024 + 1 * (y 0).val = _ by rw [e3, one_mul]; rfl
  have E1 : (((cfg0.win 3).blk t).view.emb y 1).val = (y 1).val := show win0_3.index t 1 * 1024 + 1 * (y 1).val = _ by rw [e3, one_mul]; exact Nat.zero_add _
  rw [prod, E0, E1]
  blk_simp
  rw [after0_3, last m c t hm]
  unfold k0_pay4
  refine (add_comm (G := EReal) _ _).trans (congr (congrArg _ ?_) ?_)
  · show V m c main_arg2 (((cfg0.win 2).blk t).view.emb y) = _
    rw [V_main_arg2]
    exact at2_of _ _ (show win0_2.index t 0 * 1024 + 1 * (y 0).val = _ by rw [e2, one_mul]; rfl) (show win0_2.index t 1 * 1024 + 1 * (y 1).val = _ by rw [e2, one_mul]; exact Nat.zero_add _)
  refine run_total 1408 (by decide) (fun n h => (outsAt0 m c n h).2) (part m c) (first m c) (next m c) t.isLt hm y (fun k => lhs m c (t.val / 2 * 1024 + (y 0).val) k * rhs m c k (y 1).val) fun q hq => ?_
  rw [part, hq]

end Cert.UpDx1bIdeal.Val

namespace Cert.UpDx1bIdeal

open Cert.Prod Idealize.ShloMosaic Idealize.ShloMosaic.TcCoe Idealize.SL.Sem

theorem frame_ref : @Cert.quiescent_UpDx1bRefIdeal UpDx1bRefIdeal.Gen.facts := fun m ρ _ =>
  (θ_run UpDx1bRefIdeal.defs _ _).mono (fun r h => ⟨fun c => (h c).2, sem_eq_zero_of_no_sems (by decide) r.2⟩) (UpDx1bRefIdeal.Value.run (F := Ideal) m ρ)

/-- The call and the plain product leave the same array. -/
theorem same : @Cert.algebraic_UpDx1bIdeal_UpDx1bRefIdeal Gen.facts UpDx1bRefIdeal.Gen.facts := by
  intro m g m' g' _ hagree
  refine ⟨Val.prod m, (θ_run defs _ _).mono (fun r h c => ⟨(h c).1.trans (Val.final m c), (h c).2⟩) (Value.run_blocks m g),
    (θ_run UpDx1bRefIdeal.defs _ _).mono (fun r h c => ⟨(h c).1.trans ?_, (h c).2⟩) (UpDx1bRefIdeal.Value.run m' g')⟩
  rw [(hagree c).1, (hagree c).2.1, (hagree c).2.2]
  funext y
  pointwise []
  exact congr (congrArg _ (at2_of _ _ rfl rfl)) <| Finset.sum_congr rfl fun k _ => congr (congrArg _ (at2_of _ _ rfl rfl)) (at3_of (a := 2) (b := 1024) (d := 5632) _ _ rfl rfl rfl)

end Cert.UpDx1bIdeal

end
-- ==== Proof.DownDx0Val.lean ====
/- The first layer's down projection: the input's gradient. -/
module

public import proofs.«01_k».proof.Proof.Prod
public import proofs.«01_k».proof.Proof.Gen.DownDx0Ideal.Value
public import proofs.«01_k».proof.Proof.Gen.DownDx0RefIdeal.Run
public import proofs.«01_k».proof.Defs

@[expose] public section

set_option maxRecDepth 16384

noncomputable section

namespace Cert.DownDx0Ideal.Val

open Cert.DownDx0Ideal.Gen Cert.DownDx0Ideal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S8192x2816.Idx) : EReal := ∑ k : Fin 1024, at2 (m ((c : Thread nD τ).loc main_arg0)) (y 0).val k.val * at3 (m ((c : Thread nD τ).loc main_arg1)) 0 (y 1).val k.val

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The weights as the call's kernel finds them, the layers under one another. -/
theorem weights (j : Fin 5632) (k : Fin 1024) {r q : ℕ} (hj : j.val / 2816 = 0) (hr : j.val % 2816 = r) (hq : k.val = q) :
    V m c main_v1 (ix2 j k) = at3 (m ((c : Thread nD τ).loc main_arg1)) 0 r q := by
  entry_read
  pointwise []
  exact at3_of (a := 2) (b := 2816) (d := 1024) _ _ hj hr hq

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 1024 := (y 0).isLt
  have hz : (y 1).val < 1408 := (y 1).isLt
  have ht : t.val < 16 := t.isLt
  have E0 : (((cfg0.win 2).blk t).view.emb y 0).val = t.val / 2 * 1024 + (y 0).val := show win0_2.index t 0 * 1024 + 1 * (y 0).val = _ by rw [e2, one_mul]; rfl
  have E1 : (((cfg0.win 2).blk t).view.emb y 1).val = t.val % 2 * 1408 + (y 1).val := show win0_2.index t 1 * 1408 + 1 * (y 1).val = _ by rw [e2, one_mul]; rfl
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 1024 + 1 * k.val = _ by rw [e0, one_mul]; exact Nat.zero_add _)
  · show V m c main_v1 (((cfg0.win 1).blk t).view.emb (ix2 (y 1) k)) = _
    rw [show ((cfg0.win 1).blk t).view.emb (ix2 (y 1) k) = (ix2 ⟨(t.val % 2) * 1408 + (y 1).val, by omega⟩ k : S5632x1024.Idx) from
      ext2 (show win0_1.index t 0 * 1408 + 1 * (y 1).val = _ by rw [e1, one_mul]; rfl) (show win0_1.index t 1 * 1024 + 1 * k.val = _ by rw [e1, one_mul]; exact Nat.zero_add _)]
    exact weights m c _ _ (show ((t.val % 2) * 1408 + (y 1).val) / 2816 = 0 by omega) (show ((t.val % 2) * 1408 + (y 1).val) % 2816 = t.val % 2 * 1408 + (y 1).val by omega) rfl

end Cert.DownDx0Ideal.Val

namespace Cert.DownDx0Ideal

open Cert.Prod Idealize.ShloMosaic Idealize.ShloMosaic.TcCoe Idealize.SL.Sem

theorem frame_ref : @Cert.quiescent_DownDx0RefIdeal DownDx0RefIdeal.Gen.facts := fun m ρ _ =>
  (θ_run DownDx0RefIdeal.defs _ _).mono (fun r h => ⟨fun c => (h c).2, sem_eq_zero_of_no_sems (by decide) r.2⟩) (DownDx0RefIdeal.Value.run (F := Ideal) m ρ)

/-- The call and the plain product leave the same array. -/
theorem same : @Cert.algebraic_DownDx0Ideal_DownDx0RefIdeal Gen.facts DownDx0RefIdeal.Gen.facts := by
  intro m g m' g' _ hagree
  refine ⟨Val.prod m, (θ_run defs _ _).mono (fun r h c => ⟨(h c).1.trans (Val.final m c), (h c).2⟩) (Value.run_blocks m g),
    (θ_run DownDx0RefIdeal.defs _ _).mono (fun r h c => ⟨(h c).1.trans ?_, (h c).2⟩) (DownDx0RefIdeal.Value.run m' g')⟩
  rw [(hagree c).1, (hagree c).2]
  funext y
  pointwise []
  exact Finset.sum_congr rfl fun k _ => congr (congrArg _ (at2_of _ _ rfl rfl)) (at3_of (a := 2) (b := 2816) (d := 1024) _ _ rfl rfl rfl)

end Cert.DownDx0Ideal

end
-- ==== Proof.DownDx1Val.lean ====
/- The second layer's down projection: the input's gradient. -/
module

public import proofs.«01_k».proof.Proof.Prod
public import proofs.«01_k».proof.Proof.Gen.DownDx1Ideal.Value
public import proofs.«01_k».proof.Proof.Gen.DownDx1RefIdeal.Run
public import proofs.«01_k».proof.Defs

@[expose] public section

set_option maxRecDepth 16384

noncomputable section

namespace Cert.DownDx1Ideal.Val

open Cert.DownDx1Ideal.Gen Cert.DownDx1Ideal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S8192x2816.Idx) : EReal := ∑ k : Fin 1024, at2 (m ((c : Thread nD τ).loc main_arg0)) (y 0).val k.val * at3 (m ((c : Thread nD τ).loc main_arg1)) 1 (y 1).val k.val

theorem idx : ∀ t : Fin cfg0.N, win0_0.index t = ![t.val / 2, 0] ∧ win0_1.index t = ![2 + t.val % 2, 0] ∧ win0_2.index t = ![t.val / 2, t.val % 2] :=
  (by decide +kernel : ∀ t : Fin grid0.N, _)

/-- The weights as the call's kernel finds them, the layers under one another. -/
theorem weights (j : Fin 5632) (k : Fin 1024) {r q : ℕ} (hj : j.val / 2816 = 1) (hr : j.val % 2816 = r) (hq : k.val = q) :
    V m c main_v1 (ix2 j k) = at3 (m ((c : Thread nD τ).loc main_arg1)) 1 r q := by
  entry_read
  pointwise []
  exact at3_of (a := 2) (b := 2816) (d := 1024) _ _ hj hr hq

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 1024 := (y 0).isLt
  have hz : (y 1).val < 1408 := (y 1).isLt
  have ht : t.val < 16 := t.isLt
  have E0 : (((cfg0.win 2).blk t).view.emb y 0).val = t.val / 2 * 1024 + (y 0).val := show win0_2.index t 0 * 1024 + 1 * (y 0).val = _ by rw [e2, one_mul]; rfl
  have E1 : (((cfg0.win 2).blk t).view.emb y 1).val = t.val % 2 * 1408 + (y 1).val := show win0_2.index t 1 * 1408 + 1 * (y 1).val = _ by rw [e2, one_mul]; rfl
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 1024 + 1 * k.val = _ by rw [e0, one_mul]; exact Nat.zero_add _)
  · show V m c main_v1 (((cfg0.win 1).blk t).view.emb (ix2 (y 1) k)) = _
    rw [show ((cfg0.win 1).blk t).view.emb (ix2 (y 1) k) = (ix2 ⟨(2 + t.val % 2) * 1408 + (y 1).val, by omega⟩ k : S5632x1024.Idx) from
      ext2 (show win0_1.index t 0 * 1408 + 1 * (y 1).val = _ by rw [e1, one_mul]; rfl) (show win0_1.index t 1 * 1024 + 1 * k.val = _ by rw [e1, one_mul]; exact Nat.zero_add _)]
    exact weights m c _ _ (show ((2 + t.val % 2) * 1408 + (y 1).val) / 2816 = 1 by omega) (show ((2 + t.val % 2) * 1408 + (y 1).val) % 2816 = t.val % 2 * 1408 + (y 1).val by omega) rfl

end Cert.DownDx1Ideal.Val

namespace Cert.DownDx1Ideal

open Cert.Prod Idealize.ShloMosaic Idealize.ShloMosaic.TcCoe Idealize.SL.Sem

theorem frame_ref : @Cert.quiescent_DownDx1RefIdeal DownDx1RefIdeal.Gen.facts := fun m ρ _ =>
  (θ_run DownDx1RefIdeal.defs _ _).mono (fun r h => ⟨fun c => (h c).2, sem_eq_zero_of_no_sems (by decide) r.2⟩) (DownDx1RefIdeal.Value.run (F := Ideal) m ρ)

/-- The call and the plain product leave the same array. -/
theorem same : @Cert.algebraic_DownDx1Ideal_DownDx1RefIdeal Gen.facts DownDx1RefIdeal.Gen.facts := by
  intro m g m' g' _ hagree
  refine ⟨Val.prod m, (θ_run defs _ _).mono (fun r h c => ⟨(h c).1.trans (Val.final m c), (h c).2⟩) (Value.run_blocks m g),
    (θ_run DownDx1RefIdeal.defs _ _).mono (fun r h c => ⟨(h c).1.trans ?_, (h c).2⟩) (DownDx1RefIdeal.Value.run m' g')⟩
  rw [(hagree c).1, (hagree c).2]
  funext y
  pointwise []
  exact Finset.sum_congr rfl fun k _ => congr (congrArg _ (at2_of _ _ rfl rfl)) (at3_of (a := 2) (b := 2816) (d := 1024) _ _ rfl rfl rfl)

end Cert.DownDx1Ideal

end
-- ==== Proof.Cols.lean ====
/- The gated layer's input weights as the calls take them. -/
module

public import proofs.«01_k».proof.Proof.Prod

@[expose] public section

set_option maxRecDepth 16384

noncomputable section

namespace Cert.Prod

open Idealize.ShloMosaic

/-- The gate's columns behind the others', the rest zero. -/
def cols (w : (⟨3, ![1, 1024, 3088]⟩ : Shape).Idx → EReal) (j k : ℕ) : EReal :=
  if k < 2048 then at3 w 0 j k else if k < 3072 then at3 w 0 j (k + 16) else if k < 3088 then at3 w 0 j (k - 1024) else 0

theorem laid (w : (⟨3, ![1, 1024, 3088]⟩ : Shape).Idx → EReal) (h h1 h2 h3)
    (hc : Shape.Concatenates [⟨2, ![1024, 2048]⟩, ⟨2, ![1024, 1024]⟩, ⟨2, ![1024, 16]⟩, ⟨2, ![1024, 112]⟩] ⟨2, ![1024, 3200]⟩ 1) (z : (⟨2, ![1024, 112]⟩ : Shape).Idx → EReal) (hz : ∀ y, z y = 0)
    (y : (⟨2, ![1024, 3200]⟩ : Shape).Idx) :
    concatenate (⟨2, ![1024, 3200]⟩ : Shape) 1
      [⟨⟨2, ![1024, 2048]⟩, extractStridedSlice ⟨2, ![1024, 2048]⟩ ![0, 0] (shapeCast ⟨2, ![1024, 3088]⟩ w h) h1⟩,
       ⟨⟨2, ![1024, 1024]⟩, extractStridedSlice ⟨2, ![1024, 1024]⟩ ![0, 2064] (shapeCast ⟨2, ![1024, 3088]⟩ w h) h2⟩,
       ⟨⟨2, ![1024, 16]⟩, extractStridedSlice ⟨2, ![1024, 16]⟩ ![0, 2048] (shapeCast ⟨2, ![1024, 3088]⟩ w h) h3⟩,
       ⟨⟨2, ![1024, 112]⟩, z⟩] hc y = cols w (y 0).val (y 1).val := by
  rw [layer]
  pointwise []
  unfold cols
  by_cases a : (y 1).val < 2048
  · rw [dif_pos a, if_pos a]
  rw [dif_neg a, if_neg a]
  by_cases b : (y 1).val < 3072
  · rw [dif_pos (by omega), if_pos b]
    exact congrArg (at3 w 0 _) (by omega)
  rw [dif_neg (by omega), if_neg b]
  by_cases d : (y 1).val < 3088
  · rw [dif_pos (by omega), if_pos d]
    exact congrArg (at3 w 0 _) (by omega)
  rw [dif_neg (by omega), if_neg d]
  exact hz _

end Cert.Prod

end
-- ==== Proof.InBDxVal.lean ====
/- The gated layer's input projection: the input's gradient. -/
module

public import proofs.«01_k».proof.Proof.Cols
public import proofs.«01_k».proof.Proof.Gen.InBDxIdeal.Value
public import proofs.«01_k».proof.Proof.Gen.InBDxRefIdeal.Run
public import proofs.«01_k».proof.Defs

@[expose] public section

set_option maxRecDepth 16384

noncomputable section

namespace Cert.InBDxIdeal.Val

open Cert.InBDxIdeal.Gen Cert.InBDxIdeal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S8192x1024.Idx) : EReal := ∑ k : Fin 3200, at2 (m ((c : Thread nD τ).loc main_arg0)) (y 0).val k.val * cols (m ((c : Thread nD τ).loc main_arg1)) (y 1).val k.val

theorem idx : ∀ t : Fin cfg0.N, win0_0.index t = ![t.val, 0] ∧ win0_1.index t = ![0, 0] ∧ win0_2.index t = ![t.val, 0] :=
  (by decide +kernel : ∀ t : Fin grid0.N, _)

/-- What the host code hands the call, from the weights it is given. -/
def host (s : S1024x3088.Idx → EReal) : S1024x3200.Idx → EReal :=
  concatenate S1024x3200 1 [⟨S1024x2048, (extractStridedSlice S1024x2048 ![0, 0] s slices_S1024x3088_S1024x2048_0_0 : S1024x2048.Idx → EReal)⟩,
    ⟨S1024x1024, (extractStridedSlice S1024x1024 ![0, 2064] s slices_S1024x3088_S1024x1024_0_2064 : S1024x1024.Idx → EReal)⟩,
    ⟨S1024x16, (extractStridedSlice S1024x16 ![0, 2048] s slices_S1024x3088_S1024x16_0_2048 : S1024x16.Idx → EReal)⟩,
    ⟨S1024x112, (broadcastInDim S1024x112 ![] bcast_S_S1024x112 (constant (F := Ideal) S_ .bf16 0x0000#16) : S1024x112.Idx → EReal)⟩]
    concatenates_S1024x2048_S1024x1024_S1024x16_S1024x112_S1024x3200_d1

theorem entered : V m c main_v6 = host (shapeCast S1024x3088 (m ((c : Thread nD τ).loc main_arg1)) shapeCasts_S1x1024x3088_S1024x3088) := by
  show StableHlo.after hostOps0 (fun b => m (c, b)) (Proc.devRef .tc main_v6) = _
  after_results <;> rfl

/-- The weights as the call's kernel finds them: the gate's columns behind the others', the rest zero. -/
theorem weights (j : Fin 1024) (k : Fin 3200) {r q : ℕ} (hr : j.val = r) (hq : k.val = q) : V m c main_v6 (ix2 j k) = cols (m ((c : Thread nD τ).loc main_arg1)) r q := by
  subst hr hq
  refine (congrFun (entered m c) _).trans ?_
  exact laid _ _ _ _ _ _ _ (fun _ => by pointwise []) _

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 1024 := (y 0).isLt
  have hz : (y 1).val < 1024 := (y 1).isLt
  have ht : t.val < 8 := t.isLt
  have E0 : (((cfg0.win 2).blk t).view.emb y 0).val = t.val * 1024 + (y 0).val := show win0_2.index t 0 * 1024 + 1 * (y 0).val = _ by rw [e2, one_mul]; rfl
  have E1 : (((cfg0.win 2).blk t).view.emb y 1).val = (y 1).val := show win0_2.index t 1 * 1024 + 1 * (y 1).val = _ by rw [e2, one_mul]; exact Nat.zero_add _
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 3200 + 1 * k.val = _ by rw [e0, one_mul]; exact Nat.zero_add _)
  · show V m c main_v6 (((cfg0.win 1).blk t).view.emb (ix2 (y 1) k)) = _
    rw [show ((cfg0.win 1).blk t).view.emb (ix2 (y 1) k) = (ix2 ⟨(y 1).val, hz⟩ k : S1024x3200.Idx) from
      ext2 (show win0_1.index t 0 * 1024 + 1 * (y 1).val = _ by rw [e1, one_mul]; exact Nat.zero_add _) (show win0_1.index t 1 * 3200 + 1 * k.val = _ by rw [e1, one_mul]; exact Nat.zero_add _)]
    exact weights m c _ _ rfl rfl

end Cert.InBDxIdeal.Val

namespace Cert.InBDxIdeal

open Cert.Prod Idealize.ShloMosaic Idealize.ShloMosaic.TcCoe Idealize.SL.Sem

theorem frame_ref : @Cert.quiescent_InBDxRefIdeal InBDxRefIdeal.Gen.facts := fun m ρ _ =>
  (θ_run InBDxRefIdeal.defs _ _).mono (fun r h => ⟨fun c => (h c).2, sem_eq_zero_of_no_sems (by decide) r.2⟩) (InBDxRefIdeal.Value.run (F := Ideal) m ρ)

/-- The call and the plain product leave the same array. -/
theorem same : @Cert.algebraic_InBDxIdeal_InBDxRefIdeal Gen.facts InBDxRefIdeal.Gen.facts := by
  intro m g m' g' _ hagree
  refine ⟨Val.prod m, (θ_run defs _ _).mono (fun r h c => ⟨(h c).1.trans (Val.final m c), (h c).2⟩) (Value.run_blocks m g),
    (θ_run InBDxRefIdeal.defs _ _).mono (fun r h c => ⟨(h c).1.trans ?_, (h c).2⟩) (InBDxRefIdeal.Value.run m' g')⟩
  rw [(hagree c).1, (hagree c).2]
  generalize e : concatenate _ _ _ _ = w
  funext y
  pointwise []
  refine Finset.sum_congr (M := EReal) rfl fun k _ => congr (congrArg _ (at2_of _ _ rfl rfl)) ?_
  subst e
  exact laid _ _ _ _ _ _ _ (fun _ => by pointwise []) _

end Cert.InBDxIdeal

end
-- ==== Proof.InBDwVal.lean ====
/- The gated layer's input projection: the weights' gradient. -/
module

public import proofs.«01_k».proof.Proof.Prod
public import proofs.«01_k».proof.Proof.Gen.InBDwIdeal.Value
public import proofs.«01_k».proof.Proof.Gen.InBDwRefIdeal.Run
public import proofs.«01_k».proof.Defs

@[expose] public section

set_option maxRecDepth 16384

noncomputable section

namespace Cert.InBDwIdeal.Val

open Cert.InBDwIdeal.Gen Cert.InBDwIdeal.Value Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) k i * at2 (m ((c : Thread nD τ).loc main_arg1)) k j

/-- The product of the blocks of point `n`. -/
def part (n : ℕ) (y : S1024x640.Idx) : EReal := ∑ k : Fin 2048, term m c ((y 0).val) (n / 4 * 640 + (y 1).val) (n % 4 * 2048 + k.val)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

theorem part_eq (t : Fin cfg0.N) (y : S1024x640.Idx) : k0_pay1 (iblk m c 0 t) (iblk m c 1 t) y = part m c t.val y := by
  obtain ⟨e0, e1, -⟩ := idx t
  have hy : (y 0).val < 1024 := (y 0).isLt
  have hz : (y 1).val < 640 := (y 1).isLt
  have ht : t.val < 20 := t.isLt
  unfold k0_pay1 part term
  pointwise []
  refine Finset.sum_congr (M := EReal) rfl fun k _ => congr (congrArg _ ?_) ?_
  · show V m c main_arg0 (((cfg0.win 0).blk t).view.emb (ix2 k (y 0))) = _
    rw [V_main_arg0]
    exact at2_of _ _ (show win0_0.index t 0 * 2048 + 1 * k.val = _ by rw [e0, one_mul]; rfl) (show win0_0.index t 1 * 1024 + 1 * (y 0).val = _ by rw [e0, one_mul]; exact Nat.zero_add _)
  · show V m c main_arg1 (((cfg0.win 1).blk t).view.emb (ix2 k (y 1))) = _
    rw [V_main_arg1]
    exact at2_of _ _ (show win0_1.index t 0 * 2048 + 1 * k.val = _ by rw [e1, one_mul]; rfl) (show win0_1.index t 1 * 640 + 1 * (y 1).val = _ by rw [e1, one_mul]; rfl)

/-- At a run's first point the accumulator is set to the block's product. -/
theorem first (n : ℕ) (h : n < cfg0.N) (hn : n % 4 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S2048x1024) z2, View.ld_unit_zero (S := S2048x640) z2, shapeCast_self]

/-- At every other point it is added to. -/
theorem next (n : ℕ) (h : n + 1 < cfg0.N) (hn : (n + 1) % 4 ≠ 0) (y : S1024x640.Idx) : (outsAt0 m c (n + 1) h).2 y = (outsAt0 m c n (Nat.lt_of_succ_lt h)).2 y + part m c (n + 1) y := by
  show (outsAt0 m c (⟨n + 1, h⟩ : Fin cfg0.N).val _).2 y = _
  by_cases hl : (n + 1) % 4 = 3
  · rw [outsAt0_C m c ⟨n + 1, h⟩ hn (by dsimp only; omega) hl]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S2048x1024) z2, View.ld_unit_zero (S := S2048x640) z2, View.ld_unit_zero (S := S1024x640) z2, shapeCast_self]
    exact congrArg (· + _) (congrFun ((Memref.isWhole_whole cc0_scratch0).read_unread _) y)
  · rw [outsAt0_B m c ⟨n + 1, h⟩ hn (by dsimp only; omega) hl]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S2048x1024) z2, View.ld_unit_zero (S := S2048x640) z2, View.ld_unit_zero (S := S1024x640) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = (outsAt0 m c t.val t.isLt).2 := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z2, View.canon_unit_zero z2, View.readCov_unit_zero (S := S1024x640) _ z2]

def prod (y : S1024x3200.Idx) : EReal := ∑ k : Fin 8192, term m c (y 0).val (y 1).val k.val

/-- What the call leaves: the whole product. -/
theorem final : (dats m 0 c).arrAt 2 cfg0.N = prod m c := by
  refine (dats m 0 c).arrAt_eq_of_covers 2 _ (by decide +kernel) fun t hf y => ?_
  have hm : t.val % 4 = 3 := (flush0_2 t).mp hf
  obtain ⟨-, -, e2⟩ := idx t
  have E0 : (((cfg0.win 2).blk t).view.emb y 0).val = (y 0).val := show win0_2.index t 0 * 1024 + 1 * (y 0).val = _ by rw [e2, one_mul]; exact Nat.zero_add _
  have E1 : (((cfg0.win 2).blk t).view.emb y 1).val = t.val / 4 * 640 + (y 1).val := show win0_2.index t 1 * 640 + 1 * (y 1).val = _ by rw [e2, one_mul]; rfl
  rw [prod, E0, E1]
  blk_simp
  rw [after0_2, last m c t hm]
  refine run_total 2048 (by decide) (fun n h => (outsAt0 m c n h).2) (part m c) (first m c) (next m c) t.isLt hm y (term m c ((y 0).val) (t.val / 4 * 640 + (y 1).val)) fun q hq => ?_
  rw [part, hq]

end Cert.InBDwIdeal.Val

namespace Cert.InBDwIdeal

open Cert.Prod Idealize.ShloMosaic Idealize.ShloMosaic.TcCoe Idealize.SL.Sem

theorem frame_ref : @Cert.quiescent_InBDwRefIdeal InBDwRefIdeal.Gen.facts := fun m ρ _ =>
  (θ_run InBDwRefIdeal.defs _ _).mono (fun r h => ⟨fun c => (h c).2, sem_eq_zero_of_no_sems (by decide) r.2⟩) (InBDwRefIdeal.Value.run (F := Ideal) m ρ)

/-- The call and the plain product leave the same array. -/
theorem same : @Cert.algebraic_InBDwIdeal_InBDwRefIdeal Gen.facts InBDwRefIdeal.Gen.facts := by
  intro m g m' g' _ hagree
  refine ⟨Val.prod m, (θ_run defs _ _).mono (fun r h c => ⟨(h c).1.trans (Val.final m c), (h c).2⟩) (Value.run_blocks m g),
    (θ_run InBDwRefIdeal.defs _ _).mono (fun r h c => ⟨(h c).1.trans ?_, (h c).2⟩) (InBDwRefIdeal.Value.run m' g')⟩
  rw [(hagree c).1, (hagree c).2]
  funext y
  pointwise []
  exact Finset.sum_congr (M := EReal) rfl fun k _ => congr (congrArg _ (at2_of _ _ rfl rfl)) (at2_of _ _ rfl rfl)

end Cert.InBDwIdeal

end
-- ==== Proof.OutDxVal.lean ====
/- The output projections: the input's gradient. -/
module

public import proofs.«01_k».proof.Proof.Prod
public import proofs.«01_k».proof.Proof.Gen.OutDxIdeal.Value
public import proofs.«01_k».proof.Proof.Gen.OutDxRefIdeal.Run
public import proofs.«01_k».proof.Defs

@[expose] public section

set_option maxRecDepth 16384

noncomputable section

namespace Cert.OutDxIdeal.Val

open Cert.OutDxIdeal.Gen Cert.OutDxIdeal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S8192x1024.Idx) : EReal := ∑ k : Fin 1024, at2 (m ((c : Thread nD τ).loc main_arg0)) (y 0).val k.val * at3 (m ((c : Thread nD τ).loc main_arg1)) 0 (y 1).val k.val

theorem idx : ∀ t : Fin cfg0.N, win0_0.index t = ![t.val, 0] ∧ win0_1.index t = ![0, 0] ∧ win0_2.index t = ![t.val, 0] :=
  (by decide +kernel : ∀ t : Fin grid0.N, _)

/-- The weights as the call's kernel finds them. -/
theorem weights (j k : Fin 1024) {r q : ℕ} (hr : j.val = r) (hq : k.val = q) : V m c main_v1 (ix2 j k) = at3 (m ((c : Thread nD τ).loc main_arg1)) 0 r q := by
  entry_read
  pointwise []
  exact at3_of (a := 1) (b := 1024) (d := 1024) _ _ rfl hr hq

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 1024 := (y 0).isLt
  have hz : (y 1).val < 1024 := (y 1).isLt
  have ht : t.val < 8 := t.isLt
  have E0 : (((cfg0.win 2).blk t).view.emb y 0).val = t.val * 1024 + (y 0).val := show win0_2.index t 0 * 1024 + 1 * (y 0).val = _ by rw [e2, one_mul]; rfl
  have E1 : (((cfg0.win 2).blk t).view.emb y 1).val = (y 1).val := show win0_2.index t 1 * 1024 + 1 * (y 1).val = _ by rw [e2, one_mul]; exact Nat.zero_add _
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 1024 + 1 * k.val = _ by rw [e0, one_mul]; exact Nat.zero_add _)
  · show V m c main_v1 (((cfg0.win 1).blk t).view.emb (ix2 (y 1) k)) = _
    rw [show ((cfg0.win 1).blk t).view.emb (ix2 (y 1) k) = (ix2 ⟨(y 1).val, hz⟩ k : S1024x1024.Idx) from
      ext2 (show win0_1.index t 0 * 1024 + 1 * (y 1).val = _ by rw [e1, one_mul]; exact Nat.zero_add _) (show win0_1.index t 1 * 1024 + 1 * k.val = _ by rw [e1, one_mul]; exact Nat.zero_add _)]
    exact weights m c _ _ rfl rfl

end Cert.OutDxIdeal.Val

namespace Cert.OutDxIdeal

open Cert.Prod Idealize.ShloMosaic Idealize.ShloMosaic.TcCoe Idealize.SL.Sem

theorem frame_ref : @Cert.quiescent_OutDxRefIdeal OutDxRefIdeal.Gen.facts := fun m ρ _ =>
  (θ_run OutDxRefIdeal.defs _ _).mono (fun r h => ⟨fun c => (h c).2, sem_eq_zero_of_no_sems (by decide) r.2⟩) (OutDxRefIdeal.Value.run (F := Ideal) m ρ)

/-- The call and the plain product leave the same array. -/
theorem same : @Cert.algebraic_OutDxIdeal_OutDxRefIdeal Gen.facts OutDxRefIdeal.Gen.facts := by
  intro m g m' g' _ hagree
  refine ⟨Val.prod m, (θ_run defs _ _).mono (fun r h c => ⟨(h c).1.trans (Val.final m c), (h c).2⟩) (Value.run_blocks m g),
    (θ_run OutDxRefIdeal.defs _ _).mono (fun r h c => ⟨(h c).1.trans ?_, (h c).2⟩) (OutDxRefIdeal.Value.run m' g')⟩
  rw [(hagree c).1, (hagree c).2]
  rw [layer]
  funext y
  pointwise []
  exact Finset.sum_congr rfl fun k _ => congr (congrArg _ (at2_of _ _ rfl rfl)) rfl

end Cert.OutDxIdeal

end
-- ==== Proof.OutADwVal.lean ====
/- The attention layer's output projection: the weights' gradient. -/
module

public import proofs.«01_k».proof.Proof.Prod
public import proofs.«01_k».proof.Proof.Gen.OutADwIdeal.Value
public import proofs.«01_k».proof.Proof.Gen.OutADwRefIdeal.Run
public import proofs.«01_k».proof.Defs

@[expose] public section

set_option maxRecDepth 16384

noncomputable section

namespace Cert.OutADwIdeal.Val

open Cert.OutADwIdeal.Gen Cert.OutADwIdeal.Value Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) k i * at2 (m ((c : Thread nD τ).loc main_arg1)) k j

/-- The product of the blocks of point `n`. -/
def part (n : ℕ) (y : S1024x1024.Idx) : EReal := ∑ k : Fin 2048, term m c ((y 0).val) ((y 1).val) (n % 4 * 2048 + k.val)

theorem idx : ∀ t : Fin cfg0.N, win0_0.index t = ![t.val % 4, 0] ∧ win0_1.index t = ![t.val % 4, 0] ∧ win0_2.index t = ![0, 0] :=
  (by decide +kernel : ∀ t : Fin grid0.N, _)

theorem part_eq (t : Fin cfg0.N) (y : S1024x1024.Idx) : k0_pay1 (iblk m c 0 t) (iblk m c 1 t) y = part m c t.val y := by
  obtain ⟨e0, e1, -⟩ := idx t
  have hy : (y 0).val < 1024 := (y 0).isLt
  have hz : (y 1).val < 1024 := (y 1).isLt
  have ht : t.val < 4 := t.isLt
  unfold k0_pay1 part term
  pointwise []
  refine Finset.sum_congr (M := EReal) rfl fun k _ => congr (congrArg _ ?_) ?_
  · show V m c main_arg0 (((cfg0.win 0).blk t).view.emb (ix2 k (y 0))) = _
    rw [V_main_arg0]
    exact at2_of _ _ (show win0_0.index t 0 * 2048 + 1 * k.val = _ by rw [e0, one_mul]; rfl) (show win0_0.index t 1 * 1024 + 1 * (y 0).val = _ by rw [e0, one_mul]; exact Nat.zero_add _)
  · show V m c main_arg1 (((cfg0.win 1).blk t).view.emb (ix2 k (y 1))) = _
    rw [V_main_arg1]
    exact at2_of _ _ (show win0_1.index t 0 * 2048 + 1 * k.val = _ by rw [e1, one_mul]; rfl) (show win0_1.index t 1 * 1024 + 1 * (y 1).val = _ by rw [e1, one_mul]; exact Nat.zero_add _)

/-- At a run's first point the accumulator is set to the block's product. -/
theorem first (n : ℕ) (h : n < cfg0.N) (hn : n % 4 = 0) : (outsAt0 m c n h).2 = part m c n := by
  have h4 : n < 4 := h
  show (outsAt0 m c (⟨n, h⟩ : Fin cfg0.N).val _).2 = _
  rw [outsAt0_A m c ⟨n, h⟩ (by dsimp only; omega) (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S2048x1024) z2, shapeCast_self]

/-- At every other point it is added to. -/
theorem next (n : ℕ) (h : n + 1 < cfg0.N) (hn : (n + 1) % 4 ≠ 0) (y : S1024x1024.Idx) : (outsAt0 m c (n + 1) h).2 y = (outsAt0 m c n (Nat.lt_of_succ_lt h)).2 y + part m c (n + 1) y := by
  have h4 : n + 1 < 4 := h
  show (outsAt0 m c (⟨n + 1, h⟩ : Fin cfg0.N).val _).2 y = _
  by_cases hl : (n + 1) % 4 = 3
  · rw [outsAt0_C m c ⟨n + 1, h⟩ (by dsimp only; omega) (by dsimp only; omega) (by dsimp only; omega)]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S2048x1024) z2, View.ld_unit_zero (S := S1024x1024) z2, shapeCast_self]
    exact congrArg (· + _) (congrFun ((Memref.isWhole_whole cc0_scratch0).read_unread _) y)
  · rw [outsAt0_B m c ⟨n + 1, h⟩ (by dsimp only; omega) (by dsimp only; omega) (by dsimp only; omega)]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S2048x1024) z2, View.ld_unit_zero (S := S1024x1024) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = (outsAt0 m c t.val t.isLt).2 := by
  have h4 : t.val < 4 := t.isLt
  rw [outsAt0_C m c t (by omega) (by omega) (by omega)]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z2, View.canon_unit_zero z2, View.readCov_unit_zero (S := S1024x1024) _ z2]

def prod (y : S1024x1024.Idx) : EReal := ∑ k : Fin 8192, term m c (y 0).val (y 1).val k.val

/-- What the call leaves: the whole product. -/
theorem final : (dats m 0 c).arrAt 2 cfg0.N = prod m c := by
  refine (dats m 0 c).arrAt_eq_of_covers 2 _ (by decide +kernel) fun t hf y => ?_
  have h4 : t.val < 4 := t.isLt
  have hm : t.val % 4 = 3 := by have := (flush0_2 t).mp hf; omega
  obtain ⟨-, -, e2⟩ := idx t
  have E0 : (((cfg0.win 2).blk t).view.emb y 0).val = (y 0).val := show win0_2.index t 0 * 1024 + 1 * (y 0).val = _ by rw [e2, one_mul]; exact Nat.zero_add _
  have E1 : (((cfg0.win 2).blk t).view.emb y 1).val = (y 1).val := show win0_2.index t 1 * 1024 + 1 * (y 1).val = _ by rw [e2, one_mul]; exact Nat.zero_add _
  rw [prod, E0, E1]
  blk_simp
  rw [after0_2, last m c t hm]
  refine run_total 2048 (by decide) (fun n h => (outsAt0 m c n h).2) (part m c) (first m c) (next m c) t.isLt hm y (term m c ((y 0).val) ((y 1).val)) fun q hq => ?_
  rw [part]

end Cert.OutADwIdeal.Val

namespace Cert.OutADwIdeal

open Cert.Prod Idealize.ShloMosaic Idealize.ShloMosaic.TcCoe Idealize.SL.Sem

theorem frame_ref : @Cert.quiescent_OutADwRefIdeal OutADwRefIdeal.Gen.facts := fun m ρ _ =>
  (θ_run OutADwRefIdeal.defs _ _).mono (fun r h => ⟨fun c => (h c).2, sem_eq_zero_of_no_sems (by decide) r.2⟩) (OutADwRefIdeal.Value.run (F := Ideal) m ρ)

/-- The call and the plain product leave the same array. -/
theorem same : @Cert.algebraic_OutADwIdeal_OutADwRefIdeal Gen.facts OutADwRefIdeal.Gen.facts := by
  intro m g m' g' _ hagree
  refine ⟨Val.prod m, (θ_run defs _ _).mono (fun r h c => ⟨(h c).1.trans (Val.final m c), (h c).2⟩) (Value.run_blocks m g),
    (θ_run OutADwRefIdeal.defs _ _).mono (fun r h c => ⟨(h c).1.trans ?_, (h c).2⟩) (OutADwRefIdeal.Value.run m' g')⟩
  rw [(hagree c).1, (hagree c).2]
  funext y
  pointwise []
  exact Finset.sum_congr (M := EReal) rfl fun k _ => congr (congrArg _ (at2_of _ _ rfl rfl)) (at2_of _ _ rfl rfl)

end Cert.OutADwIdeal

end
-- ==== Proof.OutBDwVal.lean ====
/- The gated layer's output projection: the weights' gradient. -/
module

public import proofs.«01_k».proof.Proof.Prod
public import proofs.«01_k».proof.Proof.Gen.OutBDwIdeal.Value
public import proofs.«01_k».proof.Proof.Gen.OutBDwRefIdeal.Run
public import proofs.«01_k».proof.Defs

@[expose] public section

set_option maxRecDepth 16384

noncomputable section

namespace Cert.OutBDwIdeal.Val

open Cert.OutBDwIdeal.Gen Cert.OutBDwIdeal.Value Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) k i * at2 (m ((c : Thread nD τ).loc main_arg1)) k j

/-- The product of the blocks of point `n`. -/
def part (n : ℕ) (y : S1024x1024.Idx) : EReal := ∑ k : Fin 2048, term m c ((y 0).val) ((y 1).val) (n % 4 * 2048 + k.val)

theorem idx : ∀ t : Fin cfg0.N, win0_0.index t = ![t.val % 4, 0] ∧ win0_1.index t = ![t.val % 4, 0] ∧ win0_2.index t = ![0, 0] :=
  (by decide +kernel : ∀ t : Fin grid0.N, _)

theorem part_eq (t : Fin cfg0.N) (y : S1024x1024.Idx) : k0_pay1 (iblk m c 0 t) (iblk m c 1 t) y = part m c t.val y := by
  obtain ⟨e0, e1, -⟩ := idx t
  have hy : (y 0).val < 1024 := (y 0).isLt
  have hz : (y 1).val < 1024 := (y 1).isLt
  have ht : t.val < 4 := t.isLt
  unfold k0_pay1 part term
  pointwise []
  refine Finset.sum_congr (M := EReal) rfl fun k _ => congr (congrArg _ ?_) ?_
  · show V m c main_arg0 (((cfg0.win 0).blk t).view.emb (ix2 k (y 0))) = _
    rw [V_main_arg0]
    exact at2_of _ _ (show win0_0.index t 0 * 2048 + 1 * k.val = _ by rw [e0, one_mul]; rfl) (show win0_0.index t 1 * 1024 + 1 * (y 0).val = _ by rw [e0, one_mul]; exact Nat.zero_add _)
  · show V m c main_arg1 (((cfg0.win 1).blk t).view.emb (ix2 k (y 1))) = _
    rw [V_main_arg1]
    exact at2_of _ _ (show win0_1.index t 0 * 2048 + 1 * k.val = _ by rw [e1, one_mul]; rfl) (show win0_1.index t 1 * 1024 + 1 * (y 1).val = _ by rw [e1, one_mul]; exact Nat.zero_add _)

/-- At a run's first point the accumulator is set to the block's product. -/
theorem first (n : ℕ) (h : n < cfg0.N) (hn : n % 4 = 0) : (outsAt0 m c n h).2 = part m c n := by
  have h4 : n < 4 := h
  show (outsAt0 m c (⟨n, h⟩ : Fin cfg0.N).val _).2 = _
  rw [outsAt0_A m c ⟨n, h⟩ (by dsimp only; omega) (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S2048x1024) z2, shapeCast_self]

/-- At every other point it is added to. -/
theorem next (n : ℕ) (h : n + 1 < cfg0.N) (hn : (n + 1) % 4 ≠ 0) (y : S1024x1024.Idx) : (outsAt0 m c (n + 1) h).2 y = (outsAt0 m c n (Nat.lt_of_succ_lt h)).2 y + part m c (n + 1) y := by
  have h4 : n + 1 < 4 := h
  show (outsAt0 m c (⟨n + 1, h⟩ : Fin cfg0.N).val _).2 y = _
  by_cases hl : (n + 1) % 4 = 3
  · rw [outsAt0_C m c ⟨n + 1, h⟩ (by dsimp only; omega) (by dsimp only; omega) (by dsimp only; omega)]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S2048x1024) z2, View.ld_unit_zero (S := S1024x1024) z2, shapeCast_self]
    exact congrArg (· + _) (congrFun ((Memref.isWhole_whole cc0_scratch0).read_unread _) y)
  · rw [outsAt0_B m c ⟨n + 1, h⟩ (by dsimp only; omega) (by dsimp only; omega) (by dsimp only; omega)]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S2048x1024) z2, View.ld_unit_zero (S := S1024x1024) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = (outsAt0 m c t.val t.isLt).2 := by
  have h4 : t.val < 4 := t.isLt
  rw [outsAt0_C m c t (by omega) (by omega) (by omega)]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z2, View.canon_unit_zero z2, View.readCov_unit_zero (S := S1024x1024) _ z2]

def prod (y : S1024x1024.Idx) : EReal := ∑ k : Fin 8192, term m c (y 0).val (y 1).val k.val

/-- What the call leaves: the whole product. -/
theorem final : (dats m 0 c).arrAt 2 cfg0.N = prod m c := by
  refine (dats m 0 c).arrAt_eq_of_covers 2 _ (by decide +kernel) fun t hf y => ?_
  have h4 : t.val < 4 := t.isLt
  have hm : t.val % 4 = 3 := by have := (flush0_2 t).mp hf; omega
  obtain ⟨-, -, e2⟩ := idx t
  have E0 : (((cfg0.win 2).blk t).view.emb y 0).val = (y 0).val := show win0_2.index t 0 * 1024 + 1 * (y 0).val = _ by rw [e2, one_mul]; exact Nat.zero_add _
  have E1 : (((cfg0.win 2).blk t).view.emb y 1).val = (y 1).val := show win0_2.index t 1 * 1024 + 1 * (y 1).val = _ by rw [e2, one_mul]; exact Nat.zero_add _
  rw [prod, E0, E1]
  blk_simp
  rw [after0_2, last m c t hm]
  refine run_total 2048 (by decide) (fun n h => (outsAt0 m c n h).2) (part m c) (first m c) (next m c) t.isLt hm y (term m c ((y 0).val) ((y 1).val)) fun q hq => ?_
  rw [part]

end Cert.OutBDwIdeal.Val

namespace Cert.OutBDwIdeal

open Cert.Prod Idealize.ShloMosaic Idealize.ShloMosaic.TcCoe Idealize.SL.Sem

theorem frame_ref : @Cert.quiescent_OutBDwRefIdeal OutBDwRefIdeal.Gen.facts := fun m ρ _ =>
  (θ_run OutBDwRefIdeal.defs _ _).mono (fun r h => ⟨fun c => (h c).2, sem_eq_zero_of_no_sems (by decide) r.2⟩) (OutBDwRefIdeal.Value.run (F := Ideal) m ρ)

/-- The call and the plain product leave the same array. -/
theorem same : @Cert.algebraic_OutBDwIdeal_OutBDwRefIdeal Gen.facts OutBDwRefIdeal.Gen.facts := by
  intro m g m' g' _ hagree
  refine ⟨Val.prod m, (θ_run defs _ _).mono (fun r h c => ⟨(h c).1.trans (Val.final m c), (h c).2⟩) (Value.run_blocks m g),
    (θ_run OutBDwRefIdeal.defs _ _).mono (fun r h c => ⟨(h c).1.trans ?_, (h c).2⟩) (OutBDwRefIdeal.Value.run m' g')⟩
  rw [(hagree c).1, (hagree c).2]
  funext y
  pointwise []
  exact Finset.sum_congr (M := EReal) rfl fun k _ => congr (congrArg _ (at2_of _ _ rfl rfl)) (at2_of _ _ rfl rfl)

end Cert.OutBDwIdeal

end
-- ==== Proof.InADx0Val.lean ====
/- The attention layer's input projection, first group of heads: the input's gradient. -/
module

public import proofs.«01_k».proof.Proof.Prod
public import proofs.«01_k».proof.Proof.Gen.InADx0Ideal.Value
public import proofs.«01_k».proof.Proof.Gen.InADx0RefIdeal.Run
public import proofs.«01_k».proof.Defs

@[expose] public section

set_option maxRecDepth 16384

noncomputable section

namespace Cert.InADx0Ideal.Val

open Cert.InADx0Ideal.Gen Cert.InADx0Ideal.Value Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) i k * at3 (m ((c : Thread nD τ).loc main_arg1)) 0 j k

/-- The product of the blocks of point `n`. -/
def part (n : ℕ) (y : S1024x1024.Idx) : EReal := ∑ k : Fin 768, term m c (n / 4 * 1024 + (y 0).val) ((y 1).val) (n % 4 * 768 + k.val)

theorem idx : ∀ t : Fin cfg0.N, win0_0.index t = ![t.val / 4, t.val % 4] ∧ win0_1.index t = ![(t.val % 4) / 3, 0, (t.val % 4) % 3] ∧ win0_2.index t = ![t.val / 4, 0] :=
  (by decide +kernel : ∀ t : Fin grid0.N, _)

/-- The weights as the call's kernel finds them: four chips' columns. -/
theorem weights (a : Fin 4) (j : Fin 1024) (k : Fin 2304) {r q : ℕ} (hr : j.val = r) (hq : a.val * 2304 + k.val = q) :
    V m c main_v2 (ix3 a j k) = at3 (m ((c : Thread nD τ).loc main_arg1)) 0 r q := by
  entry_read
  pointwise []
  exact at3_of (a := 1) (b := 1024) (d := 9216) _ _ rfl hr hq

theorem part_eq (t : Fin cfg0.N) (y : S1024x1024.Idx) : k0_pay1 (iblk m c 0 t) (iblk m c 1 t) y = part m c t.val y := by
  obtain ⟨e0, e1, -⟩ := idx t
  have hy : (y 0).val < 1024 := (y 0).isLt
  have hz : (y 1).val < 1024 := (y 1).isLt
  have ht : t.val < 32 := t.isLt
  unfold k0_pay1 part term
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 768 + 1 * k.val = _ by rw [e0, one_mul]; rfl)
  · show V m c main_v2 (((cfg0.win 1).blk t).view.emb (ix3 0 (y 1) k)) = _
    rw [show ((cfg0.win 1).blk t).view.emb (ix3 0 (y 1) k) = (ix3 ⟨(t.val % 4) / 3, by omega⟩ ⟨(y 1).val, hz⟩ ⟨(t.val % 4) % 3 * 768 + k.val, by omega⟩ : S4x1024x2304.Idx) from
      ext3 (show win0_1.index t 0 * 1 + 1 * 0 = (t.val % 4) / 3 by rw [e1]; exact Nat.mul_one _) (show win0_1.index t 1 * 1024 + 1 * (y 1).val = _ by rw [e1, one_mul]; exact Nat.zero_add _) (show win0_1.index t 2 * 768 + 1 * k.val = _ by rw [e1, one_mul]; rfl)]
    exact weights m c _ _ _ rfl (show (t.val % 4) / 3 * 2304 + ((t.val % 4) % 3 * 768 + k.val) = t.val % 4 * 768 + k.val by omega)

/-- At a run's first point the accumulator is set to the block's product. -/
theorem first (n : ℕ) (h : n < cfg0.N) (hn : n % 4 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S1024x768) z2, View.ld_unit_zero (S := S1x1024x768) z3, shapeCast_self]

/-- At every other point it is added to. -/
theorem next (n : ℕ) (h : n + 1 < cfg0.N) (hn : (n + 1) % 4 ≠ 0) (y : S1024x1024.Idx) : (outsAt0 m c (n + 1) h).2 y = (outsAt0 m c n (Nat.lt_of_succ_lt h)).2 y + part m c (n + 1) y := by
  show (outsAt0 m c (⟨n + 1, h⟩ : Fin cfg0.N).val _).2 y = _
  by_cases hl : (n + 1) % 4 = 3
  · rw [outsAt0_C m c ⟨n + 1, h⟩ hn (by dsimp only; omega) hl]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S1024x768) z2, View.ld_unit_zero (S := S1x1024x768) z3, View.ld_unit_zero (S := S1024x1024) z2, shapeCast_self]
    exact congrArg (· + _) (congrFun ((Memref.isWhole_whole cc0_scratch0).read_unread _) y)
  · rw [outsAt0_B m c ⟨n + 1, h⟩ hn (by dsimp only; omega) hl]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S1024x768) z2, View.ld_unit_zero (S := S1x1024x768) z3, View.ld_unit_zero (S := S1024x1024) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = (outsAt0 m c t.val t.isLt).2 := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z2, View.canon_unit_zero z2, View.readCov_unit_zero (S := S1024x1024) _ z2]

def prod (y : S8192x1024.Idx) : EReal := ∑ k : Fin 3072, term m c (y 0).val (y 1).val k.val

/-- What the call leaves: the whole product. -/
theorem final : (dats m 0 c).arrAt 2 cfg0.N = prod m c := by
  refine (dats m 0 c).arrAt_eq_of_covers 2 _ (by decide +kernel) fun t hf y => ?_
  have hm : t.val % 4 = 3 := (flush0_2 t).mp hf
  obtain ⟨-, -, e2⟩ := idx t
  have E0 : (((cfg0.win 2).blk t).view.emb y 0).val = t.val / 4 * 1024 + (y 0).val := show win0_2.index t 0 * 1024 + 1 * (y 0).val = _ by rw [e2, one_mul]; rfl
  have E1 : (((cfg0.win 2).blk t).view.emb y 1).val = (y 1).val := show win0_2.index t 1 * 1024 + 1 * (y 1).val = _ by rw [e2, one_mul]; exact Nat.zero_add _
  rw [prod, E0, E1]
  blk_simp
  rw [after0_2, last m c t hm]
  refine run_total 768 (by decide) (fun n h => (outsAt0 m c n h).2) (part m c) (first m c) (next m c) t.isLt hm y (term m c (t.val / 4 * 1024 + (y 0).val) ((y 1).val)) fun q hq => ?_
  rw [part, hq]

end Cert.InADx0Ideal.Val

namespace Cert.InADx0Ideal

open Cert.Prod Idealize.ShloMosaic Idealize.ShloMosaic.TcCoe Idealize.SL.Sem

theorem frame_ref : @Cert.quiescent_InADx0RefIdeal InADx0RefIdeal.Gen.facts := fun m ρ _ =>
  (θ_run InADx0RefIdeal.defs _ _).mono (fun r h => ⟨fun c => (h c).2, sem_eq_zero_of_no_sems (by decide) r.2⟩) (InADx0RefIdeal.Value.run (F := Ideal) m ρ)

/-- The call and the plain product leave the same array. -/
theorem same : @Cert.algebraic_InADx0Ideal_InADx0RefIdeal Gen.facts InADx0RefIdeal.Gen.facts := by
  intro m g m' g' _ hagree
  refine ⟨Val.prod m, (θ_run defs _ _).mono (fun r h c => ⟨(h c).1.trans (Val.final m c), (h c).2⟩) (Value.run_blocks m g),
    (θ_run InADx0RefIdeal.defs _ _).mono (fun r h c => ⟨(h c).1.trans ?_, (h c).2⟩) (InADx0RefIdeal.Value.run m' g')⟩
  rw [(hagree c).1, (hagree c).2]
  funext y
  pointwise []
  exact Finset.sum_congr (M := EReal) rfl fun k _ => congr (congrArg _ (at2_of _ _ rfl rfl)) (at3_of (a := 1) (b := 1024) (d := 9216) _ _ rfl rfl rfl)

end Cert.InADx0Ideal

end
-- ==== Proof.InADx1Val.lean ====
/- The attention layer's input projection, second group of heads: the input's gradient. -/
module

public import proofs.«01_k».proof.Proof.Prod
public import proofs.«01_k».proof.Proof.Gen.InADx1Ideal.Value
public import proofs.«01_k».proof.Proof.Gen.InADx1RefIdeal.Run
public import proofs.«01_k».proof.Defs

@[expose] public section

set_option maxRecDepth 16384

noncomputable section

namespace Cert.InADx1Ideal.Val

open Cert.InADx1Ideal.Gen Cert.InADx1Ideal.Value Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) i (j / 1024 * 3072 + k) * at3 (m ((c : Thread nD τ).loc main_arg1)) 0 (j % 1024) (3072 + k)

/-- The product of the blocks of point `n`. -/
def part (n : ℕ) (y : S1024x1024.Idx) : EReal := ∑ k : Fin 768, term m c (n / 4 % 2 * 1024 + (y 0).val) (n / 4 / 2 * 1024 + (y 1).val) (n % 4 * 768 + k.val)

theorem idx : ∀ t : Fin cfg0.N, win0_0.index t = ![t.val / 4 % 2, t.val / 4 / 2 * 4 + t.val % 4] ∧ win0_1.index t = ![(4 + t.val % 4) / 3, 0, (4 + t.val % 4) % 3] ∧ win0_2.index t = ![t.val / 4 % 2, t.val / 4 / 2] :=
  (by decide +kernel : ∀ t : Fin grid0.N, _)

/-- The weights as the call's kernel finds them: four chips' columns. -/
theorem weights (a : Fin 4) (j : Fin 1024) (k : Fin 2304) {r q : ℕ} (hr : j.val = r) (hq : a.val * 2304 + k.val = q) :
    V m c main_v2 (ix3 a j k) = at3 (m ((c : Thread nD τ).loc main_arg1)) 0 r q := by
  entry_read
  pointwise []
  exact at3_of (a := 1) (b := 1024) (d := 9216) _ _ rfl hr hq

theorem part_eq (t : Fin cfg0.N) (y : S1024x1024.Idx) : k0_pay1 (iblk m c 0 t) (iblk m c 1 t) y = part m c t.val y := by
  obtain ⟨e0, e1, -⟩ := idx t
  have hy : (y 0).val < 1024 := (y 0).isLt
  have hz : (y 1).val < 1024 := (y 1).isLt
  have ht : t.val < 32 := t.isLt
  unfold k0_pay1 part term
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 768 + 1 * k.val = _ by rw [e0, one_mul]; show (t.val / 4 / 2 * 4 + t.val % 4) * 768 + k.val = (t.val / 4 / 2 * 1024 + (y 1).val) / 1024 * 3072 + (t.val % 4 * 768 + k.val); omega)
  · show V m c main_v2 (((cfg0.win 1).blk t).view.emb (ix3 0 (y 1) k)) = _
    rw [show ((cfg0.win 1).blk t).view.emb (ix3 0 (y 1) k) = (ix3 ⟨(4 + t.val % 4) / 3, by omega⟩ ⟨(y 1).val, hz⟩ ⟨(4 + t.val % 4) % 3 * 768 + k.val, by omega⟩ : S4x1024x2304.Idx) from
      ext3 (show win0_1.index t 0 * 1 + 1 * 0 = (4 + t.val % 4) / 3 by rw [e1]; exact Nat.mul_one _) (show win0_1.index t 1 * 1024 + 1 * (y 1).val = _ by rw [e1, one_mul]; exact Nat.zero_add _) (show win0_1.index t 2 * 768 + 1 * k.val = _ by rw [e1, one_mul]; rfl)]
    exact weights m c _ _ _ (show (y 1).val = (t.val / 4 / 2 * 1024 + (y 1).val) % 1024 by omega) (show (4 + t.val % 4) / 3 * 2304 + ((4 + t.val % 4) % 3 * 768 + k.val) = 3072 + (t.val % 4 * 768 + k.val) by omega)

/-- At a run's first point the accumulator is set to the block's product. -/
theorem first (n : ℕ) (h : n < cfg0.N) (hn : n % 4 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S1024x768) z2, View.ld_unit_zero (S := S1x1024x768) z3, shapeCast_self]

/-- At every other point it is added to. -/
theorem next (n : ℕ) (h : n + 1 < cfg0.N) (hn : (n + 1) % 4 ≠ 0) (y : S1024x1024.Idx) : (outsAt0 m c (n + 1) h).2 y = (outsAt0 m c n (Nat.lt_of_succ_lt h)).2 y + part m c (n + 1) y := by
  show (outsAt0 m c (⟨n + 1, h⟩ : Fin cfg0.N).val _).2 y = _
  by_cases hl : (n + 1) % 4 = 3
  · rw [outsAt0_C m c ⟨n + 1, h⟩ hn (by dsimp only; omega) hl]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S1024x768) z2, View.ld_unit_zero (S := S1x1024x768) z3, View.ld_unit_zero (S := S1024x1024) z2, shapeCast_self]
    exact congrArg (· + _) (congrFun ((Memref.isWhole_whole cc0_scratch0).read_unread _) y)
  · rw [outsAt0_B m c ⟨n + 1, h⟩ hn (by dsimp only; omega) hl]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S1024x768) z2, View.ld_unit_zero (S := S1x1024x768) z3, View.ld_unit_zero (S := S1024x1024) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = (outsAt0 m c t.val t.isLt).2 := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z2, View.canon_unit_zero z2, View.readCov_unit_zero (S := S1024x1024) _ z2]

def prod (y : S2048x4096.Idx) : EReal := ∑ k : Fin 3072, term m c (y 0).val (y 1).val k.val

/-- What the call leaves: the whole product. -/
theorem final : (dats m 0 c).arrAt 2 cfg0.N = prod m c := by
  refine (dats m 0 c).arrAt_eq_of_covers 2 _ (by decide +kernel) fun t hf y => ?_
  have hm : t.val % 4 = 3 := (flush0_2 t).mp hf
  obtain ⟨-, -, e2⟩ := idx t
  have E0 : (((cfg0.win 2).blk t).view.emb y 0).val = t.val / 4 % 2 * 1024 + (y 0).val := show win0_2.index t 0 * 1024 + 1 * (y 0).val = _ by rw [e2, one_mul]; rfl
  have E1 : (((cfg0.win 2).blk t).view.emb y 1).val = t.val / 4 / 2 * 1024 + (y 1).val := show win0_2.index t 1 * 1024 + 1 * (y 1).val = _ by rw [e2, one_mul]; rfl
  rw [prod, E0, E1]
  blk_simp
  rw [after0_2, last m c t hm]
  refine run_total 768 (by decide) (fun n h => (outsAt0 m c n h).2) (part m c) (first m c) (next m c) t.isLt hm y (term m c (t.val / 4 % 2 * 1024 + (y 0).val) (t.val / 4 / 2 * 1024 + (y 1).val)) fun q hq => ?_
  rw [part, hq]

end Cert.InADx1Ideal.Val

namespace Cert.InADx1Ideal

open Cert.Prod Idealize.ShloMosaic Idealize.ShloMosaic.TcCoe Idealize.SL.Sem

theorem frame_ref : @Cert.quiescent_InADx1RefIdeal InADx1RefIdeal.Gen.facts := fun m ρ _ =>
  (θ_run InADx1RefIdeal.defs _ _).mono (fun r h => ⟨fun c => (h c).2, sem_eq_zero_of_no_sems (by decide) r.2⟩) (InADx1RefIdeal.Value.run (F := Ideal) m ρ)

/-- The call and the plain product leave the same array. -/
theorem same : @Cert.algebraic_InADx1Ideal_InADx1RefIdeal Gen.facts InADx1RefIdeal.Gen.facts := by
  intro m g m' g' _ hagree
  refine ⟨Val.prod m, (θ_run defs _ _).mono (fun r h c => ⟨(h c).1.trans (Val.final m c), (h c).2⟩) (Value.run_blocks m g),
    (θ_run InADx1RefIdeal.defs _ _).mono (fun r h c => ⟨(h c).1.trans ?_, (h c).2⟩) (InADx1RefIdeal.Value.run m' g')⟩
  rw [(hagree c).1, (hagree c).2]
  rw [relaid, relaid]
  funext y
  have h0 : (y 0).val < 2048 := (y 0).isLt
  have h1 : (y 1).val < 4096 := (y 1).isLt
  show at2 _ (((y 0).val * 4096 + (y 1).val) / 1024) (((y 0).val * 4096 + (y 1).val) % 1024) = _
  rw [at2_lt _ (show (((y 0).val * 4096 + (y 1).val) / 1024) < 8192 by omega) (show (((y 0).val * 4096 + (y 1).val) % 1024) < 1024 by omega)]
  pointwise []
  exact Finset.sum_congr (M := EReal) rfl fun k _ => congr (congrArg _ (congr (congrArg (at2 _) (show ((((y 0).val * 4096 + (y 1).val) / 1024) * 3072 + k.val) / 12288 = (y 0).val by omega)) (show ((((y 0).val * 4096 + (y 1).val) / 1024) * 3072 + k.val) % 12288 = (y 1).val / 1024 * 3072 + k.val by omega)))
    (at3_of (a := 1) (b := 1024) (d := 9216) _ _ rfl (show (((y 0).val * 4096 + (y 1).val) % 1024) = (y 1).val % 1024 by omega) rfl)

end Cert.InADx1Ideal

end
-- ==== Proof.InADx2Val.lean ====
/- The attention layer's input projection, third group of heads: the input's gradient. -/
module

public import proofs.«01_k».proof.Proof.Prod
public import proofs.«01_k».proof.Proof.Gen.InADx2Ideal.Value
public import proofs.«01_k».proof.Proof.Gen.InADx2RefIdeal.Run
public import proofs.«01_k».proof.Defs

@[expose] public section

set_option maxRecDepth 16384

noncomputable section

namespace Cert.InADx2Ideal.Val

open Cert.InADx2Ideal.Gen Cert.InADx2Ideal.Value Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) i (j / 1024 * 3072 + k) * at3 (m ((c : Thread nD τ).loc main_arg1)) 0 (j % 1024) (6144 + k)

/-- The product of the blocks of point `n`. -/
def part (n : ℕ) (y : S512x1024.Idx) : EReal := ∑ k : Fin 768, term m c ((y 0).val) (n / 4 * 1024 + (y 1).val) (n % 4 * 768 + k.val)

theorem idx : ∀ t : Fin cfg0.N, win0_0.index t = ![0, t.val / 4 * 4 + t.val % 4] ∧ win0_1.index t = ![(8 + t.val % 4) / 3, 0, (8 + t.val % 4) % 3] ∧ win0_2.index t = ![0, t.val / 4] :=
  (by decide +kernel : ∀ t : Fin grid0.N, _)

/-- The weights as the call's kernel finds them: four chips' columns. -/
theorem weights (a : Fin 4) (j : Fin 1024) (k : Fin 2304) {r q : ℕ} (hr : j.val = r) (hq : a.val * 2304 + k.val = q) :
    V m c main_v2 (ix3 a j k) = at3 (m ((c : Thread nD τ).loc main_arg1)) 0 r q := by
  entry_read
  pointwise []
  exact at3_of (a := 1) (b := 1024) (d := 9216) _ _ rfl hr hq

theorem part_eq (t : Fin cfg0.N) (y : S512x1024.Idx) : k0_pay1 (iblk m c 0 t) (iblk m c 1 t) y = part m c t.val y := by
  obtain ⟨e0, e1, -⟩ := idx t
  have hy : (y 0).val < 512 := (y 0).isLt
  have hz : (y 1).val < 1024 := (y 1).isLt
  have ht : t.val < 64 := t.isLt
  unfold k0_pay1 part term
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 512 + 1 * (y 0).val = _ by rw [e0, one_mul]; exact Nat.zero_add _) (show win0_0.index t 1 * 768 + 1 * k.val = _ by rw [e0, one_mul]; show (t.val / 4 * 4 + t.val % 4) * 768 + k.val = (t.val / 4 * 1024 + (y 1).val) / 1024 * 3072 + (t.val % 4 * 768 + k.val); omega)
  · show V m c main_v2 (((cfg0.win 1).blk t).view.emb (ix3 0 (y 1) k)) = _
    rw [show ((cfg0.win 1).blk t).view.emb (ix3 0 (y 1) k) = (ix3 ⟨(8 + t.val % 4) / 3, by omega⟩ ⟨(y 1).val, hz⟩ ⟨(8 + t.val % 4) % 3 * 768 + k.val, by omega⟩ : S4x1024x2304.Idx) from
      ext3 (show win0_1.index t 0 * 1 + 1 * 0 = (8 + t.val % 4) / 3 by rw [e1]; exact Nat.mul_one _) (show win0_1.index t 1 * 1024 + 1 * (y 1).val = _ by rw [e1, one_mul]; exact Nat.zero_add _) (show win0_1.index t 2 * 768 + 1 * k.val = _ by rw [e1, one_mul]; rfl)]
    exact weights m c _ _ _ (show (y 1).val = (t.val / 4 * 1024 + (y 1).val) % 1024 by omega) (show (8 + t.val % 4) / 3 * 2304 + ((8 + t.val % 4) % 3 * 768 + k.val) = 6144 + (t.val % 4 * 768 + k.val) by omega)

/-- At a run's first point the accumulator is set to the block's product. -/
theorem first (n : ℕ) (h : n < cfg0.N) (hn : n % 4 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S512x768) z2, View.ld_unit_zero (S := S1x1024x768) z3, shapeCast_self]

/-- At every other point it is added to. -/
theorem next (n : ℕ) (h : n + 1 < cfg0.N) (hn : (n + 1) % 4 ≠ 0) (y : S512x1024.Idx) : (outsAt0 m c (n + 1) h).2 y = (outsAt0 m c n (Nat.lt_of_succ_lt h)).2 y + part m c (n + 1) y := by
  show (outsAt0 m c (⟨n + 1, h⟩ : Fin cfg0.N).val _).2 y = _
  by_cases hl : (n + 1) % 4 = 3
  · rw [outsAt0_C m c ⟨n + 1, h⟩ hn (by dsimp only; omega) hl]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S512x768) z2, View.ld_unit_zero (S := S1x1024x768) z3, View.ld_unit_zero (S := S512x1024) z2, shapeCast_self]
    exact congrArg (· + _) (congrFun ((Memref.isWhole_whole cc0_scratch0).read_unread _) y)
  · rw [outsAt0_B m c ⟨n + 1, h⟩ hn (by dsimp only; omega) hl]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S512x768) z2, View.ld_unit_zero (S := S1x1024x768) z3, View.ld_unit_zero (S := S512x1024) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = (outsAt0 m c t.val t.isLt).2 := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z2, View.canon_unit_zero z2, View.readCov_unit_zero (S := S512x1024) _ z2]

def prod (y : S512x16384.Idx) : EReal := ∑ k : Fin 3072, term m c (y 0).val (y 1).val k.val

/-- What the call leaves: the whole product. -/
theorem final : (dats m 0 c).arrAt 2 cfg0.N = prod m c := by
  refine (dats m 0 c).arrAt_eq_of_covers 2 _ (by decide +kernel) fun t hf y => ?_
  have hm : t.val % 4 = 3 := (flush0_2 t).mp hf
  obtain ⟨-, -, e2⟩ := idx t
  have E0 : (((cfg0.win 2).blk t).view.emb y 0).val = (y 0).val := show win0_2.index t 0 * 512 + 1 * (y 0).val = _ by rw [e2, one_mul]; exact Nat.zero_add _
  have E1 : (((cfg0.win 2).blk t).view.emb y 1).val = t.val / 4 * 1024 + (y 1).val := show win0_2.index t 1 * 1024 + 1 * (y 1).val = _ by rw [e2, one_mul]; rfl
  rw [prod, E0, E1]
  blk_simp
  rw [after0_2, last m c t hm]
  refine run_total 768 (by decide) (fun n h => (outsAt0 m c n h).2) (part m c) (first m c) (next m c) t.isLt hm y (term m c ((y 0).val) (t.val / 4 * 1024 + (y 1).val)) fun q hq => ?_
  rw [part, hq]

end Cert.InADx2Ideal.Val

namespace Cert.InADx2Ideal

open Cert.Prod Idealize.ShloMosaic Idealize.ShloMosaic.TcCoe Idealize.SL.Sem

theorem frame_ref : @Cert.quiescent_InADx2RefIdeal InADx2RefIdeal.Gen.facts := fun m ρ _ =>
  (θ_run InADx2RefIdeal.defs _ _).mono (fun r h => ⟨fun c => (h c).2, sem_eq_zero_of_no_sems (by decide) r.2⟩) (InADx2RefIdeal.Value.run (F := Ideal) m ρ)

/-- The call and the plain product leave the same array. -/
theorem same : @Cert.algebraic_InADx2Ideal_InADx2RefIdeal Gen.facts InADx2RefIdeal.Gen.facts := by
  intro m g m' g' _ hagree
  refine ⟨Val.prod m, (θ_run defs _ _).mono (fun r h c => ⟨(h c).1.trans (Val.final m c), (h c).2⟩) (Value.run_blocks m g),
    (θ_run InADx2RefIdeal.defs _ _).mono (fun r h c => ⟨(h c).1.trans ?_, (h c).2⟩) (InADx2RefIdeal.Value.run m' g')⟩
  rw [(hagree c).1, (hagree c).2]
  rw [relaid, relaid]
  funext y
  have h0 : (y 0).val < 512 := (y 0).isLt
  have h1 : (y 1).val < 16384 := (y 1).isLt
  show at2 _ (((y 0).val * 16384 + (y 1).val) / 1024) (((y 0).val * 16384 + (y 1).val) % 1024) = _
  rw [at2_lt _ (show (((y 0).val * 16384 + (y 1).val) / 1024) < 8192 by omega) (show (((y 0).val * 16384 + (y 1).val) % 1024) < 1024 by omega)]
  pointwise []
  exact Finset.sum_congr (M := EReal) rfl fun k _ => congr (congrArg _ (congr (congrArg (at2 _) (show ((((y 0).val * 16384 + (y 1).val) / 1024) * 3072 + k.val) / 49152 = (y 0).val by omega)) (show ((((y 0).val * 16384 + (y 1).val) / 1024) * 3072 + k.val) % 49152 = (y 1).val / 1024 * 3072 + k.val by omega)))
    (at3_of (a := 1) (b := 1024) (d := 9216) _ _ rfl (show (((y 0).val * 16384 + (y 1).val) % 1024) = (y 1).val % 1024 by omega) rfl)

end Cert.InADx2Ideal

end
-- ==== Proof.InA0Val.lean ====
/- The attention layer's input projection, first group of heads. -/
module

public import proofs.«01_k».proof.Proof.Prod
public import proofs.«01_k».proof.Proof.Gen.InA0Ideal.Value
public import proofs.«01_k».proof.Proof.Gen.InA0RefIdeal.Run
public import proofs.«01_k».proof.Defs

@[expose] public section

set_option maxRecDepth 16384

noncomputable section

namespace Cert.InA0Ideal.Val

open Cert.InA0Ideal.Gen Cert.InA0Ideal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S8192x3072.Idx) : EReal := ∑ k : Fin 1024, at2 (m ((c : Thread nD τ).loc main_arg0)) (y 0).val k.val * at3 (m ((c : Thread nD τ).loc main_arg1)) 0 k.val (y 1).val

theorem idx : ∀ t : Fin cfg0.N, win0_0.index t = ![t.val / 4, 0] ∧ win0_1.index t = ![(t.val % 4) / 3, 0, (t.val % 4) % 3] ∧ win0_2.index t = ![t.val / 4, t.val % 4] :=
  (by decide +kernel : ∀ t : Fin grid0.N, _)

/-- The weights as the call's kernel finds them: four chips' columns. -/
theorem weights (a : Fin 4) (j : Fin 1024) (k : Fin 2304) {r q : ℕ} (hr : j.val = r) (hq : a.val * 2304 + k.val = q) :
    V m c main_v2 (ix3 a j k) = at3 (m ((c : Thread nD τ).loc main_arg1)) 0 r q := by
  entry_read
  pointwise []
  exact at3_of (a := 1) (b := 1024) (d := 9216) _ _ rfl hr hq

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 1024 := (y 0).isLt
  have hz : (y 1).val < 768 := (y 1).isLt
  have ht : t.val < 32 := t.isLt
  have E0 : (((cfg0.win 2).blk t).view.emb y 0).val = t.val / 4 * 1024 + (y 0).val := show win0_2.index t 0 * 1024 + 1 * (y 0).val = _ by rw [e2, one_mul]; rfl
  have E1 : (((cfg0.win 2).blk t).view.emb y 1).val = t.val % 4 * 768 + (y 1).val := show win0_2.index t 1 * 768 + 1 * (y 1).val = _ by rw [e2, one_mul]; rfl
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 1024 + 1 * k.val = _ by rw [e0, one_mul]; exact Nat.zero_add _)
  · show V m c main_v2 (((cfg0.win 1).blk t).view.emb (ix3 0 k (y 1))) = _
    rw [show ((cfg0.win 1).blk t).view.emb (ix3 0 k (y 1)) = (ix3 ⟨(t.val % 4) / 3, by omega⟩ k ⟨(t.val % 4) % 3 * 768 + (y 1).val, by omega⟩ : S4x1024x2304.Idx) from
      ext3 (show win0_1.index t 0 * 1 + 1 * 0 = (t.val % 4) / 3 by rw [e1]; exact Nat.mul_one _) (show win0_1.index t 1 * 1024 + 1 * k.val = _ by rw [e1, one_mul]; exact Nat.zero_add _) (show win0_1.index t 2 * 768 + 1 * (y 1).val = _ by rw [e1, one_mul]; rfl)]
    exact weights m c _ _ _ rfl (show (t.val % 4) / 3 * 2304 + ((t.val % 4) % 3 * 768 + (y 1).val) = t.val % 4 * 768 + (y 1).val by omega)

end Cert.InA0Ideal.Val

namespace Cert.InA0Ideal

open Cert.Prod Idealize.ShloMosaic Idealize.ShloMosaic.TcCoe Idealize.SL.Sem

theorem frame_ref : @Cert.quiescent_InA0RefIdeal InA0RefIdeal.Gen.facts := fun m ρ _ =>
  (θ_run InA0RefIdeal.defs _ _).mono (fun r h => ⟨fun c => (h c).2, sem_eq_zero_of_no_sems (by decide) r.2⟩) (InA0RefIdeal.Value.run (F := Ideal) m ρ)

/-- The call and the plain product leave the same array. -/
theorem same : @Cert.algebraic_InA0Ideal_InA0RefIdeal Gen.facts InA0RefIdeal.Gen.facts := by
  intro m g m' g' _ hagree
  refine ⟨Val.prod m, (θ_run defs _ _).mono (fun r h c => ⟨(h c).1.trans (Val.final m c), (h c).2⟩) (Value.run_blocks m g),
    (θ_run InA0RefIdeal.defs _ _).mono (fun r h c => ⟨(h c).1.trans ?_, (h c).2⟩) (InA0RefIdeal.Value.run m' g')⟩
  rw [(hagree c).1, (hagree c).2]
  funext y
  pointwise []
  exact Finset.sum_congr (M := EReal) rfl fun k _ => congr (congrArg _ (at2_of _ _ rfl rfl)) (at3_of (a := 1) (b := 1024) (d := 9216) _ _ rfl rfl rfl)

end Cert.InA0Ideal

end
-- ==== Proof.InA1Val.lean ====
/- The attention layer's input projection, second group of heads. -/
module

public import proofs.«01_k».proof.Proof.Prod
public import proofs.«01_k».proof.Proof.Gen.InA1Ideal.Value
public import proofs.«01_k».proof.Proof.Gen.InA1RefIdeal.Run
public import proofs.«01_k».proof.Defs

@[expose] public section

set_option maxRecDepth 16384

noncomputable section

namespace Cert.InA1Ideal.Val

open Cert.InA1Ideal.Gen Cert.InA1Ideal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S2048x12288.Idx) : EReal := ∑ k : Fin 1024, at2 (m ((c : Thread nD τ).loc main_arg0)) (y 0).val ((y 1).val / 3072 * 1024 + k.val) * at3 (m ((c : Thread nD τ).loc main_arg1)) 0 k.val (3072 + (y 1).val % 3072)

theorem idx : ∀ t : Fin cfg0.N, win0_0.index t = ![t.val / 4 % 2, t.val / 4 / 2] ∧ win0_1.index t = ![(4 + t.val % 4) / 3, 0, (4 + t.val % 4) % 3] ∧ win0_2.index t = ![t.val / 4 % 2, t.val / 4 / 2 * 4 + t.val % 4] :=
  (by decide +kernel : ∀ t : Fin grid0.N, _)

/-- The weights as the call's kernel finds them: four chips' columns. -/
theorem weights (a : Fin 4) (j : Fin 1024) (k : Fin 2304) {r q : ℕ} (hr : j.val = r) (hq : a.val * 2304 + k.val = q) :
    V m c main_v2 (ix3 a j k) = at3 (m ((c : Thread nD τ).loc main_arg1)) 0 r q := by
  entry_read
  pointwise []
  exact at3_of (a := 1) (b := 1024) (d := 9216) _ _ rfl hr hq

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 1024 := (y 0).isLt
  have hz : (y 1).val < 768 := (y 1).isLt
  have ht : t.val < 32 := t.isLt
  have E0 : (((cfg0.win 2).blk t).view.emb y 0).val = t.val / 4 % 2 * 1024 + (y 0).val := show win0_2.index t 0 * 1024 + 1 * (y 0).val = _ by rw [e2, one_mul]; rfl
  have E1 : (((cfg0.win 2).blk t).view.emb y 1).val = (t.val / 4 / 2 * 4 + t.val % 4) * 768 + (y 1).val := show win0_2.index t 1 * 768 + 1 * (y 1).val = _ by rw [e2, one_mul]; rfl
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 1024 + 1 * k.val = _ by rw [e0, one_mul]; show t.val / 4 / 2 * 1024 + k.val = ((t.val / 4 / 2 * 4 + t.val % 4) * 768 + (y 1).val) / 3072 * 1024 + k.val; omega)
  · show V m c main_v2 (((cfg0.win 1).blk t).view.emb (ix3 0 k (y 1))) = _
    rw [show ((cfg0.win 1).blk t).view.emb (ix3 0 k (y 1)) = (ix3 ⟨(4 + t.val % 4) / 3, by omega⟩ k ⟨(4 + t.val % 4) % 3 * 768 + (y 1).val, by omega⟩ : S4x1024x2304.Idx) from
      ext3 (show win0_1.index t 0 * 1 + 1 * 0 = (4 + t.val % 4) / 3 by rw [e1]; exact Nat.mul_one _) (show win0_1.index t 1 * 1024 + 1 * k.val = _ by rw [e1, one_mul]; exact Nat.zero_add _) (show win0_1.index t 2 * 768 + 1 * (y 1).val = _ by rw [e1, one_mul]; rfl)]
    exact weights m c _ _ _ rfl (show (4 + t.val % 4) / 3 * 2304 + ((4 + t.val % 4) % 3 * 768 + (y 1).val) = 3072 + ((t.val / 4 / 2 * 4 + t.val % 4) * 768 + (y 1).val) % 3072 by omega)

end Cert.InA1Ideal.Val

namespace Cert.InA1Ideal

open Cert.Prod Idealize.ShloMosaic Idealize.ShloMosaic.TcCoe Idealize.SL.Sem

theorem frame_ref : @Cert.quiescent_InA1RefIdeal InA1RefIdeal.Gen.facts := fun m ρ _ =>
  (θ_run InA1RefIdeal.defs _ _).mono (fun r h => ⟨fun c => (h c).2, sem_eq_zero_of_no_sems (by decide) r.2⟩) (InA1RefIdeal.Value.run (F := Ideal) m ρ)

/-- The call and the plain product leave the same array. -/
theorem same : @Cert.algebraic_InA1Ideal_InA1RefIdeal Gen.facts InA1RefIdeal.Gen.facts := by
  intro m g m' g' _ hagree
  refine ⟨Val.prod m, (θ_run defs _ _).mono (fun r h c => ⟨(h c).1.trans (Val.final m c), (h c).2⟩) (Value.run_blocks m g),
    (θ_run InA1RefIdeal.defs _ _).mono (fun r h c => ⟨(h c).1.trans ?_, (h c).2⟩) (InA1RefIdeal.Value.run m' g')⟩
  rw [(hagree c).1, (hagree c).2]
  rw [relaid, relaid]
  funext y
  have h0 : (y 0).val < 2048 := (y 0).isLt
  have h1 : (y 1).val < 12288 := (y 1).isLt
  show at2 _ (((y 0).val * 12288 + (y 1).val) / 3072) (((y 0).val * 12288 + (y 1).val) % 3072) = _
  rw [at2_lt _ (show (((y 0).val * 12288 + (y 1).val) / 3072) < 8192 by omega) (show (((y 0).val * 12288 + (y 1).val) % 3072) < 3072 by omega)]
  pointwise []
  exact Finset.sum_congr (M := EReal) rfl fun k _ => congr (congrArg _ (congr (congrArg (at2 _) (show ((((y 0).val * 12288 + (y 1).val) / 3072) * 1024 + k.val) / 4096 = (y 0).val by omega)) (show ((((y 0).val * 12288 + (y 1).val) / 3072) * 1024 + k.val) % 4096 = (y 1).val / 3072 * 1024 + k.val by omega))) (at3_of (a := 1) (b := 1024) (d := 9216) _ _ rfl rfl (show 3072 + (((y 0).val * 12288 + (y 1).val) % 3072) = 3072 + (y 1).val % 3072 by omega))

end Cert.InA1Ideal

end
-- ==== Proof.InA2Val.lean ====
/- The attention layer's input projection, third group of heads. -/
module

public import proofs.«01_k».proof.Proof.Prod
public import proofs.«01_k».proof.Proof.Gen.InA2Ideal.Value
public import proofs.«01_k».proof.Proof.Gen.InA2RefIdeal.Run
public import proofs.«01_k».proof.Defs

@[expose] public section

set_option maxRecDepth 16384

noncomputable section

namespace Cert.InA2Ideal.Val

open Cert.InA2Ideal.Gen Cert.InA2Ideal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S512x49152.Idx) : EReal := ∑ k : Fin 1024, at2 (m ((c : Thread nD τ).loc main_arg0)) (y 0).val ((y 1).val / 3072 * 1024 + k.val) * at3 (m ((c : Thread nD τ).loc main_arg1)) 0 k.val (6144 + (y 1).val % 3072)

theorem idx : ∀ t : Fin cfg0.N, win0_0.index t = ![0, t.val / 4] ∧ win0_1.index t = ![(8 + t.val % 4) / 3, 0, (8 + t.val % 4) % 3] ∧ win0_2.index t = ![0, t.val / 4 * 4 + t.val % 4] :=
  (by decide +kernel : ∀ t : Fin grid0.N, _)

/-- The weights as the call's kernel finds them: four chips' columns. -/
theorem weights (a : Fin 4) (j : Fin 1024) (k : Fin 2304) {r q : ℕ} (hr : j.val = r) (hq : a.val * 2304 + k.val = q) :
    V m c main_v2 (ix3 a j k) = at3 (m ((c : Thread nD τ).loc main_arg1)) 0 r q := by
  entry_read
  pointwise []
  exact at3_of (a := 1) (b := 1024) (d := 9216) _ _ rfl hr hq

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 512 := (y 0).isLt
  have hz : (y 1).val < 768 := (y 1).isLt
  have ht : t.val < 64 := t.isLt
  have E0 : (((cfg0.win 2).blk t).view.emb y 0).val = (y 0).val := show win0_2.index t 0 * 512 + 1 * (y 0).val = _ by rw [e2, one_mul]; exact Nat.zero_add _
  have E1 : (((cfg0.win 2).blk t).view.emb y 1).val = (t.val / 4 * 4 + t.val % 4) * 768 + (y 1).val := show win0_2.index t 1 * 768 + 1 * (y 1).val = _ by rw [e2, one_mul]; rfl
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 512 + 1 * (y 0).val = _ by rw [e0, one_mul]; exact Nat.zero_add _) (show win0_0.index t 1 * 1024 + 1 * k.val = _ by rw [e0, one_mul]; show t.val / 4 * 1024 + k.val = ((t.val / 4 * 4 + t.val % 4) * 768 + (y 1).val) / 3072 * 1024 + k.val; omega)
  · show V m c main_v2 (((cfg0.win 1).blk t).view.emb (ix3 0 k (y 1))) = _
    rw [show ((cfg0.win 1).blk t).view.emb (ix3 0 k (y 1)) = (ix3 ⟨(8 + t.val % 4) / 3, by omega⟩ k ⟨(8 + t.val % 4) % 3 * 768 + (y 1).val, by omega⟩ : S4x1024x2304.Idx) from
      ext3 (show win0_1.index t 0 * 1 + 1 * 0 = (8 + t.val % 4) / 3 by rw [e1]; exact Nat.mul_one _) (show win0_1.index t 1 * 1024 + 1 * k.val = _ by rw [e1, one_mul]; exact Nat.zero_add _) (show win0_1.index t 2 * 768 + 1 * (y 1).val = _ by rw [e1, one_mul]; rfl)]
    exact weights m c _ _ _ rfl (show (8 + t.val % 4) / 3 * 2304 + ((8 + t.val % 4) % 3 * 768 + (y 1).val) = 6144 + ((t.val / 4 * 4 + t.val % 4) * 768 + (y 1).val) % 3072 by omega)

end Cert.InA2Ideal.Val

namespace Cert.InA2Ideal

open Cert.Prod Idealize.ShloMosaic Idealize.ShloMosaic.TcCoe Idealize.SL.Sem

theorem frame_ref : @Cert.quiescent_InA2RefIdeal InA2RefIdeal.Gen.facts := fun m ρ _ =>
  (θ_run InA2RefIdeal.defs _ _).mono (fun r h => ⟨fun c => (h c).2, sem_eq_zero_of_no_sems (by decide) r.2⟩) (InA2RefIdeal.Value.run (F := Ideal) m ρ)

/-- The call and the plain product leave the same array. -/
theorem same : @Cert.algebraic_InA2Ideal_InA2RefIdeal Gen.facts InA2RefIdeal.Gen.facts := by
  intro m g m' g' _ hagree
  refine ⟨Val.prod m, (θ_run defs _ _).mono (fun r h c => ⟨(h c).1.trans (Val.final m c), (h c).2⟩) (Value.run_blocks m g),
    (θ_run InA2RefIdeal.defs _ _).mono (fun r h c => ⟨(h c).1.trans ?_, (h c).2⟩) (InA2RefIdeal.Value.run m' g')⟩
  rw [(hagree c).1, (hagree c).2]
  rw [relaid, relaid]
  funext y
  have h0 : (y 0).val < 512 := (y 0).isLt
  have h1 : (y 1).val < 49152 := (y 1).isLt
  show at2 _ (((y 0).val * 49152 + (y 1).val) / 3072) (((y 0).val * 49152 + (y 1).val) % 3072) = _
  rw [at2_lt _ (show (((y 0).val * 49152 + (y 1).val) / 3072) < 8192 by omega) (show (((y 0).val * 49152 + (y 1).val) % 3072) < 3072 by omega)]
  pointwise []
  exact Finset.sum_congr (M := EReal) rfl fun k _ => congr (congrArg _ (congr (congrArg (at2 _) (show ((((y 0).val * 49152 + (y 1).val) / 3072) * 1024 + k.val) / 16384 = (y 0).val by omega)) (show ((((y 0).val * 49152 + (y 1).val) / 3072) * 1024 + k.val) % 16384 = (y 1).val / 3072 * 1024 + k.val by omega))) (at3_of (a := 1) (b := 1024) (d := 9216) _ _ rfl rfl (show 6144 + (((y 0).val * 49152 + (y 1).val) % 3072) = 6144 + (y 1).val % 3072 by omega))

end Cert.InA2Ideal

end
-- ==== Proof.Up0Val.lean ====
/- The first layer's up projection. -/
module

public import proofs.«01_k».proof.Proof.Prod
public import proofs.«01_k».proof.Proof.Gen.Up0Ideal.Value
public import proofs.«01_k».proof.Proof.Gen.Up0RefIdeal.Run
public import proofs.«01_k».proof.Defs

@[expose] public section

set_option maxRecDepth 16384

noncomputable section

namespace Cert.Up0Ideal.Val

open Cert.Up0Ideal.Gen Cert.Up0Ideal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S8192x5632.Idx) : EReal := ∑ k : Fin 1024, at2 (m ((c : Thread nD τ).loc main_arg0)) (y 0).val k.val * at3 (m ((c : Thread nD τ).loc main_arg1)) 0 k.val (y 1).val

theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The weights as the call's kernel finds them: four chips' columns, the layers under one another. -/
theorem weights (a : Fin 4) (j : Fin 2048) (k : Fin 1408) {r q : ℕ} (hj : j.val / 1024 = 0) (hr : j.val % 1024 = r) (hq : a.val * 1408 + k.val = q) :
    V m c main_v2 (ix3 a j k) = at3 (m ((c : Thread nD τ).loc main_arg1)) 0 r q := by
  entry_read
  pointwise []
  exact at3_of (a := 2) (b := 1024) (d := 5632) _ _ hj hr hq

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 1024 := (y 0).isLt
  have hz : (y 1).val < 1408 := (y 1).isLt
  have ht : t.val < 32 := t.isLt
  have E0 : (((cfg0.win 2).blk t).view.emb y 0).val = t.val / 4 * 1024 + (y 0).val := show win0_2.index t 0 * 1024 + 1 * (y 0).val = _ by rw [e2, one_mul]; rfl
  have E1 : (((cfg0.win 2).blk t).view.emb y 1).val = t.val % 4 * 1408 + (y 1).val := show win0_2.index t 1 * 1408 + 1 * (y 1).val = _ by rw [e2, one_mul]; rfl
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 1024 + 1 * k.val = _ by rw [e0, one_mul]; exact Nat.zero_add _)
  · show V m c main_v2 (((cfg0.win 1).blk t).view.emb (ix3 0 k (y 1))) = _
    rw [show ((cfg0.win 1).blk t).view.emb (ix3 0 k (y 1)) = (ix3 ⟨t.val % 4, Nat.mod_lt _ (by decide)⟩ ⟨k.val, by omega⟩ ⟨(y 1).val, hz⟩ : S4x2048x1408.Idx) from
      ext3 (show win0_1.index t 0 * 1 + 1 * 0 = t.val % 4 by rw [e1]; exact Nat.mul_one _) (show win0_1.index t 1 * 1024 + 1 * k.val = _ by rw [e1, one_mul]; exact Nat.zero_add _) (show win0_1.index t 2 * 1408 + 1 * (y 1).val = _ by rw [e1, one_mul]; exact Nat.zero_add _)]
    exact weights m c _ _ _ (show (k.val) / 1024 = 0 by omega) (show (k.val) % 1024 = k.val by omega) rfl

end Cert.Up0Ideal.Val

namespace Cert.Up0Ideal

open Cert.Prod Idealize.ShloMosaic Idealize.ShloMosaic.TcCoe Idealize.SL.Sem

theorem frame_ref : @Cert.quiescent_Up0RefIdeal Up0RefIdeal.Gen.facts := fun m ρ _ =>
  (θ_run Up0RefIdeal.defs _ _).mono (fun r h => ⟨fun c => (h c).2, sem_eq_zero_of_no_sems (by decide) r.2⟩) (Up0RefIdeal.Value.run (F := Ideal) m ρ)

/-- The call and the plain product leave the same array. -/
theorem same : @Cert.algebraic_Up0Ideal_Up0RefIdeal Gen.facts Up0RefIdeal.Gen.facts := by
  intro m g m' g' _ hagree
  refine ⟨Val.prod m, (θ_run defs _ _).mono (fun r h c => ⟨(h c).1.trans (Val.final m c), (h c).2⟩) (Value.run_blocks m g),
    (θ_run Up0RefIdeal.defs _ _).mono (fun r h c => ⟨(h c).1.trans ?_, (h c).2⟩) (Up0RefIdeal.Value.run m' g')⟩
  rw [(hagree c).1, (hagree c).2]
  funext y
  pointwise []
  exact Finset.sum_congr rfl fun k _ => congr (congrArg _ (at2_of _ _ rfl rfl)) (at3_of (a := 2) (b := 1024) (d := 5632) _ _ rfl rfl rfl)

end Cert.Up0Ideal

end
-- ==== Proof.Up1Val.lean ====
/- The second layer's up projection. -/
module

public import proofs.«01_k».proof.Proof.Prod
public import proofs.«01_k».proof.Proof.Gen.Up1Ideal.Value
public import proofs.«01_k».proof.Proof.Gen.Up1RefIdeal.Run
public import proofs.«01_k».proof.Defs

@[expose] public section

set_option maxRecDepth 16384

noncomputable section

namespace Cert.Up1Ideal.Val

open Cert.Up1Ideal.Gen Cert.Up1Ideal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S8192x5632.Idx) : EReal := ∑ k : Fin 1024, at2 (m ((c : Thread nD τ).loc main_arg0)) (y 0).val k.val * at3 (m ((c : Thread nD τ).loc main_arg1)) 1 k.val (y 1).val

theorem idx : ∀ t : Fin cfg0.N, win0_0.index t = ![t.val / 4, 0] ∧ win0_1.index t = ![t.val % 4, 1, 0] ∧ win0_2.index t = ![t.val / 4, t.val % 4] :=
  (by decide +kernel : ∀ t : Fin grid0.N, _)

/-- The weights as the call's kernel finds them: four chips' columns, the layers under one another. -/
theorem weights (a : Fin 4) (j : Fin 2048) (k : Fin 1408) {r q : ℕ} (hj : j.val / 1024 = 1) (hr : j.val % 1024 = r) (hq : a.val * 1408 + k.val = q) :
    V m c main_v2 (ix3 a j k) = at3 (m ((c : Thread nD τ).loc main_arg1)) 1 r q := by
  entry_read
  pointwise []
  exact at3_of (a := 2) (b := 1024) (d := 5632) _ _ hj hr hq

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 1024 := (y 0).isLt
  have hz : (y 1).val < 1408 := (y 1).isLt
  have ht : t.val < 32 := t.isLt
  have E0 : (((cfg0.win 2).blk t).view.emb y 0).val = t.val / 4 * 1024 + (y 0).val := show win0_2.index t 0 * 1024 + 1 * (y 0).val = _ by rw [e2, one_mul]; rfl
  have E1 : (((cfg0.win 2).blk t).view.emb y 1).val = t.val % 4 * 1408 + (y 1).val := show win0_2.index t 1 * 1408 + 1 * (y 1).val = _ by rw [e2, one_mul]; rfl
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 1024 + 1 * k.val = _ by rw [e0, one_mul]; exact Nat.zero_add _)
  · show V m c main_v2 (((cfg0.win 1).blk t).view.emb (ix3 0 k (y 1))) = _
    rw [show ((cfg0.win 1).blk t).view.emb (ix3 0 k (y 1)) = (ix3 ⟨t.val % 4, Nat.mod_lt _ (by decide)⟩ ⟨1024 + k.val, by omega⟩ ⟨(y 1).val, hz⟩ : S4x2048x1408.Idx) from
      ext3 (show win0_1.index t 0 * 1 + 1 * 0 = t.val % 4 by rw [e1]; exact Nat.mul_one _) (show win0_1.index t 1 * 1024 + 1 * k.val = _ by rw [e1, one_mul]; rfl) (show win0_1.index t 2 * 1408 + 1 * (y 1).val = _ by rw [e1, one_mul]; exact Nat.zero_add _)]
    exact weights m c _ _ _ (show (1024 + k.val) / 1024 = 1 by omega) (show (1024 + k.val) % 1024 = k.val by omega) rfl

end Cert.Up1Ideal.Val

namespace Cert.Up1Ideal

open Cert.Prod Idealize.ShloMosaic Idealize.ShloMosaic.TcCoe Idealize.SL.Sem

theorem frame_ref : @Cert.quiescent_Up1RefIdeal Up1RefIdeal.Gen.facts := fun m ρ _ =>
  (θ_run Up1RefIdeal.defs _ _).mono (fun r h => ⟨fun c => (h c).2, sem_eq_zero_of_no_sems (by decide) r.2⟩) (Up1RefIdeal.Value.run (F := Ideal) m ρ)

/-- The call and the plain product leave the same array. -/
theorem same : @Cert.algebraic_Up1Ideal_Up1RefIdeal Gen.facts Up1RefIdeal.Gen.facts := by
  intro m g m' g' _ hagree
  refine ⟨Val.prod m, (θ_run defs _ _).mono (fun r h c => ⟨(h c).1.trans (Val.final m c), (h c).2⟩) (Value.run_blocks m g),
    (θ_run Up1RefIdeal.defs _ _).mono (fun r h c => ⟨(h c).1.trans ?_, (h c).2⟩) (Up1RefIdeal.Value.run m' g')⟩
  rw [(hagree c).1, (hagree c).2]
  funext y
  pointwise []
  exact Finset.sum_congr rfl fun k _ => congr (congrArg _ (at2_of _ _ rfl rfl)) (at3_of (a := 2) (b := 1024) (d := 5632) _ _ rfl rfl rfl)

end Cert.Up1Ideal

end
-- ==== Proof.Down0Val.lean ====
/- The first layer's down projection. -/
module

public import proofs.«01_k».proof.Proof.Prod
public import proofs.«01_k».proof.Proof.Gen.Down0Ideal.Value
public import proofs.«01_k».proof.Proof.Gen.Down0RefIdeal.Run
public import proofs.«01_k».proof.Defs

@[expose] public section

set_option maxRecDepth 16384

noncomputable section

namespace Cert.Down0Ideal.Val

open Cert.Down0Ideal.Gen Cert.Down0Ideal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S8192x1024.Idx) : EReal := ∑ k : Fin 2816, at2 (m ((c : Thread nD τ).loc main_arg0)) (y 0).val k.val * at3 (m ((c : Thread nD τ).loc main_arg1)) 0 k.val (y 1).val

theorem idx : ∀ t : Fin cfg0.N, win0_0.index t = ![t.val, 0] ∧ win0_1.index t = ![0, 0] ∧ win0_2.index t = ![t.val, 0] :=
  (by decide +kernel : ∀ t : Fin grid0.N, _)

/-- The weights as the call's kernel finds them, the layers under one another. -/
theorem weights (j : Fin 5632) (k : Fin 1024) {r q : ℕ} (hj : j.val / 2816 = 0) (hr : j.val % 2816 = r) (hq : k.val = q) :
    V m c main_v1 (ix2 j k) = at3 (m ((c : Thread nD τ).loc main_arg1)) 0 r q := by
  entry_read
  pointwise []
  exact at3_of (a := 2) (b := 2816) (d := 1024) _ _ hj hr hq

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 1024 := (y 0).isLt
  have hz : (y 1).val < 1024 := (y 1).isLt
  have ht : t.val < 8 := t.isLt
  have E0 : (((cfg0.win 2).blk t).view.emb y 0).val = t.val * 1024 + (y 0).val := show win0_2.index t 0 * 1024 + 1 * (y 0).val = _ by rw [e2, one_mul]; rfl
  have E1 : (((cfg0.win 2).blk t).view.emb y 1).val = (y 1).val := show win0_2.index t 1 * 1024 + 1 * (y 1).val = _ by rw [e2, one_mul]; exact Nat.zero_add _
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 2816 + 1 * k.val = _ by rw [e0, one_mul]; exact Nat.zero_add _)
  · show V m c main_v1 (((cfg0.win 1).blk t).view.emb (ix2 k (y 1))) = _
    rw [show ((cfg0.win 1).blk t).view.emb (ix2 k (y 1)) = (ix2 ⟨k.val, by omega⟩ ⟨(y 1).val, hz⟩ : S5632x1024.Idx) from
      ext2 (show win0_1.index t 0 * 2816 + 1 * k.val = _ by rw [e1, one_mul]; exact Nat.zero_add _) (show win0_1.index t 1 * 1024 + 1 * (y 1).val = _ by rw [e1, one_mul]; exact Nat.zero_add _)]
    exact weights m c _ _ (show (k.val) / 2816 = 0 by omega) (show (k.val) % 2816 = k.val by omega) rfl

end Cert.Down0Ideal.Val

namespace Cert.Down0Ideal

open Cert.Prod Idealize.ShloMosaic Idealize.ShloMosaic.TcCoe Idealize.SL.Sem

theorem frame_ref : @Cert.quiescent_Down0RefIdeal Down0RefIdeal.Gen.facts := fun m ρ _ =>
  (θ_run Down0RefIdeal.defs _ _).mono (fun r h => ⟨fun c => (h c).2, sem_eq_zero_of_no_sems (by decide) r.2⟩) (Down0RefIdeal.Value.run (F := Ideal) m ρ)

/-- The call and the plain product leave the same array. -/
theorem same : @Cert.algebraic_Down0Ideal_Down0RefIdeal Gen.facts Down0RefIdeal.Gen.facts := by
  intro m g m' g' _ hagree
  refine ⟨Val.prod m, (θ_run defs _ _).mono (fun r h c => ⟨(h c).1.trans (Val.final m c), (h c).2⟩) (Value.run_blocks m g),
    (θ_run Down0RefIdeal.defs _ _).mono (fun r h c => ⟨(h c).1.trans ?_, (h c).2⟩) (Down0RefIdeal.Value.run m' g')⟩
  rw [(hagree c).1, (hagree c).2]
  funext y
  pointwise []
  exact Finset.sum_congr rfl fun k _ => congr (congrArg _ (at2_of _ _ rfl rfl)) (at3_of (a := 2) (b := 2816) (d := 1024) _ _ rfl rfl rfl)

end Cert.Down0Ideal

end
-- ==== Proof.Down1Val.lean ====
/- The second layer's down projection. -/
module

public import proofs.«01_k».proof.Proof.Prod
public import proofs.«01_k».proof.Proof.Gen.Down1Ideal.Value
public import proofs.«01_k».proof.Proof.Gen.Down1RefIdeal.Run
public import proofs.«01_k».proof.Defs

@[expose] public section

set_option maxRecDepth 16384

noncomputable section

namespace Cert.Down1Ideal.Val

open Cert.Down1Ideal.Gen Cert.Down1Ideal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S8192x1024.Idx) : EReal := ∑ k : Fin 2816, at2 (m ((c : Thread nD τ).loc main_arg0)) (y 0).val k.val * at3 (m ((c : Thread nD τ).loc main_arg1)) 1 k.val (y 1).val

theorem idx : ∀ t : Fin cfg0.N, win0_0.index t = ![t.val, 0] ∧ win0_1.index t = ![1, 0] ∧ win0_2.index t = ![t.val, 0] :=
  (by decide +kernel : ∀ t : Fin grid0.N, _)

/-- The weights as the call's kernel finds them, the layers under one another. -/
theorem weights (j : Fin 5632) (k : Fin 1024) {r q : ℕ} (hj : j.val / 2816 = 1) (hr : j.val % 2816 = r) (hq : k.val = q) :
    V m c main_v1 (ix2 j k) = at3 (m ((c : Thread nD τ).loc main_arg1)) 1 r q := by
  entry_read
  pointwise []
  exact at3_of (a := 2) (b := 2816) (d := 1024) _ _ hj hr hq

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 1024 := (y 0).isLt
  have hz : (y 1).val < 1024 := (y 1).isLt
  have ht : t.val < 8 := t.isLt
  have E0 : (((cfg0.win 2).blk t).view.emb y 0).val = t.val * 1024 + (y 0).val := show win0_2.index t 0 * 1024 + 1 * (y 0).val = _ by rw [e2, one_mul]; rfl
  have E1 : (((cfg0.win 2).blk t).view.emb y 1).val = (y 1).val := show win0_2.index t 1 * 1024 + 1 * (y 1).val = _ by rw [e2, one_mul]; exact Nat.zero_add _
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 2816 + 1 * k.val = _ by rw [e0, one_mul]; exact Nat.zero_add _)
  · show V m c main_v1 (((cfg0.win 1).blk t).view.emb (ix2 k (y 1))) = _
    rw [show ((cfg0.win 1).blk t).view.emb (ix2 k (y 1)) = (ix2 ⟨2816 + k.val, by omega⟩ ⟨(y 1).val, hz⟩ : S5632x1024.Idx) from
      ext2 (show win0_1.index t 0 * 2816 + 1 * k.val = _ by rw [e1, one_mul]; rfl) (show win0_1.index t 1 * 1024 + 1 * (y 1).val = _ by rw [e1, one_mul]; exact Nat.zero_add _)]
    exact weights m c _ _ (show (2816 + k.val) / 2816 = 1 by omega) (show (2816 + k.val) % 2816 = k.val by omega) rfl

end Cert.Down1Ideal.Val

namespace Cert.Down1Ideal

open Cert.Prod Idealize.ShloMosaic Idealize.ShloMosaic.TcCoe Idealize.SL.Sem

theorem frame_ref : @Cert.quiescent_Down1RefIdeal Down1RefIdeal.Gen.facts := fun m ρ _ =>
  (θ_run Down1RefIdeal.defs _ _).mono (fun r h => ⟨fun c => (h c).2, sem_eq_zero_of_no_sems (by decide) r.2⟩) (Down1RefIdeal.Value.run (F := Ideal) m ρ)

/-- The call and the plain product leave the same array. -/
theorem same : @Cert.algebraic_Down1Ideal_Down1RefIdeal Gen.facts Down1RefIdeal.Gen.facts := by
  intro m g m' g' _ hagree
  refine ⟨Val.prod m, (θ_run defs _ _).mono (fun r h c => ⟨(h c).1.trans (Val.final m c), (h c).2⟩) (Value.run_blocks m g),
    (θ_run Down1RefIdeal.defs _ _).mono (fun r h c => ⟨(h c).1.trans ?_, (h c).2⟩) (Down1RefIdeal.Value.run m' g')⟩
  rw [(hagree c).1, (hagree c).2]
  funext y
  pointwise []
  exact Finset.sum_congr rfl fun k _ => congr (congrArg _ (at2_of _ _ rfl rfl)) (at3_of (a := 2) (b := 2816) (d := 1024) _ _ rfl rfl rfl)

end Cert.Down1Ideal

end
-- ==== Proof.InBVal.lean ====
/- The gated layer's input projection. -/
module

public import proofs.«01_k».proof.Proof.Cols
public import proofs.«01_k».proof.Proof.Gen.InBIdeal.Value
public import proofs.«01_k».proof.Proof.Gen.InBRefIdeal.Run
public import proofs.«01_k».proof.Defs

@[expose] public section

set_option maxRecDepth 16384

noncomputable section

namespace Cert.InBIdeal.Val

open Cert.InBIdeal.Gen Cert.InBIdeal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S8192x3200.Idx) : EReal := ∑ k : Fin 1024, at2 (m ((c : Thread nD τ).loc main_arg0)) (y 0).val k.val * cols (m ((c : Thread nD τ).loc main_arg1)) k.val (y 1).val

theorem idx : ∀ t : Fin cfg0.N, win0_0.index t = ![t.val, 0] ∧ win0_1.index t = ![0, 0] ∧ win0_2.index t = ![t.val, 0] :=
  (by decide +kernel : ∀ t : Fin grid0.N, _)

/-- What the host code hands the call, from the weights it is given. -/
def host (s : S1024x3088.Idx → EReal) : S1024x3200.Idx → EReal :=
  concatenate S1024x3200 1 [⟨S1024x2048, (extractStridedSlice S1024x2048 ![0, 0] s slices_S1024x3088_S1024x2048_0_0 : S1024x2048.Idx → EReal)⟩,
    ⟨S1024x1024, (extractStridedSlice S1024x1024 ![0, 2064] s slices_S1024x3088_S1024x1024_0_2064 : S1024x1024.Idx → EReal)⟩,
    ⟨S1024x16, (extractStridedSlice S1024x16 ![0, 2048] s slices_S1024x3088_S1024x16_0_2048 : S1024x16.Idx → EReal)⟩,
    ⟨S1024x112, (broadcastInDim S1024x112 ![] bcast_S_S1024x112 (constant (F := Ideal) S_ .bf16 0x0000#16) : S1024x112.Idx → EReal)⟩]
    concatenates_S1024x2048_S1024x1024_S1024x16_S1024x112_S1024x3200_d1

theorem entered : V m c main_v6 = host (shapeCast S1024x3088 (m ((c : Thread nD τ).loc main_arg1)) shapeCasts_S1x1024x3088_S1024x3088) := by
  show StableHlo.after hostOps0 (fun b => m (c, b)) (Proc.devRef .tc main_v6) = _
  after_results <;> rfl

/-- The weights as the call's kernel finds them: the gate's columns behind the others', the rest zero. -/
theorem weights (j : Fin 1024) (k : Fin 3200) {r q : ℕ} (hr : j.val = r) (hq : k.val = q) : V m c main_v6 (ix2 j k) = cols (m ((c : Thread nD τ).loc main_arg1)) r q := by
  subst hr hq
  refine (congrFun (entered m c) _).trans ?_
  exact laid _ _ _ _ _ _ _ (fun _ => by pointwise []) _

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 512 := (y 0).isLt
  have hz : (y 1).val < 3200 := (y 1).isLt
  have ht : t.val < 16 := t.isLt
  have E0 : (((cfg0.win 2).blk t).view.emb y 0).val = t.val * 512 + (y 0).val := show win0_2.index t 0 * 512 + 1 * (y 0).val = _ by rw [e2, one_mul]; rfl
  have E1 : (((cfg0.win 2).blk t).view.emb y 1).val = (y 1).val := show win0_2.index t 1 * 3200 + 1 * (y 1).val = _ by rw [e2, one_mul]; exact Nat.zero_add _
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 512 + 1 * (y 0).val = _ by rw [e0, one_mul]; rfl) (show win0_0.index t 1 * 1024 + 1 * k.val = _ by rw [e0, one_mul]; exact Nat.zero_add _)
  · show V m c main_v6 (((cfg0.win 1).blk t).view.emb (ix2 k (y 1))) = _
    rw [show ((cfg0.win 1).blk t).view.emb (ix2 k (y 1)) = (ix2 k ⟨(y 1).val, hz⟩ : S1024x3200.Idx) from
      ext2 (show win0_1.index t 0 * 1024 + 1 * k.val = _ by rw [e1, one_mul]; exact Nat.zero_add _) (show win0_1.index t 1 * 3200 + 1 * (y 1).val = _ by rw [e1, one_mul]; exact Nat.zero_add _)]
    exact weights m c _ _ rfl rfl

end Cert.InBIdeal.Val

namespace Cert.InBIdeal

open Cert.Prod Idealize.ShloMosaic Idealize.ShloMosaic.TcCoe Idealize.SL.Sem

theorem frame_ref : @Cert.quiescent_InBRefIdeal InBRefIdeal.Gen.facts := fun m ρ _ =>
  (θ_run InBRefIdeal.defs _ _).mono (fun r h => ⟨fun c => (h c).2, sem_eq_zero_of_no_sems (by decide) r.2⟩) (InBRefIdeal.Value.run (F := Ideal) m ρ)

/-- The call and the plain product leave the same array. -/
theorem same : @Cert.algebraic_InBIdeal_InBRefIdeal Gen.facts InBRefIdeal.Gen.facts := by
  intro m g m' g' _ hagree
  refine ⟨Val.prod m, (θ_run defs _ _).mono (fun r h c => ⟨(h c).1.trans (Val.final m c), (h c).2⟩) (Value.run_blocks m g),
    (θ_run InBRefIdeal.defs _ _).mono (fun r h c => ⟨(h c).1.trans ?_, (h c).2⟩) (InBRefIdeal.Value.run m' g')⟩
  rw [(hagree c).1, (hagree c).2]
  generalize e : concatenate _ _ _ _ = w
  funext y
  pointwise []
  refine Finset.sum_congr (M := EReal) rfl fun k _ => congr (congrArg _ (at2_of _ _ rfl rfl)) ?_
  subst e
  exact laid _ _ _ _ _ _ _ (fun _ => by pointwise []) _

end Cert.InBIdeal

end
-- ==== Proof.OutAVal.lean ====
/- The attention layer's output projection. -/
module

public import proofs.«01_k».proof.Proof.Prod
public import proofs.«01_k».proof.Proof.Gen.OutAIdeal.Value
public import proofs.«01_k».proof.Proof.Gen.OutARefIdeal.Run
public import proofs.«01_k».proof.Defs

@[expose] public section

set_option maxRecDepth 16384

noncomputable section

namespace Cert.OutAIdeal.Val

open Cert.OutAIdeal.Gen Cert.OutAIdeal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S8192x1024.Idx) : EReal := ∑ k : Fin 1024, at2 (m ((c : Thread nD τ).loc main_arg0)) (y 0).val k.val * at3 (m ((c : Thread nD τ).loc main_arg1)) 0 k.val (y 1).val

theorem idx : ∀ t : Fin cfg0.N, win0_0.index t = ![t.val, 0] ∧ win0_1.index t = ![0, 0] ∧ win0_2.index t = ![t.val, 0] :=
  (by decide +kernel : ∀ t : Fin grid0.N, _)

/-- The weights as the call's kernel finds them. -/
theorem weights (j k : Fin 1024) {r q : ℕ} (hr : j.val = r) (hq : k.val = q) : V m c main_v1 (ix2 j k) = at3 (m ((c : Thread nD τ).loc main_arg1)) 0 r q := by
  entry_read
  pointwise []
  exact at3_of (a := 1) (b := 1024) (d := 1024) _ _ rfl hr hq

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 1024 := (y 0).isLt
  have hz : (y 1).val < 1024 := (y 1).isLt
  have ht : t.val < 8 := t.isLt
  have E0 : (((cfg0.win 2).blk t).view.emb y 0).val = t.val * 1024 + (y 0).val := show win0_2.index t 0 * 1024 + 1 * (y 0).val = _ by rw [e2, one_mul]; rfl
  have E1 : (((cfg0.win 2).blk t).view.emb y 1).val = (y 1).val := show win0_2.index t 1 * 1024 + 1 * (y 1).val = _ by rw [e2, one_mul]; exact Nat.zero_add _
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 1024 + 1 * k.val = _ by rw [e0, one_mul]; exact Nat.zero_add _)
  · show V m c main_v1 (((cfg0.win 1).blk t).view.emb (ix2 k (y 1))) = _
    rw [show ((cfg0.win 1).blk t).view.emb (ix2 k (y 1)) = (ix2 k ⟨(y 1).val, hz⟩ : S1024x1024.Idx) from
      ext2 (show win0_1.index t 0 * 1024 + 1 * k.val = _ by rw [e1, one_mul]; exact Nat.zero_add _) (show win0_1.index t 1 * 1024 + 1 * (y 1).val = _ by rw [e1, one_mul]; exact Nat.zero_add _)]
    exact weights m c _ _ rfl rfl

end Cert.OutAIdeal.Val

namespace Cert.OutAIdeal

open Cert.Prod Idealize.ShloMosaic Idealize.ShloMosaic.TcCoe Idealize.SL.Sem

theorem frame_ref : @Cert.quiescent_OutARefIdeal OutARefIdeal.Gen.facts := fun m ρ _ =>
  (θ_run OutARefIdeal.defs _ _).mono (fun r h => ⟨fun c => (h c).2, sem_eq_zero_of_no_sems (by decide) r.2⟩) (OutARefIdeal.Value.run (F := Ideal) m ρ)

/-- The call and the plain product leave the same array. -/
theorem same : @Cert.algebraic_OutAIdeal_OutARefIdeal Gen.facts OutARefIdeal.Gen.facts := by
  intro m g m' g' _ hagree
  refine ⟨Val.prod m, (θ_run defs _ _).mono (fun r h c => ⟨(h c).1.trans (Val.final m c), (h c).2⟩) (Value.run_blocks m g),
    (θ_run OutARefIdeal.defs _ _).mono (fun r h c => ⟨(h c).1.trans ?_, (h c).2⟩) (OutARefIdeal.Value.run m' g')⟩
  rw [(hagree c).1, (hagree c).2]
  rw [layer]
  funext y
  pointwise []
  exact Finset.sum_congr rfl fun k _ => congr (congrArg _ (at2_of _ _ rfl rfl)) rfl

end Cert.OutAIdeal

end
-- ==== Proof.OutBVal.lean ====
/- The gated layer's output projection. -/
module

public import proofs.«01_k».proof.Proof.Prod
public import proofs.«01_k».proof.Proof.Gen.OutBIdeal.Value
public import proofs.«01_k».proof.Proof.Gen.OutBRefIdeal.Run
public import proofs.«01_k».proof.Defs

@[expose] public section

set_option maxRecDepth 16384

noncomputable section

namespace Cert.OutBIdeal.Val

open Cert.OutBIdeal.Gen Cert.OutBIdeal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S8192x1024.Idx) : EReal := ∑ k : Fin 1024, at2 (m ((c : Thread nD τ).loc main_arg0)) (y 0).val k.val * at3 (m ((c : Thread nD τ).loc main_arg1)) 0 k.val (y 1).val

theorem idx : ∀ t : Fin cfg0.N, win0_0.index t = ![t.val, 0] ∧ win0_1.index t = ![0, 0] ∧ win0_2.index t = ![t.val, 0] :=
  (by decide +kernel : ∀ t : Fin grid0.N, _)

/-- The weights as the call's kernel finds them. -/
theorem weights (j k : Fin 1024) {r q : ℕ} (hr : j.val = r) (hq : k.val = q) : V m c main_v1 (ix2 j k) = at3 (m ((c : Thread nD τ).loc main_arg1)) 0 r q := by
  entry_read
  pointwise []
  exact at3_of (a := 1) (b := 1024) (d := 1024) _ _ rfl hr hq

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 1024 := (y 0).isLt
  have hz : (y 1).val < 1024 := (y 1).isLt
  have ht : t.val < 8 := t.isLt
  have E0 : (((cfg0.win 2).blk t).view.emb y 0).val = t.val * 1024 + (y 0).val := show win0_2.index t 0 * 1024 + 1 * (y 0).val = _ by rw [e2, one_mul]; rfl
  have E1 : (((cfg0.win 2).blk t).view.emb y 1).val = (y 1).val := show win0_2.index t 1 * 1024 + 1 * (y 1).val = _ by rw [e2, one_mul]; exact Nat.zero_add _
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 1024 + 1 * k.val = _ by rw [e0, one_mul]; exact Nat.zero_add _)
  · show V m c main_v1 (((cfg0.win 1).blk t).view.emb (ix2 k (y 1))) = _
    rw [show ((cfg0.win 1).blk t).view.emb (ix2 k (y 1)) = (ix2 k ⟨(y 1).val, hz⟩ : S1024x1024.Idx) from
      ext2 (show win0_1.index t 0 * 1024 + 1 * k.val = _ by rw [e1, one_mul]; exact Nat.zero_add _) (show win0_1.index t 1 * 1024 + 1 * (y 1).val = _ by rw [e1, one_mul]; exact Nat.zero_add _)]
    exact weights m c _ _ rfl rfl

end Cert.OutBIdeal.Val

namespace Cert.OutBIdeal

open Cert.Prod Idealize.ShloMosaic Idealize.ShloMosaic.TcCoe Idealize.SL.Sem

theorem frame_ref : @Cert.quiescent_OutBRefIdeal OutBRefIdeal.Gen.facts := fun m ρ _ =>
  (θ_run OutBRefIdeal.defs _ _).mono (fun r h => ⟨fun c => (h c).2, sem_eq_zero_of_no_sems (by decide) r.2⟩) (OutBRefIdeal.Value.run (F := Ideal) m ρ)

/-- The call and the plain product leave the same array. -/
theorem same : @Cert.algebraic_OutBIdeal_OutBRefIdeal Gen.facts OutBRefIdeal.Gen.facts := by
  intro m g m' g' _ hagree
  refine ⟨Val.prod m, (θ_run defs _ _).mono (fun r h c => ⟨(h c).1.trans (Val.final m c), (h c).2⟩) (Value.run_blocks m g),
    (θ_run OutBRefIdeal.defs _ _).mono (fun r h c => ⟨(h c).1.trans ?_, (h c).2⟩) (OutBRefIdeal.Value.run m' g')⟩
  rw [(hagree c).1, (hagree c).2]
  rw [layer]
  funext y
  pointwise []
  exact Finset.sum_congr rfl fun k _ => congr (congrArg _ (at2_of _ _ rfl rfl)) rfl

end Cert.OutBIdeal

end
-- ==== Proof.DownDw0Val.lean ====
/- The first layer's down projection: the weights' gradient, written above the second layer's. -/
module

public import proofs.«01_k».proof.Proof.Prod
public import proofs.«01_k».proof.Proof.Gen.DownDw0Ideal.Value
public import proofs.«01_k».proof.Proof.Gen.DownDw0RefIdeal.Run
public import proofs.«01_k».proof.Defs

@[expose] public section

set_option maxRecDepth 16384

noncomputable section

namespace Cert.DownDw0Ideal.Val

open Cert.DownDw0Ideal.Gen Cert.DownDw0Ideal.Value Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) k i * at2 (m ((c : Thread nD τ).loc main_arg1)) k j

/-- The product of the blocks of point `n`. -/
def part (n : ℕ) (y : S1408x1024.Idx) : EReal := ∑ k : Fin 2048, term m c (n / 4 * 1408 + (y 0).val) ((y 1).val) (n % 4 * 2048 + k.val)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem part_eq (t : Fin cfg0.N) (y : S1408x1024.Idx) : k0_pay1 (iblk m c 0 t) (iblk m c 1 t) y = part m c t.val y := by
  obtain ⟨e0, e1, -⟩ := idx t
  have hy : (y 0).val < 1408 := (y 0).isLt
  have hz : (y 1).val < 1024 := (y 1).isLt
  have ht : t.val < 8 := t.isLt
  unfold k0_pay1 part term
  pointwise []
  refine Finset.sum_congr (M := EReal) rfl fun k _ => congr (congrArg _ ?_) ?_
  · show V m c main_arg0 (((cfg0.win 0).blk t).view.emb (ix2 k (y 0))) = _
    rw [V_main_arg0]
    exact at2_of _ _ (show win0_0.index t 0 * 2048 + 1 * k.val = _ by rw [e0, one_mul]; rfl) (show win0_0.index t 1 * 1408 + 1 * (y 0).val = _ by rw [e0, one_mul]; rfl)
  · show V m c main_arg1 (((cfg0.win 1).blk t).view.emb (ix2 k (y 1))) = _
    rw [V_main_arg1]
    exact at2_of _ _ (show win0_1.index t 0 * 2048 + 1 * k.val = _ by rw [e1, one_mul]; rfl) (show win0_1.index t 1 * 1024 + 1 * (y 1).val = _ by rw [e1, one_mul]; exact Nat.zero_add _)

/-- At a run's first point the accumulator is set to the block's product. -/
theorem first (n : ℕ) (h : n < cfg0.N) (hn : n % 4 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S2048x1408) z2, View.ld_unit_zero (S := S2048x1024) z2, shapeCast_self]

/-- At every other point it is added to. -/
theorem next (n : ℕ) (h : n + 1 < cfg0.N) (hn : (n + 1) % 4 ≠ 0) (y : S1408x1024.Idx) : (outsAt0 m c (n + 1) h).2 y = (outsAt0 m c n (Nat.lt_of_succ_lt h)).2 y + part m c (n + 1) y := by
  show (outsAt0 m c (⟨n + 1, h⟩ : Fin cfg0.N).val _).2 y = _
  by_cases hl : (n + 1) % 4 = 3
  · rw [outsAt0_C m c ⟨n + 1, h⟩ hn (by dsimp only; omega) hl]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S2048x1408) z2, View.ld_unit_zero (S := S2048x1024) z2, View.ld_unit_zero (S := S1408x1024) z2, shapeCast_self]
    exact congrArg (· + _) (congrFun ((Memref.isWhole_whole cc0_scratch0).read_unread _) y)
  · rw [outsAt0_B m c ⟨n + 1, h⟩ hn (by dsimp only; omega) hl]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S2048x1408) z2, View.ld_unit_zero (S := S2048x1024) z2, View.ld_unit_zero (S := S1408x1024) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = (outsAt0 m c t.val t.isLt).2 := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z2, View.canon_unit_zero z2, View.readCov_unit_zero (S := S1408x1024) _ z2]

def prod (y : S5632x1024.Idx) : EReal := ∑ k : Fin 8192, term m c (y 0).val (y 1).val k.val

/-- The array the call leaves: the product above, what it was given below. -/
def left (y : S5632x1024.Idx) : EReal := if (y 0).val < 2816 then prod m c y else m ((c : Thread nD τ).loc main_arg2) y

theorem given : V m c main_v0 = m ((c : Thread nD τ).loc main_arg2) := by
  entry_read
  rfl

/-- What the call leaves. -/
theorem final : (dats m 0 c).arrAt 2 cfg0.N = left m c := by
  refine ((dats m 0 c).arrAt_eq_of_coversWhere 2 (prod m c) (P := fun y : S5632x1024.Idx => (y 0).val < 2816) (fun b => b (0 : Fin 2) < 2) (by decide +kernel) (fun t hf y => ?_) (fun j => ?_)).trans ?_
  · have hm : t.val % 4 = 3 := (flush0_2 t).mp hf
    obtain ⟨-, -, e2⟩ := idx t
    have E0 : (((cfg0.win 2).blk t).view.emb y 0).val = t.val / 4 * 1408 + (y 0).val := show win0_2.index t 0 * 1408 + 1 * (y 0).val = _ by rw [e2, one_mul]; rfl
    have E1 : (((cfg0.win 2).blk t).view.emb y 1).val = (y 1).val := show win0_2.index t 1 * 1024 + 1 * (y 1).val = _ by rw [e2, one_mul]; exact Nat.zero_add _
    rw [prod, E0, E1]
    blk_simp
    rw [after0_2, last m c t hm]
    refine run_total 2048 (by decide) (fun n h => (outsAt0 m c n h).2) (part m c) (first m c) (next m c) t.isLt hm y (term m c (t.val / 4 * 1408 + (y 0).val) ((y 1).val)) fun q hq => ?_
    rw [part, hq]
  · blk_simp [Pipeline.Window.cell_apply]
    omega
  · exact congrArg (fun (f : S5632x1024.Idx → EReal) (y : S5632x1024.Idx) => if (y 0).val < 2816 then prod m c y else f y) (given m c)

end Cert.DownDw0Ideal.Val

namespace Cert.DownDw0Ideal

open Cert.Prod Idealize.ShloMosaic Idealize.ShloMosaic.TcCoe Idealize.SL.Sem

theorem frame_ref : @Cert.quiescent_DownDw0RefIdeal DownDw0RefIdeal.Gen.facts := fun m ρ _ =>
  (θ_run DownDw0RefIdeal.defs _ _).mono (fun r h => ⟨fun c => (h c).2, sem_eq_zero_of_no_sems (by decide) r.2⟩) (DownDw0RefIdeal.Value.run (F := Ideal) m ρ)

/-- The call and the plain product leave the same array. -/
theorem same : @Cert.algebraic_DownDw0Ideal_DownDw0RefIdeal Gen.facts DownDw0RefIdeal.Gen.facts := by
  intro m g m' g' _ hagree
  refine ⟨Val.left m, (θ_run defs _ _).mono (fun r h c => ⟨(h c).1.trans (Val.final m c), (h c).2⟩) (Value.run_blocks m g),
    (θ_run DownDw0RefIdeal.defs _ _).mono (fun r h c => ⟨(h c).1.trans ?_, (h c).2⟩) (DownDw0RefIdeal.Value.run m' g')⟩
  rw [(hagree c).1, (hagree c).2.1, (hagree c).2.2]
  funext y
  pointwise []
  unfold Val.left
  by_cases a : (y 0).val < 2816
  · rw [dif_pos a, if_pos a]
    exact Finset.sum_congr (M := EReal) rfl fun k _ => congr (congrArg _ (at2_of _ _ rfl rfl)) (at2_of _ _ rfl rfl)
  · rw [dif_neg a, if_neg a]
    exact congrArg _ (ext2 (show 2816 + ((y 0).val - 2816) = (y 0).val by omega) rfl)

end Cert.DownDw0Ideal

end
-- ==== Proof.Chips.lean ====
/- Weights laid out as four chips' columns, and back. -/
module

public import proofs.«01_k».proof.Proof.Prod

@[expose] public section

set_option maxRecDepth 16384

noncomputable section

namespace Cert.Prod

open Idealize.ShloMosaic

theorem at3_lt {a b d : ℕ} (x : (⟨3, ![a, b, d]⟩ : Shape).Idx → EReal) {i j k : ℕ} (hi : i < a) (hj : j < b) (hk : k < d) :
    at3 x i j k = x (ix3 ⟨i, hi⟩ ⟨j, hj⟩ ⟨k, hk⟩) :=
  dif_pos ⟨hi, hj, hk⟩

/-- The chips' columns of a matrix side by side. -/
theorem joined (a b p q : ℕ) (hpq : b = p * q) (x : (⟨3, ![p, a, q]⟩ : Shape).Idx → EReal)
    (ht : (⟨3, ![p, a, q]⟩ : Shape).Transposes [1, 0, 2] ⟨3, ![a, p, q]⟩) (h : (⟨3, ![a, p, q]⟩ : Shape).ShapeCasts ⟨2, ![a, b]⟩) :
    shapeCast ⟨2, ![a, b]⟩ (transpose ⟨3, ![a, p, q]⟩ [1, 0, 2] x ht) h = fun y => at3 x ((y 1).val / q) (y 0).val ((y 1).val % q) := by
  subst hpq
  funext y
  have hy : (y 1).val < p * q := (y 1).isLt
  have hq : 0 < q := Nat.pos_of_ne_zero fun e => by simp [e] at hy
  refine (shapeCast_apply _ h y (ix3 (y 0) ⟨(y 1).val / q, (Nat.div_lt_iff_lt_mul hq).mpr hy⟩ ⟨(y 1).val % q, Nat.mod_lt _ hq⟩) ?_).trans ?_
  · rw [Shape.rowMajor_val_three, Shape.rowMajor_val_two]
    show ((y 0).val * p + (y 1).val / q) * q + (y 1).val % q = (y 0).val * (p * q) + (y 1).val
    rw [Nat.add_mul, mul_assoc, add_assoc, Nat.div_add_mod']
  · exact at3_of x _ rfl rfl rfl

/-- A matrix cut into the chips' columns. -/
theorem cut (a b p q : ℕ) (hpq : b = p * q) (x : (⟨2, ![a, b]⟩ : Shape).Idx → EReal) (h : (⟨2, ![a, b]⟩ : Shape).ShapeCasts ⟨3, ![a, p, q]⟩)
    (ht : (⟨3, ![a, p, q]⟩ : Shape).Transposes [1, 0, 2] ⟨3, ![p, a, q]⟩) :
    transpose ⟨3, ![p, a, q]⟩ [1, 0, 2] (shapeCast ⟨3, ![a, p, q]⟩ x h) ht = fun y => at2 x (y 1).val ((y 0).val * q + (y 2).val) := by
  subst hpq
  funext y
  have h0 : (y 0).val < p := (y 0).isLt
  have h2 : (y 2).val < q := (y 2).isLt
  have hl : (y 0).val * q + (y 2).val < p * q := by nlinarith
  refine (shapeCast_apply x h (ix3 (y 1) (y 0) (y 2)) (ix2 (y 1) ⟨_, hl⟩) ?_).trans (at2_of x _ rfl rfl)
  rw [Shape.rowMajor_val_three, Shape.rowMajor_val_two]
  show (y 1).val * (p * q) + ((y 0).val * q + (y 2).val) = ((y 1).val * p + (y 0).val) * q + (y 2).val
  ring

/-- The chips' columns of the layers side by side. -/
theorem joinedLayers (l a b n p q : ℕ) (hn : n = l * a) (hpq : b = p * q) (x : (⟨3, ![p, n, q]⟩ : Shape).Idx → EReal)
    (ht : (⟨3, ![p, n, q]⟩ : Shape).Transposes [1, 0, 2] ⟨3, ![n, p, q]⟩) (h : (⟨3, ![n, p, q]⟩ : Shape).ShapeCasts ⟨3, ![l, a, b]⟩) :
    shapeCast ⟨3, ![l, a, b]⟩ (transpose ⟨3, ![n, p, q]⟩ [1, 0, 2] x ht) h = fun y => at3 x ((y 2).val / q) ((y 0).val * a + (y 1).val) ((y 2).val % q) := by
  subst hpq hn
  funext y
  have h0 : (y 0).val < l := (y 0).isLt
  have h1 : (y 1).val < a := (y 1).isLt
  have h2 : (y 2).val < p * q := (y 2).isLt
  have hq : 0 < q := Nat.pos_of_ne_zero fun e => by simp [e] at h2
  have hl : (y 0).val * a + (y 1).val < l * a := by nlinarith
  refine (shapeCast_apply _ h y (ix3 ⟨_, hl⟩ ⟨(y 2).val / q, (Nat.div_lt_iff_lt_mul hq).mpr h2⟩ ⟨(y 2).val % q, Nat.mod_lt _ hq⟩) ?_).trans ?_
  · rw [Shape.rowMajor_val_three, Shape.rowMajor_val_three]
    show (((y 0).val * a + (y 1).val) * p + (y 2).val / q) * q + (y 2).val % q = ((y 0).val * a + (y 1).val) * (p * q) + (y 2).val
    rw [Nat.add_mul _ _ q, mul_assoc _ p q, add_assoc, Nat.div_add_mod']
  · exact at3_of x _ rfl rfl rfl

/-- The layers cut into the chips' columns. -/
theorem cutLayers (l a b n p q : ℕ) (hn : n = l * a) (hpq : b = p * q) (x : (⟨3, ![l, a, b]⟩ : Shape).Idx → EReal) (h : (⟨3, ![l, a, b]⟩ : Shape).ShapeCasts ⟨3, ![n, p, q]⟩)
    (ht : (⟨3, ![n, p, q]⟩ : Shape).Transposes [1, 0, 2] ⟨3, ![p, n, q]⟩) :
    transpose ⟨3, ![p, n, q]⟩ [1, 0, 2] (shapeCast ⟨3, ![n, p, q]⟩ x h) ht = fun y => at3 x ((y 1).val / a) ((y 1).val % a) ((y 0).val * q + (y 2).val) := by
  subst hpq hn
  funext y
  have h0 : (y 0).val < p := (y 0).isLt
  have h1 : (y 1).val < l * a := (y 1).isLt
  have h2 : (y 2).val < q := (y 2).isLt
  have ha : 0 < a := Nat.pos_of_ne_zero fun e => by simp [e] at h1
  have hl : (y 0).val * q + (y 2).val < p * q := by nlinarith
  refine (shapeCast_apply x h (ix3 (y 1) (y 0) (y 2)) (ix3 ⟨(y 1).val / a, (Nat.div_lt_iff_lt_mul ha).mpr h1⟩ ⟨(y 1).val % a, Nat.mod_lt _ ha⟩ ⟨_, hl⟩) ?_).trans (at3_of x _ rfl rfl rfl)
  rw [Shape.rowMajor_val_three, Shape.rowMajor_val_three]
  show ((y 1).val / a * a + (y 1).val % a) * (p * q) + ((y 0).val * q + (y 2).val) = ((y 1).val * p + (y 0).val) * q + (y 2).val
  rw [Nat.div_add_mod']
  ring

/-- A sum over pairs, run through either way. -/
theorem sum_turned (g : ℕ → ℕ → EReal) (p q : ℕ) : ∑ k : Fin (p * q), g (k.val / q) (k.val % q) = ∑ k : Fin (q * p), g (k.val % p) (k.val / p) := by
  have h (u v : ℕ) (f : ℕ → ℕ → EReal) : ∑ k : Fin (u * v), f (k.val / v) (k.val % v) = ∑ a ∈ Finset.range u, ∑ b ∈ Finset.range v, f a b := by
    rw [← sum_blocks (fun k => f (k / v) (k % v)) u v]
    refine Finset.sum_congr rfl fun a _ => ?_
    rw [Finset.sum_range]
    refine Finset.sum_congr rfl fun b _ => ?_
    have hb := b.isLt
    rw [mul_comm, Nat.mul_add_div (by omega), Nat.div_eq_of_lt hb, Nat.mul_add_mod, Nat.mod_eq_of_lt hb, add_zero]
  rw [h p q g, h q p fun a b => g b a, Finset.sum_comm]

end Cert.Prod

end
-- ==== Proof.UpDw1bVal.lean ====
/- The second layer's up projection, second half: the weights' gradient, written beside the others'. -/
module

public import proofs.«01_k».proof.Proof.Chips
public import proofs.«01_k».proof.Proof.Gen.UpDw1bIdeal.Value
public import proofs.«01_k».proof.Proof.Gen.UpDw1bRefIdeal.Run
public import proofs.«01_k».proof.Defs

@[expose] public section

set_option maxRecDepth 16384

noncomputable section

namespace Cert.UpDw1bIdeal.Val

open Cert.UpDw1bIdeal.Gen Cert.UpDw1bIdeal.Value Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) k i * at2 (m ((c : Thread nD τ).loc main_arg1)) k j

/-- The product of the blocks of point `n`. -/
def part (n : ℕ) (y : S1024x1408.Idx) : EReal := ∑ k : Fin 2048, term m c ((y 0).val) (n / 4 * 1408 + (y 1).val) (n % 4 * 2048 + k.val)

theorem idx : ∀ t : Fin cfg0.N, win0_0.index t = ![t.val % 4, 0] ∧ win0_1.index t = ![t.val % 4, t.val / 4] ∧ win0_2.index t = ![2 + t.val / 4, 1, 0] :=
  (by decide +kernel : ∀ t : Fin grid0.N, _)

theorem part_eq (t : Fin cfg0.N) (y : S1024x1408.Idx) : k0_pay1 (iblk m c 0 t) (iblk m c 1 t) y = part m c t.val y := by
  obtain ⟨e0, e1, -⟩ := idx t
  have hy : (y 0).val < 1024 := (y 0).isLt
  have hz : (y 1).val < 1408 := (y 1).isLt
  have ht : t.val < 8 := t.isLt
  unfold k0_pay1 part term
  pointwise []
  refine Finset.sum_congr (M := EReal) rfl fun k _ => congr (congrArg _ ?_) ?_
  · show V m c main_arg0 (((cfg0.win 0).blk t).view.emb (ix2 k (y 0))) = _
    rw [V_main_arg0]
    exact at2_of _ _ (show win0_0.index t 0 * 2048 + 1 * k.val = _ by rw [e0, one_mul]; rfl) (show win0_0.index t 1 * 1024 + 1 * (y 0).val = _ by rw [e0, one_mul]; exact Nat.zero_add _)
  · show V m c main_arg1 (((cfg0.win 1).blk t).view.emb (ix2 k (y 1))) = _
    rw [V_main_arg1]
    exact at2_of _ _ (show win0_1.index t 0 * 2048 + 1 * k.val = _ by rw [e1, one_mul]; rfl) (show win0_1.index t 1 * 1408 + 1 * (y 1).val = _ by rw [e1, one_mul]; rfl)

/-- At a run's first point the accumulator is set to the block's product. -/
theorem first (n : ℕ) (h : n < cfg0.N) (hn : n % 4 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S2048x1024) z2, View.ld_unit_zero (S := S2048x1408) z2, shapeCast_self]

/-- At every other point it is added to. -/
theorem next (n : ℕ) (h : n + 1 < cfg0.N) (hn : (n + 1) % 4 ≠ 0) (y : S1024x1408.Idx) : (outsAt0 m c (n + 1) h).2 y = (outsAt0 m c n (Nat.lt_of_succ_lt h)).2 y + part m c (n + 1) y := by
  show (outsAt0 m c (⟨n + 1, h⟩ : Fin cfg0.N).val _).2 y = _
  by_cases hl : (n + 1) % 4 = 3
  · rw [outsAt0_C m c ⟨n + 1, h⟩ hn (by dsimp only; omega) hl]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S2048x1024) z2, View.ld_unit_zero (S := S2048x1408) z2, View.ld_unit_zero (S := S1024x1408) z2, shapeCast_self]
    exact congrArg (· + _) (congrFun ((Memref.isWhole_whole cc0_scratch0).read_unread _) y)
  · rw [outsAt0_B m c ⟨n + 1, h⟩ hn (by dsimp only; omega) hl]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S2048x1024) z2, View.ld_unit_zero (S := S2048x1408) z2, View.ld_unit_zero (S := S1024x1408) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = fun y : S1x1024x1408.Idx => (outsAt0 m c t.val t.isLt).2 (ix2 (y 1) (y 2)) := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z3, View.canon_unit_zero z2, View.readCov_unit_zero (S := S1024x1408) _ z2]
  generalize k0_pay3 (F := Ideal) _ _ _ = v
  unfold k0_pay4
  funext y
  pointwise []

def prod (i j : ℕ) : EReal := ∑ k : Fin 8192, term m c i j k.val

/-- Whether the call writes a chip's part of a row of the layers. -/
abbrev Mine (a r : ℕ) : Prop := a / 2 = 1 ∧ r / 1024 = 1

/-- The array the call leaves: the product where it writes, what it was given elsewhere. -/
def left (y : S4x2048x1408.Idx) : EReal :=
  if Mine (y 0).val (y 1).val then prod m c ((y 1).val % 1024) ((y 0).val % 2 * 1408 + (y 2).val) else m ((c : Thread nD τ).loc main_arg2) y

theorem left_new (y : S4x2048x1408.Idx) (h : Mine (y 0).val (y 1).val) : left m c y = prod m c ((y 1).val % 1024) ((y 0).val % 2 * 1408 + (y 2).val) := if_pos h

theorem left_kept (y : S4x2048x1408.Idx) (h : ¬Mine (y 0).val (y 1).val) {i j k : ℕ} (hi : (y 0).val = i) (hj : (y 1).val = j) (hk : (y 2).val = k) :
    left m c y = at3 (m ((c : Thread nD τ).loc main_arg2)) i j k :=
  (if_neg h).trans (at3_of (a := 4) (b := 2048) (d := 1408) _ y hi hj hk)

theorem given : V m c main_v0 = m ((c : Thread nD τ).loc main_arg2) := by
  entry_read
  rfl

/-- What the call leaves. -/
theorem final : (dats m 0 c).arrAt 2 cfg0.N = left m c := by
  refine ((dats m 0 c).arrAt_eq_of_coversWhere 2 (fun y : S4x2048x1408.Idx => prod m c ((y 1).val % 1024) ((y 0).val % 2 * 1408 + (y 2).val)) (P := fun y : S4x2048x1408.Idx => Mine (y 0).val (y 1).val)
    (fun b => b (0 : Fin 3) / 2 = 1 ∧ b (1 : Fin 3) = 1) (by decide +kernel) (fun t hf y => ?_) (fun j => ?_)).trans ?_
  · have hm : t.val % 4 = 3 := (flush0_2 t).mp hf
    have ht : t.val < 8 := t.isLt
    obtain ⟨-, -, e2⟩ := idx t
    have h0 : (y 0).val < 1 := (y 0).isLt
    have h1 : (y 1).val < 1024 := (y 1).isLt
    have h2 : (y 2).val < 1408 := (y 2).isLt
    have E0 : (((cfg0.win 2).blk t).view.emb y 0).val % 2 = t.val / 4 := by
      rw [show (((cfg0.win 2).blk t).view.emb y 0).val = 2 + t.val / 4 from show win0_2.index t 0 * 1 + 1 * (y 0).val = _ by rw [e2]; show (2 + t.val / 4) * 1 + 1 * (y 0).val = _; omega]
      omega
    have E1 : (((cfg0.win 2).blk t).view.emb y 1).val % 1024 = (y 1).val := by
      rw [show (((cfg0.win 2).blk t).view.emb y 1).val = 1 * 1024 + (y 1).val from show win0_2.index t 1 * 1024 + 1 * (y 1).val = _ by rw [e2, one_mul]; rfl]
      omega
    have E2 : (((cfg0.win 2).blk t).view.emb y 2).val = (y 2).val := show win0_2.index t 2 * 1408 + 1 * (y 2).val = _ by rw [e2, one_mul]; exact Nat.zero_add _
    dsimp only
    rw [prod, E0, E1, E2]
    blk_simp
    rw [after0_2, last m c t hm]
    refine run_total 2048 (by decide) (fun n h => (outsAt0 m c n h).2) (part m c) (first m c) (next m c) t.isLt hm (ix2 (y 1) (y 2)) (term m c ((y 1).val) (t.val / 4 * 1408 + (y 2).val)) fun q hq => ?_
    rw [part, hq]
    rfl
  · blk_simp [Pipeline.Window.cell_apply]
    rw [Nat.div_one]
  · exact congrArg (fun (f : S4x2048x1408.Idx → EReal) (y : S4x2048x1408.Idx) => if Mine (y 0).val (y 1).val then prod m c ((y 1).val % 1024) ((y 0).val % 2 * 1408 + (y 2).val) else f y) (given m c)

end Cert.UpDw1bIdeal.Val

namespace Cert.UpDw1bIdeal

open Cert.Prod Idealize.ShloMosaic Idealize.ShloMosaic.TcCoe Idealize.SL.Sem

theorem frame_ref : @Cert.quiescent_UpDw1bRefIdeal UpDw1bRefIdeal.Gen.facts := fun m ρ _ =>
  (θ_run UpDw1bRefIdeal.defs _ _).mono (fun r h => ⟨fun c => (h c).2, sem_eq_zero_of_no_sems (by decide) r.2⟩) (UpDw1bRefIdeal.Value.run (F := Ideal) m ρ)

/-- The call and the plain product leave the same array. -/
theorem same : @Cert.algebraic_UpDw1bIdeal_UpDw1bRefIdeal Gen.facts UpDw1bRefIdeal.Gen.facts := by
  intro m g m' g' _ hagree
  refine ⟨Val.left m, (θ_run defs _ _).mono (fun r h c => ⟨(h c).1.trans (Val.final m c), (h c).2⟩) (Value.run_blocks m g),
    (θ_run UpDw1bRefIdeal.defs _ _).mono (fun r h c => ⟨(h c).1.trans ?_, (h c).2⟩) (UpDw1bRefIdeal.Value.run m' g')⟩
  rw [(hagree c).1, (hagree c).2.1, (hagree c).2.2]
  rw [joinedLayers 2 1024 5632 2048 4 1408 rfl rfl, cutLayers 2 1024 5632 2048 4 1408 rfl rfl]
  funext y
  have h0 : (y 0).val < 4 := (y 0).isLt
  have h1 : (y 1).val < 2048 := (y 1).isLt
  have h2 : (y 2).val < 1408 := (y 2).isLt
  dsimp only
  rw [at3_lt _ (show (y 1).val / 1024 < 2 by omega) (show (y 1).val % 1024 < 1024 by omega) (show (y 0).val * 1408 + (y 2).val < 5632 by omega)]
  pointwise []
  by_cases a : (y 1).val / 1024 < 1
  · rw [dif_pos a]
    exact (Val.left_kept m c y (by unfold Val.Mine; omega) (by omega) (by omega) (by omega)).symm
  · rw [dif_neg a]
    by_cases b : (y 0).val * 1408 + (y 2).val < 2816
    · rw [dif_pos b]
      exact (Val.left_kept m c y (by unfold Val.Mine; omega) (by omega) (by omega) (by omega)).symm
    · rw [dif_neg b]
      refine Eq.trans ?_ (Val.left_new m c y (by unfold Val.Mine; omega)).symm
      exact Finset.sum_congr (M := EReal) rfl fun k _ => congr (congrArg _ (at2_of _ _ rfl rfl)) (at2_of _ _ rfl (show (y 0).val * 1408 + (y 2).val - 2816 = (y 0).val % 2 * 1408 + (y 2).val by omega))

end Cert.UpDw1bIdeal

end
-- ==== Proof.UpDw0aVal.lean ====
/- The first layer's up projection, first half: the weights' gradient, written beside the others'. -/
module

public import proofs.«01_k».proof.Proof.Chips
public import proofs.«01_k».proof.Proof.Gen.UpDw0aIdeal.Value
public import proofs.«01_k».proof.Proof.Gen.UpDw0aRefIdeal.Run
public import proofs.«01_k».proof.Defs

@[expose] public section

set_option maxRecDepth 16384

noncomputable section

namespace Cert.UpDw0aIdeal.Val

open Cert.UpDw0aIdeal.Gen Cert.UpDw0aIdeal.Value Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) k i * at2 (m ((c : Thread nD τ).loc main_arg1)) k j

/-- The product of the blocks of point `n`. -/
def part (n : ℕ) (y : S1024x1408.Idx) : EReal := ∑ k : Fin 2048, term m c ((y 0).val) (n / 4 * 1408 + (y 1).val) (n % 4 * 2048 + k.val)

theorem idx : ∀ t : Fin cfg0.N, win0_0.index t = ![t.val % 4, 0] ∧ win0_1.index t = ![t.val % 4, t.val / 4] ∧ win0_2.index t = ![0 + t.val / 4, 0, 0] :=
  (by decide +kernel : ∀ t : Fin grid0.N, _)

theorem part_eq (t : Fin cfg0.N) (y : S1024x1408.Idx) : k0_pay1 (iblk m c 0 t) (iblk m c 1 t) y = part m c t.val y := by
  obtain ⟨e0, e1, -⟩ := idx t
  have hy : (y 0).val < 1024 := (y 0).isLt
  have hz : (y 1).val < 1408 := (y 1).isLt
  have ht : t.val < 8 := t.isLt
  unfold k0_pay1 part term
  pointwise []
  refine Finset.sum_congr (M := EReal) rfl fun k _ => congr (congrArg _ ?_) ?_
  · show V m c main_arg0 (((cfg0.win 0).blk t).view.emb (ix2 k (y 0))) = _
    rw [V_main_arg0]
    exact at2_of _ _ (show win0_0.index t 0 * 2048 + 1 * k.val = _ by rw [e0, one_mul]; rfl) (show win0_0.index t 1 * 1024 + 1 * (y 0).val = _ by rw [e0, one_mul]; exact Nat.zero_add _)
  · show V m c main_arg1 (((cfg0.win 1).blk t).view.emb (ix2 k (y 1))) = _
    rw [V_main_arg1]
    exact at2_of _ _ (show win0_1.index t 0 * 2048 + 1 * k.val = _ by rw [e1, one_mul]; rfl) (show win0_1.index t 1 * 1408 + 1 * (y 1).val = _ by rw [e1, one_mul]; rfl)

/-- At a run's first point the accumulator is set to the block's product. -/
theorem first (n : ℕ) (h : n < cfg0.N) (hn : n % 4 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S2048x1024) z2, View.ld_unit_zero (S := S2048x1408) z2, shapeCast_self]

/-- At every other point it is added to. -/
theorem next (n : ℕ) (h : n + 1 < cfg0.N) (hn : (n + 1) % 4 ≠ 0) (y : S1024x1408.Idx) : (outsAt0 m c (n + 1) h).2 y = (outsAt0 m c n (Nat.lt_of_succ_lt h)).2 y + part m c (n + 1) y := by
  show (outsAt0 m c (⟨n + 1, h⟩ : Fin cfg0.N).val _).2 y = _
  by_cases hl : (n + 1) % 4 = 3
  · rw [outsAt0_C m c ⟨n + 1, h⟩ hn (by dsimp only; omega) hl]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S2048x1024) z2, View.ld_unit_zero (S := S2048x1408) z2, View.ld_unit_zero (S := S1024x1408) z2, shapeCast_self]
    exact congrArg (· + _) (congrFun ((Memref.isWhole_whole cc0_scratch0).read_unread _) y)
  · rw [outsAt0_B m c ⟨n + 1, h⟩ hn (by dsimp only; omega) hl]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S2048x1024) z2, View.ld_unit_zero (S := S2048x1408) z2, View.ld_unit_zero (S := S1024x1408) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = fun y : S1x1024x1408.Idx => (outsAt0 m c t.val t.isLt).2 (ix2 (y 1) (y 2)) := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z3, View.canon_unit_zero z2, View.readCov_unit_zero (S := S1024x1408) _ z2]
  generalize k0_pay3 (F := Ideal) _ _ _ = v
  unfold k0_pay4
  funext y
  pointwise []

def prod (i j : ℕ) : EReal := ∑ k : Fin 8192, term m c i j k.val

/-- Whether the call writes a chip's part of a row of the layers. -/
abbrev Mine (a r : ℕ) : Prop := a / 2 = 0 ∧ r / 1024 = 0

/-- The array the call leaves: the product where it writes, what it was given elsewhere. -/
def left (y : S4x2048x1408.Idx) : EReal :=
  if Mine (y 0).val (y 1).val then prod m c ((y 1).val % 1024) ((y 0).val % 2 * 1408 + (y 2).val) else m ((c : Thread nD τ).loc main_arg2) y

theorem left_new (y : S4x2048x1408.Idx) (h : Mine (y 0).val (y 1).val) : left m c y = prod m c ((y 1).val % 1024) ((y 0).val % 2 * 1408 + (y 2).val) := if_pos h

theorem left_kept (y : S4x2048x1408.Idx) (h : ¬Mine (y 0).val (y 1).val) {i j k : ℕ} (hi : (y 0).val = i) (hj : (y 1).val = j) (hk : (y 2).val = k) :
    left m c y = at3 (m ((c : Thread nD τ).loc main_arg2)) i j k :=
  (if_neg h).trans (at3_of (a := 4) (b := 2048) (d := 1408) _ y hi hj hk)

theorem given : V m c main_v0 = m ((c : Thread nD τ).loc main_arg2) := by
  entry_read
  rfl

/-- What the call leaves. -/
theorem final : (dats m 0 c).arrAt 2 cfg0.N = left m c := by
  refine ((dats m 0 c).arrAt_eq_of_coversWhere 2 (fun y : S4x2048x1408.Idx => prod m c ((y 1).val % 1024) ((y 0).val % 2 * 1408 + (y 2).val)) (P := fun y : S4x2048x1408.Idx => Mine (y 0).val (y 1).val)
    (fun b => b (0 : Fin 3) / 2 = 0 ∧ b (1 : Fin 3) = 0) (by decide +kernel) (fun t hf y => ?_) (fun j => ?_)).trans ?_
  · have hm : t.val % 4 = 3 := (flush0_2 t).mp hf
    have ht : t.val < 8 := t.isLt
    obtain ⟨-, -, e2⟩ := idx t
    have h0 : (y 0).val < 1 := (y 0).isLt
    have h1 : (y 1).val < 1024 := (y 1).isLt
    have h2 : (y 2).val < 1408 := (y 2).isLt
    have E0 : (((cfg0.win 2).blk t).view.emb y 0).val % 2 = t.val / 4 := by
      rw [show (((cfg0.win 2).blk t).view.emb y 0).val = 0 + t.val / 4 from show win0_2.index t 0 * 1 + 1 * (y 0).val = _ by rw [e2]; show (0 + t.val / 4) * 1 + 1 * (y 0).val = _; omega]
      omega
    have E1 : (((cfg0.win 2).blk t).view.emb y 1).val % 1024 = (y 1).val := by
      rw [show (((cfg0.win 2).blk t).view.emb y 1).val = 0 * 1024 + (y 1).val from show win0_2.index t 1 * 1024 + 1 * (y 1).val = _ by rw [e2, one_mul]; rfl]
      omega
    have E2 : (((cfg0.win 2).blk t).view.emb y 2).val = (y 2).val := show win0_2.index t 2 * 1408 + 1 * (y 2).val = _ by rw [e2, one_mul]; exact Nat.zero_add _
    dsimp only
    rw [prod, E0, E1, E2]
    blk_simp
    rw [after0_2, last m c t hm]
    refine run_total 2048 (by decide) (fun n h => (outsAt0 m c n h).2) (part m c) (first m c) (next m c) t.isLt hm (ix2 (y 1) (y 2)) (term m c ((y 1).val) (t.val / 4 * 1408 + (y 2).val)) fun q hq => ?_
    rw [part, hq]
    rfl
  · blk_simp [Pipeline.Window.cell_apply]
    rw [Nat.div_one]
  · exact congrArg (fun (f : S4x2048x1408.Idx → EReal) (y : S4x2048x1408.Idx) => if Mine (y 0).val (y 1).val then prod m c ((y 1).val % 1024) ((y 0).val % 2 * 1408 + (y 2).val) else f y) (given m c)

end Cert.UpDw0aIdeal.Val

namespace Cert.UpDw0aIdeal

open Cert.Prod Idealize.ShloMosaic Idealize.ShloMosaic.TcCoe Idealize.SL.Sem

theorem frame_ref : @Cert.quiescent_UpDw0aRefIdeal UpDw0aRefIdeal.Gen.facts := fun m ρ _ =>
  (θ_run UpDw0aRefIdeal.defs _ _).mono (fun r h => ⟨fun c => (h c).2, sem_eq_zero_of_no_sems (by decide) r.2⟩) (UpDw0aRefIdeal.Value.run (F := Ideal) m ρ)

/-- The call and the plain product leave the same array. -/
theorem same : @Cert.algebraic_UpDw0aIdeal_UpDw0aRefIdeal Gen.facts UpDw0aRefIdeal.Gen.facts := by
  intro m g m' g' _ hagree
  refine ⟨Val.left m, (θ_run defs _ _).mono (fun r h c => ⟨(h c).1.trans (Val.final m c), (h c).2⟩) (Value.run_blocks m g),
    (θ_run UpDw0aRefIdeal.defs _ _).mono (fun r h c => ⟨(h c).1.trans ?_, (h c).2⟩) (UpDw0aRefIdeal.Value.run m' g')⟩
  rw [(hagree c).1, (hagree c).2.1, (hagree c).2.2]
  rw [joinedLayers 2 1024 5632 2048 4 1408 rfl rfl, cutLayers 2 1024 5632 2048 4 1408 rfl rfl]
  funext y
  have h0 : (y 0).val < 4 := (y 0).isLt
  have h1 : (y 1).val < 2048 := (y 1).isLt
  have h2 : (y 2).val < 1408 := (y 2).isLt
  dsimp only
  rw [at3_lt _ (show (y 1).val / 1024 < 2 by omega) (show (y 1).val % 1024 < 1024 by omega) (show (y 0).val * 1408 + (y 2).val < 5632 by omega)]
  pointwise []
  by_cases a : (y 1).val / 1024 < 1
  · rw [dif_pos a]
    by_cases b : (y 0).val * 1408 + (y 2).val < 2816
    · rw [dif_pos b]
      refine Eq.trans ?_ (Val.left_new m c y (by unfold Val.Mine; omega)).symm
      exact Finset.sum_congr (M := EReal) rfl fun k _ => congr (congrArg _ (at2_of _ _ rfl rfl)) (at2_of _ _ rfl (show (y 0).val * 1408 + (y 2).val = (y 0).val % 2 * 1408 + (y 2).val by omega))
    · rw [dif_neg b]
      exact (Val.left_kept m c y (by unfold Val.Mine; omega) (by omega) (by omega) (by omega)).symm
  · rw [dif_neg a]
    exact (Val.left_kept m c y (by unfold Val.Mine; omega) (by omega) (by omega) (by omega)).symm

end Cert.UpDw0aIdeal

end
-- ==== Proof.UpDw0bVal.lean ====
/- The first layer's up projection, second half: the weights' gradient, written beside the others'. -/
module

public import proofs.«01_k».proof.Proof.Chips
public import proofs.«01_k».proof.Proof.Gen.UpDw0bIdeal.Value
public import proofs.«01_k».proof.Proof.Gen.UpDw0bRefIdeal.Run
public import proofs.«01_k».proof.Defs

@[expose] public section

set_option maxRecDepth 16384

noncomputable section

namespace Cert.UpDw0bIdeal.Val

open Cert.UpDw0bIdeal.Gen Cert.UpDw0bIdeal.Value Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) k i * at2 (m ((c : Thread nD τ).loc main_arg1)) k j

/-- The product of the blocks of point `n`. -/
def part (n : ℕ) (y : S1024x1408.Idx) : EReal := ∑ k : Fin 2048, term m c ((y 0).val) (n / 4 * 1408 + (y 1).val) (n % 4 * 2048 + k.val)

theorem idx : ∀ t : Fin cfg0.N, win0_0.index t = ![t.val % 4, 0] ∧ win0_1.index t = ![t.val % 4, t.val / 4] ∧ win0_2.index t = ![2 + t.val / 4, 0, 0] :=
  (by decide +kernel : ∀ t : Fin grid0.N, _)

theorem part_eq (t : Fin cfg0.N) (y : S1024x1408.Idx) : k0_pay1 (iblk m c 0 t) (iblk m c 1 t) y = part m c t.val y := by
  obtain ⟨e0, e1, -⟩ := idx t
  have hy : (y 0).val < 1024 := (y 0).isLt
  have hz : (y 1).val < 1408 := (y 1).isLt
  have ht : t.val < 8 := t.isLt
  unfold k0_pay1 part term
  pointwise []
  refine Finset.sum_congr (M := EReal) rfl fun k _ => congr (congrArg _ ?_) ?_
  · show V m c main_arg0 (((cfg0.win 0).blk t).view.emb (ix2 k (y 0))) = _
    rw [V_main_arg0]
    exact at2_of _ _ (show win0_0.index t 0 * 2048 + 1 * k.val = _ by rw [e0, one_mul]; rfl) (show win0_0.index t 1 * 1024 + 1 * (y 0).val = _ by rw [e0, one_mul]; exact Nat.zero_add _)
  · show V m c main_arg1 (((cfg0.win 1).blk t).view.emb (ix2 k (y 1))) = _
    rw [V_main_arg1]
    exact at2_of _ _ (show win0_1.index t 0 * 2048 + 1 * k.val = _ by rw [e1, one_mul]; rfl) (show win0_1.index t 1 * 1408 + 1 * (y 1).val = _ by rw [e1, one_mul]; rfl)

/-- At a run's first point the accumulator is set to the block's product. -/
theorem first (n : ℕ) (h : n < cfg0.N) (hn : n % 4 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S2048x1024) z2, View.ld_unit_zero (S := S2048x1408) z2, shapeCast_self]

/-- At every other point it is added to. -/
theorem next (n : ℕ) (h : n + 1 < cfg0.N) (hn : (n + 1) % 4 ≠ 0) (y : S1024x1408.Idx) : (outsAt0 m c (n + 1) h).2 y = (outsAt0 m c n (Nat.lt_of_succ_lt h)).2 y + part m c (n + 1) y := by
  show (outsAt0 m c (⟨n + 1, h⟩ : Fin cfg0.N).val _).2 y = _
  by_cases hl : (n + 1) % 4 = 3
  · rw [outsAt0_C m c ⟨n + 1, h⟩ hn (by dsimp only; omega) hl]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S2048x1024) z2, View.ld_unit_zero (S := S2048x1408) z2, View.ld_unit_zero (S := S1024x1408) z2, shapeCast_self]
    exact congrArg (· + _) (congrFun ((Memref.isWhole_whole cc0_scratch0).read_unread _) y)
  · rw [outsAt0_B m c ⟨n + 1, h⟩ hn (by dsimp only; omega) hl]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S2048x1024) z2, View.ld_unit_zero (S := S2048x1408) z2, View.ld_unit_zero (S := S1024x1408) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = fun y : S1x1024x1408.Idx => (outsAt0 m c t.val t.isLt).2 (ix2 (y 1) (y 2)) := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z3, View.canon_unit_zero z2, View.readCov_unit_zero (S := S1024x1408) _ z2]
  generalize k0_pay3 (F := Ideal) _ _ _ = v
  unfold k0_pay4
  funext y
  pointwise []

def prod (i j : ℕ) : EReal := ∑ k : Fin 8192, term m c i j k.val

/-- Whether the call writes a chip's part of a row of the layers. -/
abbrev Mine (a r : ℕ) : Prop := a / 2 = 1 ∧ r / 1024 = 0

/-- The array the call leaves: the product where it writes, what it was given elsewhere. -/
def left (y : S4x2048x1408.Idx) : EReal :=
  if Mine (y 0).val (y 1).val then prod m c ((y 1).val % 1024) ((y 0).val % 2 * 1408 + (y 2).val) else m ((c : Thread nD τ).loc main_arg2) y

theorem left_new (y : S4x2048x1408.Idx) (h : Mine (y 0).val (y 1).val) : left m c y = prod m c ((y 1).val % 1024) ((y 0).val % 2 * 1408 + (y 2).val) := if_pos h

theorem left_kept (y : S4x2048x1408.Idx) (h : ¬Mine (y 0).val (y 1).val) {i j k : ℕ} (hi : (y 0).val = i) (hj : (y 1).val = j) (hk : (y 2).val = k) :
    left m c y = at3 (m ((c : Thread nD τ).loc main_arg2)) i j k :=
  (if_neg h).trans (at3_of (a := 4) (b := 2048) (d := 1408) _ y hi hj hk)

theorem given : V m c main_v0 = m ((c : Thread nD τ).loc main_arg2) := by
  entry_read
  rfl

/-- What the call leaves. -/
theorem final : (dats m 0 c).arrAt 2 cfg0.N = left m c := by
  refine ((dats m 0 c).arrAt_eq_of_coversWhere 2 (fun y : S4x2048x1408.Idx => prod m c ((y 1).val % 1024) ((y 0).val % 2 * 1408 + (y 2).val)) (P := fun y : S4x2048x1408.Idx => Mine (y 0).val (y 1).val)
    (fun b => b (0 : Fin 3) / 2 = 1 ∧ b (1 : Fin 3) = 0) (by decide +kernel) (fun t hf y => ?_) (fun j => ?_)).trans ?_
  · have hm : t.val % 4 = 3 := (flush0_2 t).mp hf
    have ht : t.val < 8 := t.isLt
    obtain ⟨-, -, e2⟩ := idx t
    have h0 : (y 0).val < 1 := (y 0).isLt
    have h1 : (y 1).val < 1024 := (y 1).isLt
    have h2 : (y 2).val < 1408 := (y 2).isLt
    have E0 : (((cfg0.win 2).blk t).view.emb y 0).val % 2 = t.val / 4 := by
      rw [show (((cfg0.win 2).blk t).view.emb y 0).val = 2 + t.val / 4 from show win0_2.index t 0 * 1 + 1 * (y 0).val = _ by rw [e2]; show (2 + t.val / 4) * 1 + 1 * (y 0).val = _; omega]
      omega
    have E1 : (((cfg0.win 2).blk t).view.emb y 1).val % 1024 = (y 1).val := by
      rw [show (((cfg0.win 2).blk t).view.emb y 1).val = 0 * 1024 + (y 1).val from show win0_2.index t 1 * 1024 + 1 * (y 1).val = _ by rw [e2, one_mul]; rfl]
      omega
    have E2 : (((cfg0.win 2).blk t).view.emb y 2).val = (y 2).val := show win0_2.index t 2 * 1408 + 1 * (y 2).val = _ by rw [e2, one_mul]; exact Nat.zero_add _
    dsimp only
    rw [prod, E0, E1, E2]
    blk_simp
    rw [after0_2, last m c t hm]
    refine run_total 2048 (by decide) (fun n h => (outsAt0 m c n h).2) (part m c) (first m c) (next m c) t.isLt hm (ix2 (y 1) (y 2)) (term m c ((y 1).val) (t.val / 4 * 1408 + (y 2).val)) fun q hq => ?_
    rw [part, hq]
    rfl
  · blk_simp [Pipeline.Window.cell_apply]
    rw [Nat.div_one]
  · exact congrArg (fun (f : S4x2048x1408.Idx → EReal) (y : S4x2048x1408.Idx) => if Mine (y 0).val (y 1).val then prod m c ((y 1).val % 1024) ((y 0).val % 2 * 1408 + (y 2).val) else f y) (given m c)

end Cert.UpDw0bIdeal.Val

namespace Cert.UpDw0bIdeal

open Cert.Prod Idealize.ShloMosaic Idealize.ShloMosaic.TcCoe Idealize.SL.Sem

theorem frame_ref : @Cert.quiescent_UpDw0bRefIdeal UpDw0bRefIdeal.Gen.facts := fun m ρ _ =>
  (θ_run UpDw0bRefIdeal.defs _ _).mono (fun r h => ⟨fun c => (h c).2, sem_eq_zero_of_no_sems (by decide) r.2⟩) (UpDw0bRefIdeal.Value.run (F := Ideal) m ρ)

/-- The call and the plain product leave the same array. -/
theorem same : @Cert.algebraic_UpDw0bIdeal_UpDw0bRefIdeal Gen.facts UpDw0bRefIdeal.Gen.facts := by
  intro m g m' g' _ hagree
  refine ⟨Val.left m, (θ_run defs _ _).mono (fun r h c => ⟨(h c).1.trans (Val.final m c), (h c).2⟩) (Value.run_blocks m g),
    (θ_run UpDw0bRefIdeal.defs _ _).mono (fun r h c => ⟨(h c).1.trans ?_, (h c).2⟩) (UpDw0bRefIdeal.Value.run m' g')⟩
  rw [(hagree c).1, (hagree c).2.1, (hagree c).2.2]
  rw [joinedLayers 2 1024 5632 2048 4 1408 rfl rfl, cutLayers 2 1024 5632 2048 4 1408 rfl rfl]
  funext y
  have h0 : (y 0).val < 4 := (y 0).isLt
  have h1 : (y 1).val < 2048 := (y 1).isLt
  have h2 : (y 2).val < 1408 := (y 2).isLt
  dsimp only
  rw [at3_lt _ (show (y 1).val / 1024 < 2 by omega) (show (y 1).val % 1024 < 1024 by omega) (show (y 0).val * 1408 + (y 2).val < 5632 by omega)]
  pointwise []
  by_cases a : (y 1).val / 1024 < 1
  · rw [dif_pos a]
    by_cases b : (y 0).val * 1408 + (y 2).val < 2816
    · rw [dif_pos b]
      exact (Val.left_kept m c y (by unfold Val.Mine; omega) (by omega) (by omega) (by omega)).symm
    · rw [dif_neg b]
      refine Eq.trans ?_ (Val.left_new m c y (by unfold Val.Mine; omega)).symm
      exact Finset.sum_congr (M := EReal) rfl fun k _ => congr (congrArg _ (at2_of _ _ rfl rfl)) (at2_of _ _ rfl (show (y 0).val * 1408 + (y 2).val - 2816 = (y 0).val % 2 * 1408 + (y 2).val by omega))
  · rw [dif_neg a]
    exact (Val.left_kept m c y (by unfold Val.Mine; omega) (by omega) (by omega) (by omega)).symm

end Cert.UpDw0bIdeal

end
-- ==== Proof.InADw1Val.lean ====
/- The attention layer's input projection, second group of heads: the weights' gradient, written beside the others'. -/
module

public import proofs.«01_k».proof.Proof.Chips
public import proofs.«01_k».proof.Proof.Gen.InADw1Ideal.Value
public import proofs.«01_k».proof.Proof.Gen.InADw1RefIdeal.Run
public import proofs.«01_k».proof.Defs

@[expose] public section

set_option maxRecDepth 16384

noncomputable section

namespace Cert.InADw1Ideal.Val

open Cert.InADw1Ideal.Gen Cert.InADw1Ideal.Value Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) (k % 2048) (k / 2048 * 1024 + i) * at2 (m ((c : Thread nD τ).loc main_arg1)) (k % 2048) (k / 2048 * 3072 + j)

/-- The product of the blocks of point `n`. -/
def part (n : ℕ) (y : S1024x768.Idx) : EReal := ∑ k : Fin 2048, term m c ((y 0).val) (n / 4 * 768 + (y 1).val) (n % 4 * 2048 + k.val)

theorem idx : ∀ t : Fin cfg0.N, win0_0.index t = ![0, t.val % 4] ∧ win0_1.index t = ![0, t.val % 4 * 4 + t.val / 4] ∧ win0_2.index t = ![(4 + t.val / 4) / 3, 0, (4 + t.val / 4) % 3] :=
  (by decide +kernel : ∀ t : Fin grid0.N, _)

theorem part_eq (t : Fin cfg0.N) (y : S1024x768.Idx) : k0_pay1 (iblk m c 0 t) (iblk m c 1 t) y = part m c t.val y := by
  obtain ⟨e0, e1, -⟩ := idx t
  have hy : (y 0).val < 1024 := (y 0).isLt
  have hz : (y 1).val < 768 := (y 1).isLt
  have ht : t.val < 16 := t.isLt
  unfold k0_pay1 part term
  pointwise []
  refine Finset.sum_congr (M := EReal) rfl fun k _ => congr (congrArg _ ?_) ?_
  · show V m c main_arg0 (((cfg0.win 0).blk t).view.emb (ix2 k (y 0))) = _
    rw [V_main_arg0]
    exact at2_of _ _ (show win0_0.index t 0 * 2048 + 1 * k.val = _ by rw [e0, one_mul]; show 0 * 2048 + k.val = (t.val % 4 * 2048 + k.val) % 2048; omega) (show win0_0.index t 1 * 1024 + 1 * (y 0).val = _ by rw [e0, one_mul]; show t.val % 4 * 1024 + (y 0).val = (t.val % 4 * 2048 + k.val) / 2048 * 1024 + (y 0).val; omega)
  · show V m c main_arg1 (((cfg0.win 1).blk t).view.emb (ix2 k (y 1))) = _
    rw [V_main_arg1]
    exact at2_of _ _ (show win0_1.index t 0 * 2048 + 1 * k.val = _ by rw [e1, one_mul]; show 0 * 2048 + k.val = (t.val % 4 * 2048 + k.val) % 2048; omega) (show win0_1.index t 1 * 768 + 1 * (y 1).val = _ by rw [e1, one_mul]; show (t.val % 4 * 4 + t.val / 4) * 768 + (y 1).val = (t.val % 4 * 2048 + k.val) / 2048 * 3072 + (t.val / 4 * 768 + (y 1).val); omega)

/-- At a run's first point the accumulator is set to the block's product. -/
theorem first (n : ℕ) (h : n < cfg0.N) (hn : n % 4 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S2048x1024) z2, View.ld_unit_zero (S := S2048x768) z2, shapeCast_self]

/-- At every other point it is added to. -/
theorem next (n : ℕ) (h : n + 1 < cfg0.N) (hn : (n + 1) % 4 ≠ 0) (y : S1024x768.Idx) : (outsAt0 m c (n + 1) h).2 y = (outsAt0 m c n (Nat.lt_of_succ_lt h)).2 y + part m c (n + 1) y := by
  show (outsAt0 m c (⟨n + 1, h⟩ : Fin cfg0.N).val _).2 y = _
  by_cases hl : (n + 1) % 4 = 3
  · rw [outsAt0_C m c ⟨n + 1, h⟩ hn (by dsimp only; omega) hl]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S2048x1024) z2, View.ld_unit_zero (S := S2048x768) z2, View.ld_unit_zero (S := S1024x768) z2, shapeCast_self]
    exact congrArg (· + _) (congrFun ((Memref.isWhole_whole cc0_scratch0).read_unread _) y)
  · rw [outsAt0_B m c ⟨n + 1, h⟩ hn (by dsimp only; omega) hl]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S2048x1024) z2, View.ld_unit_zero (S := S2048x768) z2, View.ld_unit_zero (S := S1024x768) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = fun y : S1x1024x768.Idx => (outsAt0 m c t.val t.isLt).2 (ix2 (y 1) (y 2)) := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z3, View.canon_unit_zero z2, View.readCov_unit_zero (S := S1024x768) _ z2]
  generalize k0_pay3 (F := Ideal) _ _ _ = v
  unfold k0_pay4
  funext y
  pointwise []

def prod (i j : ℕ) : EReal := ∑ k : Fin 8192, term m c i j k.val

/-- Whether the call writes a chip's column. -/
abbrev Mine (a q : ℕ) : Prop := 3072 ≤ a * 2304 + q ∧ a * 2304 + q < 6144

/-- The array the call leaves: the product where it writes, what it was given elsewhere. -/
def left (y : S4x1024x2304.Idx) : EReal :=
  if Mine (y 0).val (y 2).val then prod m c (y 1).val ((y 0).val * 2304 + (y 2).val - 3072) else m ((c : Thread nD τ).loc main_arg2) y

theorem left_new (y : S4x1024x2304.Idx) (h : Mine (y 0).val (y 2).val) : left m c y = prod m c (y 1).val ((y 0).val * 2304 + (y 2).val - 3072) := if_pos h

theorem left_kept (y : S4x1024x2304.Idx) (h : ¬Mine (y 0).val (y 2).val) {i j k : ℕ} (hi : (y 0).val = i) (hj : (y 1).val = j) (hk : (y 2).val = k) :
    left m c y = at3 (m ((c : Thread nD τ).loc main_arg2)) i j k :=
  (if_neg h).trans (at3_of (a := 4) (b := 1024) (d := 2304) _ y hi hj hk)

theorem given : V m c main_v0 = m ((c : Thread nD τ).loc main_arg2) := by
  entry_read
  rfl

/-- What the call leaves. -/
theorem final : (dats m 0 c).arrAt 2 cfg0.N = left m c := by
  refine ((dats m 0 c).arrAt_eq_of_coversWhere 2 (fun y : S4x1024x2304.Idx => prod m c (y 1).val ((y 0).val * 2304 + (y 2).val - 3072)) (P := fun y : S4x1024x2304.Idx => Mine (y 0).val (y 2).val)
    (fun b => 4 ≤ b (0 : Fin 3) * 3 + b (2 : Fin 3) ∧ b (0 : Fin 3) * 3 + b (2 : Fin 3) < 8) (by decide +kernel) (fun t hf y => ?_) (fun j => ?_)).trans ?_
  · have hm : t.val % 4 = 3 := (flush0_2 t).mp hf
    have ht : t.val < 16 := t.isLt
    obtain ⟨-, -, e2⟩ := idx t
    have h0 : (y 0).val < 1 := (y 0).isLt
    have h1 : (y 1).val < 1024 := (y 1).isLt
    have h2 : (y 2).val < 768 := (y 2).isLt
    have E0 : (((cfg0.win 2).blk t).view.emb y 0).val = (4 + t.val / 4) / 3 := show win0_2.index t 0 * 1 + 1 * (y 0).val = _ by rw [e2]; show (4 + t.val / 4) / 3 * 1 + 1 * (y 0).val = _; omega
    have E1 : (((cfg0.win 2).blk t).view.emb y 1).val = (y 1).val := show win0_2.index t 1 * 1024 + 1 * (y 1).val = _ by rw [e2, one_mul]; exact Nat.zero_add _
    have E2 : (((cfg0.win 2).blk t).view.emb y 2).val = (4 + t.val / 4) % 3 * 768 + (y 2).val := show win0_2.index t 2 * 768 + 1 * (y 2).val = _ by rw [e2, one_mul]; rfl
    dsimp only
    rw [prod, E0, E1, E2, show (4 + t.val / 4) / 3 * 2304 + ((4 + t.val / 4) % 3 * 768 + (y 2).val) - 3072 = t.val / 4 * 768 + (y 2).val by omega]
    blk_simp
    rw [after0_2, last m c t hm]
    refine run_total 2048 (by decide) (fun n h => (outsAt0 m c n h).2) (part m c) (first m c) (next m c) t.isLt hm (ix2 (y 1) (y 2)) (term m c ((y 1).val) (t.val / 4 * 768 + (y 2).val)) fun q hq => ?_
    rw [part, hq]
    rfl
  · have h2 : (j 2).val < 2304 := (j 2).isLt
    blk_simp [Pipeline.Window.cell_apply]
    show Mine (j 0).val (j 2).val ↔ _
    unfold Mine
    omega
  · exact congrArg (fun (f : S4x1024x2304.Idx → EReal) (y : S4x1024x2304.Idx) => if Mine (y 0).val (y 2).val then prod m c (y 1).val ((y 0).val * 2304 + (y 2).val - 3072) else f y) (given m c)

end Cert.InADw1Ideal.Val

namespace Cert.InADw1Ideal

open Cert.Prod Idealize.ShloMosaic Idealize.ShloMosaic.TcCoe Idealize.SL.Sem

theorem frame_ref : @Cert.quiescent_InADw1RefIdeal InADw1RefIdeal.Gen.facts := fun m ρ _ =>
  (θ_run InADw1RefIdeal.defs _ _).mono (fun r h => ⟨fun c => (h c).2, sem_eq_zero_of_no_sems (by decide) r.2⟩) (InADw1RefIdeal.Value.run (F := Ideal) m ρ)

/-- The call and the plain product leave the same array. -/
theorem same : @Cert.algebraic_InADw1Ideal_InADw1RefIdeal Gen.facts InADw1RefIdeal.Gen.facts := by
  intro m g m' g' _ hagree
  refine ⟨Val.left m, (θ_run defs _ _).mono (fun r h c => ⟨(h c).1.trans (Val.final m c), (h c).2⟩) (Value.run_blocks m g),
    (θ_run InADw1RefIdeal.defs _ _).mono (fun r h c => ⟨(h c).1.trans ?_, (h c).2⟩) (InADw1RefIdeal.Value.run m' g')⟩
  rw [(hagree c).1, (hagree c).2.1, (hagree c).2.2]
  rw [joined 1024 9216 4 2304 rfl, cut 1024 9216 4 2304 rfl, relaid, relaid]
  funext y
  have h0 : (y 0).val < 4 := (y 0).isLt
  have h1 : (y 1).val < 1024 := (y 1).isLt
  have h2 : (y 2).val < 2304 := (y 2).isLt
  dsimp only
  rw [at2_lt _ (show (y 1).val < 1024 by omega) (show (y 0).val * 2304 + (y 2).val < 9216 by omega)]
  pointwise []
  by_cases a : (y 0).val * 2304 + (y 2).val < 3072
  · rw [dif_pos a]
    exact (Val.left_kept m c y (by unfold Val.Mine; omega) (by omega) (by omega) (by omega)).symm
  rw [dif_neg a]
  by_cases b : (y 0).val * 2304 + (y 2).val - 3072 < 3072
  · rw [dif_pos b]
    refine Eq.trans ?_ ((sum_turned (fun k d => at2 (m ((c.tc : Thread InADw1Ideal.nD InADw1Ideal.τ).loc main_arg0)) k (d * 1024 + (y 1).val) * at2 (m ((c.tc : Thread InADw1Ideal.nD InADw1Ideal.τ).loc main_arg1)) k (d * 3072 + ((y 0).val * 2304 + (y 2).val - 3072))) 2048 4).trans (Val.left_new m c y (by unfold Val.Mine; omega)).symm)
    refine Finset.sum_congr (M := EReal) rfl fun k _ => congr (congrArg _ ?_) ?_
    · exact congr (congrArg (at2 _) (show (k.val * 1024 + (y 1).val) / 4096 = k.val / 4 by omega)) (show (k.val * 1024 + (y 1).val) % 4096 = k.val % 4 * 1024 + (y 1).val by omega)
    · exact congr (congrArg (at2 _) (show (k.val * 3072 + ((y 0).val * 2304 + (y 2).val - 3072)) / 12288 = k.val / 4 by omega)) (show (k.val * 3072 + ((y 0).val * 2304 + (y 2).val - 3072)) % 12288 = k.val % 4 * 3072 + ((y 0).val * 2304 + (y 2).val - 3072) by omega)
  · rw [dif_neg b]
    exact (Val.left_kept m c y (by unfold Val.Mine; omega) (by omega) (by omega) (by omega)).symm

end Cert.InADw1Ideal

end
-- ==== Proof.InADw2Val.lean ====
/- The attention layer's input projection, third group of heads: the weights' gradient, written beside the others'. -/
module

public import proofs.«01_k».proof.Proof.Chips
public import proofs.«01_k».proof.Proof.Gen.InADw2Ideal.Value
public import proofs.«01_k».proof.Proof.Gen.InADw2RefIdeal.Run
public import proofs.«01_k».proof.Defs

@[expose] public section

set_option maxRecDepth 16384

noncomputable section

namespace Cert.InADw2Ideal.Val

open Cert.InADw2Ideal.Gen Cert.InADw2Ideal.Value Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) (k % 512) (k / 512 * 1024 + i) * at2 (m ((c : Thread nD τ).loc main_arg1)) (k % 512) (k / 512 * 3072 + j)

/-- The product of the blocks of point `n`. -/
def part (n : ℕ) (y : S1024x768.Idx) : EReal := ∑ k : Fin 512, term m c ((y 0).val) (n / 16 * 768 + (y 1).val) (n % 16 * 512 + k.val)

theorem idx : ∀ t : Fin cfg0.N, win0_0.index t = ![0, t.val % 16] ∧ win0_1.index t = ![0, t.val % 16 * 4 + t.val / 16] ∧ win0_2.index t = ![(8 + t.val / 16) / 3, 0, (8 + t.val / 16) % 3] :=
  (by decide +kernel : ∀ t : Fin grid0.N, _)

theorem part_eq (t : Fin cfg0.N) (y : S1024x768.Idx) : k0_pay1 (iblk m c 0 t) (iblk m c 1 t) y = part m c t.val y := by
  obtain ⟨e0, e1, -⟩ := idx t
  have hy : (y 0).val < 1024 := (y 0).isLt
  have hz : (y 1).val < 768 := (y 1).isLt
  have ht : t.val < 64 := t.isLt
  unfold k0_pay1 part term
  pointwise []
  refine Finset.sum_congr (M := EReal) rfl fun k _ => congr (congrArg _ ?_) ?_
  · show V m c main_arg0 (((cfg0.win 0).blk t).view.emb (ix2 k (y 0))) = _
    rw [V_main_arg0]
    exact at2_of _ _ (show win0_0.index t 0 * 512 + 1 * k.val = _ by rw [e0, one_mul]; show 0 * 512 + k.val = (t.val % 16 * 512 + k.val) % 512; omega) (show win0_0.index t 1 * 1024 + 1 * (y 0).val = _ by rw [e0, one_mul]; show t.val % 16 * 1024 + (y 0).val = (t.val % 16 * 512 + k.val) / 512 * 1024 + (y 0).val; omega)
  · show V m c main_arg1 (((cfg0.win 1).blk t).view.emb (ix2 k (y 1))) = _
    rw [V_main_arg1]
    exact at2_of _ _ (show win0_1.index t 0 * 512 + 1 * k.val = _ by rw [e1, one_mul]; show 0 * 512 + k.val = (t.val % 16 * 512 + k.val) % 512; omega) (show win0_1.index t 1 * 768 + 1 * (y 1).val = _ by rw [e1, one_mul]; show (t.val % 16 * 4 + t.val / 16) * 768 + (y 1).val = (t.val % 16 * 512 + k.val) / 512 * 3072 + (t.val / 16 * 768 + (y 1).val); omega)

/-- At a run's first point the accumulator is set to the block's product. -/
theorem first (n : ℕ) (h : n < cfg0.N) (hn : n % 16 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S512x1024) z2, View.ld_unit_zero (S := S512x768) z2, shapeCast_self]

/-- At every other point it is added to. -/
theorem next (n : ℕ) (h : n + 1 < cfg0.N) (hn : (n + 1) % 16 ≠ 0) (y : S1024x768.Idx) : (outsAt0 m c (n + 1) h).2 y = (outsAt0 m c n (Nat.lt_of_succ_lt h)).2 y + part m c (n + 1) y := by
  show (outsAt0 m c (⟨n + 1, h⟩ : Fin cfg0.N).val _).2 y = _
  by_cases hl : (n + 1) % 16 = 15
  · rw [outsAt0_C m c ⟨n + 1, h⟩ hn (by dsimp only; omega) hl]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S512x1024) z2, View.ld_unit_zero (S := S512x768) z2, View.ld_unit_zero (S := S1024x768) z2, shapeCast_self]
    exact congrArg (· + _) (congrFun ((Memref.isWhole_whole cc0_scratch0).read_unread _) y)
  · rw [outsAt0_B m c ⟨n + 1, h⟩ hn (by dsimp only; omega) hl]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S512x1024) z2, View.ld_unit_zero (S := S512x768) z2, View.ld_unit_zero (S := S1024x768) z2, shapeCast_self]
    exact congrArg (· + _) (congrFun ((Memref.isWhole_whole cc0_scratch0).read_unread _) y)

/-- The last point of a run leaves the accumulator in the result's block. -/
theorem last (t : Fin cfg0.N) (h : t.val % 16 = 15) : (outsAt0 m c t.val t.isLt).1 = fun y : S1x1024x768.Idx => (outsAt0 m c t.val t.isLt).2 (ix2 (y 1) (y 2)) := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z3, View.canon_unit_zero z2, View.readCov_unit_zero (S := S1024x768) _ z2]
  generalize k0_pay3 (F := Ideal) _ _ _ = v
  unfold k0_pay4
  funext y
  pointwise []

def prod (i j : ℕ) : EReal := ∑ k : Fin 8192, term m c i j k.val

/-- Whether the call writes a chip's column. -/
abbrev Mine (a q : ℕ) : Prop := 6144 ≤ a * 2304 + q ∧ a * 2304 + q < 9216

/-- The array the call leaves: the product where it writes, what it was given elsewhere. -/
def left (y : S4x1024x2304.Idx) : EReal :=
  if Mine (y 0).val (y 2).val then prod m c (y 1).val ((y 0).val * 2304 + (y 2).val - 6144) else m ((c : Thread nD τ).loc main_arg2) y

theorem left_new (y : S4x1024x2304.Idx) (h : Mine (y 0).val (y 2).val) : left m c y = prod m c (y 1).val ((y 0).val * 2304 + (y 2).val - 6144) := if_pos h

theorem left_kept (y : S4x1024x2304.Idx) (h : ¬Mine (y 0).val (y 2).val) {i j k : ℕ} (hi : (y 0).val = i) (hj : (y 1).val = j) (hk : (y 2).val = k) :
    left m c y = at3 (m ((c : Thread nD τ).loc main_arg2)) i j k :=
  (if_neg h).trans (at3_of (a := 4) (b := 1024) (d := 2304) _ y hi hj hk)

theorem given : V m c main_v0 = m ((c : Thread nD τ).loc main_arg2) := by
  entry_read
  rfl

/-- What the call leaves. -/
theorem final : (dats m 0 c).arrAt 2 cfg0.N = left m c := by
  refine ((dats m 0 c).arrAt_eq_of_coversWhere 2 (fun y : S4x1024x2304.Idx => prod m c (y 1).val ((y 0).val * 2304 + (y 2).val - 6144)) (P := fun y : S4x1024x2304.Idx => Mine (y 0).val (y 2).val)
    (fun b => 8 ≤ b (0 : Fin 3) * 3 + b (2 : Fin 3) ∧ b (0 : Fin 3) * 3 + b (2 : Fin 3) < 12) (by decide +kernel) (fun t hf y => ?_) (fun j => ?_)).trans ?_
  · have hm : t.val % 16 = 15 := (flush0_2 t).mp hf
    have ht : t.val < 64 := t.isLt
    obtain ⟨-, -, e2⟩ := idx t
    have h0 : (y 0).val < 1 := (y 0).isLt
    have h1 : (y 1).val < 1024 := (y 1).isLt
    have h2 : (y 2).val < 768 := (y 2).isLt
    have E0 : (((cfg0.win 2).blk t).view.emb y 0).val = (8 + t.val / 16) / 3 := show win0_2.index t 0 * 1 + 1 * (y 0).val = _ by rw [e2]; show (8 + t.val / 16) / 3 * 1 + 1 * (y 0).val = _; omega
    have E1 : (((cfg0.win 2).blk t).view.emb y 1).val = (y 1).val := show win0_2.index t 1 * 1024 + 1 * (y 1).val = _ by rw [e2, one_mul]; exact Nat.zero_add _
    have E2 : (((cfg0.win 2).blk t).view.emb y 2).val = (8 + t.val / 16) % 3 * 768 + (y 2).val := show win0_2.index t 2 * 768 + 1 * (y 2).val = _ by rw [e2, one_mul]; rfl
    dsimp only
    rw [prod, E0, E1, E2, show (8 + t.val / 16) / 3 * 2304 + ((8 + t.val / 16) % 3 * 768 + (y 2).val) - 6144 = t.val / 16 * 768 + (y 2).val by omega]
    blk_simp
    rw [after0_2, last m c t hm]
    refine run_total 512 (by decide) (fun n h => (outsAt0 m c n h).2) (part m c) (first m c) (next m c) t.isLt hm (ix2 (y 1) (y 2)) (term m c ((y 1).val) (t.val / 16 * 768 + (y 2).val)) fun q hq => ?_
    rw [part, hq]
    rfl
  · have h2 : (j 2).val < 2304 := (j 2).isLt
    blk_simp [Pipeline.Window.cell_apply]
    show Mine (j 0).val (j 2).val ↔ _
    unfold Mine
    omega
  · exact congrArg (fun (f : S4x1024x2304.Idx → EReal) (y : S4x1024x2304.Idx) => if Mine (y 0).val (y 2).val then prod m c (y 1).val ((y 0).val * 2304 + (y 2).val - 6144) else f y) (given m c)

end Cert.InADw2Ideal.Val

namespace Cert.InADw2Ideal

open Cert.Prod Idealize.ShloMosaic Idealize.ShloMosaic.TcCoe Idealize.SL.Sem

theorem frame_ref : @Cert.quiescent_InADw2RefIdeal InADw2RefIdeal.Gen.facts := fun m ρ _ =>
  (θ_run InADw2RefIdeal.defs _ _).mono (fun r h => ⟨fun c => (h c).2, sem_eq_zero_of_no_sems (by decide) r.2⟩) (InADw2RefIdeal.Value.run (F := Ideal) m ρ)

/-- The call and the plain product leave the same array. -/
theorem same : @Cert.algebraic_InADw2Ideal_InADw2RefIdeal Gen.facts InADw2RefIdeal.Gen.facts := by
  intro m g m' g' _ hagree
  refine ⟨Val.left m, (θ_run defs _ _).mono (fun r h c => ⟨(h c).1.trans (Val.final m c), (h c).2⟩) (Value.run_blocks m g),
    (θ_run InADw2RefIdeal.defs _ _).mono (fun r h c => ⟨(h c).1.trans ?_, (h c).2⟩) (InADw2RefIdeal.Value.run m' g')⟩
  rw [(hagree c).1, (hagree c).2.1, (hagree c).2.2]
  rw [joined 1024 9216 4 2304 rfl, cut 1024 9216 4 2304 rfl, relaid, relaid]
  funext y
  have h0 : (y 0).val < 4 := (y 0).isLt
  have h1 : (y 1).val < 1024 := (y 1).isLt
  have h2 : (y 2).val < 2304 := (y 2).isLt
  dsimp only
  rw [at2_lt _ (show (y 1).val < 1024 by omega) (show (y 0).val * 2304 + (y 2).val < 9216 by omega)]
  pointwise []
  by_cases a : (y 0).val * 2304 + (y 2).val < 6144
  · rw [dif_pos a]
    exact (Val.left_kept m c y (by unfold Val.Mine; omega) (by omega) (by omega) (by omega)).symm
  rw [dif_neg a]
  by_cases b : (y 0).val * 2304 + (y 2).val - 6144 < 3072
  · rw [dif_pos b]
    refine Eq.trans ?_ ((sum_turned (fun k d => at2 (m ((c.tc : Thread InADw2Ideal.nD InADw2Ideal.τ).loc main_arg0)) k (d * 1024 + (y 1).val) * at2 (m ((c.tc : Thread InADw2Ideal.nD InADw2Ideal.τ).loc main_arg1)) k (d * 3072 + ((y 0).val * 2304 + (y 2).val - 6144))) 512 16).trans (Val.left_new m c y (by unfold Val.Mine; omega)).symm)
    refine Finset.sum_congr (M := EReal) rfl fun k _ => congr (congrArg _ ?_) ?_
    · exact congr (congrArg (at2 _) (show (k.val * 1024 + (y 1).val) / 16384 = k.val / 16 by omega)) (show (k.val * 1024 + (y 1).val) % 16384 = k.val % 16 * 1024 + (y 1).val by omega)
    · exact congr (congrArg (at2 _) (show (k.val * 3072 + ((y 0).val * 2304 + (y 2).val - 6144)) / 49152 = k.val / 16 by omega)) (show (k.val * 3072 + ((y 0).val * 2304 + (y 2).val - 6144)) % 49152 = k.val % 16 * 3072 + ((y 0).val * 2304 + (y 2).val - 6144) by omega)
  · rw [dif_neg b]
    exact absurd (show (y 0).val * 2304 + (y 2).val - 6144 < 3072 by omega) b

end Cert.InADw2Ideal

end
-- ==== Proof.DownDw1Val.lean ====
/- The second layer's down projection: the weights' gradient, the part of the array its call writes. -/
module

public import proofs.«01_k».proof.Proof.Prod
public import proofs.«01_k».proof.Proof.Gen.DownDw1Ideal.Frame
public import proofs.«01_k».proof.Proof.Gen.DownDw1RefIdeal.Run
public import proofs.«01_k».proof.Defs

@[expose] public section

set_option maxRecDepth 16384

noncomputable section

namespace Cert.DownDw1Ideal.Val

open Cert.DownDw1Ideal.Gen Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) k i * at2 (m ((c : Thread nD τ).loc main_arg1)) k j

/-- The product of the blocks of point `n`. -/
def part (n : ℕ) (y : S1408x1024.Idx) : EReal := ∑ k : Fin 2048, term m c (n / 4 * 1408 + (y 0).val) ((y 1).val) (n % 4 * 2048 + k.val)

theorem idx : ∀ t : Fin cfg0.N, win0_0.index t = ![t.val % 4, t.val / 4] ∧ win0_1.index t = ![t.val % 4, 0] ∧ win0_2.index t = ![2 + t.val / 4, 0] :=
  (by decide +kernel : ∀ t : Fin grid0.N, _)

theorem part_eq (t : Fin cfg0.N) (y : S1408x1024.Idx) : k0_pay1 (iblk m c 0 t) (iblk m c 1 t) y = part m c t.val y := by
  obtain ⟨e0, e1, -⟩ := idx t
  have hy : (y 0).val < 1408 := (y 0).isLt
  have hz : (y 1).val < 1024 := (y 1).isLt
  have ht : t.val < 8 := t.isLt
  unfold k0_pay1 part term
  pointwise []
  refine Finset.sum_congr (M := EReal) rfl fun k _ => congr (congrArg _ ?_) ?_
  · show V m c main_arg0 (((cfg0.win 0).blk t).view.emb (ix2 k (y 0))) = _
    rw [V_main_arg0]
    exact at2_of _ _ (show win0_0.index t 0 * 2048 + 1 * k.val = _ by rw [e0, one_mul]; rfl) (show win0_0.index t 1 * 1408 + 1 * (y 0).val = _ by rw [e0, one_mul]; rfl)
  · show V m c main_arg1 (((cfg0.win 1).blk t).view.emb (ix2 k (y 1))) = _
    rw [V_main_arg1]
    exact at2_of _ _ (show win0_1.index t 0 * 2048 + 1 * k.val = _ by rw [e1, one_mul]; rfl) (show win0_1.index t 1 * 1024 + 1 * (y 1).val = _ by rw [e1, one_mul]; exact Nat.zero_add _)

/-- At a run's first point the accumulator is set to the block's product. -/
theorem first (n : ℕ) (h : n < cfg0.N) (hn : n % 4 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S2048x1408) z2, View.ld_unit_zero (S := S2048x1024) z2, shapeCast_self]

/-- At every other point it is added to. -/
theorem next (n : ℕ) (h : n + 1 < cfg0.N) (hn : (n + 1) % 4 ≠ 0) (y : S1408x1024.Idx) : (outsAt0 m c (n + 1) h).2 y = (outsAt0 m c n (Nat.lt_of_succ_lt h)).2 y + part m c (n + 1) y := by
  show (outsAt0 m c (⟨n + 1, h⟩ : Fin cfg0.N).val _).2 y = _
  by_cases hl : (n + 1) % 4 = 3
  · rw [outsAt0_C m c ⟨n + 1, h⟩ hn (by dsimp only; omega) hl]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S2048x1408) z2, View.ld_unit_zero (S := S2048x1024) z2, View.ld_unit_zero (S := S1408x1024) z2, shapeCast_self]
    exact congrArg (· + _) (congrFun ((Memref.isWhole_whole cc0_scratch0).read_unread _) y)
  · rw [outsAt0_B m c ⟨n + 1, h⟩ hn (by dsimp only; omega) hl]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S2048x1408) z2, View.ld_unit_zero (S := S2048x1024) z2, View.ld_unit_zero (S := S1408x1024) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = (outsAt0 m c t.val t.isLt).2 := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z2, View.canon_unit_zero z2, View.readCov_unit_zero (S := S1408x1024) _ z2]

def prod (y : S2816x1024.Idx) : EReal := ∑ k : Fin 8192, term m c (y 0).val (y 1).val k.val

/-- The product, where the array has it. -/
def low (y : S5632x1024.Idx) : EReal := ∑ k : Fin 8192, term m c ((y 0).val - 2816) (y 1).val k.val

/-- The array the call leaves: the product in the lower half, what was there above it. -/
def left (y : S5632x1024.Idx) : EReal := if 2816 ≤ (y 0).val then low m c y else V m c main_v0 y

/-- What the call leaves. -/
theorem final : (dats m 0 c).arrAt 2 cfg0.N = left m c := by
  refine (dats m 0 c).arrAt_eq_of_coversWhere 2 (low m c) (P := fun y : S5632x1024.Idx => 2816 ≤ (y 0).val) (fun b => 2 ≤ b (0 : Fin 2)) (by decide +kernel) (fun t hf y => ?_) (fun j => ?_)
  · have hm : t.val % 4 = 3 := (flush0_2 t).mp hf
    obtain ⟨-, -, e2⟩ := idx t
    have E0 : (((cfg0.win 2).blk t).view.emb y 0).val - 2816 = t.val / 4 * 1408 + (y 0).val := by
      have : (((cfg0.win 2).blk t).view.emb y 0).val = (2 + t.val / 4) * 1408 + (y 0).val := show win0_2.index t 0 * 1408 + 1 * (y 0).val = _ by rw [e2, one_mul]; rfl
      omega
    have E1 : (((cfg0.win 2).blk t).view.emb y 1).val = (y 1).val := show win0_2.index t 1 * 1024 + 1 * (y 1).val = _ by rw [e2, one_mul]; exact Nat.zero_add _
    rw [low, E0, E1]
    blk_simp
    rw [after0_2, last m c t hm]
    refine run_total 2048 (by decide) (fun n h => (outsAt0 m c n h).2) (part m c) (first m c) (next m c) t.isLt hm y (term m c (t.val / 4 * 1408 + (y 0).val) ((y 1).val)) fun q hq => ?_
    rw [part, hq]
  · blk_simp [Pipeline.Window.cell_apply]
    omega

/-- The line after the call takes the lower half. -/
theorem taken : Pipeline.afterTail₀ cfgs (dats m) 0 (V0 m) [hostOps1] c main_v1 = prod m c := by
  have e : Pipeline.withArrays (cfgs 0).spec c (V0 m c) (fun w => (dats m 0 c).arrAt w (cfgs 0).N) (Proc.devRef .tc main_v0) = left m c :=
    (Pipeline.withArrays_arr (cfgs 0).spec (by decide) c _ _ 2).trans (final m c)
  have h : Pipeline.afterTail₀ cfgs (dats m) 0 (V0 m) [hostOps1] c main_v1 = extractStridedSlice S2816x1024 ![2816, 0] (Pipeline.withArrays (cfgs 0).spec c (V0 m c) (fun w => (dats m 0 c).arrAt w (cfgs 0).N) (Proc.devRef .tc main_v0)) slices_S5632x1024_S2816x1024_2816_0 := by
    show StableHlo.after hostOps1 _ (Proc.devRef .tc main_v1) = _
    after_results
  rw [h, e]
  funext y
  pointwise []
  unfold left low prod
  refine (if_pos (Nat.le_add_right 2816 _)).trans ?_
  exact Finset.sum_congr (M := EReal) rfl fun k _ => congrArg (term m c · _ _) (Nat.add_sub_cancel_left ..)

end Cert.DownDw1Ideal.Val

namespace Cert.DownDw1Ideal

open Cert.Prod Idealize.ShloMosaic Idealize.ShloMosaic.TcCoe Idealize.SL.Sem

theorem frame_ref : @Cert.quiescent_DownDw1RefIdeal DownDw1RefIdeal.Gen.facts := fun m ρ _ =>
  (θ_run DownDw1RefIdeal.defs _ _).mono (fun r h => ⟨fun c => (h c).2, sem_eq_zero_of_no_sems (by decide) r.2⟩) (DownDw1RefIdeal.Value.run (F := Ideal) m ρ)

/-- The call's part of the array and the plain product are the same. -/
theorem same : @Cert.algebraic_DownDw1Ideal_DownDw1RefIdeal Gen.facts DownDw1RefIdeal.Gen.facts := by
  intro m g m' g' _ hagree
  refine ⟨Val.prod m, (θ_run defs _ _).mono (fun r h c => ⟨(h.1.rest_eq c main_v1 (by decide)).trans (Val.taken m c), h.2 c⟩) (θ_run_and (Gen.run_main m g) (Gen.unchanged m g)),
    (θ_run DownDw1RefIdeal.defs _ _).mono (fun r h c => ⟨(h c).1.trans ?_, (h c).2⟩) (DownDw1RefIdeal.Value.run m' g')⟩
  rw [(hagree c).1, (hagree c).2]
  funext y
  pointwise []
  unfold Val.prod
  exact Finset.sum_congr (M := EReal) rfl fun k _ => congr (congrArg _ (at2_of _ _ rfl rfl)) (at2_of _ _ rfl rfl)

end Cert.DownDw1Ideal

end
-- ==== Proof.UpDw1aVal.lean ====
/- The second layer's up projection, first half: the weights' gradient, the part of the array its call writes. -/
module

public import proofs.«01_k».proof.Proof.Chips
public import proofs.«01_k».proof.Proof.Gen.UpDw1aIdeal.Frame
public import proofs.«01_k».proof.Proof.Gen.UpDw1aRefIdeal.Run
public import proofs.«01_k».proof.Defs

@[expose] public section

set_option maxRecDepth 16384

noncomputable section

namespace Cert.UpDw1aIdeal.Val

open Cert.UpDw1aIdeal.Gen Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) k i * at2 (m ((c : Thread nD τ).loc main_arg1)) k j

/-- The product of the blocks of point `n`. -/
def part (n : ℕ) (y : S1024x1408.Idx) : EReal := ∑ k : Fin 2048, term m c ((y 0).val) (n / 4 * 1408 + (y 1).val) (n % 4 * 2048 + k.val)

theorem idx : ∀ t : Fin cfg0.N, win0_0.index t = ![t.val % 4, 0] ∧ win0_1.index t = ![t.val % 4, t.val / 4] ∧ win0_2.index t = ![t.val / 4, 1, 0] :=
  (by decide +kernel : ∀ t : Fin grid0.N, _)

theorem part_eq (t : Fin cfg0.N) (y : S1024x1408.Idx) : k0_pay1 (iblk m c 0 t) (iblk m c 1 t) y = part m c t.val y := by
  obtain ⟨e0, e1, -⟩ := idx t
  have hy : (y 0).val < 1024 := (y 0).isLt
  have hz : (y 1).val < 1408 := (y 1).isLt
  have ht : t.val < 8 := t.isLt
  unfold k0_pay1 part term
  pointwise []
  refine Finset.sum_congr (M := EReal) rfl fun k _ => congr (congrArg _ ?_) ?_
  · show V m c main_arg0 (((cfg0.win 0).blk t).view.emb (ix2 k (y 0))) = _
    rw [V_main_arg0]
    exact at2_of _ _ (show win0_0.index t 0 * 2048 + 1 * k.val = _ by rw [e0, one_mul]; rfl) (show win0_0.index t 1 * 1024 + 1 * (y 0).val = _ by rw [e0, one_mul]; exact Nat.zero_add _)
  · show V m c main_arg1 (((cfg0.win 1).blk t).view.emb (ix2 k (y 1))) = _
    rw [V_main_arg1]
    exact at2_of _ _ (show win0_1.index t 0 * 2048 + 1 * k.val = _ by rw [e1, one_mul]; rfl) (show win0_1.index t 1 * 1408 + 1 * (y 1).val = _ by rw [e1, one_mul]; rfl)

/-- At a run's first point the accumulator is set to the block's product. -/
theorem first (n : ℕ) (h : n < cfg0.N) (hn : n % 4 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S2048x1024) z2, View.ld_unit_zero (S := S2048x1408) z2, shapeCast_self]

/-- At every other point it is added to. -/
theorem next (n : ℕ) (h : n + 1 < cfg0.N) (hn : (n + 1) % 4 ≠ 0) (y : S1024x1408.Idx) : (outsAt0 m c (n + 1) h).2 y = (outsAt0 m c n (Nat.lt_of_succ_lt h)).2 y + part m c (n + 1) y := by
  show (outsAt0 m c (⟨n + 1, h⟩ : Fin cfg0.N).val _).2 y = _
  by_cases hl : (n + 1) % 4 = 3
  · rw [outsAt0_C m c ⟨n + 1, h⟩ hn (by dsimp only; omega) hl]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S2048x1024) z2, View.ld_unit_zero (S := S2048x1408) z2, View.ld_unit_zero (S := S1024x1408) z2, shapeCast_self]
    exact congrArg (· + _) (congrFun ((Memref.isWhole_whole cc0_scratch0).read_unread _) y)
  · rw [outsAt0_B m c ⟨n + 1, h⟩ hn (by dsimp only; omega) hl]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S2048x1024) z2, View.ld_unit_zero (S := S2048x1408) z2, View.ld_unit_zero (S := S1024x1408) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = fun y : S1x1024x1408.Idx => (outsAt0 m c t.val t.isLt).2 (ix2 (y 1) (y 2)) := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z3, View.canon_unit_zero z2, View.readCov_unit_zero (S := S1024x1408) _ z2]
  generalize k0_pay3 (F := Ideal) _ _ _ = v
  unfold k0_pay4
  funext y
  pointwise []

def prod (i j : ℕ) : EReal := ∑ k : Fin 8192, term m c i j k.val

/-- Whether the call writes a chip's part of a row of the layers. -/
abbrev Mine (a r : ℕ) : Prop := a / 2 = 0 ∧ r / 1024 = 1

/-- The array the call leaves: the product where it writes, what was there elsewhere. -/
def left (y : S4x2048x1408.Idx) : EReal :=
  if Mine (y 0).val (y 1).val then prod m c ((y 1).val % 1024) ((y 0).val % 2 * 1408 + (y 2).val) else V m c main_v0 y

theorem left_new (y : S4x2048x1408.Idx) (h : Mine (y 0).val (y 1).val) : left m c y = prod m c ((y 1).val % 1024) ((y 0).val % 2 * 1408 + (y 2).val) := if_pos h

/-- What the call leaves. -/
theorem final : (dats m 0 c).arrAt 2 cfg0.N = left m c := by
  refine (dats m 0 c).arrAt_eq_of_coversWhere 2 (fun y : S4x2048x1408.Idx => prod m c ((y 1).val % 1024) ((y 0).val % 2 * 1408 + (y 2).val)) (P := fun y : S4x2048x1408.Idx => Mine (y 0).val (y 1).val)
    (fun b => b (0 : Fin 3) / 2 = 0 ∧ b (1 : Fin 3) = 1) (by decide +kernel) (fun t hf y => ?_) (fun j => ?_)
  · have hm : t.val % 4 = 3 := (flush0_2 t).mp hf
    have ht : t.val < 8 := t.isLt
    obtain ⟨-, -, e2⟩ := idx t
    have h0 : (y 0).val < 1 := (y 0).isLt
    have h1 : (y 1).val < 1024 := (y 1).isLt
    have h2 : (y 2).val < 1408 := (y 2).isLt
    have E0 : (((cfg0.win 2).blk t).view.emb y 0).val % 2 = t.val / 4 := by
      rw [show (((cfg0.win 2).blk t).view.emb y 0).val = t.val / 4 from show win0_2.index t 0 * 1 + 1 * (y 0).val = _ by rw [e2]; show t.val / 4 * 1 + 1 * (y 0).val = _; omega]
      omega
    have E1 : (((cfg0.win 2).blk t).view.emb y 1).val % 1024 = (y 1).val := by
      rw [show (((cfg0.win 2).blk t).view.emb y 1).val = 1 * 1024 + (y 1).val from show win0_2.index t 1 * 1024 + 1 * (y 1).val = _ by rw [e2, one_mul]; rfl]
      omega
    have E2 : (((cfg0.win 2).blk t).view.emb y 2).val = (y 2).val := show win0_2.index t 2 * 1408 + 1 * (y 2).val = _ by rw [e2, one_mul]; exact Nat.zero_add _
    dsimp only
    rw [prod, E0, E1, E2]
    blk_simp
    rw [after0_2, last m c t hm]
    refine run_total 2048 (by decide) (fun n h => (outsAt0 m c n h).2) (part m c) (first m c) (next m c) t.isLt hm (ix2 (y 1) (y 2)) (term m c ((y 1).val) (t.val / 4 * 1408 + (y 2).val)) fun q hq => ?_
    rw [part, hq]
    rfl
  · blk_simp [Pipeline.Window.cell_apply]
    rw [Nat.div_one]

/-- The part the call writes. -/
def mine (y : S2x1024x1408.Idx) : EReal := prod m c (y 1).val ((y 0).val * 1408 + (y 2).val)

/-- The line after the call takes it. -/
theorem taken : Pipeline.afterTail₀ cfgs (dats m) 0 (V0 m) [hostOps1] c main_v1 = mine m c := by
  have e : Pipeline.withArrays (cfgs 0).spec c (V0 m c) (fun w => (dats m 0 c).arrAt w (cfgs 0).N) (Proc.devRef .tc main_v0) = left m c :=
    (Pipeline.withArrays_arr (cfgs 0).spec (by decide) c _ _ 2).trans (final m c)
  have h : Pipeline.afterTail₀ cfgs (dats m) 0 (V0 m) [hostOps1] c main_v1 = extractStridedSlice S2x1024x1408 ![0, 1024, 0] (Pipeline.withArrays (cfgs 0).spec c (V0 m c) (fun w => (dats m 0 c).arrAt w (cfgs 0).N) (Proc.devRef .tc main_v0)) slices_S4x2048x1408_S2x1024x1408_0_1024_0 := by
    show StableHlo.after hostOps1 _ (Proc.devRef .tc main_v1) = _
    after_results
  rw [h, e]
  funext y
  have h0 : (y 0).val < 2 := (y 0).isLt
  have h1 : (y 1).val < 1024 := (y 1).isLt
  pointwise []
  refine (left_new m c _ ?_).trans (congr (congrArg (prod m c) ?_) ?_)
  · show (y 0).val / 2 = 0 ∧ (1024 + (y 1).val) / 1024 = 1
    omega
  · show (1024 + (y 1).val) % 1024 = (y 1).val
    omega
  · show (y 0).val % 2 * 1408 + (y 2).val = (y 0).val * 1408 + (y 2).val
    omega

end Cert.UpDw1aIdeal.Val

namespace Cert.UpDw1aIdeal

open Cert.Prod Idealize.ShloMosaic Idealize.ShloMosaic.TcCoe Idealize.SL.Sem

theorem frame_ref : @Cert.quiescent_UpDw1aRefIdeal UpDw1aRefIdeal.Gen.facts := fun m ρ _ =>
  (θ_run UpDw1aRefIdeal.defs _ _).mono (fun r h => ⟨fun c => (h c).2, sem_eq_zero_of_no_sems (by decide) r.2⟩) (UpDw1aRefIdeal.Value.run (F := Ideal) m ρ)

/-- The call's part of the array and the plain product are the same. -/
theorem same : @Cert.algebraic_UpDw1aIdeal_UpDw1aRefIdeal Gen.facts UpDw1aRefIdeal.Gen.facts := by
  intro m g m' g' _ hagree
  refine ⟨Val.mine m, (θ_run defs _ _).mono (fun r h c => ⟨(h.1.rest_eq c main_v1 (by decide)).trans (Val.taken m c), h.2 c⟩) (θ_run_and (Gen.run_main m g) (Gen.unchanged m g)),
    (θ_run UpDw1aRefIdeal.defs _ _).mono (fun r h c => ⟨(h c).1.trans ?_, (h c).2⟩) (UpDw1aRefIdeal.Value.run m' g')⟩
  rw [(hagree c).1, (hagree c).2]
  rw [cut 1024 2816 2 1408 rfl]
  funext y
  have h0 : (y 0).val < 2 := (y 0).isLt
  have h1 : (y 1).val < 1024 := (y 1).isLt
  have h2 : (y 2).val < 1408 := (y 2).isLt
  dsimp only
  rw [at2_lt _ (show (y 1).val < 1024 by omega) (show (y 0).val * 1408 + (y 2).val < 2816 by omega)]
  pointwise []
  exact Finset.sum_congr (M := EReal) rfl fun k _ => congr (congrArg _ (at2_of _ _ rfl rfl)) (at2_of _ _ rfl rfl)

end Cert.UpDw1aIdeal

end
-- ==== Proof.InADw0Val.lean ====
/- The attention layer's first input projection: the weights' gradient, the part of the array its call writes. -/
module

public import proofs.«01_k».proof.Proof.Chips
public import proofs.«01_k».proof.Proof.Gen.InADw0Ideal.Frame
public import proofs.«01_k».proof.Proof.Gen.InADw0RefIdeal.Run
public import proofs.«01_k».proof.Defs

@[expose] public section

set_option maxRecDepth 16384

noncomputable section

namespace Cert.InADw0Ideal.Val

open Cert.InADw0Ideal.Gen Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) k i * at2 (m ((c : Thread nD τ).loc main_arg1)) k j

/-- The product of the blocks of point `n`. -/
def part (n : ℕ) (y : S1024x768.Idx) : EReal := ∑ k : Fin 2048, term m c ((y 0).val) (n / 4 * 768 + (y 1).val) (n % 4 * 2048 + k.val)

theorem idx : ∀ t : Fin cfg0.N, win0_0.index t = ![t.val % 4, 0] ∧ win0_1.index t = ![t.val % 4, t.val / 4] ∧ win0_2.index t = ![t.val / 4 / 3, 0, t.val / 4 % 3] :=
  (by decide +kernel : ∀ t : Fin grid0.N, _)

theorem part_eq (t : Fin cfg0.N) (y : S1024x768.Idx) : k0_pay1 (iblk m c 0 t) (iblk m c 1 t) y = part m c t.val y := by
  obtain ⟨e0, e1, -⟩ := idx t
  have hy : (y 0).val < 1024 := (y 0).isLt
  have hz : (y 1).val < 768 := (y 1).isLt
  have ht : t.val < 16 := t.isLt
  unfold k0_pay1 part term
  pointwise []
  refine Finset.sum_congr (M := EReal) rfl fun k _ => congr (congrArg _ ?_) ?_
  · show V m c main_arg0 (((cfg0.win 0).blk t).view.emb (ix2 k (y 0))) = _
    rw [V_main_arg0]
    exact at2_of _ _ (show win0_0.index t 0 * 2048 + 1 * k.val = _ by rw [e0, one_mul]; rfl) (show win0_0.index t 1 * 1024 + 1 * (y 0).val = _ by rw [e0, one_mul]; exact Nat.zero_add _)
  · show V m c main_arg1 (((cfg0.win 1).blk t).view.emb (ix2 k (y 1))) = _
    rw [V_main_arg1]
    exact at2_of _ _ (show win0_1.index t 0 * 2048 + 1 * k.val = _ by rw [e1, one_mul]; rfl) (show win0_1.index t 1 * 768 + 1 * (y 1).val = _ by rw [e1, one_mul]; rfl)

/-- At a run's first point the accumulator is set to the block's product. -/
theorem first (n : ℕ) (h : n < cfg0.N) (hn : n % 4 = 0) : (outsAt0 m c n h).2 = part m c n := by
  show (outsAt0 m c (⟨n, h⟩ : Fin cfg0.N).val _).2 = _
  rw [outsAt0_A m c ⟨n, h⟩ hn (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S2048x1024) z2, View.ld_unit_zero (S := S2048x768) z2, shapeCast_self]

/-- At every other point it is added to. -/
theorem next (n : ℕ) (h : n + 1 < cfg0.N) (hn : (n + 1) % 4 ≠ 0) (y : S1024x768.Idx) : (outsAt0 m c (n + 1) h).2 y = (outsAt0 m c n (Nat.lt_of_succ_lt h)).2 y + part m c (n + 1) y := by
  show (outsAt0 m c (⟨n + 1, h⟩ : Fin cfg0.N).val _).2 y = _
  by_cases hl : (n + 1) % 4 = 3
  · rw [outsAt0_C m c ⟨n + 1, h⟩ hn (by dsimp only; omega) hl]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S2048x1024) z2, View.ld_unit_zero (S := S2048x768) z2, View.ld_unit_zero (S := S1024x768) z2, shapeCast_self]
    exact congrArg (· + _) (congrFun ((Memref.isWhole_whole cc0_scratch0).read_unread _) y)
  · rw [outsAt0_B m c ⟨n + 1, h⟩ hn (by dsimp only; omega) hl]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S2048x1024) z2, View.ld_unit_zero (S := S2048x768) z2, View.ld_unit_zero (S := S1024x768) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = fun y : S1x1024x768.Idx => (outsAt0 m c t.val t.isLt).2 (ix2 (y 1) (y 2)) := by
  rw [outsAt0_C m c t (by omega) (by omega) h]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z3, View.canon_unit_zero z2, View.readCov_unit_zero (S := S1024x768) _ z2]
  generalize k0_pay3 (F := Ideal) _ _ _ = v
  unfold k0_pay4
  funext y
  pointwise []

def prod (i j : ℕ) : EReal := ∑ k : Fin 8192, term m c i j k.val

/-- Whether the call writes a chip's column. -/
abbrev Mine (a q : ℕ) : Prop := a * 2304 + q < 3072

/-- The array the call leaves: the product where it writes, what was there elsewhere. -/
def left (y : S4x1024x2304.Idx) : EReal :=
  if Mine (y 0).val (y 2).val then prod m c (y 1).val ((y 0).val * 2304 + (y 2).val) else V m c main_v0 y

theorem left_new (y : S4x1024x2304.Idx) (h : Mine (y 0).val (y 2).val) : left m c y = prod m c (y 1).val ((y 0).val * 2304 + (y 2).val) := if_pos h

/-- What the call leaves. -/
theorem final : (dats m 0 c).arrAt 2 cfg0.N = left m c := by
  refine (dats m 0 c).arrAt_eq_of_coversWhere 2 (fun y : S4x1024x2304.Idx => prod m c (y 1).val ((y 0).val * 2304 + (y 2).val)) (P := fun y : S4x1024x2304.Idx => Mine (y 0).val (y 2).val)
    (fun b => b (0 : Fin 3) * 3 + b (2 : Fin 3) < 4) (by decide +kernel) (fun t hf y => ?_) (fun j => ?_)
  · have hm : t.val % 4 = 3 := (flush0_2 t).mp hf
    have ht : t.val < 16 := t.isLt
    obtain ⟨-, -, e2⟩ := idx t
    have h0 : (y 0).val < 1 := (y 0).isLt
    have h1 : (y 1).val < 1024 := (y 1).isLt
    have h2 : (y 2).val < 768 := (y 2).isLt
    have E0 : (((cfg0.win 2).blk t).view.emb y 0).val = t.val / 4 / 3 := show win0_2.index t 0 * 1 + 1 * (y 0).val = _ by rw [e2]; show t.val / 4 / 3 * 1 + 1 * (y 0).val = _; omega
    have E1 : (((cfg0.win 2).blk t).view.emb y 1).val = (y 1).val := show win0_2.index t 1 * 1024 + 1 * (y 1).val = _ by rw [e2, one_mul]; exact Nat.zero_add _
    have E2 : (((cfg0.win 2).blk t).view.emb y 2).val = t.val / 4 % 3 * 768 + (y 2).val := show win0_2.index t 2 * 768 + 1 * (y 2).val = _ by rw [e2, one_mul]; rfl
    dsimp only
    rw [prod, E0, E1, E2, show t.val / 4 / 3 * 2304 + (t.val / 4 % 3 * 768 + (y 2).val) = t.val / 4 * 768 + (y 2).val by omega]
    blk_simp
    rw [after0_2, last m c t hm]
    refine run_total 2048 (by decide) (fun n h => (outsAt0 m c n h).2) (part m c) (first m c) (next m c) t.isLt hm (ix2 (y 1) (y 2)) (term m c ((y 1).val) (t.val / 4 * 768 + (y 2).val)) fun q hq => ?_
    rw [part, hq]
    rfl
  · have h2 : (j 2).val < 2304 := (j 2).isLt
    blk_simp [Pipeline.Window.cell_apply]
    show Mine (j 0).val (j 2).val ↔ _
    unfold Mine
    omega

/-- The columns the call writes. -/
def mine (y : S1024x3072.Idx) : EReal := prod m c (y 0).val (y 1).val

/-- The lines after the call take them. -/
theorem taken : Pipeline.afterTail₀ cfgs (dats m) 0 (V0 m) [hostOps1] c main_v3 = mine m c := by
  have e : Pipeline.withArrays (cfgs 0).spec c (V0 m c) (fun w => (dats m 0 c).arrAt w (cfgs 0).N) (Proc.devRef .tc main_v0) = left m c :=
    (Pipeline.withArrays_arr (cfgs 0).spec (by decide) c _ _ 2).trans (final m c)
  have h : Pipeline.afterTail₀ cfgs (dats m) 0 (V0 m) [hostOps1] c main_v3 = extractStridedSlice S1024x3072 ![0, 0]
      (shapeCast S1024x9216 (transpose S1024x4x2304 [1, 0, 2] (Pipeline.withArrays (cfgs 0).spec c (V0 m c) (fun w => (dats m 0 c).arrAt w (cfgs 0).N) (Proc.devRef .tc main_v0)) transposes_S4x1024x2304_S1024x4x2304_1_0_2) shapeCasts_S1024x4x2304_S1024x9216) slices_S1024x9216_S1024x3072_0_0 := by
    show StableHlo.after hostOps1 _ (Proc.devRef .tc main_v3) = _
    after_results
    rfl
  rw [h, e, joined 1024 9216 4 2304 rfl]
  funext y
  have h0 : (y 0).val < 1024 := (y 0).isLt
  have h1 : (y 1).val < 3072 := (y 1).isLt
  pointwise []
  rw [at3_lt (a := 4) (b := 1024) (d := 2304) _ (by omega) (by omega) (by omega)]
  refine (left_new m c _ ?_).trans (congr (congrArg (prod m c) ?_) ?_)
  · show (y 1).val / 2304 * 2304 + (y 1).val % 2304 < 3072
    omega
  · rfl
  · show (y 1).val / 2304 * 2304 + (y 1).val % 2304 = (y 1).val
    omega

end Cert.InADw0Ideal.Val

namespace Cert.InADw0Ideal

open Cert.Prod Idealize.ShloMosaic Idealize.ShloMosaic.TcCoe Idealize.SL.Sem

theorem frame_ref : @Cert.quiescent_InADw0RefIdeal InADw0RefIdeal.Gen.facts := fun m ρ _ =>
  (θ_run InADw0RefIdeal.defs _ _).mono (fun r h => ⟨fun c => (h c).2, sem_eq_zero_of_no_sems (by decide) r.2⟩) (InADw0RefIdeal.Value.run (F := Ideal) m ρ)

/-- The call's part of the array and the plain product are the same. -/
theorem same : @Cert.algebraic_InADw0Ideal_InADw0RefIdeal Gen.facts InADw0RefIdeal.Gen.facts := by
  intro m g m' g' _ hagree
  refine ⟨Val.mine m, (θ_run defs _ _).mono (fun r h c => ⟨(h.1.rest_eq c main_v3 (by decide)).trans (Val.taken m c), h.2 c⟩) (θ_run_and (Gen.run_main m g) (Gen.unchanged m g)),
    (θ_run InADw0RefIdeal.defs _ _).mono (fun r h c => ⟨(h c).1.trans ?_, (h c).2⟩) (InADw0RefIdeal.Value.run m' g')⟩
  rw [(hagree c).1, (hagree c).2]
  funext y
  pointwise []
  exact Finset.sum_congr (M := EReal) rfl fun k _ => congr (congrArg _ (at2_of _ _ rfl rfl)) (at2_of _ _ rfl rfl)

end Cert.InADw0Ideal

end
-- ==== Proof.GateDxVal.lean ====
/- The gate: its input's gradient. -/
module

public import proofs.«01_k».proof.Proof.Prod
public import proofs.«01_k».proof.Proof.Gen.GateDxIdeal.Value
public import proofs.«01_k».proof.Proof.Gen.GateDxRefIdeal.Run
public import proofs.«01_k».proof.Defs

@[expose] public section

set_option maxRecDepth 16384

noncomputable section

namespace Cert.GateDxIdeal.Val

open Cert.GateDxIdeal.Gen Cert.GateDxIdeal.Value Cert.Prod
open Idealize.ShloMosaic Idealize.ShloMosaic.TcCoe Idealize.SL.Sem

variable (m : (ℓ : Loc nD τ sig) → Buf (Elt Ideal) ℓ) (c : Dev nD)

/-- The two operands as the call is given them, and their product. -/
def prod (y : S8192x128.Idx) : EReal := ∑ k : Fin 512, at2 (m ((c : Thread nD τ).loc main_arg0)) (y 0).val k.val * at2 (m ((c : Thread nD τ).loc main_arg1)) (y 1).val k.val

theorem idx : ∀ t : Fin cfg0.N, win0_0.index t = ![t.val, 0] ∧ win0_1.index t = ![0, 0] ∧ win0_2.index t = ![t.val, 0] :=
  (by decide +kernel : ∀ t : Fin grid0.N, _)

/-- Every point leaves its block of the product. -/
theorem final : (dats m 0 c).arrAt 2 cfg0.N = prod m c := by
  refine (dats m 0 c).arrAt_eq_of_covers 2 _ (by decide +kernel) fun t hf y => ?_
  obtain ⟨e0, e1, e2⟩ := idx t
  have hy : (y 0).val < 1024 := (y 0).isLt
  have hz : (y 1).val < 128 := (y 1).isLt
  have ht : t.val < 8 := t.isLt
  have E0 : (((cfg0.win 2).blk t).view.emb y 0).val = t.val * 1024 + (y 0).val := show win0_2.index t 0 * 1024 + 1 * (y 0).val = _ by rw [e2, one_mul]; rfl
  have E1 : (((cfg0.win 2).blk t).view.emb y 1).val = (y 1).val := show win0_2.index t 1 * 128 + 1 * (y 1).val = _ by rw [e2, one_mul]; exact Nat.zero_add _
  rw [prod, E0, E1]
  blk_simp
  rw [after0_2]
  frame_out
  unfold k0_pay1
  pointwise []
  refine Finset.sum_congr (M := EReal) rfl fun k _ => congr (congrArg _ ?_) ?_
  · show V m c main_arg0 (((cfg0.win 0).blk t).view.emb (ix2 (y 0) k)) = _
    rw [V_main_arg0]
    exact at2_of _ _ (show win0_0.index t 0 * 1024 + 1 * (y 0).val = _ by rw [e0, one_mul]; rfl) (show win0_0.index t 1 * 512 + 1 * k.val = _ by rw [e0, one_mul]; exact Nat.zero_add _)
  · show V m c main_arg1 (((cfg0.win 1).blk t).view.emb (ix2 (y 1) k)) = _
    rw [V_main_arg1]
    exact at2_of _ _ (show win0_1.index t 0 * 128 + 1 * (y 1).val = _ by rw [e1, one_mul]; exact Nat.zero_add _) (show win0_1.index t 1 * 512 + 1 * k.val = _ by rw [e1, one_mul]; exact Nat.zero_add _)

end Cert.GateDxIdeal.Val

namespace Cert.GateDxIdeal

open Cert.Prod Idealize.ShloMosaic Idealize.ShloMosaic.TcCoe Idealize.SL.Sem

theorem frame_ref : @Cert.quiescent_GateDxRefIdeal GateDxRefIdeal.Gen.facts := fun m ρ _ =>
  (θ_run GateDxRefIdeal.defs _ _).mono (fun r h => ⟨fun c => (h c).2, sem_eq_zero_of_no_sems (by decide) r.2⟩) (GateDxRefIdeal.Value.run (F := Ideal) m ρ)

/-- The call and the plain product leave the same array. -/
theorem same : @Cert.algebraic_GateDxIdeal_GateDxRefIdeal Gen.facts GateDxRefIdeal.Gen.facts := by
  intro m g m' g' _ hagree
  refine ⟨Val.prod m, (θ_run defs _ _).mono (fun r h c => ⟨(h c).1.trans (Val.final m c), (h c).2⟩) (Value.run_blocks m g),
    (θ_run GateDxRefIdeal.defs _ _).mono (fun r h c => ⟨(h c).1.trans ?_, (h c).2⟩) (GateDxRefIdeal.Value.run m' g')⟩
  rw [(hagree c).1, (hagree c).2]
  funext y
  pointwise []
  exact Finset.sum_congr rfl fun k _ => congr (congrArg _ (at2_of _ _ rfl rfl)) (at2_of _ _ rfl rfl)

end Cert.GateDxIdeal

end
-- ==== Proof.GateDwVal.lean ====
/- The gate: its weights' gradient. -/
module

public import proofs.«01_k».proof.Proof.Prod
public import proofs.«01_k».proof.Proof.Gen.GateDwIdeal.Value
public import proofs.«01_k».proof.Proof.Gen.GateDwRefIdeal.Run
public import proofs.«01_k».proof.Defs

@[expose] public section

set_option maxRecDepth 16384

noncomputable section

namespace Cert.GateDwIdeal.Val

open Cert.GateDwIdeal.Gen Cert.GateDwIdeal.Value Cert.Prod
open Idealize.ShloMosaic Idealize.ShloMosaic.TcCoe Idealize.SL.Sem

variable (m : (ℓ : Loc nD τ sig) → Buf (Elt Ideal) ℓ) (c : Dev nD)

/-- What the two operands add to an element of the result at a place of the summed axis. -/
def term (i j k : ℕ) : EReal := at2 (m ((c : Thread nD τ).loc main_arg0)) k (3072 + i) * at2 (m ((c : Thread nD τ).loc main_arg1)) k j

/-- The product of the blocks of point `n`. -/
def part (n : ℕ) (y : S128x512.Idx) : EReal := ∑ k : Fin 2048, term m c ((y 0).val) ((y 1).val) (n % 4 * 2048 + k.val)

theorem idx : ∀ t : Fin cfg0.N, win0_0.index t = ![t.val % 4, 0] ∧ win0_1.index t = ![t.val % 4, 0] ∧ win0_2.index t = ![0, 0] :=
  (by decide +kernel : ∀ t : Fin grid0.N, _)

/-- The columns the call's kernel finds. -/
theorem columns (j : Fin 8192) (k : Fin 128) {r q : ℕ} (hr : j.val = r) (hq : k.val = q) : V m c main_v0 (ix2 j k) = at2 (m ((c : Thread nD τ).loc main_arg0)) r (3072 + q) := by
  subst hr hq
  entry_read
  pointwise []
  exact at2_of _ _ rfl rfl

theorem part_eq (t : Fin cfg0.N) (y : S128x512.Idx) : k0_pay1 (iblk m c 0 t) (iblk m c 1 t) y = part m c t.val y := by
  obtain ⟨e0, e1, -⟩ := idx t
  have hy : (y 0).val < 128 := (y 0).isLt
  have hz : (y 1).val < 512 := (y 1).isLt
  have ht : t.val < 4 := t.isLt
  unfold k0_pay1 part term
  pointwise []
  refine Finset.sum_congr (M := EReal) rfl fun k _ => congr (congrArg _ ?_) ?_
  · show V m c main_v0 (((cfg0.win 0).blk t).view.emb (ix2 k (y 0))) = _
    rw [show ((cfg0.win 0).blk t).view.emb (ix2 k (y 0)) = (ix2 ⟨t.val % 4 * 2048 + k.val, by omega⟩ ⟨(y 0).val, hy⟩ : S8192x128.Idx) from
      ext2 (show win0_0.index t 0 * 2048 + 1 * k.val = _ by rw [e0, one_mul]; rfl) (show win0_0.index t 1 * 128 + 1 * (y 0).val = _ by rw [e0, one_mul]; exact Nat.zero_add _)]
    exact columns m c _ _ rfl rfl
  · show V m c main_arg1 (((cfg0.win 1).blk t).view.emb (ix2 k (y 1))) = _
    rw [V_main_arg1]
    exact at2_of _ _ (show win0_1.index t 0 * 2048 + 1 * k.val = _ by rw [e1, one_mul]; rfl) (show win0_1.index t 1 * 512 + 1 * (y 1).val = _ by rw [e1, one_mul]; exact Nat.zero_add _)

/-- At a run's first point the accumulator is set to the block's product. -/
theorem first (n : ℕ) (h : n < cfg0.N) (hn : n % 4 = 0) : (outsAt0 m c n h).2 = part m c n := by
  have h4 : n < 4 := h
  show (outsAt0 m c (⟨n, h⟩ : Fin cfg0.N).val _).2 = _
  rw [outsAt0_A m c ⟨n, h⟩ (by dsimp only; omega) (by dsimp only; omega) (by dsimp only; omega)]
  dsimp only
  refine Eq.trans ?_ (funext (part_eq m c ⟨n, h⟩))
  unfold sout0_A_0
  rw [View.read_writes_eq_canon _ _ _ (fun _ => scover0_A_0 ..)]
  unfold kernelRun0_A
  dsimp only
  rw [View.canon_unit_zero z2]
  unfold k0_pay2
  simp only [View.readAt_eq_ld, Memref.IsWhole.read_unread, View.ld_unit_zero (S := S2048x128) z2, View.ld_unit_zero (S := S2048x512) z2, shapeCast_self]

/-- At every other point it is added to. -/
theorem next (n : ℕ) (h : n + 1 < cfg0.N) (hn : (n + 1) % 4 ≠ 0) (y : S128x512.Idx) : (outsAt0 m c (n + 1) h).2 y = (outsAt0 m c n (Nat.lt_of_succ_lt h)).2 y + part m c (n + 1) y := by
  have h4 : n + 1 < 4 := h
  show (outsAt0 m c (⟨n + 1, h⟩ : Fin cfg0.N).val _).2 y = _
  by_cases hl : (n + 1) % 4 = 3
  · rw [outsAt0_C m c ⟨n + 1, h⟩ (by dsimp only; omega) (by dsimp only; omega) (by dsimp only; omega)]
    dsimp only
    refine Eq.trans ?_ (congrArg ((outsAt0 m c n _).2 y + ·) (part_eq m c ⟨n + 1, h⟩ y))
    unfold sout0_C_0
    rw [View.read_writes_eq_canon _ _ _ (fun _ => scover0_C_0 ..)]
    unfold kernelRun0_C
    dsimp only
    sl_unfold_words
    rw [View.canon_unit_zero z2]
    unfold k0_pay3
    simp only [View.readAt_eq_ld, Memref.IsWhole.read_unread, View.ld_unit_zero (S := S2048x128) z2, View.ld_unit_zero (S := S2048x512) z2, View.ld_unit_zero (S := S128x512) z2, shapeCast_self]
    exact congrArg (· + _) (congrFun ((Memref.isWhole_whole cc0_scratch0).read_unread _) y)
  · rw [outsAt0_B m c ⟨n + 1, h⟩ (by dsimp only; omega) (by dsimp only; omega) (by dsimp only; omega)]
    dsimp only
    refine Eq.trans ?_ (congrArg ((outsAt0 m c n _).2 y + ·) (part_eq m c ⟨n + 1, h⟩ y))
    unfold sout0_B_0
    rw [View.read_writes_eq_canon _ _ _ (fun _ => scover0_B_0 ..)]
    unfold kernelRun0_B
    dsimp only
    sl_unfold_words
    rw [View.canon_unit_zero z2]
    unfold k0_pay3
    simp only [View.readAt_eq_ld, Memref.IsWhole.read_unread, View.ld_unit_zero (S := S2048x128) z2, View.ld_unit_zero (S := S2048x512) z2, View.ld_unit_zero (S := S128x512) z2, shapeCast_self]
    exact congrArg (· + _) (congrFun ((Memref.isWhole_whole cc0_scratch0).read_unread _) y)

/-- The last point of a run leaves the accumulator in the result's block. -/
theorem last (t : Fin cfg0.N) (h : t.val % 4 = 3) : (outsAt0 m c t.val t.isLt).1 = (outsAt0 m c t.val t.isLt).2 := by
  have h4 : t.val < 4 := t.isLt
  rw [outsAt0_C m c t (by omega) (by omega) (by omega)]
  dsimp only
  unfold out0_C_2 sout0_C_0
  rw [View.read_writes_eq_canon _ _ _ (fun _ => cover0_C_2 ..), View.read_writes_eq_canon _ _ _ (fun _ => scover0_C_0 ..)]
  unfold kernelRun0_C
  dsimp only
  sl_unfold_words
  rw [View.canon_unit_zero z2, View.canon_unit_zero z2, View.readCov_unit_zero (S := S128x512) _ z2]

def prod (y : S128x512.Idx) : EReal := ∑ k : Fin 8192, term m c (y 0).val (y 1).val k.val

/-- What the call leaves: the whole product. -/
theorem final : (dats m 0 c).arrAt 2 cfg0.N = prod m c := by
  refine (dats m 0 c).arrAt_eq_of_covers 2 _ (by decide +kernel) fun t hf y => ?_
  have h4 : t.val < 4 := t.isLt
  have hm : t.val % 4 = 3 := by have := (flush0_2 t).mp hf; omega
  obtain ⟨-, -, e2⟩ := idx t
  have E0 : (((cfg0.win 2).blk t).view.emb y 0).val = (y 0).val := show win0_2.index t 0 * 128 + 1 * (y 0).val = _ by rw [e2, one_mul]; exact Nat.zero_add _
  have E1 : (((cfg0.win 2).blk t).view.emb y 1).val = (y 1).val := show win0_2.index t 1 * 512 + 1 * (y 1).val = _ by rw [e2, one_mul]; exact Nat.zero_add _
  rw [prod, E0, E1]
  blk_simp
  rw [after0_2, last m c t hm]
  refine run_total 2048 (by decide) (fun n h => (outsAt0 m c n h).2) (part m c) (first m c) (next m c) t.isLt hm y (term m c ((y 0).val) ((y 1).val)) fun q hq => ?_
  rw [part]

end Cert.GateDwIdeal.Val

namespace Cert.GateDwIdeal

open Cert.Prod Idealize.ShloMosaic Idealize.ShloMosaic.TcCoe Idealize.SL.Sem

theorem frame_ref : @Cert.quiescent_GateDwRefIdeal GateDwRefIdeal.Gen.facts := fun m ρ _ =>
  (θ_run GateDwRefIdeal.defs _ _).mono (fun r h => ⟨fun c => (h c).2, sem_eq_zero_of_no_sems (by decide) r.2⟩) (GateDwRefIdeal.Value.run (F := Ideal) m ρ)

/-- The call and the plain product leave the same array. -/
theorem same : @Cert.algebraic_GateDwIdeal_GateDwRefIdeal Gen.facts GateDwRefIdeal.Gen.facts := by
  intro m g m' g' _ hagree
  refine ⟨Val.prod m, (θ_run defs _ _).mono (fun r h c => ⟨(h c).1.trans (Val.final m c), (h c).2⟩) (Value.run_blocks m g),
    (θ_run GateDwRefIdeal.defs _ _).mono (fun r h c => ⟨(h c).1.trans ?_, (h c).2⟩) (GateDwRefIdeal.Value.run m' g')⟩
  rw [(hagree c).1, (hagree c).2]
  funext y
  pointwise []
  exact Finset.sum_congr (M := EReal) rfl fun k _ => congr (congrArg _ (at2_of _ _ rfl rfl)) (at2_of _ _ rfl rfl)

end Cert.GateDwIdeal

end
-- ==== Proof.AdamInAVal.lean ====
/-
The optimizer step on the packed input projection of the first branch. Every entry of the three results reads the same entry of the
weight, the gradient and the two moments, so each block of rows is the reference's own block.
-/
module

public import proofs.«01_k».proof.Proof.Prod
public import proofs.«01_k».proof.Proof.Gen.AdamInAIdeal.Value
public import proofs.«01_k».proof.Proof.Gen.AdamInARefIdeal.Run
public import proofs.«01_k».proof.Defs

@[expose] public section

set_option maxRecDepth 16384

noncomputable section

namespace Cert.AdamInAIdeal.Val

open Cert.AdamInAIdeal.Gen Cert.AdamInAIdeal.Value Cert.Prod
open Idealize.ShloMosaic Idealize.ShloMosaic.TcCoe Idealize.SL.Sem

variable (m : (ℓ : Loc nD τ sig) → Buf (Elt Ideal) ℓ) (c : Dev nD)

/-- The first moment after the step. -/
def first (y : S1024x2304.Idx) : EReal :=
  Ideal.ofBits FTy.f32 1063675494#32 * m (c.tc.loc main_arg2) y +
    Ideal.ofBits FTy.f32 1036831949#32 * m (c.tc.loc main_arg1) y

/-- The second moment after the step. -/
def second (y : S1024x2304.Idx) : EReal :=
  Ideal.ofBits FTy.f32 1065336439#32 * m (c.tc.loc main_arg3) y +
    Ideal.ofBits FTy.f32 981668463#32 * @HMul.hMul EReal EReal EReal _ (m (c.tc.loc main_arg1) y) (m (c.tc.loc main_arg1) y)

/-- The change of the weight. -/
def delta (y : S1024x2304.Idx) : EReal :=
  Ideal.ofBits FTy.f32 3129152111#32 *
    (Ideal.div (Ideal.div (first m c y) (Ideal.ofBits FTy.f32 1059503362#32))
        (Ideal.sqrt (Ideal.div (second m c y) (Ideal.ofBits FTy.f32 1008933580#32)) +
          Ideal.ofBits FTy.f32 841731191#32) +
      Ideal.ofBits FTy.f32 1008981770#32 * m (c.tc.loc main_arg0) y)

theorem final_first : (dats m 0 c).arrAt 5 cfg0.N = first m c := by
  refine (dats m 0 c).arrAt_eq_of_covers 5 _ (by decide +kernel) fun t hf y => ?_
  blk_simp
  rw [after0_5]
  frame_out
  unfold k0_pay1 first
  pointwise []
  rw [← V_main_arg1 m c, ← V_main_arg2 m c]
  rfl

theorem final_second : (dats m 0 c).arrAt 6 cfg0.N = second m c := by
  refine (dats m 0 c).arrAt_eq_of_covers 6 _ (by decide +kernel) fun t hf y => ?_
  blk_simp
  rw [after0_6]
  frame_out
  unfold k0_pay2 second
  pointwise []
  rw [← V_main_arg1 m c, ← V_main_arg3 m c]
  rfl

theorem final_delta : (dats m 0 c).arrAt 4 cfg0.N = delta m c := by
  refine (dats m 0 c).arrAt_eq_of_covers 4 _ (by decide +kernel) fun t hf y => ?_
  blk_simp
  rw [after0_4]
  frame_out
  unfold k0_pay3 k0_pay1 k0_pay2 delta first second
  pointwise []
  rw [← V_main_arg0 m c, ← V_main_arg1 m c, ← V_main_arg2 m c, ← V_main_arg3 m c]
  rfl

end Cert.AdamInAIdeal.Val

namespace Cert.AdamInAIdeal

open Cert.Prod Idealize.ShloMosaic Idealize.ShloMosaic.TcCoe Idealize.SL.Sem

theorem frame_ref : @Cert.quiescent_AdamInARefIdeal AdamInARefIdeal.Gen.facts := fun m ρ _ =>
  (θ_run AdamInARefIdeal.defs _ _).mono
    (fun r h => ⟨fun c => (h c).2.2.2, sem_eq_zero_of_no_sems (by decide) r.2⟩)
    (AdamInARefIdeal.Value.run (F := Ideal) m ρ)

theorem same : @Cert.algebraic_AdamInAIdeal_AdamInARefIdeal Gen.facts AdamInARefIdeal.Gen.facts := by
  intro m g m' g' _ hagree
  refine ⟨Val.delta m, Val.first m, Val.second m,
    (θ_run defs _ _).mono (fun r h c => ⟨(h c).1.trans (Val.final_delta m c),
      (h c).2.1.trans (Val.final_first m c), (h c).2.2.1.trans (Val.final_second m c),
      (h c).2.2.2⟩) (Value.run_blocks m g),
    (θ_run AdamInARefIdeal.defs _ _).mono (fun r h c => ⟨(h c).1.trans ?_, (h c).2.1.trans ?_,
      (h c).2.2.1.trans ?_, (h c).2.2.2⟩) (AdamInARefIdeal.Value.run m' g')⟩
  · rw [(hagree c).1, (hagree c).2.1, (hagree c).2.2.1, (hagree c).2.2.2]
    funext y
    unfold Val.delta Val.first Val.second
    pointwise []
  · rw [(hagree c).2.1, (hagree c).2.2.1]
    funext y
    unfold Val.first
    pointwise []
  · rw [(hagree c).2.1, (hagree c).2.2.2]
    funext y
    unfold Val.second
    pointwise []

end Cert.AdamInAIdeal

end
-- ==== Proof.AdamOutVal.lean ====
/-
The optimizer step on the output projections. Every entry of the three results reads the same entry of the
weight, the gradient and the two moments, so each block of rows is the reference's own block.
-/
module

public import proofs.«01_k».proof.Proof.Prod
public import proofs.«01_k».proof.Proof.Gen.AdamOutIdeal.Value
public import proofs.«01_k».proof.Proof.Gen.AdamOutRefIdeal.Run
public import proofs.«01_k».proof.Defs

@[expose] public section

set_option maxRecDepth 16384

noncomputable section

namespace Cert.AdamOutIdeal.Val

open Cert.AdamOutIdeal.Gen Cert.AdamOutIdeal.Value Cert.Prod
open Idealize.ShloMosaic Idealize.ShloMosaic.TcCoe Idealize.SL.Sem

variable (m : (ℓ : Loc nD τ sig) → Buf (Elt Ideal) ℓ) (c : Dev nD)

/-- The first moment after the step. -/
def first (y : S256x1024.Idx) : EReal :=
  Ideal.ofBits FTy.f32 1063675494#32 * m (c.tc.loc main_arg2) y +
    Ideal.ofBits FTy.f32 1036831949#32 * m (c.tc.loc main_arg1) y

/-- The second moment after the step. -/
def second (y : S256x1024.Idx) : EReal :=
  Ideal.ofBits FTy.f32 1065336439#32 * m (c.tc.loc main_arg3) y +
    Ideal.ofBits FTy.f32 981668463#32 * @HMul.hMul EReal EReal EReal _ (m (c.tc.loc main_arg1) y) (m (c.tc.loc main_arg1) y)

/-- The change of the weight. -/
def delta (y : S256x1024.Idx) : EReal :=
  Ideal.ofBits FTy.f32 3129152111#32 *
    (Ideal.div (Ideal.div (first m c y) (Ideal.ofBits FTy.f32 1059503362#32))
        (Ideal.sqrt (Ideal.div (second m c y) (Ideal.ofBits FTy.f32 1008933580#32)) +
          Ideal.ofBits FTy.f32 841731191#32) +
      Ideal.ofBits FTy.f32 1008981770#32 * m (c.tc.loc main_arg0) y)

theorem final_first : (dats m 0 c).arrAt 5 cfg0.N = first m c := by
  refine (dats m 0 c).arrAt_eq_of_covers 5 _ (by decide +kernel) fun t hf y => ?_
  blk_simp
  rw [after0_5]
  frame_out
  unfold k0_pay1 first
  pointwise []
  rw [← V_main_arg1 m c, ← V_main_arg2 m c]
  rfl

theorem final_second : (dats m 0 c).arrAt 6 cfg0.N = second m c := by
  refine (dats m 0 c).arrAt_eq_of_covers 6 _ (by decide +kernel) fun t hf y => ?_
  blk_simp
  rw [after0_6]
  frame_out
  unfold k0_pay2 second
  pointwise []
  rw [← V_main_arg1 m c, ← V_main_arg3 m c]
  rfl

theorem final_delta : (dats m 0 c).arrAt 4 cfg0.N = delta m c := by
  refine (dats m 0 c).arrAt_eq_of_covers 4 _ (by decide +kernel) fun t hf y => ?_
  blk_simp
  rw [after0_4]
  frame_out
  unfold k0_pay3 k0_pay1 k0_pay2 delta first second
  pointwise []
  rw [← V_main_arg0 m c, ← V_main_arg1 m c, ← V_main_arg2 m c, ← V_main_arg3 m c]
  rfl

end Cert.AdamOutIdeal.Val

namespace Cert.AdamOutIdeal

open Cert.Prod Idealize.ShloMosaic Idealize.ShloMosaic.TcCoe Idealize.SL.Sem

theorem frame_ref : @Cert.quiescent_AdamOutRefIdeal AdamOutRefIdeal.Gen.facts := fun m ρ _ =>
  (θ_run AdamOutRefIdeal.defs _ _).mono
    (fun r h => ⟨fun c => (h c).2.2.2, sem_eq_zero_of_no_sems (by decide) r.2⟩)
    (AdamOutRefIdeal.Value.run (F := Ideal) m ρ)

theorem same : @Cert.algebraic_AdamOutIdeal_AdamOutRefIdeal Gen.facts AdamOutRefIdeal.Gen.facts := by
  intro m g m' g' _ hagree
  refine ⟨Val.delta m, Val.first m, Val.second m,
    (θ_run defs _ _).mono (fun r h c => ⟨(h c).1.trans (Val.final_delta m c),
      (h c).2.1.trans (Val.final_first m c), (h c).2.2.1.trans (Val.final_second m c),
      (h c).2.2.2⟩) (Value.run_blocks m g),
    (θ_run AdamOutRefIdeal.defs _ _).mono (fun r h c => ⟨(h c).1.trans ?_, (h c).2.1.trans ?_,
      (h c).2.2.1.trans ?_, (h c).2.2.2⟩) (AdamOutRefIdeal.Value.run m' g')⟩
  · rw [(hagree c).1, (hagree c).2.1, (hagree c).2.2.1, (hagree c).2.2.2]
    funext y
    unfold Val.delta Val.first Val.second
    pointwise []
  · rw [(hagree c).2.1, (hagree c).2.2.1]
    funext y
    unfold Val.first
    pointwise []
  · rw [(hagree c).2.1, (hagree c).2.2.2]
    funext y
    unfold Val.second
    pointwise []

end Cert.AdamOutIdeal

end
-- ==== Proof.AdamInBVal.lean ====
/-
The optimizer step on the input projection of the second branch. Every entry of the three results reads the same entry of the
weight, the gradient and the two moments, so each block of rows is the reference's own block.
-/
module

public import proofs.«01_k».proof.Proof.Prod
public import proofs.«01_k».proof.Proof.Gen.AdamInBIdeal.Value
public import proofs.«01_k».proof.Proof.Gen.AdamInBRefIdeal.Run
public import proofs.«01_k».proof.Defs

@[expose] public section

set_option maxRecDepth 16384

noncomputable section

namespace Cert.AdamInBIdeal.Val

open Cert.AdamInBIdeal.Gen Cert.AdamInBIdeal.Value Cert.Prod
open Idealize.ShloMosaic Idealize.ShloMosaic.TcCoe Idealize.SL.Sem

variable (m : (ℓ : Loc nD τ sig) → Buf (Elt Ideal) ℓ) (c : Dev nD)

/-- The first moment after the step. -/
def first (y : S1024x772.Idx) : EReal :=
  Ideal.ofBits FTy.f32 1063675494#32 * m (c.tc.loc main_arg2) y +
    Ideal.ofBits FTy.f32 1036831949#32 * m (c.tc.loc main_arg1) y

/-- The second moment after the step. -/
def second (y : S1024x772.Idx) : EReal :=
  Ideal.ofBits FTy.f32 1065336439#32 * m (c.tc.loc main_arg3) y +
    Ideal.ofBits FTy.f32 981668463#32 * @HMul.hMul EReal EReal EReal _ (m (c.tc.loc main_arg1) y) (m (c.tc.loc main_arg1) y)

/-- The change of the weight. -/
def delta (y : S1024x772.Idx) : EReal :=
  Ideal.ofBits FTy.f32 3129152111#32 *
    (Ideal.div (Ideal.div (first m c y) (Ideal.ofBits FTy.f32 1059503362#32))
        (Ideal.sqrt (Ideal.div (second m c y) (Ideal.ofBits FTy.f32 1008933580#32)) +
          Ideal.ofBits FTy.f32 841731191#32) +
      Ideal.ofBits FTy.f32 1008981770#32 * m (c.tc.loc main_arg0) y)

theorem final_first : (dats m 0 c).arrAt 5 cfg0.N = first m c := by
  refine (dats m 0 c).arrAt_eq_of_covers 5 _ (by decide +kernel) fun t hf y => ?_
  blk_simp
  rw [after0_5]
  frame_out
  unfold k0_pay1 first
  pointwise []
  rw [← V_main_arg1 m c, ← V_main_arg2 m c]
  rfl

theorem final_second : (dats m 0 c).arrAt 6 cfg0.N = second m c := by
  refine (dats m 0 c).arrAt_eq_of_covers 6 _ (by decide +kernel) fun t hf y => ?_
  blk_simp
  rw [after0_6]
  frame_out
  unfold k0_pay2 second
  pointwise []
  rw [← V_main_arg1 m c, ← V_main_arg3 m c]
  rfl

theorem final_delta : (dats m 0 c).arrAt 4 cfg0.N = delta m c := by
  refine (dats m 0 c).arrAt_eq_of_covers 4 _ (by decide +kernel) fun t hf y => ?_
  blk_simp
  rw [after0_4]
  frame_out
  unfold k0_pay3 k0_pay1 k0_pay2 delta first second
  pointwise []
  rw [← V_main_arg0 m c, ← V_main_arg1 m c, ← V_main_arg2 m c, ← V_main_arg3 m c]
  rfl

end Cert.AdamInBIdeal.Val

namespace Cert.AdamInBIdeal

open Cert.Prod Idealize.ShloMosaic Idealize.ShloMosaic.TcCoe Idealize.SL.Sem

theorem frame_ref : @Cert.quiescent_AdamInBRefIdeal AdamInBRefIdeal.Gen.facts := fun m ρ _ =>
  (θ_run AdamInBRefIdeal.defs _ _).mono
    (fun r h => ⟨fun c => (h c).2.2.2, sem_eq_zero_of_no_sems (by decide) r.2⟩)
    (AdamInBRefIdeal.Value.run (F := Ideal) m ρ)

theorem same : @Cert.algebraic_AdamInBIdeal_AdamInBRefIdeal Gen.facts AdamInBRefIdeal.Gen.facts := by
  intro m g m' g' _ hagree
  refine ⟨Val.delta m, Val.first m, Val.second m,
    (θ_run defs _ _).mono (fun r h c => ⟨(h c).1.trans (Val.final_delta m c),
      (h c).2.1.trans (Val.final_first m c), (h c).2.2.1.trans (Val.final_second m c),
      (h c).2.2.2⟩) (Value.run_blocks m g),
    (θ_run AdamInBRefIdeal.defs _ _).mono (fun r h c => ⟨(h c).1.trans ?_, (h c).2.1.trans ?_,
      (h c).2.2.1.trans ?_, (h c).2.2.2⟩) (AdamInBRefIdeal.Value.run m' g')⟩
  · rw [(hagree c).1, (hagree c).2.1, (hagree c).2.2.1, (hagree c).2.2.2]
    funext y
    unfold Val.delta Val.first Val.second
    pointwise []
  · rw [(hagree c).2.1, (hagree c).2.2.1]
    funext y
    unfold Val.first
    pointwise []
  · rw [(hagree c).2.1, (hagree c).2.2.2]
    funext y
    unfold Val.second
    pointwise []

end Cert.AdamInBIdeal

end
-- ==== Proof.AdamUpVal.lean ====
/-
The optimizer step on the up projection. Every entry of the three results reads the same entry of the
weight, the gradient and the two moments, so each block of rows is the reference's own block.
-/
module

public import proofs.«01_k».proof.Proof.Prod
public import proofs.«01_k».proof.Proof.Gen.AdamUpIdeal.Value
public import proofs.«01_k».proof.Proof.Gen.AdamUpRefIdeal.Run
public import proofs.«01_k».proof.Defs

@[expose] public section

set_option maxRecDepth 16384

noncomputable section

namespace Cert.AdamUpIdeal.Val

open Cert.AdamUpIdeal.Gen Cert.AdamUpIdeal.Value Cert.Prod
open Idealize.ShloMosaic Idealize.ShloMosaic.TcCoe Idealize.SL.Sem

variable (m : (ℓ : Loc nD τ sig) → Buf (Elt Ideal) ℓ) (c : Dev nD)

/-- The first moment after the step. -/
def first (y : S2048x1408.Idx) : EReal :=
  Ideal.ofBits FTy.f32 1063675494#32 * m (c.tc.loc main_arg2) y +
    Ideal.ofBits FTy.f32 1036831949#32 * m (c.tc.loc main_arg1) y

/-- The second moment after the step. -/
def second (y : S2048x1408.Idx) : EReal :=
  Ideal.ofBits FTy.f32 1065336439#32 * m (c.tc.loc main_arg3) y +
    Ideal.ofBits FTy.f32 981668463#32 * @HMul.hMul EReal EReal EReal _ (m (c.tc.loc main_arg1) y) (m (c.tc.loc main_arg1) y)

/-- The change of the weight. -/
def delta (y : S2048x1408.Idx) : EReal :=
  Ideal.ofBits FTy.f32 3129152111#32 *
    (Ideal.div (Ideal.div (first m c y) (Ideal.ofBits FTy.f32 1059503362#32))
        (Ideal.sqrt (Ideal.div (second m c y) (Ideal.ofBits FTy.f32 1008933580#32)) +
          Ideal.ofBits FTy.f32 841731191#32) +
      Ideal.ofBits FTy.f32 1008981770#32 * m (c.tc.loc main_arg0) y)

theorem final_first : (dats m 0 c).arrAt 5 cfg0.N = first m c := by
  refine (dats m 0 c).arrAt_eq_of_covers 5 _ (by decide +kernel) fun t hf y => ?_
  blk_simp
  rw [after0_5]
  frame_out
  unfold k0_pay1 first
  pointwise []
  rw [← V_main_arg1 m c, ← V_main_arg2 m c]
  rfl

theorem final_second : (dats m 0 c).arrAt 6 cfg0.N = second m c := by
  refine (dats m 0 c).arrAt_eq_of_covers 6 _ (by decide +kernel) fun t hf y => ?_
  blk_simp
  rw [after0_6]
  frame_out
  unfold k0_pay2 second
  pointwise []
  rw [← V_main_arg1 m c, ← V_main_arg3 m c]
  rfl

theorem final_delta : (dats m 0 c).arrAt 4 cfg0.N = delta m c := by
  refine (dats m 0 c).arrAt_eq_of_covers 4 _ (by decide +kernel) fun t hf y => ?_
  blk_simp
  rw [after0_4]
  frame_out
  unfold k0_pay3 k0_pay1 k0_pay2 delta first second
  pointwise []
  rw [← V_main_arg0 m c, ← V_main_arg1 m c, ← V_main_arg2 m c, ← V_main_arg3 m c]
  rfl

end Cert.AdamUpIdeal.Val

namespace Cert.AdamUpIdeal

open Cert.Prod Idealize.ShloMosaic Idealize.ShloMosaic.TcCoe Idealize.SL.Sem

theorem frame_ref : @Cert.quiescent_AdamUpRefIdeal AdamUpRefIdeal.Gen.facts := fun m ρ _ =>
  (θ_run AdamUpRefIdeal.defs _ _).mono
    (fun r h => ⟨fun c => (h c).2.2.2, sem_eq_zero_of_no_sems (by decide) r.2⟩)
    (AdamUpRefIdeal.Value.run (F := Ideal) m ρ)

theorem same : @Cert.algebraic_AdamUpIdeal_AdamUpRefIdeal Gen.facts AdamUpRefIdeal.Gen.facts := by
  intro m g m' g' _ hagree
  refine ⟨Val.delta m, Val.first m, Val.second m,
    (θ_run defs _ _).mono (fun r h c => ⟨(h c).1.trans (Val.final_delta m c),
      (h c).2.1.trans (Val.final_first m c), (h c).2.2.1.trans (Val.final_second m c),
      (h c).2.2.2⟩) (Value.run_blocks m g),
    (θ_run AdamUpRefIdeal.defs _ _).mono (fun r h c => ⟨(h c).1.trans ?_, (h c).2.1.trans ?_,
      (h c).2.2.1.trans ?_, (h c).2.2.2⟩) (AdamUpRefIdeal.Value.run m' g')⟩
  · rw [(hagree c).1, (hagree c).2.1, (hagree c).2.2.1, (hagree c).2.2.2]
    funext y
    unfold Val.delta Val.first Val.second
    pointwise []
  · rw [(hagree c).2.1, (hagree c).2.2.1]
    funext y
    unfold Val.first
    pointwise []
  · rw [(hagree c).2.1, (hagree c).2.2.2]
    funext y
    unfold Val.second
    pointwise []

end Cert.AdamUpIdeal

end
-- ==== Proof.AdamDownVal.lean ====
/-
The optimizer step on the down projection. Every entry of the three results reads the same entry of the
weight, the gradient and the two moments, so each block of rows is the reference's own block.
-/
module

public import proofs.«01_k».proof.Proof.Prod
public import proofs.«01_k».proof.Proof.Gen.AdamDownIdeal.Value
public import proofs.«01_k».proof.Proof.Gen.AdamDownRefIdeal.Run
public import proofs.«01_k».proof.Defs

@[expose] public section

set_option maxRecDepth 16384

noncomputable section

namespace Cert.AdamDownIdeal.Val

open Cert.AdamDownIdeal.Gen Cert.AdamDownIdeal.Value Cert.Prod
open Idealize.ShloMosaic Idealize.ShloMosaic.TcCoe Idealize.SL.Sem

variable (m : (ℓ : Loc nD τ sig) → Buf (Elt Ideal) ℓ) (c : Dev nD)

/-- The first moment after the step. -/
def first (y : S1408x1024.Idx) : EReal :=
  Ideal.ofBits FTy.f32 1063675494#32 * m (c.tc.loc main_arg2) y +
    Ideal.ofBits FTy.f32 1036831949#32 * m (c.tc.loc main_arg1) y

/-- The second moment after the step. -/
def second (y : S1408x1024.Idx) : EReal :=
  Ideal.ofBits FTy.f32 1065336439#32 * m (c.tc.loc main_arg3) y +
    Ideal.ofBits FTy.f32 981668463#32 * @HMul.hMul EReal EReal EReal _ (m (c.tc.loc main_arg1) y) (m (c.tc.loc main_arg1) y)

/-- The change of the weight. -/
def delta (y : S1408x1024.Idx) : EReal :=
  Ideal.ofBits FTy.f32 3129152111#32 *
    (Ideal.div (Ideal.div (first m c y) (Ideal.ofBits FTy.f32 1059503362#32))
        (Ideal.sqrt (Ideal.div (second m c y) (Ideal.ofBits FTy.f32 1008933580#32)) +
          Ideal.ofBits FTy.f32 841731191#32) +
      Ideal.ofBits FTy.f32 1008981770#32 * m (c.tc.loc main_arg0) y)

theorem final_first : (dats m 0 c).arrAt 5 cfg0.N = first m c := by
  refine (dats m 0 c).arrAt_eq_of_covers 5 _ (by decide +kernel) fun t hf y => ?_
  blk_simp
  rw [after0_5]
  frame_out
  unfold k0_pay1 first
  pointwise []
  rw [← V_main_arg1 m c, ← V_main_arg2 m c]
  rfl

theorem final_second : (dats m 0 c).arrAt 6 cfg0.N = second m c := by
  refine (dats m 0 c).arrAt_eq_of_covers 6 _ (by decide +kernel) fun t hf y => ?_
  blk_simp
  rw [after0_6]
  frame_out
  unfold k0_pay2 second
  pointwise []
  rw [← V_main_arg1 m c, ← V_main_arg3 m c]
  rfl

theorem final_delta : (dats m 0 c).arrAt 4 cfg0.N = delta m c := by
  refine (dats m 0 c).arrAt_eq_of_covers 4 _ (by decide +kernel) fun t hf y => ?_
  blk_simp
  rw [after0_4]
  frame_out
  unfold k0_pay3 k0_pay1 k0_pay2 delta first second
  pointwise []
  rw [← V_main_arg0 m c, ← V_main_arg1 m c, ← V_main_arg2 m c, ← V_main_arg3 m c]
  rfl

end Cert.AdamDownIdeal.Val

namespace Cert.AdamDownIdeal

open Cert.Prod Idealize.ShloMosaic Idealize.ShloMosaic.TcCoe Idealize.SL.Sem

theorem frame_ref : @Cert.quiescent_AdamDownRefIdeal AdamDownRefIdeal.Gen.facts := fun m ρ _ =>
  (θ_run AdamDownRefIdeal.defs _ _).mono
    (fun r h => ⟨fun c => (h c).2.2.2, sem_eq_zero_of_no_sems (by decide) r.2⟩)
    (AdamDownRefIdeal.Value.run (F := Ideal) m ρ)

theorem same : @Cert.algebraic_AdamDownIdeal_AdamDownRefIdeal Gen.facts AdamDownRefIdeal.Gen.facts := by
  intro m g m' g' _ hagree
  refine ⟨Val.delta m, Val.first m, Val.second m,
    (θ_run defs _ _).mono (fun r h c => ⟨(h c).1.trans (Val.final_delta m c),
      (h c).2.1.trans (Val.final_first m c), (h c).2.2.1.trans (Val.final_second m c),
      (h c).2.2.2⟩) (Value.run_blocks m g),
    (θ_run AdamDownRefIdeal.defs _ _).mono (fun r h c => ⟨(h c).1.trans ?_, (h c).2.1.trans ?_,
      (h c).2.2.1.trans ?_, (h c).2.2.2⟩) (AdamDownRefIdeal.Value.run m' g')⟩
  · rw [(hagree c).1, (hagree c).2.1, (hagree c).2.2.1, (hagree c).2.2.2]
    funext y
    unfold Val.delta Val.first Val.second
    pointwise []
  · rw [(hagree c).2.1, (hagree c).2.2.1]
    funext y
    unfold Val.first
    pointwise []
  · rw [(hagree c).2.1, (hagree c).2.2.2]
    funext y
    unfold Val.second
    pointwise []

end Cert.AdamDownIdeal

end
-- ==== Proof.AdamAdaVal.lean ====
/-
The optimizer step on the modulation weights. Every entry of the three results reads the same entry of the
weight, the gradient and the two moments, so each block of rows is the reference's own block.
-/
module

public import proofs.«01_k».proof.Proof.Prod
public import proofs.«01_k».proof.Proof.Gen.AdamAdaIdeal.Value
public import proofs.«01_k».proof.Proof.Gen.AdamAdaRefIdeal.Run
public import proofs.«01_k».proof.Defs

@[expose] public section

set_option maxRecDepth 16384

noncomputable section

namespace Cert.AdamAdaIdeal.Val

open Cert.AdamAdaIdeal.Gen Cert.AdamAdaIdeal.Value Cert.Prod
open Idealize.ShloMosaic Idealize.ShloMosaic.TcCoe Idealize.SL.Sem

variable (m : (ℓ : Loc nD τ sig) → Buf (Elt Ideal) ℓ) (c : Dev nD)

/-- The first moment after the step. -/
def first (y : S2048x1536.Idx) : EReal :=
  Ideal.ofBits FTy.f32 1063675494#32 * m (c.tc.loc main_arg2) y +
    Ideal.ofBits FTy.f32 1036831949#32 * m (c.tc.loc main_arg1) y

/-- The second moment after the step. -/
def second (y : S2048x1536.Idx) : EReal :=
  Ideal.ofBits FTy.f32 1065336439#32 * m (c.tc.loc main_arg3) y +
    Ideal.ofBits FTy.f32 981668463#32 * @HMul.hMul EReal EReal EReal _ (m (c.tc.loc main_arg1) y) (m (c.tc.loc main_arg1) y)

/-- The change of the weight. -/
def delta (y : S2048x1536.Idx) : EReal :=
  Ideal.ofBits FTy.f32 3129152111#32 *
    (Ideal.div (Ideal.div (first m c y) (Ideal.ofBits FTy.f32 1059503362#32))
        (Ideal.sqrt (Ideal.div (second m c y) (Ideal.ofBits FTy.f32 1008933580#32)) +
          Ideal.ofBits FTy.f32 841731191#32) +
      Ideal.ofBits FTy.f32 1008981770#32 * m (c.tc.loc main_arg0) y)

theorem final_first : (dats m 0 c).arrAt 5 cfg0.N = first m c := by
  refine (dats m 0 c).arrAt_eq_of_covers 5 _ (by decide +kernel) fun t hf y => ?_
  blk_simp
  rw [after0_5]
  frame_out
  unfold k0_pay1 first
  pointwise []
  rw [← V_main_arg1 m c, ← V_main_arg2 m c]
  rfl

theorem final_second : (dats m 0 c).arrAt 6 cfg0.N = second m c := by
  refine (dats m 0 c).arrAt_eq_of_covers 6 _ (by decide +kernel) fun t hf y => ?_
  blk_simp
  rw [after0_6]
  frame_out
  unfold k0_pay2 second
  pointwise []
  rw [← V_main_arg1 m c, ← V_main_arg3 m c]
  rfl

theorem final_delta : (dats m 0 c).arrAt 4 cfg0.N = delta m c := by
  refine (dats m 0 c).arrAt_eq_of_covers 4 _ (by decide +kernel) fun t hf y => ?_
  blk_simp
  rw [after0_4]
  frame_out
  unfold k0_pay3 k0_pay1 k0_pay2 delta first second
  pointwise []
  rw [← V_main_arg0 m c, ← V_main_arg1 m c, ← V_main_arg2 m c, ← V_main_arg3 m c]
  rfl

end Cert.AdamAdaIdeal.Val

namespace Cert.AdamAdaIdeal

open Cert.Prod Idealize.ShloMosaic Idealize.ShloMosaic.TcCoe Idealize.SL.Sem

theorem frame_ref : @Cert.quiescent_AdamAdaRefIdeal AdamAdaRefIdeal.Gen.facts := fun m ρ _ =>
  (θ_run AdamAdaRefIdeal.defs _ _).mono
    (fun r h => ⟨fun c => (h c).2.2.2, sem_eq_zero_of_no_sems (by decide) r.2⟩)
    (AdamAdaRefIdeal.Value.run (F := Ideal) m ρ)

theorem same : @Cert.algebraic_AdamAdaIdeal_AdamAdaRefIdeal Gen.facts AdamAdaRefIdeal.Gen.facts := by
  intro m g m' g' _ hagree
  refine ⟨Val.delta m, Val.first m, Val.second m,
    (θ_run defs _ _).mono (fun r h c => ⟨(h c).1.trans (Val.final_delta m c),
      (h c).2.1.trans (Val.final_first m c), (h c).2.2.1.trans (Val.final_second m c),
      (h c).2.2.2⟩) (Value.run_blocks m g),
    (θ_run AdamAdaRefIdeal.defs _ _).mono (fun r h c => ⟨(h c).1.trans ?_, (h c).2.1.trans ?_,
      (h c).2.2.1.trans ?_, (h c).2.2.2⟩) (AdamAdaRefIdeal.Value.run m' g')⟩
  · rw [(hagree c).1, (hagree c).2.1, (hagree c).2.2.1, (hagree c).2.2.2]
    funext y
    unfold Val.delta Val.first Val.second
    pointwise []
  · rw [(hagree c).2.1, (hagree c).2.2.1]
    funext y
    unfold Val.first
    pointwise []
  · rw [(hagree c).2.1, (hagree c).2.2.2]
    funext y
    unfold Val.second
    pointwise []

end Cert.AdamAdaIdeal

end
-- ==== Proof.AdamTinyVal.lean ====
/-
The optimizer step on the packed small parameters. Every entry of the three results reads the same entry of the
weight, the gradient and the two moments, so each block of rows is the reference's own block.
-/
module

public import proofs.«01_k».proof.Proof.Prod
public import proofs.«01_k».proof.Proof.Gen.AdamTinyIdeal.Value
public import proofs.«01_k».proof.Proof.Gen.AdamTinyRefIdeal.Run
public import proofs.«01_k».proof.Defs

@[expose] public section

set_option maxRecDepth 16384

noncomputable section

namespace Cert.AdamTinyIdeal.Val

open Cert.AdamTinyIdeal.Gen Cert.AdamTinyIdeal.Value Cert.Prod
open Idealize.ShloMosaic Idealize.ShloMosaic.TcCoe Idealize.SL.Sem

variable (m : (ℓ : Loc nD τ sig) → Buf (Elt Ideal) ℓ) (c : Dev nD)

/-- The first moment after the step. -/
def first (y : S40x1024.Idx) : EReal :=
  Ideal.ofBits FTy.f32 1063675494#32 * m (c.tc.loc main_arg2) y +
    Ideal.ofBits FTy.f32 1036831949#32 * m (c.tc.loc main_arg1) y

/-- The second moment after the step. -/
def second (y : S40x1024.Idx) : EReal :=
  Ideal.ofBits FTy.f32 1065336439#32 * m (c.tc.loc main_arg3) y +
    Ideal.ofBits FTy.f32 981668463#32 * @HMul.hMul EReal EReal EReal _ (m (c.tc.loc main_arg1) y) (m (c.tc.loc main_arg1) y)

/-- The change of the weight. -/
def delta (y : S40x1024.Idx) : EReal :=
  Ideal.ofBits FTy.f32 3129152111#32 *
    (Ideal.div (Ideal.div (first m c y) (Ideal.ofBits FTy.f32 1059503362#32))
        (Ideal.sqrt (Ideal.div (second m c y) (Ideal.ofBits FTy.f32 1008933580#32)) +
          Ideal.ofBits FTy.f32 841731191#32) +
      Ideal.ofBits FTy.f32 1008981770#32 * m (c.tc.loc main_arg0) y)

theorem final_first : (dats m 0 c).arrAt 5 cfg0.N = first m c := by
  refine (dats m 0 c).arrAt_eq_of_covers 5 _ (by decide +kernel) fun t hf y => ?_
  blk_simp
  rw [after0_5]
  frame_out
  unfold k0_pay1 first
  pointwise []
  rw [← V_main_arg1 m c, ← V_main_arg2 m c]
  rfl

theorem final_second : (dats m 0 c).arrAt 6 cfg0.N = second m c := by
  refine (dats m 0 c).arrAt_eq_of_covers 6 _ (by decide +kernel) fun t hf y => ?_
  blk_simp
  rw [after0_6]
  frame_out
  unfold k0_pay2 second
  pointwise []
  rw [← V_main_arg1 m c, ← V_main_arg3 m c]
  rfl

theorem final_delta : (dats m 0 c).arrAt 4 cfg0.N = delta m c := by
  refine (dats m 0 c).arrAt_eq_of_covers 4 _ (by decide +kernel) fun t hf y => ?_
  blk_simp
  rw [after0_4]
  frame_out
  unfold k0_pay3 k0_pay1 k0_pay2 delta first second
  pointwise []
  rw [← V_main_arg0 m c, ← V_main_arg1 m c, ← V_main_arg2 m c, ← V_main_arg3 m c]
  rfl

end Cert.AdamTinyIdeal.Val

namespace Cert.AdamTinyIdeal

open Cert.Prod Idealize.ShloMosaic Idealize.ShloMosaic.TcCoe Idealize.SL.Sem

theorem frame_ref : @Cert.quiescent_AdamTinyRefIdeal AdamTinyRefIdeal.Gen.facts := fun m ρ _ =>
  (θ_run AdamTinyRefIdeal.defs _ _).mono
    (fun r h => ⟨fun c => (h c).2.2.2, sem_eq_zero_of_no_sems (by decide) r.2⟩)
    (AdamTinyRefIdeal.Value.run (F := Ideal) m ρ)

theorem same : @Cert.algebraic_AdamTinyIdeal_AdamTinyRefIdeal Gen.facts AdamTinyRefIdeal.Gen.facts := by
  intro m g m' g' _ hagree
  refine ⟨Val.delta m, Val.first m, Val.second m,
    (θ_run defs _ _).mono (fun r h c => ⟨(h c).1.trans (Val.final_delta m c),
      (h c).2.1.trans (Val.final_first m c), (h c).2.2.1.trans (Val.final_second m c),
      (h c).2.2.2⟩) (Value.run_blocks m g),
    (θ_run AdamTinyRefIdeal.defs _ _).mono (fun r h c => ⟨(h c).1.trans ?_, (h c).2.1.trans ?_,
      (h c).2.2.1.trans ?_, (h c).2.2.2⟩) (AdamTinyRefIdeal.Value.run m' g')⟩
  · rw [(hagree c).1, (hagree c).2.1, (hagree c).2.2.1, (hagree c).2.2.2]
    funext y
    unfold Val.delta Val.first Val.second
    pointwise []
  · rw [(hagree c).2.1, (hagree c).2.2.1]
    funext y
    unfold Val.first
    pointwise []
  · rw [(hagree c).2.1, (hagree c).2.2.2]
    funext y
    unfold Val.second
    pointwise []

end Cert.AdamTinyIdeal

end
-- ==== Proof.AdaModVal.lean ====
/-
The modulation of the two layers: the rows of the conditioning through their own sigmoid, times the
weights of each layer, plus its bias. The grid has one point for each layer.
-/
module

public import proofs.«01_k».proof.Proof.Prod
public import proofs.«01_k».proof.Proof.Gen.AdaModIdeal.Value
public import proofs.«01_k».proof.Proof.Gen.AdaModRefIdeal.Run
public import proofs.«01_k».proof.Defs

@[expose] public section

set_option maxRecDepth 16384

noncomputable section

namespace Cert.AdaModIdeal.Val

open Cert.AdaModIdeal.Gen Cert.AdaModIdeal.Value Cert.Prod
open Idealize.ShloMosaic Idealize.ShloMosaic.TcCoe Idealize.SL.Sem

variable (m : (ℓ : Loc nD τ sig) → Buf (Elt Ideal) ℓ) (c : Dev nD)

/-- The modulation. -/
def prod (y : S2x8x1536.Idx) : EReal :=
  (∑ k : Fin 1024, at2 (m (c.tc.loc main_arg0)) (y 1).val k.val * Ideal.logistic (at2 (m (c.tc.loc main_arg0)) (y 1).val k.val)
      * at3 (m (c.tc.loc main_arg1)) (y 0).val k.val (y 2).val)
    + at3 (m (c.tc.loc main_arg2)) (y 0).val 0 (y 2).val

theorem idx : ∀ t : Fin cfg0.N, win0_0.index t = ![0, 0] ∧ win0_1.index t = ![t.val, 0, 0] ∧ win0_2.index t = ![t.val, 0, 0]
    ∧ win0_3.index t = ![t.val, 0, 0] :=
  (by decide +kernel : ∀ t : Fin grid0.N, _)

theorem final : (dats m 0 c).arrAt 3 cfg0.N = prod m c := by
  refine (dats m 0 c).arrAt_eq_of_covers 3 _ (by decide +kernel) fun t hf y => ?_
  obtain ⟨e0, e1, e2, e3⟩ := idx t
  have hy : (y 0).val = 0 := Nat.lt_one_iff.1 (show (y 0).val < 1 from (y 0).isLt)
  have E0 : (((cfg0.win 3).blk t).view.emb y 0).val = t.val :=
    show win0_3.index t 0 * 1 + 1 * (y 0).val = _ by rw [e3, hy]; simp
  have E1 : (((cfg0.win 3).blk t).view.emb y 1).val = (y 1).val :=
    show win0_3.index t 1 * 8 + 1 * (y 1).val = _ by rw [e3, one_mul]; exact Nat.zero_add _
  have E2 : (((cfg0.win 3).blk t).view.emb y 2).val = (y 2).val :=
    show win0_3.index t 2 * 1536 + 1 * (y 2).val = _ by rw [e3, one_mul]; exact Nat.zero_add _
  have A : ∀ k : Fin 1024, iblk m c 0 t (ix2 (y 1) k) = at2 (m (c.tc.loc main_arg0)) (y 1).val k.val := fun k => by
    show V m c main_arg0 (((cfg0.win 0).blk t).view.emb (ix2 (y 1) k)) = _
    rw [V_main_arg0]
    exact at2_of _ _ (show win0_0.index t 0 * 8 + 1 * (y 1).val = _ by rw [e0, one_mul]; exact Nat.zero_add _)
      (show win0_0.index t 1 * 1024 + 1 * k.val = _ by rw [e0, one_mul]; exact Nat.zero_add _)
  have B : ∀ k : Fin 1024, iblk m c 1 t (ix3 0 k (y 2)) = at3 (m (c.tc.loc main_arg1)) t.val k.val (y 2).val := fun k => by
    show V m c main_arg1 (((cfg0.win 1).blk t).view.emb (ix3 0 k (y 2))) = _
    rw [V_main_arg1]
    exact at3_of _ _ (show win0_1.index t 0 * 1 + 1 * 0 = _ by rw [e1]; simp)
      (show win0_1.index t 1 * 1024 + 1 * k.val = _ by rw [e1, one_mul]; exact Nat.zero_add _)
      (show win0_1.index t 2 * 1536 + 1 * (y 2).val = _ by rw [e1, one_mul]; exact Nat.zero_add _)
  have C : iblk m c 2 t (ix3 0 0 (y 2)) = at3 (m (c.tc.loc main_arg2)) t.val 0 (y 2).val := by
    show V m c main_arg2 (((cfg0.win 2).blk t).view.emb (ix3 0 0 (y 2))) = _
    rw [V_main_arg2]
    exact at3_of _ _ (show win0_2.index t 0 * 1 + 1 * 0 = _ by rw [e2]; simp)
      (show win0_2.index t 1 * 1 + 1 * 0 = _ by rw [e2]; simp)
      (show win0_2.index t 2 * 1536 + 1 * (y 2).val = _ by rw [e2, one_mul]; exact Nat.zero_add _)
  rw [prod, E0, E1, E2]
  blk_simp
  rw [after0_3]
  frame_out
  unfold k0_pay1
  pointwise []
  rw [C]
  refine congrArg (· + _) (Finset.sum_congr rfl fun k _ => ?_)
  rw [A k, B k]

end Cert.AdaModIdeal.Val

namespace Cert.AdaModIdeal

open Cert.Prod Idealize.ShloMosaic Idealize.ShloMosaic.TcCoe Idealize.SL.Sem

theorem frame_ref : @Cert.quiescent_AdaModRefIdeal AdaModRefIdeal.Gen.facts := fun m ρ _ =>
  (θ_run AdaModRefIdeal.defs _ _).mono (fun r h => ⟨fun c => (h c).2, sem_eq_zero_of_no_sems (by decide) r.2⟩)
    (AdaModRefIdeal.Value.run (F := Ideal) m ρ)

theorem same : @Cert.algebraic_AdaModIdeal_AdaModRefIdeal Gen.facts AdaModRefIdeal.Gen.facts := by
  intro m g m' g' _ hagree
  refine ⟨Val.prod m,
    (θ_run defs _ _).mono (fun r h c => ⟨(h c).1.trans (Val.final m c), (h c).2⟩) (Value.run_blocks m g),
    (θ_run AdaModRefIdeal.defs _ _).mono (fun r h c => ⟨(h c).1.trans ?_, (h c).2⟩) (AdaModRefIdeal.Value.run m' g')⟩
  rw [(hagree c).1, (hagree c).2.1, (hagree c).2.2]
  funext y
  unfold Val.prod
  pointwise []
  refine congrArg₂ (· + ·) (Finset.sum_congr rfl fun k _ => ?_) (at3_of (m (c.tc.loc main_arg2)) (ix3 (show Fin 2 from y 0) 0 (show Fin 1536 from y 2)) rfl rfl rfl)
  exact congrArg₂ (fun z w : EReal => z * Ideal.logistic z * w)
    (at2_of (m (c.tc.loc main_arg0)) (ix2 (show Fin 8 from y 1) k) rfl rfl)
    (at3_of (m (c.tc.loc main_arg1)) (ix3 (show Fin 2 from y 0) k (show Fin 1536 from y 2)) rfl rfl rfl)

end Cert.AdaModIdeal

end
-- ==== Proof.AdaGradVal.lean ====
/-
The gradient of the modulation weights: for each layer, the columns of the conditioning through its own
sigmoid times the gradient of the modulation. The grid has one point for each layer.
-/
module

public import proofs.«01_k».proof.Proof.Prod
public import proofs.«01_k».proof.Proof.Gen.AdaGradIdeal.Value
public import proofs.«01_k».proof.Proof.Gen.AdaGradRefIdeal.Run
public import proofs.«01_k».proof.Defs

@[expose] public section

set_option maxRecDepth 16384

noncomputable section

namespace Cert.AdaGradIdeal.Val

open Cert.AdaGradIdeal.Gen Cert.AdaGradIdeal.Value Cert.Prod
open Idealize.ShloMosaic Idealize.ShloMosaic.TcCoe Idealize.SL.Sem

variable (m : (ℓ : Loc nD τ sig) → Buf (Elt Ideal) ℓ) (c : Dev nD)

/-- The gradient. -/
def prod (y : S2x1024x1536.Idx) : EReal :=
  ∑ k : Fin 8, at2 (m (c.tc.loc main_arg0)) k.val (y 1).val * Ideal.logistic (at2 (m (c.tc.loc main_arg0)) k.val (y 1).val)
      * at3 (m (c.tc.loc main_arg1)) (y 0).val k.val (y 2).val

theorem idx : ∀ t : Fin cfg0.N, win0_0.index t = ![0, 0] ∧ win0_1.index t = ![t.val, 0, 0] ∧ win0_2.index t = ![t.val, 0, 0] :=
  (by decide +kernel : ∀ t : Fin grid0.N, _)

theorem final : (dats m 0 c).arrAt 2 cfg0.N = prod m c := by
  refine (dats m 0 c).arrAt_eq_of_covers 2 _ (by decide +kernel) fun t hf y => ?_
  obtain ⟨e0, e1, e2⟩ := idx t
  have hy : (y 0).val = 0 := Nat.lt_one_iff.1 (show (y 0).val < 1 from (y 0).isLt)
  have E0 : (((cfg0.win 2).blk t).view.emb y 0).val = t.val :=
    show win0_2.index t 0 * 1 + 1 * (y 0).val = _ by rw [e2, hy]; simp
  have E1 : (((cfg0.win 2).blk t).view.emb y 1).val = (y 1).val :=
    show win0_2.index t 1 * 1024 + 1 * (y 1).val = _ by rw [e2, one_mul]; exact Nat.zero_add _
  have E2 : (((cfg0.win 2).blk t).view.emb y 2).val = (y 2).val :=
    show win0_2.index t 2 * 1536 + 1 * (y 2).val = _ by rw [e2, one_mul]; exact Nat.zero_add _
  have A : ∀ k : Fin 8, iblk m c 0 t (ix2 k (y 1)) = at2 (m (c.tc.loc main_arg0)) k.val (y 1).val := fun k => by
    show V m c main_arg0 (((cfg0.win 0).blk t).view.emb (ix2 k (y 1))) = _
    rw [V_main_arg0]
    exact at2_of _ _ (show win0_0.index t 0 * 8 + 1 * k.val = _ by rw [e0, one_mul]; exact Nat.zero_add _)
      (show win0_0.index t 1 * 1024 + 1 * (y 1).val = _ by rw [e0, one_mul]; exact Nat.zero_add _)
  have B : ∀ k : Fin 8, iblk m c 1 t (ix3 0 k (y 2)) = at3 (m (c.tc.loc main_arg1)) t.val k.val (y 2).val := fun k => by
    show V m c main_arg1 (((cfg0.win 1).blk t).view.emb (ix3 0 k (y 2))) = _
    rw [V_main_arg1]
    exact at3_of _ _ (show win0_1.index t 0 * 1 + 1 * 0 = _ by rw [e1]; simp)
      (show win0_1.index t 1 * 8 + 1 * k.val = _ by rw [e1, one_mul]; exact Nat.zero_add _)
      (show win0_1.index t 2 * 1536 + 1 * (y 2).val = _ by rw [e1, one_mul]; exact Nat.zero_add _)
  rw [prod, E0, E1, E2]
  blk_simp
  rw [after0_2]
  frame_out
  unfold k0_pay1
  pointwise []
  simp only [A, B]

end Cert.AdaGradIdeal.Val

namespace Cert.AdaGradIdeal

open Cert.Prod Idealize.ShloMosaic Idealize.ShloMosaic.TcCoe Idealize.SL.Sem

theorem frame_ref : @Cert.quiescent_AdaGradRefIdeal AdaGradRefIdeal.Gen.facts := fun m ρ _ =>
  (θ_run AdaGradRefIdeal.defs _ _).mono (fun r h => ⟨fun c => (h c).2, sem_eq_zero_of_no_sems (by decide) r.2⟩)
    (AdaGradRefIdeal.Value.run (F := Ideal) m ρ)

theorem same : @Cert.algebraic_AdaGradIdeal_AdaGradRefIdeal Gen.facts AdaGradRefIdeal.Gen.facts := by
  intro m g m' g' _ hagree
  refine ⟨Val.prod m,
    (θ_run defs _ _).mono (fun r h c => ⟨(h c).1.trans (Val.final m c), (h c).2⟩) (Value.run_blocks m g),
    (θ_run AdaGradRefIdeal.defs _ _).mono (fun r h c => ⟨(h c).1.trans ?_, (h c).2⟩) (AdaGradRefIdeal.Value.run m' g')⟩
  rw [(hagree c).1, (hagree c).2]
  funext y
  unfold Val.prod
  pointwise []
  refine Finset.sum_congr rfl fun k _ => ?_
  exact congrArg₂ (fun z w : EReal => z * Ideal.logistic z * w)
    (at2_of (m (c.tc.loc main_arg0)) (ix2 k (show Fin 1024 from y 1)) rfl rfl)
    (at3_of (m (c.tc.loc main_arg1)) (ix3 (show Fin 2 from y 0) k (show Fin 1536 from y 2)) rfl rfl rfl)

end Cert.AdaGradIdeal

end
-- ==== Proof.NormFfnVal.lean ====
/-
The gated residual and its modulated normalization, by blocks of 256 rows. A row is normalized by itself, so
each block is the reference's own rows; the gate, the scale and the shift are three blocks of one row.
-/
module

public import proofs.«01_k».proof.Proof.Prod
public import proofs.«01_k».proof.Proof.Gen.NormFfnIdeal.Value
public import proofs.«01_k».proof.Proof.Gen.NormFfnRefIdeal.Run
public import proofs.«01_k».proof.Defs

@[expose] public section

set_option maxRecDepth 16384

noncomputable section

namespace Cert.NormFfnIdeal.Val

open Cert.NormFfnIdeal.Gen Cert.NormFfnIdeal.Value Cert.Prod
open Idealize.ShloMosaic Idealize.ShloMosaic.TcCoe Idealize.SL.Sem

variable (m : (ℓ : Loc nD τ sig) → Buf (Elt Ideal) ℓ) (c : Dev nD)

/-- The residual stream with the gated branch added, at a row and a column. -/
def sumAt (R C : ℕ) : EReal :=
  at2 (m (c.tc.loc main_arg0)) R C + at2 (m (c.tc.loc main_arg3)) 0 (2048 + C) * at2 (m (c.tc.loc main_arg1)) R C

/-- Its normalized and modulated form. -/
def normAt (R C : ℕ) : EReal :=
  sumAt m c R C * Ideal.rsqrt (Ideal.div (∑ k : Fin 1024, sumAt m c R k.val * sumAt m c R k.val) (Ideal.ofBits FTy.f32 1149239296#32)
      + Ideal.ofBits FTy.f32 897988541#32) * at2 (m (c.tc.loc main_arg2)) 0 C * (1 + at2 (m (c.tc.loc main_arg3)) 0 (4096 + C))
    + at2 (m (c.tc.loc main_arg3)) 0 (3072 + C)

def prodSum (y : S8192x1024.Idx) : EReal := sumAt m c (y 0).val (y 1).val

def prodNorm (y : S8192x1024.Idx) : EReal := normAt m c (y 0).val (y 1).val

theorem idx : ∀ t : Fin cfg0.N, win0_0.index t = ![t.val, 0] ∧ win0_1.index t = ![t.val, 0] ∧ win0_2.index t = ![0, 2]
    ∧ win0_3.index t = ![0, 0] ∧ win0_4.index t = ![0, 4] ∧ win0_5.index t = ![0, 3] ∧ win0_6.index t = ![t.val, 0]
    ∧ win0_7.index t = ![t.val, 0] :=
  (by decide +kernel : ∀ t : Fin grid0.N, _)

variable (t : Fin cfg0.N) (r : Fin 256) (k : Fin 1024)

theorem read0 : iblk m c 0 t (ix2 r k) = at2 (m (c.tc.loc main_arg0)) (t.val * 256 + r.val) k.val := by
  obtain ⟨e, -⟩ := idx t
  show V m c main_arg0 (((cfg0.win 0).blk t).view.emb (ix2 r k)) = _
  rw [V_main_arg0]
  exact at2_of _ _ (show win0_0.index t 0 * 256 + 1 * r.val = _ by rw [e, one_mul]; rfl)
    (show win0_0.index t 1 * 1024 + 1 * k.val = _ by rw [e, one_mul]; exact Nat.zero_add _)

theorem read1 : iblk m c 1 t (ix2 r k) = at2 (m (c.tc.loc main_arg1)) (t.val * 256 + r.val) k.val := by
  obtain ⟨-, e, -⟩ := idx t
  show V m c main_arg1 (((cfg0.win 1).blk t).view.emb (ix2 r k)) = _
  rw [V_main_arg1]
  exact at2_of _ _ (show win0_1.index t 0 * 256 + 1 * r.val = _ by rw [e, one_mul]; rfl)
    (show win0_1.index t 1 * 1024 + 1 * k.val = _ by rw [e, one_mul]; exact Nat.zero_add _)

theorem read2 : iblk m c 2 t (ix2 0 k) = at2 (m (c.tc.loc main_arg3)) 0 (2048 + k.val) := by
  obtain ⟨-, -, e, -⟩ := idx t
  show V m c main_arg3 (((cfg0.win 2).blk t).view.emb (ix2 0 k)) = _
  rw [V_main_arg3]
  exact at2_of _ _ (show win0_2.index t 0 * 8 + 1 * 0 = _ by rw [e]; rfl)
    (show win0_2.index t 1 * 1024 + 1 * k.val = _ by rw [e, one_mul]; rfl)

theorem read3 : iblk m c 3 t (ix2 0 k) = at2 (m (c.tc.loc main_arg2)) 0 k.val := by
  obtain ⟨-, -, -, e, -⟩ := idx t
  show V m c main_arg2 (((cfg0.win 3).blk t).view.emb (ix2 0 k)) = _
  rw [V_main_arg2]
  exact at2_of _ _ (show win0_3.index t 0 * 1 + 1 * 0 = _ by rw [e]; rfl)
    (show win0_3.index t 1 * 1024 + 1 * k.val = _ by rw [e, one_mul]; exact Nat.zero_add _)

theorem read4 : iblk m c 4 t (ix2 0 k) = at2 (m (c.tc.loc main_arg3)) 0 (4096 + k.val) := by
  obtain ⟨-, -, -, -, e, -⟩ := idx t
  show V m c main_arg3 (((cfg0.win 4).blk t).view.emb (ix2 0 k)) = _
  rw [V_main_arg3]
  exact at2_of _ _ (show win0_4.index t 0 * 8 + 1 * 0 = _ by rw [e]; rfl)
    (show win0_4.index t 1 * 1024 + 1 * k.val = _ by rw [e, one_mul]; rfl)

theorem read5 : iblk m c 5 t (ix2 0 k) = at2 (m (c.tc.loc main_arg3)) 0 (3072 + k.val) := by
  obtain ⟨-, -, -, -, -, e, -⟩ := idx t
  show V m c main_arg3 (((cfg0.win 5).blk t).view.emb (ix2 0 k)) = _
  rw [V_main_arg3]
  exact at2_of _ _ (show win0_5.index t 0 * 8 + 1 * 0 = _ by rw [e]; rfl)
    (show win0_5.index t 1 * 1024 + 1 * k.val = _ by rw [e, one_mul]; rfl)

theorem final_sum : (dats m 0 c).arrAt 6 cfg0.N = prodSum m c := by
  refine (dats m 0 c).arrAt_eq_of_covers 6 _ (by decide +kernel) fun t hf y => ?_
  obtain ⟨-, -, -, -, -, -, e, -⟩ := idx t
  have E0 : (((cfg0.win 6).blk t).view.emb y 0).val = t.val * 256 + (y 0).val :=
    show win0_6.index t 0 * 256 + 1 * (y 0).val = _ by rw [e, one_mul]; rfl
  have E1 : (((cfg0.win 6).blk t).view.emb y 1).val = (y 1).val :=
    show win0_6.index t 1 * 1024 + 1 * (y 1).val = _ by rw [e, one_mul]; exact Nat.zero_add _
  have P0 : iblk m c 0 t y = at2 (m (c.tc.loc main_arg0)) (t.val * 256 + (y 0).val) (y 1).val :=
    (congrArg (iblk m c 0 t) (show y = ix2 (show Fin 256 from y 0) (show Fin 1024 from y 1) from ext2 rfl rfl)).trans (read0 m c t (y 0) (y 1))
  have P1 : iblk m c 1 t y = at2 (m (c.tc.loc main_arg1)) (t.val * 256 + (y 0).val) (y 1).val :=
    (congrArg (iblk m c 1 t) (show y = ix2 (show Fin 256 from y 0) (show Fin 1024 from y 1) from ext2 rfl rfl)).trans (read1 m c t (y 0) (y 1))
  have P2 : iblk m c 2 t (ix2 0 (y 1)) = at2 (m (c.tc.loc main_arg3)) 0 (2048 + (y 1).val) := read2 m c t (y 1)
  rw [prodSum, E0, E1, sumAt]
  blk_simp
  rw [after0_6]
  frame_out
  unfold k0_pay1
  pointwise []
  rw [P0, P1, P2]

theorem final_norm : (dats m 0 c).arrAt 7 cfg0.N = prodNorm m c := by
  refine (dats m 0 c).arrAt_eq_of_covers 7 _ (by decide +kernel) fun t hf y => ?_
  obtain ⟨-, -, -, -, -, -, -, e⟩ := idx t
  have E0 : (((cfg0.win 7).blk t).view.emb y 0).val = t.val * 256 + (y 0).val :=
    show win0_7.index t 0 * 256 + 1 * (y 0).val = _ by rw [e, one_mul]; rfl
  have E1 : (((cfg0.win 7).blk t).view.emb y 1).val = (y 1).val :=
    show win0_7.index t 1 * 1024 + 1 * (y 1).val = _ by rw [e, one_mul]; exact Nat.zero_add _
  have P0 : iblk m c 0 t y = at2 (m (c.tc.loc main_arg0)) (t.val * 256 + (y 0).val) (y 1).val :=
    (congrArg (iblk m c 0 t) (show y = ix2 (show Fin 256 from y 0) (show Fin 1024 from y 1) from ext2 rfl rfl)).trans (read0 m c t (y 0) (y 1))
  have P1 : iblk m c 1 t y = at2 (m (c.tc.loc main_arg1)) (t.val * 256 + (y 0).val) (y 1).val :=
    (congrArg (iblk m c 1 t) (show y = ix2 (show Fin 256 from y 0) (show Fin 1024 from y 1) from ext2 rfl rfl)).trans (read1 m c t (y 0) (y 1))
  have Q0 : ∀ k : Fin 1024, iblk m c 0 t (ix2 (y 0) k) = at2 (m (c.tc.loc main_arg0)) (t.val * 256 + (y 0).val) k.val :=
    fun k => read0 m c t (y 0) k
  have Q1 : ∀ k : Fin 1024, iblk m c 1 t (ix2 (y 0) k) = at2 (m (c.tc.loc main_arg1)) (t.val * 256 + (y 0).val) k.val :=
    fun k => read1 m c t (y 0) k
  have Q2 : ∀ k : Fin 1024, iblk m c 2 t (ix2 0 k) = at2 (m (c.tc.loc main_arg3)) 0 (2048 + k.val) := fun k => read2 m c t k
  have P2 : iblk m c 2 t (ix2 0 (y 1)) = at2 (m (c.tc.loc main_arg3)) 0 (2048 + (y 1).val) := read2 m c t (y 1)
  have P3 : iblk m c 3 t (ix2 0 (y 1)) = at2 (m (c.tc.loc main_arg2)) 0 (y 1).val := read3 m c t (y 1)
  have P4 : iblk m c 4 t (ix2 0 (y 1)) = at2 (m (c.tc.loc main_arg3)) 0 (4096 + (y 1).val) := read4 m c t (y 1)
  have P5 : iblk m c 5 t (ix2 0 (y 1)) = at2 (m (c.tc.loc main_arg3)) 0 (3072 + (y 1).val) := read5 m c t (y 1)
  rw [prodNorm, E0, E1]
  unfold normAt sumAt
  blk_simp
  rw [after0_7]
  frame_out
  unfold k0_pay2 k0_pay1
  pointwise []
  rw [P0, P1, P2, P3, P4, P5]
  simp only [Q0, Q1, Q2]

end Cert.NormFfnIdeal.Val

namespace Cert.NormFfnIdeal

open Cert.Prod Idealize.ShloMosaic Idealize.ShloMosaic.TcCoe Idealize.SL.Sem

theorem frame_ref : @Cert.quiescent_NormFfnRefIdeal NormFfnRefIdeal.Gen.facts := fun m ρ _ =>
  (θ_run NormFfnRefIdeal.defs _ _).mono (fun r h => ⟨fun c => (h c).2.2, sem_eq_zero_of_no_sems (by decide) r.2⟩)
    (NormFfnRefIdeal.Value.run (F := Ideal) m ρ)

theorem same : @Cert.algebraic_NormFfnIdeal_NormFfnRefIdeal Gen.facts NormFfnRefIdeal.Gen.facts := by
  intro m g m' g' _ hagree
  refine ⟨Val.prodSum m, Val.prodNorm m,
    (θ_run defs _ _).mono (fun r h c => ⟨(h c).1.trans (Val.final_sum m c), (h c).2.1.trans (Val.final_norm m c), (h c).2.2⟩)
      (Value.run_blocks m g),
    (θ_run NormFfnRefIdeal.defs _ _).mono (fun r h c => ⟨(h c).1.trans ?_, (h c).2.1.trans ?_, (h c).2.2⟩)
      (NormFfnRefIdeal.Value.run m' g')⟩
  · rw [(hagree c).1, (hagree c).2.1, (hagree c).2.2.2]
    funext y
    have P0 : m (c.tc.loc main_arg0) y = at2 (m (c.tc.loc main_arg0)) (y 0).val (y 1).val := at2_of _ _ rfl rfl
    have P1 : m (c.tc.loc main_arg1) y = at2 (m (c.tc.loc main_arg1)) (y 0).val (y 1).val := at2_of _ _ rfl rfl
    unfold Val.prodSum Val.sumAt
    pointwise []
    exact congrArg₂ (fun z w : EReal => z + w) P0 (congrArg₂ (fun z w : EReal => z * w) (at2_of _ _ rfl rfl) P1)
  · rw [(hagree c).1, (hagree c).2.1, (hagree c).2.2.1, (hagree c).2.2.2]
    funext y
    have P0 : ∀ y : NormFfnRefIdeal.S8192x1024.Idx,
        m (c.tc.loc main_arg0) y = at2 (m (c.tc.loc main_arg0)) (y 0).val (y 1).val := fun y => at2_of _ _ rfl rfl
    have P1 : ∀ y : NormFfnRefIdeal.S8192x1024.Idx,
        m (c.tc.loc main_arg1) y = at2 (m (c.tc.loc main_arg1)) (y 0).val (y 1).val := fun y => at2_of _ _ rfl rfl
    have S : ∀ (y : NormFfnRefIdeal.S8192x1024.Idx) (i : NormFfnRefIdeal.S8x6144.Idx), (i 0).val = 0 → (i 1).val = 2048 + (y 1).val →
        @HAdd.hAdd EReal EReal EReal _ (m (c.tc.loc main_arg0) y) (@HMul.hMul EReal EReal EReal _ (m (c.tc.loc main_arg3) i)
          (m (c.tc.loc main_arg1) y)) = Val.sumAt m c (y 0).val (y 1).val := fun y i h0 h1 =>
      congrArg₂ (fun z w : EReal => z + w) (P0 y) (congrArg₂ (fun z w : EReal => z * w) (at2_of _ _ h0 h1) (P1 y))
    unfold Val.prodNorm Val.normAt
    pointwise []
    refine congrArg₂ (fun z w : EReal => z + w) (congrArg₂ (fun z w : EReal => z * w) (congrArg₂ (fun z w : EReal => z * w)
      (congrArg₂ (fun z w : EReal => z * Ideal.rsqrt (Ideal.div w (Ideal.ofBits FTy.f32 1149239296#32)
        + Ideal.ofBits FTy.f32 897988541#32)) (S y _ rfl rfl) (Finset.sum_congr rfl fun k _ => ?_)) (at2_of _ _ rfl rfl))
      (congrArg (fun z : EReal => 1 + z) (at2_of _ _ rfl rfl))) (at2_of _ _ rfl rfl)
    exact congrArg₂ (fun z w : EReal => z * w) (S (ix2 (y 0) k) _ rfl rfl) (S (ix2 (y 0) k) _ rfl rfl)

end Cert.NormFfnIdeal

end
-- ==== Proof.ConvGateVal.lean ====
/-
The gated three-tap convolution over time. A block of 256 rows reads the two rows before it from a halo of
the eight rows above, zero at the first block, so its taps are the reference's padded rows; the grid has two
halves of the columns and 32 blocks of rows.
-/
module

public import proofs.«01_k».proof.Proof.Prod
public import proofs.«01_k».proof.Proof.Gen.ConvGateIdeal.Value
public import proofs.«01_k».proof.Proof.Gen.ConvGateRefIdeal.Run
public import proofs.«01_k».proof.Defs

@[expose] public section

set_option maxRecDepth 16384

noncomputable section

namespace Cert.ConvGateIdeal.Val

open Cert.ConvGateIdeal.Gen Cert.ConvGateIdeal.Value Cert.Prod
open Idealize.ShloMosaic Idealize.ShloMosaic.TcCoe Idealize.SL.Sem

variable (m : (ℓ : Loc nD τ sig) → Buf (Elt Ideal) ℓ) (c : Dev nD)

/-- A column's row `d` rows earlier, zero before the first. -/
def lag (u : ℕ → EReal) (R d : ℕ) : EReal := if d ≤ R then u (R - d) else 0

theorem lt1 : ∀ r : Fin 8, IntOp.cmpi CmpIPredicate.slt (BitVec.ofNat 32 r.val) 1#32 = if r.val < 1 then 1#1 else 0#1 := by decide +kernel
theorem lt2 : ∀ r : Fin 8, IntOp.cmpi CmpIPredicate.slt (BitVec.ofNat 32 r.val) 2#32 = if r.val < 2 then 1#1 else 0#1 := by decide +kernel
theorem isFirst : ∀ i : Fin 32, Scalar.cmpi CmpIPredicate.eq (BitVec.ofNat 32 i.val) 0#32 = if i.val = 0 then 1#1 else 0#1 := by decide +kernel

theorem tap1 (u : ℕ → EReal) (x : S256x1408.Idx → EReal) (h : S8x1408.Idx → EReal) (i : Fin 32) (r : Fin 256) (l : Fin 1408)
    (hx : ∀ q : Fin 256, x (ix2 q l) = u (i.val * 256 + q.val))
    (hh : i.val ≠ 0 → ∀ q : Fin 8, h (ix2 q l) = u (i.val * 256 - 8 + q.val)) :
    (if _ : r.val < 8 then
        Scalar.select (IntOp.cmpi CmpIPredicate.slt (BitVec.ofNat 32 r.val) 1#32)
          (Scalar.select (Scalar.cmpi CmpIPredicate.eq (BitVec.ofNat 32 i.val) 0#32) (0 : EReal)
            (h (ix2 ⟨(r.val + 8 - 1) % 8, Nat.mod_lt _ (by decide)⟩ l)))
          (x (ix2 ⟨(r.val + 256 - 1) % 256, Nat.mod_lt _ (by decide)⟩ l))
      else x (ix2 ⟨(8 + (r.val - 8) + 256 - 1) % 256, Nat.mod_lt _ (by decide)⟩ l)) = lag u (i.val * 256 + r.val) 1 := by
  unfold lag
  split
  · rename_i h8
    rw [lt1 ⟨r.val, h8⟩, isFirst i, hx]
    by_cases h1 : r.val < 1
    · by_cases h0 : i.val = 0
      · rw [if_pos h1, if_pos h0, if_neg (by omega)]; rfl
      · rw [if_pos h1, if_neg h0, hh h0, if_pos (by omega)]
        exact congrArg u (by dsimp only; omega)
    · rw [if_neg h1, if_pos (show 1 ≤ i.val * 256 + r.val by omega)]
      exact congrArg u (show i.val * 256 + (r.val + 256 - 1) % 256 = i.val * 256 + r.val - 1 by omega)
  · rw [hx, if_pos (by omega)]
    exact congrArg u (by dsimp only; omega)

theorem tap2 (u : ℕ → EReal) (x : S256x1408.Idx → EReal) (h : S8x1408.Idx → EReal) (i : Fin 32) (r : Fin 256) (l : Fin 1408)
    (hx : ∀ q : Fin 256, x (ix2 q l) = u (i.val * 256 + q.val))
    (hh : i.val ≠ 0 → ∀ q : Fin 8, h (ix2 q l) = u (i.val * 256 - 8 + q.val)) :
    (if _ : r.val < 8 then
        Scalar.select (IntOp.cmpi CmpIPredicate.slt (BitVec.ofNat 32 r.val) 2#32)
          (Scalar.select (Scalar.cmpi CmpIPredicate.eq (BitVec.ofNat 32 i.val) 0#32) (0 : EReal)
            (h (ix2 ⟨(r.val + 8 - 2) % 8, Nat.mod_lt _ (by decide)⟩ l)))
          (x (ix2 ⟨(r.val + 256 - 2) % 256, Nat.mod_lt _ (by decide)⟩ l))
      else x (ix2 ⟨(8 + (r.val - 8) + 256 - 2) % 256, Nat.mod_lt _ (by decide)⟩ l)) = lag u (i.val * 256 + r.val) 2 := by
  unfold lag
  split
  · rename_i h8
    rw [lt2 ⟨r.val, h8⟩, isFirst i, hx]
    by_cases h1 : r.val < 2
    · by_cases h0 : i.val = 0
      · rw [if_pos h1, if_pos h0, if_neg (by omega)]; rfl
      · rw [if_pos h1, if_neg h0, hh h0, if_pos (by omega)]
        exact congrArg u (by dsimp only; omega)
    · rw [if_neg h1, if_pos (show 2 ≤ i.val * 256 + r.val by omega)]
      exact congrArg u (show i.val * 256 + (r.val + 256 - 2) % 256 = i.val * 256 + r.val - 2 by omega)
  · rw [hx, if_pos (by omega)]
    exact congrArg u (by dsimp only; omega)

/-- The convolution at a row and a column. -/
def convAt (R C : ℕ) : EReal :=
  at2 (m (c.tc.loc main_arg2)) 0 C +
    ((at2 (m (c.tc.loc main_arg1)) 0 C * lag (fun R => at2 (m (c.tc.loc main_arg0)) R C) R 2
      + at2 (m (c.tc.loc main_arg1)) 1 C * lag (fun R => at2 (m (c.tc.loc main_arg0)) R C) R 1)
      + at2 (m (c.tc.loc main_arg1)) 2 C * at2 (m (c.tc.loc main_arg0)) R C)

/-- The gated result. -/
def prod (y : S8192x2816.Idx) : EReal :=
  convAt m c (y 0).val (y 1).val * Ideal.logistic (convAt m c (y 0).val (y 1).val) * convAt m c (y 0).val (2816 + (y 1).val)

theorem coord : ∀ t : Fin cfg0.N, (grid0.coords t 1).val = t.val % 32 := (by decide +kernel : ∀ t : Fin grid0.N, _)

theorem idx : ∀ t : Fin cfg0.N, win0_0.index t = ![t.val % 32, t.val / 32] ∧ win0_1.index t = ![t.val % 32 * 32 - 1, t.val / 32]
    ∧ win0_2.index t = ![t.val % 32, t.val / 32 + 2] ∧ win0_3.index t = ![t.val % 32 * 32 - 1, t.val / 32 + 2]
    ∧ win0_4.index t = ![0, t.val / 32] ∧ win0_5.index t = ![0, t.val / 32 + 2]
    ∧ win0_6.index t = ![0, t.val / 32] ∧ win0_7.index t = ![0, t.val / 32 + 2] ∧ win0_8.index t = ![t.val % 32, t.val / 32] :=
  (by decide +kernel : ∀ t : Fin grid0.N, _)

section
variable (t : Fin cfg0.N) (l : Fin 1408)

theorem read0 (q : Fin 256) : iblk m c 0 t (ix2 q l) = at2 (m (c.tc.loc main_arg0)) (t.val % 32 * 256 + q.val) (t.val / 32 * 1408 + l.val) := by
  obtain ⟨e, -⟩ := idx t
  show V m c main_arg0 (((cfg0.win 0).blk t).view.emb (ix2 q l)) = _
  rw [V_main_arg0]
  exact at2_of _ _ (show win0_0.index t 0 * 256 + 1 * q.val = _ by rw [e, one_mul]; rfl)
    (show win0_0.index t 1 * 1408 + 1 * l.val = _ by rw [e, one_mul]; rfl)

theorem read2 (q : Fin 256) : iblk m c 2 t (ix2 q l) = at2 (m (c.tc.loc main_arg0)) (t.val % 32 * 256 + q.val) (2816 + (t.val / 32 * 1408 + l.val)) := by
  obtain ⟨-, -, e, -⟩ := idx t
  show V m c main_arg0 (((cfg0.win 2).blk t).view.emb (ix2 q l)) = _
  rw [V_main_arg0]
  exact at2_of _ _ (show win0_2.index t 0 * 256 + 1 * q.val = _ by rw [e, one_mul]; rfl)
    (show win0_2.index t 1 * 1408 + 1 * l.val = _ by rw [e, one_mul]; show (t.val / 32 + 2) * 1408 + l.val = _; omega)

theorem read1 (h : t.val % 32 ≠ 0) (q : Fin 8) : iblk m c 1 t (ix2 q l) = at2 (m (c.tc.loc main_arg0)) (t.val % 32 * 256 - 8 + q.val) (t.val / 32 * 1408 + l.val) := by
  obtain ⟨-, e, -⟩ := idx t
  show V m c main_arg0 (((cfg0.win 1).blk t).view.emb (ix2 q l)) = _
  rw [V_main_arg0]
  exact at2_of _ _ (show win0_1.index t 0 * 8 + 1 * q.val = _ by rw [e, one_mul]; show (t.val % 32 * 32 - 1) * 8 + q.val = _; omega)
    (show win0_1.index t 1 * 1408 + 1 * l.val = _ by rw [e, one_mul]; rfl)

theorem read3 (h : t.val % 32 ≠ 0) (q : Fin 8) : iblk m c 3 t (ix2 q l) = at2 (m (c.tc.loc main_arg0)) (t.val % 32 * 256 - 8 + q.val) (2816 + (t.val / 32 * 1408 + l.val)) := by
  obtain ⟨-, -, -, e, -⟩ := idx t
  show V m c main_arg0 (((cfg0.win 3).blk t).view.emb (ix2 q l)) = _
  rw [V_main_arg0]
  exact at2_of _ _ (show win0_3.index t 0 * 8 + 1 * q.val = _ by rw [e, one_mul]; show (t.val % 32 * 32 - 1) * 8 + q.val = _; omega)
    (show win0_3.index t 1 * 1408 + 1 * l.val = _ by rw [e, one_mul]; show (t.val / 32 + 2) * 1408 + l.val = _; omega)

theorem read4 (q : Fin 3) : iblk m c 4 t (ix2 q l) = at2 (m (c.tc.loc main_arg1)) q.val (t.val / 32 * 1408 + l.val) := by
  obtain ⟨-, -, -, -, e, -⟩ := idx t
  show V m c main_arg1 (((cfg0.win 4).blk t).view.emb (ix2 q l)) = _
  rw [V_main_arg1]
  exact at2_of _ _ (show win0_4.index t 0 * 3 + 1 * q.val = _ by rw [e, one_mul]; exact Nat.zero_add _)
    (show win0_4.index t 1 * 1408 + 1 * l.val = _ by rw [e, one_mul]; rfl)

theorem read5 (q : Fin 3) : iblk m c 5 t (ix2 q l) = at2 (m (c.tc.loc main_arg1)) q.val (2816 + (t.val / 32 * 1408 + l.val)) := by
  obtain ⟨-, -, -, -, -, e, -⟩ := idx t
  show V m c main_arg1 (((cfg0.win 5).blk t).view.emb (ix2 q l)) = _
  rw [V_main_arg1]
  exact at2_of _ _ (show win0_5.index t 0 * 3 + 1 * q.val = _ by rw [e, one_mul]; exact Nat.zero_add _)
    (show win0_5.index t 1 * 1408 + 1 * l.val = _ by rw [e, one_mul]; show (t.val / 32 + 2) * 1408 + l.val = _; omega)

theorem read6 (q : Fin 1) : iblk m c 6 t (ix2 q l) = at2 (m (c.tc.loc main_arg2)) q.val (t.val / 32 * 1408 + l.val) := by
  obtain ⟨-, -, -, -, -, -, e, -⟩ := idx t
  show V m c main_arg2 (((cfg0.win 6).blk t).view.emb (ix2 q l)) = _
  rw [V_main_arg2]
  exact at2_of _ _ (show win0_6.index t 0 * 1 + 1 * q.val = _ by rw [e, one_mul]; exact Nat.zero_add _)
    (show win0_6.index t 1 * 1408 + 1 * l.val = _ by rw [e, one_mul]; rfl)

theorem read7 (q : Fin 1) : iblk m c 7 t (ix2 q l) = at2 (m (c.tc.loc main_arg2)) q.val (2816 + (t.val / 32 * 1408 + l.val)) := by
  obtain ⟨-, -, -, -, -, -, -, e, -⟩ := idx t
  show V m c main_arg2 (((cfg0.win 7).blk t).view.emb (ix2 q l)) = _
  rw [V_main_arg2]
  exact at2_of _ _ (show win0_7.index t 0 * 1 + 1 * q.val = _ by rw [e, one_mul]; exact Nat.zero_add _)
    (show win0_7.index t 1 * 1408 + 1 * l.val = _ by rw [e, one_mul]; show (t.val / 32 + 2) * 1408 + l.val = _; omega)

end

theorem final : (dats m 0 c).arrAt 8 cfg0.N = prod m c := by
  refine (dats m 0 c).arrAt_eq_of_covers 8 _ (by decide +kernel) fun t hf y => ?_
  obtain ⟨-, -, -, -, -, -, -, -, e⟩ := idx t
  obtain ⟨i, hi⟩ : ∃ i : Fin 32, i = grid0.coords t 1 := ⟨_, rfl⟩
  have hv : i.val = t.val % 32 := by rw [hi]; exact coord t
  obtain ⟨r, l, rfl⟩ : ∃ (r : Fin 256) (l : Fin 1408), y = ix2 r l := ⟨y 0, y 1, ext2 rfl rfl⟩
  have E0 : (((cfg0.win 8).blk t).view.emb (ix2 r l) 0).val = i.val * 256 + r.val :=
    show win0_8.index t 0 * 256 + 1 * r.val = _ by rw [e, one_mul, hv]; rfl
  have E1 : (((cfg0.win 8).blk t).view.emb (ix2 r l) 1).val = t.val / 32 * 1408 + l.val :=
    show win0_8.index t 1 * 1408 + 1 * l.val = _ by rw [e, one_mul]; rfl
  have X0 : ∀ q : Fin 256, iblk m c 0 t (ix2 q l) = at2 (m (c.tc.loc main_arg0)) (i.val * 256 + q.val) (t.val / 32 * 1408 + l.val) := by
    rw [hv]; exact read0 m c t l
  have X2 : ∀ q : Fin 256, iblk m c 2 t (ix2 q l) = at2 (m (c.tc.loc main_arg0)) (i.val * 256 + q.val) (2816 + (t.val / 32 * 1408 + l.val)) := by
    rw [hv]; exact read2 m c t l
  have H1 : i.val ≠ 0 → ∀ q : Fin 8, iblk m c 1 t (ix2 q l) = at2 (m (c.tc.loc main_arg0)) (i.val * 256 - 8 + q.val) (t.val / 32 * 1408 + l.val) := by
    rw [hv]; exact read1 m c t l
  have H3 : i.val ≠ 0 → ∀ q : Fin 8, iblk m c 3 t (ix2 q l) = at2 (m (c.tc.loc main_arg0)) (i.val * 256 - 8 + q.val) (2816 + (t.val / 32 * 1408 + l.val)) := by
    rw [hv]; exact read3 m c t l
  have P0 := X0 r
  have P2 := X2 r
  rw [prod, E0, E1]
  unfold convAt
  blk_simp
  rw [after0_8]
  frame_out
  unfold k0_pay3 k0_pay2 k0_pay1
  pointwise []
  rw [← hi]
  exact congrArg₂ (fun z w : EReal => z * Ideal.logistic z * w)
    (congrArg₂ (fun z w : EReal => z + w) (read6 m c t l 0) (congrArg₂ (fun z w : EReal => z + w)
      (congrArg₂ (fun z w : EReal => z + w)
        (congrArg₂ (fun z w : EReal => z * w) (read4 m c t l 0) (tap2 (fun R => at2 (m (c.tc.loc main_arg0)) R (t.val / 32 * 1408 + l.val)) (iblk m c 0 t) (iblk m c 1 t) i r l X0 H1))
        (congrArg₂ (fun z w : EReal => z * w) (read4 m c t l 1) (tap1 (fun R => at2 (m (c.tc.loc main_arg0)) R (t.val / 32 * 1408 + l.val)) (iblk m c 0 t) (iblk m c 1 t) i r l X0 H1)))
      (congrArg₂ (fun z w : EReal => z * w) (read4 m c t l 2) P0)))
    (congrArg₂ (fun z w : EReal => z + w) (read7 m c t l 0) (congrArg₂ (fun z w : EReal => z + w)
      (congrArg₂ (fun z w : EReal => z + w)
        (congrArg₂ (fun z w : EReal => z * w) (read5 m c t l 0) (tap2 (fun R => at2 (m (c.tc.loc main_arg0)) R (2816 + (t.val / 32 * 1408 + l.val))) (iblk m c 2 t) (iblk m c 3 t) i r l X2 H3))
        (congrArg₂ (fun z w : EReal => z * w) (read5 m c t l 1) (tap1 (fun R => at2 (m (c.tc.loc main_arg0)) R (2816 + (t.val / 32 * 1408 + l.val))) (iblk m c 2 t) (iblk m c 3 t) i r l X2 H3)))
      (congrArg₂ (fun z w : EReal => z * w) (read5 m c t l 2) P2)))

end Cert.ConvGateIdeal.Val

namespace Cert.ConvGateIdeal

open Cert.Prod Idealize.ShloMosaic Idealize.ShloMosaic.TcCoe Idealize.SL.Sem

theorem frame_ref : @Cert.quiescent_ConvGateRefIdeal ConvGateRefIdeal.Gen.facts := fun m ρ _ =>
  (θ_run ConvGateRefIdeal.defs _ _).mono (fun r h => ⟨fun c => (h c).2, sem_eq_zero_of_no_sems (by decide) r.2⟩)
    (ConvGateRefIdeal.Value.run (F := Ideal) m ρ)

/-- A padded column's entry is the column's row so much earlier. -/
theorem padLag (u : ℕ → EReal) (R d : ℕ) (P : Prop) [Decidable P] (f : P → EReal) (hP : P ↔ d ≤ R) (hf : ∀ h, f h = u (R - d)) :
    (if h : P then f h else FloatOps.sitofp (F := Ideal) FTy.f32 0#32) = Val.lag u R d := by
  unfold Val.lag
  by_cases h : P
  · rw [dif_pos h, if_pos (hP.1 h), hf]
  · rw [dif_neg h, if_neg fun g => h (hP.2 g)]
    show (((0#32 : BitVec 32).toInt : ℝ) : EReal) = 0
    simp

/-- Where a place of the padded array lies inside the array. -/
theorem inside {a b : ℕ} (p : Fin a) (q : Fin b) (d R : ℕ) (hp : p.val + d = R + 2) (hR : R < 8192) (hq : q.val < 5632) :
    (∀ e : Fin 2, ![2, 0] e ≤ (ix2 p q e).val ∧ ((ix2 p q e).val - ![2, 0] e) % (![0, 0] e + 1) = 0
      ∧ ((ix2 p q e).val - ![2, 0] e) / (![0, 0] e + 1) < (![8192, 5632] : Fin 2 → ℕ) e) ↔ d ≤ R := by
  refine ⟨fun h => ?_, fun h e => ?_⟩
  · have h0 : 2 ≤ p.val := (h 0).1
    omega
  · fin_cases e
    · exact ⟨show 2 ≤ p.val by omega, show (p.val - 2) % 1 = 0 by omega, show (p.val - 2) / 1 < 8192 by rw [Nat.div_one]; omega⟩
    · exact ⟨Nat.zero_le _, show (q.val - 0) % 1 = 0 by omega, show (q.val - 0) / 1 < 5632 by rw [Nat.div_one]; omega⟩

theorem same : @Cert.algebraic_ConvGateIdeal_ConvGateRefIdeal Gen.facts ConvGateRefIdeal.Gen.facts := by
  intro m g m' g' _ hagree
  refine ⟨Val.prod m,
    (θ_run defs _ _).mono (fun r h c => ⟨(h c).1.trans (Val.final m c), (h c).2⟩) (Value.run_blocks m g),
    (θ_run ConvGateRefIdeal.defs _ _).mono (fun r h c => ⟨(h c).1.trans ?_, (h c).2⟩) (ConvGateRefIdeal.Value.run m' g')⟩
  clear h
  unfold ConvGateRefIdeal.Value.res_main_v26
  rw [(hagree c).1, (hagree c).2.1, (hagree c).2.2]
  funext y
  unfold Val.prod Val.convAt
  pointwise []
  have hR : (y 0).val < 8192 := (y 0).isLt
  have hC : (y 1).val < 2816 := (y 1).isLt
  have key : ∀ (z z' : EReal) (_ : z = z') (w w' : EReal) (_ : w = w'),
      z * Ideal.div 1 (1 + Ideal.exp (-z)) * w = z' * Ideal.logistic z' * w' := by
    rintro z _ rfl w _ rfl
    rfl
  refine key _ _ ?_ _ _ ?_
  all_goals
    refine congrArg₂ (fun z w : EReal => z + w) (at2_of _ _ rfl rfl) (congrArg₂ (fun z w : EReal => z + w)
      (congrArg₂ (fun z w : EReal => z + w)
        (congrArg₂ (fun z w : EReal => z * w) (at2_of _ _ rfl rfl) (padLag _ _ 2 _ _ ?_ fun h => at2_of _ _ rfl rfl))
        (congrArg₂ (fun z w : EReal => z * w) (at2_of _ _ rfl rfl) (padLag _ _ 1 _ _ ?_ fun h => at2_of _ _ ?_ rfl)))
      (congrArg₂ (fun z w : EReal => z * w) (at2_of _ _ rfl rfl) (at2_of _ _ rfl rfl)))
  · exact inside _ _ 2 (y 0).val rfl hR (show (y 1).val < 5632 by omega)
  · exact inside _ _ 1 (y 0).val (show 1 + (y 0).val + 1 = _ by omega) hR (show (y 1).val < 5632 by omega)
  · show 1 + (y 0).val - 2 = (y 0).val - 1
    omega
  · exact inside _ _ 2 (y 0).val rfl hR (show 2816 + (y 1).val < 5632 by omega)
  · exact inside _ _ 1 (y 0).val (show 1 + (y 0).val + 1 = _ by omega) hR (show 2816 + (y 1).val < 5632 by omega)
  · show 1 + (y 0).val - 2 = (y 0).val - 1
    omega

end Cert.ConvGateIdeal

end
-- ==== Proof.NormMix1Val.lean ====
/-
The gated residual and its modulated normalization, by blocks of 256 rows. A row is normalized by itself, so
each block is the reference's own rows; the gate, the scale and the shift are three blocks of one row.
-/
module

public import proofs.«01_k».proof.Proof.Prod
public import proofs.«01_k».proof.Proof.Gen.NormMix1Ideal.Value
public import proofs.«01_k».proof.Proof.Gen.NormMix1RefIdeal.Run
public import proofs.«01_k».proof.Defs

@[expose] public section

set_option maxRecDepth 16384

noncomputable section

namespace Cert.NormMix1Ideal.Val

open Cert.NormMix1Ideal.Gen Cert.NormMix1Ideal.Value Cert.Prod
open Idealize.ShloMosaic Idealize.ShloMosaic.TcCoe Idealize.SL.Sem

variable (m : (ℓ : Loc nD τ sig) → Buf (Elt Ideal) ℓ) (c : Dev nD)

/-- The residual stream with the gated branch added, at a row and a column. -/
def sumAt (R C : ℕ) : EReal :=
  at2 (m (c.tc.loc main_arg0)) R C + at2 (m (c.tc.loc main_arg3)) 0 (5120 + C) * at2 (m (c.tc.loc main_arg1)) R C

/-- Its normalized and modulated form. -/
def normAt (R C : ℕ) : EReal :=
  sumAt m c R C * Ideal.rsqrt (Ideal.div (∑ k : Fin 1024, sumAt m c R k.val * sumAt m c R k.val) (Ideal.ofBits FTy.f32 1149239296#32)
      + Ideal.ofBits FTy.f32 897988541#32) * at2 (m (c.tc.loc main_arg2)) 0 C * (1 + at2 (m (c.tc.loc main_arg4)) 0 (1024 + C))
    + at2 (m (c.tc.loc main_arg4)) 0 C

def prodSum (y : S8192x1024.Idx) : EReal := sumAt m c (y 0).val (y 1).val

def prodNorm (y : S8192x1024.Idx) : EReal := normAt m c (y 0).val (y 1).val

theorem idx : ∀ t : Fin cfg0.N, win0_0.index t = ![t.val, 0] ∧ win0_1.index t = ![t.val, 0] ∧ win0_2.index t = ![0, 5]
    ∧ win0_3.index t = ![0, 0] ∧ win0_4.index t = ![0, 1] ∧ win0_5.index t = ![0, 0] ∧ win0_6.index t = ![t.val, 0]
    ∧ win0_7.index t = ![t.val, 0] :=
  (by decide +kernel : ∀ t : Fin grid0.N, _)

variable (t : Fin cfg0.N) (r : Fin 256) (k : Fin 1024)

theorem read0 : iblk m c 0 t (ix2 r k) = at2 (m (c.tc.loc main_arg0)) (t.val * 256 + r.val) k.val := by
  obtain ⟨e, -⟩ := idx t
  show V m c main_arg0 (((cfg0.win 0).blk t).view.emb (ix2 r k)) = _
  rw [V_main_arg0]
  exact at2_of _ _ (show win0_0.index t 0 * 256 + 1 * r.val = _ by rw [e, one_mul]; rfl)
    (show win0_0.index t 1 * 1024 + 1 * k.val = _ by rw [e, one_mul]; exact Nat.zero_add _)

theorem read1 : iblk m c 1 t (ix2 r k) = at2 (m (c.tc.loc main_arg1)) (t.val * 256 + r.val) k.val := by
  obtain ⟨-, e, -⟩ := idx t
  show V m c main_arg1 (((cfg0.win 1).blk t).view.emb (ix2 r k)) = _
  rw [V_main_arg1]
  exact at2_of _ _ (show win0_1.index t 0 * 256 + 1 * r.val = _ by rw [e, one_mul]; rfl)
    (show win0_1.index t 1 * 1024 + 1 * k.val = _ by rw [e, one_mul]; exact Nat.zero_add _)

theorem read2 : iblk m c 2 t (ix2 0 k) = at2 (m (c.tc.loc main_arg3)) 0 (5120 + k.val) := by
  obtain ⟨-, -, e, -⟩ := idx t
  show V m c main_arg3 (((cfg0.win 2).blk t).view.emb (ix2 0 k)) = _
  rw [V_main_arg3]
  exact at2_of _ _ (show win0_2.index t 0 * 8 + 1 * 0 = _ by rw [e]; rfl)
    (show win0_2.index t 1 * 1024 + 1 * k.val = _ by rw [e, one_mul]; rfl)

theorem read3 : iblk m c 3 t (ix2 0 k) = at2 (m (c.tc.loc main_arg2)) 0 k.val := by
  obtain ⟨-, -, -, e, -⟩ := idx t
  show V m c main_arg2 (((cfg0.win 3).blk t).view.emb (ix2 0 k)) = _
  rw [V_main_arg2]
  exact at2_of _ _ (show win0_3.index t 0 * 1 + 1 * 0 = _ by rw [e]; rfl)
    (show win0_3.index t 1 * 1024 + 1 * k.val = _ by rw [e, one_mul]; exact Nat.zero_add _)

theorem read4 : iblk m c 4 t (ix2 0 k) = at2 (m (c.tc.loc main_arg4)) 0 (1024 + k.val) := by
  obtain ⟨-, -, -, -, e, -⟩ := idx t
  show V m c main_arg4 (((cfg0.win 4).blk t).view.emb (ix2 0 k)) = _
  rw [V_main_arg4]
  exact at2_of _ _ (show win0_4.index t 0 * 8 + 1 * 0 = _ by rw [e]; rfl)
    (show win0_4.index t 1 * 1024 + 1 * k.val = _ by rw [e, one_mul]; rfl)

theorem read5 : iblk m c 5 t (ix2 0 k) = at2 (m (c.tc.loc main_arg4)) 0 k.val := by
  obtain ⟨-, -, -, -, -, e, -⟩ := idx t
  show V m c main_arg4 (((cfg0.win 5).blk t).view.emb (ix2 0 k)) = _
  rw [V_main_arg4]
  exact at2_of _ _ (show win0_5.index t 0 * 8 + 1 * 0 = _ by rw [e]; rfl)
    (show win0_5.index t 1 * 1024 + 1 * k.val = _ by rw [e, one_mul]; exact Nat.zero_add _)

theorem final_sum : (dats m 0 c).arrAt 6 cfg0.N = prodSum m c := by
  refine (dats m 0 c).arrAt_eq_of_covers 6 _ (by decide +kernel) fun t hf y => ?_
  obtain ⟨-, -, -, -, -, -, e, -⟩ := idx t
  have E0 : (((cfg0.win 6).blk t).view.emb y 0).val = t.val * 256 + (y 0).val :=
    show win0_6.index t 0 * 256 + 1 * (y 0).val = _ by rw [e, one_mul]; rfl
  have E1 : (((cfg0.win 6).blk t).view.emb y 1).val = (y 1).val :=
    show win0_6.index t 1 * 1024 + 1 * (y 1).val = _ by rw [e, one_mul]; exact Nat.zero_add _
  have P0 : iblk m c 0 t y = at2 (m (c.tc.loc main_arg0)) (t.val * 256 + (y 0).val) (y 1).val :=
    (congrArg (iblk m c 0 t) (show y = ix2 (show Fin 256 from y 0) (show Fin 1024 from y 1) from ext2 rfl rfl)).trans (read0 m c t (y 0) (y 1))
  have P1 : iblk m c 1 t y = at2 (m (c.tc.loc main_arg1)) (t.val * 256 + (y 0).val) (y 1).val :=
    (congrArg (iblk m c 1 t) (show y = ix2 (show Fin 256 from y 0) (show Fin 1024 from y 1) from ext2 rfl rfl)).trans (read1 m c t (y 0) (y 1))
  have P2 : iblk m c 2 t (ix2 0 (y 1)) = at2 (m (c.tc.loc main_arg3)) 0 (5120 + (y 1).val) := read2 m c t (y 1)
  rw [prodSum, E0, E1, sumAt]
  blk_simp
  rw [after0_6]
  frame_out
  unfold k0_pay1
  pointwise []
  rw [P0, P1, P2]

theorem final_norm : (dats m 0 c).arrAt 7 cfg0.N = prodNorm m c := by
  refine (dats m 0 c).arrAt_eq_of_covers 7 _ (by decide +kernel) fun t hf y => ?_
  obtain ⟨-, -, -, -, -, -, -, e⟩ := idx t
  have E0 : (((cfg0.win 7).blk t).view.emb y 0).val = t.val * 256 + (y 0).val :=
    show win0_7.index t 0 * 256 + 1 * (y 0).val = _ by rw [e, one_mul]; rfl
  have E1 : (((cfg0.win 7).blk t).view.emb y 1).val = (y 1).val :=
    show win0_7.index t 1 * 1024 + 1 * (y 1).val = _ by rw [e, one_mul]; exact Nat.zero_add _
  have P0 : iblk m c 0 t y = at2 (m (c.tc.loc main_arg0)) (t.val * 256 + (y 0).val) (y 1).val :=
    (congrArg (iblk m c 0 t) (show y = ix2 (show Fin 256 from y 0) (show Fin 1024 from y 1) from ext2 rfl rfl)).trans (read0 m c t (y 0) (y 1))
  have P1 : iblk m c 1 t y = at2 (m (c.tc.loc main_arg1)) (t.val * 256 + (y 0).val) (y 1).val :=
    (congrArg (iblk m c 1 t) (show y = ix2 (show Fin 256 from y 0) (show Fin 1024 from y 1) from ext2 rfl rfl)).trans (read1 m c t (y 0) (y 1))
  have Q0 : ∀ k : Fin 1024, iblk m c 0 t (ix2 (y 0) k) = at2 (m (c.tc.loc main_arg0)) (t.val * 256 + (y 0).val) k.val :=
    fun k => read0 m c t (y 0) k
  have Q1 : ∀ k : Fin 1024, iblk m c 1 t (ix2 (y 0) k) = at2 (m (c.tc.loc main_arg1)) (t.val * 256 + (y 0).val) k.val :=
    fun k => read1 m c t (y 0) k
  have Q2 : ∀ k : Fin 1024, iblk m c 2 t (ix2 0 k) = at2 (m (c.tc.loc main_arg3)) 0 (5120 + k.val) := fun k => read2 m c t k
  have P2 : iblk m c 2 t (ix2 0 (y 1)) = at2 (m (c.tc.loc main_arg3)) 0 (5120 + (y 1).val) := read2 m c t (y 1)
  have P3 : iblk m c 3 t (ix2 0 (y 1)) = at2 (m (c.tc.loc main_arg2)) 0 (y 1).val := read3 m c t (y 1)
  have P4 : iblk m c 4 t (ix2 0 (y 1)) = at2 (m (c.tc.loc main_arg4)) 0 (1024 + (y 1).val) := read4 m c t (y 1)
  have P5 : iblk m c 5 t (ix2 0 (y 1)) = at2 (m (c.tc.loc main_arg4)) 0 (y 1).val := read5 m c t (y 1)
  rw [prodNorm, E0, E1]
  unfold normAt sumAt
  blk_simp
  rw [after0_7]
  frame_out
  unfold k0_pay2 k0_pay1
  pointwise []
  rw [P0, P1, P2, P3, P4, P5]
  simp only [Q0, Q1, Q2]

end Cert.NormMix1Ideal.Val

namespace Cert.NormMix1Ideal

open Cert.Prod Idealize.ShloMosaic Idealize.ShloMosaic.TcCoe Idealize.SL.Sem

theorem frame_ref : @Cert.quiescent_NormMix1RefIdeal NormMix1RefIdeal.Gen.facts := fun m ρ _ =>
  (θ_run NormMix1RefIdeal.defs _ _).mono (fun r h => ⟨fun c => (h c).2.2, sem_eq_zero_of_no_sems (by decide) r.2⟩)
    (NormMix1RefIdeal.Value.run (F := Ideal) m ρ)

theorem same : @Cert.algebraic_NormMix1Ideal_NormMix1RefIdeal Gen.facts NormMix1RefIdeal.Gen.facts := by
  intro m g m' g' _ hagree
  refine ⟨Val.prodSum m, Val.prodNorm m,
    (θ_run defs _ _).mono (fun r h c => ⟨(h c).1.trans (Val.final_sum m c), (h c).2.1.trans (Val.final_norm m c), (h c).2.2⟩)
      (Value.run_blocks m g),
    (θ_run NormMix1RefIdeal.defs _ _).mono (fun r h c => ⟨(h c).1.trans ?_, (h c).2.1.trans ?_, (h c).2.2⟩)
      (NormMix1RefIdeal.Value.run m' g')⟩
  · rw [(hagree c).1, (hagree c).2.1, (hagree c).2.2.2.1]
    funext y
    have P0 : m (c.tc.loc main_arg0) y = at2 (m (c.tc.loc main_arg0)) (y 0).val (y 1).val := at2_of _ _ rfl rfl
    have P1 : m (c.tc.loc main_arg1) y = at2 (m (c.tc.loc main_arg1)) (y 0).val (y 1).val := at2_of _ _ rfl rfl
    unfold Val.prodSum Val.sumAt
    pointwise []
    exact congrArg₂ (fun z w : EReal => z + w) P0 (congrArg₂ (fun z w : EReal => z * w) (at2_of _ _ rfl rfl) P1)
  · rw [(hagree c).1, (hagree c).2.1, (hagree c).2.2.1, (hagree c).2.2.2.1, (hagree c).2.2.2.2]
    funext y
    have P0 : ∀ y : NormMix1RefIdeal.S8192x1024.Idx,
        m (c.tc.loc main_arg0) y = at2 (m (c.tc.loc main_arg0)) (y 0).val (y 1).val := fun y => at2_of _ _ rfl rfl
    have P1 : ∀ y : NormMix1RefIdeal.S8192x1024.Idx,
        m (c.tc.loc main_arg1) y = at2 (m (c.tc.loc main_arg1)) (y 0).val (y 1).val := fun y => at2_of _ _ rfl rfl
    have S : ∀ (y : NormMix1RefIdeal.S8192x1024.Idx) (i : NormMix1RefIdeal.S8x6144.Idx), (i 0).val = 0 → (i 1).val = 5120 + (y 1).val →
        @HAdd.hAdd EReal EReal EReal _ (m (c.tc.loc main_arg0) y) (@HMul.hMul EReal EReal EReal _ (m (c.tc.loc main_arg3) i)
          (m (c.tc.loc main_arg1) y)) = Val.sumAt m c (y 0).val (y 1).val := fun y i h0 h1 =>
      congrArg₂ (fun z w : EReal => z + w) (P0 y) (congrArg₂ (fun z w : EReal => z * w) (at2_of _ _ h0 h1) (P1 y))
    unfold Val.prodNorm Val.normAt
    pointwise []
    refine congrArg₂ (fun z w : EReal => z + w) (congrArg₂ (fun z w : EReal => z * w) (congrArg₂ (fun z w : EReal => z * w)
      (congrArg₂ (fun z w : EReal => z * Ideal.rsqrt (Ideal.div w (Ideal.ofBits FTy.f32 1149239296#32)
        + Ideal.ofBits FTy.f32 897988541#32)) (S y _ rfl rfl) (Finset.sum_congr rfl fun k _ => ?_)) (at2_of _ _ rfl rfl))
      (congrArg (fun z : EReal => 1 + z) (at2_of _ _ rfl rfl))) (at2_of _ _ rfl rfl)
    exact congrArg₂ (fun z w : EReal => z * w) (S (ix2 (y 0) k) _ rfl rfl) (S (ix2 (y 0) k) _ rfl rfl)

end Cert.NormMix1Ideal

end
-- ==== Proof.GlaOutVal.lean ====
/-
The normalized and gated output of the linear attention: each head's row of 256 columns is normalized by itself
and gated by the projection's own columns. A block has 256 rows and is stored head by head.
-/
module

public import proofs.«01_k».proof.Proof.Prod
public import proofs.«01_k».proof.Proof.Gen.GlaOutIdeal.Value
public import proofs.«01_k».proof.Proof.Gen.GlaOutRefIdeal.Run
public import proofs.«01_k».proof.Defs

@[expose] public section

set_option maxRecDepth 16384

noncomputable section

namespace Cert.GlaOutIdeal.Val

open Cert.GlaOutIdeal.Gen Cert.GlaOutIdeal.Value Cert.Prod
open Idealize.ShloMosaic Idealize.ShloMosaic.TcCoe Idealize.SL.Sem

variable (m : (ℓ : Loc nD τ sig) → Buf (Elt Ideal) ℓ) (c : Dev nD)

/-- The output at a row and a column. -/
def outAt (R C : ℕ) : EReal :=
  at2 (m (c.tc.loc main_arg0)) R C * Ideal.rsqrt (Ideal.div (∑ k : Fin 256, at2 (m (c.tc.loc main_arg0)) R (C / 256 * 256 + k.val)
      * at2 (m (c.tc.loc main_arg0)) R (C / 256 * 256 + k.val)) (Ideal.ofBits FTy.f32 1132462080#32) + Ideal.ofBits FTy.f32 897988541#32)
    * at2 (m (c.tc.loc main_arg2)) 0 (C % 256)
    * (at2 (m (c.tc.loc main_arg1)) R (2048 + C) * Ideal.logistic (at2 (m (c.tc.loc main_arg1)) R (2048 + C)))

def prod (y : S8192x1024.Idx) : EReal := outAt m c (y 0).val (y 1).val

theorem idx : ∀ t : Fin cfg0.N, win0_0.index t = ![t.val, 0] ∧ win0_1.index t = ![t.val, 2] ∧ win0_2.index t = ![0, 0]
    ∧ win0_3.index t = ![t.val, 0] :=
  (by decide +kernel : ∀ t : Fin grid0.N, _)

section
variable (t : Fin cfg0.N) (r : Fin 256)

theorem read0 (k : Fin 1024) : iblk m c 0 t (ix2 r k) = at2 (m (c.tc.loc main_arg0)) (t.val * 256 + r.val) k.val := by
  obtain ⟨e, -⟩ := idx t
  show V m c main_arg0 (((cfg0.win 0).blk t).view.emb (ix2 r k)) = _
  rw [V_main_arg0]
  exact at2_of _ _ (show win0_0.index t 0 * 256 + 1 * r.val = _ by rw [e, one_mul]; rfl)
    (show win0_0.index t 1 * 1024 + 1 * k.val = _ by rw [e, one_mul]; exact Nat.zero_add _)

theorem read1 (k : Fin 1024) : X0_1 m c t (ix2 r k) = at2 (m (c.tc.loc main_arg1)) (t.val * 256 + r.val) (2048 + k.val) := by
  obtain ⟨-, e, -⟩ := idx t
  unfold X0_1 Pipeline.Window.fill
  rw [dif_pos (moved0_1 t _)]
  show V m c main_arg1 (((cfg0.win 1).blk t).view.emb _) = _
  rw [V_main_arg1]
  exact at2_of _ _ (show win0_1.index t 0 * 256 + 1 * r.val = _ by rw [e, one_mul]; rfl)
    (show win0_1.index t 1 * 1024 + 1 * k.val = _ by rw [e, one_mul]; rfl)

theorem read2 (k : Fin 256) : iblk m c 2 t (ix2 0 k) = at2 (m (c.tc.loc main_arg2)) 0 k.val := by
  obtain ⟨-, -, e, -⟩ := idx t
  show V m c main_arg2 (((cfg0.win 2).blk t).view.emb (ix2 0 k)) = _
  rw [V_main_arg2]
  exact at2_of _ _ (show win0_2.index t 0 * 1 + 1 * 0 = _ by rw [e]; rfl)
    (show win0_2.index t 1 * 256 + 1 * k.val = _ by rw [e, one_mul]; exact Nat.zero_add _)

end

/-- A head's tile: the head's columns begin at a multiple of 256. -/
theorem tile (t : Fin cfg0.N) (R C b : ℕ) (r l : Fin 256) (hR : R = r.val) (hC : C = b * 256 + l.val) (f : Fin 256 → Fin 1024)
    (hf : ∀ k, (f k).val = b * 256 + k.val) :
    @HMul.hMul EReal EReal EReal _ (@HMul.hMul EReal EReal EReal _ (@HMul.hMul EReal EReal EReal _ (iblk m c 0 t (ix2 r (f l)))
      (Ideal.rsqrt (Ideal.div (∑ k : Fin 256, @HMul.hMul EReal EReal EReal _ (iblk m c 0 t (ix2 r (f k))) (iblk m c 0 t (ix2 r (f k))))
        (Ideal.ofBits FTy.f32 1132462080#32) + Ideal.ofBits FTy.f32 897988541#32))) (iblk m c 2 t (ix2 0 l)))
      (@HMul.hMul EReal EReal EReal _ (X0_1 m c t (ix2 r (f l))) (Ideal.logistic (X0_1 m c t (ix2 r (f l)))))
      = outAt m c (t.val * 256 + R) C := by
  have hl := l.isLt
  have e1 : C / 256 = b := by omega
  have e2 : C % 256 = l.val := by omega
  unfold outAt
  simp only [read0 m c t r, read1 m c t r, read2 m c t, hf, e1, e2, hR]
  rw [hC]

theorem block (t : Fin cfg0.N) (y : S256x1024.Idx) : outsAt0 m c t y = outAt m c (t.val * 256 + (y 0).val) (y 1).val := by
  unfold outsAt0 out0_A_3
  rw [View.read_writes_eq_canon _ _ _ (fun _ => cover0_A_3 ..)]
  refine View.canon_eq_of_allAt _ y _ (cover0_A_3 ..) ?_
  unfold kernelRun0_A
  dsimp only
  sl_unfold_words
  refine View.allAt_cons_unit _ _ _ _ _ ?_ (View.allAt_cons_unit _ _ _ _ _ ?_ (View.allAt_cons_unit _ _ _ _ _ ?_
    (View.allAt_cons_unit _ _ _ _ _ ?_ (View.allAt_nil _ _))))
  · intro x hx
    simp only [View.readAt_eq_ld, Memref.IsWhole.read_unread]
    unfold k0_pay1 k0_pay6
    pointwise []
    exact tile m c t _ _ 3 (x 0) (x 1) ((hx 0).trans (Nat.zero_add _)) (hx 1) (fun k : Fin 256 => (⟨768 + k.val, by omega⟩ : Fin 1024)) (fun _ => rfl)
  · intro x hx
    simp only [View.readAt_eq_ld, Memref.IsWhole.read_unread]
    unfold k0_pay5
    pointwise []
    exact tile m c t _ _ 2 (x 0) (x 1) ((hx 0).trans (Nat.zero_add _)) (hx 1) (fun k : Fin 256 => (⟨512 + k.val, by omega⟩ : Fin 1024)) (fun _ => rfl)
  · intro x hx
    simp only [View.readAt_eq_ld, Memref.IsWhole.read_unread]
    unfold k0_pay4 k0_pay3
    pointwise []
    exact tile m c t _ _ 1 (x 0) (x 1) ((hx 0).trans (Nat.zero_add _)) (hx 1) (fun k : Fin 256 => (⟨256 + k.val, by omega⟩ : Fin 1024)) (fun _ => rfl)
  · intro x hx
    simp only [View.readAt_eq_ld, Memref.IsWhole.read_unread]
    unfold k0_pay2
    pointwise []
    exact tile m c t _ _ 0 (x 0) (x 1) ((hx 0).trans (Nat.zero_add _)) (hx 1) (fun k : Fin 256 => (⟨k.val, by omega⟩ : Fin 1024)) (fun _ => (Nat.zero_add _).symm)

theorem final : (dats m 0 c).arrAt 3 cfg0.N = prod m c := by
  refine (dats m 0 c).arrAt_eq_of_covers 3 _ (by decide +kernel) fun t hf y => ?_
  obtain ⟨-, -, -, e⟩ := idx t
  obtain ⟨r, l, rfl⟩ : ∃ (r : Fin 256) (l : Fin 1024), y = ix2 r l := ⟨y 0, y 1, ext2 rfl rfl⟩
  have E0 : (((cfg0.win 3).blk t).view.emb (ix2 r l) 0).val = t.val * 256 + r.val :=
    show win0_3.index t 0 * 256 + 1 * r.val = _ by rw [e, one_mul]; rfl
  have E1 : (((cfg0.win 3).blk t).view.emb (ix2 r l) 1).val = l.val :=
    show win0_3.index t 1 * 1024 + 1 * l.val = _ by rw [e, one_mul]; exact Nat.zero_add _
  rw [prod, E0, E1]
  blk_simp
  rw [after0_3]
  exact block m c t (ix2 r l)

end Cert.GlaOutIdeal.Val

namespace Cert.GlaOutIdeal

open Cert.Prod Idealize.ShloMosaic Idealize.ShloMosaic.TcCoe Idealize.SL.Sem

theorem frame_ref : @Cert.quiescent_GlaOutRefIdeal GlaOutRefIdeal.Gen.facts := fun m ρ _ =>
  (θ_run GlaOutRefIdeal.defs _ _).mono (fun r h => ⟨fun c => (h c).2, sem_eq_zero_of_no_sems (by decide) r.2⟩)
    (GlaOutRefIdeal.Value.run (F := Ideal) m ρ)

theorem same : @Cert.algebraic_GlaOutIdeal_GlaOutRefIdeal Gen.facts GlaOutRefIdeal.Gen.facts := by
  intro m g m' g' _ hagree
  refine ⟨Val.prod m,
    (θ_run defs _ _).mono (fun r h c => ⟨(h c).1.trans (Val.final m c), (h c).2⟩) (Value.run_blocks m g),
    (θ_run GlaOutRefIdeal.defs _ _).mono (fun r h c => ⟨(h c).1.trans ?_, (h c).2⟩) (GlaOutRefIdeal.Value.run m' g')⟩
  rw [(hagree c).1, (hagree c).2.1, (hagree c).2.2]
  funext y
  unfold Val.prod Val.outAt
  pointwise []
  refine congrArg₂ (fun z w : EReal => z * w) (congrArg₂ (fun z w : EReal => z * w)
    (congrArg₂ (fun z w : EReal => z * Ideal.rsqrt (Ideal.div w (Ideal.ofBits FTy.f32 1132462080#32)
      + Ideal.ofBits FTy.f32 897988541#32)) (at2_of _ _ rfl rfl) (Finset.sum_congr rfl fun k _ =>
        congrArg₂ (fun z w : EReal => z * w) (at2_of _ _ rfl rfl) (at2_of _ _ rfl rfl)))
    (at2_of _ _ rfl rfl)) (congrArg₂ (fun z w : EReal => z * Ideal.logistic w) (at2_of _ _ rfl rfl) (at2_of _ _ rfl rfl))

end Cert.GlaOutIdeal
end
-- ==== Proof.lean ====
module

public import proofs.«01_k».proof.Defs
public import proofs.«01_k».proof.Proof.Frames
public import proofs.«01_k».proof.Proof.RefFrame
public import proofs.«01_k».proof.Proof.Same
public import proofs.«01_k».proof.Proof.Gen.UpDx0a.Frame
public import proofs.«01_k».proof.Proof.Gen.UpDx0aIdeal.Frame
public import proofs.«01_k».proof.Proof.UpDx0aVal
public import proofs.«01_k».proof.Proof.Gen.UpDx0b.Frame
public import proofs.«01_k».proof.Proof.Gen.UpDx0bIdeal.Frame
public import proofs.«01_k».proof.Proof.UpDx0bVal
public import proofs.«01_k».proof.Proof.Gen.UpDx1a.Frame
public import proofs.«01_k».proof.Proof.Gen.UpDx1aIdeal.Frame
public import proofs.«01_k».proof.Proof.UpDx1aVal
public import proofs.«01_k».proof.Proof.Gen.UpDx1b.Frame
public import proofs.«01_k».proof.Proof.Gen.UpDx1bIdeal.Frame
public import proofs.«01_k».proof.Proof.UpDx1bVal
public import proofs.«01_k».proof.Proof.Gen.DownDx0.Frame
public import proofs.«01_k».proof.Proof.Gen.DownDx0Ideal.Frame
public import proofs.«01_k».proof.Proof.DownDx0Val
public import proofs.«01_k».proof.Proof.Gen.DownDx1.Frame
public import proofs.«01_k».proof.Proof.Gen.DownDx1Ideal.Frame
public import proofs.«01_k».proof.Proof.DownDx1Val
public import proofs.«01_k».proof.Proof.Gen.InBDx.Frame
public import proofs.«01_k».proof.Proof.Gen.InBDxIdeal.Frame
public import proofs.«01_k».proof.Proof.InBDxVal
public import proofs.«01_k».proof.Proof.Gen.InBDw.Frame
public import proofs.«01_k».proof.Proof.Gen.InBDwIdeal.Frame
public import proofs.«01_k».proof.Proof.InBDwVal
public import proofs.«01_k».proof.Proof.Gen.OutDx.Frame
public import proofs.«01_k».proof.Proof.Gen.OutDxIdeal.Frame
public import proofs.«01_k».proof.Proof.OutDxVal
public import proofs.«01_k».proof.Proof.Gen.OutADw.Frame
public import proofs.«01_k».proof.Proof.Gen.OutADwIdeal.Frame
public import proofs.«01_k».proof.Proof.OutADwVal
public import proofs.«01_k».proof.Proof.Gen.OutBDw.Frame
public import proofs.«01_k».proof.Proof.Gen.OutBDwIdeal.Frame
public import proofs.«01_k».proof.Proof.OutBDwVal
public import proofs.«01_k».proof.Proof.Gen.InADx0.Frame
public import proofs.«01_k».proof.Proof.Gen.InADx0Ideal.Frame
public import proofs.«01_k».proof.Proof.InADx0Val
public import proofs.«01_k».proof.Proof.Gen.InADx1.Frame
public import proofs.«01_k».proof.Proof.Gen.InADx1Ideal.Frame
public import proofs.«01_k».proof.Proof.InADx1Val
public import proofs.«01_k».proof.Proof.Gen.InADx2.Frame
public import proofs.«01_k».proof.Proof.Gen.InADx2Ideal.Frame
public import proofs.«01_k».proof.Proof.InADx2Val
public import proofs.«01_k».proof.Proof.Gen.InA0.Frame
public import proofs.«01_k».proof.Proof.Gen.InA0Ideal.Frame
public import proofs.«01_k».proof.Proof.InA0Val
public import proofs.«01_k».proof.Proof.Gen.InA1.Frame
public import proofs.«01_k».proof.Proof.Gen.InA1Ideal.Frame
public import proofs.«01_k».proof.Proof.InA1Val
public import proofs.«01_k».proof.Proof.Gen.InA2.Frame
public import proofs.«01_k».proof.Proof.Gen.InA2Ideal.Frame
public import proofs.«01_k».proof.Proof.InA2Val
public import proofs.«01_k».proof.Proof.Gen.Up0.Frame
public import proofs.«01_k».proof.Proof.Gen.Up0Ideal.Frame
public import proofs.«01_k».proof.Proof.Up0Val
public import proofs.«01_k».proof.Proof.Gen.Up1.Frame
public import proofs.«01_k».proof.Proof.Gen.Up1Ideal.Frame
public import proofs.«01_k».proof.Proof.Up1Val
public import proofs.«01_k».proof.Proof.Gen.Down0.Frame
public import proofs.«01_k».proof.Proof.Gen.Down0Ideal.Frame
public import proofs.«01_k».proof.Proof.Down0Val
public import proofs.«01_k».proof.Proof.Gen.Down1.Frame
public import proofs.«01_k».proof.Proof.Gen.Down1Ideal.Frame
public import proofs.«01_k».proof.Proof.Down1Val
public import proofs.«01_k».proof.Proof.Gen.InB.Frame
public import proofs.«01_k».proof.Proof.Gen.InBIdeal.Frame
public import proofs.«01_k».proof.Proof.InBVal
public import proofs.«01_k».proof.Proof.Gen.OutA.Frame
public import proofs.«01_k».proof.Proof.Gen.OutAIdeal.Frame
public import proofs.«01_k».proof.Proof.OutAVal
public import proofs.«01_k».proof.Proof.Gen.OutB.Frame
public import proofs.«01_k».proof.Proof.Gen.OutBIdeal.Frame
public import proofs.«01_k».proof.Proof.OutBVal
public import proofs.«01_k».proof.Proof.Gen.DownDw0.Frame
public import proofs.«01_k».proof.Proof.Gen.DownDw0Ideal.Frame
public import proofs.«01_k».proof.Proof.DownDw0Val
public import proofs.«01_k».proof.Proof.Gen.UpDw1b.Frame
public import proofs.«01_k».proof.Proof.Gen.UpDw1bIdeal.Frame
public import proofs.«01_k».proof.Proof.UpDw1bVal
public import proofs.«01_k».proof.Proof.Gen.UpDw0a.Frame
public import proofs.«01_k».proof.Proof.Gen.UpDw0aIdeal.Frame
public import proofs.«01_k».proof.Proof.UpDw0aVal
public import proofs.«01_k».proof.Proof.Gen.UpDw0b.Frame
public import proofs.«01_k».proof.Proof.Gen.UpDw0bIdeal.Frame
public import proofs.«01_k».proof.Proof.UpDw0bVal
public import proofs.«01_k».proof.Proof.Gen.InADw1.Frame
public import proofs.«01_k».proof.Proof.Gen.InADw1Ideal.Frame
public import proofs.«01_k».proof.Proof.InADw1Val
public import proofs.«01_k».proof.Proof.Gen.InADw2.Frame
public import proofs.«01_k».proof.Proof.Gen.InADw2Ideal.Frame
public import proofs.«01_k».proof.Proof.InADw2Val
public import proofs.«01_k».proof.Proof.Gen.DownDw1.Frame
public import proofs.«01_k».proof.Proof.Gen.DownDw1Ideal.Frame
public import proofs.«01_k».proof.Proof.DownDw1Val
public import proofs.«01_k».proof.Proof.Gen.UpDw1a.Frame
public import proofs.«01_k».proof.Proof.Gen.UpDw1aIdeal.Frame
public import proofs.«01_k».proof.Proof.UpDw1aVal
public import proofs.«01_k».proof.Proof.Gen.InADw0.Frame
public import proofs.«01_k».proof.Proof.Gen.InADw0Ideal.Frame
public import proofs.«01_k».proof.Proof.InADw0Val
public import proofs.«01_k».proof.Proof.Gen.GateDx.Frame
public import proofs.«01_k».proof.Proof.Gen.GateDxIdeal.Frame
public import proofs.«01_k».proof.Proof.GateDxVal
public import proofs.«01_k».proof.Proof.Gen.GateDw.Frame
public import proofs.«01_k».proof.Proof.Gen.GateDwIdeal.Frame
public import proofs.«01_k».proof.Proof.GateDwVal
public import proofs.«01_k».proof.Proof.Gen.AdamInA.Frame
public import proofs.«01_k».proof.Proof.Gen.AdamInAIdeal.Frame
public import proofs.«01_k».proof.Proof.AdamInAVal
public import proofs.«01_k».proof.Proof.Gen.AdamOut.Frame
public import proofs.«01_k».proof.Proof.Gen.AdamOutIdeal.Frame
public import proofs.«01_k».proof.Proof.AdamOutVal
public import proofs.«01_k».proof.Proof.Gen.AdamInB.Frame
public import proofs.«01_k».proof.Proof.Gen.AdamInBIdeal.Frame
public import proofs.«01_k».proof.Proof.AdamInBVal
public import proofs.«01_k».proof.Proof.Gen.AdamUp.Frame
public import proofs.«01_k».proof.Proof.Gen.AdamUpIdeal.Frame
public import proofs.«01_k».proof.Proof.AdamUpVal
public import proofs.«01_k».proof.Proof.Gen.AdamDown.Frame
public import proofs.«01_k».proof.Proof.Gen.AdamDownIdeal.Frame
public import proofs.«01_k».proof.Proof.AdamDownVal
public import proofs.«01_k».proof.Proof.Gen.AdamAda.Frame
public import proofs.«01_k».proof.Proof.Gen.AdamAdaIdeal.Frame
public import proofs.«01_k».proof.Proof.AdamAdaVal
public import proofs.«01_k».proof.Proof.Gen.AdamTiny.Frame
public import proofs.«01_k».proof.Proof.Gen.AdamTinyIdeal.Frame
public import proofs.«01_k».proof.Proof.AdamTinyVal
public import proofs.«01_k».proof.Proof.Gen.AdaMod.Frame
public import proofs.«01_k».proof.Proof.Gen.AdaModIdeal.Frame
public import proofs.«01_k».proof.Proof.AdaModVal
public import proofs.«01_k».proof.Proof.Gen.AdaGrad.Frame
public import proofs.«01_k».proof.Proof.Gen.AdaGradIdeal.Frame
public import proofs.«01_k».proof.Proof.AdaGradVal
public import proofs.«01_k».proof.Proof.Gen.NormFfn.Frame
public import proofs.«01_k».proof.Proof.Gen.NormFfnIdeal.Frame
public import proofs.«01_k».proof.Proof.NormFfnVal
public import proofs.«01_k».proof.Proof.Gen.ConvGate.Frame
public import proofs.«01_k».proof.Proof.Gen.ConvGateIdeal.Frame
public import proofs.«01_k».proof.Proof.ConvGateVal
public import proofs.«01_k».proof.Proof.Gen.NormMix1.Frame
public import proofs.«01_k».proof.Proof.Gen.NormMix1Ideal.Frame
public import proofs.«01_k».proof.Proof.NormMix1Val
public import proofs.«01_k».proof.Proof.Gen.GlaOut.Frame
public import proofs.«01_k».proof.Proof.Gen.GlaOutIdeal.Frame
public import proofs.«01_k».proof.Proof.GlaOutVal

@[expose] public section

noncomputable section

namespace Cert.Proof

theorem claim : Cert.Claim := ⟨
  Cert.Kernel.Gen.facts, Cert.KernelIdeal.Gen.facts, Cert.ReferenceIdeal.Gen.facts, Cert.UpDx0a.Gen.facts, Cert.UpDx0aIdeal.Gen.facts,
  Cert.UpDx0aRefIdeal.Gen.facts, Cert.UpDx0b.Gen.facts, Cert.UpDx0bIdeal.Gen.facts, Cert.UpDx0bRefIdeal.Gen.facts, Cert.UpDx1a.Gen.facts,
  Cert.UpDx1aIdeal.Gen.facts, Cert.UpDx1aRefIdeal.Gen.facts, Cert.UpDx1b.Gen.facts, Cert.UpDx1bIdeal.Gen.facts, Cert.UpDx1bRefIdeal.Gen.facts,
  Cert.DownDx0.Gen.facts, Cert.DownDx0Ideal.Gen.facts, Cert.DownDx0RefIdeal.Gen.facts, Cert.DownDx1.Gen.facts, Cert.DownDx1Ideal.Gen.facts,
  Cert.DownDx1RefIdeal.Gen.facts, Cert.InBDx.Gen.facts, Cert.InBDxIdeal.Gen.facts, Cert.InBDxRefIdeal.Gen.facts, Cert.InBDw.Gen.facts,
  Cert.InBDwIdeal.Gen.facts, Cert.InBDwRefIdeal.Gen.facts, Cert.OutDx.Gen.facts, Cert.OutDxIdeal.Gen.facts, Cert.OutDxRefIdeal.Gen.facts,
  Cert.OutADw.Gen.facts, Cert.OutADwIdeal.Gen.facts, Cert.OutADwRefIdeal.Gen.facts, Cert.OutBDw.Gen.facts, Cert.OutBDwIdeal.Gen.facts,
  Cert.OutBDwRefIdeal.Gen.facts, Cert.InADx0.Gen.facts, Cert.InADx0Ideal.Gen.facts, Cert.InADx0RefIdeal.Gen.facts, Cert.InADx1.Gen.facts,
  Cert.InADx1Ideal.Gen.facts, Cert.InADx1RefIdeal.Gen.facts, Cert.InADx2.Gen.facts, Cert.InADx2Ideal.Gen.facts, Cert.InADx2RefIdeal.Gen.facts,
  Cert.InA0.Gen.facts, Cert.InA0Ideal.Gen.facts, Cert.InA0RefIdeal.Gen.facts, Cert.InA1.Gen.facts, Cert.InA1Ideal.Gen.facts, Cert.InA1RefIdeal.Gen.facts,
  Cert.InA2.Gen.facts, Cert.InA2Ideal.Gen.facts, Cert.InA2RefIdeal.Gen.facts, Cert.Up0.Gen.facts, Cert.Up0Ideal.Gen.facts, Cert.Up0RefIdeal.Gen.facts,
  Cert.Down0.Gen.facts, Cert.Down0Ideal.Gen.facts, Cert.Down0RefIdeal.Gen.facts, Cert.Up1.Gen.facts, Cert.Up1Ideal.Gen.facts, Cert.Up1RefIdeal.Gen.facts,
  Cert.Down1.Gen.facts, Cert.Down1Ideal.Gen.facts, Cert.Down1RefIdeal.Gen.facts, Cert.InB.Gen.facts, Cert.InBIdeal.Gen.facts, Cert.InBRefIdeal.Gen.facts,
  Cert.OutA.Gen.facts, Cert.OutAIdeal.Gen.facts, Cert.OutARefIdeal.Gen.facts, Cert.OutB.Gen.facts, Cert.OutBIdeal.Gen.facts, Cert.OutBRefIdeal.Gen.facts,
  Cert.DownDw1.Gen.facts, Cert.DownDw1Ideal.Gen.facts, Cert.DownDw1RefIdeal.Gen.facts, Cert.DownDw0.Gen.facts, Cert.DownDw0Ideal.Gen.facts,
  Cert.DownDw0RefIdeal.Gen.facts, Cert.UpDw1b.Gen.facts, Cert.UpDw1bIdeal.Gen.facts, Cert.UpDw1bRefIdeal.Gen.facts, Cert.UpDw0a.Gen.facts,
  Cert.UpDw0aIdeal.Gen.facts, Cert.UpDw0aRefIdeal.Gen.facts, Cert.UpDw0b.Gen.facts, Cert.UpDw0bIdeal.Gen.facts, Cert.UpDw0bRefIdeal.Gen.facts,
  Cert.InADw1.Gen.facts, Cert.InADw1Ideal.Gen.facts, Cert.InADw1RefIdeal.Gen.facts, Cert.InADw2.Gen.facts, Cert.InADw2Ideal.Gen.facts,
  Cert.InADw2RefIdeal.Gen.facts, Cert.UpDw1a.Gen.facts, Cert.UpDw1aIdeal.Gen.facts, Cert.UpDw1aRefIdeal.Gen.facts, Cert.InADw0.Gen.facts,
  Cert.InADw0Ideal.Gen.facts, Cert.InADw0RefIdeal.Gen.facts, Cert.GateDx.Gen.facts, Cert.GateDxIdeal.Gen.facts, Cert.GateDxRefIdeal.Gen.facts,
  Cert.GateDw.Gen.facts, Cert.GateDwIdeal.Gen.facts, Cert.GateDwRefIdeal.Gen.facts, Cert.AdamInA.Gen.facts, Cert.AdamInAIdeal.Gen.facts,
  Cert.AdamInARefIdeal.Gen.facts, Cert.AdamOut.Gen.facts, Cert.AdamOutIdeal.Gen.facts, Cert.AdamOutRefIdeal.Gen.facts, Cert.AdamInB.Gen.facts,
  Cert.AdamInBIdeal.Gen.facts, Cert.AdamInBRefIdeal.Gen.facts, Cert.AdamUp.Gen.facts, Cert.AdamUpIdeal.Gen.facts, Cert.AdamUpRefIdeal.Gen.facts,
  Cert.AdamDown.Gen.facts, Cert.AdamDownIdeal.Gen.facts, Cert.AdamDownRefIdeal.Gen.facts, Cert.AdamAda.Gen.facts, Cert.AdamAdaIdeal.Gen.facts,
  Cert.AdamAdaRefIdeal.Gen.facts, Cert.AdamTiny.Gen.facts, Cert.AdamTinyIdeal.Gen.facts, Cert.AdamTinyRefIdeal.Gen.facts, Cert.AdaMod.Gen.facts,
  Cert.AdaModIdeal.Gen.facts, Cert.AdaModRefIdeal.Gen.facts, Cert.AdaGrad.Gen.facts, Cert.AdaGradIdeal.Gen.facts, Cert.AdaGradRefIdeal.Gen.facts,
  Cert.NormFfn.Gen.facts, Cert.NormFfnIdeal.Gen.facts, Cert.NormFfnRefIdeal.Gen.facts, Cert.NormMix1.Gen.facts, Cert.NormMix1Ideal.Gen.facts,
  Cert.NormMix1RefIdeal.Gen.facts, Cert.GlaOut.Gen.facts, Cert.GlaOutIdeal.Gen.facts, Cert.GlaOutRefIdeal.Gen.facts, Cert.ConvGate.Gen.facts,
  Cert.ConvGateIdeal.Gen.facts, Cert.ConvGateRefIdeal.Gen.facts,
  frame_kernel, frame_kernelIdeal, frame_referenceIdeal, fun m ρ _ => Cert.UpDx0a.Gen.frame m ρ, fun m ρ _ => Cert.UpDx0aIdeal.Gen.frame m ρ,
  Cert.UpDx0aIdeal.frame_ref, fun m ρ _ => Cert.UpDx0b.Gen.frame m ρ, fun m ρ _ => Cert.UpDx0bIdeal.Gen.frame m ρ, Cert.UpDx0bIdeal.frame_ref,
  fun m ρ _ => Cert.UpDx1a.Gen.frame m ρ, fun m ρ _ => Cert.UpDx1aIdeal.Gen.frame m ρ, Cert.UpDx1aIdeal.frame_ref, fun m ρ _ => Cert.UpDx1b.Gen.frame m ρ,
  fun m ρ _ => Cert.UpDx1bIdeal.Gen.frame m ρ, Cert.UpDx1bIdeal.frame_ref, fun m ρ _ => Cert.DownDx0.Gen.frame m ρ,
  fun m ρ _ => Cert.DownDx0Ideal.Gen.frame m ρ, Cert.DownDx0Ideal.frame_ref, fun m ρ _ => Cert.DownDx1.Gen.frame m ρ,
  fun m ρ _ => Cert.DownDx1Ideal.Gen.frame m ρ, Cert.DownDx1Ideal.frame_ref, fun m ρ _ => Cert.InBDx.Gen.frame m ρ, fun m ρ _ => Cert.InBDxIdeal.Gen.frame m ρ,
  Cert.InBDxIdeal.frame_ref, fun m ρ _ => Cert.InBDw.Gen.frame m ρ, fun m ρ _ => Cert.InBDwIdeal.Gen.frame m ρ, Cert.InBDwIdeal.frame_ref,
  fun m ρ _ => Cert.OutDx.Gen.frame m ρ, fun m ρ _ => Cert.OutDxIdeal.Gen.frame m ρ, Cert.OutDxIdeal.frame_ref, fun m ρ _ => Cert.OutADw.Gen.frame m ρ,
  fun m ρ _ => Cert.OutADwIdeal.Gen.frame m ρ, Cert.OutADwIdeal.frame_ref, fun m ρ _ => Cert.OutBDw.Gen.frame m ρ, fun m ρ _ => Cert.OutBDwIdeal.Gen.frame m ρ,
  Cert.OutBDwIdeal.frame_ref, fun m ρ _ => Cert.InADx0.Gen.frame m ρ, fun m ρ _ => Cert.InADx0Ideal.Gen.frame m ρ, Cert.InADx0Ideal.frame_ref,
  fun m ρ _ => Cert.InADx1.Gen.frame m ρ, fun m ρ _ => Cert.InADx1Ideal.Gen.frame m ρ, Cert.InADx1Ideal.frame_ref, fun m ρ _ => Cert.InADx2.Gen.frame m ρ,
  fun m ρ _ => Cert.InADx2Ideal.Gen.frame m ρ, Cert.InADx2Ideal.frame_ref, fun m ρ _ => Cert.InA0.Gen.frame m ρ, fun m ρ _ => Cert.InA0Ideal.Gen.frame m ρ,
  Cert.InA0Ideal.frame_ref, fun m ρ _ => Cert.InA1.Gen.frame m ρ, fun m ρ _ => Cert.InA1Ideal.Gen.frame m ρ, Cert.InA1Ideal.frame_ref,
  fun m ρ _ => Cert.InA2.Gen.frame m ρ, fun m ρ _ => Cert.InA2Ideal.Gen.frame m ρ, Cert.InA2Ideal.frame_ref, fun m ρ _ => Cert.Up0.Gen.frame m ρ,
  fun m ρ _ => Cert.Up0Ideal.Gen.frame m ρ, Cert.Up0Ideal.frame_ref, fun m ρ _ => Cert.Down0.Gen.frame m ρ, fun m ρ _ => Cert.Down0Ideal.Gen.frame m ρ,
  Cert.Down0Ideal.frame_ref, fun m ρ _ => Cert.Up1.Gen.frame m ρ, fun m ρ _ => Cert.Up1Ideal.Gen.frame m ρ, Cert.Up1Ideal.frame_ref,
  fun m ρ _ => Cert.Down1.Gen.frame m ρ, fun m ρ _ => Cert.Down1Ideal.Gen.frame m ρ, Cert.Down1Ideal.frame_ref, fun m ρ _ => Cert.InB.Gen.frame m ρ,
  fun m ρ _ => Cert.InBIdeal.Gen.frame m ρ, Cert.InBIdeal.frame_ref, fun m ρ _ => Cert.OutA.Gen.frame m ρ, fun m ρ _ => Cert.OutAIdeal.Gen.frame m ρ,
  Cert.OutAIdeal.frame_ref, fun m ρ _ => Cert.OutB.Gen.frame m ρ, fun m ρ _ => Cert.OutBIdeal.Gen.frame m ρ, Cert.OutBIdeal.frame_ref,
  fun m ρ _ => Cert.DownDw1.Gen.frame m ρ, fun m ρ _ => Cert.DownDw1Ideal.Gen.frame m ρ, Cert.DownDw1Ideal.frame_ref, fun m ρ _ => Cert.DownDw0.Gen.frame m ρ,
  fun m ρ _ => Cert.DownDw0Ideal.Gen.frame m ρ, Cert.DownDw0Ideal.frame_ref, fun m ρ _ => Cert.UpDw1b.Gen.frame m ρ,
  fun m ρ _ => Cert.UpDw1bIdeal.Gen.frame m ρ, Cert.UpDw1bIdeal.frame_ref, fun m ρ _ => Cert.UpDw0a.Gen.frame m ρ, fun m ρ _ => Cert.UpDw0aIdeal.Gen.frame m ρ,
  Cert.UpDw0aIdeal.frame_ref, fun m ρ _ => Cert.UpDw0b.Gen.frame m ρ, fun m ρ _ => Cert.UpDw0bIdeal.Gen.frame m ρ, Cert.UpDw0bIdeal.frame_ref,
  fun m ρ _ => Cert.InADw1.Gen.frame m ρ, fun m ρ _ => Cert.InADw1Ideal.Gen.frame m ρ, Cert.InADw1Ideal.frame_ref, fun m ρ _ => Cert.InADw2.Gen.frame m ρ,
  fun m ρ _ => Cert.InADw2Ideal.Gen.frame m ρ, Cert.InADw2Ideal.frame_ref, fun m ρ _ => Cert.UpDw1a.Gen.frame m ρ, fun m ρ _ => Cert.UpDw1aIdeal.Gen.frame m ρ,
  Cert.UpDw1aIdeal.frame_ref, fun m ρ _ => Cert.InADw0.Gen.frame m ρ, fun m ρ _ => Cert.InADw0Ideal.Gen.frame m ρ, Cert.InADw0Ideal.frame_ref,
  fun m ρ _ => Cert.GateDx.Gen.frame m ρ, fun m ρ _ => Cert.GateDxIdeal.Gen.frame m ρ, Cert.GateDxIdeal.frame_ref, fun m ρ _ => Cert.GateDw.Gen.frame m ρ,
  fun m ρ _ => Cert.GateDwIdeal.Gen.frame m ρ, Cert.GateDwIdeal.frame_ref, fun m ρ _ => Cert.AdamInA.Gen.frame m ρ,
  fun m ρ _ => Cert.AdamInAIdeal.Gen.frame m ρ, Cert.AdamInAIdeal.frame_ref, fun m ρ _ => Cert.AdamOut.Gen.frame m ρ,
  fun m ρ _ => Cert.AdamOutIdeal.Gen.frame m ρ, Cert.AdamOutIdeal.frame_ref, fun m ρ _ => Cert.AdamInB.Gen.frame m ρ,
  fun m ρ _ => Cert.AdamInBIdeal.Gen.frame m ρ, Cert.AdamInBIdeal.frame_ref, fun m ρ _ => Cert.AdamUp.Gen.frame m ρ,
  fun m ρ _ => Cert.AdamUpIdeal.Gen.frame m ρ, Cert.AdamUpIdeal.frame_ref, fun m ρ _ => Cert.AdamDown.Gen.frame m ρ,
  fun m ρ _ => Cert.AdamDownIdeal.Gen.frame m ρ, Cert.AdamDownIdeal.frame_ref, fun m ρ _ => Cert.AdamAda.Gen.frame m ρ,
  fun m ρ _ => Cert.AdamAdaIdeal.Gen.frame m ρ, Cert.AdamAdaIdeal.frame_ref, fun m ρ _ => Cert.AdamTiny.Gen.frame m ρ,
  fun m ρ _ => Cert.AdamTinyIdeal.Gen.frame m ρ, Cert.AdamTinyIdeal.frame_ref, fun m ρ _ => Cert.AdaMod.Gen.frame m ρ,
  fun m ρ _ => Cert.AdaModIdeal.Gen.frame m ρ, Cert.AdaModIdeal.frame_ref, fun m ρ _ => Cert.AdaGrad.Gen.frame m ρ,
  fun m ρ _ => Cert.AdaGradIdeal.Gen.frame m ρ, Cert.AdaGradIdeal.frame_ref, fun m ρ _ => Cert.NormFfn.Gen.frame m ρ,
  fun m ρ _ => Cert.NormFfnIdeal.Gen.frame m ρ, Cert.NormFfnIdeal.frame_ref, fun m ρ _ => Cert.NormMix1.Gen.frame m ρ,
  fun m ρ _ => Cert.NormMix1Ideal.Gen.frame m ρ, Cert.NormMix1Ideal.frame_ref, fun m ρ _ => Cert.GlaOut.Gen.frame m ρ,
  fun m ρ _ => Cert.GlaOutIdeal.Gen.frame m ρ, Cert.GlaOutIdeal.frame_ref, fun m ρ _ => Cert.ConvGate.Gen.frame m ρ,
  fun m ρ _ => Cert.ConvGateIdeal.Gen.frame m ρ, Cert.ConvGateIdeal.frame_ref, trivial, algebraic, trivial, Cert.UpDx0aIdeal.same, trivial,
  Cert.UpDx0bIdeal.same, trivial, Cert.UpDx1aIdeal.same, trivial, Cert.UpDx1bIdeal.same, trivial, Cert.DownDx0Ideal.same, trivial, Cert.DownDx1Ideal.same,
  trivial, Cert.InBDxIdeal.same, trivial, Cert.InBDwIdeal.same, trivial, Cert.OutDxIdeal.same, trivial, Cert.OutADwIdeal.same, trivial, Cert.OutBDwIdeal.same,
  trivial, Cert.InADx0Ideal.same, trivial, Cert.InADx1Ideal.same, trivial, Cert.InADx2Ideal.same, trivial, Cert.InA0Ideal.same, trivial, Cert.InA1Ideal.same,
  trivial, Cert.InA2Ideal.same, trivial, Cert.Up0Ideal.same, trivial, Cert.Down0Ideal.same, trivial, Cert.Up1Ideal.same, trivial, Cert.Down1Ideal.same,
  trivial, Cert.InBIdeal.same, trivial, Cert.OutAIdeal.same, trivial, Cert.OutBIdeal.same, trivial, Cert.DownDw1Ideal.same, trivial, Cert.DownDw0Ideal.same,
  trivial, Cert.UpDw1bIdeal.same, trivial, Cert.UpDw0aIdeal.same, trivial, Cert.UpDw0bIdeal.same, trivial, Cert.InADw1Ideal.same, trivial,
  Cert.InADw2Ideal.same, trivial, Cert.UpDw1aIdeal.same, trivial, Cert.InADw0Ideal.same, trivial, Cert.GateDxIdeal.same, trivial, Cert.GateDwIdeal.same,
  trivial, Cert.AdamInAIdeal.same, trivial, Cert.AdamOutIdeal.same, trivial, Cert.AdamInBIdeal.same, trivial, Cert.AdamUpIdeal.same, trivial,
  Cert.AdamDownIdeal.same, trivial, Cert.AdamAdaIdeal.same, trivial, Cert.AdamTinyIdeal.same, trivial, Cert.AdaModIdeal.same, trivial, Cert.AdaGradIdeal.same,
  trivial, Cert.NormFfnIdeal.same, trivial, Cert.NormMix1Ideal.same, trivial, Cert.GlaOutIdeal.same, trivial, Cert.ConvGateIdeal.same⟩

end Cert.Proof

end
